-- ==== Defs.lean ====
def Pre_Kernel [hPre_slices_inside : Cert.Pre_slices_inside.Facts] (m : (ℓ : Loc Cert.Kernel.nD Cert.Kernel.τ Cert.Kernel.sig) → Buf (Elt Bits) ℓ) : Prop :=
  ∀ c : Dev Cert.Kernel.nD,
    (Cert.Pre_slices_inside.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_leaders_name_channels : Cert.Pre_leaders_name_channels.Facts] (m : (ℓ : Loc Cert.KernelIdeal.nD Cert.KernelIdeal.τ Cert.KernelIdeal.sig) → Buf (Elt Ideal) ℓ) : Prop :=
  ∀ c : Dev Cert.KernelIdeal.nD,
    (Cert.Pre_leaders_name_channels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_slices_inside [hPre_slices_inside : Cert.Pre_slices_inside.Facts] (m : (ℓ : Loc Cert.KernelIdeal.nD Cert.KernelIdeal.τ Cert.KernelIdeal.sig) → Buf (Elt Ideal) ℓ) : Prop :=
  ∀ c : Dev Cert.KernelIdeal.nD,
    (Cert.Pre_slices_inside.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_leaders_name_channels [hPre_leaders_name_channels : Cert.Pre_leaders_name_channels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_leaders_name_channels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_slices_inside : Cert.Pre_slices_inside.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_leaders_name_channels : Cert.Pre_leaders_name_channels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_slices_inside [hKernelIdeal : Cert.KernelIdeal.Facts] [hPre_slices_inside : Cert.Pre_slices_inside.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slices_inside m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_leaders_name_channels [hReferenceIdeal : Cert.ReferenceIdeal.Facts] [hPre_leaders_name_channels : Cert.Pre_leaders_name_channels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_leaders_name_channels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_leaders_name_channels : Cert.Pre_leaders_name_channels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_slices_inside : Cert.Pre_slices_inside.Facts) (hPre_leaders_name_channels : Cert.Pre_leaders_name_channels.Facts),
    quiescent_Kernel (hKernel := hKernel) (hPre_slices_inside := hPre_slices_inside)
    ∧ quiescent_KernelIdeal (hKernelIdeal := hKernelIdeal) (hPre_leaders_name_channels := hPre_leaders_name_channels)
    ∧ quiescent_KernelIdeal_pre_slices_inside (hKernelIdeal := hKernelIdeal) (hPre_slices_inside := hPre_slices_inside)
    ∧ quiescent_ReferenceIdeal (hReferenceIdeal := hReferenceIdeal)
    ∧ quiescent_ReferenceIdeal_pre_leaders_name_channels (hReferenceIdeal := hReferenceIdeal) (hPre_leaders_name_channels := hPre_leaders_name_channels)
    ∧ preserves_Kernel_KernelIdeal
    ∧ algebraic_KernelIdeal_ReferenceIdeal (hKernelIdeal := hKernelIdeal) (hReferenceIdeal := hReferenceIdeal) (hPre_leaders_name_channels := hPre_leaders_name_channels)
-- ==== Pre_leaders_name_channels.lean ====
abbrev S16x720x321 : Shape := ⟨3, ![16, 720, 321]⟩
abbrev S2568 : Shape := ⟨1, ![2568]⟩
abbrev S336x720 : Shape := ⟨2, ![336, 720]⟩
abbrev S321x9 : Shape := ⟨2, ![321, 9]⟩
abbrev S_ : Shape := ⟨0, ![]⟩

class Facts : Prop where
  bcast_S_S2568 : S_.BroadcastsInDim S2568 (![] : Fin 0 → Fin S2568.rank)

variable [Facts]

def fn {F : FTy → Type} [FloatOps F] (main_arg0 : FVec F S16x720x321 .f32) (main_arg1 : IVec S2568 32) (main_arg2 : FVec F S2568 .f32) (main_arg3 : FVec F S336x720 .f32) (main_arg4 : FVec F S321x9 .f32) : IVec S2568 1 :=
  let main_c : IVec S_ 32 := constantI S_ 32 0#32
  let main_v0 : IVec S2568 32 := broadcastInDim S2568 ![] bcast_S_S2568 main_c
  let main_v1 : IVec S2568 1 := cmpi .sge main_arg1 main_v0
  let main_c_0 : IVec S_ 32 := constantI S_ 32 321#32
  let main_v2 : IVec S2568 32 := broadcastInDim S2568 ![] bcast_S_S2568 main_c_0
  let main_v3 : IVec S2568 1 := cmpi .slt main_arg1 main_v2
  let main_v4 : IVec S2568 1 := andi main_v1 main_v3
  main_v4
-- ==== Pre_slices_inside.lean ====
abbrev S16x720x321 : Shape := ⟨3, ![16, 720, 321]⟩
abbrev S2568 : Shape := ⟨1, ![2568]⟩
abbrev S336x720 : Shape := ⟨2, ![336, 720]⟩
abbrev S321x9 : Shape := ⟨2, ![321, 9]⟩
abbrev S_ : Shape := ⟨0, ![]⟩

class Facts : Prop where
  bcast_S_S2568 : S_.BroadcastsInDim S2568 (![] : Fin 0 → Fin S2568.rank)

variable [Facts]

def fn_part1 {F : FTy → Type} [FloatOps F] (main_v9 : IVec S2568 32) (main_v17 : IVec S2568 1) : IVec S2568 1 :=
  let main_c_4 : IVec S_ 32 := constantI S_ 32 720#32
  let main_v18 : IVec S2568 32 := broadcastInDim S2568 ![] bcast_S_S2568 main_c_4
  let main_v19 : IVec S2568 1 := cmpi .sle main_v9 main_v18
  let main_v20 : IVec S2568 1 := andi main_v17 main_v19
  main_v20

def fn {F : FTy → Type} [FloatOps F] (main_arg0 : FVec F S16x720x321 .f32) (main_arg1 : IVec S2568 32) (main_arg2 : FVec F S2568 .f32) (main_arg3 : FVec F S336x720 .f32) (main_arg4 : FVec F S321x9 .f32) : IVec S2568 1 :=
  let main_v0 : FVec F S2568 .f32 := Host.negf main_arg2
  let main_v1 : FVec F S2568 .f32 := Host.exp main_v0
  let main_cst : FVec F S_ .f32 := constant S_ .f32 0x3F800000#32
  let main_v2 : FVec F S2568 .f32 := broadcastInDim S2568 ![] bcast_S_S2568 main_cst
  let main_v3 : FVec F S2568 .f32 := addf main_v2 main_v1
  let main_cst_0 : FVec F S_ .f32 := constant S_ .f32 0x3F800000#32
  let main_v4 : FVec F S2568 .f32 := broadcastInDim S2568 ![] bcast_S_S2568 main_cst_0
  let main_v5 : FVec F S2568 .f32 := Host.divf main_v4 main_v3
  let main_cst_1 : FVec F S_ .f32 := constant S_ .f32 0x44340000#32
  let main_v6 : FVec F S2568 .f32 := broadcastInDim S2568 ![] bcast_S_S2568 main_cst_1
  let main_v7 : FVec F S2568 .f32 := mulf main_v5 main_v6
  let main_v8 : FVec F S2568 .f32 := Host.ceil main_v7
  let main_v9 : IVec S2568 32 := fptosi 32 main_v8
  let main_c : IVec S_ 32 := constantI S_ 32 0#32
  let main_v10 : IVec S2568 32 := broadcastInDim S2568 ![] bcast_S_S2568 main_c
  let main_v11 : IVec S2568 1 := cmpi .sge main_arg1 main_v10
  let main_c_2 : IVec S_ 32 := constantI S_ 32 321#32
  let main_v12 : IVec S2568 32 := broadcastInDim S2568 ![] bcast_S_S2568 main_c_2
  let main_v13 : IVec S2568 1 := cmpi .slt main_arg1 main_v12
  let main_v14 : IVec S2568 1 := andi main_v11 main_v13
  let main_c_3 : IVec S_ 32 := constantI S_ 32 0#32
  let main_v15 : IVec S2568 32 := broadcastInDim S2568 ![] bcast_S_S2568 main_c_3
  let main_v16 : IVec S2568 1 := cmpi .sge main_v9 main_v15
  let main_v17 : IVec S2568 1 := andi main_v14 main_v16
  fn_part1 (F := F) main_v9 main_v17
-- ==== Kernel.lean ====
abbrev S16x720x321 : Shape := ⟨3, ![16, 720, 321]⟩
abbrev S2568 : Shape := ⟨1, ![2568]⟩
abbrev S336x720 : Shape := ⟨2, ![336, 720]⟩
abbrev S321x9 : Shape := ⟨2, ![321, 9]⟩
abbrev S_ : Shape := ⟨0, ![]⟩
abbrev S321x8 : Shape := ⟨2, ![321, 8]⟩
abbrev S336x8 : Shape := ⟨2, ![336, 8]⟩
abbrev S321x16x720 : Shape := ⟨3, ![321, 16, 720]⟩
abbrev S384x16x720 : Shape := ⟨3, ![384, 16, 720]⟩
abbrev S384x16x1152 : Shape := ⟨3, ![384, 16, 1152]⟩
abbrev S384x16 : Shape := ⟨2, ![384, 16]⟩
abbrev S384x16x1 : Shape := ⟨3, ![384, 16, 1]⟩
abbrev S336x9 : Shape := ⟨2, ![336, 9]⟩
abbrev S336x1x9 : Shape := ⟨3, ![336, 1, 9]⟩
abbrev S321x16x336 : Shape := ⟨3, ![321, 16, 336]⟩
abbrev S321x9x16x336 : Shape := ⟨4, ![321, 9, 16, 336]⟩
abbrev S16x336x321 : Shape := ⟨3, ![16, 336, 321]⟩
abbrev S16x336x321x9 : Shape := ⟨4, ![16, 336, 321, 9]⟩
abbrev S128x16x720 : Shape := ⟨3, ![128, 16, 720]⟩
abbrev S128x16x1152 : Shape := ⟨3, ![128, 16, 1152]⟩
abbrev S128x16 : Shape := ⟨2, ![128, 16]⟩
abbrev S128x16x1 : Shape := ⟨3, ![128, 16, 1]⟩
abbrev S2048x720 : Shape := ⟨2, ![2048, 720]⟩
abbrev S2048x336 : Shape := ⟨2, ![2048, 336]⟩
abbrev S128x16x336 : Shape := ⟨3, ![128, 16, 336]⟩
abbrev S128x16x96 : Shape := ⟨3, ![128, 16, 96]⟩
abbrev S48x1x9 : Shape := ⟨3, ![48, 1, 9]⟩
abbrev S48x16x1 : Shape := ⟨3, ![48, 16, 1]⟩
abbrev S48x16x336 : Shape := ⟨3, ![48, 16, 336]⟩
abbrev S48x9x16x336 : Shape := ⟨4, ![48, 9, 16, 336]⟩
abbrev S1x16x336 : Shape := ⟨3, ![1, 16, 336]⟩
abbrev S16x336 : Shape := ⟨2, ![16, 336]⟩
abbrev S1x1x16x336 : Shape := ⟨4, ![1, 1, 16, 336]⟩
abbrev S1x1x9 : Shape := ⟨3, ![1, 1, 9]⟩
abbrev S1x9 : Shape := ⟨2, ![1, 9]⟩
abbrev S1 : Shape := ⟨1, ![1]⟩
abbrev S1x1 : Shape := ⟨2, ![1, 1]⟩
abbrev S1x16x512 : Shape := ⟨3, ![1, 16, 512]⟩
abbrev S16x512 : Shape := ⟨2, ![16, 512]⟩
abbrev S1x16x1 : Shape := ⟨3, ![1, 16, 1]⟩
abbrev S16x1 : Shape := ⟨2, ![16, 1]⟩

abbrev nBuf : Space → Nat
  | .hbm => 66
  | .vmem => 20
  | .smem => 5
  | _ => 0

abbrev bufTy : (tb : Table) → Fin (tcTables nBuf tb) → BufTy
  | .hbm, ⟨0, _⟩ => ⟨S16x720x321, .f32⟩
  | .hbm, ⟨1, _⟩ => ⟨S2568, .i32⟩
  | .hbm, ⟨2, _⟩ => ⟨S2568, .f32⟩
  | .hbm, ⟨3, _⟩ => ⟨S336x720, .f32⟩
  | .hbm, ⟨4, _⟩ => ⟨S321x9, .f32⟩
  | .hbm, ⟨5, _⟩ => ⟨S2568, .f32⟩
  | .hbm, ⟨6, _⟩ => ⟨S2568, .f32⟩
  | .hbm, ⟨7, _⟩ => ⟨S_, .f32⟩
  | .hbm, ⟨8, _⟩ => ⟨S2568, .f32⟩
  | .hbm, ⟨9, _⟩ => ⟨S2568, .f32⟩
  | .hbm, ⟨10, _⟩ => ⟨S_, .f32⟩
  | .hbm, ⟨11, _⟩ => ⟨S2568, .f32⟩
  | .hbm, ⟨12, _⟩ => ⟨S2568, .f32⟩
  | .hbm, ⟨13, _⟩ => ⟨S_, .f32⟩
  | .hbm, ⟨14, _⟩ => ⟨S2568, .f32⟩
  | .hbm, ⟨15, _⟩ => ⟨S2568, .f32⟩
  | .hbm, ⟨16, _⟩ => ⟨S2568, .f32⟩
  | .hbm, ⟨17, _⟩ => ⟨S2568, .f32⟩
  | .hbm, ⟨18, _⟩ => ⟨S2568, .i32⟩
  | .hbm, ⟨19, _⟩ => ⟨S_, .i32⟩
  | .hbm, ⟨20, _⟩ => ⟨S2568, .i32⟩
  | .hbm, ⟨21, _⟩ => ⟨S2568, .i32⟩
  | .hbm, ⟨22, _⟩ => ⟨S321x8, .i32⟩
  | .hbm, ⟨23, _⟩ => ⟨S_, .i32⟩
  | .hbm, ⟨24, _⟩ => ⟨S_, .i32⟩
  | .hbm, ⟨25, _⟩ => ⟨S336x8, .i32⟩
  | .hbm, ⟨26, _⟩ => ⟨S2568, .f32⟩
  | .hbm, ⟨27, _⟩ => ⟨S2568, .i32⟩
  | .hbm, ⟨28, _⟩ => ⟨S321x8, .i32⟩
  | .hbm, ⟨29, _⟩ => ⟨S_, .i32⟩
  | .hbm, ⟨30, _⟩ => ⟨S_, .i32⟩
  | .hbm, ⟨31, _⟩ => ⟨S336x8, .i32⟩
  | .hbm, ⟨32, _⟩ => ⟨S2568, .f32⟩
  | .hbm, ⟨33, _⟩ => ⟨S321x8, .f32⟩
  | .hbm, ⟨34, _⟩ => ⟨S_, .i32⟩
  | .hbm, ⟨35, _⟩ => ⟨S_, .f32⟩
  | .hbm, ⟨36, _⟩ => ⟨S336x8, .f32⟩
  | .hbm, ⟨37, _⟩ => ⟨S_, .f32⟩
  | .hbm, ⟨38, _⟩ => ⟨S2568, .f32⟩
  | .hbm, ⟨39, _⟩ => ⟨S2568, .f32⟩
  | .hbm, ⟨40, _⟩ => ⟨S2568, .f32⟩
  | .hbm, ⟨41, _⟩ => ⟨S321x8, .f32⟩
  | .hbm, ⟨42, _⟩ => ⟨S_, .i32⟩
  | .hbm, ⟨43, _⟩ => ⟨S_, .f32⟩
  | .hbm, ⟨44, _⟩ => ⟨S336x8, .f32⟩
  | .hbm, ⟨45, _⟩ => ⟨S321x8, .i32⟩
  | .hbm, ⟨46, _⟩ => ⟨S_, .i32⟩
  | .hbm, ⟨47, _⟩ => ⟨S_, .i32⟩
  | .hbm, ⟨48, _⟩ => ⟨S336x8, .i32⟩
  | .hbm, ⟨49, _⟩ => ⟨S321x16x720, .f32⟩
  | .hbm, ⟨50, _⟩ => ⟨S_, .i32⟩
  | .hbm, ⟨51, _⟩ => ⟨S_, .f32⟩
  | .hbm, ⟨52, _⟩ => ⟨S384x16x720, .f32⟩
  | .hbm, ⟨53, _⟩ => ⟨S384x16x1152, .f32⟩
  | .hbm, ⟨54, _⟩ => ⟨S384x16, .f32⟩
  | .hbm, ⟨55, _⟩ => ⟨S384x16, .f32⟩
  | .hbm, ⟨56, _⟩ => ⟨S384x16x1, .f32⟩
  | .hbm, ⟨57, _⟩ => ⟨S384x16x1, .f32⟩
  | .hbm, ⟨58, _⟩ => ⟨S_, .i32⟩
  | .hbm, ⟨59, _⟩ => ⟨S_, .f32⟩
  | .hbm, ⟨60, _⟩ => ⟨S336x9, .f32⟩
  | .hbm, ⟨61, _⟩ => ⟨S336x1x9, .f32⟩
  | .hbm, ⟨62, _⟩ => ⟨S321x16x336, .f32⟩
  | .hbm, ⟨63, _⟩ => ⟨S321x9x16x336, .f32⟩
  | .hbm, ⟨64, _⟩ => ⟨S16x336x321, .f32⟩
  | .hbm, ⟨65, _⟩ => ⟨S16x336x321x9, .f32⟩
  | .local _ .vmem, ⟨0, _⟩ => ⟨S128x16x720, .f32⟩
  | .local _ .vmem, ⟨1, _⟩ => ⟨S128x16x720, .f32⟩
  | .local _ .vmem, ⟨2, _⟩ => ⟨S336x720, .f32⟩
  | .local _ .vmem, ⟨3, _⟩ => ⟨S128x16x1152, .f32⟩
  | .local _ .vmem, ⟨4, _⟩ => ⟨S128x16x1152, .f32⟩
  | .local _ .vmem, ⟨5, _⟩ => ⟨S128x16, .f32⟩
  | .local _ .vmem, ⟨6, _⟩ => ⟨S128x16, .f32⟩
  | .local _ .vmem, ⟨7, _⟩ => ⟨S128x16, .f32⟩
  | .local _ .vmem, ⟨8, _⟩ => ⟨S128x16, .f32⟩
  | .local _ .vmem, ⟨9, _⟩ => ⟨S48x1x9, .f32⟩
  | .local _ .vmem, ⟨10, _⟩ => ⟨S48x1x9, .f32⟩
  | .local _ .vmem, ⟨11, _⟩ => ⟨S48x16x1, .f32⟩
  | .local _ .vmem, ⟨12, _⟩ => ⟨S48x16x1, .f32⟩
  | .local _ .vmem, ⟨13, _⟩ => ⟨S48x16x1, .f32⟩
  | .local _ .vmem, ⟨14, _⟩ => ⟨S48x16x1, .f32⟩
  | .local _ .vmem, ⟨15, _⟩ => ⟨S48x16x336, .f32⟩
  | .local _ .vmem, ⟨16, _⟩ => ⟨S48x16x336, .f32⟩
  | .local _ .vmem, ⟨17, _⟩ => ⟨S48x9x16x336, .f32⟩
  | .local _ .vmem, ⟨18, _⟩ => ⟨S48x9x16x336, .f32⟩
  | .local _ .vmem, ⟨19, _⟩ => ⟨S384x16x1152, .f32⟩
  | .local _ .smem, ⟨0, _⟩ => ⟨S336x8, .i32⟩
  | .local _ .smem, ⟨1, _⟩ => ⟨S336x8, .i32⟩
  | .local _ .smem, ⟨2, _⟩ => ⟨S336x8, .i32⟩
  | .local _ .smem, ⟨3, _⟩ => ⟨S336x8, .f32⟩
  | .local _ .smem, ⟨4, _⟩ => ⟨S336x8, .f32⟩
  | _, _ => ⟨S16x720x321, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_c_2 : Ref sig .tc := ⟨.hbm, 23, rfl⟩
abbrev main_call0_call0_v0 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_c_3 : Ref sig .tc := ⟨.hbm, 29, rfl⟩
abbrev main_call0_call1_v0 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_c_4 : Ref sig .tc := ⟨.hbm, 34, rfl⟩
abbrev main_call0_call2_v0 : Ref sig .tc := ⟨.hbm, 35, rfl⟩
abbrev main_call0_v21 : Ref sig .tc := ⟨.hbm, 36, rfl⟩
abbrev main_call0_cst_5 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_call0_c_6 : Ref sig .tc := ⟨.hbm, 42, rfl⟩
abbrev main_call0_call3_v0 : Ref sig .tc := ⟨.hbm, 43, rfl⟩
abbrev main_call0_v26 : Ref sig .tc := ⟨.hbm, 44, rfl⟩
abbrev main_call0_v27 : Ref sig .tc := ⟨.hbm, 45, rfl⟩
abbrev main_call0_c_7 : Ref sig .tc := ⟨.hbm, 46, rfl⟩
abbrev main_call0_call4_v0 : Ref sig .tc := ⟨.hbm, 47, rfl⟩
abbrev main_call0_v28 : Ref sig .tc := ⟨.hbm, 48, rfl⟩
abbrev main_call0_v29 : Ref sig .tc := ⟨.hbm, 49, rfl⟩
abbrev main_call0_c_8 : Ref sig .tc := ⟨.hbm, 50, rfl⟩
abbrev main_call0_call5_v0 : Ref sig .tc := ⟨.hbm, 51, rfl⟩
abbrev main_call0_v30 : Ref sig .tc := ⟨.hbm, 52, rfl⟩
abbrev main_call0_v31_0 : Ref sig .tc := ⟨.hbm, 53, rfl⟩
abbrev main_call0_v31_1 : Ref sig .tc := ⟨.hbm, 54, rfl⟩
abbrev main_call0_v31_2 : Ref sig .tc := ⟨.hbm, 55, rfl⟩
abbrev main_call0_v32 : Ref sig .tc := ⟨.hbm, 56, rfl⟩
abbrev main_call0_v33 : Ref sig .tc := ⟨.hbm, 57, rfl⟩
abbrev main_call0_c_9 : Ref sig .tc := ⟨.hbm, 58, rfl⟩
abbrev main_call0_call6_v0 : Ref sig .tc := ⟨.hbm, 59, rfl⟩
abbrev main_call0_v34 : Ref sig .tc := ⟨.hbm, 60, rfl⟩
abbrev main_call0_v35 : Ref sig .tc := ⟨.hbm, 61, rfl⟩
abbrev main_call0_v36_0 : Ref sig .tc := ⟨.hbm, 62, rfl⟩
abbrev main_call0_v36_1 : Ref sig .tc := ⟨.hbm, 63, rfl⟩
abbrev main_v0_0 : Ref sig .tc := ⟨.hbm, 64, rfl⟩
abbrev main_v0_1 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_scratch0 : Ref sig .tc := ⟨.vmem, 19, rfl⟩
abbrev cc1_stg0_0 : Ref sig .tc := ⟨.smem, 0, rfl⟩
abbrev cc1_stg1_0 : Ref sig .tc := ⟨.smem, 1, rfl⟩
abbrev cc1_stg2_0 : Ref sig .tc := ⟨.smem, 2, rfl⟩
abbrev cc1_stg3_0 : Ref sig .tc := ⟨.smem, 3, rfl⟩
abbrev cc1_stg4_0 : Ref sig .tc := ⟨.smem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x16x720 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S336x720 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x16x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![7], ![false]⟩

def k1_off1 (i : grid1.Coords) : Fin 3 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v5 : Index := Scalar.indexCast v4
  let c0 : Index := 0#32
  let c720 : Index := 720#32
  ![v5.toNat, 0, 720]
def k1_off2 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v25 : Index := Scalar.indexCast v4
  let c0_10 : Index := 0#32
  ![v25.toNat, 0]
def k1_mult1 (v28 : BitVec 32) : BitVec 32 :=
  let c0_i32_13 : BitVec 32 := 0#32
  let v32 : BitVec 1 := Scalar.cmpi .sgt v28 c0_i32_13
  let v33 : BitVec 32 := Scalar.extui v32
  let c0_i32_14 : BitVec 32 := 0#32
  let v34 : BitVec 1 := Scalar.cmpi .slt v28 c0_i32_14
  let v35 : BitVec 32 := Scalar.extui v34
  let v36 : BitVec 32 := Scalar.subi v33 v35
  let c128_i32 : BitVec 32 := 128#32
  let c0_i32_15 : BitVec 32 := 0#32
  let v37 : BitVec 1 := Scalar.cmpi .sgt c128_i32 c0_i32_15
  let v38 : BitVec 32 := Scalar.extui v37
  let c0_i32_16 : BitVec 32 := 0#32
  let v39 : BitVec 1 := Scalar.cmpi .slt c128_i32 c0_i32_16
  let v40 : BitVec 32 := Scalar.extui v39
  let v41 : BitVec 32 := Scalar.subi v38 v40
  let v42 : BitVec 1 := Scalar.cmpi .ne v36 v41
  let v43 : BitVec 32 := Scalar.remsi v28 c128_i32
  let c0_i32_17 : BitVec 32 := 0#32
  let v44 : BitVec 1 := Scalar.cmpi .ne v43 c0_i32_17
  let v45 : BitVec 1 := Scalar.andi v42 v44
  let v31 : BitVec 32 := Scalar.divsi v28 c128_i32
  let c1_i32 : BitVec 32 := 1#32
  let v46 : BitVec 32 := Scalar.subi v31 c1_i32
  let v47 : BitVec 32 := Scalar.select v45 v46 v31
  let c128_i32_18 : BitVec 32 := 128#32
  let v48 : BitVec 32 := Scalar.muli v47 c128_i32_18
  v48

def k1_off3 (v26 : BitVec 32) (v28 : BitVec 32) : Fin 3 → Nat :=
  let v51 : Index := Scalar.indexCast v26
  let c0_19 : Index := 0#32
  let c0_i32_13 : BitVec 32 := 0#32
  let v32 : BitVec 1 := Scalar.cmpi .sgt v28 c0_i32_13
  let v33 : BitVec 32 := Scalar.extui v32
  let c0_i32_14 : BitVec 32 := 0#32
  let v34 : BitVec 1 := Scalar.cmpi .slt v28 c0_i32_14
  let v35 : BitVec 32 := Scalar.extui v34
  let v36 : BitVec 32 := Scalar.subi v33 v35
  let c128_i32 : BitVec 32 := 128#32
  let c0_i32_15 : BitVec 32 := 0#32
  let v37 : BitVec 1 := Scalar.cmpi .sgt c128_i32 c0_i32_15
  let v38 : BitVec 32 := Scalar.extui v37
  let c0_i32_16 : BitVec 32 := 0#32
  let v39 : BitVec 1 := Scalar.cmpi .slt c128_i32 c0_i32_16
  let v40 : BitVec 32 := Scalar.extui v39
  let v41 : BitVec 32 := Scalar.subi v38 v40
  let v42 : BitVec 1 := Scalar.cmpi .ne v36 v41
  let v43 : BitVec 32 := Scalar.remsi v28 c128_i32
  let c0_i32_17 : BitVec 32 := 0#32
  let v44 : BitVec 1 := Scalar.cmpi .ne v43 c0_i32_17
  let v45 : BitVec 1 := Scalar.andi v42 v44
  let v31 : BitVec 32 := Scalar.divsi v28 c128_i32
  let c1_i32 : BitVec 32 := 1#32
  let v46 : BitVec 32 := Scalar.subi v31 c1_i32
  let v47 : BitVec 32 := Scalar.select v45 v46 v31
  let c128_i32_18 : BitVec 32 := 128#32
  let v48 : BitVec 32 := Scalar.muli v47 c128_i32_18
  let v49 : BitVec 32 := v48
  let v52 : Index := Scalar.indexCast v49
  ![v51.toNat, 0, v52.toNat]

def k1_chk1 (v26 : BitVec 32) (v28 : BitVec 32) : Prop :=
  (128 ∣ (k1_mult1 v28).toNat) ∧
  (∀ a, (k1_off3 v26 v28) a + S1x16x512.size a ≤ S384x16x1152.size a)
theorem k1_mult1_dvd : ∀ (v26 : BitVec 32) (v28 : BitVec 32) (k1_hw1 : k1_chk1 v26 v28), 128 ∣ (k1_mult1 v28).toNat := fun v26 v28 k1_hw1 => k1_hw1.1
theorem k1_off3_inb : ∀ (v26 : BitVec 32) (v28 : BitVec 32) (k1_hw1 : k1_chk1 v26 v28), ∀ a, (k1_off3 v26 v28) a + S1x16x512.size a ≤ S384x16x1152.size a := fun v26 v28 k1_hw1 => k1_hw1.2

def k1_off4 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v62 : Index := Scalar.indexCast v4
  let c0_21 : Index := 0#32
  ![v62.toNat, 0]
def k1_off5 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v78 : Index := Scalar.indexCast v4
  let c1_26 : Index := 1#32
  ![v78.toNat, 1]
def k1_mult2 (v81 : BitVec 32) : BitVec 32 :=
  let c0_i32_30 : BitVec 32 := 0#32
  let v85 : BitVec 1 := Scalar.cmpi .sgt v81 c0_i32_30
  let v86 : BitVec 32 := Scalar.extui v85
  let c0_i32_31 : BitVec 32 := 0#32
  let v87 : BitVec 1 := Scalar.cmpi .slt v81 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi v81 c128_i32_29
  let c0_i32_34 : BitVec 32 := 0#32
  let v97 : BitVec 1 := Scalar.cmpi .ne v96 c0_i32_34
  let v98 : BitVec 1 := Scalar.andi v95 v97
  let v84 : BitVec 32 := Scalar.divsi v81 c128_i32_29
  let c1_i32_35 : BitVec 32 := 1#32
  let v99 : BitVec 32 := Scalar.subi v84 c1_i32_35
  let v100 : BitVec 32 := Scalar.select v98 v99 v84
  let c128_i32_36 : BitVec 32 := 128#32
  let v101 : BitVec 32 := Scalar.muli v100 c128_i32_36
  v101

def k1_off6 (v79 : BitVec 32) (v81 : BitVec 32) : Fin 3 → Nat :=
  let v104 : Index := Scalar.indexCast v79
  let c0_37 : Index := 0#32
  let c0_i32_30 : BitVec 32 := 0#32
  let v85 : BitVec 1 := Scalar.cmpi .sgt v81 c0_i32_30
  let v86 : BitVec 32 := Scalar.extui v85
  let c0_i32_31 : BitVec 32 := 0#32
  let v87 : BitVec 1 := Scalar.cmpi .slt v81 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi v81 c128_i32_29
  let c0_i32_34 : BitVec 32 := 0#32
  let v97 : BitVec 1 := Scalar.cmpi .ne v96 c0_i32_34
  let v98 : BitVec 1 := Scalar.andi v95 v97
  let v84 : BitVec 32 := Scalar.divsi v81 c128_i32_29
  let c1_i32_35 : BitVec 32 := 1#32
  let v99 : BitVec 32 := Scalar.subi v84 c1_i32_35
  let v100 : BitVec 32 := Scalar.select v98 v99 v84
  let c128_i32_36 : BitVec 32 := 128#32
  let v101 : BitVec 32 := Scalar.muli v100 c128_i32_36
  let v102 : BitVec 32 := v101
  let v105 : Index := Scalar.indexCast v102
  ![v104.toNat, 0, v105.toNat]

def k1_chk2 (v79 : BitVec 32) (v81 : BitVec 32) : Prop :=
  (128 ∣ (k1_mult2 v81).toNat) ∧
  (∀ a, (k1_off6 v79 v81) a + S1x16x512.size a ≤ S384x16x1152.size a)
theorem k1_mult2_dvd : ∀ (v79 : BitVec 32) (v81 : BitVec 32) (k1_hw2 : k1_chk2 v79 v81), 128 ∣ (k1_mult2 v81).toNat := fun v79 v81 k1_hw2 => k1_hw2.1
theorem k1_off6_inb : ∀ (v79 : BitVec 32) (v81 : BitVec 32) (k1_hw2 : k1_chk2 v79 v81), ∀ a, (k1_off6 v79 v81) a + S1x16x512.size a ≤ S384x16x1152.size a := fun v79 v81 k1_hw2 => k1_hw2.2

def k1_off7 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v115 : Index := Scalar.indexCast v4
  let c1_40 : Index := 1#32
  ![v115.toNat, 1]
def k1_off8 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v131 : Index := Scalar.indexCast v4
  let c2_45 : Index := 2#32
  ![v131.toNat, 2]
def k1_mult3 (v134 : BitVec 32) : BitVec 32 :=
  let c0_i32_49 : BitVec 32 := 0#32
  let v138 : BitVec 1 := Scalar.cmpi .sgt v134 c0_i32_49
  let v139 : BitVec 32 := Scalar.extui v138
  let c0_i32_50 : BitVec 32 := 0#32
  let v140 : BitVec 1 := Scalar.cmpi .slt v134 c0_i32_50
  let v141 : BitVec 32 := Scalar.extui v140
  let v142 : BitVec 32 := Scalar.subi v139 v141
  let c128_i32_48 : BitVec 32 := 128#32
  let c0_i32_51 : BitVec 32 := 0#32
  let v143 : BitVec 1 := Scalar.cmpi .sgt c128_i32_48 c0_i32_51
  let v144 : BitVec 32 := Scalar.extui v143
  let c0_i32_52 : BitVec 32 := 0#32
  let v145 : BitVec 1 := Scalar.cmpi .slt c128_i32_48 c0_i32_52
  let v146 : BitVec 32 := Scalar.extui v145
  let v147 : BitVec 32 := Scalar.subi v144 v146
  let v148 : BitVec 1 := Scalar.cmpi .ne v142 v147
  let v149 : BitVec 32 := Scalar.remsi v134 c128_i32_48
  let c0_i32_53 : BitVec 32 := 0#32
  let v150 : BitVec 1 := Scalar.cmpi .ne v149 c0_i32_53
  let v151 : BitVec 1 := Scalar.andi v148 v150
  let v137 : BitVec 32 := Scalar.divsi v134 c128_i32_48
  let c1_i32_54 : BitVec 32 := 1#32
  let v152 : BitVec 32 := Scalar.subi v137 c1_i32_54
  let v153 : BitVec 32 := Scalar.select v151 v152 v137
  let c128_i32_55 : BitVec 32 := 128#32
  let v154 : BitVec 32 := Scalar.muli v153 c128_i32_55
  v154

def k1_off9 (v132 : BitVec 32) (v134 : BitVec 32) : Fin 3 → Nat :=
  let v157 : Index := Scalar.indexCast v132
  let c0_56 : Index := 0#32
  let c0_i32_49 : BitVec 32 := 0#32
  let v138 : BitVec 1 := Scalar.cmpi .sgt v134 c0_i32_49
  let v139 : BitVec 32 := Scalar.extui v138
  let c0_i32_50 : BitVec 32 := 0#32
  let v140 : BitVec 1 := Scalar.cmpi .slt v134 c0_i32_50
  let v141 : BitVec 32 := Scalar.extui v140
  let v142 : BitVec 32 := Scalar.subi v139 v141
  let c128_i32_48 : BitVec 32 := 128#32
  let c0_i32_51 : BitVec 32 := 0#32
  let v143 : BitVec 1 := Scalar.cmpi .sgt c128_i32_48 c0_i32_51
  let v144 : BitVec 32 := Scalar.extui v143
  let c0_i32_52 : BitVec 32 := 0#32
  let v145 : BitVec 1 := Scalar.cmpi .slt c128_i32_48 c0_i32_52
  let v146 : BitVec 32 := Scalar.extui v145
  let v147 : BitVec 32 := Scalar.subi v144 v146
  let v148 : BitVec 1 := Scalar.cmpi .ne v142 v147
  let v149 : BitVec 32 := Scalar.remsi v134 c128_i32_48
  let c0_i32_53 : BitVec 32 := 0#32
  let v150 : BitVec 1 := Scalar.cmpi .ne v149 c0_i32_53
  let v151 : BitVec 1 := Scalar.andi v148 v150
  let v137 : BitVec 32 := Scalar.divsi v134 c128_i32_48
  let c1_i32_54 : BitVec 32 := 1#32
  let v152 : BitVec 32 := Scalar.subi v137 c1_i32_54
  let v153 : BitVec 32 := Scalar.select v151 v152 v137
  let c128_i32_55 : BitVec 32 := 128#32
  let v154 : BitVec 32 := Scalar.muli v153 c128_i32_55
  let v155 : BitVec 32 := v154
  let v158 : Index := Scalar.indexCast v155
  ![v157.toNat, 0, v158.toNat]

def k1_chk3 (v132 : BitVec 32) (v134 : BitVec 32) : Prop :=
  (128 ∣ (k1_mult3 v134).toNat) ∧
  (∀ a, (k1_off9 v132 v134) a + S1x16x512.size a ≤ S384x16x1152.size a)
theorem k1_mult3_dvd : ∀ (v132 : BitVec 32) (v134 : BitVec 32) (k1_hw3 : k1_chk3 v132 v134), 128 ∣ (k1_mult3 v134).toNat := fun v132 v134 k1_hw3 => k1_hw3.1
theorem k1_off9_inb : ∀ (v132 : BitVec 32) (v134 : BitVec 32) (k1_hw3 : k1_chk3 v132 v134), ∀ a, (k1_off9 v132 v134) a + S1x16x512.size a ≤ S384x16x1152.size a := fun v132 v134 k1_hw3 => k1_hw3.2

def k1_off10 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v168 : Index := Scalar.indexCast v4
  let c2_59 : Index := 2#32
  ![v168.toNat, 2]
def k1_off11 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v184 : Index := Scalar.indexCast v4
  let c3_64 : Index := 3#32
  ![v184.toNat, 3]
def k1_mult4 (v187 : BitVec 32) : BitVec 32 :=
  let c0_i32_68 : BitVec 32 := 0#32
  let v191 : BitVec 1 := Scalar.cmpi .sgt v187 c0_i32_68
  let v192 : BitVec 32 := Scalar.extui v191
  let c0_i32_69 : BitVec 32 := 0#32
  let v193 : BitVec 1 := Scalar.cmpi .slt v187 c0_i32_69
  let v194 : BitVec 32 := Scalar.extui v193
  let v195 : BitVec 32 := Scalar.subi v192 v194
  let c128_i32_67 : BitVec 32 := 128#32
  let c0_i32_70 : BitVec 32 := 0#32
  let v196 : BitVec 1 := Scalar.cmpi .sgt c128_i32_67 c0_i32_70
  let v197 : BitVec 32 := Scalar.extui v196
  let c0_i32_71 : BitVec 32 := 0#32
  let v198 : BitVec 1 := Scalar.cmpi .slt c128_i32_67 c0_i32_71
  let v199 : BitVec 32 := Scalar.extui v198
  let v200 : BitVec 32 := Scalar.subi v197 v199
  let v201 : BitVec 1 := Scalar.cmpi .ne v195 v200
  let v202 : BitVec 32 := Scalar.remsi v187 c128_i32_67
  let c0_i32_72 : BitVec 32 := 0#32
  let v203 : BitVec 1 := Scalar.cmpi .ne v202 c0_i32_72
  let v204 : BitVec 1 := Scalar.andi v201 v203
  let v190 : BitVec 32 := Scalar.divsi v187 c128_i32_67
  let c1_i32_73 : BitVec 32 := 1#32
  let v205 : BitVec 32 := Scalar.subi v190 c1_i32_73
  let v206 : BitVec 32 := Scalar.select v204 v205 v190
  let c128_i32_74 : BitVec 32 := 128#32
  let v207 : BitVec 32 := Scalar.muli v206 c128_i32_74
  v207

def k1_off12 (v185 : BitVec 32) (v187 : BitVec 32) : Fin 3 → Nat :=
  let v210 : Index := Scalar.indexCast v185
  let c0_75 : Index := 0#32
  let c0_i32_68 : BitVec 32 := 0#32
  let v191 : BitVec 1 := Scalar.cmpi .sgt v187 c0_i32_68
  let v192 : BitVec 32 := Scalar.extui v191
  let c0_i32_69 : BitVec 32 := 0#32
  let v193 : BitVec 1 := Scalar.cmpi .slt v187 c0_i32_69
  let v194 : BitVec 32 := Scalar.extui v193
  let v195 : BitVec 32 := Scalar.subi v192 v194
  let c128_i32_67 : BitVec 32 := 128#32
  let c0_i32_70 : BitVec 32 := 0#32
  let v196 : BitVec 1 := Scalar.cmpi .sgt c128_i32_67 c0_i32_70
  let v197 : BitVec 32 := Scalar.extui v196
  let c0_i32_71 : BitVec 32 := 0#32
  let v198 : BitVec 1 := Scalar.cmpi .slt c128_i32_67 c0_i32_71
  let v199 : BitVec 32 := Scalar.extui v198
  let v200 : BitVec 32 := Scalar.subi v197 v199
  let v201 : BitVec 1 := Scalar.cmpi .ne v195 v200
  let v202 : BitVec 32 := Scalar.remsi v187 c128_i32_67
  let c0_i32_72 : BitVec 32 := 0#32
  let v203 : BitVec 1 := Scalar.cmpi .ne v202 c0_i32_72
  let v204 : BitVec 1 := Scalar.andi v201 v203
  let v190 : BitVec 32 := Scalar.divsi v187 c128_i32_67
  let c1_i32_73 : BitVec 32 := 1#32
  let v205 : BitVec 32 := Scalar.subi v190 c1_i32_73
  let v206 : BitVec 32 := Scalar.select v204 v205 v190
  let c128_i32_74 : BitVec 32 := 128#32
  let v207 : BitVec 32 := Scalar.muli v206 c128_i32_74
  let v208 : BitVec 32 := v207
  let v211 : Index := Scalar.indexCast v208
  ![v210.toNat, 0, v211.toNat]

def k1_chk4 (v185 : BitVec 32) (v187 : BitVec 32) : Prop :=
  (128 ∣ (k1_mult4 v187).toNat) ∧
  (∀ a, (k1_off12 v185 v187) a + S1x16x512.size a ≤ S384x16x1152.size a)
theorem k1_mult4_dvd : ∀ (v185 : BitVec 32) (v187 : BitVec 32) (k1_hw4 : k1_chk4 v185 v187), 128 ∣ (k1_mult4 v187).toNat := fun v185 v187 k1_hw4 => k1_hw4.1
theorem k1_off12_inb : ∀ (v185 : BitVec 32) (v187 : BitVec 32) (k1_hw4 : k1_chk4 v185 v187), ∀ a, (k1_off12 v185 v187) a + S1x16x512.size a ≤ S384x16x1152.size a := fun v185 v187 k1_hw4 => k1_hw4.2

def k1_off13 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v221 : Index := Scalar.indexCast v4
  let c3_78 : Index := 3#32
  ![v221.toNat, 3]
def k1_off14 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v237 : Index := Scalar.indexCast v4
  let c4_83 : Index := 4#32
  ![v237.toNat, 4]
def k1_mult5 (v240 : BitVec 32) : BitVec 32 :=
  let c0_i32_87 : BitVec 32 := 0#32
  let v244 : BitVec 1 := Scalar.cmpi .sgt v240 c0_i32_87
  let v245 : BitVec 32 := Scalar.extui v244
  let c0_i32_88 : BitVec 32 := 0#32
  let v246 : BitVec 1 := Scalar.cmpi .slt v240 c0_i32_88
  let v247 : BitVec 32 := Scalar.extui v246
  let v248 : BitVec 32 := Scalar.subi v245 v247
  let c128_i32_86 : BitVec 32 := 128#32
  let c0_i32_89 : BitVec 32 := 0#32
  let v249 : BitVec 1 := Scalar.cmpi .sgt c128_i32_86 c0_i32_89
  let v250 : BitVec 32 := Scalar.extui v249
  let c0_i32_90 : BitVec 32 := 0#32
  let v251 : BitVec 1 := Scalar.cmpi .slt c128_i32_86 c0_i32_90
  let v252 : BitVec 32 := Scalar.extui v251
  let v253 : BitVec 32 := Scalar.subi v250 v252
  let v254 : BitVec 1 := Scalar.cmpi .ne v248 v253
  let v255 : BitVec 32 := Scalar.remsi v240 c128_i32_86
  let c0_i32_91 : BitVec 32 := 0#32
  let v256 : BitVec 1 := Scalar.cmpi .ne v255 c0_i32_91
  let v257 : BitVec 1 := Scalar.andi v254 v256
  let v243 : BitVec 32 := Scalar.divsi v240 c128_i32_86
  let c1_i32_92 : BitVec 32 := 1#32
  let v258 : BitVec 32 := Scalar.subi v243 c1_i32_92
  let v259 : BitVec 32 := Scalar.select v257 v258 v243
  let c128_i32_93 : BitVec 32 := 128#32
  let v260 : BitVec 32 := Scalar.muli v259 c128_i32_93
  v260

def k1_off15 (v238 : BitVec 32) (v240 : BitVec 32) : Fin 3 → Nat :=
  let v263 : Index := Scalar.indexCast v238
  let c0_94 : Index := 0#32
  let c0_i32_87 : BitVec 32 := 0#32
  let v244 : BitVec 1 := Scalar.cmpi .sgt v240 c0_i32_87
  let v245 : BitVec 32 := Scalar.extui v244
  let c0_i32_88 : BitVec 32 := 0#32
  let v246 : BitVec 1 := Scalar.cmpi .slt v240 c0_i32_88
  let v247 : BitVec 32 := Scalar.extui v246
  let v248 : BitVec 32 := Scalar.subi v245 v247
  let c128_i32_86 : BitVec 32 := 128#32
  let c0_i32_89 : BitVec 32 := 0#32
  let v249 : BitVec 1 := Scalar.cmpi .sgt c128_i32_86 c0_i32_89
  let v250 : BitVec 32 := Scalar.extui v249
  let c0_i32_90 : BitVec 32 := 0#32
  let v251 : BitVec 1 := Scalar.cmpi .slt c128_i32_86 c0_i32_90
  let v252 : BitVec 32 := Scalar.extui v251
  let v253 : BitVec 32 := Scalar.subi v250 v252
  let v254 : BitVec 1 := Scalar.cmpi .ne v248 v253
  let v255 : BitVec 32 := Scalar.remsi v240 c128_i32_86
  let c0_i32_91 : BitVec 32 := 0#32
  let v256 : BitVec 1 := Scalar.cmpi .ne v255 c0_i32_91
  let v257 : BitVec 1 := Scalar.andi v254 v256
  let v243 : BitVec 32 := Scalar.divsi v240 c128_i32_86
  let c1_i32_92 : BitVec 32 := 1#32
  let v258 : BitVec 32 := Scalar.subi v243 c1_i32_92
  let v259 : BitVec 32 := Scalar.select v257 v258 v243
  let c128_i32_93 : BitVec 32 := 128#32
  let v260 : BitVec 32 := Scalar.muli v259 c128_i32_93
  let v261 : BitVec 32 := v260
  let v264 : Index := Scalar.indexCast v261
  ![v263.toNat, 0, v264.toNat]

def k1_chk5 (v238 : BitVec 32) (v240 : BitVec 32) : Prop :=
  (128 ∣ (k1_mult5 v240).toNat) ∧
  (∀ a, (k1_off15 v238 v240) a + S1x16x512.size a ≤ S384x16x1152.size a)
theorem k1_mult5_dvd : ∀ (v238 : BitVec 32) (v240 : BitVec 32) (k1_hw5 : k1_chk5 v238 v240), 128 ∣ (k1_mult5 v240).toNat := fun v238 v240 k1_hw5 => k1_hw5.1
theorem k1_off15_inb : ∀ (v238 : BitVec 32) (v240 : BitVec 32) (k1_hw5 : k1_chk5 v238 v240), ∀ a, (k1_off15 v238 v240) a + S1x16x512.size a ≤ S384x16x1152.size a := fun v238 v240 k1_hw5 => k1_hw5.2

def k1_off16 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v274 : Index := Scalar.indexCast v4
  let c4_97 : Index := 4#32
  ![v274.toNat, 4]
def k1_off17 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v290 : Index := Scalar.indexCast v4
  let c5_102 : Index := 5#32
  ![v290.toNat, 5]
def k1_mult6 (v293 : BitVec 32) : BitVec 32 :=
  let c0_i32_106 : BitVec 32 := 0#32
  let v297 : BitVec 1 := Scalar.cmpi .sgt v293 c0_i32_106
  let v298 : BitVec 32 := Scalar.extui v297
  let c0_i32_107 : BitVec 32 := 0#32
  let v299 : BitVec 1 := Scalar.cmpi .slt v293 c0_i32_107
  let v300 : BitVec 32 := Scalar.extui v299
  let v301 : BitVec 32 := Scalar.subi v298 v300
  let c128_i32_105 : BitVec 32 := 128#32
  let c0_i32_108 : BitVec 32 := 0#32
  let v302 : BitVec 1 := Scalar.cmpi .sgt c128_i32_105 c0_i32_108
  let v303 : BitVec 32 := Scalar.extui v302
  let c0_i32_109 : BitVec 32 := 0#32
  let v304 : BitVec 1 := Scalar.cmpi .slt c128_i32_105 c0_i32_109
  let v305 : BitVec 32 := Scalar.extui v304
  let v306 : BitVec 32 := Scalar.subi v303 v305
  let v307 : BitVec 1 := Scalar.cmpi .ne v301 v306
  let v308 : BitVec 32 := Scalar.remsi v293 c128_i32_105
  let c0_i32_110 : BitVec 32 := 0#32
  let v309 : BitVec 1 := Scalar.cmpi .ne v308 c0_i32_110
  let v310 : BitVec 1 := Scalar.andi v307 v309
  let v296 : BitVec 32 := Scalar.divsi v293 c128_i32_105
  let c1_i32_111 : BitVec 32 := 1#32
  let v311 : BitVec 32 := Scalar.subi v296 c1_i32_111
  let v312 : BitVec 32 := Scalar.select v310 v311 v296
  let c128_i32_112 : BitVec 32 := 128#32
  let v313 : BitVec 32 := Scalar.muli v312 c128_i32_112
  v313

def k1_off18 (v291 : BitVec 32) (v293 : BitVec 32) : Fin 3 → Nat :=
  let v316 : Index := Scalar.indexCast v291
  let c0_113 : Index := 0#32
  let c0_i32_106 : BitVec 32 := 0#32
  let v297 : BitVec 1 := Scalar.cmpi .sgt v293 c0_i32_106
  let v298 : BitVec 32 := Scalar.extui v297
  let c0_i32_107 : BitVec 32 := 0#32
  let v299 : BitVec 1 := Scalar.cmpi .slt v293 c0_i32_107
  let v300 : BitVec 32 := Scalar.extui v299
  let v301 : BitVec 32 := Scalar.subi v298 v300
  let c128_i32_105 : BitVec 32 := 128#32
  let c0_i32_108 : BitVec 32 := 0#32
  let v302 : BitVec 1 := Scalar.cmpi .sgt c128_i32_105 c0_i32_108
  let v303 : BitVec 32 := Scalar.extui v302
  let c0_i32_109 : BitVec 32 := 0#32
  let v304 : BitVec 1 := Scalar.cmpi .slt c128_i32_105 c0_i32_109
  let v305 : BitVec 32 := Scalar.extui v304
  let v306 : BitVec 32 := Scalar.subi v303 v305
  let v307 : BitVec 1 := Scalar.cmpi .ne v301 v306
  let v308 : BitVec 32 := Scalar.remsi v293 c128_i32_105
  let c0_i32_110 : BitVec 32 := 0#32
  let v309 : BitVec 1 := Scalar.cmpi .ne v308 c0_i32_110
  let v310 : BitVec 1 := Scalar.andi v307 v309
  let v296 : BitVec 32 := Scalar.divsi v293 c128_i32_105
  let c1_i32_111 : BitVec 32 := 1#32
  let v311 : BitVec 32 := Scalar.subi v296 c1_i32_111
  let v312 : BitVec 32 := Scalar.select v310 v311 v296
  let c128_i32_112 : BitVec 32 := 128#32
  let v313 : BitVec 32 := Scalar.muli v312 c128_i32_112
  let v314 : BitVec 32 := v313
  let v317 : Index := Scalar.indexCast v314
  ![v316.toNat, 0, v317.toNat]

def k1_chk6 (v291 : BitVec 32) (v293 : BitVec 32) : Prop :=
  (128 ∣ (k1_mult6 v293).toNat) ∧
  (∀ a, (k1_off18 v291 v293) a + S1x16x512.size a ≤ S384x16x1152.size a)
theorem k1_mult6_dvd : ∀ (v291 : BitVec 32) (v293 : BitVec 32) (k1_hw6 : k1_chk6 v291 v293), 128 ∣ (k1_mult6 v293).toNat := fun v291 v293 k1_hw6 => k1_hw6.1
theorem k1_off18_inb : ∀ (v291 : BitVec 32) (v293 : BitVec 32) (k1_hw6 : k1_chk6 v291 v293), ∀ a, (k1_off18 v291 v293) a + S1x16x512.size a ≤ S384x16x1152.size a := fun v291 v293 k1_hw6 => k1_hw6.2

def k1_off19 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v327 : Index := Scalar.indexCast v4
  let c5_116 : Index := 5#32
  ![v327.toNat, 5]
def k1_off20 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v343 : Index := Scalar.indexCast v4
  let c6_121 : Index := 6#32
  ![v343.toNat, 6]
def k1_mult7 (v346 : BitVec 32) : BitVec 32 :=
  let c0_i32_125 : BitVec 32 := 0#32
  let v350 : BitVec 1 := Scalar.cmpi .sgt v346 c0_i32_125
  let v351 : BitVec 32 := Scalar.extui v350
  let c0_i32_126 : BitVec 32 := 0#32
  let v352 : BitVec 1 := Scalar.cmpi .slt v346 c0_i32_126
  let v353 : BitVec 32 := Scalar.extui v352
  let v354 : BitVec 32 := Scalar.subi v351 v353
  let c128_i32_124 : BitVec 32 := 128#32
  let c0_i32_127 : BitVec 32 := 0#32
  let v355 : BitVec 1 := Scalar.cmpi .sgt c128_i32_124 c0_i32_127
  let v356 : BitVec 32 := Scalar.extui v355
  let c0_i32_128 : BitVec 32 := 0#32
  let v357 : BitVec 1 := Scalar.cmpi .slt c128_i32_124 c0_i32_128
  let v358 : BitVec 32 := Scalar.extui v357
  let v359 : BitVec 32 := Scalar.subi v356 v358
  let v360 : BitVec 1 := Scalar.cmpi .ne v354 v359
  let v361 : BitVec 32 := Scalar.remsi v346 c128_i32_124
  let c0_i32_129 : BitVec 32 := 0#32
  let v362 : BitVec 1 := Scalar.cmpi .ne v361 c0_i32_129
  let v363 : BitVec 1 := Scalar.andi v360 v362
  let v349 : BitVec 32 := Scalar.divsi v346 c128_i32_124
  let c1_i32_130 : BitVec 32 := 1#32
  let v364 : BitVec 32 := Scalar.subi v349 c1_i32_130
  let v365 : BitVec 32 := Scalar.select v363 v364 v349
  let c128_i32_131 : BitVec 32 := 128#32
  let v366 : BitVec 32 := Scalar.muli v365 c128_i32_131
  v366

def k1_off21 (v344 : BitVec 32) (v346 : BitVec 32) : Fin 3 → Nat :=
  let v369 : Index := Scalar.indexCast v344
  let c0_132 : Index := 0#32
  let c0_i32_125 : BitVec 32 := 0#32
  let v350 : BitVec 1 := Scalar.cmpi .sgt v346 c0_i32_125
  let v351 : BitVec 32 := Scalar.extui v350
  let c0_i32_126 : BitVec 32 := 0#32
  let v352 : BitVec 1 := Scalar.cmpi .slt v346 c0_i32_126
  let v353 : BitVec 32 := Scalar.extui v352
  let v354 : BitVec 32 := Scalar.subi v351 v353
  let c128_i32_124 : BitVec 32 := 128#32
  let c0_i32_127 : BitVec 32 := 0#32
  let v355 : BitVec 1 := Scalar.cmpi .sgt c128_i32_124 c0_i32_127
  let v356 : BitVec 32 := Scalar.extui v355
  let c0_i32_128 : BitVec 32 := 0#32
  let v357 : BitVec 1 := Scalar.cmpi .slt c128_i32_124 c0_i32_128
  let v358 : BitVec 32 := Scalar.extui v357
  let v359 : BitVec 32 := Scalar.subi v356 v358
  let v360 : BitVec 1 := Scalar.cmpi .ne v354 v359
  let v361 : BitVec 32 := Scalar.remsi v346 c128_i32_124
  let c0_i32_129 : BitVec 32 := 0#32
  let v362 : BitVec 1 := Scalar.cmpi .ne v361 c0_i32_129
  let v363 : BitVec 1 := Scalar.andi v360 v362
  let v349 : BitVec 32 := Scalar.divsi v346 c128_i32_124
  let c1_i32_130 : BitVec 32 := 1#32
  let v364 : BitVec 32 := Scalar.subi v349 c1_i32_130
  let v365 : BitVec 32 := Scalar.select v363 v364 v349
  let c128_i32_131 : BitVec 32 := 128#32
  let v366 : BitVec 32 := Scalar.muli v365 c128_i32_131
  let v367 : BitVec 32 := v366
  let v370 : Index := Scalar.indexCast v367
  ![v369.toNat, 0, v370.toNat]

def k1_chk7 (v344 : BitVec 32) (v346 : BitVec 32) : Prop :=
  (128 ∣ (k1_mult7 v346).toNat) ∧
  (∀ a, (k1_off21 v344 v346) a + S1x16x512.size a ≤ S384x16x1152.size a)
theorem k1_mult7_dvd : ∀ (v344 : BitVec 32) (v346 : BitVec 32) (k1_hw7 : k1_chk7 v344 v346), 128 ∣ (k1_mult7 v346).toNat := fun v344 v346 k1_hw7 => k1_hw7.1
theorem k1_off21_inb : ∀ (v344 : BitVec 32) (v346 : BitVec 32) (k1_hw7 : k1_chk7 v344 v346), ∀ a, (k1_off21 v344 v346) a + S1x16x512.size a ≤ S384x16x1152.size a := fun v344 v346 k1_hw7 => k1_hw7.2

def k1_off22 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v380 : Index := Scalar.indexCast v4
  let c6_135 : Index := 6#32
  ![v380.toNat, 6]
def k1_off23 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v396 : Index := Scalar.indexCast v4
  let c7_140 : Index := 7#32
  ![v396.toNat, 7]
def k1_mult8 (v399 : BitVec 32) : BitVec 32 :=
  let c0_i32_144 : BitVec 32 := 0#32
  let v403 : BitVec 1 := Scalar.cmpi .sgt v399 c0_i32_144
  let v404 : BitVec 32 := Scalar.extui v403
  let c0_i32_145 : BitVec 32 := 0#32
  let v405 : BitVec 1 := Scalar.cmpi .slt v399 c0_i32_145
  let v406 : BitVec 32 := Scalar.extui v405
  let v407 : BitVec 32 := Scalar.subi v404 v406
  let c128_i32_143 : BitVec 32 := 128#32
  let c0_i32_146 : BitVec 32 := 0#32
  let v408 : BitVec 1 := Scalar.cmpi .sgt c128_i32_143 c0_i32_146
  let v409 : BitVec 32 := Scalar.extui v408
  let c0_i32_147 : BitVec 32 := 0#32
  let v410 : BitVec 1 := Scalar.cmpi .slt c128_i32_143 c0_i32_147
  let v411 : BitVec 32 := Scalar.extui v410
  let v412 : BitVec 32 := Scalar.subi v409 v411
  let v413 : BitVec 1 := Scalar.cmpi .ne v407 v412
  let v414 : BitVec 32 := Scalar.remsi v399 c128_i32_143
  let c0_i32_148 : BitVec 32 := 0#32
  let v415 : BitVec 1 := Scalar.cmpi .ne v414 c0_i32_148
  let v416 : BitVec 1 := Scalar.andi v413 v415
  let v402 : BitVec 32 := Scalar.divsi v399 c128_i32_143
  let c1_i32_149 : BitVec 32 := 1#32
  let v417 : BitVec 32 := Scalar.subi v402 c1_i32_149
  let v418 : BitVec 32 := Scalar.select v416 v417 v402
  let c128_i32_150 : BitVec 32 := 128#32
  let v419 : BitVec 32 := Scalar.muli v418 c128_i32_150
  v419

def k1_off24 (v397 : BitVec 32) (v399 : BitVec 32) : Fin 3 → Nat :=
  let v422 : Index := Scalar.indexCast v397
  let c0_151 : Index := 0#32
  let c0_i32_144 : BitVec 32 := 0#32
  let v403 : BitVec 1 := Scalar.cmpi .sgt v399 c0_i32_144
  let v404 : BitVec 32 := Scalar.extui v403
  let c0_i32_145 : BitVec 32 := 0#32
  let v405 : BitVec 1 := Scalar.cmpi .slt v399 c0_i32_145
  let v406 : BitVec 32 := Scalar.extui v405
  let v407 : BitVec 32 := Scalar.subi v404 v406
  let c128_i32_143 : BitVec 32 := 128#32
  let c0_i32_146 : BitVec 32 := 0#32
  let v408 : BitVec 1 := Scalar.cmpi .sgt c128_i32_143 c0_i32_146
  let v409 : BitVec 32 := Scalar.extui v408
  let c0_i32_147 : BitVec 32 := 0#32
  let v410 : BitVec 1 := Scalar.cmpi .slt c128_i32_143 c0_i32_147
  let v411 : BitVec 32 := Scalar.extui v410
  let v412 : BitVec 32 := Scalar.subi v409 v411
  let v413 : BitVec 1 := Scalar.cmpi .ne v407 v412
  let v414 : BitVec 32 := Scalar.remsi v399 c128_i32_143
  let c0_i32_148 : BitVec 32 := 0#32
  let v415 : BitVec 1 := Scalar.cmpi .ne v414 c0_i32_148
  let v416 : BitVec 1 := Scalar.andi v413 v415
  let v402 : BitVec 32 := Scalar.divsi v399 c128_i32_143
  let c1_i32_149 : BitVec 32 := 1#32
  let v417 : BitVec 32 := Scalar.subi v402 c1_i32_149
  let v418 : BitVec 32 := Scalar.select v416 v417 v402
  let c128_i32_150 : BitVec 32 := 128#32
  let v419 : BitVec 32 := Scalar.muli v418 c128_i32_150
  let v420 : BitVec 32 := v419
  let v423 : Index := Scalar.indexCast v420
  ![v422.toNat, 0, v423.toNat]

def k1_chk8 (v397 : BitVec 32) (v399 : BitVec 32) : Prop :=
  (128 ∣ (k1_mult8 v399).toNat) ∧
  (∀ a, (k1_off24 v397 v399) a + S1x16x512.size a ≤ S384x16x1152.size a)
theorem k1_mult8_dvd : ∀ (v397 : BitVec 32) (v399 : BitVec 32) (k1_hw8 : k1_chk8 v397 v399), 128 ∣ (k1_mult8 v399).toNat := fun v397 v399 k1_hw8 => k1_hw8.1
theorem k1_off24_inb : ∀ (v397 : BitVec 32) (v399 : BitVec 32) (k1_hw8 : k1_chk8 v397 v399), ∀ a, (k1_off24 v397 v399) a + S1x16x512.size a ≤ S384x16x1152.size a := fun v397 v399 k1_hw8 => k1_hw8.2

def k1_off25 (i : grid1.Coords) : Fin 2 → Nat :=
  let arg0 : BitVec 32 := BitVec.ofNat 32 (i 0).val
  let c48_i32 : BitVec 32 := 48#32
  let v3 : BitVec 32 := Scalar.muli arg0 c48_i32
  let c0_i32_1 : BitVec 32 := 0#32
  let v4 : BitVec 32 := Scalar.addi v3 c0_i32_1
  let v433 : Index := Scalar.indexCast v4
  let c7_154 : Index := 7#32
  ![v433.toNat, 7]
def k1_off26 (i : grid1.Coords) : Fin 3 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v462 : Index := Scalar.indexCast v461
  let c0_170 : Index := 0#32
  let c720_171 : Index := 720#32
  ![v462.toNat, 0, 720]
def k1_off27 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v482 : Index := Scalar.indexCast v461
  let c0_181 : Index := 0#32
  ![v482.toNat, 0]
def k1_mult9 (v485 : BitVec 32) : BitVec 32 :=
  let c0_i32_185 : BitVec 32 := 0#32
  let v489 : BitVec 1 := Scalar.cmpi .sgt v485 c0_i32_185
  let v490 : BitVec 32 := Scalar.extui v489
  let c0_i32_186 : BitVec 32 := 0#32
  let v491 : BitVec 1 := Scalar.cmpi .slt v485 c0_i32_186
  let v492 : BitVec 32 := Scalar.extui v491
  let v493 : BitVec 32 := Scalar.subi v490 v492
  let c128_i32_184 : BitVec 32 := 128#32
  let c0_i32_187 : BitVec 32 := 0#32
  let v494 : BitVec 1 := Scalar.cmpi .sgt c128_i32_184 c0_i32_187
  let v495 : BitVec 32 := Scalar.extui v494
  let c0_i32_188 : BitVec 32 := 0#32
  let v496 : BitVec 1 := Scalar.cmpi .slt c128_i32_184 c0_i32_188
  let v497 : BitVec 32 := Scalar.extui v496
  let v498 : BitVec 32 := Scalar.subi v495 v497
  let v499 : BitVec 1 := Scalar.cmpi .ne v493 v498
  let v500 : BitVec 32 := Scalar.remsi v485 c128_i32_184
  let c0_i32_189 : BitVec 32 := 0#32
  let v501 : BitVec 1 := Scalar.cmpi .ne v500 c0_i32_189
  let v502 : BitVec 1 := Scalar.andi v499 v501
  let v488 : BitVec 32 := Scalar.divsi v485 c128_i32_184
  let c1_i32_190 : BitVec 32 := 1#32
  let v503 : BitVec 32 := Scalar.subi v488 c1_i32_190
  let v504 : BitVec 32 := Scalar.select v502 v503 v488
  let c128_i32_191 : BitVec 32 := 128#32
  let v505 : BitVec 32 := Scalar.muli v504 c128_i32_191
  v505

def k1_off28 (v483 : BitVec 32) (v485 : BitVec 32) : Fin 3 → Nat :=
  let v508 : Index := Scalar.indexCast v483
  let c0_192 : Index := 0#32
  let c0_i32_185 : BitVec 32 := 0#32
  let v489 : BitVec 1 := Scalar.cmpi .sgt v485 c0_i32_185
  let v490 : BitVec 32 := Scalar.extui v489
  let c0_i32_186 : BitVec 32 := 0#32
  let v491 : BitVec 1 := Scalar.cmpi .slt v485 c0_i32_186
  let v492 : BitVec 32 := Scalar.extui v491
  let v493 : BitVec 32 := Scalar.subi v490 v492
  let c128_i32_184 : BitVec 32 := 128#32
  let c0_i32_187 : BitVec 32 := 0#32
  let v494 : BitVec 1 := Scalar.cmpi .sgt c128_i32_184 c0_i32_187
  let v495 : BitVec 32 := Scalar.extui v494
  let c0_i32_188 : BitVec 32 := 0#32
  let v496 : BitVec 1 := Scalar.cmpi .slt c128_i32_184 c0_i32_188
  let v497 : BitVec 32 := Scalar.extui v496
  let v498 : BitVec 32 := Scalar.subi v495 v497
  let v499 : BitVec 1 := Scalar.cmpi .ne v493 v498
  let v500 : BitVec 32 := Scalar.remsi v485 c128_i32_184
  let c0_i32_189 : BitVec 32 := 0#32
  let v501 : BitVec 1 := Scalar.cmpi .ne v500 c0_i32_189
  let v502 : BitVec 1 := Scalar.andi v499 v501
  let v488 : BitVec 32 := Scalar.divsi v485 c128_i32_184
  let c1_i32_190 : BitVec 32 := 1#32
  let v503 : BitVec 32 := Scalar.subi v488 c1_i32_190
  let v504 : BitVec 32 := Scalar.select v502 v503 v488
  let c128_i32_191 : BitVec 32 := 128#32
  let v505 : BitVec 32 := Scalar.muli v504 c128_i32_191
  let v506 : BitVec 32 := v505
  let v509 : Index := Scalar.indexCast v506
  ![v508.toNat, 0, v509.toNat]

def k1_chk9 (v483 : BitVec 32) (v485 : BitVec 32) : Prop :=
  (128 ∣ (k1_mult9 v485).toNat) ∧
  (∀ a, (k1_off28 v483 v485) a + S1x16x512.size a ≤ S384x16x1152.size a)
theorem k1_mult9_dvd : ∀ (v483 : BitVec 32) (v485 : BitVec 32) (k1_hw9 : k1_chk9 v483 v485), 128 ∣ (k1_mult9 v485).toNat := fun v483 v485 k1_hw9 => k1_hw9.1
theorem k1_off28_inb : ∀ (v483 : BitVec 32) (v485 : BitVec 32) (k1_hw9 : k1_chk9 v483 v485), ∀ a, (k1_off28 v483 v485) a + S1x16x512.size a ≤ S384x16x1152.size a := fun v483 v485 k1_hw9 => k1_hw9.2

def k1_off29 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v519 : Index := Scalar.indexCast v461
  let c0_195 : Index := 0#32
  ![v519.toNat, 0]
def k1_off30 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v535 : Index := Scalar.indexCast v461
  let c1_201 : Index := 1#32
  ![v535.toNat, 1]
def k1_mult10 (v538 : BitVec 32) : BitVec 32 :=
  let c0_i32_205 : BitVec 32 := 0#32
  let v542 : BitVec 1 := Scalar.cmpi .sgt v538 c0_i32_205
  let v543 : BitVec 32 := Scalar.extui v542
  let c0_i32_206 : BitVec 32 := 0#32
  let v544 : BitVec 1 := Scalar.cmpi .slt v538 c0_i32_206
  let v545 : BitVec 32 := Scalar.extui v544
  let v546 : BitVec 32 := Scalar.subi v543 v545
  let c128_i32_204 : BitVec 32 := 128#32
  let c0_i32_207 : BitVec 32 := 0#32
  let v547 : BitVec 1 := Scalar.cmpi .sgt c128_i32_204 c0_i32_207
  let v548 : BitVec 32 := Scalar.extui v547
  let c0_i32_208 : BitVec 32 := 0#32
  let v549 : BitVec 1 := Scalar.cmpi .slt c128_i32_204 c0_i32_208
  let v550 : BitVec 32 := Scalar.extui v549
  let v551 : BitVec 32 := Scalar.subi v548 v550
  let v552 : BitVec 1 := Scalar.cmpi .ne v546 v551
  let v553 : BitVec 32 := Scalar.remsi v538 c128_i32_204
  let c0_i32_209 : BitVec 32 := 0#32
  let v554 : BitVec 1 := Scalar.cmpi .ne v553 c0_i32_209
  let v555 : BitVec 1 := Scalar.andi v552 v554
  let v541 : BitVec 32 := Scalar.divsi v538 c128_i32_204
  let c1_i32_210 : BitVec 32 := 1#32
  let v556 : BitVec 32 := Scalar.subi v541 c1_i32_210
  let v557 : BitVec 32 := Scalar.select v555 v556 v541
  let c128_i32_211 : BitVec 32 := 128#32
  let v558 : BitVec 32 := Scalar.muli v557 c128_i32_211
  v558

def k1_off31 (v536 : BitVec 32) (v538 : BitVec 32) : Fin 3 → Nat :=
  let v561 : Index := Scalar.indexCast v536
  let c0_212 : Index := 0#32
  let c0_i32_205 : BitVec 32 := 0#32
  let v542 : BitVec 1 := Scalar.cmpi .sgt v538 c0_i32_205
  let v543 : BitVec 32 := Scalar.extui v542
  let c0_i32_206 : BitVec 32 := 0#32
  let v544 : BitVec 1 := Scalar.cmpi .slt v538 c0_i32_206
  let v545 : BitVec 32 := Scalar.extui v544
  let v546 : BitVec 32 := Scalar.subi v543 v545
  let c128_i32_204 : BitVec 32 := 128#32
  let c0_i32_207 : BitVec 32 := 0#32
  let v547 : BitVec 1 := Scalar.cmpi .sgt c128_i32_204 c0_i32_207
  let v548 : BitVec 32 := Scalar.extui v547
  let c0_i32_208 : BitVec 32 := 0#32
  let v549 : BitVec 1 := Scalar.cmpi .slt c128_i32_204 c0_i32_208
  let v550 : BitVec 32 := Scalar.extui v549
  let v551 : BitVec 32 := Scalar.subi v548 v550
  let v552 : BitVec 1 := Scalar.cmpi .ne v546 v551
  let v553 : BitVec 32 := Scalar.remsi v538 c128_i32_204
  let c0_i32_209 : BitVec 32 := 0#32
  let v554 : BitVec 1 := Scalar.cmpi .ne v553 c0_i32_209
  let v555 : BitVec 1 := Scalar.andi v552 v554
  let v541 : BitVec 32 := Scalar.divsi v538 c128_i32_204
  let c1_i32_210 : BitVec 32 := 1#32
  let v556 : BitVec 32 := Scalar.subi v541 c1_i32_210
  let v557 : BitVec 32 := Scalar.select v555 v556 v541
  let c128_i32_211 : BitVec 32 := 128#32
  let v558 : BitVec 32 := Scalar.muli v557 c128_i32_211
  let v559 : BitVec 32 := v558
  let v562 : Index := Scalar.indexCast v559
  ![v561.toNat, 0, v562.toNat]

def k1_chk10 (v536 : BitVec 32) (v538 : BitVec 32) : Prop :=
  (128 ∣ (k1_mult10 v538).toNat) ∧
  (∀ a, (k1_off31 v536 v538) a + S1x16x512.size a ≤ S384x16x1152.size a)
theorem k1_mult10_dvd : ∀ (v536 : BitVec 32) (v538 : BitVec 32) (k1_hw10 : k1_chk10 v536 v538), 128 ∣ (k1_mult10 v538).toNat := fun v536 v538 k1_hw10 => k1_hw10.1
theorem k1_off31_inb : ∀ (v536 : BitVec 32) (v538 : BitVec 32) (k1_hw10 : k1_chk10 v536 v538), ∀ a, (k1_off31 v536 v538) a + S1x16x512.size a ≤ S384x16x1152.size a := fun v536 v538 k1_hw10 => k1_hw10.2

def k1_off32 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v572 : Index := Scalar.indexCast v461
  let c1_215 : Index := 1#32
  ![v572.toNat, 1]
def k1_off33 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v588 : Index := Scalar.indexCast v461
  let c2_221 : Index := 2#32
  ![v588.toNat, 2]
def k1_mult11 (v591 : BitVec 32) : BitVec 32 :=
  let c0_i32_225 : BitVec 32 := 0#32
  let v595 : BitVec 1 := Scalar.cmpi .sgt v591 c0_i32_225
  let v596 : BitVec 32 := Scalar.extui v595
  let c0_i32_226 : BitVec 32 := 0#32
  let v597 : BitVec 1 := Scalar.cmpi .slt v591 c0_i32_226
  let v598 : BitVec 32 := Scalar.extui v597
  let v599 : BitVec 32 := Scalar.subi v596 v598
  let c128_i32_224 : BitVec 32 := 128#32
  let c0_i32_227 : BitVec 32 := 0#32
  let v600 : BitVec 1 := Scalar.cmpi .sgt c128_i32_224 c0_i32_227
  let v601 : BitVec 32 := Scalar.extui v600
  let c0_i32_228 : BitVec 32 := 0#32
  let v602 : BitVec 1 := Scalar.cmpi .slt c128_i32_224 c0_i32_228
  let v603 : BitVec 32 := Scalar.extui v602
  let v604 : BitVec 32 := Scalar.subi v601 v603
  let v605 : BitVec 1 := Scalar.cmpi .ne v599 v604
  let v606 : BitVec 32 := Scalar.remsi v591 c128_i32_224
  let c0_i32_229 : BitVec 32 := 0#32
  let v607 : BitVec 1 := Scalar.cmpi .ne v606 c0_i32_229
  let v608 : BitVec 1 := Scalar.andi v605 v607
  let v594 : BitVec 32 := Scalar.divsi v591 c128_i32_224
  let c1_i32_230 : BitVec 32 := 1#32
  let v609 : BitVec 32 := Scalar.subi v594 c1_i32_230
  let v610 : BitVec 32 := Scalar.select v608 v609 v594
  let c128_i32_231 : BitVec 32 := 128#32
  let v611 : BitVec 32 := Scalar.muli v610 c128_i32_231
  v611

def k1_off34 (v589 : BitVec 32) (v591 : BitVec 32) : Fin 3 → Nat :=
  let v614 : Index := Scalar.indexCast v589
  let c0_232 : Index := 0#32
  let c0_i32_225 : BitVec 32 := 0#32
  let v595 : BitVec 1 := Scalar.cmpi .sgt v591 c0_i32_225
  let v596 : BitVec 32 := Scalar.extui v595
  let c0_i32_226 : BitVec 32 := 0#32
  let v597 : BitVec 1 := Scalar.cmpi .slt v591 c0_i32_226
  let v598 : BitVec 32 := Scalar.extui v597
  let v599 : BitVec 32 := Scalar.subi v596 v598
  let c128_i32_224 : BitVec 32 := 128#32
  let c0_i32_227 : BitVec 32 := 0#32
  let v600 : BitVec 1 := Scalar.cmpi .sgt c128_i32_224 c0_i32_227
  let v601 : BitVec 32 := Scalar.extui v600
  let c0_i32_228 : BitVec 32 := 0#32
  let v602 : BitVec 1 := Scalar.cmpi .slt c128_i32_224 c0_i32_228
  let v603 : BitVec 32 := Scalar.extui v602
  let v604 : BitVec 32 := Scalar.subi v601 v603
  let v605 : BitVec 1 := Scalar.cmpi .ne v599 v604
  let v606 : BitVec 32 := Scalar.remsi v591 c128_i32_224
  let c0_i32_229 : BitVec 32 := 0#32
  let v607 : BitVec 1 := Scalar.cmpi .ne v606 c0_i32_229
  let v608 : BitVec 1 := Scalar.andi v605 v607
  let v594 : BitVec 32 := Scalar.divsi v591 c128_i32_224
  let c1_i32_230 : BitVec 32 := 1#32
  let v609 : BitVec 32 := Scalar.subi v594 c1_i32_230
  let v610 : BitVec 32 := Scalar.select v608 v609 v594
  let c128_i32_231 : BitVec 32 := 128#32
  let v611 : BitVec 32 := Scalar.muli v610 c128_i32_231
  let v612 : BitVec 32 := v611
  let v615 : Index := Scalar.indexCast v612
  ![v614.toNat, 0, v615.toNat]

def k1_chk11 (v589 : BitVec 32) (v591 : BitVec 32) : Prop :=
  (128 ∣ (k1_mult11 v591).toNat) ∧
  (∀ a, (k1_off34 v589 v591) a + S1x16x512.size a ≤ S384x16x1152.size a)
theorem k1_mult11_dvd : ∀ (v589 : BitVec 32) (v591 : BitVec 32) (k1_hw11 : k1_chk11 v589 v591), 128 ∣ (k1_mult11 v591).toNat := fun v589 v591 k1_hw11 => k1_hw11.1
theorem k1_off34_inb : ∀ (v589 : BitVec 32) (v591 : BitVec 32) (k1_hw11 : k1_chk11 v589 v591), ∀ a, (k1_off34 v589 v591) a + S1x16x512.size a ≤ S384x16x1152.size a := fun v589 v591 k1_hw11 => k1_hw11.2

def k1_off35 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v625 : Index := Scalar.indexCast v461
  let c2_235 : Index := 2#32
  ![v625.toNat, 2]
def k1_off36 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v641 : Index := Scalar.indexCast v461
  let c3_241 : Index := 3#32
  ![v641.toNat, 3]
def k1_mult12 (v644 : BitVec 32) : BitVec 32 :=
  let c0_i32_245 : BitVec 32 := 0#32
  let v648 : BitVec 1 := Scalar.cmpi .sgt v644 c0_i32_245
  let v649 : BitVec 32 := Scalar.extui v648
  let c0_i32_246 : BitVec 32 := 0#32
  let v650 : BitVec 1 := Scalar.cmpi .slt v644 c0_i32_246
  let v651 : BitVec 32 := Scalar.extui v650
  let v652 : BitVec 32 := Scalar.subi v649 v651
  let c128_i32_244 : BitVec 32 := 128#32
  let c0_i32_247 : BitVec 32 := 0#32
  let v653 : BitVec 1 := Scalar.cmpi .sgt c128_i32_244 c0_i32_247
  let v654 : BitVec 32 := Scalar.extui v653
  let c0_i32_248 : BitVec 32 := 0#32
  let v655 : BitVec 1 := Scalar.cmpi .slt c128_i32_244 c0_i32_248
  let v656 : BitVec 32 := Scalar.extui v655
  let v657 : BitVec 32 := Scalar.subi v654 v656
  let v658 : BitVec 1 := Scalar.cmpi .ne v652 v657
  let v659 : BitVec 32 := Scalar.remsi v644 c128_i32_244
  let c0_i32_249 : BitVec 32 := 0#32
  let v660 : BitVec 1 := Scalar.cmpi .ne v659 c0_i32_249
  let v661 : BitVec 1 := Scalar.andi v658 v660
  let v647 : BitVec 32 := Scalar.divsi v644 c128_i32_244
  let c1_i32_250 : BitVec 32 := 1#32
  let v662 : BitVec 32 := Scalar.subi v647 c1_i32_250
  let v663 : BitVec 32 := Scalar.select v661 v662 v647
  let c128_i32_251 : BitVec 32 := 128#32
  let v664 : BitVec 32 := Scalar.muli v663 c128_i32_251
  v664

def k1_off37 (v642 : BitVec 32) (v644 : BitVec 32) : Fin 3 → Nat :=
  let v667 : Index := Scalar.indexCast v642
  let c0_252 : Index := 0#32
  let c0_i32_245 : BitVec 32 := 0#32
  let v648 : BitVec 1 := Scalar.cmpi .sgt v644 c0_i32_245
  let v649 : BitVec 32 := Scalar.extui v648
  let c0_i32_246 : BitVec 32 := 0#32
  let v650 : BitVec 1 := Scalar.cmpi .slt v644 c0_i32_246
  let v651 : BitVec 32 := Scalar.extui v650
  let v652 : BitVec 32 := Scalar.subi v649 v651
  let c128_i32_244 : BitVec 32 := 128#32
  let c0_i32_247 : BitVec 32 := 0#32
  let v653 : BitVec 1 := Scalar.cmpi .sgt c128_i32_244 c0_i32_247
  let v654 : BitVec 32 := Scalar.extui v653
  let c0_i32_248 : BitVec 32 := 0#32
  let v655 : BitVec 1 := Scalar.cmpi .slt c128_i32_244 c0_i32_248
  let v656 : BitVec 32 := Scalar.extui v655
  let v657 : BitVec 32 := Scalar.subi v654 v656
  let v658 : BitVec 1 := Scalar.cmpi .ne v652 v657
  let v659 : BitVec 32 := Scalar.remsi v644 c128_i32_244
  let c0_i32_249 : BitVec 32 := 0#32
  let v660 : BitVec 1 := Scalar.cmpi .ne v659 c0_i32_249
  let v661 : BitVec 1 := Scalar.andi v658 v660
  let v647 : BitVec 32 := Scalar.divsi v644 c128_i32_244
  let c1_i32_250 : BitVec 32 := 1#32
  let v662 : BitVec 32 := Scalar.subi v647 c1_i32_250
  let v663 : BitVec 32 := Scalar.select v661 v662 v647
  let c128_i32_251 : BitVec 32 := 128#32
  let v664 : BitVec 32 := Scalar.muli v663 c128_i32_251
  let v665 : BitVec 32 := v664
  let v668 : Index := Scalar.indexCast v665
  ![v667.toNat, 0, v668.toNat]

def k1_chk12 (v642 : BitVec 32) (v644 : BitVec 32) : Prop :=
  (128 ∣ (k1_mult12 v644).toNat) ∧
  (∀ a, (k1_off37 v642 v644) a + S1x16x512.size a ≤ S384x16x1152.size a)
theorem k1_mult12_dvd : ∀ (v642 : BitVec 32) (v644 : BitVec 32) (k1_hw12 : k1_chk12 v642 v644), 128 ∣ (k1_mult12 v644).toNat := fun v642 v644 k1_hw12 => k1_hw12.1
theorem k1_off37_inb : ∀ (v642 : BitVec 32) (v644 : BitVec 32) (k1_hw12 : k1_chk12 v642 v644), ∀ a, (k1_off37 v642 v644) a + S1x16x512.size a ≤ S384x16x1152.size a := fun v642 v644 k1_hw12 => k1_hw12.2

def k1_off38 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v678 : Index := Scalar.indexCast v461
  let c3_255 : Index := 3#32
  ![v678.toNat, 3]
def k1_off39 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v694 : Index := Scalar.indexCast v461
  let c4_261 : Index := 4#32
  ![v694.toNat, 4]
def k1_mult13 (v697 : BitVec 32) : BitVec 32 :=
  let c0_i32_265 : BitVec 32 := 0#32
  let v701 : BitVec 1 := Scalar.cmpi .sgt v697 c0_i32_265
  let v702 : BitVec 32 := Scalar.extui v701
  let c0_i32_266 : BitVec 32 := 0#32
  let v703 : BitVec 1 := Scalar.cmpi .slt v697 c0_i32_266
  let v704 : BitVec 32 := Scalar.extui v703
  let v705 : BitVec 32 := Scalar.subi v702 v704
  let c128_i32_264 : BitVec 32 := 128#32
  let c0_i32_267 : BitVec 32 := 0#32
  let v706 : BitVec 1 := Scalar.cmpi .sgt c128_i32_264 c0_i32_267
  let v707 : BitVec 32 := Scalar.extui v706
  let c0_i32_268 : BitVec 32 := 0#32
  let v708 : BitVec 1 := Scalar.cmpi .slt c128_i32_264 c0_i32_268
  let v709 : BitVec 32 := Scalar.extui v708
  let v710 : BitVec 32 := Scalar.subi v707 v709
  let v711 : BitVec 1 := Scalar.cmpi .ne v705 v710
  let v712 : BitVec 32 := Scalar.remsi v697 c128_i32_264
  let c0_i32_269 : BitVec 32 := 0#32
  let v713 : BitVec 1 := Scalar.cmpi .ne v712 c0_i32_269
  let v714 : BitVec 1 := Scalar.andi v711 v713
  let v700 : BitVec 32 := Scalar.divsi v697 c128_i32_264
  let c1_i32_270 : BitVec 32 := 1#32
  let v715 : BitVec 32 := Scalar.subi v700 c1_i32_270
  let v716 : BitVec 32 := Scalar.select v714 v715 v700
  let c128_i32_271 : BitVec 32 := 128#32
  let v717 : BitVec 32 := Scalar.muli v716 c128_i32_271
  v717

def k1_off40 (v695 : BitVec 32) (v697 : BitVec 32) : Fin 3 → Nat :=
  let v720 : Index := Scalar.indexCast v695
  let c0_272 : Index := 0#32
  let c0_i32_265 : BitVec 32 := 0#32
  let v701 : BitVec 1 := Scalar.cmpi .sgt v697 c0_i32_265
  let v702 : BitVec 32 := Scalar.extui v701
  let c0_i32_266 : BitVec 32 := 0#32
  let v703 : BitVec 1 := Scalar.cmpi .slt v697 c0_i32_266
  let v704 : BitVec 32 := Scalar.extui v703
  let v705 : BitVec 32 := Scalar.subi v702 v704
  let c128_i32_264 : BitVec 32 := 128#32
  let c0_i32_267 : BitVec 32 := 0#32
  let v706 : BitVec 1 := Scalar.cmpi .sgt c128_i32_264 c0_i32_267
  let v707 : BitVec 32 := Scalar.extui v706
  let c0_i32_268 : BitVec 32 := 0#32
  let v708 : BitVec 1 := Scalar.cmpi .slt c128_i32_264 c0_i32_268
  let v709 : BitVec 32 := Scalar.extui v708
  let v710 : BitVec 32 := Scalar.subi v707 v709
  let v711 : BitVec 1 := Scalar.cmpi .ne v705 v710
  let v712 : BitVec 32 := Scalar.remsi v697 c128_i32_264
  let c0_i32_269 : BitVec 32 := 0#32
  let v713 : BitVec 1 := Scalar.cmpi .ne v712 c0_i32_269
  let v714 : BitVec 1 := Scalar.andi v711 v713
  let v700 : BitVec 32 := Scalar.divsi v697 c128_i32_264
  let c1_i32_270 : BitVec 32 := 1#32
  let v715 : BitVec 32 := Scalar.subi v700 c1_i32_270
  let v716 : BitVec 32 := Scalar.select v714 v715 v700
  let c128_i32_271 : BitVec 32 := 128#32
  let v717 : BitVec 32 := Scalar.muli v716 c128_i32_271
  let v718 : BitVec 32 := v717
  let v721 : Index := Scalar.indexCast v718
  ![v720.toNat, 0, v721.toNat]

def k1_chk13 (v695 : BitVec 32) (v697 : BitVec 32) : Prop :=
  (128 ∣ (k1_mult13 v697).toNat) ∧
  (∀ a, (k1_off40 v695 v697) a + S1x16x512.size a ≤ S384x16x1152.size a)
theorem k1_mult13_dvd : ∀ (v695 : BitVec 32) (v697 : BitVec 32) (k1_hw13 : k1_chk13 v695 v697), 128 ∣ (k1_mult13 v697).toNat := fun v695 v697 k1_hw13 => k1_hw13.1
theorem k1_off40_inb : ∀ (v695 : BitVec 32) (v697 : BitVec 32) (k1_hw13 : k1_chk13 v695 v697), ∀ a, (k1_off40 v695 v697) a + S1x16x512.size a ≤ S384x16x1152.size a := fun v695 v697 k1_hw13 => k1_hw13.2

def k1_off41 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v731 : Index := Scalar.indexCast v461
  let c4_275 : Index := 4#32
  ![v731.toNat, 4]
def k1_off42 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v747 : Index := Scalar.indexCast v461
  let c5_281 : Index := 5#32
  ![v747.toNat, 5]
def k1_mult14 (v750 : BitVec 32) : BitVec 32 :=
  let c0_i32_285 : BitVec 32 := 0#32
  let v754 : BitVec 1 := Scalar.cmpi .sgt v750 c0_i32_285
  let v755 : BitVec 32 := Scalar.extui v754
  let c0_i32_286 : BitVec 32 := 0#32
  let v756 : BitVec 1 := Scalar.cmpi .slt v750 c0_i32_286
  let v757 : BitVec 32 := Scalar.extui v756
  let v758 : BitVec 32 := Scalar.subi v755 v757
  let c128_i32_284 : BitVec 32 := 128#32
  let c0_i32_287 : BitVec 32 := 0#32
  let v759 : BitVec 1 := Scalar.cmpi .sgt c128_i32_284 c0_i32_287
  let v760 : BitVec 32 := Scalar.extui v759
  let c0_i32_288 : BitVec 32 := 0#32
  let v761 : BitVec 1 := Scalar.cmpi .slt c128_i32_284 c0_i32_288
  let v762 : BitVec 32 := Scalar.extui v761
  let v763 : BitVec 32 := Scalar.subi v760 v762
  let v764 : BitVec 1 := Scalar.cmpi .ne v758 v763
  let v765 : BitVec 32 := Scalar.remsi v750 c128_i32_284
  let c0_i32_289 : BitVec 32 := 0#32
  let v766 : BitVec 1 := Scalar.cmpi .ne v765 c0_i32_289
  let v767 : BitVec 1 := Scalar.andi v764 v766
  let v753 : BitVec 32 := Scalar.divsi v750 c128_i32_284
  let c1_i32_290 : BitVec 32 := 1#32
  let v768 : BitVec 32 := Scalar.subi v753 c1_i32_290
  let v769 : BitVec 32 := Scalar.select v767 v768 v753
  let c128_i32_291 : BitVec 32 := 128#32
  let v770 : BitVec 32 := Scalar.muli v769 c128_i32_291
  v770

def k1_off43 (v748 : BitVec 32) (v750 : BitVec 32) : Fin 3 → Nat :=
  let v773 : Index := Scalar.indexCast v748
  let c0_292 : Index := 0#32
  let c0_i32_285 : BitVec 32 := 0#32
  let v754 : BitVec 1 := Scalar.cmpi .sgt v750 c0_i32_285
  let v755 : BitVec 32 := Scalar.extui v754
  let c0_i32_286 : BitVec 32 := 0#32
  let v756 : BitVec 1 := Scalar.cmpi .slt v750 c0_i32_286
  let v757 : BitVec 32 := Scalar.extui v756
  let v758 : BitVec 32 := Scalar.subi v755 v757
  let c128_i32_284 : BitVec 32 := 128#32
  let c0_i32_287 : BitVec 32 := 0#32
  let v759 : BitVec 1 := Scalar.cmpi .sgt c128_i32_284 c0_i32_287
  let v760 : BitVec 32 := Scalar.extui v759
  let c0_i32_288 : BitVec 32 := 0#32
  let v761 : BitVec 1 := Scalar.cmpi .slt c128_i32_284 c0_i32_288
  let v762 : BitVec 32 := Scalar.extui v761
  let v763 : BitVec 32 := Scalar.subi v760 v762
  let v764 : BitVec 1 := Scalar.cmpi .ne v758 v763
  let v765 : BitVec 32 := Scalar.remsi v750 c128_i32_284
  let c0_i32_289 : BitVec 32 := 0#32
  let v766 : BitVec 1 := Scalar.cmpi .ne v765 c0_i32_289
  let v767 : BitVec 1 := Scalar.andi v764 v766
  let v753 : BitVec 32 := Scalar.divsi v750 c128_i32_284
  let c1_i32_290 : BitVec 32 := 1#32
  let v768 : BitVec 32 := Scalar.subi v753 c1_i32_290
  let v769 : BitVec 32 := Scalar.select v767 v768 v753
  let c128_i32_291 : BitVec 32 := 128#32
  let v770 : BitVec 32 := Scalar.muli v769 c128_i32_291
  let v771 : BitVec 32 := v770
  let v774 : Index := Scalar.indexCast v771
  ![v773.toNat, 0, v774.toNat]

def k1_chk14 (v748 : BitVec 32) (v750 : BitVec 32) : Prop :=
  (128 ∣ (k1_mult14 v750).toNat) ∧
  (∀ a, (k1_off43 v748 v750) a + S1x16x512.size a ≤ S384x16x1152.size a)
theorem k1_mult14_dvd : ∀ (v748 : BitVec 32) (v750 : BitVec 32) (k1_hw14 : k1_chk14 v748 v750), 128 ∣ (k1_mult14 v750).toNat := fun v748 v750 k1_hw14 => k1_hw14.1
theorem k1_off43_inb : ∀ (v748 : BitVec 32) (v750 : BitVec 32) (k1_hw14 : k1_chk14 v748 v750), ∀ a, (k1_off43 v748 v750) a + S1x16x512.size a ≤ S384x16x1152.size a := fun v748 v750 k1_hw14 => k1_hw14.2

def k1_off44 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v784 : Index := Scalar.indexCast v461
  let c5_295 : Index := 5#32
  ![v784.toNat, 5]
def k1_off45 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v800 : Index := Scalar.indexCast v461
  let c6_301 : Index := 6#32
  ![v800.toNat, 6]
def k1_mult15 (v803 : BitVec 32) : BitVec 32 :=
  let c0_i32_305 : BitVec 32 := 0#32
  let v807 : BitVec 1 := Scalar.cmpi .sgt v803 c0_i32_305
  let v808 : BitVec 32 := Scalar.extui v807
  let c0_i32_306 : BitVec 32 := 0#32
  let v809 : BitVec 1 := Scalar.cmpi .slt v803 c0_i32_306
  let v810 : BitVec 32 := Scalar.extui v809
  let v811 : BitVec 32 := Scalar.subi v808 v810
  let c128_i32_304 : BitVec 32 := 128#32
  let c0_i32_307 : BitVec 32 := 0#32
  let v812 : BitVec 1 := Scalar.cmpi .sgt c128_i32_304 c0_i32_307
  let v813 : BitVec 32 := Scalar.extui v812
  let c0_i32_308 : BitVec 32 := 0#32
  let v814 : BitVec 1 := Scalar.cmpi .slt c128_i32_304 c0_i32_308
  let v815 : BitVec 32 := Scalar.extui v814
  let v816 : BitVec 32 := Scalar.subi v813 v815
  let v817 : BitVec 1 := Scalar.cmpi .ne v811 v816
  let v818 : BitVec 32 := Scalar.remsi v803 c128_i32_304
  let c0_i32_309 : BitVec 32 := 0#32
  let v819 : BitVec 1 := Scalar.cmpi .ne v818 c0_i32_309
  let v820 : BitVec 1 := Scalar.andi v817 v819
  let v806 : BitVec 32 := Scalar.divsi v803 c128_i32_304
  let c1_i32_310 : BitVec 32 := 1#32
  let v821 : BitVec 32 := Scalar.subi v806 c1_i32_310
  let v822 : BitVec 32 := Scalar.select v820 v821 v806
  let c128_i32_311 : BitVec 32 := 128#32
  let v823 : BitVec 32 := Scalar.muli v822 c128_i32_311
  v823

def k1_off46 (v801 : BitVec 32) (v803 : BitVec 32) : Fin 3 → Nat :=
  let v826 : Index := Scalar.indexCast v801
  let c0_312 : Index := 0#32
  let c0_i32_305 : BitVec 32 := 0#32
  let v807 : BitVec 1 := Scalar.cmpi .sgt v803 c0_i32_305
  let v808 : BitVec 32 := Scalar.extui v807
  let c0_i32_306 : BitVec 32 := 0#32
  let v809 : BitVec 1 := Scalar.cmpi .slt v803 c0_i32_306
  let v810 : BitVec 32 := Scalar.extui v809
  let v811 : BitVec 32 := Scalar.subi v808 v810
  let c128_i32_304 : BitVec 32 := 128#32
  let c0_i32_307 : BitVec 32 := 0#32
  let v812 : BitVec 1 := Scalar.cmpi .sgt c128_i32_304 c0_i32_307
  let v813 : BitVec 32 := Scalar.extui v812
  let c0_i32_308 : BitVec 32 := 0#32
  let v814 : BitVec 1 := Scalar.cmpi .slt c128_i32_304 c0_i32_308
  let v815 : BitVec 32 := Scalar.extui v814
  let v816 : BitVec 32 := Scalar.subi v813 v815
  let v817 : BitVec 1 := Scalar.cmpi .ne v811 v816
  let v818 : BitVec 32 := Scalar.remsi v803 c128_i32_304
  let c0_i32_309 : BitVec 32 := 0#32
  let v819 : BitVec 1 := Scalar.cmpi .ne v818 c0_i32_309
  let v820 : BitVec 1 := Scalar.andi v817 v819
  let v806 : BitVec 32 := Scalar.divsi v803 c128_i32_304
  let c1_i32_310 : BitVec 32 := 1#32
  let v821 : BitVec 32 := Scalar.subi v806 c1_i32_310
  let v822 : BitVec 32 := Scalar.select v820 v821 v806
  let c128_i32_311 : BitVec 32 := 128#32
  let v823 : BitVec 32 := Scalar.muli v822 c128_i32_311
  let v824 : BitVec 32 := v823
  let v827 : Index := Scalar.indexCast v824
  ![v826.toNat, 0, v827.toNat]

def k1_chk15 (v801 : BitVec 32) (v803 : BitVec 32) : Prop :=
  (128 ∣ (k1_mult15 v803).toNat) ∧
  (∀ a, (k1_off46 v801 v803) a + S1x16x512.size a ≤ S384x16x1152.size a)
theorem k1_mult15_dvd : ∀ (v801 : BitVec 32) (v803 : BitVec 32) (k1_hw15 : k1_chk15 v801 v803), 128 ∣ (k1_mult15 v803).toNat := fun v801 v803 k1_hw15 => k1_hw15.1
theorem k1_off46_inb : ∀ (v801 : BitVec 32) (v803 : BitVec 32) (k1_hw15 : k1_chk15 v801 v803), ∀ a, (k1_off46 v801 v803) a + S1x16x512.size a ≤ S384x16x1152.size a := fun v801 v803 k1_hw15 => k1_hw15.2

def k1_off47 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v837 : Index := Scalar.indexCast v461
  let c6_315 : Index := 6#32
  ![v837.toNat, 6]
def k1_off48 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v853 : Index := Scalar.indexCast v461
  let c7_321 : Index := 7#32
  ![v853.toNat, 7]
def k1_mult16 (v856 : BitVec 32) : BitVec 32 :=
  let c0_i32_325 : BitVec 32 := 0#32
  let v860 : BitVec 1 := Scalar.cmpi .sgt v856 c0_i32_325
  let v861 : BitVec 32 := Scalar.extui v860
  let c0_i32_326 : BitVec 32 := 0#32
  let v862 : BitVec 1 := Scalar.cmpi .slt v856 c0_i32_326
  let v863 : BitVec 32 := Scalar.extui v862
  let v864 : BitVec 32 := Scalar.subi v861 v863
  let c128_i32_324 : BitVec 32 := 128#32
  let c0_i32_327 : BitVec 32 := 0#32
  let v865 : BitVec 1 := Scalar.cmpi .sgt c128_i32_324 c0_i32_327
  let v866 : BitVec 32 := Scalar.extui v865
  let c0_i32_328 : BitVec 32 := 0#32
  let v867 : BitVec 1 := Scalar.cmpi .slt c128_i32_324 c0_i32_328
  let v868 : BitVec 32 := Scalar.extui v867
  let v869 : BitVec 32 := Scalar.subi v866 v868
  let v870 : BitVec 1 := Scalar.cmpi .ne v864 v869
  let v871 : BitVec 32 := Scalar.remsi v856 c128_i32_324
  let c0_i32_329 : BitVec 32 := 0#32
  let v872 : BitVec 1 := Scalar.cmpi .ne v871 c0_i32_329
  let v873 : BitVec 1 := Scalar.andi v870 v872
  let v859 : BitVec 32 := Scalar.divsi v856 c128_i32_324
  let c1_i32_330 : BitVec 32 := 1#32
  let v874 : BitVec 32 := Scalar.subi v859 c1_i32_330
  let v875 : BitVec 32 := Scalar.select v873 v874 v859
  let c128_i32_331 : BitVec 32 := 128#32
  let v876 : BitVec 32 := Scalar.muli v875 c128_i32_331
  v876

def k1_off49 (v854 : BitVec 32) (v856 : BitVec 32) : Fin 3 → Nat :=
  let v879 : Index := Scalar.indexCast v854
  let c0_332 : Index := 0#32
  let c0_i32_325 : BitVec 32 := 0#32
  let v860 : BitVec 1 := Scalar.cmpi .sgt v856 c0_i32_325
  let v861 : BitVec 32 := Scalar.extui v860
  let c0_i32_326 : BitVec 32 := 0#32
  let v862 : BitVec 1 := Scalar.cmpi .slt v856 c0_i32_326
  let v863 : BitVec 32 := Scalar.extui v862
  let v864 : BitVec 32 := Scalar.subi v861 v863
  let c128_i32_324 : BitVec 32 := 128#32
  let c0_i32_327 : BitVec 32 := 0#32
  let v865 : BitVec 1 := Scalar.cmpi .sgt c128_i32_324 c0_i32_327
  let v866 : BitVec 32 := Scalar.extui v865
  let c0_i32_328 : BitVec 32 := 0#32
  let v867 : BitVec 1 := Scalar.cmpi .slt c128_i32_324 c0_i32_328
  let v868 : BitVec 32 := Scalar.extui v867
  let v869 : BitVec 32 := Scalar.subi v866 v868
  let v870 : BitVec 1 := Scalar.cmpi .ne v864 v869
  let v871 : BitVec 32 := Scalar.remsi v856 c128_i32_324
  let c0_i32_329 : BitVec 32 := 0#32
  let v872 : BitVec 1 := Scalar.cmpi .ne v871 c0_i32_329
  let v873 : BitVec 1 := Scalar.andi v870 v872
  let v859 : BitVec 32 := Scalar.divsi v856 c128_i32_324
  let c1_i32_330 : BitVec 32 := 1#32
  let v874 : BitVec 32 := Scalar.subi v859 c1_i32_330
  let v875 : BitVec 32 := Scalar.select v873 v874 v859
  let c128_i32_331 : BitVec 32 := 128#32
  let v876 : BitVec 32 := Scalar.muli v875 c128_i32_331
  let v877 : BitVec 32 := v876
  let v880 : Index := Scalar.indexCast v877
  ![v879.toNat, 0, v880.toNat]

def k1_chk16 (v854 : BitVec 32) (v856 : BitVec 32) : Prop :=
  (128 ∣ (k1_mult16 v856).toNat) ∧
  (∀ a, (k1_off49 v854 v856) a + S1x16x512.size a ≤ S384x16x1152.size a)
theorem k1_mult16_dvd : ∀ (v854 : BitVec 32) (v856 : BitVec 32) (k1_hw16 : k1_chk16 v854 v856), 128 ∣ (k1_mult16 v856).toNat := fun v854 v856 k1_hw16 => k1_hw16.1
theorem k1_off49_inb : ∀ (v854 : BitVec 32) (v856 : BitVec 32) (k1_hw16 : k1_chk16 v854 v856), ∀ a, (k1_off49 v854 v856) a + S1x16x512.size a ≤ S384x16x1152.size a := fun v854 v856 k1_hw16 => k1_hw16.2

def k1_off50 (i : grid1.Coords) : Fin 2 → Nat :=
  let arg0 : BitVec 32 := BitVec.ofNat 32 (i 0).val
  let c48_i32_168 : BitVec 32 := 48#32
  let v460 : BitVec 32 := Scalar.muli arg0 c48_i32_168
  let c1_i32_169 : BitVec 32 := 1#32
  let v461 : BitVec 32 := Scalar.addi v460 c1_i32_169
  let v890 : Index := Scalar.indexCast v461
  let c7_335 : Index := 7#32
  ![v890.toNat, 7]
def k1_off51 (i : grid1.Coords) : Fin 3 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v919 : Index := Scalar.indexCast v918
  let c0_351 : Index := 0#32
  let c720_352 : Index := 720#32
  ![v919.toNat, 0, 720]
def k1_off52 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v939 : Index := Scalar.indexCast v918
  let c0_362 : Index := 0#32
  ![v939.toNat, 0]
def k1_mult17 (v942 : BitVec 32) : BitVec 32 :=
  let c0_i32_366 : BitVec 32 := 0#32
  let v946 : BitVec 1 := Scalar.cmpi .sgt v942 c0_i32_366
  let v947 : BitVec 32 := Scalar.extui v946
  let c0_i32_367 : BitVec 32 := 0#32
  let v948 : BitVec 1 := Scalar.cmpi .slt v942 c0_i32_367
  let v949 : BitVec 32 := Scalar.extui v948
  let v950 : BitVec 32 := Scalar.subi v947 v949
  let c128_i32_365 : BitVec 32 := 128#32
  let c0_i32_368 : BitVec 32 := 0#32
  let v951 : BitVec 1 := Scalar.cmpi .sgt c128_i32_365 c0_i32_368
  let v952 : BitVec 32 := Scalar.extui v951
  let c0_i32_369 : BitVec 32 := 0#32
  let v953 : BitVec 1 := Scalar.cmpi .slt c128_i32_365 c0_i32_369
  let v954 : BitVec 32 := Scalar.extui v953
  let v955 : BitVec 32 := Scalar.subi v952 v954
  let v956 : BitVec 1 := Scalar.cmpi .ne v950 v955
  let v957 : BitVec 32 := Scalar.remsi v942 c128_i32_365
  let c0_i32_370 : BitVec 32 := 0#32
  let v958 : BitVec 1 := Scalar.cmpi .ne v957 c0_i32_370
  let v959 : BitVec 1 := Scalar.andi v956 v958
  let v945 : BitVec 32 := Scalar.divsi v942 c128_i32_365
  let c1_i32_371 : BitVec 32 := 1#32
  let v960 : BitVec 32 := Scalar.subi v945 c1_i32_371
  let v961 : BitVec 32 := Scalar.select v959 v960 v945
  let c128_i32_372 : BitVec 32 := 128#32
  let v962 : BitVec 32 := Scalar.muli v961 c128_i32_372
  v962

def k1_off53 (v940 : BitVec 32) (v942 : BitVec 32) : Fin 3 → Nat :=
  let v965 : Index := Scalar.indexCast v940
  let c0_373 : Index := 0#32
  let c0_i32_366 : BitVec 32 := 0#32
  let v946 : BitVec 1 := Scalar.cmpi .sgt v942 c0_i32_366
  let v947 : BitVec 32 := Scalar.extui v946
  let c0_i32_367 : BitVec 32 := 0#32
  let v948 : BitVec 1 := Scalar.cmpi .slt v942 c0_i32_367
  let v949 : BitVec 32 := Scalar.extui v948
  let v950 : BitVec 32 := Scalar.subi v947 v949
  let c128_i32_365 : BitVec 32 := 128#32
  let c0_i32_368 : BitVec 32 := 0#32
  let v951 : BitVec 1 := Scalar.cmpi .sgt c128_i32_365 c0_i32_368
  let v952 : BitVec 32 := Scalar.extui v951
  let c0_i32_369 : BitVec 32 := 0#32
  let v953 : BitVec 1 := Scalar.cmpi .slt c128_i32_365 c0_i32_369
  let v954 : BitVec 32 := Scalar.extui v953
  let v955 : BitVec 32 := Scalar.subi v952 v954
  let v956 : BitVec 1 := Scalar.cmpi .ne v950 v955
  let v957 : BitVec 32 := Scalar.remsi v942 c128_i32_365
  let c0_i32_370 : BitVec 32 := 0#32
  let v958 : BitVec 1 := Scalar.cmpi .ne v957 c0_i32_370
  let v959 : BitVec 1 := Scalar.andi v956 v958
  let v945 : BitVec 32 := Scalar.divsi v942 c128_i32_365
  let c1_i32_371 : BitVec 32 := 1#32
  let v960 : BitVec 32 := Scalar.subi v945 c1_i32_371
  let v961 : BitVec 32 := Scalar.select v959 v960 v945
  let c128_i32_372 : BitVec 32 := 128#32
  let v962 : BitVec 32 := Scalar.muli v961 c128_i32_372
  let v963 : BitVec 32 := v962
  let v966 : Index := Scalar.indexCast v963
  ![v965.toNat, 0, v966.toNat]

def k1_chk17 (v940 : BitVec 32) (v942 : BitVec 32) : Prop :=
  (128 ∣ (k1_mult17 v942).toNat) ∧
  (∀ a, (k1_off53 v940 v942) a + S1x16x512.size a ≤ S384x16x1152.size a)
theorem k1_mult17_dvd : ∀ (v940 : BitVec 32) (v942 : BitVec 32) (k1_hw17 : k1_chk17 v940 v942), 128 ∣ (k1_mult17 v942).toNat := fun v940 v942 k1_hw17 => k1_hw17.1
theorem k1_off53_inb : ∀ (v940 : BitVec 32) (v942 : BitVec 32) (k1_hw17 : k1_chk17 v940 v942), ∀ a, (k1_off53 v940 v942) a + S1x16x512.size a ≤ S384x16x1152.size a := fun v940 v942 k1_hw17 => k1_hw17.2

def k1_off54 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v976 : Index := Scalar.indexCast v918
  let c0_376 : Index := 0#32
  ![v976.toNat, 0]
def k1_off55 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v992 : Index := Scalar.indexCast v918
  let c1_382 : Index := 1#32
  ![v992.toNat, 1]
def k1_mult18 (v995 : BitVec 32) : BitVec 32 :=
  let c0_i32_386 : BitVec 32 := 0#32
  let v999 : BitVec 1 := Scalar.cmpi .sgt v995 c0_i32_386
  let v1000 : BitVec 32 := Scalar.extui v999
  let c0_i32_387 : BitVec 32 := 0#32
  let v1001 : BitVec 1 := Scalar.cmpi .slt v995 c0_i32_387
  let v1002 : BitVec 32 := Scalar.extui v1001
  let v1003 : BitVec 32 := Scalar.subi v1000 v1002
  let c128_i32_385 : BitVec 32 := 128#32
  let c0_i32_388 : BitVec 32 := 0#32
  let v1004 : BitVec 1 := Scalar.cmpi .sgt c128_i32_385 c0_i32_388
  let v1005 : BitVec 32 := Scalar.extui v1004
  let c0_i32_389 : BitVec 32 := 0#32
  let v1006 : BitVec 1 := Scalar.cmpi .slt c128_i32_385 c0_i32_389
  let v1007 : BitVec 32 := Scalar.extui v1006
  let v1008 : BitVec 32 := Scalar.subi v1005 v1007
  let v1009 : BitVec 1 := Scalar.cmpi .ne v1003 v1008
  let v1010 : BitVec 32 := Scalar.remsi v995 c128_i32_385
  let c0_i32_390 : BitVec 32 := 0#32
  let v1011 : BitVec 1 := Scalar.cmpi .ne v1010 c0_i32_390
  let v1012 : BitVec 1 := Scalar.andi v1009 v1011
  let v998 : BitVec 32 := Scalar.divsi v995 c128_i32_385
  let c1_i32_391 : BitVec 32 := 1#32
  let v1013 : BitVec 32 := Scalar.subi v998 c1_i32_391
  let v1014 : BitVec 32 := Scalar.select v1012 v1013 v998
  let c128_i32_392 : BitVec 32 := 128#32
  let v1015 : BitVec 32 := Scalar.muli v1014 c128_i32_392
  v1015

def k1_off56 (v993 : BitVec 32) (v995 : BitVec 32) : Fin 3 → Nat :=
  let v1018 : Index := Scalar.indexCast v993
  let c0_393 : Index := 0#32
  let c0_i32_386 : BitVec 32 := 0#32
  let v999 : BitVec 1 := Scalar.cmpi .sgt v995 c0_i32_386
  let v1000 : BitVec 32 := Scalar.extui v999
  let c0_i32_387 : BitVec 32 := 0#32
  let v1001 : BitVec 1 := Scalar.cmpi .slt v995 c0_i32_387
  let v1002 : BitVec 32 := Scalar.extui v1001
  let v1003 : BitVec 32 := Scalar.subi v1000 v1002
  let c128_i32_385 : BitVec 32 := 128#32
  let c0_i32_388 : BitVec 32 := 0#32
  let v1004 : BitVec 1 := Scalar.cmpi .sgt c128_i32_385 c0_i32_388
  let v1005 : BitVec 32 := Scalar.extui v1004
  let c0_i32_389 : BitVec 32 := 0#32
  let v1006 : BitVec 1 := Scalar.cmpi .slt c128_i32_385 c0_i32_389
  let v1007 : BitVec 32 := Scalar.extui v1006
  let v1008 : BitVec 32 := Scalar.subi v1005 v1007
  let v1009 : BitVec 1 := Scalar.cmpi .ne v1003 v1008
  let v1010 : BitVec 32 := Scalar.remsi v995 c128_i32_385
  let c0_i32_390 : BitVec 32 := 0#32
  let v1011 : BitVec 1 := Scalar.cmpi .ne v1010 c0_i32_390
  let v1012 : BitVec 1 := Scalar.andi v1009 v1011
  let v998 : BitVec 32 := Scalar.divsi v995 c128_i32_385
  let c1_i32_391 : BitVec 32 := 1#32
  let v1013 : BitVec 32 := Scalar.subi v998 c1_i32_391
  let v1014 : BitVec 32 := Scalar.select v1012 v1013 v998
  let c128_i32_392 : BitVec 32 := 128#32
  let v1015 : BitVec 32 := Scalar.muli v1014 c128_i32_392
  let v1016 : BitVec 32 := v1015
  let v1019 : Index := Scalar.indexCast v1016
  ![v1018.toNat, 0, v1019.toNat]

def k1_chk18 (v993 : BitVec 32) (v995 : BitVec 32) : Prop :=
  (128 ∣ (k1_mult18 v995).toNat) ∧
  (∀ a, (k1_off56 v993 v995) a + S1x16x512.size a ≤ S384x16x1152.size a)
theorem k1_mult18_dvd : ∀ (v993 : BitVec 32) (v995 : BitVec 32) (k1_hw18 : k1_chk18 v993 v995), 128 ∣ (k1_mult18 v995).toNat := fun v993 v995 k1_hw18 => k1_hw18.1
theorem k1_off56_inb : ∀ (v993 : BitVec 32) (v995 : BitVec 32) (k1_hw18 : k1_chk18 v993 v995), ∀ a, (k1_off56 v993 v995) a + S1x16x512.size a ≤ S384x16x1152.size a := fun v993 v995 k1_hw18 => k1_hw18.2

def k1_off57 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1029 : Index := Scalar.indexCast v918
  let c1_396 : Index := 1#32
  ![v1029.toNat, 1]
def k1_off58 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1045 : Index := Scalar.indexCast v918
  let c2_402 : Index := 2#32
  ![v1045.toNat, 2]
def k1_mult19 (v1048 : BitVec 32) : BitVec 32 :=
  let c0_i32_406 : BitVec 32 := 0#32
  let v1052 : BitVec 1 := Scalar.cmpi .sgt v1048 c0_i32_406
  let v1053 : BitVec 32 := Scalar.extui v1052
  let c0_i32_407 : BitVec 32 := 0#32
  let v1054 : BitVec 1 := Scalar.cmpi .slt v1048 c0_i32_407
  let v1055 : BitVec 32 := Scalar.extui v1054
  let v1056 : BitVec 32 := Scalar.subi v1053 v1055
  let c128_i32_405 : BitVec 32 := 128#32
  let c0_i32_408 : BitVec 32 := 0#32
  let v1057 : BitVec 1 := Scalar.cmpi .sgt c128_i32_405 c0_i32_408
  let v1058 : BitVec 32 := Scalar.extui v1057
  let c0_i32_409 : BitVec 32 := 0#32
  let v1059 : BitVec 1 := Scalar.cmpi .slt c128_i32_405 c0_i32_409
  let v1060 : BitVec 32 := Scalar.extui v1059
  let v1061 : BitVec 32 := Scalar.subi v1058 v1060
  let v1062 : BitVec 1 := Scalar.cmpi .ne v1056 v1061
  let v1063 : BitVec 32 := Scalar.remsi v1048 c128_i32_405
  let c0_i32_410 : BitVec 32 := 0#32
  let v1064 : BitVec 1 := Scalar.cmpi .ne v1063 c0_i32_410
  let v1065 : BitVec 1 := Scalar.andi v1062 v1064
  let v1051 : BitVec 32 := Scalar.divsi v1048 c128_i32_405
  let c1_i32_411 : BitVec 32 := 1#32
  let v1066 : BitVec 32 := Scalar.subi v1051 c1_i32_411
  let v1067 : BitVec 32 := Scalar.select v1065 v1066 v1051
  let c128_i32_412 : BitVec 32 := 128#32
  let v1068 : BitVec 32 := Scalar.muli v1067 c128_i32_412
  v1068

def k1_off59 (v1046 : BitVec 32) (v1048 : BitVec 32) : Fin 3 → Nat :=
  let v1071 : Index := Scalar.indexCast v1046
  let c0_413 : Index := 0#32
  let c0_i32_406 : BitVec 32 := 0#32
  let v1052 : BitVec 1 := Scalar.cmpi .sgt v1048 c0_i32_406
  let v1053 : BitVec 32 := Scalar.extui v1052
  let c0_i32_407 : BitVec 32 := 0#32
  let v1054 : BitVec 1 := Scalar.cmpi .slt v1048 c0_i32_407
  let v1055 : BitVec 32 := Scalar.extui v1054
  let v1056 : BitVec 32 := Scalar.subi v1053 v1055
  let c128_i32_405 : BitVec 32 := 128#32
  let c0_i32_408 : BitVec 32 := 0#32
  let v1057 : BitVec 1 := Scalar.cmpi .sgt c128_i32_405 c0_i32_408
  let v1058 : BitVec 32 := Scalar.extui v1057
  let c0_i32_409 : BitVec 32 := 0#32
  let v1059 : BitVec 1 := Scalar.cmpi .slt c128_i32_405 c0_i32_409
  let v1060 : BitVec 32 := Scalar.extui v1059
  let v1061 : BitVec 32 := Scalar.subi v1058 v1060
  let v1062 : BitVec 1 := Scalar.cmpi .ne v1056 v1061
  let v1063 : BitVec 32 := Scalar.remsi v1048 c128_i32_405
  let c0_i32_410 : BitVec 32 := 0#32
  let v1064 : BitVec 1 := Scalar.cmpi .ne v1063 c0_i32_410
  let v1065 : BitVec 1 := Scalar.andi v1062 v1064
  let v1051 : BitVec 32 := Scalar.divsi v1048 c128_i32_405
  let c1_i32_411 : BitVec 32 := 1#32
  let v1066 : BitVec 32 := Scalar.subi v1051 c1_i32_411
  let v1067 : BitVec 32 := Scalar.select v1065 v1066 v1051
  let c128_i32_412 : BitVec 32 := 128#32
  let v1068 : BitVec 32 := Scalar.muli v1067 c128_i32_412
  let v1069 : BitVec 32 := v1068
  let v1072 : Index := Scalar.indexCast v1069
  ![v1071.toNat, 0, v1072.toNat]

def k1_chk19 (v1046 : BitVec 32) (v1048 : BitVec 32) : Prop :=
  (128 ∣ (k1_mult19 v1048).toNat) ∧
  (∀ a, (k1_off59 v1046 v1048) a + S1x16x512.size a ≤ S384x16x1152.size a)
theorem k1_mult19_dvd : ∀ (v1046 : BitVec 32) (v1048 : BitVec 32) (k1_hw19 : k1_chk19 v1046 v1048), 128 ∣ (k1_mult19 v1048).toNat := fun v1046 v1048 k1_hw19 => k1_hw19.1
theorem k1_off59_inb : ∀ (v1046 : BitVec 32) (v1048 : BitVec 32) (k1_hw19 : k1_chk19 v1046 v1048), ∀ a, (k1_off59 v1046 v1048) a + S1x16x512.size a ≤ S384x16x1152.size a := fun v1046 v1048 k1_hw19 => k1_hw19.2

def k1_off60 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1082 : Index := Scalar.indexCast v918
  let c2_416 : Index := 2#32
  ![v1082.toNat, 2]
def k1_off61 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1098 : Index := Scalar.indexCast v918
  let c3_422 : Index := 3#32
  ![v1098.toNat, 3]
def k1_mult20 (v1101 : BitVec 32) : BitVec 32 :=
  let c0_i32_426 : BitVec 32 := 0#32
  let v1105 : BitVec 1 := Scalar.cmpi .sgt v1101 c0_i32_426
  let v1106 : BitVec 32 := Scalar.extui v1105
  let c0_i32_427 : BitVec 32 := 0#32
  let v1107 : BitVec 1 := Scalar.cmpi .slt v1101 c0_i32_427
  let v1108 : BitVec 32 := Scalar.extui v1107
  let v1109 : BitVec 32 := Scalar.subi v1106 v1108
  let c128_i32_425 : BitVec 32 := 128#32
  let c0_i32_428 : BitVec 32 := 0#32
  let v1110 : BitVec 1 := Scalar.cmpi .sgt c128_i32_425 c0_i32_428
  let v1111 : BitVec 32 := Scalar.extui v1110
  let c0_i32_429 : BitVec 32 := 0#32
  let v1112 : BitVec 1 := Scalar.cmpi .slt c128_i32_425 c0_i32_429
  let v1113 : BitVec 32 := Scalar.extui v1112
  let v1114 : BitVec 32 := Scalar.subi v1111 v1113
  let v1115 : BitVec 1 := Scalar.cmpi .ne v1109 v1114
  let v1116 : BitVec 32 := Scalar.remsi v1101 c128_i32_425
  let c0_i32_430 : BitVec 32 := 0#32
  let v1117 : BitVec 1 := Scalar.cmpi .ne v1116 c0_i32_430
  let v1118 : BitVec 1 := Scalar.andi v1115 v1117
  let v1104 : BitVec 32 := Scalar.divsi v1101 c128_i32_425
  let c1_i32_431 : BitVec 32 := 1#32
  let v1119 : BitVec 32 := Scalar.subi v1104 c1_i32_431
  let v1120 : BitVec 32 := Scalar.select v1118 v1119 v1104
  let c128_i32_432 : BitVec 32 := 128#32
  let v1121 : BitVec 32 := Scalar.muli v1120 c128_i32_432
  v1121

def k1_off62 (v1099 : BitVec 32) (v1101 : BitVec 32) : Fin 3 → Nat :=
  let v1124 : Index := Scalar.indexCast v1099
  let c0_433 : Index := 0#32
  let c0_i32_426 : BitVec 32 := 0#32
  let v1105 : BitVec 1 := Scalar.cmpi .sgt v1101 c0_i32_426
  let v1106 : BitVec 32 := Scalar.extui v1105
  let c0_i32_427 : BitVec 32 := 0#32
  let v1107 : BitVec 1 := Scalar.cmpi .slt v1101 c0_i32_427
  let v1108 : BitVec 32 := Scalar.extui v1107
  let v1109 : BitVec 32 := Scalar.subi v1106 v1108
  let c128_i32_425 : BitVec 32 := 128#32
  let c0_i32_428 : BitVec 32 := 0#32
  let v1110 : BitVec 1 := Scalar.cmpi .sgt c128_i32_425 c0_i32_428
  let v1111 : BitVec 32 := Scalar.extui v1110
  let c0_i32_429 : BitVec 32 := 0#32
  let v1112 : BitVec 1 := Scalar.cmpi .slt c128_i32_425 c0_i32_429
  let v1113 : BitVec 32 := Scalar.extui v1112
  let v1114 : BitVec 32 := Scalar.subi v1111 v1113
  let v1115 : BitVec 1 := Scalar.cmpi .ne v1109 v1114
  let v1116 : BitVec 32 := Scalar.remsi v1101 c128_i32_425
  let c0_i32_430 : BitVec 32 := 0#32
  let v1117 : BitVec 1 := Scalar.cmpi .ne v1116 c0_i32_430
  let v1118 : BitVec 1 := Scalar.andi v1115 v1117
  let v1104 : BitVec 32 := Scalar.divsi v1101 c128_i32_425
  let c1_i32_431 : BitVec 32 := 1#32
  let v1119 : BitVec 32 := Scalar.subi v1104 c1_i32_431
  let v1120 : BitVec 32 := Scalar.select v1118 v1119 v1104
  let c128_i32_432 : BitVec 32 := 128#32
  let v1121 : BitVec 32 := Scalar.muli v1120 c128_i32_432
  let v1122 : BitVec 32 := v1121
  let v1125 : Index := Scalar.indexCast v1122
  ![v1124.toNat, 0, v1125.toNat]

def k1_chk20 (v1099 : BitVec 32) (v1101 : BitVec 32) : Prop :=
  (128 ∣ (k1_mult20 v1101).toNat) ∧
  (∀ a, (k1_off62 v1099 v1101) a + S1x16x512.size a ≤ S384x16x1152.size a)
theorem k1_mult20_dvd : ∀ (v1099 : BitVec 32) (v1101 : BitVec 32) (k1_hw20 : k1_chk20 v1099 v1101), 128 ∣ (k1_mult20 v1101).toNat := fun v1099 v1101 k1_hw20 => k1_hw20.1
theorem k1_off62_inb : ∀ (v1099 : BitVec 32) (v1101 : BitVec 32) (k1_hw20 : k1_chk20 v1099 v1101), ∀ a, (k1_off62 v1099 v1101) a + S1x16x512.size a ≤ S384x16x1152.size a := fun v1099 v1101 k1_hw20 => k1_hw20.2

def k1_off63 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1135 : Index := Scalar.indexCast v918
  let c3_436 : Index := 3#32
  ![v1135.toNat, 3]
def k1_off64 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1151 : Index := Scalar.indexCast v918
  let c4_442 : Index := 4#32
  ![v1151.toNat, 4]
def k1_mult21 (v1154 : BitVec 32) : BitVec 32 :=
  let c0_i32_446 : BitVec 32 := 0#32
  let v1158 : BitVec 1 := Scalar.cmpi .sgt v1154 c0_i32_446
  let v1159 : BitVec 32 := Scalar.extui v1158
  let c0_i32_447 : BitVec 32 := 0#32
  let v1160 : BitVec 1 := Scalar.cmpi .slt v1154 c0_i32_447
  let v1161 : BitVec 32 := Scalar.extui v1160
  let v1162 : BitVec 32 := Scalar.subi v1159 v1161
  let c128_i32_445 : BitVec 32 := 128#32
  let c0_i32_448 : BitVec 32 := 0#32
  let v1163 : BitVec 1 := Scalar.cmpi .sgt c128_i32_445 c0_i32_448
  let v1164 : BitVec 32 := Scalar.extui v1163
  let c0_i32_449 : BitVec 32 := 0#32
  let v1165 : BitVec 1 := Scalar.cmpi .slt c128_i32_445 c0_i32_449
  let v1166 : BitVec 32 := Scalar.extui v1165
  let v1167 : BitVec 32 := Scalar.subi v1164 v1166
  let v1168 : BitVec 1 := Scalar.cmpi .ne v1162 v1167
  let v1169 : BitVec 32 := Scalar.remsi v1154 c128_i32_445
  let c0_i32_450 : BitVec 32 := 0#32
  let v1170 : BitVec 1 := Scalar.cmpi .ne v1169 c0_i32_450
  let v1171 : BitVec 1 := Scalar.andi v1168 v1170
  let v1157 : BitVec 32 := Scalar.divsi v1154 c128_i32_445
  let c1_i32_451 : BitVec 32 := 1#32
  let v1172 : BitVec 32 := Scalar.subi v1157 c1_i32_451
  let v1173 : BitVec 32 := Scalar.select v1171 v1172 v1157
  let c128_i32_452 : BitVec 32 := 128#32
  let v1174 : BitVec 32 := Scalar.muli v1173 c128_i32_452
  v1174

def k1_off65 (v1152 : BitVec 32) (v1154 : BitVec 32) : Fin 3 → Nat :=
  let v1177 : Index := Scalar.indexCast v1152
  let c0_453 : Index := 0#32
  let c0_i32_446 : BitVec 32 := 0#32
  let v1158 : BitVec 1 := Scalar.cmpi .sgt v1154 c0_i32_446
  let v1159 : BitVec 32 := Scalar.extui v1158
  let c0_i32_447 : BitVec 32 := 0#32
  let v1160 : BitVec 1 := Scalar.cmpi .slt v1154 c0_i32_447
  let v1161 : BitVec 32 := Scalar.extui v1160
  let v1162 : BitVec 32 := Scalar.subi v1159 v1161
  let c128_i32_445 : BitVec 32 := 128#32
  let c0_i32_448 : BitVec 32 := 0#32
  let v1163 : BitVec 1 := Scalar.cmpi .sgt c128_i32_445 c0_i32_448
  let v1164 : BitVec 32 := Scalar.extui v1163
  let c0_i32_449 : BitVec 32 := 0#32
  let v1165 : BitVec 1 := Scalar.cmpi .slt c128_i32_445 c0_i32_449
  let v1166 : BitVec 32 := Scalar.extui v1165
  let v1167 : BitVec 32 := Scalar.subi v1164 v1166
  let v1168 : BitVec 1 := Scalar.cmpi .ne v1162 v1167
  let v1169 : BitVec 32 := Scalar.remsi v1154 c128_i32_445
  let c0_i32_450 : BitVec 32 := 0#32
  let v1170 : BitVec 1 := Scalar.cmpi .ne v1169 c0_i32_450
  let v1171 : BitVec 1 := Scalar.andi v1168 v1170
  let v1157 : BitVec 32 := Scalar.divsi v1154 c128_i32_445
  let c1_i32_451 : BitVec 32 := 1#32
  let v1172 : BitVec 32 := Scalar.subi v1157 c1_i32_451
  let v1173 : BitVec 32 := Scalar.select v1171 v1172 v1157
  let c128_i32_452 : BitVec 32 := 128#32
  let v1174 : BitVec 32 := Scalar.muli v1173 c128_i32_452
  let v1175 : BitVec 32 := v1174
  let v1178 : Index := Scalar.indexCast v1175
  ![v1177.toNat, 0, v1178.toNat]

def k1_chk21 (v1152 : BitVec 32) (v1154 : BitVec 32) : Prop :=
  (128 ∣ (k1_mult21 v1154).toNat) ∧
  (∀ a, (k1_off65 v1152 v1154) a + S1x16x512.size a ≤ S384x16x1152.size a)
theorem k1_mult21_dvd : ∀ (v1152 : BitVec 32) (v1154 : BitVec 32) (k1_hw21 : k1_chk21 v1152 v1154), 128 ∣ (k1_mult21 v1154).toNat := fun v1152 v1154 k1_hw21 => k1_hw21.1
theorem k1_off65_inb : ∀ (v1152 : BitVec 32) (v1154 : BitVec 32) (k1_hw21 : k1_chk21 v1152 v1154), ∀ a, (k1_off65 v1152 v1154) a + S1x16x512.size a ≤ S384x16x1152.size a := fun v1152 v1154 k1_hw21 => k1_hw21.2

def k1_off66 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1188 : Index := Scalar.indexCast v918
  let c4_456 : Index := 4#32
  ![v1188.toNat, 4]
def k1_off67 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1204 : Index := Scalar.indexCast v918
  let c5_462 : Index := 5#32
  ![v1204.toNat, 5]
def k1_mult22 (v1207 : BitVec 32) : BitVec 32 :=
  let c0_i32_466 : BitVec 32 := 0#32
  let v1211 : BitVec 1 := Scalar.cmpi .sgt v1207 c0_i32_466
  let v1212 : BitVec 32 := Scalar.extui v1211
  let c0_i32_467 : BitVec 32 := 0#32
  let v1213 : BitVec 1 := Scalar.cmpi .slt v1207 c0_i32_467
  let v1214 : BitVec 32 := Scalar.extui v1213
  let v1215 : BitVec 32 := Scalar.subi v1212 v1214
  let c128_i32_465 : BitVec 32 := 128#32
  let c0_i32_468 : BitVec 32 := 0#32
  let v1216 : BitVec 1 := Scalar.cmpi .sgt c128_i32_465 c0_i32_468
  let v1217 : BitVec 32 := Scalar.extui v1216
  let c0_i32_469 : BitVec 32 := 0#32
  let v1218 : BitVec 1 := Scalar.cmpi .slt c128_i32_465 c0_i32_469
  let v1219 : BitVec 32 := Scalar.extui v1218
  let v1220 : BitVec 32 := Scalar.subi v1217 v1219
  let v1221 : BitVec 1 := Scalar.cmpi .ne v1215 v1220
  let v1222 : BitVec 32 := Scalar.remsi v1207 c128_i32_465
  let c0_i32_470 : BitVec 32 := 0#32
  let v1223 : BitVec 1 := Scalar.cmpi .ne v1222 c0_i32_470
  let v1224 : BitVec 1 := Scalar.andi v1221 v1223
  let v1210 : BitVec 32 := Scalar.divsi v1207 c128_i32_465
  let c1_i32_471 : BitVec 32 := 1#32
  let v1225 : BitVec 32 := Scalar.subi v1210 c1_i32_471
  let v1226 : BitVec 32 := Scalar.select v1224 v1225 v1210
  let c128_i32_472 : BitVec 32 := 128#32
  let v1227 : BitVec 32 := Scalar.muli v1226 c128_i32_472
  v1227

def k1_off68 (v1205 : BitVec 32) (v1207 : BitVec 32) : Fin 3 → Nat :=
  let v1230 : Index := Scalar.indexCast v1205
  let c0_473 : Index := 0#32
  let c0_i32_466 : BitVec 32 := 0#32
  let v1211 : BitVec 1 := Scalar.cmpi .sgt v1207 c0_i32_466
  let v1212 : BitVec 32 := Scalar.extui v1211
  let c0_i32_467 : BitVec 32 := 0#32
  let v1213 : BitVec 1 := Scalar.cmpi .slt v1207 c0_i32_467
  let v1214 : BitVec 32 := Scalar.extui v1213
  let v1215 : BitVec 32 := Scalar.subi v1212 v1214
  let c128_i32_465 : BitVec 32 := 128#32
  let c0_i32_468 : BitVec 32 := 0#32
  let v1216 : BitVec 1 := Scalar.cmpi .sgt c128_i32_465 c0_i32_468
  let v1217 : BitVec 32 := Scalar.extui v1216
  let c0_i32_469 : BitVec 32 := 0#32
  let v1218 : BitVec 1 := Scalar.cmpi .slt c128_i32_465 c0_i32_469
  let v1219 : BitVec 32 := Scalar.extui v1218
  let v1220 : BitVec 32 := Scalar.subi v1217 v1219
  let v1221 : BitVec 1 := Scalar.cmpi .ne v1215 v1220
  let v1222 : BitVec 32 := Scalar.remsi v1207 c128_i32_465
  let c0_i32_470 : BitVec 32 := 0#32
  let v1223 : BitVec 1 := Scalar.cmpi .ne v1222 c0_i32_470
  let v1224 : BitVec 1 := Scalar.andi v1221 v1223
  let v1210 : BitVec 32 := Scalar.divsi v1207 c128_i32_465
  let c1_i32_471 : BitVec 32 := 1#32
  let v1225 : BitVec 32 := Scalar.subi v1210 c1_i32_471
  let v1226 : BitVec 32 := Scalar.select v1224 v1225 v1210
  let c128_i32_472 : BitVec 32 := 128#32
  let v1227 : BitVec 32 := Scalar.muli v1226 c128_i32_472
  let v1228 : BitVec 32 := v1227
  let v1231 : Index := Scalar.indexCast v1228
  ![v1230.toNat, 0, v1231.toNat]

def k1_chk22 (v1205 : BitVec 32) (v1207 : BitVec 32) : Prop :=
  (128 ∣ (k1_mult22 v1207).toNat) ∧
  (∀ a, (k1_off68 v1205 v1207) a + S1x16x512.size a ≤ S384x16x1152.size a)
theorem k1_mult22_dvd : ∀ (v1205 : BitVec 32) (v1207 : BitVec 32) (k1_hw22 : k1_chk22 v1205 v1207), 128 ∣ (k1_mult22 v1207).toNat := fun v1205 v1207 k1_hw22 => k1_hw22.1
theorem k1_off68_inb : ∀ (v1205 : BitVec 32) (v1207 : BitVec 32) (k1_hw22 : k1_chk22 v1205 v1207), ∀ a, (k1_off68 v1205 v1207) a + S1x16x512.size a ≤ S384x16x1152.size a := fun v1205 v1207 k1_hw22 => k1_hw22.2

def k1_off69 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1241 : Index := Scalar.indexCast v918
  let c5_476 : Index := 5#32
  ![v1241.toNat, 5]
def k1_off70 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1257 : Index := Scalar.indexCast v918
  let c6_482 : Index := 6#32
  ![v1257.toNat, 6]
def k1_mult23 (v1260 : BitVec 32) : BitVec 32 :=
  let c0_i32_486 : BitVec 32 := 0#32
  let v1264 : BitVec 1 := Scalar.cmpi .sgt v1260 c0_i32_486
  let v1265 : BitVec 32 := Scalar.extui v1264
  let c0_i32_487 : BitVec 32 := 0#32
  let v1266 : BitVec 1 := Scalar.cmpi .slt v1260 c0_i32_487
  let v1267 : BitVec 32 := Scalar.extui v1266
  let v1268 : BitVec 32 := Scalar.subi v1265 v1267
  let c128_i32_485 : BitVec 32 := 128#32
  let c0_i32_488 : BitVec 32 := 0#32
  let v1269 : BitVec 1 := Scalar.cmpi .sgt c128_i32_485 c0_i32_488
  let v1270 : BitVec 32 := Scalar.extui v1269
  let c0_i32_489 : BitVec 32 := 0#32
  let v1271 : BitVec 1 := Scalar.cmpi .slt c128_i32_485 c0_i32_489
  let v1272 : BitVec 32 := Scalar.extui v1271
  let v1273 : BitVec 32 := Scalar.subi v1270 v1272
  let v1274 : BitVec 1 := Scalar.cmpi .ne v1268 v1273
  let v1275 : BitVec 32 := Scalar.remsi v1260 c128_i32_485
  let c0_i32_490 : BitVec 32 := 0#32
  let v1276 : BitVec 1 := Scalar.cmpi .ne v1275 c0_i32_490
  let v1277 : BitVec 1 := Scalar.andi v1274 v1276
  let v1263 : BitVec 32 := Scalar.divsi v1260 c128_i32_485
  let c1_i32_491 : BitVec 32 := 1#32
  let v1278 : BitVec 32 := Scalar.subi v1263 c1_i32_491
  let v1279 : BitVec 32 := Scalar.select v1277 v1278 v1263
  let c128_i32_492 : BitVec 32 := 128#32
  let v1280 : BitVec 32 := Scalar.muli v1279 c128_i32_492
  v1280

def k1_off71 (v1258 : BitVec 32) (v1260 : BitVec 32) : Fin 3 → Nat :=
  let v1283 : Index := Scalar.indexCast v1258
  let c0_493 : Index := 0#32
  let c0_i32_486 : BitVec 32 := 0#32
  let v1264 : BitVec 1 := Scalar.cmpi .sgt v1260 c0_i32_486
  let v1265 : BitVec 32 := Scalar.extui v1264
  let c0_i32_487 : BitVec 32 := 0#32
  let v1266 : BitVec 1 := Scalar.cmpi .slt v1260 c0_i32_487
  let v1267 : BitVec 32 := Scalar.extui v1266
  let v1268 : BitVec 32 := Scalar.subi v1265 v1267
  let c128_i32_485 : BitVec 32 := 128#32
  let c0_i32_488 : BitVec 32 := 0#32
  let v1269 : BitVec 1 := Scalar.cmpi .sgt c128_i32_485 c0_i32_488
  let v1270 : BitVec 32 := Scalar.extui v1269
  let c0_i32_489 : BitVec 32 := 0#32
  let v1271 : BitVec 1 := Scalar.cmpi .slt c128_i32_485 c0_i32_489
  let v1272 : BitVec 32 := Scalar.extui v1271
  let v1273 : BitVec 32 := Scalar.subi v1270 v1272
  let v1274 : BitVec 1 := Scalar.cmpi .ne v1268 v1273
  let v1275 : BitVec 32 := Scalar.remsi v1260 c128_i32_485
  let c0_i32_490 : BitVec 32 := 0#32
  let v1276 : BitVec 1 := Scalar.cmpi .ne v1275 c0_i32_490
  let v1277 : BitVec 1 := Scalar.andi v1274 v1276
  let v1263 : BitVec 32 := Scalar.divsi v1260 c128_i32_485
  let c1_i32_491 : BitVec 32 := 1#32
  let v1278 : BitVec 32 := Scalar.subi v1263 c1_i32_491
  let v1279 : BitVec 32 := Scalar.select v1277 v1278 v1263
  let c128_i32_492 : BitVec 32 := 128#32
  let v1280 : BitVec 32 := Scalar.muli v1279 c128_i32_492
  let v1281 : BitVec 32 := v1280
  let v1284 : Index := Scalar.indexCast v1281
  ![v1283.toNat, 0, v1284.toNat]

def k1_chk23 (v1258 : BitVec 32) (v1260 : BitVec 32) : Prop :=
  (128 ∣ (k1_mult23 v1260).toNat) ∧
  (∀ a, (k1_off71 v1258 v1260) a + S1x16x512.size a ≤ S384x16x1152.size a)
theorem k1_mult23_dvd : ∀ (v1258 : BitVec 32) (v1260 : BitVec 32) (k1_hw23 : k1_chk23 v1258 v1260), 128 ∣ (k1_mult23 v1260).toNat := fun v1258 v1260 k1_hw23 => k1_hw23.1
theorem k1_off71_inb : ∀ (v1258 : BitVec 32) (v1260 : BitVec 32) (k1_hw23 : k1_chk23 v1258 v1260), ∀ a, (k1_off71 v1258 v1260) a + S1x16x512.size a ≤ S384x16x1152.size a := fun v1258 v1260 k1_hw23 => k1_hw23.2

def k1_off72 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1294 : Index := Scalar.indexCast v918
  let c6_496 : Index := 6#32
  ![v1294.toNat, 6]
def k1_off73 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1310 : Index := Scalar.indexCast v918
  let c7_502 : Index := 7#32
  ![v1310.toNat, 7]
def k1_mult24 (v1313 : BitVec 32) : BitVec 32 :=
  let c0_i32_506 : BitVec 32 := 0#32
  let v1317 : BitVec 1 := Scalar.cmpi .sgt v1313 c0_i32_506
  let v1318 : BitVec 32 := Scalar.extui v1317
  let c0_i32_507 : BitVec 32 := 0#32
  let v1319 : BitVec 1 := Scalar.cmpi .slt v1313 c0_i32_507
  let v1320 : BitVec 32 := Scalar.extui v1319
  let v1321 : BitVec 32 := Scalar.subi v1318 v1320
  let c128_i32_505 : BitVec 32 := 128#32
  let c0_i32_508 : BitVec 32 := 0#32
  let v1322 : BitVec 1 := Scalar.cmpi .sgt c128_i32_505 c0_i32_508
  let v1323 : BitVec 32 := Scalar.extui v1322
  let c0_i32_509 : BitVec 32 := 0#32
  let v1324 : BitVec 1 := Scalar.cmpi .slt c128_i32_505 c0_i32_509
  let v1325 : BitVec 32 := Scalar.extui v1324
  let v1326 : BitVec 32 := Scalar.subi v1323 v1325
  let v1327 : BitVec 1 := Scalar.cmpi .ne v1321 v1326
  let v1328 : BitVec 32 := Scalar.remsi v1313 c128_i32_505
  let c0_i32_510 : BitVec 32 := 0#32
  let v1329 : BitVec 1 := Scalar.cmpi .ne v1328 c0_i32_510
  let v1330 : BitVec 1 := Scalar.andi v1327 v1329
  let v1316 : BitVec 32 := Scalar.divsi v1313 c128_i32_505
  let c1_i32_511 : BitVec 32 := 1#32
  let v1331 : BitVec 32 := Scalar.subi v1316 c1_i32_511
  let v1332 : BitVec 32 := Scalar.select v1330 v1331 v1316
  let c128_i32_512 : BitVec 32 := 128#32
  let v1333 : BitVec 32 := Scalar.muli v1332 c128_i32_512
  v1333

def k1_off74 (v1311 : BitVec 32) (v1313 : BitVec 32) : Fin 3 → Nat :=
  let v1336 : Index := Scalar.indexCast v1311
  let c0_513 : Index := 0#32
  let c0_i32_506 : BitVec 32 := 0#32
  let v1317 : BitVec 1 := Scalar.cmpi .sgt v1313 c0_i32_506
  let v1318 : BitVec 32 := Scalar.extui v1317
  let c0_i32_507 : BitVec 32 := 0#32
  let v1319 : BitVec 1 := Scalar.cmpi .slt v1313 c0_i32_507
  let v1320 : BitVec 32 := Scalar.extui v1319
  let v1321 : BitVec 32 := Scalar.subi v1318 v1320
  let c128_i32_505 : BitVec 32 := 128#32
  let c0_i32_508 : BitVec 32 := 0#32
  let v1322 : BitVec 1 := Scalar.cmpi .sgt c128_i32_505 c0_i32_508
  let v1323 : BitVec 32 := Scalar.extui v1322
  let c0_i32_509 : BitVec 32 := 0#32
  let v1324 : BitVec 1 := Scalar.cmpi .slt c128_i32_505 c0_i32_509
  let v1325 : BitVec 32 := Scalar.extui v1324
  let v1326 : BitVec 32 := Scalar.subi v1323 v1325
  let v1327 : BitVec 1 := Scalar.cmpi .ne v1321 v1326
  let v1328 : BitVec 32 := Scalar.remsi v1313 c128_i32_505
  let c0_i32_510 : BitVec 32 := 0#32
  let v1329 : BitVec 1 := Scalar.cmpi .ne v1328 c0_i32_510
  let v1330 : BitVec 1 := Scalar.andi v1327 v1329
  let v1316 : BitVec 32 := Scalar.divsi v1313 c128_i32_505
  let c1_i32_511 : BitVec 32 := 1#32
  let v1331 : BitVec 32 := Scalar.subi v1316 c1_i32_511
  let v1332 : BitVec 32 := Scalar.select v1330 v1331 v1316
  let c128_i32_512 : BitVec 32 := 128#32
  let v1333 : BitVec 32 := Scalar.muli v1332 c128_i32_512
  let v1334 : BitVec 32 := v1333
  let v1337 : Index := Scalar.indexCast v1334
  ![v1336.toNat, 0, v1337.toNat]

def k1_chk24 (v1311 : BitVec 32) (v1313 : BitVec 32) : Prop :=
  (128 ∣ (k1_mult24 v1313).toNat) ∧
  (∀ a, (k1_off74 v1311 v1313) a + S1x16x512.size a ≤ S384x16x1152.size a)
theorem k1_mult24_dvd : ∀ (v1311 : BitVec 32) (v1313 : BitVec 32) (k1_hw24 : k1_chk24 v1311 v1313), 128 ∣ (k1_mult24 v1313).toNat := fun v1311 v1313 k1_hw24 => k1_hw24.1
theorem k1_off74_inb : ∀ (v1311 : BitVec 32) (v1313 : BitVec 32) (k1_hw24 : k1_chk24 v1311 v1313), ∀ a, (k1_off74 v1311 v1313) a + S1x16x512.size a ≤ S384x16x1152.size a := fun v1311 v1313 k1_hw24 => k1_hw24.2

def k1_off75 (i : grid1.Coords) : Fin 2 → Nat :=
  let arg0 : BitVec 32 := BitVec.ofNat 32 (i 0).val
  let c48_i32_350 : BitVec 32 := 48#32
  let v917 : BitVec 32 := Scalar.muli arg0 c48_i32_350
  let c2_i32 : BitVec 32 := 2#32
  let v918 : BitVec 32 := Scalar.addi v917 c2_i32
  let v1347 : Index := Scalar.indexCast v918
  let c7_516 : Index := 7#32
  ![v1347.toNat, 7]
def k1_off76 (i : grid1.Coords) : Fin 3 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1376 : Index := Scalar.indexCast v1375
  let c0_532 : Index := 0#32
  let c720_533 : Index := 720#32
  ![v1376.toNat, 0, 720]
def k1_off77 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1396 : Index := Scalar.indexCast v1375
  let c0_543 : Index := 0#32
  ![v1396.toNat, 0]
def k1_mult25 (v1399 : BitVec 32) : BitVec 32 :=
  let c0_i32_547 : BitVec 32 := 0#32
  let v1403 : BitVec 1 := Scalar.cmpi .sgt v1399 c0_i32_547
  let v1404 : BitVec 32 := Scalar.extui v1403
  let c0_i32_548 : BitVec 32 := 0#32
  let v1405 : BitVec 1 := Scalar.cmpi .slt v1399 c0_i32_548
  let v1406 : BitVec 32 := Scalar.extui v1405
  let v1407 : BitVec 32 := Scalar.subi v1404 v1406
  let c128_i32_546 : BitVec 32 := 128#32
  let c0_i32_549 : BitVec 32 := 0#32
  let v1408 : BitVec 1 := Scalar.cmpi .sgt c128_i32_546 c0_i32_549
  let v1409 : BitVec 32 := Scalar.extui v1408
  let c0_i32_550 : BitVec 32 := 0#32
  let v1410 : BitVec 1 := Scalar.cmpi .slt c128_i32_546 c0_i32_550
  let v1411 : BitVec 32 := Scalar.extui v1410
  let v1412 : BitVec 32 := Scalar.subi v1409 v1411
  let v1413 : BitVec 1 := Scalar.cmpi .ne v1407 v1412
  let v1414 : BitVec 32 := Scalar.remsi v1399 c128_i32_546
  let c0_i32_551 : BitVec 32 := 0#32
  let v1415 : BitVec 1 := Scalar.cmpi .ne v1414 c0_i32_551
  let v1416 : BitVec 1 := Scalar.andi v1413 v1415
  let v1402 : BitVec 32 := Scalar.divsi v1399 c128_i32_546
  let c1_i32_552 : BitVec 32 := 1#32
  let v1417 : BitVec 32 := Scalar.subi v1402 c1_i32_552
  let v1418 : BitVec 32 := Scalar.select v1416 v1417 v1402
  let c128_i32_553 : BitVec 32 := 128#32
  let v1419 : BitVec 32 := Scalar.muli v1418 c128_i32_553
  v1419

def k1_off78 (v1397 : BitVec 32) (v1399 : BitVec 32) : Fin 3 → Nat :=
  let v1422 : Index := Scalar.indexCast v1397
  let c0_554 : Index := 0#32
  let c0_i32_547 : BitVec 32 := 0#32
  let v1403 : BitVec 1 := Scalar.cmpi .sgt v1399 c0_i32_547
  let v1404 : BitVec 32 := Scalar.extui v1403
  let c0_i32_548 : BitVec 32 := 0#32
  let v1405 : BitVec 1 := Scalar.cmpi .slt v1399 c0_i32_548
  let v1406 : BitVec 32 := Scalar.extui v1405
  let v1407 : BitVec 32 := Scalar.subi v1404 v1406
  let c128_i32_546 : BitVec 32 := 128#32
  let c0_i32_549 : BitVec 32 := 0#32
  let v1408 : BitVec 1 := Scalar.cmpi .sgt c128_i32_546 c0_i32_549
  let v1409 : BitVec 32 := Scalar.extui v1408
  let c0_i32_550 : BitVec 32 := 0#32
  let v1410 : BitVec 1 := Scalar.cmpi .slt c128_i32_546 c0_i32_550
  let v1411 : BitVec 32 := Scalar.extui v1410
  let v1412 : BitVec 32 := Scalar.subi v1409 v1411
  let v1413 : BitVec 1 := Scalar.cmpi .ne v1407 v1412
  let v1414 : BitVec 32 := Scalar.remsi v1399 c128_i32_546
  let c0_i32_551 : BitVec 32 := 0#32
  let v1415 : BitVec 1 := Scalar.cmpi .ne v1414 c0_i32_551
  let v1416 : BitVec 1 := Scalar.andi v1413 v1415
  let v1402 : BitVec 32 := Scalar.divsi v1399 c128_i32_546
  let c1_i32_552 : BitVec 32 := 1#32
  let v1417 : BitVec 32 := Scalar.subi v1402 c1_i32_552
  let v1418 : BitVec 32 := Scalar.select v1416 v1417 v1402
  let c128_i32_553 : BitVec 32 := 128#32
  let v1419 : BitVec 32 := Scalar.muli v1418 c128_i32_553
  let v1420 : BitVec 32 := v1419
  let v1423 : Index := Scalar.indexCast v1420
  ![v1422.toNat, 0, v1423.toNat]

def k1_chk25 (v1397 : BitVec 32) (v1399 : BitVec 32) : Prop :=
  (128 ∣ (k1_mult25 v1399).toNat) ∧
  (∀ a, (k1_off78 v1397 v1399) a + S1x16x512.size a ≤ S384x16x1152.size a)
theorem k1_mult25_dvd : ∀ (v1397 : BitVec 32) (v1399 : BitVec 32) (k1_hw25 : k1_chk25 v1397 v1399), 128 ∣ (k1_mult25 v1399).toNat := fun v1397 v1399 k1_hw25 => k1_hw25.1
theorem k1_off78_inb : ∀ (v1397 : BitVec 32) (v1399 : BitVec 32) (k1_hw25 : k1_chk25 v1397 v1399), ∀ a, (k1_off78 v1397 v1399) a + S1x16x512.size a ≤ S384x16x1152.size a := fun v1397 v1399 k1_hw25 => k1_hw25.2

def k1_off79 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1433 : Index := Scalar.indexCast v1375
  let c0_557 : Index := 0#32
  ![v1433.toNat, 0]
def k1_off80 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1449 : Index := Scalar.indexCast v1375
  let c1_563 : Index := 1#32
  ![v1449.toNat, 1]
def k1_mult26 (v1452 : BitVec 32) : BitVec 32 :=
  let c0_i32_567 : BitVec 32 := 0#32
  let v1456 : BitVec 1 := Scalar.cmpi .sgt v1452 c0_i32_567
  let v1457 : BitVec 32 := Scalar.extui v1456
  let c0_i32_568 : BitVec 32 := 0#32
  let v1458 : BitVec 1 := Scalar.cmpi .slt v1452 c0_i32_568
  let v1459 : BitVec 32 := Scalar.extui v1458
  let v1460 : BitVec 32 := Scalar.subi v1457 v1459
  let c128_i32_566 : BitVec 32 := 128#32
  let c0_i32_569 : BitVec 32 := 0#32
  let v1461 : BitVec 1 := Scalar.cmpi .sgt c128_i32_566 c0_i32_569
  let v1462 : BitVec 32 := Scalar.extui v1461
  let c0_i32_570 : BitVec 32 := 0#32
  let v1463 : BitVec 1 := Scalar.cmpi .slt c128_i32_566 c0_i32_570
  let v1464 : BitVec 32 := Scalar.extui v1463
  let v1465 : BitVec 32 := Scalar.subi v1462 v1464
  let v1466 : BitVec 1 := Scalar.cmpi .ne v1460 v1465
  let v1467 : BitVec 32 := Scalar.remsi v1452 c128_i32_566
  let c0_i32_571 : BitVec 32 := 0#32
  let v1468 : BitVec 1 := Scalar.cmpi .ne v1467 c0_i32_571
  let v1469 : BitVec 1 := Scalar.andi v1466 v1468
  let v1455 : BitVec 32 := Scalar.divsi v1452 c128_i32_566
  let c1_i32_572 : BitVec 32 := 1#32
  let v1470 : BitVec 32 := Scalar.subi v1455 c1_i32_572
  let v1471 : BitVec 32 := Scalar.select v1469 v1470 v1455
  let c128_i32_573 : BitVec 32 := 128#32
  let v1472 : BitVec 32 := Scalar.muli v1471 c128_i32_573
  v1472

def k1_off81 (v1450 : BitVec 32) (v1452 : BitVec 32) : Fin 3 → Nat :=
  let v1475 : Index := Scalar.indexCast v1450
  let c0_574 : Index := 0#32
  let c0_i32_567 : BitVec 32 := 0#32
  let v1456 : BitVec 1 := Scalar.cmpi .sgt v1452 c0_i32_567
  let v1457 : BitVec 32 := Scalar.extui v1456
  let c0_i32_568 : BitVec 32 := 0#32
  let v1458 : BitVec 1 := Scalar.cmpi .slt v1452 c0_i32_568
  let v1459 : BitVec 32 := Scalar.extui v1458
  let v1460 : BitVec 32 := Scalar.subi v1457 v1459
  let c128_i32_566 : BitVec 32 := 128#32
  let c0_i32_569 : BitVec 32 := 0#32
  let v1461 : BitVec 1 := Scalar.cmpi .sgt c128_i32_566 c0_i32_569
  let v1462 : BitVec 32 := Scalar.extui v1461
  let c0_i32_570 : BitVec 32 := 0#32
  let v1463 : BitVec 1 := Scalar.cmpi .slt c128_i32_566 c0_i32_570
  let v1464 : BitVec 32 := Scalar.extui v1463
  let v1465 : BitVec 32 := Scalar.subi v1462 v1464
  let v1466 : BitVec 1 := Scalar.cmpi .ne v1460 v1465
  let v1467 : BitVec 32 := Scalar.remsi v1452 c128_i32_566
  let c0_i32_571 : BitVec 32 := 0#32
  let v1468 : BitVec 1 := Scalar.cmpi .ne v1467 c0_i32_571
  let v1469 : BitVec 1 := Scalar.andi v1466 v1468
  let v1455 : BitVec 32 := Scalar.divsi v1452 c128_i32_566
  let c1_i32_572 : BitVec 32 := 1#32
  let v1470 : BitVec 32 := Scalar.subi v1455 c1_i32_572
  let v1471 : BitVec 32 := Scalar.select v1469 v1470 v1455
  let c128_i32_573 : BitVec 32 := 128#32
  let v1472 : BitVec 32 := Scalar.muli v1471 c128_i32_573
  let v1473 : BitVec 32 := v1472
  let v1476 : Index := Scalar.indexCast v1473
  ![v1475.toNat, 0, v1476.toNat]

def k1_chk26 (v1450 : BitVec 32) (v1452 : BitVec 32) : Prop :=
  (128 ∣ (k1_mult26 v1452).toNat) ∧
  (∀ a, (k1_off81 v1450 v1452) a + S1x16x512.size a ≤ S384x16x1152.size a)
theorem k1_mult26_dvd : ∀ (v1450 : BitVec 32) (v1452 : BitVec 32) (k1_hw26 : k1_chk26 v1450 v1452), 128 ∣ (k1_mult26 v1452).toNat := fun v1450 v1452 k1_hw26 => k1_hw26.1
theorem k1_off81_inb : ∀ (v1450 : BitVec 32) (v1452 : BitVec 32) (k1_hw26 : k1_chk26 v1450 v1452), ∀ a, (k1_off81 v1450 v1452) a + S1x16x512.size a ≤ S384x16x1152.size a := fun v1450 v1452 k1_hw26 => k1_hw26.2

def k1_off82 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1486 : Index := Scalar.indexCast v1375
  let c1_577 : Index := 1#32
  ![v1486.toNat, 1]
def k1_off83 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1502 : Index := Scalar.indexCast v1375
  let c2_583 : Index := 2#32
  ![v1502.toNat, 2]
def k1_mult27 (v1505 : BitVec 32) : BitVec 32 :=
  let c0_i32_587 : BitVec 32 := 0#32
  let v1509 : BitVec 1 := Scalar.cmpi .sgt v1505 c0_i32_587
  let v1510 : BitVec 32 := Scalar.extui v1509
  let c0_i32_588 : BitVec 32 := 0#32
  let v1511 : BitVec 1 := Scalar.cmpi .slt v1505 c0_i32_588
  let v1512 : BitVec 32 := Scalar.extui v1511
  let v1513 : BitVec 32 := Scalar.subi v1510 v1512
  let c128_i32_586 : BitVec 32 := 128#32
  let c0_i32_589 : BitVec 32 := 0#32
  let v1514 : BitVec 1 := Scalar.cmpi .sgt c128_i32_586 c0_i32_589
  let v1515 : BitVec 32 := Scalar.extui v1514
  let c0_i32_590 : BitVec 32 := 0#32
  let v1516 : BitVec 1 := Scalar.cmpi .slt c128_i32_586 c0_i32_590
  let v1517 : BitVec 32 := Scalar.extui v1516
  let v1518 : BitVec 32 := Scalar.subi v1515 v1517
  let v1519 : BitVec 1 := Scalar.cmpi .ne v1513 v1518
  let v1520 : BitVec 32 := Scalar.remsi v1505 c128_i32_586
  let c0_i32_591 : BitVec 32 := 0#32
  let v1521 : BitVec 1 := Scalar.cmpi .ne v1520 c0_i32_591
  let v1522 : BitVec 1 := Scalar.andi v1519 v1521
  let v1508 : BitVec 32 := Scalar.divsi v1505 c128_i32_586
  let c1_i32_592 : BitVec 32 := 1#32
  let v1523 : BitVec 32 := Scalar.subi v1508 c1_i32_592
  let v1524 : BitVec 32 := Scalar.select v1522 v1523 v1508
  let c128_i32_593 : BitVec 32 := 128#32
  let v1525 : BitVec 32 := Scalar.muli v1524 c128_i32_593
  v1525

def k1_off84 (v1503 : BitVec 32) (v1505 : BitVec 32) : Fin 3 → Nat :=
  let v1528 : Index := Scalar.indexCast v1503
  let c0_594 : Index := 0#32
  let c0_i32_587 : BitVec 32 := 0#32
  let v1509 : BitVec 1 := Scalar.cmpi .sgt v1505 c0_i32_587
  let v1510 : BitVec 32 := Scalar.extui v1509
  let c0_i32_588 : BitVec 32 := 0#32
  let v1511 : BitVec 1 := Scalar.cmpi .slt v1505 c0_i32_588
  let v1512 : BitVec 32 := Scalar.extui v1511
  let v1513 : BitVec 32 := Scalar.subi v1510 v1512
  let c128_i32_586 : BitVec 32 := 128#32
  let c0_i32_589 : BitVec 32 := 0#32
  let v1514 : BitVec 1 := Scalar.cmpi .sgt c128_i32_586 c0_i32_589
  let v1515 : BitVec 32 := Scalar.extui v1514
  let c0_i32_590 : BitVec 32 := 0#32
  let v1516 : BitVec 1 := Scalar.cmpi .slt c128_i32_586 c0_i32_590
  let v1517 : BitVec 32 := Scalar.extui v1516
  let v1518 : BitVec 32 := Scalar.subi v1515 v1517
  let v1519 : BitVec 1 := Scalar.cmpi .ne v1513 v1518
  let v1520 : BitVec 32 := Scalar.remsi v1505 c128_i32_586
  let c0_i32_591 : BitVec 32 := 0#32
  let v1521 : BitVec 1 := Scalar.cmpi .ne v1520 c0_i32_591
  let v1522 : BitVec 1 := Scalar.andi v1519 v1521
  let v1508 : BitVec 32 := Scalar.divsi v1505 c128_i32_586
  let c1_i32_592 : BitVec 32 := 1#32
  let v1523 : BitVec 32 := Scalar.subi v1508 c1_i32_592
  let v1524 : BitVec 32 := Scalar.select v1522 v1523 v1508
  let c128_i32_593 : BitVec 32 := 128#32
  let v1525 : BitVec 32 := Scalar.muli v1524 c128_i32_593
  let v1526 : BitVec 32 := v1525
  let v1529 : Index := Scalar.indexCast v1526
  ![v1528.toNat, 0, v1529.toNat]

def k1_chk27 (v1503 : BitVec 32) (v1505 : BitVec 32) : Prop :=
  (128 ∣ (k1_mult27 v1505).toNat) ∧
  (∀ a, (k1_off84 v1503 v1505) a + S1x16x512.size a ≤ S384x16x1152.size a)
theorem k1_mult27_dvd : ∀ (v1503 : BitVec 32) (v1505 : BitVec 32) (k1_hw27 : k1_chk27 v1503 v1505), 128 ∣ (k1_mult27 v1505).toNat := fun v1503 v1505 k1_hw27 => k1_hw27.1
theorem k1_off84_inb : ∀ (v1503 : BitVec 32) (v1505 : BitVec 32) (k1_hw27 : k1_chk27 v1503 v1505), ∀ a, (k1_off84 v1503 v1505) a + S1x16x512.size a ≤ S384x16x1152.size a := fun v1503 v1505 k1_hw27 => k1_hw27.2

def k1_off85 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1539 : Index := Scalar.indexCast v1375
  let c2_597 : Index := 2#32
  ![v1539.toNat, 2]
def k1_off86 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1555 : Index := Scalar.indexCast v1375
  let c3_603 : Index := 3#32
  ![v1555.toNat, 3]
def k1_mult28 (v1558 : BitVec 32) : BitVec 32 :=
  let c0_i32_607 : BitVec 32 := 0#32
  let v1562 : BitVec 1 := Scalar.cmpi .sgt v1558 c0_i32_607
  let v1563 : BitVec 32 := Scalar.extui v1562
  let c0_i32_608 : BitVec 32 := 0#32
  let v1564 : BitVec 1 := Scalar.cmpi .slt v1558 c0_i32_608
  let v1565 : BitVec 32 := Scalar.extui v1564
  let v1566 : BitVec 32 := Scalar.subi v1563 v1565
  let c128_i32_606 : BitVec 32 := 128#32
  let c0_i32_609 : BitVec 32 := 0#32
  let v1567 : BitVec 1 := Scalar.cmpi .sgt c128_i32_606 c0_i32_609
  let v1568 : BitVec 32 := Scalar.extui v1567
  let c0_i32_610 : BitVec 32 := 0#32
  let v1569 : BitVec 1 := Scalar.cmpi .slt c128_i32_606 c0_i32_610
  let v1570 : BitVec 32 := Scalar.extui v1569
  let v1571 : BitVec 32 := Scalar.subi v1568 v1570
  let v1572 : BitVec 1 := Scalar.cmpi .ne v1566 v1571
  let v1573 : BitVec 32 := Scalar.remsi v1558 c128_i32_606
  let c0_i32_611 : BitVec 32 := 0#32
  let v1574 : BitVec 1 := Scalar.cmpi .ne v1573 c0_i32_611
  let v1575 : BitVec 1 := Scalar.andi v1572 v1574
  let v1561 : BitVec 32 := Scalar.divsi v1558 c128_i32_606
  let c1_i32_612 : BitVec 32 := 1#32
  let v1576 : BitVec 32 := Scalar.subi v1561 c1_i32_612
  let v1577 : BitVec 32 := Scalar.select v1575 v1576 v1561
  let c128_i32_613 : BitVec 32 := 128#32
  let v1578 : BitVec 32 := Scalar.muli v1577 c128_i32_613
  v1578

def k1_off87 (v1556 : BitVec 32) (v1558 : BitVec 32) : Fin 3 → Nat :=
  let v1581 : Index := Scalar.indexCast v1556
  let c0_614 : Index := 0#32
  let c0_i32_607 : BitVec 32 := 0#32
  let v1562 : BitVec 1 := Scalar.cmpi .sgt v1558 c0_i32_607
  let v1563 : BitVec 32 := Scalar.extui v1562
  let c0_i32_608 : BitVec 32 := 0#32
  let v1564 : BitVec 1 := Scalar.cmpi .slt v1558 c0_i32_608
  let v1565 : BitVec 32 := Scalar.extui v1564
  let v1566 : BitVec 32 := Scalar.subi v1563 v1565
  let c128_i32_606 : BitVec 32 := 128#32
  let c0_i32_609 : BitVec 32 := 0#32
  let v1567 : BitVec 1 := Scalar.cmpi .sgt c128_i32_606 c0_i32_609
  let v1568 : BitVec 32 := Scalar.extui v1567
  let c0_i32_610 : BitVec 32 := 0#32
  let v1569 : BitVec 1 := Scalar.cmpi .slt c128_i32_606 c0_i32_610
  let v1570 : BitVec 32 := Scalar.extui v1569
  let v1571 : BitVec 32 := Scalar.subi v1568 v1570
  let v1572 : BitVec 1 := Scalar.cmpi .ne v1566 v1571
  let v1573 : BitVec 32 := Scalar.remsi v1558 c128_i32_606
  let c0_i32_611 : BitVec 32 := 0#32
  let v1574 : BitVec 1 := Scalar.cmpi .ne v1573 c0_i32_611
  let v1575 : BitVec 1 := Scalar.andi v1572 v1574
  let v1561 : BitVec 32 := Scalar.divsi v1558 c128_i32_606
  let c1_i32_612 : BitVec 32 := 1#32
  let v1576 : BitVec 32 := Scalar.subi v1561 c1_i32_612
  let v1577 : BitVec 32 := Scalar.select v1575 v1576 v1561
  let c128_i32_613 : BitVec 32 := 128#32
  let v1578 : BitVec 32 := Scalar.muli v1577 c128_i32_613
  let v1579 : BitVec 32 := v1578
  let v1582 : Index := Scalar.indexCast v1579
  ![v1581.toNat, 0, v1582.toNat]

def k1_chk28 (v1556 : BitVec 32) (v1558 : BitVec 32) : Prop :=
  (128 ∣ (k1_mult28 v1558).toNat) ∧
  (∀ a, (k1_off87 v1556 v1558) a + S1x16x512.size a ≤ S384x16x1152.size a)
theorem k1_mult28_dvd : ∀ (v1556 : BitVec 32) (v1558 : BitVec 32) (k1_hw28 : k1_chk28 v1556 v1558), 128 ∣ (k1_mult28 v1558).toNat := fun v1556 v1558 k1_hw28 => k1_hw28.1
theorem k1_off87_inb : ∀ (v1556 : BitVec 32) (v1558 : BitVec 32) (k1_hw28 : k1_chk28 v1556 v1558), ∀ a, (k1_off87 v1556 v1558) a + S1x16x512.size a ≤ S384x16x1152.size a := fun v1556 v1558 k1_hw28 => k1_hw28.2

def k1_off88 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1592 : Index := Scalar.indexCast v1375
  let c3_617 : Index := 3#32
  ![v1592.toNat, 3]
def k1_off89 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1608 : Index := Scalar.indexCast v1375
  let c4_623 : Index := 4#32
  ![v1608.toNat, 4]
def k1_mult29 (v1611 : BitVec 32) : BitVec 32 :=
  let c0_i32_627 : BitVec 32 := 0#32
  let v1615 : BitVec 1 := Scalar.cmpi .sgt v1611 c0_i32_627
  let v1616 : BitVec 32 := Scalar.extui v1615
  let c0_i32_628 : BitVec 32 := 0#32
  let v1617 : BitVec 1 := Scalar.cmpi .slt v1611 c0_i32_628
  let v1618 : BitVec 32 := Scalar.extui v1617
  let v1619 : BitVec 32 := Scalar.subi v1616 v1618
  let c128_i32_626 : BitVec 32 := 128#32
  let c0_i32_629 : BitVec 32 := 0#32
  let v1620 : BitVec 1 := Scalar.cmpi .sgt c128_i32_626 c0_i32_629
  let v1621 : BitVec 32 := Scalar.extui v1620
  let c0_i32_630 : BitVec 32 := 0#32
  let v1622 : BitVec 1 := Scalar.cmpi .slt c128_i32_626 c0_i32_630
  let v1623 : BitVec 32 := Scalar.extui v1622
  let v1624 : BitVec 32 := Scalar.subi v1621 v1623
  let v1625 : BitVec 1 := Scalar.cmpi .ne v1619 v1624
  let v1626 : BitVec 32 := Scalar.remsi v1611 c128_i32_626
  let c0_i32_631 : BitVec 32 := 0#32
  let v1627 : BitVec 1 := Scalar.cmpi .ne v1626 c0_i32_631
  let v1628 : BitVec 1 := Scalar.andi v1625 v1627
  let v1614 : BitVec 32 := Scalar.divsi v1611 c128_i32_626
  let c1_i32_632 : BitVec 32 := 1#32
  let v1629 : BitVec 32 := Scalar.subi v1614 c1_i32_632
  let v1630 : BitVec 32 := Scalar.select v1628 v1629 v1614
  let c128_i32_633 : BitVec 32 := 128#32
  let v1631 : BitVec 32 := Scalar.muli v1630 c128_i32_633
  v1631

def k1_off90 (v1609 : BitVec 32) (v1611 : BitVec 32) : Fin 3 → Nat :=
  let v1634 : Index := Scalar.indexCast v1609
  let c0_634 : Index := 0#32
  let c0_i32_627 : BitVec 32 := 0#32
  let v1615 : BitVec 1 := Scalar.cmpi .sgt v1611 c0_i32_627
  let v1616 : BitVec 32 := Scalar.extui v1615
  let c0_i32_628 : BitVec 32 := 0#32
  let v1617 : BitVec 1 := Scalar.cmpi .slt v1611 c0_i32_628
  let v1618 : BitVec 32 := Scalar.extui v1617
  let v1619 : BitVec 32 := Scalar.subi v1616 v1618
  let c128_i32_626 : BitVec 32 := 128#32
  let c0_i32_629 : BitVec 32 := 0#32
  let v1620 : BitVec 1 := Scalar.cmpi .sgt c128_i32_626 c0_i32_629
  let v1621 : BitVec 32 := Scalar.extui v1620
  let c0_i32_630 : BitVec 32 := 0#32
  let v1622 : BitVec 1 := Scalar.cmpi .slt c128_i32_626 c0_i32_630
  let v1623 : BitVec 32 := Scalar.extui v1622
  let v1624 : BitVec 32 := Scalar.subi v1621 v1623
  let v1625 : BitVec 1 := Scalar.cmpi .ne v1619 v1624
  let v1626 : BitVec 32 := Scalar.remsi v1611 c128_i32_626
  let c0_i32_631 : BitVec 32 := 0#32
  let v1627 : BitVec 1 := Scalar.cmpi .ne v1626 c0_i32_631
  let v1628 : BitVec 1 := Scalar.andi v1625 v1627
  let v1614 : BitVec 32 := Scalar.divsi v1611 c128_i32_626
  let c1_i32_632 : BitVec 32 := 1#32
  let v1629 : BitVec 32 := Scalar.subi v1614 c1_i32_632
  let v1630 : BitVec 32 := Scalar.select v1628 v1629 v1614
  let c128_i32_633 : BitVec 32 := 128#32
  let v1631 : BitVec 32 := Scalar.muli v1630 c128_i32_633
  let v1632 : BitVec 32 := v1631
  let v1635 : Index := Scalar.indexCast v1632
  ![v1634.toNat, 0, v1635.toNat]

def k1_chk29 (v1609 : BitVec 32) (v1611 : BitVec 32) : Prop :=
  (128 ∣ (k1_mult29 v1611).toNat) ∧
  (∀ a, (k1_off90 v1609 v1611) a + S1x16x512.size a ≤ S384x16x1152.size a)
theorem k1_mult29_dvd : ∀ (v1609 : BitVec 32) (v1611 : BitVec 32) (k1_hw29 : k1_chk29 v1609 v1611), 128 ∣ (k1_mult29 v1611).toNat := fun v1609 v1611 k1_hw29 => k1_hw29.1
theorem k1_off90_inb : ∀ (v1609 : BitVec 32) (v1611 : BitVec 32) (k1_hw29 : k1_chk29 v1609 v1611), ∀ a, (k1_off90 v1609 v1611) a + S1x16x512.size a ≤ S384x16x1152.size a := fun v1609 v1611 k1_hw29 => k1_hw29.2

def k1_off91 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1645 : Index := Scalar.indexCast v1375
  let c4_637 : Index := 4#32
  ![v1645.toNat, 4]
def k1_off92 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1661 : Index := Scalar.indexCast v1375
  let c5_643 : Index := 5#32
  ![v1661.toNat, 5]
def k1_mult30 (v1664 : BitVec 32) : BitVec 32 :=
  let c0_i32_647 : BitVec 32 := 0#32
  let v1668 : BitVec 1 := Scalar.cmpi .sgt v1664 c0_i32_647
  let v1669 : BitVec 32 := Scalar.extui v1668
  let c0_i32_648 : BitVec 32 := 0#32
  let v1670 : BitVec 1 := Scalar.cmpi .slt v1664 c0_i32_648
  let v1671 : BitVec 32 := Scalar.extui v1670
  let v1672 : BitVec 32 := Scalar.subi v1669 v1671
  let c128_i32_646 : BitVec 32 := 128#32
  let c0_i32_649 : BitVec 32 := 0#32
  let v1673 : BitVec 1 := Scalar.cmpi .sgt c128_i32_646 c0_i32_649
  let v1674 : BitVec 32 := Scalar.extui v1673
  let c0_i32_650 : BitVec 32 := 0#32
  let v1675 : BitVec 1 := Scalar.cmpi .slt c128_i32_646 c0_i32_650
  let v1676 : BitVec 32 := Scalar.extui v1675
  let v1677 : BitVec 32 := Scalar.subi v1674 v1676
  let v1678 : BitVec 1 := Scalar.cmpi .ne v1672 v1677
  let v1679 : BitVec 32 := Scalar.remsi v1664 c128_i32_646
  let c0_i32_651 : BitVec 32 := 0#32
  let v1680 : BitVec 1 := Scalar.cmpi .ne v1679 c0_i32_651
  let v1681 : BitVec 1 := Scalar.andi v1678 v1680
  let v1667 : BitVec 32 := Scalar.divsi v1664 c128_i32_646
  let c1_i32_652 : BitVec 32 := 1#32
  let v1682 : BitVec 32 := Scalar.subi v1667 c1_i32_652
  let v1683 : BitVec 32 := Scalar.select v1681 v1682 v1667
  let c128_i32_653 : BitVec 32 := 128#32
  let v1684 : BitVec 32 := Scalar.muli v1683 c128_i32_653
  v1684

def k1_off93 (v1662 : BitVec 32) (v1664 : BitVec 32) : Fin 3 → Nat :=
  let v1687 : Index := Scalar.indexCast v1662
  let c0_654 : Index := 0#32
  let c0_i32_647 : BitVec 32 := 0#32
  let v1668 : BitVec 1 := Scalar.cmpi .sgt v1664 c0_i32_647
  let v1669 : BitVec 32 := Scalar.extui v1668
  let c0_i32_648 : BitVec 32 := 0#32
  let v1670 : BitVec 1 := Scalar.cmpi .slt v1664 c0_i32_648
  let v1671 : BitVec 32 := Scalar.extui v1670
  let v1672 : BitVec 32 := Scalar.subi v1669 v1671
  let c128_i32_646 : BitVec 32 := 128#32
  let c0_i32_649 : BitVec 32 := 0#32
  let v1673 : BitVec 1 := Scalar.cmpi .sgt c128_i32_646 c0_i32_649
  let v1674 : BitVec 32 := Scalar.extui v1673
  let c0_i32_650 : BitVec 32 := 0#32
  let v1675 : BitVec 1 := Scalar.cmpi .slt c128_i32_646 c0_i32_650
  let v1676 : BitVec 32 := Scalar.extui v1675
  let v1677 : BitVec 32 := Scalar.subi v1674 v1676
  let v1678 : BitVec 1 := Scalar.cmpi .ne v1672 v1677
  let v1679 : BitVec 32 := Scalar.remsi v1664 c128_i32_646
  let c0_i32_651 : BitVec 32 := 0#32
  let v1680 : BitVec 1 := Scalar.cmpi .ne v1679 c0_i32_651
  let v1681 : BitVec 1 := Scalar.andi v1678 v1680
  let v1667 : BitVec 32 := Scalar.divsi v1664 c128_i32_646
  let c1_i32_652 : BitVec 32 := 1#32
  let v1682 : BitVec 32 := Scalar.subi v1667 c1_i32_652
  let v1683 : BitVec 32 := Scalar.select v1681 v1682 v1667
  let c128_i32_653 : BitVec 32 := 128#32
  let v1684 : BitVec 32 := Scalar.muli v1683 c128_i32_653
  let v1685 : BitVec 32 := v1684
  let v1688 : Index := Scalar.indexCast v1685
  ![v1687.toNat, 0, v1688.toNat]

def k1_chk30 (v1662 : BitVec 32) (v1664 : BitVec 32) : Prop :=
  (128 ∣ (k1_mult30 v1664).toNat) ∧
  (∀ a, (k1_off93 v1662 v1664) a + S1x16x512.size a ≤ S384x16x1152.size a)
theorem k1_mult30_dvd : ∀ (v1662 : BitVec 32) (v1664 : BitVec 32) (k1_hw30 : k1_chk30 v1662 v1664), 128 ∣ (k1_mult30 v1664).toNat := fun v1662 v1664 k1_hw30 => k1_hw30.1
theorem k1_off93_inb : ∀ (v1662 : BitVec 32) (v1664 : BitVec 32) (k1_hw30 : k1_chk30 v1662 v1664), ∀ a, (k1_off93 v1662 v1664) a + S1x16x512.size a ≤ S384x16x1152.size a := fun v1662 v1664 k1_hw30 => k1_hw30.2

def k1_off94 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1698 : Index := Scalar.indexCast v1375
  let c5_657 : Index := 5#32
  ![v1698.toNat, 5]
def k1_off95 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1714 : Index := Scalar.indexCast v1375
  let c6_663 : Index := 6#32
  ![v1714.toNat, 6]
def k1_mult31 (v1717 : BitVec 32) : BitVec 32 :=
  let c0_i32_667 : BitVec 32 := 0#32
  let v1721 : BitVec 1 := Scalar.cmpi .sgt v1717 c0_i32_667
  let v1722 : BitVec 32 := Scalar.extui v1721
  let c0_i32_668 : BitVec 32 := 0#32
  let v1723 : BitVec 1 := Scalar.cmpi .slt v1717 c0_i32_668
  let v1724 : BitVec 32 := Scalar.extui v1723
  let v1725 : BitVec 32 := Scalar.subi v1722 v1724
  let c128_i32_666 : BitVec 32 := 128#32
  let c0_i32_669 : BitVec 32 := 0#32
  let v1726 : BitVec 1 := Scalar.cmpi .sgt c128_i32_666 c0_i32_669
  let v1727 : BitVec 32 := Scalar.extui v1726
  let c0_i32_670 : BitVec 32 := 0#32
  let v1728 : BitVec 1 := Scalar.cmpi .slt c128_i32_666 c0_i32_670
  let v1729 : BitVec 32 := Scalar.extui v1728
  let v1730 : BitVec 32 := Scalar.subi v1727 v1729
  let v1731 : BitVec 1 := Scalar.cmpi .ne v1725 v1730
  let v1732 : BitVec 32 := Scalar.remsi v1717 c128_i32_666
  let c0_i32_671 : BitVec 32 := 0#32
  let v1733 : BitVec 1 := Scalar.cmpi .ne v1732 c0_i32_671
  let v1734 : BitVec 1 := Scalar.andi v1731 v1733
  let v1720 : BitVec 32 := Scalar.divsi v1717 c128_i32_666
  let c1_i32_672 : BitVec 32 := 1#32
  let v1735 : BitVec 32 := Scalar.subi v1720 c1_i32_672
  let v1736 : BitVec 32 := Scalar.select v1734 v1735 v1720
  let c128_i32_673 : BitVec 32 := 128#32
  let v1737 : BitVec 32 := Scalar.muli v1736 c128_i32_673
  v1737

def k1_off96 (v1715 : BitVec 32) (v1717 : BitVec 32) : Fin 3 → Nat :=
  let v1740 : Index := Scalar.indexCast v1715
  let c0_674 : Index := 0#32
  let c0_i32_667 : BitVec 32 := 0#32
  let v1721 : BitVec 1 := Scalar.cmpi .sgt v1717 c0_i32_667
  let v1722 : BitVec 32 := Scalar.extui v1721
  let c0_i32_668 : BitVec 32 := 0#32
  let v1723 : BitVec 1 := Scalar.cmpi .slt v1717 c0_i32_668
  let v1724 : BitVec 32 := Scalar.extui v1723
  let v1725 : BitVec 32 := Scalar.subi v1722 v1724
  let c128_i32_666 : BitVec 32 := 128#32
  let c0_i32_669 : BitVec 32 := 0#32
  let v1726 : BitVec 1 := Scalar.cmpi .sgt c128_i32_666 c0_i32_669
  let v1727 : BitVec 32 := Scalar.extui v1726
  let c0_i32_670 : BitVec 32 := 0#32
  let v1728 : BitVec 1 := Scalar.cmpi .slt c128_i32_666 c0_i32_670
  let v1729 : BitVec 32 := Scalar.extui v1728
  let v1730 : BitVec 32 := Scalar.subi v1727 v1729
  let v1731 : BitVec 1 := Scalar.cmpi .ne v1725 v1730
  let v1732 : BitVec 32 := Scalar.remsi v1717 c128_i32_666
  let c0_i32_671 : BitVec 32 := 0#32
  let v1733 : BitVec 1 := Scalar.cmpi .ne v1732 c0_i32_671
  let v1734 : BitVec 1 := Scalar.andi v1731 v1733
  let v1720 : BitVec 32 := Scalar.divsi v1717 c128_i32_666
  let c1_i32_672 : BitVec 32 := 1#32
  let v1735 : BitVec 32 := Scalar.subi v1720 c1_i32_672
  let v1736 : BitVec 32 := Scalar.select v1734 v1735 v1720
  let c128_i32_673 : BitVec 32 := 128#32
  let v1737 : BitVec 32 := Scalar.muli v1736 c128_i32_673
  let v1738 : BitVec 32 := v1737
  let v1741 : Index := Scalar.indexCast v1738
  ![v1740.toNat, 0, v1741.toNat]

def k1_chk31 (v1715 : BitVec 32) (v1717 : BitVec 32) : Prop :=
  (128 ∣ (k1_mult31 v1717).toNat) ∧
  (∀ a, (k1_off96 v1715 v1717) a + S1x16x512.size a ≤ S384x16x1152.size a)
theorem k1_mult31_dvd : ∀ (v1715 : BitVec 32) (v1717 : BitVec 32) (k1_hw31 : k1_chk31 v1715 v1717), 128 ∣ (k1_mult31 v1717).toNat := fun v1715 v1717 k1_hw31 => k1_hw31.1
theorem k1_off96_inb : ∀ (v1715 : BitVec 32) (v1717 : BitVec 32) (k1_hw31 : k1_chk31 v1715 v1717), ∀ a, (k1_off96 v1715 v1717) a + S1x16x512.size a ≤ S384x16x1152.size a := fun v1715 v1717 k1_hw31 => k1_hw31.2

def k1_off97 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1751 : Index := Scalar.indexCast v1375
  let c6_677 : Index := 6#32
  ![v1751.toNat, 6]
def k1_off98 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1767 : Index := Scalar.indexCast v1375
  let c7_683 : Index := 7#32
  ![v1767.toNat, 7]
def k1_mult32 (v1770 : BitVec 32) : BitVec 32 :=
  let c0_i32_687 : BitVec 32 := 0#32
  let v1774 : BitVec 1 := Scalar.cmpi .sgt v1770 c0_i32_687
  let v1775 : BitVec 32 := Scalar.extui v1774
  let c0_i32_688 : BitVec 32 := 0#32
  let v1776 : BitVec 1 := Scalar.cmpi .slt v1770 c0_i32_688
  let v1777 : BitVec 32 := Scalar.extui v1776
  let v1778 : BitVec 32 := Scalar.subi v1775 v1777
  let c128_i32_686 : BitVec 32 := 128#32
  let c0_i32_689 : BitVec 32 := 0#32
  let v1779 : BitVec 1 := Scalar.cmpi .sgt c128_i32_686 c0_i32_689
  let v1780 : BitVec 32 := Scalar.extui v1779
  let c0_i32_690 : BitVec 32 := 0#32
  let v1781 : BitVec 1 := Scalar.cmpi .slt c128_i32_686 c0_i32_690
  let v1782 : BitVec 32 := Scalar.extui v1781
  let v1783 : BitVec 32 := Scalar.subi v1780 v1782
  let v1784 : BitVec 1 := Scalar.cmpi .ne v1778 v1783
  let v1785 : BitVec 32 := Scalar.remsi v1770 c128_i32_686
  let c0_i32_691 : BitVec 32 := 0#32
  let v1786 : BitVec 1 := Scalar.cmpi .ne v1785 c0_i32_691
  let v1787 : BitVec 1 := Scalar.andi v1784 v1786
  let v1773 : BitVec 32 := Scalar.divsi v1770 c128_i32_686
  let c1_i32_692 : BitVec 32 := 1#32
  let v1788 : BitVec 32 := Scalar.subi v1773 c1_i32_692
  let v1789 : BitVec 32 := Scalar.select v1787 v1788 v1773
  let c128_i32_693 : BitVec 32 := 128#32
  let v1790 : BitVec 32 := Scalar.muli v1789 c128_i32_693
  v1790

def k1_off99 (v1768 : BitVec 32) (v1770 : BitVec 32) : Fin 3 → Nat :=
  let v1793 : Index := Scalar.indexCast v1768
  let c0_694 : Index := 0#32
  let c0_i32_687 : BitVec 32 := 0#32
  let v1774 : BitVec 1 := Scalar.cmpi .sgt v1770 c0_i32_687
  let v1775 : BitVec 32 := Scalar.extui v1774
  let c0_i32_688 : BitVec 32 := 0#32
  let v1776 : BitVec 1 := Scalar.cmpi .slt v1770 c0_i32_688
  let v1777 : BitVec 32 := Scalar.extui v1776
  let v1778 : BitVec 32 := Scalar.subi v1775 v1777
  let c128_i32_686 : BitVec 32 := 128#32
  let c0_i32_689 : BitVec 32 := 0#32
  let v1779 : BitVec 1 := Scalar.cmpi .sgt c128_i32_686 c0_i32_689
  let v1780 : BitVec 32 := Scalar.extui v1779
  let c0_i32_690 : BitVec 32 := 0#32
  let v1781 : BitVec 1 := Scalar.cmpi .slt c128_i32_686 c0_i32_690
  let v1782 : BitVec 32 := Scalar.extui v1781
  let v1783 : BitVec 32 := Scalar.subi v1780 v1782
  let v1784 : BitVec 1 := Scalar.cmpi .ne v1778 v1783
  let v1785 : BitVec 32 := Scalar.remsi v1770 c128_i32_686
  let c0_i32_691 : BitVec 32 := 0#32
  let v1786 : BitVec 1 := Scalar.cmpi .ne v1785 c0_i32_691
  let v1787 : BitVec 1 := Scalar.andi v1784 v1786
  let v1773 : BitVec 32 := Scalar.divsi v1770 c128_i32_686
  let c1_i32_692 : BitVec 32 := 1#32
  let v1788 : BitVec 32 := Scalar.subi v1773 c1_i32_692
  let v1789 : BitVec 32 := Scalar.select v1787 v1788 v1773
  let c128_i32_693 : BitVec 32 := 128#32
  let v1790 : BitVec 32 := Scalar.muli v1789 c128_i32_693
  let v1791 : BitVec 32 := v1790
  let v1794 : Index := Scalar.indexCast v1791
  ![v1793.toNat, 0, v1794.toNat]

def k1_chk32 (v1768 : BitVec 32) (v1770 : BitVec 32) : Prop :=
  (128 ∣ (k1_mult32 v1770).toNat) ∧
  (∀ a, (k1_off99 v1768 v1770) a + S1x16x512.size a ≤ S384x16x1152.size a)
theorem k1_mult32_dvd : ∀ (v1768 : BitVec 32) (v1770 : BitVec 32) (k1_hw32 : k1_chk32 v1768 v1770), 128 ∣ (k1_mult32 v1770).toNat := fun v1768 v1770 k1_hw32 => k1_hw32.1
theorem k1_off99_inb : ∀ (v1768 : BitVec 32) (v1770 : BitVec 32) (k1_hw32 : k1_chk32 v1768 v1770), ∀ a, (k1_off99 v1768 v1770) a + S1x16x512.size a ≤ S384x16x1152.size a := fun v1768 v1770 k1_hw32 => k1_hw32.2

def k1_off100 (i : grid1.Coords) : Fin 2 → Nat :=
  let arg0 : BitVec 32 := BitVec.ofNat 32 (i 0).val
  let c48_i32_531 : BitVec 32 := 48#32
  let v1374 : BitVec 32 := Scalar.muli arg0 c48_i32_531
  let c3_i32 : BitVec 32 := 3#32
  let v1375 : BitVec 32 := Scalar.addi v1374 c3_i32
  let v1804 : Index := Scalar.indexCast v1375
  let c7_697 : Index := 7#32
  ![v1804.toNat, 7]
def k1_off101 (i : grid1.Coords) : Fin 3 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1833 : Index := Scalar.indexCast v1832
  let c0_713 : Index := 0#32
  let c720_714 : Index := 720#32
  ![v1833.toNat, 0, 720]
def k1_off102 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1853 : Index := Scalar.indexCast v1832
  let c0_724 : Index := 0#32
  ![v1853.toNat, 0]
def k1_mult33 (v1856 : BitVec 32) : BitVec 32 :=
  let c0_i32_728 : BitVec 32 := 0#32
  let v1860 : BitVec 1 := Scalar.cmpi .sgt v1856 c0_i32_728
  let v1861 : BitVec 32 := Scalar.extui v1860
  let c0_i32_729 : BitVec 32 := 0#32
  let v1862 : BitVec 1 := Scalar.cmpi .slt v1856 c0_i32_729
  let v1863 : BitVec 32 := Scalar.extui v1862
  let v1864 : BitVec 32 := Scalar.subi v1861 v1863
  let c128_i32_727 : BitVec 32 := 128#32
  let c0_i32_730 : BitVec 32 := 0#32
  let v1865 : BitVec 1 := Scalar.cmpi .sgt c128_i32_727 c0_i32_730
  let v1866 : BitVec 32 := Scalar.extui v1865
  let c0_i32_731 : BitVec 32 := 0#32
  let v1867 : BitVec 1 := Scalar.cmpi .slt c128_i32_727 c0_i32_731
  let v1868 : BitVec 32 := Scalar.extui v1867
  let v1869 : BitVec 32 := Scalar.subi v1866 v1868
  let v1870 : BitVec 1 := Scalar.cmpi .ne v1864 v1869
  let v1871 : BitVec 32 := Scalar.remsi v1856 c128_i32_727
  let c0_i32_732 : BitVec 32 := 0#32
  let v1872 : BitVec 1 := Scalar.cmpi .ne v1871 c0_i32_732
  let v1873 : BitVec 1 := Scalar.andi v1870 v1872
  let v1859 : BitVec 32 := Scalar.divsi v1856 c128_i32_727
  let c1_i32_733 : BitVec 32 := 1#32
  let v1874 : BitVec 32 := Scalar.subi v1859 c1_i32_733
  let v1875 : BitVec 32 := Scalar.select v1873 v1874 v1859
  let c128_i32_734 : BitVec 32 := 128#32
  let v1876 : BitVec 32 := Scalar.muli v1875 c128_i32_734
  v1876

def k1_off103 (v1854 : BitVec 32) (v1856 : BitVec 32) : Fin 3 → Nat :=
  let v1879 : Index := Scalar.indexCast v1854
  let c0_735 : Index := 0#32
  let c0_i32_728 : BitVec 32 := 0#32
  let v1860 : BitVec 1 := Scalar.cmpi .sgt v1856 c0_i32_728
  let v1861 : BitVec 32 := Scalar.extui v1860
  let c0_i32_729 : BitVec 32 := 0#32
  let v1862 : BitVec 1 := Scalar.cmpi .slt v1856 c0_i32_729
  let v1863 : BitVec 32 := Scalar.extui v1862
  let v1864 : BitVec 32 := Scalar.subi v1861 v1863
  let c128_i32_727 : BitVec 32 := 128#32
  let c0_i32_730 : BitVec 32 := 0#32
  let v1865 : BitVec 1 := Scalar.cmpi .sgt c128_i32_727 c0_i32_730
  let v1866 : BitVec 32 := Scalar.extui v1865
  let c0_i32_731 : BitVec 32 := 0#32
  let v1867 : BitVec 1 := Scalar.cmpi .slt c128_i32_727 c0_i32_731
  let v1868 : BitVec 32 := Scalar.extui v1867
  let v1869 : BitVec 32 := Scalar.subi v1866 v1868
  let v1870 : BitVec 1 := Scalar.cmpi .ne v1864 v1869
  let v1871 : BitVec 32 := Scalar.remsi v1856 c128_i32_727
  let c0_i32_732 : BitVec 32 := 0#32
  let v1872 : BitVec 1 := Scalar.cmpi .ne v1871 c0_i32_732
  let v1873 : BitVec 1 := Scalar.andi v1870 v1872
  let v1859 : BitVec 32 := Scalar.divsi v1856 c128_i32_727
  let c1_i32_733 : BitVec 32 := 1#32
  let v1874 : BitVec 32 := Scalar.subi v1859 c1_i32_733
  let v1875 : BitVec 32 := Scalar.select v1873 v1874 v1859
  let c128_i32_734 : BitVec 32 := 128#32
  let v1876 : BitVec 32 := Scalar.muli v1875 c128_i32_734
  let v1877 : BitVec 32 := v1876
  let v1880 : Index := Scalar.indexCast v1877
  ![v1879.toNat, 0, v1880.toNat]

def k1_chk33 (v1854 : BitVec 32) (v1856 : BitVec 32) : Prop :=
  (128 ∣ (k1_mult33 v1856).toNat) ∧
  (∀ a, (k1_off103 v1854 v1856) a + S1x16x512.size a ≤ S384x16x1152.size a)
theorem k1_mult33_dvd : ∀ (v1854 : BitVec 32) (v1856 : BitVec 32) (k1_hw33 : k1_chk33 v1854 v1856), 128 ∣ (k1_mult33 v1856).toNat := fun v1854 v1856 k1_hw33 => k1_hw33.1
theorem k1_off103_inb : ∀ (v1854 : BitVec 32) (v1856 : BitVec 32) (k1_hw33 : k1_chk33 v1854 v1856), ∀ a, (k1_off103 v1854 v1856) a + S1x16x512.size a ≤ S384x16x1152.size a := fun v1854 v1856 k1_hw33 => k1_hw33.2

def k1_off104 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1890 : Index := Scalar.indexCast v1832
  let c0_738 : Index := 0#32
  ![v1890.toNat, 0]
def k1_off105 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1906 : Index := Scalar.indexCast v1832
  let c1_744 : Index := 1#32
  ![v1906.toNat, 1]
def k1_mult34 (v1909 : BitVec 32) : BitVec 32 :=
  let c0_i32_748 : BitVec 32 := 0#32
  let v1913 : BitVec 1 := Scalar.cmpi .sgt v1909 c0_i32_748
  let v1914 : BitVec 32 := Scalar.extui v1913
  let c0_i32_749 : BitVec 32 := 0#32
  let v1915 : BitVec 1 := Scalar.cmpi .slt v1909 c0_i32_749
  let v1916 : BitVec 32 := Scalar.extui v1915
  let v1917 : BitVec 32 := Scalar.subi v1914 v1916
  let c128_i32_747 : BitVec 32 := 128#32
  let c0_i32_750 : BitVec 32 := 0#32
  let v1918 : BitVec 1 := Scalar.cmpi .sgt c128_i32_747 c0_i32_750
  let v1919 : BitVec 32 := Scalar.extui v1918
  let c0_i32_751 : BitVec 32 := 0#32
  let v1920 : BitVec 1 := Scalar.cmpi .slt c128_i32_747 c0_i32_751
  let v1921 : BitVec 32 := Scalar.extui v1920
  let v1922 : BitVec 32 := Scalar.subi v1919 v1921
  let v1923 : BitVec 1 := Scalar.cmpi .ne v1917 v1922
  let v1924 : BitVec 32 := Scalar.remsi v1909 c128_i32_747
  let c0_i32_752 : BitVec 32 := 0#32
  let v1925 : BitVec 1 := Scalar.cmpi .ne v1924 c0_i32_752
  let v1926 : BitVec 1 := Scalar.andi v1923 v1925
  let v1912 : BitVec 32 := Scalar.divsi v1909 c128_i32_747
  let c1_i32_753 : BitVec 32 := 1#32
  let v1927 : BitVec 32 := Scalar.subi v1912 c1_i32_753
  let v1928 : BitVec 32 := Scalar.select v1926 v1927 v1912
  let c128_i32_754 : BitVec 32 := 128#32
  let v1929 : BitVec 32 := Scalar.muli v1928 c128_i32_754
  v1929

def k1_off106 (v1907 : BitVec 32) (v1909 : BitVec 32) : Fin 3 → Nat :=
  let v1932 : Index := Scalar.indexCast v1907
  let c0_755 : Index := 0#32
  let c0_i32_748 : BitVec 32 := 0#32
  let v1913 : BitVec 1 := Scalar.cmpi .sgt v1909 c0_i32_748
  let v1914 : BitVec 32 := Scalar.extui v1913
  let c0_i32_749 : BitVec 32 := 0#32
  let v1915 : BitVec 1 := Scalar.cmpi .slt v1909 c0_i32_749
  let v1916 : BitVec 32 := Scalar.extui v1915
  let v1917 : BitVec 32 := Scalar.subi v1914 v1916
  let c128_i32_747 : BitVec 32 := 128#32
  let c0_i32_750 : BitVec 32 := 0#32
  let v1918 : BitVec 1 := Scalar.cmpi .sgt c128_i32_747 c0_i32_750
  let v1919 : BitVec 32 := Scalar.extui v1918
  let c0_i32_751 : BitVec 32 := 0#32
  let v1920 : BitVec 1 := Scalar.cmpi .slt c128_i32_747 c0_i32_751
  let v1921 : BitVec 32 := Scalar.extui v1920
  let v1922 : BitVec 32 := Scalar.subi v1919 v1921
  let v1923 : BitVec 1 := Scalar.cmpi .ne v1917 v1922
  let v1924 : BitVec 32 := Scalar.remsi v1909 c128_i32_747
  let c0_i32_752 : BitVec 32 := 0#32
  let v1925 : BitVec 1 := Scalar.cmpi .ne v1924 c0_i32_752
  let v1926 : BitVec 1 := Scalar.andi v1923 v1925
  let v1912 : BitVec 32 := Scalar.divsi v1909 c128_i32_747
  let c1_i32_753 : BitVec 32 := 1#32
  let v1927 : BitVec 32 := Scalar.subi v1912 c1_i32_753
  let v1928 : BitVec 32 := Scalar.select v1926 v1927 v1912
  let c128_i32_754 : BitVec 32 := 128#32
  let v1929 : BitVec 32 := Scalar.muli v1928 c128_i32_754
  let v1930 : BitVec 32 := v1929
  let v1933 : Index := Scalar.indexCast v1930
  ![v1932.toNat, 0, v1933.toNat]

def k1_chk34 (v1907 : BitVec 32) (v1909 : BitVec 32) : Prop :=
  (128 ∣ (k1_mult34 v1909).toNat) ∧
  (∀ a, (k1_off106 v1907 v1909) a + S1x16x512.size a ≤ S384x16x1152.size a)
theorem k1_mult34_dvd : ∀ (v1907 : BitVec 32) (v1909 : BitVec 32) (k1_hw34 : k1_chk34 v1907 v1909), 128 ∣ (k1_mult34 v1909).toNat := fun v1907 v1909 k1_hw34 => k1_hw34.1
theorem k1_off106_inb : ∀ (v1907 : BitVec 32) (v1909 : BitVec 32) (k1_hw34 : k1_chk34 v1907 v1909), ∀ a, (k1_off106 v1907 v1909) a + S1x16x512.size a ≤ S384x16x1152.size a := fun v1907 v1909 k1_hw34 => k1_hw34.2

def k1_off107 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1943 : Index := Scalar.indexCast v1832
  let c1_758 : Index := 1#32
  ![v1943.toNat, 1]
def k1_off108 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1959 : Index := Scalar.indexCast v1832
  let c2_764 : Index := 2#32
  ![v1959.toNat, 2]
def k1_mult35 (v1962 : BitVec 32) : BitVec 32 :=
  let c0_i32_768 : BitVec 32 := 0#32
  let v1966 : BitVec 1 := Scalar.cmpi .sgt v1962 c0_i32_768
  let v1967 : BitVec 32 := Scalar.extui v1966
  let c0_i32_769 : BitVec 32 := 0#32
  let v1968 : BitVec 1 := Scalar.cmpi .slt v1962 c0_i32_769
  let v1969 : BitVec 32 := Scalar.extui v1968
  let v1970 : BitVec 32 := Scalar.subi v1967 v1969
  let c128_i32_767 : BitVec 32 := 128#32
  let c0_i32_770 : BitVec 32 := 0#32
  let v1971 : BitVec 1 := Scalar.cmpi .sgt c128_i32_767 c0_i32_770
  let v1972 : BitVec 32 := Scalar.extui v1971
  let c0_i32_771 : BitVec 32 := 0#32
  let v1973 : BitVec 1 := Scalar.cmpi .slt c128_i32_767 c0_i32_771
  let v1974 : BitVec 32 := Scalar.extui v1973
  let v1975 : BitVec 32 := Scalar.subi v1972 v1974
  let v1976 : BitVec 1 := Scalar.cmpi .ne v1970 v1975
  let v1977 : BitVec 32 := Scalar.remsi v1962 c128_i32_767
  let c0_i32_772 : BitVec 32 := 0#32
  let v1978 : BitVec 1 := Scalar.cmpi .ne v1977 c0_i32_772
  let v1979 : BitVec 1 := Scalar.andi v1976 v1978
  let v1965 : BitVec 32 := Scalar.divsi v1962 c128_i32_767
  let c1_i32_773 : BitVec 32 := 1#32
  let v1980 : BitVec 32 := Scalar.subi v1965 c1_i32_773
  let v1981 : BitVec 32 := Scalar.select v1979 v1980 v1965
  let c128_i32_774 : BitVec 32 := 128#32
  let v1982 : BitVec 32 := Scalar.muli v1981 c128_i32_774
  v1982

def k1_off109 (v1960 : BitVec 32) (v1962 : BitVec 32) : Fin 3 → Nat :=
  let v1985 : Index := Scalar.indexCast v1960
  let c0_775 : Index := 0#32
  let c0_i32_768 : BitVec 32 := 0#32
  let v1966 : BitVec 1 := Scalar.cmpi .sgt v1962 c0_i32_768
  let v1967 : BitVec 32 := Scalar.extui v1966
  let c0_i32_769 : BitVec 32 := 0#32
  let v1968 : BitVec 1 := Scalar.cmpi .slt v1962 c0_i32_769
  let v1969 : BitVec 32 := Scalar.extui v1968
  let v1970 : BitVec 32 := Scalar.subi v1967 v1969
  let c128_i32_767 : BitVec 32 := 128#32
  let c0_i32_770 : BitVec 32 := 0#32
  let v1971 : BitVec 1 := Scalar.cmpi .sgt c128_i32_767 c0_i32_770
  let v1972 : BitVec 32 := Scalar.extui v1971
  let c0_i32_771 : BitVec 32 := 0#32
  let v1973 : BitVec 1 := Scalar.cmpi .slt c128_i32_767 c0_i32_771
  let v1974 : BitVec 32 := Scalar.extui v1973
  let v1975 : BitVec 32 := Scalar.subi v1972 v1974
  let v1976 : BitVec 1 := Scalar.cmpi .ne v1970 v1975
  let v1977 : BitVec 32 := Scalar.remsi v1962 c128_i32_767
  let c0_i32_772 : BitVec 32 := 0#32
  let v1978 : BitVec 1 := Scalar.cmpi .ne v1977 c0_i32_772
  let v1979 : BitVec 1 := Scalar.andi v1976 v1978
  let v1965 : BitVec 32 := Scalar.divsi v1962 c128_i32_767
  let c1_i32_773 : BitVec 32 := 1#32
  let v1980 : BitVec 32 := Scalar.subi v1965 c1_i32_773
  let v1981 : BitVec 32 := Scalar.select v1979 v1980 v1965
  let c128_i32_774 : BitVec 32 := 128#32
  let v1982 : BitVec 32 := Scalar.muli v1981 c128_i32_774
  let v1983 : BitVec 32 := v1982
  let v1986 : Index := Scalar.indexCast v1983
  ![v1985.toNat, 0, v1986.toNat]

def k1_chk35 (v1960 : BitVec 32) (v1962 : BitVec 32) : Prop :=
  (128 ∣ (k1_mult35 v1962).toNat) ∧
  (∀ a, (k1_off109 v1960 v1962) a + S1x16x512.size a ≤ S384x16x1152.size a)
theorem k1_mult35_dvd : ∀ (v1960 : BitVec 32) (v1962 : BitVec 32) (k1_hw35 : k1_chk35 v1960 v1962), 128 ∣ (k1_mult35 v1962).toNat := fun v1960 v1962 k1_hw35 => k1_hw35.1
theorem k1_off109_inb : ∀ (v1960 : BitVec 32) (v1962 : BitVec 32) (k1_hw35 : k1_chk35 v1960 v1962), ∀ a, (k1_off109 v1960 v1962) a + S1x16x512.size a ≤ S384x16x1152.size a := fun v1960 v1962 k1_hw35 => k1_hw35.2

def k1_off110 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v1996 : Index := Scalar.indexCast v1832
  let c2_778 : Index := 2#32
  ![v1996.toNat, 2]
def k1_off111 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2012 : Index := Scalar.indexCast v1832
  let c3_784 : Index := 3#32
  ![v2012.toNat, 3]
def k1_mult36 (v2015 : BitVec 32) : BitVec 32 :=
  let c0_i32_788 : BitVec 32 := 0#32
  let v2019 : BitVec 1 := Scalar.cmpi .sgt v2015 c0_i32_788
  let v2020 : BitVec 32 := Scalar.extui v2019
  let c0_i32_789 : BitVec 32 := 0#32
  let v2021 : BitVec 1 := Scalar.cmpi .slt v2015 c0_i32_789
  let v2022 : BitVec 32 := Scalar.extui v2021
  let v2023 : BitVec 32 := Scalar.subi v2020 v2022
  let c128_i32_787 : BitVec 32 := 128#32
  let c0_i32_790 : BitVec 32 := 0#32
  let v2024 : BitVec 1 := Scalar.cmpi .sgt c128_i32_787 c0_i32_790
  let v2025 : BitVec 32 := Scalar.extui v2024
  let c0_i32_791 : BitVec 32 := 0#32
  let v2026 : BitVec 1 := Scalar.cmpi .slt c128_i32_787 c0_i32_791
  let v2027 : BitVec 32 := Scalar.extui v2026
  let v2028 : BitVec 32 := Scalar.subi v2025 v2027
  let v2029 : BitVec 1 := Scalar.cmpi .ne v2023 v2028
  let v2030 : BitVec 32 := Scalar.remsi v2015 c128_i32_787
  let c0_i32_792 : BitVec 32 := 0#32
  let v2031 : BitVec 1 := Scalar.cmpi .ne v2030 c0_i32_792
  let v2032 : BitVec 1 := Scalar.andi v2029 v2031
  let v2018 : BitVec 32 := Scalar.divsi v2015 c128_i32_787
  let c1_i32_793 : BitVec 32 := 1#32
  let v2033 : BitVec 32 := Scalar.subi v2018 c1_i32_793
  let v2034 : BitVec 32 := Scalar.select v2032 v2033 v2018
  let c128_i32_794 : BitVec 32 := 128#32
  let v2035 : BitVec 32 := Scalar.muli v2034 c128_i32_794
  v2035

def k1_off112 (v2013 : BitVec 32) (v2015 : BitVec 32) : Fin 3 → Nat :=
  let v2038 : Index := Scalar.indexCast v2013
  let c0_795 : Index := 0#32
  let c0_i32_788 : BitVec 32 := 0#32
  let v2019 : BitVec 1 := Scalar.cmpi .sgt v2015 c0_i32_788
  let v2020 : BitVec 32 := Scalar.extui v2019
  let c0_i32_789 : BitVec 32 := 0#32
  let v2021 : BitVec 1 := Scalar.cmpi .slt v2015 c0_i32_789
  let v2022 : BitVec 32 := Scalar.extui v2021
  let v2023 : BitVec 32 := Scalar.subi v2020 v2022
  let c128_i32_787 : BitVec 32 := 128#32
  let c0_i32_790 : BitVec 32 := 0#32
  let v2024 : BitVec 1 := Scalar.cmpi .sgt c128_i32_787 c0_i32_790
  let v2025 : BitVec 32 := Scalar.extui v2024
  let c0_i32_791 : BitVec 32 := 0#32
  let v2026 : BitVec 1 := Scalar.cmpi .slt c128_i32_787 c0_i32_791
  let v2027 : BitVec 32 := Scalar.extui v2026
  let v2028 : BitVec 32 := Scalar.subi v2025 v2027
  let v2029 : BitVec 1 := Scalar.cmpi .ne v2023 v2028
  let v2030 : BitVec 32 := Scalar.remsi v2015 c128_i32_787
  let c0_i32_792 : BitVec 32 := 0#32
  let v2031 : BitVec 1 := Scalar.cmpi .ne v2030 c0_i32_792
  let v2032 : BitVec 1 := Scalar.andi v2029 v2031
  let v2018 : BitVec 32 := Scalar.divsi v2015 c128_i32_787
  let c1_i32_793 : BitVec 32 := 1#32
  let v2033 : BitVec 32 := Scalar.subi v2018 c1_i32_793
  let v2034 : BitVec 32 := Scalar.select v2032 v2033 v2018
  let c128_i32_794 : BitVec 32 := 128#32
  let v2035 : BitVec 32 := Scalar.muli v2034 c128_i32_794
  let v2036 : BitVec 32 := v2035
  let v2039 : Index := Scalar.indexCast v2036
  ![v2038.toNat, 0, v2039.toNat]

def k1_chk36 (v2013 : BitVec 32) (v2015 : BitVec 32) : Prop :=
  (128 ∣ (k1_mult36 v2015).toNat) ∧
  (∀ a, (k1_off112 v2013 v2015) a + S1x16x512.size a ≤ S384x16x1152.size a)
theorem k1_mult36_dvd : ∀ (v2013 : BitVec 32) (v2015 : BitVec 32) (k1_hw36 : k1_chk36 v2013 v2015), 128 ∣ (k1_mult36 v2015).toNat := fun v2013 v2015 k1_hw36 => k1_hw36.1
theorem k1_off112_inb : ∀ (v2013 : BitVec 32) (v2015 : BitVec 32) (k1_hw36 : k1_chk36 v2013 v2015), ∀ a, (k1_off112 v2013 v2015) a + S1x16x512.size a ≤ S384x16x1152.size a := fun v2013 v2015 k1_hw36 => k1_hw36.2

def k1_off113 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2049 : Index := Scalar.indexCast v1832
  let c3_798 : Index := 3#32
  ![v2049.toNat, 3]
def k1_off114 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2065 : Index := Scalar.indexCast v1832
  let c4_804 : Index := 4#32
  ![v2065.toNat, 4]
def k1_mult37 (v2068 : BitVec 32) : BitVec 32 :=
  let c0_i32_808 : BitVec 32 := 0#32
  let v2072 : BitVec 1 := Scalar.cmpi .sgt v2068 c0_i32_808
  let v2073 : BitVec 32 := Scalar.extui v2072
  let c0_i32_809 : BitVec 32 := 0#32
  let v2074 : BitVec 1 := Scalar.cmpi .slt v2068 c0_i32_809
  let v2075 : BitVec 32 := Scalar.extui v2074
  let v2076 : BitVec 32 := Scalar.subi v2073 v2075
  let c128_i32_807 : BitVec 32 := 128#32
  let c0_i32_810 : BitVec 32 := 0#32
  let v2077 : BitVec 1 := Scalar.cmpi .sgt c128_i32_807 c0_i32_810
  let v2078 : BitVec 32 := Scalar.extui v2077
  let c0_i32_811 : BitVec 32 := 0#32
  let v2079 : BitVec 1 := Scalar.cmpi .slt c128_i32_807 c0_i32_811
  let v2080 : BitVec 32 := Scalar.extui v2079
  let v2081 : BitVec 32 := Scalar.subi v2078 v2080
  let v2082 : BitVec 1 := Scalar.cmpi .ne v2076 v2081
  let v2083 : BitVec 32 := Scalar.remsi v2068 c128_i32_807
  let c0_i32_812 : BitVec 32 := 0#32
  let v2084 : BitVec 1 := Scalar.cmpi .ne v2083 c0_i32_812
  let v2085 : BitVec 1 := Scalar.andi v2082 v2084
  let v2071 : BitVec 32 := Scalar.divsi v2068 c128_i32_807
  let c1_i32_813 : BitVec 32 := 1#32
  let v2086 : BitVec 32 := Scalar.subi v2071 c1_i32_813
  let v2087 : BitVec 32 := Scalar.select v2085 v2086 v2071
  let c128_i32_814 : BitVec 32 := 128#32
  let v2088 : BitVec 32 := Scalar.muli v2087 c128_i32_814
  v2088

def k1_off115 (v2066 : BitVec 32) (v2068 : BitVec 32) : Fin 3 → Nat :=
  let v2091 : Index := Scalar.indexCast v2066
  let c0_815 : Index := 0#32
  let c0_i32_808 : BitVec 32 := 0#32
  let v2072 : BitVec 1 := Scalar.cmpi .sgt v2068 c0_i32_808
  let v2073 : BitVec 32 := Scalar.extui v2072
  let c0_i32_809 : BitVec 32 := 0#32
  let v2074 : BitVec 1 := Scalar.cmpi .slt v2068 c0_i32_809
  let v2075 : BitVec 32 := Scalar.extui v2074
  let v2076 : BitVec 32 := Scalar.subi v2073 v2075
  let c128_i32_807 : BitVec 32 := 128#32
  let c0_i32_810 : BitVec 32 := 0#32
  let v2077 : BitVec 1 := Scalar.cmpi .sgt c128_i32_807 c0_i32_810
  let v2078 : BitVec 32 := Scalar.extui v2077
  let c0_i32_811 : BitVec 32 := 0#32
  let v2079 : BitVec 1 := Scalar.cmpi .slt c128_i32_807 c0_i32_811
  let v2080 : BitVec 32 := Scalar.extui v2079
  let v2081 : BitVec 32 := Scalar.subi v2078 v2080
  let v2082 : BitVec 1 := Scalar.cmpi .ne v2076 v2081
  let v2083 : BitVec 32 := Scalar.remsi v2068 c128_i32_807
  let c0_i32_812 : BitVec 32 := 0#32
  let v2084 : BitVec 1 := Scalar.cmpi .ne v2083 c0_i32_812
  let v2085 : BitVec 1 := Scalar.andi v2082 v2084
  let v2071 : BitVec 32 := Scalar.divsi v2068 c128_i32_807
  let c1_i32_813 : BitVec 32 := 1#32
  let v2086 : BitVec 32 := Scalar.subi v2071 c1_i32_813
  let v2087 : BitVec 32 := Scalar.select v2085 v2086 v2071
  let c128_i32_814 : BitVec 32 := 128#32
  let v2088 : BitVec 32 := Scalar.muli v2087 c128_i32_814
  let v2089 : BitVec 32 := v2088
  let v2092 : Index := Scalar.indexCast v2089
  ![v2091.toNat, 0, v2092.toNat]

def k1_chk37 (v2066 : BitVec 32) (v2068 : BitVec 32) : Prop :=
  (128 ∣ (k1_mult37 v2068).toNat) ∧
  (∀ a, (k1_off115 v2066 v2068) a + S1x16x512.size a ≤ S384x16x1152.size a)
theorem k1_mult37_dvd : ∀ (v2066 : BitVec 32) (v2068 : BitVec 32) (k1_hw37 : k1_chk37 v2066 v2068), 128 ∣ (k1_mult37 v2068).toNat := fun v2066 v2068 k1_hw37 => k1_hw37.1
theorem k1_off115_inb : ∀ (v2066 : BitVec 32) (v2068 : BitVec 32) (k1_hw37 : k1_chk37 v2066 v2068), ∀ a, (k1_off115 v2066 v2068) a + S1x16x512.size a ≤ S384x16x1152.size a := fun v2066 v2068 k1_hw37 => k1_hw37.2

def k1_off116 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2102 : Index := Scalar.indexCast v1832
  let c4_818 : Index := 4#32
  ![v2102.toNat, 4]
def k1_off117 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2118 : Index := Scalar.indexCast v1832
  let c5_824 : Index := 5#32
  ![v2118.toNat, 5]
def k1_mult38 (v2121 : BitVec 32) : BitVec 32 :=
  let c0_i32_828 : BitVec 32 := 0#32
  let v2125 : BitVec 1 := Scalar.cmpi .sgt v2121 c0_i32_828
  let v2126 : BitVec 32 := Scalar.extui v2125
  let c0_i32_829 : BitVec 32 := 0#32
  let v2127 : BitVec 1 := Scalar.cmpi .slt v2121 c0_i32_829
  let v2128 : BitVec 32 := Scalar.extui v2127
  let v2129 : BitVec 32 := Scalar.subi v2126 v2128
  let c128_i32_827 : BitVec 32 := 128#32
  let c0_i32_830 : BitVec 32 := 0#32
  let v2130 : BitVec 1 := Scalar.cmpi .sgt c128_i32_827 c0_i32_830
  let v2131 : BitVec 32 := Scalar.extui v2130
  let c0_i32_831 : BitVec 32 := 0#32
  let v2132 : BitVec 1 := Scalar.cmpi .slt c128_i32_827 c0_i32_831
  let v2133 : BitVec 32 := Scalar.extui v2132
  let v2134 : BitVec 32 := Scalar.subi v2131 v2133
  let v2135 : BitVec 1 := Scalar.cmpi .ne v2129 v2134
  let v2136 : BitVec 32 := Scalar.remsi v2121 c128_i32_827
  let c0_i32_832 : BitVec 32 := 0#32
  let v2137 : BitVec 1 := Scalar.cmpi .ne v2136 c0_i32_832
  let v2138 : BitVec 1 := Scalar.andi v2135 v2137
  let v2124 : BitVec 32 := Scalar.divsi v2121 c128_i32_827
  let c1_i32_833 : BitVec 32 := 1#32
  let v2139 : BitVec 32 := Scalar.subi v2124 c1_i32_833
  let v2140 : BitVec 32 := Scalar.select v2138 v2139 v2124
  let c128_i32_834 : BitVec 32 := 128#32
  let v2141 : BitVec 32 := Scalar.muli v2140 c128_i32_834
  v2141

def k1_off118 (v2119 : BitVec 32) (v2121 : BitVec 32) : Fin 3 → Nat :=
  let v2144 : Index := Scalar.indexCast v2119
  let c0_835 : Index := 0#32
  let c0_i32_828 : BitVec 32 := 0#32
  let v2125 : BitVec 1 := Scalar.cmpi .sgt v2121 c0_i32_828
  let v2126 : BitVec 32 := Scalar.extui v2125
  let c0_i32_829 : BitVec 32 := 0#32
  let v2127 : BitVec 1 := Scalar.cmpi .slt v2121 c0_i32_829
  let v2128 : BitVec 32 := Scalar.extui v2127
  let v2129 : BitVec 32 := Scalar.subi v2126 v2128
  let c128_i32_827 : BitVec 32 := 128#32
  let c0_i32_830 : BitVec 32 := 0#32
  let v2130 : BitVec 1 := Scalar.cmpi .sgt c128_i32_827 c0_i32_830
  let v2131 : BitVec 32 := Scalar.extui v2130
  let c0_i32_831 : BitVec 32 := 0#32
  let v2132 : BitVec 1 := Scalar.cmpi .slt c128_i32_827 c0_i32_831
  let v2133 : BitVec 32 := Scalar.extui v2132
  let v2134 : BitVec 32 := Scalar.subi v2131 v2133
  let v2135 : BitVec 1 := Scalar.cmpi .ne v2129 v2134
  let v2136 : BitVec 32 := Scalar.remsi v2121 c128_i32_827
  let c0_i32_832 : BitVec 32 := 0#32
  let v2137 : BitVec 1 := Scalar.cmpi .ne v2136 c0_i32_832
  let v2138 : BitVec 1 := Scalar.andi v2135 v2137
  let v2124 : BitVec 32 := Scalar.divsi v2121 c128_i32_827
  let c1_i32_833 : BitVec 32 := 1#32
  let v2139 : BitVec 32 := Scalar.subi v2124 c1_i32_833
  let v2140 : BitVec 32 := Scalar.select v2138 v2139 v2124
  let c128_i32_834 : BitVec 32 := 128#32
  let v2141 : BitVec 32 := Scalar.muli v2140 c128_i32_834
  let v2142 : BitVec 32 := v2141
  let v2145 : Index := Scalar.indexCast v2142
  ![v2144.toNat, 0, v2145.toNat]

def k1_chk38 (v2119 : BitVec 32) (v2121 : BitVec 32) : Prop :=
  (128 ∣ (k1_mult38 v2121).toNat) ∧
  (∀ a, (k1_off118 v2119 v2121) a + S1x16x512.size a ≤ S384x16x1152.size a)
theorem k1_mult38_dvd : ∀ (v2119 : BitVec 32) (v2121 : BitVec 32) (k1_hw38 : k1_chk38 v2119 v2121), 128 ∣ (k1_mult38 v2121).toNat := fun v2119 v2121 k1_hw38 => k1_hw38.1
theorem k1_off118_inb : ∀ (v2119 : BitVec 32) (v2121 : BitVec 32) (k1_hw38 : k1_chk38 v2119 v2121), ∀ a, (k1_off118 v2119 v2121) a + S1x16x512.size a ≤ S384x16x1152.size a := fun v2119 v2121 k1_hw38 => k1_hw38.2

def k1_off119 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2155 : Index := Scalar.indexCast v1832
  let c5_838 : Index := 5#32
  ![v2155.toNat, 5]
def k1_off120 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2171 : Index := Scalar.indexCast v1832
  let c6_844 : Index := 6#32
  ![v2171.toNat, 6]
def k1_mult39 (v2174 : BitVec 32) : BitVec 32 :=
  let c0_i32_848 : BitVec 32 := 0#32
  let v2178 : BitVec 1 := Scalar.cmpi .sgt v2174 c0_i32_848
  let v2179 : BitVec 32 := Scalar.extui v2178
  let c0_i32_849 : BitVec 32 := 0#32
  let v2180 : BitVec 1 := Scalar.cmpi .slt v2174 c0_i32_849
  let v2181 : BitVec 32 := Scalar.extui v2180
  let v2182 : BitVec 32 := Scalar.subi v2179 v2181
  let c128_i32_847 : BitVec 32 := 128#32
  let c0_i32_850 : BitVec 32 := 0#32
  let v2183 : BitVec 1 := Scalar.cmpi .sgt c128_i32_847 c0_i32_850
  let v2184 : BitVec 32 := Scalar.extui v2183
  let c0_i32_851 : BitVec 32 := 0#32
  let v2185 : BitVec 1 := Scalar.cmpi .slt c128_i32_847 c0_i32_851
  let v2186 : BitVec 32 := Scalar.extui v2185
  let v2187 : BitVec 32 := Scalar.subi v2184 v2186
  let v2188 : BitVec 1 := Scalar.cmpi .ne v2182 v2187
  let v2189 : BitVec 32 := Scalar.remsi v2174 c128_i32_847
  let c0_i32_852 : BitVec 32 := 0#32
  let v2190 : BitVec 1 := Scalar.cmpi .ne v2189 c0_i32_852
  let v2191 : BitVec 1 := Scalar.andi v2188 v2190
  let v2177 : BitVec 32 := Scalar.divsi v2174 c128_i32_847
  let c1_i32_853 : BitVec 32 := 1#32
  let v2192 : BitVec 32 := Scalar.subi v2177 c1_i32_853
  let v2193 : BitVec 32 := Scalar.select v2191 v2192 v2177
  let c128_i32_854 : BitVec 32 := 128#32
  let v2194 : BitVec 32 := Scalar.muli v2193 c128_i32_854
  v2194

def k1_off121 (v2172 : BitVec 32) (v2174 : BitVec 32) : Fin 3 → Nat :=
  let v2197 : Index := Scalar.indexCast v2172
  let c0_855 : Index := 0#32
  let c0_i32_848 : BitVec 32 := 0#32
  let v2178 : BitVec 1 := Scalar.cmpi .sgt v2174 c0_i32_848
  let v2179 : BitVec 32 := Scalar.extui v2178
  let c0_i32_849 : BitVec 32 := 0#32
  let v2180 : BitVec 1 := Scalar.cmpi .slt v2174 c0_i32_849
  let v2181 : BitVec 32 := Scalar.extui v2180
  let v2182 : BitVec 32 := Scalar.subi v2179 v2181
  let c128_i32_847 : BitVec 32 := 128#32
  let c0_i32_850 : BitVec 32 := 0#32
  let v2183 : BitVec 1 := Scalar.cmpi .sgt c128_i32_847 c0_i32_850
  let v2184 : BitVec 32 := Scalar.extui v2183
  let c0_i32_851 : BitVec 32 := 0#32
  let v2185 : BitVec 1 := Scalar.cmpi .slt c128_i32_847 c0_i32_851
  let v2186 : BitVec 32 := Scalar.extui v2185
  let v2187 : BitVec 32 := Scalar.subi v2184 v2186
  let v2188 : BitVec 1 := Scalar.cmpi .ne v2182 v2187
  let v2189 : BitVec 32 := Scalar.remsi v2174 c128_i32_847
  let c0_i32_852 : BitVec 32 := 0#32
  let v2190 : BitVec 1 := Scalar.cmpi .ne v2189 c0_i32_852
  let v2191 : BitVec 1 := Scalar.andi v2188 v2190
  let v2177 : BitVec 32 := Scalar.divsi v2174 c128_i32_847
  let c1_i32_853 : BitVec 32 := 1#32
  let v2192 : BitVec 32 := Scalar.subi v2177 c1_i32_853
  let v2193 : BitVec 32 := Scalar.select v2191 v2192 v2177
  let c128_i32_854 : BitVec 32 := 128#32
  let v2194 : BitVec 32 := Scalar.muli v2193 c128_i32_854
  let v2195 : BitVec 32 := v2194
  let v2198 : Index := Scalar.indexCast v2195
  ![v2197.toNat, 0, v2198.toNat]

def k1_chk39 (v2172 : BitVec 32) (v2174 : BitVec 32) : Prop :=
  (128 ∣ (k1_mult39 v2174).toNat) ∧
  (∀ a, (k1_off121 v2172 v2174) a + S1x16x512.size a ≤ S384x16x1152.size a)
theorem k1_mult39_dvd : ∀ (v2172 : BitVec 32) (v2174 : BitVec 32) (k1_hw39 : k1_chk39 v2172 v2174), 128 ∣ (k1_mult39 v2174).toNat := fun v2172 v2174 k1_hw39 => k1_hw39.1
theorem k1_off121_inb : ∀ (v2172 : BitVec 32) (v2174 : BitVec 32) (k1_hw39 : k1_chk39 v2172 v2174), ∀ a, (k1_off121 v2172 v2174) a + S1x16x512.size a ≤ S384x16x1152.size a := fun v2172 v2174 k1_hw39 => k1_hw39.2

def k1_off122 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2208 : Index := Scalar.indexCast v1832
  let c6_858 : Index := 6#32
  ![v2208.toNat, 6]
def k1_off123 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2224 : Index := Scalar.indexCast v1832
  let c7_864 : Index := 7#32
  ![v2224.toNat, 7]
def k1_mult40 (v2227 : BitVec 32) : BitVec 32 :=
  let c0_i32_868 : BitVec 32 := 0#32
  let v2231 : BitVec 1 := Scalar.cmpi .sgt v2227 c0_i32_868
  let v2232 : BitVec 32 := Scalar.extui v2231
  let c0_i32_869 : BitVec 32 := 0#32
  let v2233 : BitVec 1 := Scalar.cmpi .slt v2227 c0_i32_869
  let v2234 : BitVec 32 := Scalar.extui v2233
  let v2235 : BitVec 32 := Scalar.subi v2232 v2234
  let c128_i32_867 : BitVec 32 := 128#32
  let c0_i32_870 : BitVec 32 := 0#32
  let v2236 : BitVec 1 := Scalar.cmpi .sgt c128_i32_867 c0_i32_870
  let v2237 : BitVec 32 := Scalar.extui v2236
  let c0_i32_871 : BitVec 32 := 0#32
  let v2238 : BitVec 1 := Scalar.cmpi .slt c128_i32_867 c0_i32_871
  let v2239 : BitVec 32 := Scalar.extui v2238
  let v2240 : BitVec 32 := Scalar.subi v2237 v2239
  let v2241 : BitVec 1 := Scalar.cmpi .ne v2235 v2240
  let v2242 : BitVec 32 := Scalar.remsi v2227 c128_i32_867
  let c0_i32_872 : BitVec 32 := 0#32
  let v2243 : BitVec 1 := Scalar.cmpi .ne v2242 c0_i32_872
  let v2244 : BitVec 1 := Scalar.andi v2241 v2243
  let v2230 : BitVec 32 := Scalar.divsi v2227 c128_i32_867
  let c1_i32_873 : BitVec 32 := 1#32
  let v2245 : BitVec 32 := Scalar.subi v2230 c1_i32_873
  let v2246 : BitVec 32 := Scalar.select v2244 v2245 v2230
  let c128_i32_874 : BitVec 32 := 128#32
  let v2247 : BitVec 32 := Scalar.muli v2246 c128_i32_874
  v2247

def k1_off124 (v2225 : BitVec 32) (v2227 : BitVec 32) : Fin 3 → Nat :=
  let v2250 : Index := Scalar.indexCast v2225
  let c0_875 : Index := 0#32
  let c0_i32_868 : BitVec 32 := 0#32
  let v2231 : BitVec 1 := Scalar.cmpi .sgt v2227 c0_i32_868
  let v2232 : BitVec 32 := Scalar.extui v2231
  let c0_i32_869 : BitVec 32 := 0#32
  let v2233 : BitVec 1 := Scalar.cmpi .slt v2227 c0_i32_869
  let v2234 : BitVec 32 := Scalar.extui v2233
  let v2235 : BitVec 32 := Scalar.subi v2232 v2234
  let c128_i32_867 : BitVec 32 := 128#32
  let c0_i32_870 : BitVec 32 := 0#32
  let v2236 : BitVec 1 := Scalar.cmpi .sgt c128_i32_867 c0_i32_870
  let v2237 : BitVec 32 := Scalar.extui v2236
  let c0_i32_871 : BitVec 32 := 0#32
  let v2238 : BitVec 1 := Scalar.cmpi .slt c128_i32_867 c0_i32_871
  let v2239 : BitVec 32 := Scalar.extui v2238
  let v2240 : BitVec 32 := Scalar.subi v2237 v2239
  let v2241 : BitVec 1 := Scalar.cmpi .ne v2235 v2240
  let v2242 : BitVec 32 := Scalar.remsi v2227 c128_i32_867
  let c0_i32_872 : BitVec 32 := 0#32
  let v2243 : BitVec 1 := Scalar.cmpi .ne v2242 c0_i32_872
  let v2244 : BitVec 1 := Scalar.andi v2241 v2243
  let v2230 : BitVec 32 := Scalar.divsi v2227 c128_i32_867
  let c1_i32_873 : BitVec 32 := 1#32
  let v2245 : BitVec 32 := Scalar.subi v2230 c1_i32_873
  let v2246 : BitVec 32 := Scalar.select v2244 v2245 v2230
  let c128_i32_874 : BitVec 32 := 128#32
  let v2247 : BitVec 32 := Scalar.muli v2246 c128_i32_874
  let v2248 : BitVec 32 := v2247
  let v2251 : Index := Scalar.indexCast v2248
  ![v2250.toNat, 0, v2251.toNat]

def k1_chk40 (v2225 : BitVec 32) (v2227 : BitVec 32) : Prop :=
  (128 ∣ (k1_mult40 v2227).toNat) ∧
  (∀ a, (k1_off124 v2225 v2227) a + S1x16x512.size a ≤ S384x16x1152.size a)
theorem k1_mult40_dvd : ∀ (v2225 : BitVec 32) (v2227 : BitVec 32) (k1_hw40 : k1_chk40 v2225 v2227), 128 ∣ (k1_mult40 v2227).toNat := fun v2225 v2227 k1_hw40 => k1_hw40.1
theorem k1_off124_inb : ∀ (v2225 : BitVec 32) (v2227 : BitVec 32) (k1_hw40 : k1_chk40 v2225 v2227), ∀ a, (k1_off124 v2225 v2227) a + S1x16x512.size a ≤ S384x16x1152.size a := fun v2225 v2227 k1_hw40 => k1_hw40.2

def k1_off125 (i : grid1.Coords) : Fin 2 → Nat :=
  let arg0 : BitVec 32 := BitVec.ofNat 32 (i 0).val
  let c48_i32_712 : BitVec 32 := 48#32
  let v1831 : BitVec 32 := Scalar.muli arg0 c48_i32_712
  let c4_i32 : BitVec 32 := 4#32
  let v1832 : BitVec 32 := Scalar.addi v1831 c4_i32
  let v2261 : Index := Scalar.indexCast v1832
  let c7_878 : Index := 7#32
  ![v2261.toNat, 7]
def k1_off126 (i : grid1.Coords) : Fin 3 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2290 : Index := Scalar.indexCast v2289
  let c0_894 : Index := 0#32
  let c720_895 : Index := 720#32
  ![v2290.toNat, 0, 720]
def k1_off127 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2310 : Index := Scalar.indexCast v2289
  let c0_905 : Index := 0#32
  ![v2310.toNat, 0]
def k1_mult41 (v2313 : BitVec 32) : BitVec 32 :=
  let c0_i32_909 : BitVec 32 := 0#32
  let v2317 : BitVec 1 := Scalar.cmpi .sgt v2313 c0_i32_909
  let v2318 : BitVec 32 := Scalar.extui v2317
  let c0_i32_910 : BitVec 32 := 0#32
  let v2319 : BitVec 1 := Scalar.cmpi .slt v2313 c0_i32_910
  let v2320 : BitVec 32 := Scalar.extui v2319
  let v2321 : BitVec 32 := Scalar.subi v2318 v2320
  let c128_i32_908 : BitVec 32 := 128#32
  let c0_i32_911 : BitVec 32 := 0#32
  let v2322 : BitVec 1 := Scalar.cmpi .sgt c128_i32_908 c0_i32_911
  let v2323 : BitVec 32 := Scalar.extui v2322
  let c0_i32_912 : BitVec 32 := 0#32
  let v2324 : BitVec 1 := Scalar.cmpi .slt c128_i32_908 c0_i32_912
  let v2325 : BitVec 32 := Scalar.extui v2324
  let v2326 : BitVec 32 := Scalar.subi v2323 v2325
  let v2327 : BitVec 1 := Scalar.cmpi .ne v2321 v2326
  let v2328 : BitVec 32 := Scalar.remsi v2313 c128_i32_908
  let c0_i32_913 : BitVec 32 := 0#32
  let v2329 : BitVec 1 := Scalar.cmpi .ne v2328 c0_i32_913
  let v2330 : BitVec 1 := Scalar.andi v2327 v2329
  let v2316 : BitVec 32 := Scalar.divsi v2313 c128_i32_908
  let c1_i32_914 : BitVec 32 := 1#32
  let v2331 : BitVec 32 := Scalar.subi v2316 c1_i32_914
  let v2332 : BitVec 32 := Scalar.select v2330 v2331 v2316
  let c128_i32_915 : BitVec 32 := 128#32
  let v2333 : BitVec 32 := Scalar.muli v2332 c128_i32_915
  v2333

def k1_off128 (v2311 : BitVec 32) (v2313 : BitVec 32) : Fin 3 → Nat :=
  let v2336 : Index := Scalar.indexCast v2311
  let c0_916 : Index := 0#32
  let c0_i32_909 : BitVec 32 := 0#32
  let v2317 : BitVec 1 := Scalar.cmpi .sgt v2313 c0_i32_909
  let v2318 : BitVec 32 := Scalar.extui v2317
  let c0_i32_910 : BitVec 32 := 0#32
  let v2319 : BitVec 1 := Scalar.cmpi .slt v2313 c0_i32_910
  let v2320 : BitVec 32 := Scalar.extui v2319
  let v2321 : BitVec 32 := Scalar.subi v2318 v2320
  let c128_i32_908 : BitVec 32 := 128#32
  let c0_i32_911 : BitVec 32 := 0#32
  let v2322 : BitVec 1 := Scalar.cmpi .sgt c128_i32_908 c0_i32_911
  let v2323 : BitVec 32 := Scalar.extui v2322
  let c0_i32_912 : BitVec 32 := 0#32
  let v2324 : BitVec 1 := Scalar.cmpi .slt c128_i32_908 c0_i32_912
  let v2325 : BitVec 32 := Scalar.extui v2324
  let v2326 : BitVec 32 := Scalar.subi v2323 v2325
  let v2327 : BitVec 1 := Scalar.cmpi .ne v2321 v2326
  let v2328 : BitVec 32 := Scalar.remsi v2313 c128_i32_908
  let c0_i32_913 : BitVec 32 := 0#32
  let v2329 : BitVec 1 := Scalar.cmpi .ne v2328 c0_i32_913
  let v2330 : BitVec 1 := Scalar.andi v2327 v2329
  let v2316 : BitVec 32 := Scalar.divsi v2313 c128_i32_908
  let c1_i32_914 : BitVec 32 := 1#32
  let v2331 : BitVec 32 := Scalar.subi v2316 c1_i32_914
  let v2332 : BitVec 32 := Scalar.select v2330 v2331 v2316
  let c128_i32_915 : BitVec 32 := 128#32
  let v2333 : BitVec 32 := Scalar.muli v2332 c128_i32_915
  let v2334 : BitVec 32 := v2333
  let v2337 : Index := Scalar.indexCast v2334
  ![v2336.toNat, 0, v2337.toNat]

def k1_chk41 (v2311 : BitVec 32) (v2313 : BitVec 32) : Prop :=
  (128 ∣ (k1_mult41 v2313).toNat) ∧
  (∀ a, (k1_off128 v2311 v2313) a + S1x16x512.size a ≤ S384x16x1152.size a)
theorem k1_mult41_dvd : ∀ (v2311 : BitVec 32) (v2313 : BitVec 32) (k1_hw41 : k1_chk41 v2311 v2313), 128 ∣ (k1_mult41 v2313).toNat := fun v2311 v2313 k1_hw41 => k1_hw41.1
theorem k1_off128_inb : ∀ (v2311 : BitVec 32) (v2313 : BitVec 32) (k1_hw41 : k1_chk41 v2311 v2313), ∀ a, (k1_off128 v2311 v2313) a + S1x16x512.size a ≤ S384x16x1152.size a := fun v2311 v2313 k1_hw41 => k1_hw41.2

def k1_off129 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2347 : Index := Scalar.indexCast v2289
  let c0_919 : Index := 0#32
  ![v2347.toNat, 0]
def k1_off130 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2363 : Index := Scalar.indexCast v2289
  let c1_925 : Index := 1#32
  ![v2363.toNat, 1]
def k1_mult42 (v2366 : BitVec 32) : BitVec 32 :=
  let c0_i32_929 : BitVec 32 := 0#32
  let v2370 : BitVec 1 := Scalar.cmpi .sgt v2366 c0_i32_929
  let v2371 : BitVec 32 := Scalar.extui v2370
  let c0_i32_930 : BitVec 32 := 0#32
  let v2372 : BitVec 1 := Scalar.cmpi .slt v2366 c0_i32_930
  let v2373 : BitVec 32 := Scalar.extui v2372
  let v2374 : BitVec 32 := Scalar.subi v2371 v2373
  let c128_i32_928 : BitVec 32 := 128#32
  let c0_i32_931 : BitVec 32 := 0#32
  let v2375 : BitVec 1 := Scalar.cmpi .sgt c128_i32_928 c0_i32_931
  let v2376 : BitVec 32 := Scalar.extui v2375
  let c0_i32_932 : BitVec 32 := 0#32
  let v2377 : BitVec 1 := Scalar.cmpi .slt c128_i32_928 c0_i32_932
  let v2378 : BitVec 32 := Scalar.extui v2377
  let v2379 : BitVec 32 := Scalar.subi v2376 v2378
  let v2380 : BitVec 1 := Scalar.cmpi .ne v2374 v2379
  let v2381 : BitVec 32 := Scalar.remsi v2366 c128_i32_928
  let c0_i32_933 : BitVec 32 := 0#32
  let v2382 : BitVec 1 := Scalar.cmpi .ne v2381 c0_i32_933
  let v2383 : BitVec 1 := Scalar.andi v2380 v2382
  let v2369 : BitVec 32 := Scalar.divsi v2366 c128_i32_928
  let c1_i32_934 : BitVec 32 := 1#32
  let v2384 : BitVec 32 := Scalar.subi v2369 c1_i32_934
  let v2385 : BitVec 32 := Scalar.select v2383 v2384 v2369
  let c128_i32_935 : BitVec 32 := 128#32
  let v2386 : BitVec 32 := Scalar.muli v2385 c128_i32_935
  v2386

def k1_off131 (v2364 : BitVec 32) (v2366 : BitVec 32) : Fin 3 → Nat :=
  let v2389 : Index := Scalar.indexCast v2364
  let c0_936 : Index := 0#32
  let c0_i32_929 : BitVec 32 := 0#32
  let v2370 : BitVec 1 := Scalar.cmpi .sgt v2366 c0_i32_929
  let v2371 : BitVec 32 := Scalar.extui v2370
  let c0_i32_930 : BitVec 32 := 0#32
  let v2372 : BitVec 1 := Scalar.cmpi .slt v2366 c0_i32_930
  let v2373 : BitVec 32 := Scalar.extui v2372
  let v2374 : BitVec 32 := Scalar.subi v2371 v2373
  let c128_i32_928 : BitVec 32 := 128#32
  let c0_i32_931 : BitVec 32 := 0#32
  let v2375 : BitVec 1 := Scalar.cmpi .sgt c128_i32_928 c0_i32_931
  let v2376 : BitVec 32 := Scalar.extui v2375
  let c0_i32_932 : BitVec 32 := 0#32
  let v2377 : BitVec 1 := Scalar.cmpi .slt c128_i32_928 c0_i32_932
  let v2378 : BitVec 32 := Scalar.extui v2377
  let v2379 : BitVec 32 := Scalar.subi v2376 v2378
  let v2380 : BitVec 1 := Scalar.cmpi .ne v2374 v2379
  let v2381 : BitVec 32 := Scalar.remsi v2366 c128_i32_928
  let c0_i32_933 : BitVec 32 := 0#32
  let v2382 : BitVec 1 := Scalar.cmpi .ne v2381 c0_i32_933
  let v2383 : BitVec 1 := Scalar.andi v2380 v2382
  let v2369 : BitVec 32 := Scalar.divsi v2366 c128_i32_928
  let c1_i32_934 : BitVec 32 := 1#32
  let v2384 : BitVec 32 := Scalar.subi v2369 c1_i32_934
  let v2385 : BitVec 32 := Scalar.select v2383 v2384 v2369
  let c128_i32_935 : BitVec 32 := 128#32
  let v2386 : BitVec 32 := Scalar.muli v2385 c128_i32_935
  let v2387 : BitVec 32 := v2386
  let v2390 : Index := Scalar.indexCast v2387
  ![v2389.toNat, 0, v2390.toNat]

def k1_chk42 (v2364 : BitVec 32) (v2366 : BitVec 32) : Prop :=
  (128 ∣ (k1_mult42 v2366).toNat) ∧
  (∀ a, (k1_off131 v2364 v2366) a + S1x16x512.size a ≤ S384x16x1152.size a)
theorem k1_mult42_dvd : ∀ (v2364 : BitVec 32) (v2366 : BitVec 32) (k1_hw42 : k1_chk42 v2364 v2366), 128 ∣ (k1_mult42 v2366).toNat := fun v2364 v2366 k1_hw42 => k1_hw42.1
theorem k1_off131_inb : ∀ (v2364 : BitVec 32) (v2366 : BitVec 32) (k1_hw42 : k1_chk42 v2364 v2366), ∀ a, (k1_off131 v2364 v2366) a + S1x16x512.size a ≤ S384x16x1152.size a := fun v2364 v2366 k1_hw42 => k1_hw42.2

def k1_off132 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2400 : Index := Scalar.indexCast v2289
  let c1_939 : Index := 1#32
  ![v2400.toNat, 1]
def k1_off133 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2416 : Index := Scalar.indexCast v2289
  let c2_945 : Index := 2#32
  ![v2416.toNat, 2]
def k1_mult43 (v2419 : BitVec 32) : BitVec 32 :=
  let c0_i32_949 : BitVec 32 := 0#32
  let v2423 : BitVec 1 := Scalar.cmpi .sgt v2419 c0_i32_949
  let v2424 : BitVec 32 := Scalar.extui v2423
  let c0_i32_950 : BitVec 32 := 0#32
  let v2425 : BitVec 1 := Scalar.cmpi .slt v2419 c0_i32_950
  let v2426 : BitVec 32 := Scalar.extui v2425
  let v2427 : BitVec 32 := Scalar.subi v2424 v2426
  let c128_i32_948 : BitVec 32 := 128#32
  let c0_i32_951 : BitVec 32 := 0#32
  let v2428 : BitVec 1 := Scalar.cmpi .sgt c128_i32_948 c0_i32_951
  let v2429 : BitVec 32 := Scalar.extui v2428
  let c0_i32_952 : BitVec 32 := 0#32
  let v2430 : BitVec 1 := Scalar.cmpi .slt c128_i32_948 c0_i32_952
  let v2431 : BitVec 32 := Scalar.extui v2430
  let v2432 : BitVec 32 := Scalar.subi v2429 v2431
  let v2433 : BitVec 1 := Scalar.cmpi .ne v2427 v2432
  let v2434 : BitVec 32 := Scalar.remsi v2419 c128_i32_948
  let c0_i32_953 : BitVec 32 := 0#32
  let v2435 : BitVec 1 := Scalar.cmpi .ne v2434 c0_i32_953
  let v2436 : BitVec 1 := Scalar.andi v2433 v2435
  let v2422 : BitVec 32 := Scalar.divsi v2419 c128_i32_948
  let c1_i32_954 : BitVec 32 := 1#32
  let v2437 : BitVec 32 := Scalar.subi v2422 c1_i32_954
  let v2438 : BitVec 32 := Scalar.select v2436 v2437 v2422
  let c128_i32_955 : BitVec 32 := 128#32
  let v2439 : BitVec 32 := Scalar.muli v2438 c128_i32_955
  v2439

def k1_off134 (v2417 : BitVec 32) (v2419 : BitVec 32) : Fin 3 → Nat :=
  let v2442 : Index := Scalar.indexCast v2417
  let c0_956 : Index := 0#32
  let c0_i32_949 : BitVec 32 := 0#32
  let v2423 : BitVec 1 := Scalar.cmpi .sgt v2419 c0_i32_949
  let v2424 : BitVec 32 := Scalar.extui v2423
  let c0_i32_950 : BitVec 32 := 0#32
  let v2425 : BitVec 1 := Scalar.cmpi .slt v2419 c0_i32_950
  let v2426 : BitVec 32 := Scalar.extui v2425
  let v2427 : BitVec 32 := Scalar.subi v2424 v2426
  let c128_i32_948 : BitVec 32 := 128#32
  let c0_i32_951 : BitVec 32 := 0#32
  let v2428 : BitVec 1 := Scalar.cmpi .sgt c128_i32_948 c0_i32_951
  let v2429 : BitVec 32 := Scalar.extui v2428
  let c0_i32_952 : BitVec 32 := 0#32
  let v2430 : BitVec 1 := Scalar.cmpi .slt c128_i32_948 c0_i32_952
  let v2431 : BitVec 32 := Scalar.extui v2430
  let v2432 : BitVec 32 := Scalar.subi v2429 v2431
  let v2433 : BitVec 1 := Scalar.cmpi .ne v2427 v2432
  let v2434 : BitVec 32 := Scalar.remsi v2419 c128_i32_948
  let c0_i32_953 : BitVec 32 := 0#32
  let v2435 : BitVec 1 := Scalar.cmpi .ne v2434 c0_i32_953
  let v2436 : BitVec 1 := Scalar.andi v2433 v2435
  let v2422 : BitVec 32 := Scalar.divsi v2419 c128_i32_948
  let c1_i32_954 : BitVec 32 := 1#32
  let v2437 : BitVec 32 := Scalar.subi v2422 c1_i32_954
  let v2438 : BitVec 32 := Scalar.select v2436 v2437 v2422
  let c128_i32_955 : BitVec 32 := 128#32
  let v2439 : BitVec 32 := Scalar.muli v2438 c128_i32_955
  let v2440 : BitVec 32 := v2439
  let v2443 : Index := Scalar.indexCast v2440
  ![v2442.toNat, 0, v2443.toNat]

def k1_chk43 (v2417 : BitVec 32) (v2419 : BitVec 32) : Prop :=
  (128 ∣ (k1_mult43 v2419).toNat) ∧
  (∀ a, (k1_off134 v2417 v2419) a + S1x16x512.size a ≤ S384x16x1152.size a)
theorem k1_mult43_dvd : ∀ (v2417 : BitVec 32) (v2419 : BitVec 32) (k1_hw43 : k1_chk43 v2417 v2419), 128 ∣ (k1_mult43 v2419).toNat := fun v2417 v2419 k1_hw43 => k1_hw43.1
theorem k1_off134_inb : ∀ (v2417 : BitVec 32) (v2419 : BitVec 32) (k1_hw43 : k1_chk43 v2417 v2419), ∀ a, (k1_off134 v2417 v2419) a + S1x16x512.size a ≤ S384x16x1152.size a := fun v2417 v2419 k1_hw43 => k1_hw43.2

def k1_off135 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2453 : Index := Scalar.indexCast v2289
  let c2_959 : Index := 2#32
  ![v2453.toNat, 2]
def k1_off136 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2469 : Index := Scalar.indexCast v2289
  let c3_965 : Index := 3#32
  ![v2469.toNat, 3]
def k1_mult44 (v2472 : BitVec 32) : BitVec 32 :=
  let c0_i32_969 : BitVec 32 := 0#32
  let v2476 : BitVec 1 := Scalar.cmpi .sgt v2472 c0_i32_969
  let v2477 : BitVec 32 := Scalar.extui v2476
  let c0_i32_970 : BitVec 32 := 0#32
  let v2478 : BitVec 1 := Scalar.cmpi .slt v2472 c0_i32_970
  let v2479 : BitVec 32 := Scalar.extui v2478
  let v2480 : BitVec 32 := Scalar.subi v2477 v2479
  let c128_i32_968 : BitVec 32 := 128#32
  let c0_i32_971 : BitVec 32 := 0#32
  let v2481 : BitVec 1 := Scalar.cmpi .sgt c128_i32_968 c0_i32_971
  let v2482 : BitVec 32 := Scalar.extui v2481
  let c0_i32_972 : BitVec 32 := 0#32
  let v2483 : BitVec 1 := Scalar.cmpi .slt c128_i32_968 c0_i32_972
  let v2484 : BitVec 32 := Scalar.extui v2483
  let v2485 : BitVec 32 := Scalar.subi v2482 v2484
  let v2486 : BitVec 1 := Scalar.cmpi .ne v2480 v2485
  let v2487 : BitVec 32 := Scalar.remsi v2472 c128_i32_968
  let c0_i32_973 : BitVec 32 := 0#32
  let v2488 : BitVec 1 := Scalar.cmpi .ne v2487 c0_i32_973
  let v2489 : BitVec 1 := Scalar.andi v2486 v2488
  let v2475 : BitVec 32 := Scalar.divsi v2472 c128_i32_968
  let c1_i32_974 : BitVec 32 := 1#32
  let v2490 : BitVec 32 := Scalar.subi v2475 c1_i32_974
  let v2491 : BitVec 32 := Scalar.select v2489 v2490 v2475
  let c128_i32_975 : BitVec 32 := 128#32
  let v2492 : BitVec 32 := Scalar.muli v2491 c128_i32_975
  v2492

def k1_off137 (v2470 : BitVec 32) (v2472 : BitVec 32) : Fin 3 → Nat :=
  let v2495 : Index := Scalar.indexCast v2470
  let c0_976 : Index := 0#32
  let c0_i32_969 : BitVec 32 := 0#32
  let v2476 : BitVec 1 := Scalar.cmpi .sgt v2472 c0_i32_969
  let v2477 : BitVec 32 := Scalar.extui v2476
  let c0_i32_970 : BitVec 32 := 0#32
  let v2478 : BitVec 1 := Scalar.cmpi .slt v2472 c0_i32_970
  let v2479 : BitVec 32 := Scalar.extui v2478
  let v2480 : BitVec 32 := Scalar.subi v2477 v2479
  let c128_i32_968 : BitVec 32 := 128#32
  let c0_i32_971 : BitVec 32 := 0#32
  let v2481 : BitVec 1 := Scalar.cmpi .sgt c128_i32_968 c0_i32_971
  let v2482 : BitVec 32 := Scalar.extui v2481
  let c0_i32_972 : BitVec 32 := 0#32
  let v2483 : BitVec 1 := Scalar.cmpi .slt c128_i32_968 c0_i32_972
  let v2484 : BitVec 32 := Scalar.extui v2483
  let v2485 : BitVec 32 := Scalar.subi v2482 v2484
  let v2486 : BitVec 1 := Scalar.cmpi .ne v2480 v2485
  let v2487 : BitVec 32 := Scalar.remsi v2472 c128_i32_968
  let c0_i32_973 : BitVec 32 := 0#32
  let v2488 : BitVec 1 := Scalar.cmpi .ne v2487 c0_i32_973
  let v2489 : BitVec 1 := Scalar.andi v2486 v2488
  let v2475 : BitVec 32 := Scalar.divsi v2472 c128_i32_968
  let c1_i32_974 : BitVec 32 := 1#32
  let v2490 : BitVec 32 := Scalar.subi v2475 c1_i32_974
  let v2491 : BitVec 32 := Scalar.select v2489 v2490 v2475
  let c128_i32_975 : BitVec 32 := 128#32
  let v2492 : BitVec 32 := Scalar.muli v2491 c128_i32_975
  let v2493 : BitVec 32 := v2492
  let v2496 : Index := Scalar.indexCast v2493
  ![v2495.toNat, 0, v2496.toNat]

def k1_chk44 (v2470 : BitVec 32) (v2472 : BitVec 32) : Prop :=
  (128 ∣ (k1_mult44 v2472).toNat) ∧
  (∀ a, (k1_off137 v2470 v2472) a + S1x16x512.size a ≤ S384x16x1152.size a)
theorem k1_mult44_dvd : ∀ (v2470 : BitVec 32) (v2472 : BitVec 32) (k1_hw44 : k1_chk44 v2470 v2472), 128 ∣ (k1_mult44 v2472).toNat := fun v2470 v2472 k1_hw44 => k1_hw44.1
theorem k1_off137_inb : ∀ (v2470 : BitVec 32) (v2472 : BitVec 32) (k1_hw44 : k1_chk44 v2470 v2472), ∀ a, (k1_off137 v2470 v2472) a + S1x16x512.size a ≤ S384x16x1152.size a := fun v2470 v2472 k1_hw44 => k1_hw44.2

def k1_off138 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2506 : Index := Scalar.indexCast v2289
  let c3_979 : Index := 3#32
  ![v2506.toNat, 3]
def k1_off139 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2522 : Index := Scalar.indexCast v2289
  let c4_985 : Index := 4#32
  ![v2522.toNat, 4]
def k1_mult45 (v2525 : BitVec 32) : BitVec 32 :=
  let c0_i32_989 : BitVec 32 := 0#32
  let v2529 : BitVec 1 := Scalar.cmpi .sgt v2525 c0_i32_989
  let v2530 : BitVec 32 := Scalar.extui v2529
  let c0_i32_990 : BitVec 32 := 0#32
  let v2531 : BitVec 1 := Scalar.cmpi .slt v2525 c0_i32_990
  let v2532 : BitVec 32 := Scalar.extui v2531
  let v2533 : BitVec 32 := Scalar.subi v2530 v2532
  let c128_i32_988 : BitVec 32 := 128#32
  let c0_i32_991 : BitVec 32 := 0#32
  let v2534 : BitVec 1 := Scalar.cmpi .sgt c128_i32_988 c0_i32_991
  let v2535 : BitVec 32 := Scalar.extui v2534
  let c0_i32_992 : BitVec 32 := 0#32
  let v2536 : BitVec 1 := Scalar.cmpi .slt c128_i32_988 c0_i32_992
  let v2537 : BitVec 32 := Scalar.extui v2536
  let v2538 : BitVec 32 := Scalar.subi v2535 v2537
  let v2539 : BitVec 1 := Scalar.cmpi .ne v2533 v2538
  let v2540 : BitVec 32 := Scalar.remsi v2525 c128_i32_988
  let c0_i32_993 : BitVec 32 := 0#32
  let v2541 : BitVec 1 := Scalar.cmpi .ne v2540 c0_i32_993
  let v2542 : BitVec 1 := Scalar.andi v2539 v2541
  let v2528 : BitVec 32 := Scalar.divsi v2525 c128_i32_988
  let c1_i32_994 : BitVec 32 := 1#32
  let v2543 : BitVec 32 := Scalar.subi v2528 c1_i32_994
  let v2544 : BitVec 32 := Scalar.select v2542 v2543 v2528
  let c128_i32_995 : BitVec 32 := 128#32
  let v2545 : BitVec 32 := Scalar.muli v2544 c128_i32_995
  v2545

def k1_off140 (v2523 : BitVec 32) (v2525 : BitVec 32) : Fin 3 → Nat :=
  let v2548 : Index := Scalar.indexCast v2523
  let c0_996 : Index := 0#32
  let c0_i32_989 : BitVec 32 := 0#32
  let v2529 : BitVec 1 := Scalar.cmpi .sgt v2525 c0_i32_989
  let v2530 : BitVec 32 := Scalar.extui v2529
  let c0_i32_990 : BitVec 32 := 0#32
  let v2531 : BitVec 1 := Scalar.cmpi .slt v2525 c0_i32_990
  let v2532 : BitVec 32 := Scalar.extui v2531
  let v2533 : BitVec 32 := Scalar.subi v2530 v2532
  let c128_i32_988 : BitVec 32 := 128#32
  let c0_i32_991 : BitVec 32 := 0#32
  let v2534 : BitVec 1 := Scalar.cmpi .sgt c128_i32_988 c0_i32_991
  let v2535 : BitVec 32 := Scalar.extui v2534
  let c0_i32_992 : BitVec 32 := 0#32
  let v2536 : BitVec 1 := Scalar.cmpi .slt c128_i32_988 c0_i32_992
  let v2537 : BitVec 32 := Scalar.extui v2536
  let v2538 : BitVec 32 := Scalar.subi v2535 v2537
  let v2539 : BitVec 1 := Scalar.cmpi .ne v2533 v2538
  let v2540 : BitVec 32 := Scalar.remsi v2525 c128_i32_988
  let c0_i32_993 : BitVec 32 := 0#32
  let v2541 : BitVec 1 := Scalar.cmpi .ne v2540 c0_i32_993
  let v2542 : BitVec 1 := Scalar.andi v2539 v2541
  let v2528 : BitVec 32 := Scalar.divsi v2525 c128_i32_988
  let c1_i32_994 : BitVec 32 := 1#32
  let v2543 : BitVec 32 := Scalar.subi v2528 c1_i32_994
  let v2544 : BitVec 32 := Scalar.select v2542 v2543 v2528
  let c128_i32_995 : BitVec 32 := 128#32
  let v2545 : BitVec 32 := Scalar.muli v2544 c128_i32_995
  let v2546 : BitVec 32 := v2545
  let v2549 : Index := Scalar.indexCast v2546
  ![v2548.toNat, 0, v2549.toNat]

def k1_chk45 (v2523 : BitVec 32) (v2525 : BitVec 32) : Prop :=
  (128 ∣ (k1_mult45 v2525).toNat) ∧
  (∀ a, (k1_off140 v2523 v2525) a + S1x16x512.size a ≤ S384x16x1152.size a)
theorem k1_mult45_dvd : ∀ (v2523 : BitVec 32) (v2525 : BitVec 32) (k1_hw45 : k1_chk45 v2523 v2525), 128 ∣ (k1_mult45 v2525).toNat := fun v2523 v2525 k1_hw45 => k1_hw45.1
theorem k1_off140_inb : ∀ (v2523 : BitVec 32) (v2525 : BitVec 32) (k1_hw45 : k1_chk45 v2523 v2525), ∀ a, (k1_off140 v2523 v2525) a + S1x16x512.size a ≤ S384x16x1152.size a := fun v2523 v2525 k1_hw45 => k1_hw45.2

def k1_off141 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2559 : Index := Scalar.indexCast v2289
  let c4_999 : Index := 4#32
  ![v2559.toNat, 4]
def k1_off142 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2575 : Index := Scalar.indexCast v2289
  let c5_1005 : Index := 5#32
  ![v2575.toNat, 5]
def k1_mult46 (v2578 : BitVec 32) : BitVec 32 :=
  let c0_i32_1009 : BitVec 32 := 0#32
  let v2582 : BitVec 1 := Scalar.cmpi .sgt v2578 c0_i32_1009
  let v2583 : BitVec 32 := Scalar.extui v2582
  let c0_i32_1010 : BitVec 32 := 0#32
  let v2584 : BitVec 1 := Scalar.cmpi .slt v2578 c0_i32_1010
  let v2585 : BitVec 32 := Scalar.extui v2584
  let v2586 : BitVec 32 := Scalar.subi v2583 v2585
  let c128_i32_1008 : BitVec 32 := 128#32
  let c0_i32_1011 : BitVec 32 := 0#32
  let v2587 : BitVec 1 := Scalar.cmpi .sgt c128_i32_1008 c0_i32_1011
  let v2588 : BitVec 32 := Scalar.extui v2587
  let c0_i32_1012 : BitVec 32 := 0#32
  let v2589 : BitVec 1 := Scalar.cmpi .slt c128_i32_1008 c0_i32_1012
  let v2590 : BitVec 32 := Scalar.extui v2589
  let v2591 : BitVec 32 := Scalar.subi v2588 v2590
  let v2592 : BitVec 1 := Scalar.cmpi .ne v2586 v2591
  let v2593 : BitVec 32 := Scalar.remsi v2578 c128_i32_1008
  let c0_i32_1013 : BitVec 32 := 0#32
  let v2594 : BitVec 1 := Scalar.cmpi .ne v2593 c0_i32_1013
  let v2595 : BitVec 1 := Scalar.andi v2592 v2594
  let v2581 : BitVec 32 := Scalar.divsi v2578 c128_i32_1008
  let c1_i32_1014 : BitVec 32 := 1#32
  let v2596 : BitVec 32 := Scalar.subi v2581 c1_i32_1014
  let v2597 : BitVec 32 := Scalar.select v2595 v2596 v2581
  let c128_i32_1015 : BitVec 32 := 128#32
  let v2598 : BitVec 32 := Scalar.muli v2597 c128_i32_1015
  v2598

def k1_off143 (v2576 : BitVec 32) (v2578 : BitVec 32) : Fin 3 → Nat :=
  let v2601 : Index := Scalar.indexCast v2576
  let c0_1016 : Index := 0#32
  let c0_i32_1009 : BitVec 32 := 0#32
  let v2582 : BitVec 1 := Scalar.cmpi .sgt v2578 c0_i32_1009
  let v2583 : BitVec 32 := Scalar.extui v2582
  let c0_i32_1010 : BitVec 32 := 0#32
  let v2584 : BitVec 1 := Scalar.cmpi .slt v2578 c0_i32_1010
  let v2585 : BitVec 32 := Scalar.extui v2584
  let v2586 : BitVec 32 := Scalar.subi v2583 v2585
  let c128_i32_1008 : BitVec 32 := 128#32
  let c0_i32_1011 : BitVec 32 := 0#32
  let v2587 : BitVec 1 := Scalar.cmpi .sgt c128_i32_1008 c0_i32_1011
  let v2588 : BitVec 32 := Scalar.extui v2587
  let c0_i32_1012 : BitVec 32 := 0#32
  let v2589 : BitVec 1 := Scalar.cmpi .slt c128_i32_1008 c0_i32_1012
  let v2590 : BitVec 32 := Scalar.extui v2589
  let v2591 : BitVec 32 := Scalar.subi v2588 v2590
  let v2592 : BitVec 1 := Scalar.cmpi .ne v2586 v2591
  let v2593 : BitVec 32 := Scalar.remsi v2578 c128_i32_1008
  let c0_i32_1013 : BitVec 32 := 0#32
  let v2594 : BitVec 1 := Scalar.cmpi .ne v2593 c0_i32_1013
  let v2595 : BitVec 1 := Scalar.andi v2592 v2594
  let v2581 : BitVec 32 := Scalar.divsi v2578 c128_i32_1008
  let c1_i32_1014 : BitVec 32 := 1#32
  let v2596 : BitVec 32 := Scalar.subi v2581 c1_i32_1014
  let v2597 : BitVec 32 := Scalar.select v2595 v2596 v2581
  let c128_i32_1015 : BitVec 32 := 128#32
  let v2598 : BitVec 32 := Scalar.muli v2597 c128_i32_1015
  let v2599 : BitVec 32 := v2598
  let v2602 : Index := Scalar.indexCast v2599
  ![v2601.toNat, 0, v2602.toNat]

def k1_chk46 (v2576 : BitVec 32) (v2578 : BitVec 32) : Prop :=
  (128 ∣ (k1_mult46 v2578).toNat) ∧
  (∀ a, (k1_off143 v2576 v2578) a + S1x16x512.size a ≤ S384x16x1152.size a)
theorem k1_mult46_dvd : ∀ (v2576 : BitVec 32) (v2578 : BitVec 32) (k1_hw46 : k1_chk46 v2576 v2578), 128 ∣ (k1_mult46 v2578).toNat := fun v2576 v2578 k1_hw46 => k1_hw46.1
theorem k1_off143_inb : ∀ (v2576 : BitVec 32) (v2578 : BitVec 32) (k1_hw46 : k1_chk46 v2576 v2578), ∀ a, (k1_off143 v2576 v2578) a + S1x16x512.size a ≤ S384x16x1152.size a := fun v2576 v2578 k1_hw46 => k1_hw46.2

def k1_off144 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2612 : Index := Scalar.indexCast v2289
  let c5_1019 : Index := 5#32
  ![v2612.toNat, 5]
def k1_off145 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2628 : Index := Scalar.indexCast v2289
  let c6_1025 : Index := 6#32
  ![v2628.toNat, 6]
def k1_mult47 (v2631 : BitVec 32) : BitVec 32 :=
  let c0_i32_1029 : BitVec 32 := 0#32
  let v2635 : BitVec 1 := Scalar.cmpi .sgt v2631 c0_i32_1029
  let v2636 : BitVec 32 := Scalar.extui v2635
  let c0_i32_1030 : BitVec 32 := 0#32
  let v2637 : BitVec 1 := Scalar.cmpi .slt v2631 c0_i32_1030
  let v2638 : BitVec 32 := Scalar.extui v2637
  let v2639 : BitVec 32 := Scalar.subi v2636 v2638
  let c128_i32_1028 : BitVec 32 := 128#32
  let c0_i32_1031 : BitVec 32 := 0#32
  let v2640 : BitVec 1 := Scalar.cmpi .sgt c128_i32_1028 c0_i32_1031
  let v2641 : BitVec 32 := Scalar.extui v2640
  let c0_i32_1032 : BitVec 32 := 0#32
  let v2642 : BitVec 1 := Scalar.cmpi .slt c128_i32_1028 c0_i32_1032
  let v2643 : BitVec 32 := Scalar.extui v2642
  let v2644 : BitVec 32 := Scalar.subi v2641 v2643
  let v2645 : BitVec 1 := Scalar.cmpi .ne v2639 v2644
  let v2646 : BitVec 32 := Scalar.remsi v2631 c128_i32_1028
  let c0_i32_1033 : BitVec 32 := 0#32
  let v2647 : BitVec 1 := Scalar.cmpi .ne v2646 c0_i32_1033
  let v2648 : BitVec 1 := Scalar.andi v2645 v2647
  let v2634 : BitVec 32 := Scalar.divsi v2631 c128_i32_1028
  let c1_i32_1034 : BitVec 32 := 1#32
  let v2649 : BitVec 32 := Scalar.subi v2634 c1_i32_1034
  let v2650 : BitVec 32 := Scalar.select v2648 v2649 v2634
  let c128_i32_1035 : BitVec 32 := 128#32
  let v2651 : BitVec 32 := Scalar.muli v2650 c128_i32_1035
  v2651

def k1_off146 (v2629 : BitVec 32) (v2631 : BitVec 32) : Fin 3 → Nat :=
  let v2654 : Index := Scalar.indexCast v2629
  let c0_1036 : Index := 0#32
  let c0_i32_1029 : BitVec 32 := 0#32
  let v2635 : BitVec 1 := Scalar.cmpi .sgt v2631 c0_i32_1029
  let v2636 : BitVec 32 := Scalar.extui v2635
  let c0_i32_1030 : BitVec 32 := 0#32
  let v2637 : BitVec 1 := Scalar.cmpi .slt v2631 c0_i32_1030
  let v2638 : BitVec 32 := Scalar.extui v2637
  let v2639 : BitVec 32 := Scalar.subi v2636 v2638
  let c128_i32_1028 : BitVec 32 := 128#32
  let c0_i32_1031 : BitVec 32 := 0#32
  let v2640 : BitVec 1 := Scalar.cmpi .sgt c128_i32_1028 c0_i32_1031
  let v2641 : BitVec 32 := Scalar.extui v2640
  let c0_i32_1032 : BitVec 32 := 0#32
  let v2642 : BitVec 1 := Scalar.cmpi .slt c128_i32_1028 c0_i32_1032
  let v2643 : BitVec 32 := Scalar.extui v2642
  let v2644 : BitVec 32 := Scalar.subi v2641 v2643
  let v2645 : BitVec 1 := Scalar.cmpi .ne v2639 v2644
  let v2646 : BitVec 32 := Scalar.remsi v2631 c128_i32_1028
  let c0_i32_1033 : BitVec 32 := 0#32
  let v2647 : BitVec 1 := Scalar.cmpi .ne v2646 c0_i32_1033
  let v2648 : BitVec 1 := Scalar.andi v2645 v2647
  let v2634 : BitVec 32 := Scalar.divsi v2631 c128_i32_1028
  let c1_i32_1034 : BitVec 32 := 1#32
  let v2649 : BitVec 32 := Scalar.subi v2634 c1_i32_1034
  let v2650 : BitVec 32 := Scalar.select v2648 v2649 v2634
  let c128_i32_1035 : BitVec 32 := 128#32
  let v2651 : BitVec 32 := Scalar.muli v2650 c128_i32_1035
  let v2652 : BitVec 32 := v2651
  let v2655 : Index := Scalar.indexCast v2652
  ![v2654.toNat, 0, v2655.toNat]

def k1_chk47 (v2629 : BitVec 32) (v2631 : BitVec 32) : Prop :=
  (128 ∣ (k1_mult47 v2631).toNat) ∧
  (∀ a, (k1_off146 v2629 v2631) a + S1x16x512.size a ≤ S384x16x1152.size a)
theorem k1_mult47_dvd : ∀ (v2629 : BitVec 32) (v2631 : BitVec 32) (k1_hw47 : k1_chk47 v2629 v2631), 128 ∣ (k1_mult47 v2631).toNat := fun v2629 v2631 k1_hw47 => k1_hw47.1
theorem k1_off146_inb : ∀ (v2629 : BitVec 32) (v2631 : BitVec 32) (k1_hw47 : k1_chk47 v2629 v2631), ∀ a, (k1_off146 v2629 v2631) a + S1x16x512.size a ≤ S384x16x1152.size a := fun v2629 v2631 k1_hw47 => k1_hw47.2

def k1_off147 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2665 : Index := Scalar.indexCast v2289
  let c6_1039 : Index := 6#32
  ![v2665.toNat, 6]
def k1_off148 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2681 : Index := Scalar.indexCast v2289
  let c7_1045 : Index := 7#32
  ![v2681.toNat, 7]
def k1_mult48 (v2684 : BitVec 32) : BitVec 32 :=
  let c0_i32_1049 : BitVec 32 := 0#32
  let v2688 : BitVec 1 := Scalar.cmpi .sgt v2684 c0_i32_1049
  let v2689 : BitVec 32 := Scalar.extui v2688
  let c0_i32_1050 : BitVec 32 := 0#32
  let v2690 : BitVec 1 := Scalar.cmpi .slt v2684 c0_i32_1050
  let v2691 : BitVec 32 := Scalar.extui v2690
  let v2692 : BitVec 32 := Scalar.subi v2689 v2691
  let c128_i32_1048 : BitVec 32 := 128#32
  let c0_i32_1051 : BitVec 32 := 0#32
  let v2693 : BitVec 1 := Scalar.cmpi .sgt c128_i32_1048 c0_i32_1051
  let v2694 : BitVec 32 := Scalar.extui v2693
  let c0_i32_1052 : BitVec 32 := 0#32
  let v2695 : BitVec 1 := Scalar.cmpi .slt c128_i32_1048 c0_i32_1052
  let v2696 : BitVec 32 := Scalar.extui v2695
  let v2697 : BitVec 32 := Scalar.subi v2694 v2696
  let v2698 : BitVec 1 := Scalar.cmpi .ne v2692 v2697
  let v2699 : BitVec 32 := Scalar.remsi v2684 c128_i32_1048
  let c0_i32_1053 : BitVec 32 := 0#32
  let v2700 : BitVec 1 := Scalar.cmpi .ne v2699 c0_i32_1053
  let v2701 : BitVec 1 := Scalar.andi v2698 v2700
  let v2687 : BitVec 32 := Scalar.divsi v2684 c128_i32_1048
  let c1_i32_1054 : BitVec 32 := 1#32
  let v2702 : BitVec 32 := Scalar.subi v2687 c1_i32_1054
  let v2703 : BitVec 32 := Scalar.select v2701 v2702 v2687
  let c128_i32_1055 : BitVec 32 := 128#32
  let v2704 : BitVec 32 := Scalar.muli v2703 c128_i32_1055
  v2704

def k1_off149 (v2682 : BitVec 32) (v2684 : BitVec 32) : Fin 3 → Nat :=
  let v2707 : Index := Scalar.indexCast v2682
  let c0_1056 : Index := 0#32
  let c0_i32_1049 : BitVec 32 := 0#32
  let v2688 : BitVec 1 := Scalar.cmpi .sgt v2684 c0_i32_1049
  let v2689 : BitVec 32 := Scalar.extui v2688
  let c0_i32_1050 : BitVec 32 := 0#32
  let v2690 : BitVec 1 := Scalar.cmpi .slt v2684 c0_i32_1050
  let v2691 : BitVec 32 := Scalar.extui v2690
  let v2692 : BitVec 32 := Scalar.subi v2689 v2691
  let c128_i32_1048 : BitVec 32 := 128#32
  let c0_i32_1051 : BitVec 32 := 0#32
  let v2693 : BitVec 1 := Scalar.cmpi .sgt c128_i32_1048 c0_i32_1051
  let v2694 : BitVec 32 := Scalar.extui v2693
  let c0_i32_1052 : BitVec 32 := 0#32
  let v2695 : BitVec 1 := Scalar.cmpi .slt c128_i32_1048 c0_i32_1052
  let v2696 : BitVec 32 := Scalar.extui v2695
  let v2697 : BitVec 32 := Scalar.subi v2694 v2696
  let v2698 : BitVec 1 := Scalar.cmpi .ne v2692 v2697
  let v2699 : BitVec 32 := Scalar.remsi v2684 c128_i32_1048
  let c0_i32_1053 : BitVec 32 := 0#32
  let v2700 : BitVec 1 := Scalar.cmpi .ne v2699 c0_i32_1053
  let v2701 : BitVec 1 := Scalar.andi v2698 v2700
  let v2687 : BitVec 32 := Scalar.divsi v2684 c128_i32_1048
  let c1_i32_1054 : BitVec 32 := 1#32
  let v2702 : BitVec 32 := Scalar.subi v2687 c1_i32_1054
  let v2703 : BitVec 32 := Scalar.select v2701 v2702 v2687
  let c128_i32_1055 : BitVec 32 := 128#32
  let v2704 : BitVec 32 := Scalar.muli v2703 c128_i32_1055
  let v2705 : BitVec 32 := v2704
  let v2708 : Index := Scalar.indexCast v2705
  ![v2707.toNat, 0, v2708.toNat]

def k1_chk48 (v2682 : BitVec 32) (v2684 : BitVec 32) : Prop :=
  (128 ∣ (k1_mult48 v2684).toNat) ∧
  (∀ a, (k1_off149 v2682 v2684) a + S1x16x512.size a ≤ S384x16x1152.size a)
theorem k1_mult48_dvd : ∀ (v2682 : BitVec 32) (v2684 : BitVec 32) (k1_hw48 : k1_chk48 v2682 v2684), 128 ∣ (k1_mult48 v2684).toNat := fun v2682 v2684 k1_hw48 => k1_hw48.1
theorem k1_off149_inb : ∀ (v2682 : BitVec 32) (v2684 : BitVec 32) (k1_hw48 : k1_chk48 v2682 v2684), ∀ a, (k1_off149 v2682 v2684) a + S1x16x512.size a ≤ S384x16x1152.size a := fun v2682 v2684 k1_hw48 => k1_hw48.2

def k1_off150 (i : grid1.Coords) : Fin 2 → Nat :=
  let arg0 : BitVec 32 := BitVec.ofNat 32 (i 0).val
  let c48_i32_893 : BitVec 32 := 48#32
  let v2288 : BitVec 32 := Scalar.muli arg0 c48_i32_893
  let c5_i32 : BitVec 32 := 5#32
  let v2289 : BitVec 32 := Scalar.addi v2288 c5_i32
  let v2718 : Index := Scalar.indexCast v2289
  let c7_1059 : Index := 7#32
  ![v2718.toNat, 7]
def k1_off151 (i : grid1.Coords) : Fin 3 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2747 : Index := Scalar.indexCast v2746
  let c0_1075 : Index := 0#32
  let c720_1076 : Index := 720#32
  ![v2747.toNat, 0, 720]
def k1_off152 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2767 : Index := Scalar.indexCast v2746
  let c0_1086 : Index := 0#32
  ![v2767.toNat, 0]
def k1_mult49 (v2770 : BitVec 32) : BitVec 32 :=
  let c0_i32_1090 : BitVec 32 := 0#32
  let v2774 : BitVec 1 := Scalar.cmpi .sgt v2770 c0_i32_1090
  let v2775 : BitVec 32 := Scalar.extui v2774
  let c0_i32_1091 : BitVec 32 := 0#32
  let v2776 : BitVec 1 := Scalar.cmpi .slt v2770 c0_i32_1091
  let v2777 : BitVec 32 := Scalar.extui v2776
  let v2778 : BitVec 32 := Scalar.subi v2775 v2777
  let c128_i32_1089 : BitVec 32 := 128#32
  let c0_i32_1092 : BitVec 32 := 0#32
  let v2779 : BitVec 1 := Scalar.cmpi .sgt c128_i32_1089 c0_i32_1092
  let v2780 : BitVec 32 := Scalar.extui v2779
  let c0_i32_1093 : BitVec 32 := 0#32
  let v2781 : BitVec 1 := Scalar.cmpi .slt c128_i32_1089 c0_i32_1093
  let v2782 : BitVec 32 := Scalar.extui v2781
  let v2783 : BitVec 32 := Scalar.subi v2780 v2782
  let v2784 : BitVec 1 := Scalar.cmpi .ne v2778 v2783
  let v2785 : BitVec 32 := Scalar.remsi v2770 c128_i32_1089
  let c0_i32_1094 : BitVec 32 := 0#32
  let v2786 : BitVec 1 := Scalar.cmpi .ne v2785 c0_i32_1094
  let v2787 : BitVec 1 := Scalar.andi v2784 v2786
  let v2773 : BitVec 32 := Scalar.divsi v2770 c128_i32_1089
  let c1_i32_1095 : BitVec 32 := 1#32
  let v2788 : BitVec 32 := Scalar.subi v2773 c1_i32_1095
  let v2789 : BitVec 32 := Scalar.select v2787 v2788 v2773
  let c128_i32_1096 : BitVec 32 := 128#32
  let v2790 : BitVec 32 := Scalar.muli v2789 c128_i32_1096
  v2790

def k1_off153 (v2768 : BitVec 32) (v2770 : BitVec 32) : Fin 3 → Nat :=
  let v2793 : Index := Scalar.indexCast v2768
  let c0_1097 : Index := 0#32
  let c0_i32_1090 : BitVec 32 := 0#32
  let v2774 : BitVec 1 := Scalar.cmpi .sgt v2770 c0_i32_1090
  let v2775 : BitVec 32 := Scalar.extui v2774
  let c0_i32_1091 : BitVec 32 := 0#32
  let v2776 : BitVec 1 := Scalar.cmpi .slt v2770 c0_i32_1091
  let v2777 : BitVec 32 := Scalar.extui v2776
  let v2778 : BitVec 32 := Scalar.subi v2775 v2777
  let c128_i32_1089 : BitVec 32 := 128#32
  let c0_i32_1092 : BitVec 32 := 0#32
  let v2779 : BitVec 1 := Scalar.cmpi .sgt c128_i32_1089 c0_i32_1092
  let v2780 : BitVec 32 := Scalar.extui v2779
  let c0_i32_1093 : BitVec 32 := 0#32
  let v2781 : BitVec 1 := Scalar.cmpi .slt c128_i32_1089 c0_i32_1093
  let v2782 : BitVec 32 := Scalar.extui v2781
  let v2783 : BitVec 32 := Scalar.subi v2780 v2782
  let v2784 : BitVec 1 := Scalar.cmpi .ne v2778 v2783
  let v2785 : BitVec 32 := Scalar.remsi v2770 c128_i32_1089
  let c0_i32_1094 : BitVec 32 := 0#32
  let v2786 : BitVec 1 := Scalar.cmpi .ne v2785 c0_i32_1094
  let v2787 : BitVec 1 := Scalar.andi v2784 v2786
  let v2773 : BitVec 32 := Scalar.divsi v2770 c128_i32_1089
  let c1_i32_1095 : BitVec 32 := 1#32
  let v2788 : BitVec 32 := Scalar.subi v2773 c1_i32_1095
  let v2789 : BitVec 32 := Scalar.select v2787 v2788 v2773
  let c128_i32_1096 : BitVec 32 := 128#32
  let v2790 : BitVec 32 := Scalar.muli v2789 c128_i32_1096
  let v2791 : BitVec 32 := v2790
  let v2794 : Index := Scalar.indexCast v2791
  ![v2793.toNat, 0, v2794.toNat]

def k1_chk49 (v2768 : BitVec 32) (v2770 : BitVec 32) : Prop :=
  (128 ∣ (k1_mult49 v2770).toNat) ∧
  (∀ a, (k1_off153 v2768 v2770) a + S1x16x512.size a ≤ S384x16x1152.size a)
theorem k1_mult49_dvd : ∀ (v2768 : BitVec 32) (v2770 : BitVec 32) (k1_hw49 : k1_chk49 v2768 v2770), 128 ∣ (k1_mult49 v2770).toNat := fun v2768 v2770 k1_hw49 => k1_hw49.1
theorem k1_off153_inb : ∀ (v2768 : BitVec 32) (v2770 : BitVec 32) (k1_hw49 : k1_chk49 v2768 v2770), ∀ a, (k1_off153 v2768 v2770) a + S1x16x512.size a ≤ S384x16x1152.size a := fun v2768 v2770 k1_hw49 => k1_hw49.2

def k1_off154 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2804 : Index := Scalar.indexCast v2746
  let c0_1100 : Index := 0#32
  ![v2804.toNat, 0]
def k1_off155 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2820 : Index := Scalar.indexCast v2746
  let c1_1106 : Index := 1#32
  ![v2820.toNat, 1]
def k1_mult50 (v2823 : BitVec 32) : BitVec 32 :=
  let c0_i32_1110 : BitVec 32 := 0#32
  let v2827 : BitVec 1 := Scalar.cmpi .sgt v2823 c0_i32_1110
  let v2828 : BitVec 32 := Scalar.extui v2827
  let c0_i32_1111 : BitVec 32 := 0#32
  let v2829 : BitVec 1 := Scalar.cmpi .slt v2823 c0_i32_1111
  let v2830 : BitVec 32 := Scalar.extui v2829
  let v2831 : BitVec 32 := Scalar.subi v2828 v2830
  let c128_i32_1109 : BitVec 32 := 128#32
  let c0_i32_1112 : BitVec 32 := 0#32
  let v2832 : BitVec 1 := Scalar.cmpi .sgt c128_i32_1109 c0_i32_1112
  let v2833 : BitVec 32 := Scalar.extui v2832
  let c0_i32_1113 : BitVec 32 := 0#32
  let v2834 : BitVec 1 := Scalar.cmpi .slt c128_i32_1109 c0_i32_1113
  let v2835 : BitVec 32 := Scalar.extui v2834
  let v2836 : BitVec 32 := Scalar.subi v2833 v2835
  let v2837 : BitVec 1 := Scalar.cmpi .ne v2831 v2836
  let v2838 : BitVec 32 := Scalar.remsi v2823 c128_i32_1109
  let c0_i32_1114 : BitVec 32 := 0#32
  let v2839 : BitVec 1 := Scalar.cmpi .ne v2838 c0_i32_1114
  let v2840 : BitVec 1 := Scalar.andi v2837 v2839
  let v2826 : BitVec 32 := Scalar.divsi v2823 c128_i32_1109
  let c1_i32_1115 : BitVec 32 := 1#32
  let v2841 : BitVec 32 := Scalar.subi v2826 c1_i32_1115
  let v2842 : BitVec 32 := Scalar.select v2840 v2841 v2826
  let c128_i32_1116 : BitVec 32 := 128#32
  let v2843 : BitVec 32 := Scalar.muli v2842 c128_i32_1116
  v2843

def k1_off156 (v2821 : BitVec 32) (v2823 : BitVec 32) : Fin 3 → Nat :=
  let v2846 : Index := Scalar.indexCast v2821
  let c0_1117 : Index := 0#32
  let c0_i32_1110 : BitVec 32 := 0#32
  let v2827 : BitVec 1 := Scalar.cmpi .sgt v2823 c0_i32_1110
  let v2828 : BitVec 32 := Scalar.extui v2827
  let c0_i32_1111 : BitVec 32 := 0#32
  let v2829 : BitVec 1 := Scalar.cmpi .slt v2823 c0_i32_1111
  let v2830 : BitVec 32 := Scalar.extui v2829
  let v2831 : BitVec 32 := Scalar.subi v2828 v2830
  let c128_i32_1109 : BitVec 32 := 128#32
  let c0_i32_1112 : BitVec 32 := 0#32
  let v2832 : BitVec 1 := Scalar.cmpi .sgt c128_i32_1109 c0_i32_1112
  let v2833 : BitVec 32 := Scalar.extui v2832
  let c0_i32_1113 : BitVec 32 := 0#32
  let v2834 : BitVec 1 := Scalar.cmpi .slt c128_i32_1109 c0_i32_1113
  let v2835 : BitVec 32 := Scalar.extui v2834
  let v2836 : BitVec 32 := Scalar.subi v2833 v2835
  let v2837 : BitVec 1 := Scalar.cmpi .ne v2831 v2836
  let v2838 : BitVec 32 := Scalar.remsi v2823 c128_i32_1109
  let c0_i32_1114 : BitVec 32 := 0#32
  let v2839 : BitVec 1 := Scalar.cmpi .ne v2838 c0_i32_1114
  let v2840 : BitVec 1 := Scalar.andi v2837 v2839
  let v2826 : BitVec 32 := Scalar.divsi v2823 c128_i32_1109
  let c1_i32_1115 : BitVec 32 := 1#32
  let v2841 : BitVec 32 := Scalar.subi v2826 c1_i32_1115
  let v2842 : BitVec 32 := Scalar.select v2840 v2841 v2826
  let c128_i32_1116 : BitVec 32 := 128#32
  let v2843 : BitVec 32 := Scalar.muli v2842 c128_i32_1116
  let v2844 : BitVec 32 := v2843
  let v2847 : Index := Scalar.indexCast v2844
  ![v2846.toNat, 0, v2847.toNat]

def k1_chk50 (v2821 : BitVec 32) (v2823 : BitVec 32) : Prop :=
  (128 ∣ (k1_mult50 v2823).toNat) ∧
  (∀ a, (k1_off156 v2821 v2823) a + S1x16x512.size a ≤ S384x16x1152.size a)
theorem k1_mult50_dvd : ∀ (v2821 : BitVec 32) (v2823 : BitVec 32) (k1_hw50 : k1_chk50 v2821 v2823), 128 ∣ (k1_mult50 v2823).toNat := fun v2821 v2823 k1_hw50 => k1_hw50.1
theorem k1_off156_inb : ∀ (v2821 : BitVec 32) (v2823 : BitVec 32) (k1_hw50 : k1_chk50 v2821 v2823), ∀ a, (k1_off156 v2821 v2823) a + S1x16x512.size a ≤ S384x16x1152.size a := fun v2821 v2823 k1_hw50 => k1_hw50.2

def k1_off157 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2857 : Index := Scalar.indexCast v2746
  let c1_1120 : Index := 1#32
  ![v2857.toNat, 1]
def k1_off158 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2873 : Index := Scalar.indexCast v2746
  let c2_1126 : Index := 2#32
  ![v2873.toNat, 2]
def k1_mult51 (v2876 : BitVec 32) : BitVec 32 :=
  let c0_i32_1130 : BitVec 32 := 0#32
  let v2880 : BitVec 1 := Scalar.cmpi .sgt v2876 c0_i32_1130
  let v2881 : BitVec 32 := Scalar.extui v2880
  let c0_i32_1131 : BitVec 32 := 0#32
  let v2882 : BitVec 1 := Scalar.cmpi .slt v2876 c0_i32_1131
  let v2883 : BitVec 32 := Scalar.extui v2882
  let v2884 : BitVec 32 := Scalar.subi v2881 v2883
  let c128_i32_1129 : BitVec 32 := 128#32
  let c0_i32_1132 : BitVec 32 := 0#32
  let v2885 : BitVec 1 := Scalar.cmpi .sgt c128_i32_1129 c0_i32_1132
  let v2886 : BitVec 32 := Scalar.extui v2885
  let c0_i32_1133 : BitVec 32 := 0#32
  let v2887 : BitVec 1 := Scalar.cmpi .slt c128_i32_1129 c0_i32_1133
  let v2888 : BitVec 32 := Scalar.extui v2887
  let v2889 : BitVec 32 := Scalar.subi v2886 v2888
  let v2890 : BitVec 1 := Scalar.cmpi .ne v2884 v2889
  let v2891 : BitVec 32 := Scalar.remsi v2876 c128_i32_1129
  let c0_i32_1134 : BitVec 32 := 0#32
  let v2892 : BitVec 1 := Scalar.cmpi .ne v2891 c0_i32_1134
  let v2893 : BitVec 1 := Scalar.andi v2890 v2892
  let v2879 : BitVec 32 := Scalar.divsi v2876 c128_i32_1129
  let c1_i32_1135 : BitVec 32 := 1#32
  let v2894 : BitVec 32 := Scalar.subi v2879 c1_i32_1135
  let v2895 : BitVec 32 := Scalar.select v2893 v2894 v2879
  let c128_i32_1136 : BitVec 32 := 128#32
  let v2896 : BitVec 32 := Scalar.muli v2895 c128_i32_1136
  v2896

def k1_off159 (v2874 : BitVec 32) (v2876 : BitVec 32) : Fin 3 → Nat :=
  let v2899 : Index := Scalar.indexCast v2874
  let c0_1137 : Index := 0#32
  let c0_i32_1130 : BitVec 32 := 0#32
  let v2880 : BitVec 1 := Scalar.cmpi .sgt v2876 c0_i32_1130
  let v2881 : BitVec 32 := Scalar.extui v2880
  let c0_i32_1131 : BitVec 32 := 0#32
  let v2882 : BitVec 1 := Scalar.cmpi .slt v2876 c0_i32_1131
  let v2883 : BitVec 32 := Scalar.extui v2882
  let v2884 : BitVec 32 := Scalar.subi v2881 v2883
  let c128_i32_1129 : BitVec 32 := 128#32
  let c0_i32_1132 : BitVec 32 := 0#32
  let v2885 : BitVec 1 := Scalar.cmpi .sgt c128_i32_1129 c0_i32_1132
  let v2886 : BitVec 32 := Scalar.extui v2885
  let c0_i32_1133 : BitVec 32 := 0#32
  let v2887 : BitVec 1 := Scalar.cmpi .slt c128_i32_1129 c0_i32_1133
  let v2888 : BitVec 32 := Scalar.extui v2887
  let v2889 : BitVec 32 := Scalar.subi v2886 v2888
  let v2890 : BitVec 1 := Scalar.cmpi .ne v2884 v2889
  let v2891 : BitVec 32 := Scalar.remsi v2876 c128_i32_1129
  let c0_i32_1134 : BitVec 32 := 0#32
  let v2892 : BitVec 1 := Scalar.cmpi .ne v2891 c0_i32_1134
  let v2893 : BitVec 1 := Scalar.andi v2890 v2892
  let v2879 : BitVec 32 := Scalar.divsi v2876 c128_i32_1129
  let c1_i32_1135 : BitVec 32 := 1#32
  let v2894 : BitVec 32 := Scalar.subi v2879 c1_i32_1135
  let v2895 : BitVec 32 := Scalar.select v2893 v2894 v2879
  let c128_i32_1136 : BitVec 32 := 128#32
  let v2896 : BitVec 32 := Scalar.muli v2895 c128_i32_1136
  let v2897 : BitVec 32 := v2896
  let v2900 : Index := Scalar.indexCast v2897
  ![v2899.toNat, 0, v2900.toNat]

def k1_chk51 (v2874 : BitVec 32) (v2876 : BitVec 32) : Prop :=
  (128 ∣ (k1_mult51 v2876).toNat) ∧
  (∀ a, (k1_off159 v2874 v2876) a + S1x16x512.size a ≤ S384x16x1152.size a)
theorem k1_mult51_dvd : ∀ (v2874 : BitVec 32) (v2876 : BitVec 32) (k1_hw51 : k1_chk51 v2874 v2876), 128 ∣ (k1_mult51 v2876).toNat := fun v2874 v2876 k1_hw51 => k1_hw51.1
theorem k1_off159_inb : ∀ (v2874 : BitVec 32) (v2876 : BitVec 32) (k1_hw51 : k1_chk51 v2874 v2876), ∀ a, (k1_off159 v2874 v2876) a + S1x16x512.size a ≤ S384x16x1152.size a := fun v2874 v2876 k1_hw51 => k1_hw51.2

def k1_off160 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2910 : Index := Scalar.indexCast v2746
  let c2_1140 : Index := 2#32
  ![v2910.toNat, 2]
def k1_off161 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2926 : Index := Scalar.indexCast v2746
  let c3_1146 : Index := 3#32
  ![v2926.toNat, 3]
def k1_mult52 (v2929 : BitVec 32) : BitVec 32 :=
  let c0_i32_1150 : BitVec 32 := 0#32
  let v2933 : BitVec 1 := Scalar.cmpi .sgt v2929 c0_i32_1150
  let v2934 : BitVec 32 := Scalar.extui v2933
  let c0_i32_1151 : BitVec 32 := 0#32
  let v2935 : BitVec 1 := Scalar.cmpi .slt v2929 c0_i32_1151
  let v2936 : BitVec 32 := Scalar.extui v2935
  let v2937 : BitVec 32 := Scalar.subi v2934 v2936
  let c128_i32_1149 : BitVec 32 := 128#32
  let c0_i32_1152 : BitVec 32 := 0#32
  let v2938 : BitVec 1 := Scalar.cmpi .sgt c128_i32_1149 c0_i32_1152
  let v2939 : BitVec 32 := Scalar.extui v2938
  let c0_i32_1153 : BitVec 32 := 0#32
  let v2940 : BitVec 1 := Scalar.cmpi .slt c128_i32_1149 c0_i32_1153
  let v2941 : BitVec 32 := Scalar.extui v2940
  let v2942 : BitVec 32 := Scalar.subi v2939 v2941
  let v2943 : BitVec 1 := Scalar.cmpi .ne v2937 v2942
  let v2944 : BitVec 32 := Scalar.remsi v2929 c128_i32_1149
  let c0_i32_1154 : BitVec 32 := 0#32
  let v2945 : BitVec 1 := Scalar.cmpi .ne v2944 c0_i32_1154
  let v2946 : BitVec 1 := Scalar.andi v2943 v2945
  let v2932 : BitVec 32 := Scalar.divsi v2929 c128_i32_1149
  let c1_i32_1155 : BitVec 32 := 1#32
  let v2947 : BitVec 32 := Scalar.subi v2932 c1_i32_1155
  let v2948 : BitVec 32 := Scalar.select v2946 v2947 v2932
  let c128_i32_1156 : BitVec 32 := 128#32
  let v2949 : BitVec 32 := Scalar.muli v2948 c128_i32_1156
  v2949

def k1_off162 (v2927 : BitVec 32) (v2929 : BitVec 32) : Fin 3 → Nat :=
  let v2952 : Index := Scalar.indexCast v2927
  let c0_1157 : Index := 0#32
  let c0_i32_1150 : BitVec 32 := 0#32
  let v2933 : BitVec 1 := Scalar.cmpi .sgt v2929 c0_i32_1150
  let v2934 : BitVec 32 := Scalar.extui v2933
  let c0_i32_1151 : BitVec 32 := 0#32
  let v2935 : BitVec 1 := Scalar.cmpi .slt v2929 c0_i32_1151
  let v2936 : BitVec 32 := Scalar.extui v2935
  let v2937 : BitVec 32 := Scalar.subi v2934 v2936
  let c128_i32_1149 : BitVec 32 := 128#32
  let c0_i32_1152 : BitVec 32 := 0#32
  let v2938 : BitVec 1 := Scalar.cmpi .sgt c128_i32_1149 c0_i32_1152
  let v2939 : BitVec 32 := Scalar.extui v2938
  let c0_i32_1153 : BitVec 32 := 0#32
  let v2940 : BitVec 1 := Scalar.cmpi .slt c128_i32_1149 c0_i32_1153
  let v2941 : BitVec 32 := Scalar.extui v2940
  let v2942 : BitVec 32 := Scalar.subi v2939 v2941
  let v2943 : BitVec 1 := Scalar.cmpi .ne v2937 v2942
  let v2944 : BitVec 32 := Scalar.remsi v2929 c128_i32_1149
  let c0_i32_1154 : BitVec 32 := 0#32
  let v2945 : BitVec 1 := Scalar.cmpi .ne v2944 c0_i32_1154
  let v2946 : BitVec 1 := Scalar.andi v2943 v2945
  let v2932 : BitVec 32 := Scalar.divsi v2929 c128_i32_1149
  let c1_i32_1155 : BitVec 32 := 1#32
  let v2947 : BitVec 32 := Scalar.subi v2932 c1_i32_1155
  let v2948 : BitVec 32 := Scalar.select v2946 v2947 v2932
  let c128_i32_1156 : BitVec 32 := 128#32
  let v2949 : BitVec 32 := Scalar.muli v2948 c128_i32_1156
  let v2950 : BitVec 32 := v2949
  let v2953 : Index := Scalar.indexCast v2950
  ![v2952.toNat, 0, v2953.toNat]

def k1_chk52 (v2927 : BitVec 32) (v2929 : BitVec 32) : Prop :=
  (128 ∣ (k1_mult52 v2929).toNat) ∧
  (∀ a, (k1_off162 v2927 v2929) a + S1x16x512.size a ≤ S384x16x1152.size a)
theorem k1_mult52_dvd : ∀ (v2927 : BitVec 32) (v2929 : BitVec 32) (k1_hw52 : k1_chk52 v2927 v2929), 128 ∣ (k1_mult52 v2929).toNat := fun v2927 v2929 k1_hw52 => k1_hw52.1
theorem k1_off162_inb : ∀ (v2927 : BitVec 32) (v2929 : BitVec 32) (k1_hw52 : k1_chk52 v2927 v2929), ∀ a, (k1_off162 v2927 v2929) a + S1x16x512.size a ≤ S384x16x1152.size a := fun v2927 v2929 k1_hw52 => k1_hw52.2

def k1_off163 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2963 : Index := Scalar.indexCast v2746
  let c3_1160 : Index := 3#32
  ![v2963.toNat, 3]
def k1_off164 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v2979 : Index := Scalar.indexCast v2746
  let c4_1166 : Index := 4#32
  ![v2979.toNat, 4]
def k1_mult53 (v2982 : BitVec 32) : BitVec 32 :=
  let c0_i32_1170 : BitVec 32 := 0#32
  let v2986 : BitVec 1 := Scalar.cmpi .sgt v2982 c0_i32_1170
  let v2987 : BitVec 32 := Scalar.extui v2986
  let c0_i32_1171 : BitVec 32 := 0#32
  let v2988 : BitVec 1 := Scalar.cmpi .slt v2982 c0_i32_1171
  let v2989 : BitVec 32 := Scalar.extui v2988
  let v2990 : BitVec 32 := Scalar.subi v2987 v2989
  let c128_i32_1169 : BitVec 32 := 128#32
  let c0_i32_1172 : BitVec 32 := 0#32
  let v2991 : BitVec 1 := Scalar.cmpi .sgt c128_i32_1169 c0_i32_1172
  let v2992 : BitVec 32 := Scalar.extui v2991
  let c0_i32_1173 : BitVec 32 := 0#32
  let v2993 : BitVec 1 := Scalar.cmpi .slt c128_i32_1169 c0_i32_1173
  let v2994 : BitVec 32 := Scalar.extui v2993
  let v2995 : BitVec 32 := Scalar.subi v2992 v2994
  let v2996 : BitVec 1 := Scalar.cmpi .ne v2990 v2995
  let v2997 : BitVec 32 := Scalar.remsi v2982 c128_i32_1169
  let c0_i32_1174 : BitVec 32 := 0#32
  let v2998 : BitVec 1 := Scalar.cmpi .ne v2997 c0_i32_1174
  let v2999 : BitVec 1 := Scalar.andi v2996 v2998
  let v2985 : BitVec 32 := Scalar.divsi v2982 c128_i32_1169
  let c1_i32_1175 : BitVec 32 := 1#32
  let v3000 : BitVec 32 := Scalar.subi v2985 c1_i32_1175
  let v3001 : BitVec 32 := Scalar.select v2999 v3000 v2985
  let c128_i32_1176 : BitVec 32 := 128#32
  let v3002 : BitVec 32 := Scalar.muli v3001 c128_i32_1176
  v3002

def k1_off165 (v2980 : BitVec 32) (v2982 : BitVec 32) : Fin 3 → Nat :=
  let v3005 : Index := Scalar.indexCast v2980
  let c0_1177 : Index := 0#32
  let c0_i32_1170 : BitVec 32 := 0#32
  let v2986 : BitVec 1 := Scalar.cmpi .sgt v2982 c0_i32_1170
  let v2987 : BitVec 32 := Scalar.extui v2986
  let c0_i32_1171 : BitVec 32 := 0#32
  let v2988 : BitVec 1 := Scalar.cmpi .slt v2982 c0_i32_1171
  let v2989 : BitVec 32 := Scalar.extui v2988
  let v2990 : BitVec 32 := Scalar.subi v2987 v2989
  let c128_i32_1169 : BitVec 32 := 128#32
  let c0_i32_1172 : BitVec 32 := 0#32
  let v2991 : BitVec 1 := Scalar.cmpi .sgt c128_i32_1169 c0_i32_1172
  let v2992 : BitVec 32 := Scalar.extui v2991
  let c0_i32_1173 : BitVec 32 := 0#32
  let v2993 : BitVec 1 := Scalar.cmpi .slt c128_i32_1169 c0_i32_1173
  let v2994 : BitVec 32 := Scalar.extui v2993
  let v2995 : BitVec 32 := Scalar.subi v2992 v2994
  let v2996 : BitVec 1 := Scalar.cmpi .ne v2990 v2995
  let v2997 : BitVec 32 := Scalar.remsi v2982 c128_i32_1169
  let c0_i32_1174 : BitVec 32 := 0#32
  let v2998 : BitVec 1 := Scalar.cmpi .ne v2997 c0_i32_1174
  let v2999 : BitVec 1 := Scalar.andi v2996 v2998
  let v2985 : BitVec 32 := Scalar.divsi v2982 c128_i32_1169
  let c1_i32_1175 : BitVec 32 := 1#32
  let v3000 : BitVec 32 := Scalar.subi v2985 c1_i32_1175
  let v3001 : BitVec 32 := Scalar.select v2999 v3000 v2985
  let c128_i32_1176 : BitVec 32 := 128#32
  let v3002 : BitVec 32 := Scalar.muli v3001 c128_i32_1176
  let v3003 : BitVec 32 := v3002
  let v3006 : Index := Scalar.indexCast v3003
  ![v3005.toNat, 0, v3006.toNat]

def k1_chk53 (v2980 : BitVec 32) (v2982 : BitVec 32) : Prop :=
  (128 ∣ (k1_mult53 v2982).toNat) ∧
  (∀ a, (k1_off165 v2980 v2982) a + S1x16x512.size a ≤ S384x16x1152.size a)
theorem k1_mult53_dvd : ∀ (v2980 : BitVec 32) (v2982 : BitVec 32) (k1_hw53 : k1_chk53 v2980 v2982), 128 ∣ (k1_mult53 v2982).toNat := fun v2980 v2982 k1_hw53 => k1_hw53.1
theorem k1_off165_inb : ∀ (v2980 : BitVec 32) (v2982 : BitVec 32) (k1_hw53 : k1_chk53 v2980 v2982), ∀ a, (k1_off165 v2980 v2982) a + S1x16x512.size a ≤ S384x16x1152.size a := fun v2980 v2982 k1_hw53 => k1_hw53.2

def k1_off166 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3016 : Index := Scalar.indexCast v2746
  let c4_1180 : Index := 4#32
  ![v3016.toNat, 4]
def k1_off167 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3032 : Index := Scalar.indexCast v2746
  let c5_1186 : Index := 5#32
  ![v3032.toNat, 5]
def k1_mult54 (v3035 : BitVec 32) : BitVec 32 :=
  let c0_i32_1190 : BitVec 32 := 0#32
  let v3039 : BitVec 1 := Scalar.cmpi .sgt v3035 c0_i32_1190
  let v3040 : BitVec 32 := Scalar.extui v3039
  let c0_i32_1191 : BitVec 32 := 0#32
  let v3041 : BitVec 1 := Scalar.cmpi .slt v3035 c0_i32_1191
  let v3042 : BitVec 32 := Scalar.extui v3041
  let v3043 : BitVec 32 := Scalar.subi v3040 v3042
  let c128_i32_1189 : BitVec 32 := 128#32
  let c0_i32_1192 : BitVec 32 := 0#32
  let v3044 : BitVec 1 := Scalar.cmpi .sgt c128_i32_1189 c0_i32_1192
  let v3045 : BitVec 32 := Scalar.extui v3044
  let c0_i32_1193 : BitVec 32 := 0#32
  let v3046 : BitVec 1 := Scalar.cmpi .slt c128_i32_1189 c0_i32_1193
  let v3047 : BitVec 32 := Scalar.extui v3046
  let v3048 : BitVec 32 := Scalar.subi v3045 v3047
  let v3049 : BitVec 1 := Scalar.cmpi .ne v3043 v3048
  let v3050 : BitVec 32 := Scalar.remsi v3035 c128_i32_1189
  let c0_i32_1194 : BitVec 32 := 0#32
  let v3051 : BitVec 1 := Scalar.cmpi .ne v3050 c0_i32_1194
  let v3052 : BitVec 1 := Scalar.andi v3049 v3051
  let v3038 : BitVec 32 := Scalar.divsi v3035 c128_i32_1189
  let c1_i32_1195 : BitVec 32 := 1#32
  let v3053 : BitVec 32 := Scalar.subi v3038 c1_i32_1195
  let v3054 : BitVec 32 := Scalar.select v3052 v3053 v3038
  let c128_i32_1196 : BitVec 32 := 128#32
  let v3055 : BitVec 32 := Scalar.muli v3054 c128_i32_1196
  v3055

def k1_off168 (v3033 : BitVec 32) (v3035 : BitVec 32) : Fin 3 → Nat :=
  let v3058 : Index := Scalar.indexCast v3033
  let c0_1197 : Index := 0#32
  let c0_i32_1190 : BitVec 32 := 0#32
  let v3039 : BitVec 1 := Scalar.cmpi .sgt v3035 c0_i32_1190
  let v3040 : BitVec 32 := Scalar.extui v3039
  let c0_i32_1191 : BitVec 32 := 0#32
  let v3041 : BitVec 1 := Scalar.cmpi .slt v3035 c0_i32_1191
  let v3042 : BitVec 32 := Scalar.extui v3041
  let v3043 : BitVec 32 := Scalar.subi v3040 v3042
  let c128_i32_1189 : BitVec 32 := 128#32
  let c0_i32_1192 : BitVec 32 := 0#32
  let v3044 : BitVec 1 := Scalar.cmpi .sgt c128_i32_1189 c0_i32_1192
  let v3045 : BitVec 32 := Scalar.extui v3044
  let c0_i32_1193 : BitVec 32 := 0#32
  let v3046 : BitVec 1 := Scalar.cmpi .slt c128_i32_1189 c0_i32_1193
  let v3047 : BitVec 32 := Scalar.extui v3046
  let v3048 : BitVec 32 := Scalar.subi v3045 v3047
  let v3049 : BitVec 1 := Scalar.cmpi .ne v3043 v3048
  let v3050 : BitVec 32 := Scalar.remsi v3035 c128_i32_1189
  let c0_i32_1194 : BitVec 32 := 0#32
  let v3051 : BitVec 1 := Scalar.cmpi .ne v3050 c0_i32_1194
  let v3052 : BitVec 1 := Scalar.andi v3049 v3051
  let v3038 : BitVec 32 := Scalar.divsi v3035 c128_i32_1189
  let c1_i32_1195 : BitVec 32 := 1#32
  let v3053 : BitVec 32 := Scalar.subi v3038 c1_i32_1195
  let v3054 : BitVec 32 := Scalar.select v3052 v3053 v3038
  let c128_i32_1196 : BitVec 32 := 128#32
  let v3055 : BitVec 32 := Scalar.muli v3054 c128_i32_1196
  let v3056 : BitVec 32 := v3055
  let v3059 : Index := Scalar.indexCast v3056
  ![v3058.toNat, 0, v3059.toNat]

def k1_chk54 (v3033 : BitVec 32) (v3035 : BitVec 32) : Prop :=
  (128 ∣ (k1_mult54 v3035).toNat) ∧
  (∀ a, (k1_off168 v3033 v3035) a + S1x16x512.size a ≤ S384x16x1152.size a)
theorem k1_mult54_dvd : ∀ (v3033 : BitVec 32) (v3035 : BitVec 32) (k1_hw54 : k1_chk54 v3033 v3035), 128 ∣ (k1_mult54 v3035).toNat := fun v3033 v3035 k1_hw54 => k1_hw54.1
theorem k1_off168_inb : ∀ (v3033 : BitVec 32) (v3035 : BitVec 32) (k1_hw54 : k1_chk54 v3033 v3035), ∀ a, (k1_off168 v3033 v3035) a + S1x16x512.size a ≤ S384x16x1152.size a := fun v3033 v3035 k1_hw54 => k1_hw54.2

def k1_off169 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3069 : Index := Scalar.indexCast v2746
  let c5_1200 : Index := 5#32
  ![v3069.toNat, 5]
def k1_off170 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3085 : Index := Scalar.indexCast v2746
  let c6_1206 : Index := 6#32
  ![v3085.toNat, 6]
def k1_mult55 (v3088 : BitVec 32) : BitVec 32 :=
  let c0_i32_1210 : BitVec 32 := 0#32
  let v3092 : BitVec 1 := Scalar.cmpi .sgt v3088 c0_i32_1210
  let v3093 : BitVec 32 := Scalar.extui v3092
  let c0_i32_1211 : BitVec 32 := 0#32
  let v3094 : BitVec 1 := Scalar.cmpi .slt v3088 c0_i32_1211
  let v3095 : BitVec 32 := Scalar.extui v3094
  let v3096 : BitVec 32 := Scalar.subi v3093 v3095
  let c128_i32_1209 : BitVec 32 := 128#32
  let c0_i32_1212 : BitVec 32 := 0#32
  let v3097 : BitVec 1 := Scalar.cmpi .sgt c128_i32_1209 c0_i32_1212
  let v3098 : BitVec 32 := Scalar.extui v3097
  let c0_i32_1213 : BitVec 32 := 0#32
  let v3099 : BitVec 1 := Scalar.cmpi .slt c128_i32_1209 c0_i32_1213
  let v3100 : BitVec 32 := Scalar.extui v3099
  let v3101 : BitVec 32 := Scalar.subi v3098 v3100
  let v3102 : BitVec 1 := Scalar.cmpi .ne v3096 v3101
  let v3103 : BitVec 32 := Scalar.remsi v3088 c128_i32_1209
  let c0_i32_1214 : BitVec 32 := 0#32
  let v3104 : BitVec 1 := Scalar.cmpi .ne v3103 c0_i32_1214
  let v3105 : BitVec 1 := Scalar.andi v3102 v3104
  let v3091 : BitVec 32 := Scalar.divsi v3088 c128_i32_1209
  let c1_i32_1215 : BitVec 32 := 1#32
  let v3106 : BitVec 32 := Scalar.subi v3091 c1_i32_1215
  let v3107 : BitVec 32 := Scalar.select v3105 v3106 v3091
  let c128_i32_1216 : BitVec 32 := 128#32
  let v3108 : BitVec 32 := Scalar.muli v3107 c128_i32_1216
  v3108

def k1_off171 (v3086 : BitVec 32) (v3088 : BitVec 32) : Fin 3 → Nat :=
  let v3111 : Index := Scalar.indexCast v3086
  let c0_1217 : Index := 0#32
  let c0_i32_1210 : BitVec 32 := 0#32
  let v3092 : BitVec 1 := Scalar.cmpi .sgt v3088 c0_i32_1210
  let v3093 : BitVec 32 := Scalar.extui v3092
  let c0_i32_1211 : BitVec 32 := 0#32
  let v3094 : BitVec 1 := Scalar.cmpi .slt v3088 c0_i32_1211
  let v3095 : BitVec 32 := Scalar.extui v3094
  let v3096 : BitVec 32 := Scalar.subi v3093 v3095
  let c128_i32_1209 : BitVec 32 := 128#32
  let c0_i32_1212 : BitVec 32 := 0#32
  let v3097 : BitVec 1 := Scalar.cmpi .sgt c128_i32_1209 c0_i32_1212
  let v3098 : BitVec 32 := Scalar.extui v3097
  let c0_i32_1213 : BitVec 32 := 0#32
  let v3099 : BitVec 1 := Scalar.cmpi .slt c128_i32_1209 c0_i32_1213
  let v3100 : BitVec 32 := Scalar.extui v3099
  let v3101 : BitVec 32 := Scalar.subi v3098 v3100
  let v3102 : BitVec 1 := Scalar.cmpi .ne v3096 v3101
  let v3103 : BitVec 32 := Scalar.remsi v3088 c128_i32_1209
  let c0_i32_1214 : BitVec 32 := 0#32
  let v3104 : BitVec 1 := Scalar.cmpi .ne v3103 c0_i32_1214
  let v3105 : BitVec 1 := Scalar.andi v3102 v3104
  let v3091 : BitVec 32 := Scalar.divsi v3088 c128_i32_1209
  let c1_i32_1215 : BitVec 32 := 1#32
  let v3106 : BitVec 32 := Scalar.subi v3091 c1_i32_1215
  let v3107 : BitVec 32 := Scalar.select v3105 v3106 v3091
  let c128_i32_1216 : BitVec 32 := 128#32
  let v3108 : BitVec 32 := Scalar.muli v3107 c128_i32_1216
  let v3109 : BitVec 32 := v3108
  let v3112 : Index := Scalar.indexCast v3109
  ![v3111.toNat, 0, v3112.toNat]

def k1_chk55 (v3086 : BitVec 32) (v3088 : BitVec 32) : Prop :=
  (128 ∣ (k1_mult55 v3088).toNat) ∧
  (∀ a, (k1_off171 v3086 v3088) a + S1x16x512.size a ≤ S384x16x1152.size a)
theorem k1_mult55_dvd : ∀ (v3086 : BitVec 32) (v3088 : BitVec 32) (k1_hw55 : k1_chk55 v3086 v3088), 128 ∣ (k1_mult55 v3088).toNat := fun v3086 v3088 k1_hw55 => k1_hw55.1
theorem k1_off171_inb : ∀ (v3086 : BitVec 32) (v3088 : BitVec 32) (k1_hw55 : k1_chk55 v3086 v3088), ∀ a, (k1_off171 v3086 v3088) a + S1x16x512.size a ≤ S384x16x1152.size a := fun v3086 v3088 k1_hw55 => k1_hw55.2

def k1_off172 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3122 : Index := Scalar.indexCast v2746
  let c6_1220 : Index := 6#32
  ![v3122.toNat, 6]
def k1_off173 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3138 : Index := Scalar.indexCast v2746
  let c7_1226 : Index := 7#32
  ![v3138.toNat, 7]
def k1_mult56 (v3141 : BitVec 32) : BitVec 32 :=
  let c0_i32_1230 : BitVec 32 := 0#32
  let v3145 : BitVec 1 := Scalar.cmpi .sgt v3141 c0_i32_1230
  let v3146 : BitVec 32 := Scalar.extui v3145
  let c0_i32_1231 : BitVec 32 := 0#32
  let v3147 : BitVec 1 := Scalar.cmpi .slt v3141 c0_i32_1231
  let v3148 : BitVec 32 := Scalar.extui v3147
  let v3149 : BitVec 32 := Scalar.subi v3146 v3148
  let c128_i32_1229 : BitVec 32 := 128#32
  let c0_i32_1232 : BitVec 32 := 0#32
  let v3150 : BitVec 1 := Scalar.cmpi .sgt c128_i32_1229 c0_i32_1232
  let v3151 : BitVec 32 := Scalar.extui v3150
  let c0_i32_1233 : BitVec 32 := 0#32
  let v3152 : BitVec 1 := Scalar.cmpi .slt c128_i32_1229 c0_i32_1233
  let v3153 : BitVec 32 := Scalar.extui v3152
  let v3154 : BitVec 32 := Scalar.subi v3151 v3153
  let v3155 : BitVec 1 := Scalar.cmpi .ne v3149 v3154
  let v3156 : BitVec 32 := Scalar.remsi v3141 c128_i32_1229
  let c0_i32_1234 : BitVec 32 := 0#32
  let v3157 : BitVec 1 := Scalar.cmpi .ne v3156 c0_i32_1234
  let v3158 : BitVec 1 := Scalar.andi v3155 v3157
  let v3144 : BitVec 32 := Scalar.divsi v3141 c128_i32_1229
  let c1_i32_1235 : BitVec 32 := 1#32
  let v3159 : BitVec 32 := Scalar.subi v3144 c1_i32_1235
  let v3160 : BitVec 32 := Scalar.select v3158 v3159 v3144
  let c128_i32_1236 : BitVec 32 := 128#32
  let v3161 : BitVec 32 := Scalar.muli v3160 c128_i32_1236
  v3161

def k1_off174 (v3139 : BitVec 32) (v3141 : BitVec 32) : Fin 3 → Nat :=
  let v3164 : Index := Scalar.indexCast v3139
  let c0_1237 : Index := 0#32
  let c0_i32_1230 : BitVec 32 := 0#32
  let v3145 : BitVec 1 := Scalar.cmpi .sgt v3141 c0_i32_1230
  let v3146 : BitVec 32 := Scalar.extui v3145
  let c0_i32_1231 : BitVec 32 := 0#32
  let v3147 : BitVec 1 := Scalar.cmpi .slt v3141 c0_i32_1231
  let v3148 : BitVec 32 := Scalar.extui v3147
  let v3149 : BitVec 32 := Scalar.subi v3146 v3148
  let c128_i32_1229 : BitVec 32 := 128#32
  let c0_i32_1232 : BitVec 32 := 0#32
  let v3150 : BitVec 1 := Scalar.cmpi .sgt c128_i32_1229 c0_i32_1232
  let v3151 : BitVec 32 := Scalar.extui v3150
  let c0_i32_1233 : BitVec 32 := 0#32
  let v3152 : BitVec 1 := Scalar.cmpi .slt c128_i32_1229 c0_i32_1233
  let v3153 : BitVec 32 := Scalar.extui v3152
  let v3154 : BitVec 32 := Scalar.subi v3151 v3153
  let v3155 : BitVec 1 := Scalar.cmpi .ne v3149 v3154
  let v3156 : BitVec 32 := Scalar.remsi v3141 c128_i32_1229
  let c0_i32_1234 : BitVec 32 := 0#32
  let v3157 : BitVec 1 := Scalar.cmpi .ne v3156 c0_i32_1234
  let v3158 : BitVec 1 := Scalar.andi v3155 v3157
  let v3144 : BitVec 32 := Scalar.divsi v3141 c128_i32_1229
  let c1_i32_1235 : BitVec 32 := 1#32
  let v3159 : BitVec 32 := Scalar.subi v3144 c1_i32_1235
  let v3160 : BitVec 32 := Scalar.select v3158 v3159 v3144
  let c128_i32_1236 : BitVec 32 := 128#32
  let v3161 : BitVec 32 := Scalar.muli v3160 c128_i32_1236
  let v3162 : BitVec 32 := v3161
  let v3165 : Index := Scalar.indexCast v3162
  ![v3164.toNat, 0, v3165.toNat]

def k1_chk56 (v3139 : BitVec 32) (v3141 : BitVec 32) : Prop :=
  (128 ∣ (k1_mult56 v3141).toNat) ∧
  (∀ a, (k1_off174 v3139 v3141) a + S1x16x512.size a ≤ S384x16x1152.size a)
theorem k1_mult56_dvd : ∀ (v3139 : BitVec 32) (v3141 : BitVec 32) (k1_hw56 : k1_chk56 v3139 v3141), 128 ∣ (k1_mult56 v3141).toNat := fun v3139 v3141 k1_hw56 => k1_hw56.1
theorem k1_off174_inb : ∀ (v3139 : BitVec 32) (v3141 : BitVec 32) (k1_hw56 : k1_chk56 v3139 v3141), ∀ a, (k1_off174 v3139 v3141) a + S1x16x512.size a ≤ S384x16x1152.size a := fun v3139 v3141 k1_hw56 => k1_hw56.2

def k1_off175 (i : grid1.Coords) : Fin 2 → Nat :=
  let arg0 : BitVec 32 := BitVec.ofNat 32 (i 0).val
  let c48_i32_1074 : BitVec 32 := 48#32
  let v2745 : BitVec 32 := Scalar.muli arg0 c48_i32_1074
  let c6_i32 : BitVec 32 := 6#32
  let v2746 : BitVec 32 := Scalar.addi v2745 c6_i32
  let v3175 : Index := Scalar.indexCast v2746
  let c7_1240 : Index := 7#32
  ![v3175.toNat, 7]
def k1_off176 (i : grid1.Coords) : Fin 3 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3204 : Index := Scalar.indexCast v3203
  let c0_1256 : Index := 0#32
  let c720_1257 : Index := 720#32
  ![v3204.toNat, 0, 720]
def k1_off177 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3224 : Index := Scalar.indexCast v3203
  let c0_1267 : Index := 0#32
  ![v3224.toNat, 0]
def k1_mult57 (v3227 : BitVec 32) : BitVec 32 :=
  let c0_i32_1271 : BitVec 32 := 0#32
  let v3231 : BitVec 1 := Scalar.cmpi .sgt v3227 c0_i32_1271
  let v3232 : BitVec 32 := Scalar.extui v3231
  let c0_i32_1272 : BitVec 32 := 0#32
  let v3233 : BitVec 1 := Scalar.cmpi .slt v3227 c0_i32_1272
  let v3234 : BitVec 32 := Scalar.extui v3233
  let v3235 : BitVec 32 := Scalar.subi v3232 v3234
  let c128_i32_1270 : BitVec 32 := 128#32
  let c0_i32_1273 : BitVec 32 := 0#32
  let v3236 : BitVec 1 := Scalar.cmpi .sgt c128_i32_1270 c0_i32_1273
  let v3237 : BitVec 32 := Scalar.extui v3236
  let c0_i32_1274 : BitVec 32 := 0#32
  let v3238 : BitVec 1 := Scalar.cmpi .slt c128_i32_1270 c0_i32_1274
  let v3239 : BitVec 32 := Scalar.extui v3238
  let v3240 : BitVec 32 := Scalar.subi v3237 v3239
  let v3241 : BitVec 1 := Scalar.cmpi .ne v3235 v3240
  let v3242 : BitVec 32 := Scalar.remsi v3227 c128_i32_1270
  let c0_i32_1275 : BitVec 32 := 0#32
  let v3243 : BitVec 1 := Scalar.cmpi .ne v3242 c0_i32_1275
  let v3244 : BitVec 1 := Scalar.andi v3241 v3243
  let v3230 : BitVec 32 := Scalar.divsi v3227 c128_i32_1270
  let c1_i32_1276 : BitVec 32 := 1#32
  let v3245 : BitVec 32 := Scalar.subi v3230 c1_i32_1276
  let v3246 : BitVec 32 := Scalar.select v3244 v3245 v3230
  let c128_i32_1277 : BitVec 32 := 128#32
  let v3247 : BitVec 32 := Scalar.muli v3246 c128_i32_1277
  v3247

def k1_off178 (v3225 : BitVec 32) (v3227 : BitVec 32) : Fin 3 → Nat :=
  let v3250 : Index := Scalar.indexCast v3225
  let c0_1278 : Index := 0#32
  let c0_i32_1271 : BitVec 32 := 0#32
  let v3231 : BitVec 1 := Scalar.cmpi .sgt v3227 c0_i32_1271
  let v3232 : BitVec 32 := Scalar.extui v3231
  let c0_i32_1272 : BitVec 32 := 0#32
  let v3233 : BitVec 1 := Scalar.cmpi .slt v3227 c0_i32_1272
  let v3234 : BitVec 32 := Scalar.extui v3233
  let v3235 : BitVec 32 := Scalar.subi v3232 v3234
  let c128_i32_1270 : BitVec 32 := 128#32
  let c0_i32_1273 : BitVec 32 := 0#32
  let v3236 : BitVec 1 := Scalar.cmpi .sgt c128_i32_1270 c0_i32_1273
  let v3237 : BitVec 32 := Scalar.extui v3236
  let c0_i32_1274 : BitVec 32 := 0#32
  let v3238 : BitVec 1 := Scalar.cmpi .slt c128_i32_1270 c0_i32_1274
  let v3239 : BitVec 32 := Scalar.extui v3238
  let v3240 : BitVec 32 := Scalar.subi v3237 v3239
  let v3241 : BitVec 1 := Scalar.cmpi .ne v3235 v3240
  let v3242 : BitVec 32 := Scalar.remsi v3227 c128_i32_1270
  let c0_i32_1275 : BitVec 32 := 0#32
  let v3243 : BitVec 1 := Scalar.cmpi .ne v3242 c0_i32_1275
  let v3244 : BitVec 1 := Scalar.andi v3241 v3243
  let v3230 : BitVec 32 := Scalar.divsi v3227 c128_i32_1270
  let c1_i32_1276 : BitVec 32 := 1#32
  let v3245 : BitVec 32 := Scalar.subi v3230 c1_i32_1276
  let v3246 : BitVec 32 := Scalar.select v3244 v3245 v3230
  let c128_i32_1277 : BitVec 32 := 128#32
  let v3247 : BitVec 32 := Scalar.muli v3246 c128_i32_1277
  let v3248 : BitVec 32 := v3247
  let v3251 : Index := Scalar.indexCast v3248
  ![v3250.toNat, 0, v3251.toNat]

def k1_chk57 (v3225 : BitVec 32) (v3227 : BitVec 32) : Prop :=
  (128 ∣ (k1_mult57 v3227).toNat) ∧
  (∀ a, (k1_off178 v3225 v3227) a + S1x16x512.size a ≤ S384x16x1152.size a)
theorem k1_mult57_dvd : ∀ (v3225 : BitVec 32) (v3227 : BitVec 32) (k1_hw57 : k1_chk57 v3225 v3227), 128 ∣ (k1_mult57 v3227).toNat := fun v3225 v3227 k1_hw57 => k1_hw57.1
theorem k1_off178_inb : ∀ (v3225 : BitVec 32) (v3227 : BitVec 32) (k1_hw57 : k1_chk57 v3225 v3227), ∀ a, (k1_off178 v3225 v3227) a + S1x16x512.size a ≤ S384x16x1152.size a := fun v3225 v3227 k1_hw57 => k1_hw57.2

def k1_off179 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3261 : Index := Scalar.indexCast v3203
  let c0_1281 : Index := 0#32
  ![v3261.toNat, 0]
def k1_off180 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3277 : Index := Scalar.indexCast v3203
  let c1_1287 : Index := 1#32
  ![v3277.toNat, 1]
def k1_mult58 (v3280 : BitVec 32) : BitVec 32 :=
  let c0_i32_1291 : BitVec 32 := 0#32
  let v3284 : BitVec 1 := Scalar.cmpi .sgt v3280 c0_i32_1291
  let v3285 : BitVec 32 := Scalar.extui v3284
  let c0_i32_1292 : BitVec 32 := 0#32
  let v3286 : BitVec 1 := Scalar.cmpi .slt v3280 c0_i32_1292
  let v3287 : BitVec 32 := Scalar.extui v3286
  let v3288 : BitVec 32 := Scalar.subi v3285 v3287
  let c128_i32_1290 : BitVec 32 := 128#32
  let c0_i32_1293 : BitVec 32 := 0#32
  let v3289 : BitVec 1 := Scalar.cmpi .sgt c128_i32_1290 c0_i32_1293
  let v3290 : BitVec 32 := Scalar.extui v3289
  let c0_i32_1294 : BitVec 32 := 0#32
  let v3291 : BitVec 1 := Scalar.cmpi .slt c128_i32_1290 c0_i32_1294
  let v3292 : BitVec 32 := Scalar.extui v3291
  let v3293 : BitVec 32 := Scalar.subi v3290 v3292
  let v3294 : BitVec 1 := Scalar.cmpi .ne v3288 v3293
  let v3295 : BitVec 32 := Scalar.remsi v3280 c128_i32_1290
  let c0_i32_1295 : BitVec 32 := 0#32
  let v3296 : BitVec 1 := Scalar.cmpi .ne v3295 c0_i32_1295
  let v3297 : BitVec 1 := Scalar.andi v3294 v3296
  let v3283 : BitVec 32 := Scalar.divsi v3280 c128_i32_1290
  let c1_i32_1296 : BitVec 32 := 1#32
  let v3298 : BitVec 32 := Scalar.subi v3283 c1_i32_1296
  let v3299 : BitVec 32 := Scalar.select v3297 v3298 v3283
  let c128_i32_1297 : BitVec 32 := 128#32
  let v3300 : BitVec 32 := Scalar.muli v3299 c128_i32_1297
  v3300

def k1_off181 (v3278 : BitVec 32) (v3280 : BitVec 32) : Fin 3 → Nat :=
  let v3303 : Index := Scalar.indexCast v3278
  let c0_1298 : Index := 0#32
  let c0_i32_1291 : BitVec 32 := 0#32
  let v3284 : BitVec 1 := Scalar.cmpi .sgt v3280 c0_i32_1291
  let v3285 : BitVec 32 := Scalar.extui v3284
  let c0_i32_1292 : BitVec 32 := 0#32
  let v3286 : BitVec 1 := Scalar.cmpi .slt v3280 c0_i32_1292
  let v3287 : BitVec 32 := Scalar.extui v3286
  let v3288 : BitVec 32 := Scalar.subi v3285 v3287
  let c128_i32_1290 : BitVec 32 := 128#32
  let c0_i32_1293 : BitVec 32 := 0#32
  let v3289 : BitVec 1 := Scalar.cmpi .sgt c128_i32_1290 c0_i32_1293
  let v3290 : BitVec 32 := Scalar.extui v3289
  let c0_i32_1294 : BitVec 32 := 0#32
  let v3291 : BitVec 1 := Scalar.cmpi .slt c128_i32_1290 c0_i32_1294
  let v3292 : BitVec 32 := Scalar.extui v3291
  let v3293 : BitVec 32 := Scalar.subi v3290 v3292
  let v3294 : BitVec 1 := Scalar.cmpi .ne v3288 v3293
  let v3295 : BitVec 32 := Scalar.remsi v3280 c128_i32_1290
  let c0_i32_1295 : BitVec 32 := 0#32
  let v3296 : BitVec 1 := Scalar.cmpi .ne v3295 c0_i32_1295
  let v3297 : BitVec 1 := Scalar.andi v3294 v3296
  let v3283 : BitVec 32 := Scalar.divsi v3280 c128_i32_1290
  let c1_i32_1296 : BitVec 32 := 1#32
  let v3298 : BitVec 32 := Scalar.subi v3283 c1_i32_1296
  let v3299 : BitVec 32 := Scalar.select v3297 v3298 v3283
  let c128_i32_1297 : BitVec 32 := 128#32
  let v3300 : BitVec 32 := Scalar.muli v3299 c128_i32_1297
  let v3301 : BitVec 32 := v3300
  let v3304 : Index := Scalar.indexCast v3301
  ![v3303.toNat, 0, v3304.toNat]

def k1_chk58 (v3278 : BitVec 32) (v3280 : BitVec 32) : Prop :=
  (128 ∣ (k1_mult58 v3280).toNat) ∧
  (∀ a, (k1_off181 v3278 v3280) a + S1x16x512.size a ≤ S384x16x1152.size a)
theorem k1_mult58_dvd : ∀ (v3278 : BitVec 32) (v3280 : BitVec 32) (k1_hw58 : k1_chk58 v3278 v3280), 128 ∣ (k1_mult58 v3280).toNat := fun v3278 v3280 k1_hw58 => k1_hw58.1
theorem k1_off181_inb : ∀ (v3278 : BitVec 32) (v3280 : BitVec 32) (k1_hw58 : k1_chk58 v3278 v3280), ∀ a, (k1_off181 v3278 v3280) a + S1x16x512.size a ≤ S384x16x1152.size a := fun v3278 v3280 k1_hw58 => k1_hw58.2

def k1_off182 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3314 : Index := Scalar.indexCast v3203
  let c1_1301 : Index := 1#32
  ![v3314.toNat, 1]
def k1_off183 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3330 : Index := Scalar.indexCast v3203
  let c2_1307 : Index := 2#32
  ![v3330.toNat, 2]
def k1_mult59 (v3333 : BitVec 32) : BitVec 32 :=
  let c0_i32_1311 : BitVec 32 := 0#32
  let v3337 : BitVec 1 := Scalar.cmpi .sgt v3333 c0_i32_1311
  let v3338 : BitVec 32 := Scalar.extui v3337
  let c0_i32_1312 : BitVec 32 := 0#32
  let v3339 : BitVec 1 := Scalar.cmpi .slt v3333 c0_i32_1312
  let v3340 : BitVec 32 := Scalar.extui v3339
  let v3341 : BitVec 32 := Scalar.subi v3338 v3340
  let c128_i32_1310 : BitVec 32 := 128#32
  let c0_i32_1313 : BitVec 32 := 0#32
  let v3342 : BitVec 1 := Scalar.cmpi .sgt c128_i32_1310 c0_i32_1313
  let v3343 : BitVec 32 := Scalar.extui v3342
  let c0_i32_1314 : BitVec 32 := 0#32
  let v3344 : BitVec 1 := Scalar.cmpi .slt c128_i32_1310 c0_i32_1314
  let v3345 : BitVec 32 := Scalar.extui v3344
  let v3346 : BitVec 32 := Scalar.subi v3343 v3345
  let v3347 : BitVec 1 := Scalar.cmpi .ne v3341 v3346
  let v3348 : BitVec 32 := Scalar.remsi v3333 c128_i32_1310
  let c0_i32_1315 : BitVec 32 := 0#32
  let v3349 : BitVec 1 := Scalar.cmpi .ne v3348 c0_i32_1315
  let v3350 : BitVec 1 := Scalar.andi v3347 v3349
  let v3336 : BitVec 32 := Scalar.divsi v3333 c128_i32_1310
  let c1_i32_1316 : BitVec 32 := 1#32
  let v3351 : BitVec 32 := Scalar.subi v3336 c1_i32_1316
  let v3352 : BitVec 32 := Scalar.select v3350 v3351 v3336
  let c128_i32_1317 : BitVec 32 := 128#32
  let v3353 : BitVec 32 := Scalar.muli v3352 c128_i32_1317
  v3353

def k1_off184 (v3331 : BitVec 32) (v3333 : BitVec 32) : Fin 3 → Nat :=
  let v3356 : Index := Scalar.indexCast v3331
  let c0_1318 : Index := 0#32
  let c0_i32_1311 : BitVec 32 := 0#32
  let v3337 : BitVec 1 := Scalar.cmpi .sgt v3333 c0_i32_1311
  let v3338 : BitVec 32 := Scalar.extui v3337
  let c0_i32_1312 : BitVec 32 := 0#32
  let v3339 : BitVec 1 := Scalar.cmpi .slt v3333 c0_i32_1312
  let v3340 : BitVec 32 := Scalar.extui v3339
  let v3341 : BitVec 32 := Scalar.subi v3338 v3340
  let c128_i32_1310 : BitVec 32 := 128#32
  let c0_i32_1313 : BitVec 32 := 0#32
  let v3342 : BitVec 1 := Scalar.cmpi .sgt c128_i32_1310 c0_i32_1313
  let v3343 : BitVec 32 := Scalar.extui v3342
  let c0_i32_1314 : BitVec 32 := 0#32
  let v3344 : BitVec 1 := Scalar.cmpi .slt c128_i32_1310 c0_i32_1314
  let v3345 : BitVec 32 := Scalar.extui v3344
  let v3346 : BitVec 32 := Scalar.subi v3343 v3345
  let v3347 : BitVec 1 := Scalar.cmpi .ne v3341 v3346
  let v3348 : BitVec 32 := Scalar.remsi v3333 c128_i32_1310
  let c0_i32_1315 : BitVec 32 := 0#32
  let v3349 : BitVec 1 := Scalar.cmpi .ne v3348 c0_i32_1315
  let v3350 : BitVec 1 := Scalar.andi v3347 v3349
  let v3336 : BitVec 32 := Scalar.divsi v3333 c128_i32_1310
  let c1_i32_1316 : BitVec 32 := 1#32
  let v3351 : BitVec 32 := Scalar.subi v3336 c1_i32_1316
  let v3352 : BitVec 32 := Scalar.select v3350 v3351 v3336
  let c128_i32_1317 : BitVec 32 := 128#32
  let v3353 : BitVec 32 := Scalar.muli v3352 c128_i32_1317
  let v3354 : BitVec 32 := v3353
  let v3357 : Index := Scalar.indexCast v3354
  ![v3356.toNat, 0, v3357.toNat]

def k1_chk59 (v3331 : BitVec 32) (v3333 : BitVec 32) : Prop :=
  (128 ∣ (k1_mult59 v3333).toNat) ∧
  (∀ a, (k1_off184 v3331 v3333) a + S1x16x512.size a ≤ S384x16x1152.size a)
theorem k1_mult59_dvd : ∀ (v3331 : BitVec 32) (v3333 : BitVec 32) (k1_hw59 : k1_chk59 v3331 v3333), 128 ∣ (k1_mult59 v3333).toNat := fun v3331 v3333 k1_hw59 => k1_hw59.1
theorem k1_off184_inb : ∀ (v3331 : BitVec 32) (v3333 : BitVec 32) (k1_hw59 : k1_chk59 v3331 v3333), ∀ a, (k1_off184 v3331 v3333) a + S1x16x512.size a ≤ S384x16x1152.size a := fun v3331 v3333 k1_hw59 => k1_hw59.2

def k1_off185 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3367 : Index := Scalar.indexCast v3203
  let c2_1321 : Index := 2#32
  ![v3367.toNat, 2]
def k1_off186 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3383 : Index := Scalar.indexCast v3203
  let c3_1327 : Index := 3#32
  ![v3383.toNat, 3]
def k1_mult60 (v3386 : BitVec 32) : BitVec 32 :=
  let c0_i32_1331 : BitVec 32 := 0#32
  let v3390 : BitVec 1 := Scalar.cmpi .sgt v3386 c0_i32_1331
  let v3391 : BitVec 32 := Scalar.extui v3390
  let c0_i32_1332 : BitVec 32 := 0#32
  let v3392 : BitVec 1 := Scalar.cmpi .slt v3386 c0_i32_1332
  let v3393 : BitVec 32 := Scalar.extui v3392
  let v3394 : BitVec 32 := Scalar.subi v3391 v3393
  let c128_i32_1330 : BitVec 32 := 128#32
  let c0_i32_1333 : BitVec 32 := 0#32
  let v3395 : BitVec 1 := Scalar.cmpi .sgt c128_i32_1330 c0_i32_1333
  let v3396 : BitVec 32 := Scalar.extui v3395
  let c0_i32_1334 : BitVec 32 := 0#32
  let v3397 : BitVec 1 := Scalar.cmpi .slt c128_i32_1330 c0_i32_1334
  let v3398 : BitVec 32 := Scalar.extui v3397
  let v3399 : BitVec 32 := Scalar.subi v3396 v3398
  let v3400 : BitVec 1 := Scalar.cmpi .ne v3394 v3399
  let v3401 : BitVec 32 := Scalar.remsi v3386 c128_i32_1330
  let c0_i32_1335 : BitVec 32 := 0#32
  let v3402 : BitVec 1 := Scalar.cmpi .ne v3401 c0_i32_1335
  let v3403 : BitVec 1 := Scalar.andi v3400 v3402
  let v3389 : BitVec 32 := Scalar.divsi v3386 c128_i32_1330
  let c1_i32_1336 : BitVec 32 := 1#32
  let v3404 : BitVec 32 := Scalar.subi v3389 c1_i32_1336
  let v3405 : BitVec 32 := Scalar.select v3403 v3404 v3389
  let c128_i32_1337 : BitVec 32 := 128#32
  let v3406 : BitVec 32 := Scalar.muli v3405 c128_i32_1337
  v3406

def k1_off187 (v3384 : BitVec 32) (v3386 : BitVec 32) : Fin 3 → Nat :=
  let v3409 : Index := Scalar.indexCast v3384
  let c0_1338 : Index := 0#32
  let c0_i32_1331 : BitVec 32 := 0#32
  let v3390 : BitVec 1 := Scalar.cmpi .sgt v3386 c0_i32_1331
  let v3391 : BitVec 32 := Scalar.extui v3390
  let c0_i32_1332 : BitVec 32 := 0#32
  let v3392 : BitVec 1 := Scalar.cmpi .slt v3386 c0_i32_1332
  let v3393 : BitVec 32 := Scalar.extui v3392
  let v3394 : BitVec 32 := Scalar.subi v3391 v3393
  let c128_i32_1330 : BitVec 32 := 128#32
  let c0_i32_1333 : BitVec 32 := 0#32
  let v3395 : BitVec 1 := Scalar.cmpi .sgt c128_i32_1330 c0_i32_1333
  let v3396 : BitVec 32 := Scalar.extui v3395
  let c0_i32_1334 : BitVec 32 := 0#32
  let v3397 : BitVec 1 := Scalar.cmpi .slt c128_i32_1330 c0_i32_1334
  let v3398 : BitVec 32 := Scalar.extui v3397
  let v3399 : BitVec 32 := Scalar.subi v3396 v3398
  let v3400 : BitVec 1 := Scalar.cmpi .ne v3394 v3399
  let v3401 : BitVec 32 := Scalar.remsi v3386 c128_i32_1330
  let c0_i32_1335 : BitVec 32 := 0#32
  let v3402 : BitVec 1 := Scalar.cmpi .ne v3401 c0_i32_1335
  let v3403 : BitVec 1 := Scalar.andi v3400 v3402
  let v3389 : BitVec 32 := Scalar.divsi v3386 c128_i32_1330
  let c1_i32_1336 : BitVec 32 := 1#32
  let v3404 : BitVec 32 := Scalar.subi v3389 c1_i32_1336
  let v3405 : BitVec 32 := Scalar.select v3403 v3404 v3389
  let c128_i32_1337 : BitVec 32 := 128#32
  let v3406 : BitVec 32 := Scalar.muli v3405 c128_i32_1337
  let v3407 : BitVec 32 := v3406
  let v3410 : Index := Scalar.indexCast v3407
  ![v3409.toNat, 0, v3410.toNat]

def k1_chk60 (v3384 : BitVec 32) (v3386 : BitVec 32) : Prop :=
  (128 ∣ (k1_mult60 v3386).toNat) ∧
  (∀ a, (k1_off187 v3384 v3386) a + S1x16x512.size a ≤ S384x16x1152.size a)
theorem k1_mult60_dvd : ∀ (v3384 : BitVec 32) (v3386 : BitVec 32) (k1_hw60 : k1_chk60 v3384 v3386), 128 ∣ (k1_mult60 v3386).toNat := fun v3384 v3386 k1_hw60 => k1_hw60.1
theorem k1_off187_inb : ∀ (v3384 : BitVec 32) (v3386 : BitVec 32) (k1_hw60 : k1_chk60 v3384 v3386), ∀ a, (k1_off187 v3384 v3386) a + S1x16x512.size a ≤ S384x16x1152.size a := fun v3384 v3386 k1_hw60 => k1_hw60.2

def k1_off188 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3420 : Index := Scalar.indexCast v3203
  let c3_1341 : Index := 3#32
  ![v3420.toNat, 3]
def k1_off189 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3436 : Index := Scalar.indexCast v3203
  let c4_1347 : Index := 4#32
  ![v3436.toNat, 4]
def k1_mult61 (v3439 : BitVec 32) : BitVec 32 :=
  let c0_i32_1351 : BitVec 32 := 0#32
  let v3443 : BitVec 1 := Scalar.cmpi .sgt v3439 c0_i32_1351
  let v3444 : BitVec 32 := Scalar.extui v3443
  let c0_i32_1352 : BitVec 32 := 0#32
  let v3445 : BitVec 1 := Scalar.cmpi .slt v3439 c0_i32_1352
  let v3446 : BitVec 32 := Scalar.extui v3445
  let v3447 : BitVec 32 := Scalar.subi v3444 v3446
  let c128_i32_1350 : BitVec 32 := 128#32
  let c0_i32_1353 : BitVec 32 := 0#32
  let v3448 : BitVec 1 := Scalar.cmpi .sgt c128_i32_1350 c0_i32_1353
  let v3449 : BitVec 32 := Scalar.extui v3448
  let c0_i32_1354 : BitVec 32 := 0#32
  let v3450 : BitVec 1 := Scalar.cmpi .slt c128_i32_1350 c0_i32_1354
  let v3451 : BitVec 32 := Scalar.extui v3450
  let v3452 : BitVec 32 := Scalar.subi v3449 v3451
  let v3453 : BitVec 1 := Scalar.cmpi .ne v3447 v3452
  let v3454 : BitVec 32 := Scalar.remsi v3439 c128_i32_1350
  let c0_i32_1355 : BitVec 32 := 0#32
  let v3455 : BitVec 1 := Scalar.cmpi .ne v3454 c0_i32_1355
  let v3456 : BitVec 1 := Scalar.andi v3453 v3455
  let v3442 : BitVec 32 := Scalar.divsi v3439 c128_i32_1350
  let c1_i32_1356 : BitVec 32 := 1#32
  let v3457 : BitVec 32 := Scalar.subi v3442 c1_i32_1356
  let v3458 : BitVec 32 := Scalar.select v3456 v3457 v3442
  let c128_i32_1357 : BitVec 32 := 128#32
  let v3459 : BitVec 32 := Scalar.muli v3458 c128_i32_1357
  v3459

def k1_off190 (v3437 : BitVec 32) (v3439 : BitVec 32) : Fin 3 → Nat :=
  let v3462 : Index := Scalar.indexCast v3437
  let c0_1358 : Index := 0#32
  let c0_i32_1351 : BitVec 32 := 0#32
  let v3443 : BitVec 1 := Scalar.cmpi .sgt v3439 c0_i32_1351
  let v3444 : BitVec 32 := Scalar.extui v3443
  let c0_i32_1352 : BitVec 32 := 0#32
  let v3445 : BitVec 1 := Scalar.cmpi .slt v3439 c0_i32_1352
  let v3446 : BitVec 32 := Scalar.extui v3445
  let v3447 : BitVec 32 := Scalar.subi v3444 v3446
  let c128_i32_1350 : BitVec 32 := 128#32
  let c0_i32_1353 : BitVec 32 := 0#32
  let v3448 : BitVec 1 := Scalar.cmpi .sgt c128_i32_1350 c0_i32_1353
  let v3449 : BitVec 32 := Scalar.extui v3448
  let c0_i32_1354 : BitVec 32 := 0#32
  let v3450 : BitVec 1 := Scalar.cmpi .slt c128_i32_1350 c0_i32_1354
  let v3451 : BitVec 32 := Scalar.extui v3450
  let v3452 : BitVec 32 := Scalar.subi v3449 v3451
  let v3453 : BitVec 1 := Scalar.cmpi .ne v3447 v3452
  let v3454 : BitVec 32 := Scalar.remsi v3439 c128_i32_1350
  let c0_i32_1355 : BitVec 32 := 0#32
  let v3455 : BitVec 1 := Scalar.cmpi .ne v3454 c0_i32_1355
  let v3456 : BitVec 1 := Scalar.andi v3453 v3455
  let v3442 : BitVec 32 := Scalar.divsi v3439 c128_i32_1350
  let c1_i32_1356 : BitVec 32 := 1#32
  let v3457 : BitVec 32 := Scalar.subi v3442 c1_i32_1356
  let v3458 : BitVec 32 := Scalar.select v3456 v3457 v3442
  let c128_i32_1357 : BitVec 32 := 128#32
  let v3459 : BitVec 32 := Scalar.muli v3458 c128_i32_1357
  let v3460 : BitVec 32 := v3459
  let v3463 : Index := Scalar.indexCast v3460
  ![v3462.toNat, 0, v3463.toNat]

def k1_chk61 (v3437 : BitVec 32) (v3439 : BitVec 32) : Prop :=
  (128 ∣ (k1_mult61 v3439).toNat) ∧
  (∀ a, (k1_off190 v3437 v3439) a + S1x16x512.size a ≤ S384x16x1152.size a)
theorem k1_mult61_dvd : ∀ (v3437 : BitVec 32) (v3439 : BitVec 32) (k1_hw61 : k1_chk61 v3437 v3439), 128 ∣ (k1_mult61 v3439).toNat := fun v3437 v3439 k1_hw61 => k1_hw61.1
theorem k1_off190_inb : ∀ (v3437 : BitVec 32) (v3439 : BitVec 32) (k1_hw61 : k1_chk61 v3437 v3439), ∀ a, (k1_off190 v3437 v3439) a + S1x16x512.size a ≤ S384x16x1152.size a := fun v3437 v3439 k1_hw61 => k1_hw61.2

def k1_off191 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3473 : Index := Scalar.indexCast v3203
  let c4_1361 : Index := 4#32
  ![v3473.toNat, 4]
def k1_off192 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3489 : Index := Scalar.indexCast v3203
  let c5_1367 : Index := 5#32
  ![v3489.toNat, 5]
def k1_mult62 (v3492 : BitVec 32) : BitVec 32 :=
  let c0_i32_1371 : BitVec 32 := 0#32
  let v3496 : BitVec 1 := Scalar.cmpi .sgt v3492 c0_i32_1371
  let v3497 : BitVec 32 := Scalar.extui v3496
  let c0_i32_1372 : BitVec 32 := 0#32
  let v3498 : BitVec 1 := Scalar.cmpi .slt v3492 c0_i32_1372
  let v3499 : BitVec 32 := Scalar.extui v3498
  let v3500 : BitVec 32 := Scalar.subi v3497 v3499
  let c128_i32_1370 : BitVec 32 := 128#32
  let c0_i32_1373 : BitVec 32 := 0#32
  let v3501 : BitVec 1 := Scalar.cmpi .sgt c128_i32_1370 c0_i32_1373
  let v3502 : BitVec 32 := Scalar.extui v3501
  let c0_i32_1374 : BitVec 32 := 0#32
  let v3503 : BitVec 1 := Scalar.cmpi .slt c128_i32_1370 c0_i32_1374
  let v3504 : BitVec 32 := Scalar.extui v3503
  let v3505 : BitVec 32 := Scalar.subi v3502 v3504
  let v3506 : BitVec 1 := Scalar.cmpi .ne v3500 v3505
  let v3507 : BitVec 32 := Scalar.remsi v3492 c128_i32_1370
  let c0_i32_1375 : BitVec 32 := 0#32
  let v3508 : BitVec 1 := Scalar.cmpi .ne v3507 c0_i32_1375
  let v3509 : BitVec 1 := Scalar.andi v3506 v3508
  let v3495 : BitVec 32 := Scalar.divsi v3492 c128_i32_1370
  let c1_i32_1376 : BitVec 32 := 1#32
  let v3510 : BitVec 32 := Scalar.subi v3495 c1_i32_1376
  let v3511 : BitVec 32 := Scalar.select v3509 v3510 v3495
  let c128_i32_1377 : BitVec 32 := 128#32
  let v3512 : BitVec 32 := Scalar.muli v3511 c128_i32_1377
  v3512

def k1_off193 (v3490 : BitVec 32) (v3492 : BitVec 32) : Fin 3 → Nat :=
  let v3515 : Index := Scalar.indexCast v3490
  let c0_1378 : Index := 0#32
  let c0_i32_1371 : BitVec 32 := 0#32
  let v3496 : BitVec 1 := Scalar.cmpi .sgt v3492 c0_i32_1371
  let v3497 : BitVec 32 := Scalar.extui v3496
  let c0_i32_1372 : BitVec 32 := 0#32
  let v3498 : BitVec 1 := Scalar.cmpi .slt v3492 c0_i32_1372
  let v3499 : BitVec 32 := Scalar.extui v3498
  let v3500 : BitVec 32 := Scalar.subi v3497 v3499
  let c128_i32_1370 : BitVec 32 := 128#32
  let c0_i32_1373 : BitVec 32 := 0#32
  let v3501 : BitVec 1 := Scalar.cmpi .sgt c128_i32_1370 c0_i32_1373
  let v3502 : BitVec 32 := Scalar.extui v3501
  let c0_i32_1374 : BitVec 32 := 0#32
  let v3503 : BitVec 1 := Scalar.cmpi .slt c128_i32_1370 c0_i32_1374
  let v3504 : BitVec 32 := Scalar.extui v3503
  let v3505 : BitVec 32 := Scalar.subi v3502 v3504
  let v3506 : BitVec 1 := Scalar.cmpi .ne v3500 v3505
  let v3507 : BitVec 32 := Scalar.remsi v3492 c128_i32_1370
  let c0_i32_1375 : BitVec 32 := 0#32
  let v3508 : BitVec 1 := Scalar.cmpi .ne v3507 c0_i32_1375
  let v3509 : BitVec 1 := Scalar.andi v3506 v3508
  let v3495 : BitVec 32 := Scalar.divsi v3492 c128_i32_1370
  let c1_i32_1376 : BitVec 32 := 1#32
  let v3510 : BitVec 32 := Scalar.subi v3495 c1_i32_1376
  let v3511 : BitVec 32 := Scalar.select v3509 v3510 v3495
  let c128_i32_1377 : BitVec 32 := 128#32
  let v3512 : BitVec 32 := Scalar.muli v3511 c128_i32_1377
  let v3513 : BitVec 32 := v3512
  let v3516 : Index := Scalar.indexCast v3513
  ![v3515.toNat, 0, v3516.toNat]

def k1_chk62 (v3490 : BitVec 32) (v3492 : BitVec 32) : Prop :=
  (128 ∣ (k1_mult62 v3492).toNat) ∧
  (∀ a, (k1_off193 v3490 v3492) a + S1x16x512.size a ≤ S384x16x1152.size a)
theorem k1_mult62_dvd : ∀ (v3490 : BitVec 32) (v3492 : BitVec 32) (k1_hw62 : k1_chk62 v3490 v3492), 128 ∣ (k1_mult62 v3492).toNat := fun v3490 v3492 k1_hw62 => k1_hw62.1
theorem k1_off193_inb : ∀ (v3490 : BitVec 32) (v3492 : BitVec 32) (k1_hw62 : k1_chk62 v3490 v3492), ∀ a, (k1_off193 v3490 v3492) a + S1x16x512.size a ≤ S384x16x1152.size a := fun v3490 v3492 k1_hw62 => k1_hw62.2

def k1_off194 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3526 : Index := Scalar.indexCast v3203
  let c5_1381 : Index := 5#32
  ![v3526.toNat, 5]
def k1_off195 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3542 : Index := Scalar.indexCast v3203
  let c6_1387 : Index := 6#32
  ![v3542.toNat, 6]
def k1_mult63 (v3545 : BitVec 32) : BitVec 32 :=
  let c0_i32_1391 : BitVec 32 := 0#32
  let v3549 : BitVec 1 := Scalar.cmpi .sgt v3545 c0_i32_1391
  let v3550 : BitVec 32 := Scalar.extui v3549
  let c0_i32_1392 : BitVec 32 := 0#32
  let v3551 : BitVec 1 := Scalar.cmpi .slt v3545 c0_i32_1392
  let v3552 : BitVec 32 := Scalar.extui v3551
  let v3553 : BitVec 32 := Scalar.subi v3550 v3552
  let c128_i32_1390 : BitVec 32 := 128#32
  let c0_i32_1393 : BitVec 32 := 0#32
  let v3554 : BitVec 1 := Scalar.cmpi .sgt c128_i32_1390 c0_i32_1393
  let v3555 : BitVec 32 := Scalar.extui v3554
  let c0_i32_1394 : BitVec 32 := 0#32
  let v3556 : BitVec 1 := Scalar.cmpi .slt c128_i32_1390 c0_i32_1394
  let v3557 : BitVec 32 := Scalar.extui v3556
  let v3558 : BitVec 32 := Scalar.subi v3555 v3557
  let v3559 : BitVec 1 := Scalar.cmpi .ne v3553 v3558
  let v3560 : BitVec 32 := Scalar.remsi v3545 c128_i32_1390
  let c0_i32_1395 : BitVec 32 := 0#32
  let v3561 : BitVec 1 := Scalar.cmpi .ne v3560 c0_i32_1395
  let v3562 : BitVec 1 := Scalar.andi v3559 v3561
  let v3548 : BitVec 32 := Scalar.divsi v3545 c128_i32_1390
  let c1_i32_1396 : BitVec 32 := 1#32
  let v3563 : BitVec 32 := Scalar.subi v3548 c1_i32_1396
  let v3564 : BitVec 32 := Scalar.select v3562 v3563 v3548
  let c128_i32_1397 : BitVec 32 := 128#32
  let v3565 : BitVec 32 := Scalar.muli v3564 c128_i32_1397
  v3565

def k1_off196 (v3543 : BitVec 32) (v3545 : BitVec 32) : Fin 3 → Nat :=
  let v3568 : Index := Scalar.indexCast v3543
  let c0_1398 : Index := 0#32
  let c0_i32_1391 : BitVec 32 := 0#32
  let v3549 : BitVec 1 := Scalar.cmpi .sgt v3545 c0_i32_1391
  let v3550 : BitVec 32 := Scalar.extui v3549
  let c0_i32_1392 : BitVec 32 := 0#32
  let v3551 : BitVec 1 := Scalar.cmpi .slt v3545 c0_i32_1392
  let v3552 : BitVec 32 := Scalar.extui v3551
  let v3553 : BitVec 32 := Scalar.subi v3550 v3552
  let c128_i32_1390 : BitVec 32 := 128#32
  let c0_i32_1393 : BitVec 32 := 0#32
  let v3554 : BitVec 1 := Scalar.cmpi .sgt c128_i32_1390 c0_i32_1393
  let v3555 : BitVec 32 := Scalar.extui v3554
  let c0_i32_1394 : BitVec 32 := 0#32
  let v3556 : BitVec 1 := Scalar.cmpi .slt c128_i32_1390 c0_i32_1394
  let v3557 : BitVec 32 := Scalar.extui v3556
  let v3558 : BitVec 32 := Scalar.subi v3555 v3557
  let v3559 : BitVec 1 := Scalar.cmpi .ne v3553 v3558
  let v3560 : BitVec 32 := Scalar.remsi v3545 c128_i32_1390
  let c0_i32_1395 : BitVec 32 := 0#32
  let v3561 : BitVec 1 := Scalar.cmpi .ne v3560 c0_i32_1395
  let v3562 : BitVec 1 := Scalar.andi v3559 v3561
  let v3548 : BitVec 32 := Scalar.divsi v3545 c128_i32_1390
  let c1_i32_1396 : BitVec 32 := 1#32
  let v3563 : BitVec 32 := Scalar.subi v3548 c1_i32_1396
  let v3564 : BitVec 32 := Scalar.select v3562 v3563 v3548
  let c128_i32_1397 : BitVec 32 := 128#32
  let v3565 : BitVec 32 := Scalar.muli v3564 c128_i32_1397
  let v3566 : BitVec 32 := v3565
  let v3569 : Index := Scalar.indexCast v3566
  ![v3568.toNat, 0, v3569.toNat]

def k1_chk63 (v3543 : BitVec 32) (v3545 : BitVec 32) : Prop :=
  (128 ∣ (k1_mult63 v3545).toNat) ∧
  (∀ a, (k1_off196 v3543 v3545) a + S1x16x512.size a ≤ S384x16x1152.size a)
theorem k1_mult63_dvd : ∀ (v3543 : BitVec 32) (v3545 : BitVec 32) (k1_hw63 : k1_chk63 v3543 v3545), 128 ∣ (k1_mult63 v3545).toNat := fun v3543 v3545 k1_hw63 => k1_hw63.1
theorem k1_off196_inb : ∀ (v3543 : BitVec 32) (v3545 : BitVec 32) (k1_hw63 : k1_chk63 v3543 v3545), ∀ a, (k1_off196 v3543 v3545) a + S1x16x512.size a ≤ S384x16x1152.size a := fun v3543 v3545 k1_hw63 => k1_hw63.2

def k1_off197 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3579 : Index := Scalar.indexCast v3203
  let c6_1401 : Index := 6#32
  ![v3579.toNat, 6]
def k1_off198 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3595 : Index := Scalar.indexCast v3203
  let c7_1407 : Index := 7#32
  ![v3595.toNat, 7]
def k1_mult64 (v3598 : BitVec 32) : BitVec 32 :=
  let c0_i32_1411 : BitVec 32 := 0#32
  let v3602 : BitVec 1 := Scalar.cmpi .sgt v3598 c0_i32_1411
  let v3603 : BitVec 32 := Scalar.extui v3602
  let c0_i32_1412 : BitVec 32 := 0#32
  let v3604 : BitVec 1 := Scalar.cmpi .slt v3598 c0_i32_1412
  let v3605 : BitVec 32 := Scalar.extui v3604
  let v3606 : BitVec 32 := Scalar.subi v3603 v3605
  let c128_i32_1410 : BitVec 32 := 128#32
  let c0_i32_1413 : BitVec 32 := 0#32
  let v3607 : BitVec 1 := Scalar.cmpi .sgt c128_i32_1410 c0_i32_1413
  let v3608 : BitVec 32 := Scalar.extui v3607
  let c0_i32_1414 : BitVec 32 := 0#32
  let v3609 : BitVec 1 := Scalar.cmpi .slt c128_i32_1410 c0_i32_1414
  let v3610 : BitVec 32 := Scalar.extui v3609
  let v3611 : BitVec 32 := Scalar.subi v3608 v3610
  let v3612 : BitVec 1 := Scalar.cmpi .ne v3606 v3611
  let v3613 : BitVec 32 := Scalar.remsi v3598 c128_i32_1410
  let c0_i32_1415 : BitVec 32 := 0#32
  let v3614 : BitVec 1 := Scalar.cmpi .ne v3613 c0_i32_1415
  let v3615 : BitVec 1 := Scalar.andi v3612 v3614
  let v3601 : BitVec 32 := Scalar.divsi v3598 c128_i32_1410
  let c1_i32_1416 : BitVec 32 := 1#32
  let v3616 : BitVec 32 := Scalar.subi v3601 c1_i32_1416
  let v3617 : BitVec 32 := Scalar.select v3615 v3616 v3601
  let c128_i32_1417 : BitVec 32 := 128#32
  let v3618 : BitVec 32 := Scalar.muli v3617 c128_i32_1417
  v3618

def k1_off199 (v3596 : BitVec 32) (v3598 : BitVec 32) : Fin 3 → Nat :=
  let v3621 : Index := Scalar.indexCast v3596
  let c0_1418 : Index := 0#32
  let c0_i32_1411 : BitVec 32 := 0#32
  let v3602 : BitVec 1 := Scalar.cmpi .sgt v3598 c0_i32_1411
  let v3603 : BitVec 32 := Scalar.extui v3602
  let c0_i32_1412 : BitVec 32 := 0#32
  let v3604 : BitVec 1 := Scalar.cmpi .slt v3598 c0_i32_1412
  let v3605 : BitVec 32 := Scalar.extui v3604
  let v3606 : BitVec 32 := Scalar.subi v3603 v3605
  let c128_i32_1410 : BitVec 32 := 128#32
  let c0_i32_1413 : BitVec 32 := 0#32
  let v3607 : BitVec 1 := Scalar.cmpi .sgt c128_i32_1410 c0_i32_1413
  let v3608 : BitVec 32 := Scalar.extui v3607
  let c0_i32_1414 : BitVec 32 := 0#32
  let v3609 : BitVec 1 := Scalar.cmpi .slt c128_i32_1410 c0_i32_1414
  let v3610 : BitVec 32 := Scalar.extui v3609
  let v3611 : BitVec 32 := Scalar.subi v3608 v3610
  let v3612 : BitVec 1 := Scalar.cmpi .ne v3606 v3611
  let v3613 : BitVec 32 := Scalar.remsi v3598 c128_i32_1410
  let c0_i32_1415 : BitVec 32 := 0#32
  let v3614 : BitVec 1 := Scalar.cmpi .ne v3613 c0_i32_1415
  let v3615 : BitVec 1 := Scalar.andi v3612 v3614
  let v3601 : BitVec 32 := Scalar.divsi v3598 c128_i32_1410
  let c1_i32_1416 : BitVec 32 := 1#32
  let v3616 : BitVec 32 := Scalar.subi v3601 c1_i32_1416
  let v3617 : BitVec 32 := Scalar.select v3615 v3616 v3601
  let c128_i32_1417 : BitVec 32 := 128#32
  let v3618 : BitVec 32 := Scalar.muli v3617 c128_i32_1417
  let v3619 : BitVec 32 := v3618
  let v3622 : Index := Scalar.indexCast v3619
  ![v3621.toNat, 0, v3622.toNat]

def k1_chk64 (v3596 : BitVec 32) (v3598 : BitVec 32) : Prop :=
  (128 ∣ (k1_mult64 v3598).toNat) ∧
  (∀ a, (k1_off199 v3596 v3598) a + S1x16x512.size a ≤ S384x16x1152.size a)
theorem k1_mult64_dvd : ∀ (v3596 : BitVec 32) (v3598 : BitVec 32) (k1_hw64 : k1_chk64 v3596 v3598), 128 ∣ (k1_mult64 v3598).toNat := fun v3596 v3598 k1_hw64 => k1_hw64.1
theorem k1_off199_inb : ∀ (v3596 : BitVec 32) (v3598 : BitVec 32) (k1_hw64 : k1_chk64 v3596 v3598), ∀ a, (k1_off199 v3596 v3598) a + S1x16x512.size a ≤ S384x16x1152.size a := fun v3596 v3598 k1_hw64 => k1_hw64.2

def k1_off200 (i : grid1.Coords) : Fin 2 → Nat :=
  let arg0 : BitVec 32 := BitVec.ofNat 32 (i 0).val
  let c48_i32_1255 : BitVec 32 := 48#32
  let v3202 : BitVec 32 := Scalar.muli arg0 c48_i32_1255
  let c7_i32 : BitVec 32 := 7#32
  let v3203 : BitVec 32 := Scalar.addi v3202 c7_i32
  let v3632 : Index := Scalar.indexCast v3203
  let c7_1421 : Index := 7#32
  ![v3632.toNat, 7]
def k1_off201 (i : grid1.Coords) : Fin 3 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3661 : Index := Scalar.indexCast v3660
  let c0_1437 : Index := 0#32
  let c720_1438 : Index := 720#32
  ![v3661.toNat, 0, 720]
def k1_off202 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3681 : Index := Scalar.indexCast v3660
  let c0_1448 : Index := 0#32
  ![v3681.toNat, 0]
def k1_mult65 (v3684 : BitVec 32) : BitVec 32 :=
  let c0_i32_1452 : BitVec 32 := 0#32
  let v3688 : BitVec 1 := Scalar.cmpi .sgt v3684 c0_i32_1452
  let v3689 : BitVec 32 := Scalar.extui v3688
  let c0_i32_1453 : BitVec 32 := 0#32
  let v3690 : BitVec 1 := Scalar.cmpi .slt v3684 c0_i32_1453
  let v3691 : BitVec 32 := Scalar.extui v3690
  let v3692 : BitVec 32 := Scalar.subi v3689 v3691
  let c128_i32_1451 : BitVec 32 := 128#32
  let c0_i32_1454 : BitVec 32 := 0#32
  let v3693 : BitVec 1 := Scalar.cmpi .sgt c128_i32_1451 c0_i32_1454
  let v3694 : BitVec 32 := Scalar.extui v3693
  let c0_i32_1455 : BitVec 32 := 0#32
  let v3695 : BitVec 1 := Scalar.cmpi .slt c128_i32_1451 c0_i32_1455
  let v3696 : BitVec 32 := Scalar.extui v3695
  let v3697 : BitVec 32 := Scalar.subi v3694 v3696
  let v3698 : BitVec 1 := Scalar.cmpi .ne v3692 v3697
  let v3699 : BitVec 32 := Scalar.remsi v3684 c128_i32_1451
  let c0_i32_1456 : BitVec 32 := 0#32
  let v3700 : BitVec 1 := Scalar.cmpi .ne v3699 c0_i32_1456
  let v3701 : BitVec 1 := Scalar.andi v3698 v3700
  let v3687 : BitVec 32 := Scalar.divsi v3684 c128_i32_1451
  let c1_i32_1457 : BitVec 32 := 1#32
  let v3702 : BitVec 32 := Scalar.subi v3687 c1_i32_1457
  let v3703 : BitVec 32 := Scalar.select v3701 v3702 v3687
  let c128_i32_1458 : BitVec 32 := 128#32
  let v3704 : BitVec 32 := Scalar.muli v3703 c128_i32_1458
  v3704

def k1_off203 (v3682 : BitVec 32) (v3684 : BitVec 32) : Fin 3 → Nat :=
  let v3707 : Index := Scalar.indexCast v3682
  let c0_1459 : Index := 0#32
  let c0_i32_1452 : BitVec 32 := 0#32
  let v3688 : BitVec 1 := Scalar.cmpi .sgt v3684 c0_i32_1452
  let v3689 : BitVec 32 := Scalar.extui v3688
  let c0_i32_1453 : BitVec 32 := 0#32
  let v3690 : BitVec 1 := Scalar.cmpi .slt v3684 c0_i32_1453
  let v3691 : BitVec 32 := Scalar.extui v3690
  let v3692 : BitVec 32 := Scalar.subi v3689 v3691
  let c128_i32_1451 : BitVec 32 := 128#32
  let c0_i32_1454 : BitVec 32 := 0#32
  let v3693 : BitVec 1 := Scalar.cmpi .sgt c128_i32_1451 c0_i32_1454
  let v3694 : BitVec 32 := Scalar.extui v3693
  let c0_i32_1455 : BitVec 32 := 0#32
  let v3695 : BitVec 1 := Scalar.cmpi .slt c128_i32_1451 c0_i32_1455
  let v3696 : BitVec 32 := Scalar.extui v3695
  let v3697 : BitVec 32 := Scalar.subi v3694 v3696
  let v3698 : BitVec 1 := Scalar.cmpi .ne v3692 v3697
  let v3699 : BitVec 32 := Scalar.remsi v3684 c128_i32_1451
  let c0_i32_1456 : BitVec 32 := 0#32
  let v3700 : BitVec 1 := Scalar.cmpi .ne v3699 c0_i32_1456
  let v3701 : BitVec 1 := Scalar.andi v3698 v3700
  let v3687 : BitVec 32 := Scalar.divsi v3684 c128_i32_1451
  let c1_i32_1457 : BitVec 32 := 1#32
  let v3702 : BitVec 32 := Scalar.subi v3687 c1_i32_1457
  let v3703 : BitVec 32 := Scalar.select v3701 v3702 v3687
  let c128_i32_1458 : BitVec 32 := 128#32
  let v3704 : BitVec 32 := Scalar.muli v3703 c128_i32_1458
  let v3705 : BitVec 32 := v3704
  let v3708 : Index := Scalar.indexCast v3705
  ![v3707.toNat, 0, v3708.toNat]

def k1_chk65 (v3682 : BitVec 32) (v3684 : BitVec 32) : Prop :=
  (128 ∣ (k1_mult65 v3684).toNat) ∧
  (∀ a, (k1_off203 v3682 v3684) a + S1x16x512.size a ≤ S384x16x1152.size a)
theorem k1_mult65_dvd : ∀ (v3682 : BitVec 32) (v3684 : BitVec 32) (k1_hw65 : k1_chk65 v3682 v3684), 128 ∣ (k1_mult65 v3684).toNat := fun v3682 v3684 k1_hw65 => k1_hw65.1
theorem k1_off203_inb : ∀ (v3682 : BitVec 32) (v3684 : BitVec 32) (k1_hw65 : k1_chk65 v3682 v3684), ∀ a, (k1_off203 v3682 v3684) a + S1x16x512.size a ≤ S384x16x1152.size a := fun v3682 v3684 k1_hw65 => k1_hw65.2

def k1_off204 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3718 : Index := Scalar.indexCast v3660
  let c0_1462 : Index := 0#32
  ![v3718.toNat, 0]
def k1_off205 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3734 : Index := Scalar.indexCast v3660
  let c1_1468 : Index := 1#32
  ![v3734.toNat, 1]
def k1_mult66 (v3737 : BitVec 32) : BitVec 32 :=
  let c0_i32_1472 : BitVec 32 := 0#32
  let v3741 : BitVec 1 := Scalar.cmpi .sgt v3737 c0_i32_1472
  let v3742 : BitVec 32 := Scalar.extui v3741
  let c0_i32_1473 : BitVec 32 := 0#32
  let v3743 : BitVec 1 := Scalar.cmpi .slt v3737 c0_i32_1473
  let v3744 : BitVec 32 := Scalar.extui v3743
  let v3745 : BitVec 32 := Scalar.subi v3742 v3744
  let c128_i32_1471 : BitVec 32 := 128#32
  let c0_i32_1474 : BitVec 32 := 0#32
  let v3746 : BitVec 1 := Scalar.cmpi .sgt c128_i32_1471 c0_i32_1474
  let v3747 : BitVec 32 := Scalar.extui v3746
  let c0_i32_1475 : BitVec 32 := 0#32
  let v3748 : BitVec 1 := Scalar.cmpi .slt c128_i32_1471 c0_i32_1475
  let v3749 : BitVec 32 := Scalar.extui v3748
  let v3750 : BitVec 32 := Scalar.subi v3747 v3749
  let v3751 : BitVec 1 := Scalar.cmpi .ne v3745 v3750
  let v3752 : BitVec 32 := Scalar.remsi v3737 c128_i32_1471
  let c0_i32_1476 : BitVec 32 := 0#32
  let v3753 : BitVec 1 := Scalar.cmpi .ne v3752 c0_i32_1476
  let v3754 : BitVec 1 := Scalar.andi v3751 v3753
  let v3740 : BitVec 32 := Scalar.divsi v3737 c128_i32_1471
  let c1_i32_1477 : BitVec 32 := 1#32
  let v3755 : BitVec 32 := Scalar.subi v3740 c1_i32_1477
  let v3756 : BitVec 32 := Scalar.select v3754 v3755 v3740
  let c128_i32_1478 : BitVec 32 := 128#32
  let v3757 : BitVec 32 := Scalar.muli v3756 c128_i32_1478
  v3757

def k1_off206 (v3735 : BitVec 32) (v3737 : BitVec 32) : Fin 3 → Nat :=
  let v3760 : Index := Scalar.indexCast v3735
  let c0_1479 : Index := 0#32
  let c0_i32_1472 : BitVec 32 := 0#32
  let v3741 : BitVec 1 := Scalar.cmpi .sgt v3737 c0_i32_1472
  let v3742 : BitVec 32 := Scalar.extui v3741
  let c0_i32_1473 : BitVec 32 := 0#32
  let v3743 : BitVec 1 := Scalar.cmpi .slt v3737 c0_i32_1473
  let v3744 : BitVec 32 := Scalar.extui v3743
  let v3745 : BitVec 32 := Scalar.subi v3742 v3744
  let c128_i32_1471 : BitVec 32 := 128#32
  let c0_i32_1474 : BitVec 32 := 0#32
  let v3746 : BitVec 1 := Scalar.cmpi .sgt c128_i32_1471 c0_i32_1474
  let v3747 : BitVec 32 := Scalar.extui v3746
  let c0_i32_1475 : BitVec 32 := 0#32
  let v3748 : BitVec 1 := Scalar.cmpi .slt c128_i32_1471 c0_i32_1475
  let v3749 : BitVec 32 := Scalar.extui v3748
  let v3750 : BitVec 32 := Scalar.subi v3747 v3749
  let v3751 : BitVec 1 := Scalar.cmpi .ne v3745 v3750
  let v3752 : BitVec 32 := Scalar.remsi v3737 c128_i32_1471
  let c0_i32_1476 : BitVec 32 := 0#32
  let v3753 : BitVec 1 := Scalar.cmpi .ne v3752 c0_i32_1476
  let v3754 : BitVec 1 := Scalar.andi v3751 v3753
  let v3740 : BitVec 32 := Scalar.divsi v3737 c128_i32_1471
  let c1_i32_1477 : BitVec 32 := 1#32
  let v3755 : BitVec 32 := Scalar.subi v3740 c1_i32_1477
  let v3756 : BitVec 32 := Scalar.select v3754 v3755 v3740
  let c128_i32_1478 : BitVec 32 := 128#32
  let v3757 : BitVec 32 := Scalar.muli v3756 c128_i32_1478
  let v3758 : BitVec 32 := v3757
  let v3761 : Index := Scalar.indexCast v3758
  ![v3760.toNat, 0, v3761.toNat]

def k1_chk66 (v3735 : BitVec 32) (v3737 : BitVec 32) : Prop :=
  (128 ∣ (k1_mult66 v3737).toNat) ∧
  (∀ a, (k1_off206 v3735 v3737) a + S1x16x512.size a ≤ S384x16x1152.size a)
theorem k1_mult66_dvd : ∀ (v3735 : BitVec 32) (v3737 : BitVec 32) (k1_hw66 : k1_chk66 v3735 v3737), 128 ∣ (k1_mult66 v3737).toNat := fun v3735 v3737 k1_hw66 => k1_hw66.1
theorem k1_off206_inb : ∀ (v3735 : BitVec 32) (v3737 : BitVec 32) (k1_hw66 : k1_chk66 v3735 v3737), ∀ a, (k1_off206 v3735 v3737) a + S1x16x512.size a ≤ S384x16x1152.size a := fun v3735 v3737 k1_hw66 => k1_hw66.2

def k1_off207 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3771 : Index := Scalar.indexCast v3660
  let c1_1482 : Index := 1#32
  ![v3771.toNat, 1]
def k1_off208 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3787 : Index := Scalar.indexCast v3660
  let c2_1488 : Index := 2#32
  ![v3787.toNat, 2]
def k1_mult67 (v3790 : BitVec 32) : BitVec 32 :=
  let c0_i32_1492 : BitVec 32 := 0#32
  let v3794 : BitVec 1 := Scalar.cmpi .sgt v3790 c0_i32_1492
  let v3795 : BitVec 32 := Scalar.extui v3794
  let c0_i32_1493 : BitVec 32 := 0#32
  let v3796 : BitVec 1 := Scalar.cmpi .slt v3790 c0_i32_1493
  let v3797 : BitVec 32 := Scalar.extui v3796
  let v3798 : BitVec 32 := Scalar.subi v3795 v3797
  let c128_i32_1491 : BitVec 32 := 128#32
  let c0_i32_1494 : BitVec 32 := 0#32
  let v3799 : BitVec 1 := Scalar.cmpi .sgt c128_i32_1491 c0_i32_1494
  let v3800 : BitVec 32 := Scalar.extui v3799
  let c0_i32_1495 : BitVec 32 := 0#32
  let v3801 : BitVec 1 := Scalar.cmpi .slt c128_i32_1491 c0_i32_1495
  let v3802 : BitVec 32 := Scalar.extui v3801
  let v3803 : BitVec 32 := Scalar.subi v3800 v3802
  let v3804 : BitVec 1 := Scalar.cmpi .ne v3798 v3803
  let v3805 : BitVec 32 := Scalar.remsi v3790 c128_i32_1491
  let c0_i32_1496 : BitVec 32 := 0#32
  let v3806 : BitVec 1 := Scalar.cmpi .ne v3805 c0_i32_1496
  let v3807 : BitVec 1 := Scalar.andi v3804 v3806
  let v3793 : BitVec 32 := Scalar.divsi v3790 c128_i32_1491
  let c1_i32_1497 : BitVec 32 := 1#32
  let v3808 : BitVec 32 := Scalar.subi v3793 c1_i32_1497
  let v3809 : BitVec 32 := Scalar.select v3807 v3808 v3793
  let c128_i32_1498 : BitVec 32 := 128#32
  let v3810 : BitVec 32 := Scalar.muli v3809 c128_i32_1498
  v3810

def k1_off209 (v3788 : BitVec 32) (v3790 : BitVec 32) : Fin 3 → Nat :=
  let v3813 : Index := Scalar.indexCast v3788
  let c0_1499 : Index := 0#32
  let c0_i32_1492 : BitVec 32 := 0#32
  let v3794 : BitVec 1 := Scalar.cmpi .sgt v3790 c0_i32_1492
  let v3795 : BitVec 32 := Scalar.extui v3794
  let c0_i32_1493 : BitVec 32 := 0#32
  let v3796 : BitVec 1 := Scalar.cmpi .slt v3790 c0_i32_1493
  let v3797 : BitVec 32 := Scalar.extui v3796
  let v3798 : BitVec 32 := Scalar.subi v3795 v3797
  let c128_i32_1491 : BitVec 32 := 128#32
  let c0_i32_1494 : BitVec 32 := 0#32
  let v3799 : BitVec 1 := Scalar.cmpi .sgt c128_i32_1491 c0_i32_1494
  let v3800 : BitVec 32 := Scalar.extui v3799
  let c0_i32_1495 : BitVec 32 := 0#32
  let v3801 : BitVec 1 := Scalar.cmpi .slt c128_i32_1491 c0_i32_1495
  let v3802 : BitVec 32 := Scalar.extui v3801
  let v3803 : BitVec 32 := Scalar.subi v3800 v3802
  let v3804 : BitVec 1 := Scalar.cmpi .ne v3798 v3803
  let v3805 : BitVec 32 := Scalar.remsi v3790 c128_i32_1491
  let c0_i32_1496 : BitVec 32 := 0#32
  let v3806 : BitVec 1 := Scalar.cmpi .ne v3805 c0_i32_1496
  let v3807 : BitVec 1 := Scalar.andi v3804 v3806
  let v3793 : BitVec 32 := Scalar.divsi v3790 c128_i32_1491
  let c1_i32_1497 : BitVec 32 := 1#32
  let v3808 : BitVec 32 := Scalar.subi v3793 c1_i32_1497
  let v3809 : BitVec 32 := Scalar.select v3807 v3808 v3793
  let c128_i32_1498 : BitVec 32 := 128#32
  let v3810 : BitVec 32 := Scalar.muli v3809 c128_i32_1498
  let v3811 : BitVec 32 := v3810
  let v3814 : Index := Scalar.indexCast v3811
  ![v3813.toNat, 0, v3814.toNat]

def k1_chk67 (v3788 : BitVec 32) (v3790 : BitVec 32) : Prop :=
  (128 ∣ (k1_mult67 v3790).toNat) ∧
  (∀ a, (k1_off209 v3788 v3790) a + S1x16x512.size a ≤ S384x16x1152.size a)
theorem k1_mult67_dvd : ∀ (v3788 : BitVec 32) (v3790 : BitVec 32) (k1_hw67 : k1_chk67 v3788 v3790), 128 ∣ (k1_mult67 v3790).toNat := fun v3788 v3790 k1_hw67 => k1_hw67.1
theorem k1_off209_inb : ∀ (v3788 : BitVec 32) (v3790 : BitVec 32) (k1_hw67 : k1_chk67 v3788 v3790), ∀ a, (k1_off209 v3788 v3790) a + S1x16x512.size a ≤ S384x16x1152.size a := fun v3788 v3790 k1_hw67 => k1_hw67.2

def k1_off210 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3824 : Index := Scalar.indexCast v3660
  let c2_1502 : Index := 2#32
  ![v3824.toNat, 2]
def k1_off211 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3840 : Index := Scalar.indexCast v3660
  let c3_1508 : Index := 3#32
  ![v3840.toNat, 3]
def k1_mult68 (v3843 : BitVec 32) : BitVec 32 :=
  let c0_i32_1512 : BitVec 32 := 0#32
  let v3847 : BitVec 1 := Scalar.cmpi .sgt v3843 c0_i32_1512
  let v3848 : BitVec 32 := Scalar.extui v3847
  let c0_i32_1513 : BitVec 32 := 0#32
  let v3849 : BitVec 1 := Scalar.cmpi .slt v3843 c0_i32_1513
  let v3850 : BitVec 32 := Scalar.extui v3849
  let v3851 : BitVec 32 := Scalar.subi v3848 v3850
  let c128_i32_1511 : BitVec 32 := 128#32
  let c0_i32_1514 : BitVec 32 := 0#32
  let v3852 : BitVec 1 := Scalar.cmpi .sgt c128_i32_1511 c0_i32_1514
  let v3853 : BitVec 32 := Scalar.extui v3852
  let c0_i32_1515 : BitVec 32 := 0#32
  let v3854 : BitVec 1 := Scalar.cmpi .slt c128_i32_1511 c0_i32_1515
  let v3855 : BitVec 32 := Scalar.extui v3854
  let v3856 : BitVec 32 := Scalar.subi v3853 v3855
  let v3857 : BitVec 1 := Scalar.cmpi .ne v3851 v3856
  let v3858 : BitVec 32 := Scalar.remsi v3843 c128_i32_1511
  let c0_i32_1516 : BitVec 32 := 0#32
  let v3859 : BitVec 1 := Scalar.cmpi .ne v3858 c0_i32_1516
  let v3860 : BitVec 1 := Scalar.andi v3857 v3859
  let v3846 : BitVec 32 := Scalar.divsi v3843 c128_i32_1511
  let c1_i32_1517 : BitVec 32 := 1#32
  let v3861 : BitVec 32 := Scalar.subi v3846 c1_i32_1517
  let v3862 : BitVec 32 := Scalar.select v3860 v3861 v3846
  let c128_i32_1518 : BitVec 32 := 128#32
  let v3863 : BitVec 32 := Scalar.muli v3862 c128_i32_1518
  v3863

def k1_off212 (v3841 : BitVec 32) (v3843 : BitVec 32) : Fin 3 → Nat :=
  let v3866 : Index := Scalar.indexCast v3841
  let c0_1519 : Index := 0#32
  let c0_i32_1512 : BitVec 32 := 0#32
  let v3847 : BitVec 1 := Scalar.cmpi .sgt v3843 c0_i32_1512
  let v3848 : BitVec 32 := Scalar.extui v3847
  let c0_i32_1513 : BitVec 32 := 0#32
  let v3849 : BitVec 1 := Scalar.cmpi .slt v3843 c0_i32_1513
  let v3850 : BitVec 32 := Scalar.extui v3849
  let v3851 : BitVec 32 := Scalar.subi v3848 v3850
  let c128_i32_1511 : BitVec 32 := 128#32
  let c0_i32_1514 : BitVec 32 := 0#32
  let v3852 : BitVec 1 := Scalar.cmpi .sgt c128_i32_1511 c0_i32_1514
  let v3853 : BitVec 32 := Scalar.extui v3852
  let c0_i32_1515 : BitVec 32 := 0#32
  let v3854 : BitVec 1 := Scalar.cmpi .slt c128_i32_1511 c0_i32_1515
  let v3855 : BitVec 32 := Scalar.extui v3854
  let v3856 : BitVec 32 := Scalar.subi v3853 v3855
  let v3857 : BitVec 1 := Scalar.cmpi .ne v3851 v3856
  let v3858 : BitVec 32 := Scalar.remsi v3843 c128_i32_1511
  let c0_i32_1516 : BitVec 32 := 0#32
  let v3859 : BitVec 1 := Scalar.cmpi .ne v3858 c0_i32_1516
  let v3860 : BitVec 1 := Scalar.andi v3857 v3859
  let v3846 : BitVec 32 := Scalar.divsi v3843 c128_i32_1511
  let c1_i32_1517 : BitVec 32 := 1#32
  let v3861 : BitVec 32 := Scalar.subi v3846 c1_i32_1517
  let v3862 : BitVec 32 := Scalar.select v3860 v3861 v3846
  let c128_i32_1518 : BitVec 32 := 128#32
  let v3863 : BitVec 32 := Scalar.muli v3862 c128_i32_1518
  let v3864 : BitVec 32 := v3863
  let v3867 : Index := Scalar.indexCast v3864
  ![v3866.toNat, 0, v3867.toNat]

def k1_chk68 (v3841 : BitVec 32) (v3843 : BitVec 32) : Prop :=
  (128 ∣ (k1_mult68 v3843).toNat) ∧
  (∀ a, (k1_off212 v3841 v3843) a + S1x16x512.size a ≤ S384x16x1152.size a)
theorem k1_mult68_dvd : ∀ (v3841 : BitVec 32) (v3843 : BitVec 32) (k1_hw68 : k1_chk68 v3841 v3843), 128 ∣ (k1_mult68 v3843).toNat := fun v3841 v3843 k1_hw68 => k1_hw68.1
theorem k1_off212_inb : ∀ (v3841 : BitVec 32) (v3843 : BitVec 32) (k1_hw68 : k1_chk68 v3841 v3843), ∀ a, (k1_off212 v3841 v3843) a + S1x16x512.size a ≤ S384x16x1152.size a := fun v3841 v3843 k1_hw68 => k1_hw68.2

def k1_off213 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3877 : Index := Scalar.indexCast v3660
  let c3_1522 : Index := 3#32
  ![v3877.toNat, 3]
def k1_off214 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3893 : Index := Scalar.indexCast v3660
  let c4_1528 : Index := 4#32
  ![v3893.toNat, 4]
def k1_mult69 (v3896 : BitVec 32) : BitVec 32 :=
  let c0_i32_1532 : BitVec 32 := 0#32
  let v3900 : BitVec 1 := Scalar.cmpi .sgt v3896 c0_i32_1532
  let v3901 : BitVec 32 := Scalar.extui v3900
  let c0_i32_1533 : BitVec 32 := 0#32
  let v3902 : BitVec 1 := Scalar.cmpi .slt v3896 c0_i32_1533
  let v3903 : BitVec 32 := Scalar.extui v3902
  let v3904 : BitVec 32 := Scalar.subi v3901 v3903
  let c128_i32_1531 : BitVec 32 := 128#32
  let c0_i32_1534 : BitVec 32 := 0#32
  let v3905 : BitVec 1 := Scalar.cmpi .sgt c128_i32_1531 c0_i32_1534
  let v3906 : BitVec 32 := Scalar.extui v3905
  let c0_i32_1535 : BitVec 32 := 0#32
  let v3907 : BitVec 1 := Scalar.cmpi .slt c128_i32_1531 c0_i32_1535
  let v3908 : BitVec 32 := Scalar.extui v3907
  let v3909 : BitVec 32 := Scalar.subi v3906 v3908
  let v3910 : BitVec 1 := Scalar.cmpi .ne v3904 v3909
  let v3911 : BitVec 32 := Scalar.remsi v3896 c128_i32_1531
  let c0_i32_1536 : BitVec 32 := 0#32
  let v3912 : BitVec 1 := Scalar.cmpi .ne v3911 c0_i32_1536
  let v3913 : BitVec 1 := Scalar.andi v3910 v3912
  let v3899 : BitVec 32 := Scalar.divsi v3896 c128_i32_1531
  let c1_i32_1537 : BitVec 32 := 1#32
  let v3914 : BitVec 32 := Scalar.subi v3899 c1_i32_1537
  let v3915 : BitVec 32 := Scalar.select v3913 v3914 v3899
  let c128_i32_1538 : BitVec 32 := 128#32
  let v3916 : BitVec 32 := Scalar.muli v3915 c128_i32_1538
  v3916

def k1_off215 (v3894 : BitVec 32) (v3896 : BitVec 32) : Fin 3 → Nat :=
  let v3919 : Index := Scalar.indexCast v3894
  let c0_1539 : Index := 0#32
  let c0_i32_1532 : BitVec 32 := 0#32
  let v3900 : BitVec 1 := Scalar.cmpi .sgt v3896 c0_i32_1532
  let v3901 : BitVec 32 := Scalar.extui v3900
  let c0_i32_1533 : BitVec 32 := 0#32
  let v3902 : BitVec 1 := Scalar.cmpi .slt v3896 c0_i32_1533
  let v3903 : BitVec 32 := Scalar.extui v3902
  let v3904 : BitVec 32 := Scalar.subi v3901 v3903
  let c128_i32_1531 : BitVec 32 := 128#32
  let c0_i32_1534 : BitVec 32 := 0#32
  let v3905 : BitVec 1 := Scalar.cmpi .sgt c128_i32_1531 c0_i32_1534
  let v3906 : BitVec 32 := Scalar.extui v3905
  let c0_i32_1535 : BitVec 32 := 0#32
  let v3907 : BitVec 1 := Scalar.cmpi .slt c128_i32_1531 c0_i32_1535
  let v3908 : BitVec 32 := Scalar.extui v3907
  let v3909 : BitVec 32 := Scalar.subi v3906 v3908
  let v3910 : BitVec 1 := Scalar.cmpi .ne v3904 v3909
  let v3911 : BitVec 32 := Scalar.remsi v3896 c128_i32_1531
  let c0_i32_1536 : BitVec 32 := 0#32
  let v3912 : BitVec 1 := Scalar.cmpi .ne v3911 c0_i32_1536
  let v3913 : BitVec 1 := Scalar.andi v3910 v3912
  let v3899 : BitVec 32 := Scalar.divsi v3896 c128_i32_1531
  let c1_i32_1537 : BitVec 32 := 1#32
  let v3914 : BitVec 32 := Scalar.subi v3899 c1_i32_1537
  let v3915 : BitVec 32 := Scalar.select v3913 v3914 v3899
  let c128_i32_1538 : BitVec 32 := 128#32
  let v3916 : BitVec 32 := Scalar.muli v3915 c128_i32_1538
  let v3917 : BitVec 32 := v3916
  let v3920 : Index := Scalar.indexCast v3917
  ![v3919.toNat, 0, v3920.toNat]

def k1_chk69 (v3894 : BitVec 32) (v3896 : BitVec 32) : Prop :=
  (128 ∣ (k1_mult69 v3896).toNat) ∧
  (∀ a, (k1_off215 v3894 v3896) a + S1x16x512.size a ≤ S384x16x1152.size a)
theorem k1_mult69_dvd : ∀ (v3894 : BitVec 32) (v3896 : BitVec 32) (k1_hw69 : k1_chk69 v3894 v3896), 128 ∣ (k1_mult69 v3896).toNat := fun v3894 v3896 k1_hw69 => k1_hw69.1
theorem k1_off215_inb : ∀ (v3894 : BitVec 32) (v3896 : BitVec 32) (k1_hw69 : k1_chk69 v3894 v3896), ∀ a, (k1_off215 v3894 v3896) a + S1x16x512.size a ≤ S384x16x1152.size a := fun v3894 v3896 k1_hw69 => k1_hw69.2

def k1_off216 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3930 : Index := Scalar.indexCast v3660
  let c4_1542 : Index := 4#32
  ![v3930.toNat, 4]
def k1_off217 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3946 : Index := Scalar.indexCast v3660
  let c5_1548 : Index := 5#32
  ![v3946.toNat, 5]
def k1_mult70 (v3949 : BitVec 32) : BitVec 32 :=
  let c0_i32_1552 : BitVec 32 := 0#32
  let v3953 : BitVec 1 := Scalar.cmpi .sgt v3949 c0_i32_1552
  let v3954 : BitVec 32 := Scalar.extui v3953
  let c0_i32_1553 : BitVec 32 := 0#32
  let v3955 : BitVec 1 := Scalar.cmpi .slt v3949 c0_i32_1553
  let v3956 : BitVec 32 := Scalar.extui v3955
  let v3957 : BitVec 32 := Scalar.subi v3954 v3956
  let c128_i32_1551 : BitVec 32 := 128#32
  let c0_i32_1554 : BitVec 32 := 0#32
  let v3958 : BitVec 1 := Scalar.cmpi .sgt c128_i32_1551 c0_i32_1554
  let v3959 : BitVec 32 := Scalar.extui v3958
  let c0_i32_1555 : BitVec 32 := 0#32
  let v3960 : BitVec 1 := Scalar.cmpi .slt c128_i32_1551 c0_i32_1555
  let v3961 : BitVec 32 := Scalar.extui v3960
  let v3962 : BitVec 32 := Scalar.subi v3959 v3961
  let v3963 : BitVec 1 := Scalar.cmpi .ne v3957 v3962
  let v3964 : BitVec 32 := Scalar.remsi v3949 c128_i32_1551
  let c0_i32_1556 : BitVec 32 := 0#32
  let v3965 : BitVec 1 := Scalar.cmpi .ne v3964 c0_i32_1556
  let v3966 : BitVec 1 := Scalar.andi v3963 v3965
  let v3952 : BitVec 32 := Scalar.divsi v3949 c128_i32_1551
  let c1_i32_1557 : BitVec 32 := 1#32
  let v3967 : BitVec 32 := Scalar.subi v3952 c1_i32_1557
  let v3968 : BitVec 32 := Scalar.select v3966 v3967 v3952
  let c128_i32_1558 : BitVec 32 := 128#32
  let v3969 : BitVec 32 := Scalar.muli v3968 c128_i32_1558
  v3969

def k1_off218 (v3947 : BitVec 32) (v3949 : BitVec 32) : Fin 3 → Nat :=
  let v3972 : Index := Scalar.indexCast v3947
  let c0_1559 : Index := 0#32
  let c0_i32_1552 : BitVec 32 := 0#32
  let v3953 : BitVec 1 := Scalar.cmpi .sgt v3949 c0_i32_1552
  let v3954 : BitVec 32 := Scalar.extui v3953
  let c0_i32_1553 : BitVec 32 := 0#32
  let v3955 : BitVec 1 := Scalar.cmpi .slt v3949 c0_i32_1553
  let v3956 : BitVec 32 := Scalar.extui v3955
  let v3957 : BitVec 32 := Scalar.subi v3954 v3956
  let c128_i32_1551 : BitVec 32 := 128#32
  let c0_i32_1554 : BitVec 32 := 0#32
  let v3958 : BitVec 1 := Scalar.cmpi .sgt c128_i32_1551 c0_i32_1554
  let v3959 : BitVec 32 := Scalar.extui v3958
  let c0_i32_1555 : BitVec 32 := 0#32
  let v3960 : BitVec 1 := Scalar.cmpi .slt c128_i32_1551 c0_i32_1555
  let v3961 : BitVec 32 := Scalar.extui v3960
  let v3962 : BitVec 32 := Scalar.subi v3959 v3961
  let v3963 : BitVec 1 := Scalar.cmpi .ne v3957 v3962
  let v3964 : BitVec 32 := Scalar.remsi v3949 c128_i32_1551
  let c0_i32_1556 : BitVec 32 := 0#32
  let v3965 : BitVec 1 := Scalar.cmpi .ne v3964 c0_i32_1556
  let v3966 : BitVec 1 := Scalar.andi v3963 v3965
  let v3952 : BitVec 32 := Scalar.divsi v3949 c128_i32_1551
  let c1_i32_1557 : BitVec 32 := 1#32
  let v3967 : BitVec 32 := Scalar.subi v3952 c1_i32_1557
  let v3968 : BitVec 32 := Scalar.select v3966 v3967 v3952
  let c128_i32_1558 : BitVec 32 := 128#32
  let v3969 : BitVec 32 := Scalar.muli v3968 c128_i32_1558
  let v3970 : BitVec 32 := v3969
  let v3973 : Index := Scalar.indexCast v3970
  ![v3972.toNat, 0, v3973.toNat]

def k1_chk70 (v3947 : BitVec 32) (v3949 : BitVec 32) : Prop :=
  (128 ∣ (k1_mult70 v3949).toNat) ∧
  (∀ a, (k1_off218 v3947 v3949) a + S1x16x512.size a ≤ S384x16x1152.size a)
theorem k1_mult70_dvd : ∀ (v3947 : BitVec 32) (v3949 : BitVec 32) (k1_hw70 : k1_chk70 v3947 v3949), 128 ∣ (k1_mult70 v3949).toNat := fun v3947 v3949 k1_hw70 => k1_hw70.1
theorem k1_off218_inb : ∀ (v3947 : BitVec 32) (v3949 : BitVec 32) (k1_hw70 : k1_chk70 v3947 v3949), ∀ a, (k1_off218 v3947 v3949) a + S1x16x512.size a ≤ S384x16x1152.size a := fun v3947 v3949 k1_hw70 => k1_hw70.2

def k1_off219 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3983 : Index := Scalar.indexCast v3660
  let c5_1562 : Index := 5#32
  ![v3983.toNat, 5]
def k1_off220 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v3999 : Index := Scalar.indexCast v3660
  let c6_1568 : Index := 6#32
  ![v3999.toNat, 6]
def k1_mult71 (v4002 : BitVec 32) : BitVec 32 :=
  let c0_i32_1572 : BitVec 32 := 0#32
  let v4006 : BitVec 1 := Scalar.cmpi .sgt v4002 c0_i32_1572
  let v4007 : BitVec 32 := Scalar.extui v4006
  let c0_i32_1573 : BitVec 32 := 0#32
  let v4008 : BitVec 1 := Scalar.cmpi .slt v4002 c0_i32_1573
  let v4009 : BitVec 32 := Scalar.extui v4008
  let v4010 : BitVec 32 := Scalar.subi v4007 v4009
  let c128_i32_1571 : BitVec 32 := 128#32
  let c0_i32_1574 : BitVec 32 := 0#32
  let v4011 : BitVec 1 := Scalar.cmpi .sgt c128_i32_1571 c0_i32_1574
  let v4012 : BitVec 32 := Scalar.extui v4011
  let c0_i32_1575 : BitVec 32 := 0#32
  let v4013 : BitVec 1 := Scalar.cmpi .slt c128_i32_1571 c0_i32_1575
  let v4014 : BitVec 32 := Scalar.extui v4013
  let v4015 : BitVec 32 := Scalar.subi v4012 v4014
  let v4016 : BitVec 1 := Scalar.cmpi .ne v4010 v4015
  let v4017 : BitVec 32 := Scalar.remsi v4002 c128_i32_1571
  let c0_i32_1576 : BitVec 32 := 0#32
  let v4018 : BitVec 1 := Scalar.cmpi .ne v4017 c0_i32_1576
  let v4019 : BitVec 1 := Scalar.andi v4016 v4018
  let v4005 : BitVec 32 := Scalar.divsi v4002 c128_i32_1571
  let c1_i32_1577 : BitVec 32 := 1#32
  let v4020 : BitVec 32 := Scalar.subi v4005 c1_i32_1577
  let v4021 : BitVec 32 := Scalar.select v4019 v4020 v4005
  let c128_i32_1578 : BitVec 32 := 128#32
  let v4022 : BitVec 32 := Scalar.muli v4021 c128_i32_1578
  v4022

def k1_off221 (v4000 : BitVec 32) (v4002 : BitVec 32) : Fin 3 → Nat :=
  let v4025 : Index := Scalar.indexCast v4000
  let c0_1579 : Index := 0#32
  let c0_i32_1572 : BitVec 32 := 0#32
  let v4006 : BitVec 1 := Scalar.cmpi .sgt v4002 c0_i32_1572
  let v4007 : BitVec 32 := Scalar.extui v4006
  let c0_i32_1573 : BitVec 32 := 0#32
  let v4008 : BitVec 1 := Scalar.cmpi .slt v4002 c0_i32_1573
  let v4009 : BitVec 32 := Scalar.extui v4008
  let v4010 : BitVec 32 := Scalar.subi v4007 v4009
  let c128_i32_1571 : BitVec 32 := 128#32
  let c0_i32_1574 : BitVec 32 := 0#32
  let v4011 : BitVec 1 := Scalar.cmpi .sgt c128_i32_1571 c0_i32_1574
  let v4012 : BitVec 32 := Scalar.extui v4011
  let c0_i32_1575 : BitVec 32 := 0#32
  let v4013 : BitVec 1 := Scalar.cmpi .slt c128_i32_1571 c0_i32_1575
  let v4014 : BitVec 32 := Scalar.extui v4013
  let v4015 : BitVec 32 := Scalar.subi v4012 v4014
  let v4016 : BitVec 1 := Scalar.cmpi .ne v4010 v4015
  let v4017 : BitVec 32 := Scalar.remsi v4002 c128_i32_1571
  let c0_i32_1576 : BitVec 32 := 0#32
  let v4018 : BitVec 1 := Scalar.cmpi .ne v4017 c0_i32_1576
  let v4019 : BitVec 1 := Scalar.andi v4016 v4018
  let v4005 : BitVec 32 := Scalar.divsi v4002 c128_i32_1571
  let c1_i32_1577 : BitVec 32 := 1#32
  let v4020 : BitVec 32 := Scalar.subi v4005 c1_i32_1577
  let v4021 : BitVec 32 := Scalar.select v4019 v4020 v4005
  let c128_i32_1578 : BitVec 32 := 128#32
  let v4022 : BitVec 32 := Scalar.muli v4021 c128_i32_1578
  let v4023 : BitVec 32 := v4022
  let v4026 : Index := Scalar.indexCast v4023
  ![v4025.toNat, 0, v4026.toNat]

def k1_chk71 (v4000 : BitVec 32) (v4002 : BitVec 32) : Prop :=
  (128 ∣ (k1_mult71 v4002).toNat) ∧
  (∀ a, (k1_off221 v4000 v4002) a + S1x16x512.size a ≤ S384x16x1152.size a)
theorem k1_mult71_dvd : ∀ (v4000 : BitVec 32) (v4002 : BitVec 32) (k1_hw71 : k1_chk71 v4000 v4002), 128 ∣ (k1_mult71 v4002).toNat := fun v4000 v4002 k1_hw71 => k1_hw71.1
theorem k1_off221_inb : ∀ (v4000 : BitVec 32) (v4002 : BitVec 32) (k1_hw71 : k1_chk71 v4000 v4002), ∀ a, (k1_off221 v4000 v4002) a + S1x16x512.size a ≤ S384x16x1152.size a := fun v4000 v4002 k1_hw71 => k1_hw71.2

def k1_off222 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v4036 : Index := Scalar.indexCast v3660
  let c6_1582 : Index := 6#32
  ![v4036.toNat, 6]
def k1_off223 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v4052 : Index := Scalar.indexCast v3660
  let c7_1588 : Index := 7#32
  ![v4052.toNat, 7]
def k1_mult72 (v4055 : BitVec 32) : BitVec 32 :=
  let c0_i32_1592 : BitVec 32 := 0#32
  let v4059 : BitVec 1 := Scalar.cmpi .sgt v4055 c0_i32_1592
  let v4060 : BitVec 32 := Scalar.extui v4059
  let c0_i32_1593 : BitVec 32 := 0#32
  let v4061 : BitVec 1 := Scalar.cmpi .slt v4055 c0_i32_1593
  let v4062 : BitVec 32 := Scalar.extui v4061
  let v4063 : BitVec 32 := Scalar.subi v4060 v4062
  let c128_i32_1591 : BitVec 32 := 128#32
  let c0_i32_1594 : BitVec 32 := 0#32
  let v4064 : BitVec 1 := Scalar.cmpi .sgt c128_i32_1591 c0_i32_1594
  let v4065 : BitVec 32 := Scalar.extui v4064
  let c0_i32_1595 : BitVec 32 := 0#32
  let v4066 : BitVec 1 := Scalar.cmpi .slt c128_i32_1591 c0_i32_1595
  let v4067 : BitVec 32 := Scalar.extui v4066
  let v4068 : BitVec 32 := Scalar.subi v4065 v4067
  let v4069 : BitVec 1 := Scalar.cmpi .ne v4063 v4068
  let v4070 : BitVec 32 := Scalar.remsi v4055 c128_i32_1591
  let c0_i32_1596 : BitVec 32 := 0#32
  let v4071 : BitVec 1 := Scalar.cmpi .ne v4070 c0_i32_1596
  let v4072 : BitVec 1 := Scalar.andi v4069 v4071
  let v4058 : BitVec 32 := Scalar.divsi v4055 c128_i32_1591
  let c1_i32_1597 : BitVec 32 := 1#32
  let v4073 : BitVec 32 := Scalar.subi v4058 c1_i32_1597
  let v4074 : BitVec 32 := Scalar.select v4072 v4073 v4058
  let c128_i32_1598 : BitVec 32 := 128#32
  let v4075 : BitVec 32 := Scalar.muli v4074 c128_i32_1598
  v4075

def k1_off224 (v4053 : BitVec 32) (v4055 : BitVec 32) : Fin 3 → Nat :=
  let v4078 : Index := Scalar.indexCast v4053
  let c0_1599 : Index := 0#32
  let c0_i32_1592 : BitVec 32 := 0#32
  let v4059 : BitVec 1 := Scalar.cmpi .sgt v4055 c0_i32_1592
  let v4060 : BitVec 32 := Scalar.extui v4059
  let c0_i32_1593 : BitVec 32 := 0#32
  let v4061 : BitVec 1 := Scalar.cmpi .slt v4055 c0_i32_1593
  let v4062 : BitVec 32 := Scalar.extui v4061
  let v4063 : BitVec 32 := Scalar.subi v4060 v4062
  let c128_i32_1591 : BitVec 32 := 128#32
  let c0_i32_1594 : BitVec 32 := 0#32
  let v4064 : BitVec 1 := Scalar.cmpi .sgt c128_i32_1591 c0_i32_1594
  let v4065 : BitVec 32 := Scalar.extui v4064
  let c0_i32_1595 : BitVec 32 := 0#32
  let v4066 : BitVec 1 := Scalar.cmpi .slt c128_i32_1591 c0_i32_1595
  let v4067 : BitVec 32 := Scalar.extui v4066
  let v4068 : BitVec 32 := Scalar.subi v4065 v4067
  let v4069 : BitVec 1 := Scalar.cmpi .ne v4063 v4068
  let v4070 : BitVec 32 := Scalar.remsi v4055 c128_i32_1591
  let c0_i32_1596 : BitVec 32 := 0#32
  let v4071 : BitVec 1 := Scalar.cmpi .ne v4070 c0_i32_1596
  let v4072 : BitVec 1 := Scalar.andi v4069 v4071
  let v4058 : BitVec 32 := Scalar.divsi v4055 c128_i32_1591
  let c1_i32_1597 : BitVec 32 := 1#32
  let v4073 : BitVec 32 := Scalar.subi v4058 c1_i32_1597
  let v4074 : BitVec 32 := Scalar.select v4072 v4073 v4058
  let c128_i32_1598 : BitVec 32 := 128#32
  let v4075 : BitVec 32 := Scalar.muli v4074 c128_i32_1598
  let v4076 : BitVec 32 := v4075
  let v4079 : Index := Scalar.indexCast v4076
  ![v4078.toNat, 0, v4079.toNat]

def k1_chk72 (v4053 : BitVec 32) (v4055 : BitVec 32) : Prop :=
  (128 ∣ (k1_mult72 v4055).toNat) ∧
  (∀ a, (k1_off224 v4053 v4055) a + S1x16x512.size a ≤ S384x16x1152.size a)
theorem k1_mult72_dvd : ∀ (v4053 : BitVec 32) (v4055 : BitVec 32) (k1_hw72 : k1_chk72 v4053 v4055), 128 ∣ (k1_mult72 v4055).toNat := fun v4053 v4055 k1_hw72 => k1_hw72.1
theorem k1_off224_inb : ∀ (v4053 : BitVec 32) (v4055 : BitVec 32) (k1_hw72 : k1_chk72 v4053 v4055), ∀ a, (k1_off224 v4053 v4055) a + S1x16x512.size a ≤ S384x16x1152.size a := fun v4053 v4055 k1_hw72 => k1_hw72.2

def k1_off225 (i : grid1.Coords) : Fin 2 → Nat :=
  let arg0 : BitVec 32 := BitVec.ofNat 32 (i 0).val
  let c48_i32_1436 : BitVec 32 := 48#32
  let v3659 : BitVec 32 := Scalar.muli arg0 c48_i32_1436
  let c8_i32 : BitVec 32 := 8#32
  let v3660 : BitVec 32 := Scalar.addi v3659 c8_i32
  let v4089 : Index := Scalar.indexCast v3660
  let c7_1602 : Index := 7#32
  ![v4089.toNat, 7]
def k1_off226 (i : grid1.Coords) : Fin 3 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4118 : Index := Scalar.indexCast v4117
  let c0_1618 : Index := 0#32
  let c720_1619 : Index := 720#32
  ![v4118.toNat, 0, 720]
def k1_off227 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4138 : Index := Scalar.indexCast v4117
  let c0_1628 : Index := 0#32
  ![v4138.toNat, 0]
def k1_mult73 (v4141 : BitVec 32) : BitVec 32 :=
  let c0_i32_1632 : BitVec 32 := 0#32
  let v4145 : BitVec 1 := Scalar.cmpi .sgt v4141 c0_i32_1632
  let v4146 : BitVec 32 := Scalar.extui v4145
  let c0_i32_1633 : BitVec 32 := 0#32
  let v4147 : BitVec 1 := Scalar.cmpi .slt v4141 c0_i32_1633
  let v4148 : BitVec 32 := Scalar.extui v4147
  let v4149 : BitVec 32 := Scalar.subi v4146 v4148
  let c128_i32_1631 : BitVec 32 := 128#32
  let c0_i32_1634 : BitVec 32 := 0#32
  let v4150 : BitVec 1 := Scalar.cmpi .sgt c128_i32_1631 c0_i32_1634
  let v4151 : BitVec 32 := Scalar.extui v4150
  let c0_i32_1635 : BitVec 32 := 0#32
  let v4152 : BitVec 1 := Scalar.cmpi .slt c128_i32_1631 c0_i32_1635
  let v4153 : BitVec 32 := Scalar.extui v4152
  let v4154 : BitVec 32 := Scalar.subi v4151 v4153
  let v4155 : BitVec 1 := Scalar.cmpi .ne v4149 v4154
  let v4156 : BitVec 32 := Scalar.remsi v4141 c128_i32_1631
  let c0_i32_1636 : BitVec 32 := 0#32
  let v4157 : BitVec 1 := Scalar.cmpi .ne v4156 c0_i32_1636
  let v4158 : BitVec 1 := Scalar.andi v4155 v4157
  let v4144 : BitVec 32 := Scalar.divsi v4141 c128_i32_1631
  let c1_i32_1637 : BitVec 32 := 1#32
  let v4159 : BitVec 32 := Scalar.subi v4144 c1_i32_1637
  let v4160 : BitVec 32 := Scalar.select v4158 v4159 v4144
  let c128_i32_1638 : BitVec 32 := 128#32
  let v4161 : BitVec 32 := Scalar.muli v4160 c128_i32_1638
  v4161

def k1_off228 (v4139 : BitVec 32) (v4141 : BitVec 32) : Fin 3 → Nat :=
  let v4164 : Index := Scalar.indexCast v4139
  let c0_1639 : Index := 0#32
  let c0_i32_1632 : BitVec 32 := 0#32
  let v4145 : BitVec 1 := Scalar.cmpi .sgt v4141 c0_i32_1632
  let v4146 : BitVec 32 := Scalar.extui v4145
  let c0_i32_1633 : BitVec 32 := 0#32
  let v4147 : BitVec 1 := Scalar.cmpi .slt v4141 c0_i32_1633
  let v4148 : BitVec 32 := Scalar.extui v4147
  let v4149 : BitVec 32 := Scalar.subi v4146 v4148
  let c128_i32_1631 : BitVec 32 := 128#32
  let c0_i32_1634 : BitVec 32 := 0#32
  let v4150 : BitVec 1 := Scalar.cmpi .sgt c128_i32_1631 c0_i32_1634
  let v4151 : BitVec 32 := Scalar.extui v4150
  let c0_i32_1635 : BitVec 32 := 0#32
  let v4152 : BitVec 1 := Scalar.cmpi .slt c128_i32_1631 c0_i32_1635
  let v4153 : BitVec 32 := Scalar.extui v4152
  let v4154 : BitVec 32 := Scalar.subi v4151 v4153
  let v4155 : BitVec 1 := Scalar.cmpi .ne v4149 v4154
  let v4156 : BitVec 32 := Scalar.remsi v4141 c128_i32_1631
  let c0_i32_1636 : BitVec 32 := 0#32
  let v4157 : BitVec 1 := Scalar.cmpi .ne v4156 c0_i32_1636
  let v4158 : BitVec 1 := Scalar.andi v4155 v4157
  let v4144 : BitVec 32 := Scalar.divsi v4141 c128_i32_1631
  let c1_i32_1637 : BitVec 32 := 1#32
  let v4159 : BitVec 32 := Scalar.subi v4144 c1_i32_1637
  let v4160 : BitVec 32 := Scalar.select v4158 v4159 v4144
  let c128_i32_1638 : BitVec 32 := 128#32
  let v4161 : BitVec 32 := Scalar.muli v4160 c128_i32_1638
  let v4162 : BitVec 32 := v4161
  let v4165 : Index := Scalar.indexCast v4162
  ![v4164.toNat, 0, v4165.toNat]

def k1_chk73 (v4139 : BitVec 32) (v4141 : BitVec 32) : Prop :=
  (128 ∣ (k1_mult73 v4141).toNat) ∧
  (∀ a, (k1_off228 v4139 v4141) a + S1x16x512.size a ≤ S384x16x1152.size a)
theorem k1_mult73_dvd : ∀ (v4139 : BitVec 32) (v4141 : BitVec 32) (k1_hw73 : k1_chk73 v4139 v4141), 128 ∣ (k1_mult73 v4141).toNat := fun v4139 v4141 k1_hw73 => k1_hw73.1
theorem k1_off228_inb : ∀ (v4139 : BitVec 32) (v4141 : BitVec 32) (k1_hw73 : k1_chk73 v4139 v4141), ∀ a, (k1_off228 v4139 v4141) a + S1x16x512.size a ≤ S384x16x1152.size a := fun v4139 v4141 k1_hw73 => k1_hw73.2

def k1_off229 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4175 : Index := Scalar.indexCast v4117
  let c0_1642 : Index := 0#32
  ![v4175.toNat, 0]
def k1_off230 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4191 : Index := Scalar.indexCast v4117
  let c1_1648 : Index := 1#32
  ![v4191.toNat, 1]
def k1_mult74 (v4194 : BitVec 32) : BitVec 32 :=
  let c0_i32_1652 : BitVec 32 := 0#32
  let v4198 : BitVec 1 := Scalar.cmpi .sgt v4194 c0_i32_1652
  let v4199 : BitVec 32 := Scalar.extui v4198
  let c0_i32_1653 : BitVec 32 := 0#32
  let v4200 : BitVec 1 := Scalar.cmpi .slt v4194 c0_i32_1653
  let v4201 : BitVec 32 := Scalar.extui v4200
  let v4202 : BitVec 32 := Scalar.subi v4199 v4201
  let c128_i32_1651 : BitVec 32 := 128#32
  let c0_i32_1654 : BitVec 32 := 0#32
  let v4203 : BitVec 1 := Scalar.cmpi .sgt c128_i32_1651 c0_i32_1654
  let v4204 : BitVec 32 := Scalar.extui v4203
  let c0_i32_1655 : BitVec 32 := 0#32
  let v4205 : BitVec 1 := Scalar.cmpi .slt c128_i32_1651 c0_i32_1655
  let v4206 : BitVec 32 := Scalar.extui v4205
  let v4207 : BitVec 32 := Scalar.subi v4204 v4206
  let v4208 : BitVec 1 := Scalar.cmpi .ne v4202 v4207
  let v4209 : BitVec 32 := Scalar.remsi v4194 c128_i32_1651
  let c0_i32_1656 : BitVec 32 := 0#32
  let v4210 : BitVec 1 := Scalar.cmpi .ne v4209 c0_i32_1656
  let v4211 : BitVec 1 := Scalar.andi v4208 v4210
  let v4197 : BitVec 32 := Scalar.divsi v4194 c128_i32_1651
  let c1_i32_1657 : BitVec 32 := 1#32
  let v4212 : BitVec 32 := Scalar.subi v4197 c1_i32_1657
  let v4213 : BitVec 32 := Scalar.select v4211 v4212 v4197
  let c128_i32_1658 : BitVec 32 := 128#32
  let v4214 : BitVec 32 := Scalar.muli v4213 c128_i32_1658
  v4214

def k1_off231 (v4192 : BitVec 32) (v4194 : BitVec 32) : Fin 3 → Nat :=
  let v4217 : Index := Scalar.indexCast v4192
  let c0_1659 : Index := 0#32
  let c0_i32_1652 : BitVec 32 := 0#32
  let v4198 : BitVec 1 := Scalar.cmpi .sgt v4194 c0_i32_1652
  let v4199 : BitVec 32 := Scalar.extui v4198
  let c0_i32_1653 : BitVec 32 := 0#32
  let v4200 : BitVec 1 := Scalar.cmpi .slt v4194 c0_i32_1653
  let v4201 : BitVec 32 := Scalar.extui v4200
  let v4202 : BitVec 32 := Scalar.subi v4199 v4201
  let c128_i32_1651 : BitVec 32 := 128#32
  let c0_i32_1654 : BitVec 32 := 0#32
  let v4203 : BitVec 1 := Scalar.cmpi .sgt c128_i32_1651 c0_i32_1654
  let v4204 : BitVec 32 := Scalar.extui v4203
  let c0_i32_1655 : BitVec 32 := 0#32
  let v4205 : BitVec 1 := Scalar.cmpi .slt c128_i32_1651 c0_i32_1655
  let v4206 : BitVec 32 := Scalar.extui v4205
  let v4207 : BitVec 32 := Scalar.subi v4204 v4206
  let v4208 : BitVec 1 := Scalar.cmpi .ne v4202 v4207
  let v4209 : BitVec 32 := Scalar.remsi v4194 c128_i32_1651
  let c0_i32_1656 : BitVec 32 := 0#32
  let v4210 : BitVec 1 := Scalar.cmpi .ne v4209 c0_i32_1656
  let v4211 : BitVec 1 := Scalar.andi v4208 v4210
  let v4197 : BitVec 32 := Scalar.divsi v4194 c128_i32_1651
  let c1_i32_1657 : BitVec 32 := 1#32
  let v4212 : BitVec 32 := Scalar.subi v4197 c1_i32_1657
  let v4213 : BitVec 32 := Scalar.select v4211 v4212 v4197
  let c128_i32_1658 : BitVec 32 := 128#32
  let v4214 : BitVec 32 := Scalar.muli v4213 c128_i32_1658
  let v4215 : BitVec 32 := v4214
  let v4218 : Index := Scalar.indexCast v4215
  ![v4217.toNat, 0, v4218.toNat]

def k1_chk74 (v4192 : BitVec 32) (v4194 : BitVec 32) : Prop :=
  (128 ∣ (k1_mult74 v4194).toNat) ∧
  (∀ a, (k1_off231 v4192 v4194) a + S1x16x512.size a ≤ S384x16x1152.size a)
theorem k1_mult74_dvd : ∀ (v4192 : BitVec 32) (v4194 : BitVec 32) (k1_hw74 : k1_chk74 v4192 v4194), 128 ∣ (k1_mult74 v4194).toNat := fun v4192 v4194 k1_hw74 => k1_hw74.1
theorem k1_off231_inb : ∀ (v4192 : BitVec 32) (v4194 : BitVec 32) (k1_hw74 : k1_chk74 v4192 v4194), ∀ a, (k1_off231 v4192 v4194) a + S1x16x512.size a ≤ S384x16x1152.size a := fun v4192 v4194 k1_hw74 => k1_hw74.2

def k1_off232 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4228 : Index := Scalar.indexCast v4117
  let c1_1662 : Index := 1#32
  ![v4228.toNat, 1]
def k1_off233 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4244 : Index := Scalar.indexCast v4117
  let c2_1668 : Index := 2#32
  ![v4244.toNat, 2]
def k1_mult75 (v4247 : BitVec 32) : BitVec 32 :=
  let c0_i32_1672 : BitVec 32 := 0#32
  let v4251 : BitVec 1 := Scalar.cmpi .sgt v4247 c0_i32_1672
  let v4252 : BitVec 32 := Scalar.extui v4251
  let c0_i32_1673 : BitVec 32 := 0#32
  let v4253 : BitVec 1 := Scalar.cmpi .slt v4247 c0_i32_1673
  let v4254 : BitVec 32 := Scalar.extui v4253
  let v4255 : BitVec 32 := Scalar.subi v4252 v4254
  let c128_i32_1671 : BitVec 32 := 128#32
  let c0_i32_1674 : BitVec 32 := 0#32
  let v4256 : BitVec 1 := Scalar.cmpi .sgt c128_i32_1671 c0_i32_1674
  let v4257 : BitVec 32 := Scalar.extui v4256
  let c0_i32_1675 : BitVec 32 := 0#32
  let v4258 : BitVec 1 := Scalar.cmpi .slt c128_i32_1671 c0_i32_1675
  let v4259 : BitVec 32 := Scalar.extui v4258
  let v4260 : BitVec 32 := Scalar.subi v4257 v4259
  let v4261 : BitVec 1 := Scalar.cmpi .ne v4255 v4260
  let v4262 : BitVec 32 := Scalar.remsi v4247 c128_i32_1671
  let c0_i32_1676 : BitVec 32 := 0#32
  let v4263 : BitVec 1 := Scalar.cmpi .ne v4262 c0_i32_1676
  let v4264 : BitVec 1 := Scalar.andi v4261 v4263
  let v4250 : BitVec 32 := Scalar.divsi v4247 c128_i32_1671
  let c1_i32_1677 : BitVec 32 := 1#32
  let v4265 : BitVec 32 := Scalar.subi v4250 c1_i32_1677
  let v4266 : BitVec 32 := Scalar.select v4264 v4265 v4250
  let c128_i32_1678 : BitVec 32 := 128#32
  let v4267 : BitVec 32 := Scalar.muli v4266 c128_i32_1678
  v4267

def k1_off234 (v4245 : BitVec 32) (v4247 : BitVec 32) : Fin 3 → Nat :=
  let v4270 : Index := Scalar.indexCast v4245
  let c0_1679 : Index := 0#32
  let c0_i32_1672 : BitVec 32 := 0#32
  let v4251 : BitVec 1 := Scalar.cmpi .sgt v4247 c0_i32_1672
  let v4252 : BitVec 32 := Scalar.extui v4251
  let c0_i32_1673 : BitVec 32 := 0#32
  let v4253 : BitVec 1 := Scalar.cmpi .slt v4247 c0_i32_1673
  let v4254 : BitVec 32 := Scalar.extui v4253
  let v4255 : BitVec 32 := Scalar.subi v4252 v4254
  let c128_i32_1671 : BitVec 32 := 128#32
  let c0_i32_1674 : BitVec 32 := 0#32
  let v4256 : BitVec 1 := Scalar.cmpi .sgt c128_i32_1671 c0_i32_1674
  let v4257 : BitVec 32 := Scalar.extui v4256
  let c0_i32_1675 : BitVec 32 := 0#32
  let v4258 : BitVec 1 := Scalar.cmpi .slt c128_i32_1671 c0_i32_1675
  let v4259 : BitVec 32 := Scalar.extui v4258
  let v4260 : BitVec 32 := Scalar.subi v4257 v4259
  let v4261 : BitVec 1 := Scalar.cmpi .ne v4255 v4260
  let v4262 : BitVec 32 := Scalar.remsi v4247 c128_i32_1671
  let c0_i32_1676 : BitVec 32 := 0#32
  let v4263 : BitVec 1 := Scalar.cmpi .ne v4262 c0_i32_1676
  let v4264 : BitVec 1 := Scalar.andi v4261 v4263
  let v4250 : BitVec 32 := Scalar.divsi v4247 c128_i32_1671
  let c1_i32_1677 : BitVec 32 := 1#32
  let v4265 : BitVec 32 := Scalar.subi v4250 c1_i32_1677
  let v4266 : BitVec 32 := Scalar.select v4264 v4265 v4250
  let c128_i32_1678 : BitVec 32 := 128#32
  let v4267 : BitVec 32 := Scalar.muli v4266 c128_i32_1678
  let v4268 : BitVec 32 := v4267
  let v4271 : Index := Scalar.indexCast v4268
  ![v4270.toNat, 0, v4271.toNat]

def k1_chk75 (v4245 : BitVec 32) (v4247 : BitVec 32) : Prop :=
  (128 ∣ (k1_mult75 v4247).toNat) ∧
  (∀ a, (k1_off234 v4245 v4247) a + S1x16x512.size a ≤ S384x16x1152.size a)
theorem k1_mult75_dvd : ∀ (v4245 : BitVec 32) (v4247 : BitVec 32) (k1_hw75 : k1_chk75 v4245 v4247), 128 ∣ (k1_mult75 v4247).toNat := fun v4245 v4247 k1_hw75 => k1_hw75.1
theorem k1_off234_inb : ∀ (v4245 : BitVec 32) (v4247 : BitVec 32) (k1_hw75 : k1_chk75 v4245 v4247), ∀ a, (k1_off234 v4245 v4247) a + S1x16x512.size a ≤ S384x16x1152.size a := fun v4245 v4247 k1_hw75 => k1_hw75.2

def k1_off235 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4281 : Index := Scalar.indexCast v4117
  let c2_1682 : Index := 2#32
  ![v4281.toNat, 2]
def k1_off236 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4297 : Index := Scalar.indexCast v4117
  let c3_1688 : Index := 3#32
  ![v4297.toNat, 3]
def k1_mult76 (v4300 : BitVec 32) : BitVec 32 :=
  let c0_i32_1692 : BitVec 32 := 0#32
  let v4304 : BitVec 1 := Scalar.cmpi .sgt v4300 c0_i32_1692
  let v4305 : BitVec 32 := Scalar.extui v4304
  let c0_i32_1693 : BitVec 32 := 0#32
  let v4306 : BitVec 1 := Scalar.cmpi .slt v4300 c0_i32_1693
  let v4307 : BitVec 32 := Scalar.extui v4306
  let v4308 : BitVec 32 := Scalar.subi v4305 v4307
  let c128_i32_1691 : BitVec 32 := 128#32
  let c0_i32_1694 : BitVec 32 := 0#32
  let v4309 : BitVec 1 := Scalar.cmpi .sgt c128_i32_1691 c0_i32_1694
  let v4310 : BitVec 32 := Scalar.extui v4309
  let c0_i32_1695 : BitVec 32 := 0#32
  let v4311 : BitVec 1 := Scalar.cmpi .slt c128_i32_1691 c0_i32_1695
  let v4312 : BitVec 32 := Scalar.extui v4311
  let v4313 : BitVec 32 := Scalar.subi v4310 v4312
  let v4314 : BitVec 1 := Scalar.cmpi .ne v4308 v4313
  let v4315 : BitVec 32 := Scalar.remsi v4300 c128_i32_1691
  let c0_i32_1696 : BitVec 32 := 0#32
  let v4316 : BitVec 1 := Scalar.cmpi .ne v4315 c0_i32_1696
  let v4317 : BitVec 1 := Scalar.andi v4314 v4316
  let v4303 : BitVec 32 := Scalar.divsi v4300 c128_i32_1691
  let c1_i32_1697 : BitVec 32 := 1#32
  let v4318 : BitVec 32 := Scalar.subi v4303 c1_i32_1697
  let v4319 : BitVec 32 := Scalar.select v4317 v4318 v4303
  let c128_i32_1698 : BitVec 32 := 128#32
  let v4320 : BitVec 32 := Scalar.muli v4319 c128_i32_1698
  v4320

def k1_off237 (v4298 : BitVec 32) (v4300 : BitVec 32) : Fin 3 → Nat :=
  let v4323 : Index := Scalar.indexCast v4298
  let c0_1699 : Index := 0#32
  let c0_i32_1692 : BitVec 32 := 0#32
  let v4304 : BitVec 1 := Scalar.cmpi .sgt v4300 c0_i32_1692
  let v4305 : BitVec 32 := Scalar.extui v4304
  let c0_i32_1693 : BitVec 32 := 0#32
  let v4306 : BitVec 1 := Scalar.cmpi .slt v4300 c0_i32_1693
  let v4307 : BitVec 32 := Scalar.extui v4306
  let v4308 : BitVec 32 := Scalar.subi v4305 v4307
  let c128_i32_1691 : BitVec 32 := 128#32
  let c0_i32_1694 : BitVec 32 := 0#32
  let v4309 : BitVec 1 := Scalar.cmpi .sgt c128_i32_1691 c0_i32_1694
  let v4310 : BitVec 32 := Scalar.extui v4309
  let c0_i32_1695 : BitVec 32 := 0#32
  let v4311 : BitVec 1 := Scalar.cmpi .slt c128_i32_1691 c0_i32_1695
  let v4312 : BitVec 32 := Scalar.extui v4311
  let v4313 : BitVec 32 := Scalar.subi v4310 v4312
  let v4314 : BitVec 1 := Scalar.cmpi .ne v4308 v4313
  let v4315 : BitVec 32 := Scalar.remsi v4300 c128_i32_1691
  let c0_i32_1696 : BitVec 32 := 0#32
  let v4316 : BitVec 1 := Scalar.cmpi .ne v4315 c0_i32_1696
  let v4317 : BitVec 1 := Scalar.andi v4314 v4316
  let v4303 : BitVec 32 := Scalar.divsi v4300 c128_i32_1691
  let c1_i32_1697 : BitVec 32 := 1#32
  let v4318 : BitVec 32 := Scalar.subi v4303 c1_i32_1697
  let v4319 : BitVec 32 := Scalar.select v4317 v4318 v4303
  let c128_i32_1698 : BitVec 32 := 128#32
  let v4320 : BitVec 32 := Scalar.muli v4319 c128_i32_1698
  let v4321 : BitVec 32 := v4320
  let v4324 : Index := Scalar.indexCast v4321
  ![v4323.toNat, 0, v4324.toNat]

def k1_chk76 (v4298 : BitVec 32) (v4300 : BitVec 32) : Prop :=
  (128 ∣ (k1_mult76 v4300).toNat) ∧
  (∀ a, (k1_off237 v4298 v4300) a + S1x16x512.size a ≤ S384x16x1152.size a)
theorem k1_mult76_dvd : ∀ (v4298 : BitVec 32) (v4300 : BitVec 32) (k1_hw76 : k1_chk76 v4298 v4300), 128 ∣ (k1_mult76 v4300).toNat := fun v4298 v4300 k1_hw76 => k1_hw76.1
theorem k1_off237_inb : ∀ (v4298 : BitVec 32) (v4300 : BitVec 32) (k1_hw76 : k1_chk76 v4298 v4300), ∀ a, (k1_off237 v4298 v4300) a + S1x16x512.size a ≤ S384x16x1152.size a := fun v4298 v4300 k1_hw76 => k1_hw76.2

def k1_off238 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4334 : Index := Scalar.indexCast v4117
  let c3_1702 : Index := 3#32
  ![v4334.toNat, 3]
def k1_off239 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4350 : Index := Scalar.indexCast v4117
  let c4_1708 : Index := 4#32
  ![v4350.toNat, 4]
def k1_mult77 (v4353 : BitVec 32) : BitVec 32 :=
  let c0_i32_1712 : BitVec 32 := 0#32
  let v4357 : BitVec 1 := Scalar.cmpi .sgt v4353 c0_i32_1712
  let v4358 : BitVec 32 := Scalar.extui v4357
  let c0_i32_1713 : BitVec 32 := 0#32
  let v4359 : BitVec 1 := Scalar.cmpi .slt v4353 c0_i32_1713
  let v4360 : BitVec 32 := Scalar.extui v4359
  let v4361 : BitVec 32 := Scalar.subi v4358 v4360
  let c128_i32_1711 : BitVec 32 := 128#32
  let c0_i32_1714 : BitVec 32 := 0#32
  let v4362 : BitVec 1 := Scalar.cmpi .sgt c128_i32_1711 c0_i32_1714
  let v4363 : BitVec 32 := Scalar.extui v4362
  let c0_i32_1715 : BitVec 32 := 0#32
  let v4364 : BitVec 1 := Scalar.cmpi .slt c128_i32_1711 c0_i32_1715
  let v4365 : BitVec 32 := Scalar.extui v4364
  let v4366 : BitVec 32 := Scalar.subi v4363 v4365
  let v4367 : BitVec 1 := Scalar.cmpi .ne v4361 v4366
  let v4368 : BitVec 32 := Scalar.remsi v4353 c128_i32_1711
  let c0_i32_1716 : BitVec 32 := 0#32
  let v4369 : BitVec 1 := Scalar.cmpi .ne v4368 c0_i32_1716
  let v4370 : BitVec 1 := Scalar.andi v4367 v4369
  let v4356 : BitVec 32 := Scalar.divsi v4353 c128_i32_1711
  let c1_i32_1717 : BitVec 32 := 1#32
  let v4371 : BitVec 32 := Scalar.subi v4356 c1_i32_1717
  let v4372 : BitVec 32 := Scalar.select v4370 v4371 v4356
  let c128_i32_1718 : BitVec 32 := 128#32
  let v4373 : BitVec 32 := Scalar.muli v4372 c128_i32_1718
  v4373

def k1_off240 (v4351 : BitVec 32) (v4353 : BitVec 32) : Fin 3 → Nat :=
  let v4376 : Index := Scalar.indexCast v4351
  let c0_1719 : Index := 0#32
  let c0_i32_1712 : BitVec 32 := 0#32
  let v4357 : BitVec 1 := Scalar.cmpi .sgt v4353 c0_i32_1712
  let v4358 : BitVec 32 := Scalar.extui v4357
  let c0_i32_1713 : BitVec 32 := 0#32
  let v4359 : BitVec 1 := Scalar.cmpi .slt v4353 c0_i32_1713
  let v4360 : BitVec 32 := Scalar.extui v4359
  let v4361 : BitVec 32 := Scalar.subi v4358 v4360
  let c128_i32_1711 : BitVec 32 := 128#32
  let c0_i32_1714 : BitVec 32 := 0#32
  let v4362 : BitVec 1 := Scalar.cmpi .sgt c128_i32_1711 c0_i32_1714
  let v4363 : BitVec 32 := Scalar.extui v4362
  let c0_i32_1715 : BitVec 32 := 0#32
  let v4364 : BitVec 1 := Scalar.cmpi .slt c128_i32_1711 c0_i32_1715
  let v4365 : BitVec 32 := Scalar.extui v4364
  let v4366 : BitVec 32 := Scalar.subi v4363 v4365
  let v4367 : BitVec 1 := Scalar.cmpi .ne v4361 v4366
  let v4368 : BitVec 32 := Scalar.remsi v4353 c128_i32_1711
  let c0_i32_1716 : BitVec 32 := 0#32
  let v4369 : BitVec 1 := Scalar.cmpi .ne v4368 c0_i32_1716
  let v4370 : BitVec 1 := Scalar.andi v4367 v4369
  let v4356 : BitVec 32 := Scalar.divsi v4353 c128_i32_1711
  let c1_i32_1717 : BitVec 32 := 1#32
  let v4371 : BitVec 32 := Scalar.subi v4356 c1_i32_1717
  let v4372 : BitVec 32 := Scalar.select v4370 v4371 v4356
  let c128_i32_1718 : BitVec 32 := 128#32
  let v4373 : BitVec 32 := Scalar.muli v4372 c128_i32_1718
  let v4374 : BitVec 32 := v4373
  let v4377 : Index := Scalar.indexCast v4374
  ![v4376.toNat, 0, v4377.toNat]

def k1_chk77 (v4351 : BitVec 32) (v4353 : BitVec 32) : Prop :=
  (128 ∣ (k1_mult77 v4353).toNat) ∧
  (∀ a, (k1_off240 v4351 v4353) a + S1x16x512.size a ≤ S384x16x1152.size a)
theorem k1_mult77_dvd : ∀ (v4351 : BitVec 32) (v4353 : BitVec 32) (k1_hw77 : k1_chk77 v4351 v4353), 128 ∣ (k1_mult77 v4353).toNat := fun v4351 v4353 k1_hw77 => k1_hw77.1
theorem k1_off240_inb : ∀ (v4351 : BitVec 32) (v4353 : BitVec 32) (k1_hw77 : k1_chk77 v4351 v4353), ∀ a, (k1_off240 v4351 v4353) a + S1x16x512.size a ≤ S384x16x1152.size a := fun v4351 v4353 k1_hw77 => k1_hw77.2

def k1_off241 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4387 : Index := Scalar.indexCast v4117
  let c4_1722 : Index := 4#32
  ![v4387.toNat, 4]
def k1_off242 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4403 : Index := Scalar.indexCast v4117
  let c5_1728 : Index := 5#32
  ![v4403.toNat, 5]
def k1_mult78 (v4406 : BitVec 32) : BitVec 32 :=
  let c0_i32_1732 : BitVec 32 := 0#32
  let v4410 : BitVec 1 := Scalar.cmpi .sgt v4406 c0_i32_1732
  let v4411 : BitVec 32 := Scalar.extui v4410
  let c0_i32_1733 : BitVec 32 := 0#32
  let v4412 : BitVec 1 := Scalar.cmpi .slt v4406 c0_i32_1733
  let v4413 : BitVec 32 := Scalar.extui v4412
  let v4414 : BitVec 32 := Scalar.subi v4411 v4413
  let c128_i32_1731 : BitVec 32 := 128#32
  let c0_i32_1734 : BitVec 32 := 0#32
  let v4415 : BitVec 1 := Scalar.cmpi .sgt c128_i32_1731 c0_i32_1734
  let v4416 : BitVec 32 := Scalar.extui v4415
  let c0_i32_1735 : BitVec 32 := 0#32
  let v4417 : BitVec 1 := Scalar.cmpi .slt c128_i32_1731 c0_i32_1735
  let v4418 : BitVec 32 := Scalar.extui v4417
  let v4419 : BitVec 32 := Scalar.subi v4416 v4418
  let v4420 : BitVec 1 := Scalar.cmpi .ne v4414 v4419
  let v4421 : BitVec 32 := Scalar.remsi v4406 c128_i32_1731
  let c0_i32_1736 : BitVec 32 := 0#32
  let v4422 : BitVec 1 := Scalar.cmpi .ne v4421 c0_i32_1736
  let v4423 : BitVec 1 := Scalar.andi v4420 v4422
  let v4409 : BitVec 32 := Scalar.divsi v4406 c128_i32_1731
  let c1_i32_1737 : BitVec 32 := 1#32
  let v4424 : BitVec 32 := Scalar.subi v4409 c1_i32_1737
  let v4425 : BitVec 32 := Scalar.select v4423 v4424 v4409
  let c128_i32_1738 : BitVec 32 := 128#32
  let v4426 : BitVec 32 := Scalar.muli v4425 c128_i32_1738
  v4426

def k1_off243 (v4404 : BitVec 32) (v4406 : BitVec 32) : Fin 3 → Nat :=
  let v4429 : Index := Scalar.indexCast v4404
  let c0_1739 : Index := 0#32
  let c0_i32_1732 : BitVec 32 := 0#32
  let v4410 : BitVec 1 := Scalar.cmpi .sgt v4406 c0_i32_1732
  let v4411 : BitVec 32 := Scalar.extui v4410
  let c0_i32_1733 : BitVec 32 := 0#32
  let v4412 : BitVec 1 := Scalar.cmpi .slt v4406 c0_i32_1733
  let v4413 : BitVec 32 := Scalar.extui v4412
  let v4414 : BitVec 32 := Scalar.subi v4411 v4413
  let c128_i32_1731 : BitVec 32 := 128#32
  let c0_i32_1734 : BitVec 32 := 0#32
  let v4415 : BitVec 1 := Scalar.cmpi .sgt c128_i32_1731 c0_i32_1734
  let v4416 : BitVec 32 := Scalar.extui v4415
  let c0_i32_1735 : BitVec 32 := 0#32
  let v4417 : BitVec 1 := Scalar.cmpi .slt c128_i32_1731 c0_i32_1735
  let v4418 : BitVec 32 := Scalar.extui v4417
  let v4419 : BitVec 32 := Scalar.subi v4416 v4418
  let v4420 : BitVec 1 := Scalar.cmpi .ne v4414 v4419
  let v4421 : BitVec 32 := Scalar.remsi v4406 c128_i32_1731
  let c0_i32_1736 : BitVec 32 := 0#32
  let v4422 : BitVec 1 := Scalar.cmpi .ne v4421 c0_i32_1736
  let v4423 : BitVec 1 := Scalar.andi v4420 v4422
  let v4409 : BitVec 32 := Scalar.divsi v4406 c128_i32_1731
  let c1_i32_1737 : BitVec 32 := 1#32
  let v4424 : BitVec 32 := Scalar.subi v4409 c1_i32_1737
  let v4425 : BitVec 32 := Scalar.select v4423 v4424 v4409
  let c128_i32_1738 : BitVec 32 := 128#32
  let v4426 : BitVec 32 := Scalar.muli v4425 c128_i32_1738
  let v4427 : BitVec 32 := v4426
  let v4430 : Index := Scalar.indexCast v4427
  ![v4429.toNat, 0, v4430.toNat]

def k1_chk78 (v4404 : BitVec 32) (v4406 : BitVec 32) : Prop :=
  (128 ∣ (k1_mult78 v4406).toNat) ∧
  (∀ a, (k1_off243 v4404 v4406) a + S1x16x512.size a ≤ S384x16x1152.size a)
theorem k1_mult78_dvd : ∀ (v4404 : BitVec 32) (v4406 : BitVec 32) (k1_hw78 : k1_chk78 v4404 v4406), 128 ∣ (k1_mult78 v4406).toNat := fun v4404 v4406 k1_hw78 => k1_hw78.1
theorem k1_off243_inb : ∀ (v4404 : BitVec 32) (v4406 : BitVec 32) (k1_hw78 : k1_chk78 v4404 v4406), ∀ a, (k1_off243 v4404 v4406) a + S1x16x512.size a ≤ S384x16x1152.size a := fun v4404 v4406 k1_hw78 => k1_hw78.2

def k1_off244 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4440 : Index := Scalar.indexCast v4117
  let c5_1742 : Index := 5#32
  ![v4440.toNat, 5]
def k1_off245 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4456 : Index := Scalar.indexCast v4117
  let c6_1748 : Index := 6#32
  ![v4456.toNat, 6]
def k1_mult79 (v4459 : BitVec 32) : BitVec 32 :=
  let c0_i32_1752 : BitVec 32 := 0#32
  let v4463 : BitVec 1 := Scalar.cmpi .sgt v4459 c0_i32_1752
  let v4464 : BitVec 32 := Scalar.extui v4463
  let c0_i32_1753 : BitVec 32 := 0#32
  let v4465 : BitVec 1 := Scalar.cmpi .slt v4459 c0_i32_1753
  let v4466 : BitVec 32 := Scalar.extui v4465
  let v4467 : BitVec 32 := Scalar.subi v4464 v4466
  let c128_i32_1751 : BitVec 32 := 128#32
  let c0_i32_1754 : BitVec 32 := 0#32
  let v4468 : BitVec 1 := Scalar.cmpi .sgt c128_i32_1751 c0_i32_1754
  let v4469 : BitVec 32 := Scalar.extui v4468
  let c0_i32_1755 : BitVec 32 := 0#32
  let v4470 : BitVec 1 := Scalar.cmpi .slt c128_i32_1751 c0_i32_1755
  let v4471 : BitVec 32 := Scalar.extui v4470
  let v4472 : BitVec 32 := Scalar.subi v4469 v4471
  let v4473 : BitVec 1 := Scalar.cmpi .ne v4467 v4472
  let v4474 : BitVec 32 := Scalar.remsi v4459 c128_i32_1751
  let c0_i32_1756 : BitVec 32 := 0#32
  let v4475 : BitVec 1 := Scalar.cmpi .ne v4474 c0_i32_1756
  let v4476 : BitVec 1 := Scalar.andi v4473 v4475
  let v4462 : BitVec 32 := Scalar.divsi v4459 c128_i32_1751
  let c1_i32_1757 : BitVec 32 := 1#32
  let v4477 : BitVec 32 := Scalar.subi v4462 c1_i32_1757
  let v4478 : BitVec 32 := Scalar.select v4476 v4477 v4462
  let c128_i32_1758 : BitVec 32 := 128#32
  let v4479 : BitVec 32 := Scalar.muli v4478 c128_i32_1758
  v4479

def k1_off246 (v4457 : BitVec 32) (v4459 : BitVec 32) : Fin 3 → Nat :=
  let v4482 : Index := Scalar.indexCast v4457
  let c0_1759 : Index := 0#32
  let c0_i32_1752 : BitVec 32 := 0#32
  let v4463 : BitVec 1 := Scalar.cmpi .sgt v4459 c0_i32_1752
  let v4464 : BitVec 32 := Scalar.extui v4463
  let c0_i32_1753 : BitVec 32 := 0#32
  let v4465 : BitVec 1 := Scalar.cmpi .slt v4459 c0_i32_1753
  let v4466 : BitVec 32 := Scalar.extui v4465
  let v4467 : BitVec 32 := Scalar.subi v4464 v4466
  let c128_i32_1751 : BitVec 32 := 128#32
  let c0_i32_1754 : BitVec 32 := 0#32
  let v4468 : BitVec 1 := Scalar.cmpi .sgt c128_i32_1751 c0_i32_1754
  let v4469 : BitVec 32 := Scalar.extui v4468
  let c0_i32_1755 : BitVec 32 := 0#32
  let v4470 : BitVec 1 := Scalar.cmpi .slt c128_i32_1751 c0_i32_1755
  let v4471 : BitVec 32 := Scalar.extui v4470
  let v4472 : BitVec 32 := Scalar.subi v4469 v4471
  let v4473 : BitVec 1 := Scalar.cmpi .ne v4467 v4472
  let v4474 : BitVec 32 := Scalar.remsi v4459 c128_i32_1751
  let c0_i32_1756 : BitVec 32 := 0#32
  let v4475 : BitVec 1 := Scalar.cmpi .ne v4474 c0_i32_1756
  let v4476 : BitVec 1 := Scalar.andi v4473 v4475
  let v4462 : BitVec 32 := Scalar.divsi v4459 c128_i32_1751
  let c1_i32_1757 : BitVec 32 := 1#32
  let v4477 : BitVec 32 := Scalar.subi v4462 c1_i32_1757
  let v4478 : BitVec 32 := Scalar.select v4476 v4477 v4462
  let c128_i32_1758 : BitVec 32 := 128#32
  let v4479 : BitVec 32 := Scalar.muli v4478 c128_i32_1758
  let v4480 : BitVec 32 := v4479
  let v4483 : Index := Scalar.indexCast v4480
  ![v4482.toNat, 0, v4483.toNat]

def k1_chk79 (v4457 : BitVec 32) (v4459 : BitVec 32) : Prop :=
  (128 ∣ (k1_mult79 v4459).toNat) ∧
  (∀ a, (k1_off246 v4457 v4459) a + S1x16x512.size a ≤ S384x16x1152.size a)
theorem k1_mult79_dvd : ∀ (v4457 : BitVec 32) (v4459 : BitVec 32) (k1_hw79 : k1_chk79 v4457 v4459), 128 ∣ (k1_mult79 v4459).toNat := fun v4457 v4459 k1_hw79 => k1_hw79.1
theorem k1_off246_inb : ∀ (v4457 : BitVec 32) (v4459 : BitVec 32) (k1_hw79 : k1_chk79 v4457 v4459), ∀ a, (k1_off246 v4457 v4459) a + S1x16x512.size a ≤ S384x16x1152.size a := fun v4457 v4459 k1_hw79 => k1_hw79.2

def k1_off247 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4493 : Index := Scalar.indexCast v4117
  let c6_1762 : Index := 6#32
  ![v4493.toNat, 6]
def k1_off248 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4509 : Index := Scalar.indexCast v4117
  let c7_1768 : Index := 7#32
  ![v4509.toNat, 7]
def k1_mult80 (v4512 : BitVec 32) : BitVec 32 :=
  let c0_i32_1772 : BitVec 32 := 0#32
  let v4516 : BitVec 1 := Scalar.cmpi .sgt v4512 c0_i32_1772
  let v4517 : BitVec 32 := Scalar.extui v4516
  let c0_i32_1773 : BitVec 32 := 0#32
  let v4518 : BitVec 1 := Scalar.cmpi .slt v4512 c0_i32_1773
  let v4519 : BitVec 32 := Scalar.extui v4518
  let v4520 : BitVec 32 := Scalar.subi v4517 v4519
  let c128_i32_1771 : BitVec 32 := 128#32
  let c0_i32_1774 : BitVec 32 := 0#32
  let v4521 : BitVec 1 := Scalar.cmpi .sgt c128_i32_1771 c0_i32_1774
  let v4522 : BitVec 32 := Scalar.extui v4521
  let c0_i32_1775 : BitVec 32 := 0#32
  let v4523 : BitVec 1 := Scalar.cmpi .slt c128_i32_1771 c0_i32_1775
  let v4524 : BitVec 32 := Scalar.extui v4523
  let v4525 : BitVec 32 := Scalar.subi v4522 v4524
  let v4526 : BitVec 1 := Scalar.cmpi .ne v4520 v4525
  let v4527 : BitVec 32 := Scalar.remsi v4512 c128_i32_1771
  let c0_i32_1776 : BitVec 32 := 0#32
  let v4528 : BitVec 1 := Scalar.cmpi .ne v4527 c0_i32_1776
  let v4529 : BitVec 1 := Scalar.andi v4526 v4528
  let v4515 : BitVec 32 := Scalar.divsi v4512 c128_i32_1771
  let c1_i32_1777 : BitVec 32 := 1#32
  let v4530 : BitVec 32 := Scalar.subi v4515 c1_i32_1777
  let v4531 : BitVec 32 := Scalar.select v4529 v4530 v4515
  let c128_i32_1778 : BitVec 32 := 128#32
  let v4532 : BitVec 32 := Scalar.muli v4531 c128_i32_1778
  v4532

def k1_off249 (v4510 : BitVec 32) (v4512 : BitVec 32) : Fin 3 → Nat :=
  let v4535 : Index := Scalar.indexCast v4510
  let c0_1779 : Index := 0#32
  let c0_i32_1772 : BitVec 32 := 0#32
  let v4516 : BitVec 1 := Scalar.cmpi .sgt v4512 c0_i32_1772
  let v4517 : BitVec 32 := Scalar.extui v4516
  let c0_i32_1773 : BitVec 32 := 0#32
  let v4518 : BitVec 1 := Scalar.cmpi .slt v4512 c0_i32_1773
  let v4519 : BitVec 32 := Scalar.extui v4518
  let v4520 : BitVec 32 := Scalar.subi v4517 v4519
  let c128_i32_1771 : BitVec 32 := 128#32
  let c0_i32_1774 : BitVec 32 := 0#32
  let v4521 : BitVec 1 := Scalar.cmpi .sgt c128_i32_1771 c0_i32_1774
  let v4522 : BitVec 32 := Scalar.extui v4521
  let c0_i32_1775 : BitVec 32 := 0#32
  let v4523 : BitVec 1 := Scalar.cmpi .slt c128_i32_1771 c0_i32_1775
  let v4524 : BitVec 32 := Scalar.extui v4523
  let v4525 : BitVec 32 := Scalar.subi v4522 v4524
  let v4526 : BitVec 1 := Scalar.cmpi .ne v4520 v4525
  let v4527 : BitVec 32 := Scalar.remsi v4512 c128_i32_1771
  let c0_i32_1776 : BitVec 32 := 0#32
  let v4528 : BitVec 1 := Scalar.cmpi .ne v4527 c0_i32_1776
  let v4529 : BitVec 1 := Scalar.andi v4526 v4528
  let v4515 : BitVec 32 := Scalar.divsi v4512 c128_i32_1771
  let c1_i32_1777 : BitVec 32 := 1#32
  let v4530 : BitVec 32 := Scalar.subi v4515 c1_i32_1777
  let v4531 : BitVec 32 := Scalar.select v4529 v4530 v4515
  let c128_i32_1778 : BitVec 32 := 128#32
  let v4532 : BitVec 32 := Scalar.muli v4531 c128_i32_1778
  let v4533 : BitVec 32 := v4532
  let v4536 : Index := Scalar.indexCast v4533
  ![v4535.toNat, 0, v4536.toNat]

def k1_chk80 (v4510 : BitVec 32) (v4512 : BitVec 32) : Prop :=
  (128 ∣ (k1_mult80 v4512).toNat) ∧
  (∀ a, (k1_off249 v4510 v4512) a + S1x16x512.size a ≤ S384x16x1152.size a)
theorem k1_mult80_dvd : ∀ (v4510 : BitVec 32) (v4512 : BitVec 32) (k1_hw80 : k1_chk80 v4510 v4512), 128 ∣ (k1_mult80 v4512).toNat := fun v4510 v4512 k1_hw80 => k1_hw80.1
theorem k1_off249_inb : ∀ (v4510 : BitVec 32) (v4512 : BitVec 32) (k1_hw80 : k1_chk80 v4510 v4512), ∀ a, (k1_off249 v4510 v4512) a + S1x16x512.size a ≤ S384x16x1152.size a := fun v4510 v4512 k1_hw80 => k1_hw80.2

def k1_off250 (i : grid1.Coords) : Fin 2 → Nat :=
  let arg0 : BitVec 32 := BitVec.ofNat 32 (i 0).val
  let c48_i32_1617 : BitVec 32 := 48#32
  let v4116 : BitVec 32 := Scalar.muli arg0 c48_i32_1617
  let c9_i32 : BitVec 32 := 9#32
  let v4117 : BitVec 32 := Scalar.addi v4116 c9_i32
  let v4546 : Index := Scalar.indexCast v4117
  let c7_1782 : Index := 7#32
  ![v4546.toNat, 7]
def k1_off251 (i : grid1.Coords) : Fin 3 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4575 : Index := Scalar.indexCast v4574
  let c0_1798 : Index := 0#32
  let c720_1799 : Index := 720#32
  ![v4575.toNat, 0, 720]
def k1_off252 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4595 : Index := Scalar.indexCast v4574
  let c0_1808 : Index := 0#32
  ![v4595.toNat, 0]
def k1_mult81 (v4598 : BitVec 32) : BitVec 32 :=
  let c0_i32_1812 : BitVec 32 := 0#32
  let v4602 : BitVec 1 := Scalar.cmpi .sgt v4598 c0_i32_1812
  let v4603 : BitVec 32 := Scalar.extui v4602
  let c0_i32_1813 : BitVec 32 := 0#32
  let v4604 : BitVec 1 := Scalar.cmpi .slt v4598 c0_i32_1813
  let v4605 : BitVec 32 := Scalar.extui v4604
  let v4606 : BitVec 32 := Scalar.subi v4603 v4605
  let c128_i32_1811 : BitVec 32 := 128#32
  let c0_i32_1814 : BitVec 32 := 0#32
  let v4607 : BitVec 1 := Scalar.cmpi .sgt c128_i32_1811 c0_i32_1814
  let v4608 : BitVec 32 := Scalar.extui v4607
  let c0_i32_1815 : BitVec 32 := 0#32
  let v4609 : BitVec 1 := Scalar.cmpi .slt c128_i32_1811 c0_i32_1815
  let v4610 : BitVec 32 := Scalar.extui v4609
  let v4611 : BitVec 32 := Scalar.subi v4608 v4610
  let v4612 : BitVec 1 := Scalar.cmpi .ne v4606 v4611
  let v4613 : BitVec 32 := Scalar.remsi v4598 c128_i32_1811
  let c0_i32_1816 : BitVec 32 := 0#32
  let v4614 : BitVec 1 := Scalar.cmpi .ne v4613 c0_i32_1816
  let v4615 : BitVec 1 := Scalar.andi v4612 v4614
  let v4601 : BitVec 32 := Scalar.divsi v4598 c128_i32_1811
  let c1_i32_1817 : BitVec 32 := 1#32
  let v4616 : BitVec 32 := Scalar.subi v4601 c1_i32_1817
  let v4617 : BitVec 32 := Scalar.select v4615 v4616 v4601
  let c128_i32_1818 : BitVec 32 := 128#32
  let v4618 : BitVec 32 := Scalar.muli v4617 c128_i32_1818
  v4618

def k1_off253 (v4596 : BitVec 32) (v4598 : BitVec 32) : Fin 3 → Nat :=
  let v4621 : Index := Scalar.indexCast v4596
  let c0_1819 : Index := 0#32
  let c0_i32_1812 : BitVec 32 := 0#32
  let v4602 : BitVec 1 := Scalar.cmpi .sgt v4598 c0_i32_1812
  let v4603 : BitVec 32 := Scalar.extui v4602
  let c0_i32_1813 : BitVec 32 := 0#32
  let v4604 : BitVec 1 := Scalar.cmpi .slt v4598 c0_i32_1813
  let v4605 : BitVec 32 := Scalar.extui v4604
  let v4606 : BitVec 32 := Scalar.subi v4603 v4605
  let c128_i32_1811 : BitVec 32 := 128#32
  let c0_i32_1814 : BitVec 32 := 0#32
  let v4607 : BitVec 1 := Scalar.cmpi .sgt c128_i32_1811 c0_i32_1814
  let v4608 : BitVec 32 := Scalar.extui v4607
  let c0_i32_1815 : BitVec 32 := 0#32
  let v4609 : BitVec 1 := Scalar.cmpi .slt c128_i32_1811 c0_i32_1815
  let v4610 : BitVec 32 := Scalar.extui v4609
  let v4611 : BitVec 32 := Scalar.subi v4608 v4610
  let v4612 : BitVec 1 := Scalar.cmpi .ne v4606 v4611
  let v4613 : BitVec 32 := Scalar.remsi v4598 c128_i32_1811
  let c0_i32_1816 : BitVec 32 := 0#32
  let v4614 : BitVec 1 := Scalar.cmpi .ne v4613 c0_i32_1816
  let v4615 : BitVec 1 := Scalar.andi v4612 v4614
  let v4601 : BitVec 32 := Scalar.divsi v4598 c128_i32_1811
  let c1_i32_1817 : BitVec 32 := 1#32
  let v4616 : BitVec 32 := Scalar.subi v4601 c1_i32_1817
  let v4617 : BitVec 32 := Scalar.select v4615 v4616 v4601
  let c128_i32_1818 : BitVec 32 := 128#32
  let v4618 : BitVec 32 := Scalar.muli v4617 c128_i32_1818
  let v4619 : BitVec 32 := v4618
  let v4622 : Index := Scalar.indexCast v4619
  ![v4621.toNat, 0, v4622.toNat]

def k1_chk81 (v4596 : BitVec 32) (v4598 : BitVec 32) : Prop :=
  (128 ∣ (k1_mult81 v4598).toNat) ∧
  (∀ a, (k1_off253 v4596 v4598) a + S1x16x512.size a ≤ S384x16x1152.size a)
theorem k1_mult81_dvd : ∀ (v4596 : BitVec 32) (v4598 : BitVec 32) (k1_hw81 : k1_chk81 v4596 v4598), 128 ∣ (k1_mult81 v4598).toNat := fun v4596 v4598 k1_hw81 => k1_hw81.1
theorem k1_off253_inb : ∀ (v4596 : BitVec 32) (v4598 : BitVec 32) (k1_hw81 : k1_chk81 v4596 v4598), ∀ a, (k1_off253 v4596 v4598) a + S1x16x512.size a ≤ S384x16x1152.size a := fun v4596 v4598 k1_hw81 => k1_hw81.2

def k1_off254 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4632 : Index := Scalar.indexCast v4574
  let c0_1822 : Index := 0#32
  ![v4632.toNat, 0]
def k1_off255 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4648 : Index := Scalar.indexCast v4574
  let c1_1828 : Index := 1#32
  ![v4648.toNat, 1]
def k1_mult82 (v4651 : BitVec 32) : BitVec 32 :=
  let c0_i32_1832 : BitVec 32 := 0#32
  let v4655 : BitVec 1 := Scalar.cmpi .sgt v4651 c0_i32_1832
  let v4656 : BitVec 32 := Scalar.extui v4655
  let c0_i32_1833 : BitVec 32 := 0#32
  let v4657 : BitVec 1 := Scalar.cmpi .slt v4651 c0_i32_1833
  let v4658 : BitVec 32 := Scalar.extui v4657
  let v4659 : BitVec 32 := Scalar.subi v4656 v4658
  let c128_i32_1831 : BitVec 32 := 128#32
  let c0_i32_1834 : BitVec 32 := 0#32
  let v4660 : BitVec 1 := Scalar.cmpi .sgt c128_i32_1831 c0_i32_1834
  let v4661 : BitVec 32 := Scalar.extui v4660
  let c0_i32_1835 : BitVec 32 := 0#32
  let v4662 : BitVec 1 := Scalar.cmpi .slt c128_i32_1831 c0_i32_1835
  let v4663 : BitVec 32 := Scalar.extui v4662
  let v4664 : BitVec 32 := Scalar.subi v4661 v4663
  let v4665 : BitVec 1 := Scalar.cmpi .ne v4659 v4664
  let v4666 : BitVec 32 := Scalar.remsi v4651 c128_i32_1831
  let c0_i32_1836 : BitVec 32 := 0#32
  let v4667 : BitVec 1 := Scalar.cmpi .ne v4666 c0_i32_1836
  let v4668 : BitVec 1 := Scalar.andi v4665 v4667
  let v4654 : BitVec 32 := Scalar.divsi v4651 c128_i32_1831
  let c1_i32_1837 : BitVec 32 := 1#32
  let v4669 : BitVec 32 := Scalar.subi v4654 c1_i32_1837
  let v4670 : BitVec 32 := Scalar.select v4668 v4669 v4654
  let c128_i32_1838 : BitVec 32 := 128#32
  let v4671 : BitVec 32 := Scalar.muli v4670 c128_i32_1838
  v4671

def k1_off256 (v4649 : BitVec 32) (v4651 : BitVec 32) : Fin 3 → Nat :=
  let v4674 : Index := Scalar.indexCast v4649
  let c0_1839 : Index := 0#32
  let c0_i32_1832 : BitVec 32 := 0#32
  let v4655 : BitVec 1 := Scalar.cmpi .sgt v4651 c0_i32_1832
  let v4656 : BitVec 32 := Scalar.extui v4655
  let c0_i32_1833 : BitVec 32 := 0#32
  let v4657 : BitVec 1 := Scalar.cmpi .slt v4651 c0_i32_1833
  let v4658 : BitVec 32 := Scalar.extui v4657
  let v4659 : BitVec 32 := Scalar.subi v4656 v4658
  let c128_i32_1831 : BitVec 32 := 128#32
  let c0_i32_1834 : BitVec 32 := 0#32
  let v4660 : BitVec 1 := Scalar.cmpi .sgt c128_i32_1831 c0_i32_1834
  let v4661 : BitVec 32 := Scalar.extui v4660
  let c0_i32_1835 : BitVec 32 := 0#32
  let v4662 : BitVec 1 := Scalar.cmpi .slt c128_i32_1831 c0_i32_1835
  let v4663 : BitVec 32 := Scalar.extui v4662
  let v4664 : BitVec 32 := Scalar.subi v4661 v4663
  let v4665 : BitVec 1 := Scalar.cmpi .ne v4659 v4664
  let v4666 : BitVec 32 := Scalar.remsi v4651 c128_i32_1831
  let c0_i32_1836 : BitVec 32 := 0#32
  let v4667 : BitVec 1 := Scalar.cmpi .ne v4666 c0_i32_1836
  let v4668 : BitVec 1 := Scalar.andi v4665 v4667
  let v4654 : BitVec 32 := Scalar.divsi v4651 c128_i32_1831
  let c1_i32_1837 : BitVec 32 := 1#32
  let v4669 : BitVec 32 := Scalar.subi v4654 c1_i32_1837
  let v4670 : BitVec 32 := Scalar.select v4668 v4669 v4654
  let c128_i32_1838 : BitVec 32 := 128#32
  let v4671 : BitVec 32 := Scalar.muli v4670 c128_i32_1838
  let v4672 : BitVec 32 := v4671
  let v4675 : Index := Scalar.indexCast v4672
  ![v4674.toNat, 0, v4675.toNat]

def k1_chk82 (v4649 : BitVec 32) (v4651 : BitVec 32) : Prop :=
  (128 ∣ (k1_mult82 v4651).toNat) ∧
  (∀ a, (k1_off256 v4649 v4651) a + S1x16x512.size a ≤ S384x16x1152.size a)
theorem k1_mult82_dvd : ∀ (v4649 : BitVec 32) (v4651 : BitVec 32) (k1_hw82 : k1_chk82 v4649 v4651), 128 ∣ (k1_mult82 v4651).toNat := fun v4649 v4651 k1_hw82 => k1_hw82.1
theorem k1_off256_inb : ∀ (v4649 : BitVec 32) (v4651 : BitVec 32) (k1_hw82 : k1_chk82 v4649 v4651), ∀ a, (k1_off256 v4649 v4651) a + S1x16x512.size a ≤ S384x16x1152.size a := fun v4649 v4651 k1_hw82 => k1_hw82.2

def k1_off257 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4685 : Index := Scalar.indexCast v4574
  let c1_1842 : Index := 1#32
  ![v4685.toNat, 1]
def k1_off258 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4701 : Index := Scalar.indexCast v4574
  let c2_1848 : Index := 2#32
  ![v4701.toNat, 2]
def k1_mult83 (v4704 : BitVec 32) : BitVec 32 :=
  let c0_i32_1852 : BitVec 32 := 0#32
  let v4708 : BitVec 1 := Scalar.cmpi .sgt v4704 c0_i32_1852
  let v4709 : BitVec 32 := Scalar.extui v4708
  let c0_i32_1853 : BitVec 32 := 0#32
  let v4710 : BitVec 1 := Scalar.cmpi .slt v4704 c0_i32_1853
  let v4711 : BitVec 32 := Scalar.extui v4710
  let v4712 : BitVec 32 := Scalar.subi v4709 v4711
  let c128_i32_1851 : BitVec 32 := 128#32
  let c0_i32_1854 : BitVec 32 := 0#32
  let v4713 : BitVec 1 := Scalar.cmpi .sgt c128_i32_1851 c0_i32_1854
  let v4714 : BitVec 32 := Scalar.extui v4713
  let c0_i32_1855 : BitVec 32 := 0#32
  let v4715 : BitVec 1 := Scalar.cmpi .slt c128_i32_1851 c0_i32_1855
  let v4716 : BitVec 32 := Scalar.extui v4715
  let v4717 : BitVec 32 := Scalar.subi v4714 v4716
  let v4718 : BitVec 1 := Scalar.cmpi .ne v4712 v4717
  let v4719 : BitVec 32 := Scalar.remsi v4704 c128_i32_1851
  let c0_i32_1856 : BitVec 32 := 0#32
  let v4720 : BitVec 1 := Scalar.cmpi .ne v4719 c0_i32_1856
  let v4721 : BitVec 1 := Scalar.andi v4718 v4720
  let v4707 : BitVec 32 := Scalar.divsi v4704 c128_i32_1851
  let c1_i32_1857 : BitVec 32 := 1#32
  let v4722 : BitVec 32 := Scalar.subi v4707 c1_i32_1857
  let v4723 : BitVec 32 := Scalar.select v4721 v4722 v4707
  let c128_i32_1858 : BitVec 32 := 128#32
  let v4724 : BitVec 32 := Scalar.muli v4723 c128_i32_1858
  v4724

def k1_off259 (v4702 : BitVec 32) (v4704 : BitVec 32) : Fin 3 → Nat :=
  let v4727 : Index := Scalar.indexCast v4702
  let c0_1859 : Index := 0#32
  let c0_i32_1852 : BitVec 32 := 0#32
  let v4708 : BitVec 1 := Scalar.cmpi .sgt v4704 c0_i32_1852
  let v4709 : BitVec 32 := Scalar.extui v4708
  let c0_i32_1853 : BitVec 32 := 0#32
  let v4710 : BitVec 1 := Scalar.cmpi .slt v4704 c0_i32_1853
  let v4711 : BitVec 32 := Scalar.extui v4710
  let v4712 : BitVec 32 := Scalar.subi v4709 v4711
  let c128_i32_1851 : BitVec 32 := 128#32
  let c0_i32_1854 : BitVec 32 := 0#32
  let v4713 : BitVec 1 := Scalar.cmpi .sgt c128_i32_1851 c0_i32_1854
  let v4714 : BitVec 32 := Scalar.extui v4713
  let c0_i32_1855 : BitVec 32 := 0#32
  let v4715 : BitVec 1 := Scalar.cmpi .slt c128_i32_1851 c0_i32_1855
  let v4716 : BitVec 32 := Scalar.extui v4715
  let v4717 : BitVec 32 := Scalar.subi v4714 v4716
  let v4718 : BitVec 1 := Scalar.cmpi .ne v4712 v4717
  let v4719 : BitVec 32 := Scalar.remsi v4704 c128_i32_1851
  let c0_i32_1856 : BitVec 32 := 0#32
  let v4720 : BitVec 1 := Scalar.cmpi .ne v4719 c0_i32_1856
  let v4721 : BitVec 1 := Scalar.andi v4718 v4720
  let v4707 : BitVec 32 := Scalar.divsi v4704 c128_i32_1851
  let c1_i32_1857 : BitVec 32 := 1#32
  let v4722 : BitVec 32 := Scalar.subi v4707 c1_i32_1857
  let v4723 : BitVec 32 := Scalar.select v4721 v4722 v4707
  let c128_i32_1858 : BitVec 32 := 128#32
  let v4724 : BitVec 32 := Scalar.muli v4723 c128_i32_1858
  let v4725 : BitVec 32 := v4724
  let v4728 : Index := Scalar.indexCast v4725
  ![v4727.toNat, 0, v4728.toNat]

def k1_chk83 (v4702 : BitVec 32) (v4704 : BitVec 32) : Prop :=
  (128 ∣ (k1_mult83 v4704).toNat) ∧
  (∀ a, (k1_off259 v4702 v4704) a + S1x16x512.size a ≤ S384x16x1152.size a)
theorem k1_mult83_dvd : ∀ (v4702 : BitVec 32) (v4704 : BitVec 32) (k1_hw83 : k1_chk83 v4702 v4704), 128 ∣ (k1_mult83 v4704).toNat := fun v4702 v4704 k1_hw83 => k1_hw83.1
theorem k1_off259_inb : ∀ (v4702 : BitVec 32) (v4704 : BitVec 32) (k1_hw83 : k1_chk83 v4702 v4704), ∀ a, (k1_off259 v4702 v4704) a + S1x16x512.size a ≤ S384x16x1152.size a := fun v4702 v4704 k1_hw83 => k1_hw83.2

def k1_off260 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4738 : Index := Scalar.indexCast v4574
  let c2_1862 : Index := 2#32
  ![v4738.toNat, 2]
def k1_off261 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4754 : Index := Scalar.indexCast v4574
  let c3_1868 : Index := 3#32
  ![v4754.toNat, 3]
def k1_mult84 (v4757 : BitVec 32) : BitVec 32 :=
  let c0_i32_1872 : BitVec 32 := 0#32
  let v4761 : BitVec 1 := Scalar.cmpi .sgt v4757 c0_i32_1872
  let v4762 : BitVec 32 := Scalar.extui v4761
  let c0_i32_1873 : BitVec 32 := 0#32
  let v4763 : BitVec 1 := Scalar.cmpi .slt v4757 c0_i32_1873
  let v4764 : BitVec 32 := Scalar.extui v4763
  let v4765 : BitVec 32 := Scalar.subi v4762 v4764
  let c128_i32_1871 : BitVec 32 := 128#32
  let c0_i32_1874 : BitVec 32 := 0#32
  let v4766 : BitVec 1 := Scalar.cmpi .sgt c128_i32_1871 c0_i32_1874
  let v4767 : BitVec 32 := Scalar.extui v4766
  let c0_i32_1875 : BitVec 32 := 0#32
  let v4768 : BitVec 1 := Scalar.cmpi .slt c128_i32_1871 c0_i32_1875
  let v4769 : BitVec 32 := Scalar.extui v4768
  let v4770 : BitVec 32 := Scalar.subi v4767 v4769
  let v4771 : BitVec 1 := Scalar.cmpi .ne v4765 v4770
  let v4772 : BitVec 32 := Scalar.remsi v4757 c128_i32_1871
  let c0_i32_1876 : BitVec 32 := 0#32
  let v4773 : BitVec 1 := Scalar.cmpi .ne v4772 c0_i32_1876
  let v4774 : BitVec 1 := Scalar.andi v4771 v4773
  let v4760 : BitVec 32 := Scalar.divsi v4757 c128_i32_1871
  let c1_i32_1877 : BitVec 32 := 1#32
  let v4775 : BitVec 32 := Scalar.subi v4760 c1_i32_1877
  let v4776 : BitVec 32 := Scalar.select v4774 v4775 v4760
  let c128_i32_1878 : BitVec 32 := 128#32
  let v4777 : BitVec 32 := Scalar.muli v4776 c128_i32_1878
  v4777

def k1_off262 (v4755 : BitVec 32) (v4757 : BitVec 32) : Fin 3 → Nat :=
  let v4780 : Index := Scalar.indexCast v4755
  let c0_1879 : Index := 0#32
  let c0_i32_1872 : BitVec 32 := 0#32
  let v4761 : BitVec 1 := Scalar.cmpi .sgt v4757 c0_i32_1872
  let v4762 : BitVec 32 := Scalar.extui v4761
  let c0_i32_1873 : BitVec 32 := 0#32
  let v4763 : BitVec 1 := Scalar.cmpi .slt v4757 c0_i32_1873
  let v4764 : BitVec 32 := Scalar.extui v4763
  let v4765 : BitVec 32 := Scalar.subi v4762 v4764
  let c128_i32_1871 : BitVec 32 := 128#32
  let c0_i32_1874 : BitVec 32 := 0#32
  let v4766 : BitVec 1 := Scalar.cmpi .sgt c128_i32_1871 c0_i32_1874
  let v4767 : BitVec 32 := Scalar.extui v4766
  let c0_i32_1875 : BitVec 32 := 0#32
  let v4768 : BitVec 1 := Scalar.cmpi .slt c128_i32_1871 c0_i32_1875
  let v4769 : BitVec 32 := Scalar.extui v4768
  let v4770 : BitVec 32 := Scalar.subi v4767 v4769
  let v4771 : BitVec 1 := Scalar.cmpi .ne v4765 v4770
  let v4772 : BitVec 32 := Scalar.remsi v4757 c128_i32_1871
  let c0_i32_1876 : BitVec 32 := 0#32
  let v4773 : BitVec 1 := Scalar.cmpi .ne v4772 c0_i32_1876
  let v4774 : BitVec 1 := Scalar.andi v4771 v4773
  let v4760 : BitVec 32 := Scalar.divsi v4757 c128_i32_1871
  let c1_i32_1877 : BitVec 32 := 1#32
  let v4775 : BitVec 32 := Scalar.subi v4760 c1_i32_1877
  let v4776 : BitVec 32 := Scalar.select v4774 v4775 v4760
  let c128_i32_1878 : BitVec 32 := 128#32
  let v4777 : BitVec 32 := Scalar.muli v4776 c128_i32_1878
  let v4778 : BitVec 32 := v4777
  let v4781 : Index := Scalar.indexCast v4778
  ![v4780.toNat, 0, v4781.toNat]

def k1_chk84 (v4755 : BitVec 32) (v4757 : BitVec 32) : Prop :=
  (128 ∣ (k1_mult84 v4757).toNat) ∧
  (∀ a, (k1_off262 v4755 v4757) a + S1x16x512.size a ≤ S384x16x1152.size a)
theorem k1_mult84_dvd : ∀ (v4755 : BitVec 32) (v4757 : BitVec 32) (k1_hw84 : k1_chk84 v4755 v4757), 128 ∣ (k1_mult84 v4757).toNat := fun v4755 v4757 k1_hw84 => k1_hw84.1
theorem k1_off262_inb : ∀ (v4755 : BitVec 32) (v4757 : BitVec 32) (k1_hw84 : k1_chk84 v4755 v4757), ∀ a, (k1_off262 v4755 v4757) a + S1x16x512.size a ≤ S384x16x1152.size a := fun v4755 v4757 k1_hw84 => k1_hw84.2

def k1_off263 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4791 : Index := Scalar.indexCast v4574
  let c3_1882 : Index := 3#32
  ![v4791.toNat, 3]
def k1_off264 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4807 : Index := Scalar.indexCast v4574
  let c4_1888 : Index := 4#32
  ![v4807.toNat, 4]
def k1_mult85 (v4810 : BitVec 32) : BitVec 32 :=
  let c0_i32_1892 : BitVec 32 := 0#32
  let v4814 : BitVec 1 := Scalar.cmpi .sgt v4810 c0_i32_1892
  let v4815 : BitVec 32 := Scalar.extui v4814
  let c0_i32_1893 : BitVec 32 := 0#32
  let v4816 : BitVec 1 := Scalar.cmpi .slt v4810 c0_i32_1893
  let v4817 : BitVec 32 := Scalar.extui v4816
  let v4818 : BitVec 32 := Scalar.subi v4815 v4817
  let c128_i32_1891 : BitVec 32 := 128#32
  let c0_i32_1894 : BitVec 32 := 0#32
  let v4819 : BitVec 1 := Scalar.cmpi .sgt c128_i32_1891 c0_i32_1894
  let v4820 : BitVec 32 := Scalar.extui v4819
  let c0_i32_1895 : BitVec 32 := 0#32
  let v4821 : BitVec 1 := Scalar.cmpi .slt c128_i32_1891 c0_i32_1895
  let v4822 : BitVec 32 := Scalar.extui v4821
  let v4823 : BitVec 32 := Scalar.subi v4820 v4822
  let v4824 : BitVec 1 := Scalar.cmpi .ne v4818 v4823
  let v4825 : BitVec 32 := Scalar.remsi v4810 c128_i32_1891
  let c0_i32_1896 : BitVec 32 := 0#32
  let v4826 : BitVec 1 := Scalar.cmpi .ne v4825 c0_i32_1896
  let v4827 : BitVec 1 := Scalar.andi v4824 v4826
  let v4813 : BitVec 32 := Scalar.divsi v4810 c128_i32_1891
  let c1_i32_1897 : BitVec 32 := 1#32
  let v4828 : BitVec 32 := Scalar.subi v4813 c1_i32_1897
  let v4829 : BitVec 32 := Scalar.select v4827 v4828 v4813
  let c128_i32_1898 : BitVec 32 := 128#32
  let v4830 : BitVec 32 := Scalar.muli v4829 c128_i32_1898
  v4830

def k1_off265 (v4808 : BitVec 32) (v4810 : BitVec 32) : Fin 3 → Nat :=
  let v4833 : Index := Scalar.indexCast v4808
  let c0_1899 : Index := 0#32
  let c0_i32_1892 : BitVec 32 := 0#32
  let v4814 : BitVec 1 := Scalar.cmpi .sgt v4810 c0_i32_1892
  let v4815 : BitVec 32 := Scalar.extui v4814
  let c0_i32_1893 : BitVec 32 := 0#32
  let v4816 : BitVec 1 := Scalar.cmpi .slt v4810 c0_i32_1893
  let v4817 : BitVec 32 := Scalar.extui v4816
  let v4818 : BitVec 32 := Scalar.subi v4815 v4817
  let c128_i32_1891 : BitVec 32 := 128#32
  let c0_i32_1894 : BitVec 32 := 0#32
  let v4819 : BitVec 1 := Scalar.cmpi .sgt c128_i32_1891 c0_i32_1894
  let v4820 : BitVec 32 := Scalar.extui v4819
  let c0_i32_1895 : BitVec 32 := 0#32
  let v4821 : BitVec 1 := Scalar.cmpi .slt c128_i32_1891 c0_i32_1895
  let v4822 : BitVec 32 := Scalar.extui v4821
  let v4823 : BitVec 32 := Scalar.subi v4820 v4822
  let v4824 : BitVec 1 := Scalar.cmpi .ne v4818 v4823
  let v4825 : BitVec 32 := Scalar.remsi v4810 c128_i32_1891
  let c0_i32_1896 : BitVec 32 := 0#32
  let v4826 : BitVec 1 := Scalar.cmpi .ne v4825 c0_i32_1896
  let v4827 : BitVec 1 := Scalar.andi v4824 v4826
  let v4813 : BitVec 32 := Scalar.divsi v4810 c128_i32_1891
  let c1_i32_1897 : BitVec 32 := 1#32
  let v4828 : BitVec 32 := Scalar.subi v4813 c1_i32_1897
  let v4829 : BitVec 32 := Scalar.select v4827 v4828 v4813
  let c128_i32_1898 : BitVec 32 := 128#32
  let v4830 : BitVec 32 := Scalar.muli v4829 c128_i32_1898
  let v4831 : BitVec 32 := v4830
  let v4834 : Index := Scalar.indexCast v4831
  ![v4833.toNat, 0, v4834.toNat]

def k1_chk85 (v4808 : BitVec 32) (v4810 : BitVec 32) : Prop :=
  (128 ∣ (k1_mult85 v4810).toNat) ∧
  (∀ a, (k1_off265 v4808 v4810) a + S1x16x512.size a ≤ S384x16x1152.size a)
theorem k1_mult85_dvd : ∀ (v4808 : BitVec 32) (v4810 : BitVec 32) (k1_hw85 : k1_chk85 v4808 v4810), 128 ∣ (k1_mult85 v4810).toNat := fun v4808 v4810 k1_hw85 => k1_hw85.1
theorem k1_off265_inb : ∀ (v4808 : BitVec 32) (v4810 : BitVec 32) (k1_hw85 : k1_chk85 v4808 v4810), ∀ a, (k1_off265 v4808 v4810) a + S1x16x512.size a ≤ S384x16x1152.size a := fun v4808 v4810 k1_hw85 => k1_hw85.2

def k1_off266 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4844 : Index := Scalar.indexCast v4574
  let c4_1902 : Index := 4#32
  ![v4844.toNat, 4]
def k1_off267 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4860 : Index := Scalar.indexCast v4574
  let c5_1908 : Index := 5#32
  ![v4860.toNat, 5]
def k1_mult86 (v4863 : BitVec 32) : BitVec 32 :=
  let c0_i32_1912 : BitVec 32 := 0#32
  let v4867 : BitVec 1 := Scalar.cmpi .sgt v4863 c0_i32_1912
  let v4868 : BitVec 32 := Scalar.extui v4867
  let c0_i32_1913 : BitVec 32 := 0#32
  let v4869 : BitVec 1 := Scalar.cmpi .slt v4863 c0_i32_1913
  let v4870 : BitVec 32 := Scalar.extui v4869
  let v4871 : BitVec 32 := Scalar.subi v4868 v4870
  let c128_i32_1911 : BitVec 32 := 128#32
  let c0_i32_1914 : BitVec 32 := 0#32
  let v4872 : BitVec 1 := Scalar.cmpi .sgt c128_i32_1911 c0_i32_1914
  let v4873 : BitVec 32 := Scalar.extui v4872
  let c0_i32_1915 : BitVec 32 := 0#32
  let v4874 : BitVec 1 := Scalar.cmpi .slt c128_i32_1911 c0_i32_1915
  let v4875 : BitVec 32 := Scalar.extui v4874
  let v4876 : BitVec 32 := Scalar.subi v4873 v4875
  let v4877 : BitVec 1 := Scalar.cmpi .ne v4871 v4876
  let v4878 : BitVec 32 := Scalar.remsi v4863 c128_i32_1911
  let c0_i32_1916 : BitVec 32 := 0#32
  let v4879 : BitVec 1 := Scalar.cmpi .ne v4878 c0_i32_1916
  let v4880 : BitVec 1 := Scalar.andi v4877 v4879
  let v4866 : BitVec 32 := Scalar.divsi v4863 c128_i32_1911
  let c1_i32_1917 : BitVec 32 := 1#32
  let v4881 : BitVec 32 := Scalar.subi v4866 c1_i32_1917
  let v4882 : BitVec 32 := Scalar.select v4880 v4881 v4866
  let c128_i32_1918 : BitVec 32 := 128#32
  let v4883 : BitVec 32 := Scalar.muli v4882 c128_i32_1918
  v4883

def k1_off268 (v4861 : BitVec 32) (v4863 : BitVec 32) : Fin 3 → Nat :=
  let v4886 : Index := Scalar.indexCast v4861
  let c0_1919 : Index := 0#32
  let c0_i32_1912 : BitVec 32 := 0#32
  let v4867 : BitVec 1 := Scalar.cmpi .sgt v4863 c0_i32_1912
  let v4868 : BitVec 32 := Scalar.extui v4867
  let c0_i32_1913 : BitVec 32 := 0#32
  let v4869 : BitVec 1 := Scalar.cmpi .slt v4863 c0_i32_1913
  let v4870 : BitVec 32 := Scalar.extui v4869
  let v4871 : BitVec 32 := Scalar.subi v4868 v4870
  let c128_i32_1911 : BitVec 32 := 128#32
  let c0_i32_1914 : BitVec 32 := 0#32
  let v4872 : BitVec 1 := Scalar.cmpi .sgt c128_i32_1911 c0_i32_1914
  let v4873 : BitVec 32 := Scalar.extui v4872
  let c0_i32_1915 : BitVec 32 := 0#32
  let v4874 : BitVec 1 := Scalar.cmpi .slt c128_i32_1911 c0_i32_1915
  let v4875 : BitVec 32 := Scalar.extui v4874
  let v4876 : BitVec 32 := Scalar.subi v4873 v4875
  let v4877 : BitVec 1 := Scalar.cmpi .ne v4871 v4876
  let v4878 : BitVec 32 := Scalar.remsi v4863 c128_i32_1911
  let c0_i32_1916 : BitVec 32 := 0#32
  let v4879 : BitVec 1 := Scalar.cmpi .ne v4878 c0_i32_1916
  let v4880 : BitVec 1 := Scalar.andi v4877 v4879
  let v4866 : BitVec 32 := Scalar.divsi v4863 c128_i32_1911
  let c1_i32_1917 : BitVec 32 := 1#32
  let v4881 : BitVec 32 := Scalar.subi v4866 c1_i32_1917
  let v4882 : BitVec 32 := Scalar.select v4880 v4881 v4866
  let c128_i32_1918 : BitVec 32 := 128#32
  let v4883 : BitVec 32 := Scalar.muli v4882 c128_i32_1918
  let v4884 : BitVec 32 := v4883
  let v4887 : Index := Scalar.indexCast v4884
  ![v4886.toNat, 0, v4887.toNat]

def k1_chk86 (v4861 : BitVec 32) (v4863 : BitVec 32) : Prop :=
  (128 ∣ (k1_mult86 v4863).toNat) ∧
  (∀ a, (k1_off268 v4861 v4863) a + S1x16x512.size a ≤ S384x16x1152.size a)
theorem k1_mult86_dvd : ∀ (v4861 : BitVec 32) (v4863 : BitVec 32) (k1_hw86 : k1_chk86 v4861 v4863), 128 ∣ (k1_mult86 v4863).toNat := fun v4861 v4863 k1_hw86 => k1_hw86.1
theorem k1_off268_inb : ∀ (v4861 : BitVec 32) (v4863 : BitVec 32) (k1_hw86 : k1_chk86 v4861 v4863), ∀ a, (k1_off268 v4861 v4863) a + S1x16x512.size a ≤ S384x16x1152.size a := fun v4861 v4863 k1_hw86 => k1_hw86.2

def k1_off269 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4897 : Index := Scalar.indexCast v4574
  let c5_1922 : Index := 5#32
  ![v4897.toNat, 5]
def k1_off270 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4913 : Index := Scalar.indexCast v4574
  let c6_1928 : Index := 6#32
  ![v4913.toNat, 6]
def k1_mult87 (v4916 : BitVec 32) : BitVec 32 :=
  let c0_i32_1932 : BitVec 32 := 0#32
  let v4920 : BitVec 1 := Scalar.cmpi .sgt v4916 c0_i32_1932
  let v4921 : BitVec 32 := Scalar.extui v4920
  let c0_i32_1933 : BitVec 32 := 0#32
  let v4922 : BitVec 1 := Scalar.cmpi .slt v4916 c0_i32_1933
  let v4923 : BitVec 32 := Scalar.extui v4922
  let v4924 : BitVec 32 := Scalar.subi v4921 v4923
  let c128_i32_1931 : BitVec 32 := 128#32
  let c0_i32_1934 : BitVec 32 := 0#32
  let v4925 : BitVec 1 := Scalar.cmpi .sgt c128_i32_1931 c0_i32_1934
  let v4926 : BitVec 32 := Scalar.extui v4925
  let c0_i32_1935 : BitVec 32 := 0#32
  let v4927 : BitVec 1 := Scalar.cmpi .slt c128_i32_1931 c0_i32_1935
  let v4928 : BitVec 32 := Scalar.extui v4927
  let v4929 : BitVec 32 := Scalar.subi v4926 v4928
  let v4930 : BitVec 1 := Scalar.cmpi .ne v4924 v4929
  let v4931 : BitVec 32 := Scalar.remsi v4916 c128_i32_1931
  let c0_i32_1936 : BitVec 32 := 0#32
  let v4932 : BitVec 1 := Scalar.cmpi .ne v4931 c0_i32_1936
  let v4933 : BitVec 1 := Scalar.andi v4930 v4932
  let v4919 : BitVec 32 := Scalar.divsi v4916 c128_i32_1931
  let c1_i32_1937 : BitVec 32 := 1#32
  let v4934 : BitVec 32 := Scalar.subi v4919 c1_i32_1937
  let v4935 : BitVec 32 := Scalar.select v4933 v4934 v4919
  let c128_i32_1938 : BitVec 32 := 128#32
  let v4936 : BitVec 32 := Scalar.muli v4935 c128_i32_1938
  v4936

def k1_off271 (v4914 : BitVec 32) (v4916 : BitVec 32) : Fin 3 → Nat :=
  let v4939 : Index := Scalar.indexCast v4914
  let c0_1939 : Index := 0#32
  let c0_i32_1932 : BitVec 32 := 0#32
  let v4920 : BitVec 1 := Scalar.cmpi .sgt v4916 c0_i32_1932
  let v4921 : BitVec 32 := Scalar.extui v4920
  let c0_i32_1933 : BitVec 32 := 0#32
  let v4922 : BitVec 1 := Scalar.cmpi .slt v4916 c0_i32_1933
  let v4923 : BitVec 32 := Scalar.extui v4922
  let v4924 : BitVec 32 := Scalar.subi v4921 v4923
  let c128_i32_1931 : BitVec 32 := 128#32
  let c0_i32_1934 : BitVec 32 := 0#32
  let v4925 : BitVec 1 := Scalar.cmpi .sgt c128_i32_1931 c0_i32_1934
  let v4926 : BitVec 32 := Scalar.extui v4925
  let c0_i32_1935 : BitVec 32 := 0#32
  let v4927 : BitVec 1 := Scalar.cmpi .slt c128_i32_1931 c0_i32_1935
  let v4928 : BitVec 32 := Scalar.extui v4927
  let v4929 : BitVec 32 := Scalar.subi v4926 v4928
  let v4930 : BitVec 1 := Scalar.cmpi .ne v4924 v4929
  let v4931 : BitVec 32 := Scalar.remsi v4916 c128_i32_1931
  let c0_i32_1936 : BitVec 32 := 0#32
  let v4932 : BitVec 1 := Scalar.cmpi .ne v4931 c0_i32_1936
  let v4933 : BitVec 1 := Scalar.andi v4930 v4932
  let v4919 : BitVec 32 := Scalar.divsi v4916 c128_i32_1931
  let c1_i32_1937 : BitVec 32 := 1#32
  let v4934 : BitVec 32 := Scalar.subi v4919 c1_i32_1937
  let v4935 : BitVec 32 := Scalar.select v4933 v4934 v4919
  let c128_i32_1938 : BitVec 32 := 128#32
  let v4936 : BitVec 32 := Scalar.muli v4935 c128_i32_1938
  let v4937 : BitVec 32 := v4936
  let v4940 : Index := Scalar.indexCast v4937
  ![v4939.toNat, 0, v4940.toNat]

def k1_chk87 (v4914 : BitVec 32) (v4916 : BitVec 32) : Prop :=
  (128 ∣ (k1_mult87 v4916).toNat) ∧
  (∀ a, (k1_off271 v4914 v4916) a + S1x16x512.size a ≤ S384x16x1152.size a)
theorem k1_mult87_dvd : ∀ (v4914 : BitVec 32) (v4916 : BitVec 32) (k1_hw87 : k1_chk87 v4914 v4916), 128 ∣ (k1_mult87 v4916).toNat := fun v4914 v4916 k1_hw87 => k1_hw87.1
theorem k1_off271_inb : ∀ (v4914 : BitVec 32) (v4916 : BitVec 32) (k1_hw87 : k1_chk87 v4914 v4916), ∀ a, (k1_off271 v4914 v4916) a + S1x16x512.size a ≤ S384x16x1152.size a := fun v4914 v4916 k1_hw87 => k1_hw87.2

def k1_off272 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4950 : Index := Scalar.indexCast v4574
  let c6_1942 : Index := 6#32
  ![v4950.toNat, 6]
def k1_off273 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v4966 : Index := Scalar.indexCast v4574
  let c7_1948 : Index := 7#32
  ![v4966.toNat, 7]
def k1_mult88 (v4969 : BitVec 32) : BitVec 32 :=
  let c0_i32_1952 : BitVec 32 := 0#32
  let v4973 : BitVec 1 := Scalar.cmpi .sgt v4969 c0_i32_1952
  let v4974 : BitVec 32 := Scalar.extui v4973
  let c0_i32_1953 : BitVec 32 := 0#32
  let v4975 : BitVec 1 := Scalar.cmpi .slt v4969 c0_i32_1953
  let v4976 : BitVec 32 := Scalar.extui v4975
  let v4977 : BitVec 32 := Scalar.subi v4974 v4976
  let c128_i32_1951 : BitVec 32 := 128#32
  let c0_i32_1954 : BitVec 32 := 0#32
  let v4978 : BitVec 1 := Scalar.cmpi .sgt c128_i32_1951 c0_i32_1954
  let v4979 : BitVec 32 := Scalar.extui v4978
  let c0_i32_1955 : BitVec 32 := 0#32
  let v4980 : BitVec 1 := Scalar.cmpi .slt c128_i32_1951 c0_i32_1955
  let v4981 : BitVec 32 := Scalar.extui v4980
  let v4982 : BitVec 32 := Scalar.subi v4979 v4981
  let v4983 : BitVec 1 := Scalar.cmpi .ne v4977 v4982
  let v4984 : BitVec 32 := Scalar.remsi v4969 c128_i32_1951
  let c0_i32_1956 : BitVec 32 := 0#32
  let v4985 : BitVec 1 := Scalar.cmpi .ne v4984 c0_i32_1956
  let v4986 : BitVec 1 := Scalar.andi v4983 v4985
  let v4972 : BitVec 32 := Scalar.divsi v4969 c128_i32_1951
  let c1_i32_1957 : BitVec 32 := 1#32
  let v4987 : BitVec 32 := Scalar.subi v4972 c1_i32_1957
  let v4988 : BitVec 32 := Scalar.select v4986 v4987 v4972
  let c128_i32_1958 : BitVec 32 := 128#32
  let v4989 : BitVec 32 := Scalar.muli v4988 c128_i32_1958
  v4989

def k1_off274 (v4967 : BitVec 32) (v4969 : BitVec 32) : Fin 3 → Nat :=
  let v4992 : Index := Scalar.indexCast v4967
  let c0_1959 : Index := 0#32
  let c0_i32_1952 : BitVec 32 := 0#32
  let v4973 : BitVec 1 := Scalar.cmpi .sgt v4969 c0_i32_1952
  let v4974 : BitVec 32 := Scalar.extui v4973
  let c0_i32_1953 : BitVec 32 := 0#32
  let v4975 : BitVec 1 := Scalar.cmpi .slt v4969 c0_i32_1953
  let v4976 : BitVec 32 := Scalar.extui v4975
  let v4977 : BitVec 32 := Scalar.subi v4974 v4976
  let c128_i32_1951 : BitVec 32 := 128#32
  let c0_i32_1954 : BitVec 32 := 0#32
  let v4978 : BitVec 1 := Scalar.cmpi .sgt c128_i32_1951 c0_i32_1954
  let v4979 : BitVec 32 := Scalar.extui v4978
  let c0_i32_1955 : BitVec 32 := 0#32
  let v4980 : BitVec 1 := Scalar.cmpi .slt c128_i32_1951 c0_i32_1955
  let v4981 : BitVec 32 := Scalar.extui v4980
  let v4982 : BitVec 32 := Scalar.subi v4979 v4981
  let v4983 : BitVec 1 := Scalar.cmpi .ne v4977 v4982
  let v4984 : BitVec 32 := Scalar.remsi v4969 c128_i32_1951
  let c0_i32_1956 : BitVec 32 := 0#32
  let v4985 : BitVec 1 := Scalar.cmpi .ne v4984 c0_i32_1956
  let v4986 : BitVec 1 := Scalar.andi v4983 v4985
  let v4972 : BitVec 32 := Scalar.divsi v4969 c128_i32_1951
  let c1_i32_1957 : BitVec 32 := 1#32
  let v4987 : BitVec 32 := Scalar.subi v4972 c1_i32_1957
  let v4988 : BitVec 32 := Scalar.select v4986 v4987 v4972
  let c128_i32_1958 : BitVec 32 := 128#32
  let v4989 : BitVec 32 := Scalar.muli v4988 c128_i32_1958
  let v4990 : BitVec 32 := v4989
  let v4993 : Index := Scalar.indexCast v4990
  ![v4992.toNat, 0, v4993.toNat]

def k1_chk88 (v4967 : BitVec 32) (v4969 : BitVec 32) : Prop :=
  (128 ∣ (k1_mult88 v4969).toNat) ∧
  (∀ a, (k1_off274 v4967 v4969) a + S1x16x512.size a ≤ S384x16x1152.size a)
theorem k1_mult88_dvd : ∀ (v4967 : BitVec 32) (v4969 : BitVec 32) (k1_hw88 : k1_chk88 v4967 v4969), 128 ∣ (k1_mult88 v4969).toNat := fun v4967 v4969 k1_hw88 => k1_hw88.1
theorem k1_off274_inb : ∀ (v4967 : BitVec 32) (v4969 : BitVec 32) (k1_hw88 : k1_chk88 v4967 v4969), ∀ a, (k1_off274 v4967 v4969) a + S1x16x512.size a ≤ S384x16x1152.size a := fun v4967 v4969 k1_hw88 => k1_hw88.2

def k1_off275 (i : grid1.Coords) : Fin 2 → Nat :=
  let arg0 : BitVec 32 := BitVec.ofNat 32 (i 0).val
  let c48_i32_1797 : BitVec 32 := 48#32
  let v4573 : BitVec 32 := Scalar.muli arg0 c48_i32_1797
  let c10_i32 : BitVec 32 := 10#32
  let v4574 : BitVec 32 := Scalar.addi v4573 c10_i32
  let v5003 : Index := Scalar.indexCast v4574
  let c7_1962 : Index := 7#32
  ![v5003.toNat, 7]
def k1_off276 (i : grid1.Coords) : Fin 3 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5032 : Index := Scalar.indexCast v5031
  let c0_1978 : Index := 0#32
  let c720_1979 : Index := 720#32
  ![v5032.toNat, 0, 720]
def k1_off277 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5052 : Index := Scalar.indexCast v5031
  let c0_1988 : Index := 0#32
  ![v5052.toNat, 0]
def k1_mult89 (v5055 : BitVec 32) : BitVec 32 :=
  let c0_i32_1992 : BitVec 32 := 0#32
  let v5059 : BitVec 1 := Scalar.cmpi .sgt v5055 c0_i32_1992
  let v5060 : BitVec 32 := Scalar.extui v5059
  let c0_i32_1993 : BitVec 32 := 0#32
  let v5061 : BitVec 1 := Scalar.cmpi .slt v5055 c0_i32_1993
  let v5062 : BitVec 32 := Scalar.extui v5061
  let v5063 : BitVec 32 := Scalar.subi v5060 v5062
  let c128_i32_1991 : BitVec 32 := 128#32
  let c0_i32_1994 : BitVec 32 := 0#32
  let v5064 : BitVec 1 := Scalar.cmpi .sgt c128_i32_1991 c0_i32_1994
  let v5065 : BitVec 32 := Scalar.extui v5064
  let c0_i32_1995 : BitVec 32 := 0#32
  let v5066 : BitVec 1 := Scalar.cmpi .slt c128_i32_1991 c0_i32_1995
  let v5067 : BitVec 32 := Scalar.extui v5066
  let v5068 : BitVec 32 := Scalar.subi v5065 v5067
  let v5069 : BitVec 1 := Scalar.cmpi .ne v5063 v5068
  let v5070 : BitVec 32 := Scalar.remsi v5055 c128_i32_1991
  let c0_i32_1996 : BitVec 32 := 0#32
  let v5071 : BitVec 1 := Scalar.cmpi .ne v5070 c0_i32_1996
  let v5072 : BitVec 1 := Scalar.andi v5069 v5071
  let v5058 : BitVec 32 := Scalar.divsi v5055 c128_i32_1991
  let c1_i32_1997 : BitVec 32 := 1#32
  let v5073 : BitVec 32 := Scalar.subi v5058 c1_i32_1997
  let v5074 : BitVec 32 := Scalar.select v5072 v5073 v5058
  let c128_i32_1998 : BitVec 32 := 128#32
  let v5075 : BitVec 32 := Scalar.muli v5074 c128_i32_1998
  v5075

def k1_off278 (v5053 : BitVec 32) (v5055 : BitVec 32) : Fin 3 → Nat :=
  let v5078 : Index := Scalar.indexCast v5053
  let c0_1999 : Index := 0#32
  let c0_i32_1992 : BitVec 32 := 0#32
  let v5059 : BitVec 1 := Scalar.cmpi .sgt v5055 c0_i32_1992
  let v5060 : BitVec 32 := Scalar.extui v5059
  let c0_i32_1993 : BitVec 32 := 0#32
  let v5061 : BitVec 1 := Scalar.cmpi .slt v5055 c0_i32_1993
  let v5062 : BitVec 32 := Scalar.extui v5061
  let v5063 : BitVec 32 := Scalar.subi v5060 v5062
  let c128_i32_1991 : BitVec 32 := 128#32
  let c0_i32_1994 : BitVec 32 := 0#32
  let v5064 : BitVec 1 := Scalar.cmpi .sgt c128_i32_1991 c0_i32_1994
  let v5065 : BitVec 32 := Scalar.extui v5064
  let c0_i32_1995 : BitVec 32 := 0#32
  let v5066 : BitVec 1 := Scalar.cmpi .slt c128_i32_1991 c0_i32_1995
  let v5067 : BitVec 32 := Scalar.extui v5066
  let v5068 : BitVec 32 := Scalar.subi v5065 v5067
  let v5069 : BitVec 1 := Scalar.cmpi .ne v5063 v5068
  let v5070 : BitVec 32 := Scalar.remsi v5055 c128_i32_1991
  let c0_i32_1996 : BitVec 32 := 0#32
  let v5071 : BitVec 1 := Scalar.cmpi .ne v5070 c0_i32_1996
  let v5072 : BitVec 1 := Scalar.andi v5069 v5071
  let v5058 : BitVec 32 := Scalar.divsi v5055 c128_i32_1991
  let c1_i32_1997 : BitVec 32 := 1#32
  let v5073 : BitVec 32 := Scalar.subi v5058 c1_i32_1997
  let v5074 : BitVec 32 := Scalar.select v5072 v5073 v5058
  let c128_i32_1998 : BitVec 32 := 128#32
  let v5075 : BitVec 32 := Scalar.muli v5074 c128_i32_1998
  let v5076 : BitVec 32 := v5075
  let v5079 : Index := Scalar.indexCast v5076
  ![v5078.toNat, 0, v5079.toNat]

def k1_chk89 (v5053 : BitVec 32) (v5055 : BitVec 32) : Prop :=
  (128 ∣ (k1_mult89 v5055).toNat) ∧
  (∀ a, (k1_off278 v5053 v5055) a + S1x16x512.size a ≤ S384x16x1152.size a)
theorem k1_mult89_dvd : ∀ (v5053 : BitVec 32) (v5055 : BitVec 32) (k1_hw89 : k1_chk89 v5053 v5055), 128 ∣ (k1_mult89 v5055).toNat := fun v5053 v5055 k1_hw89 => k1_hw89.1
theorem k1_off278_inb : ∀ (v5053 : BitVec 32) (v5055 : BitVec 32) (k1_hw89 : k1_chk89 v5053 v5055), ∀ a, (k1_off278 v5053 v5055) a + S1x16x512.size a ≤ S384x16x1152.size a := fun v5053 v5055 k1_hw89 => k1_hw89.2

def k1_off279 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5089 : Index := Scalar.indexCast v5031
  let c0_2002 : Index := 0#32
  ![v5089.toNat, 0]
def k1_off280 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5105 : Index := Scalar.indexCast v5031
  let c1_2008 : Index := 1#32
  ![v5105.toNat, 1]
def k1_mult90 (v5108 : BitVec 32) : BitVec 32 :=
  let c0_i32_2012 : BitVec 32 := 0#32
  let v5112 : BitVec 1 := Scalar.cmpi .sgt v5108 c0_i32_2012
  let v5113 : BitVec 32 := Scalar.extui v5112
  let c0_i32_2013 : BitVec 32 := 0#32
  let v5114 : BitVec 1 := Scalar.cmpi .slt v5108 c0_i32_2013
  let v5115 : BitVec 32 := Scalar.extui v5114
  let v5116 : BitVec 32 := Scalar.subi v5113 v5115
  let c128_i32_2011 : BitVec 32 := 128#32
  let c0_i32_2014 : BitVec 32 := 0#32
  let v5117 : BitVec 1 := Scalar.cmpi .sgt c128_i32_2011 c0_i32_2014
  let v5118 : BitVec 32 := Scalar.extui v5117
  let c0_i32_2015 : BitVec 32 := 0#32
  let v5119 : BitVec 1 := Scalar.cmpi .slt c128_i32_2011 c0_i32_2015
  let v5120 : BitVec 32 := Scalar.extui v5119
  let v5121 : BitVec 32 := Scalar.subi v5118 v5120
  let v5122 : BitVec 1 := Scalar.cmpi .ne v5116 v5121
  let v5123 : BitVec 32 := Scalar.remsi v5108 c128_i32_2011
  let c0_i32_2016 : BitVec 32 := 0#32
  let v5124 : BitVec 1 := Scalar.cmpi .ne v5123 c0_i32_2016
  let v5125 : BitVec 1 := Scalar.andi v5122 v5124
  let v5111 : BitVec 32 := Scalar.divsi v5108 c128_i32_2011
  let c1_i32_2017 : BitVec 32 := 1#32
  let v5126 : BitVec 32 := Scalar.subi v5111 c1_i32_2017
  let v5127 : BitVec 32 := Scalar.select v5125 v5126 v5111
  let c128_i32_2018 : BitVec 32 := 128#32
  let v5128 : BitVec 32 := Scalar.muli v5127 c128_i32_2018
  v5128

def k1_off281 (v5106 : BitVec 32) (v5108 : BitVec 32) : Fin 3 → Nat :=
  let v5131 : Index := Scalar.indexCast v5106
  let c0_2019 : Index := 0#32
  let c0_i32_2012 : BitVec 32 := 0#32
  let v5112 : BitVec 1 := Scalar.cmpi .sgt v5108 c0_i32_2012
  let v5113 : BitVec 32 := Scalar.extui v5112
  let c0_i32_2013 : BitVec 32 := 0#32
  let v5114 : BitVec 1 := Scalar.cmpi .slt v5108 c0_i32_2013
  let v5115 : BitVec 32 := Scalar.extui v5114
  let v5116 : BitVec 32 := Scalar.subi v5113 v5115
  let c128_i32_2011 : BitVec 32 := 128#32
  let c0_i32_2014 : BitVec 32 := 0#32
  let v5117 : BitVec 1 := Scalar.cmpi .sgt c128_i32_2011 c0_i32_2014
  let v5118 : BitVec 32 := Scalar.extui v5117
  let c0_i32_2015 : BitVec 32 := 0#32
  let v5119 : BitVec 1 := Scalar.cmpi .slt c128_i32_2011 c0_i32_2015
  let v5120 : BitVec 32 := Scalar.extui v5119
  let v5121 : BitVec 32 := Scalar.subi v5118 v5120
  let v5122 : BitVec 1 := Scalar.cmpi .ne v5116 v5121
  let v5123 : BitVec 32 := Scalar.remsi v5108 c128_i32_2011
  let c0_i32_2016 : BitVec 32 := 0#32
  let v5124 : BitVec 1 := Scalar.cmpi .ne v5123 c0_i32_2016
  let v5125 : BitVec 1 := Scalar.andi v5122 v5124
  let v5111 : BitVec 32 := Scalar.divsi v5108 c128_i32_2011
  let c1_i32_2017 : BitVec 32 := 1#32
  let v5126 : BitVec 32 := Scalar.subi v5111 c1_i32_2017
  let v5127 : BitVec 32 := Scalar.select v5125 v5126 v5111
  let c128_i32_2018 : BitVec 32 := 128#32
  let v5128 : BitVec 32 := Scalar.muli v5127 c128_i32_2018
  let v5129 : BitVec 32 := v5128
  let v5132 : Index := Scalar.indexCast v5129
  ![v5131.toNat, 0, v5132.toNat]

def k1_chk90 (v5106 : BitVec 32) (v5108 : BitVec 32) : Prop :=
  (128 ∣ (k1_mult90 v5108).toNat) ∧
  (∀ a, (k1_off281 v5106 v5108) a + S1x16x512.size a ≤ S384x16x1152.size a)
theorem k1_mult90_dvd : ∀ (v5106 : BitVec 32) (v5108 : BitVec 32) (k1_hw90 : k1_chk90 v5106 v5108), 128 ∣ (k1_mult90 v5108).toNat := fun v5106 v5108 k1_hw90 => k1_hw90.1
theorem k1_off281_inb : ∀ (v5106 : BitVec 32) (v5108 : BitVec 32) (k1_hw90 : k1_chk90 v5106 v5108), ∀ a, (k1_off281 v5106 v5108) a + S1x16x512.size a ≤ S384x16x1152.size a := fun v5106 v5108 k1_hw90 => k1_hw90.2

def k1_off282 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5142 : Index := Scalar.indexCast v5031
  let c1_2022 : Index := 1#32
  ![v5142.toNat, 1]
def k1_off283 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5158 : Index := Scalar.indexCast v5031
  let c2_2028 : Index := 2#32
  ![v5158.toNat, 2]
def k1_mult91 (v5161 : BitVec 32) : BitVec 32 :=
  let c0_i32_2032 : BitVec 32 := 0#32
  let v5165 : BitVec 1 := Scalar.cmpi .sgt v5161 c0_i32_2032
  let v5166 : BitVec 32 := Scalar.extui v5165
  let c0_i32_2033 : BitVec 32 := 0#32
  let v5167 : BitVec 1 := Scalar.cmpi .slt v5161 c0_i32_2033
  let v5168 : BitVec 32 := Scalar.extui v5167
  let v5169 : BitVec 32 := Scalar.subi v5166 v5168
  let c128_i32_2031 : BitVec 32 := 128#32
  let c0_i32_2034 : BitVec 32 := 0#32
  let v5170 : BitVec 1 := Scalar.cmpi .sgt c128_i32_2031 c0_i32_2034
  let v5171 : BitVec 32 := Scalar.extui v5170
  let c0_i32_2035 : BitVec 32 := 0#32
  let v5172 : BitVec 1 := Scalar.cmpi .slt c128_i32_2031 c0_i32_2035
  let v5173 : BitVec 32 := Scalar.extui v5172
  let v5174 : BitVec 32 := Scalar.subi v5171 v5173
  let v5175 : BitVec 1 := Scalar.cmpi .ne v5169 v5174
  let v5176 : BitVec 32 := Scalar.remsi v5161 c128_i32_2031
  let c0_i32_2036 : BitVec 32 := 0#32
  let v5177 : BitVec 1 := Scalar.cmpi .ne v5176 c0_i32_2036
  let v5178 : BitVec 1 := Scalar.andi v5175 v5177
  let v5164 : BitVec 32 := Scalar.divsi v5161 c128_i32_2031
  let c1_i32_2037 : BitVec 32 := 1#32
  let v5179 : BitVec 32 := Scalar.subi v5164 c1_i32_2037
  let v5180 : BitVec 32 := Scalar.select v5178 v5179 v5164
  let c128_i32_2038 : BitVec 32 := 128#32
  let v5181 : BitVec 32 := Scalar.muli v5180 c128_i32_2038
  v5181

def k1_off284 (v5159 : BitVec 32) (v5161 : BitVec 32) : Fin 3 → Nat :=
  let v5184 : Index := Scalar.indexCast v5159
  let c0_2039 : Index := 0#32
  let c0_i32_2032 : BitVec 32 := 0#32
  let v5165 : BitVec 1 := Scalar.cmpi .sgt v5161 c0_i32_2032
  let v5166 : BitVec 32 := Scalar.extui v5165
  let c0_i32_2033 : BitVec 32 := 0#32
  let v5167 : BitVec 1 := Scalar.cmpi .slt v5161 c0_i32_2033
  let v5168 : BitVec 32 := Scalar.extui v5167
  let v5169 : BitVec 32 := Scalar.subi v5166 v5168
  let c128_i32_2031 : BitVec 32 := 128#32
  let c0_i32_2034 : BitVec 32 := 0#32
  let v5170 : BitVec 1 := Scalar.cmpi .sgt c128_i32_2031 c0_i32_2034
  let v5171 : BitVec 32 := Scalar.extui v5170
  let c0_i32_2035 : BitVec 32 := 0#32
  let v5172 : BitVec 1 := Scalar.cmpi .slt c128_i32_2031 c0_i32_2035
  let v5173 : BitVec 32 := Scalar.extui v5172
  let v5174 : BitVec 32 := Scalar.subi v5171 v5173
  let v5175 : BitVec 1 := Scalar.cmpi .ne v5169 v5174
  let v5176 : BitVec 32 := Scalar.remsi v5161 c128_i32_2031
  let c0_i32_2036 : BitVec 32 := 0#32
  let v5177 : BitVec 1 := Scalar.cmpi .ne v5176 c0_i32_2036
  let v5178 : BitVec 1 := Scalar.andi v5175 v5177
  let v5164 : BitVec 32 := Scalar.divsi v5161 c128_i32_2031
  let c1_i32_2037 : BitVec 32 := 1#32
  let v5179 : BitVec 32 := Scalar.subi v5164 c1_i32_2037
  let v5180 : BitVec 32 := Scalar.select v5178 v5179 v5164
  let c128_i32_2038 : BitVec 32 := 128#32
  let v5181 : BitVec 32 := Scalar.muli v5180 c128_i32_2038
  let v5182 : BitVec 32 := v5181
  let v5185 : Index := Scalar.indexCast v5182
  ![v5184.toNat, 0, v5185.toNat]

def k1_chk91 (v5159 : BitVec 32) (v5161 : BitVec 32) : Prop :=
  (128 ∣ (k1_mult91 v5161).toNat) ∧
  (∀ a, (k1_off284 v5159 v5161) a + S1x16x512.size a ≤ S384x16x1152.size a)
theorem k1_mult91_dvd : ∀ (v5159 : BitVec 32) (v5161 : BitVec 32) (k1_hw91 : k1_chk91 v5159 v5161), 128 ∣ (k1_mult91 v5161).toNat := fun v5159 v5161 k1_hw91 => k1_hw91.1
theorem k1_off284_inb : ∀ (v5159 : BitVec 32) (v5161 : BitVec 32) (k1_hw91 : k1_chk91 v5159 v5161), ∀ a, (k1_off284 v5159 v5161) a + S1x16x512.size a ≤ S384x16x1152.size a := fun v5159 v5161 k1_hw91 => k1_hw91.2

def k1_off285 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5195 : Index := Scalar.indexCast v5031
  let c2_2042 : Index := 2#32
  ![v5195.toNat, 2]
def k1_off286 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5211 : Index := Scalar.indexCast v5031
  let c3_2048 : Index := 3#32
  ![v5211.toNat, 3]
def k1_mult92 (v5214 : BitVec 32) : BitVec 32 :=
  let c0_i32_2052 : BitVec 32 := 0#32
  let v5218 : BitVec 1 := Scalar.cmpi .sgt v5214 c0_i32_2052
  let v5219 : BitVec 32 := Scalar.extui v5218
  let c0_i32_2053 : BitVec 32 := 0#32
  let v5220 : BitVec 1 := Scalar.cmpi .slt v5214 c0_i32_2053
  let v5221 : BitVec 32 := Scalar.extui v5220
  let v5222 : BitVec 32 := Scalar.subi v5219 v5221
  let c128_i32_2051 : BitVec 32 := 128#32
  let c0_i32_2054 : BitVec 32 := 0#32
  let v5223 : BitVec 1 := Scalar.cmpi .sgt c128_i32_2051 c0_i32_2054
  let v5224 : BitVec 32 := Scalar.extui v5223
  let c0_i32_2055 : BitVec 32 := 0#32
  let v5225 : BitVec 1 := Scalar.cmpi .slt c128_i32_2051 c0_i32_2055
  let v5226 : BitVec 32 := Scalar.extui v5225
  let v5227 : BitVec 32 := Scalar.subi v5224 v5226
  let v5228 : BitVec 1 := Scalar.cmpi .ne v5222 v5227
  let v5229 : BitVec 32 := Scalar.remsi v5214 c128_i32_2051
  let c0_i32_2056 : BitVec 32 := 0#32
  let v5230 : BitVec 1 := Scalar.cmpi .ne v5229 c0_i32_2056
  let v5231 : BitVec 1 := Scalar.andi v5228 v5230
  let v5217 : BitVec 32 := Scalar.divsi v5214 c128_i32_2051
  let c1_i32_2057 : BitVec 32 := 1#32
  let v5232 : BitVec 32 := Scalar.subi v5217 c1_i32_2057
  let v5233 : BitVec 32 := Scalar.select v5231 v5232 v5217
  let c128_i32_2058 : BitVec 32 := 128#32
  let v5234 : BitVec 32 := Scalar.muli v5233 c128_i32_2058
  v5234

def k1_off287 (v5212 : BitVec 32) (v5214 : BitVec 32) : Fin 3 → Nat :=
  let v5237 : Index := Scalar.indexCast v5212
  let c0_2059 : Index := 0#32
  let c0_i32_2052 : BitVec 32 := 0#32
  let v5218 : BitVec 1 := Scalar.cmpi .sgt v5214 c0_i32_2052
  let v5219 : BitVec 32 := Scalar.extui v5218
  let c0_i32_2053 : BitVec 32 := 0#32
  let v5220 : BitVec 1 := Scalar.cmpi .slt v5214 c0_i32_2053
  let v5221 : BitVec 32 := Scalar.extui v5220
  let v5222 : BitVec 32 := Scalar.subi v5219 v5221
  let c128_i32_2051 : BitVec 32 := 128#32
  let c0_i32_2054 : BitVec 32 := 0#32
  let v5223 : BitVec 1 := Scalar.cmpi .sgt c128_i32_2051 c0_i32_2054
  let v5224 : BitVec 32 := Scalar.extui v5223
  let c0_i32_2055 : BitVec 32 := 0#32
  let v5225 : BitVec 1 := Scalar.cmpi .slt c128_i32_2051 c0_i32_2055
  let v5226 : BitVec 32 := Scalar.extui v5225
  let v5227 : BitVec 32 := Scalar.subi v5224 v5226
  let v5228 : BitVec 1 := Scalar.cmpi .ne v5222 v5227
  let v5229 : BitVec 32 := Scalar.remsi v5214 c128_i32_2051
  let c0_i32_2056 : BitVec 32 := 0#32
  let v5230 : BitVec 1 := Scalar.cmpi .ne v5229 c0_i32_2056
  let v5231 : BitVec 1 := Scalar.andi v5228 v5230
  let v5217 : BitVec 32 := Scalar.divsi v5214 c128_i32_2051
  let c1_i32_2057 : BitVec 32 := 1#32
  let v5232 : BitVec 32 := Scalar.subi v5217 c1_i32_2057
  let v5233 : BitVec 32 := Scalar.select v5231 v5232 v5217
  let c128_i32_2058 : BitVec 32 := 128#32
  let v5234 : BitVec 32 := Scalar.muli v5233 c128_i32_2058
  let v5235 : BitVec 32 := v5234
  let v5238 : Index := Scalar.indexCast v5235
  ![v5237.toNat, 0, v5238.toNat]

def k1_chk92 (v5212 : BitVec 32) (v5214 : BitVec 32) : Prop :=
  (128 ∣ (k1_mult92 v5214).toNat) ∧
  (∀ a, (k1_off287 v5212 v5214) a + S1x16x512.size a ≤ S384x16x1152.size a)
theorem k1_mult92_dvd : ∀ (v5212 : BitVec 32) (v5214 : BitVec 32) (k1_hw92 : k1_chk92 v5212 v5214), 128 ∣ (k1_mult92 v5214).toNat := fun v5212 v5214 k1_hw92 => k1_hw92.1
theorem k1_off287_inb : ∀ (v5212 : BitVec 32) (v5214 : BitVec 32) (k1_hw92 : k1_chk92 v5212 v5214), ∀ a, (k1_off287 v5212 v5214) a + S1x16x512.size a ≤ S384x16x1152.size a := fun v5212 v5214 k1_hw92 => k1_hw92.2

def k1_off288 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5248 : Index := Scalar.indexCast v5031
  let c3_2062 : Index := 3#32
  ![v5248.toNat, 3]
def k1_off289 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5264 : Index := Scalar.indexCast v5031
  let c4_2068 : Index := 4#32
  ![v5264.toNat, 4]
def k1_mult93 (v5267 : BitVec 32) : BitVec 32 :=
  let c0_i32_2072 : BitVec 32 := 0#32
  let v5271 : BitVec 1 := Scalar.cmpi .sgt v5267 c0_i32_2072
  let v5272 : BitVec 32 := Scalar.extui v5271
  let c0_i32_2073 : BitVec 32 := 0#32
  let v5273 : BitVec 1 := Scalar.cmpi .slt v5267 c0_i32_2073
  let v5274 : BitVec 32 := Scalar.extui v5273
  let v5275 : BitVec 32 := Scalar.subi v5272 v5274
  let c128_i32_2071 : BitVec 32 := 128#32
  let c0_i32_2074 : BitVec 32 := 0#32
  let v5276 : BitVec 1 := Scalar.cmpi .sgt c128_i32_2071 c0_i32_2074
  let v5277 : BitVec 32 := Scalar.extui v5276
  let c0_i32_2075 : BitVec 32 := 0#32
  let v5278 : BitVec 1 := Scalar.cmpi .slt c128_i32_2071 c0_i32_2075
  let v5279 : BitVec 32 := Scalar.extui v5278
  let v5280 : BitVec 32 := Scalar.subi v5277 v5279
  let v5281 : BitVec 1 := Scalar.cmpi .ne v5275 v5280
  let v5282 : BitVec 32 := Scalar.remsi v5267 c128_i32_2071
  let c0_i32_2076 : BitVec 32 := 0#32
  let v5283 : BitVec 1 := Scalar.cmpi .ne v5282 c0_i32_2076
  let v5284 : BitVec 1 := Scalar.andi v5281 v5283
  let v5270 : BitVec 32 := Scalar.divsi v5267 c128_i32_2071
  let c1_i32_2077 : BitVec 32 := 1#32
  let v5285 : BitVec 32 := Scalar.subi v5270 c1_i32_2077
  let v5286 : BitVec 32 := Scalar.select v5284 v5285 v5270
  let c128_i32_2078 : BitVec 32 := 128#32
  let v5287 : BitVec 32 := Scalar.muli v5286 c128_i32_2078
  v5287

def k1_off290 (v5265 : BitVec 32) (v5267 : BitVec 32) : Fin 3 → Nat :=
  let v5290 : Index := Scalar.indexCast v5265
  let c0_2079 : Index := 0#32
  let c0_i32_2072 : BitVec 32 := 0#32
  let v5271 : BitVec 1 := Scalar.cmpi .sgt v5267 c0_i32_2072
  let v5272 : BitVec 32 := Scalar.extui v5271
  let c0_i32_2073 : BitVec 32 := 0#32
  let v5273 : BitVec 1 := Scalar.cmpi .slt v5267 c0_i32_2073
  let v5274 : BitVec 32 := Scalar.extui v5273
  let v5275 : BitVec 32 := Scalar.subi v5272 v5274
  let c128_i32_2071 : BitVec 32 := 128#32
  let c0_i32_2074 : BitVec 32 := 0#32
  let v5276 : BitVec 1 := Scalar.cmpi .sgt c128_i32_2071 c0_i32_2074
  let v5277 : BitVec 32 := Scalar.extui v5276
  let c0_i32_2075 : BitVec 32 := 0#32
  let v5278 : BitVec 1 := Scalar.cmpi .slt c128_i32_2071 c0_i32_2075
  let v5279 : BitVec 32 := Scalar.extui v5278
  let v5280 : BitVec 32 := Scalar.subi v5277 v5279
  let v5281 : BitVec 1 := Scalar.cmpi .ne v5275 v5280
  let v5282 : BitVec 32 := Scalar.remsi v5267 c128_i32_2071
  let c0_i32_2076 : BitVec 32 := 0#32
  let v5283 : BitVec 1 := Scalar.cmpi .ne v5282 c0_i32_2076
  let v5284 : BitVec 1 := Scalar.andi v5281 v5283
  let v5270 : BitVec 32 := Scalar.divsi v5267 c128_i32_2071
  let c1_i32_2077 : BitVec 32 := 1#32
  let v5285 : BitVec 32 := Scalar.subi v5270 c1_i32_2077
  let v5286 : BitVec 32 := Scalar.select v5284 v5285 v5270
  let c128_i32_2078 : BitVec 32 := 128#32
  let v5287 : BitVec 32 := Scalar.muli v5286 c128_i32_2078
  let v5288 : BitVec 32 := v5287
  let v5291 : Index := Scalar.indexCast v5288
  ![v5290.toNat, 0, v5291.toNat]

def k1_chk93 (v5265 : BitVec 32) (v5267 : BitVec 32) : Prop :=
  (128 ∣ (k1_mult93 v5267).toNat) ∧
  (∀ a, (k1_off290 v5265 v5267) a + S1x16x512.size a ≤ S384x16x1152.size a)
theorem k1_mult93_dvd : ∀ (v5265 : BitVec 32) (v5267 : BitVec 32) (k1_hw93 : k1_chk93 v5265 v5267), 128 ∣ (k1_mult93 v5267).toNat := fun v5265 v5267 k1_hw93 => k1_hw93.1
theorem k1_off290_inb : ∀ (v5265 : BitVec 32) (v5267 : BitVec 32) (k1_hw93 : k1_chk93 v5265 v5267), ∀ a, (k1_off290 v5265 v5267) a + S1x16x512.size a ≤ S384x16x1152.size a := fun v5265 v5267 k1_hw93 => k1_hw93.2

def k1_off291 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5301 : Index := Scalar.indexCast v5031
  let c4_2082 : Index := 4#32
  ![v5301.toNat, 4]
def k1_off292 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5317 : Index := Scalar.indexCast v5031
  let c5_2088 : Index := 5#32
  ![v5317.toNat, 5]
def k1_mult94 (v5320 : BitVec 32) : BitVec 32 :=
  let c0_i32_2092 : BitVec 32 := 0#32
  let v5324 : BitVec 1 := Scalar.cmpi .sgt v5320 c0_i32_2092
  let v5325 : BitVec 32 := Scalar.extui v5324
  let c0_i32_2093 : BitVec 32 := 0#32
  let v5326 : BitVec 1 := Scalar.cmpi .slt v5320 c0_i32_2093
  let v5327 : BitVec 32 := Scalar.extui v5326
  let v5328 : BitVec 32 := Scalar.subi v5325 v5327
  let c128_i32_2091 : BitVec 32 := 128#32
  let c0_i32_2094 : BitVec 32 := 0#32
  let v5329 : BitVec 1 := Scalar.cmpi .sgt c128_i32_2091 c0_i32_2094
  let v5330 : BitVec 32 := Scalar.extui v5329
  let c0_i32_2095 : BitVec 32 := 0#32
  let v5331 : BitVec 1 := Scalar.cmpi .slt c128_i32_2091 c0_i32_2095
  let v5332 : BitVec 32 := Scalar.extui v5331
  let v5333 : BitVec 32 := Scalar.subi v5330 v5332
  let v5334 : BitVec 1 := Scalar.cmpi .ne v5328 v5333
  let v5335 : BitVec 32 := Scalar.remsi v5320 c128_i32_2091
  let c0_i32_2096 : BitVec 32 := 0#32
  let v5336 : BitVec 1 := Scalar.cmpi .ne v5335 c0_i32_2096
  let v5337 : BitVec 1 := Scalar.andi v5334 v5336
  let v5323 : BitVec 32 := Scalar.divsi v5320 c128_i32_2091
  let c1_i32_2097 : BitVec 32 := 1#32
  let v5338 : BitVec 32 := Scalar.subi v5323 c1_i32_2097
  let v5339 : BitVec 32 := Scalar.select v5337 v5338 v5323
  let c128_i32_2098 : BitVec 32 := 128#32
  let v5340 : BitVec 32 := Scalar.muli v5339 c128_i32_2098
  v5340

def k1_off293 (v5318 : BitVec 32) (v5320 : BitVec 32) : Fin 3 → Nat :=
  let v5343 : Index := Scalar.indexCast v5318
  let c0_2099 : Index := 0#32
  let c0_i32_2092 : BitVec 32 := 0#32
  let v5324 : BitVec 1 := Scalar.cmpi .sgt v5320 c0_i32_2092
  let v5325 : BitVec 32 := Scalar.extui v5324
  let c0_i32_2093 : BitVec 32 := 0#32
  let v5326 : BitVec 1 := Scalar.cmpi .slt v5320 c0_i32_2093
  let v5327 : BitVec 32 := Scalar.extui v5326
  let v5328 : BitVec 32 := Scalar.subi v5325 v5327
  let c128_i32_2091 : BitVec 32 := 128#32
  let c0_i32_2094 : BitVec 32 := 0#32
  let v5329 : BitVec 1 := Scalar.cmpi .sgt c128_i32_2091 c0_i32_2094
  let v5330 : BitVec 32 := Scalar.extui v5329
  let c0_i32_2095 : BitVec 32 := 0#32
  let v5331 : BitVec 1 := Scalar.cmpi .slt c128_i32_2091 c0_i32_2095
  let v5332 : BitVec 32 := Scalar.extui v5331
  let v5333 : BitVec 32 := Scalar.subi v5330 v5332
  let v5334 : BitVec 1 := Scalar.cmpi .ne v5328 v5333
  let v5335 : BitVec 32 := Scalar.remsi v5320 c128_i32_2091
  let c0_i32_2096 : BitVec 32 := 0#32
  let v5336 : BitVec 1 := Scalar.cmpi .ne v5335 c0_i32_2096
  let v5337 : BitVec 1 := Scalar.andi v5334 v5336
  let v5323 : BitVec 32 := Scalar.divsi v5320 c128_i32_2091
  let c1_i32_2097 : BitVec 32 := 1#32
  let v5338 : BitVec 32 := Scalar.subi v5323 c1_i32_2097
  let v5339 : BitVec 32 := Scalar.select v5337 v5338 v5323
  let c128_i32_2098 : BitVec 32 := 128#32
  let v5340 : BitVec 32 := Scalar.muli v5339 c128_i32_2098
  let v5341 : BitVec 32 := v5340
  let v5344 : Index := Scalar.indexCast v5341
  ![v5343.toNat, 0, v5344.toNat]

def k1_chk94 (v5318 : BitVec 32) (v5320 : BitVec 32) : Prop :=
  (128 ∣ (k1_mult94 v5320).toNat) ∧
  (∀ a, (k1_off293 v5318 v5320) a + S1x16x512.size a ≤ S384x16x1152.size a)
theorem k1_mult94_dvd : ∀ (v5318 : BitVec 32) (v5320 : BitVec 32) (k1_hw94 : k1_chk94 v5318 v5320), 128 ∣ (k1_mult94 v5320).toNat := fun v5318 v5320 k1_hw94 => k1_hw94.1
theorem k1_off293_inb : ∀ (v5318 : BitVec 32) (v5320 : BitVec 32) (k1_hw94 : k1_chk94 v5318 v5320), ∀ a, (k1_off293 v5318 v5320) a + S1x16x512.size a ≤ S384x16x1152.size a := fun v5318 v5320 k1_hw94 => k1_hw94.2

def k1_off294 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5354 : Index := Scalar.indexCast v5031
  let c5_2102 : Index := 5#32
  ![v5354.toNat, 5]
def k1_off295 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5370 : Index := Scalar.indexCast v5031
  let c6_2108 : Index := 6#32
  ![v5370.toNat, 6]
def k1_mult95 (v5373 : BitVec 32) : BitVec 32 :=
  let c0_i32_2112 : BitVec 32 := 0#32
  let v5377 : BitVec 1 := Scalar.cmpi .sgt v5373 c0_i32_2112
  let v5378 : BitVec 32 := Scalar.extui v5377
  let c0_i32_2113 : BitVec 32 := 0#32
  let v5379 : BitVec 1 := Scalar.cmpi .slt v5373 c0_i32_2113
  let v5380 : BitVec 32 := Scalar.extui v5379
  let v5381 : BitVec 32 := Scalar.subi v5378 v5380
  let c128_i32_2111 : BitVec 32 := 128#32
  let c0_i32_2114 : BitVec 32 := 0#32
  let v5382 : BitVec 1 := Scalar.cmpi .sgt c128_i32_2111 c0_i32_2114
  let v5383 : BitVec 32 := Scalar.extui v5382
  let c0_i32_2115 : BitVec 32 := 0#32
  let v5384 : BitVec 1 := Scalar.cmpi .slt c128_i32_2111 c0_i32_2115
  let v5385 : BitVec 32 := Scalar.extui v5384
  let v5386 : BitVec 32 := Scalar.subi v5383 v5385
  let v5387 : BitVec 1 := Scalar.cmpi .ne v5381 v5386
  let v5388 : BitVec 32 := Scalar.remsi v5373 c128_i32_2111
  let c0_i32_2116 : BitVec 32 := 0#32
  let v5389 : BitVec 1 := Scalar.cmpi .ne v5388 c0_i32_2116
  let v5390 : BitVec 1 := Scalar.andi v5387 v5389
  let v5376 : BitVec 32 := Scalar.divsi v5373 c128_i32_2111
  let c1_i32_2117 : BitVec 32 := 1#32
  let v5391 : BitVec 32 := Scalar.subi v5376 c1_i32_2117
  let v5392 : BitVec 32 := Scalar.select v5390 v5391 v5376
  let c128_i32_2118 : BitVec 32 := 128#32
  let v5393 : BitVec 32 := Scalar.muli v5392 c128_i32_2118
  v5393

def k1_off296 (v5371 : BitVec 32) (v5373 : BitVec 32) : Fin 3 → Nat :=
  let v5396 : Index := Scalar.indexCast v5371
  let c0_2119 : Index := 0#32
  let c0_i32_2112 : BitVec 32 := 0#32
  let v5377 : BitVec 1 := Scalar.cmpi .sgt v5373 c0_i32_2112
  let v5378 : BitVec 32 := Scalar.extui v5377
  let c0_i32_2113 : BitVec 32 := 0#32
  let v5379 : BitVec 1 := Scalar.cmpi .slt v5373 c0_i32_2113
  let v5380 : BitVec 32 := Scalar.extui v5379
  let v5381 : BitVec 32 := Scalar.subi v5378 v5380
  let c128_i32_2111 : BitVec 32 := 128#32
  let c0_i32_2114 : BitVec 32 := 0#32
  let v5382 : BitVec 1 := Scalar.cmpi .sgt c128_i32_2111 c0_i32_2114
  let v5383 : BitVec 32 := Scalar.extui v5382
  let c0_i32_2115 : BitVec 32 := 0#32
  let v5384 : BitVec 1 := Scalar.cmpi .slt c128_i32_2111 c0_i32_2115
  let v5385 : BitVec 32 := Scalar.extui v5384
  let v5386 : BitVec 32 := Scalar.subi v5383 v5385
  let v5387 : BitVec 1 := Scalar.cmpi .ne v5381 v5386
  let v5388 : BitVec 32 := Scalar.remsi v5373 c128_i32_2111
  let c0_i32_2116 : BitVec 32 := 0#32
  let v5389 : BitVec 1 := Scalar.cmpi .ne v5388 c0_i32_2116
  let v5390 : BitVec 1 := Scalar.andi v5387 v5389
  let v5376 : BitVec 32 := Scalar.divsi v5373 c128_i32_2111
  let c1_i32_2117 : BitVec 32 := 1#32
  let v5391 : BitVec 32 := Scalar.subi v5376 c1_i32_2117
  let v5392 : BitVec 32 := Scalar.select v5390 v5391 v5376
  let c128_i32_2118 : BitVec 32 := 128#32
  let v5393 : BitVec 32 := Scalar.muli v5392 c128_i32_2118
  let v5394 : BitVec 32 := v5393
  let v5397 : Index := Scalar.indexCast v5394
  ![v5396.toNat, 0, v5397.toNat]

def k1_chk95 (v5371 : BitVec 32) (v5373 : BitVec 32) : Prop :=
  (128 ∣ (k1_mult95 v5373).toNat) ∧
  (∀ a, (k1_off296 v5371 v5373) a + S1x16x512.size a ≤ S384x16x1152.size a)
theorem k1_mult95_dvd : ∀ (v5371 : BitVec 32) (v5373 : BitVec 32) (k1_hw95 : k1_chk95 v5371 v5373), 128 ∣ (k1_mult95 v5373).toNat := fun v5371 v5373 k1_hw95 => k1_hw95.1
theorem k1_off296_inb : ∀ (v5371 : BitVec 32) (v5373 : BitVec 32) (k1_hw95 : k1_chk95 v5371 v5373), ∀ a, (k1_off296 v5371 v5373) a + S1x16x512.size a ≤ S384x16x1152.size a := fun v5371 v5373 k1_hw95 => k1_hw95.2

def k1_off297 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5407 : Index := Scalar.indexCast v5031
  let c6_2122 : Index := 6#32
  ![v5407.toNat, 6]
def k1_off298 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5423 : Index := Scalar.indexCast v5031
  let c7_2128 : Index := 7#32
  ![v5423.toNat, 7]
def k1_mult96 (v5426 : BitVec 32) : BitVec 32 :=
  let c0_i32_2132 : BitVec 32 := 0#32
  let v5430 : BitVec 1 := Scalar.cmpi .sgt v5426 c0_i32_2132
  let v5431 : BitVec 32 := Scalar.extui v5430
  let c0_i32_2133 : BitVec 32 := 0#32
  let v5432 : BitVec 1 := Scalar.cmpi .slt v5426 c0_i32_2133
  let v5433 : BitVec 32 := Scalar.extui v5432
  let v5434 : BitVec 32 := Scalar.subi v5431 v5433
  let c128_i32_2131 : BitVec 32 := 128#32
  let c0_i32_2134 : BitVec 32 := 0#32
  let v5435 : BitVec 1 := Scalar.cmpi .sgt c128_i32_2131 c0_i32_2134
  let v5436 : BitVec 32 := Scalar.extui v5435
  let c0_i32_2135 : BitVec 32 := 0#32
  let v5437 : BitVec 1 := Scalar.cmpi .slt c128_i32_2131 c0_i32_2135
  let v5438 : BitVec 32 := Scalar.extui v5437
  let v5439 : BitVec 32 := Scalar.subi v5436 v5438
  let v5440 : BitVec 1 := Scalar.cmpi .ne v5434 v5439
  let v5441 : BitVec 32 := Scalar.remsi v5426 c128_i32_2131
  let c0_i32_2136 : BitVec 32 := 0#32
  let v5442 : BitVec 1 := Scalar.cmpi .ne v5441 c0_i32_2136
  let v5443 : BitVec 1 := Scalar.andi v5440 v5442
  let v5429 : BitVec 32 := Scalar.divsi v5426 c128_i32_2131
  let c1_i32_2137 : BitVec 32 := 1#32
  let v5444 : BitVec 32 := Scalar.subi v5429 c1_i32_2137
  let v5445 : BitVec 32 := Scalar.select v5443 v5444 v5429
  let c128_i32_2138 : BitVec 32 := 128#32
  let v5446 : BitVec 32 := Scalar.muli v5445 c128_i32_2138
  v5446

def k1_off299 (v5424 : BitVec 32) (v5426 : BitVec 32) : Fin 3 → Nat :=
  let v5449 : Index := Scalar.indexCast v5424
  let c0_2139 : Index := 0#32
  let c0_i32_2132 : BitVec 32 := 0#32
  let v5430 : BitVec 1 := Scalar.cmpi .sgt v5426 c0_i32_2132
  let v5431 : BitVec 32 := Scalar.extui v5430
  let c0_i32_2133 : BitVec 32 := 0#32
  let v5432 : BitVec 1 := Scalar.cmpi .slt v5426 c0_i32_2133
  let v5433 : BitVec 32 := Scalar.extui v5432
  let v5434 : BitVec 32 := Scalar.subi v5431 v5433
  let c128_i32_2131 : BitVec 32 := 128#32
  let c0_i32_2134 : BitVec 32 := 0#32
  let v5435 : BitVec 1 := Scalar.cmpi .sgt c128_i32_2131 c0_i32_2134
  let v5436 : BitVec 32 := Scalar.extui v5435
  let c0_i32_2135 : BitVec 32 := 0#32
  let v5437 : BitVec 1 := Scalar.cmpi .slt c128_i32_2131 c0_i32_2135
  let v5438 : BitVec 32 := Scalar.extui v5437
  let v5439 : BitVec 32 := Scalar.subi v5436 v5438
  let v5440 : BitVec 1 := Scalar.cmpi .ne v5434 v5439
  let v5441 : BitVec 32 := Scalar.remsi v5426 c128_i32_2131
  let c0_i32_2136 : BitVec 32 := 0#32
  let v5442 : BitVec 1 := Scalar.cmpi .ne v5441 c0_i32_2136
  let v5443 : BitVec 1 := Scalar.andi v5440 v5442
  let v5429 : BitVec 32 := Scalar.divsi v5426 c128_i32_2131
  let c1_i32_2137 : BitVec 32 := 1#32
  let v5444 : BitVec 32 := Scalar.subi v5429 c1_i32_2137
  let v5445 : BitVec 32 := Scalar.select v5443 v5444 v5429
  let c128_i32_2138 : BitVec 32 := 128#32
  let v5446 : BitVec 32 := Scalar.muli v5445 c128_i32_2138
  let v5447 : BitVec 32 := v5446
  let v5450 : Index := Scalar.indexCast v5447
  ![v5449.toNat, 0, v5450.toNat]

def k1_chk96 (v5424 : BitVec 32) (v5426 : BitVec 32) : Prop :=
  (128 ∣ (k1_mult96 v5426).toNat) ∧
  (∀ a, (k1_off299 v5424 v5426) a + S1x16x512.size a ≤ S384x16x1152.size a)
theorem k1_mult96_dvd : ∀ (v5424 : BitVec 32) (v5426 : BitVec 32) (k1_hw96 : k1_chk96 v5424 v5426), 128 ∣ (k1_mult96 v5426).toNat := fun v5424 v5426 k1_hw96 => k1_hw96.1
theorem k1_off299_inb : ∀ (v5424 : BitVec 32) (v5426 : BitVec 32) (k1_hw96 : k1_chk96 v5424 v5426), ∀ a, (k1_off299 v5424 v5426) a + S1x16x512.size a ≤ S384x16x1152.size a := fun v5424 v5426 k1_hw96 => k1_hw96.2

def k1_off300 (i : grid1.Coords) : Fin 2 → Nat :=
  let arg0 : BitVec 32 := BitVec.ofNat 32 (i 0).val
  let c48_i32_1977 : BitVec 32 := 48#32
  let v5030 : BitVec 32 := Scalar.muli arg0 c48_i32_1977
  let c11_i32 : BitVec 32 := 11#32
  let v5031 : BitVec 32 := Scalar.addi v5030 c11_i32
  let v5460 : Index := Scalar.indexCast v5031
  let c7_2142 : Index := 7#32
  ![v5460.toNat, 7]
def k1_off301 (i : grid1.Coords) : Fin 3 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5489 : Index := Scalar.indexCast v5488
  let c0_2158 : Index := 0#32
  let c720_2159 : Index := 720#32
  ![v5489.toNat, 0, 720]
def k1_off302 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5509 : Index := Scalar.indexCast v5488
  let c0_2168 : Index := 0#32
  ![v5509.toNat, 0]
def k1_mult97 (v5512 : BitVec 32) : BitVec 32 :=
  let c0_i32_2172 : BitVec 32 := 0#32
  let v5516 : BitVec 1 := Scalar.cmpi .sgt v5512 c0_i32_2172
  let v5517 : BitVec 32 := Scalar.extui v5516
  let c0_i32_2173 : BitVec 32 := 0#32
  let v5518 : BitVec 1 := Scalar.cmpi .slt v5512 c0_i32_2173
  let v5519 : BitVec 32 := Scalar.extui v5518
  let v5520 : BitVec 32 := Scalar.subi v5517 v5519
  let c128_i32_2171 : BitVec 32 := 128#32
  let c0_i32_2174 : BitVec 32 := 0#32
  let v5521 : BitVec 1 := Scalar.cmpi .sgt c128_i32_2171 c0_i32_2174
  let v5522 : BitVec 32 := Scalar.extui v5521
  let c0_i32_2175 : BitVec 32 := 0#32
  let v5523 : BitVec 1 := Scalar.cmpi .slt c128_i32_2171 c0_i32_2175
  let v5524 : BitVec 32 := Scalar.extui v5523
  let v5525 : BitVec 32 := Scalar.subi v5522 v5524
  let v5526 : BitVec 1 := Scalar.cmpi .ne v5520 v5525
  let v5527 : BitVec 32 := Scalar.remsi v5512 c128_i32_2171
  let c0_i32_2176 : BitVec 32 := 0#32
  let v5528 : BitVec 1 := Scalar.cmpi .ne v5527 c0_i32_2176
  let v5529 : BitVec 1 := Scalar.andi v5526 v5528
  let v5515 : BitVec 32 := Scalar.divsi v5512 c128_i32_2171
  let c1_i32_2177 : BitVec 32 := 1#32
  let v5530 : BitVec 32 := Scalar.subi v5515 c1_i32_2177
  let v5531 : BitVec 32 := Scalar.select v5529 v5530 v5515
  let c128_i32_2178 : BitVec 32 := 128#32
  let v5532 : BitVec 32 := Scalar.muli v5531 c128_i32_2178
  v5532

def k1_off303 (v5510 : BitVec 32) (v5512 : BitVec 32) : Fin 3 → Nat :=
  let v5535 : Index := Scalar.indexCast v5510
  let c0_2179 : Index := 0#32
  let c0_i32_2172 : BitVec 32 := 0#32
  let v5516 : BitVec 1 := Scalar.cmpi .sgt v5512 c0_i32_2172
  let v5517 : BitVec 32 := Scalar.extui v5516
  let c0_i32_2173 : BitVec 32 := 0#32
  let v5518 : BitVec 1 := Scalar.cmpi .slt v5512 c0_i32_2173
  let v5519 : BitVec 32 := Scalar.extui v5518
  let v5520 : BitVec 32 := Scalar.subi v5517 v5519
  let c128_i32_2171 : BitVec 32 := 128#32
  let c0_i32_2174 : BitVec 32 := 0#32
  let v5521 : BitVec 1 := Scalar.cmpi .sgt c128_i32_2171 c0_i32_2174
  let v5522 : BitVec 32 := Scalar.extui v5521
  let c0_i32_2175 : BitVec 32 := 0#32
  let v5523 : BitVec 1 := Scalar.cmpi .slt c128_i32_2171 c0_i32_2175
  let v5524 : BitVec 32 := Scalar.extui v5523
  let v5525 : BitVec 32 := Scalar.subi v5522 v5524
  let v5526 : BitVec 1 := Scalar.cmpi .ne v5520 v5525
  let v5527 : BitVec 32 := Scalar.remsi v5512 c128_i32_2171
  let c0_i32_2176 : BitVec 32 := 0#32
  let v5528 : BitVec 1 := Scalar.cmpi .ne v5527 c0_i32_2176
  let v5529 : BitVec 1 := Scalar.andi v5526 v5528
  let v5515 : BitVec 32 := Scalar.divsi v5512 c128_i32_2171
  let c1_i32_2177 : BitVec 32 := 1#32
  let v5530 : BitVec 32 := Scalar.subi v5515 c1_i32_2177
  let v5531 : BitVec 32 := Scalar.select v5529 v5530 v5515
  let c128_i32_2178 : BitVec 32 := 128#32
  let v5532 : BitVec 32 := Scalar.muli v5531 c128_i32_2178
  let v5533 : BitVec 32 := v5532
  let v5536 : Index := Scalar.indexCast v5533
  ![v5535.toNat, 0, v5536.toNat]

def k1_chk97 (v5510 : BitVec 32) (v5512 : BitVec 32) : Prop :=
  (128 ∣ (k1_mult97 v5512).toNat) ∧
  (∀ a, (k1_off303 v5510 v5512) a + S1x16x512.size a ≤ S384x16x1152.size a)
theorem k1_mult97_dvd : ∀ (v5510 : BitVec 32) (v5512 : BitVec 32) (k1_hw97 : k1_chk97 v5510 v5512), 128 ∣ (k1_mult97 v5512).toNat := fun v5510 v5512 k1_hw97 => k1_hw97.1
theorem k1_off303_inb : ∀ (v5510 : BitVec 32) (v5512 : BitVec 32) (k1_hw97 : k1_chk97 v5510 v5512), ∀ a, (k1_off303 v5510 v5512) a + S1x16x512.size a ≤ S384x16x1152.size a := fun v5510 v5512 k1_hw97 => k1_hw97.2

def k1_off304 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5546 : Index := Scalar.indexCast v5488
  let c0_2182 : Index := 0#32
  ![v5546.toNat, 0]
def k1_off305 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5562 : Index := Scalar.indexCast v5488
  let c1_2188 : Index := 1#32
  ![v5562.toNat, 1]
def k1_mult98 (v5565 : BitVec 32) : BitVec 32 :=
  let c0_i32_2192 : BitVec 32 := 0#32
  let v5569 : BitVec 1 := Scalar.cmpi .sgt v5565 c0_i32_2192
  let v5570 : BitVec 32 := Scalar.extui v5569
  let c0_i32_2193 : BitVec 32 := 0#32
  let v5571 : BitVec 1 := Scalar.cmpi .slt v5565 c0_i32_2193
  let v5572 : BitVec 32 := Scalar.extui v5571
  let v5573 : BitVec 32 := Scalar.subi v5570 v5572
  let c128_i32_2191 : BitVec 32 := 128#32
  let c0_i32_2194 : BitVec 32 := 0#32
  let v5574 : BitVec 1 := Scalar.cmpi .sgt c128_i32_2191 c0_i32_2194
  let v5575 : BitVec 32 := Scalar.extui v5574
  let c0_i32_2195 : BitVec 32 := 0#32
  let v5576 : BitVec 1 := Scalar.cmpi .slt c128_i32_2191 c0_i32_2195
  let v5577 : BitVec 32 := Scalar.extui v5576
  let v5578 : BitVec 32 := Scalar.subi v5575 v5577
  let v5579 : BitVec 1 := Scalar.cmpi .ne v5573 v5578
  let v5580 : BitVec 32 := Scalar.remsi v5565 c128_i32_2191
  let c0_i32_2196 : BitVec 32 := 0#32
  let v5581 : BitVec 1 := Scalar.cmpi .ne v5580 c0_i32_2196
  let v5582 : BitVec 1 := Scalar.andi v5579 v5581
  let v5568 : BitVec 32 := Scalar.divsi v5565 c128_i32_2191
  let c1_i32_2197 : BitVec 32 := 1#32
  let v5583 : BitVec 32 := Scalar.subi v5568 c1_i32_2197
  let v5584 : BitVec 32 := Scalar.select v5582 v5583 v5568
  let c128_i32_2198 : BitVec 32 := 128#32
  let v5585 : BitVec 32 := Scalar.muli v5584 c128_i32_2198
  v5585

def k1_off306 (v5563 : BitVec 32) (v5565 : BitVec 32) : Fin 3 → Nat :=
  let v5588 : Index := Scalar.indexCast v5563
  let c0_2199 : Index := 0#32
  let c0_i32_2192 : BitVec 32 := 0#32
  let v5569 : BitVec 1 := Scalar.cmpi .sgt v5565 c0_i32_2192
  let v5570 : BitVec 32 := Scalar.extui v5569
  let c0_i32_2193 : BitVec 32 := 0#32
  let v5571 : BitVec 1 := Scalar.cmpi .slt v5565 c0_i32_2193
  let v5572 : BitVec 32 := Scalar.extui v5571
  let v5573 : BitVec 32 := Scalar.subi v5570 v5572
  let c128_i32_2191 : BitVec 32 := 128#32
  let c0_i32_2194 : BitVec 32 := 0#32
  let v5574 : BitVec 1 := Scalar.cmpi .sgt c128_i32_2191 c0_i32_2194
  let v5575 : BitVec 32 := Scalar.extui v5574
  let c0_i32_2195 : BitVec 32 := 0#32
  let v5576 : BitVec 1 := Scalar.cmpi .slt c128_i32_2191 c0_i32_2195
  let v5577 : BitVec 32 := Scalar.extui v5576
  let v5578 : BitVec 32 := Scalar.subi v5575 v5577
  let v5579 : BitVec 1 := Scalar.cmpi .ne v5573 v5578
  let v5580 : BitVec 32 := Scalar.remsi v5565 c128_i32_2191
  let c0_i32_2196 : BitVec 32 := 0#32
  let v5581 : BitVec 1 := Scalar.cmpi .ne v5580 c0_i32_2196
  let v5582 : BitVec 1 := Scalar.andi v5579 v5581
  let v5568 : BitVec 32 := Scalar.divsi v5565 c128_i32_2191
  let c1_i32_2197 : BitVec 32 := 1#32
  let v5583 : BitVec 32 := Scalar.subi v5568 c1_i32_2197
  let v5584 : BitVec 32 := Scalar.select v5582 v5583 v5568
  let c128_i32_2198 : BitVec 32 := 128#32
  let v5585 : BitVec 32 := Scalar.muli v5584 c128_i32_2198
  let v5586 : BitVec 32 := v5585
  let v5589 : Index := Scalar.indexCast v5586
  ![v5588.toNat, 0, v5589.toNat]

def k1_chk98 (v5563 : BitVec 32) (v5565 : BitVec 32) : Prop :=
  (128 ∣ (k1_mult98 v5565).toNat) ∧
  (∀ a, (k1_off306 v5563 v5565) a + S1x16x512.size a ≤ S384x16x1152.size a)
theorem k1_mult98_dvd : ∀ (v5563 : BitVec 32) (v5565 : BitVec 32) (k1_hw98 : k1_chk98 v5563 v5565), 128 ∣ (k1_mult98 v5565).toNat := fun v5563 v5565 k1_hw98 => k1_hw98.1
theorem k1_off306_inb : ∀ (v5563 : BitVec 32) (v5565 : BitVec 32) (k1_hw98 : k1_chk98 v5563 v5565), ∀ a, (k1_off306 v5563 v5565) a + S1x16x512.size a ≤ S384x16x1152.size a := fun v5563 v5565 k1_hw98 => k1_hw98.2

def k1_off307 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5599 : Index := Scalar.indexCast v5488
  let c1_2202 : Index := 1#32
  ![v5599.toNat, 1]
def k1_off308 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5615 : Index := Scalar.indexCast v5488
  let c2_2208 : Index := 2#32
  ![v5615.toNat, 2]
def k1_mult99 (v5618 : BitVec 32) : BitVec 32 :=
  let c0_i32_2212 : BitVec 32 := 0#32
  let v5622 : BitVec 1 := Scalar.cmpi .sgt v5618 c0_i32_2212
  let v5623 : BitVec 32 := Scalar.extui v5622
  let c0_i32_2213 : BitVec 32 := 0#32
  let v5624 : BitVec 1 := Scalar.cmpi .slt v5618 c0_i32_2213
  let v5625 : BitVec 32 := Scalar.extui v5624
  let v5626 : BitVec 32 := Scalar.subi v5623 v5625
  let c128_i32_2211 : BitVec 32 := 128#32
  let c0_i32_2214 : BitVec 32 := 0#32
  let v5627 : BitVec 1 := Scalar.cmpi .sgt c128_i32_2211 c0_i32_2214
  let v5628 : BitVec 32 := Scalar.extui v5627
  let c0_i32_2215 : BitVec 32 := 0#32
  let v5629 : BitVec 1 := Scalar.cmpi .slt c128_i32_2211 c0_i32_2215
  let v5630 : BitVec 32 := Scalar.extui v5629
  let v5631 : BitVec 32 := Scalar.subi v5628 v5630
  let v5632 : BitVec 1 := Scalar.cmpi .ne v5626 v5631
  let v5633 : BitVec 32 := Scalar.remsi v5618 c128_i32_2211
  let c0_i32_2216 : BitVec 32 := 0#32
  let v5634 : BitVec 1 := Scalar.cmpi .ne v5633 c0_i32_2216
  let v5635 : BitVec 1 := Scalar.andi v5632 v5634
  let v5621 : BitVec 32 := Scalar.divsi v5618 c128_i32_2211
  let c1_i32_2217 : BitVec 32 := 1#32
  let v5636 : BitVec 32 := Scalar.subi v5621 c1_i32_2217
  let v5637 : BitVec 32 := Scalar.select v5635 v5636 v5621
  let c128_i32_2218 : BitVec 32 := 128#32
  let v5638 : BitVec 32 := Scalar.muli v5637 c128_i32_2218
  v5638

def k1_off309 (v5616 : BitVec 32) (v5618 : BitVec 32) : Fin 3 → Nat :=
  let v5641 : Index := Scalar.indexCast v5616
  let c0_2219 : Index := 0#32
  let c0_i32_2212 : BitVec 32 := 0#32
  let v5622 : BitVec 1 := Scalar.cmpi .sgt v5618 c0_i32_2212
  let v5623 : BitVec 32 := Scalar.extui v5622
  let c0_i32_2213 : BitVec 32 := 0#32
  let v5624 : BitVec 1 := Scalar.cmpi .slt v5618 c0_i32_2213
  let v5625 : BitVec 32 := Scalar.extui v5624
  let v5626 : BitVec 32 := Scalar.subi v5623 v5625
  let c128_i32_2211 : BitVec 32 := 128#32
  let c0_i32_2214 : BitVec 32 := 0#32
  let v5627 : BitVec 1 := Scalar.cmpi .sgt c128_i32_2211 c0_i32_2214
  let v5628 : BitVec 32 := Scalar.extui v5627
  let c0_i32_2215 : BitVec 32 := 0#32
  let v5629 : BitVec 1 := Scalar.cmpi .slt c128_i32_2211 c0_i32_2215
  let v5630 : BitVec 32 := Scalar.extui v5629
  let v5631 : BitVec 32 := Scalar.subi v5628 v5630
  let v5632 : BitVec 1 := Scalar.cmpi .ne v5626 v5631
  let v5633 : BitVec 32 := Scalar.remsi v5618 c128_i32_2211
  let c0_i32_2216 : BitVec 32 := 0#32
  let v5634 : BitVec 1 := Scalar.cmpi .ne v5633 c0_i32_2216
  let v5635 : BitVec 1 := Scalar.andi v5632 v5634
  let v5621 : BitVec 32 := Scalar.divsi v5618 c128_i32_2211
  let c1_i32_2217 : BitVec 32 := 1#32
  let v5636 : BitVec 32 := Scalar.subi v5621 c1_i32_2217
  let v5637 : BitVec 32 := Scalar.select v5635 v5636 v5621
  let c128_i32_2218 : BitVec 32 := 128#32
  let v5638 : BitVec 32 := Scalar.muli v5637 c128_i32_2218
  let v5639 : BitVec 32 := v5638
  let v5642 : Index := Scalar.indexCast v5639
  ![v5641.toNat, 0, v5642.toNat]

def k1_chk99 (v5616 : BitVec 32) (v5618 : BitVec 32) : Prop :=
  (128 ∣ (k1_mult99 v5618).toNat) ∧
  (∀ a, (k1_off309 v5616 v5618) a + S1x16x512.size a ≤ S384x16x1152.size a)
theorem k1_mult99_dvd : ∀ (v5616 : BitVec 32) (v5618 : BitVec 32) (k1_hw99 : k1_chk99 v5616 v5618), 128 ∣ (k1_mult99 v5618).toNat := fun v5616 v5618 k1_hw99 => k1_hw99.1
theorem k1_off309_inb : ∀ (v5616 : BitVec 32) (v5618 : BitVec 32) (k1_hw99 : k1_chk99 v5616 v5618), ∀ a, (k1_off309 v5616 v5618) a + S1x16x512.size a ≤ S384x16x1152.size a := fun v5616 v5618 k1_hw99 => k1_hw99.2

def k1_off310 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5652 : Index := Scalar.indexCast v5488
  let c2_2222 : Index := 2#32
  ![v5652.toNat, 2]
def k1_off311 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5668 : Index := Scalar.indexCast v5488
  let c3_2228 : Index := 3#32
  ![v5668.toNat, 3]
def k1_mult100 (v5671 : BitVec 32) : BitVec 32 :=
  let c0_i32_2232 : BitVec 32 := 0#32
  let v5675 : BitVec 1 := Scalar.cmpi .sgt v5671 c0_i32_2232
  let v5676 : BitVec 32 := Scalar.extui v5675
  let c0_i32_2233 : BitVec 32 := 0#32
  let v5677 : BitVec 1 := Scalar.cmpi .slt v5671 c0_i32_2233
  let v5678 : BitVec 32 := Scalar.extui v5677
  let v5679 : BitVec 32 := Scalar.subi v5676 v5678
  let c128_i32_2231 : BitVec 32 := 128#32
  let c0_i32_2234 : BitVec 32 := 0#32
  let v5680 : BitVec 1 := Scalar.cmpi .sgt c128_i32_2231 c0_i32_2234
  let v5681 : BitVec 32 := Scalar.extui v5680
  let c0_i32_2235 : BitVec 32 := 0#32
  let v5682 : BitVec 1 := Scalar.cmpi .slt c128_i32_2231 c0_i32_2235
  let v5683 : BitVec 32 := Scalar.extui v5682
  let v5684 : BitVec 32 := Scalar.subi v5681 v5683
  let v5685 : BitVec 1 := Scalar.cmpi .ne v5679 v5684
  let v5686 : BitVec 32 := Scalar.remsi v5671 c128_i32_2231
  let c0_i32_2236 : BitVec 32 := 0#32
  let v5687 : BitVec 1 := Scalar.cmpi .ne v5686 c0_i32_2236
  let v5688 : BitVec 1 := Scalar.andi v5685 v5687
  let v5674 : BitVec 32 := Scalar.divsi v5671 c128_i32_2231
  let c1_i32_2237 : BitVec 32 := 1#32
  let v5689 : BitVec 32 := Scalar.subi v5674 c1_i32_2237
  let v5690 : BitVec 32 := Scalar.select v5688 v5689 v5674
  let c128_i32_2238 : BitVec 32 := 128#32
  let v5691 : BitVec 32 := Scalar.muli v5690 c128_i32_2238
  v5691

def k1_off312 (v5669 : BitVec 32) (v5671 : BitVec 32) : Fin 3 → Nat :=
  let v5694 : Index := Scalar.indexCast v5669
  let c0_2239 : Index := 0#32
  let c0_i32_2232 : BitVec 32 := 0#32
  let v5675 : BitVec 1 := Scalar.cmpi .sgt v5671 c0_i32_2232
  let v5676 : BitVec 32 := Scalar.extui v5675
  let c0_i32_2233 : BitVec 32 := 0#32
  let v5677 : BitVec 1 := Scalar.cmpi .slt v5671 c0_i32_2233
  let v5678 : BitVec 32 := Scalar.extui v5677
  let v5679 : BitVec 32 := Scalar.subi v5676 v5678
  let c128_i32_2231 : BitVec 32 := 128#32
  let c0_i32_2234 : BitVec 32 := 0#32
  let v5680 : BitVec 1 := Scalar.cmpi .sgt c128_i32_2231 c0_i32_2234
  let v5681 : BitVec 32 := Scalar.extui v5680
  let c0_i32_2235 : BitVec 32 := 0#32
  let v5682 : BitVec 1 := Scalar.cmpi .slt c128_i32_2231 c0_i32_2235
  let v5683 : BitVec 32 := Scalar.extui v5682
  let v5684 : BitVec 32 := Scalar.subi v5681 v5683
  let v5685 : BitVec 1 := Scalar.cmpi .ne v5679 v5684
  let v5686 : BitVec 32 := Scalar.remsi v5671 c128_i32_2231
  let c0_i32_2236 : BitVec 32 := 0#32
  let v5687 : BitVec 1 := Scalar.cmpi .ne v5686 c0_i32_2236
  let v5688 : BitVec 1 := Scalar.andi v5685 v5687
  let v5674 : BitVec 32 := Scalar.divsi v5671 c128_i32_2231
  let c1_i32_2237 : BitVec 32 := 1#32
  let v5689 : BitVec 32 := Scalar.subi v5674 c1_i32_2237
  let v5690 : BitVec 32 := Scalar.select v5688 v5689 v5674
  let c128_i32_2238 : BitVec 32 := 128#32
  let v5691 : BitVec 32 := Scalar.muli v5690 c128_i32_2238
  let v5692 : BitVec 32 := v5691
  let v5695 : Index := Scalar.indexCast v5692
  ![v5694.toNat, 0, v5695.toNat]

def k1_chk100 (v5669 : BitVec 32) (v5671 : BitVec 32) : Prop :=
  (128 ∣ (k1_mult100 v5671).toNat) ∧
  (∀ a, (k1_off312 v5669 v5671) a + S1x16x512.size a ≤ S384x16x1152.size a)
theorem k1_mult100_dvd : ∀ (v5669 : BitVec 32) (v5671 : BitVec 32) (k1_hw100 : k1_chk100 v5669 v5671), 128 ∣ (k1_mult100 v5671).toNat := fun v5669 v5671 k1_hw100 => k1_hw100.1
theorem k1_off312_inb : ∀ (v5669 : BitVec 32) (v5671 : BitVec 32) (k1_hw100 : k1_chk100 v5669 v5671), ∀ a, (k1_off312 v5669 v5671) a + S1x16x512.size a ≤ S384x16x1152.size a := fun v5669 v5671 k1_hw100 => k1_hw100.2

def k1_off313 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5705 : Index := Scalar.indexCast v5488
  let c3_2242 : Index := 3#32
  ![v5705.toNat, 3]
def k1_off314 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5721 : Index := Scalar.indexCast v5488
  let c4_2248 : Index := 4#32
  ![v5721.toNat, 4]
def k1_mult101 (v5724 : BitVec 32) : BitVec 32 :=
  let c0_i32_2252 : BitVec 32 := 0#32
  let v5728 : BitVec 1 := Scalar.cmpi .sgt v5724 c0_i32_2252
  let v5729 : BitVec 32 := Scalar.extui v5728
  let c0_i32_2253 : BitVec 32 := 0#32
  let v5730 : BitVec 1 := Scalar.cmpi .slt v5724 c0_i32_2253
  let v5731 : BitVec 32 := Scalar.extui v5730
  let v5732 : BitVec 32 := Scalar.subi v5729 v5731
  let c128_i32_2251 : BitVec 32 := 128#32
  let c0_i32_2254 : BitVec 32 := 0#32
  let v5733 : BitVec 1 := Scalar.cmpi .sgt c128_i32_2251 c0_i32_2254
  let v5734 : BitVec 32 := Scalar.extui v5733
  let c0_i32_2255 : BitVec 32 := 0#32
  let v5735 : BitVec 1 := Scalar.cmpi .slt c128_i32_2251 c0_i32_2255
  let v5736 : BitVec 32 := Scalar.extui v5735
  let v5737 : BitVec 32 := Scalar.subi v5734 v5736
  let v5738 : BitVec 1 := Scalar.cmpi .ne v5732 v5737
  let v5739 : BitVec 32 := Scalar.remsi v5724 c128_i32_2251
  let c0_i32_2256 : BitVec 32 := 0#32
  let v5740 : BitVec 1 := Scalar.cmpi .ne v5739 c0_i32_2256
  let v5741 : BitVec 1 := Scalar.andi v5738 v5740
  let v5727 : BitVec 32 := Scalar.divsi v5724 c128_i32_2251
  let c1_i32_2257 : BitVec 32 := 1#32
  let v5742 : BitVec 32 := Scalar.subi v5727 c1_i32_2257
  let v5743 : BitVec 32 := Scalar.select v5741 v5742 v5727
  let c128_i32_2258 : BitVec 32 := 128#32
  let v5744 : BitVec 32 := Scalar.muli v5743 c128_i32_2258
  v5744

def k1_off315 (v5722 : BitVec 32) (v5724 : BitVec 32) : Fin 3 → Nat :=
  let v5747 : Index := Scalar.indexCast v5722
  let c0_2259 : Index := 0#32
  let c0_i32_2252 : BitVec 32 := 0#32
  let v5728 : BitVec 1 := Scalar.cmpi .sgt v5724 c0_i32_2252
  let v5729 : BitVec 32 := Scalar.extui v5728
  let c0_i32_2253 : BitVec 32 := 0#32
  let v5730 : BitVec 1 := Scalar.cmpi .slt v5724 c0_i32_2253
  let v5731 : BitVec 32 := Scalar.extui v5730
  let v5732 : BitVec 32 := Scalar.subi v5729 v5731
  let c128_i32_2251 : BitVec 32 := 128#32
  let c0_i32_2254 : BitVec 32 := 0#32
  let v5733 : BitVec 1 := Scalar.cmpi .sgt c128_i32_2251 c0_i32_2254
  let v5734 : BitVec 32 := Scalar.extui v5733
  let c0_i32_2255 : BitVec 32 := 0#32
  let v5735 : BitVec 1 := Scalar.cmpi .slt c128_i32_2251 c0_i32_2255
  let v5736 : BitVec 32 := Scalar.extui v5735
  let v5737 : BitVec 32 := Scalar.subi v5734 v5736
  let v5738 : BitVec 1 := Scalar.cmpi .ne v5732 v5737
  let v5739 : BitVec 32 := Scalar.remsi v5724 c128_i32_2251
  let c0_i32_2256 : BitVec 32 := 0#32
  let v5740 : BitVec 1 := Scalar.cmpi .ne v5739 c0_i32_2256
  let v5741 : BitVec 1 := Scalar.andi v5738 v5740
  let v5727 : BitVec 32 := Scalar.divsi v5724 c128_i32_2251
  let c1_i32_2257 : BitVec 32 := 1#32
  let v5742 : BitVec 32 := Scalar.subi v5727 c1_i32_2257
  let v5743 : BitVec 32 := Scalar.select v5741 v5742 v5727
  let c128_i32_2258 : BitVec 32 := 128#32
  let v5744 : BitVec 32 := Scalar.muli v5743 c128_i32_2258
  let v5745 : BitVec 32 := v5744
  let v5748 : Index := Scalar.indexCast v5745
  ![v5747.toNat, 0, v5748.toNat]

def k1_chk101 (v5722 : BitVec 32) (v5724 : BitVec 32) : Prop :=
  (128 ∣ (k1_mult101 v5724).toNat) ∧
  (∀ a, (k1_off315 v5722 v5724) a + S1x16x512.size a ≤ S384x16x1152.size a)
theorem k1_mult101_dvd : ∀ (v5722 : BitVec 32) (v5724 : BitVec 32) (k1_hw101 : k1_chk101 v5722 v5724), 128 ∣ (k1_mult101 v5724).toNat := fun v5722 v5724 k1_hw101 => k1_hw101.1
theorem k1_off315_inb : ∀ (v5722 : BitVec 32) (v5724 : BitVec 32) (k1_hw101 : k1_chk101 v5722 v5724), ∀ a, (k1_off315 v5722 v5724) a + S1x16x512.size a ≤ S384x16x1152.size a := fun v5722 v5724 k1_hw101 => k1_hw101.2

def k1_off316 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5758 : Index := Scalar.indexCast v5488
  let c4_2262 : Index := 4#32
  ![v5758.toNat, 4]
def k1_off317 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5774 : Index := Scalar.indexCast v5488
  let c5_2268 : Index := 5#32
  ![v5774.toNat, 5]
def k1_mult102 (v5777 : BitVec 32) : BitVec 32 :=
  let c0_i32_2272 : BitVec 32 := 0#32
  let v5781 : BitVec 1 := Scalar.cmpi .sgt v5777 c0_i32_2272
  let v5782 : BitVec 32 := Scalar.extui v5781
  let c0_i32_2273 : BitVec 32 := 0#32
  let v5783 : BitVec 1 := Scalar.cmpi .slt v5777 c0_i32_2273
  let v5784 : BitVec 32 := Scalar.extui v5783
  let v5785 : BitVec 32 := Scalar.subi v5782 v5784
  let c128_i32_2271 : BitVec 32 := 128#32
  let c0_i32_2274 : BitVec 32 := 0#32
  let v5786 : BitVec 1 := Scalar.cmpi .sgt c128_i32_2271 c0_i32_2274
  let v5787 : BitVec 32 := Scalar.extui v5786
  let c0_i32_2275 : BitVec 32 := 0#32
  let v5788 : BitVec 1 := Scalar.cmpi .slt c128_i32_2271 c0_i32_2275
  let v5789 : BitVec 32 := Scalar.extui v5788
  let v5790 : BitVec 32 := Scalar.subi v5787 v5789
  let v5791 : BitVec 1 := Scalar.cmpi .ne v5785 v5790
  let v5792 : BitVec 32 := Scalar.remsi v5777 c128_i32_2271
  let c0_i32_2276 : BitVec 32 := 0#32
  let v5793 : BitVec 1 := Scalar.cmpi .ne v5792 c0_i32_2276
  let v5794 : BitVec 1 := Scalar.andi v5791 v5793
  let v5780 : BitVec 32 := Scalar.divsi v5777 c128_i32_2271
  let c1_i32_2277 : BitVec 32 := 1#32
  let v5795 : BitVec 32 := Scalar.subi v5780 c1_i32_2277
  let v5796 : BitVec 32 := Scalar.select v5794 v5795 v5780
  let c128_i32_2278 : BitVec 32 := 128#32
  let v5797 : BitVec 32 := Scalar.muli v5796 c128_i32_2278
  v5797

def k1_off318 (v5775 : BitVec 32) (v5777 : BitVec 32) : Fin 3 → Nat :=
  let v5800 : Index := Scalar.indexCast v5775
  let c0_2279 : Index := 0#32
  let c0_i32_2272 : BitVec 32 := 0#32
  let v5781 : BitVec 1 := Scalar.cmpi .sgt v5777 c0_i32_2272
  let v5782 : BitVec 32 := Scalar.extui v5781
  let c0_i32_2273 : BitVec 32 := 0#32
  let v5783 : BitVec 1 := Scalar.cmpi .slt v5777 c0_i32_2273
  let v5784 : BitVec 32 := Scalar.extui v5783
  let v5785 : BitVec 32 := Scalar.subi v5782 v5784
  let c128_i32_2271 : BitVec 32 := 128#32
  let c0_i32_2274 : BitVec 32 := 0#32
  let v5786 : BitVec 1 := Scalar.cmpi .sgt c128_i32_2271 c0_i32_2274
  let v5787 : BitVec 32 := Scalar.extui v5786
  let c0_i32_2275 : BitVec 32 := 0#32
  let v5788 : BitVec 1 := Scalar.cmpi .slt c128_i32_2271 c0_i32_2275
  let v5789 : BitVec 32 := Scalar.extui v5788
  let v5790 : BitVec 32 := Scalar.subi v5787 v5789
  let v5791 : BitVec 1 := Scalar.cmpi .ne v5785 v5790
  let v5792 : BitVec 32 := Scalar.remsi v5777 c128_i32_2271
  let c0_i32_2276 : BitVec 32 := 0#32
  let v5793 : BitVec 1 := Scalar.cmpi .ne v5792 c0_i32_2276
  let v5794 : BitVec 1 := Scalar.andi v5791 v5793
  let v5780 : BitVec 32 := Scalar.divsi v5777 c128_i32_2271
  let c1_i32_2277 : BitVec 32 := 1#32
  let v5795 : BitVec 32 := Scalar.subi v5780 c1_i32_2277
  let v5796 : BitVec 32 := Scalar.select v5794 v5795 v5780
  let c128_i32_2278 : BitVec 32 := 128#32
  let v5797 : BitVec 32 := Scalar.muli v5796 c128_i32_2278
  let v5798 : BitVec 32 := v5797
  let v5801 : Index := Scalar.indexCast v5798
  ![v5800.toNat, 0, v5801.toNat]

def k1_chk102 (v5775 : BitVec 32) (v5777 : BitVec 32) : Prop :=
  (128 ∣ (k1_mult102 v5777).toNat) ∧
  (∀ a, (k1_off318 v5775 v5777) a + S1x16x512.size a ≤ S384x16x1152.size a)
theorem k1_mult102_dvd : ∀ (v5775 : BitVec 32) (v5777 : BitVec 32) (k1_hw102 : k1_chk102 v5775 v5777), 128 ∣ (k1_mult102 v5777).toNat := fun v5775 v5777 k1_hw102 => k1_hw102.1
theorem k1_off318_inb : ∀ (v5775 : BitVec 32) (v5777 : BitVec 32) (k1_hw102 : k1_chk102 v5775 v5777), ∀ a, (k1_off318 v5775 v5777) a + S1x16x512.size a ≤ S384x16x1152.size a := fun v5775 v5777 k1_hw102 => k1_hw102.2

def k1_off319 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5811 : Index := Scalar.indexCast v5488
  let c5_2282 : Index := 5#32
  ![v5811.toNat, 5]
def k1_off320 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5827 : Index := Scalar.indexCast v5488
  let c6_2288 : Index := 6#32
  ![v5827.toNat, 6]
def k1_mult103 (v5830 : BitVec 32) : BitVec 32 :=
  let c0_i32_2292 : BitVec 32 := 0#32
  let v5834 : BitVec 1 := Scalar.cmpi .sgt v5830 c0_i32_2292
  let v5835 : BitVec 32 := Scalar.extui v5834
  let c0_i32_2293 : BitVec 32 := 0#32
  let v5836 : BitVec 1 := Scalar.cmpi .slt v5830 c0_i32_2293
  let v5837 : BitVec 32 := Scalar.extui v5836
  let v5838 : BitVec 32 := Scalar.subi v5835 v5837
  let c128_i32_2291 : BitVec 32 := 128#32
  let c0_i32_2294 : BitVec 32 := 0#32
  let v5839 : BitVec 1 := Scalar.cmpi .sgt c128_i32_2291 c0_i32_2294
  let v5840 : BitVec 32 := Scalar.extui v5839
  let c0_i32_2295 : BitVec 32 := 0#32
  let v5841 : BitVec 1 := Scalar.cmpi .slt c128_i32_2291 c0_i32_2295
  let v5842 : BitVec 32 := Scalar.extui v5841
  let v5843 : BitVec 32 := Scalar.subi v5840 v5842
  let v5844 : BitVec 1 := Scalar.cmpi .ne v5838 v5843
  let v5845 : BitVec 32 := Scalar.remsi v5830 c128_i32_2291
  let c0_i32_2296 : BitVec 32 := 0#32
  let v5846 : BitVec 1 := Scalar.cmpi .ne v5845 c0_i32_2296
  let v5847 : BitVec 1 := Scalar.andi v5844 v5846
  let v5833 : BitVec 32 := Scalar.divsi v5830 c128_i32_2291
  let c1_i32_2297 : BitVec 32 := 1#32
  let v5848 : BitVec 32 := Scalar.subi v5833 c1_i32_2297
  let v5849 : BitVec 32 := Scalar.select v5847 v5848 v5833
  let c128_i32_2298 : BitVec 32 := 128#32
  let v5850 : BitVec 32 := Scalar.muli v5849 c128_i32_2298
  v5850

def k1_off321 (v5828 : BitVec 32) (v5830 : BitVec 32) : Fin 3 → Nat :=
  let v5853 : Index := Scalar.indexCast v5828
  let c0_2299 : Index := 0#32
  let c0_i32_2292 : BitVec 32 := 0#32
  let v5834 : BitVec 1 := Scalar.cmpi .sgt v5830 c0_i32_2292
  let v5835 : BitVec 32 := Scalar.extui v5834
  let c0_i32_2293 : BitVec 32 := 0#32
  let v5836 : BitVec 1 := Scalar.cmpi .slt v5830 c0_i32_2293
  let v5837 : BitVec 32 := Scalar.extui v5836
  let v5838 : BitVec 32 := Scalar.subi v5835 v5837
  let c128_i32_2291 : BitVec 32 := 128#32
  let c0_i32_2294 : BitVec 32 := 0#32
  let v5839 : BitVec 1 := Scalar.cmpi .sgt c128_i32_2291 c0_i32_2294
  let v5840 : BitVec 32 := Scalar.extui v5839
  let c0_i32_2295 : BitVec 32 := 0#32
  let v5841 : BitVec 1 := Scalar.cmpi .slt c128_i32_2291 c0_i32_2295
  let v5842 : BitVec 32 := Scalar.extui v5841
  let v5843 : BitVec 32 := Scalar.subi v5840 v5842
  let v5844 : BitVec 1 := Scalar.cmpi .ne v5838 v5843
  let v5845 : BitVec 32 := Scalar.remsi v5830 c128_i32_2291
  let c0_i32_2296 : BitVec 32 := 0#32
  let v5846 : BitVec 1 := Scalar.cmpi .ne v5845 c0_i32_2296
  let v5847 : BitVec 1 := Scalar.andi v5844 v5846
  let v5833 : BitVec 32 := Scalar.divsi v5830 c128_i32_2291
  let c1_i32_2297 : BitVec 32 := 1#32
  let v5848 : BitVec 32 := Scalar.subi v5833 c1_i32_2297
  let v5849 : BitVec 32 := Scalar.select v5847 v5848 v5833
  let c128_i32_2298 : BitVec 32 := 128#32
  let v5850 : BitVec 32 := Scalar.muli v5849 c128_i32_2298
  let v5851 : BitVec 32 := v5850
  let v5854 : Index := Scalar.indexCast v5851
  ![v5853.toNat, 0, v5854.toNat]

def k1_chk103 (v5828 : BitVec 32) (v5830 : BitVec 32) : Prop :=
  (128 ∣ (k1_mult103 v5830).toNat) ∧
  (∀ a, (k1_off321 v5828 v5830) a + S1x16x512.size a ≤ S384x16x1152.size a)
theorem k1_mult103_dvd : ∀ (v5828 : BitVec 32) (v5830 : BitVec 32) (k1_hw103 : k1_chk103 v5828 v5830), 128 ∣ (k1_mult103 v5830).toNat := fun v5828 v5830 k1_hw103 => k1_hw103.1
theorem k1_off321_inb : ∀ (v5828 : BitVec 32) (v5830 : BitVec 32) (k1_hw103 : k1_chk103 v5828 v5830), ∀ a, (k1_off321 v5828 v5830) a + S1x16x512.size a ≤ S384x16x1152.size a := fun v5828 v5830 k1_hw103 => k1_hw103.2

def k1_off322 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5864 : Index := Scalar.indexCast v5488
  let c6_2302 : Index := 6#32
  ![v5864.toNat, 6]
def k1_off323 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5880 : Index := Scalar.indexCast v5488
  let c7_2308 : Index := 7#32
  ![v5880.toNat, 7]
def k1_mult104 (v5883 : BitVec 32) : BitVec 32 :=
  let c0_i32_2312 : BitVec 32 := 0#32
  let v5887 : BitVec 1 := Scalar.cmpi .sgt v5883 c0_i32_2312
  let v5888 : BitVec 32 := Scalar.extui v5887
  let c0_i32_2313 : BitVec 32 := 0#32
  let v5889 : BitVec 1 := Scalar.cmpi .slt v5883 c0_i32_2313
  let v5890 : BitVec 32 := Scalar.extui v5889
  let v5891 : BitVec 32 := Scalar.subi v5888 v5890
  let c128_i32_2311 : BitVec 32 := 128#32
  let c0_i32_2314 : BitVec 32 := 0#32
  let v5892 : BitVec 1 := Scalar.cmpi .sgt c128_i32_2311 c0_i32_2314
  let v5893 : BitVec 32 := Scalar.extui v5892
  let c0_i32_2315 : BitVec 32 := 0#32
  let v5894 : BitVec 1 := Scalar.cmpi .slt c128_i32_2311 c0_i32_2315
  let v5895 : BitVec 32 := Scalar.extui v5894
  let v5896 : BitVec 32 := Scalar.subi v5893 v5895
  let v5897 : BitVec 1 := Scalar.cmpi .ne v5891 v5896
  let v5898 : BitVec 32 := Scalar.remsi v5883 c128_i32_2311
  let c0_i32_2316 : BitVec 32 := 0#32
  let v5899 : BitVec 1 := Scalar.cmpi .ne v5898 c0_i32_2316
  let v5900 : BitVec 1 := Scalar.andi v5897 v5899
  let v5886 : BitVec 32 := Scalar.divsi v5883 c128_i32_2311
  let c1_i32_2317 : BitVec 32 := 1#32
  let v5901 : BitVec 32 := Scalar.subi v5886 c1_i32_2317
  let v5902 : BitVec 32 := Scalar.select v5900 v5901 v5886
  let c128_i32_2318 : BitVec 32 := 128#32
  let v5903 : BitVec 32 := Scalar.muli v5902 c128_i32_2318
  v5903

def k1_off324 (v5881 : BitVec 32) (v5883 : BitVec 32) : Fin 3 → Nat :=
  let v5906 : Index := Scalar.indexCast v5881
  let c0_2319 : Index := 0#32
  let c0_i32_2312 : BitVec 32 := 0#32
  let v5887 : BitVec 1 := Scalar.cmpi .sgt v5883 c0_i32_2312
  let v5888 : BitVec 32 := Scalar.extui v5887
  let c0_i32_2313 : BitVec 32 := 0#32
  let v5889 : BitVec 1 := Scalar.cmpi .slt v5883 c0_i32_2313
  let v5890 : BitVec 32 := Scalar.extui v5889
  let v5891 : BitVec 32 := Scalar.subi v5888 v5890
  let c128_i32_2311 : BitVec 32 := 128#32
  let c0_i32_2314 : BitVec 32 := 0#32
  let v5892 : BitVec 1 := Scalar.cmpi .sgt c128_i32_2311 c0_i32_2314
  let v5893 : BitVec 32 := Scalar.extui v5892
  let c0_i32_2315 : BitVec 32 := 0#32
  let v5894 : BitVec 1 := Scalar.cmpi .slt c128_i32_2311 c0_i32_2315
  let v5895 : BitVec 32 := Scalar.extui v5894
  let v5896 : BitVec 32 := Scalar.subi v5893 v5895
  let v5897 : BitVec 1 := Scalar.cmpi .ne v5891 v5896
  let v5898 : BitVec 32 := Scalar.remsi v5883 c128_i32_2311
  let c0_i32_2316 : BitVec 32 := 0#32
  let v5899 : BitVec 1 := Scalar.cmpi .ne v5898 c0_i32_2316
  let v5900 : BitVec 1 := Scalar.andi v5897 v5899
  let v5886 : BitVec 32 := Scalar.divsi v5883 c128_i32_2311
  let c1_i32_2317 : BitVec 32 := 1#32
  let v5901 : BitVec 32 := Scalar.subi v5886 c1_i32_2317
  let v5902 : BitVec 32 := Scalar.select v5900 v5901 v5886
  let c128_i32_2318 : BitVec 32 := 128#32
  let v5903 : BitVec 32 := Scalar.muli v5902 c128_i32_2318
  let v5904 : BitVec 32 := v5903
  let v5907 : Index := Scalar.indexCast v5904
  ![v5906.toNat, 0, v5907.toNat]

def k1_chk104 (v5881 : BitVec 32) (v5883 : BitVec 32) : Prop :=
  (128 ∣ (k1_mult104 v5883).toNat) ∧
  (∀ a, (k1_off324 v5881 v5883) a + S1x16x512.size a ≤ S384x16x1152.size a)
theorem k1_mult104_dvd : ∀ (v5881 : BitVec 32) (v5883 : BitVec 32) (k1_hw104 : k1_chk104 v5881 v5883), 128 ∣ (k1_mult104 v5883).toNat := fun v5881 v5883 k1_hw104 => k1_hw104.1
theorem k1_off324_inb : ∀ (v5881 : BitVec 32) (v5883 : BitVec 32) (k1_hw104 : k1_chk104 v5881 v5883), ∀ a, (k1_off324 v5881 v5883) a + S1x16x512.size a ≤ S384x16x1152.size a := fun v5881 v5883 k1_hw104 => k1_hw104.2

def k1_off325 (i : grid1.Coords) : Fin 2 → Nat :=
  let arg0 : BitVec 32 := BitVec.ofNat 32 (i 0).val
  let c48_i32_2157 : BitVec 32 := 48#32
  let v5487 : BitVec 32 := Scalar.muli arg0 c48_i32_2157
  let c12_i32 : BitVec 32 := 12#32
  let v5488 : BitVec 32 := Scalar.addi v5487 c12_i32
  let v5917 : Index := Scalar.indexCast v5488
  let c7_2322 : Index := 7#32
  ![v5917.toNat, 7]
def k1_off326 (i : grid1.Coords) : Fin 3 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v5946 : Index := Scalar.indexCast v5945
  let c0_2338 : Index := 0#32
  let c720_2339 : Index := 720#32
  ![v5946.toNat, 0, 720]
def k1_off327 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v5966 : Index := Scalar.indexCast v5945
  let c0_2348 : Index := 0#32
  ![v5966.toNat, 0]
def k1_mult105 (v5969 : BitVec 32) : BitVec 32 :=
  let c0_i32_2352 : BitVec 32 := 0#32
  let v5973 : BitVec 1 := Scalar.cmpi .sgt v5969 c0_i32_2352
  let v5974 : BitVec 32 := Scalar.extui v5973
  let c0_i32_2353 : BitVec 32 := 0#32
  let v5975 : BitVec 1 := Scalar.cmpi .slt v5969 c0_i32_2353
  let v5976 : BitVec 32 := Scalar.extui v5975
  let v5977 : BitVec 32 := Scalar.subi v5974 v5976
  let c128_i32_2351 : BitVec 32 := 128#32
  let c0_i32_2354 : BitVec 32 := 0#32
  let v5978 : BitVec 1 := Scalar.cmpi .sgt c128_i32_2351 c0_i32_2354
  let v5979 : BitVec 32 := Scalar.extui v5978
  let c0_i32_2355 : BitVec 32 := 0#32
  let v5980 : BitVec 1 := Scalar.cmpi .slt c128_i32_2351 c0_i32_2355
  let v5981 : BitVec 32 := Scalar.extui v5980
  let v5982 : BitVec 32 := Scalar.subi v5979 v5981
  let v5983 : BitVec 1 := Scalar.cmpi .ne v5977 v5982
  let v5984 : BitVec 32 := Scalar.remsi v5969 c128_i32_2351
  let c0_i32_2356 : BitVec 32 := 0#32
  let v5985 : BitVec 1 := Scalar.cmpi .ne v5984 c0_i32_2356
  let v5986 : BitVec 1 := Scalar.andi v5983 v5985
  let v5972 : BitVec 32 := Scalar.divsi v5969 c128_i32_2351
  let c1_i32_2357 : BitVec 32 := 1#32
  let v5987 : BitVec 32 := Scalar.subi v5972 c1_i32_2357
  let v5988 : BitVec 32 := Scalar.select v5986 v5987 v5972
  let c128_i32_2358 : BitVec 32 := 128#32
  let v5989 : BitVec 32 := Scalar.muli v5988 c128_i32_2358
  v5989

def k1_off328 (v5967 : BitVec 32) (v5969 : BitVec 32) : Fin 3 → Nat :=
  let v5992 : Index := Scalar.indexCast v5967
  let c0_2359 : Index := 0#32
  let c0_i32_2352 : BitVec 32 := 0#32
  let v5973 : BitVec 1 := Scalar.cmpi .sgt v5969 c0_i32_2352
  let v5974 : BitVec 32 := Scalar.extui v5973
  let c0_i32_2353 : BitVec 32 := 0#32
  let v5975 : BitVec 1 := Scalar.cmpi .slt v5969 c0_i32_2353
  let v5976 : BitVec 32 := Scalar.extui v5975
  let v5977 : BitVec 32 := Scalar.subi v5974 v5976
  let c128_i32_2351 : BitVec 32 := 128#32
  let c0_i32_2354 : BitVec 32 := 0#32
  let v5978 : BitVec 1 := Scalar.cmpi .sgt c128_i32_2351 c0_i32_2354
  let v5979 : BitVec 32 := Scalar.extui v5978
  let c0_i32_2355 : BitVec 32 := 0#32
  let v5980 : BitVec 1 := Scalar.cmpi .slt c128_i32_2351 c0_i32_2355
  let v5981 : BitVec 32 := Scalar.extui v5980
  let v5982 : BitVec 32 := Scalar.subi v5979 v5981
  let v5983 : BitVec 1 := Scalar.cmpi .ne v5977 v5982
  let v5984 : BitVec 32 := Scalar.remsi v5969 c128_i32_2351
  let c0_i32_2356 : BitVec 32 := 0#32
  let v5985 : BitVec 1 := Scalar.cmpi .ne v5984 c0_i32_2356
  let v5986 : BitVec 1 := Scalar.andi v5983 v5985
  let v5972 : BitVec 32 := Scalar.divsi v5969 c128_i32_2351
  let c1_i32_2357 : BitVec 32 := 1#32
  let v5987 : BitVec 32 := Scalar.subi v5972 c1_i32_2357
  let v5988 : BitVec 32 := Scalar.select v5986 v5987 v5972
  let c128_i32_2358 : BitVec 32 := 128#32
  let v5989 : BitVec 32 := Scalar.muli v5988 c128_i32_2358
  let v5990 : BitVec 32 := v5989
  let v5993 : Index := Scalar.indexCast v5990
  ![v5992.toNat, 0, v5993.toNat]

def k1_chk105 (v5967 : BitVec 32) (v5969 : BitVec 32) : Prop :=
  (128 ∣ (k1_mult105 v5969).toNat) ∧
  (∀ a, (k1_off328 v5967 v5969) a + S1x16x512.size a ≤ S384x16x1152.size a)
theorem k1_mult105_dvd : ∀ (v5967 : BitVec 32) (v5969 : BitVec 32) (k1_hw105 : k1_chk105 v5967 v5969), 128 ∣ (k1_mult105 v5969).toNat := fun v5967 v5969 k1_hw105 => k1_hw105.1
theorem k1_off328_inb : ∀ (v5967 : BitVec 32) (v5969 : BitVec 32) (k1_hw105 : k1_chk105 v5967 v5969), ∀ a, (k1_off328 v5967 v5969) a + S1x16x512.size a ≤ S384x16x1152.size a := fun v5967 v5969 k1_hw105 => k1_hw105.2

def k1_off329 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6003 : Index := Scalar.indexCast v5945
  let c0_2362 : Index := 0#32
  ![v6003.toNat, 0]
def k1_off330 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6019 : Index := Scalar.indexCast v5945
  let c1_2368 : Index := 1#32
  ![v6019.toNat, 1]
def k1_mult106 (v6022 : BitVec 32) : BitVec 32 :=
  let c0_i32_2372 : BitVec 32 := 0#32
  let v6026 : BitVec 1 := Scalar.cmpi .sgt v6022 c0_i32_2372
  let v6027 : BitVec 32 := Scalar.extui v6026
  let c0_i32_2373 : BitVec 32 := 0#32
  let v6028 : BitVec 1 := Scalar.cmpi .slt v6022 c0_i32_2373
  let v6029 : BitVec 32 := Scalar.extui v6028
  let v6030 : BitVec 32 := Scalar.subi v6027 v6029
  let c128_i32_2371 : BitVec 32 := 128#32
  let c0_i32_2374 : BitVec 32 := 0#32
  let v6031 : BitVec 1 := Scalar.cmpi .sgt c128_i32_2371 c0_i32_2374
  let v6032 : BitVec 32 := Scalar.extui v6031
  let c0_i32_2375 : BitVec 32 := 0#32
  let v6033 : BitVec 1 := Scalar.cmpi .slt c128_i32_2371 c0_i32_2375
  let v6034 : BitVec 32 := Scalar.extui v6033
  let v6035 : BitVec 32 := Scalar.subi v6032 v6034
  let v6036 : BitVec 1 := Scalar.cmpi .ne v6030 v6035
  let v6037 : BitVec 32 := Scalar.remsi v6022 c128_i32_2371
  let c0_i32_2376 : BitVec 32 := 0#32
  let v6038 : BitVec 1 := Scalar.cmpi .ne v6037 c0_i32_2376
  let v6039 : BitVec 1 := Scalar.andi v6036 v6038
  let v6025 : BitVec 32 := Scalar.divsi v6022 c128_i32_2371
  let c1_i32_2377 : BitVec 32 := 1#32
  let v6040 : BitVec 32 := Scalar.subi v6025 c1_i32_2377
  let v6041 : BitVec 32 := Scalar.select v6039 v6040 v6025
  let c128_i32_2378 : BitVec 32 := 128#32
  let v6042 : BitVec 32 := Scalar.muli v6041 c128_i32_2378
  v6042

def k1_off331 (v6020 : BitVec 32) (v6022 : BitVec 32) : Fin 3 → Nat :=
  let v6045 : Index := Scalar.indexCast v6020
  let c0_2379 : Index := 0#32
  let c0_i32_2372 : BitVec 32 := 0#32
  let v6026 : BitVec 1 := Scalar.cmpi .sgt v6022 c0_i32_2372
  let v6027 : BitVec 32 := Scalar.extui v6026
  let c0_i32_2373 : BitVec 32 := 0#32
  let v6028 : BitVec 1 := Scalar.cmpi .slt v6022 c0_i32_2373
  let v6029 : BitVec 32 := Scalar.extui v6028
  let v6030 : BitVec 32 := Scalar.subi v6027 v6029
  let c128_i32_2371 : BitVec 32 := 128#32
  let c0_i32_2374 : BitVec 32 := 0#32
  let v6031 : BitVec 1 := Scalar.cmpi .sgt c128_i32_2371 c0_i32_2374
  let v6032 : BitVec 32 := Scalar.extui v6031
  let c0_i32_2375 : BitVec 32 := 0#32
  let v6033 : BitVec 1 := Scalar.cmpi .slt c128_i32_2371 c0_i32_2375
  let v6034 : BitVec 32 := Scalar.extui v6033
  let v6035 : BitVec 32 := Scalar.subi v6032 v6034
  let v6036 : BitVec 1 := Scalar.cmpi .ne v6030 v6035
  let v6037 : BitVec 32 := Scalar.remsi v6022 c128_i32_2371
  let c0_i32_2376 : BitVec 32 := 0#32
  let v6038 : BitVec 1 := Scalar.cmpi .ne v6037 c0_i32_2376
  let v6039 : BitVec 1 := Scalar.andi v6036 v6038
  let v6025 : BitVec 32 := Scalar.divsi v6022 c128_i32_2371
  let c1_i32_2377 : BitVec 32 := 1#32
  let v6040 : BitVec 32 := Scalar.subi v6025 c1_i32_2377
  let v6041 : BitVec 32 := Scalar.select v6039 v6040 v6025
  let c128_i32_2378 : BitVec 32 := 128#32
  let v6042 : BitVec 32 := Scalar.muli v6041 c128_i32_2378
  let v6043 : BitVec 32 := v6042
  let v6046 : Index := Scalar.indexCast v6043
  ![v6045.toNat, 0, v6046.toNat]

def k1_chk106 (v6020 : BitVec 32) (v6022 : BitVec 32) : Prop :=
  (128 ∣ (k1_mult106 v6022).toNat) ∧
  (∀ a, (k1_off331 v6020 v6022) a + S1x16x512.size a ≤ S384x16x1152.size a)
theorem k1_mult106_dvd : ∀ (v6020 : BitVec 32) (v6022 : BitVec 32) (k1_hw106 : k1_chk106 v6020 v6022), 128 ∣ (k1_mult106 v6022).toNat := fun v6020 v6022 k1_hw106 => k1_hw106.1
theorem k1_off331_inb : ∀ (v6020 : BitVec 32) (v6022 : BitVec 32) (k1_hw106 : k1_chk106 v6020 v6022), ∀ a, (k1_off331 v6020 v6022) a + S1x16x512.size a ≤ S384x16x1152.size a := fun v6020 v6022 k1_hw106 => k1_hw106.2

def k1_off332 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6056 : Index := Scalar.indexCast v5945
  let c1_2382 : Index := 1#32
  ![v6056.toNat, 1]
def k1_off333 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6072 : Index := Scalar.indexCast v5945
  let c2_2388 : Index := 2#32
  ![v6072.toNat, 2]
def k1_mult107 (v6075 : BitVec 32) : BitVec 32 :=
  let c0_i32_2392 : BitVec 32 := 0#32
  let v6079 : BitVec 1 := Scalar.cmpi .sgt v6075 c0_i32_2392
  let v6080 : BitVec 32 := Scalar.extui v6079
  let c0_i32_2393 : BitVec 32 := 0#32
  let v6081 : BitVec 1 := Scalar.cmpi .slt v6075 c0_i32_2393
  let v6082 : BitVec 32 := Scalar.extui v6081
  let v6083 : BitVec 32 := Scalar.subi v6080 v6082
  let c128_i32_2391 : BitVec 32 := 128#32
  let c0_i32_2394 : BitVec 32 := 0#32
  let v6084 : BitVec 1 := Scalar.cmpi .sgt c128_i32_2391 c0_i32_2394
  let v6085 : BitVec 32 := Scalar.extui v6084
  let c0_i32_2395 : BitVec 32 := 0#32
  let v6086 : BitVec 1 := Scalar.cmpi .slt c128_i32_2391 c0_i32_2395
  let v6087 : BitVec 32 := Scalar.extui v6086
  let v6088 : BitVec 32 := Scalar.subi v6085 v6087
  let v6089 : BitVec 1 := Scalar.cmpi .ne v6083 v6088
  let v6090 : BitVec 32 := Scalar.remsi v6075 c128_i32_2391
  let c0_i32_2396 : BitVec 32 := 0#32
  let v6091 : BitVec 1 := Scalar.cmpi .ne v6090 c0_i32_2396
  let v6092 : BitVec 1 := Scalar.andi v6089 v6091
  let v6078 : BitVec 32 := Scalar.divsi v6075 c128_i32_2391
  let c1_i32_2397 : BitVec 32 := 1#32
  let v6093 : BitVec 32 := Scalar.subi v6078 c1_i32_2397
  let v6094 : BitVec 32 := Scalar.select v6092 v6093 v6078
  let c128_i32_2398 : BitVec 32 := 128#32
  let v6095 : BitVec 32 := Scalar.muli v6094 c128_i32_2398
  v6095

def k1_off334 (v6073 : BitVec 32) (v6075 : BitVec 32) : Fin 3 → Nat :=
  let v6098 : Index := Scalar.indexCast v6073
  let c0_2399 : Index := 0#32
  let c0_i32_2392 : BitVec 32 := 0#32
  let v6079 : BitVec 1 := Scalar.cmpi .sgt v6075 c0_i32_2392
  let v6080 : BitVec 32 := Scalar.extui v6079
  let c0_i32_2393 : BitVec 32 := 0#32
  let v6081 : BitVec 1 := Scalar.cmpi .slt v6075 c0_i32_2393
  let v6082 : BitVec 32 := Scalar.extui v6081
  let v6083 : BitVec 32 := Scalar.subi v6080 v6082
  let c128_i32_2391 : BitVec 32 := 128#32
  let c0_i32_2394 : BitVec 32 := 0#32
  let v6084 : BitVec 1 := Scalar.cmpi .sgt c128_i32_2391 c0_i32_2394
  let v6085 : BitVec 32 := Scalar.extui v6084
  let c0_i32_2395 : BitVec 32 := 0#32
  let v6086 : BitVec 1 := Scalar.cmpi .slt c128_i32_2391 c0_i32_2395
  let v6087 : BitVec 32 := Scalar.extui v6086
  let v6088 : BitVec 32 := Scalar.subi v6085 v6087
  let v6089 : BitVec 1 := Scalar.cmpi .ne v6083 v6088
  let v6090 : BitVec 32 := Scalar.remsi v6075 c128_i32_2391
  let c0_i32_2396 : BitVec 32 := 0#32
  let v6091 : BitVec 1 := Scalar.cmpi .ne v6090 c0_i32_2396
  let v6092 : BitVec 1 := Scalar.andi v6089 v6091
  let v6078 : BitVec 32 := Scalar.divsi v6075 c128_i32_2391
  let c1_i32_2397 : BitVec 32 := 1#32
  let v6093 : BitVec 32 := Scalar.subi v6078 c1_i32_2397
  let v6094 : BitVec 32 := Scalar.select v6092 v6093 v6078
  let c128_i32_2398 : BitVec 32 := 128#32
  let v6095 : BitVec 32 := Scalar.muli v6094 c128_i32_2398
  let v6096 : BitVec 32 := v6095
  let v6099 : Index := Scalar.indexCast v6096
  ![v6098.toNat, 0, v6099.toNat]

def k1_chk107 (v6073 : BitVec 32) (v6075 : BitVec 32) : Prop :=
  (128 ∣ (k1_mult107 v6075).toNat) ∧
  (∀ a, (k1_off334 v6073 v6075) a + S1x16x512.size a ≤ S384x16x1152.size a)
theorem k1_mult107_dvd : ∀ (v6073 : BitVec 32) (v6075 : BitVec 32) (k1_hw107 : k1_chk107 v6073 v6075), 128 ∣ (k1_mult107 v6075).toNat := fun v6073 v6075 k1_hw107 => k1_hw107.1
theorem k1_off334_inb : ∀ (v6073 : BitVec 32) (v6075 : BitVec 32) (k1_hw107 : k1_chk107 v6073 v6075), ∀ a, (k1_off334 v6073 v6075) a + S1x16x512.size a ≤ S384x16x1152.size a := fun v6073 v6075 k1_hw107 => k1_hw107.2

def k1_off335 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6109 : Index := Scalar.indexCast v5945
  let c2_2402 : Index := 2#32
  ![v6109.toNat, 2]
def k1_off336 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6125 : Index := Scalar.indexCast v5945
  let c3_2408 : Index := 3#32
  ![v6125.toNat, 3]
def k1_mult108 (v6128 : BitVec 32) : BitVec 32 :=
  let c0_i32_2412 : BitVec 32 := 0#32
  let v6132 : BitVec 1 := Scalar.cmpi .sgt v6128 c0_i32_2412
  let v6133 : BitVec 32 := Scalar.extui v6132
  let c0_i32_2413 : BitVec 32 := 0#32
  let v6134 : BitVec 1 := Scalar.cmpi .slt v6128 c0_i32_2413
  let v6135 : BitVec 32 := Scalar.extui v6134
  let v6136 : BitVec 32 := Scalar.subi v6133 v6135
  let c128_i32_2411 : BitVec 32 := 128#32
  let c0_i32_2414 : BitVec 32 := 0#32
  let v6137 : BitVec 1 := Scalar.cmpi .sgt c128_i32_2411 c0_i32_2414
  let v6138 : BitVec 32 := Scalar.extui v6137
  let c0_i32_2415 : BitVec 32 := 0#32
  let v6139 : BitVec 1 := Scalar.cmpi .slt c128_i32_2411 c0_i32_2415
  let v6140 : BitVec 32 := Scalar.extui v6139
  let v6141 : BitVec 32 := Scalar.subi v6138 v6140
  let v6142 : BitVec 1 := Scalar.cmpi .ne v6136 v6141
  let v6143 : BitVec 32 := Scalar.remsi v6128 c128_i32_2411
  let c0_i32_2416 : BitVec 32 := 0#32
  let v6144 : BitVec 1 := Scalar.cmpi .ne v6143 c0_i32_2416
  let v6145 : BitVec 1 := Scalar.andi v6142 v6144
  let v6131 : BitVec 32 := Scalar.divsi v6128 c128_i32_2411
  let c1_i32_2417 : BitVec 32 := 1#32
  let v6146 : BitVec 32 := Scalar.subi v6131 c1_i32_2417
  let v6147 : BitVec 32 := Scalar.select v6145 v6146 v6131
  let c128_i32_2418 : BitVec 32 := 128#32
  let v6148 : BitVec 32 := Scalar.muli v6147 c128_i32_2418
  v6148

def k1_off337 (v6126 : BitVec 32) (v6128 : BitVec 32) : Fin 3 → Nat :=
  let v6151 : Index := Scalar.indexCast v6126
  let c0_2419 : Index := 0#32
  let c0_i32_2412 : BitVec 32 := 0#32
  let v6132 : BitVec 1 := Scalar.cmpi .sgt v6128 c0_i32_2412
  let v6133 : BitVec 32 := Scalar.extui v6132
  let c0_i32_2413 : BitVec 32 := 0#32
  let v6134 : BitVec 1 := Scalar.cmpi .slt v6128 c0_i32_2413
  let v6135 : BitVec 32 := Scalar.extui v6134
  let v6136 : BitVec 32 := Scalar.subi v6133 v6135
  let c128_i32_2411 : BitVec 32 := 128#32
  let c0_i32_2414 : BitVec 32 := 0#32
  let v6137 : BitVec 1 := Scalar.cmpi .sgt c128_i32_2411 c0_i32_2414
  let v6138 : BitVec 32 := Scalar.extui v6137
  let c0_i32_2415 : BitVec 32 := 0#32
  let v6139 : BitVec 1 := Scalar.cmpi .slt c128_i32_2411 c0_i32_2415
  let v6140 : BitVec 32 := Scalar.extui v6139
  let v6141 : BitVec 32 := Scalar.subi v6138 v6140
  let v6142 : BitVec 1 := Scalar.cmpi .ne v6136 v6141
  let v6143 : BitVec 32 := Scalar.remsi v6128 c128_i32_2411
  let c0_i32_2416 : BitVec 32 := 0#32
  let v6144 : BitVec 1 := Scalar.cmpi .ne v6143 c0_i32_2416
  let v6145 : BitVec 1 := Scalar.andi v6142 v6144
  let v6131 : BitVec 32 := Scalar.divsi v6128 c128_i32_2411
  let c1_i32_2417 : BitVec 32 := 1#32
  let v6146 : BitVec 32 := Scalar.subi v6131 c1_i32_2417
  let v6147 : BitVec 32 := Scalar.select v6145 v6146 v6131
  let c128_i32_2418 : BitVec 32 := 128#32
  let v6148 : BitVec 32 := Scalar.muli v6147 c128_i32_2418
  let v6149 : BitVec 32 := v6148
  let v6152 : Index := Scalar.indexCast v6149
  ![v6151.toNat, 0, v6152.toNat]

def k1_chk108 (v6126 : BitVec 32) (v6128 : BitVec 32) : Prop :=
  (128 ∣ (k1_mult108 v6128).toNat) ∧
  (∀ a, (k1_off337 v6126 v6128) a + S1x16x512.size a ≤ S384x16x1152.size a)
theorem k1_mult108_dvd : ∀ (v6126 : BitVec 32) (v6128 : BitVec 32) (k1_hw108 : k1_chk108 v6126 v6128), 128 ∣ (k1_mult108 v6128).toNat := fun v6126 v6128 k1_hw108 => k1_hw108.1
theorem k1_off337_inb : ∀ (v6126 : BitVec 32) (v6128 : BitVec 32) (k1_hw108 : k1_chk108 v6126 v6128), ∀ a, (k1_off337 v6126 v6128) a + S1x16x512.size a ≤ S384x16x1152.size a := fun v6126 v6128 k1_hw108 => k1_hw108.2

def k1_off338 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6162 : Index := Scalar.indexCast v5945
  let c3_2422 : Index := 3#32
  ![v6162.toNat, 3]
def k1_off339 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6178 : Index := Scalar.indexCast v5945
  let c4_2428 : Index := 4#32
  ![v6178.toNat, 4]
def k1_mult109 (v6181 : BitVec 32) : BitVec 32 :=
  let c0_i32_2432 : BitVec 32 := 0#32
  let v6185 : BitVec 1 := Scalar.cmpi .sgt v6181 c0_i32_2432
  let v6186 : BitVec 32 := Scalar.extui v6185
  let c0_i32_2433 : BitVec 32 := 0#32
  let v6187 : BitVec 1 := Scalar.cmpi .slt v6181 c0_i32_2433
  let v6188 : BitVec 32 := Scalar.extui v6187
  let v6189 : BitVec 32 := Scalar.subi v6186 v6188
  let c128_i32_2431 : BitVec 32 := 128#32
  let c0_i32_2434 : BitVec 32 := 0#32
  let v6190 : BitVec 1 := Scalar.cmpi .sgt c128_i32_2431 c0_i32_2434
  let v6191 : BitVec 32 := Scalar.extui v6190
  let c0_i32_2435 : BitVec 32 := 0#32
  let v6192 : BitVec 1 := Scalar.cmpi .slt c128_i32_2431 c0_i32_2435
  let v6193 : BitVec 32 := Scalar.extui v6192
  let v6194 : BitVec 32 := Scalar.subi v6191 v6193
  let v6195 : BitVec 1 := Scalar.cmpi .ne v6189 v6194
  let v6196 : BitVec 32 := Scalar.remsi v6181 c128_i32_2431
  let c0_i32_2436 : BitVec 32 := 0#32
  let v6197 : BitVec 1 := Scalar.cmpi .ne v6196 c0_i32_2436
  let v6198 : BitVec 1 := Scalar.andi v6195 v6197
  let v6184 : BitVec 32 := Scalar.divsi v6181 c128_i32_2431
  let c1_i32_2437 : BitVec 32 := 1#32
  let v6199 : BitVec 32 := Scalar.subi v6184 c1_i32_2437
  let v6200 : BitVec 32 := Scalar.select v6198 v6199 v6184
  let c128_i32_2438 : BitVec 32 := 128#32
  let v6201 : BitVec 32 := Scalar.muli v6200 c128_i32_2438
  v6201

def k1_off340 (v6179 : BitVec 32) (v6181 : BitVec 32) : Fin 3 → Nat :=
  let v6204 : Index := Scalar.indexCast v6179
  let c0_2439 : Index := 0#32
  let c0_i32_2432 : BitVec 32 := 0#32
  let v6185 : BitVec 1 := Scalar.cmpi .sgt v6181 c0_i32_2432
  let v6186 : BitVec 32 := Scalar.extui v6185
  let c0_i32_2433 : BitVec 32 := 0#32
  let v6187 : BitVec 1 := Scalar.cmpi .slt v6181 c0_i32_2433
  let v6188 : BitVec 32 := Scalar.extui v6187
  let v6189 : BitVec 32 := Scalar.subi v6186 v6188
  let c128_i32_2431 : BitVec 32 := 128#32
  let c0_i32_2434 : BitVec 32 := 0#32
  let v6190 : BitVec 1 := Scalar.cmpi .sgt c128_i32_2431 c0_i32_2434
  let v6191 : BitVec 32 := Scalar.extui v6190
  let c0_i32_2435 : BitVec 32 := 0#32
  let v6192 : BitVec 1 := Scalar.cmpi .slt c128_i32_2431 c0_i32_2435
  let v6193 : BitVec 32 := Scalar.extui v6192
  let v6194 : BitVec 32 := Scalar.subi v6191 v6193
  let v6195 : BitVec 1 := Scalar.cmpi .ne v6189 v6194
  let v6196 : BitVec 32 := Scalar.remsi v6181 c128_i32_2431
  let c0_i32_2436 : BitVec 32 := 0#32
  let v6197 : BitVec 1 := Scalar.cmpi .ne v6196 c0_i32_2436
  let v6198 : BitVec 1 := Scalar.andi v6195 v6197
  let v6184 : BitVec 32 := Scalar.divsi v6181 c128_i32_2431
  let c1_i32_2437 : BitVec 32 := 1#32
  let v6199 : BitVec 32 := Scalar.subi v6184 c1_i32_2437
  let v6200 : BitVec 32 := Scalar.select v6198 v6199 v6184
  let c128_i32_2438 : BitVec 32 := 128#32
  let v6201 : BitVec 32 := Scalar.muli v6200 c128_i32_2438
  let v6202 : BitVec 32 := v6201
  let v6205 : Index := Scalar.indexCast v6202
  ![v6204.toNat, 0, v6205.toNat]

def k1_chk109 (v6179 : BitVec 32) (v6181 : BitVec 32) : Prop :=
  (128 ∣ (k1_mult109 v6181).toNat) ∧
  (∀ a, (k1_off340 v6179 v6181) a + S1x16x512.size a ≤ S384x16x1152.size a)
theorem k1_mult109_dvd : ∀ (v6179 : BitVec 32) (v6181 : BitVec 32) (k1_hw109 : k1_chk109 v6179 v6181), 128 ∣ (k1_mult109 v6181).toNat := fun v6179 v6181 k1_hw109 => k1_hw109.1
theorem k1_off340_inb : ∀ (v6179 : BitVec 32) (v6181 : BitVec 32) (k1_hw109 : k1_chk109 v6179 v6181), ∀ a, (k1_off340 v6179 v6181) a + S1x16x512.size a ≤ S384x16x1152.size a := fun v6179 v6181 k1_hw109 => k1_hw109.2

def k1_off341 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6215 : Index := Scalar.indexCast v5945
  let c4_2442 : Index := 4#32
  ![v6215.toNat, 4]
def k1_off342 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6231 : Index := Scalar.indexCast v5945
  let c5_2448 : Index := 5#32
  ![v6231.toNat, 5]
def k1_mult110 (v6234 : BitVec 32) : BitVec 32 :=
  let c0_i32_2452 : BitVec 32 := 0#32
  let v6238 : BitVec 1 := Scalar.cmpi .sgt v6234 c0_i32_2452
  let v6239 : BitVec 32 := Scalar.extui v6238
  let c0_i32_2453 : BitVec 32 := 0#32
  let v6240 : BitVec 1 := Scalar.cmpi .slt v6234 c0_i32_2453
  let v6241 : BitVec 32 := Scalar.extui v6240
  let v6242 : BitVec 32 := Scalar.subi v6239 v6241
  let c128_i32_2451 : BitVec 32 := 128#32
  let c0_i32_2454 : BitVec 32 := 0#32
  let v6243 : BitVec 1 := Scalar.cmpi .sgt c128_i32_2451 c0_i32_2454
  let v6244 : BitVec 32 := Scalar.extui v6243
  let c0_i32_2455 : BitVec 32 := 0#32
  let v6245 : BitVec 1 := Scalar.cmpi .slt c128_i32_2451 c0_i32_2455
  let v6246 : BitVec 32 := Scalar.extui v6245
  let v6247 : BitVec 32 := Scalar.subi v6244 v6246
  let v6248 : BitVec 1 := Scalar.cmpi .ne v6242 v6247
  let v6249 : BitVec 32 := Scalar.remsi v6234 c128_i32_2451
  let c0_i32_2456 : BitVec 32 := 0#32
  let v6250 : BitVec 1 := Scalar.cmpi .ne v6249 c0_i32_2456
  let v6251 : BitVec 1 := Scalar.andi v6248 v6250
  let v6237 : BitVec 32 := Scalar.divsi v6234 c128_i32_2451
  let c1_i32_2457 : BitVec 32 := 1#32
  let v6252 : BitVec 32 := Scalar.subi v6237 c1_i32_2457
  let v6253 : BitVec 32 := Scalar.select v6251 v6252 v6237
  let c128_i32_2458 : BitVec 32 := 128#32
  let v6254 : BitVec 32 := Scalar.muli v6253 c128_i32_2458
  v6254

def k1_off343 (v6232 : BitVec 32) (v6234 : BitVec 32) : Fin 3 → Nat :=
  let v6257 : Index := Scalar.indexCast v6232
  let c0_2459 : Index := 0#32
  let c0_i32_2452 : BitVec 32 := 0#32
  let v6238 : BitVec 1 := Scalar.cmpi .sgt v6234 c0_i32_2452
  let v6239 : BitVec 32 := Scalar.extui v6238
  let c0_i32_2453 : BitVec 32 := 0#32
  let v6240 : BitVec 1 := Scalar.cmpi .slt v6234 c0_i32_2453
  let v6241 : BitVec 32 := Scalar.extui v6240
  let v6242 : BitVec 32 := Scalar.subi v6239 v6241
  let c128_i32_2451 : BitVec 32 := 128#32
  let c0_i32_2454 : BitVec 32 := 0#32
  let v6243 : BitVec 1 := Scalar.cmpi .sgt c128_i32_2451 c0_i32_2454
  let v6244 : BitVec 32 := Scalar.extui v6243
  let c0_i32_2455 : BitVec 32 := 0#32
  let v6245 : BitVec 1 := Scalar.cmpi .slt c128_i32_2451 c0_i32_2455
  let v6246 : BitVec 32 := Scalar.extui v6245
  let v6247 : BitVec 32 := Scalar.subi v6244 v6246
  let v6248 : BitVec 1 := Scalar.cmpi .ne v6242 v6247
  let v6249 : BitVec 32 := Scalar.remsi v6234 c128_i32_2451
  let c0_i32_2456 : BitVec 32 := 0#32
  let v6250 : BitVec 1 := Scalar.cmpi .ne v6249 c0_i32_2456
  let v6251 : BitVec 1 := Scalar.andi v6248 v6250
  let v6237 : BitVec 32 := Scalar.divsi v6234 c128_i32_2451
  let c1_i32_2457 : BitVec 32 := 1#32
  let v6252 : BitVec 32 := Scalar.subi v6237 c1_i32_2457
  let v6253 : BitVec 32 := Scalar.select v6251 v6252 v6237
  let c128_i32_2458 : BitVec 32 := 128#32
  let v6254 : BitVec 32 := Scalar.muli v6253 c128_i32_2458
  let v6255 : BitVec 32 := v6254
  let v6258 : Index := Scalar.indexCast v6255
  ![v6257.toNat, 0, v6258.toNat]

def k1_chk110 (v6232 : BitVec 32) (v6234 : BitVec 32) : Prop :=
  (128 ∣ (k1_mult110 v6234).toNat) ∧
  (∀ a, (k1_off343 v6232 v6234) a + S1x16x512.size a ≤ S384x16x1152.size a)
theorem k1_mult110_dvd : ∀ (v6232 : BitVec 32) (v6234 : BitVec 32) (k1_hw110 : k1_chk110 v6232 v6234), 128 ∣ (k1_mult110 v6234).toNat := fun v6232 v6234 k1_hw110 => k1_hw110.1
theorem k1_off343_inb : ∀ (v6232 : BitVec 32) (v6234 : BitVec 32) (k1_hw110 : k1_chk110 v6232 v6234), ∀ a, (k1_off343 v6232 v6234) a + S1x16x512.size a ≤ S384x16x1152.size a := fun v6232 v6234 k1_hw110 => k1_hw110.2

def k1_off344 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6268 : Index := Scalar.indexCast v5945
  let c5_2462 : Index := 5#32
  ![v6268.toNat, 5]
def k1_off345 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6284 : Index := Scalar.indexCast v5945
  let c6_2468 : Index := 6#32
  ![v6284.toNat, 6]
def k1_mult111 (v6287 : BitVec 32) : BitVec 32 :=
  let c0_i32_2472 : BitVec 32 := 0#32
  let v6291 : BitVec 1 := Scalar.cmpi .sgt v6287 c0_i32_2472
  let v6292 : BitVec 32 := Scalar.extui v6291
  let c0_i32_2473 : BitVec 32 := 0#32
  let v6293 : BitVec 1 := Scalar.cmpi .slt v6287 c0_i32_2473
  let v6294 : BitVec 32 := Scalar.extui v6293
  let v6295 : BitVec 32 := Scalar.subi v6292 v6294
  let c128_i32_2471 : BitVec 32 := 128#32
  let c0_i32_2474 : BitVec 32 := 0#32
  let v6296 : BitVec 1 := Scalar.cmpi .sgt c128_i32_2471 c0_i32_2474
  let v6297 : BitVec 32 := Scalar.extui v6296
  let c0_i32_2475 : BitVec 32 := 0#32
  let v6298 : BitVec 1 := Scalar.cmpi .slt c128_i32_2471 c0_i32_2475
  let v6299 : BitVec 32 := Scalar.extui v6298
  let v6300 : BitVec 32 := Scalar.subi v6297 v6299
  let v6301 : BitVec 1 := Scalar.cmpi .ne v6295 v6300
  let v6302 : BitVec 32 := Scalar.remsi v6287 c128_i32_2471
  let c0_i32_2476 : BitVec 32 := 0#32
  let v6303 : BitVec 1 := Scalar.cmpi .ne v6302 c0_i32_2476
  let v6304 : BitVec 1 := Scalar.andi v6301 v6303
  let v6290 : BitVec 32 := Scalar.divsi v6287 c128_i32_2471
  let c1_i32_2477 : BitVec 32 := 1#32
  let v6305 : BitVec 32 := Scalar.subi v6290 c1_i32_2477
  let v6306 : BitVec 32 := Scalar.select v6304 v6305 v6290
  let c128_i32_2478 : BitVec 32 := 128#32
  let v6307 : BitVec 32 := Scalar.muli v6306 c128_i32_2478
  v6307

def k1_off346 (v6285 : BitVec 32) (v6287 : BitVec 32) : Fin 3 → Nat :=
  let v6310 : Index := Scalar.indexCast v6285
  let c0_2479 : Index := 0#32
  let c0_i32_2472 : BitVec 32 := 0#32
  let v6291 : BitVec 1 := Scalar.cmpi .sgt v6287 c0_i32_2472
  let v6292 : BitVec 32 := Scalar.extui v6291
  let c0_i32_2473 : BitVec 32 := 0#32
  let v6293 : BitVec 1 := Scalar.cmpi .slt v6287 c0_i32_2473
  let v6294 : BitVec 32 := Scalar.extui v6293
  let v6295 : BitVec 32 := Scalar.subi v6292 v6294
  let c128_i32_2471 : BitVec 32 := 128#32
  let c0_i32_2474 : BitVec 32 := 0#32
  let v6296 : BitVec 1 := Scalar.cmpi .sgt c128_i32_2471 c0_i32_2474
  let v6297 : BitVec 32 := Scalar.extui v6296
  let c0_i32_2475 : BitVec 32 := 0#32
  let v6298 : BitVec 1 := Scalar.cmpi .slt c128_i32_2471 c0_i32_2475
  let v6299 : BitVec 32 := Scalar.extui v6298
  let v6300 : BitVec 32 := Scalar.subi v6297 v6299
  let v6301 : BitVec 1 := Scalar.cmpi .ne v6295 v6300
  let v6302 : BitVec 32 := Scalar.remsi v6287 c128_i32_2471
  let c0_i32_2476 : BitVec 32 := 0#32
  let v6303 : BitVec 1 := Scalar.cmpi .ne v6302 c0_i32_2476
  let v6304 : BitVec 1 := Scalar.andi v6301 v6303
  let v6290 : BitVec 32 := Scalar.divsi v6287 c128_i32_2471
  let c1_i32_2477 : BitVec 32 := 1#32
  let v6305 : BitVec 32 := Scalar.subi v6290 c1_i32_2477
  let v6306 : BitVec 32 := Scalar.select v6304 v6305 v6290
  let c128_i32_2478 : BitVec 32 := 128#32
  let v6307 : BitVec 32 := Scalar.muli v6306 c128_i32_2478
  let v6308 : BitVec 32 := v6307
  let v6311 : Index := Scalar.indexCast v6308
  ![v6310.toNat, 0, v6311.toNat]

def k1_chk111 (v6285 : BitVec 32) (v6287 : BitVec 32) : Prop :=
  (128 ∣ (k1_mult111 v6287).toNat) ∧
  (∀ a, (k1_off346 v6285 v6287) a + S1x16x512.size a ≤ S384x16x1152.size a)
theorem k1_mult111_dvd : ∀ (v6285 : BitVec 32) (v6287 : BitVec 32) (k1_hw111 : k1_chk111 v6285 v6287), 128 ∣ (k1_mult111 v6287).toNat := fun v6285 v6287 k1_hw111 => k1_hw111.1
theorem k1_off346_inb : ∀ (v6285 : BitVec 32) (v6287 : BitVec 32) (k1_hw111 : k1_chk111 v6285 v6287), ∀ a, (k1_off346 v6285 v6287) a + S1x16x512.size a ≤ S384x16x1152.size a := fun v6285 v6287 k1_hw111 => k1_hw111.2

def k1_off347 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6321 : Index := Scalar.indexCast v5945
  let c6_2482 : Index := 6#32
  ![v6321.toNat, 6]
def k1_off348 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6337 : Index := Scalar.indexCast v5945
  let c7_2488 : Index := 7#32
  ![v6337.toNat, 7]
def k1_mult112 (v6340 : BitVec 32) : BitVec 32 :=
  let c0_i32_2492 : BitVec 32 := 0#32
  let v6344 : BitVec 1 := Scalar.cmpi .sgt v6340 c0_i32_2492
  let v6345 : BitVec 32 := Scalar.extui v6344
  let c0_i32_2493 : BitVec 32 := 0#32
  let v6346 : BitVec 1 := Scalar.cmpi .slt v6340 c0_i32_2493
  let v6347 : BitVec 32 := Scalar.extui v6346
  let v6348 : BitVec 32 := Scalar.subi v6345 v6347
  let c128_i32_2491 : BitVec 32 := 128#32
  let c0_i32_2494 : BitVec 32 := 0#32
  let v6349 : BitVec 1 := Scalar.cmpi .sgt c128_i32_2491 c0_i32_2494
  let v6350 : BitVec 32 := Scalar.extui v6349
  let c0_i32_2495 : BitVec 32 := 0#32
  let v6351 : BitVec 1 := Scalar.cmpi .slt c128_i32_2491 c0_i32_2495
  let v6352 : BitVec 32 := Scalar.extui v6351
  let v6353 : BitVec 32 := Scalar.subi v6350 v6352
  let v6354 : BitVec 1 := Scalar.cmpi .ne v6348 v6353
  let v6355 : BitVec 32 := Scalar.remsi v6340 c128_i32_2491
  let c0_i32_2496 : BitVec 32 := 0#32
  let v6356 : BitVec 1 := Scalar.cmpi .ne v6355 c0_i32_2496
  let v6357 : BitVec 1 := Scalar.andi v6354 v6356
  let v6343 : BitVec 32 := Scalar.divsi v6340 c128_i32_2491
  let c1_i32_2497 : BitVec 32 := 1#32
  let v6358 : BitVec 32 := Scalar.subi v6343 c1_i32_2497
  let v6359 : BitVec 32 := Scalar.select v6357 v6358 v6343
  let c128_i32_2498 : BitVec 32 := 128#32
  let v6360 : BitVec 32 := Scalar.muli v6359 c128_i32_2498
  v6360

def k1_off349 (v6338 : BitVec 32) (v6340 : BitVec 32) : Fin 3 → Nat :=
  let v6363 : Index := Scalar.indexCast v6338
  let c0_2499 : Index := 0#32
  let c0_i32_2492 : BitVec 32 := 0#32
  let v6344 : BitVec 1 := Scalar.cmpi .sgt v6340 c0_i32_2492
  let v6345 : BitVec 32 := Scalar.extui v6344
  let c0_i32_2493 : BitVec 32 := 0#32
  let v6346 : BitVec 1 := Scalar.cmpi .slt v6340 c0_i32_2493
  let v6347 : BitVec 32 := Scalar.extui v6346
  let v6348 : BitVec 32 := Scalar.subi v6345 v6347
  let c128_i32_2491 : BitVec 32 := 128#32
  let c0_i32_2494 : BitVec 32 := 0#32
  let v6349 : BitVec 1 := Scalar.cmpi .sgt c128_i32_2491 c0_i32_2494
  let v6350 : BitVec 32 := Scalar.extui v6349
  let c0_i32_2495 : BitVec 32 := 0#32
  let v6351 : BitVec 1 := Scalar.cmpi .slt c128_i32_2491 c0_i32_2495
  let v6352 : BitVec 32 := Scalar.extui v6351
  let v6353 : BitVec 32 := Scalar.subi v6350 v6352
  let v6354 : BitVec 1 := Scalar.cmpi .ne v6348 v6353
  let v6355 : BitVec 32 := Scalar.remsi v6340 c128_i32_2491
  let c0_i32_2496 : BitVec 32 := 0#32
  let v6356 : BitVec 1 := Scalar.cmpi .ne v6355 c0_i32_2496
  let v6357 : BitVec 1 := Scalar.andi v6354 v6356
  let v6343 : BitVec 32 := Scalar.divsi v6340 c128_i32_2491
  let c1_i32_2497 : BitVec 32 := 1#32
  let v6358 : BitVec 32 := Scalar.subi v6343 c1_i32_2497
  let v6359 : BitVec 32 := Scalar.select v6357 v6358 v6343
  let c128_i32_2498 : BitVec 32 := 128#32
  let v6360 : BitVec 32 := Scalar.muli v6359 c128_i32_2498
  let v6361 : BitVec 32 := v6360
  let v6364 : Index := Scalar.indexCast v6361
  ![v6363.toNat, 0, v6364.toNat]

def k1_chk112 (v6338 : BitVec 32) (v6340 : BitVec 32) : Prop :=
  (128 ∣ (k1_mult112 v6340).toNat) ∧
  (∀ a, (k1_off349 v6338 v6340) a + S1x16x512.size a ≤ S384x16x1152.size a)
theorem k1_mult112_dvd : ∀ (v6338 : BitVec 32) (v6340 : BitVec 32) (k1_hw112 : k1_chk112 v6338 v6340), 128 ∣ (k1_mult112 v6340).toNat := fun v6338 v6340 k1_hw112 => k1_hw112.1
theorem k1_off349_inb : ∀ (v6338 : BitVec 32) (v6340 : BitVec 32) (k1_hw112 : k1_chk112 v6338 v6340), ∀ a, (k1_off349 v6338 v6340) a + S1x16x512.size a ≤ S384x16x1152.size a := fun v6338 v6340 k1_hw112 => k1_hw112.2

def k1_off350 (i : grid1.Coords) : Fin 2 → Nat :=
  let arg0 : BitVec 32 := BitVec.ofNat 32 (i 0).val
  let c48_i32_2337 : BitVec 32 := 48#32
  let v5944 : BitVec 32 := Scalar.muli arg0 c48_i32_2337
  let c13_i32 : BitVec 32 := 13#32
  let v5945 : BitVec 32 := Scalar.addi v5944 c13_i32
  let v6374 : Index := Scalar.indexCast v5945
  let c7_2502 : Index := 7#32
  ![v6374.toNat, 7]
def k1_off351 (i : grid1.Coords) : Fin 3 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6403 : Index := Scalar.indexCast v6402
  let c0_2518 : Index := 0#32
  let c720_2519 : Index := 720#32
  ![v6403.toNat, 0, 720]
def k1_off352 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6423 : Index := Scalar.indexCast v6402
  let c0_2528 : Index := 0#32
  ![v6423.toNat, 0]
def k1_mult113 (v6426 : BitVec 32) : BitVec 32 :=
  let c0_i32_2532 : BitVec 32 := 0#32
  let v6430 : BitVec 1 := Scalar.cmpi .sgt v6426 c0_i32_2532
  let v6431 : BitVec 32 := Scalar.extui v6430
  let c0_i32_2533 : BitVec 32 := 0#32
  let v6432 : BitVec 1 := Scalar.cmpi .slt v6426 c0_i32_2533
  let v6433 : BitVec 32 := Scalar.extui v6432
  let v6434 : BitVec 32 := Scalar.subi v6431 v6433
  let c128_i32_2531 : BitVec 32 := 128#32
  let c0_i32_2534 : BitVec 32 := 0#32
  let v6435 : BitVec 1 := Scalar.cmpi .sgt c128_i32_2531 c0_i32_2534
  let v6436 : BitVec 32 := Scalar.extui v6435
  let c0_i32_2535 : BitVec 32 := 0#32
  let v6437 : BitVec 1 := Scalar.cmpi .slt c128_i32_2531 c0_i32_2535
  let v6438 : BitVec 32 := Scalar.extui v6437
  let v6439 : BitVec 32 := Scalar.subi v6436 v6438
  let v6440 : BitVec 1 := Scalar.cmpi .ne v6434 v6439
  let v6441 : BitVec 32 := Scalar.remsi v6426 c128_i32_2531
  let c0_i32_2536 : BitVec 32 := 0#32
  let v6442 : BitVec 1 := Scalar.cmpi .ne v6441 c0_i32_2536
  let v6443 : BitVec 1 := Scalar.andi v6440 v6442
  let v6429 : BitVec 32 := Scalar.divsi v6426 c128_i32_2531
  let c1_i32_2537 : BitVec 32 := 1#32
  let v6444 : BitVec 32 := Scalar.subi v6429 c1_i32_2537
  let v6445 : BitVec 32 := Scalar.select v6443 v6444 v6429
  let c128_i32_2538 : BitVec 32 := 128#32
  let v6446 : BitVec 32 := Scalar.muli v6445 c128_i32_2538
  v6446

def k1_off353 (v6424 : BitVec 32) (v6426 : BitVec 32) : Fin 3 → Nat :=
  let v6449 : Index := Scalar.indexCast v6424
  let c0_2539 : Index := 0#32
  let c0_i32_2532 : BitVec 32 := 0#32
  let v6430 : BitVec 1 := Scalar.cmpi .sgt v6426 c0_i32_2532
  let v6431 : BitVec 32 := Scalar.extui v6430
  let c0_i32_2533 : BitVec 32 := 0#32
  let v6432 : BitVec 1 := Scalar.cmpi .slt v6426 c0_i32_2533
  let v6433 : BitVec 32 := Scalar.extui v6432
  let v6434 : BitVec 32 := Scalar.subi v6431 v6433
  let c128_i32_2531 : BitVec 32 := 128#32
  let c0_i32_2534 : BitVec 32 := 0#32
  let v6435 : BitVec 1 := Scalar.cmpi .sgt c128_i32_2531 c0_i32_2534
  let v6436 : BitVec 32 := Scalar.extui v6435
  let c0_i32_2535 : BitVec 32 := 0#32
  let v6437 : BitVec 1 := Scalar.cmpi .slt c128_i32_2531 c0_i32_2535
  let v6438 : BitVec 32 := Scalar.extui v6437
  let v6439 : BitVec 32 := Scalar.subi v6436 v6438
  let v6440 : BitVec 1 := Scalar.cmpi .ne v6434 v6439
  let v6441 : BitVec 32 := Scalar.remsi v6426 c128_i32_2531
  let c0_i32_2536 : BitVec 32 := 0#32
  let v6442 : BitVec 1 := Scalar.cmpi .ne v6441 c0_i32_2536
  let v6443 : BitVec 1 := Scalar.andi v6440 v6442
  let v6429 : BitVec 32 := Scalar.divsi v6426 c128_i32_2531
  let c1_i32_2537 : BitVec 32 := 1#32
  let v6444 : BitVec 32 := Scalar.subi v6429 c1_i32_2537
  let v6445 : BitVec 32 := Scalar.select v6443 v6444 v6429
  let c128_i32_2538 : BitVec 32 := 128#32
  let v6446 : BitVec 32 := Scalar.muli v6445 c128_i32_2538
  let v6447 : BitVec 32 := v6446
  let v6450 : Index := Scalar.indexCast v6447
  ![v6449.toNat, 0, v6450.toNat]

def k1_chk113 (v6424 : BitVec 32) (v6426 : BitVec 32) : Prop :=
  (128 ∣ (k1_mult113 v6426).toNat) ∧
  (∀ a, (k1_off353 v6424 v6426) a + S1x16x512.size a ≤ S384x16x1152.size a)
theorem k1_mult113_dvd : ∀ (v6424 : BitVec 32) (v6426 : BitVec 32) (k1_hw113 : k1_chk113 v6424 v6426), 128 ∣ (k1_mult113 v6426).toNat := fun v6424 v6426 k1_hw113 => k1_hw113.1
theorem k1_off353_inb : ∀ (v6424 : BitVec 32) (v6426 : BitVec 32) (k1_hw113 : k1_chk113 v6424 v6426), ∀ a, (k1_off353 v6424 v6426) a + S1x16x512.size a ≤ S384x16x1152.size a := fun v6424 v6426 k1_hw113 => k1_hw113.2

def k1_off354 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6460 : Index := Scalar.indexCast v6402
  let c0_2542 : Index := 0#32
  ![v6460.toNat, 0]
def k1_off355 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6476 : Index := Scalar.indexCast v6402
  let c1_2548 : Index := 1#32
  ![v6476.toNat, 1]
def k1_mult114 (v6479 : BitVec 32) : BitVec 32 :=
  let c0_i32_2552 : BitVec 32 := 0#32
  let v6483 : BitVec 1 := Scalar.cmpi .sgt v6479 c0_i32_2552
  let v6484 : BitVec 32 := Scalar.extui v6483
  let c0_i32_2553 : BitVec 32 := 0#32
  let v6485 : BitVec 1 := Scalar.cmpi .slt v6479 c0_i32_2553
  let v6486 : BitVec 32 := Scalar.extui v6485
  let v6487 : BitVec 32 := Scalar.subi v6484 v6486
  let c128_i32_2551 : BitVec 32 := 128#32
  let c0_i32_2554 : BitVec 32 := 0#32
  let v6488 : BitVec 1 := Scalar.cmpi .sgt c128_i32_2551 c0_i32_2554
  let v6489 : BitVec 32 := Scalar.extui v6488
  let c0_i32_2555 : BitVec 32 := 0#32
  let v6490 : BitVec 1 := Scalar.cmpi .slt c128_i32_2551 c0_i32_2555
  let v6491 : BitVec 32 := Scalar.extui v6490
  let v6492 : BitVec 32 := Scalar.subi v6489 v6491
  let v6493 : BitVec 1 := Scalar.cmpi .ne v6487 v6492
  let v6494 : BitVec 32 := Scalar.remsi v6479 c128_i32_2551
  let c0_i32_2556 : BitVec 32 := 0#32
  let v6495 : BitVec 1 := Scalar.cmpi .ne v6494 c0_i32_2556
  let v6496 : BitVec 1 := Scalar.andi v6493 v6495
  let v6482 : BitVec 32 := Scalar.divsi v6479 c128_i32_2551
  let c1_i32_2557 : BitVec 32 := 1#32
  let v6497 : BitVec 32 := Scalar.subi v6482 c1_i32_2557
  let v6498 : BitVec 32 := Scalar.select v6496 v6497 v6482
  let c128_i32_2558 : BitVec 32 := 128#32
  let v6499 : BitVec 32 := Scalar.muli v6498 c128_i32_2558
  v6499

def k1_off356 (v6477 : BitVec 32) (v6479 : BitVec 32) : Fin 3 → Nat :=
  let v6502 : Index := Scalar.indexCast v6477
  let c0_2559 : Index := 0#32
  let c0_i32_2552 : BitVec 32 := 0#32
  let v6483 : BitVec 1 := Scalar.cmpi .sgt v6479 c0_i32_2552
  let v6484 : BitVec 32 := Scalar.extui v6483
  let c0_i32_2553 : BitVec 32 := 0#32
  let v6485 : BitVec 1 := Scalar.cmpi .slt v6479 c0_i32_2553
  let v6486 : BitVec 32 := Scalar.extui v6485
  let v6487 : BitVec 32 := Scalar.subi v6484 v6486
  let c128_i32_2551 : BitVec 32 := 128#32
  let c0_i32_2554 : BitVec 32 := 0#32
  let v6488 : BitVec 1 := Scalar.cmpi .sgt c128_i32_2551 c0_i32_2554
  let v6489 : BitVec 32 := Scalar.extui v6488
  let c0_i32_2555 : BitVec 32 := 0#32
  let v6490 : BitVec 1 := Scalar.cmpi .slt c128_i32_2551 c0_i32_2555
  let v6491 : BitVec 32 := Scalar.extui v6490
  let v6492 : BitVec 32 := Scalar.subi v6489 v6491
  let v6493 : BitVec 1 := Scalar.cmpi .ne v6487 v6492
  let v6494 : BitVec 32 := Scalar.remsi v6479 c128_i32_2551
  let c0_i32_2556 : BitVec 32 := 0#32
  let v6495 : BitVec 1 := Scalar.cmpi .ne v6494 c0_i32_2556
  let v6496 : BitVec 1 := Scalar.andi v6493 v6495
  let v6482 : BitVec 32 := Scalar.divsi v6479 c128_i32_2551
  let c1_i32_2557 : BitVec 32 := 1#32
  let v6497 : BitVec 32 := Scalar.subi v6482 c1_i32_2557
  let v6498 : BitVec 32 := Scalar.select v6496 v6497 v6482
  let c128_i32_2558 : BitVec 32 := 128#32
  let v6499 : BitVec 32 := Scalar.muli v6498 c128_i32_2558
  let v6500 : BitVec 32 := v6499
  let v6503 : Index := Scalar.indexCast v6500
  ![v6502.toNat, 0, v6503.toNat]

def k1_chk114 (v6477 : BitVec 32) (v6479 : BitVec 32) : Prop :=
  (128 ∣ (k1_mult114 v6479).toNat) ∧
  (∀ a, (k1_off356 v6477 v6479) a + S1x16x512.size a ≤ S384x16x1152.size a)
theorem k1_mult114_dvd : ∀ (v6477 : BitVec 32) (v6479 : BitVec 32) (k1_hw114 : k1_chk114 v6477 v6479), 128 ∣ (k1_mult114 v6479).toNat := fun v6477 v6479 k1_hw114 => k1_hw114.1
theorem k1_off356_inb : ∀ (v6477 : BitVec 32) (v6479 : BitVec 32) (k1_hw114 : k1_chk114 v6477 v6479), ∀ a, (k1_off356 v6477 v6479) a + S1x16x512.size a ≤ S384x16x1152.size a := fun v6477 v6479 k1_hw114 => k1_hw114.2

def k1_off357 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6513 : Index := Scalar.indexCast v6402
  let c1_2562 : Index := 1#32
  ![v6513.toNat, 1]
def k1_off358 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6529 : Index := Scalar.indexCast v6402
  let c2_2568 : Index := 2#32
  ![v6529.toNat, 2]
def k1_mult115 (v6532 : BitVec 32) : BitVec 32 :=
  let c0_i32_2572 : BitVec 32 := 0#32
  let v6536 : BitVec 1 := Scalar.cmpi .sgt v6532 c0_i32_2572
  let v6537 : BitVec 32 := Scalar.extui v6536
  let c0_i32_2573 : BitVec 32 := 0#32
  let v6538 : BitVec 1 := Scalar.cmpi .slt v6532 c0_i32_2573
  let v6539 : BitVec 32 := Scalar.extui v6538
  let v6540 : BitVec 32 := Scalar.subi v6537 v6539
  let c128_i32_2571 : BitVec 32 := 128#32
  let c0_i32_2574 : BitVec 32 := 0#32
  let v6541 : BitVec 1 := Scalar.cmpi .sgt c128_i32_2571 c0_i32_2574
  let v6542 : BitVec 32 := Scalar.extui v6541
  let c0_i32_2575 : BitVec 32 := 0#32
  let v6543 : BitVec 1 := Scalar.cmpi .slt c128_i32_2571 c0_i32_2575
  let v6544 : BitVec 32 := Scalar.extui v6543
  let v6545 : BitVec 32 := Scalar.subi v6542 v6544
  let v6546 : BitVec 1 := Scalar.cmpi .ne v6540 v6545
  let v6547 : BitVec 32 := Scalar.remsi v6532 c128_i32_2571
  let c0_i32_2576 : BitVec 32 := 0#32
  let v6548 : BitVec 1 := Scalar.cmpi .ne v6547 c0_i32_2576
  let v6549 : BitVec 1 := Scalar.andi v6546 v6548
  let v6535 : BitVec 32 := Scalar.divsi v6532 c128_i32_2571
  let c1_i32_2577 : BitVec 32 := 1#32
  let v6550 : BitVec 32 := Scalar.subi v6535 c1_i32_2577
  let v6551 : BitVec 32 := Scalar.select v6549 v6550 v6535
  let c128_i32_2578 : BitVec 32 := 128#32
  let v6552 : BitVec 32 := Scalar.muli v6551 c128_i32_2578
  v6552

def k1_off359 (v6530 : BitVec 32) (v6532 : BitVec 32) : Fin 3 → Nat :=
  let v6555 : Index := Scalar.indexCast v6530
  let c0_2579 : Index := 0#32
  let c0_i32_2572 : BitVec 32 := 0#32
  let v6536 : BitVec 1 := Scalar.cmpi .sgt v6532 c0_i32_2572
  let v6537 : BitVec 32 := Scalar.extui v6536
  let c0_i32_2573 : BitVec 32 := 0#32
  let v6538 : BitVec 1 := Scalar.cmpi .slt v6532 c0_i32_2573
  let v6539 : BitVec 32 := Scalar.extui v6538
  let v6540 : BitVec 32 := Scalar.subi v6537 v6539
  let c128_i32_2571 : BitVec 32 := 128#32
  let c0_i32_2574 : BitVec 32 := 0#32
  let v6541 : BitVec 1 := Scalar.cmpi .sgt c128_i32_2571 c0_i32_2574
  let v6542 : BitVec 32 := Scalar.extui v6541
  let c0_i32_2575 : BitVec 32 := 0#32
  let v6543 : BitVec 1 := Scalar.cmpi .slt c128_i32_2571 c0_i32_2575
  let v6544 : BitVec 32 := Scalar.extui v6543
  let v6545 : BitVec 32 := Scalar.subi v6542 v6544
  let v6546 : BitVec 1 := Scalar.cmpi .ne v6540 v6545
  let v6547 : BitVec 32 := Scalar.remsi v6532 c128_i32_2571
  let c0_i32_2576 : BitVec 32 := 0#32
  let v6548 : BitVec 1 := Scalar.cmpi .ne v6547 c0_i32_2576
  let v6549 : BitVec 1 := Scalar.andi v6546 v6548
  let v6535 : BitVec 32 := Scalar.divsi v6532 c128_i32_2571
  let c1_i32_2577 : BitVec 32 := 1#32
  let v6550 : BitVec 32 := Scalar.subi v6535 c1_i32_2577
  let v6551 : BitVec 32 := Scalar.select v6549 v6550 v6535
  let c128_i32_2578 : BitVec 32 := 128#32
  let v6552 : BitVec 32 := Scalar.muli v6551 c128_i32_2578
  let v6553 : BitVec 32 := v6552
  let v6556 : Index := Scalar.indexCast v6553
  ![v6555.toNat, 0, v6556.toNat]

def k1_chk115 (v6530 : BitVec 32) (v6532 : BitVec 32) : Prop :=
  (128 ∣ (k1_mult115 v6532).toNat) ∧
  (∀ a, (k1_off359 v6530 v6532) a + S1x16x512.size a ≤ S384x16x1152.size a)
theorem k1_mult115_dvd : ∀ (v6530 : BitVec 32) (v6532 : BitVec 32) (k1_hw115 : k1_chk115 v6530 v6532), 128 ∣ (k1_mult115 v6532).toNat := fun v6530 v6532 k1_hw115 => k1_hw115.1
theorem k1_off359_inb : ∀ (v6530 : BitVec 32) (v6532 : BitVec 32) (k1_hw115 : k1_chk115 v6530 v6532), ∀ a, (k1_off359 v6530 v6532) a + S1x16x512.size a ≤ S384x16x1152.size a := fun v6530 v6532 k1_hw115 => k1_hw115.2

def k1_off360 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6566 : Index := Scalar.indexCast v6402
  let c2_2582 : Index := 2#32
  ![v6566.toNat, 2]
def k1_off361 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6582 : Index := Scalar.indexCast v6402
  let c3_2588 : Index := 3#32
  ![v6582.toNat, 3]
def k1_mult116 (v6585 : BitVec 32) : BitVec 32 :=
  let c0_i32_2592 : BitVec 32 := 0#32
  let v6589 : BitVec 1 := Scalar.cmpi .sgt v6585 c0_i32_2592
  let v6590 : BitVec 32 := Scalar.extui v6589
  let c0_i32_2593 : BitVec 32 := 0#32
  let v6591 : BitVec 1 := Scalar.cmpi .slt v6585 c0_i32_2593
  let v6592 : BitVec 32 := Scalar.extui v6591
  let v6593 : BitVec 32 := Scalar.subi v6590 v6592
  let c128_i32_2591 : BitVec 32 := 128#32
  let c0_i32_2594 : BitVec 32 := 0#32
  let v6594 : BitVec 1 := Scalar.cmpi .sgt c128_i32_2591 c0_i32_2594
  let v6595 : BitVec 32 := Scalar.extui v6594
  let c0_i32_2595 : BitVec 32 := 0#32
  let v6596 : BitVec 1 := Scalar.cmpi .slt c128_i32_2591 c0_i32_2595
  let v6597 : BitVec 32 := Scalar.extui v6596
  let v6598 : BitVec 32 := Scalar.subi v6595 v6597
  let v6599 : BitVec 1 := Scalar.cmpi .ne v6593 v6598
  let v6600 : BitVec 32 := Scalar.remsi v6585 c128_i32_2591
  let c0_i32_2596 : BitVec 32 := 0#32
  let v6601 : BitVec 1 := Scalar.cmpi .ne v6600 c0_i32_2596
  let v6602 : BitVec 1 := Scalar.andi v6599 v6601
  let v6588 : BitVec 32 := Scalar.divsi v6585 c128_i32_2591
  let c1_i32_2597 : BitVec 32 := 1#32
  let v6603 : BitVec 32 := Scalar.subi v6588 c1_i32_2597
  let v6604 : BitVec 32 := Scalar.select v6602 v6603 v6588
  let c128_i32_2598 : BitVec 32 := 128#32
  let v6605 : BitVec 32 := Scalar.muli v6604 c128_i32_2598
  v6605

def k1_off362 (v6583 : BitVec 32) (v6585 : BitVec 32) : Fin 3 → Nat :=
  let v6608 : Index := Scalar.indexCast v6583
  let c0_2599 : Index := 0#32
  let c0_i32_2592 : BitVec 32 := 0#32
  let v6589 : BitVec 1 := Scalar.cmpi .sgt v6585 c0_i32_2592
  let v6590 : BitVec 32 := Scalar.extui v6589
  let c0_i32_2593 : BitVec 32 := 0#32
  let v6591 : BitVec 1 := Scalar.cmpi .slt v6585 c0_i32_2593
  let v6592 : BitVec 32 := Scalar.extui v6591
  let v6593 : BitVec 32 := Scalar.subi v6590 v6592
  let c128_i32_2591 : BitVec 32 := 128#32
  let c0_i32_2594 : BitVec 32 := 0#32
  let v6594 : BitVec 1 := Scalar.cmpi .sgt c128_i32_2591 c0_i32_2594
  let v6595 : BitVec 32 := Scalar.extui v6594
  let c0_i32_2595 : BitVec 32 := 0#32
  let v6596 : BitVec 1 := Scalar.cmpi .slt c128_i32_2591 c0_i32_2595
  let v6597 : BitVec 32 := Scalar.extui v6596
  let v6598 : BitVec 32 := Scalar.subi v6595 v6597
  let v6599 : BitVec 1 := Scalar.cmpi .ne v6593 v6598
  let v6600 : BitVec 32 := Scalar.remsi v6585 c128_i32_2591
  let c0_i32_2596 : BitVec 32 := 0#32
  let v6601 : BitVec 1 := Scalar.cmpi .ne v6600 c0_i32_2596
  let v6602 : BitVec 1 := Scalar.andi v6599 v6601
  let v6588 : BitVec 32 := Scalar.divsi v6585 c128_i32_2591
  let c1_i32_2597 : BitVec 32 := 1#32
  let v6603 : BitVec 32 := Scalar.subi v6588 c1_i32_2597
  let v6604 : BitVec 32 := Scalar.select v6602 v6603 v6588
  let c128_i32_2598 : BitVec 32 := 128#32
  let v6605 : BitVec 32 := Scalar.muli v6604 c128_i32_2598
  let v6606 : BitVec 32 := v6605
  let v6609 : Index := Scalar.indexCast v6606
  ![v6608.toNat, 0, v6609.toNat]

def k1_chk116 (v6583 : BitVec 32) (v6585 : BitVec 32) : Prop :=
  (128 ∣ (k1_mult116 v6585).toNat) ∧
  (∀ a, (k1_off362 v6583 v6585) a + S1x16x512.size a ≤ S384x16x1152.size a)
theorem k1_mult116_dvd : ∀ (v6583 : BitVec 32) (v6585 : BitVec 32) (k1_hw116 : k1_chk116 v6583 v6585), 128 ∣ (k1_mult116 v6585).toNat := fun v6583 v6585 k1_hw116 => k1_hw116.1
theorem k1_off362_inb : ∀ (v6583 : BitVec 32) (v6585 : BitVec 32) (k1_hw116 : k1_chk116 v6583 v6585), ∀ a, (k1_off362 v6583 v6585) a + S1x16x512.size a ≤ S384x16x1152.size a := fun v6583 v6585 k1_hw116 => k1_hw116.2

def k1_off363 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6619 : Index := Scalar.indexCast v6402
  let c3_2602 : Index := 3#32
  ![v6619.toNat, 3]
def k1_off364 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6635 : Index := Scalar.indexCast v6402
  let c4_2608 : Index := 4#32
  ![v6635.toNat, 4]
def k1_mult117 (v6638 : BitVec 32) : BitVec 32 :=
  let c0_i32_2612 : BitVec 32 := 0#32
  let v6642 : BitVec 1 := Scalar.cmpi .sgt v6638 c0_i32_2612
  let v6643 : BitVec 32 := Scalar.extui v6642
  let c0_i32_2613 : BitVec 32 := 0#32
  let v6644 : BitVec 1 := Scalar.cmpi .slt v6638 c0_i32_2613
  let v6645 : BitVec 32 := Scalar.extui v6644
  let v6646 : BitVec 32 := Scalar.subi v6643 v6645
  let c128_i32_2611 : BitVec 32 := 128#32
  let c0_i32_2614 : BitVec 32 := 0#32
  let v6647 : BitVec 1 := Scalar.cmpi .sgt c128_i32_2611 c0_i32_2614
  let v6648 : BitVec 32 := Scalar.extui v6647
  let c0_i32_2615 : BitVec 32 := 0#32
  let v6649 : BitVec 1 := Scalar.cmpi .slt c128_i32_2611 c0_i32_2615
  let v6650 : BitVec 32 := Scalar.extui v6649
  let v6651 : BitVec 32 := Scalar.subi v6648 v6650
  let v6652 : BitVec 1 := Scalar.cmpi .ne v6646 v6651
  let v6653 : BitVec 32 := Scalar.remsi v6638 c128_i32_2611
  let c0_i32_2616 : BitVec 32 := 0#32
  let v6654 : BitVec 1 := Scalar.cmpi .ne v6653 c0_i32_2616
  let v6655 : BitVec 1 := Scalar.andi v6652 v6654
  let v6641 : BitVec 32 := Scalar.divsi v6638 c128_i32_2611
  let c1_i32_2617 : BitVec 32 := 1#32
  let v6656 : BitVec 32 := Scalar.subi v6641 c1_i32_2617
  let v6657 : BitVec 32 := Scalar.select v6655 v6656 v6641
  let c128_i32_2618 : BitVec 32 := 128#32
  let v6658 : BitVec 32 := Scalar.muli v6657 c128_i32_2618
  v6658

def k1_off365 (v6636 : BitVec 32) (v6638 : BitVec 32) : Fin 3 → Nat :=
  let v6661 : Index := Scalar.indexCast v6636
  let c0_2619 : Index := 0#32
  let c0_i32_2612 : BitVec 32 := 0#32
  let v6642 : BitVec 1 := Scalar.cmpi .sgt v6638 c0_i32_2612
  let v6643 : BitVec 32 := Scalar.extui v6642
  let c0_i32_2613 : BitVec 32 := 0#32
  let v6644 : BitVec 1 := Scalar.cmpi .slt v6638 c0_i32_2613
  let v6645 : BitVec 32 := Scalar.extui v6644
  let v6646 : BitVec 32 := Scalar.subi v6643 v6645
  let c128_i32_2611 : BitVec 32 := 128#32
  let c0_i32_2614 : BitVec 32 := 0#32
  let v6647 : BitVec 1 := Scalar.cmpi .sgt c128_i32_2611 c0_i32_2614
  let v6648 : BitVec 32 := Scalar.extui v6647
  let c0_i32_2615 : BitVec 32 := 0#32
  let v6649 : BitVec 1 := Scalar.cmpi .slt c128_i32_2611 c0_i32_2615
  let v6650 : BitVec 32 := Scalar.extui v6649
  let v6651 : BitVec 32 := Scalar.subi v6648 v6650
  let v6652 : BitVec 1 := Scalar.cmpi .ne v6646 v6651
  let v6653 : BitVec 32 := Scalar.remsi v6638 c128_i32_2611
  let c0_i32_2616 : BitVec 32 := 0#32
  let v6654 : BitVec 1 := Scalar.cmpi .ne v6653 c0_i32_2616
  let v6655 : BitVec 1 := Scalar.andi v6652 v6654
  let v6641 : BitVec 32 := Scalar.divsi v6638 c128_i32_2611
  let c1_i32_2617 : BitVec 32 := 1#32
  let v6656 : BitVec 32 := Scalar.subi v6641 c1_i32_2617
  let v6657 : BitVec 32 := Scalar.select v6655 v6656 v6641
  let c128_i32_2618 : BitVec 32 := 128#32
  let v6658 : BitVec 32 := Scalar.muli v6657 c128_i32_2618
  let v6659 : BitVec 32 := v6658
  let v6662 : Index := Scalar.indexCast v6659
  ![v6661.toNat, 0, v6662.toNat]

def k1_chk117 (v6636 : BitVec 32) (v6638 : BitVec 32) : Prop :=
  (128 ∣ (k1_mult117 v6638).toNat) ∧
  (∀ a, (k1_off365 v6636 v6638) a + S1x16x512.size a ≤ S384x16x1152.size a)
theorem k1_mult117_dvd : ∀ (v6636 : BitVec 32) (v6638 : BitVec 32) (k1_hw117 : k1_chk117 v6636 v6638), 128 ∣ (k1_mult117 v6638).toNat := fun v6636 v6638 k1_hw117 => k1_hw117.1
theorem k1_off365_inb : ∀ (v6636 : BitVec 32) (v6638 : BitVec 32) (k1_hw117 : k1_chk117 v6636 v6638), ∀ a, (k1_off365 v6636 v6638) a + S1x16x512.size a ≤ S384x16x1152.size a := fun v6636 v6638 k1_hw117 => k1_hw117.2

def k1_off366 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6672 : Index := Scalar.indexCast v6402
  let c4_2622 : Index := 4#32
  ![v6672.toNat, 4]
def k1_off367 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6688 : Index := Scalar.indexCast v6402
  let c5_2628 : Index := 5#32
  ![v6688.toNat, 5]
def k1_mult118 (v6691 : BitVec 32) : BitVec 32 :=
  let c0_i32_2632 : BitVec 32 := 0#32
  let v6695 : BitVec 1 := Scalar.cmpi .sgt v6691 c0_i32_2632
  let v6696 : BitVec 32 := Scalar.extui v6695
  let c0_i32_2633 : BitVec 32 := 0#32
  let v6697 : BitVec 1 := Scalar.cmpi .slt v6691 c0_i32_2633
  let v6698 : BitVec 32 := Scalar.extui v6697
  let v6699 : BitVec 32 := Scalar.subi v6696 v6698
  let c128_i32_2631 : BitVec 32 := 128#32
  let c0_i32_2634 : BitVec 32 := 0#32
  let v6700 : BitVec 1 := Scalar.cmpi .sgt c128_i32_2631 c0_i32_2634
  let v6701 : BitVec 32 := Scalar.extui v6700
  let c0_i32_2635 : BitVec 32 := 0#32
  let v6702 : BitVec 1 := Scalar.cmpi .slt c128_i32_2631 c0_i32_2635
  let v6703 : BitVec 32 := Scalar.extui v6702
  let v6704 : BitVec 32 := Scalar.subi v6701 v6703
  let v6705 : BitVec 1 := Scalar.cmpi .ne v6699 v6704
  let v6706 : BitVec 32 := Scalar.remsi v6691 c128_i32_2631
  let c0_i32_2636 : BitVec 32 := 0#32
  let v6707 : BitVec 1 := Scalar.cmpi .ne v6706 c0_i32_2636
  let v6708 : BitVec 1 := Scalar.andi v6705 v6707
  let v6694 : BitVec 32 := Scalar.divsi v6691 c128_i32_2631
  let c1_i32_2637 : BitVec 32 := 1#32
  let v6709 : BitVec 32 := Scalar.subi v6694 c1_i32_2637
  let v6710 : BitVec 32 := Scalar.select v6708 v6709 v6694
  let c128_i32_2638 : BitVec 32 := 128#32
  let v6711 : BitVec 32 := Scalar.muli v6710 c128_i32_2638
  v6711

def k1_off368 (v6689 : BitVec 32) (v6691 : BitVec 32) : Fin 3 → Nat :=
  let v6714 : Index := Scalar.indexCast v6689
  let c0_2639 : Index := 0#32
  let c0_i32_2632 : BitVec 32 := 0#32
  let v6695 : BitVec 1 := Scalar.cmpi .sgt v6691 c0_i32_2632
  let v6696 : BitVec 32 := Scalar.extui v6695
  let c0_i32_2633 : BitVec 32 := 0#32
  let v6697 : BitVec 1 := Scalar.cmpi .slt v6691 c0_i32_2633
  let v6698 : BitVec 32 := Scalar.extui v6697
  let v6699 : BitVec 32 := Scalar.subi v6696 v6698
  let c128_i32_2631 : BitVec 32 := 128#32
  let c0_i32_2634 : BitVec 32 := 0#32
  let v6700 : BitVec 1 := Scalar.cmpi .sgt c128_i32_2631 c0_i32_2634
  let v6701 : BitVec 32 := Scalar.extui v6700
  let c0_i32_2635 : BitVec 32 := 0#32
  let v6702 : BitVec 1 := Scalar.cmpi .slt c128_i32_2631 c0_i32_2635
  let v6703 : BitVec 32 := Scalar.extui v6702
  let v6704 : BitVec 32 := Scalar.subi v6701 v6703
  let v6705 : BitVec 1 := Scalar.cmpi .ne v6699 v6704
  let v6706 : BitVec 32 := Scalar.remsi v6691 c128_i32_2631
  let c0_i32_2636 : BitVec 32 := 0#32
  let v6707 : BitVec 1 := Scalar.cmpi .ne v6706 c0_i32_2636
  let v6708 : BitVec 1 := Scalar.andi v6705 v6707
  let v6694 : BitVec 32 := Scalar.divsi v6691 c128_i32_2631
  let c1_i32_2637 : BitVec 32 := 1#32
  let v6709 : BitVec 32 := Scalar.subi v6694 c1_i32_2637
  let v6710 : BitVec 32 := Scalar.select v6708 v6709 v6694
  let c128_i32_2638 : BitVec 32 := 128#32
  let v6711 : BitVec 32 := Scalar.muli v6710 c128_i32_2638
  let v6712 : BitVec 32 := v6711
  let v6715 : Index := Scalar.indexCast v6712
  ![v6714.toNat, 0, v6715.toNat]

def k1_chk118 (v6689 : BitVec 32) (v6691 : BitVec 32) : Prop :=
  (128 ∣ (k1_mult118 v6691).toNat) ∧
  (∀ a, (k1_off368 v6689 v6691) a + S1x16x512.size a ≤ S384x16x1152.size a)
theorem k1_mult118_dvd : ∀ (v6689 : BitVec 32) (v6691 : BitVec 32) (k1_hw118 : k1_chk118 v6689 v6691), 128 ∣ (k1_mult118 v6691).toNat := fun v6689 v6691 k1_hw118 => k1_hw118.1
theorem k1_off368_inb : ∀ (v6689 : BitVec 32) (v6691 : BitVec 32) (k1_hw118 : k1_chk118 v6689 v6691), ∀ a, (k1_off368 v6689 v6691) a + S1x16x512.size a ≤ S384x16x1152.size a := fun v6689 v6691 k1_hw118 => k1_hw118.2

def k1_off369 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6725 : Index := Scalar.indexCast v6402
  let c5_2642 : Index := 5#32
  ![v6725.toNat, 5]
def k1_off370 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6741 : Index := Scalar.indexCast v6402
  let c6_2648 : Index := 6#32
  ![v6741.toNat, 6]
def k1_mult119 (v6744 : BitVec 32) : BitVec 32 :=
  let c0_i32_2652 : BitVec 32 := 0#32
  let v6748 : BitVec 1 := Scalar.cmpi .sgt v6744 c0_i32_2652
  let v6749 : BitVec 32 := Scalar.extui v6748
  let c0_i32_2653 : BitVec 32 := 0#32
  let v6750 : BitVec 1 := Scalar.cmpi .slt v6744 c0_i32_2653
  let v6751 : BitVec 32 := Scalar.extui v6750
  let v6752 : BitVec 32 := Scalar.subi v6749 v6751
  let c128_i32_2651 : BitVec 32 := 128#32
  let c0_i32_2654 : BitVec 32 := 0#32
  let v6753 : BitVec 1 := Scalar.cmpi .sgt c128_i32_2651 c0_i32_2654
  let v6754 : BitVec 32 := Scalar.extui v6753
  let c0_i32_2655 : BitVec 32 := 0#32
  let v6755 : BitVec 1 := Scalar.cmpi .slt c128_i32_2651 c0_i32_2655
  let v6756 : BitVec 32 := Scalar.extui v6755
  let v6757 : BitVec 32 := Scalar.subi v6754 v6756
  let v6758 : BitVec 1 := Scalar.cmpi .ne v6752 v6757
  let v6759 : BitVec 32 := Scalar.remsi v6744 c128_i32_2651
  let c0_i32_2656 : BitVec 32 := 0#32
  let v6760 : BitVec 1 := Scalar.cmpi .ne v6759 c0_i32_2656
  let v6761 : BitVec 1 := Scalar.andi v6758 v6760
  let v6747 : BitVec 32 := Scalar.divsi v6744 c128_i32_2651
  let c1_i32_2657 : BitVec 32 := 1#32
  let v6762 : BitVec 32 := Scalar.subi v6747 c1_i32_2657
  let v6763 : BitVec 32 := Scalar.select v6761 v6762 v6747
  let c128_i32_2658 : BitVec 32 := 128#32
  let v6764 : BitVec 32 := Scalar.muli v6763 c128_i32_2658
  v6764

def k1_off371 (v6742 : BitVec 32) (v6744 : BitVec 32) : Fin 3 → Nat :=
  let v6767 : Index := Scalar.indexCast v6742
  let c0_2659 : Index := 0#32
  let c0_i32_2652 : BitVec 32 := 0#32
  let v6748 : BitVec 1 := Scalar.cmpi .sgt v6744 c0_i32_2652
  let v6749 : BitVec 32 := Scalar.extui v6748
  let c0_i32_2653 : BitVec 32 := 0#32
  let v6750 : BitVec 1 := Scalar.cmpi .slt v6744 c0_i32_2653
  let v6751 : BitVec 32 := Scalar.extui v6750
  let v6752 : BitVec 32 := Scalar.subi v6749 v6751
  let c128_i32_2651 : BitVec 32 := 128#32
  let c0_i32_2654 : BitVec 32 := 0#32
  let v6753 : BitVec 1 := Scalar.cmpi .sgt c128_i32_2651 c0_i32_2654
  let v6754 : BitVec 32 := Scalar.extui v6753
  let c0_i32_2655 : BitVec 32 := 0#32
  let v6755 : BitVec 1 := Scalar.cmpi .slt c128_i32_2651 c0_i32_2655
  let v6756 : BitVec 32 := Scalar.extui v6755
  let v6757 : BitVec 32 := Scalar.subi v6754 v6756
  let v6758 : BitVec 1 := Scalar.cmpi .ne v6752 v6757
  let v6759 : BitVec 32 := Scalar.remsi v6744 c128_i32_2651
  let c0_i32_2656 : BitVec 32 := 0#32
  let v6760 : BitVec 1 := Scalar.cmpi .ne v6759 c0_i32_2656
  let v6761 : BitVec 1 := Scalar.andi v6758 v6760
  let v6747 : BitVec 32 := Scalar.divsi v6744 c128_i32_2651
  let c1_i32_2657 : BitVec 32 := 1#32
  let v6762 : BitVec 32 := Scalar.subi v6747 c1_i32_2657
  let v6763 : BitVec 32 := Scalar.select v6761 v6762 v6747
  let c128_i32_2658 : BitVec 32 := 128#32
  let v6764 : BitVec 32 := Scalar.muli v6763 c128_i32_2658
  let v6765 : BitVec 32 := v6764
  let v6768 : Index := Scalar.indexCast v6765
  ![v6767.toNat, 0, v6768.toNat]

def k1_chk119 (v6742 : BitVec 32) (v6744 : BitVec 32) : Prop :=
  (128 ∣ (k1_mult119 v6744).toNat) ∧
  (∀ a, (k1_off371 v6742 v6744) a + S1x16x512.size a ≤ S384x16x1152.size a)
theorem k1_mult119_dvd : ∀ (v6742 : BitVec 32) (v6744 : BitVec 32) (k1_hw119 : k1_chk119 v6742 v6744), 128 ∣ (k1_mult119 v6744).toNat := fun v6742 v6744 k1_hw119 => k1_hw119.1
theorem k1_off371_inb : ∀ (v6742 : BitVec 32) (v6744 : BitVec 32) (k1_hw119 : k1_chk119 v6742 v6744), ∀ a, (k1_off371 v6742 v6744) a + S1x16x512.size a ≤ S384x16x1152.size a := fun v6742 v6744 k1_hw119 => k1_hw119.2

def k1_off372 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6778 : Index := Scalar.indexCast v6402
  let c6_2662 : Index := 6#32
  ![v6778.toNat, 6]
def k1_off373 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6794 : Index := Scalar.indexCast v6402
  let c7_2668 : Index := 7#32
  ![v6794.toNat, 7]
def k1_mult120 (v6797 : BitVec 32) : BitVec 32 :=
  let c0_i32_2672 : BitVec 32 := 0#32
  let v6801 : BitVec 1 := Scalar.cmpi .sgt v6797 c0_i32_2672
  let v6802 : BitVec 32 := Scalar.extui v6801
  let c0_i32_2673 : BitVec 32 := 0#32
  let v6803 : BitVec 1 := Scalar.cmpi .slt v6797 c0_i32_2673
  let v6804 : BitVec 32 := Scalar.extui v6803
  let v6805 : BitVec 32 := Scalar.subi v6802 v6804
  let c128_i32_2671 : BitVec 32 := 128#32
  let c0_i32_2674 : BitVec 32 := 0#32
  let v6806 : BitVec 1 := Scalar.cmpi .sgt c128_i32_2671 c0_i32_2674
  let v6807 : BitVec 32 := Scalar.extui v6806
  let c0_i32_2675 : BitVec 32 := 0#32
  let v6808 : BitVec 1 := Scalar.cmpi .slt c128_i32_2671 c0_i32_2675
  let v6809 : BitVec 32 := Scalar.extui v6808
  let v6810 : BitVec 32 := Scalar.subi v6807 v6809
  let v6811 : BitVec 1 := Scalar.cmpi .ne v6805 v6810
  let v6812 : BitVec 32 := Scalar.remsi v6797 c128_i32_2671
  let c0_i32_2676 : BitVec 32 := 0#32
  let v6813 : BitVec 1 := Scalar.cmpi .ne v6812 c0_i32_2676
  let v6814 : BitVec 1 := Scalar.andi v6811 v6813
  let v6800 : BitVec 32 := Scalar.divsi v6797 c128_i32_2671
  let c1_i32_2677 : BitVec 32 := 1#32
  let v6815 : BitVec 32 := Scalar.subi v6800 c1_i32_2677
  let v6816 : BitVec 32 := Scalar.select v6814 v6815 v6800
  let c128_i32_2678 : BitVec 32 := 128#32
  let v6817 : BitVec 32 := Scalar.muli v6816 c128_i32_2678
  v6817

def k1_off374 (v6795 : BitVec 32) (v6797 : BitVec 32) : Fin 3 → Nat :=
  let v6820 : Index := Scalar.indexCast v6795
  let c0_2679 : Index := 0#32
  let c0_i32_2672 : BitVec 32 := 0#32
  let v6801 : BitVec 1 := Scalar.cmpi .sgt v6797 c0_i32_2672
  let v6802 : BitVec 32 := Scalar.extui v6801
  let c0_i32_2673 : BitVec 32 := 0#32
  let v6803 : BitVec 1 := Scalar.cmpi .slt v6797 c0_i32_2673
  let v6804 : BitVec 32 := Scalar.extui v6803
  let v6805 : BitVec 32 := Scalar.subi v6802 v6804
  let c128_i32_2671 : BitVec 32 := 128#32
  let c0_i32_2674 : BitVec 32 := 0#32
  let v6806 : BitVec 1 := Scalar.cmpi .sgt c128_i32_2671 c0_i32_2674
  let v6807 : BitVec 32 := Scalar.extui v6806
  let c0_i32_2675 : BitVec 32 := 0#32
  let v6808 : BitVec 1 := Scalar.cmpi .slt c128_i32_2671 c0_i32_2675
  let v6809 : BitVec 32 := Scalar.extui v6808
  let v6810 : BitVec 32 := Scalar.subi v6807 v6809
  let v6811 : BitVec 1 := Scalar.cmpi .ne v6805 v6810
  let v6812 : BitVec 32 := Scalar.remsi v6797 c128_i32_2671
  let c0_i32_2676 : BitVec 32 := 0#32
  let v6813 : BitVec 1 := Scalar.cmpi .ne v6812 c0_i32_2676
  let v6814 : BitVec 1 := Scalar.andi v6811 v6813
  let v6800 : BitVec 32 := Scalar.divsi v6797 c128_i32_2671
  let c1_i32_2677 : BitVec 32 := 1#32
  let v6815 : BitVec 32 := Scalar.subi v6800 c1_i32_2677
  let v6816 : BitVec 32 := Scalar.select v6814 v6815 v6800
  let c128_i32_2678 : BitVec 32 := 128#32
  let v6817 : BitVec 32 := Scalar.muli v6816 c128_i32_2678
  let v6818 : BitVec 32 := v6817
  let v6821 : Index := Scalar.indexCast v6818
  ![v6820.toNat, 0, v6821.toNat]

def k1_chk120 (v6795 : BitVec 32) (v6797 : BitVec 32) : Prop :=
  (128 ∣ (k1_mult120 v6797).toNat) ∧
  (∀ a, (k1_off374 v6795 v6797) a + S1x16x512.size a ≤ S384x16x1152.size a)
theorem k1_mult120_dvd : ∀ (v6795 : BitVec 32) (v6797 : BitVec 32) (k1_hw120 : k1_chk120 v6795 v6797), 128 ∣ (k1_mult120 v6797).toNat := fun v6795 v6797 k1_hw120 => k1_hw120.1
theorem k1_off374_inb : ∀ (v6795 : BitVec 32) (v6797 : BitVec 32) (k1_hw120 : k1_chk120 v6795 v6797), ∀ a, (k1_off374 v6795 v6797) a + S1x16x512.size a ≤ S384x16x1152.size a := fun v6795 v6797 k1_hw120 => k1_hw120.2

def k1_off375 (i : grid1.Coords) : Fin 2 → Nat :=
  let arg0 : BitVec 32 := BitVec.ofNat 32 (i 0).val
  let c48_i32_2517 : BitVec 32 := 48#32
  let v6401 : BitVec 32 := Scalar.muli arg0 c48_i32_2517
  let c14_i32 : BitVec 32 := 14#32
  let v6402 : BitVec 32 := Scalar.addi v6401 c14_i32
  let v6831 : Index := Scalar.indexCast v6402
  let c7_2682 : Index := 7#32
  ![v6831.toNat, 7]
def k1_off376 (i : grid1.Coords) : Fin 3 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6860 : Index := Scalar.indexCast v6859
  let c0_2698 : Index := 0#32
  let c720_2699 : Index := 720#32
  ![v6860.toNat, 0, 720]
def k1_off377 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6880 : Index := Scalar.indexCast v6859
  let c0_2708 : Index := 0#32
  ![v6880.toNat, 0]
def k1_mult121 (v6883 : BitVec 32) : BitVec 32 :=
  let c0_i32_2712 : BitVec 32 := 0#32
  let v6887 : BitVec 1 := Scalar.cmpi .sgt v6883 c0_i32_2712
  let v6888 : BitVec 32 := Scalar.extui v6887
  let c0_i32_2713 : BitVec 32 := 0#32
  let v6889 : BitVec 1 := Scalar.cmpi .slt v6883 c0_i32_2713
  let v6890 : BitVec 32 := Scalar.extui v6889
  let v6891 : BitVec 32 := Scalar.subi v6888 v6890
  let c128_i32_2711 : BitVec 32 := 128#32
  let c0_i32_2714 : BitVec 32 := 0#32
  let v6892 : BitVec 1 := Scalar.cmpi .sgt c128_i32_2711 c0_i32_2714
  let v6893 : BitVec 32 := Scalar.extui v6892
  let c0_i32_2715 : BitVec 32 := 0#32
  let v6894 : BitVec 1 := Scalar.cmpi .slt c128_i32_2711 c0_i32_2715
  let v6895 : BitVec 32 := Scalar.extui v6894
  let v6896 : BitVec 32 := Scalar.subi v6893 v6895
  let v6897 : BitVec 1 := Scalar.cmpi .ne v6891 v6896
  let v6898 : BitVec 32 := Scalar.remsi v6883 c128_i32_2711
  let c0_i32_2716 : BitVec 32 := 0#32
  let v6899 : BitVec 1 := Scalar.cmpi .ne v6898 c0_i32_2716
  let v6900 : BitVec 1 := Scalar.andi v6897 v6899
  let v6886 : BitVec 32 := Scalar.divsi v6883 c128_i32_2711
  let c1_i32_2717 : BitVec 32 := 1#32
  let v6901 : BitVec 32 := Scalar.subi v6886 c1_i32_2717
  let v6902 : BitVec 32 := Scalar.select v6900 v6901 v6886
  let c128_i32_2718 : BitVec 32 := 128#32
  let v6903 : BitVec 32 := Scalar.muli v6902 c128_i32_2718
  v6903

def k1_off378 (v6881 : BitVec 32) (v6883 : BitVec 32) : Fin 3 → Nat :=
  let v6906 : Index := Scalar.indexCast v6881
  let c0_2719 : Index := 0#32
  let c0_i32_2712 : BitVec 32 := 0#32
  let v6887 : BitVec 1 := Scalar.cmpi .sgt v6883 c0_i32_2712
  let v6888 : BitVec 32 := Scalar.extui v6887
  let c0_i32_2713 : BitVec 32 := 0#32
  let v6889 : BitVec 1 := Scalar.cmpi .slt v6883 c0_i32_2713
  let v6890 : BitVec 32 := Scalar.extui v6889
  let v6891 : BitVec 32 := Scalar.subi v6888 v6890
  let c128_i32_2711 : BitVec 32 := 128#32
  let c0_i32_2714 : BitVec 32 := 0#32
  let v6892 : BitVec 1 := Scalar.cmpi .sgt c128_i32_2711 c0_i32_2714
  let v6893 : BitVec 32 := Scalar.extui v6892
  let c0_i32_2715 : BitVec 32 := 0#32
  let v6894 : BitVec 1 := Scalar.cmpi .slt c128_i32_2711 c0_i32_2715
  let v6895 : BitVec 32 := Scalar.extui v6894
  let v6896 : BitVec 32 := Scalar.subi v6893 v6895
  let v6897 : BitVec 1 := Scalar.cmpi .ne v6891 v6896
  let v6898 : BitVec 32 := Scalar.remsi v6883 c128_i32_2711
  let c0_i32_2716 : BitVec 32 := 0#32
  let v6899 : BitVec 1 := Scalar.cmpi .ne v6898 c0_i32_2716
  let v6900 : BitVec 1 := Scalar.andi v6897 v6899
  let v6886 : BitVec 32 := Scalar.divsi v6883 c128_i32_2711
  let c1_i32_2717 : BitVec 32 := 1#32
  let v6901 : BitVec 32 := Scalar.subi v6886 c1_i32_2717
  let v6902 : BitVec 32 := Scalar.select v6900 v6901 v6886
  let c128_i32_2718 : BitVec 32 := 128#32
  let v6903 : BitVec 32 := Scalar.muli v6902 c128_i32_2718
  let v6904 : BitVec 32 := v6903
  let v6907 : Index := Scalar.indexCast v6904
  ![v6906.toNat, 0, v6907.toNat]

def k1_chk121 (v6881 : BitVec 32) (v6883 : BitVec 32) : Prop :=
  (128 ∣ (k1_mult121 v6883).toNat) ∧
  (∀ a, (k1_off378 v6881 v6883) a + S1x16x512.size a ≤ S384x16x1152.size a)
theorem k1_mult121_dvd : ∀ (v6881 : BitVec 32) (v6883 : BitVec 32) (k1_hw121 : k1_chk121 v6881 v6883), 128 ∣ (k1_mult121 v6883).toNat := fun v6881 v6883 k1_hw121 => k1_hw121.1
theorem k1_off378_inb : ∀ (v6881 : BitVec 32) (v6883 : BitVec 32) (k1_hw121 : k1_chk121 v6881 v6883), ∀ a, (k1_off378 v6881 v6883) a + S1x16x512.size a ≤ S384x16x1152.size a := fun v6881 v6883 k1_hw121 => k1_hw121.2

def k1_off379 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6917 : Index := Scalar.indexCast v6859
  let c0_2722 : Index := 0#32
  ![v6917.toNat, 0]
def k1_off380 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6933 : Index := Scalar.indexCast v6859
  let c1_2728 : Index := 1#32
  ![v6933.toNat, 1]
def k1_mult122 (v6936 : BitVec 32) : BitVec 32 :=
  let c0_i32_2732 : BitVec 32 := 0#32
  let v6940 : BitVec 1 := Scalar.cmpi .sgt v6936 c0_i32_2732
  let v6941 : BitVec 32 := Scalar.extui v6940
  let c0_i32_2733 : BitVec 32 := 0#32
  let v6942 : BitVec 1 := Scalar.cmpi .slt v6936 c0_i32_2733
  let v6943 : BitVec 32 := Scalar.extui v6942
  let v6944 : BitVec 32 := Scalar.subi v6941 v6943
  let c128_i32_2731 : BitVec 32 := 128#32
  let c0_i32_2734 : BitVec 32 := 0#32
  let v6945 : BitVec 1 := Scalar.cmpi .sgt c128_i32_2731 c0_i32_2734
  let v6946 : BitVec 32 := Scalar.extui v6945
  let c0_i32_2735 : BitVec 32 := 0#32
  let v6947 : BitVec 1 := Scalar.cmpi .slt c128_i32_2731 c0_i32_2735
  let v6948 : BitVec 32 := Scalar.extui v6947
  let v6949 : BitVec 32 := Scalar.subi v6946 v6948
  let v6950 : BitVec 1 := Scalar.cmpi .ne v6944 v6949
  let v6951 : BitVec 32 := Scalar.remsi v6936 c128_i32_2731
  let c0_i32_2736 : BitVec 32 := 0#32
  let v6952 : BitVec 1 := Scalar.cmpi .ne v6951 c0_i32_2736
  let v6953 : BitVec 1 := Scalar.andi v6950 v6952
  let v6939 : BitVec 32 := Scalar.divsi v6936 c128_i32_2731
  let c1_i32_2737 : BitVec 32 := 1#32
  let v6954 : BitVec 32 := Scalar.subi v6939 c1_i32_2737
  let v6955 : BitVec 32 := Scalar.select v6953 v6954 v6939
  let c128_i32_2738 : BitVec 32 := 128#32
  let v6956 : BitVec 32 := Scalar.muli v6955 c128_i32_2738
  v6956

def k1_off381 (v6934 : BitVec 32) (v6936 : BitVec 32) : Fin 3 → Nat :=
  let v6959 : Index := Scalar.indexCast v6934
  let c0_2739 : Index := 0#32
  let c0_i32_2732 : BitVec 32 := 0#32
  let v6940 : BitVec 1 := Scalar.cmpi .sgt v6936 c0_i32_2732
  let v6941 : BitVec 32 := Scalar.extui v6940
  let c0_i32_2733 : BitVec 32 := 0#32
  let v6942 : BitVec 1 := Scalar.cmpi .slt v6936 c0_i32_2733
  let v6943 : BitVec 32 := Scalar.extui v6942
  let v6944 : BitVec 32 := Scalar.subi v6941 v6943
  let c128_i32_2731 : BitVec 32 := 128#32
  let c0_i32_2734 : BitVec 32 := 0#32
  let v6945 : BitVec 1 := Scalar.cmpi .sgt c128_i32_2731 c0_i32_2734
  let v6946 : BitVec 32 := Scalar.extui v6945
  let c0_i32_2735 : BitVec 32 := 0#32
  let v6947 : BitVec 1 := Scalar.cmpi .slt c128_i32_2731 c0_i32_2735
  let v6948 : BitVec 32 := Scalar.extui v6947
  let v6949 : BitVec 32 := Scalar.subi v6946 v6948
  let v6950 : BitVec 1 := Scalar.cmpi .ne v6944 v6949
  let v6951 : BitVec 32 := Scalar.remsi v6936 c128_i32_2731
  let c0_i32_2736 : BitVec 32 := 0#32
  let v6952 : BitVec 1 := Scalar.cmpi .ne v6951 c0_i32_2736
  let v6953 : BitVec 1 := Scalar.andi v6950 v6952
  let v6939 : BitVec 32 := Scalar.divsi v6936 c128_i32_2731
  let c1_i32_2737 : BitVec 32 := 1#32
  let v6954 : BitVec 32 := Scalar.subi v6939 c1_i32_2737
  let v6955 : BitVec 32 := Scalar.select v6953 v6954 v6939
  let c128_i32_2738 : BitVec 32 := 128#32
  let v6956 : BitVec 32 := Scalar.muli v6955 c128_i32_2738
  let v6957 : BitVec 32 := v6956
  let v6960 : Index := Scalar.indexCast v6957
  ![v6959.toNat, 0, v6960.toNat]

def k1_chk122 (v6934 : BitVec 32) (v6936 : BitVec 32) : Prop :=
  (128 ∣ (k1_mult122 v6936).toNat) ∧
  (∀ a, (k1_off381 v6934 v6936) a + S1x16x512.size a ≤ S384x16x1152.size a)
theorem k1_mult122_dvd : ∀ (v6934 : BitVec 32) (v6936 : BitVec 32) (k1_hw122 : k1_chk122 v6934 v6936), 128 ∣ (k1_mult122 v6936).toNat := fun v6934 v6936 k1_hw122 => k1_hw122.1
theorem k1_off381_inb : ∀ (v6934 : BitVec 32) (v6936 : BitVec 32) (k1_hw122 : k1_chk122 v6934 v6936), ∀ a, (k1_off381 v6934 v6936) a + S1x16x512.size a ≤ S384x16x1152.size a := fun v6934 v6936 k1_hw122 => k1_hw122.2

def k1_off382 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6970 : Index := Scalar.indexCast v6859
  let c1_2742 : Index := 1#32
  ![v6970.toNat, 1]
def k1_off383 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v6986 : Index := Scalar.indexCast v6859
  let c2_2748 : Index := 2#32
  ![v6986.toNat, 2]
def k1_mult123 (v6989 : BitVec 32) : BitVec 32 :=
  let c0_i32_2752 : BitVec 32 := 0#32
  let v6993 : BitVec 1 := Scalar.cmpi .sgt v6989 c0_i32_2752
  let v6994 : BitVec 32 := Scalar.extui v6993
  let c0_i32_2753 : BitVec 32 := 0#32
  let v6995 : BitVec 1 := Scalar.cmpi .slt v6989 c0_i32_2753
  let v6996 : BitVec 32 := Scalar.extui v6995
  let v6997 : BitVec 32 := Scalar.subi v6994 v6996
  let c128_i32_2751 : BitVec 32 := 128#32
  let c0_i32_2754 : BitVec 32 := 0#32
  let v6998 : BitVec 1 := Scalar.cmpi .sgt c128_i32_2751 c0_i32_2754
  let v6999 : BitVec 32 := Scalar.extui v6998
  let c0_i32_2755 : BitVec 32 := 0#32
  let v7000 : BitVec 1 := Scalar.cmpi .slt c128_i32_2751 c0_i32_2755
  let v7001 : BitVec 32 := Scalar.extui v7000
  let v7002 : BitVec 32 := Scalar.subi v6999 v7001
  let v7003 : BitVec 1 := Scalar.cmpi .ne v6997 v7002
  let v7004 : BitVec 32 := Scalar.remsi v6989 c128_i32_2751
  let c0_i32_2756 : BitVec 32 := 0#32
  let v7005 : BitVec 1 := Scalar.cmpi .ne v7004 c0_i32_2756
  let v7006 : BitVec 1 := Scalar.andi v7003 v7005
  let v6992 : BitVec 32 := Scalar.divsi v6989 c128_i32_2751
  let c1_i32_2757 : BitVec 32 := 1#32
  let v7007 : BitVec 32 := Scalar.subi v6992 c1_i32_2757
  let v7008 : BitVec 32 := Scalar.select v7006 v7007 v6992
  let c128_i32_2758 : BitVec 32 := 128#32
  let v7009 : BitVec 32 := Scalar.muli v7008 c128_i32_2758
  v7009

def k1_off384 (v6987 : BitVec 32) (v6989 : BitVec 32) : Fin 3 → Nat :=
  let v7012 : Index := Scalar.indexCast v6987
  let c0_2759 : Index := 0#32
  let c0_i32_2752 : BitVec 32 := 0#32
  let v6993 : BitVec 1 := Scalar.cmpi .sgt v6989 c0_i32_2752
  let v6994 : BitVec 32 := Scalar.extui v6993
  let c0_i32_2753 : BitVec 32 := 0#32
  let v6995 : BitVec 1 := Scalar.cmpi .slt v6989 c0_i32_2753
  let v6996 : BitVec 32 := Scalar.extui v6995
  let v6997 : BitVec 32 := Scalar.subi v6994 v6996
  let c128_i32_2751 : BitVec 32 := 128#32
  let c0_i32_2754 : BitVec 32 := 0#32
  let v6998 : BitVec 1 := Scalar.cmpi .sgt c128_i32_2751 c0_i32_2754
  let v6999 : BitVec 32 := Scalar.extui v6998
  let c0_i32_2755 : BitVec 32 := 0#32
  let v7000 : BitVec 1 := Scalar.cmpi .slt c128_i32_2751 c0_i32_2755
  let v7001 : BitVec 32 := Scalar.extui v7000
  let v7002 : BitVec 32 := Scalar.subi v6999 v7001
  let v7003 : BitVec 1 := Scalar.cmpi .ne v6997 v7002
  let v7004 : BitVec 32 := Scalar.remsi v6989 c128_i32_2751
  let c0_i32_2756 : BitVec 32 := 0#32
  let v7005 : BitVec 1 := Scalar.cmpi .ne v7004 c0_i32_2756
  let v7006 : BitVec 1 := Scalar.andi v7003 v7005
  let v6992 : BitVec 32 := Scalar.divsi v6989 c128_i32_2751
  let c1_i32_2757 : BitVec 32 := 1#32
  let v7007 : BitVec 32 := Scalar.subi v6992 c1_i32_2757
  let v7008 : BitVec 32 := Scalar.select v7006 v7007 v6992
  let c128_i32_2758 : BitVec 32 := 128#32
  let v7009 : BitVec 32 := Scalar.muli v7008 c128_i32_2758
  let v7010 : BitVec 32 := v7009
  let v7013 : Index := Scalar.indexCast v7010
  ![v7012.toNat, 0, v7013.toNat]

def k1_chk123 (v6987 : BitVec 32) (v6989 : BitVec 32) : Prop :=
  (128 ∣ (k1_mult123 v6989).toNat) ∧
  (∀ a, (k1_off384 v6987 v6989) a + S1x16x512.size a ≤ S384x16x1152.size a)
theorem k1_mult123_dvd : ∀ (v6987 : BitVec 32) (v6989 : BitVec 32) (k1_hw123 : k1_chk123 v6987 v6989), 128 ∣ (k1_mult123 v6989).toNat := fun v6987 v6989 k1_hw123 => k1_hw123.1
theorem k1_off384_inb : ∀ (v6987 : BitVec 32) (v6989 : BitVec 32) (k1_hw123 : k1_chk123 v6987 v6989), ∀ a, (k1_off384 v6987 v6989) a + S1x16x512.size a ≤ S384x16x1152.size a := fun v6987 v6989 k1_hw123 => k1_hw123.2

def k1_off385 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7023 : Index := Scalar.indexCast v6859
  let c2_2762 : Index := 2#32
  ![v7023.toNat, 2]
def k1_off386 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7039 : Index := Scalar.indexCast v6859
  let c3_2768 : Index := 3#32
  ![v7039.toNat, 3]
def k1_mult124 (v7042 : BitVec 32) : BitVec 32 :=
  let c0_i32_2772 : BitVec 32 := 0#32
  let v7046 : BitVec 1 := Scalar.cmpi .sgt v7042 c0_i32_2772
  let v7047 : BitVec 32 := Scalar.extui v7046
  let c0_i32_2773 : BitVec 32 := 0#32
  let v7048 : BitVec 1 := Scalar.cmpi .slt v7042 c0_i32_2773
  let v7049 : BitVec 32 := Scalar.extui v7048
  let v7050 : BitVec 32 := Scalar.subi v7047 v7049
  let c128_i32_2771 : BitVec 32 := 128#32
  let c0_i32_2774 : BitVec 32 := 0#32
  let v7051 : BitVec 1 := Scalar.cmpi .sgt c128_i32_2771 c0_i32_2774
  let v7052 : BitVec 32 := Scalar.extui v7051
  let c0_i32_2775 : BitVec 32 := 0#32
  let v7053 : BitVec 1 := Scalar.cmpi .slt c128_i32_2771 c0_i32_2775
  let v7054 : BitVec 32 := Scalar.extui v7053
  let v7055 : BitVec 32 := Scalar.subi v7052 v7054
  let v7056 : BitVec 1 := Scalar.cmpi .ne v7050 v7055
  let v7057 : BitVec 32 := Scalar.remsi v7042 c128_i32_2771
  let c0_i32_2776 : BitVec 32 := 0#32
  let v7058 : BitVec 1 := Scalar.cmpi .ne v7057 c0_i32_2776
  let v7059 : BitVec 1 := Scalar.andi v7056 v7058
  let v7045 : BitVec 32 := Scalar.divsi v7042 c128_i32_2771
  let c1_i32_2777 : BitVec 32 := 1#32
  let v7060 : BitVec 32 := Scalar.subi v7045 c1_i32_2777
  let v7061 : BitVec 32 := Scalar.select v7059 v7060 v7045
  let c128_i32_2778 : BitVec 32 := 128#32
  let v7062 : BitVec 32 := Scalar.muli v7061 c128_i32_2778
  v7062

def k1_off387 (v7040 : BitVec 32) (v7042 : BitVec 32) : Fin 3 → Nat :=
  let v7065 : Index := Scalar.indexCast v7040
  let c0_2779 : Index := 0#32
  let c0_i32_2772 : BitVec 32 := 0#32
  let v7046 : BitVec 1 := Scalar.cmpi .sgt v7042 c0_i32_2772
  let v7047 : BitVec 32 := Scalar.extui v7046
  let c0_i32_2773 : BitVec 32 := 0#32
  let v7048 : BitVec 1 := Scalar.cmpi .slt v7042 c0_i32_2773
  let v7049 : BitVec 32 := Scalar.extui v7048
  let v7050 : BitVec 32 := Scalar.subi v7047 v7049
  let c128_i32_2771 : BitVec 32 := 128#32
  let c0_i32_2774 : BitVec 32 := 0#32
  let v7051 : BitVec 1 := Scalar.cmpi .sgt c128_i32_2771 c0_i32_2774
  let v7052 : BitVec 32 := Scalar.extui v7051
  let c0_i32_2775 : BitVec 32 := 0#32
  let v7053 : BitVec 1 := Scalar.cmpi .slt c128_i32_2771 c0_i32_2775
  let v7054 : BitVec 32 := Scalar.extui v7053
  let v7055 : BitVec 32 := Scalar.subi v7052 v7054
  let v7056 : BitVec 1 := Scalar.cmpi .ne v7050 v7055
  let v7057 : BitVec 32 := Scalar.remsi v7042 c128_i32_2771
  let c0_i32_2776 : BitVec 32 := 0#32
  let v7058 : BitVec 1 := Scalar.cmpi .ne v7057 c0_i32_2776
  let v7059 : BitVec 1 := Scalar.andi v7056 v7058
  let v7045 : BitVec 32 := Scalar.divsi v7042 c128_i32_2771
  let c1_i32_2777 : BitVec 32 := 1#32
  let v7060 : BitVec 32 := Scalar.subi v7045 c1_i32_2777
  let v7061 : BitVec 32 := Scalar.select v7059 v7060 v7045
  let c128_i32_2778 : BitVec 32 := 128#32
  let v7062 : BitVec 32 := Scalar.muli v7061 c128_i32_2778
  let v7063 : BitVec 32 := v7062
  let v7066 : Index := Scalar.indexCast v7063
  ![v7065.toNat, 0, v7066.toNat]

def k1_chk124 (v7040 : BitVec 32) (v7042 : BitVec 32) : Prop :=
  (128 ∣ (k1_mult124 v7042).toNat) ∧
  (∀ a, (k1_off387 v7040 v7042) a + S1x16x512.size a ≤ S384x16x1152.size a)
theorem k1_mult124_dvd : ∀ (v7040 : BitVec 32) (v7042 : BitVec 32) (k1_hw124 : k1_chk124 v7040 v7042), 128 ∣ (k1_mult124 v7042).toNat := fun v7040 v7042 k1_hw124 => k1_hw124.1
theorem k1_off387_inb : ∀ (v7040 : BitVec 32) (v7042 : BitVec 32) (k1_hw124 : k1_chk124 v7040 v7042), ∀ a, (k1_off387 v7040 v7042) a + S1x16x512.size a ≤ S384x16x1152.size a := fun v7040 v7042 k1_hw124 => k1_hw124.2

def k1_off388 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7076 : Index := Scalar.indexCast v6859
  let c3_2782 : Index := 3#32
  ![v7076.toNat, 3]
def k1_off389 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7092 : Index := Scalar.indexCast v6859
  let c4_2788 : Index := 4#32
  ![v7092.toNat, 4]
def k1_mult125 (v7095 : BitVec 32) : BitVec 32 :=
  let c0_i32_2792 : BitVec 32 := 0#32
  let v7099 : BitVec 1 := Scalar.cmpi .sgt v7095 c0_i32_2792
  let v7100 : BitVec 32 := Scalar.extui v7099
  let c0_i32_2793 : BitVec 32 := 0#32
  let v7101 : BitVec 1 := Scalar.cmpi .slt v7095 c0_i32_2793
  let v7102 : BitVec 32 := Scalar.extui v7101
  let v7103 : BitVec 32 := Scalar.subi v7100 v7102
  let c128_i32_2791 : BitVec 32 := 128#32
  let c0_i32_2794 : BitVec 32 := 0#32
  let v7104 : BitVec 1 := Scalar.cmpi .sgt c128_i32_2791 c0_i32_2794
  let v7105 : BitVec 32 := Scalar.extui v7104
  let c0_i32_2795 : BitVec 32 := 0#32
  let v7106 : BitVec 1 := Scalar.cmpi .slt c128_i32_2791 c0_i32_2795
  let v7107 : BitVec 32 := Scalar.extui v7106
  let v7108 : BitVec 32 := Scalar.subi v7105 v7107
  let v7109 : BitVec 1 := Scalar.cmpi .ne v7103 v7108
  let v7110 : BitVec 32 := Scalar.remsi v7095 c128_i32_2791
  let c0_i32_2796 : BitVec 32 := 0#32
  let v7111 : BitVec 1 := Scalar.cmpi .ne v7110 c0_i32_2796
  let v7112 : BitVec 1 := Scalar.andi v7109 v7111
  let v7098 : BitVec 32 := Scalar.divsi v7095 c128_i32_2791
  let c1_i32_2797 : BitVec 32 := 1#32
  let v7113 : BitVec 32 := Scalar.subi v7098 c1_i32_2797
  let v7114 : BitVec 32 := Scalar.select v7112 v7113 v7098
  let c128_i32_2798 : BitVec 32 := 128#32
  let v7115 : BitVec 32 := Scalar.muli v7114 c128_i32_2798
  v7115

def k1_off390 (v7093 : BitVec 32) (v7095 : BitVec 32) : Fin 3 → Nat :=
  let v7118 : Index := Scalar.indexCast v7093
  let c0_2799 : Index := 0#32
  let c0_i32_2792 : BitVec 32 := 0#32
  let v7099 : BitVec 1 := Scalar.cmpi .sgt v7095 c0_i32_2792
  let v7100 : BitVec 32 := Scalar.extui v7099
  let c0_i32_2793 : BitVec 32 := 0#32
  let v7101 : BitVec 1 := Scalar.cmpi .slt v7095 c0_i32_2793
  let v7102 : BitVec 32 := Scalar.extui v7101
  let v7103 : BitVec 32 := Scalar.subi v7100 v7102
  let c128_i32_2791 : BitVec 32 := 128#32
  let c0_i32_2794 : BitVec 32 := 0#32
  let v7104 : BitVec 1 := Scalar.cmpi .sgt c128_i32_2791 c0_i32_2794
  let v7105 : BitVec 32 := Scalar.extui v7104
  let c0_i32_2795 : BitVec 32 := 0#32
  let v7106 : BitVec 1 := Scalar.cmpi .slt c128_i32_2791 c0_i32_2795
  let v7107 : BitVec 32 := Scalar.extui v7106
  let v7108 : BitVec 32 := Scalar.subi v7105 v7107
  let v7109 : BitVec 1 := Scalar.cmpi .ne v7103 v7108
  let v7110 : BitVec 32 := Scalar.remsi v7095 c128_i32_2791
  let c0_i32_2796 : BitVec 32 := 0#32
  let v7111 : BitVec 1 := Scalar.cmpi .ne v7110 c0_i32_2796
  let v7112 : BitVec 1 := Scalar.andi v7109 v7111
  let v7098 : BitVec 32 := Scalar.divsi v7095 c128_i32_2791
  let c1_i32_2797 : BitVec 32 := 1#32
  let v7113 : BitVec 32 := Scalar.subi v7098 c1_i32_2797
  let v7114 : BitVec 32 := Scalar.select v7112 v7113 v7098
  let c128_i32_2798 : BitVec 32 := 128#32
  let v7115 : BitVec 32 := Scalar.muli v7114 c128_i32_2798
  let v7116 : BitVec 32 := v7115
  let v7119 : Index := Scalar.indexCast v7116
  ![v7118.toNat, 0, v7119.toNat]

def k1_chk125 (v7093 : BitVec 32) (v7095 : BitVec 32) : Prop :=
  (128 ∣ (k1_mult125 v7095).toNat) ∧
  (∀ a, (k1_off390 v7093 v7095) a + S1x16x512.size a ≤ S384x16x1152.size a)
theorem k1_mult125_dvd : ∀ (v7093 : BitVec 32) (v7095 : BitVec 32) (k1_hw125 : k1_chk125 v7093 v7095), 128 ∣ (k1_mult125 v7095).toNat := fun v7093 v7095 k1_hw125 => k1_hw125.1
theorem k1_off390_inb : ∀ (v7093 : BitVec 32) (v7095 : BitVec 32) (k1_hw125 : k1_chk125 v7093 v7095), ∀ a, (k1_off390 v7093 v7095) a + S1x16x512.size a ≤ S384x16x1152.size a := fun v7093 v7095 k1_hw125 => k1_hw125.2

def k1_off391 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7129 : Index := Scalar.indexCast v6859
  let c4_2802 : Index := 4#32
  ![v7129.toNat, 4]
def k1_off392 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7145 : Index := Scalar.indexCast v6859
  let c5_2808 : Index := 5#32
  ![v7145.toNat, 5]
def k1_mult126 (v7148 : BitVec 32) : BitVec 32 :=
  let c0_i32_2812 : BitVec 32 := 0#32
  let v7152 : BitVec 1 := Scalar.cmpi .sgt v7148 c0_i32_2812
  let v7153 : BitVec 32 := Scalar.extui v7152
  let c0_i32_2813 : BitVec 32 := 0#32
  let v7154 : BitVec 1 := Scalar.cmpi .slt v7148 c0_i32_2813
  let v7155 : BitVec 32 := Scalar.extui v7154
  let v7156 : BitVec 32 := Scalar.subi v7153 v7155
  let c128_i32_2811 : BitVec 32 := 128#32
  let c0_i32_2814 : BitVec 32 := 0#32
  let v7157 : BitVec 1 := Scalar.cmpi .sgt c128_i32_2811 c0_i32_2814
  let v7158 : BitVec 32 := Scalar.extui v7157
  let c0_i32_2815 : BitVec 32 := 0#32
  let v7159 : BitVec 1 := Scalar.cmpi .slt c128_i32_2811 c0_i32_2815
  let v7160 : BitVec 32 := Scalar.extui v7159
  let v7161 : BitVec 32 := Scalar.subi v7158 v7160
  let v7162 : BitVec 1 := Scalar.cmpi .ne v7156 v7161
  let v7163 : BitVec 32 := Scalar.remsi v7148 c128_i32_2811
  let c0_i32_2816 : BitVec 32 := 0#32
  let v7164 : BitVec 1 := Scalar.cmpi .ne v7163 c0_i32_2816
  let v7165 : BitVec 1 := Scalar.andi v7162 v7164
  let v7151 : BitVec 32 := Scalar.divsi v7148 c128_i32_2811
  let c1_i32_2817 : BitVec 32 := 1#32
  let v7166 : BitVec 32 := Scalar.subi v7151 c1_i32_2817
  let v7167 : BitVec 32 := Scalar.select v7165 v7166 v7151
  let c128_i32_2818 : BitVec 32 := 128#32
  let v7168 : BitVec 32 := Scalar.muli v7167 c128_i32_2818
  v7168

def k1_off393 (v7146 : BitVec 32) (v7148 : BitVec 32) : Fin 3 → Nat :=
  let v7171 : Index := Scalar.indexCast v7146
  let c0_2819 : Index := 0#32
  let c0_i32_2812 : BitVec 32 := 0#32
  let v7152 : BitVec 1 := Scalar.cmpi .sgt v7148 c0_i32_2812
  let v7153 : BitVec 32 := Scalar.extui v7152
  let c0_i32_2813 : BitVec 32 := 0#32
  let v7154 : BitVec 1 := Scalar.cmpi .slt v7148 c0_i32_2813
  let v7155 : BitVec 32 := Scalar.extui v7154
  let v7156 : BitVec 32 := Scalar.subi v7153 v7155
  let c128_i32_2811 : BitVec 32 := 128#32
  let c0_i32_2814 : BitVec 32 := 0#32
  let v7157 : BitVec 1 := Scalar.cmpi .sgt c128_i32_2811 c0_i32_2814
  let v7158 : BitVec 32 := Scalar.extui v7157
  let c0_i32_2815 : BitVec 32 := 0#32
  let v7159 : BitVec 1 := Scalar.cmpi .slt c128_i32_2811 c0_i32_2815
  let v7160 : BitVec 32 := Scalar.extui v7159
  let v7161 : BitVec 32 := Scalar.subi v7158 v7160
  let v7162 : BitVec 1 := Scalar.cmpi .ne v7156 v7161
  let v7163 : BitVec 32 := Scalar.remsi v7148 c128_i32_2811
  let c0_i32_2816 : BitVec 32 := 0#32
  let v7164 : BitVec 1 := Scalar.cmpi .ne v7163 c0_i32_2816
  let v7165 : BitVec 1 := Scalar.andi v7162 v7164
  let v7151 : BitVec 32 := Scalar.divsi v7148 c128_i32_2811
  let c1_i32_2817 : BitVec 32 := 1#32
  let v7166 : BitVec 32 := Scalar.subi v7151 c1_i32_2817
  let v7167 : BitVec 32 := Scalar.select v7165 v7166 v7151
  let c128_i32_2818 : BitVec 32 := 128#32
  let v7168 : BitVec 32 := Scalar.muli v7167 c128_i32_2818
  let v7169 : BitVec 32 := v7168
  let v7172 : Index := Scalar.indexCast v7169
  ![v7171.toNat, 0, v7172.toNat]

def k1_chk126 (v7146 : BitVec 32) (v7148 : BitVec 32) : Prop :=
  (128 ∣ (k1_mult126 v7148).toNat) ∧
  (∀ a, (k1_off393 v7146 v7148) a + S1x16x512.size a ≤ S384x16x1152.size a)
theorem k1_mult126_dvd : ∀ (v7146 : BitVec 32) (v7148 : BitVec 32) (k1_hw126 : k1_chk126 v7146 v7148), 128 ∣ (k1_mult126 v7148).toNat := fun v7146 v7148 k1_hw126 => k1_hw126.1
theorem k1_off393_inb : ∀ (v7146 : BitVec 32) (v7148 : BitVec 32) (k1_hw126 : k1_chk126 v7146 v7148), ∀ a, (k1_off393 v7146 v7148) a + S1x16x512.size a ≤ S384x16x1152.size a := fun v7146 v7148 k1_hw126 => k1_hw126.2

def k1_off394 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7182 : Index := Scalar.indexCast v6859
  let c5_2822 : Index := 5#32
  ![v7182.toNat, 5]
def k1_off395 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7198 : Index := Scalar.indexCast v6859
  let c6_2828 : Index := 6#32
  ![v7198.toNat, 6]
def k1_mult127 (v7201 : BitVec 32) : BitVec 32 :=
  let c0_i32_2832 : BitVec 32 := 0#32
  let v7205 : BitVec 1 := Scalar.cmpi .sgt v7201 c0_i32_2832
  let v7206 : BitVec 32 := Scalar.extui v7205
  let c0_i32_2833 : BitVec 32 := 0#32
  let v7207 : BitVec 1 := Scalar.cmpi .slt v7201 c0_i32_2833
  let v7208 : BitVec 32 := Scalar.extui v7207
  let v7209 : BitVec 32 := Scalar.subi v7206 v7208
  let c128_i32_2831 : BitVec 32 := 128#32
  let c0_i32_2834 : BitVec 32 := 0#32
  let v7210 : BitVec 1 := Scalar.cmpi .sgt c128_i32_2831 c0_i32_2834
  let v7211 : BitVec 32 := Scalar.extui v7210
  let c0_i32_2835 : BitVec 32 := 0#32
  let v7212 : BitVec 1 := Scalar.cmpi .slt c128_i32_2831 c0_i32_2835
  let v7213 : BitVec 32 := Scalar.extui v7212
  let v7214 : BitVec 32 := Scalar.subi v7211 v7213
  let v7215 : BitVec 1 := Scalar.cmpi .ne v7209 v7214
  let v7216 : BitVec 32 := Scalar.remsi v7201 c128_i32_2831
  let c0_i32_2836 : BitVec 32 := 0#32
  let v7217 : BitVec 1 := Scalar.cmpi .ne v7216 c0_i32_2836
  let v7218 : BitVec 1 := Scalar.andi v7215 v7217
  let v7204 : BitVec 32 := Scalar.divsi v7201 c128_i32_2831
  let c1_i32_2837 : BitVec 32 := 1#32
  let v7219 : BitVec 32 := Scalar.subi v7204 c1_i32_2837
  let v7220 : BitVec 32 := Scalar.select v7218 v7219 v7204
  let c128_i32_2838 : BitVec 32 := 128#32
  let v7221 : BitVec 32 := Scalar.muli v7220 c128_i32_2838
  v7221

def k1_off396 (v7199 : BitVec 32) (v7201 : BitVec 32) : Fin 3 → Nat :=
  let v7224 : Index := Scalar.indexCast v7199
  let c0_2839 : Index := 0#32
  let c0_i32_2832 : BitVec 32 := 0#32
  let v7205 : BitVec 1 := Scalar.cmpi .sgt v7201 c0_i32_2832
  let v7206 : BitVec 32 := Scalar.extui v7205
  let c0_i32_2833 : BitVec 32 := 0#32
  let v7207 : BitVec 1 := Scalar.cmpi .slt v7201 c0_i32_2833
  let v7208 : BitVec 32 := Scalar.extui v7207
  let v7209 : BitVec 32 := Scalar.subi v7206 v7208
  let c128_i32_2831 : BitVec 32 := 128#32
  let c0_i32_2834 : BitVec 32 := 0#32
  let v7210 : BitVec 1 := Scalar.cmpi .sgt c128_i32_2831 c0_i32_2834
  let v7211 : BitVec 32 := Scalar.extui v7210
  let c0_i32_2835 : BitVec 32 := 0#32
  let v7212 : BitVec 1 := Scalar.cmpi .slt c128_i32_2831 c0_i32_2835
  let v7213 : BitVec 32 := Scalar.extui v7212
  let v7214 : BitVec 32 := Scalar.subi v7211 v7213
  let v7215 : BitVec 1 := Scalar.cmpi .ne v7209 v7214
  let v7216 : BitVec 32 := Scalar.remsi v7201 c128_i32_2831
  let c0_i32_2836 : BitVec 32 := 0#32
  let v7217 : BitVec 1 := Scalar.cmpi .ne v7216 c0_i32_2836
  let v7218 : BitVec 1 := Scalar.andi v7215 v7217
  let v7204 : BitVec 32 := Scalar.divsi v7201 c128_i32_2831
  let c1_i32_2837 : BitVec 32 := 1#32
  let v7219 : BitVec 32 := Scalar.subi v7204 c1_i32_2837
  let v7220 : BitVec 32 := Scalar.select v7218 v7219 v7204
  let c128_i32_2838 : BitVec 32 := 128#32
  let v7221 : BitVec 32 := Scalar.muli v7220 c128_i32_2838
  let v7222 : BitVec 32 := v7221
  let v7225 : Index := Scalar.indexCast v7222
  ![v7224.toNat, 0, v7225.toNat]

def k1_chk127 (v7199 : BitVec 32) (v7201 : BitVec 32) : Prop :=
  (128 ∣ (k1_mult127 v7201).toNat) ∧
  (∀ a, (k1_off396 v7199 v7201) a + S1x16x512.size a ≤ S384x16x1152.size a)
theorem k1_mult127_dvd : ∀ (v7199 : BitVec 32) (v7201 : BitVec 32) (k1_hw127 : k1_chk127 v7199 v7201), 128 ∣ (k1_mult127 v7201).toNat := fun v7199 v7201 k1_hw127 => k1_hw127.1
theorem k1_off396_inb : ∀ (v7199 : BitVec 32) (v7201 : BitVec 32) (k1_hw127 : k1_chk127 v7199 v7201), ∀ a, (k1_off396 v7199 v7201) a + S1x16x512.size a ≤ S384x16x1152.size a := fun v7199 v7201 k1_hw127 => k1_hw127.2

def k1_off397 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7235 : Index := Scalar.indexCast v6859
  let c6_2842 : Index := 6#32
  ![v7235.toNat, 6]
def k1_off398 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7251 : Index := Scalar.indexCast v6859
  let c7_2848 : Index := 7#32
  ![v7251.toNat, 7]
def k1_mult128 (v7254 : BitVec 32) : BitVec 32 :=
  let c0_i32_2852 : BitVec 32 := 0#32
  let v7258 : BitVec 1 := Scalar.cmpi .sgt v7254 c0_i32_2852
  let v7259 : BitVec 32 := Scalar.extui v7258
  let c0_i32_2853 : BitVec 32 := 0#32
  let v7260 : BitVec 1 := Scalar.cmpi .slt v7254 c0_i32_2853
  let v7261 : BitVec 32 := Scalar.extui v7260
  let v7262 : BitVec 32 := Scalar.subi v7259 v7261
  let c128_i32_2851 : BitVec 32 := 128#32
  let c0_i32_2854 : BitVec 32 := 0#32
  let v7263 : BitVec 1 := Scalar.cmpi .sgt c128_i32_2851 c0_i32_2854
  let v7264 : BitVec 32 := Scalar.extui v7263
  let c0_i32_2855 : BitVec 32 := 0#32
  let v7265 : BitVec 1 := Scalar.cmpi .slt c128_i32_2851 c0_i32_2855
  let v7266 : BitVec 32 := Scalar.extui v7265
  let v7267 : BitVec 32 := Scalar.subi v7264 v7266
  let v7268 : BitVec 1 := Scalar.cmpi .ne v7262 v7267
  let v7269 : BitVec 32 := Scalar.remsi v7254 c128_i32_2851
  let c0_i32_2856 : BitVec 32 := 0#32
  let v7270 : BitVec 1 := Scalar.cmpi .ne v7269 c0_i32_2856
  let v7271 : BitVec 1 := Scalar.andi v7268 v7270
  let v7257 : BitVec 32 := Scalar.divsi v7254 c128_i32_2851
  let c1_i32_2857 : BitVec 32 := 1#32
  let v7272 : BitVec 32 := Scalar.subi v7257 c1_i32_2857
  let v7273 : BitVec 32 := Scalar.select v7271 v7272 v7257
  let c128_i32_2858 : BitVec 32 := 128#32
  let v7274 : BitVec 32 := Scalar.muli v7273 c128_i32_2858
  v7274

def k1_off399 (v7252 : BitVec 32) (v7254 : BitVec 32) : Fin 3 → Nat :=
  let v7277 : Index := Scalar.indexCast v7252
  let c0_2859 : Index := 0#32
  let c0_i32_2852 : BitVec 32 := 0#32
  let v7258 : BitVec 1 := Scalar.cmpi .sgt v7254 c0_i32_2852
  let v7259 : BitVec 32 := Scalar.extui v7258
  let c0_i32_2853 : BitVec 32 := 0#32
  let v7260 : BitVec 1 := Scalar.cmpi .slt v7254 c0_i32_2853
  let v7261 : BitVec 32 := Scalar.extui v7260
  let v7262 : BitVec 32 := Scalar.subi v7259 v7261
  let c128_i32_2851 : BitVec 32 := 128#32
  let c0_i32_2854 : BitVec 32 := 0#32
  let v7263 : BitVec 1 := Scalar.cmpi .sgt c128_i32_2851 c0_i32_2854
  let v7264 : BitVec 32 := Scalar.extui v7263
  let c0_i32_2855 : BitVec 32 := 0#32
  let v7265 : BitVec 1 := Scalar.cmpi .slt c128_i32_2851 c0_i32_2855
  let v7266 : BitVec 32 := Scalar.extui v7265
  let v7267 : BitVec 32 := Scalar.subi v7264 v7266
  let v7268 : BitVec 1 := Scalar.cmpi .ne v7262 v7267
  let v7269 : BitVec 32 := Scalar.remsi v7254 c128_i32_2851
  let c0_i32_2856 : BitVec 32 := 0#32
  let v7270 : BitVec 1 := Scalar.cmpi .ne v7269 c0_i32_2856
  let v7271 : BitVec 1 := Scalar.andi v7268 v7270
  let v7257 : BitVec 32 := Scalar.divsi v7254 c128_i32_2851
  let c1_i32_2857 : BitVec 32 := 1#32
  let v7272 : BitVec 32 := Scalar.subi v7257 c1_i32_2857
  let v7273 : BitVec 32 := Scalar.select v7271 v7272 v7257
  let c128_i32_2858 : BitVec 32 := 128#32
  let v7274 : BitVec 32 := Scalar.muli v7273 c128_i32_2858
  let v7275 : BitVec 32 := v7274
  let v7278 : Index := Scalar.indexCast v7275
  ![v7277.toNat, 0, v7278.toNat]

def k1_chk128 (v7252 : BitVec 32) (v7254 : BitVec 32) : Prop :=
  (128 ∣ (k1_mult128 v7254).toNat) ∧
  (∀ a, (k1_off399 v7252 v7254) a + S1x16x512.size a ≤ S384x16x1152.size a)
theorem k1_mult128_dvd : ∀ (v7252 : BitVec 32) (v7254 : BitVec 32) (k1_hw128 : k1_chk128 v7252 v7254), 128 ∣ (k1_mult128 v7254).toNat := fun v7252 v7254 k1_hw128 => k1_hw128.1
theorem k1_off399_inb : ∀ (v7252 : BitVec 32) (v7254 : BitVec 32) (k1_hw128 : k1_chk128 v7252 v7254), ∀ a, (k1_off399 v7252 v7254) a + S1x16x512.size a ≤ S384x16x1152.size a := fun v7252 v7254 k1_hw128 => k1_hw128.2

def k1_off400 (i : grid1.Coords) : Fin 2 → Nat :=
  let arg0 : BitVec 32 := BitVec.ofNat 32 (i 0).val
  let c48_i32_2697 : BitVec 32 := 48#32
  let v6858 : BitVec 32 := Scalar.muli arg0 c48_i32_2697
  let c15_i32 : BitVec 32 := 15#32
  let v6859 : BitVec 32 := Scalar.addi v6858 c15_i32
  let v7288 : Index := Scalar.indexCast v6859
  let c7_2862 : Index := 7#32
  ![v7288.toNat, 7]
def k1_off401 (i : grid1.Coords) : Fin 3 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7317 : Index := Scalar.indexCast v7316
  let c0_2878 : Index := 0#32
  let c720_2879 : Index := 720#32
  ![v7317.toNat, 0, 720]
def k1_off402 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7337 : Index := Scalar.indexCast v7316
  let c0_2888 : Index := 0#32
  ![v7337.toNat, 0]
def k1_mult129 (v7340 : BitVec 32) : BitVec 32 :=
  let c0_i32_2892 : BitVec 32 := 0#32
  let v7344 : BitVec 1 := Scalar.cmpi .sgt v7340 c0_i32_2892
  let v7345 : BitVec 32 := Scalar.extui v7344
  let c0_i32_2893 : BitVec 32 := 0#32
  let v7346 : BitVec 1 := Scalar.cmpi .slt v7340 c0_i32_2893
  let v7347 : BitVec 32 := Scalar.extui v7346
  let v7348 : BitVec 32 := Scalar.subi v7345 v7347
  let c128_i32_2891 : BitVec 32 := 128#32
  let c0_i32_2894 : BitVec 32 := 0#32
  let v7349 : BitVec 1 := Scalar.cmpi .sgt c128_i32_2891 c0_i32_2894
  let v7350 : BitVec 32 := Scalar.extui v7349
  let c0_i32_2895 : BitVec 32 := 0#32
  let v7351 : BitVec 1 := Scalar.cmpi .slt c128_i32_2891 c0_i32_2895
  let v7352 : BitVec 32 := Scalar.extui v7351
  let v7353 : BitVec 32 := Scalar.subi v7350 v7352
  let v7354 : BitVec 1 := Scalar.cmpi .ne v7348 v7353
  let v7355 : BitVec 32 := Scalar.remsi v7340 c128_i32_2891
  let c0_i32_2896 : BitVec 32 := 0#32
  let v7356 : BitVec 1 := Scalar.cmpi .ne v7355 c0_i32_2896
  let v7357 : BitVec 1 := Scalar.andi v7354 v7356
  let v7343 : BitVec 32 := Scalar.divsi v7340 c128_i32_2891
  let c1_i32_2897 : BitVec 32 := 1#32
  let v7358 : BitVec 32 := Scalar.subi v7343 c1_i32_2897
  let v7359 : BitVec 32 := Scalar.select v7357 v7358 v7343
  let c128_i32_2898 : BitVec 32 := 128#32
  let v7360 : BitVec 32 := Scalar.muli v7359 c128_i32_2898
  v7360

def k1_off403 (v7338 : BitVec 32) (v7340 : BitVec 32) : Fin 3 → Nat :=
  let v7363 : Index := Scalar.indexCast v7338
  let c0_2899 : Index := 0#32
  let c0_i32_2892 : BitVec 32 := 0#32
  let v7344 : BitVec 1 := Scalar.cmpi .sgt v7340 c0_i32_2892
  let v7345 : BitVec 32 := Scalar.extui v7344
  let c0_i32_2893 : BitVec 32 := 0#32
  let v7346 : BitVec 1 := Scalar.cmpi .slt v7340 c0_i32_2893
  let v7347 : BitVec 32 := Scalar.extui v7346
  let v7348 : BitVec 32 := Scalar.subi v7345 v7347
  let c128_i32_2891 : BitVec 32 := 128#32
  let c0_i32_2894 : BitVec 32 := 0#32
  let v7349 : BitVec 1 := Scalar.cmpi .sgt c128_i32_2891 c0_i32_2894
  let v7350 : BitVec 32 := Scalar.extui v7349
  let c0_i32_2895 : BitVec 32 := 0#32
  let v7351 : BitVec 1 := Scalar.cmpi .slt c128_i32_2891 c0_i32_2895
  let v7352 : BitVec 32 := Scalar.extui v7351
  let v7353 : BitVec 32 := Scalar.subi v7350 v7352
  let v7354 : BitVec 1 := Scalar.cmpi .ne v7348 v7353
  let v7355 : BitVec 32 := Scalar.remsi v7340 c128_i32_2891
  let c0_i32_2896 : BitVec 32 := 0#32
  let v7356 : BitVec 1 := Scalar.cmpi .ne v7355 c0_i32_2896
  let v7357 : BitVec 1 := Scalar.andi v7354 v7356
  let v7343 : BitVec 32 := Scalar.divsi v7340 c128_i32_2891
  let c1_i32_2897 : BitVec 32 := 1#32
  let v7358 : BitVec 32 := Scalar.subi v7343 c1_i32_2897
  let v7359 : BitVec 32 := Scalar.select v7357 v7358 v7343
  let c128_i32_2898 : BitVec 32 := 128#32
  let v7360 : BitVec 32 := Scalar.muli v7359 c128_i32_2898
  let v7361 : BitVec 32 := v7360
  let v7364 : Index := Scalar.indexCast v7361
  ![v7363.toNat, 0, v7364.toNat]

def k1_chk129 (v7338 : BitVec 32) (v7340 : BitVec 32) : Prop :=
  (128 ∣ (k1_mult129 v7340).toNat) ∧
  (∀ a, (k1_off403 v7338 v7340) a + S1x16x512.size a ≤ S384x16x1152.size a)
theorem k1_mult129_dvd : ∀ (v7338 : BitVec 32) (v7340 : BitVec 32) (k1_hw129 : k1_chk129 v7338 v7340), 128 ∣ (k1_mult129 v7340).toNat := fun v7338 v7340 k1_hw129 => k1_hw129.1
theorem k1_off403_inb : ∀ (v7338 : BitVec 32) (v7340 : BitVec 32) (k1_hw129 : k1_chk129 v7338 v7340), ∀ a, (k1_off403 v7338 v7340) a + S1x16x512.size a ≤ S384x16x1152.size a := fun v7338 v7340 k1_hw129 => k1_hw129.2

def k1_off404 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7374 : Index := Scalar.indexCast v7316
  let c0_2902 : Index := 0#32
  ![v7374.toNat, 0]
def k1_off405 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7390 : Index := Scalar.indexCast v7316
  let c1_2908 : Index := 1#32
  ![v7390.toNat, 1]
def k1_mult130 (v7393 : BitVec 32) : BitVec 32 :=
  let c0_i32_2912 : BitVec 32 := 0#32
  let v7397 : BitVec 1 := Scalar.cmpi .sgt v7393 c0_i32_2912
  let v7398 : BitVec 32 := Scalar.extui v7397
  let c0_i32_2913 : BitVec 32 := 0#32
  let v7399 : BitVec 1 := Scalar.cmpi .slt v7393 c0_i32_2913
  let v7400 : BitVec 32 := Scalar.extui v7399
  let v7401 : BitVec 32 := Scalar.subi v7398 v7400
  let c128_i32_2911 : BitVec 32 := 128#32
  let c0_i32_2914 : BitVec 32 := 0#32
  let v7402 : BitVec 1 := Scalar.cmpi .sgt c128_i32_2911 c0_i32_2914
  let v7403 : BitVec 32 := Scalar.extui v7402
  let c0_i32_2915 : BitVec 32 := 0#32
  let v7404 : BitVec 1 := Scalar.cmpi .slt c128_i32_2911 c0_i32_2915
  let v7405 : BitVec 32 := Scalar.extui v7404
  let v7406 : BitVec 32 := Scalar.subi v7403 v7405
  let v7407 : BitVec 1 := Scalar.cmpi .ne v7401 v7406
  let v7408 : BitVec 32 := Scalar.remsi v7393 c128_i32_2911
  let c0_i32_2916 : BitVec 32 := 0#32
  let v7409 : BitVec 1 := Scalar.cmpi .ne v7408 c0_i32_2916
  let v7410 : BitVec 1 := Scalar.andi v7407 v7409
  let v7396 : BitVec 32 := Scalar.divsi v7393 c128_i32_2911
  let c1_i32_2917 : BitVec 32 := 1#32
  let v7411 : BitVec 32 := Scalar.subi v7396 c1_i32_2917
  let v7412 : BitVec 32 := Scalar.select v7410 v7411 v7396
  let c128_i32_2918 : BitVec 32 := 128#32
  let v7413 : BitVec 32 := Scalar.muli v7412 c128_i32_2918
  v7413

def k1_off406 (v7391 : BitVec 32) (v7393 : BitVec 32) : Fin 3 → Nat :=
  let v7416 : Index := Scalar.indexCast v7391
  let c0_2919 : Index := 0#32
  let c0_i32_2912 : BitVec 32 := 0#32
  let v7397 : BitVec 1 := Scalar.cmpi .sgt v7393 c0_i32_2912
  let v7398 : BitVec 32 := Scalar.extui v7397
  let c0_i32_2913 : BitVec 32 := 0#32
  let v7399 : BitVec 1 := Scalar.cmpi .slt v7393 c0_i32_2913
  let v7400 : BitVec 32 := Scalar.extui v7399
  let v7401 : BitVec 32 := Scalar.subi v7398 v7400
  let c128_i32_2911 : BitVec 32 := 128#32
  let c0_i32_2914 : BitVec 32 := 0#32
  let v7402 : BitVec 1 := Scalar.cmpi .sgt c128_i32_2911 c0_i32_2914
  let v7403 : BitVec 32 := Scalar.extui v7402
  let c0_i32_2915 : BitVec 32 := 0#32
  let v7404 : BitVec 1 := Scalar.cmpi .slt c128_i32_2911 c0_i32_2915
  let v7405 : BitVec 32 := Scalar.extui v7404
  let v7406 : BitVec 32 := Scalar.subi v7403 v7405
  let v7407 : BitVec 1 := Scalar.cmpi .ne v7401 v7406
  let v7408 : BitVec 32 := Scalar.remsi v7393 c128_i32_2911
  let c0_i32_2916 : BitVec 32 := 0#32
  let v7409 : BitVec 1 := Scalar.cmpi .ne v7408 c0_i32_2916
  let v7410 : BitVec 1 := Scalar.andi v7407 v7409
  let v7396 : BitVec 32 := Scalar.divsi v7393 c128_i32_2911
  let c1_i32_2917 : BitVec 32 := 1#32
  let v7411 : BitVec 32 := Scalar.subi v7396 c1_i32_2917
  let v7412 : BitVec 32 := Scalar.select v7410 v7411 v7396
  let c128_i32_2918 : BitVec 32 := 128#32
  let v7413 : BitVec 32 := Scalar.muli v7412 c128_i32_2918
  let v7414 : BitVec 32 := v7413
  let v7417 : Index := Scalar.indexCast v7414
  ![v7416.toNat, 0, v7417.toNat]

def k1_chk130 (v7391 : BitVec 32) (v7393 : BitVec 32) : Prop :=
  (128 ∣ (k1_mult130 v7393).toNat) ∧
  (∀ a, (k1_off406 v7391 v7393) a + S1x16x512.size a ≤ S384x16x1152.size a)
theorem k1_mult130_dvd : ∀ (v7391 : BitVec 32) (v7393 : BitVec 32) (k1_hw130 : k1_chk130 v7391 v7393), 128 ∣ (k1_mult130 v7393).toNat := fun v7391 v7393 k1_hw130 => k1_hw130.1
theorem k1_off406_inb : ∀ (v7391 : BitVec 32) (v7393 : BitVec 32) (k1_hw130 : k1_chk130 v7391 v7393), ∀ a, (k1_off406 v7391 v7393) a + S1x16x512.size a ≤ S384x16x1152.size a := fun v7391 v7393 k1_hw130 => k1_hw130.2

def k1_off407 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7427 : Index := Scalar.indexCast v7316
  let c1_2922 : Index := 1#32
  ![v7427.toNat, 1]
def k1_off408 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7443 : Index := Scalar.indexCast v7316
  let c2_2928 : Index := 2#32
  ![v7443.toNat, 2]
def k1_mult131 (v7446 : BitVec 32) : BitVec 32 :=
  let c0_i32_2932 : BitVec 32 := 0#32
  let v7450 : BitVec 1 := Scalar.cmpi .sgt v7446 c0_i32_2932
  let v7451 : BitVec 32 := Scalar.extui v7450
  let c0_i32_2933 : BitVec 32 := 0#32
  let v7452 : BitVec 1 := Scalar.cmpi .slt v7446 c0_i32_2933
  let v7453 : BitVec 32 := Scalar.extui v7452
  let v7454 : BitVec 32 := Scalar.subi v7451 v7453
  let c128_i32_2931 : BitVec 32 := 128#32
  let c0_i32_2934 : BitVec 32 := 0#32
  let v7455 : BitVec 1 := Scalar.cmpi .sgt c128_i32_2931 c0_i32_2934
  let v7456 : BitVec 32 := Scalar.extui v7455
  let c0_i32_2935 : BitVec 32 := 0#32
  let v7457 : BitVec 1 := Scalar.cmpi .slt c128_i32_2931 c0_i32_2935
  let v7458 : BitVec 32 := Scalar.extui v7457
  let v7459 : BitVec 32 := Scalar.subi v7456 v7458
  let v7460 : BitVec 1 := Scalar.cmpi .ne v7454 v7459
  let v7461 : BitVec 32 := Scalar.remsi v7446 c128_i32_2931
  let c0_i32_2936 : BitVec 32 := 0#32
  let v7462 : BitVec 1 := Scalar.cmpi .ne v7461 c0_i32_2936
  let v7463 : BitVec 1 := Scalar.andi v7460 v7462
  let v7449 : BitVec 32 := Scalar.divsi v7446 c128_i32_2931
  let c1_i32_2937 : BitVec 32 := 1#32
  let v7464 : BitVec 32 := Scalar.subi v7449 c1_i32_2937
  let v7465 : BitVec 32 := Scalar.select v7463 v7464 v7449
  let c128_i32_2938 : BitVec 32 := 128#32
  let v7466 : BitVec 32 := Scalar.muli v7465 c128_i32_2938
  v7466

def k1_off409 (v7444 : BitVec 32) (v7446 : BitVec 32) : Fin 3 → Nat :=
  let v7469 : Index := Scalar.indexCast v7444
  let c0_2939 : Index := 0#32
  let c0_i32_2932 : BitVec 32 := 0#32
  let v7450 : BitVec 1 := Scalar.cmpi .sgt v7446 c0_i32_2932
  let v7451 : BitVec 32 := Scalar.extui v7450
  let c0_i32_2933 : BitVec 32 := 0#32
  let v7452 : BitVec 1 := Scalar.cmpi .slt v7446 c0_i32_2933
  let v7453 : BitVec 32 := Scalar.extui v7452
  let v7454 : BitVec 32 := Scalar.subi v7451 v7453
  let c128_i32_2931 : BitVec 32 := 128#32
  let c0_i32_2934 : BitVec 32 := 0#32
  let v7455 : BitVec 1 := Scalar.cmpi .sgt c128_i32_2931 c0_i32_2934
  let v7456 : BitVec 32 := Scalar.extui v7455
  let c0_i32_2935 : BitVec 32 := 0#32
  let v7457 : BitVec 1 := Scalar.cmpi .slt c128_i32_2931 c0_i32_2935
  let v7458 : BitVec 32 := Scalar.extui v7457
  let v7459 : BitVec 32 := Scalar.subi v7456 v7458
  let v7460 : BitVec 1 := Scalar.cmpi .ne v7454 v7459
  let v7461 : BitVec 32 := Scalar.remsi v7446 c128_i32_2931
  let c0_i32_2936 : BitVec 32 := 0#32
  let v7462 : BitVec 1 := Scalar.cmpi .ne v7461 c0_i32_2936
  let v7463 : BitVec 1 := Scalar.andi v7460 v7462
  let v7449 : BitVec 32 := Scalar.divsi v7446 c128_i32_2931
  let c1_i32_2937 : BitVec 32 := 1#32
  let v7464 : BitVec 32 := Scalar.subi v7449 c1_i32_2937
  let v7465 : BitVec 32 := Scalar.select v7463 v7464 v7449
  let c128_i32_2938 : BitVec 32 := 128#32
  let v7466 : BitVec 32 := Scalar.muli v7465 c128_i32_2938
  let v7467 : BitVec 32 := v7466
  let v7470 : Index := Scalar.indexCast v7467
  ![v7469.toNat, 0, v7470.toNat]

def k1_chk131 (v7444 : BitVec 32) (v7446 : BitVec 32) : Prop :=
  (128 ∣ (k1_mult131 v7446).toNat) ∧
  (∀ a, (k1_off409 v7444 v7446) a + S1x16x512.size a ≤ S384x16x1152.size a)
theorem k1_mult131_dvd : ∀ (v7444 : BitVec 32) (v7446 : BitVec 32) (k1_hw131 : k1_chk131 v7444 v7446), 128 ∣ (k1_mult131 v7446).toNat := fun v7444 v7446 k1_hw131 => k1_hw131.1
theorem k1_off409_inb : ∀ (v7444 : BitVec 32) (v7446 : BitVec 32) (k1_hw131 : k1_chk131 v7444 v7446), ∀ a, (k1_off409 v7444 v7446) a + S1x16x512.size a ≤ S384x16x1152.size a := fun v7444 v7446 k1_hw131 => k1_hw131.2

def k1_off410 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7480 : Index := Scalar.indexCast v7316
  let c2_2942 : Index := 2#32
  ![v7480.toNat, 2]
def k1_off411 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7496 : Index := Scalar.indexCast v7316
  let c3_2948 : Index := 3#32
  ![v7496.toNat, 3]
def k1_mult132 (v7499 : BitVec 32) : BitVec 32 :=
  let c0_i32_2952 : BitVec 32 := 0#32
  let v7503 : BitVec 1 := Scalar.cmpi .sgt v7499 c0_i32_2952
  let v7504 : BitVec 32 := Scalar.extui v7503
  let c0_i32_2953 : BitVec 32 := 0#32
  let v7505 : BitVec 1 := Scalar.cmpi .slt v7499 c0_i32_2953
  let v7506 : BitVec 32 := Scalar.extui v7505
  let v7507 : BitVec 32 := Scalar.subi v7504 v7506
  let c128_i32_2951 : BitVec 32 := 128#32
  let c0_i32_2954 : BitVec 32 := 0#32
  let v7508 : BitVec 1 := Scalar.cmpi .sgt c128_i32_2951 c0_i32_2954
  let v7509 : BitVec 32 := Scalar.extui v7508
  let c0_i32_2955 : BitVec 32 := 0#32
  let v7510 : BitVec 1 := Scalar.cmpi .slt c128_i32_2951 c0_i32_2955
  let v7511 : BitVec 32 := Scalar.extui v7510
  let v7512 : BitVec 32 := Scalar.subi v7509 v7511
  let v7513 : BitVec 1 := Scalar.cmpi .ne v7507 v7512
  let v7514 : BitVec 32 := Scalar.remsi v7499 c128_i32_2951
  let c0_i32_2956 : BitVec 32 := 0#32
  let v7515 : BitVec 1 := Scalar.cmpi .ne v7514 c0_i32_2956
  let v7516 : BitVec 1 := Scalar.andi v7513 v7515
  let v7502 : BitVec 32 := Scalar.divsi v7499 c128_i32_2951
  let c1_i32_2957 : BitVec 32 := 1#32
  let v7517 : BitVec 32 := Scalar.subi v7502 c1_i32_2957
  let v7518 : BitVec 32 := Scalar.select v7516 v7517 v7502
  let c128_i32_2958 : BitVec 32 := 128#32
  let v7519 : BitVec 32 := Scalar.muli v7518 c128_i32_2958
  v7519

def k1_off412 (v7497 : BitVec 32) (v7499 : BitVec 32) : Fin 3 → Nat :=
  let v7522 : Index := Scalar.indexCast v7497
  let c0_2959 : Index := 0#32
  let c0_i32_2952 : BitVec 32 := 0#32
  let v7503 : BitVec 1 := Scalar.cmpi .sgt v7499 c0_i32_2952
  let v7504 : BitVec 32 := Scalar.extui v7503
  let c0_i32_2953 : BitVec 32 := 0#32
  let v7505 : BitVec 1 := Scalar.cmpi .slt v7499 c0_i32_2953
  let v7506 : BitVec 32 := Scalar.extui v7505
  let v7507 : BitVec 32 := Scalar.subi v7504 v7506
  let c128_i32_2951 : BitVec 32 := 128#32
  let c0_i32_2954 : BitVec 32 := 0#32
  let v7508 : BitVec 1 := Scalar.cmpi .sgt c128_i32_2951 c0_i32_2954
  let v7509 : BitVec 32 := Scalar.extui v7508
  let c0_i32_2955 : BitVec 32 := 0#32
  let v7510 : BitVec 1 := Scalar.cmpi .slt c128_i32_2951 c0_i32_2955
  let v7511 : BitVec 32 := Scalar.extui v7510
  let v7512 : BitVec 32 := Scalar.subi v7509 v7511
  let v7513 : BitVec 1 := Scalar.cmpi .ne v7507 v7512
  let v7514 : BitVec 32 := Scalar.remsi v7499 c128_i32_2951
  let c0_i32_2956 : BitVec 32 := 0#32
  let v7515 : BitVec 1 := Scalar.cmpi .ne v7514 c0_i32_2956
  let v7516 : BitVec 1 := Scalar.andi v7513 v7515
  let v7502 : BitVec 32 := Scalar.divsi v7499 c128_i32_2951
  let c1_i32_2957 : BitVec 32 := 1#32
  let v7517 : BitVec 32 := Scalar.subi v7502 c1_i32_2957
  let v7518 : BitVec 32 := Scalar.select v7516 v7517 v7502
  let c128_i32_2958 : BitVec 32 := 128#32
  let v7519 : BitVec 32 := Scalar.muli v7518 c128_i32_2958
  let v7520 : BitVec 32 := v7519
  let v7523 : Index := Scalar.indexCast v7520
  ![v7522.toNat, 0, v7523.toNat]

def k1_chk132 (v7497 : BitVec 32) (v7499 : BitVec 32) : Prop :=
  (128 ∣ (k1_mult132 v7499).toNat) ∧
  (∀ a, (k1_off412 v7497 v7499) a + S1x16x512.size a ≤ S384x16x1152.size a)
theorem k1_mult132_dvd : ∀ (v7497 : BitVec 32) (v7499 : BitVec 32) (k1_hw132 : k1_chk132 v7497 v7499), 128 ∣ (k1_mult132 v7499).toNat := fun v7497 v7499 k1_hw132 => k1_hw132.1
theorem k1_off412_inb : ∀ (v7497 : BitVec 32) (v7499 : BitVec 32) (k1_hw132 : k1_chk132 v7497 v7499), ∀ a, (k1_off412 v7497 v7499) a + S1x16x512.size a ≤ S384x16x1152.size a := fun v7497 v7499 k1_hw132 => k1_hw132.2

def k1_off413 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7533 : Index := Scalar.indexCast v7316
  let c3_2962 : Index := 3#32
  ![v7533.toNat, 3]
def k1_off414 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7549 : Index := Scalar.indexCast v7316
  let c4_2968 : Index := 4#32
  ![v7549.toNat, 4]
def k1_mult133 (v7552 : BitVec 32) : BitVec 32 :=
  let c0_i32_2972 : BitVec 32 := 0#32
  let v7556 : BitVec 1 := Scalar.cmpi .sgt v7552 c0_i32_2972
  let v7557 : BitVec 32 := Scalar.extui v7556
  let c0_i32_2973 : BitVec 32 := 0#32
  let v7558 : BitVec 1 := Scalar.cmpi .slt v7552 c0_i32_2973
  let v7559 : BitVec 32 := Scalar.extui v7558
  let v7560 : BitVec 32 := Scalar.subi v7557 v7559
  let c128_i32_2971 : BitVec 32 := 128#32
  let c0_i32_2974 : BitVec 32 := 0#32
  let v7561 : BitVec 1 := Scalar.cmpi .sgt c128_i32_2971 c0_i32_2974
  let v7562 : BitVec 32 := Scalar.extui v7561
  let c0_i32_2975 : BitVec 32 := 0#32
  let v7563 : BitVec 1 := Scalar.cmpi .slt c128_i32_2971 c0_i32_2975
  let v7564 : BitVec 32 := Scalar.extui v7563
  let v7565 : BitVec 32 := Scalar.subi v7562 v7564
  let v7566 : BitVec 1 := Scalar.cmpi .ne v7560 v7565
  let v7567 : BitVec 32 := Scalar.remsi v7552 c128_i32_2971
  let c0_i32_2976 : BitVec 32 := 0#32
  let v7568 : BitVec 1 := Scalar.cmpi .ne v7567 c0_i32_2976
  let v7569 : BitVec 1 := Scalar.andi v7566 v7568
  let v7555 : BitVec 32 := Scalar.divsi v7552 c128_i32_2971
  let c1_i32_2977 : BitVec 32 := 1#32
  let v7570 : BitVec 32 := Scalar.subi v7555 c1_i32_2977
  let v7571 : BitVec 32 := Scalar.select v7569 v7570 v7555
  let c128_i32_2978 : BitVec 32 := 128#32
  let v7572 : BitVec 32 := Scalar.muli v7571 c128_i32_2978
  v7572

def k1_off415 (v7550 : BitVec 32) (v7552 : BitVec 32) : Fin 3 → Nat :=
  let v7575 : Index := Scalar.indexCast v7550
  let c0_2979 : Index := 0#32
  let c0_i32_2972 : BitVec 32 := 0#32
  let v7556 : BitVec 1 := Scalar.cmpi .sgt v7552 c0_i32_2972
  let v7557 : BitVec 32 := Scalar.extui v7556
  let c0_i32_2973 : BitVec 32 := 0#32
  let v7558 : BitVec 1 := Scalar.cmpi .slt v7552 c0_i32_2973
  let v7559 : BitVec 32 := Scalar.extui v7558
  let v7560 : BitVec 32 := Scalar.subi v7557 v7559
  let c128_i32_2971 : BitVec 32 := 128#32
  let c0_i32_2974 : BitVec 32 := 0#32
  let v7561 : BitVec 1 := Scalar.cmpi .sgt c128_i32_2971 c0_i32_2974
  let v7562 : BitVec 32 := Scalar.extui v7561
  let c0_i32_2975 : BitVec 32 := 0#32
  let v7563 : BitVec 1 := Scalar.cmpi .slt c128_i32_2971 c0_i32_2975
  let v7564 : BitVec 32 := Scalar.extui v7563
  let v7565 : BitVec 32 := Scalar.subi v7562 v7564
  let v7566 : BitVec 1 := Scalar.cmpi .ne v7560 v7565
  let v7567 : BitVec 32 := Scalar.remsi v7552 c128_i32_2971
  let c0_i32_2976 : BitVec 32 := 0#32
  let v7568 : BitVec 1 := Scalar.cmpi .ne v7567 c0_i32_2976
  let v7569 : BitVec 1 := Scalar.andi v7566 v7568
  let v7555 : BitVec 32 := Scalar.divsi v7552 c128_i32_2971
  let c1_i32_2977 : BitVec 32 := 1#32
  let v7570 : BitVec 32 := Scalar.subi v7555 c1_i32_2977
  let v7571 : BitVec 32 := Scalar.select v7569 v7570 v7555
  let c128_i32_2978 : BitVec 32 := 128#32
  let v7572 : BitVec 32 := Scalar.muli v7571 c128_i32_2978
  let v7573 : BitVec 32 := v7572
  let v7576 : Index := Scalar.indexCast v7573
  ![v7575.toNat, 0, v7576.toNat]

def k1_chk133 (v7550 : BitVec 32) (v7552 : BitVec 32) : Prop :=
  (128 ∣ (k1_mult133 v7552).toNat) ∧
  (∀ a, (k1_off415 v7550 v7552) a + S1x16x512.size a ≤ S384x16x1152.size a)
theorem k1_mult133_dvd : ∀ (v7550 : BitVec 32) (v7552 : BitVec 32) (k1_hw133 : k1_chk133 v7550 v7552), 128 ∣ (k1_mult133 v7552).toNat := fun v7550 v7552 k1_hw133 => k1_hw133.1
theorem k1_off415_inb : ∀ (v7550 : BitVec 32) (v7552 : BitVec 32) (k1_hw133 : k1_chk133 v7550 v7552), ∀ a, (k1_off415 v7550 v7552) a + S1x16x512.size a ≤ S384x16x1152.size a := fun v7550 v7552 k1_hw133 => k1_hw133.2

def k1_off416 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7586 : Index := Scalar.indexCast v7316
  let c4_2982 : Index := 4#32
  ![v7586.toNat, 4]
def k1_off417 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7602 : Index := Scalar.indexCast v7316
  let c5_2988 : Index := 5#32
  ![v7602.toNat, 5]
def k1_mult134 (v7605 : BitVec 32) : BitVec 32 :=
  let c0_i32_2992 : BitVec 32 := 0#32
  let v7609 : BitVec 1 := Scalar.cmpi .sgt v7605 c0_i32_2992
  let v7610 : BitVec 32 := Scalar.extui v7609
  let c0_i32_2993 : BitVec 32 := 0#32
  let v7611 : BitVec 1 := Scalar.cmpi .slt v7605 c0_i32_2993
  let v7612 : BitVec 32 := Scalar.extui v7611
  let v7613 : BitVec 32 := Scalar.subi v7610 v7612
  let c128_i32_2991 : BitVec 32 := 128#32
  let c0_i32_2994 : BitVec 32 := 0#32
  let v7614 : BitVec 1 := Scalar.cmpi .sgt c128_i32_2991 c0_i32_2994
  let v7615 : BitVec 32 := Scalar.extui v7614
  let c0_i32_2995 : BitVec 32 := 0#32
  let v7616 : BitVec 1 := Scalar.cmpi .slt c128_i32_2991 c0_i32_2995
  let v7617 : BitVec 32 := Scalar.extui v7616
  let v7618 : BitVec 32 := Scalar.subi v7615 v7617
  let v7619 : BitVec 1 := Scalar.cmpi .ne v7613 v7618
  let v7620 : BitVec 32 := Scalar.remsi v7605 c128_i32_2991
  let c0_i32_2996 : BitVec 32 := 0#32
  let v7621 : BitVec 1 := Scalar.cmpi .ne v7620 c0_i32_2996
  let v7622 : BitVec 1 := Scalar.andi v7619 v7621
  let v7608 : BitVec 32 := Scalar.divsi v7605 c128_i32_2991
  let c1_i32_2997 : BitVec 32 := 1#32
  let v7623 : BitVec 32 := Scalar.subi v7608 c1_i32_2997
  let v7624 : BitVec 32 := Scalar.select v7622 v7623 v7608
  let c128_i32_2998 : BitVec 32 := 128#32
  let v7625 : BitVec 32 := Scalar.muli v7624 c128_i32_2998
  v7625

def k1_off418 (v7603 : BitVec 32) (v7605 : BitVec 32) : Fin 3 → Nat :=
  let v7628 : Index := Scalar.indexCast v7603
  let c0_2999 : Index := 0#32
  let c0_i32_2992 : BitVec 32 := 0#32
  let v7609 : BitVec 1 := Scalar.cmpi .sgt v7605 c0_i32_2992
  let v7610 : BitVec 32 := Scalar.extui v7609
  let c0_i32_2993 : BitVec 32 := 0#32
  let v7611 : BitVec 1 := Scalar.cmpi .slt v7605 c0_i32_2993
  let v7612 : BitVec 32 := Scalar.extui v7611
  let v7613 : BitVec 32 := Scalar.subi v7610 v7612
  let c128_i32_2991 : BitVec 32 := 128#32
  let c0_i32_2994 : BitVec 32 := 0#32
  let v7614 : BitVec 1 := Scalar.cmpi .sgt c128_i32_2991 c0_i32_2994
  let v7615 : BitVec 32 := Scalar.extui v7614
  let c0_i32_2995 : BitVec 32 := 0#32
  let v7616 : BitVec 1 := Scalar.cmpi .slt c128_i32_2991 c0_i32_2995
  let v7617 : BitVec 32 := Scalar.extui v7616
  let v7618 : BitVec 32 := Scalar.subi v7615 v7617
  let v7619 : BitVec 1 := Scalar.cmpi .ne v7613 v7618
  let v7620 : BitVec 32 := Scalar.remsi v7605 c128_i32_2991
  let c0_i32_2996 : BitVec 32 := 0#32
  let v7621 : BitVec 1 := Scalar.cmpi .ne v7620 c0_i32_2996
  let v7622 : BitVec 1 := Scalar.andi v7619 v7621
  let v7608 : BitVec 32 := Scalar.divsi v7605 c128_i32_2991
  let c1_i32_2997 : BitVec 32 := 1#32
  let v7623 : BitVec 32 := Scalar.subi v7608 c1_i32_2997
  let v7624 : BitVec 32 := Scalar.select v7622 v7623 v7608
  let c128_i32_2998 : BitVec 32 := 128#32
  let v7625 : BitVec 32 := Scalar.muli v7624 c128_i32_2998
  let v7626 : BitVec 32 := v7625
  let v7629 : Index := Scalar.indexCast v7626
  ![v7628.toNat, 0, v7629.toNat]

def k1_chk134 (v7603 : BitVec 32) (v7605 : BitVec 32) : Prop :=
  (128 ∣ (k1_mult134 v7605).toNat) ∧
  (∀ a, (k1_off418 v7603 v7605) a + S1x16x512.size a ≤ S384x16x1152.size a)
theorem k1_mult134_dvd : ∀ (v7603 : BitVec 32) (v7605 : BitVec 32) (k1_hw134 : k1_chk134 v7603 v7605), 128 ∣ (k1_mult134 v7605).toNat := fun v7603 v7605 k1_hw134 => k1_hw134.1
theorem k1_off418_inb : ∀ (v7603 : BitVec 32) (v7605 : BitVec 32) (k1_hw134 : k1_chk134 v7603 v7605), ∀ a, (k1_off418 v7603 v7605) a + S1x16x512.size a ≤ S384x16x1152.size a := fun v7603 v7605 k1_hw134 => k1_hw134.2

def k1_off419 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7639 : Index := Scalar.indexCast v7316
  let c5_3002 : Index := 5#32
  ![v7639.toNat, 5]
def k1_off420 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7655 : Index := Scalar.indexCast v7316
  let c6_3008 : Index := 6#32
  ![v7655.toNat, 6]
def k1_mult135 (v7658 : BitVec 32) : BitVec 32 :=
  let c0_i32_3012 : BitVec 32 := 0#32
  let v7662 : BitVec 1 := Scalar.cmpi .sgt v7658 c0_i32_3012
  let v7663 : BitVec 32 := Scalar.extui v7662
  let c0_i32_3013 : BitVec 32 := 0#32
  let v7664 : BitVec 1 := Scalar.cmpi .slt v7658 c0_i32_3013
  let v7665 : BitVec 32 := Scalar.extui v7664
  let v7666 : BitVec 32 := Scalar.subi v7663 v7665
  let c128_i32_3011 : BitVec 32 := 128#32
  let c0_i32_3014 : BitVec 32 := 0#32
  let v7667 : BitVec 1 := Scalar.cmpi .sgt c128_i32_3011 c0_i32_3014
  let v7668 : BitVec 32 := Scalar.extui v7667
  let c0_i32_3015 : BitVec 32 := 0#32
  let v7669 : BitVec 1 := Scalar.cmpi .slt c128_i32_3011 c0_i32_3015
  let v7670 : BitVec 32 := Scalar.extui v7669
  let v7671 : BitVec 32 := Scalar.subi v7668 v7670
  let v7672 : BitVec 1 := Scalar.cmpi .ne v7666 v7671
  let v7673 : BitVec 32 := Scalar.remsi v7658 c128_i32_3011
  let c0_i32_3016 : BitVec 32 := 0#32
  let v7674 : BitVec 1 := Scalar.cmpi .ne v7673 c0_i32_3016
  let v7675 : BitVec 1 := Scalar.andi v7672 v7674
  let v7661 : BitVec 32 := Scalar.divsi v7658 c128_i32_3011
  let c1_i32_3017 : BitVec 32 := 1#32
  let v7676 : BitVec 32 := Scalar.subi v7661 c1_i32_3017
  let v7677 : BitVec 32 := Scalar.select v7675 v7676 v7661
  let c128_i32_3018 : BitVec 32 := 128#32
  let v7678 : BitVec 32 := Scalar.muli v7677 c128_i32_3018
  v7678

def k1_off421 (v7656 : BitVec 32) (v7658 : BitVec 32) : Fin 3 → Nat :=
  let v7681 : Index := Scalar.indexCast v7656
  let c0_3019 : Index := 0#32
  let c0_i32_3012 : BitVec 32 := 0#32
  let v7662 : BitVec 1 := Scalar.cmpi .sgt v7658 c0_i32_3012
  let v7663 : BitVec 32 := Scalar.extui v7662
  let c0_i32_3013 : BitVec 32 := 0#32
  let v7664 : BitVec 1 := Scalar.cmpi .slt v7658 c0_i32_3013
  let v7665 : BitVec 32 := Scalar.extui v7664
  let v7666 : BitVec 32 := Scalar.subi v7663 v7665
  let c128_i32_3011 : BitVec 32 := 128#32
  let c0_i32_3014 : BitVec 32 := 0#32
  let v7667 : BitVec 1 := Scalar.cmpi .sgt c128_i32_3011 c0_i32_3014
  let v7668 : BitVec 32 := Scalar.extui v7667
  let c0_i32_3015 : BitVec 32 := 0#32
  let v7669 : BitVec 1 := Scalar.cmpi .slt c128_i32_3011 c0_i32_3015
  let v7670 : BitVec 32 := Scalar.extui v7669
  let v7671 : BitVec 32 := Scalar.subi v7668 v7670
  let v7672 : BitVec 1 := Scalar.cmpi .ne v7666 v7671
  let v7673 : BitVec 32 := Scalar.remsi v7658 c128_i32_3011
  let c0_i32_3016 : BitVec 32 := 0#32
  let v7674 : BitVec 1 := Scalar.cmpi .ne v7673 c0_i32_3016
  let v7675 : BitVec 1 := Scalar.andi v7672 v7674
  let v7661 : BitVec 32 := Scalar.divsi v7658 c128_i32_3011
  let c1_i32_3017 : BitVec 32 := 1#32
  let v7676 : BitVec 32 := Scalar.subi v7661 c1_i32_3017
  let v7677 : BitVec 32 := Scalar.select v7675 v7676 v7661
  let c128_i32_3018 : BitVec 32 := 128#32
  let v7678 : BitVec 32 := Scalar.muli v7677 c128_i32_3018
  let v7679 : BitVec 32 := v7678
  let v7682 : Index := Scalar.indexCast v7679
  ![v7681.toNat, 0, v7682.toNat]

def k1_chk135 (v7656 : BitVec 32) (v7658 : BitVec 32) : Prop :=
  (128 ∣ (k1_mult135 v7658).toNat) ∧
  (∀ a, (k1_off421 v7656 v7658) a + S1x16x512.size a ≤ S384x16x1152.size a)
theorem k1_mult135_dvd : ∀ (v7656 : BitVec 32) (v7658 : BitVec 32) (k1_hw135 : k1_chk135 v7656 v7658), 128 ∣ (k1_mult135 v7658).toNat := fun v7656 v7658 k1_hw135 => k1_hw135.1
theorem k1_off421_inb : ∀ (v7656 : BitVec 32) (v7658 : BitVec 32) (k1_hw135 : k1_chk135 v7656 v7658), ∀ a, (k1_off421 v7656 v7658) a + S1x16x512.size a ≤ S384x16x1152.size a := fun v7656 v7658 k1_hw135 => k1_hw135.2

def k1_off422 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7692 : Index := Scalar.indexCast v7316
  let c6_3022 : Index := 6#32
  ![v7692.toNat, 6]
def k1_off423 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7708 : Index := Scalar.indexCast v7316
  let c7_3028 : Index := 7#32
  ![v7708.toNat, 7]
def k1_mult136 (v7711 : BitVec 32) : BitVec 32 :=
  let c0_i32_3032 : BitVec 32 := 0#32
  let v7715 : BitVec 1 := Scalar.cmpi .sgt v7711 c0_i32_3032
  let v7716 : BitVec 32 := Scalar.extui v7715
  let c0_i32_3033 : BitVec 32 := 0#32
  let v7717 : BitVec 1 := Scalar.cmpi .slt v7711 c0_i32_3033
  let v7718 : BitVec 32 := Scalar.extui v7717
  let v7719 : BitVec 32 := Scalar.subi v7716 v7718
  let c128_i32_3031 : BitVec 32 := 128#32
  let c0_i32_3034 : BitVec 32 := 0#32
  let v7720 : BitVec 1 := Scalar.cmpi .sgt c128_i32_3031 c0_i32_3034
  let v7721 : BitVec 32 := Scalar.extui v7720
  let c0_i32_3035 : BitVec 32 := 0#32
  let v7722 : BitVec 1 := Scalar.cmpi .slt c128_i32_3031 c0_i32_3035
  let v7723 : BitVec 32 := Scalar.extui v7722
  let v7724 : BitVec 32 := Scalar.subi v7721 v7723
  let v7725 : BitVec 1 := Scalar.cmpi .ne v7719 v7724
  let v7726 : BitVec 32 := Scalar.remsi v7711 c128_i32_3031
  let c0_i32_3036 : BitVec 32 := 0#32
  let v7727 : BitVec 1 := Scalar.cmpi .ne v7726 c0_i32_3036
  let v7728 : BitVec 1 := Scalar.andi v7725 v7727
  let v7714 : BitVec 32 := Scalar.divsi v7711 c128_i32_3031
  let c1_i32_3037 : BitVec 32 := 1#32
  let v7729 : BitVec 32 := Scalar.subi v7714 c1_i32_3037
  let v7730 : BitVec 32 := Scalar.select v7728 v7729 v7714
  let c128_i32_3038 : BitVec 32 := 128#32
  let v7731 : BitVec 32 := Scalar.muli v7730 c128_i32_3038
  v7731

def k1_off424 (v7709 : BitVec 32) (v7711 : BitVec 32) : Fin 3 → Nat :=
  let v7734 : Index := Scalar.indexCast v7709
  let c0_3039 : Index := 0#32
  let c0_i32_3032 : BitVec 32 := 0#32
  let v7715 : BitVec 1 := Scalar.cmpi .sgt v7711 c0_i32_3032
  let v7716 : BitVec 32 := Scalar.extui v7715
  let c0_i32_3033 : BitVec 32 := 0#32
  let v7717 : BitVec 1 := Scalar.cmpi .slt v7711 c0_i32_3033
  let v7718 : BitVec 32 := Scalar.extui v7717
  let v7719 : BitVec 32 := Scalar.subi v7716 v7718
  let c128_i32_3031 : BitVec 32 := 128#32
  let c0_i32_3034 : BitVec 32 := 0#32
  let v7720 : BitVec 1 := Scalar.cmpi .sgt c128_i32_3031 c0_i32_3034
  let v7721 : BitVec 32 := Scalar.extui v7720
  let c0_i32_3035 : BitVec 32 := 0#32
  let v7722 : BitVec 1 := Scalar.cmpi .slt c128_i32_3031 c0_i32_3035
  let v7723 : BitVec 32 := Scalar.extui v7722
  let v7724 : BitVec 32 := Scalar.subi v7721 v7723
  let v7725 : BitVec 1 := Scalar.cmpi .ne v7719 v7724
  let v7726 : BitVec 32 := Scalar.remsi v7711 c128_i32_3031
  let c0_i32_3036 : BitVec 32 := 0#32
  let v7727 : BitVec 1 := Scalar.cmpi .ne v7726 c0_i32_3036
  let v7728 : BitVec 1 := Scalar.andi v7725 v7727
  let v7714 : BitVec 32 := Scalar.divsi v7711 c128_i32_3031
  let c1_i32_3037 : BitVec 32 := 1#32
  let v7729 : BitVec 32 := Scalar.subi v7714 c1_i32_3037
  let v7730 : BitVec 32 := Scalar.select v7728 v7729 v7714
  let c128_i32_3038 : BitVec 32 := 128#32
  let v7731 : BitVec 32 := Scalar.muli v7730 c128_i32_3038
  let v7732 : BitVec 32 := v7731
  let v7735 : Index := Scalar.indexCast v7732
  ![v7734.toNat, 0, v7735.toNat]

def k1_chk136 (v7709 : BitVec 32) (v7711 : BitVec 32) : Prop :=
  (128 ∣ (k1_mult136 v7711).toNat) ∧
  (∀ a, (k1_off424 v7709 v7711) a + S1x16x512.size a ≤ S384x16x1152.size a)
theorem k1_mult136_dvd : ∀ (v7709 : BitVec 32) (v7711 : BitVec 32) (k1_hw136 : k1_chk136 v7709 v7711), 128 ∣ (k1_mult136 v7711).toNat := fun v7709 v7711 k1_hw136 => k1_hw136.1
theorem k1_off424_inb : ∀ (v7709 : BitVec 32) (v7711 : BitVec 32) (k1_hw136 : k1_chk136 v7709 v7711), ∀ a, (k1_off424 v7709 v7711) a + S1x16x512.size a ≤ S384x16x1152.size a := fun v7709 v7711 k1_hw136 => k1_hw136.2

def k1_off425 (i : grid1.Coords) : Fin 2 → Nat :=
  let arg0 : BitVec 32 := BitVec.ofNat 32 (i 0).val
  let c48_i32_2877 : BitVec 32 := 48#32
  let v7315 : BitVec 32 := Scalar.muli arg0 c48_i32_2877
  let c16_i32 : BitVec 32 := 16#32
  let v7316 : BitVec 32 := Scalar.addi v7315 c16_i32
  let v7745 : Index := Scalar.indexCast v7316
  let c7_3042 : Index := 7#32
  ![v7745.toNat, 7]
def k1_off426 (i : grid1.Coords) : Fin 3 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7774 : Index := Scalar.indexCast v7773
  let c0_3058 : Index := 0#32
  let c720_3059 : Index := 720#32
  ![v7774.toNat, 0, 720]
def k1_off427 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7794 : Index := Scalar.indexCast v7773
  let c0_3068 : Index := 0#32
  ![v7794.toNat, 0]
def k1_mult137 (v7797 : BitVec 32) : BitVec 32 :=
  let c0_i32_3072 : BitVec 32 := 0#32
  let v7801 : BitVec 1 := Scalar.cmpi .sgt v7797 c0_i32_3072
  let v7802 : BitVec 32 := Scalar.extui v7801
  let c0_i32_3073 : BitVec 32 := 0#32
  let v7803 : BitVec 1 := Scalar.cmpi .slt v7797 c0_i32_3073
  let v7804 : BitVec 32 := Scalar.extui v7803
  let v7805 : BitVec 32 := Scalar.subi v7802 v7804
  let c128_i32_3071 : BitVec 32 := 128#32
  let c0_i32_3074 : BitVec 32 := 0#32
  let v7806 : BitVec 1 := Scalar.cmpi .sgt c128_i32_3071 c0_i32_3074
  let v7807 : BitVec 32 := Scalar.extui v7806
  let c0_i32_3075 : BitVec 32 := 0#32
  let v7808 : BitVec 1 := Scalar.cmpi .slt c128_i32_3071 c0_i32_3075
  let v7809 : BitVec 32 := Scalar.extui v7808
  let v7810 : BitVec 32 := Scalar.subi v7807 v7809
  let v7811 : BitVec 1 := Scalar.cmpi .ne v7805 v7810
  let v7812 : BitVec 32 := Scalar.remsi v7797 c128_i32_3071
  let c0_i32_3076 : BitVec 32 := 0#32
  let v7813 : BitVec 1 := Scalar.cmpi .ne v7812 c0_i32_3076
  let v7814 : BitVec 1 := Scalar.andi v7811 v7813
  let v7800 : BitVec 32 := Scalar.divsi v7797 c128_i32_3071
  let c1_i32_3077 : BitVec 32 := 1#32
  let v7815 : BitVec 32 := Scalar.subi v7800 c1_i32_3077
  let v7816 : BitVec 32 := Scalar.select v7814 v7815 v7800
  let c128_i32_3078 : BitVec 32 := 128#32
  let v7817 : BitVec 32 := Scalar.muli v7816 c128_i32_3078
  v7817

def k1_off428 (v7795 : BitVec 32) (v7797 : BitVec 32) : Fin 3 → Nat :=
  let v7820 : Index := Scalar.indexCast v7795
  let c0_3079 : Index := 0#32
  let c0_i32_3072 : BitVec 32 := 0#32
  let v7801 : BitVec 1 := Scalar.cmpi .sgt v7797 c0_i32_3072
  let v7802 : BitVec 32 := Scalar.extui v7801
  let c0_i32_3073 : BitVec 32 := 0#32
  let v7803 : BitVec 1 := Scalar.cmpi .slt v7797 c0_i32_3073
  let v7804 : BitVec 32 := Scalar.extui v7803
  let v7805 : BitVec 32 := Scalar.subi v7802 v7804
  let c128_i32_3071 : BitVec 32 := 128#32
  let c0_i32_3074 : BitVec 32 := 0#32
  let v7806 : BitVec 1 := Scalar.cmpi .sgt c128_i32_3071 c0_i32_3074
  let v7807 : BitVec 32 := Scalar.extui v7806
  let c0_i32_3075 : BitVec 32 := 0#32
  let v7808 : BitVec 1 := Scalar.cmpi .slt c128_i32_3071 c0_i32_3075
  let v7809 : BitVec 32 := Scalar.extui v7808
  let v7810 : BitVec 32 := Scalar.subi v7807 v7809
  let v7811 : BitVec 1 := Scalar.cmpi .ne v7805 v7810
  let v7812 : BitVec 32 := Scalar.remsi v7797 c128_i32_3071
  let c0_i32_3076 : BitVec 32 := 0#32
  let v7813 : BitVec 1 := Scalar.cmpi .ne v7812 c0_i32_3076
  let v7814 : BitVec 1 := Scalar.andi v7811 v7813
  let v7800 : BitVec 32 := Scalar.divsi v7797 c128_i32_3071
  let c1_i32_3077 : BitVec 32 := 1#32
  let v7815 : BitVec 32 := Scalar.subi v7800 c1_i32_3077
  let v7816 : BitVec 32 := Scalar.select v7814 v7815 v7800
  let c128_i32_3078 : BitVec 32 := 128#32
  let v7817 : BitVec 32 := Scalar.muli v7816 c128_i32_3078
  let v7818 : BitVec 32 := v7817
  let v7821 : Index := Scalar.indexCast v7818
  ![v7820.toNat, 0, v7821.toNat]

def k1_chk137 (v7795 : BitVec 32) (v7797 : BitVec 32) : Prop :=
  (128 ∣ (k1_mult137 v7797).toNat) ∧
  (∀ a, (k1_off428 v7795 v7797) a + S1x16x512.size a ≤ S384x16x1152.size a)
theorem k1_mult137_dvd : ∀ (v7795 : BitVec 32) (v7797 : BitVec 32) (k1_hw137 : k1_chk137 v7795 v7797), 128 ∣ (k1_mult137 v7797).toNat := fun v7795 v7797 k1_hw137 => k1_hw137.1
theorem k1_off428_inb : ∀ (v7795 : BitVec 32) (v7797 : BitVec 32) (k1_hw137 : k1_chk137 v7795 v7797), ∀ a, (k1_off428 v7795 v7797) a + S1x16x512.size a ≤ S384x16x1152.size a := fun v7795 v7797 k1_hw137 => k1_hw137.2

def k1_off429 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7831 : Index := Scalar.indexCast v7773
  let c0_3082 : Index := 0#32
  ![v7831.toNat, 0]
def k1_off430 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7847 : Index := Scalar.indexCast v7773
  let c1_3088 : Index := 1#32
  ![v7847.toNat, 1]
def k1_mult138 (v7850 : BitVec 32) : BitVec 32 :=
  let c0_i32_3092 : BitVec 32 := 0#32
  let v7854 : BitVec 1 := Scalar.cmpi .sgt v7850 c0_i32_3092
  let v7855 : BitVec 32 := Scalar.extui v7854
  let c0_i32_3093 : BitVec 32 := 0#32
  let v7856 : BitVec 1 := Scalar.cmpi .slt v7850 c0_i32_3093
  let v7857 : BitVec 32 := Scalar.extui v7856
  let v7858 : BitVec 32 := Scalar.subi v7855 v7857
  let c128_i32_3091 : BitVec 32 := 128#32
  let c0_i32_3094 : BitVec 32 := 0#32
  let v7859 : BitVec 1 := Scalar.cmpi .sgt c128_i32_3091 c0_i32_3094
  let v7860 : BitVec 32 := Scalar.extui v7859
  let c0_i32_3095 : BitVec 32 := 0#32
  let v7861 : BitVec 1 := Scalar.cmpi .slt c128_i32_3091 c0_i32_3095
  let v7862 : BitVec 32 := Scalar.extui v7861
  let v7863 : BitVec 32 := Scalar.subi v7860 v7862
  let v7864 : BitVec 1 := Scalar.cmpi .ne v7858 v7863
  let v7865 : BitVec 32 := Scalar.remsi v7850 c128_i32_3091
  let c0_i32_3096 : BitVec 32 := 0#32
  let v7866 : BitVec 1 := Scalar.cmpi .ne v7865 c0_i32_3096
  let v7867 : BitVec 1 := Scalar.andi v7864 v7866
  let v7853 : BitVec 32 := Scalar.divsi v7850 c128_i32_3091
  let c1_i32_3097 : BitVec 32 := 1#32
  let v7868 : BitVec 32 := Scalar.subi v7853 c1_i32_3097
  let v7869 : BitVec 32 := Scalar.select v7867 v7868 v7853
  let c128_i32_3098 : BitVec 32 := 128#32
  let v7870 : BitVec 32 := Scalar.muli v7869 c128_i32_3098
  v7870

def k1_off431 (v7848 : BitVec 32) (v7850 : BitVec 32) : Fin 3 → Nat :=
  let v7873 : Index := Scalar.indexCast v7848
  let c0_3099 : Index := 0#32
  let c0_i32_3092 : BitVec 32 := 0#32
  let v7854 : BitVec 1 := Scalar.cmpi .sgt v7850 c0_i32_3092
  let v7855 : BitVec 32 := Scalar.extui v7854
  let c0_i32_3093 : BitVec 32 := 0#32
  let v7856 : BitVec 1 := Scalar.cmpi .slt v7850 c0_i32_3093
  let v7857 : BitVec 32 := Scalar.extui v7856
  let v7858 : BitVec 32 := Scalar.subi v7855 v7857
  let c128_i32_3091 : BitVec 32 := 128#32
  let c0_i32_3094 : BitVec 32 := 0#32
  let v7859 : BitVec 1 := Scalar.cmpi .sgt c128_i32_3091 c0_i32_3094
  let v7860 : BitVec 32 := Scalar.extui v7859
  let c0_i32_3095 : BitVec 32 := 0#32
  let v7861 : BitVec 1 := Scalar.cmpi .slt c128_i32_3091 c0_i32_3095
  let v7862 : BitVec 32 := Scalar.extui v7861
  let v7863 : BitVec 32 := Scalar.subi v7860 v7862
  let v7864 : BitVec 1 := Scalar.cmpi .ne v7858 v7863
  let v7865 : BitVec 32 := Scalar.remsi v7850 c128_i32_3091
  let c0_i32_3096 : BitVec 32 := 0#32
  let v7866 : BitVec 1 := Scalar.cmpi .ne v7865 c0_i32_3096
  let v7867 : BitVec 1 := Scalar.andi v7864 v7866
  let v7853 : BitVec 32 := Scalar.divsi v7850 c128_i32_3091
  let c1_i32_3097 : BitVec 32 := 1#32
  let v7868 : BitVec 32 := Scalar.subi v7853 c1_i32_3097
  let v7869 : BitVec 32 := Scalar.select v7867 v7868 v7853
  let c128_i32_3098 : BitVec 32 := 128#32
  let v7870 : BitVec 32 := Scalar.muli v7869 c128_i32_3098
  let v7871 : BitVec 32 := v7870
  let v7874 : Index := Scalar.indexCast v7871
  ![v7873.toNat, 0, v7874.toNat]

def k1_chk138 (v7848 : BitVec 32) (v7850 : BitVec 32) : Prop :=
  (128 ∣ (k1_mult138 v7850).toNat) ∧
  (∀ a, (k1_off431 v7848 v7850) a + S1x16x512.size a ≤ S384x16x1152.size a)
theorem k1_mult138_dvd : ∀ (v7848 : BitVec 32) (v7850 : BitVec 32) (k1_hw138 : k1_chk138 v7848 v7850), 128 ∣ (k1_mult138 v7850).toNat := fun v7848 v7850 k1_hw138 => k1_hw138.1
theorem k1_off431_inb : ∀ (v7848 : BitVec 32) (v7850 : BitVec 32) (k1_hw138 : k1_chk138 v7848 v7850), ∀ a, (k1_off431 v7848 v7850) a + S1x16x512.size a ≤ S384x16x1152.size a := fun v7848 v7850 k1_hw138 => k1_hw138.2

def k1_off432 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7884 : Index := Scalar.indexCast v7773
  let c1_3102 : Index := 1#32
  ![v7884.toNat, 1]
def k1_off433 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7900 : Index := Scalar.indexCast v7773
  let c2_3108 : Index := 2#32
  ![v7900.toNat, 2]
def k1_mult139 (v7903 : BitVec 32) : BitVec 32 :=
  let c0_i32_3112 : BitVec 32 := 0#32
  let v7907 : BitVec 1 := Scalar.cmpi .sgt v7903 c0_i32_3112
  let v7908 : BitVec 32 := Scalar.extui v7907
  let c0_i32_3113 : BitVec 32 := 0#32
  let v7909 : BitVec 1 := Scalar.cmpi .slt v7903 c0_i32_3113
  let v7910 : BitVec 32 := Scalar.extui v7909
  let v7911 : BitVec 32 := Scalar.subi v7908 v7910
  let c128_i32_3111 : BitVec 32 := 128#32
  let c0_i32_3114 : BitVec 32 := 0#32
  let v7912 : BitVec 1 := Scalar.cmpi .sgt c128_i32_3111 c0_i32_3114
  let v7913 : BitVec 32 := Scalar.extui v7912
  let c0_i32_3115 : BitVec 32 := 0#32
  let v7914 : BitVec 1 := Scalar.cmpi .slt c128_i32_3111 c0_i32_3115
  let v7915 : BitVec 32 := Scalar.extui v7914
  let v7916 : BitVec 32 := Scalar.subi v7913 v7915
  let v7917 : BitVec 1 := Scalar.cmpi .ne v7911 v7916
  let v7918 : BitVec 32 := Scalar.remsi v7903 c128_i32_3111
  let c0_i32_3116 : BitVec 32 := 0#32
  let v7919 : BitVec 1 := Scalar.cmpi .ne v7918 c0_i32_3116
  let v7920 : BitVec 1 := Scalar.andi v7917 v7919
  let v7906 : BitVec 32 := Scalar.divsi v7903 c128_i32_3111
  let c1_i32_3117 : BitVec 32 := 1#32
  let v7921 : BitVec 32 := Scalar.subi v7906 c1_i32_3117
  let v7922 : BitVec 32 := Scalar.select v7920 v7921 v7906
  let c128_i32_3118 : BitVec 32 := 128#32
  let v7923 : BitVec 32 := Scalar.muli v7922 c128_i32_3118
  v7923

def k1_off434 (v7901 : BitVec 32) (v7903 : BitVec 32) : Fin 3 → Nat :=
  let v7926 : Index := Scalar.indexCast v7901
  let c0_3119 : Index := 0#32
  let c0_i32_3112 : BitVec 32 := 0#32
  let v7907 : BitVec 1 := Scalar.cmpi .sgt v7903 c0_i32_3112
  let v7908 : BitVec 32 := Scalar.extui v7907
  let c0_i32_3113 : BitVec 32 := 0#32
  let v7909 : BitVec 1 := Scalar.cmpi .slt v7903 c0_i32_3113
  let v7910 : BitVec 32 := Scalar.extui v7909
  let v7911 : BitVec 32 := Scalar.subi v7908 v7910
  let c128_i32_3111 : BitVec 32 := 128#32
  let c0_i32_3114 : BitVec 32 := 0#32
  let v7912 : BitVec 1 := Scalar.cmpi .sgt c128_i32_3111 c0_i32_3114
  let v7913 : BitVec 32 := Scalar.extui v7912
  let c0_i32_3115 : BitVec 32 := 0#32
  let v7914 : BitVec 1 := Scalar.cmpi .slt c128_i32_3111 c0_i32_3115
  let v7915 : BitVec 32 := Scalar.extui v7914
  let v7916 : BitVec 32 := Scalar.subi v7913 v7915
  let v7917 : BitVec 1 := Scalar.cmpi .ne v7911 v7916
  let v7918 : BitVec 32 := Scalar.remsi v7903 c128_i32_3111
  let c0_i32_3116 : BitVec 32 := 0#32
  let v7919 : BitVec 1 := Scalar.cmpi .ne v7918 c0_i32_3116
  let v7920 : BitVec 1 := Scalar.andi v7917 v7919
  let v7906 : BitVec 32 := Scalar.divsi v7903 c128_i32_3111
  let c1_i32_3117 : BitVec 32 := 1#32
  let v7921 : BitVec 32 := Scalar.subi v7906 c1_i32_3117
  let v7922 : BitVec 32 := Scalar.select v7920 v7921 v7906
  let c128_i32_3118 : BitVec 32 := 128#32
  let v7923 : BitVec 32 := Scalar.muli v7922 c128_i32_3118
  let v7924 : BitVec 32 := v7923
  let v7927 : Index := Scalar.indexCast v7924
  ![v7926.toNat, 0, v7927.toNat]

def k1_chk139 (v7901 : BitVec 32) (v7903 : BitVec 32) : Prop :=
  (128 ∣ (k1_mult139 v7903).toNat) ∧
  (∀ a, (k1_off434 v7901 v7903) a + S1x16x512.size a ≤ S384x16x1152.size a)
theorem k1_mult139_dvd : ∀ (v7901 : BitVec 32) (v7903 : BitVec 32) (k1_hw139 : k1_chk139 v7901 v7903), 128 ∣ (k1_mult139 v7903).toNat := fun v7901 v7903 k1_hw139 => k1_hw139.1
theorem k1_off434_inb : ∀ (v7901 : BitVec 32) (v7903 : BitVec 32) (k1_hw139 : k1_chk139 v7901 v7903), ∀ a, (k1_off434 v7901 v7903) a + S1x16x512.size a ≤ S384x16x1152.size a := fun v7901 v7903 k1_hw139 => k1_hw139.2

def k1_off435 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7937 : Index := Scalar.indexCast v7773
  let c2_3122 : Index := 2#32
  ![v7937.toNat, 2]
def k1_off436 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7953 : Index := Scalar.indexCast v7773
  let c3_3128 : Index := 3#32
  ![v7953.toNat, 3]
def k1_mult140 (v7956 : BitVec 32) : BitVec 32 :=
  let c0_i32_3132 : BitVec 32 := 0#32
  let v7960 : BitVec 1 := Scalar.cmpi .sgt v7956 c0_i32_3132
  let v7961 : BitVec 32 := Scalar.extui v7960
  let c0_i32_3133 : BitVec 32 := 0#32
  let v7962 : BitVec 1 := Scalar.cmpi .slt v7956 c0_i32_3133
  let v7963 : BitVec 32 := Scalar.extui v7962
  let v7964 : BitVec 32 := Scalar.subi v7961 v7963
  let c128_i32_3131 : BitVec 32 := 128#32
  let c0_i32_3134 : BitVec 32 := 0#32
  let v7965 : BitVec 1 := Scalar.cmpi .sgt c128_i32_3131 c0_i32_3134
  let v7966 : BitVec 32 := Scalar.extui v7965
  let c0_i32_3135 : BitVec 32 := 0#32
  let v7967 : BitVec 1 := Scalar.cmpi .slt c128_i32_3131 c0_i32_3135
  let v7968 : BitVec 32 := Scalar.extui v7967
  let v7969 : BitVec 32 := Scalar.subi v7966 v7968
  let v7970 : BitVec 1 := Scalar.cmpi .ne v7964 v7969
  let v7971 : BitVec 32 := Scalar.remsi v7956 c128_i32_3131
  let c0_i32_3136 : BitVec 32 := 0#32
  let v7972 : BitVec 1 := Scalar.cmpi .ne v7971 c0_i32_3136
  let v7973 : BitVec 1 := Scalar.andi v7970 v7972
  let v7959 : BitVec 32 := Scalar.divsi v7956 c128_i32_3131
  let c1_i32_3137 : BitVec 32 := 1#32
  let v7974 : BitVec 32 := Scalar.subi v7959 c1_i32_3137
  let v7975 : BitVec 32 := Scalar.select v7973 v7974 v7959
  let c128_i32_3138 : BitVec 32 := 128#32
  let v7976 : BitVec 32 := Scalar.muli v7975 c128_i32_3138
  v7976

def k1_off437 (v7954 : BitVec 32) (v7956 : BitVec 32) : Fin 3 → Nat :=
  let v7979 : Index := Scalar.indexCast v7954
  let c0_3139 : Index := 0#32
  let c0_i32_3132 : BitVec 32 := 0#32
  let v7960 : BitVec 1 := Scalar.cmpi .sgt v7956 c0_i32_3132
  let v7961 : BitVec 32 := Scalar.extui v7960
  let c0_i32_3133 : BitVec 32 := 0#32
  let v7962 : BitVec 1 := Scalar.cmpi .slt v7956 c0_i32_3133
  let v7963 : BitVec 32 := Scalar.extui v7962
  let v7964 : BitVec 32 := Scalar.subi v7961 v7963
  let c128_i32_3131 : BitVec 32 := 128#32
  let c0_i32_3134 : BitVec 32 := 0#32
  let v7965 : BitVec 1 := Scalar.cmpi .sgt c128_i32_3131 c0_i32_3134
  let v7966 : BitVec 32 := Scalar.extui v7965
  let c0_i32_3135 : BitVec 32 := 0#32
  let v7967 : BitVec 1 := Scalar.cmpi .slt c128_i32_3131 c0_i32_3135
  let v7968 : BitVec 32 := Scalar.extui v7967
  let v7969 : BitVec 32 := Scalar.subi v7966 v7968
  let v7970 : BitVec 1 := Scalar.cmpi .ne v7964 v7969
  let v7971 : BitVec 32 := Scalar.remsi v7956 c128_i32_3131
  let c0_i32_3136 : BitVec 32 := 0#32
  let v7972 : BitVec 1 := Scalar.cmpi .ne v7971 c0_i32_3136
  let v7973 : BitVec 1 := Scalar.andi v7970 v7972
  let v7959 : BitVec 32 := Scalar.divsi v7956 c128_i32_3131
  let c1_i32_3137 : BitVec 32 := 1#32
  let v7974 : BitVec 32 := Scalar.subi v7959 c1_i32_3137
  let v7975 : BitVec 32 := Scalar.select v7973 v7974 v7959
  let c128_i32_3138 : BitVec 32 := 128#32
  let v7976 : BitVec 32 := Scalar.muli v7975 c128_i32_3138
  let v7977 : BitVec 32 := v7976
  let v7980 : Index := Scalar.indexCast v7977
  ![v7979.toNat, 0, v7980.toNat]

def k1_chk140 (v7954 : BitVec 32) (v7956 : BitVec 32) : Prop :=
  (128 ∣ (k1_mult140 v7956).toNat) ∧
  (∀ a, (k1_off437 v7954 v7956) a + S1x16x512.size a ≤ S384x16x1152.size a)
theorem k1_mult140_dvd : ∀ (v7954 : BitVec 32) (v7956 : BitVec 32) (k1_hw140 : k1_chk140 v7954 v7956), 128 ∣ (k1_mult140 v7956).toNat := fun v7954 v7956 k1_hw140 => k1_hw140.1
theorem k1_off437_inb : ∀ (v7954 : BitVec 32) (v7956 : BitVec 32) (k1_hw140 : k1_chk140 v7954 v7956), ∀ a, (k1_off437 v7954 v7956) a + S1x16x512.size a ≤ S384x16x1152.size a := fun v7954 v7956 k1_hw140 => k1_hw140.2

def k1_off438 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v7990 : Index := Scalar.indexCast v7773
  let c3_3142 : Index := 3#32
  ![v7990.toNat, 3]
def k1_off439 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8006 : Index := Scalar.indexCast v7773
  let c4_3148 : Index := 4#32
  ![v8006.toNat, 4]
def k1_mult141 (v8009 : BitVec 32) : BitVec 32 :=
  let c0_i32_3152 : BitVec 32 := 0#32
  let v8013 : BitVec 1 := Scalar.cmpi .sgt v8009 c0_i32_3152
  let v8014 : BitVec 32 := Scalar.extui v8013
  let c0_i32_3153 : BitVec 32 := 0#32
  let v8015 : BitVec 1 := Scalar.cmpi .slt v8009 c0_i32_3153
  let v8016 : BitVec 32 := Scalar.extui v8015
  let v8017 : BitVec 32 := Scalar.subi v8014 v8016
  let c128_i32_3151 : BitVec 32 := 128#32
  let c0_i32_3154 : BitVec 32 := 0#32
  let v8018 : BitVec 1 := Scalar.cmpi .sgt c128_i32_3151 c0_i32_3154
  let v8019 : BitVec 32 := Scalar.extui v8018
  let c0_i32_3155 : BitVec 32 := 0#32
  let v8020 : BitVec 1 := Scalar.cmpi .slt c128_i32_3151 c0_i32_3155
  let v8021 : BitVec 32 := Scalar.extui v8020
  let v8022 : BitVec 32 := Scalar.subi v8019 v8021
  let v8023 : BitVec 1 := Scalar.cmpi .ne v8017 v8022
  let v8024 : BitVec 32 := Scalar.remsi v8009 c128_i32_3151
  let c0_i32_3156 : BitVec 32 := 0#32
  let v8025 : BitVec 1 := Scalar.cmpi .ne v8024 c0_i32_3156
  let v8026 : BitVec 1 := Scalar.andi v8023 v8025
  let v8012 : BitVec 32 := Scalar.divsi v8009 c128_i32_3151
  let c1_i32_3157 : BitVec 32 := 1#32
  let v8027 : BitVec 32 := Scalar.subi v8012 c1_i32_3157
  let v8028 : BitVec 32 := Scalar.select v8026 v8027 v8012
  let c128_i32_3158 : BitVec 32 := 128#32
  let v8029 : BitVec 32 := Scalar.muli v8028 c128_i32_3158
  v8029

def k1_off440 (v8007 : BitVec 32) (v8009 : BitVec 32) : Fin 3 → Nat :=
  let v8032 : Index := Scalar.indexCast v8007
  let c0_3159 : Index := 0#32
  let c0_i32_3152 : BitVec 32 := 0#32
  let v8013 : BitVec 1 := Scalar.cmpi .sgt v8009 c0_i32_3152
  let v8014 : BitVec 32 := Scalar.extui v8013
  let c0_i32_3153 : BitVec 32 := 0#32
  let v8015 : BitVec 1 := Scalar.cmpi .slt v8009 c0_i32_3153
  let v8016 : BitVec 32 := Scalar.extui v8015
  let v8017 : BitVec 32 := Scalar.subi v8014 v8016
  let c128_i32_3151 : BitVec 32 := 128#32
  let c0_i32_3154 : BitVec 32 := 0#32
  let v8018 : BitVec 1 := Scalar.cmpi .sgt c128_i32_3151 c0_i32_3154
  let v8019 : BitVec 32 := Scalar.extui v8018
  let c0_i32_3155 : BitVec 32 := 0#32
  let v8020 : BitVec 1 := Scalar.cmpi .slt c128_i32_3151 c0_i32_3155
  let v8021 : BitVec 32 := Scalar.extui v8020
  let v8022 : BitVec 32 := Scalar.subi v8019 v8021
  let v8023 : BitVec 1 := Scalar.cmpi .ne v8017 v8022
  let v8024 : BitVec 32 := Scalar.remsi v8009 c128_i32_3151
  let c0_i32_3156 : BitVec 32 := 0#32
  let v8025 : BitVec 1 := Scalar.cmpi .ne v8024 c0_i32_3156
  let v8026 : BitVec 1 := Scalar.andi v8023 v8025
  let v8012 : BitVec 32 := Scalar.divsi v8009 c128_i32_3151
  let c1_i32_3157 : BitVec 32 := 1#32
  let v8027 : BitVec 32 := Scalar.subi v8012 c1_i32_3157
  let v8028 : BitVec 32 := Scalar.select v8026 v8027 v8012
  let c128_i32_3158 : BitVec 32 := 128#32
  let v8029 : BitVec 32 := Scalar.muli v8028 c128_i32_3158
  let v8030 : BitVec 32 := v8029
  let v8033 : Index := Scalar.indexCast v8030
  ![v8032.toNat, 0, v8033.toNat]

def k1_chk141 (v8007 : BitVec 32) (v8009 : BitVec 32) : Prop :=
  (128 ∣ (k1_mult141 v8009).toNat) ∧
  (∀ a, (k1_off440 v8007 v8009) a + S1x16x512.size a ≤ S384x16x1152.size a)
theorem k1_mult141_dvd : ∀ (v8007 : BitVec 32) (v8009 : BitVec 32) (k1_hw141 : k1_chk141 v8007 v8009), 128 ∣ (k1_mult141 v8009).toNat := fun v8007 v8009 k1_hw141 => k1_hw141.1
theorem k1_off440_inb : ∀ (v8007 : BitVec 32) (v8009 : BitVec 32) (k1_hw141 : k1_chk141 v8007 v8009), ∀ a, (k1_off440 v8007 v8009) a + S1x16x512.size a ≤ S384x16x1152.size a := fun v8007 v8009 k1_hw141 => k1_hw141.2

def k1_off441 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8043 : Index := Scalar.indexCast v7773
  let c4_3162 : Index := 4#32
  ![v8043.toNat, 4]
def k1_off442 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8059 : Index := Scalar.indexCast v7773
  let c5_3168 : Index := 5#32
  ![v8059.toNat, 5]
def k1_mult142 (v8062 : BitVec 32) : BitVec 32 :=
  let c0_i32_3172 : BitVec 32 := 0#32
  let v8066 : BitVec 1 := Scalar.cmpi .sgt v8062 c0_i32_3172
  let v8067 : BitVec 32 := Scalar.extui v8066
  let c0_i32_3173 : BitVec 32 := 0#32
  let v8068 : BitVec 1 := Scalar.cmpi .slt v8062 c0_i32_3173
  let v8069 : BitVec 32 := Scalar.extui v8068
  let v8070 : BitVec 32 := Scalar.subi v8067 v8069
  let c128_i32_3171 : BitVec 32 := 128#32
  let c0_i32_3174 : BitVec 32 := 0#32
  let v8071 : BitVec 1 := Scalar.cmpi .sgt c128_i32_3171 c0_i32_3174
  let v8072 : BitVec 32 := Scalar.extui v8071
  let c0_i32_3175 : BitVec 32 := 0#32
  let v8073 : BitVec 1 := Scalar.cmpi .slt c128_i32_3171 c0_i32_3175
  let v8074 : BitVec 32 := Scalar.extui v8073
  let v8075 : BitVec 32 := Scalar.subi v8072 v8074
  let v8076 : BitVec 1 := Scalar.cmpi .ne v8070 v8075
  let v8077 : BitVec 32 := Scalar.remsi v8062 c128_i32_3171
  let c0_i32_3176 : BitVec 32 := 0#32
  let v8078 : BitVec 1 := Scalar.cmpi .ne v8077 c0_i32_3176
  let v8079 : BitVec 1 := Scalar.andi v8076 v8078
  let v8065 : BitVec 32 := Scalar.divsi v8062 c128_i32_3171
  let c1_i32_3177 : BitVec 32 := 1#32
  let v8080 : BitVec 32 := Scalar.subi v8065 c1_i32_3177
  let v8081 : BitVec 32 := Scalar.select v8079 v8080 v8065
  let c128_i32_3178 : BitVec 32 := 128#32
  let v8082 : BitVec 32 := Scalar.muli v8081 c128_i32_3178
  v8082

def k1_off443 (v8060 : BitVec 32) (v8062 : BitVec 32) : Fin 3 → Nat :=
  let v8085 : Index := Scalar.indexCast v8060
  let c0_3179 : Index := 0#32
  let c0_i32_3172 : BitVec 32 := 0#32
  let v8066 : BitVec 1 := Scalar.cmpi .sgt v8062 c0_i32_3172
  let v8067 : BitVec 32 := Scalar.extui v8066
  let c0_i32_3173 : BitVec 32 := 0#32
  let v8068 : BitVec 1 := Scalar.cmpi .slt v8062 c0_i32_3173
  let v8069 : BitVec 32 := Scalar.extui v8068
  let v8070 : BitVec 32 := Scalar.subi v8067 v8069
  let c128_i32_3171 : BitVec 32 := 128#32
  let c0_i32_3174 : BitVec 32 := 0#32
  let v8071 : BitVec 1 := Scalar.cmpi .sgt c128_i32_3171 c0_i32_3174
  let v8072 : BitVec 32 := Scalar.extui v8071
  let c0_i32_3175 : BitVec 32 := 0#32
  let v8073 : BitVec 1 := Scalar.cmpi .slt c128_i32_3171 c0_i32_3175
  let v8074 : BitVec 32 := Scalar.extui v8073
  let v8075 : BitVec 32 := Scalar.subi v8072 v8074
  let v8076 : BitVec 1 := Scalar.cmpi .ne v8070 v8075
  let v8077 : BitVec 32 := Scalar.remsi v8062 c128_i32_3171
  let c0_i32_3176 : BitVec 32 := 0#32
  let v8078 : BitVec 1 := Scalar.cmpi .ne v8077 c0_i32_3176
  let v8079 : BitVec 1 := Scalar.andi v8076 v8078
  let v8065 : BitVec 32 := Scalar.divsi v8062 c128_i32_3171
  let c1_i32_3177 : BitVec 32 := 1#32
  let v8080 : BitVec 32 := Scalar.subi v8065 c1_i32_3177
  let v8081 : BitVec 32 := Scalar.select v8079 v8080 v8065
  let c128_i32_3178 : BitVec 32 := 128#32
  let v8082 : BitVec 32 := Scalar.muli v8081 c128_i32_3178
  let v8083 : BitVec 32 := v8082
  let v8086 : Index := Scalar.indexCast v8083
  ![v8085.toNat, 0, v8086.toNat]

def k1_chk142 (v8060 : BitVec 32) (v8062 : BitVec 32) : Prop :=
  (128 ∣ (k1_mult142 v8062).toNat) ∧
  (∀ a, (k1_off443 v8060 v8062) a + S1x16x512.size a ≤ S384x16x1152.size a)
theorem k1_mult142_dvd : ∀ (v8060 : BitVec 32) (v8062 : BitVec 32) (k1_hw142 : k1_chk142 v8060 v8062), 128 ∣ (k1_mult142 v8062).toNat := fun v8060 v8062 k1_hw142 => k1_hw142.1
theorem k1_off443_inb : ∀ (v8060 : BitVec 32) (v8062 : BitVec 32) (k1_hw142 : k1_chk142 v8060 v8062), ∀ a, (k1_off443 v8060 v8062) a + S1x16x512.size a ≤ S384x16x1152.size a := fun v8060 v8062 k1_hw142 => k1_hw142.2

def k1_off444 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8096 : Index := Scalar.indexCast v7773
  let c5_3182 : Index := 5#32
  ![v8096.toNat, 5]
def k1_off445 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8112 : Index := Scalar.indexCast v7773
  let c6_3188 : Index := 6#32
  ![v8112.toNat, 6]
def k1_mult143 (v8115 : BitVec 32) : BitVec 32 :=
  let c0_i32_3192 : BitVec 32 := 0#32
  let v8119 : BitVec 1 := Scalar.cmpi .sgt v8115 c0_i32_3192
  let v8120 : BitVec 32 := Scalar.extui v8119
  let c0_i32_3193 : BitVec 32 := 0#32
  let v8121 : BitVec 1 := Scalar.cmpi .slt v8115 c0_i32_3193
  let v8122 : BitVec 32 := Scalar.extui v8121
  let v8123 : BitVec 32 := Scalar.subi v8120 v8122
  let c128_i32_3191 : BitVec 32 := 128#32
  let c0_i32_3194 : BitVec 32 := 0#32
  let v8124 : BitVec 1 := Scalar.cmpi .sgt c128_i32_3191 c0_i32_3194
  let v8125 : BitVec 32 := Scalar.extui v8124
  let c0_i32_3195 : BitVec 32 := 0#32
  let v8126 : BitVec 1 := Scalar.cmpi .slt c128_i32_3191 c0_i32_3195
  let v8127 : BitVec 32 := Scalar.extui v8126
  let v8128 : BitVec 32 := Scalar.subi v8125 v8127
  let v8129 : BitVec 1 := Scalar.cmpi .ne v8123 v8128
  let v8130 : BitVec 32 := Scalar.remsi v8115 c128_i32_3191
  let c0_i32_3196 : BitVec 32 := 0#32
  let v8131 : BitVec 1 := Scalar.cmpi .ne v8130 c0_i32_3196
  let v8132 : BitVec 1 := Scalar.andi v8129 v8131
  let v8118 : BitVec 32 := Scalar.divsi v8115 c128_i32_3191
  let c1_i32_3197 : BitVec 32 := 1#32
  let v8133 : BitVec 32 := Scalar.subi v8118 c1_i32_3197
  let v8134 : BitVec 32 := Scalar.select v8132 v8133 v8118
  let c128_i32_3198 : BitVec 32 := 128#32
  let v8135 : BitVec 32 := Scalar.muli v8134 c128_i32_3198
  v8135

def k1_off446 (v8113 : BitVec 32) (v8115 : BitVec 32) : Fin 3 → Nat :=
  let v8138 : Index := Scalar.indexCast v8113
  let c0_3199 : Index := 0#32
  let c0_i32_3192 : BitVec 32 := 0#32
  let v8119 : BitVec 1 := Scalar.cmpi .sgt v8115 c0_i32_3192
  let v8120 : BitVec 32 := Scalar.extui v8119
  let c0_i32_3193 : BitVec 32 := 0#32
  let v8121 : BitVec 1 := Scalar.cmpi .slt v8115 c0_i32_3193
  let v8122 : BitVec 32 := Scalar.extui v8121
  let v8123 : BitVec 32 := Scalar.subi v8120 v8122
  let c128_i32_3191 : BitVec 32 := 128#32
  let c0_i32_3194 : BitVec 32 := 0#32
  let v8124 : BitVec 1 := Scalar.cmpi .sgt c128_i32_3191 c0_i32_3194
  let v8125 : BitVec 32 := Scalar.extui v8124
  let c0_i32_3195 : BitVec 32 := 0#32
  let v8126 : BitVec 1 := Scalar.cmpi .slt c128_i32_3191 c0_i32_3195
  let v8127 : BitVec 32 := Scalar.extui v8126
  let v8128 : BitVec 32 := Scalar.subi v8125 v8127
  let v8129 : BitVec 1 := Scalar.cmpi .ne v8123 v8128
  let v8130 : BitVec 32 := Scalar.remsi v8115 c128_i32_3191
  let c0_i32_3196 : BitVec 32 := 0#32
  let v8131 : BitVec 1 := Scalar.cmpi .ne v8130 c0_i32_3196
  let v8132 : BitVec 1 := Scalar.andi v8129 v8131
  let v8118 : BitVec 32 := Scalar.divsi v8115 c128_i32_3191
  let c1_i32_3197 : BitVec 32 := 1#32
  let v8133 : BitVec 32 := Scalar.subi v8118 c1_i32_3197
  let v8134 : BitVec 32 := Scalar.select v8132 v8133 v8118
  let c128_i32_3198 : BitVec 32 := 128#32
  let v8135 : BitVec 32 := Scalar.muli v8134 c128_i32_3198
  let v8136 : BitVec 32 := v8135
  let v8139 : Index := Scalar.indexCast v8136
  ![v8138.toNat, 0, v8139.toNat]

def k1_chk143 (v8113 : BitVec 32) (v8115 : BitVec 32) : Prop :=
  (128 ∣ (k1_mult143 v8115).toNat) ∧
  (∀ a, (k1_off446 v8113 v8115) a + S1x16x512.size a ≤ S384x16x1152.size a)
theorem k1_mult143_dvd : ∀ (v8113 : BitVec 32) (v8115 : BitVec 32) (k1_hw143 : k1_chk143 v8113 v8115), 128 ∣ (k1_mult143 v8115).toNat := fun v8113 v8115 k1_hw143 => k1_hw143.1
theorem k1_off446_inb : ∀ (v8113 : BitVec 32) (v8115 : BitVec 32) (k1_hw143 : k1_chk143 v8113 v8115), ∀ a, (k1_off446 v8113 v8115) a + S1x16x512.size a ≤ S384x16x1152.size a := fun v8113 v8115 k1_hw143 => k1_hw143.2

def k1_off447 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8149 : Index := Scalar.indexCast v7773
  let c6_3202 : Index := 6#32
  ![v8149.toNat, 6]
def k1_off448 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8165 : Index := Scalar.indexCast v7773
  let c7_3208 : Index := 7#32
  ![v8165.toNat, 7]
def k1_mult144 (v8168 : BitVec 32) : BitVec 32 :=
  let c0_i32_3212 : BitVec 32 := 0#32
  let v8172 : BitVec 1 := Scalar.cmpi .sgt v8168 c0_i32_3212
  let v8173 : BitVec 32 := Scalar.extui v8172
  let c0_i32_3213 : BitVec 32 := 0#32
  let v8174 : BitVec 1 := Scalar.cmpi .slt v8168 c0_i32_3213
  let v8175 : BitVec 32 := Scalar.extui v8174
  let v8176 : BitVec 32 := Scalar.subi v8173 v8175
  let c128_i32_3211 : BitVec 32 := 128#32
  let c0_i32_3214 : BitVec 32 := 0#32
  let v8177 : BitVec 1 := Scalar.cmpi .sgt c128_i32_3211 c0_i32_3214
  let v8178 : BitVec 32 := Scalar.extui v8177
  let c0_i32_3215 : BitVec 32 := 0#32
  let v8179 : BitVec 1 := Scalar.cmpi .slt c128_i32_3211 c0_i32_3215
  let v8180 : BitVec 32 := Scalar.extui v8179
  let v8181 : BitVec 32 := Scalar.subi v8178 v8180
  let v8182 : BitVec 1 := Scalar.cmpi .ne v8176 v8181
  let v8183 : BitVec 32 := Scalar.remsi v8168 c128_i32_3211
  let c0_i32_3216 : BitVec 32 := 0#32
  let v8184 : BitVec 1 := Scalar.cmpi .ne v8183 c0_i32_3216
  let v8185 : BitVec 1 := Scalar.andi v8182 v8184
  let v8171 : BitVec 32 := Scalar.divsi v8168 c128_i32_3211
  let c1_i32_3217 : BitVec 32 := 1#32
  let v8186 : BitVec 32 := Scalar.subi v8171 c1_i32_3217
  let v8187 : BitVec 32 := Scalar.select v8185 v8186 v8171
  let c128_i32_3218 : BitVec 32 := 128#32
  let v8188 : BitVec 32 := Scalar.muli v8187 c128_i32_3218
  v8188

def k1_off449 (v8166 : BitVec 32) (v8168 : BitVec 32) : Fin 3 → Nat :=
  let v8191 : Index := Scalar.indexCast v8166
  let c0_3219 : Index := 0#32
  let c0_i32_3212 : BitVec 32 := 0#32
  let v8172 : BitVec 1 := Scalar.cmpi .sgt v8168 c0_i32_3212
  let v8173 : BitVec 32 := Scalar.extui v8172
  let c0_i32_3213 : BitVec 32 := 0#32
  let v8174 : BitVec 1 := Scalar.cmpi .slt v8168 c0_i32_3213
  let v8175 : BitVec 32 := Scalar.extui v8174
  let v8176 : BitVec 32 := Scalar.subi v8173 v8175
  let c128_i32_3211 : BitVec 32 := 128#32
  let c0_i32_3214 : BitVec 32 := 0#32
  let v8177 : BitVec 1 := Scalar.cmpi .sgt c128_i32_3211 c0_i32_3214
  let v8178 : BitVec 32 := Scalar.extui v8177
  let c0_i32_3215 : BitVec 32 := 0#32
  let v8179 : BitVec 1 := Scalar.cmpi .slt c128_i32_3211 c0_i32_3215
  let v8180 : BitVec 32 := Scalar.extui v8179
  let v8181 : BitVec 32 := Scalar.subi v8178 v8180
  let v8182 : BitVec 1 := Scalar.cmpi .ne v8176 v8181
  let v8183 : BitVec 32 := Scalar.remsi v8168 c128_i32_3211
  let c0_i32_3216 : BitVec 32 := 0#32
  let v8184 : BitVec 1 := Scalar.cmpi .ne v8183 c0_i32_3216
  let v8185 : BitVec 1 := Scalar.andi v8182 v8184
  let v8171 : BitVec 32 := Scalar.divsi v8168 c128_i32_3211
  let c1_i32_3217 : BitVec 32 := 1#32
  let v8186 : BitVec 32 := Scalar.subi v8171 c1_i32_3217
  let v8187 : BitVec 32 := Scalar.select v8185 v8186 v8171
  let c128_i32_3218 : BitVec 32 := 128#32
  let v8188 : BitVec 32 := Scalar.muli v8187 c128_i32_3218
  let v8189 : BitVec 32 := v8188
  let v8192 : Index := Scalar.indexCast v8189
  ![v8191.toNat, 0, v8192.toNat]

def k1_chk144 (v8166 : BitVec 32) (v8168 : BitVec 32) : Prop :=
  (128 ∣ (k1_mult144 v8168).toNat) ∧
  (∀ a, (k1_off449 v8166 v8168) a + S1x16x512.size a ≤ S384x16x1152.size a)
theorem k1_mult144_dvd : ∀ (v8166 : BitVec 32) (v8168 : BitVec 32) (k1_hw144 : k1_chk144 v8166 v8168), 128 ∣ (k1_mult144 v8168).toNat := fun v8166 v8168 k1_hw144 => k1_hw144.1
theorem k1_off449_inb : ∀ (v8166 : BitVec 32) (v8168 : BitVec 32) (k1_hw144 : k1_chk144 v8166 v8168), ∀ a, (k1_off449 v8166 v8168) a + S1x16x512.size a ≤ S384x16x1152.size a := fun v8166 v8168 k1_hw144 => k1_hw144.2

def k1_off450 (i : grid1.Coords) : Fin 2 → Nat :=
  let arg0 : BitVec 32 := BitVec.ofNat 32 (i 0).val
  let c48_i32_3057 : BitVec 32 := 48#32
  let v7772 : BitVec 32 := Scalar.muli arg0 c48_i32_3057
  let c17_i32 : BitVec 32 := 17#32
  let v7773 : BitVec 32 := Scalar.addi v7772 c17_i32
  let v8202 : Index := Scalar.indexCast v7773
  let c7_3222 : Index := 7#32
  ![v8202.toNat, 7]
def k1_off451 (i : grid1.Coords) : Fin 3 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8231 : Index := Scalar.indexCast v8230
  let c0_3238 : Index := 0#32
  let c720_3239 : Index := 720#32
  ![v8231.toNat, 0, 720]
def k1_off452 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8251 : Index := Scalar.indexCast v8230
  let c0_3248 : Index := 0#32
  ![v8251.toNat, 0]
def k1_mult145 (v8254 : BitVec 32) : BitVec 32 :=
  let c0_i32_3252 : BitVec 32 := 0#32
  let v8258 : BitVec 1 := Scalar.cmpi .sgt v8254 c0_i32_3252
  let v8259 : BitVec 32 := Scalar.extui v8258
  let c0_i32_3253 : BitVec 32 := 0#32
  let v8260 : BitVec 1 := Scalar.cmpi .slt v8254 c0_i32_3253
  let v8261 : BitVec 32 := Scalar.extui v8260
  let v8262 : BitVec 32 := Scalar.subi v8259 v8261
  let c128_i32_3251 : BitVec 32 := 128#32
  let c0_i32_3254 : BitVec 32 := 0#32
  let v8263 : BitVec 1 := Scalar.cmpi .sgt c128_i32_3251 c0_i32_3254
  let v8264 : BitVec 32 := Scalar.extui v8263
  let c0_i32_3255 : BitVec 32 := 0#32
  let v8265 : BitVec 1 := Scalar.cmpi .slt c128_i32_3251 c0_i32_3255
  let v8266 : BitVec 32 := Scalar.extui v8265
  let v8267 : BitVec 32 := Scalar.subi v8264 v8266
  let v8268 : BitVec 1 := Scalar.cmpi .ne v8262 v8267
  let v8269 : BitVec 32 := Scalar.remsi v8254 c128_i32_3251
  let c0_i32_3256 : BitVec 32 := 0#32
  let v8270 : BitVec 1 := Scalar.cmpi .ne v8269 c0_i32_3256
  let v8271 : BitVec 1 := Scalar.andi v8268 v8270
  let v8257 : BitVec 32 := Scalar.divsi v8254 c128_i32_3251
  let c1_i32_3257 : BitVec 32 := 1#32
  let v8272 : BitVec 32 := Scalar.subi v8257 c1_i32_3257
  let v8273 : BitVec 32 := Scalar.select v8271 v8272 v8257
  let c128_i32_3258 : BitVec 32 := 128#32
  let v8274 : BitVec 32 := Scalar.muli v8273 c128_i32_3258
  v8274

def k1_off453 (v8252 : BitVec 32) (v8254 : BitVec 32) : Fin 3 → Nat :=
  let v8277 : Index := Scalar.indexCast v8252
  let c0_3259 : Index := 0#32
  let c0_i32_3252 : BitVec 32 := 0#32
  let v8258 : BitVec 1 := Scalar.cmpi .sgt v8254 c0_i32_3252
  let v8259 : BitVec 32 := Scalar.extui v8258
  let c0_i32_3253 : BitVec 32 := 0#32
  let v8260 : BitVec 1 := Scalar.cmpi .slt v8254 c0_i32_3253
  let v8261 : BitVec 32 := Scalar.extui v8260
  let v8262 : BitVec 32 := Scalar.subi v8259 v8261
  let c128_i32_3251 : BitVec 32 := 128#32
  let c0_i32_3254 : BitVec 32 := 0#32
  let v8263 : BitVec 1 := Scalar.cmpi .sgt c128_i32_3251 c0_i32_3254
  let v8264 : BitVec 32 := Scalar.extui v8263
  let c0_i32_3255 : BitVec 32 := 0#32
  let v8265 : BitVec 1 := Scalar.cmpi .slt c128_i32_3251 c0_i32_3255
  let v8266 : BitVec 32 := Scalar.extui v8265
  let v8267 : BitVec 32 := Scalar.subi v8264 v8266
  let v8268 : BitVec 1 := Scalar.cmpi .ne v8262 v8267
  let v8269 : BitVec 32 := Scalar.remsi v8254 c128_i32_3251
  let c0_i32_3256 : BitVec 32 := 0#32
  let v8270 : BitVec 1 := Scalar.cmpi .ne v8269 c0_i32_3256
  let v8271 : BitVec 1 := Scalar.andi v8268 v8270
  let v8257 : BitVec 32 := Scalar.divsi v8254 c128_i32_3251
  let c1_i32_3257 : BitVec 32 := 1#32
  let v8272 : BitVec 32 := Scalar.subi v8257 c1_i32_3257
  let v8273 : BitVec 32 := Scalar.select v8271 v8272 v8257
  let c128_i32_3258 : BitVec 32 := 128#32
  let v8274 : BitVec 32 := Scalar.muli v8273 c128_i32_3258
  let v8275 : BitVec 32 := v8274
  let v8278 : Index := Scalar.indexCast v8275
  ![v8277.toNat, 0, v8278.toNat]

def k1_chk145 (v8252 : BitVec 32) (v8254 : BitVec 32) : Prop :=
  (128 ∣ (k1_mult145 v8254).toNat) ∧
  (∀ a, (k1_off453 v8252 v8254) a + S1x16x512.size a ≤ S384x16x1152.size a)
theorem k1_mult145_dvd : ∀ (v8252 : BitVec 32) (v8254 : BitVec 32) (k1_hw145 : k1_chk145 v8252 v8254), 128 ∣ (k1_mult145 v8254).toNat := fun v8252 v8254 k1_hw145 => k1_hw145.1
theorem k1_off453_inb : ∀ (v8252 : BitVec 32) (v8254 : BitVec 32) (k1_hw145 : k1_chk145 v8252 v8254), ∀ a, (k1_off453 v8252 v8254) a + S1x16x512.size a ≤ S384x16x1152.size a := fun v8252 v8254 k1_hw145 => k1_hw145.2

def k1_off454 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8288 : Index := Scalar.indexCast v8230
  let c0_3262 : Index := 0#32
  ![v8288.toNat, 0]
def k1_off455 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8304 : Index := Scalar.indexCast v8230
  let c1_3268 : Index := 1#32
  ![v8304.toNat, 1]
def k1_mult146 (v8307 : BitVec 32) : BitVec 32 :=
  let c0_i32_3272 : BitVec 32 := 0#32
  let v8311 : BitVec 1 := Scalar.cmpi .sgt v8307 c0_i32_3272
  let v8312 : BitVec 32 := Scalar.extui v8311
  let c0_i32_3273 : BitVec 32 := 0#32
  let v8313 : BitVec 1 := Scalar.cmpi .slt v8307 c0_i32_3273
  let v8314 : BitVec 32 := Scalar.extui v8313
  let v8315 : BitVec 32 := Scalar.subi v8312 v8314
  let c128_i32_3271 : BitVec 32 := 128#32
  let c0_i32_3274 : BitVec 32 := 0#32
  let v8316 : BitVec 1 := Scalar.cmpi .sgt c128_i32_3271 c0_i32_3274
  let v8317 : BitVec 32 := Scalar.extui v8316
  let c0_i32_3275 : BitVec 32 := 0#32
  let v8318 : BitVec 1 := Scalar.cmpi .slt c128_i32_3271 c0_i32_3275
  let v8319 : BitVec 32 := Scalar.extui v8318
  let v8320 : BitVec 32 := Scalar.subi v8317 v8319
  let v8321 : BitVec 1 := Scalar.cmpi .ne v8315 v8320
  let v8322 : BitVec 32 := Scalar.remsi v8307 c128_i32_3271
  let c0_i32_3276 : BitVec 32 := 0#32
  let v8323 : BitVec 1 := Scalar.cmpi .ne v8322 c0_i32_3276
  let v8324 : BitVec 1 := Scalar.andi v8321 v8323
  let v8310 : BitVec 32 := Scalar.divsi v8307 c128_i32_3271
  let c1_i32_3277 : BitVec 32 := 1#32
  let v8325 : BitVec 32 := Scalar.subi v8310 c1_i32_3277
  let v8326 : BitVec 32 := Scalar.select v8324 v8325 v8310
  let c128_i32_3278 : BitVec 32 := 128#32
  let v8327 : BitVec 32 := Scalar.muli v8326 c128_i32_3278
  v8327

def k1_off456 (v8305 : BitVec 32) (v8307 : BitVec 32) : Fin 3 → Nat :=
  let v8330 : Index := Scalar.indexCast v8305
  let c0_3279 : Index := 0#32
  let c0_i32_3272 : BitVec 32 := 0#32
  let v8311 : BitVec 1 := Scalar.cmpi .sgt v8307 c0_i32_3272
  let v8312 : BitVec 32 := Scalar.extui v8311
  let c0_i32_3273 : BitVec 32 := 0#32
  let v8313 : BitVec 1 := Scalar.cmpi .slt v8307 c0_i32_3273
  let v8314 : BitVec 32 := Scalar.extui v8313
  let v8315 : BitVec 32 := Scalar.subi v8312 v8314
  let c128_i32_3271 : BitVec 32 := 128#32
  let c0_i32_3274 : BitVec 32 := 0#32
  let v8316 : BitVec 1 := Scalar.cmpi .sgt c128_i32_3271 c0_i32_3274
  let v8317 : BitVec 32 := Scalar.extui v8316
  let c0_i32_3275 : BitVec 32 := 0#32
  let v8318 : BitVec 1 := Scalar.cmpi .slt c128_i32_3271 c0_i32_3275
  let v8319 : BitVec 32 := Scalar.extui v8318
  let v8320 : BitVec 32 := Scalar.subi v8317 v8319
  let v8321 : BitVec 1 := Scalar.cmpi .ne v8315 v8320
  let v8322 : BitVec 32 := Scalar.remsi v8307 c128_i32_3271
  let c0_i32_3276 : BitVec 32 := 0#32
  let v8323 : BitVec 1 := Scalar.cmpi .ne v8322 c0_i32_3276
  let v8324 : BitVec 1 := Scalar.andi v8321 v8323
  let v8310 : BitVec 32 := Scalar.divsi v8307 c128_i32_3271
  let c1_i32_3277 : BitVec 32 := 1#32
  let v8325 : BitVec 32 := Scalar.subi v8310 c1_i32_3277
  let v8326 : BitVec 32 := Scalar.select v8324 v8325 v8310
  let c128_i32_3278 : BitVec 32 := 128#32
  let v8327 : BitVec 32 := Scalar.muli v8326 c128_i32_3278
  let v8328 : BitVec 32 := v8327
  let v8331 : Index := Scalar.indexCast v8328
  ![v8330.toNat, 0, v8331.toNat]

def k1_chk146 (v8305 : BitVec 32) (v8307 : BitVec 32) : Prop :=
  (128 ∣ (k1_mult146 v8307).toNat) ∧
  (∀ a, (k1_off456 v8305 v8307) a + S1x16x512.size a ≤ S384x16x1152.size a)
theorem k1_mult146_dvd : ∀ (v8305 : BitVec 32) (v8307 : BitVec 32) (k1_hw146 : k1_chk146 v8305 v8307), 128 ∣ (k1_mult146 v8307).toNat := fun v8305 v8307 k1_hw146 => k1_hw146.1
theorem k1_off456_inb : ∀ (v8305 : BitVec 32) (v8307 : BitVec 32) (k1_hw146 : k1_chk146 v8305 v8307), ∀ a, (k1_off456 v8305 v8307) a + S1x16x512.size a ≤ S384x16x1152.size a := fun v8305 v8307 k1_hw146 => k1_hw146.2

def k1_off457 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8341 : Index := Scalar.indexCast v8230
  let c1_3282 : Index := 1#32
  ![v8341.toNat, 1]
def k1_off458 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8357 : Index := Scalar.indexCast v8230
  let c2_3288 : Index := 2#32
  ![v8357.toNat, 2]
def k1_mult147 (v8360 : BitVec 32) : BitVec 32 :=
  let c0_i32_3292 : BitVec 32 := 0#32
  let v8364 : BitVec 1 := Scalar.cmpi .sgt v8360 c0_i32_3292
  let v8365 : BitVec 32 := Scalar.extui v8364
  let c0_i32_3293 : BitVec 32 := 0#32
  let v8366 : BitVec 1 := Scalar.cmpi .slt v8360 c0_i32_3293
  let v8367 : BitVec 32 := Scalar.extui v8366
  let v8368 : BitVec 32 := Scalar.subi v8365 v8367
  let c128_i32_3291 : BitVec 32 := 128#32
  let c0_i32_3294 : BitVec 32 := 0#32
  let v8369 : BitVec 1 := Scalar.cmpi .sgt c128_i32_3291 c0_i32_3294
  let v8370 : BitVec 32 := Scalar.extui v8369
  let c0_i32_3295 : BitVec 32 := 0#32
  let v8371 : BitVec 1 := Scalar.cmpi .slt c128_i32_3291 c0_i32_3295
  let v8372 : BitVec 32 := Scalar.extui v8371
  let v8373 : BitVec 32 := Scalar.subi v8370 v8372
  let v8374 : BitVec 1 := Scalar.cmpi .ne v8368 v8373
  let v8375 : BitVec 32 := Scalar.remsi v8360 c128_i32_3291
  let c0_i32_3296 : BitVec 32 := 0#32
  let v8376 : BitVec 1 := Scalar.cmpi .ne v8375 c0_i32_3296
  let v8377 : BitVec 1 := Scalar.andi v8374 v8376
  let v8363 : BitVec 32 := Scalar.divsi v8360 c128_i32_3291
  let c1_i32_3297 : BitVec 32 := 1#32
  let v8378 : BitVec 32 := Scalar.subi v8363 c1_i32_3297
  let v8379 : BitVec 32 := Scalar.select v8377 v8378 v8363
  let c128_i32_3298 : BitVec 32 := 128#32
  let v8380 : BitVec 32 := Scalar.muli v8379 c128_i32_3298
  v8380

def k1_off459 (v8358 : BitVec 32) (v8360 : BitVec 32) : Fin 3 → Nat :=
  let v8383 : Index := Scalar.indexCast v8358
  let c0_3299 : Index := 0#32
  let c0_i32_3292 : BitVec 32 := 0#32
  let v8364 : BitVec 1 := Scalar.cmpi .sgt v8360 c0_i32_3292
  let v8365 : BitVec 32 := Scalar.extui v8364
  let c0_i32_3293 : BitVec 32 := 0#32
  let v8366 : BitVec 1 := Scalar.cmpi .slt v8360 c0_i32_3293
  let v8367 : BitVec 32 := Scalar.extui v8366
  let v8368 : BitVec 32 := Scalar.subi v8365 v8367
  let c128_i32_3291 : BitVec 32 := 128#32
  let c0_i32_3294 : BitVec 32 := 0#32
  let v8369 : BitVec 1 := Scalar.cmpi .sgt c128_i32_3291 c0_i32_3294
  let v8370 : BitVec 32 := Scalar.extui v8369
  let c0_i32_3295 : BitVec 32 := 0#32
  let v8371 : BitVec 1 := Scalar.cmpi .slt c128_i32_3291 c0_i32_3295
  let v8372 : BitVec 32 := Scalar.extui v8371
  let v8373 : BitVec 32 := Scalar.subi v8370 v8372
  let v8374 : BitVec 1 := Scalar.cmpi .ne v8368 v8373
  let v8375 : BitVec 32 := Scalar.remsi v8360 c128_i32_3291
  let c0_i32_3296 : BitVec 32 := 0#32
  let v8376 : BitVec 1 := Scalar.cmpi .ne v8375 c0_i32_3296
  let v8377 : BitVec 1 := Scalar.andi v8374 v8376
  let v8363 : BitVec 32 := Scalar.divsi v8360 c128_i32_3291
  let c1_i32_3297 : BitVec 32 := 1#32
  let v8378 : BitVec 32 := Scalar.subi v8363 c1_i32_3297
  let v8379 : BitVec 32 := Scalar.select v8377 v8378 v8363
  let c128_i32_3298 : BitVec 32 := 128#32
  let v8380 : BitVec 32 := Scalar.muli v8379 c128_i32_3298
  let v8381 : BitVec 32 := v8380
  let v8384 : Index := Scalar.indexCast v8381
  ![v8383.toNat, 0, v8384.toNat]

def k1_chk147 (v8358 : BitVec 32) (v8360 : BitVec 32) : Prop :=
  (128 ∣ (k1_mult147 v8360).toNat) ∧
  (∀ a, (k1_off459 v8358 v8360) a + S1x16x512.size a ≤ S384x16x1152.size a)
theorem k1_mult147_dvd : ∀ (v8358 : BitVec 32) (v8360 : BitVec 32) (k1_hw147 : k1_chk147 v8358 v8360), 128 ∣ (k1_mult147 v8360).toNat := fun v8358 v8360 k1_hw147 => k1_hw147.1
theorem k1_off459_inb : ∀ (v8358 : BitVec 32) (v8360 : BitVec 32) (k1_hw147 : k1_chk147 v8358 v8360), ∀ a, (k1_off459 v8358 v8360) a + S1x16x512.size a ≤ S384x16x1152.size a := fun v8358 v8360 k1_hw147 => k1_hw147.2

def k1_off460 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8394 : Index := Scalar.indexCast v8230
  let c2_3302 : Index := 2#32
  ![v8394.toNat, 2]
def k1_off461 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8410 : Index := Scalar.indexCast v8230
  let c3_3308 : Index := 3#32
  ![v8410.toNat, 3]
def k1_mult148 (v8413 : BitVec 32) : BitVec 32 :=
  let c0_i32_3312 : BitVec 32 := 0#32
  let v8417 : BitVec 1 := Scalar.cmpi .sgt v8413 c0_i32_3312
  let v8418 : BitVec 32 := Scalar.extui v8417
  let c0_i32_3313 : BitVec 32 := 0#32
  let v8419 : BitVec 1 := Scalar.cmpi .slt v8413 c0_i32_3313
  let v8420 : BitVec 32 := Scalar.extui v8419
  let v8421 : BitVec 32 := Scalar.subi v8418 v8420
  let c128_i32_3311 : BitVec 32 := 128#32
  let c0_i32_3314 : BitVec 32 := 0#32
  let v8422 : BitVec 1 := Scalar.cmpi .sgt c128_i32_3311 c0_i32_3314
  let v8423 : BitVec 32 := Scalar.extui v8422
  let c0_i32_3315 : BitVec 32 := 0#32
  let v8424 : BitVec 1 := Scalar.cmpi .slt c128_i32_3311 c0_i32_3315
  let v8425 : BitVec 32 := Scalar.extui v8424
  let v8426 : BitVec 32 := Scalar.subi v8423 v8425
  let v8427 : BitVec 1 := Scalar.cmpi .ne v8421 v8426
  let v8428 : BitVec 32 := Scalar.remsi v8413 c128_i32_3311
  let c0_i32_3316 : BitVec 32 := 0#32
  let v8429 : BitVec 1 := Scalar.cmpi .ne v8428 c0_i32_3316
  let v8430 : BitVec 1 := Scalar.andi v8427 v8429
  let v8416 : BitVec 32 := Scalar.divsi v8413 c128_i32_3311
  let c1_i32_3317 : BitVec 32 := 1#32
  let v8431 : BitVec 32 := Scalar.subi v8416 c1_i32_3317
  let v8432 : BitVec 32 := Scalar.select v8430 v8431 v8416
  let c128_i32_3318 : BitVec 32 := 128#32
  let v8433 : BitVec 32 := Scalar.muli v8432 c128_i32_3318
  v8433

def k1_off462 (v8411 : BitVec 32) (v8413 : BitVec 32) : Fin 3 → Nat :=
  let v8436 : Index := Scalar.indexCast v8411
  let c0_3319 : Index := 0#32
  let c0_i32_3312 : BitVec 32 := 0#32
  let v8417 : BitVec 1 := Scalar.cmpi .sgt v8413 c0_i32_3312
  let v8418 : BitVec 32 := Scalar.extui v8417
  let c0_i32_3313 : BitVec 32 := 0#32
  let v8419 : BitVec 1 := Scalar.cmpi .slt v8413 c0_i32_3313
  let v8420 : BitVec 32 := Scalar.extui v8419
  let v8421 : BitVec 32 := Scalar.subi v8418 v8420
  let c128_i32_3311 : BitVec 32 := 128#32
  let c0_i32_3314 : BitVec 32 := 0#32
  let v8422 : BitVec 1 := Scalar.cmpi .sgt c128_i32_3311 c0_i32_3314
  let v8423 : BitVec 32 := Scalar.extui v8422
  let c0_i32_3315 : BitVec 32 := 0#32
  let v8424 : BitVec 1 := Scalar.cmpi .slt c128_i32_3311 c0_i32_3315
  let v8425 : BitVec 32 := Scalar.extui v8424
  let v8426 : BitVec 32 := Scalar.subi v8423 v8425
  let v8427 : BitVec 1 := Scalar.cmpi .ne v8421 v8426
  let v8428 : BitVec 32 := Scalar.remsi v8413 c128_i32_3311
  let c0_i32_3316 : BitVec 32 := 0#32
  let v8429 : BitVec 1 := Scalar.cmpi .ne v8428 c0_i32_3316
  let v8430 : BitVec 1 := Scalar.andi v8427 v8429
  let v8416 : BitVec 32 := Scalar.divsi v8413 c128_i32_3311
  let c1_i32_3317 : BitVec 32 := 1#32
  let v8431 : BitVec 32 := Scalar.subi v8416 c1_i32_3317
  let v8432 : BitVec 32 := Scalar.select v8430 v8431 v8416
  let c128_i32_3318 : BitVec 32 := 128#32
  let v8433 : BitVec 32 := Scalar.muli v8432 c128_i32_3318
  let v8434 : BitVec 32 := v8433
  let v8437 : Index := Scalar.indexCast v8434
  ![v8436.toNat, 0, v8437.toNat]

def k1_chk148 (v8411 : BitVec 32) (v8413 : BitVec 32) : Prop :=
  (128 ∣ (k1_mult148 v8413).toNat) ∧
  (∀ a, (k1_off462 v8411 v8413) a + S1x16x512.size a ≤ S384x16x1152.size a)
theorem k1_mult148_dvd : ∀ (v8411 : BitVec 32) (v8413 : BitVec 32) (k1_hw148 : k1_chk148 v8411 v8413), 128 ∣ (k1_mult148 v8413).toNat := fun v8411 v8413 k1_hw148 => k1_hw148.1
theorem k1_off462_inb : ∀ (v8411 : BitVec 32) (v8413 : BitVec 32) (k1_hw148 : k1_chk148 v8411 v8413), ∀ a, (k1_off462 v8411 v8413) a + S1x16x512.size a ≤ S384x16x1152.size a := fun v8411 v8413 k1_hw148 => k1_hw148.2

def k1_off463 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8447 : Index := Scalar.indexCast v8230
  let c3_3322 : Index := 3#32
  ![v8447.toNat, 3]
def k1_off464 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8463 : Index := Scalar.indexCast v8230
  let c4_3328 : Index := 4#32
  ![v8463.toNat, 4]
def k1_mult149 (v8466 : BitVec 32) : BitVec 32 :=
  let c0_i32_3332 : BitVec 32 := 0#32
  let v8470 : BitVec 1 := Scalar.cmpi .sgt v8466 c0_i32_3332
  let v8471 : BitVec 32 := Scalar.extui v8470
  let c0_i32_3333 : BitVec 32 := 0#32
  let v8472 : BitVec 1 := Scalar.cmpi .slt v8466 c0_i32_3333
  let v8473 : BitVec 32 := Scalar.extui v8472
  let v8474 : BitVec 32 := Scalar.subi v8471 v8473
  let c128_i32_3331 : BitVec 32 := 128#32
  let c0_i32_3334 : BitVec 32 := 0#32
  let v8475 : BitVec 1 := Scalar.cmpi .sgt c128_i32_3331 c0_i32_3334
  let v8476 : BitVec 32 := Scalar.extui v8475
  let c0_i32_3335 : BitVec 32 := 0#32
  let v8477 : BitVec 1 := Scalar.cmpi .slt c128_i32_3331 c0_i32_3335
  let v8478 : BitVec 32 := Scalar.extui v8477
  let v8479 : BitVec 32 := Scalar.subi v8476 v8478
  let v8480 : BitVec 1 := Scalar.cmpi .ne v8474 v8479
  let v8481 : BitVec 32 := Scalar.remsi v8466 c128_i32_3331
  let c0_i32_3336 : BitVec 32 := 0#32
  let v8482 : BitVec 1 := Scalar.cmpi .ne v8481 c0_i32_3336
  let v8483 : BitVec 1 := Scalar.andi v8480 v8482
  let v8469 : BitVec 32 := Scalar.divsi v8466 c128_i32_3331
  let c1_i32_3337 : BitVec 32 := 1#32
  let v8484 : BitVec 32 := Scalar.subi v8469 c1_i32_3337
  let v8485 : BitVec 32 := Scalar.select v8483 v8484 v8469
  let c128_i32_3338 : BitVec 32 := 128#32
  let v8486 : BitVec 32 := Scalar.muli v8485 c128_i32_3338
  v8486

def k1_off465 (v8464 : BitVec 32) (v8466 : BitVec 32) : Fin 3 → Nat :=
  let v8489 : Index := Scalar.indexCast v8464
  let c0_3339 : Index := 0#32
  let c0_i32_3332 : BitVec 32 := 0#32
  let v8470 : BitVec 1 := Scalar.cmpi .sgt v8466 c0_i32_3332
  let v8471 : BitVec 32 := Scalar.extui v8470
  let c0_i32_3333 : BitVec 32 := 0#32
  let v8472 : BitVec 1 := Scalar.cmpi .slt v8466 c0_i32_3333
  let v8473 : BitVec 32 := Scalar.extui v8472
  let v8474 : BitVec 32 := Scalar.subi v8471 v8473
  let c128_i32_3331 : BitVec 32 := 128#32
  let c0_i32_3334 : BitVec 32 := 0#32
  let v8475 : BitVec 1 := Scalar.cmpi .sgt c128_i32_3331 c0_i32_3334
  let v8476 : BitVec 32 := Scalar.extui v8475
  let c0_i32_3335 : BitVec 32 := 0#32
  let v8477 : BitVec 1 := Scalar.cmpi .slt c128_i32_3331 c0_i32_3335
  let v8478 : BitVec 32 := Scalar.extui v8477
  let v8479 : BitVec 32 := Scalar.subi v8476 v8478
  let v8480 : BitVec 1 := Scalar.cmpi .ne v8474 v8479
  let v8481 : BitVec 32 := Scalar.remsi v8466 c128_i32_3331
  let c0_i32_3336 : BitVec 32 := 0#32
  let v8482 : BitVec 1 := Scalar.cmpi .ne v8481 c0_i32_3336
  let v8483 : BitVec 1 := Scalar.andi v8480 v8482
  let v8469 : BitVec 32 := Scalar.divsi v8466 c128_i32_3331
  let c1_i32_3337 : BitVec 32 := 1#32
  let v8484 : BitVec 32 := Scalar.subi v8469 c1_i32_3337
  let v8485 : BitVec 32 := Scalar.select v8483 v8484 v8469
  let c128_i32_3338 : BitVec 32 := 128#32
  let v8486 : BitVec 32 := Scalar.muli v8485 c128_i32_3338
  let v8487 : BitVec 32 := v8486
  let v8490 : Index := Scalar.indexCast v8487
  ![v8489.toNat, 0, v8490.toNat]

def k1_chk149 (v8464 : BitVec 32) (v8466 : BitVec 32) : Prop :=
  (128 ∣ (k1_mult149 v8466).toNat) ∧
  (∀ a, (k1_off465 v8464 v8466) a + S1x16x512.size a ≤ S384x16x1152.size a)
theorem k1_mult149_dvd : ∀ (v8464 : BitVec 32) (v8466 : BitVec 32) (k1_hw149 : k1_chk149 v8464 v8466), 128 ∣ (k1_mult149 v8466).toNat := fun v8464 v8466 k1_hw149 => k1_hw149.1
theorem k1_off465_inb : ∀ (v8464 : BitVec 32) (v8466 : BitVec 32) (k1_hw149 : k1_chk149 v8464 v8466), ∀ a, (k1_off465 v8464 v8466) a + S1x16x512.size a ≤ S384x16x1152.size a := fun v8464 v8466 k1_hw149 => k1_hw149.2

def k1_off466 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8500 : Index := Scalar.indexCast v8230
  let c4_3342 : Index := 4#32
  ![v8500.toNat, 4]
def k1_off467 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8516 : Index := Scalar.indexCast v8230
  let c5_3348 : Index := 5#32
  ![v8516.toNat, 5]
def k1_mult150 (v8519 : BitVec 32) : BitVec 32 :=
  let c0_i32_3352 : BitVec 32 := 0#32
  let v8523 : BitVec 1 := Scalar.cmpi .sgt v8519 c0_i32_3352
  let v8524 : BitVec 32 := Scalar.extui v8523
  let c0_i32_3353 : BitVec 32 := 0#32
  let v8525 : BitVec 1 := Scalar.cmpi .slt v8519 c0_i32_3353
  let v8526 : BitVec 32 := Scalar.extui v8525
  let v8527 : BitVec 32 := Scalar.subi v8524 v8526
  let c128_i32_3351 : BitVec 32 := 128#32
  let c0_i32_3354 : BitVec 32 := 0#32
  let v8528 : BitVec 1 := Scalar.cmpi .sgt c128_i32_3351 c0_i32_3354
  let v8529 : BitVec 32 := Scalar.extui v8528
  let c0_i32_3355 : BitVec 32 := 0#32
  let v8530 : BitVec 1 := Scalar.cmpi .slt c128_i32_3351 c0_i32_3355
  let v8531 : BitVec 32 := Scalar.extui v8530
  let v8532 : BitVec 32 := Scalar.subi v8529 v8531
  let v8533 : BitVec 1 := Scalar.cmpi .ne v8527 v8532
  let v8534 : BitVec 32 := Scalar.remsi v8519 c128_i32_3351
  let c0_i32_3356 : BitVec 32 := 0#32
  let v8535 : BitVec 1 := Scalar.cmpi .ne v8534 c0_i32_3356
  let v8536 : BitVec 1 := Scalar.andi v8533 v8535
  let v8522 : BitVec 32 := Scalar.divsi v8519 c128_i32_3351
  let c1_i32_3357 : BitVec 32 := 1#32
  let v8537 : BitVec 32 := Scalar.subi v8522 c1_i32_3357
  let v8538 : BitVec 32 := Scalar.select v8536 v8537 v8522
  let c128_i32_3358 : BitVec 32 := 128#32
  let v8539 : BitVec 32 := Scalar.muli v8538 c128_i32_3358
  v8539

def k1_off468 (v8517 : BitVec 32) (v8519 : BitVec 32) : Fin 3 → Nat :=
  let v8542 : Index := Scalar.indexCast v8517
  let c0_3359 : Index := 0#32
  let c0_i32_3352 : BitVec 32 := 0#32
  let v8523 : BitVec 1 := Scalar.cmpi .sgt v8519 c0_i32_3352
  let v8524 : BitVec 32 := Scalar.extui v8523
  let c0_i32_3353 : BitVec 32 := 0#32
  let v8525 : BitVec 1 := Scalar.cmpi .slt v8519 c0_i32_3353
  let v8526 : BitVec 32 := Scalar.extui v8525
  let v8527 : BitVec 32 := Scalar.subi v8524 v8526
  let c128_i32_3351 : BitVec 32 := 128#32
  let c0_i32_3354 : BitVec 32 := 0#32
  let v8528 : BitVec 1 := Scalar.cmpi .sgt c128_i32_3351 c0_i32_3354
  let v8529 : BitVec 32 := Scalar.extui v8528
  let c0_i32_3355 : BitVec 32 := 0#32
  let v8530 : BitVec 1 := Scalar.cmpi .slt c128_i32_3351 c0_i32_3355
  let v8531 : BitVec 32 := Scalar.extui v8530
  let v8532 : BitVec 32 := Scalar.subi v8529 v8531
  let v8533 : BitVec 1 := Scalar.cmpi .ne v8527 v8532
  let v8534 : BitVec 32 := Scalar.remsi v8519 c128_i32_3351
  let c0_i32_3356 : BitVec 32 := 0#32
  let v8535 : BitVec 1 := Scalar.cmpi .ne v8534 c0_i32_3356
  let v8536 : BitVec 1 := Scalar.andi v8533 v8535
  let v8522 : BitVec 32 := Scalar.divsi v8519 c128_i32_3351
  let c1_i32_3357 : BitVec 32 := 1#32
  let v8537 : BitVec 32 := Scalar.subi v8522 c1_i32_3357
  let v8538 : BitVec 32 := Scalar.select v8536 v8537 v8522
  let c128_i32_3358 : BitVec 32 := 128#32
  let v8539 : BitVec 32 := Scalar.muli v8538 c128_i32_3358
  let v8540 : BitVec 32 := v8539
  let v8543 : Index := Scalar.indexCast v8540
  ![v8542.toNat, 0, v8543.toNat]

def k1_chk150 (v8517 : BitVec 32) (v8519 : BitVec 32) : Prop :=
  (128 ∣ (k1_mult150 v8519).toNat) ∧
  (∀ a, (k1_off468 v8517 v8519) a + S1x16x512.size a ≤ S384x16x1152.size a)
theorem k1_mult150_dvd : ∀ (v8517 : BitVec 32) (v8519 : BitVec 32) (k1_hw150 : k1_chk150 v8517 v8519), 128 ∣ (k1_mult150 v8519).toNat := fun v8517 v8519 k1_hw150 => k1_hw150.1
theorem k1_off468_inb : ∀ (v8517 : BitVec 32) (v8519 : BitVec 32) (k1_hw150 : k1_chk150 v8517 v8519), ∀ a, (k1_off468 v8517 v8519) a + S1x16x512.size a ≤ S384x16x1152.size a := fun v8517 v8519 k1_hw150 => k1_hw150.2

def k1_off469 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8553 : Index := Scalar.indexCast v8230
  let c5_3362 : Index := 5#32
  ![v8553.toNat, 5]
def k1_off470 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8569 : Index := Scalar.indexCast v8230
  let c6_3368 : Index := 6#32
  ![v8569.toNat, 6]
def k1_mult151 (v8572 : BitVec 32) : BitVec 32 :=
  let c0_i32_3372 : BitVec 32 := 0#32
  let v8576 : BitVec 1 := Scalar.cmpi .sgt v8572 c0_i32_3372
  let v8577 : BitVec 32 := Scalar.extui v8576
  let c0_i32_3373 : BitVec 32 := 0#32
  let v8578 : BitVec 1 := Scalar.cmpi .slt v8572 c0_i32_3373
  let v8579 : BitVec 32 := Scalar.extui v8578
  let v8580 : BitVec 32 := Scalar.subi v8577 v8579
  let c128_i32_3371 : BitVec 32 := 128#32
  let c0_i32_3374 : BitVec 32 := 0#32
  let v8581 : BitVec 1 := Scalar.cmpi .sgt c128_i32_3371 c0_i32_3374
  let v8582 : BitVec 32 := Scalar.extui v8581
  let c0_i32_3375 : BitVec 32 := 0#32
  let v8583 : BitVec 1 := Scalar.cmpi .slt c128_i32_3371 c0_i32_3375
  let v8584 : BitVec 32 := Scalar.extui v8583
  let v8585 : BitVec 32 := Scalar.subi v8582 v8584
  let v8586 : BitVec 1 := Scalar.cmpi .ne v8580 v8585
  let v8587 : BitVec 32 := Scalar.remsi v8572 c128_i32_3371
  let c0_i32_3376 : BitVec 32 := 0#32
  let v8588 : BitVec 1 := Scalar.cmpi .ne v8587 c0_i32_3376
  let v8589 : BitVec 1 := Scalar.andi v8586 v8588
  let v8575 : BitVec 32 := Scalar.divsi v8572 c128_i32_3371
  let c1_i32_3377 : BitVec 32 := 1#32
  let v8590 : BitVec 32 := Scalar.subi v8575 c1_i32_3377
  let v8591 : BitVec 32 := Scalar.select v8589 v8590 v8575
  let c128_i32_3378 : BitVec 32 := 128#32
  let v8592 : BitVec 32 := Scalar.muli v8591 c128_i32_3378
  v8592

def k1_off471 (v8570 : BitVec 32) (v8572 : BitVec 32) : Fin 3 → Nat :=
  let v8595 : Index := Scalar.indexCast v8570
  let c0_3379 : Index := 0#32
  let c0_i32_3372 : BitVec 32 := 0#32
  let v8576 : BitVec 1 := Scalar.cmpi .sgt v8572 c0_i32_3372
  let v8577 : BitVec 32 := Scalar.extui v8576
  let c0_i32_3373 : BitVec 32 := 0#32
  let v8578 : BitVec 1 := Scalar.cmpi .slt v8572 c0_i32_3373
  let v8579 : BitVec 32 := Scalar.extui v8578
  let v8580 : BitVec 32 := Scalar.subi v8577 v8579
  let c128_i32_3371 : BitVec 32 := 128#32
  let c0_i32_3374 : BitVec 32 := 0#32
  let v8581 : BitVec 1 := Scalar.cmpi .sgt c128_i32_3371 c0_i32_3374
  let v8582 : BitVec 32 := Scalar.extui v8581
  let c0_i32_3375 : BitVec 32 := 0#32
  let v8583 : BitVec 1 := Scalar.cmpi .slt c128_i32_3371 c0_i32_3375
  let v8584 : BitVec 32 := Scalar.extui v8583
  let v8585 : BitVec 32 := Scalar.subi v8582 v8584
  let v8586 : BitVec 1 := Scalar.cmpi .ne v8580 v8585
  let v8587 : BitVec 32 := Scalar.remsi v8572 c128_i32_3371
  let c0_i32_3376 : BitVec 32 := 0#32
  let v8588 : BitVec 1 := Scalar.cmpi .ne v8587 c0_i32_3376
  let v8589 : BitVec 1 := Scalar.andi v8586 v8588
  let v8575 : BitVec 32 := Scalar.divsi v8572 c128_i32_3371
  let c1_i32_3377 : BitVec 32 := 1#32
  let v8590 : BitVec 32 := Scalar.subi v8575 c1_i32_3377
  let v8591 : BitVec 32 := Scalar.select v8589 v8590 v8575
  let c128_i32_3378 : BitVec 32 := 128#32
  let v8592 : BitVec 32 := Scalar.muli v8591 c128_i32_3378
  let v8593 : BitVec 32 := v8592
  let v8596 : Index := Scalar.indexCast v8593
  ![v8595.toNat, 0, v8596.toNat]

def k1_chk151 (v8570 : BitVec 32) (v8572 : BitVec 32) : Prop :=
  (128 ∣ (k1_mult151 v8572).toNat) ∧
  (∀ a, (k1_off471 v8570 v8572) a + S1x16x512.size a ≤ S384x16x1152.size a)
theorem k1_mult151_dvd : ∀ (v8570 : BitVec 32) (v8572 : BitVec 32) (k1_hw151 : k1_chk151 v8570 v8572), 128 ∣ (k1_mult151 v8572).toNat := fun v8570 v8572 k1_hw151 => k1_hw151.1
theorem k1_off471_inb : ∀ (v8570 : BitVec 32) (v8572 : BitVec 32) (k1_hw151 : k1_chk151 v8570 v8572), ∀ a, (k1_off471 v8570 v8572) a + S1x16x512.size a ≤ S384x16x1152.size a := fun v8570 v8572 k1_hw151 => k1_hw151.2

def k1_off472 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8606 : Index := Scalar.indexCast v8230
  let c6_3382 : Index := 6#32
  ![v8606.toNat, 6]
def k1_off473 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8622 : Index := Scalar.indexCast v8230
  let c7_3388 : Index := 7#32
  ![v8622.toNat, 7]
def k1_mult152 (v8625 : BitVec 32) : BitVec 32 :=
  let c0_i32_3392 : BitVec 32 := 0#32
  let v8629 : BitVec 1 := Scalar.cmpi .sgt v8625 c0_i32_3392
  let v8630 : BitVec 32 := Scalar.extui v8629
  let c0_i32_3393 : BitVec 32 := 0#32
  let v8631 : BitVec 1 := Scalar.cmpi .slt v8625 c0_i32_3393
  let v8632 : BitVec 32 := Scalar.extui v8631
  let v8633 : BitVec 32 := Scalar.subi v8630 v8632
  let c128_i32_3391 : BitVec 32 := 128#32
  let c0_i32_3394 : BitVec 32 := 0#32
  let v8634 : BitVec 1 := Scalar.cmpi .sgt c128_i32_3391 c0_i32_3394
  let v8635 : BitVec 32 := Scalar.extui v8634
  let c0_i32_3395 : BitVec 32 := 0#32
  let v8636 : BitVec 1 := Scalar.cmpi .slt c128_i32_3391 c0_i32_3395
  let v8637 : BitVec 32 := Scalar.extui v8636
  let v8638 : BitVec 32 := Scalar.subi v8635 v8637
  let v8639 : BitVec 1 := Scalar.cmpi .ne v8633 v8638
  let v8640 : BitVec 32 := Scalar.remsi v8625 c128_i32_3391
  let c0_i32_3396 : BitVec 32 := 0#32
  let v8641 : BitVec 1 := Scalar.cmpi .ne v8640 c0_i32_3396
  let v8642 : BitVec 1 := Scalar.andi v8639 v8641
  let v8628 : BitVec 32 := Scalar.divsi v8625 c128_i32_3391
  let c1_i32_3397 : BitVec 32 := 1#32
  let v8643 : BitVec 32 := Scalar.subi v8628 c1_i32_3397
  let v8644 : BitVec 32 := Scalar.select v8642 v8643 v8628
  let c128_i32_3398 : BitVec 32 := 128#32
  let v8645 : BitVec 32 := Scalar.muli v8644 c128_i32_3398
  v8645

def k1_off474 (v8623 : BitVec 32) (v8625 : BitVec 32) : Fin 3 → Nat :=
  let v8648 : Index := Scalar.indexCast v8623
  let c0_3399 : Index := 0#32
  let c0_i32_3392 : BitVec 32 := 0#32
  let v8629 : BitVec 1 := Scalar.cmpi .sgt v8625 c0_i32_3392
  let v8630 : BitVec 32 := Scalar.extui v8629
  let c0_i32_3393 : BitVec 32 := 0#32
  let v8631 : BitVec 1 := Scalar.cmpi .slt v8625 c0_i32_3393
  let v8632 : BitVec 32 := Scalar.extui v8631
  let v8633 : BitVec 32 := Scalar.subi v8630 v8632
  let c128_i32_3391 : BitVec 32 := 128#32
  let c0_i32_3394 : BitVec 32 := 0#32
  let v8634 : BitVec 1 := Scalar.cmpi .sgt c128_i32_3391 c0_i32_3394
  let v8635 : BitVec 32 := Scalar.extui v8634
  let c0_i32_3395 : BitVec 32 := 0#32
  let v8636 : BitVec 1 := Scalar.cmpi .slt c128_i32_3391 c0_i32_3395
  let v8637 : BitVec 32 := Scalar.extui v8636
  let v8638 : BitVec 32 := Scalar.subi v8635 v8637
  let v8639 : BitVec 1 := Scalar.cmpi .ne v8633 v8638
  let v8640 : BitVec 32 := Scalar.remsi v8625 c128_i32_3391
  let c0_i32_3396 : BitVec 32 := 0#32
  let v8641 : BitVec 1 := Scalar.cmpi .ne v8640 c0_i32_3396
  let v8642 : BitVec 1 := Scalar.andi v8639 v8641
  let v8628 : BitVec 32 := Scalar.divsi v8625 c128_i32_3391
  let c1_i32_3397 : BitVec 32 := 1#32
  let v8643 : BitVec 32 := Scalar.subi v8628 c1_i32_3397
  let v8644 : BitVec 32 := Scalar.select v8642 v8643 v8628
  let c128_i32_3398 : BitVec 32 := 128#32
  let v8645 : BitVec 32 := Scalar.muli v8644 c128_i32_3398
  let v8646 : BitVec 32 := v8645
  let v8649 : Index := Scalar.indexCast v8646
  ![v8648.toNat, 0, v8649.toNat]

def k1_chk152 (v8623 : BitVec 32) (v8625 : BitVec 32) : Prop :=
  (128 ∣ (k1_mult152 v8625).toNat) ∧
  (∀ a, (k1_off474 v8623 v8625) a + S1x16x512.size a ≤ S384x16x1152.size a)
theorem k1_mult152_dvd : ∀ (v8623 : BitVec 32) (v8625 : BitVec 32) (k1_hw152 : k1_chk152 v8623 v8625), 128 ∣ (k1_mult152 v8625).toNat := fun v8623 v8625 k1_hw152 => k1_hw152.1
theorem k1_off474_inb : ∀ (v8623 : BitVec 32) (v8625 : BitVec 32) (k1_hw152 : k1_chk152 v8623 v8625), ∀ a, (k1_off474 v8623 v8625) a + S1x16x512.size a ≤ S384x16x1152.size a := fun v8623 v8625 k1_hw152 => k1_hw152.2

def k1_off475 (i : grid1.Coords) : Fin 2 → Nat :=
  let arg0 : BitVec 32 := BitVec.ofNat 32 (i 0).val
  let c48_i32_3237 : BitVec 32 := 48#32
  let v8229 : BitVec 32 := Scalar.muli arg0 c48_i32_3237
  let c18_i32 : BitVec 32 := 18#32
  let v8230 : BitVec 32 := Scalar.addi v8229 c18_i32
  let v8659 : Index := Scalar.indexCast v8230
  let c7_3402 : Index := 7#32
  ![v8659.toNat, 7]
def k1_off476 (i : grid1.Coords) : Fin 3 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8688 : Index := Scalar.indexCast v8687
  let c0_3418 : Index := 0#32
  let c720_3419 : Index := 720#32
  ![v8688.toNat, 0, 720]
def k1_off477 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8708 : Index := Scalar.indexCast v8687
  let c0_3428 : Index := 0#32
  ![v8708.toNat, 0]
def k1_mult153 (v8711 : BitVec 32) : BitVec 32 :=
  let c0_i32_3432 : BitVec 32 := 0#32
  let v8715 : BitVec 1 := Scalar.cmpi .sgt v8711 c0_i32_3432
  let v8716 : BitVec 32 := Scalar.extui v8715
  let c0_i32_3433 : BitVec 32 := 0#32
  let v8717 : BitVec 1 := Scalar.cmpi .slt v8711 c0_i32_3433
  let v8718 : BitVec 32 := Scalar.extui v8717
  let v8719 : BitVec 32 := Scalar.subi v8716 v8718
  let c128_i32_3431 : BitVec 32 := 128#32
  let c0_i32_3434 : BitVec 32 := 0#32
  let v8720 : BitVec 1 := Scalar.cmpi .sgt c128_i32_3431 c0_i32_3434
  let v8721 : BitVec 32 := Scalar.extui v8720
  let c0_i32_3435 : BitVec 32 := 0#32
  let v8722 : BitVec 1 := Scalar.cmpi .slt c128_i32_3431 c0_i32_3435
  let v8723 : BitVec 32 := Scalar.extui v8722
  let v8724 : BitVec 32 := Scalar.subi v8721 v8723
  let v8725 : BitVec 1 := Scalar.cmpi .ne v8719 v8724
  let v8726 : BitVec 32 := Scalar.remsi v8711 c128_i32_3431
  let c0_i32_3436 : BitVec 32 := 0#32
  let v8727 : BitVec 1 := Scalar.cmpi .ne v8726 c0_i32_3436
  let v8728 : BitVec 1 := Scalar.andi v8725 v8727
  let v8714 : BitVec 32 := Scalar.divsi v8711 c128_i32_3431
  let c1_i32_3437 : BitVec 32 := 1#32
  let v8729 : BitVec 32 := Scalar.subi v8714 c1_i32_3437
  let v8730 : BitVec 32 := Scalar.select v8728 v8729 v8714
  let c128_i32_3438 : BitVec 32 := 128#32
  let v8731 : BitVec 32 := Scalar.muli v8730 c128_i32_3438
  v8731

def k1_off478 (v8709 : BitVec 32) (v8711 : BitVec 32) : Fin 3 → Nat :=
  let v8734 : Index := Scalar.indexCast v8709
  let c0_3439 : Index := 0#32
  let c0_i32_3432 : BitVec 32 := 0#32
  let v8715 : BitVec 1 := Scalar.cmpi .sgt v8711 c0_i32_3432
  let v8716 : BitVec 32 := Scalar.extui v8715
  let c0_i32_3433 : BitVec 32 := 0#32
  let v8717 : BitVec 1 := Scalar.cmpi .slt v8711 c0_i32_3433
  let v8718 : BitVec 32 := Scalar.extui v8717
  let v8719 : BitVec 32 := Scalar.subi v8716 v8718
  let c128_i32_3431 : BitVec 32 := 128#32
  let c0_i32_3434 : BitVec 32 := 0#32
  let v8720 : BitVec 1 := Scalar.cmpi .sgt c128_i32_3431 c0_i32_3434
  let v8721 : BitVec 32 := Scalar.extui v8720
  let c0_i32_3435 : BitVec 32 := 0#32
  let v8722 : BitVec 1 := Scalar.cmpi .slt c128_i32_3431 c0_i32_3435
  let v8723 : BitVec 32 := Scalar.extui v8722
  let v8724 : BitVec 32 := Scalar.subi v8721 v8723
  let v8725 : BitVec 1 := Scalar.cmpi .ne v8719 v8724
  let v8726 : BitVec 32 := Scalar.remsi v8711 c128_i32_3431
  let c0_i32_3436 : BitVec 32 := 0#32
  let v8727 : BitVec 1 := Scalar.cmpi .ne v8726 c0_i32_3436
  let v8728 : BitVec 1 := Scalar.andi v8725 v8727
  let v8714 : BitVec 32 := Scalar.divsi v8711 c128_i32_3431
  let c1_i32_3437 : BitVec 32 := 1#32
  let v8729 : BitVec 32 := Scalar.subi v8714 c1_i32_3437
  let v8730 : BitVec 32 := Scalar.select v8728 v8729 v8714
  let c128_i32_3438 : BitVec 32 := 128#32
  let v8731 : BitVec 32 := Scalar.muli v8730 c128_i32_3438
  let v8732 : BitVec 32 := v8731
  let v8735 : Index := Scalar.indexCast v8732
  ![v8734.toNat, 0, v8735.toNat]

def k1_chk153 (v8709 : BitVec 32) (v8711 : BitVec 32) : Prop :=
  (128 ∣ (k1_mult153 v8711).toNat) ∧
  (∀ a, (k1_off478 v8709 v8711) a + S1x16x512.size a ≤ S384x16x1152.size a)
theorem k1_mult153_dvd : ∀ (v8709 : BitVec 32) (v8711 : BitVec 32) (k1_hw153 : k1_chk153 v8709 v8711), 128 ∣ (k1_mult153 v8711).toNat := fun v8709 v8711 k1_hw153 => k1_hw153.1
theorem k1_off478_inb : ∀ (v8709 : BitVec 32) (v8711 : BitVec 32) (k1_hw153 : k1_chk153 v8709 v8711), ∀ a, (k1_off478 v8709 v8711) a + S1x16x512.size a ≤ S384x16x1152.size a := fun v8709 v8711 k1_hw153 => k1_hw153.2

def k1_off479 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8745 : Index := Scalar.indexCast v8687
  let c0_3442 : Index := 0#32
  ![v8745.toNat, 0]
def k1_off480 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8761 : Index := Scalar.indexCast v8687
  let c1_3448 : Index := 1#32
  ![v8761.toNat, 1]
def k1_mult154 (v8764 : BitVec 32) : BitVec 32 :=
  let c0_i32_3452 : BitVec 32 := 0#32
  let v8768 : BitVec 1 := Scalar.cmpi .sgt v8764 c0_i32_3452
  let v8769 : BitVec 32 := Scalar.extui v8768
  let c0_i32_3453 : BitVec 32 := 0#32
  let v8770 : BitVec 1 := Scalar.cmpi .slt v8764 c0_i32_3453
  let v8771 : BitVec 32 := Scalar.extui v8770
  let v8772 : BitVec 32 := Scalar.subi v8769 v8771
  let c128_i32_3451 : BitVec 32 := 128#32
  let c0_i32_3454 : BitVec 32 := 0#32
  let v8773 : BitVec 1 := Scalar.cmpi .sgt c128_i32_3451 c0_i32_3454
  let v8774 : BitVec 32 := Scalar.extui v8773
  let c0_i32_3455 : BitVec 32 := 0#32
  let v8775 : BitVec 1 := Scalar.cmpi .slt c128_i32_3451 c0_i32_3455
  let v8776 : BitVec 32 := Scalar.extui v8775
  let v8777 : BitVec 32 := Scalar.subi v8774 v8776
  let v8778 : BitVec 1 := Scalar.cmpi .ne v8772 v8777
  let v8779 : BitVec 32 := Scalar.remsi v8764 c128_i32_3451
  let c0_i32_3456 : BitVec 32 := 0#32
  let v8780 : BitVec 1 := Scalar.cmpi .ne v8779 c0_i32_3456
  let v8781 : BitVec 1 := Scalar.andi v8778 v8780
  let v8767 : BitVec 32 := Scalar.divsi v8764 c128_i32_3451
  let c1_i32_3457 : BitVec 32 := 1#32
  let v8782 : BitVec 32 := Scalar.subi v8767 c1_i32_3457
  let v8783 : BitVec 32 := Scalar.select v8781 v8782 v8767
  let c128_i32_3458 : BitVec 32 := 128#32
  let v8784 : BitVec 32 := Scalar.muli v8783 c128_i32_3458
  v8784

def k1_off481 (v8762 : BitVec 32) (v8764 : BitVec 32) : Fin 3 → Nat :=
  let v8787 : Index := Scalar.indexCast v8762
  let c0_3459 : Index := 0#32
  let c0_i32_3452 : BitVec 32 := 0#32
  let v8768 : BitVec 1 := Scalar.cmpi .sgt v8764 c0_i32_3452
  let v8769 : BitVec 32 := Scalar.extui v8768
  let c0_i32_3453 : BitVec 32 := 0#32
  let v8770 : BitVec 1 := Scalar.cmpi .slt v8764 c0_i32_3453
  let v8771 : BitVec 32 := Scalar.extui v8770
  let v8772 : BitVec 32 := Scalar.subi v8769 v8771
  let c128_i32_3451 : BitVec 32 := 128#32
  let c0_i32_3454 : BitVec 32 := 0#32
  let v8773 : BitVec 1 := Scalar.cmpi .sgt c128_i32_3451 c0_i32_3454
  let v8774 : BitVec 32 := Scalar.extui v8773
  let c0_i32_3455 : BitVec 32 := 0#32
  let v8775 : BitVec 1 := Scalar.cmpi .slt c128_i32_3451 c0_i32_3455
  let v8776 : BitVec 32 := Scalar.extui v8775
  let v8777 : BitVec 32 := Scalar.subi v8774 v8776
  let v8778 : BitVec 1 := Scalar.cmpi .ne v8772 v8777
  let v8779 : BitVec 32 := Scalar.remsi v8764 c128_i32_3451
  let c0_i32_3456 : BitVec 32 := 0#32
  let v8780 : BitVec 1 := Scalar.cmpi .ne v8779 c0_i32_3456
  let v8781 : BitVec 1 := Scalar.andi v8778 v8780
  let v8767 : BitVec 32 := Scalar.divsi v8764 c128_i32_3451
  let c1_i32_3457 : BitVec 32 := 1#32
  let v8782 : BitVec 32 := Scalar.subi v8767 c1_i32_3457
  let v8783 : BitVec 32 := Scalar.select v8781 v8782 v8767
  let c128_i32_3458 : BitVec 32 := 128#32
  let v8784 : BitVec 32 := Scalar.muli v8783 c128_i32_3458
  let v8785 : BitVec 32 := v8784
  let v8788 : Index := Scalar.indexCast v8785
  ![v8787.toNat, 0, v8788.toNat]

def k1_chk154 (v8762 : BitVec 32) (v8764 : BitVec 32) : Prop :=
  (128 ∣ (k1_mult154 v8764).toNat) ∧
  (∀ a, (k1_off481 v8762 v8764) a + S1x16x512.size a ≤ S384x16x1152.size a)
theorem k1_mult154_dvd : ∀ (v8762 : BitVec 32) (v8764 : BitVec 32) (k1_hw154 : k1_chk154 v8762 v8764), 128 ∣ (k1_mult154 v8764).toNat := fun v8762 v8764 k1_hw154 => k1_hw154.1
theorem k1_off481_inb : ∀ (v8762 : BitVec 32) (v8764 : BitVec 32) (k1_hw154 : k1_chk154 v8762 v8764), ∀ a, (k1_off481 v8762 v8764) a + S1x16x512.size a ≤ S384x16x1152.size a := fun v8762 v8764 k1_hw154 => k1_hw154.2

def k1_off482 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8798 : Index := Scalar.indexCast v8687
  let c1_3462 : Index := 1#32
  ![v8798.toNat, 1]
def k1_off483 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8814 : Index := Scalar.indexCast v8687
  let c2_3468 : Index := 2#32
  ![v8814.toNat, 2]
def k1_mult155 (v8817 : BitVec 32) : BitVec 32 :=
  let c0_i32_3472 : BitVec 32 := 0#32
  let v8821 : BitVec 1 := Scalar.cmpi .sgt v8817 c0_i32_3472
  let v8822 : BitVec 32 := Scalar.extui v8821
  let c0_i32_3473 : BitVec 32 := 0#32
  let v8823 : BitVec 1 := Scalar.cmpi .slt v8817 c0_i32_3473
  let v8824 : BitVec 32 := Scalar.extui v8823
  let v8825 : BitVec 32 := Scalar.subi v8822 v8824
  let c128_i32_3471 : BitVec 32 := 128#32
  let c0_i32_3474 : BitVec 32 := 0#32
  let v8826 : BitVec 1 := Scalar.cmpi .sgt c128_i32_3471 c0_i32_3474
  let v8827 : BitVec 32 := Scalar.extui v8826
  let c0_i32_3475 : BitVec 32 := 0#32
  let v8828 : BitVec 1 := Scalar.cmpi .slt c128_i32_3471 c0_i32_3475
  let v8829 : BitVec 32 := Scalar.extui v8828
  let v8830 : BitVec 32 := Scalar.subi v8827 v8829
  let v8831 : BitVec 1 := Scalar.cmpi .ne v8825 v8830
  let v8832 : BitVec 32 := Scalar.remsi v8817 c128_i32_3471
  let c0_i32_3476 : BitVec 32 := 0#32
  let v8833 : BitVec 1 := Scalar.cmpi .ne v8832 c0_i32_3476
  let v8834 : BitVec 1 := Scalar.andi v8831 v8833
  let v8820 : BitVec 32 := Scalar.divsi v8817 c128_i32_3471
  let c1_i32_3477 : BitVec 32 := 1#32
  let v8835 : BitVec 32 := Scalar.subi v8820 c1_i32_3477
  let v8836 : BitVec 32 := Scalar.select v8834 v8835 v8820
  let c128_i32_3478 : BitVec 32 := 128#32
  let v8837 : BitVec 32 := Scalar.muli v8836 c128_i32_3478
  v8837

def k1_off484 (v8815 : BitVec 32) (v8817 : BitVec 32) : Fin 3 → Nat :=
  let v8840 : Index := Scalar.indexCast v8815
  let c0_3479 : Index := 0#32
  let c0_i32_3472 : BitVec 32 := 0#32
  let v8821 : BitVec 1 := Scalar.cmpi .sgt v8817 c0_i32_3472
  let v8822 : BitVec 32 := Scalar.extui v8821
  let c0_i32_3473 : BitVec 32 := 0#32
  let v8823 : BitVec 1 := Scalar.cmpi .slt v8817 c0_i32_3473
  let v8824 : BitVec 32 := Scalar.extui v8823
  let v8825 : BitVec 32 := Scalar.subi v8822 v8824
  let c128_i32_3471 : BitVec 32 := 128#32
  let c0_i32_3474 : BitVec 32 := 0#32
  let v8826 : BitVec 1 := Scalar.cmpi .sgt c128_i32_3471 c0_i32_3474
  let v8827 : BitVec 32 := Scalar.extui v8826
  let c0_i32_3475 : BitVec 32 := 0#32
  let v8828 : BitVec 1 := Scalar.cmpi .slt c128_i32_3471 c0_i32_3475
  let v8829 : BitVec 32 := Scalar.extui v8828
  let v8830 : BitVec 32 := Scalar.subi v8827 v8829
  let v8831 : BitVec 1 := Scalar.cmpi .ne v8825 v8830
  let v8832 : BitVec 32 := Scalar.remsi v8817 c128_i32_3471
  let c0_i32_3476 : BitVec 32 := 0#32
  let v8833 : BitVec 1 := Scalar.cmpi .ne v8832 c0_i32_3476
  let v8834 : BitVec 1 := Scalar.andi v8831 v8833
  let v8820 : BitVec 32 := Scalar.divsi v8817 c128_i32_3471
  let c1_i32_3477 : BitVec 32 := 1#32
  let v8835 : BitVec 32 := Scalar.subi v8820 c1_i32_3477
  let v8836 : BitVec 32 := Scalar.select v8834 v8835 v8820
  let c128_i32_3478 : BitVec 32 := 128#32
  let v8837 : BitVec 32 := Scalar.muli v8836 c128_i32_3478
  let v8838 : BitVec 32 := v8837
  let v8841 : Index := Scalar.indexCast v8838
  ![v8840.toNat, 0, v8841.toNat]

def k1_chk155 (v8815 : BitVec 32) (v8817 : BitVec 32) : Prop :=
  (128 ∣ (k1_mult155 v8817).toNat) ∧
  (∀ a, (k1_off484 v8815 v8817) a + S1x16x512.size a ≤ S384x16x1152.size a)
theorem k1_mult155_dvd : ∀ (v8815 : BitVec 32) (v8817 : BitVec 32) (k1_hw155 : k1_chk155 v8815 v8817), 128 ∣ (k1_mult155 v8817).toNat := fun v8815 v8817 k1_hw155 => k1_hw155.1
theorem k1_off484_inb : ∀ (v8815 : BitVec 32) (v8817 : BitVec 32) (k1_hw155 : k1_chk155 v8815 v8817), ∀ a, (k1_off484 v8815 v8817) a + S1x16x512.size a ≤ S384x16x1152.size a := fun v8815 v8817 k1_hw155 => k1_hw155.2

def k1_off485 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8851 : Index := Scalar.indexCast v8687
  let c2_3482 : Index := 2#32
  ![v8851.toNat, 2]
def k1_off486 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8867 : Index := Scalar.indexCast v8687
  let c3_3488 : Index := 3#32
  ![v8867.toNat, 3]
def k1_mult156 (v8870 : BitVec 32) : BitVec 32 :=
  let c0_i32_3492 : BitVec 32 := 0#32
  let v8874 : BitVec 1 := Scalar.cmpi .sgt v8870 c0_i32_3492
  let v8875 : BitVec 32 := Scalar.extui v8874
  let c0_i32_3493 : BitVec 32 := 0#32
  let v8876 : BitVec 1 := Scalar.cmpi .slt v8870 c0_i32_3493
  let v8877 : BitVec 32 := Scalar.extui v8876
  let v8878 : BitVec 32 := Scalar.subi v8875 v8877
  let c128_i32_3491 : BitVec 32 := 128#32
  let c0_i32_3494 : BitVec 32 := 0#32
  let v8879 : BitVec 1 := Scalar.cmpi .sgt c128_i32_3491 c0_i32_3494
  let v8880 : BitVec 32 := Scalar.extui v8879
  let c0_i32_3495 : BitVec 32 := 0#32
  let v8881 : BitVec 1 := Scalar.cmpi .slt c128_i32_3491 c0_i32_3495
  let v8882 : BitVec 32 := Scalar.extui v8881
  let v8883 : BitVec 32 := Scalar.subi v8880 v8882
  let v8884 : BitVec 1 := Scalar.cmpi .ne v8878 v8883
  let v8885 : BitVec 32 := Scalar.remsi v8870 c128_i32_3491
  let c0_i32_3496 : BitVec 32 := 0#32
  let v8886 : BitVec 1 := Scalar.cmpi .ne v8885 c0_i32_3496
  let v8887 : BitVec 1 := Scalar.andi v8884 v8886
  let v8873 : BitVec 32 := Scalar.divsi v8870 c128_i32_3491
  let c1_i32_3497 : BitVec 32 := 1#32
  let v8888 : BitVec 32 := Scalar.subi v8873 c1_i32_3497
  let v8889 : BitVec 32 := Scalar.select v8887 v8888 v8873
  let c128_i32_3498 : BitVec 32 := 128#32
  let v8890 : BitVec 32 := Scalar.muli v8889 c128_i32_3498
  v8890

def k1_off487 (v8868 : BitVec 32) (v8870 : BitVec 32) : Fin 3 → Nat :=
  let v8893 : Index := Scalar.indexCast v8868
  let c0_3499 : Index := 0#32
  let c0_i32_3492 : BitVec 32 := 0#32
  let v8874 : BitVec 1 := Scalar.cmpi .sgt v8870 c0_i32_3492
  let v8875 : BitVec 32 := Scalar.extui v8874
  let c0_i32_3493 : BitVec 32 := 0#32
  let v8876 : BitVec 1 := Scalar.cmpi .slt v8870 c0_i32_3493
  let v8877 : BitVec 32 := Scalar.extui v8876
  let v8878 : BitVec 32 := Scalar.subi v8875 v8877
  let c128_i32_3491 : BitVec 32 := 128#32
  let c0_i32_3494 : BitVec 32 := 0#32
  let v8879 : BitVec 1 := Scalar.cmpi .sgt c128_i32_3491 c0_i32_3494
  let v8880 : BitVec 32 := Scalar.extui v8879
  let c0_i32_3495 : BitVec 32 := 0#32
  let v8881 : BitVec 1 := Scalar.cmpi .slt c128_i32_3491 c0_i32_3495
  let v8882 : BitVec 32 := Scalar.extui v8881
  let v8883 : BitVec 32 := Scalar.subi v8880 v8882
  let v8884 : BitVec 1 := Scalar.cmpi .ne v8878 v8883
  let v8885 : BitVec 32 := Scalar.remsi v8870 c128_i32_3491
  let c0_i32_3496 : BitVec 32 := 0#32
  let v8886 : BitVec 1 := Scalar.cmpi .ne v8885 c0_i32_3496
  let v8887 : BitVec 1 := Scalar.andi v8884 v8886
  let v8873 : BitVec 32 := Scalar.divsi v8870 c128_i32_3491
  let c1_i32_3497 : BitVec 32 := 1#32
  let v8888 : BitVec 32 := Scalar.subi v8873 c1_i32_3497
  let v8889 : BitVec 32 := Scalar.select v8887 v8888 v8873
  let c128_i32_3498 : BitVec 32 := 128#32
  let v8890 : BitVec 32 := Scalar.muli v8889 c128_i32_3498
  let v8891 : BitVec 32 := v8890
  let v8894 : Index := Scalar.indexCast v8891
  ![v8893.toNat, 0, v8894.toNat]

def k1_chk156 (v8868 : BitVec 32) (v8870 : BitVec 32) : Prop :=
  (128 ∣ (k1_mult156 v8870).toNat) ∧
  (∀ a, (k1_off487 v8868 v8870) a + S1x16x512.size a ≤ S384x16x1152.size a)
theorem k1_mult156_dvd : ∀ (v8868 : BitVec 32) (v8870 : BitVec 32) (k1_hw156 : k1_chk156 v8868 v8870), 128 ∣ (k1_mult156 v8870).toNat := fun v8868 v8870 k1_hw156 => k1_hw156.1
theorem k1_off487_inb : ∀ (v8868 : BitVec 32) (v8870 : BitVec 32) (k1_hw156 : k1_chk156 v8868 v8870), ∀ a, (k1_off487 v8868 v8870) a + S1x16x512.size a ≤ S384x16x1152.size a := fun v8868 v8870 k1_hw156 => k1_hw156.2

def k1_off488 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8904 : Index := Scalar.indexCast v8687
  let c3_3502 : Index := 3#32
  ![v8904.toNat, 3]
def k1_off489 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8920 : Index := Scalar.indexCast v8687
  let c4_3508 : Index := 4#32
  ![v8920.toNat, 4]
def k1_mult157 (v8923 : BitVec 32) : BitVec 32 :=
  let c0_i32_3512 : BitVec 32 := 0#32
  let v8927 : BitVec 1 := Scalar.cmpi .sgt v8923 c0_i32_3512
  let v8928 : BitVec 32 := Scalar.extui v8927
  let c0_i32_3513 : BitVec 32 := 0#32
  let v8929 : BitVec 1 := Scalar.cmpi .slt v8923 c0_i32_3513
  let v8930 : BitVec 32 := Scalar.extui v8929
  let v8931 : BitVec 32 := Scalar.subi v8928 v8930
  let c128_i32_3511 : BitVec 32 := 128#32
  let c0_i32_3514 : BitVec 32 := 0#32
  let v8932 : BitVec 1 := Scalar.cmpi .sgt c128_i32_3511 c0_i32_3514
  let v8933 : BitVec 32 := Scalar.extui v8932
  let c0_i32_3515 : BitVec 32 := 0#32
  let v8934 : BitVec 1 := Scalar.cmpi .slt c128_i32_3511 c0_i32_3515
  let v8935 : BitVec 32 := Scalar.extui v8934
  let v8936 : BitVec 32 := Scalar.subi v8933 v8935
  let v8937 : BitVec 1 := Scalar.cmpi .ne v8931 v8936
  let v8938 : BitVec 32 := Scalar.remsi v8923 c128_i32_3511
  let c0_i32_3516 : BitVec 32 := 0#32
  let v8939 : BitVec 1 := Scalar.cmpi .ne v8938 c0_i32_3516
  let v8940 : BitVec 1 := Scalar.andi v8937 v8939
  let v8926 : BitVec 32 := Scalar.divsi v8923 c128_i32_3511
  let c1_i32_3517 : BitVec 32 := 1#32
  let v8941 : BitVec 32 := Scalar.subi v8926 c1_i32_3517
  let v8942 : BitVec 32 := Scalar.select v8940 v8941 v8926
  let c128_i32_3518 : BitVec 32 := 128#32
  let v8943 : BitVec 32 := Scalar.muli v8942 c128_i32_3518
  v8943

def k1_off490 (v8921 : BitVec 32) (v8923 : BitVec 32) : Fin 3 → Nat :=
  let v8946 : Index := Scalar.indexCast v8921
  let c0_3519 : Index := 0#32
  let c0_i32_3512 : BitVec 32 := 0#32
  let v8927 : BitVec 1 := Scalar.cmpi .sgt v8923 c0_i32_3512
  let v8928 : BitVec 32 := Scalar.extui v8927
  let c0_i32_3513 : BitVec 32 := 0#32
  let v8929 : BitVec 1 := Scalar.cmpi .slt v8923 c0_i32_3513
  let v8930 : BitVec 32 := Scalar.extui v8929
  let v8931 : BitVec 32 := Scalar.subi v8928 v8930
  let c128_i32_3511 : BitVec 32 := 128#32
  let c0_i32_3514 : BitVec 32 := 0#32
  let v8932 : BitVec 1 := Scalar.cmpi .sgt c128_i32_3511 c0_i32_3514
  let v8933 : BitVec 32 := Scalar.extui v8932
  let c0_i32_3515 : BitVec 32 := 0#32
  let v8934 : BitVec 1 := Scalar.cmpi .slt c128_i32_3511 c0_i32_3515
  let v8935 : BitVec 32 := Scalar.extui v8934
  let v8936 : BitVec 32 := Scalar.subi v8933 v8935
  let v8937 : BitVec 1 := Scalar.cmpi .ne v8931 v8936
  let v8938 : BitVec 32 := Scalar.remsi v8923 c128_i32_3511
  let c0_i32_3516 : BitVec 32 := 0#32
  let v8939 : BitVec 1 := Scalar.cmpi .ne v8938 c0_i32_3516
  let v8940 : BitVec 1 := Scalar.andi v8937 v8939
  let v8926 : BitVec 32 := Scalar.divsi v8923 c128_i32_3511
  let c1_i32_3517 : BitVec 32 := 1#32
  let v8941 : BitVec 32 := Scalar.subi v8926 c1_i32_3517
  let v8942 : BitVec 32 := Scalar.select v8940 v8941 v8926
  let c128_i32_3518 : BitVec 32 := 128#32
  let v8943 : BitVec 32 := Scalar.muli v8942 c128_i32_3518
  let v8944 : BitVec 32 := v8943
  let v8947 : Index := Scalar.indexCast v8944
  ![v8946.toNat, 0, v8947.toNat]

def k1_chk157 (v8921 : BitVec 32) (v8923 : BitVec 32) : Prop :=
  (128 ∣ (k1_mult157 v8923).toNat) ∧
  (∀ a, (k1_off490 v8921 v8923) a + S1x16x512.size a ≤ S384x16x1152.size a)
theorem k1_mult157_dvd : ∀ (v8921 : BitVec 32) (v8923 : BitVec 32) (k1_hw157 : k1_chk157 v8921 v8923), 128 ∣ (k1_mult157 v8923).toNat := fun v8921 v8923 k1_hw157 => k1_hw157.1
theorem k1_off490_inb : ∀ (v8921 : BitVec 32) (v8923 : BitVec 32) (k1_hw157 : k1_chk157 v8921 v8923), ∀ a, (k1_off490 v8921 v8923) a + S1x16x512.size a ≤ S384x16x1152.size a := fun v8921 v8923 k1_hw157 => k1_hw157.2

def k1_off491 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8957 : Index := Scalar.indexCast v8687
  let c4_3522 : Index := 4#32
  ![v8957.toNat, 4]
def k1_off492 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v8973 : Index := Scalar.indexCast v8687
  let c5_3528 : Index := 5#32
  ![v8973.toNat, 5]
def k1_mult158 (v8976 : BitVec 32) : BitVec 32 :=
  let c0_i32_3532 : BitVec 32 := 0#32
  let v8980 : BitVec 1 := Scalar.cmpi .sgt v8976 c0_i32_3532
  let v8981 : BitVec 32 := Scalar.extui v8980
  let c0_i32_3533 : BitVec 32 := 0#32
  let v8982 : BitVec 1 := Scalar.cmpi .slt v8976 c0_i32_3533
  let v8983 : BitVec 32 := Scalar.extui v8982
  let v8984 : BitVec 32 := Scalar.subi v8981 v8983
  let c128_i32_3531 : BitVec 32 := 128#32
  let c0_i32_3534 : BitVec 32 := 0#32
  let v8985 : BitVec 1 := Scalar.cmpi .sgt c128_i32_3531 c0_i32_3534
  let v8986 : BitVec 32 := Scalar.extui v8985
  let c0_i32_3535 : BitVec 32 := 0#32
  let v8987 : BitVec 1 := Scalar.cmpi .slt c128_i32_3531 c0_i32_3535
  let v8988 : BitVec 32 := Scalar.extui v8987
  let v8989 : BitVec 32 := Scalar.subi v8986 v8988
  let v8990 : BitVec 1 := Scalar.cmpi .ne v8984 v8989
  let v8991 : BitVec 32 := Scalar.remsi v8976 c128_i32_3531
  let c0_i32_3536 : BitVec 32 := 0#32
  let v8992 : BitVec 1 := Scalar.cmpi .ne v8991 c0_i32_3536
  let v8993 : BitVec 1 := Scalar.andi v8990 v8992
  let v8979 : BitVec 32 := Scalar.divsi v8976 c128_i32_3531
  let c1_i32_3537 : BitVec 32 := 1#32
  let v8994 : BitVec 32 := Scalar.subi v8979 c1_i32_3537
  let v8995 : BitVec 32 := Scalar.select v8993 v8994 v8979
  let c128_i32_3538 : BitVec 32 := 128#32
  let v8996 : BitVec 32 := Scalar.muli v8995 c128_i32_3538
  v8996

def k1_off493 (v8974 : BitVec 32) (v8976 : BitVec 32) : Fin 3 → Nat :=
  let v8999 : Index := Scalar.indexCast v8974
  let c0_3539 : Index := 0#32
  let c0_i32_3532 : BitVec 32 := 0#32
  let v8980 : BitVec 1 := Scalar.cmpi .sgt v8976 c0_i32_3532
  let v8981 : BitVec 32 := Scalar.extui v8980
  let c0_i32_3533 : BitVec 32 := 0#32
  let v8982 : BitVec 1 := Scalar.cmpi .slt v8976 c0_i32_3533
  let v8983 : BitVec 32 := Scalar.extui v8982
  let v8984 : BitVec 32 := Scalar.subi v8981 v8983
  let c128_i32_3531 : BitVec 32 := 128#32
  let c0_i32_3534 : BitVec 32 := 0#32
  let v8985 : BitVec 1 := Scalar.cmpi .sgt c128_i32_3531 c0_i32_3534
  let v8986 : BitVec 32 := Scalar.extui v8985
  let c0_i32_3535 : BitVec 32 := 0#32
  let v8987 : BitVec 1 := Scalar.cmpi .slt c128_i32_3531 c0_i32_3535
  let v8988 : BitVec 32 := Scalar.extui v8987
  let v8989 : BitVec 32 := Scalar.subi v8986 v8988
  let v8990 : BitVec 1 := Scalar.cmpi .ne v8984 v8989
  let v8991 : BitVec 32 := Scalar.remsi v8976 c128_i32_3531
  let c0_i32_3536 : BitVec 32 := 0#32
  let v8992 : BitVec 1 := Scalar.cmpi .ne v8991 c0_i32_3536
  let v8993 : BitVec 1 := Scalar.andi v8990 v8992
  let v8979 : BitVec 32 := Scalar.divsi v8976 c128_i32_3531
  let c1_i32_3537 : BitVec 32 := 1#32
  let v8994 : BitVec 32 := Scalar.subi v8979 c1_i32_3537
  let v8995 : BitVec 32 := Scalar.select v8993 v8994 v8979
  let c128_i32_3538 : BitVec 32 := 128#32
  let v8996 : BitVec 32 := Scalar.muli v8995 c128_i32_3538
  let v8997 : BitVec 32 := v8996
  let v9000 : Index := Scalar.indexCast v8997
  ![v8999.toNat, 0, v9000.toNat]

def k1_chk158 (v8974 : BitVec 32) (v8976 : BitVec 32) : Prop :=
  (128 ∣ (k1_mult158 v8976).toNat) ∧
  (∀ a, (k1_off493 v8974 v8976) a + S1x16x512.size a ≤ S384x16x1152.size a)
theorem k1_mult158_dvd : ∀ (v8974 : BitVec 32) (v8976 : BitVec 32) (k1_hw158 : k1_chk158 v8974 v8976), 128 ∣ (k1_mult158 v8976).toNat := fun v8974 v8976 k1_hw158 => k1_hw158.1
theorem k1_off493_inb : ∀ (v8974 : BitVec 32) (v8976 : BitVec 32) (k1_hw158 : k1_chk158 v8974 v8976), ∀ a, (k1_off493 v8974 v8976) a + S1x16x512.size a ≤ S384x16x1152.size a := fun v8974 v8976 k1_hw158 => k1_hw158.2

def k1_off494 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v9010 : Index := Scalar.indexCast v8687
  let c5_3542 : Index := 5#32
  ![v9010.toNat, 5]
def k1_off495 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v9026 : Index := Scalar.indexCast v8687
  let c6_3548 : Index := 6#32
  ![v9026.toNat, 6]
def k1_mult159 (v9029 : BitVec 32) : BitVec 32 :=
  let c0_i32_3552 : BitVec 32 := 0#32
  let v9033 : BitVec 1 := Scalar.cmpi .sgt v9029 c0_i32_3552
  let v9034 : BitVec 32 := Scalar.extui v9033
  let c0_i32_3553 : BitVec 32 := 0#32
  let v9035 : BitVec 1 := Scalar.cmpi .slt v9029 c0_i32_3553
  let v9036 : BitVec 32 := Scalar.extui v9035
  let v9037 : BitVec 32 := Scalar.subi v9034 v9036
  let c128_i32_3551 : BitVec 32 := 128#32
  let c0_i32_3554 : BitVec 32 := 0#32
  let v9038 : BitVec 1 := Scalar.cmpi .sgt c128_i32_3551 c0_i32_3554
  let v9039 : BitVec 32 := Scalar.extui v9038
  let c0_i32_3555 : BitVec 32 := 0#32
  let v9040 : BitVec 1 := Scalar.cmpi .slt c128_i32_3551 c0_i32_3555
  let v9041 : BitVec 32 := Scalar.extui v9040
  let v9042 : BitVec 32 := Scalar.subi v9039 v9041
  let v9043 : BitVec 1 := Scalar.cmpi .ne v9037 v9042
  let v9044 : BitVec 32 := Scalar.remsi v9029 c128_i32_3551
  let c0_i32_3556 : BitVec 32 := 0#32
  let v9045 : BitVec 1 := Scalar.cmpi .ne v9044 c0_i32_3556
  let v9046 : BitVec 1 := Scalar.andi v9043 v9045
  let v9032 : BitVec 32 := Scalar.divsi v9029 c128_i32_3551
  let c1_i32_3557 : BitVec 32 := 1#32
  let v9047 : BitVec 32 := Scalar.subi v9032 c1_i32_3557
  let v9048 : BitVec 32 := Scalar.select v9046 v9047 v9032
  let c128_i32_3558 : BitVec 32 := 128#32
  let v9049 : BitVec 32 := Scalar.muli v9048 c128_i32_3558
  v9049

def k1_off496 (v9027 : BitVec 32) (v9029 : BitVec 32) : Fin 3 → Nat :=
  let v9052 : Index := Scalar.indexCast v9027
  let c0_3559 : Index := 0#32
  let c0_i32_3552 : BitVec 32 := 0#32
  let v9033 : BitVec 1 := Scalar.cmpi .sgt v9029 c0_i32_3552
  let v9034 : BitVec 32 := Scalar.extui v9033
  let c0_i32_3553 : BitVec 32 := 0#32
  let v9035 : BitVec 1 := Scalar.cmpi .slt v9029 c0_i32_3553
  let v9036 : BitVec 32 := Scalar.extui v9035
  let v9037 : BitVec 32 := Scalar.subi v9034 v9036
  let c128_i32_3551 : BitVec 32 := 128#32
  let c0_i32_3554 : BitVec 32 := 0#32
  let v9038 : BitVec 1 := Scalar.cmpi .sgt c128_i32_3551 c0_i32_3554
  let v9039 : BitVec 32 := Scalar.extui v9038
  let c0_i32_3555 : BitVec 32 := 0#32
  let v9040 : BitVec 1 := Scalar.cmpi .slt c128_i32_3551 c0_i32_3555
  let v9041 : BitVec 32 := Scalar.extui v9040
  let v9042 : BitVec 32 := Scalar.subi v9039 v9041
  let v9043 : BitVec 1 := Scalar.cmpi .ne v9037 v9042
  let v9044 : BitVec 32 := Scalar.remsi v9029 c128_i32_3551
  let c0_i32_3556 : BitVec 32 := 0#32
  let v9045 : BitVec 1 := Scalar.cmpi .ne v9044 c0_i32_3556
  let v9046 : BitVec 1 := Scalar.andi v9043 v9045
  let v9032 : BitVec 32 := Scalar.divsi v9029 c128_i32_3551
  let c1_i32_3557 : BitVec 32 := 1#32
  let v9047 : BitVec 32 := Scalar.subi v9032 c1_i32_3557
  let v9048 : BitVec 32 := Scalar.select v9046 v9047 v9032
  let c128_i32_3558 : BitVec 32 := 128#32
  let v9049 : BitVec 32 := Scalar.muli v9048 c128_i32_3558
  let v9050 : BitVec 32 := v9049
  let v9053 : Index := Scalar.indexCast v9050
  ![v9052.toNat, 0, v9053.toNat]

def k1_chk159 (v9027 : BitVec 32) (v9029 : BitVec 32) : Prop :=
  (128 ∣ (k1_mult159 v9029).toNat) ∧
  (∀ a, (k1_off496 v9027 v9029) a + S1x16x512.size a ≤ S384x16x1152.size a)
theorem k1_mult159_dvd : ∀ (v9027 : BitVec 32) (v9029 : BitVec 32) (k1_hw159 : k1_chk159 v9027 v9029), 128 ∣ (k1_mult159 v9029).toNat := fun v9027 v9029 k1_hw159 => k1_hw159.1
theorem k1_off496_inb : ∀ (v9027 : BitVec 32) (v9029 : BitVec 32) (k1_hw159 : k1_chk159 v9027 v9029), ∀ a, (k1_off496 v9027 v9029) a + S1x16x512.size a ≤ S384x16x1152.size a := fun v9027 v9029 k1_hw159 => k1_hw159.2

def k1_off497 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v9063 : Index := Scalar.indexCast v8687
  let c6_3562 : Index := 6#32
  ![v9063.toNat, 6]
def k1_off498 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v9079 : Index := Scalar.indexCast v8687
  let c7_3568 : Index := 7#32
  ![v9079.toNat, 7]
def k1_mult160 (v9082 : BitVec 32) : BitVec 32 :=
  let c0_i32_3572 : BitVec 32 := 0#32
  let v9086 : BitVec 1 := Scalar.cmpi .sgt v9082 c0_i32_3572
  let v9087 : BitVec 32 := Scalar.extui v9086
  let c0_i32_3573 : BitVec 32 := 0#32
  let v9088 : BitVec 1 := Scalar.cmpi .slt v9082 c0_i32_3573
  let v9089 : BitVec 32 := Scalar.extui v9088
  let v9090 : BitVec 32 := Scalar.subi v9087 v9089
  let c128_i32_3571 : BitVec 32 := 128#32
  let c0_i32_3574 : BitVec 32 := 0#32
  let v9091 : BitVec 1 := Scalar.cmpi .sgt c128_i32_3571 c0_i32_3574
  let v9092 : BitVec 32 := Scalar.extui v9091
  let c0_i32_3575 : BitVec 32 := 0#32
  let v9093 : BitVec 1 := Scalar.cmpi .slt c128_i32_3571 c0_i32_3575
  let v9094 : BitVec 32 := Scalar.extui v9093
  let v9095 : BitVec 32 := Scalar.subi v9092 v9094
  let v9096 : BitVec 1 := Scalar.cmpi .ne v9090 v9095
  let v9097 : BitVec 32 := Scalar.remsi v9082 c128_i32_3571
  let c0_i32_3576 : BitVec 32 := 0#32
  let v9098 : BitVec 1 := Scalar.cmpi .ne v9097 c0_i32_3576
  let v9099 : BitVec 1 := Scalar.andi v9096 v9098
  let v9085 : BitVec 32 := Scalar.divsi v9082 c128_i32_3571
  let c1_i32_3577 : BitVec 32 := 1#32
  let v9100 : BitVec 32 := Scalar.subi v9085 c1_i32_3577
  let v9101 : BitVec 32 := Scalar.select v9099 v9100 v9085
  let c128_i32_3578 : BitVec 32 := 128#32
  let v9102 : BitVec 32 := Scalar.muli v9101 c128_i32_3578
  v9102

def k1_off499 (v9080 : BitVec 32) (v9082 : BitVec 32) : Fin 3 → Nat :=
  let v9105 : Index := Scalar.indexCast v9080
  let c0_3579 : Index := 0#32
  let c0_i32_3572 : BitVec 32 := 0#32
  let v9086 : BitVec 1 := Scalar.cmpi .sgt v9082 c0_i32_3572
  let v9087 : BitVec 32 := Scalar.extui v9086
  let c0_i32_3573 : BitVec 32 := 0#32
  let v9088 : BitVec 1 := Scalar.cmpi .slt v9082 c0_i32_3573
  let v9089 : BitVec 32 := Scalar.extui v9088
  let v9090 : BitVec 32 := Scalar.subi v9087 v9089
  let c128_i32_3571 : BitVec 32 := 128#32
  let c0_i32_3574 : BitVec 32 := 0#32
  let v9091 : BitVec 1 := Scalar.cmpi .sgt c128_i32_3571 c0_i32_3574
  let v9092 : BitVec 32 := Scalar.extui v9091
  let c0_i32_3575 : BitVec 32 := 0#32
  let v9093 : BitVec 1 := Scalar.cmpi .slt c128_i32_3571 c0_i32_3575
  let v9094 : BitVec 32 := Scalar.extui v9093
  let v9095 : BitVec 32 := Scalar.subi v9092 v9094
  let v9096 : BitVec 1 := Scalar.cmpi .ne v9090 v9095
  let v9097 : BitVec 32 := Scalar.remsi v9082 c128_i32_3571
  let c0_i32_3576 : BitVec 32 := 0#32
  let v9098 : BitVec 1 := Scalar.cmpi .ne v9097 c0_i32_3576
  let v9099 : BitVec 1 := Scalar.andi v9096 v9098
  let v9085 : BitVec 32 := Scalar.divsi v9082 c128_i32_3571
  let c1_i32_3577 : BitVec 32 := 1#32
  let v9100 : BitVec 32 := Scalar.subi v9085 c1_i32_3577
  let v9101 : BitVec 32 := Scalar.select v9099 v9100 v9085
  let c128_i32_3578 : BitVec 32 := 128#32
  let v9102 : BitVec 32 := Scalar.muli v9101 c128_i32_3578
  let v9103 : BitVec 32 := v9102
  let v9106 : Index := Scalar.indexCast v9103
  ![v9105.toNat, 0, v9106.toNat]

def k1_chk160 (v9080 : BitVec 32) (v9082 : BitVec 32) : Prop :=
  (128 ∣ (k1_mult160 v9082).toNat) ∧
  (∀ a, (k1_off499 v9080 v9082) a + S1x16x512.size a ≤ S384x16x1152.size a)
theorem k1_mult160_dvd : ∀ (v9080 : BitVec 32) (v9082 : BitVec 32) (k1_hw160 : k1_chk160 v9080 v9082), 128 ∣ (k1_mult160 v9082).toNat := fun v9080 v9082 k1_hw160 => k1_hw160.1
theorem k1_off499_inb : ∀ (v9080 : BitVec 32) (v9082 : BitVec 32) (k1_hw160 : k1_chk160 v9080 v9082), ∀ a, (k1_off499 v9080 v9082) a + S1x16x512.size a ≤ S384x16x1152.size a := fun v9080 v9082 k1_hw160 => k1_hw160.2

def k1_off500 (i : grid1.Coords) : Fin 2 → Nat :=
  let arg0 : BitVec 32 := BitVec.ofNat 32 (i 0).val
  let c48_i32_3417 : BitVec 32 := 48#32
  let v8686 : BitVec 32 := Scalar.muli arg0 c48_i32_3417
  let c19_i32 : BitVec 32 := 19#32
  let v8687 : BitVec 32 := Scalar.addi v8686 c19_i32
  let v9116 : Index := Scalar.indexCast v8687
  let c7_3582 : Index := 7#32
  ![v9116.toNat, 7]
def k1_off501 (i : grid1.Coords) : Fin 3 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9145 : Index := Scalar.indexCast v9144
  let c0_3598 : Index := 0#32
  let c720_3599 : Index := 720#32
  ![v9145.toNat, 0, 720]
def k1_off502 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9165 : Index := Scalar.indexCast v9144
  let c0_3608 : Index := 0#32
  ![v9165.toNat, 0]
def k1_mult161 (v9168 : BitVec 32) : BitVec 32 :=
  let c0_i32_3612 : BitVec 32 := 0#32
  let v9172 : BitVec 1 := Scalar.cmpi .sgt v9168 c0_i32_3612
  let v9173 : BitVec 32 := Scalar.extui v9172
  let c0_i32_3613 : BitVec 32 := 0#32
  let v9174 : BitVec 1 := Scalar.cmpi .slt v9168 c0_i32_3613
  let v9175 : BitVec 32 := Scalar.extui v9174
  let v9176 : BitVec 32 := Scalar.subi v9173 v9175
  let c128_i32_3611 : BitVec 32 := 128#32
  let c0_i32_3614 : BitVec 32 := 0#32
  let v9177 : BitVec 1 := Scalar.cmpi .sgt c128_i32_3611 c0_i32_3614
  let v9178 : BitVec 32 := Scalar.extui v9177
  let c0_i32_3615 : BitVec 32 := 0#32
  let v9179 : BitVec 1 := Scalar.cmpi .slt c128_i32_3611 c0_i32_3615
  let v9180 : BitVec 32 := Scalar.extui v9179
  let v9181 : BitVec 32 := Scalar.subi v9178 v9180
  let v9182 : BitVec 1 := Scalar.cmpi .ne v9176 v9181
  let v9183 : BitVec 32 := Scalar.remsi v9168 c128_i32_3611
  let c0_i32_3616 : BitVec 32 := 0#32
  let v9184 : BitVec 1 := Scalar.cmpi .ne v9183 c0_i32_3616
  let v9185 : BitVec 1 := Scalar.andi v9182 v9184
  let v9171 : BitVec 32 := Scalar.divsi v9168 c128_i32_3611
  let c1_i32_3617 : BitVec 32 := 1#32
  let v9186 : BitVec 32 := Scalar.subi v9171 c1_i32_3617
  let v9187 : BitVec 32 := Scalar.select v9185 v9186 v9171
  let c128_i32_3618 : BitVec 32 := 128#32
  let v9188 : BitVec 32 := Scalar.muli v9187 c128_i32_3618
  v9188

def k1_off503 (v9166 : BitVec 32) (v9168 : BitVec 32) : Fin 3 → Nat :=
  let v9191 : Index := Scalar.indexCast v9166
  let c0_3619 : Index := 0#32
  let c0_i32_3612 : BitVec 32 := 0#32
  let v9172 : BitVec 1 := Scalar.cmpi .sgt v9168 c0_i32_3612
  let v9173 : BitVec 32 := Scalar.extui v9172
  let c0_i32_3613 : BitVec 32 := 0#32
  let v9174 : BitVec 1 := Scalar.cmpi .slt v9168 c0_i32_3613
  let v9175 : BitVec 32 := Scalar.extui v9174
  let v9176 : BitVec 32 := Scalar.subi v9173 v9175
  let c128_i32_3611 : BitVec 32 := 128#32
  let c0_i32_3614 : BitVec 32 := 0#32
  let v9177 : BitVec 1 := Scalar.cmpi .sgt c128_i32_3611 c0_i32_3614
  let v9178 : BitVec 32 := Scalar.extui v9177
  let c0_i32_3615 : BitVec 32 := 0#32
  let v9179 : BitVec 1 := Scalar.cmpi .slt c128_i32_3611 c0_i32_3615
  let v9180 : BitVec 32 := Scalar.extui v9179
  let v9181 : BitVec 32 := Scalar.subi v9178 v9180
  let v9182 : BitVec 1 := Scalar.cmpi .ne v9176 v9181
  let v9183 : BitVec 32 := Scalar.remsi v9168 c128_i32_3611
  let c0_i32_3616 : BitVec 32 := 0#32
  let v9184 : BitVec 1 := Scalar.cmpi .ne v9183 c0_i32_3616
  let v9185 : BitVec 1 := Scalar.andi v9182 v9184
  let v9171 : BitVec 32 := Scalar.divsi v9168 c128_i32_3611
  let c1_i32_3617 : BitVec 32 := 1#32
  let v9186 : BitVec 32 := Scalar.subi v9171 c1_i32_3617
  let v9187 : BitVec 32 := Scalar.select v9185 v9186 v9171
  let c128_i32_3618 : BitVec 32 := 128#32
  let v9188 : BitVec 32 := Scalar.muli v9187 c128_i32_3618
  let v9189 : BitVec 32 := v9188
  let v9192 : Index := Scalar.indexCast v9189
  ![v9191.toNat, 0, v9192.toNat]

def k1_chk161 (v9166 : BitVec 32) (v9168 : BitVec 32) : Prop :=
  (128 ∣ (k1_mult161 v9168).toNat) ∧
  (∀ a, (k1_off503 v9166 v9168) a + S1x16x512.size a ≤ S384x16x1152.size a)
theorem k1_mult161_dvd : ∀ (v9166 : BitVec 32) (v9168 : BitVec 32) (k1_hw161 : k1_chk161 v9166 v9168), 128 ∣ (k1_mult161 v9168).toNat := fun v9166 v9168 k1_hw161 => k1_hw161.1
theorem k1_off503_inb : ∀ (v9166 : BitVec 32) (v9168 : BitVec 32) (k1_hw161 : k1_chk161 v9166 v9168), ∀ a, (k1_off503 v9166 v9168) a + S1x16x512.size a ≤ S384x16x1152.size a := fun v9166 v9168 k1_hw161 => k1_hw161.2

def k1_off504 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9202 : Index := Scalar.indexCast v9144
  let c0_3622 : Index := 0#32
  ![v9202.toNat, 0]
def k1_off505 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9218 : Index := Scalar.indexCast v9144
  let c1_3628 : Index := 1#32
  ![v9218.toNat, 1]
def k1_mult162 (v9221 : BitVec 32) : BitVec 32 :=
  let c0_i32_3632 : BitVec 32 := 0#32
  let v9225 : BitVec 1 := Scalar.cmpi .sgt v9221 c0_i32_3632
  let v9226 : BitVec 32 := Scalar.extui v9225
  let c0_i32_3633 : BitVec 32 := 0#32
  let v9227 : BitVec 1 := Scalar.cmpi .slt v9221 c0_i32_3633
  let v9228 : BitVec 32 := Scalar.extui v9227
  let v9229 : BitVec 32 := Scalar.subi v9226 v9228
  let c128_i32_3631 : BitVec 32 := 128#32
  let c0_i32_3634 : BitVec 32 := 0#32
  let v9230 : BitVec 1 := Scalar.cmpi .sgt c128_i32_3631 c0_i32_3634
  let v9231 : BitVec 32 := Scalar.extui v9230
  let c0_i32_3635 : BitVec 32 := 0#32
  let v9232 : BitVec 1 := Scalar.cmpi .slt c128_i32_3631 c0_i32_3635
  let v9233 : BitVec 32 := Scalar.extui v9232
  let v9234 : BitVec 32 := Scalar.subi v9231 v9233
  let v9235 : BitVec 1 := Scalar.cmpi .ne v9229 v9234
  let v9236 : BitVec 32 := Scalar.remsi v9221 c128_i32_3631
  let c0_i32_3636 : BitVec 32 := 0#32
  let v9237 : BitVec 1 := Scalar.cmpi .ne v9236 c0_i32_3636
  let v9238 : BitVec 1 := Scalar.andi v9235 v9237
  let v9224 : BitVec 32 := Scalar.divsi v9221 c128_i32_3631
  let c1_i32_3637 : BitVec 32 := 1#32
  let v9239 : BitVec 32 := Scalar.subi v9224 c1_i32_3637
  let v9240 : BitVec 32 := Scalar.select v9238 v9239 v9224
  let c128_i32_3638 : BitVec 32 := 128#32
  let v9241 : BitVec 32 := Scalar.muli v9240 c128_i32_3638
  v9241

def k1_off506 (v9219 : BitVec 32) (v9221 : BitVec 32) : Fin 3 → Nat :=
  let v9244 : Index := Scalar.indexCast v9219
  let c0_3639 : Index := 0#32
  let c0_i32_3632 : BitVec 32 := 0#32
  let v9225 : BitVec 1 := Scalar.cmpi .sgt v9221 c0_i32_3632
  let v9226 : BitVec 32 := Scalar.extui v9225
  let c0_i32_3633 : BitVec 32 := 0#32
  let v9227 : BitVec 1 := Scalar.cmpi .slt v9221 c0_i32_3633
  let v9228 : BitVec 32 := Scalar.extui v9227
  let v9229 : BitVec 32 := Scalar.subi v9226 v9228
  let c128_i32_3631 : BitVec 32 := 128#32
  let c0_i32_3634 : BitVec 32 := 0#32
  let v9230 : BitVec 1 := Scalar.cmpi .sgt c128_i32_3631 c0_i32_3634
  let v9231 : BitVec 32 := Scalar.extui v9230
  let c0_i32_3635 : BitVec 32 := 0#32
  let v9232 : BitVec 1 := Scalar.cmpi .slt c128_i32_3631 c0_i32_3635
  let v9233 : BitVec 32 := Scalar.extui v9232
  let v9234 : BitVec 32 := Scalar.subi v9231 v9233
  let v9235 : BitVec 1 := Scalar.cmpi .ne v9229 v9234
  let v9236 : BitVec 32 := Scalar.remsi v9221 c128_i32_3631
  let c0_i32_3636 : BitVec 32 := 0#32
  let v9237 : BitVec 1 := Scalar.cmpi .ne v9236 c0_i32_3636
  let v9238 : BitVec 1 := Scalar.andi v9235 v9237
  let v9224 : BitVec 32 := Scalar.divsi v9221 c128_i32_3631
  let c1_i32_3637 : BitVec 32 := 1#32
  let v9239 : BitVec 32 := Scalar.subi v9224 c1_i32_3637
  let v9240 : BitVec 32 := Scalar.select v9238 v9239 v9224
  let c128_i32_3638 : BitVec 32 := 128#32
  let v9241 : BitVec 32 := Scalar.muli v9240 c128_i32_3638
  let v9242 : BitVec 32 := v9241
  let v9245 : Index := Scalar.indexCast v9242
  ![v9244.toNat, 0, v9245.toNat]

def k1_chk162 (v9219 : BitVec 32) (v9221 : BitVec 32) : Prop :=
  (128 ∣ (k1_mult162 v9221).toNat) ∧
  (∀ a, (k1_off506 v9219 v9221) a + S1x16x512.size a ≤ S384x16x1152.size a)
theorem k1_mult162_dvd : ∀ (v9219 : BitVec 32) (v9221 : BitVec 32) (k1_hw162 : k1_chk162 v9219 v9221), 128 ∣ (k1_mult162 v9221).toNat := fun v9219 v9221 k1_hw162 => k1_hw162.1
theorem k1_off506_inb : ∀ (v9219 : BitVec 32) (v9221 : BitVec 32) (k1_hw162 : k1_chk162 v9219 v9221), ∀ a, (k1_off506 v9219 v9221) a + S1x16x512.size a ≤ S384x16x1152.size a := fun v9219 v9221 k1_hw162 => k1_hw162.2

def k1_off507 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9255 : Index := Scalar.indexCast v9144
  let c1_3642 : Index := 1#32
  ![v9255.toNat, 1]
def k1_off508 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9271 : Index := Scalar.indexCast v9144
  let c2_3648 : Index := 2#32
  ![v9271.toNat, 2]
def k1_mult163 (v9274 : BitVec 32) : BitVec 32 :=
  let c0_i32_3652 : BitVec 32 := 0#32
  let v9278 : BitVec 1 := Scalar.cmpi .sgt v9274 c0_i32_3652
  let v9279 : BitVec 32 := Scalar.extui v9278
  let c0_i32_3653 : BitVec 32 := 0#32
  let v9280 : BitVec 1 := Scalar.cmpi .slt v9274 c0_i32_3653
  let v9281 : BitVec 32 := Scalar.extui v9280
  let v9282 : BitVec 32 := Scalar.subi v9279 v9281
  let c128_i32_3651 : BitVec 32 := 128#32
  let c0_i32_3654 : BitVec 32 := 0#32
  let v9283 : BitVec 1 := Scalar.cmpi .sgt c128_i32_3651 c0_i32_3654
  let v9284 : BitVec 32 := Scalar.extui v9283
  let c0_i32_3655 : BitVec 32 := 0#32
  let v9285 : BitVec 1 := Scalar.cmpi .slt c128_i32_3651 c0_i32_3655
  let v9286 : BitVec 32 := Scalar.extui v9285
  let v9287 : BitVec 32 := Scalar.subi v9284 v9286
  let v9288 : BitVec 1 := Scalar.cmpi .ne v9282 v9287
  let v9289 : BitVec 32 := Scalar.remsi v9274 c128_i32_3651
  let c0_i32_3656 : BitVec 32 := 0#32
  let v9290 : BitVec 1 := Scalar.cmpi .ne v9289 c0_i32_3656
  let v9291 : BitVec 1 := Scalar.andi v9288 v9290
  let v9277 : BitVec 32 := Scalar.divsi v9274 c128_i32_3651
  let c1_i32_3657 : BitVec 32 := 1#32
  let v9292 : BitVec 32 := Scalar.subi v9277 c1_i32_3657
  let v9293 : BitVec 32 := Scalar.select v9291 v9292 v9277
  let c128_i32_3658 : BitVec 32 := 128#32
  let v9294 : BitVec 32 := Scalar.muli v9293 c128_i32_3658
  v9294

def k1_off509 (v9272 : BitVec 32) (v9274 : BitVec 32) : Fin 3 → Nat :=
  let v9297 : Index := Scalar.indexCast v9272
  let c0_3659 : Index := 0#32
  let c0_i32_3652 : BitVec 32 := 0#32
  let v9278 : BitVec 1 := Scalar.cmpi .sgt v9274 c0_i32_3652
  let v9279 : BitVec 32 := Scalar.extui v9278
  let c0_i32_3653 : BitVec 32 := 0#32
  let v9280 : BitVec 1 := Scalar.cmpi .slt v9274 c0_i32_3653
  let v9281 : BitVec 32 := Scalar.extui v9280
  let v9282 : BitVec 32 := Scalar.subi v9279 v9281
  let c128_i32_3651 : BitVec 32 := 128#32
  let c0_i32_3654 : BitVec 32 := 0#32
  let v9283 : BitVec 1 := Scalar.cmpi .sgt c128_i32_3651 c0_i32_3654
  let v9284 : BitVec 32 := Scalar.extui v9283
  let c0_i32_3655 : BitVec 32 := 0#32
  let v9285 : BitVec 1 := Scalar.cmpi .slt c128_i32_3651 c0_i32_3655
  let v9286 : BitVec 32 := Scalar.extui v9285
  let v9287 : BitVec 32 := Scalar.subi v9284 v9286
  let v9288 : BitVec 1 := Scalar.cmpi .ne v9282 v9287
  let v9289 : BitVec 32 := Scalar.remsi v9274 c128_i32_3651
  let c0_i32_3656 : BitVec 32 := 0#32
  let v9290 : BitVec 1 := Scalar.cmpi .ne v9289 c0_i32_3656
  let v9291 : BitVec 1 := Scalar.andi v9288 v9290
  let v9277 : BitVec 32 := Scalar.divsi v9274 c128_i32_3651
  let c1_i32_3657 : BitVec 32 := 1#32
  let v9292 : BitVec 32 := Scalar.subi v9277 c1_i32_3657
  let v9293 : BitVec 32 := Scalar.select v9291 v9292 v9277
  let c128_i32_3658 : BitVec 32 := 128#32
  let v9294 : BitVec 32 := Scalar.muli v9293 c128_i32_3658
  let v9295 : BitVec 32 := v9294
  let v9298 : Index := Scalar.indexCast v9295
  ![v9297.toNat, 0, v9298.toNat]

def k1_chk163 (v9272 : BitVec 32) (v9274 : BitVec 32) : Prop :=
  (128 ∣ (k1_mult163 v9274).toNat) ∧
  (∀ a, (k1_off509 v9272 v9274) a + S1x16x512.size a ≤ S384x16x1152.size a)
theorem k1_mult163_dvd : ∀ (v9272 : BitVec 32) (v9274 : BitVec 32) (k1_hw163 : k1_chk163 v9272 v9274), 128 ∣ (k1_mult163 v9274).toNat := fun v9272 v9274 k1_hw163 => k1_hw163.1
theorem k1_off509_inb : ∀ (v9272 : BitVec 32) (v9274 : BitVec 32) (k1_hw163 : k1_chk163 v9272 v9274), ∀ a, (k1_off509 v9272 v9274) a + S1x16x512.size a ≤ S384x16x1152.size a := fun v9272 v9274 k1_hw163 => k1_hw163.2

def k1_off510 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9308 : Index := Scalar.indexCast v9144
  let c2_3662 : Index := 2#32
  ![v9308.toNat, 2]
def k1_off511 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9324 : Index := Scalar.indexCast v9144
  let c3_3668 : Index := 3#32
  ![v9324.toNat, 3]
def k1_mult164 (v9327 : BitVec 32) : BitVec 32 :=
  let c0_i32_3672 : BitVec 32 := 0#32
  let v9331 : BitVec 1 := Scalar.cmpi .sgt v9327 c0_i32_3672
  let v9332 : BitVec 32 := Scalar.extui v9331
  let c0_i32_3673 : BitVec 32 := 0#32
  let v9333 : BitVec 1 := Scalar.cmpi .slt v9327 c0_i32_3673
  let v9334 : BitVec 32 := Scalar.extui v9333
  let v9335 : BitVec 32 := Scalar.subi v9332 v9334
  let c128_i32_3671 : BitVec 32 := 128#32
  let c0_i32_3674 : BitVec 32 := 0#32
  let v9336 : BitVec 1 := Scalar.cmpi .sgt c128_i32_3671 c0_i32_3674
  let v9337 : BitVec 32 := Scalar.extui v9336
  let c0_i32_3675 : BitVec 32 := 0#32
  let v9338 : BitVec 1 := Scalar.cmpi .slt c128_i32_3671 c0_i32_3675
  let v9339 : BitVec 32 := Scalar.extui v9338
  let v9340 : BitVec 32 := Scalar.subi v9337 v9339
  let v9341 : BitVec 1 := Scalar.cmpi .ne v9335 v9340
  let v9342 : BitVec 32 := Scalar.remsi v9327 c128_i32_3671
  let c0_i32_3676 : BitVec 32 := 0#32
  let v9343 : BitVec 1 := Scalar.cmpi .ne v9342 c0_i32_3676
  let v9344 : BitVec 1 := Scalar.andi v9341 v9343
  let v9330 : BitVec 32 := Scalar.divsi v9327 c128_i32_3671
  let c1_i32_3677 : BitVec 32 := 1#32
  let v9345 : BitVec 32 := Scalar.subi v9330 c1_i32_3677
  let v9346 : BitVec 32 := Scalar.select v9344 v9345 v9330
  let c128_i32_3678 : BitVec 32 := 128#32
  let v9347 : BitVec 32 := Scalar.muli v9346 c128_i32_3678
  v9347

def k1_off512 (v9325 : BitVec 32) (v9327 : BitVec 32) : Fin 3 → Nat :=
  let v9350 : Index := Scalar.indexCast v9325
  let c0_3679 : Index := 0#32
  let c0_i32_3672 : BitVec 32 := 0#32
  let v9331 : BitVec 1 := Scalar.cmpi .sgt v9327 c0_i32_3672
  let v9332 : BitVec 32 := Scalar.extui v9331
  let c0_i32_3673 : BitVec 32 := 0#32
  let v9333 : BitVec 1 := Scalar.cmpi .slt v9327 c0_i32_3673
  let v9334 : BitVec 32 := Scalar.extui v9333
  let v9335 : BitVec 32 := Scalar.subi v9332 v9334
  let c128_i32_3671 : BitVec 32 := 128#32
  let c0_i32_3674 : BitVec 32 := 0#32
  let v9336 : BitVec 1 := Scalar.cmpi .sgt c128_i32_3671 c0_i32_3674
  let v9337 : BitVec 32 := Scalar.extui v9336
  let c0_i32_3675 : BitVec 32 := 0#32
  let v9338 : BitVec 1 := Scalar.cmpi .slt c128_i32_3671 c0_i32_3675
  let v9339 : BitVec 32 := Scalar.extui v9338
  let v9340 : BitVec 32 := Scalar.subi v9337 v9339
  let v9341 : BitVec 1 := Scalar.cmpi .ne v9335 v9340
  let v9342 : BitVec 32 := Scalar.remsi v9327 c128_i32_3671
  let c0_i32_3676 : BitVec 32 := 0#32
  let v9343 : BitVec 1 := Scalar.cmpi .ne v9342 c0_i32_3676
  let v9344 : BitVec 1 := Scalar.andi v9341 v9343
  let v9330 : BitVec 32 := Scalar.divsi v9327 c128_i32_3671
  let c1_i32_3677 : BitVec 32 := 1#32
  let v9345 : BitVec 32 := Scalar.subi v9330 c1_i32_3677
  let v9346 : BitVec 32 := Scalar.select v9344 v9345 v9330
  let c128_i32_3678 : BitVec 32 := 128#32
  let v9347 : BitVec 32 := Scalar.muli v9346 c128_i32_3678
  let v9348 : BitVec 32 := v9347
  let v9351 : Index := Scalar.indexCast v9348
  ![v9350.toNat, 0, v9351.toNat]

def k1_chk164 (v9325 : BitVec 32) (v9327 : BitVec 32) : Prop :=
  (128 ∣ (k1_mult164 v9327).toNat) ∧
  (∀ a, (k1_off512 v9325 v9327) a + S1x16x512.size a ≤ S384x16x1152.size a)
theorem k1_mult164_dvd : ∀ (v9325 : BitVec 32) (v9327 : BitVec 32) (k1_hw164 : k1_chk164 v9325 v9327), 128 ∣ (k1_mult164 v9327).toNat := fun v9325 v9327 k1_hw164 => k1_hw164.1
theorem k1_off512_inb : ∀ (v9325 : BitVec 32) (v9327 : BitVec 32) (k1_hw164 : k1_chk164 v9325 v9327), ∀ a, (k1_off512 v9325 v9327) a + S1x16x512.size a ≤ S384x16x1152.size a := fun v9325 v9327 k1_hw164 => k1_hw164.2

def k1_off513 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9361 : Index := Scalar.indexCast v9144
  let c3_3682 : Index := 3#32
  ![v9361.toNat, 3]
def k1_off514 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9377 : Index := Scalar.indexCast v9144
  let c4_3688 : Index := 4#32
  ![v9377.toNat, 4]
def k1_mult165 (v9380 : BitVec 32) : BitVec 32 :=
  let c0_i32_3692 : BitVec 32 := 0#32
  let v9384 : BitVec 1 := Scalar.cmpi .sgt v9380 c0_i32_3692
  let v9385 : BitVec 32 := Scalar.extui v9384
  let c0_i32_3693 : BitVec 32 := 0#32
  let v9386 : BitVec 1 := Scalar.cmpi .slt v9380 c0_i32_3693
  let v9387 : BitVec 32 := Scalar.extui v9386
  let v9388 : BitVec 32 := Scalar.subi v9385 v9387
  let c128_i32_3691 : BitVec 32 := 128#32
  let c0_i32_3694 : BitVec 32 := 0#32
  let v9389 : BitVec 1 := Scalar.cmpi .sgt c128_i32_3691 c0_i32_3694
  let v9390 : BitVec 32 := Scalar.extui v9389
  let c0_i32_3695 : BitVec 32 := 0#32
  let v9391 : BitVec 1 := Scalar.cmpi .slt c128_i32_3691 c0_i32_3695
  let v9392 : BitVec 32 := Scalar.extui v9391
  let v9393 : BitVec 32 := Scalar.subi v9390 v9392
  let v9394 : BitVec 1 := Scalar.cmpi .ne v9388 v9393
  let v9395 : BitVec 32 := Scalar.remsi v9380 c128_i32_3691
  let c0_i32_3696 : BitVec 32 := 0#32
  let v9396 : BitVec 1 := Scalar.cmpi .ne v9395 c0_i32_3696
  let v9397 : BitVec 1 := Scalar.andi v9394 v9396
  let v9383 : BitVec 32 := Scalar.divsi v9380 c128_i32_3691
  let c1_i32_3697 : BitVec 32 := 1#32
  let v9398 : BitVec 32 := Scalar.subi v9383 c1_i32_3697
  let v9399 : BitVec 32 := Scalar.select v9397 v9398 v9383
  let c128_i32_3698 : BitVec 32 := 128#32
  let v9400 : BitVec 32 := Scalar.muli v9399 c128_i32_3698
  v9400

def k1_off515 (v9378 : BitVec 32) (v9380 : BitVec 32) : Fin 3 → Nat :=
  let v9403 : Index := Scalar.indexCast v9378
  let c0_3699 : Index := 0#32
  let c0_i32_3692 : BitVec 32 := 0#32
  let v9384 : BitVec 1 := Scalar.cmpi .sgt v9380 c0_i32_3692
  let v9385 : BitVec 32 := Scalar.extui v9384
  let c0_i32_3693 : BitVec 32 := 0#32
  let v9386 : BitVec 1 := Scalar.cmpi .slt v9380 c0_i32_3693
  let v9387 : BitVec 32 := Scalar.extui v9386
  let v9388 : BitVec 32 := Scalar.subi v9385 v9387
  let c128_i32_3691 : BitVec 32 := 128#32
  let c0_i32_3694 : BitVec 32 := 0#32
  let v9389 : BitVec 1 := Scalar.cmpi .sgt c128_i32_3691 c0_i32_3694
  let v9390 : BitVec 32 := Scalar.extui v9389
  let c0_i32_3695 : BitVec 32 := 0#32
  let v9391 : BitVec 1 := Scalar.cmpi .slt c128_i32_3691 c0_i32_3695
  let v9392 : BitVec 32 := Scalar.extui v9391
  let v9393 : BitVec 32 := Scalar.subi v9390 v9392
  let v9394 : BitVec 1 := Scalar.cmpi .ne v9388 v9393
  let v9395 : BitVec 32 := Scalar.remsi v9380 c128_i32_3691
  let c0_i32_3696 : BitVec 32 := 0#32
  let v9396 : BitVec 1 := Scalar.cmpi .ne v9395 c0_i32_3696
  let v9397 : BitVec 1 := Scalar.andi v9394 v9396
  let v9383 : BitVec 32 := Scalar.divsi v9380 c128_i32_3691
  let c1_i32_3697 : BitVec 32 := 1#32
  let v9398 : BitVec 32 := Scalar.subi v9383 c1_i32_3697
  let v9399 : BitVec 32 := Scalar.select v9397 v9398 v9383
  let c128_i32_3698 : BitVec 32 := 128#32
  let v9400 : BitVec 32 := Scalar.muli v9399 c128_i32_3698
  let v9401 : BitVec 32 := v9400
  let v9404 : Index := Scalar.indexCast v9401
  ![v9403.toNat, 0, v9404.toNat]

def k1_chk165 (v9378 : BitVec 32) (v9380 : BitVec 32) : Prop :=
  (128 ∣ (k1_mult165 v9380).toNat) ∧
  (∀ a, (k1_off515 v9378 v9380) a + S1x16x512.size a ≤ S384x16x1152.size a)
theorem k1_mult165_dvd : ∀ (v9378 : BitVec 32) (v9380 : BitVec 32) (k1_hw165 : k1_chk165 v9378 v9380), 128 ∣ (k1_mult165 v9380).toNat := fun v9378 v9380 k1_hw165 => k1_hw165.1
theorem k1_off515_inb : ∀ (v9378 : BitVec 32) (v9380 : BitVec 32) (k1_hw165 : k1_chk165 v9378 v9380), ∀ a, (k1_off515 v9378 v9380) a + S1x16x512.size a ≤ S384x16x1152.size a := fun v9378 v9380 k1_hw165 => k1_hw165.2

def k1_off516 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9414 : Index := Scalar.indexCast v9144
  let c4_3702 : Index := 4#32
  ![v9414.toNat, 4]
def k1_off517 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9430 : Index := Scalar.indexCast v9144
  let c5_3708 : Index := 5#32
  ![v9430.toNat, 5]
def k1_mult166 (v9433 : BitVec 32) : BitVec 32 :=
  let c0_i32_3712 : BitVec 32 := 0#32
  let v9437 : BitVec 1 := Scalar.cmpi .sgt v9433 c0_i32_3712
  let v9438 : BitVec 32 := Scalar.extui v9437
  let c0_i32_3713 : BitVec 32 := 0#32
  let v9439 : BitVec 1 := Scalar.cmpi .slt v9433 c0_i32_3713
  let v9440 : BitVec 32 := Scalar.extui v9439
  let v9441 : BitVec 32 := Scalar.subi v9438 v9440
  let c128_i32_3711 : BitVec 32 := 128#32
  let c0_i32_3714 : BitVec 32 := 0#32
  let v9442 : BitVec 1 := Scalar.cmpi .sgt c128_i32_3711 c0_i32_3714
  let v9443 : BitVec 32 := Scalar.extui v9442
  let c0_i32_3715 : BitVec 32 := 0#32
  let v9444 : BitVec 1 := Scalar.cmpi .slt c128_i32_3711 c0_i32_3715
  let v9445 : BitVec 32 := Scalar.extui v9444
  let v9446 : BitVec 32 := Scalar.subi v9443 v9445
  let v9447 : BitVec 1 := Scalar.cmpi .ne v9441 v9446
  let v9448 : BitVec 32 := Scalar.remsi v9433 c128_i32_3711
  let c0_i32_3716 : BitVec 32 := 0#32
  let v9449 : BitVec 1 := Scalar.cmpi .ne v9448 c0_i32_3716
  let v9450 : BitVec 1 := Scalar.andi v9447 v9449
  let v9436 : BitVec 32 := Scalar.divsi v9433 c128_i32_3711
  let c1_i32_3717 : BitVec 32 := 1#32
  let v9451 : BitVec 32 := Scalar.subi v9436 c1_i32_3717
  let v9452 : BitVec 32 := Scalar.select v9450 v9451 v9436
  let c128_i32_3718 : BitVec 32 := 128#32
  let v9453 : BitVec 32 := Scalar.muli v9452 c128_i32_3718
  v9453

def k1_off518 (v9431 : BitVec 32) (v9433 : BitVec 32) : Fin 3 → Nat :=
  let v9456 : Index := Scalar.indexCast v9431
  let c0_3719 : Index := 0#32
  let c0_i32_3712 : BitVec 32 := 0#32
  let v9437 : BitVec 1 := Scalar.cmpi .sgt v9433 c0_i32_3712
  let v9438 : BitVec 32 := Scalar.extui v9437
  let c0_i32_3713 : BitVec 32 := 0#32
  let v9439 : BitVec 1 := Scalar.cmpi .slt v9433 c0_i32_3713
  let v9440 : BitVec 32 := Scalar.extui v9439
  let v9441 : BitVec 32 := Scalar.subi v9438 v9440
  let c128_i32_3711 : BitVec 32 := 128#32
  let c0_i32_3714 : BitVec 32 := 0#32
  let v9442 : BitVec 1 := Scalar.cmpi .sgt c128_i32_3711 c0_i32_3714
  let v9443 : BitVec 32 := Scalar.extui v9442
  let c0_i32_3715 : BitVec 32 := 0#32
  let v9444 : BitVec 1 := Scalar.cmpi .slt c128_i32_3711 c0_i32_3715
  let v9445 : BitVec 32 := Scalar.extui v9444
  let v9446 : BitVec 32 := Scalar.subi v9443 v9445
  let v9447 : BitVec 1 := Scalar.cmpi .ne v9441 v9446
  let v9448 : BitVec 32 := Scalar.remsi v9433 c128_i32_3711
  let c0_i32_3716 : BitVec 32 := 0#32
  let v9449 : BitVec 1 := Scalar.cmpi .ne v9448 c0_i32_3716
  let v9450 : BitVec 1 := Scalar.andi v9447 v9449
  let v9436 : BitVec 32 := Scalar.divsi v9433 c128_i32_3711
  let c1_i32_3717 : BitVec 32 := 1#32
  let v9451 : BitVec 32 := Scalar.subi v9436 c1_i32_3717
  let v9452 : BitVec 32 := Scalar.select v9450 v9451 v9436
  let c128_i32_3718 : BitVec 32 := 128#32
  let v9453 : BitVec 32 := Scalar.muli v9452 c128_i32_3718
  let v9454 : BitVec 32 := v9453
  let v9457 : Index := Scalar.indexCast v9454
  ![v9456.toNat, 0, v9457.toNat]

def k1_chk166 (v9431 : BitVec 32) (v9433 : BitVec 32) : Prop :=
  (128 ∣ (k1_mult166 v9433).toNat) ∧
  (∀ a, (k1_off518 v9431 v9433) a + S1x16x512.size a ≤ S384x16x1152.size a)
theorem k1_mult166_dvd : ∀ (v9431 : BitVec 32) (v9433 : BitVec 32) (k1_hw166 : k1_chk166 v9431 v9433), 128 ∣ (k1_mult166 v9433).toNat := fun v9431 v9433 k1_hw166 => k1_hw166.1
theorem k1_off518_inb : ∀ (v9431 : BitVec 32) (v9433 : BitVec 32) (k1_hw166 : k1_chk166 v9431 v9433), ∀ a, (k1_off518 v9431 v9433) a + S1x16x512.size a ≤ S384x16x1152.size a := fun v9431 v9433 k1_hw166 => k1_hw166.2

def k1_off519 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9467 : Index := Scalar.indexCast v9144
  let c5_3722 : Index := 5#32
  ![v9467.toNat, 5]
def k1_off520 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9483 : Index := Scalar.indexCast v9144
  let c6_3728 : Index := 6#32
  ![v9483.toNat, 6]
def k1_mult167 (v9486 : BitVec 32) : BitVec 32 :=
  let c0_i32_3732 : BitVec 32 := 0#32
  let v9490 : BitVec 1 := Scalar.cmpi .sgt v9486 c0_i32_3732
  let v9491 : BitVec 32 := Scalar.extui v9490
  let c0_i32_3733 : BitVec 32 := 0#32
  let v9492 : BitVec 1 := Scalar.cmpi .slt v9486 c0_i32_3733
  let v9493 : BitVec 32 := Scalar.extui v9492
  let v9494 : BitVec 32 := Scalar.subi v9491 v9493
  let c128_i32_3731 : BitVec 32 := 128#32
  let c0_i32_3734 : BitVec 32 := 0#32
  let v9495 : BitVec 1 := Scalar.cmpi .sgt c128_i32_3731 c0_i32_3734
  let v9496 : BitVec 32 := Scalar.extui v9495
  let c0_i32_3735 : BitVec 32 := 0#32
  let v9497 : BitVec 1 := Scalar.cmpi .slt c128_i32_3731 c0_i32_3735
  let v9498 : BitVec 32 := Scalar.extui v9497
  let v9499 : BitVec 32 := Scalar.subi v9496 v9498
  let v9500 : BitVec 1 := Scalar.cmpi .ne v9494 v9499
  let v9501 : BitVec 32 := Scalar.remsi v9486 c128_i32_3731
  let c0_i32_3736 : BitVec 32 := 0#32
  let v9502 : BitVec 1 := Scalar.cmpi .ne v9501 c0_i32_3736
  let v9503 : BitVec 1 := Scalar.andi v9500 v9502
  let v9489 : BitVec 32 := Scalar.divsi v9486 c128_i32_3731
  let c1_i32_3737 : BitVec 32 := 1#32
  let v9504 : BitVec 32 := Scalar.subi v9489 c1_i32_3737
  let v9505 : BitVec 32 := Scalar.select v9503 v9504 v9489
  let c128_i32_3738 : BitVec 32 := 128#32
  let v9506 : BitVec 32 := Scalar.muli v9505 c128_i32_3738
  v9506

def k1_off521 (v9484 : BitVec 32) (v9486 : BitVec 32) : Fin 3 → Nat :=
  let v9509 : Index := Scalar.indexCast v9484
  let c0_3739 : Index := 0#32
  let c0_i32_3732 : BitVec 32 := 0#32
  let v9490 : BitVec 1 := Scalar.cmpi .sgt v9486 c0_i32_3732
  let v9491 : BitVec 32 := Scalar.extui v9490
  let c0_i32_3733 : BitVec 32 := 0#32
  let v9492 : BitVec 1 := Scalar.cmpi .slt v9486 c0_i32_3733
  let v9493 : BitVec 32 := Scalar.extui v9492
  let v9494 : BitVec 32 := Scalar.subi v9491 v9493
  let c128_i32_3731 : BitVec 32 := 128#32
  let c0_i32_3734 : BitVec 32 := 0#32
  let v9495 : BitVec 1 := Scalar.cmpi .sgt c128_i32_3731 c0_i32_3734
  let v9496 : BitVec 32 := Scalar.extui v9495
  let c0_i32_3735 : BitVec 32 := 0#32
  let v9497 : BitVec 1 := Scalar.cmpi .slt c128_i32_3731 c0_i32_3735
  let v9498 : BitVec 32 := Scalar.extui v9497
  let v9499 : BitVec 32 := Scalar.subi v9496 v9498
  let v9500 : BitVec 1 := Scalar.cmpi .ne v9494 v9499
  let v9501 : BitVec 32 := Scalar.remsi v9486 c128_i32_3731
  let c0_i32_3736 : BitVec 32 := 0#32
  let v9502 : BitVec 1 := Scalar.cmpi .ne v9501 c0_i32_3736
  let v9503 : BitVec 1 := Scalar.andi v9500 v9502
  let v9489 : BitVec 32 := Scalar.divsi v9486 c128_i32_3731
  let c1_i32_3737 : BitVec 32 := 1#32
  let v9504 : BitVec 32 := Scalar.subi v9489 c1_i32_3737
  let v9505 : BitVec 32 := Scalar.select v9503 v9504 v9489
  let c128_i32_3738 : BitVec 32 := 128#32
  let v9506 : BitVec 32 := Scalar.muli v9505 c128_i32_3738
  let v9507 : BitVec 32 := v9506
  let v9510 : Index := Scalar.indexCast v9507
  ![v9509.toNat, 0, v9510.toNat]

def k1_chk167 (v9484 : BitVec 32) (v9486 : BitVec 32) : Prop :=
  (128 ∣ (k1_mult167 v9486).toNat) ∧
  (∀ a, (k1_off521 v9484 v9486) a + S1x16x512.size a ≤ S384x16x1152.size a)
theorem k1_mult167_dvd : ∀ (v9484 : BitVec 32) (v9486 : BitVec 32) (k1_hw167 : k1_chk167 v9484 v9486), 128 ∣ (k1_mult167 v9486).toNat := fun v9484 v9486 k1_hw167 => k1_hw167.1
theorem k1_off521_inb : ∀ (v9484 : BitVec 32) (v9486 : BitVec 32) (k1_hw167 : k1_chk167 v9484 v9486), ∀ a, (k1_off521 v9484 v9486) a + S1x16x512.size a ≤ S384x16x1152.size a := fun v9484 v9486 k1_hw167 => k1_hw167.2

def k1_off522 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9520 : Index := Scalar.indexCast v9144
  let c6_3742 : Index := 6#32
  ![v9520.toNat, 6]
def k1_off523 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9536 : Index := Scalar.indexCast v9144
  let c7_3748 : Index := 7#32
  ![v9536.toNat, 7]
def k1_mult168 (v9539 : BitVec 32) : BitVec 32 :=
  let c0_i32_3752 : BitVec 32 := 0#32
  let v9543 : BitVec 1 := Scalar.cmpi .sgt v9539 c0_i32_3752
  let v9544 : BitVec 32 := Scalar.extui v9543
  let c0_i32_3753 : BitVec 32 := 0#32
  let v9545 : BitVec 1 := Scalar.cmpi .slt v9539 c0_i32_3753
  let v9546 : BitVec 32 := Scalar.extui v9545
  let v9547 : BitVec 32 := Scalar.subi v9544 v9546
  let c128_i32_3751 : BitVec 32 := 128#32
  let c0_i32_3754 : BitVec 32 := 0#32
  let v9548 : BitVec 1 := Scalar.cmpi .sgt c128_i32_3751 c0_i32_3754
  let v9549 : BitVec 32 := Scalar.extui v9548
  let c0_i32_3755 : BitVec 32 := 0#32
  let v9550 : BitVec 1 := Scalar.cmpi .slt c128_i32_3751 c0_i32_3755
  let v9551 : BitVec 32 := Scalar.extui v9550
  let v9552 : BitVec 32 := Scalar.subi v9549 v9551
  let v9553 : BitVec 1 := Scalar.cmpi .ne v9547 v9552
  let v9554 : BitVec 32 := Scalar.remsi v9539 c128_i32_3751
  let c0_i32_3756 : BitVec 32 := 0#32
  let v9555 : BitVec 1 := Scalar.cmpi .ne v9554 c0_i32_3756
  let v9556 : BitVec 1 := Scalar.andi v9553 v9555
  let v9542 : BitVec 32 := Scalar.divsi v9539 c128_i32_3751
  let c1_i32_3757 : BitVec 32 := 1#32
  let v9557 : BitVec 32 := Scalar.subi v9542 c1_i32_3757
  let v9558 : BitVec 32 := Scalar.select v9556 v9557 v9542
  let c128_i32_3758 : BitVec 32 := 128#32
  let v9559 : BitVec 32 := Scalar.muli v9558 c128_i32_3758
  v9559

def k1_off524 (v9537 : BitVec 32) (v9539 : BitVec 32) : Fin 3 → Nat :=
  let v9562 : Index := Scalar.indexCast v9537
  let c0_3759 : Index := 0#32
  let c0_i32_3752 : BitVec 32 := 0#32
  let v9543 : BitVec 1 := Scalar.cmpi .sgt v9539 c0_i32_3752
  let v9544 : BitVec 32 := Scalar.extui v9543
  let c0_i32_3753 : BitVec 32 := 0#32
  let v9545 : BitVec 1 := Scalar.cmpi .slt v9539 c0_i32_3753
  let v9546 : BitVec 32 := Scalar.extui v9545
  let v9547 : BitVec 32 := Scalar.subi v9544 v9546
  let c128_i32_3751 : BitVec 32 := 128#32
  let c0_i32_3754 : BitVec 32 := 0#32
  let v9548 : BitVec 1 := Scalar.cmpi .sgt c128_i32_3751 c0_i32_3754
  let v9549 : BitVec 32 := Scalar.extui v9548
  let c0_i32_3755 : BitVec 32 := 0#32
  let v9550 : BitVec 1 := Scalar.cmpi .slt c128_i32_3751 c0_i32_3755
  let v9551 : BitVec 32 := Scalar.extui v9550
  let v9552 : BitVec 32 := Scalar.subi v9549 v9551
  let v9553 : BitVec 1 := Scalar.cmpi .ne v9547 v9552
  let v9554 : BitVec 32 := Scalar.remsi v9539 c128_i32_3751
  let c0_i32_3756 : BitVec 32 := 0#32
  let v9555 : BitVec 1 := Scalar.cmpi .ne v9554 c0_i32_3756
  let v9556 : BitVec 1 := Scalar.andi v9553 v9555
  let v9542 : BitVec 32 := Scalar.divsi v9539 c128_i32_3751
  let c1_i32_3757 : BitVec 32 := 1#32
  let v9557 : BitVec 32 := Scalar.subi v9542 c1_i32_3757
  let v9558 : BitVec 32 := Scalar.select v9556 v9557 v9542
  let c128_i32_3758 : BitVec 32 := 128#32
  let v9559 : BitVec 32 := Scalar.muli v9558 c128_i32_3758
  let v9560 : BitVec 32 := v9559
  let v9563 : Index := Scalar.indexCast v9560
  ![v9562.toNat, 0, v9563.toNat]

def k1_chk168 (v9537 : BitVec 32) (v9539 : BitVec 32) : Prop :=
  (128 ∣ (k1_mult168 v9539).toNat) ∧
  (∀ a, (k1_off524 v9537 v9539) a + S1x16x512.size a ≤ S384x16x1152.size a)
theorem k1_mult168_dvd : ∀ (v9537 : BitVec 32) (v9539 : BitVec 32) (k1_hw168 : k1_chk168 v9537 v9539), 128 ∣ (k1_mult168 v9539).toNat := fun v9537 v9539 k1_hw168 => k1_hw168.1
theorem k1_off524_inb : ∀ (v9537 : BitVec 32) (v9539 : BitVec 32) (k1_hw168 : k1_chk168 v9537 v9539), ∀ a, (k1_off524 v9537 v9539) a + S1x16x512.size a ≤ S384x16x1152.size a := fun v9537 v9539 k1_hw168 => k1_hw168.2

def k1_off525 (i : grid1.Coords) : Fin 2 → Nat :=
  let arg0 : BitVec 32 := BitVec.ofNat 32 (i 0).val
  let c48_i32_3597 : BitVec 32 := 48#32
  let v9143 : BitVec 32 := Scalar.muli arg0 c48_i32_3597
  let c20_i32 : BitVec 32 := 20#32
  let v9144 : BitVec 32 := Scalar.addi v9143 c20_i32
  let v9573 : Index := Scalar.indexCast v9144
  let c7_3762 : Index := 7#32
  ![v9573.toNat, 7]
def k1_off526 (i : grid1.Coords) : Fin 3 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9602 : Index := Scalar.indexCast v9601
  let c0_3778 : Index := 0#32
  let c720_3779 : Index := 720#32
  ![v9602.toNat, 0, 720]
def k1_off527 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9622 : Index := Scalar.indexCast v9601
  let c0_3788 : Index := 0#32
  ![v9622.toNat, 0]
def k1_mult169 (v9625 : BitVec 32) : BitVec 32 :=
  let c0_i32_3792 : BitVec 32 := 0#32
  let v9629 : BitVec 1 := Scalar.cmpi .sgt v9625 c0_i32_3792
  let v9630 : BitVec 32 := Scalar.extui v9629
  let c0_i32_3793 : BitVec 32 := 0#32
  let v9631 : BitVec 1 := Scalar.cmpi .slt v9625 c0_i32_3793
  let v9632 : BitVec 32 := Scalar.extui v9631
  let v9633 : BitVec 32 := Scalar.subi v9630 v9632
  let c128_i32_3791 : BitVec 32 := 128#32
  let c0_i32_3794 : BitVec 32 := 0#32
  let v9634 : BitVec 1 := Scalar.cmpi .sgt c128_i32_3791 c0_i32_3794
  let v9635 : BitVec 32 := Scalar.extui v9634
  let c0_i32_3795 : BitVec 32 := 0#32
  let v9636 : BitVec 1 := Scalar.cmpi .slt c128_i32_3791 c0_i32_3795
  let v9637 : BitVec 32 := Scalar.extui v9636
  let v9638 : BitVec 32 := Scalar.subi v9635 v9637
  let v9639 : BitVec 1 := Scalar.cmpi .ne v9633 v9638
  let v9640 : BitVec 32 := Scalar.remsi v9625 c128_i32_3791
  let c0_i32_3796 : BitVec 32 := 0#32
  let v9641 : BitVec 1 := Scalar.cmpi .ne v9640 c0_i32_3796
  let v9642 : BitVec 1 := Scalar.andi v9639 v9641
  let v9628 : BitVec 32 := Scalar.divsi v9625 c128_i32_3791
  let c1_i32_3797 : BitVec 32 := 1#32
  let v9643 : BitVec 32 := Scalar.subi v9628 c1_i32_3797
  let v9644 : BitVec 32 := Scalar.select v9642 v9643 v9628
  let c128_i32_3798 : BitVec 32 := 128#32
  let v9645 : BitVec 32 := Scalar.muli v9644 c128_i32_3798
  v9645

def k1_off528 (v9623 : BitVec 32) (v9625 : BitVec 32) : Fin 3 → Nat :=
  let v9648 : Index := Scalar.indexCast v9623
  let c0_3799 : Index := 0#32
  let c0_i32_3792 : BitVec 32 := 0#32
  let v9629 : BitVec 1 := Scalar.cmpi .sgt v9625 c0_i32_3792
  let v9630 : BitVec 32 := Scalar.extui v9629
  let c0_i32_3793 : BitVec 32 := 0#32
  let v9631 : BitVec 1 := Scalar.cmpi .slt v9625 c0_i32_3793
  let v9632 : BitVec 32 := Scalar.extui v9631
  let v9633 : BitVec 32 := Scalar.subi v9630 v9632
  let c128_i32_3791 : BitVec 32 := 128#32
  let c0_i32_3794 : BitVec 32 := 0#32
  let v9634 : BitVec 1 := Scalar.cmpi .sgt c128_i32_3791 c0_i32_3794
  let v9635 : BitVec 32 := Scalar.extui v9634
  let c0_i32_3795 : BitVec 32 := 0#32
  let v9636 : BitVec 1 := Scalar.cmpi .slt c128_i32_3791 c0_i32_3795
  let v9637 : BitVec 32 := Scalar.extui v9636
  let v9638 : BitVec 32 := Scalar.subi v9635 v9637
  let v9639 : BitVec 1 := Scalar.cmpi .ne v9633 v9638
  let v9640 : BitVec 32 := Scalar.remsi v9625 c128_i32_3791
  let c0_i32_3796 : BitVec 32 := 0#32
  let v9641 : BitVec 1 := Scalar.cmpi .ne v9640 c0_i32_3796
  let v9642 : BitVec 1 := Scalar.andi v9639 v9641
  let v9628 : BitVec 32 := Scalar.divsi v9625 c128_i32_3791
  let c1_i32_3797 : BitVec 32 := 1#32
  let v9643 : BitVec 32 := Scalar.subi v9628 c1_i32_3797
  let v9644 : BitVec 32 := Scalar.select v9642 v9643 v9628
  let c128_i32_3798 : BitVec 32 := 128#32
  let v9645 : BitVec 32 := Scalar.muli v9644 c128_i32_3798
  let v9646 : BitVec 32 := v9645
  let v9649 : Index := Scalar.indexCast v9646
  ![v9648.toNat, 0, v9649.toNat]

def k1_chk169 (v9623 : BitVec 32) (v9625 : BitVec 32) : Prop :=
  (128 ∣ (k1_mult169 v9625).toNat) ∧
  (∀ a, (k1_off528 v9623 v9625) a + S1x16x512.size a ≤ S384x16x1152.size a)
theorem k1_mult169_dvd : ∀ (v9623 : BitVec 32) (v9625 : BitVec 32) (k1_hw169 : k1_chk169 v9623 v9625), 128 ∣ (k1_mult169 v9625).toNat := fun v9623 v9625 k1_hw169 => k1_hw169.1
theorem k1_off528_inb : ∀ (v9623 : BitVec 32) (v9625 : BitVec 32) (k1_hw169 : k1_chk169 v9623 v9625), ∀ a, (k1_off528 v9623 v9625) a + S1x16x512.size a ≤ S384x16x1152.size a := fun v9623 v9625 k1_hw169 => k1_hw169.2

def k1_off529 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9659 : Index := Scalar.indexCast v9601
  let c0_3802 : Index := 0#32
  ![v9659.toNat, 0]
def k1_off530 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9675 : Index := Scalar.indexCast v9601
  let c1_3808 : Index := 1#32
  ![v9675.toNat, 1]
def k1_mult170 (v9678 : BitVec 32) : BitVec 32 :=
  let c0_i32_3812 : BitVec 32 := 0#32
  let v9682 : BitVec 1 := Scalar.cmpi .sgt v9678 c0_i32_3812
  let v9683 : BitVec 32 := Scalar.extui v9682
  let c0_i32_3813 : BitVec 32 := 0#32
  let v9684 : BitVec 1 := Scalar.cmpi .slt v9678 c0_i32_3813
  let v9685 : BitVec 32 := Scalar.extui v9684
  let v9686 : BitVec 32 := Scalar.subi v9683 v9685
  let c128_i32_3811 : BitVec 32 := 128#32
  let c0_i32_3814 : BitVec 32 := 0#32
  let v9687 : BitVec 1 := Scalar.cmpi .sgt c128_i32_3811 c0_i32_3814
  let v9688 : BitVec 32 := Scalar.extui v9687
  let c0_i32_3815 : BitVec 32 := 0#32
  let v9689 : BitVec 1 := Scalar.cmpi .slt c128_i32_3811 c0_i32_3815
  let v9690 : BitVec 32 := Scalar.extui v9689
  let v9691 : BitVec 32 := Scalar.subi v9688 v9690
  let v9692 : BitVec 1 := Scalar.cmpi .ne v9686 v9691
  let v9693 : BitVec 32 := Scalar.remsi v9678 c128_i32_3811
  let c0_i32_3816 : BitVec 32 := 0#32
  let v9694 : BitVec 1 := Scalar.cmpi .ne v9693 c0_i32_3816
  let v9695 : BitVec 1 := Scalar.andi v9692 v9694
  let v9681 : BitVec 32 := Scalar.divsi v9678 c128_i32_3811
  let c1_i32_3817 : BitVec 32 := 1#32
  let v9696 : BitVec 32 := Scalar.subi v9681 c1_i32_3817
  let v9697 : BitVec 32 := Scalar.select v9695 v9696 v9681
  let c128_i32_3818 : BitVec 32 := 128#32
  let v9698 : BitVec 32 := Scalar.muli v9697 c128_i32_3818
  v9698

def k1_off531 (v9676 : BitVec 32) (v9678 : BitVec 32) : Fin 3 → Nat :=
  let v9701 : Index := Scalar.indexCast v9676
  let c0_3819 : Index := 0#32
  let c0_i32_3812 : BitVec 32 := 0#32
  let v9682 : BitVec 1 := Scalar.cmpi .sgt v9678 c0_i32_3812
  let v9683 : BitVec 32 := Scalar.extui v9682
  let c0_i32_3813 : BitVec 32 := 0#32
  let v9684 : BitVec 1 := Scalar.cmpi .slt v9678 c0_i32_3813
  let v9685 : BitVec 32 := Scalar.extui v9684
  let v9686 : BitVec 32 := Scalar.subi v9683 v9685
  let c128_i32_3811 : BitVec 32 := 128#32
  let c0_i32_3814 : BitVec 32 := 0#32
  let v9687 : BitVec 1 := Scalar.cmpi .sgt c128_i32_3811 c0_i32_3814
  let v9688 : BitVec 32 := Scalar.extui v9687
  let c0_i32_3815 : BitVec 32 := 0#32
  let v9689 : BitVec 1 := Scalar.cmpi .slt c128_i32_3811 c0_i32_3815
  let v9690 : BitVec 32 := Scalar.extui v9689
  let v9691 : BitVec 32 := Scalar.subi v9688 v9690
  let v9692 : BitVec 1 := Scalar.cmpi .ne v9686 v9691
  let v9693 : BitVec 32 := Scalar.remsi v9678 c128_i32_3811
  let c0_i32_3816 : BitVec 32 := 0#32
  let v9694 : BitVec 1 := Scalar.cmpi .ne v9693 c0_i32_3816
  let v9695 : BitVec 1 := Scalar.andi v9692 v9694
  let v9681 : BitVec 32 := Scalar.divsi v9678 c128_i32_3811
  let c1_i32_3817 : BitVec 32 := 1#32
  let v9696 : BitVec 32 := Scalar.subi v9681 c1_i32_3817
  let v9697 : BitVec 32 := Scalar.select v9695 v9696 v9681
  let c128_i32_3818 : BitVec 32 := 128#32
  let v9698 : BitVec 32 := Scalar.muli v9697 c128_i32_3818
  let v9699 : BitVec 32 := v9698
  let v9702 : Index := Scalar.indexCast v9699
  ![v9701.toNat, 0, v9702.toNat]

def k1_chk170 (v9676 : BitVec 32) (v9678 : BitVec 32) : Prop :=
  (128 ∣ (k1_mult170 v9678).toNat) ∧
  (∀ a, (k1_off531 v9676 v9678) a + S1x16x512.size a ≤ S384x16x1152.size a)
theorem k1_mult170_dvd : ∀ (v9676 : BitVec 32) (v9678 : BitVec 32) (k1_hw170 : k1_chk170 v9676 v9678), 128 ∣ (k1_mult170 v9678).toNat := fun v9676 v9678 k1_hw170 => k1_hw170.1
theorem k1_off531_inb : ∀ (v9676 : BitVec 32) (v9678 : BitVec 32) (k1_hw170 : k1_chk170 v9676 v9678), ∀ a, (k1_off531 v9676 v9678) a + S1x16x512.size a ≤ S384x16x1152.size a := fun v9676 v9678 k1_hw170 => k1_hw170.2

def k1_off532 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9712 : Index := Scalar.indexCast v9601
  let c1_3822 : Index := 1#32
  ![v9712.toNat, 1]
def k1_off533 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9728 : Index := Scalar.indexCast v9601
  let c2_3828 : Index := 2#32
  ![v9728.toNat, 2]
def k1_mult171 (v9731 : BitVec 32) : BitVec 32 :=
  let c0_i32_3832 : BitVec 32 := 0#32
  let v9735 : BitVec 1 := Scalar.cmpi .sgt v9731 c0_i32_3832
  let v9736 : BitVec 32 := Scalar.extui v9735
  let c0_i32_3833 : BitVec 32 := 0#32
  let v9737 : BitVec 1 := Scalar.cmpi .slt v9731 c0_i32_3833
  let v9738 : BitVec 32 := Scalar.extui v9737
  let v9739 : BitVec 32 := Scalar.subi v9736 v9738
  let c128_i32_3831 : BitVec 32 := 128#32
  let c0_i32_3834 : BitVec 32 := 0#32
  let v9740 : BitVec 1 := Scalar.cmpi .sgt c128_i32_3831 c0_i32_3834
  let v9741 : BitVec 32 := Scalar.extui v9740
  let c0_i32_3835 : BitVec 32 := 0#32
  let v9742 : BitVec 1 := Scalar.cmpi .slt c128_i32_3831 c0_i32_3835
  let v9743 : BitVec 32 := Scalar.extui v9742
  let v9744 : BitVec 32 := Scalar.subi v9741 v9743
  let v9745 : BitVec 1 := Scalar.cmpi .ne v9739 v9744
  let v9746 : BitVec 32 := Scalar.remsi v9731 c128_i32_3831
  let c0_i32_3836 : BitVec 32 := 0#32
  let v9747 : BitVec 1 := Scalar.cmpi .ne v9746 c0_i32_3836
  let v9748 : BitVec 1 := Scalar.andi v9745 v9747
  let v9734 : BitVec 32 := Scalar.divsi v9731 c128_i32_3831
  let c1_i32_3837 : BitVec 32 := 1#32
  let v9749 : BitVec 32 := Scalar.subi v9734 c1_i32_3837
  let v9750 : BitVec 32 := Scalar.select v9748 v9749 v9734
  let c128_i32_3838 : BitVec 32 := 128#32
  let v9751 : BitVec 32 := Scalar.muli v9750 c128_i32_3838
  v9751

def k1_off534 (v9729 : BitVec 32) (v9731 : BitVec 32) : Fin 3 → Nat :=
  let v9754 : Index := Scalar.indexCast v9729
  let c0_3839 : Index := 0#32
  let c0_i32_3832 : BitVec 32 := 0#32
  let v9735 : BitVec 1 := Scalar.cmpi .sgt v9731 c0_i32_3832
  let v9736 : BitVec 32 := Scalar.extui v9735
  let c0_i32_3833 : BitVec 32 := 0#32
  let v9737 : BitVec 1 := Scalar.cmpi .slt v9731 c0_i32_3833
  let v9738 : BitVec 32 := Scalar.extui v9737
  let v9739 : BitVec 32 := Scalar.subi v9736 v9738
  let c128_i32_3831 : BitVec 32 := 128#32
  let c0_i32_3834 : BitVec 32 := 0#32
  let v9740 : BitVec 1 := Scalar.cmpi .sgt c128_i32_3831 c0_i32_3834
  let v9741 : BitVec 32 := Scalar.extui v9740
  let c0_i32_3835 : BitVec 32 := 0#32
  let v9742 : BitVec 1 := Scalar.cmpi .slt c128_i32_3831 c0_i32_3835
  let v9743 : BitVec 32 := Scalar.extui v9742
  let v9744 : BitVec 32 := Scalar.subi v9741 v9743
  let v9745 : BitVec 1 := Scalar.cmpi .ne v9739 v9744
  let v9746 : BitVec 32 := Scalar.remsi v9731 c128_i32_3831
  let c0_i32_3836 : BitVec 32 := 0#32
  let v9747 : BitVec 1 := Scalar.cmpi .ne v9746 c0_i32_3836
  let v9748 : BitVec 1 := Scalar.andi v9745 v9747
  let v9734 : BitVec 32 := Scalar.divsi v9731 c128_i32_3831
  let c1_i32_3837 : BitVec 32 := 1#32
  let v9749 : BitVec 32 := Scalar.subi v9734 c1_i32_3837
  let v9750 : BitVec 32 := Scalar.select v9748 v9749 v9734
  let c128_i32_3838 : BitVec 32 := 128#32
  let v9751 : BitVec 32 := Scalar.muli v9750 c128_i32_3838
  let v9752 : BitVec 32 := v9751
  let v9755 : Index := Scalar.indexCast v9752
  ![v9754.toNat, 0, v9755.toNat]

def k1_chk171 (v9729 : BitVec 32) (v9731 : BitVec 32) : Prop :=
  (128 ∣ (k1_mult171 v9731).toNat) ∧
  (∀ a, (k1_off534 v9729 v9731) a + S1x16x512.size a ≤ S384x16x1152.size a)
theorem k1_mult171_dvd : ∀ (v9729 : BitVec 32) (v9731 : BitVec 32) (k1_hw171 : k1_chk171 v9729 v9731), 128 ∣ (k1_mult171 v9731).toNat := fun v9729 v9731 k1_hw171 => k1_hw171.1
theorem k1_off534_inb : ∀ (v9729 : BitVec 32) (v9731 : BitVec 32) (k1_hw171 : k1_chk171 v9729 v9731), ∀ a, (k1_off534 v9729 v9731) a + S1x16x512.size a ≤ S384x16x1152.size a := fun v9729 v9731 k1_hw171 => k1_hw171.2

def k1_off535 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9765 : Index := Scalar.indexCast v9601
  let c2_3842 : Index := 2#32
  ![v9765.toNat, 2]
def k1_off536 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9781 : Index := Scalar.indexCast v9601
  let c3_3848 : Index := 3#32
  ![v9781.toNat, 3]
def k1_mult172 (v9784 : BitVec 32) : BitVec 32 :=
  let c0_i32_3852 : BitVec 32 := 0#32
  let v9788 : BitVec 1 := Scalar.cmpi .sgt v9784 c0_i32_3852
  let v9789 : BitVec 32 := Scalar.extui v9788
  let c0_i32_3853 : BitVec 32 := 0#32
  let v9790 : BitVec 1 := Scalar.cmpi .slt v9784 c0_i32_3853
  let v9791 : BitVec 32 := Scalar.extui v9790
  let v9792 : BitVec 32 := Scalar.subi v9789 v9791
  let c128_i32_3851 : BitVec 32 := 128#32
  let c0_i32_3854 : BitVec 32 := 0#32
  let v9793 : BitVec 1 := Scalar.cmpi .sgt c128_i32_3851 c0_i32_3854
  let v9794 : BitVec 32 := Scalar.extui v9793
  let c0_i32_3855 : BitVec 32 := 0#32
  let v9795 : BitVec 1 := Scalar.cmpi .slt c128_i32_3851 c0_i32_3855
  let v9796 : BitVec 32 := Scalar.extui v9795
  let v9797 : BitVec 32 := Scalar.subi v9794 v9796
  let v9798 : BitVec 1 := Scalar.cmpi .ne v9792 v9797
  let v9799 : BitVec 32 := Scalar.remsi v9784 c128_i32_3851
  let c0_i32_3856 : BitVec 32 := 0#32
  let v9800 : BitVec 1 := Scalar.cmpi .ne v9799 c0_i32_3856
  let v9801 : BitVec 1 := Scalar.andi v9798 v9800
  let v9787 : BitVec 32 := Scalar.divsi v9784 c128_i32_3851
  let c1_i32_3857 : BitVec 32 := 1#32
  let v9802 : BitVec 32 := Scalar.subi v9787 c1_i32_3857
  let v9803 : BitVec 32 := Scalar.select v9801 v9802 v9787
  let c128_i32_3858 : BitVec 32 := 128#32
  let v9804 : BitVec 32 := Scalar.muli v9803 c128_i32_3858
  v9804

def k1_off537 (v9782 : BitVec 32) (v9784 : BitVec 32) : Fin 3 → Nat :=
  let v9807 : Index := Scalar.indexCast v9782
  let c0_3859 : Index := 0#32
  let c0_i32_3852 : BitVec 32 := 0#32
  let v9788 : BitVec 1 := Scalar.cmpi .sgt v9784 c0_i32_3852
  let v9789 : BitVec 32 := Scalar.extui v9788
  let c0_i32_3853 : BitVec 32 := 0#32
  let v9790 : BitVec 1 := Scalar.cmpi .slt v9784 c0_i32_3853
  let v9791 : BitVec 32 := Scalar.extui v9790
  let v9792 : BitVec 32 := Scalar.subi v9789 v9791
  let c128_i32_3851 : BitVec 32 := 128#32
  let c0_i32_3854 : BitVec 32 := 0#32
  let v9793 : BitVec 1 := Scalar.cmpi .sgt c128_i32_3851 c0_i32_3854
  let v9794 : BitVec 32 := Scalar.extui v9793
  let c0_i32_3855 : BitVec 32 := 0#32
  let v9795 : BitVec 1 := Scalar.cmpi .slt c128_i32_3851 c0_i32_3855
  let v9796 : BitVec 32 := Scalar.extui v9795
  let v9797 : BitVec 32 := Scalar.subi v9794 v9796
  let v9798 : BitVec 1 := Scalar.cmpi .ne v9792 v9797
  let v9799 : BitVec 32 := Scalar.remsi v9784 c128_i32_3851
  let c0_i32_3856 : BitVec 32 := 0#32
  let v9800 : BitVec 1 := Scalar.cmpi .ne v9799 c0_i32_3856
  let v9801 : BitVec 1 := Scalar.andi v9798 v9800
  let v9787 : BitVec 32 := Scalar.divsi v9784 c128_i32_3851
  let c1_i32_3857 : BitVec 32 := 1#32
  let v9802 : BitVec 32 := Scalar.subi v9787 c1_i32_3857
  let v9803 : BitVec 32 := Scalar.select v9801 v9802 v9787
  let c128_i32_3858 : BitVec 32 := 128#32
  let v9804 : BitVec 32 := Scalar.muli v9803 c128_i32_3858
  let v9805 : BitVec 32 := v9804
  let v9808 : Index := Scalar.indexCast v9805
  ![v9807.toNat, 0, v9808.toNat]

def k1_chk172 (v9782 : BitVec 32) (v9784 : BitVec 32) : Prop :=
  (128 ∣ (k1_mult172 v9784).toNat) ∧
  (∀ a, (k1_off537 v9782 v9784) a + S1x16x512.size a ≤ S384x16x1152.size a)
theorem k1_mult172_dvd : ∀ (v9782 : BitVec 32) (v9784 : BitVec 32) (k1_hw172 : k1_chk172 v9782 v9784), 128 ∣ (k1_mult172 v9784).toNat := fun v9782 v9784 k1_hw172 => k1_hw172.1
theorem k1_off537_inb : ∀ (v9782 : BitVec 32) (v9784 : BitVec 32) (k1_hw172 : k1_chk172 v9782 v9784), ∀ a, (k1_off537 v9782 v9784) a + S1x16x512.size a ≤ S384x16x1152.size a := fun v9782 v9784 k1_hw172 => k1_hw172.2

def k1_off538 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9818 : Index := Scalar.indexCast v9601
  let c3_3862 : Index := 3#32
  ![v9818.toNat, 3]
def k1_off539 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9834 : Index := Scalar.indexCast v9601
  let c4_3868 : Index := 4#32
  ![v9834.toNat, 4]
def k1_mult173 (v9837 : BitVec 32) : BitVec 32 :=
  let c0_i32_3872 : BitVec 32 := 0#32
  let v9841 : BitVec 1 := Scalar.cmpi .sgt v9837 c0_i32_3872
  let v9842 : BitVec 32 := Scalar.extui v9841
  let c0_i32_3873 : BitVec 32 := 0#32
  let v9843 : BitVec 1 := Scalar.cmpi .slt v9837 c0_i32_3873
  let v9844 : BitVec 32 := Scalar.extui v9843
  let v9845 : BitVec 32 := Scalar.subi v9842 v9844
  let c128_i32_3871 : BitVec 32 := 128#32
  let c0_i32_3874 : BitVec 32 := 0#32
  let v9846 : BitVec 1 := Scalar.cmpi .sgt c128_i32_3871 c0_i32_3874
  let v9847 : BitVec 32 := Scalar.extui v9846
  let c0_i32_3875 : BitVec 32 := 0#32
  let v9848 : BitVec 1 := Scalar.cmpi .slt c128_i32_3871 c0_i32_3875
  let v9849 : BitVec 32 := Scalar.extui v9848
  let v9850 : BitVec 32 := Scalar.subi v9847 v9849
  let v9851 : BitVec 1 := Scalar.cmpi .ne v9845 v9850
  let v9852 : BitVec 32 := Scalar.remsi v9837 c128_i32_3871
  let c0_i32_3876 : BitVec 32 := 0#32
  let v9853 : BitVec 1 := Scalar.cmpi .ne v9852 c0_i32_3876
  let v9854 : BitVec 1 := Scalar.andi v9851 v9853
  let v9840 : BitVec 32 := Scalar.divsi v9837 c128_i32_3871
  let c1_i32_3877 : BitVec 32 := 1#32
  let v9855 : BitVec 32 := Scalar.subi v9840 c1_i32_3877
  let v9856 : BitVec 32 := Scalar.select v9854 v9855 v9840
  let c128_i32_3878 : BitVec 32 := 128#32
  let v9857 : BitVec 32 := Scalar.muli v9856 c128_i32_3878
  v9857

def k1_off540 (v9835 : BitVec 32) (v9837 : BitVec 32) : Fin 3 → Nat :=
  let v9860 : Index := Scalar.indexCast v9835
  let c0_3879 : Index := 0#32
  let c0_i32_3872 : BitVec 32 := 0#32
  let v9841 : BitVec 1 := Scalar.cmpi .sgt v9837 c0_i32_3872
  let v9842 : BitVec 32 := Scalar.extui v9841
  let c0_i32_3873 : BitVec 32 := 0#32
  let v9843 : BitVec 1 := Scalar.cmpi .slt v9837 c0_i32_3873
  let v9844 : BitVec 32 := Scalar.extui v9843
  let v9845 : BitVec 32 := Scalar.subi v9842 v9844
  let c128_i32_3871 : BitVec 32 := 128#32
  let c0_i32_3874 : BitVec 32 := 0#32
  let v9846 : BitVec 1 := Scalar.cmpi .sgt c128_i32_3871 c0_i32_3874
  let v9847 : BitVec 32 := Scalar.extui v9846
  let c0_i32_3875 : BitVec 32 := 0#32
  let v9848 : BitVec 1 := Scalar.cmpi .slt c128_i32_3871 c0_i32_3875
  let v9849 : BitVec 32 := Scalar.extui v9848
  let v9850 : BitVec 32 := Scalar.subi v9847 v9849
  let v9851 : BitVec 1 := Scalar.cmpi .ne v9845 v9850
  let v9852 : BitVec 32 := Scalar.remsi v9837 c128_i32_3871
  let c0_i32_3876 : BitVec 32 := 0#32
  let v9853 : BitVec 1 := Scalar.cmpi .ne v9852 c0_i32_3876
  let v9854 : BitVec 1 := Scalar.andi v9851 v9853
  let v9840 : BitVec 32 := Scalar.divsi v9837 c128_i32_3871
  let c1_i32_3877 : BitVec 32 := 1#32
  let v9855 : BitVec 32 := Scalar.subi v9840 c1_i32_3877
  let v9856 : BitVec 32 := Scalar.select v9854 v9855 v9840
  let c128_i32_3878 : BitVec 32 := 128#32
  let v9857 : BitVec 32 := Scalar.muli v9856 c128_i32_3878
  let v9858 : BitVec 32 := v9857
  let v9861 : Index := Scalar.indexCast v9858
  ![v9860.toNat, 0, v9861.toNat]

def k1_chk173 (v9835 : BitVec 32) (v9837 : BitVec 32) : Prop :=
  (128 ∣ (k1_mult173 v9837).toNat) ∧
  (∀ a, (k1_off540 v9835 v9837) a + S1x16x512.size a ≤ S384x16x1152.size a)
theorem k1_mult173_dvd : ∀ (v9835 : BitVec 32) (v9837 : BitVec 32) (k1_hw173 : k1_chk173 v9835 v9837), 128 ∣ (k1_mult173 v9837).toNat := fun v9835 v9837 k1_hw173 => k1_hw173.1
theorem k1_off540_inb : ∀ (v9835 : BitVec 32) (v9837 : BitVec 32) (k1_hw173 : k1_chk173 v9835 v9837), ∀ a, (k1_off540 v9835 v9837) a + S1x16x512.size a ≤ S384x16x1152.size a := fun v9835 v9837 k1_hw173 => k1_hw173.2

def k1_off541 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9871 : Index := Scalar.indexCast v9601
  let c4_3882 : Index := 4#32
  ![v9871.toNat, 4]
def k1_off542 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9887 : Index := Scalar.indexCast v9601
  let c5_3888 : Index := 5#32
  ![v9887.toNat, 5]
def k1_mult174 (v9890 : BitVec 32) : BitVec 32 :=
  let c0_i32_3892 : BitVec 32 := 0#32
  let v9894 : BitVec 1 := Scalar.cmpi .sgt v9890 c0_i32_3892
  let v9895 : BitVec 32 := Scalar.extui v9894
  let c0_i32_3893 : BitVec 32 := 0#32
  let v9896 : BitVec 1 := Scalar.cmpi .slt v9890 c0_i32_3893
  let v9897 : BitVec 32 := Scalar.extui v9896
  let v9898 : BitVec 32 := Scalar.subi v9895 v9897
  let c128_i32_3891 : BitVec 32 := 128#32
  let c0_i32_3894 : BitVec 32 := 0#32
  let v9899 : BitVec 1 := Scalar.cmpi .sgt c128_i32_3891 c0_i32_3894
  let v9900 : BitVec 32 := Scalar.extui v9899
  let c0_i32_3895 : BitVec 32 := 0#32
  let v9901 : BitVec 1 := Scalar.cmpi .slt c128_i32_3891 c0_i32_3895
  let v9902 : BitVec 32 := Scalar.extui v9901
  let v9903 : BitVec 32 := Scalar.subi v9900 v9902
  let v9904 : BitVec 1 := Scalar.cmpi .ne v9898 v9903
  let v9905 : BitVec 32 := Scalar.remsi v9890 c128_i32_3891
  let c0_i32_3896 : BitVec 32 := 0#32
  let v9906 : BitVec 1 := Scalar.cmpi .ne v9905 c0_i32_3896
  let v9907 : BitVec 1 := Scalar.andi v9904 v9906
  let v9893 : BitVec 32 := Scalar.divsi v9890 c128_i32_3891
  let c1_i32_3897 : BitVec 32 := 1#32
  let v9908 : BitVec 32 := Scalar.subi v9893 c1_i32_3897
  let v9909 : BitVec 32 := Scalar.select v9907 v9908 v9893
  let c128_i32_3898 : BitVec 32 := 128#32
  let v9910 : BitVec 32 := Scalar.muli v9909 c128_i32_3898
  v9910

def k1_off543 (v9888 : BitVec 32) (v9890 : BitVec 32) : Fin 3 → Nat :=
  let v9913 : Index := Scalar.indexCast v9888
  let c0_3899 : Index := 0#32
  let c0_i32_3892 : BitVec 32 := 0#32
  let v9894 : BitVec 1 := Scalar.cmpi .sgt v9890 c0_i32_3892
  let v9895 : BitVec 32 := Scalar.extui v9894
  let c0_i32_3893 : BitVec 32 := 0#32
  let v9896 : BitVec 1 := Scalar.cmpi .slt v9890 c0_i32_3893
  let v9897 : BitVec 32 := Scalar.extui v9896
  let v9898 : BitVec 32 := Scalar.subi v9895 v9897
  let c128_i32_3891 : BitVec 32 := 128#32
  let c0_i32_3894 : BitVec 32 := 0#32
  let v9899 : BitVec 1 := Scalar.cmpi .sgt c128_i32_3891 c0_i32_3894
  let v9900 : BitVec 32 := Scalar.extui v9899
  let c0_i32_3895 : BitVec 32 := 0#32
  let v9901 : BitVec 1 := Scalar.cmpi .slt c128_i32_3891 c0_i32_3895
  let v9902 : BitVec 32 := Scalar.extui v9901
  let v9903 : BitVec 32 := Scalar.subi v9900 v9902
  let v9904 : BitVec 1 := Scalar.cmpi .ne v9898 v9903
  let v9905 : BitVec 32 := Scalar.remsi v9890 c128_i32_3891
  let c0_i32_3896 : BitVec 32 := 0#32
  let v9906 : BitVec 1 := Scalar.cmpi .ne v9905 c0_i32_3896
  let v9907 : BitVec 1 := Scalar.andi v9904 v9906
  let v9893 : BitVec 32 := Scalar.divsi v9890 c128_i32_3891
  let c1_i32_3897 : BitVec 32 := 1#32
  let v9908 : BitVec 32 := Scalar.subi v9893 c1_i32_3897
  let v9909 : BitVec 32 := Scalar.select v9907 v9908 v9893
  let c128_i32_3898 : BitVec 32 := 128#32
  let v9910 : BitVec 32 := Scalar.muli v9909 c128_i32_3898
  let v9911 : BitVec 32 := v9910
  let v9914 : Index := Scalar.indexCast v9911
  ![v9913.toNat, 0, v9914.toNat]

def k1_chk174 (v9888 : BitVec 32) (v9890 : BitVec 32) : Prop :=
  (128 ∣ (k1_mult174 v9890).toNat) ∧
  (∀ a, (k1_off543 v9888 v9890) a + S1x16x512.size a ≤ S384x16x1152.size a)
theorem k1_mult174_dvd : ∀ (v9888 : BitVec 32) (v9890 : BitVec 32) (k1_hw174 : k1_chk174 v9888 v9890), 128 ∣ (k1_mult174 v9890).toNat := fun v9888 v9890 k1_hw174 => k1_hw174.1
theorem k1_off543_inb : ∀ (v9888 : BitVec 32) (v9890 : BitVec 32) (k1_hw174 : k1_chk174 v9888 v9890), ∀ a, (k1_off543 v9888 v9890) a + S1x16x512.size a ≤ S384x16x1152.size a := fun v9888 v9890 k1_hw174 => k1_hw174.2

def k1_off544 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9924 : Index := Scalar.indexCast v9601
  let c5_3902 : Index := 5#32
  ![v9924.toNat, 5]
def k1_off545 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9940 : Index := Scalar.indexCast v9601
  let c6_3908 : Index := 6#32
  ![v9940.toNat, 6]
def k1_mult175 (v9943 : BitVec 32) : BitVec 32 :=
  let c0_i32_3912 : BitVec 32 := 0#32
  let v9947 : BitVec 1 := Scalar.cmpi .sgt v9943 c0_i32_3912
  let v9948 : BitVec 32 := Scalar.extui v9947
  let c0_i32_3913 : BitVec 32 := 0#32
  let v9949 : BitVec 1 := Scalar.cmpi .slt v9943 c0_i32_3913
  let v9950 : BitVec 32 := Scalar.extui v9949
  let v9951 : BitVec 32 := Scalar.subi v9948 v9950
  let c128_i32_3911 : BitVec 32 := 128#32
  let c0_i32_3914 : BitVec 32 := 0#32
  let v9952 : BitVec 1 := Scalar.cmpi .sgt c128_i32_3911 c0_i32_3914
  let v9953 : BitVec 32 := Scalar.extui v9952
  let c0_i32_3915 : BitVec 32 := 0#32
  let v9954 : BitVec 1 := Scalar.cmpi .slt c128_i32_3911 c0_i32_3915
  let v9955 : BitVec 32 := Scalar.extui v9954
  let v9956 : BitVec 32 := Scalar.subi v9953 v9955
  let v9957 : BitVec 1 := Scalar.cmpi .ne v9951 v9956
  let v9958 : BitVec 32 := Scalar.remsi v9943 c128_i32_3911
  let c0_i32_3916 : BitVec 32 := 0#32
  let v9959 : BitVec 1 := Scalar.cmpi .ne v9958 c0_i32_3916
  let v9960 : BitVec 1 := Scalar.andi v9957 v9959
  let v9946 : BitVec 32 := Scalar.divsi v9943 c128_i32_3911
  let c1_i32_3917 : BitVec 32 := 1#32
  let v9961 : BitVec 32 := Scalar.subi v9946 c1_i32_3917
  let v9962 : BitVec 32 := Scalar.select v9960 v9961 v9946
  let c128_i32_3918 : BitVec 32 := 128#32
  let v9963 : BitVec 32 := Scalar.muli v9962 c128_i32_3918
  v9963

def k1_off546 (v9941 : BitVec 32) (v9943 : BitVec 32) : Fin 3 → Nat :=
  let v9966 : Index := Scalar.indexCast v9941
  let c0_3919 : Index := 0#32
  let c0_i32_3912 : BitVec 32 := 0#32
  let v9947 : BitVec 1 := Scalar.cmpi .sgt v9943 c0_i32_3912
  let v9948 : BitVec 32 := Scalar.extui v9947
  let c0_i32_3913 : BitVec 32 := 0#32
  let v9949 : BitVec 1 := Scalar.cmpi .slt v9943 c0_i32_3913
  let v9950 : BitVec 32 := Scalar.extui v9949
  let v9951 : BitVec 32 := Scalar.subi v9948 v9950
  let c128_i32_3911 : BitVec 32 := 128#32
  let c0_i32_3914 : BitVec 32 := 0#32
  let v9952 : BitVec 1 := Scalar.cmpi .sgt c128_i32_3911 c0_i32_3914
  let v9953 : BitVec 32 := Scalar.extui v9952
  let c0_i32_3915 : BitVec 32 := 0#32
  let v9954 : BitVec 1 := Scalar.cmpi .slt c128_i32_3911 c0_i32_3915
  let v9955 : BitVec 32 := Scalar.extui v9954
  let v9956 : BitVec 32 := Scalar.subi v9953 v9955
  let v9957 : BitVec 1 := Scalar.cmpi .ne v9951 v9956
  let v9958 : BitVec 32 := Scalar.remsi v9943 c128_i32_3911
  let c0_i32_3916 : BitVec 32 := 0#32
  let v9959 : BitVec 1 := Scalar.cmpi .ne v9958 c0_i32_3916
  let v9960 : BitVec 1 := Scalar.andi v9957 v9959
  let v9946 : BitVec 32 := Scalar.divsi v9943 c128_i32_3911
  let c1_i32_3917 : BitVec 32 := 1#32
  let v9961 : BitVec 32 := Scalar.subi v9946 c1_i32_3917
  let v9962 : BitVec 32 := Scalar.select v9960 v9961 v9946
  let c128_i32_3918 : BitVec 32 := 128#32
  let v9963 : BitVec 32 := Scalar.muli v9962 c128_i32_3918
  let v9964 : BitVec 32 := v9963
  let v9967 : Index := Scalar.indexCast v9964
  ![v9966.toNat, 0, v9967.toNat]

def k1_chk175 (v9941 : BitVec 32) (v9943 : BitVec 32) : Prop :=
  (128 ∣ (k1_mult175 v9943).toNat) ∧
  (∀ a, (k1_off546 v9941 v9943) a + S1x16x512.size a ≤ S384x16x1152.size a)
theorem k1_mult175_dvd : ∀ (v9941 : BitVec 32) (v9943 : BitVec 32) (k1_hw175 : k1_chk175 v9941 v9943), 128 ∣ (k1_mult175 v9943).toNat := fun v9941 v9943 k1_hw175 => k1_hw175.1
theorem k1_off546_inb : ∀ (v9941 : BitVec 32) (v9943 : BitVec 32) (k1_hw175 : k1_chk175 v9941 v9943), ∀ a, (k1_off546 v9941 v9943) a + S1x16x512.size a ≤ S384x16x1152.size a := fun v9941 v9943 k1_hw175 => k1_hw175.2

def k1_off547 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9977 : Index := Scalar.indexCast v9601
  let c6_3922 : Index := 6#32
  ![v9977.toNat, 6]
def k1_off548 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v9993 : Index := Scalar.indexCast v9601
  let c7_3928 : Index := 7#32
  ![v9993.toNat, 7]
def k1_mult176 (v9996 : BitVec 32) : BitVec 32 :=
  let c0_i32_3932 : BitVec 32 := 0#32
  let v10000 : BitVec 1 := Scalar.cmpi .sgt v9996 c0_i32_3932
  let v10001 : BitVec 32 := Scalar.extui v10000
  let c0_i32_3933 : BitVec 32 := 0#32
  let v10002 : BitVec 1 := Scalar.cmpi .slt v9996 c0_i32_3933
  let v10003 : BitVec 32 := Scalar.extui v10002
  let v10004 : BitVec 32 := Scalar.subi v10001 v10003
  let c128_i32_3931 : BitVec 32 := 128#32
  let c0_i32_3934 : BitVec 32 := 0#32
  let v10005 : BitVec 1 := Scalar.cmpi .sgt c128_i32_3931 c0_i32_3934
  let v10006 : BitVec 32 := Scalar.extui v10005
  let c0_i32_3935 : BitVec 32 := 0#32
  let v10007 : BitVec 1 := Scalar.cmpi .slt c128_i32_3931 c0_i32_3935
  let v10008 : BitVec 32 := Scalar.extui v10007
  let v10009 : BitVec 32 := Scalar.subi v10006 v10008
  let v10010 : BitVec 1 := Scalar.cmpi .ne v10004 v10009
  let v10011 : BitVec 32 := Scalar.remsi v9996 c128_i32_3931
  let c0_i32_3936 : BitVec 32 := 0#32
  let v10012 : BitVec 1 := Scalar.cmpi .ne v10011 c0_i32_3936
  let v10013 : BitVec 1 := Scalar.andi v10010 v10012
  let v9999 : BitVec 32 := Scalar.divsi v9996 c128_i32_3931
  let c1_i32_3937 : BitVec 32 := 1#32
  let v10014 : BitVec 32 := Scalar.subi v9999 c1_i32_3937
  let v10015 : BitVec 32 := Scalar.select v10013 v10014 v9999
  let c128_i32_3938 : BitVec 32 := 128#32
  let v10016 : BitVec 32 := Scalar.muli v10015 c128_i32_3938
  v10016

def k1_off549 (v9994 : BitVec 32) (v9996 : BitVec 32) : Fin 3 → Nat :=
  let v10019 : Index := Scalar.indexCast v9994
  let c0_3939 : Index := 0#32
  let c0_i32_3932 : BitVec 32 := 0#32
  let v10000 : BitVec 1 := Scalar.cmpi .sgt v9996 c0_i32_3932
  let v10001 : BitVec 32 := Scalar.extui v10000
  let c0_i32_3933 : BitVec 32 := 0#32
  let v10002 : BitVec 1 := Scalar.cmpi .slt v9996 c0_i32_3933
  let v10003 : BitVec 32 := Scalar.extui v10002
  let v10004 : BitVec 32 := Scalar.subi v10001 v10003
  let c128_i32_3931 : BitVec 32 := 128#32
  let c0_i32_3934 : BitVec 32 := 0#32
  let v10005 : BitVec 1 := Scalar.cmpi .sgt c128_i32_3931 c0_i32_3934
  let v10006 : BitVec 32 := Scalar.extui v10005
  let c0_i32_3935 : BitVec 32 := 0#32
  let v10007 : BitVec 1 := Scalar.cmpi .slt c128_i32_3931 c0_i32_3935
  let v10008 : BitVec 32 := Scalar.extui v10007
  let v10009 : BitVec 32 := Scalar.subi v10006 v10008
  let v10010 : BitVec 1 := Scalar.cmpi .ne v10004 v10009
  let v10011 : BitVec 32 := Scalar.remsi v9996 c128_i32_3931
  let c0_i32_3936 : BitVec 32 := 0#32
  let v10012 : BitVec 1 := Scalar.cmpi .ne v10011 c0_i32_3936
  let v10013 : BitVec 1 := Scalar.andi v10010 v10012
  let v9999 : BitVec 32 := Scalar.divsi v9996 c128_i32_3931
  let c1_i32_3937 : BitVec 32 := 1#32
  let v10014 : BitVec 32 := Scalar.subi v9999 c1_i32_3937
  let v10015 : BitVec 32 := Scalar.select v10013 v10014 v9999
  let c128_i32_3938 : BitVec 32 := 128#32
  let v10016 : BitVec 32 := Scalar.muli v10015 c128_i32_3938
  let v10017 : BitVec 32 := v10016
  let v10020 : Index := Scalar.indexCast v10017
  ![v10019.toNat, 0, v10020.toNat]

def k1_chk176 (v9994 : BitVec 32) (v9996 : BitVec 32) : Prop :=
  (128 ∣ (k1_mult176 v9996).toNat) ∧
  (∀ a, (k1_off549 v9994 v9996) a + S1x16x512.size a ≤ S384x16x1152.size a)
theorem k1_mult176_dvd : ∀ (v9994 : BitVec 32) (v9996 : BitVec 32) (k1_hw176 : k1_chk176 v9994 v9996), 128 ∣ (k1_mult176 v9996).toNat := fun v9994 v9996 k1_hw176 => k1_hw176.1
theorem k1_off549_inb : ∀ (v9994 : BitVec 32) (v9996 : BitVec 32) (k1_hw176 : k1_chk176 v9994 v9996), ∀ a, (k1_off549 v9994 v9996) a + S1x16x512.size a ≤ S384x16x1152.size a := fun v9994 v9996 k1_hw176 => k1_hw176.2

def k1_off550 (i : grid1.Coords) : Fin 2 → Nat :=
  let arg0 : BitVec 32 := BitVec.ofNat 32 (i 0).val
  let c48_i32_3777 : BitVec 32 := 48#32
  let v9600 : BitVec 32 := Scalar.muli arg0 c48_i32_3777
  let c21_i32 : BitVec 32 := 21#32
  let v9601 : BitVec 32 := Scalar.addi v9600 c21_i32
  let v10030 : Index := Scalar.indexCast v9601
  let c7_3942 : Index := 7#32
  ![v10030.toNat, 7]
def k1_off551 (i : grid1.Coords) : Fin 3 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10059 : Index := Scalar.indexCast v10058
  let c0_3958 : Index := 0#32
  let c720_3959 : Index := 720#32
  ![v10059.toNat, 0, 720]
def k1_off552 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10079 : Index := Scalar.indexCast v10058
  let c0_3968 : Index := 0#32
  ![v10079.toNat, 0]
def k1_mult177 (v10082 : BitVec 32) : BitVec 32 :=
  let c0_i32_3972 : BitVec 32 := 0#32
  let v10086 : BitVec 1 := Scalar.cmpi .sgt v10082 c0_i32_3972
  let v10087 : BitVec 32 := Scalar.extui v10086
  let c0_i32_3973 : BitVec 32 := 0#32
  let v10088 : BitVec 1 := Scalar.cmpi .slt v10082 c0_i32_3973
  let v10089 : BitVec 32 := Scalar.extui v10088
  let v10090 : BitVec 32 := Scalar.subi v10087 v10089
  let c128_i32_3971 : BitVec 32 := 128#32
  let c0_i32_3974 : BitVec 32 := 0#32
  let v10091 : BitVec 1 := Scalar.cmpi .sgt c128_i32_3971 c0_i32_3974
  let v10092 : BitVec 32 := Scalar.extui v10091
  let c0_i32_3975 : BitVec 32 := 0#32
  let v10093 : BitVec 1 := Scalar.cmpi .slt c128_i32_3971 c0_i32_3975
  let v10094 : BitVec 32 := Scalar.extui v10093
  let v10095 : BitVec 32 := Scalar.subi v10092 v10094
  let v10096 : BitVec 1 := Scalar.cmpi .ne v10090 v10095
  let v10097 : BitVec 32 := Scalar.remsi v10082 c128_i32_3971
  let c0_i32_3976 : BitVec 32 := 0#32
  let v10098 : BitVec 1 := Scalar.cmpi .ne v10097 c0_i32_3976
  let v10099 : BitVec 1 := Scalar.andi v10096 v10098
  let v10085 : BitVec 32 := Scalar.divsi v10082 c128_i32_3971
  let c1_i32_3977 : BitVec 32 := 1#32
  let v10100 : BitVec 32 := Scalar.subi v10085 c1_i32_3977
  let v10101 : BitVec 32 := Scalar.select v10099 v10100 v10085
  let c128_i32_3978 : BitVec 32 := 128#32
  let v10102 : BitVec 32 := Scalar.muli v10101 c128_i32_3978
  v10102

def k1_off553 (v10080 : BitVec 32) (v10082 : BitVec 32) : Fin 3 → Nat :=
  let v10105 : Index := Scalar.indexCast v10080
  let c0_3979 : Index := 0#32
  let c0_i32_3972 : BitVec 32 := 0#32
  let v10086 : BitVec 1 := Scalar.cmpi .sgt v10082 c0_i32_3972
  let v10087 : BitVec 32 := Scalar.extui v10086
  let c0_i32_3973 : BitVec 32 := 0#32
  let v10088 : BitVec 1 := Scalar.cmpi .slt v10082 c0_i32_3973
  let v10089 : BitVec 32 := Scalar.extui v10088
  let v10090 : BitVec 32 := Scalar.subi v10087 v10089
  let c128_i32_3971 : BitVec 32 := 128#32
  let c0_i32_3974 : BitVec 32 := 0#32
  let v10091 : BitVec 1 := Scalar.cmpi .sgt c128_i32_3971 c0_i32_3974
  let v10092 : BitVec 32 := Scalar.extui v10091
  let c0_i32_3975 : BitVec 32 := 0#32
  let v10093 : BitVec 1 := Scalar.cmpi .slt c128_i32_3971 c0_i32_3975
  let v10094 : BitVec 32 := Scalar.extui v10093
  let v10095 : BitVec 32 := Scalar.subi v10092 v10094
  let v10096 : BitVec 1 := Scalar.cmpi .ne v10090 v10095
  let v10097 : BitVec 32 := Scalar.remsi v10082 c128_i32_3971
  let c0_i32_3976 : BitVec 32 := 0#32
  let v10098 : BitVec 1 := Scalar.cmpi .ne v10097 c0_i32_3976
  let v10099 : BitVec 1 := Scalar.andi v10096 v10098
  let v10085 : BitVec 32 := Scalar.divsi v10082 c128_i32_3971
  let c1_i32_3977 : BitVec 32 := 1#32
  let v10100 : BitVec 32 := Scalar.subi v10085 c1_i32_3977
  let v10101 : BitVec 32 := Scalar.select v10099 v10100 v10085
  let c128_i32_3978 : BitVec 32 := 128#32
  let v10102 : BitVec 32 := Scalar.muli v10101 c128_i32_3978
  let v10103 : BitVec 32 := v10102
  let v10106 : Index := Scalar.indexCast v10103
  ![v10105.toNat, 0, v10106.toNat]

def k1_chk177 (v10080 : BitVec 32) (v10082 : BitVec 32) : Prop :=
  (128 ∣ (k1_mult177 v10082).toNat) ∧
  (∀ a, (k1_off553 v10080 v10082) a + S1x16x512.size a ≤ S384x16x1152.size a)
theorem k1_mult177_dvd : ∀ (v10080 : BitVec 32) (v10082 : BitVec 32) (k1_hw177 : k1_chk177 v10080 v10082), 128 ∣ (k1_mult177 v10082).toNat := fun v10080 v10082 k1_hw177 => k1_hw177.1
theorem k1_off553_inb : ∀ (v10080 : BitVec 32) (v10082 : BitVec 32) (k1_hw177 : k1_chk177 v10080 v10082), ∀ a, (k1_off553 v10080 v10082) a + S1x16x512.size a ≤ S384x16x1152.size a := fun v10080 v10082 k1_hw177 => k1_hw177.2

def k1_off554 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10116 : Index := Scalar.indexCast v10058
  let c0_3982 : Index := 0#32
  ![v10116.toNat, 0]
def k1_off555 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10132 : Index := Scalar.indexCast v10058
  let c1_3988 : Index := 1#32
  ![v10132.toNat, 1]
def k1_mult178 (v10135 : BitVec 32) : BitVec 32 :=
  let c0_i32_3992 : BitVec 32 := 0#32
  let v10139 : BitVec 1 := Scalar.cmpi .sgt v10135 c0_i32_3992
  let v10140 : BitVec 32 := Scalar.extui v10139
  let c0_i32_3993 : BitVec 32 := 0#32
  let v10141 : BitVec 1 := Scalar.cmpi .slt v10135 c0_i32_3993
  let v10142 : BitVec 32 := Scalar.extui v10141
  let v10143 : BitVec 32 := Scalar.subi v10140 v10142
  let c128_i32_3991 : BitVec 32 := 128#32
  let c0_i32_3994 : BitVec 32 := 0#32
  let v10144 : BitVec 1 := Scalar.cmpi .sgt c128_i32_3991 c0_i32_3994
  let v10145 : BitVec 32 := Scalar.extui v10144
  let c0_i32_3995 : BitVec 32 := 0#32
  let v10146 : BitVec 1 := Scalar.cmpi .slt c128_i32_3991 c0_i32_3995
  let v10147 : BitVec 32 := Scalar.extui v10146
  let v10148 : BitVec 32 := Scalar.subi v10145 v10147
  let v10149 : BitVec 1 := Scalar.cmpi .ne v10143 v10148
  let v10150 : BitVec 32 := Scalar.remsi v10135 c128_i32_3991
  let c0_i32_3996 : BitVec 32 := 0#32
  let v10151 : BitVec 1 := Scalar.cmpi .ne v10150 c0_i32_3996
  let v10152 : BitVec 1 := Scalar.andi v10149 v10151
  let v10138 : BitVec 32 := Scalar.divsi v10135 c128_i32_3991
  let c1_i32_3997 : BitVec 32 := 1#32
  let v10153 : BitVec 32 := Scalar.subi v10138 c1_i32_3997
  let v10154 : BitVec 32 := Scalar.select v10152 v10153 v10138
  let c128_i32_3998 : BitVec 32 := 128#32
  let v10155 : BitVec 32 := Scalar.muli v10154 c128_i32_3998
  v10155

def k1_off556 (v10133 : BitVec 32) (v10135 : BitVec 32) : Fin 3 → Nat :=
  let v10158 : Index := Scalar.indexCast v10133
  let c0_3999 : Index := 0#32
  let c0_i32_3992 : BitVec 32 := 0#32
  let v10139 : BitVec 1 := Scalar.cmpi .sgt v10135 c0_i32_3992
  let v10140 : BitVec 32 := Scalar.extui v10139
  let c0_i32_3993 : BitVec 32 := 0#32
  let v10141 : BitVec 1 := Scalar.cmpi .slt v10135 c0_i32_3993
  let v10142 : BitVec 32 := Scalar.extui v10141
  let v10143 : BitVec 32 := Scalar.subi v10140 v10142
  let c128_i32_3991 : BitVec 32 := 128#32
  let c0_i32_3994 : BitVec 32 := 0#32
  let v10144 : BitVec 1 := Scalar.cmpi .sgt c128_i32_3991 c0_i32_3994
  let v10145 : BitVec 32 := Scalar.extui v10144
  let c0_i32_3995 : BitVec 32 := 0#32
  let v10146 : BitVec 1 := Scalar.cmpi .slt c128_i32_3991 c0_i32_3995
  let v10147 : BitVec 32 := Scalar.extui v10146
  let v10148 : BitVec 32 := Scalar.subi v10145 v10147
  let v10149 : BitVec 1 := Scalar.cmpi .ne v10143 v10148
  let v10150 : BitVec 32 := Scalar.remsi v10135 c128_i32_3991
  let c0_i32_3996 : BitVec 32 := 0#32
  let v10151 : BitVec 1 := Scalar.cmpi .ne v10150 c0_i32_3996
  let v10152 : BitVec 1 := Scalar.andi v10149 v10151
  let v10138 : BitVec 32 := Scalar.divsi v10135 c128_i32_3991
  let c1_i32_3997 : BitVec 32 := 1#32
  let v10153 : BitVec 32 := Scalar.subi v10138 c1_i32_3997
  let v10154 : BitVec 32 := Scalar.select v10152 v10153 v10138
  let c128_i32_3998 : BitVec 32 := 128#32
  let v10155 : BitVec 32 := Scalar.muli v10154 c128_i32_3998
  let v10156 : BitVec 32 := v10155
  let v10159 : Index := Scalar.indexCast v10156
  ![v10158.toNat, 0, v10159.toNat]

def k1_chk178 (v10133 : BitVec 32) (v10135 : BitVec 32) : Prop :=
  (128 ∣ (k1_mult178 v10135).toNat) ∧
  (∀ a, (k1_off556 v10133 v10135) a + S1x16x512.size a ≤ S384x16x1152.size a)
theorem k1_mult178_dvd : ∀ (v10133 : BitVec 32) (v10135 : BitVec 32) (k1_hw178 : k1_chk178 v10133 v10135), 128 ∣ (k1_mult178 v10135).toNat := fun v10133 v10135 k1_hw178 => k1_hw178.1
theorem k1_off556_inb : ∀ (v10133 : BitVec 32) (v10135 : BitVec 32) (k1_hw178 : k1_chk178 v10133 v10135), ∀ a, (k1_off556 v10133 v10135) a + S1x16x512.size a ≤ S384x16x1152.size a := fun v10133 v10135 k1_hw178 => k1_hw178.2

def k1_off557 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10169 : Index := Scalar.indexCast v10058
  let c1_4002 : Index := 1#32
  ![v10169.toNat, 1]
def k1_off558 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10185 : Index := Scalar.indexCast v10058
  let c2_4008 : Index := 2#32
  ![v10185.toNat, 2]
def k1_mult179 (v10188 : BitVec 32) : BitVec 32 :=
  let c0_i32_4012 : BitVec 32 := 0#32
  let v10192 : BitVec 1 := Scalar.cmpi .sgt v10188 c0_i32_4012
  let v10193 : BitVec 32 := Scalar.extui v10192
  let c0_i32_4013 : BitVec 32 := 0#32
  let v10194 : BitVec 1 := Scalar.cmpi .slt v10188 c0_i32_4013
  let v10195 : BitVec 32 := Scalar.extui v10194
  let v10196 : BitVec 32 := Scalar.subi v10193 v10195
  let c128_i32_4011 : BitVec 32 := 128#32
  let c0_i32_4014 : BitVec 32 := 0#32
  let v10197 : BitVec 1 := Scalar.cmpi .sgt c128_i32_4011 c0_i32_4014
  let v10198 : BitVec 32 := Scalar.extui v10197
  let c0_i32_4015 : BitVec 32 := 0#32
  let v10199 : BitVec 1 := Scalar.cmpi .slt c128_i32_4011 c0_i32_4015
  let v10200 : BitVec 32 := Scalar.extui v10199
  let v10201 : BitVec 32 := Scalar.subi v10198 v10200
  let v10202 : BitVec 1 := Scalar.cmpi .ne v10196 v10201
  let v10203 : BitVec 32 := Scalar.remsi v10188 c128_i32_4011
  let c0_i32_4016 : BitVec 32 := 0#32
  let v10204 : BitVec 1 := Scalar.cmpi .ne v10203 c0_i32_4016
  let v10205 : BitVec 1 := Scalar.andi v10202 v10204
  let v10191 : BitVec 32 := Scalar.divsi v10188 c128_i32_4011
  let c1_i32_4017 : BitVec 32 := 1#32
  let v10206 : BitVec 32 := Scalar.subi v10191 c1_i32_4017
  let v10207 : BitVec 32 := Scalar.select v10205 v10206 v10191
  let c128_i32_4018 : BitVec 32 := 128#32
  let v10208 : BitVec 32 := Scalar.muli v10207 c128_i32_4018
  v10208

def k1_off559 (v10186 : BitVec 32) (v10188 : BitVec 32) : Fin 3 → Nat :=
  let v10211 : Index := Scalar.indexCast v10186
  let c0_4019 : Index := 0#32
  let c0_i32_4012 : BitVec 32 := 0#32
  let v10192 : BitVec 1 := Scalar.cmpi .sgt v10188 c0_i32_4012
  let v10193 : BitVec 32 := Scalar.extui v10192
  let c0_i32_4013 : BitVec 32 := 0#32
  let v10194 : BitVec 1 := Scalar.cmpi .slt v10188 c0_i32_4013
  let v10195 : BitVec 32 := Scalar.extui v10194
  let v10196 : BitVec 32 := Scalar.subi v10193 v10195
  let c128_i32_4011 : BitVec 32 := 128#32
  let c0_i32_4014 : BitVec 32 := 0#32
  let v10197 : BitVec 1 := Scalar.cmpi .sgt c128_i32_4011 c0_i32_4014
  let v10198 : BitVec 32 := Scalar.extui v10197
  let c0_i32_4015 : BitVec 32 := 0#32
  let v10199 : BitVec 1 := Scalar.cmpi .slt c128_i32_4011 c0_i32_4015
  let v10200 : BitVec 32 := Scalar.extui v10199
  let v10201 : BitVec 32 := Scalar.subi v10198 v10200
  let v10202 : BitVec 1 := Scalar.cmpi .ne v10196 v10201
  let v10203 : BitVec 32 := Scalar.remsi v10188 c128_i32_4011
  let c0_i32_4016 : BitVec 32 := 0#32
  let v10204 : BitVec 1 := Scalar.cmpi .ne v10203 c0_i32_4016
  let v10205 : BitVec 1 := Scalar.andi v10202 v10204
  let v10191 : BitVec 32 := Scalar.divsi v10188 c128_i32_4011
  let c1_i32_4017 : BitVec 32 := 1#32
  let v10206 : BitVec 32 := Scalar.subi v10191 c1_i32_4017
  let v10207 : BitVec 32 := Scalar.select v10205 v10206 v10191
  let c128_i32_4018 : BitVec 32 := 128#32
  let v10208 : BitVec 32 := Scalar.muli v10207 c128_i32_4018
  let v10209 : BitVec 32 := v10208
  let v10212 : Index := Scalar.indexCast v10209
  ![v10211.toNat, 0, v10212.toNat]

def k1_chk179 (v10186 : BitVec 32) (v10188 : BitVec 32) : Prop :=
  (128 ∣ (k1_mult179 v10188).toNat) ∧
  (∀ a, (k1_off559 v10186 v10188) a + S1x16x512.size a ≤ S384x16x1152.size a)
theorem k1_mult179_dvd : ∀ (v10186 : BitVec 32) (v10188 : BitVec 32) (k1_hw179 : k1_chk179 v10186 v10188), 128 ∣ (k1_mult179 v10188).toNat := fun v10186 v10188 k1_hw179 => k1_hw179.1
theorem k1_off559_inb : ∀ (v10186 : BitVec 32) (v10188 : BitVec 32) (k1_hw179 : k1_chk179 v10186 v10188), ∀ a, (k1_off559 v10186 v10188) a + S1x16x512.size a ≤ S384x16x1152.size a := fun v10186 v10188 k1_hw179 => k1_hw179.2

def k1_off560 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10222 : Index := Scalar.indexCast v10058
  let c2_4022 : Index := 2#32
  ![v10222.toNat, 2]
def k1_off561 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10238 : Index := Scalar.indexCast v10058
  let c3_4028 : Index := 3#32
  ![v10238.toNat, 3]
def k1_mult180 (v10241 : BitVec 32) : BitVec 32 :=
  let c0_i32_4032 : BitVec 32 := 0#32
  let v10245 : BitVec 1 := Scalar.cmpi .sgt v10241 c0_i32_4032
  let v10246 : BitVec 32 := Scalar.extui v10245
  let c0_i32_4033 : BitVec 32 := 0#32
  let v10247 : BitVec 1 := Scalar.cmpi .slt v10241 c0_i32_4033
  let v10248 : BitVec 32 := Scalar.extui v10247
  let v10249 : BitVec 32 := Scalar.subi v10246 v10248
  let c128_i32_4031 : BitVec 32 := 128#32
  let c0_i32_4034 : BitVec 32 := 0#32
  let v10250 : BitVec 1 := Scalar.cmpi .sgt c128_i32_4031 c0_i32_4034
  let v10251 : BitVec 32 := Scalar.extui v10250
  let c0_i32_4035 : BitVec 32 := 0#32
  let v10252 : BitVec 1 := Scalar.cmpi .slt c128_i32_4031 c0_i32_4035
  let v10253 : BitVec 32 := Scalar.extui v10252
  let v10254 : BitVec 32 := Scalar.subi v10251 v10253
  let v10255 : BitVec 1 := Scalar.cmpi .ne v10249 v10254
  let v10256 : BitVec 32 := Scalar.remsi v10241 c128_i32_4031
  let c0_i32_4036 : BitVec 32 := 0#32
  let v10257 : BitVec 1 := Scalar.cmpi .ne v10256 c0_i32_4036
  let v10258 : BitVec 1 := Scalar.andi v10255 v10257
  let v10244 : BitVec 32 := Scalar.divsi v10241 c128_i32_4031
  let c1_i32_4037 : BitVec 32 := 1#32
  let v10259 : BitVec 32 := Scalar.subi v10244 c1_i32_4037
  let v10260 : BitVec 32 := Scalar.select v10258 v10259 v10244
  let c128_i32_4038 : BitVec 32 := 128#32
  let v10261 : BitVec 32 := Scalar.muli v10260 c128_i32_4038
  v10261

def k1_off562 (v10239 : BitVec 32) (v10241 : BitVec 32) : Fin 3 → Nat :=
  let v10264 : Index := Scalar.indexCast v10239
  let c0_4039 : Index := 0#32
  let c0_i32_4032 : BitVec 32 := 0#32
  let v10245 : BitVec 1 := Scalar.cmpi .sgt v10241 c0_i32_4032
  let v10246 : BitVec 32 := Scalar.extui v10245
  let c0_i32_4033 : BitVec 32 := 0#32
  let v10247 : BitVec 1 := Scalar.cmpi .slt v10241 c0_i32_4033
  let v10248 : BitVec 32 := Scalar.extui v10247
  let v10249 : BitVec 32 := Scalar.subi v10246 v10248
  let c128_i32_4031 : BitVec 32 := 128#32
  let c0_i32_4034 : BitVec 32 := 0#32
  let v10250 : BitVec 1 := Scalar.cmpi .sgt c128_i32_4031 c0_i32_4034
  let v10251 : BitVec 32 := Scalar.extui v10250
  let c0_i32_4035 : BitVec 32 := 0#32
  let v10252 : BitVec 1 := Scalar.cmpi .slt c128_i32_4031 c0_i32_4035
  let v10253 : BitVec 32 := Scalar.extui v10252
  let v10254 : BitVec 32 := Scalar.subi v10251 v10253
  let v10255 : BitVec 1 := Scalar.cmpi .ne v10249 v10254
  let v10256 : BitVec 32 := Scalar.remsi v10241 c128_i32_4031
  let c0_i32_4036 : BitVec 32 := 0#32
  let v10257 : BitVec 1 := Scalar.cmpi .ne v10256 c0_i32_4036
  let v10258 : BitVec 1 := Scalar.andi v10255 v10257
  let v10244 : BitVec 32 := Scalar.divsi v10241 c128_i32_4031
  let c1_i32_4037 : BitVec 32 := 1#32
  let v10259 : BitVec 32 := Scalar.subi v10244 c1_i32_4037
  let v10260 : BitVec 32 := Scalar.select v10258 v10259 v10244
  let c128_i32_4038 : BitVec 32 := 128#32
  let v10261 : BitVec 32 := Scalar.muli v10260 c128_i32_4038
  let v10262 : BitVec 32 := v10261
  let v10265 : Index := Scalar.indexCast v10262
  ![v10264.toNat, 0, v10265.toNat]

def k1_chk180 (v10239 : BitVec 32) (v10241 : BitVec 32) : Prop :=
  (128 ∣ (k1_mult180 v10241).toNat) ∧
  (∀ a, (k1_off562 v10239 v10241) a + S1x16x512.size a ≤ S384x16x1152.size a)
theorem k1_mult180_dvd : ∀ (v10239 : BitVec 32) (v10241 : BitVec 32) (k1_hw180 : k1_chk180 v10239 v10241), 128 ∣ (k1_mult180 v10241).toNat := fun v10239 v10241 k1_hw180 => k1_hw180.1
theorem k1_off562_inb : ∀ (v10239 : BitVec 32) (v10241 : BitVec 32) (k1_hw180 : k1_chk180 v10239 v10241), ∀ a, (k1_off562 v10239 v10241) a + S1x16x512.size a ≤ S384x16x1152.size a := fun v10239 v10241 k1_hw180 => k1_hw180.2

def k1_off563 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10275 : Index := Scalar.indexCast v10058
  let c3_4042 : Index := 3#32
  ![v10275.toNat, 3]
def k1_off564 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10291 : Index := Scalar.indexCast v10058
  let c4_4048 : Index := 4#32
  ![v10291.toNat, 4]
def k1_mult181 (v10294 : BitVec 32) : BitVec 32 :=
  let c0_i32_4052 : BitVec 32 := 0#32
  let v10298 : BitVec 1 := Scalar.cmpi .sgt v10294 c0_i32_4052
  let v10299 : BitVec 32 := Scalar.extui v10298
  let c0_i32_4053 : BitVec 32 := 0#32
  let v10300 : BitVec 1 := Scalar.cmpi .slt v10294 c0_i32_4053
  let v10301 : BitVec 32 := Scalar.extui v10300
  let v10302 : BitVec 32 := Scalar.subi v10299 v10301
  let c128_i32_4051 : BitVec 32 := 128#32
  let c0_i32_4054 : BitVec 32 := 0#32
  let v10303 : BitVec 1 := Scalar.cmpi .sgt c128_i32_4051 c0_i32_4054
  let v10304 : BitVec 32 := Scalar.extui v10303
  let c0_i32_4055 : BitVec 32 := 0#32
  let v10305 : BitVec 1 := Scalar.cmpi .slt c128_i32_4051 c0_i32_4055
  let v10306 : BitVec 32 := Scalar.extui v10305
  let v10307 : BitVec 32 := Scalar.subi v10304 v10306
  let v10308 : BitVec 1 := Scalar.cmpi .ne v10302 v10307
  let v10309 : BitVec 32 := Scalar.remsi v10294 c128_i32_4051
  let c0_i32_4056 : BitVec 32 := 0#32
  let v10310 : BitVec 1 := Scalar.cmpi .ne v10309 c0_i32_4056
  let v10311 : BitVec 1 := Scalar.andi v10308 v10310
  let v10297 : BitVec 32 := Scalar.divsi v10294 c128_i32_4051
  let c1_i32_4057 : BitVec 32 := 1#32
  let v10312 : BitVec 32 := Scalar.subi v10297 c1_i32_4057
  let v10313 : BitVec 32 := Scalar.select v10311 v10312 v10297
  let c128_i32_4058 : BitVec 32 := 128#32
  let v10314 : BitVec 32 := Scalar.muli v10313 c128_i32_4058
  v10314

def k1_off565 (v10292 : BitVec 32) (v10294 : BitVec 32) : Fin 3 → Nat :=
  let v10317 : Index := Scalar.indexCast v10292
  let c0_4059 : Index := 0#32
  let c0_i32_4052 : BitVec 32 := 0#32
  let v10298 : BitVec 1 := Scalar.cmpi .sgt v10294 c0_i32_4052
  let v10299 : BitVec 32 := Scalar.extui v10298
  let c0_i32_4053 : BitVec 32 := 0#32
  let v10300 : BitVec 1 := Scalar.cmpi .slt v10294 c0_i32_4053
  let v10301 : BitVec 32 := Scalar.extui v10300
  let v10302 : BitVec 32 := Scalar.subi v10299 v10301
  let c128_i32_4051 : BitVec 32 := 128#32
  let c0_i32_4054 : BitVec 32 := 0#32
  let v10303 : BitVec 1 := Scalar.cmpi .sgt c128_i32_4051 c0_i32_4054
  let v10304 : BitVec 32 := Scalar.extui v10303
  let c0_i32_4055 : BitVec 32 := 0#32
  let v10305 : BitVec 1 := Scalar.cmpi .slt c128_i32_4051 c0_i32_4055
  let v10306 : BitVec 32 := Scalar.extui v10305
  let v10307 : BitVec 32 := Scalar.subi v10304 v10306
  let v10308 : BitVec 1 := Scalar.cmpi .ne v10302 v10307
  let v10309 : BitVec 32 := Scalar.remsi v10294 c128_i32_4051
  let c0_i32_4056 : BitVec 32 := 0#32
  let v10310 : BitVec 1 := Scalar.cmpi .ne v10309 c0_i32_4056
  let v10311 : BitVec 1 := Scalar.andi v10308 v10310
  let v10297 : BitVec 32 := Scalar.divsi v10294 c128_i32_4051
  let c1_i32_4057 : BitVec 32 := 1#32
  let v10312 : BitVec 32 := Scalar.subi v10297 c1_i32_4057
  let v10313 : BitVec 32 := Scalar.select v10311 v10312 v10297
  let c128_i32_4058 : BitVec 32 := 128#32
  let v10314 : BitVec 32 := Scalar.muli v10313 c128_i32_4058
  let v10315 : BitVec 32 := v10314
  let v10318 : Index := Scalar.indexCast v10315
  ![v10317.toNat, 0, v10318.toNat]

def k1_chk181 (v10292 : BitVec 32) (v10294 : BitVec 32) : Prop :=
  (128 ∣ (k1_mult181 v10294).toNat) ∧
  (∀ a, (k1_off565 v10292 v10294) a + S1x16x512.size a ≤ S384x16x1152.size a)
theorem k1_mult181_dvd : ∀ (v10292 : BitVec 32) (v10294 : BitVec 32) (k1_hw181 : k1_chk181 v10292 v10294), 128 ∣ (k1_mult181 v10294).toNat := fun v10292 v10294 k1_hw181 => k1_hw181.1
theorem k1_off565_inb : ∀ (v10292 : BitVec 32) (v10294 : BitVec 32) (k1_hw181 : k1_chk181 v10292 v10294), ∀ a, (k1_off565 v10292 v10294) a + S1x16x512.size a ≤ S384x16x1152.size a := fun v10292 v10294 k1_hw181 => k1_hw181.2

def k1_off566 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10328 : Index := Scalar.indexCast v10058
  let c4_4062 : Index := 4#32
  ![v10328.toNat, 4]
def k1_off567 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10344 : Index := Scalar.indexCast v10058
  let c5_4068 : Index := 5#32
  ![v10344.toNat, 5]
def k1_mult182 (v10347 : BitVec 32) : BitVec 32 :=
  let c0_i32_4072 : BitVec 32 := 0#32
  let v10351 : BitVec 1 := Scalar.cmpi .sgt v10347 c0_i32_4072
  let v10352 : BitVec 32 := Scalar.extui v10351
  let c0_i32_4073 : BitVec 32 := 0#32
  let v10353 : BitVec 1 := Scalar.cmpi .slt v10347 c0_i32_4073
  let v10354 : BitVec 32 := Scalar.extui v10353
  let v10355 : BitVec 32 := Scalar.subi v10352 v10354
  let c128_i32_4071 : BitVec 32 := 128#32
  let c0_i32_4074 : BitVec 32 := 0#32
  let v10356 : BitVec 1 := Scalar.cmpi .sgt c128_i32_4071 c0_i32_4074
  let v10357 : BitVec 32 := Scalar.extui v10356
  let c0_i32_4075 : BitVec 32 := 0#32
  let v10358 : BitVec 1 := Scalar.cmpi .slt c128_i32_4071 c0_i32_4075
  let v10359 : BitVec 32 := Scalar.extui v10358
  let v10360 : BitVec 32 := Scalar.subi v10357 v10359
  let v10361 : BitVec 1 := Scalar.cmpi .ne v10355 v10360
  let v10362 : BitVec 32 := Scalar.remsi v10347 c128_i32_4071
  let c0_i32_4076 : BitVec 32 := 0#32
  let v10363 : BitVec 1 := Scalar.cmpi .ne v10362 c0_i32_4076
  let v10364 : BitVec 1 := Scalar.andi v10361 v10363
  let v10350 : BitVec 32 := Scalar.divsi v10347 c128_i32_4071
  let c1_i32_4077 : BitVec 32 := 1#32
  let v10365 : BitVec 32 := Scalar.subi v10350 c1_i32_4077
  let v10366 : BitVec 32 := Scalar.select v10364 v10365 v10350
  let c128_i32_4078 : BitVec 32 := 128#32
  let v10367 : BitVec 32 := Scalar.muli v10366 c128_i32_4078
  v10367

def k1_off568 (v10345 : BitVec 32) (v10347 : BitVec 32) : Fin 3 → Nat :=
  let v10370 : Index := Scalar.indexCast v10345
  let c0_4079 : Index := 0#32
  let c0_i32_4072 : BitVec 32 := 0#32
  let v10351 : BitVec 1 := Scalar.cmpi .sgt v10347 c0_i32_4072
  let v10352 : BitVec 32 := Scalar.extui v10351
  let c0_i32_4073 : BitVec 32 := 0#32
  let v10353 : BitVec 1 := Scalar.cmpi .slt v10347 c0_i32_4073
  let v10354 : BitVec 32 := Scalar.extui v10353
  let v10355 : BitVec 32 := Scalar.subi v10352 v10354
  let c128_i32_4071 : BitVec 32 := 128#32
  let c0_i32_4074 : BitVec 32 := 0#32
  let v10356 : BitVec 1 := Scalar.cmpi .sgt c128_i32_4071 c0_i32_4074
  let v10357 : BitVec 32 := Scalar.extui v10356
  let c0_i32_4075 : BitVec 32 := 0#32
  let v10358 : BitVec 1 := Scalar.cmpi .slt c128_i32_4071 c0_i32_4075
  let v10359 : BitVec 32 := Scalar.extui v10358
  let v10360 : BitVec 32 := Scalar.subi v10357 v10359
  let v10361 : BitVec 1 := Scalar.cmpi .ne v10355 v10360
  let v10362 : BitVec 32 := Scalar.remsi v10347 c128_i32_4071
  let c0_i32_4076 : BitVec 32 := 0#32
  let v10363 : BitVec 1 := Scalar.cmpi .ne v10362 c0_i32_4076
  let v10364 : BitVec 1 := Scalar.andi v10361 v10363
  let v10350 : BitVec 32 := Scalar.divsi v10347 c128_i32_4071
  let c1_i32_4077 : BitVec 32 := 1#32
  let v10365 : BitVec 32 := Scalar.subi v10350 c1_i32_4077
  let v10366 : BitVec 32 := Scalar.select v10364 v10365 v10350
  let c128_i32_4078 : BitVec 32 := 128#32
  let v10367 : BitVec 32 := Scalar.muli v10366 c128_i32_4078
  let v10368 : BitVec 32 := v10367
  let v10371 : Index := Scalar.indexCast v10368
  ![v10370.toNat, 0, v10371.toNat]

def k1_chk182 (v10345 : BitVec 32) (v10347 : BitVec 32) : Prop :=
  (128 ∣ (k1_mult182 v10347).toNat) ∧
  (∀ a, (k1_off568 v10345 v10347) a + S1x16x512.size a ≤ S384x16x1152.size a)
theorem k1_mult182_dvd : ∀ (v10345 : BitVec 32) (v10347 : BitVec 32) (k1_hw182 : k1_chk182 v10345 v10347), 128 ∣ (k1_mult182 v10347).toNat := fun v10345 v10347 k1_hw182 => k1_hw182.1
theorem k1_off568_inb : ∀ (v10345 : BitVec 32) (v10347 : BitVec 32) (k1_hw182 : k1_chk182 v10345 v10347), ∀ a, (k1_off568 v10345 v10347) a + S1x16x512.size a ≤ S384x16x1152.size a := fun v10345 v10347 k1_hw182 => k1_hw182.2

def k1_off569 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10381 : Index := Scalar.indexCast v10058
  let c5_4082 : Index := 5#32
  ![v10381.toNat, 5]
def k1_off570 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10397 : Index := Scalar.indexCast v10058
  let c6_4088 : Index := 6#32
  ![v10397.toNat, 6]
def k1_mult183 (v10400 : BitVec 32) : BitVec 32 :=
  let c0_i32_4092 : BitVec 32 := 0#32
  let v10404 : BitVec 1 := Scalar.cmpi .sgt v10400 c0_i32_4092
  let v10405 : BitVec 32 := Scalar.extui v10404
  let c0_i32_4093 : BitVec 32 := 0#32
  let v10406 : BitVec 1 := Scalar.cmpi .slt v10400 c0_i32_4093
  let v10407 : BitVec 32 := Scalar.extui v10406
  let v10408 : BitVec 32 := Scalar.subi v10405 v10407
  let c128_i32_4091 : BitVec 32 := 128#32
  let c0_i32_4094 : BitVec 32 := 0#32
  let v10409 : BitVec 1 := Scalar.cmpi .sgt c128_i32_4091 c0_i32_4094
  let v10410 : BitVec 32 := Scalar.extui v10409
  let c0_i32_4095 : BitVec 32 := 0#32
  let v10411 : BitVec 1 := Scalar.cmpi .slt c128_i32_4091 c0_i32_4095
  let v10412 : BitVec 32 := Scalar.extui v10411
  let v10413 : BitVec 32 := Scalar.subi v10410 v10412
  let v10414 : BitVec 1 := Scalar.cmpi .ne v10408 v10413
  let v10415 : BitVec 32 := Scalar.remsi v10400 c128_i32_4091
  let c0_i32_4096 : BitVec 32 := 0#32
  let v10416 : BitVec 1 := Scalar.cmpi .ne v10415 c0_i32_4096
  let v10417 : BitVec 1 := Scalar.andi v10414 v10416
  let v10403 : BitVec 32 := Scalar.divsi v10400 c128_i32_4091
  let c1_i32_4097 : BitVec 32 := 1#32
  let v10418 : BitVec 32 := Scalar.subi v10403 c1_i32_4097
  let v10419 : BitVec 32 := Scalar.select v10417 v10418 v10403
  let c128_i32_4098 : BitVec 32 := 128#32
  let v10420 : BitVec 32 := Scalar.muli v10419 c128_i32_4098
  v10420

def k1_off571 (v10398 : BitVec 32) (v10400 : BitVec 32) : Fin 3 → Nat :=
  let v10423 : Index := Scalar.indexCast v10398
  let c0_4099 : Index := 0#32
  let c0_i32_4092 : BitVec 32 := 0#32
  let v10404 : BitVec 1 := Scalar.cmpi .sgt v10400 c0_i32_4092
  let v10405 : BitVec 32 := Scalar.extui v10404
  let c0_i32_4093 : BitVec 32 := 0#32
  let v10406 : BitVec 1 := Scalar.cmpi .slt v10400 c0_i32_4093
  let v10407 : BitVec 32 := Scalar.extui v10406
  let v10408 : BitVec 32 := Scalar.subi v10405 v10407
  let c128_i32_4091 : BitVec 32 := 128#32
  let c0_i32_4094 : BitVec 32 := 0#32
  let v10409 : BitVec 1 := Scalar.cmpi .sgt c128_i32_4091 c0_i32_4094
  let v10410 : BitVec 32 := Scalar.extui v10409
  let c0_i32_4095 : BitVec 32 := 0#32
  let v10411 : BitVec 1 := Scalar.cmpi .slt c128_i32_4091 c0_i32_4095
  let v10412 : BitVec 32 := Scalar.extui v10411
  let v10413 : BitVec 32 := Scalar.subi v10410 v10412
  let v10414 : BitVec 1 := Scalar.cmpi .ne v10408 v10413
  let v10415 : BitVec 32 := Scalar.remsi v10400 c128_i32_4091
  let c0_i32_4096 : BitVec 32 := 0#32
  let v10416 : BitVec 1 := Scalar.cmpi .ne v10415 c0_i32_4096
  let v10417 : BitVec 1 := Scalar.andi v10414 v10416
  let v10403 : BitVec 32 := Scalar.divsi v10400 c128_i32_4091
  let c1_i32_4097 : BitVec 32 := 1#32
  let v10418 : BitVec 32 := Scalar.subi v10403 c1_i32_4097
  let v10419 : BitVec 32 := Scalar.select v10417 v10418 v10403
  let c128_i32_4098 : BitVec 32 := 128#32
  let v10420 : BitVec 32 := Scalar.muli v10419 c128_i32_4098
  let v10421 : BitVec 32 := v10420
  let v10424 : Index := Scalar.indexCast v10421
  ![v10423.toNat, 0, v10424.toNat]

def k1_chk183 (v10398 : BitVec 32) (v10400 : BitVec 32) : Prop :=
  (128 ∣ (k1_mult183 v10400).toNat) ∧
  (∀ a, (k1_off571 v10398 v10400) a + S1x16x512.size a ≤ S384x16x1152.size a)
theorem k1_mult183_dvd : ∀ (v10398 : BitVec 32) (v10400 : BitVec 32) (k1_hw183 : k1_chk183 v10398 v10400), 128 ∣ (k1_mult183 v10400).toNat := fun v10398 v10400 k1_hw183 => k1_hw183.1
theorem k1_off571_inb : ∀ (v10398 : BitVec 32) (v10400 : BitVec 32) (k1_hw183 : k1_chk183 v10398 v10400), ∀ a, (k1_off571 v10398 v10400) a + S1x16x512.size a ≤ S384x16x1152.size a := fun v10398 v10400 k1_hw183 => k1_hw183.2

def k1_off572 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10434 : Index := Scalar.indexCast v10058
  let c6_4102 : Index := 6#32
  ![v10434.toNat, 6]
def k1_off573 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10450 : Index := Scalar.indexCast v10058
  let c7_4108 : Index := 7#32
  ![v10450.toNat, 7]
def k1_mult184 (v10453 : BitVec 32) : BitVec 32 :=
  let c0_i32_4112 : BitVec 32 := 0#32
  let v10457 : BitVec 1 := Scalar.cmpi .sgt v10453 c0_i32_4112
  let v10458 : BitVec 32 := Scalar.extui v10457
  let c0_i32_4113 : BitVec 32 := 0#32
  let v10459 : BitVec 1 := Scalar.cmpi .slt v10453 c0_i32_4113
  let v10460 : BitVec 32 := Scalar.extui v10459
  let v10461 : BitVec 32 := Scalar.subi v10458 v10460
  let c128_i32_4111 : BitVec 32 := 128#32
  let c0_i32_4114 : BitVec 32 := 0#32
  let v10462 : BitVec 1 := Scalar.cmpi .sgt c128_i32_4111 c0_i32_4114
  let v10463 : BitVec 32 := Scalar.extui v10462
  let c0_i32_4115 : BitVec 32 := 0#32
  let v10464 : BitVec 1 := Scalar.cmpi .slt c128_i32_4111 c0_i32_4115
  let v10465 : BitVec 32 := Scalar.extui v10464
  let v10466 : BitVec 32 := Scalar.subi v10463 v10465
  let v10467 : BitVec 1 := Scalar.cmpi .ne v10461 v10466
  let v10468 : BitVec 32 := Scalar.remsi v10453 c128_i32_4111
  let c0_i32_4116 : BitVec 32 := 0#32
  let v10469 : BitVec 1 := Scalar.cmpi .ne v10468 c0_i32_4116
  let v10470 : BitVec 1 := Scalar.andi v10467 v10469
  let v10456 : BitVec 32 := Scalar.divsi v10453 c128_i32_4111
  let c1_i32_4117 : BitVec 32 := 1#32
  let v10471 : BitVec 32 := Scalar.subi v10456 c1_i32_4117
  let v10472 : BitVec 32 := Scalar.select v10470 v10471 v10456
  let c128_i32_4118 : BitVec 32 := 128#32
  let v10473 : BitVec 32 := Scalar.muli v10472 c128_i32_4118
  v10473

def k1_off574 (v10451 : BitVec 32) (v10453 : BitVec 32) : Fin 3 → Nat :=
  let v10476 : Index := Scalar.indexCast v10451
  let c0_4119 : Index := 0#32
  let c0_i32_4112 : BitVec 32 := 0#32
  let v10457 : BitVec 1 := Scalar.cmpi .sgt v10453 c0_i32_4112
  let v10458 : BitVec 32 := Scalar.extui v10457
  let c0_i32_4113 : BitVec 32 := 0#32
  let v10459 : BitVec 1 := Scalar.cmpi .slt v10453 c0_i32_4113
  let v10460 : BitVec 32 := Scalar.extui v10459
  let v10461 : BitVec 32 := Scalar.subi v10458 v10460
  let c128_i32_4111 : BitVec 32 := 128#32
  let c0_i32_4114 : BitVec 32 := 0#32
  let v10462 : BitVec 1 := Scalar.cmpi .sgt c128_i32_4111 c0_i32_4114
  let v10463 : BitVec 32 := Scalar.extui v10462
  let c0_i32_4115 : BitVec 32 := 0#32
  let v10464 : BitVec 1 := Scalar.cmpi .slt c128_i32_4111 c0_i32_4115
  let v10465 : BitVec 32 := Scalar.extui v10464
  let v10466 : BitVec 32 := Scalar.subi v10463 v10465
  let v10467 : BitVec 1 := Scalar.cmpi .ne v10461 v10466
  let v10468 : BitVec 32 := Scalar.remsi v10453 c128_i32_4111
  let c0_i32_4116 : BitVec 32 := 0#32
  let v10469 : BitVec 1 := Scalar.cmpi .ne v10468 c0_i32_4116
  let v10470 : BitVec 1 := Scalar.andi v10467 v10469
  let v10456 : BitVec 32 := Scalar.divsi v10453 c128_i32_4111
  let c1_i32_4117 : BitVec 32 := 1#32
  let v10471 : BitVec 32 := Scalar.subi v10456 c1_i32_4117
  let v10472 : BitVec 32 := Scalar.select v10470 v10471 v10456
  let c128_i32_4118 : BitVec 32 := 128#32
  let v10473 : BitVec 32 := Scalar.muli v10472 c128_i32_4118
  let v10474 : BitVec 32 := v10473
  let v10477 : Index := Scalar.indexCast v10474
  ![v10476.toNat, 0, v10477.toNat]

def k1_chk184 (v10451 : BitVec 32) (v10453 : BitVec 32) : Prop :=
  (128 ∣ (k1_mult184 v10453).toNat) ∧
  (∀ a, (k1_off574 v10451 v10453) a + S1x16x512.size a ≤ S384x16x1152.size a)
theorem k1_mult184_dvd : ∀ (v10451 : BitVec 32) (v10453 : BitVec 32) (k1_hw184 : k1_chk184 v10451 v10453), 128 ∣ (k1_mult184 v10453).toNat := fun v10451 v10453 k1_hw184 => k1_hw184.1
theorem k1_off574_inb : ∀ (v10451 : BitVec 32) (v10453 : BitVec 32) (k1_hw184 : k1_chk184 v10451 v10453), ∀ a, (k1_off574 v10451 v10453) a + S1x16x512.size a ≤ S384x16x1152.size a := fun v10451 v10453 k1_hw184 => k1_hw184.2

def k1_off575 (i : grid1.Coords) : Fin 2 → Nat :=
  let arg0 : BitVec 32 := BitVec.ofNat 32 (i 0).val
  let c48_i32_3957 : BitVec 32 := 48#32
  let v10057 : BitVec 32 := Scalar.muli arg0 c48_i32_3957
  let c22_i32 : BitVec 32 := 22#32
  let v10058 : BitVec 32 := Scalar.addi v10057 c22_i32
  let v10487 : Index := Scalar.indexCast v10058
  let c7_4122 : Index := 7#32
  ![v10487.toNat, 7]
def k1_off576 (i : grid1.Coords) : Fin 3 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10516 : Index := Scalar.indexCast v10515
  let c0_4138 : Index := 0#32
  let c720_4139 : Index := 720#32
  ![v10516.toNat, 0, 720]
def k1_off577 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10536 : Index := Scalar.indexCast v10515
  let c0_4148 : Index := 0#32
  ![v10536.toNat, 0]
def k1_mult185 (v10539 : BitVec 32) : BitVec 32 :=
  let c0_i32_4152 : BitVec 32 := 0#32
  let v10543 : BitVec 1 := Scalar.cmpi .sgt v10539 c0_i32_4152
  let v10544 : BitVec 32 := Scalar.extui v10543
  let c0_i32_4153 : BitVec 32 := 0#32
  let v10545 : BitVec 1 := Scalar.cmpi .slt v10539 c0_i32_4153
  let v10546 : BitVec 32 := Scalar.extui v10545
  let v10547 : BitVec 32 := Scalar.subi v10544 v10546
  let c128_i32_4151 : BitVec 32 := 128#32
  let c0_i32_4154 : BitVec 32 := 0#32
  let v10548 : BitVec 1 := Scalar.cmpi .sgt c128_i32_4151 c0_i32_4154
  let v10549 : BitVec 32 := Scalar.extui v10548
  let c0_i32_4155 : BitVec 32 := 0#32
  let v10550 : BitVec 1 := Scalar.cmpi .slt c128_i32_4151 c0_i32_4155
  let v10551 : BitVec 32 := Scalar.extui v10550
  let v10552 : BitVec 32 := Scalar.subi v10549 v10551
  let v10553 : BitVec 1 := Scalar.cmpi .ne v10547 v10552
  let v10554 : BitVec 32 := Scalar.remsi v10539 c128_i32_4151
  let c0_i32_4156 : BitVec 32 := 0#32
  let v10555 : BitVec 1 := Scalar.cmpi .ne v10554 c0_i32_4156
  let v10556 : BitVec 1 := Scalar.andi v10553 v10555
  let v10542 : BitVec 32 := Scalar.divsi v10539 c128_i32_4151
  let c1_i32_4157 : BitVec 32 := 1#32
  let v10557 : BitVec 32 := Scalar.subi v10542 c1_i32_4157
  let v10558 : BitVec 32 := Scalar.select v10556 v10557 v10542
  let c128_i32_4158 : BitVec 32 := 128#32
  let v10559 : BitVec 32 := Scalar.muli v10558 c128_i32_4158
  v10559

def k1_off578 (v10537 : BitVec 32) (v10539 : BitVec 32) : Fin 3 → Nat :=
  let v10562 : Index := Scalar.indexCast v10537
  let c0_4159 : Index := 0#32
  let c0_i32_4152 : BitVec 32 := 0#32
  let v10543 : BitVec 1 := Scalar.cmpi .sgt v10539 c0_i32_4152
  let v10544 : BitVec 32 := Scalar.extui v10543
  let c0_i32_4153 : BitVec 32 := 0#32
  let v10545 : BitVec 1 := Scalar.cmpi .slt v10539 c0_i32_4153
  let v10546 : BitVec 32 := Scalar.extui v10545
  let v10547 : BitVec 32 := Scalar.subi v10544 v10546
  let c128_i32_4151 : BitVec 32 := 128#32
  let c0_i32_4154 : BitVec 32 := 0#32
  let v10548 : BitVec 1 := Scalar.cmpi .sgt c128_i32_4151 c0_i32_4154
  let v10549 : BitVec 32 := Scalar.extui v10548
  let c0_i32_4155 : BitVec 32 := 0#32
  let v10550 : BitVec 1 := Scalar.cmpi .slt c128_i32_4151 c0_i32_4155
  let v10551 : BitVec 32 := Scalar.extui v10550
  let v10552 : BitVec 32 := Scalar.subi v10549 v10551
  let v10553 : BitVec 1 := Scalar.cmpi .ne v10547 v10552
  let v10554 : BitVec 32 := Scalar.remsi v10539 c128_i32_4151
  let c0_i32_4156 : BitVec 32 := 0#32
  let v10555 : BitVec 1 := Scalar.cmpi .ne v10554 c0_i32_4156
  let v10556 : BitVec 1 := Scalar.andi v10553 v10555
  let v10542 : BitVec 32 := Scalar.divsi v10539 c128_i32_4151
  let c1_i32_4157 : BitVec 32 := 1#32
  let v10557 : BitVec 32 := Scalar.subi v10542 c1_i32_4157
  let v10558 : BitVec 32 := Scalar.select v10556 v10557 v10542
  let c128_i32_4158 : BitVec 32 := 128#32
  let v10559 : BitVec 32 := Scalar.muli v10558 c128_i32_4158
  let v10560 : BitVec 32 := v10559
  let v10563 : Index := Scalar.indexCast v10560
  ![v10562.toNat, 0, v10563.toNat]

def k1_chk185 (v10537 : BitVec 32) (v10539 : BitVec 32) : Prop :=
  (128 ∣ (k1_mult185 v10539).toNat) ∧
  (∀ a, (k1_off578 v10537 v10539) a + S1x16x512.size a ≤ S384x16x1152.size a)
theorem k1_mult185_dvd : ∀ (v10537 : BitVec 32) (v10539 : BitVec 32) (k1_hw185 : k1_chk185 v10537 v10539), 128 ∣ (k1_mult185 v10539).toNat := fun v10537 v10539 k1_hw185 => k1_hw185.1
theorem k1_off578_inb : ∀ (v10537 : BitVec 32) (v10539 : BitVec 32) (k1_hw185 : k1_chk185 v10537 v10539), ∀ a, (k1_off578 v10537 v10539) a + S1x16x512.size a ≤ S384x16x1152.size a := fun v10537 v10539 k1_hw185 => k1_hw185.2

def k1_off579 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10573 : Index := Scalar.indexCast v10515
  let c0_4162 : Index := 0#32
  ![v10573.toNat, 0]
def k1_off580 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10589 : Index := Scalar.indexCast v10515
  let c1_4168 : Index := 1#32
  ![v10589.toNat, 1]
def k1_mult186 (v10592 : BitVec 32) : BitVec 32 :=
  let c0_i32_4172 : BitVec 32 := 0#32
  let v10596 : BitVec 1 := Scalar.cmpi .sgt v10592 c0_i32_4172
  let v10597 : BitVec 32 := Scalar.extui v10596
  let c0_i32_4173 : BitVec 32 := 0#32
  let v10598 : BitVec 1 := Scalar.cmpi .slt v10592 c0_i32_4173
  let v10599 : BitVec 32 := Scalar.extui v10598
  let v10600 : BitVec 32 := Scalar.subi v10597 v10599
  let c128_i32_4171 : BitVec 32 := 128#32
  let c0_i32_4174 : BitVec 32 := 0#32
  let v10601 : BitVec 1 := Scalar.cmpi .sgt c128_i32_4171 c0_i32_4174
  let v10602 : BitVec 32 := Scalar.extui v10601
  let c0_i32_4175 : BitVec 32 := 0#32
  let v10603 : BitVec 1 := Scalar.cmpi .slt c128_i32_4171 c0_i32_4175
  let v10604 : BitVec 32 := Scalar.extui v10603
  let v10605 : BitVec 32 := Scalar.subi v10602 v10604
  let v10606 : BitVec 1 := Scalar.cmpi .ne v10600 v10605
  let v10607 : BitVec 32 := Scalar.remsi v10592 c128_i32_4171
  let c0_i32_4176 : BitVec 32 := 0#32
  let v10608 : BitVec 1 := Scalar.cmpi .ne v10607 c0_i32_4176
  let v10609 : BitVec 1 := Scalar.andi v10606 v10608
  let v10595 : BitVec 32 := Scalar.divsi v10592 c128_i32_4171
  let c1_i32_4177 : BitVec 32 := 1#32
  let v10610 : BitVec 32 := Scalar.subi v10595 c1_i32_4177
  let v10611 : BitVec 32 := Scalar.select v10609 v10610 v10595
  let c128_i32_4178 : BitVec 32 := 128#32
  let v10612 : BitVec 32 := Scalar.muli v10611 c128_i32_4178
  v10612

def k1_off581 (v10590 : BitVec 32) (v10592 : BitVec 32) : Fin 3 → Nat :=
  let v10615 : Index := Scalar.indexCast v10590
  let c0_4179 : Index := 0#32
  let c0_i32_4172 : BitVec 32 := 0#32
  let v10596 : BitVec 1 := Scalar.cmpi .sgt v10592 c0_i32_4172
  let v10597 : BitVec 32 := Scalar.extui v10596
  let c0_i32_4173 : BitVec 32 := 0#32
  let v10598 : BitVec 1 := Scalar.cmpi .slt v10592 c0_i32_4173
  let v10599 : BitVec 32 := Scalar.extui v10598
  let v10600 : BitVec 32 := Scalar.subi v10597 v10599
  let c128_i32_4171 : BitVec 32 := 128#32
  let c0_i32_4174 : BitVec 32 := 0#32
  let v10601 : BitVec 1 := Scalar.cmpi .sgt c128_i32_4171 c0_i32_4174
  let v10602 : BitVec 32 := Scalar.extui v10601
  let c0_i32_4175 : BitVec 32 := 0#32
  let v10603 : BitVec 1 := Scalar.cmpi .slt c128_i32_4171 c0_i32_4175
  let v10604 : BitVec 32 := Scalar.extui v10603
  let v10605 : BitVec 32 := Scalar.subi v10602 v10604
  let v10606 : BitVec 1 := Scalar.cmpi .ne v10600 v10605
  let v10607 : BitVec 32 := Scalar.remsi v10592 c128_i32_4171
  let c0_i32_4176 : BitVec 32 := 0#32
  let v10608 : BitVec 1 := Scalar.cmpi .ne v10607 c0_i32_4176
  let v10609 : BitVec 1 := Scalar.andi v10606 v10608
  let v10595 : BitVec 32 := Scalar.divsi v10592 c128_i32_4171
  let c1_i32_4177 : BitVec 32 := 1#32
  let v10610 : BitVec 32 := Scalar.subi v10595 c1_i32_4177
  let v10611 : BitVec 32 := Scalar.select v10609 v10610 v10595
  let c128_i32_4178 : BitVec 32 := 128#32
  let v10612 : BitVec 32 := Scalar.muli v10611 c128_i32_4178
  let v10613 : BitVec 32 := v10612
  let v10616 : Index := Scalar.indexCast v10613
  ![v10615.toNat, 0, v10616.toNat]

def k1_chk186 (v10590 : BitVec 32) (v10592 : BitVec 32) : Prop :=
  (128 ∣ (k1_mult186 v10592).toNat) ∧
  (∀ a, (k1_off581 v10590 v10592) a + S1x16x512.size a ≤ S384x16x1152.size a)
theorem k1_mult186_dvd : ∀ (v10590 : BitVec 32) (v10592 : BitVec 32) (k1_hw186 : k1_chk186 v10590 v10592), 128 ∣ (k1_mult186 v10592).toNat := fun v10590 v10592 k1_hw186 => k1_hw186.1
theorem k1_off581_inb : ∀ (v10590 : BitVec 32) (v10592 : BitVec 32) (k1_hw186 : k1_chk186 v10590 v10592), ∀ a, (k1_off581 v10590 v10592) a + S1x16x512.size a ≤ S384x16x1152.size a := fun v10590 v10592 k1_hw186 => k1_hw186.2

def k1_off582 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10626 : Index := Scalar.indexCast v10515
  let c1_4182 : Index := 1#32
  ![v10626.toNat, 1]
def k1_off583 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10642 : Index := Scalar.indexCast v10515
  let c2_4188 : Index := 2#32
  ![v10642.toNat, 2]
def k1_mult187 (v10645 : BitVec 32) : BitVec 32 :=
  let c0_i32_4192 : BitVec 32 := 0#32
  let v10649 : BitVec 1 := Scalar.cmpi .sgt v10645 c0_i32_4192
  let v10650 : BitVec 32 := Scalar.extui v10649
  let c0_i32_4193 : BitVec 32 := 0#32
  let v10651 : BitVec 1 := Scalar.cmpi .slt v10645 c0_i32_4193
  let v10652 : BitVec 32 := Scalar.extui v10651
  let v10653 : BitVec 32 := Scalar.subi v10650 v10652
  let c128_i32_4191 : BitVec 32 := 128#32
  let c0_i32_4194 : BitVec 32 := 0#32
  let v10654 : BitVec 1 := Scalar.cmpi .sgt c128_i32_4191 c0_i32_4194
  let v10655 : BitVec 32 := Scalar.extui v10654
  let c0_i32_4195 : BitVec 32 := 0#32
  let v10656 : BitVec 1 := Scalar.cmpi .slt c128_i32_4191 c0_i32_4195
  let v10657 : BitVec 32 := Scalar.extui v10656
  let v10658 : BitVec 32 := Scalar.subi v10655 v10657
  let v10659 : BitVec 1 := Scalar.cmpi .ne v10653 v10658
  let v10660 : BitVec 32 := Scalar.remsi v10645 c128_i32_4191
  let c0_i32_4196 : BitVec 32 := 0#32
  let v10661 : BitVec 1 := Scalar.cmpi .ne v10660 c0_i32_4196
  let v10662 : BitVec 1 := Scalar.andi v10659 v10661
  let v10648 : BitVec 32 := Scalar.divsi v10645 c128_i32_4191
  let c1_i32_4197 : BitVec 32 := 1#32
  let v10663 : BitVec 32 := Scalar.subi v10648 c1_i32_4197
  let v10664 : BitVec 32 := Scalar.select v10662 v10663 v10648
  let c128_i32_4198 : BitVec 32 := 128#32
  let v10665 : BitVec 32 := Scalar.muli v10664 c128_i32_4198
  v10665

def k1_off584 (v10643 : BitVec 32) (v10645 : BitVec 32) : Fin 3 → Nat :=
  let v10668 : Index := Scalar.indexCast v10643
  let c0_4199 : Index := 0#32
  let c0_i32_4192 : BitVec 32 := 0#32
  let v10649 : BitVec 1 := Scalar.cmpi .sgt v10645 c0_i32_4192
  let v10650 : BitVec 32 := Scalar.extui v10649
  let c0_i32_4193 : BitVec 32 := 0#32
  let v10651 : BitVec 1 := Scalar.cmpi .slt v10645 c0_i32_4193
  let v10652 : BitVec 32 := Scalar.extui v10651
  let v10653 : BitVec 32 := Scalar.subi v10650 v10652
  let c128_i32_4191 : BitVec 32 := 128#32
  let c0_i32_4194 : BitVec 32 := 0#32
  let v10654 : BitVec 1 := Scalar.cmpi .sgt c128_i32_4191 c0_i32_4194
  let v10655 : BitVec 32 := Scalar.extui v10654
  let c0_i32_4195 : BitVec 32 := 0#32
  let v10656 : BitVec 1 := Scalar.cmpi .slt c128_i32_4191 c0_i32_4195
  let v10657 : BitVec 32 := Scalar.extui v10656
  let v10658 : BitVec 32 := Scalar.subi v10655 v10657
  let v10659 : BitVec 1 := Scalar.cmpi .ne v10653 v10658
  let v10660 : BitVec 32 := Scalar.remsi v10645 c128_i32_4191
  let c0_i32_4196 : BitVec 32 := 0#32
  let v10661 : BitVec 1 := Scalar.cmpi .ne v10660 c0_i32_4196
  let v10662 : BitVec 1 := Scalar.andi v10659 v10661
  let v10648 : BitVec 32 := Scalar.divsi v10645 c128_i32_4191
  let c1_i32_4197 : BitVec 32 := 1#32
  let v10663 : BitVec 32 := Scalar.subi v10648 c1_i32_4197
  let v10664 : BitVec 32 := Scalar.select v10662 v10663 v10648
  let c128_i32_4198 : BitVec 32 := 128#32
  let v10665 : BitVec 32 := Scalar.muli v10664 c128_i32_4198
  let v10666 : BitVec 32 := v10665
  let v10669 : Index := Scalar.indexCast v10666
  ![v10668.toNat, 0, v10669.toNat]

def k1_chk187 (v10643 : BitVec 32) (v10645 : BitVec 32) : Prop :=
  (128 ∣ (k1_mult187 v10645).toNat) ∧
  (∀ a, (k1_off584 v10643 v10645) a + S1x16x512.size a ≤ S384x16x1152.size a)
theorem k1_mult187_dvd : ∀ (v10643 : BitVec 32) (v10645 : BitVec 32) (k1_hw187 : k1_chk187 v10643 v10645), 128 ∣ (k1_mult187 v10645).toNat := fun v10643 v10645 k1_hw187 => k1_hw187.1
theorem k1_off584_inb : ∀ (v10643 : BitVec 32) (v10645 : BitVec 32) (k1_hw187 : k1_chk187 v10643 v10645), ∀ a, (k1_off584 v10643 v10645) a + S1x16x512.size a ≤ S384x16x1152.size a := fun v10643 v10645 k1_hw187 => k1_hw187.2

def k1_off585 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10679 : Index := Scalar.indexCast v10515
  let c2_4202 : Index := 2#32
  ![v10679.toNat, 2]
def k1_off586 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10695 : Index := Scalar.indexCast v10515
  let c3_4208 : Index := 3#32
  ![v10695.toNat, 3]
def k1_mult188 (v10698 : BitVec 32) : BitVec 32 :=
  let c0_i32_4212 : BitVec 32 := 0#32
  let v10702 : BitVec 1 := Scalar.cmpi .sgt v10698 c0_i32_4212
  let v10703 : BitVec 32 := Scalar.extui v10702
  let c0_i32_4213 : BitVec 32 := 0#32
  let v10704 : BitVec 1 := Scalar.cmpi .slt v10698 c0_i32_4213
  let v10705 : BitVec 32 := Scalar.extui v10704
  let v10706 : BitVec 32 := Scalar.subi v10703 v10705
  let c128_i32_4211 : BitVec 32 := 128#32
  let c0_i32_4214 : BitVec 32 := 0#32
  let v10707 : BitVec 1 := Scalar.cmpi .sgt c128_i32_4211 c0_i32_4214
  let v10708 : BitVec 32 := Scalar.extui v10707
  let c0_i32_4215 : BitVec 32 := 0#32
  let v10709 : BitVec 1 := Scalar.cmpi .slt c128_i32_4211 c0_i32_4215
  let v10710 : BitVec 32 := Scalar.extui v10709
  let v10711 : BitVec 32 := Scalar.subi v10708 v10710
  let v10712 : BitVec 1 := Scalar.cmpi .ne v10706 v10711
  let v10713 : BitVec 32 := Scalar.remsi v10698 c128_i32_4211
  let c0_i32_4216 : BitVec 32 := 0#32
  let v10714 : BitVec 1 := Scalar.cmpi .ne v10713 c0_i32_4216
  let v10715 : BitVec 1 := Scalar.andi v10712 v10714
  let v10701 : BitVec 32 := Scalar.divsi v10698 c128_i32_4211
  let c1_i32_4217 : BitVec 32 := 1#32
  let v10716 : BitVec 32 := Scalar.subi v10701 c1_i32_4217
  let v10717 : BitVec 32 := Scalar.select v10715 v10716 v10701
  let c128_i32_4218 : BitVec 32 := 128#32
  let v10718 : BitVec 32 := Scalar.muli v10717 c128_i32_4218
  v10718

def k1_off587 (v10696 : BitVec 32) (v10698 : BitVec 32) : Fin 3 → Nat :=
  let v10721 : Index := Scalar.indexCast v10696
  let c0_4219 : Index := 0#32
  let c0_i32_4212 : BitVec 32 := 0#32
  let v10702 : BitVec 1 := Scalar.cmpi .sgt v10698 c0_i32_4212
  let v10703 : BitVec 32 := Scalar.extui v10702
  let c0_i32_4213 : BitVec 32 := 0#32
  let v10704 : BitVec 1 := Scalar.cmpi .slt v10698 c0_i32_4213
  let v10705 : BitVec 32 := Scalar.extui v10704
  let v10706 : BitVec 32 := Scalar.subi v10703 v10705
  let c128_i32_4211 : BitVec 32 := 128#32
  let c0_i32_4214 : BitVec 32 := 0#32
  let v10707 : BitVec 1 := Scalar.cmpi .sgt c128_i32_4211 c0_i32_4214
  let v10708 : BitVec 32 := Scalar.extui v10707
  let c0_i32_4215 : BitVec 32 := 0#32
  let v10709 : BitVec 1 := Scalar.cmpi .slt c128_i32_4211 c0_i32_4215
  let v10710 : BitVec 32 := Scalar.extui v10709
  let v10711 : BitVec 32 := Scalar.subi v10708 v10710
  let v10712 : BitVec 1 := Scalar.cmpi .ne v10706 v10711
  let v10713 : BitVec 32 := Scalar.remsi v10698 c128_i32_4211
  let c0_i32_4216 : BitVec 32 := 0#32
  let v10714 : BitVec 1 := Scalar.cmpi .ne v10713 c0_i32_4216
  let v10715 : BitVec 1 := Scalar.andi v10712 v10714
  let v10701 : BitVec 32 := Scalar.divsi v10698 c128_i32_4211
  let c1_i32_4217 : BitVec 32 := 1#32
  let v10716 : BitVec 32 := Scalar.subi v10701 c1_i32_4217
  let v10717 : BitVec 32 := Scalar.select v10715 v10716 v10701
  let c128_i32_4218 : BitVec 32 := 128#32
  let v10718 : BitVec 32 := Scalar.muli v10717 c128_i32_4218
  let v10719 : BitVec 32 := v10718
  let v10722 : Index := Scalar.indexCast v10719
  ![v10721.toNat, 0, v10722.toNat]

def k1_chk188 (v10696 : BitVec 32) (v10698 : BitVec 32) : Prop :=
  (128 ∣ (k1_mult188 v10698).toNat) ∧
  (∀ a, (k1_off587 v10696 v10698) a + S1x16x512.size a ≤ S384x16x1152.size a)
theorem k1_mult188_dvd : ∀ (v10696 : BitVec 32) (v10698 : BitVec 32) (k1_hw188 : k1_chk188 v10696 v10698), 128 ∣ (k1_mult188 v10698).toNat := fun v10696 v10698 k1_hw188 => k1_hw188.1
theorem k1_off587_inb : ∀ (v10696 : BitVec 32) (v10698 : BitVec 32) (k1_hw188 : k1_chk188 v10696 v10698), ∀ a, (k1_off587 v10696 v10698) a + S1x16x512.size a ≤ S384x16x1152.size a := fun v10696 v10698 k1_hw188 => k1_hw188.2

def k1_off588 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10732 : Index := Scalar.indexCast v10515
  let c3_4222 : Index := 3#32
  ![v10732.toNat, 3]
def k1_off589 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10748 : Index := Scalar.indexCast v10515
  let c4_4228 : Index := 4#32
  ![v10748.toNat, 4]
def k1_mult189 (v10751 : BitVec 32) : BitVec 32 :=
  let c0_i32_4232 : BitVec 32 := 0#32
  let v10755 : BitVec 1 := Scalar.cmpi .sgt v10751 c0_i32_4232
  let v10756 : BitVec 32 := Scalar.extui v10755
  let c0_i32_4233 : BitVec 32 := 0#32
  let v10757 : BitVec 1 := Scalar.cmpi .slt v10751 c0_i32_4233
  let v10758 : BitVec 32 := Scalar.extui v10757
  let v10759 : BitVec 32 := Scalar.subi v10756 v10758
  let c128_i32_4231 : BitVec 32 := 128#32
  let c0_i32_4234 : BitVec 32 := 0#32
  let v10760 : BitVec 1 := Scalar.cmpi .sgt c128_i32_4231 c0_i32_4234
  let v10761 : BitVec 32 := Scalar.extui v10760
  let c0_i32_4235 : BitVec 32 := 0#32
  let v10762 : BitVec 1 := Scalar.cmpi .slt c128_i32_4231 c0_i32_4235
  let v10763 : BitVec 32 := Scalar.extui v10762
  let v10764 : BitVec 32 := Scalar.subi v10761 v10763
  let v10765 : BitVec 1 := Scalar.cmpi .ne v10759 v10764
  let v10766 : BitVec 32 := Scalar.remsi v10751 c128_i32_4231
  let c0_i32_4236 : BitVec 32 := 0#32
  let v10767 : BitVec 1 := Scalar.cmpi .ne v10766 c0_i32_4236
  let v10768 : BitVec 1 := Scalar.andi v10765 v10767
  let v10754 : BitVec 32 := Scalar.divsi v10751 c128_i32_4231
  let c1_i32_4237 : BitVec 32 := 1#32
  let v10769 : BitVec 32 := Scalar.subi v10754 c1_i32_4237
  let v10770 : BitVec 32 := Scalar.select v10768 v10769 v10754
  let c128_i32_4238 : BitVec 32 := 128#32
  let v10771 : BitVec 32 := Scalar.muli v10770 c128_i32_4238
  v10771

def k1_off590 (v10749 : BitVec 32) (v10751 : BitVec 32) : Fin 3 → Nat :=
  let v10774 : Index := Scalar.indexCast v10749
  let c0_4239 : Index := 0#32
  let c0_i32_4232 : BitVec 32 := 0#32
  let v10755 : BitVec 1 := Scalar.cmpi .sgt v10751 c0_i32_4232
  let v10756 : BitVec 32 := Scalar.extui v10755
  let c0_i32_4233 : BitVec 32 := 0#32
  let v10757 : BitVec 1 := Scalar.cmpi .slt v10751 c0_i32_4233
  let v10758 : BitVec 32 := Scalar.extui v10757
  let v10759 : BitVec 32 := Scalar.subi v10756 v10758
  let c128_i32_4231 : BitVec 32 := 128#32
  let c0_i32_4234 : BitVec 32 := 0#32
  let v10760 : BitVec 1 := Scalar.cmpi .sgt c128_i32_4231 c0_i32_4234
  let v10761 : BitVec 32 := Scalar.extui v10760
  let c0_i32_4235 : BitVec 32 := 0#32
  let v10762 : BitVec 1 := Scalar.cmpi .slt c128_i32_4231 c0_i32_4235
  let v10763 : BitVec 32 := Scalar.extui v10762
  let v10764 : BitVec 32 := Scalar.subi v10761 v10763
  let v10765 : BitVec 1 := Scalar.cmpi .ne v10759 v10764
  let v10766 : BitVec 32 := Scalar.remsi v10751 c128_i32_4231
  let c0_i32_4236 : BitVec 32 := 0#32
  let v10767 : BitVec 1 := Scalar.cmpi .ne v10766 c0_i32_4236
  let v10768 : BitVec 1 := Scalar.andi v10765 v10767
  let v10754 : BitVec 32 := Scalar.divsi v10751 c128_i32_4231
  let c1_i32_4237 : BitVec 32 := 1#32
  let v10769 : BitVec 32 := Scalar.subi v10754 c1_i32_4237
  let v10770 : BitVec 32 := Scalar.select v10768 v10769 v10754
  let c128_i32_4238 : BitVec 32 := 128#32
  let v10771 : BitVec 32 := Scalar.muli v10770 c128_i32_4238
  let v10772 : BitVec 32 := v10771
  let v10775 : Index := Scalar.indexCast v10772
  ![v10774.toNat, 0, v10775.toNat]

def k1_chk189 (v10749 : BitVec 32) (v10751 : BitVec 32) : Prop :=
  (128 ∣ (k1_mult189 v10751).toNat) ∧
  (∀ a, (k1_off590 v10749 v10751) a + S1x16x512.size a ≤ S384x16x1152.size a)
theorem k1_mult189_dvd : ∀ (v10749 : BitVec 32) (v10751 : BitVec 32) (k1_hw189 : k1_chk189 v10749 v10751), 128 ∣ (k1_mult189 v10751).toNat := fun v10749 v10751 k1_hw189 => k1_hw189.1
theorem k1_off590_inb : ∀ (v10749 : BitVec 32) (v10751 : BitVec 32) (k1_hw189 : k1_chk189 v10749 v10751), ∀ a, (k1_off590 v10749 v10751) a + S1x16x512.size a ≤ S384x16x1152.size a := fun v10749 v10751 k1_hw189 => k1_hw189.2

def k1_off591 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10785 : Index := Scalar.indexCast v10515
  let c4_4242 : Index := 4#32
  ![v10785.toNat, 4]
def k1_off592 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10801 : Index := Scalar.indexCast v10515
  let c5_4248 : Index := 5#32
  ![v10801.toNat, 5]
def k1_mult190 (v10804 : BitVec 32) : BitVec 32 :=
  let c0_i32_4252 : BitVec 32 := 0#32
  let v10808 : BitVec 1 := Scalar.cmpi .sgt v10804 c0_i32_4252
  let v10809 : BitVec 32 := Scalar.extui v10808
  let c0_i32_4253 : BitVec 32 := 0#32
  let v10810 : BitVec 1 := Scalar.cmpi .slt v10804 c0_i32_4253
  let v10811 : BitVec 32 := Scalar.extui v10810
  let v10812 : BitVec 32 := Scalar.subi v10809 v10811
  let c128_i32_4251 : BitVec 32 := 128#32
  let c0_i32_4254 : BitVec 32 := 0#32
  let v10813 : BitVec 1 := Scalar.cmpi .sgt c128_i32_4251 c0_i32_4254
  let v10814 : BitVec 32 := Scalar.extui v10813
  let c0_i32_4255 : BitVec 32 := 0#32
  let v10815 : BitVec 1 := Scalar.cmpi .slt c128_i32_4251 c0_i32_4255
  let v10816 : BitVec 32 := Scalar.extui v10815
  let v10817 : BitVec 32 := Scalar.subi v10814 v10816
  let v10818 : BitVec 1 := Scalar.cmpi .ne v10812 v10817
  let v10819 : BitVec 32 := Scalar.remsi v10804 c128_i32_4251
  let c0_i32_4256 : BitVec 32 := 0#32
  let v10820 : BitVec 1 := Scalar.cmpi .ne v10819 c0_i32_4256
  let v10821 : BitVec 1 := Scalar.andi v10818 v10820
  let v10807 : BitVec 32 := Scalar.divsi v10804 c128_i32_4251
  let c1_i32_4257 : BitVec 32 := 1#32
  let v10822 : BitVec 32 := Scalar.subi v10807 c1_i32_4257
  let v10823 : BitVec 32 := Scalar.select v10821 v10822 v10807
  let c128_i32_4258 : BitVec 32 := 128#32
  let v10824 : BitVec 32 := Scalar.muli v10823 c128_i32_4258
  v10824

def k1_off593 (v10802 : BitVec 32) (v10804 : BitVec 32) : Fin 3 → Nat :=
  let v10827 : Index := Scalar.indexCast v10802
  let c0_4259 : Index := 0#32
  let c0_i32_4252 : BitVec 32 := 0#32
  let v10808 : BitVec 1 := Scalar.cmpi .sgt v10804 c0_i32_4252
  let v10809 : BitVec 32 := Scalar.extui v10808
  let c0_i32_4253 : BitVec 32 := 0#32
  let v10810 : BitVec 1 := Scalar.cmpi .slt v10804 c0_i32_4253
  let v10811 : BitVec 32 := Scalar.extui v10810
  let v10812 : BitVec 32 := Scalar.subi v10809 v10811
  let c128_i32_4251 : BitVec 32 := 128#32
  let c0_i32_4254 : BitVec 32 := 0#32
  let v10813 : BitVec 1 := Scalar.cmpi .sgt c128_i32_4251 c0_i32_4254
  let v10814 : BitVec 32 := Scalar.extui v10813
  let c0_i32_4255 : BitVec 32 := 0#32
  let v10815 : BitVec 1 := Scalar.cmpi .slt c128_i32_4251 c0_i32_4255
  let v10816 : BitVec 32 := Scalar.extui v10815
  let v10817 : BitVec 32 := Scalar.subi v10814 v10816
  let v10818 : BitVec 1 := Scalar.cmpi .ne v10812 v10817
  let v10819 : BitVec 32 := Scalar.remsi v10804 c128_i32_4251
  let c0_i32_4256 : BitVec 32 := 0#32
  let v10820 : BitVec 1 := Scalar.cmpi .ne v10819 c0_i32_4256
  let v10821 : BitVec 1 := Scalar.andi v10818 v10820
  let v10807 : BitVec 32 := Scalar.divsi v10804 c128_i32_4251
  let c1_i32_4257 : BitVec 32 := 1#32
  let v10822 : BitVec 32 := Scalar.subi v10807 c1_i32_4257
  let v10823 : BitVec 32 := Scalar.select v10821 v10822 v10807
  let c128_i32_4258 : BitVec 32 := 128#32
  let v10824 : BitVec 32 := Scalar.muli v10823 c128_i32_4258
  let v10825 : BitVec 32 := v10824
  let v10828 : Index := Scalar.indexCast v10825
  ![v10827.toNat, 0, v10828.toNat]

def k1_chk190 (v10802 : BitVec 32) (v10804 : BitVec 32) : Prop :=
  (128 ∣ (k1_mult190 v10804).toNat) ∧
  (∀ a, (k1_off593 v10802 v10804) a + S1x16x512.size a ≤ S384x16x1152.size a)
theorem k1_mult190_dvd : ∀ (v10802 : BitVec 32) (v10804 : BitVec 32) (k1_hw190 : k1_chk190 v10802 v10804), 128 ∣ (k1_mult190 v10804).toNat := fun v10802 v10804 k1_hw190 => k1_hw190.1
theorem k1_off593_inb : ∀ (v10802 : BitVec 32) (v10804 : BitVec 32) (k1_hw190 : k1_chk190 v10802 v10804), ∀ a, (k1_off593 v10802 v10804) a + S1x16x512.size a ≤ S384x16x1152.size a := fun v10802 v10804 k1_hw190 => k1_hw190.2

def k1_off594 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10838 : Index := Scalar.indexCast v10515
  let c5_4262 : Index := 5#32
  ![v10838.toNat, 5]
def k1_off595 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10854 : Index := Scalar.indexCast v10515
  let c6_4268 : Index := 6#32
  ![v10854.toNat, 6]
def k1_mult191 (v10857 : BitVec 32) : BitVec 32 :=
  let c0_i32_4272 : BitVec 32 := 0#32
  let v10861 : BitVec 1 := Scalar.cmpi .sgt v10857 c0_i32_4272
  let v10862 : BitVec 32 := Scalar.extui v10861
  let c0_i32_4273 : BitVec 32 := 0#32
  let v10863 : BitVec 1 := Scalar.cmpi .slt v10857 c0_i32_4273
  let v10864 : BitVec 32 := Scalar.extui v10863
  let v10865 : BitVec 32 := Scalar.subi v10862 v10864
  let c128_i32_4271 : BitVec 32 := 128#32
  let c0_i32_4274 : BitVec 32 := 0#32
  let v10866 : BitVec 1 := Scalar.cmpi .sgt c128_i32_4271 c0_i32_4274
  let v10867 : BitVec 32 := Scalar.extui v10866
  let c0_i32_4275 : BitVec 32 := 0#32
  let v10868 : BitVec 1 := Scalar.cmpi .slt c128_i32_4271 c0_i32_4275
  let v10869 : BitVec 32 := Scalar.extui v10868
  let v10870 : BitVec 32 := Scalar.subi v10867 v10869
  let v10871 : BitVec 1 := Scalar.cmpi .ne v10865 v10870
  let v10872 : BitVec 32 := Scalar.remsi v10857 c128_i32_4271
  let c0_i32_4276 : BitVec 32 := 0#32
  let v10873 : BitVec 1 := Scalar.cmpi .ne v10872 c0_i32_4276
  let v10874 : BitVec 1 := Scalar.andi v10871 v10873
  let v10860 : BitVec 32 := Scalar.divsi v10857 c128_i32_4271
  let c1_i32_4277 : BitVec 32 := 1#32
  let v10875 : BitVec 32 := Scalar.subi v10860 c1_i32_4277
  let v10876 : BitVec 32 := Scalar.select v10874 v10875 v10860
  let c128_i32_4278 : BitVec 32 := 128#32
  let v10877 : BitVec 32 := Scalar.muli v10876 c128_i32_4278
  v10877

def k1_off596 (v10855 : BitVec 32) (v10857 : BitVec 32) : Fin 3 → Nat :=
  let v10880 : Index := Scalar.indexCast v10855
  let c0_4279 : Index := 0#32
  let c0_i32_4272 : BitVec 32 := 0#32
  let v10861 : BitVec 1 := Scalar.cmpi .sgt v10857 c0_i32_4272
  let v10862 : BitVec 32 := Scalar.extui v10861
  let c0_i32_4273 : BitVec 32 := 0#32
  let v10863 : BitVec 1 := Scalar.cmpi .slt v10857 c0_i32_4273
  let v10864 : BitVec 32 := Scalar.extui v10863
  let v10865 : BitVec 32 := Scalar.subi v10862 v10864
  let c128_i32_4271 : BitVec 32 := 128#32
  let c0_i32_4274 : BitVec 32 := 0#32
  let v10866 : BitVec 1 := Scalar.cmpi .sgt c128_i32_4271 c0_i32_4274
  let v10867 : BitVec 32 := Scalar.extui v10866
  let c0_i32_4275 : BitVec 32 := 0#32
  let v10868 : BitVec 1 := Scalar.cmpi .slt c128_i32_4271 c0_i32_4275
  let v10869 : BitVec 32 := Scalar.extui v10868
  let v10870 : BitVec 32 := Scalar.subi v10867 v10869
  let v10871 : BitVec 1 := Scalar.cmpi .ne v10865 v10870
  let v10872 : BitVec 32 := Scalar.remsi v10857 c128_i32_4271
  let c0_i32_4276 : BitVec 32 := 0#32
  let v10873 : BitVec 1 := Scalar.cmpi .ne v10872 c0_i32_4276
  let v10874 : BitVec 1 := Scalar.andi v10871 v10873
  let v10860 : BitVec 32 := Scalar.divsi v10857 c128_i32_4271
  let c1_i32_4277 : BitVec 32 := 1#32
  let v10875 : BitVec 32 := Scalar.subi v10860 c1_i32_4277
  let v10876 : BitVec 32 := Scalar.select v10874 v10875 v10860
  let c128_i32_4278 : BitVec 32 := 128#32
  let v10877 : BitVec 32 := Scalar.muli v10876 c128_i32_4278
  let v10878 : BitVec 32 := v10877
  let v10881 : Index := Scalar.indexCast v10878
  ![v10880.toNat, 0, v10881.toNat]

def k1_chk191 (v10855 : BitVec 32) (v10857 : BitVec 32) : Prop :=
  (128 ∣ (k1_mult191 v10857).toNat) ∧
  (∀ a, (k1_off596 v10855 v10857) a + S1x16x512.size a ≤ S384x16x1152.size a)
theorem k1_mult191_dvd : ∀ (v10855 : BitVec 32) (v10857 : BitVec 32) (k1_hw191 : k1_chk191 v10855 v10857), 128 ∣ (k1_mult191 v10857).toNat := fun v10855 v10857 k1_hw191 => k1_hw191.1
theorem k1_off596_inb : ∀ (v10855 : BitVec 32) (v10857 : BitVec 32) (k1_hw191 : k1_chk191 v10855 v10857), ∀ a, (k1_off596 v10855 v10857) a + S1x16x512.size a ≤ S384x16x1152.size a := fun v10855 v10857 k1_hw191 => k1_hw191.2

def k1_off597 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10891 : Index := Scalar.indexCast v10515
  let c6_4282 : Index := 6#32
  ![v10891.toNat, 6]
def k1_off598 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10907 : Index := Scalar.indexCast v10515
  let c7_4288 : Index := 7#32
  ![v10907.toNat, 7]
def k1_mult192 (v10910 : BitVec 32) : BitVec 32 :=
  let c0_i32_4292 : BitVec 32 := 0#32
  let v10914 : BitVec 1 := Scalar.cmpi .sgt v10910 c0_i32_4292
  let v10915 : BitVec 32 := Scalar.extui v10914
  let c0_i32_4293 : BitVec 32 := 0#32
  let v10916 : BitVec 1 := Scalar.cmpi .slt v10910 c0_i32_4293
  let v10917 : BitVec 32 := Scalar.extui v10916
  let v10918 : BitVec 32 := Scalar.subi v10915 v10917
  let c128_i32_4291 : BitVec 32 := 128#32
  let c0_i32_4294 : BitVec 32 := 0#32
  let v10919 : BitVec 1 := Scalar.cmpi .sgt c128_i32_4291 c0_i32_4294
  let v10920 : BitVec 32 := Scalar.extui v10919
  let c0_i32_4295 : BitVec 32 := 0#32
  let v10921 : BitVec 1 := Scalar.cmpi .slt c128_i32_4291 c0_i32_4295
  let v10922 : BitVec 32 := Scalar.extui v10921
  let v10923 : BitVec 32 := Scalar.subi v10920 v10922
  let v10924 : BitVec 1 := Scalar.cmpi .ne v10918 v10923
  let v10925 : BitVec 32 := Scalar.remsi v10910 c128_i32_4291
  let c0_i32_4296 : BitVec 32 := 0#32
  let v10926 : BitVec 1 := Scalar.cmpi .ne v10925 c0_i32_4296
  let v10927 : BitVec 1 := Scalar.andi v10924 v10926
  let v10913 : BitVec 32 := Scalar.divsi v10910 c128_i32_4291
  let c1_i32_4297 : BitVec 32 := 1#32
  let v10928 : BitVec 32 := Scalar.subi v10913 c1_i32_4297
  let v10929 : BitVec 32 := Scalar.select v10927 v10928 v10913
  let c128_i32_4298 : BitVec 32 := 128#32
  let v10930 : BitVec 32 := Scalar.muli v10929 c128_i32_4298
  v10930

def k1_off599 (v10908 : BitVec 32) (v10910 : BitVec 32) : Fin 3 → Nat :=
  let v10933 : Index := Scalar.indexCast v10908
  let c0_4299 : Index := 0#32
  let c0_i32_4292 : BitVec 32 := 0#32
  let v10914 : BitVec 1 := Scalar.cmpi .sgt v10910 c0_i32_4292
  let v10915 : BitVec 32 := Scalar.extui v10914
  let c0_i32_4293 : BitVec 32 := 0#32
  let v10916 : BitVec 1 := Scalar.cmpi .slt v10910 c0_i32_4293
  let v10917 : BitVec 32 := Scalar.extui v10916
  let v10918 : BitVec 32 := Scalar.subi v10915 v10917
  let c128_i32_4291 : BitVec 32 := 128#32
  let c0_i32_4294 : BitVec 32 := 0#32
  let v10919 : BitVec 1 := Scalar.cmpi .sgt c128_i32_4291 c0_i32_4294
  let v10920 : BitVec 32 := Scalar.extui v10919
  let c0_i32_4295 : BitVec 32 := 0#32
  let v10921 : BitVec 1 := Scalar.cmpi .slt c128_i32_4291 c0_i32_4295
  let v10922 : BitVec 32 := Scalar.extui v10921
  let v10923 : BitVec 32 := Scalar.subi v10920 v10922
  let v10924 : BitVec 1 := Scalar.cmpi .ne v10918 v10923
  let v10925 : BitVec 32 := Scalar.remsi v10910 c128_i32_4291
  let c0_i32_4296 : BitVec 32 := 0#32
  let v10926 : BitVec 1 := Scalar.cmpi .ne v10925 c0_i32_4296
  let v10927 : BitVec 1 := Scalar.andi v10924 v10926
  let v10913 : BitVec 32 := Scalar.divsi v10910 c128_i32_4291
  let c1_i32_4297 : BitVec 32 := 1#32
  let v10928 : BitVec 32 := Scalar.subi v10913 c1_i32_4297
  let v10929 : BitVec 32 := Scalar.select v10927 v10928 v10913
  let c128_i32_4298 : BitVec 32 := 128#32
  let v10930 : BitVec 32 := Scalar.muli v10929 c128_i32_4298
  let v10931 : BitVec 32 := v10930
  let v10934 : Index := Scalar.indexCast v10931
  ![v10933.toNat, 0, v10934.toNat]

def k1_chk192 (v10908 : BitVec 32) (v10910 : BitVec 32) : Prop :=
  (128 ∣ (k1_mult192 v10910).toNat) ∧
  (∀ a, (k1_off599 v10908 v10910) a + S1x16x512.size a ≤ S384x16x1152.size a)
theorem k1_mult192_dvd : ∀ (v10908 : BitVec 32) (v10910 : BitVec 32) (k1_hw192 : k1_chk192 v10908 v10910), 128 ∣ (k1_mult192 v10910).toNat := fun v10908 v10910 k1_hw192 => k1_hw192.1
theorem k1_off599_inb : ∀ (v10908 : BitVec 32) (v10910 : BitVec 32) (k1_hw192 : k1_chk192 v10908 v10910), ∀ a, (k1_off599 v10908 v10910) a + S1x16x512.size a ≤ S384x16x1152.size a := fun v10908 v10910 k1_hw192 => k1_hw192.2

def k1_off600 (i : grid1.Coords) : Fin 2 → Nat :=
  let arg0 : BitVec 32 := BitVec.ofNat 32 (i 0).val
  let c48_i32_4137 : BitVec 32 := 48#32
  let v10514 : BitVec 32 := Scalar.muli arg0 c48_i32_4137
  let c23_i32 : BitVec 32 := 23#32
  let v10515 : BitVec 32 := Scalar.addi v10514 c23_i32
  let v10944 : Index := Scalar.indexCast v10515
  let c7_4302 : Index := 7#32
  ![v10944.toNat, 7]
def k1_off601 (i : grid1.Coords) : Fin 3 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v10973 : Index := Scalar.indexCast v10972
  let c0_4318 : Index := 0#32
  let c720_4319 : Index := 720#32
  ![v10973.toNat, 0, 720]
def k1_off602 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v10993 : Index := Scalar.indexCast v10972
  let c0_4328 : Index := 0#32
  ![v10993.toNat, 0]
def k1_mult193 (v10996 : BitVec 32) : BitVec 32 :=
  let c0_i32_4332 : BitVec 32 := 0#32
  let v11000 : BitVec 1 := Scalar.cmpi .sgt v10996 c0_i32_4332
  let v11001 : BitVec 32 := Scalar.extui v11000
  let c0_i32_4333 : BitVec 32 := 0#32
  let v11002 : BitVec 1 := Scalar.cmpi .slt v10996 c0_i32_4333
  let v11003 : BitVec 32 := Scalar.extui v11002
  let v11004 : BitVec 32 := Scalar.subi v11001 v11003
  let c128_i32_4331 : BitVec 32 := 128#32
  let c0_i32_4334 : BitVec 32 := 0#32
  let v11005 : BitVec 1 := Scalar.cmpi .sgt c128_i32_4331 c0_i32_4334
  let v11006 : BitVec 32 := Scalar.extui v11005
  let c0_i32_4335 : BitVec 32 := 0#32
  let v11007 : BitVec 1 := Scalar.cmpi .slt c128_i32_4331 c0_i32_4335
  let v11008 : BitVec 32 := Scalar.extui v11007
  let v11009 : BitVec 32 := Scalar.subi v11006 v11008
  let v11010 : BitVec 1 := Scalar.cmpi .ne v11004 v11009
  let v11011 : BitVec 32 := Scalar.remsi v10996 c128_i32_4331
  let c0_i32_4336 : BitVec 32 := 0#32
  let v11012 : BitVec 1 := Scalar.cmpi .ne v11011 c0_i32_4336
  let v11013 : BitVec 1 := Scalar.andi v11010 v11012
  let v10999 : BitVec 32 := Scalar.divsi v10996 c128_i32_4331
  let c1_i32_4337 : BitVec 32 := 1#32
  let v11014 : BitVec 32 := Scalar.subi v10999 c1_i32_4337
  let v11015 : BitVec 32 := Scalar.select v11013 v11014 v10999
  let c128_i32_4338 : BitVec 32 := 128#32
  let v11016 : BitVec 32 := Scalar.muli v11015 c128_i32_4338
  v11016

def k1_off603 (v10994 : BitVec 32) (v10996 : BitVec 32) : Fin 3 → Nat :=
  let v11019 : Index := Scalar.indexCast v10994
  let c0_4339 : Index := 0#32
  let c0_i32_4332 : BitVec 32 := 0#32
  let v11000 : BitVec 1 := Scalar.cmpi .sgt v10996 c0_i32_4332
  let v11001 : BitVec 32 := Scalar.extui v11000
  let c0_i32_4333 : BitVec 32 := 0#32
  let v11002 : BitVec 1 := Scalar.cmpi .slt v10996 c0_i32_4333
  let v11003 : BitVec 32 := Scalar.extui v11002
  let v11004 : BitVec 32 := Scalar.subi v11001 v11003
  let c128_i32_4331 : BitVec 32 := 128#32
  let c0_i32_4334 : BitVec 32 := 0#32
  let v11005 : BitVec 1 := Scalar.cmpi .sgt c128_i32_4331 c0_i32_4334
  let v11006 : BitVec 32 := Scalar.extui v11005
  let c0_i32_4335 : BitVec 32 := 0#32
  let v11007 : BitVec 1 := Scalar.cmpi .slt c128_i32_4331 c0_i32_4335
  let v11008 : BitVec 32 := Scalar.extui v11007
  let v11009 : BitVec 32 := Scalar.subi v11006 v11008
  let v11010 : BitVec 1 := Scalar.cmpi .ne v11004 v11009
  let v11011 : BitVec 32 := Scalar.remsi v10996 c128_i32_4331
  let c0_i32_4336 : BitVec 32 := 0#32
  let v11012 : BitVec 1 := Scalar.cmpi .ne v11011 c0_i32_4336
  let v11013 : BitVec 1 := Scalar.andi v11010 v11012
  let v10999 : BitVec 32 := Scalar.divsi v10996 c128_i32_4331
  let c1_i32_4337 : BitVec 32 := 1#32
  let v11014 : BitVec 32 := Scalar.subi v10999 c1_i32_4337
  let v11015 : BitVec 32 := Scalar.select v11013 v11014 v10999
  let c128_i32_4338 : BitVec 32 := 128#32
  let v11016 : BitVec 32 := Scalar.muli v11015 c128_i32_4338
  let v11017 : BitVec 32 := v11016
  let v11020 : Index := Scalar.indexCast v11017
  ![v11019.toNat, 0, v11020.toNat]

def k1_chk193 (v10994 : BitVec 32) (v10996 : BitVec 32) : Prop :=
  (128 ∣ (k1_mult193 v10996).toNat) ∧
  (∀ a, (k1_off603 v10994 v10996) a + S1x16x512.size a ≤ S384x16x1152.size a)
theorem k1_mult193_dvd : ∀ (v10994 : BitVec 32) (v10996 : BitVec 32) (k1_hw193 : k1_chk193 v10994 v10996), 128 ∣ (k1_mult193 v10996).toNat := fun v10994 v10996 k1_hw193 => k1_hw193.1
theorem k1_off603_inb : ∀ (v10994 : BitVec 32) (v10996 : BitVec 32) (k1_hw193 : k1_chk193 v10994 v10996), ∀ a, (k1_off603 v10994 v10996) a + S1x16x512.size a ≤ S384x16x1152.size a := fun v10994 v10996 k1_hw193 => k1_hw193.2

def k1_off604 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11030 : Index := Scalar.indexCast v10972
  let c0_4342 : Index := 0#32
  ![v11030.toNat, 0]
def k1_off605 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11046 : Index := Scalar.indexCast v10972
  let c1_4348 : Index := 1#32
  ![v11046.toNat, 1]
def k1_mult194 (v11049 : BitVec 32) : BitVec 32 :=
  let c0_i32_4352 : BitVec 32 := 0#32
  let v11053 : BitVec 1 := Scalar.cmpi .sgt v11049 c0_i32_4352
  let v11054 : BitVec 32 := Scalar.extui v11053
  let c0_i32_4353 : BitVec 32 := 0#32
  let v11055 : BitVec 1 := Scalar.cmpi .slt v11049 c0_i32_4353
  let v11056 : BitVec 32 := Scalar.extui v11055
  let v11057 : BitVec 32 := Scalar.subi v11054 v11056
  let c128_i32_4351 : BitVec 32 := 128#32
  let c0_i32_4354 : BitVec 32 := 0#32
  let v11058 : BitVec 1 := Scalar.cmpi .sgt c128_i32_4351 c0_i32_4354
  let v11059 : BitVec 32 := Scalar.extui v11058
  let c0_i32_4355 : BitVec 32 := 0#32
  let v11060 : BitVec 1 := Scalar.cmpi .slt c128_i32_4351 c0_i32_4355
  let v11061 : BitVec 32 := Scalar.extui v11060
  let v11062 : BitVec 32 := Scalar.subi v11059 v11061
  let v11063 : BitVec 1 := Scalar.cmpi .ne v11057 v11062
  let v11064 : BitVec 32 := Scalar.remsi v11049 c128_i32_4351
  let c0_i32_4356 : BitVec 32 := 0#32
  let v11065 : BitVec 1 := Scalar.cmpi .ne v11064 c0_i32_4356
  let v11066 : BitVec 1 := Scalar.andi v11063 v11065
  let v11052 : BitVec 32 := Scalar.divsi v11049 c128_i32_4351
  let c1_i32_4357 : BitVec 32 := 1#32
  let v11067 : BitVec 32 := Scalar.subi v11052 c1_i32_4357
  let v11068 : BitVec 32 := Scalar.select v11066 v11067 v11052
  let c128_i32_4358 : BitVec 32 := 128#32
  let v11069 : BitVec 32 := Scalar.muli v11068 c128_i32_4358
  v11069

def k1_off606 (v11047 : BitVec 32) (v11049 : BitVec 32) : Fin 3 → Nat :=
  let v11072 : Index := Scalar.indexCast v11047
  let c0_4359 : Index := 0#32
  let c0_i32_4352 : BitVec 32 := 0#32
  let v11053 : BitVec 1 := Scalar.cmpi .sgt v11049 c0_i32_4352
  let v11054 : BitVec 32 := Scalar.extui v11053
  let c0_i32_4353 : BitVec 32 := 0#32
  let v11055 : BitVec 1 := Scalar.cmpi .slt v11049 c0_i32_4353
  let v11056 : BitVec 32 := Scalar.extui v11055
  let v11057 : BitVec 32 := Scalar.subi v11054 v11056
  let c128_i32_4351 : BitVec 32 := 128#32
  let c0_i32_4354 : BitVec 32 := 0#32
  let v11058 : BitVec 1 := Scalar.cmpi .sgt c128_i32_4351 c0_i32_4354
  let v11059 : BitVec 32 := Scalar.extui v11058
  let c0_i32_4355 : BitVec 32 := 0#32
  let v11060 : BitVec 1 := Scalar.cmpi .slt c128_i32_4351 c0_i32_4355
  let v11061 : BitVec 32 := Scalar.extui v11060
  let v11062 : BitVec 32 := Scalar.subi v11059 v11061
  let v11063 : BitVec 1 := Scalar.cmpi .ne v11057 v11062
  let v11064 : BitVec 32 := Scalar.remsi v11049 c128_i32_4351
  let c0_i32_4356 : BitVec 32 := 0#32
  let v11065 : BitVec 1 := Scalar.cmpi .ne v11064 c0_i32_4356
  let v11066 : BitVec 1 := Scalar.andi v11063 v11065
  let v11052 : BitVec 32 := Scalar.divsi v11049 c128_i32_4351
  let c1_i32_4357 : BitVec 32 := 1#32
  let v11067 : BitVec 32 := Scalar.subi v11052 c1_i32_4357
  let v11068 : BitVec 32 := Scalar.select v11066 v11067 v11052
  let c128_i32_4358 : BitVec 32 := 128#32
  let v11069 : BitVec 32 := Scalar.muli v11068 c128_i32_4358
  let v11070 : BitVec 32 := v11069
  let v11073 : Index := Scalar.indexCast v11070
  ![v11072.toNat, 0, v11073.toNat]

def k1_chk194 (v11047 : BitVec 32) (v11049 : BitVec 32) : Prop :=
  (128 ∣ (k1_mult194 v11049).toNat) ∧
  (∀ a, (k1_off606 v11047 v11049) a + S1x16x512.size a ≤ S384x16x1152.size a)
theorem k1_mult194_dvd : ∀ (v11047 : BitVec 32) (v11049 : BitVec 32) (k1_hw194 : k1_chk194 v11047 v11049), 128 ∣ (k1_mult194 v11049).toNat := fun v11047 v11049 k1_hw194 => k1_hw194.1
theorem k1_off606_inb : ∀ (v11047 : BitVec 32) (v11049 : BitVec 32) (k1_hw194 : k1_chk194 v11047 v11049), ∀ a, (k1_off606 v11047 v11049) a + S1x16x512.size a ≤ S384x16x1152.size a := fun v11047 v11049 k1_hw194 => k1_hw194.2

def k1_off607 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11083 : Index := Scalar.indexCast v10972
  let c1_4362 : Index := 1#32
  ![v11083.toNat, 1]
def k1_off608 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11099 : Index := Scalar.indexCast v10972
  let c2_4368 : Index := 2#32
  ![v11099.toNat, 2]
def k1_mult195 (v11102 : BitVec 32) : BitVec 32 :=
  let c0_i32_4372 : BitVec 32 := 0#32
  let v11106 : BitVec 1 := Scalar.cmpi .sgt v11102 c0_i32_4372
  let v11107 : BitVec 32 := Scalar.extui v11106
  let c0_i32_4373 : BitVec 32 := 0#32
  let v11108 : BitVec 1 := Scalar.cmpi .slt v11102 c0_i32_4373
  let v11109 : BitVec 32 := Scalar.extui v11108
  let v11110 : BitVec 32 := Scalar.subi v11107 v11109
  let c128_i32_4371 : BitVec 32 := 128#32
  let c0_i32_4374 : BitVec 32 := 0#32
  let v11111 : BitVec 1 := Scalar.cmpi .sgt c128_i32_4371 c0_i32_4374
  let v11112 : BitVec 32 := Scalar.extui v11111
  let c0_i32_4375 : BitVec 32 := 0#32
  let v11113 : BitVec 1 := Scalar.cmpi .slt c128_i32_4371 c0_i32_4375
  let v11114 : BitVec 32 := Scalar.extui v11113
  let v11115 : BitVec 32 := Scalar.subi v11112 v11114
  let v11116 : BitVec 1 := Scalar.cmpi .ne v11110 v11115
  let v11117 : BitVec 32 := Scalar.remsi v11102 c128_i32_4371
  let c0_i32_4376 : BitVec 32 := 0#32
  let v11118 : BitVec 1 := Scalar.cmpi .ne v11117 c0_i32_4376
  let v11119 : BitVec 1 := Scalar.andi v11116 v11118
  let v11105 : BitVec 32 := Scalar.divsi v11102 c128_i32_4371
  let c1_i32_4377 : BitVec 32 := 1#32
  let v11120 : BitVec 32 := Scalar.subi v11105 c1_i32_4377
  let v11121 : BitVec 32 := Scalar.select v11119 v11120 v11105
  let c128_i32_4378 : BitVec 32 := 128#32
  let v11122 : BitVec 32 := Scalar.muli v11121 c128_i32_4378
  v11122

def k1_off609 (v11100 : BitVec 32) (v11102 : BitVec 32) : Fin 3 → Nat :=
  let v11125 : Index := Scalar.indexCast v11100
  let c0_4379 : Index := 0#32
  let c0_i32_4372 : BitVec 32 := 0#32
  let v11106 : BitVec 1 := Scalar.cmpi .sgt v11102 c0_i32_4372
  let v11107 : BitVec 32 := Scalar.extui v11106
  let c0_i32_4373 : BitVec 32 := 0#32
  let v11108 : BitVec 1 := Scalar.cmpi .slt v11102 c0_i32_4373
  let v11109 : BitVec 32 := Scalar.extui v11108
  let v11110 : BitVec 32 := Scalar.subi v11107 v11109
  let c128_i32_4371 : BitVec 32 := 128#32
  let c0_i32_4374 : BitVec 32 := 0#32
  let v11111 : BitVec 1 := Scalar.cmpi .sgt c128_i32_4371 c0_i32_4374
  let v11112 : BitVec 32 := Scalar.extui v11111
  let c0_i32_4375 : BitVec 32 := 0#32
  let v11113 : BitVec 1 := Scalar.cmpi .slt c128_i32_4371 c0_i32_4375
  let v11114 : BitVec 32 := Scalar.extui v11113
  let v11115 : BitVec 32 := Scalar.subi v11112 v11114
  let v11116 : BitVec 1 := Scalar.cmpi .ne v11110 v11115
  let v11117 : BitVec 32 := Scalar.remsi v11102 c128_i32_4371
  let c0_i32_4376 : BitVec 32 := 0#32
  let v11118 : BitVec 1 := Scalar.cmpi .ne v11117 c0_i32_4376
  let v11119 : BitVec 1 := Scalar.andi v11116 v11118
  let v11105 : BitVec 32 := Scalar.divsi v11102 c128_i32_4371
  let c1_i32_4377 : BitVec 32 := 1#32
  let v11120 : BitVec 32 := Scalar.subi v11105 c1_i32_4377
  let v11121 : BitVec 32 := Scalar.select v11119 v11120 v11105
  let c128_i32_4378 : BitVec 32 := 128#32
  let v11122 : BitVec 32 := Scalar.muli v11121 c128_i32_4378
  let v11123 : BitVec 32 := v11122
  let v11126 : Index := Scalar.indexCast v11123
  ![v11125.toNat, 0, v11126.toNat]

def k1_chk195 (v11100 : BitVec 32) (v11102 : BitVec 32) : Prop :=
  (128 ∣ (k1_mult195 v11102).toNat) ∧
  (∀ a, (k1_off609 v11100 v11102) a + S1x16x512.size a ≤ S384x16x1152.size a)
theorem k1_mult195_dvd : ∀ (v11100 : BitVec 32) (v11102 : BitVec 32) (k1_hw195 : k1_chk195 v11100 v11102), 128 ∣ (k1_mult195 v11102).toNat := fun v11100 v11102 k1_hw195 => k1_hw195.1
theorem k1_off609_inb : ∀ (v11100 : BitVec 32) (v11102 : BitVec 32) (k1_hw195 : k1_chk195 v11100 v11102), ∀ a, (k1_off609 v11100 v11102) a + S1x16x512.size a ≤ S384x16x1152.size a := fun v11100 v11102 k1_hw195 => k1_hw195.2

def k1_off610 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11136 : Index := Scalar.indexCast v10972
  let c2_4382 : Index := 2#32
  ![v11136.toNat, 2]
def k1_off611 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11152 : Index := Scalar.indexCast v10972
  let c3_4388 : Index := 3#32
  ![v11152.toNat, 3]
def k1_mult196 (v11155 : BitVec 32) : BitVec 32 :=
  let c0_i32_4392 : BitVec 32 := 0#32
  let v11159 : BitVec 1 := Scalar.cmpi .sgt v11155 c0_i32_4392
  let v11160 : BitVec 32 := Scalar.extui v11159
  let c0_i32_4393 : BitVec 32 := 0#32
  let v11161 : BitVec 1 := Scalar.cmpi .slt v11155 c0_i32_4393
  let v11162 : BitVec 32 := Scalar.extui v11161
  let v11163 : BitVec 32 := Scalar.subi v11160 v11162
  let c128_i32_4391 : BitVec 32 := 128#32
  let c0_i32_4394 : BitVec 32 := 0#32
  let v11164 : BitVec 1 := Scalar.cmpi .sgt c128_i32_4391 c0_i32_4394
  let v11165 : BitVec 32 := Scalar.extui v11164
  let c0_i32_4395 : BitVec 32 := 0#32
  let v11166 : BitVec 1 := Scalar.cmpi .slt c128_i32_4391 c0_i32_4395
  let v11167 : BitVec 32 := Scalar.extui v11166
  let v11168 : BitVec 32 := Scalar.subi v11165 v11167
  let v11169 : BitVec 1 := Scalar.cmpi .ne v11163 v11168
  let v11170 : BitVec 32 := Scalar.remsi v11155 c128_i32_4391
  let c0_i32_4396 : BitVec 32 := 0#32
  let v11171 : BitVec 1 := Scalar.cmpi .ne v11170 c0_i32_4396
  let v11172 : BitVec 1 := Scalar.andi v11169 v11171
  let v11158 : BitVec 32 := Scalar.divsi v11155 c128_i32_4391
  let c1_i32_4397 : BitVec 32 := 1#32
  let v11173 : BitVec 32 := Scalar.subi v11158 c1_i32_4397
  let v11174 : BitVec 32 := Scalar.select v11172 v11173 v11158
  let c128_i32_4398 : BitVec 32 := 128#32
  let v11175 : BitVec 32 := Scalar.muli v11174 c128_i32_4398
  v11175

def k1_off612 (v11153 : BitVec 32) (v11155 : BitVec 32) : Fin 3 → Nat :=
  let v11178 : Index := Scalar.indexCast v11153
  let c0_4399 : Index := 0#32
  let c0_i32_4392 : BitVec 32 := 0#32
  let v11159 : BitVec 1 := Scalar.cmpi .sgt v11155 c0_i32_4392
  let v11160 : BitVec 32 := Scalar.extui v11159
  let c0_i32_4393 : BitVec 32 := 0#32
  let v11161 : BitVec 1 := Scalar.cmpi .slt v11155 c0_i32_4393
  let v11162 : BitVec 32 := Scalar.extui v11161
  let v11163 : BitVec 32 := Scalar.subi v11160 v11162
  let c128_i32_4391 : BitVec 32 := 128#32
  let c0_i32_4394 : BitVec 32 := 0#32
  let v11164 : BitVec 1 := Scalar.cmpi .sgt c128_i32_4391 c0_i32_4394
  let v11165 : BitVec 32 := Scalar.extui v11164
  let c0_i32_4395 : BitVec 32 := 0#32
  let v11166 : BitVec 1 := Scalar.cmpi .slt c128_i32_4391 c0_i32_4395
  let v11167 : BitVec 32 := Scalar.extui v11166
  let v11168 : BitVec 32 := Scalar.subi v11165 v11167
  let v11169 : BitVec 1 := Scalar.cmpi .ne v11163 v11168
  let v11170 : BitVec 32 := Scalar.remsi v11155 c128_i32_4391
  let c0_i32_4396 : BitVec 32 := 0#32
  let v11171 : BitVec 1 := Scalar.cmpi .ne v11170 c0_i32_4396
  let v11172 : BitVec 1 := Scalar.andi v11169 v11171
  let v11158 : BitVec 32 := Scalar.divsi v11155 c128_i32_4391
  let c1_i32_4397 : BitVec 32 := 1#32
  let v11173 : BitVec 32 := Scalar.subi v11158 c1_i32_4397
  let v11174 : BitVec 32 := Scalar.select v11172 v11173 v11158
  let c128_i32_4398 : BitVec 32 := 128#32
  let v11175 : BitVec 32 := Scalar.muli v11174 c128_i32_4398
  let v11176 : BitVec 32 := v11175
  let v11179 : Index := Scalar.indexCast v11176
  ![v11178.toNat, 0, v11179.toNat]

def k1_chk196 (v11153 : BitVec 32) (v11155 : BitVec 32) : Prop :=
  (128 ∣ (k1_mult196 v11155).toNat) ∧
  (∀ a, (k1_off612 v11153 v11155) a + S1x16x512.size a ≤ S384x16x1152.size a)
theorem k1_mult196_dvd : ∀ (v11153 : BitVec 32) (v11155 : BitVec 32) (k1_hw196 : k1_chk196 v11153 v11155), 128 ∣ (k1_mult196 v11155).toNat := fun v11153 v11155 k1_hw196 => k1_hw196.1
theorem k1_off612_inb : ∀ (v11153 : BitVec 32) (v11155 : BitVec 32) (k1_hw196 : k1_chk196 v11153 v11155), ∀ a, (k1_off612 v11153 v11155) a + S1x16x512.size a ≤ S384x16x1152.size a := fun v11153 v11155 k1_hw196 => k1_hw196.2

def k1_off613 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11189 : Index := Scalar.indexCast v10972
  let c3_4402 : Index := 3#32
  ![v11189.toNat, 3]
def k1_off614 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11205 : Index := Scalar.indexCast v10972
  let c4_4408 : Index := 4#32
  ![v11205.toNat, 4]
def k1_mult197 (v11208 : BitVec 32) : BitVec 32 :=
  let c0_i32_4412 : BitVec 32 := 0#32
  let v11212 : BitVec 1 := Scalar.cmpi .sgt v11208 c0_i32_4412
  let v11213 : BitVec 32 := Scalar.extui v11212
  let c0_i32_4413 : BitVec 32 := 0#32
  let v11214 : BitVec 1 := Scalar.cmpi .slt v11208 c0_i32_4413
  let v11215 : BitVec 32 := Scalar.extui v11214
  let v11216 : BitVec 32 := Scalar.subi v11213 v11215
  let c128_i32_4411 : BitVec 32 := 128#32
  let c0_i32_4414 : BitVec 32 := 0#32
  let v11217 : BitVec 1 := Scalar.cmpi .sgt c128_i32_4411 c0_i32_4414
  let v11218 : BitVec 32 := Scalar.extui v11217
  let c0_i32_4415 : BitVec 32 := 0#32
  let v11219 : BitVec 1 := Scalar.cmpi .slt c128_i32_4411 c0_i32_4415
  let v11220 : BitVec 32 := Scalar.extui v11219
  let v11221 : BitVec 32 := Scalar.subi v11218 v11220
  let v11222 : BitVec 1 := Scalar.cmpi .ne v11216 v11221
  let v11223 : BitVec 32 := Scalar.remsi v11208 c128_i32_4411
  let c0_i32_4416 : BitVec 32 := 0#32
  let v11224 : BitVec 1 := Scalar.cmpi .ne v11223 c0_i32_4416
  let v11225 : BitVec 1 := Scalar.andi v11222 v11224
  let v11211 : BitVec 32 := Scalar.divsi v11208 c128_i32_4411
  let c1_i32_4417 : BitVec 32 := 1#32
  let v11226 : BitVec 32 := Scalar.subi v11211 c1_i32_4417
  let v11227 : BitVec 32 := Scalar.select v11225 v11226 v11211
  let c128_i32_4418 : BitVec 32 := 128#32
  let v11228 : BitVec 32 := Scalar.muli v11227 c128_i32_4418
  v11228

def k1_off615 (v11206 : BitVec 32) (v11208 : BitVec 32) : Fin 3 → Nat :=
  let v11231 : Index := Scalar.indexCast v11206
  let c0_4419 : Index := 0#32
  let c0_i32_4412 : BitVec 32 := 0#32
  let v11212 : BitVec 1 := Scalar.cmpi .sgt v11208 c0_i32_4412
  let v11213 : BitVec 32 := Scalar.extui v11212
  let c0_i32_4413 : BitVec 32 := 0#32
  let v11214 : BitVec 1 := Scalar.cmpi .slt v11208 c0_i32_4413
  let v11215 : BitVec 32 := Scalar.extui v11214
  let v11216 : BitVec 32 := Scalar.subi v11213 v11215
  let c128_i32_4411 : BitVec 32 := 128#32
  let c0_i32_4414 : BitVec 32 := 0#32
  let v11217 : BitVec 1 := Scalar.cmpi .sgt c128_i32_4411 c0_i32_4414
  let v11218 : BitVec 32 := Scalar.extui v11217
  let c0_i32_4415 : BitVec 32 := 0#32
  let v11219 : BitVec 1 := Scalar.cmpi .slt c128_i32_4411 c0_i32_4415
  let v11220 : BitVec 32 := Scalar.extui v11219
  let v11221 : BitVec 32 := Scalar.subi v11218 v11220
  let v11222 : BitVec 1 := Scalar.cmpi .ne v11216 v11221
  let v11223 : BitVec 32 := Scalar.remsi v11208 c128_i32_4411
  let c0_i32_4416 : BitVec 32 := 0#32
  let v11224 : BitVec 1 := Scalar.cmpi .ne v11223 c0_i32_4416
  let v11225 : BitVec 1 := Scalar.andi v11222 v11224
  let v11211 : BitVec 32 := Scalar.divsi v11208 c128_i32_4411
  let c1_i32_4417 : BitVec 32 := 1#32
  let v11226 : BitVec 32 := Scalar.subi v11211 c1_i32_4417
  let v11227 : BitVec 32 := Scalar.select v11225 v11226 v11211
  let c128_i32_4418 : BitVec 32 := 128#32
  let v11228 : BitVec 32 := Scalar.muli v11227 c128_i32_4418
  let v11229 : BitVec 32 := v11228
  let v11232 : Index := Scalar.indexCast v11229
  ![v11231.toNat, 0, v11232.toNat]

def k1_chk197 (v11206 : BitVec 32) (v11208 : BitVec 32) : Prop :=
  (128 ∣ (k1_mult197 v11208).toNat) ∧
  (∀ a, (k1_off615 v11206 v11208) a + S1x16x512.size a ≤ S384x16x1152.size a)
theorem k1_mult197_dvd : ∀ (v11206 : BitVec 32) (v11208 : BitVec 32) (k1_hw197 : k1_chk197 v11206 v11208), 128 ∣ (k1_mult197 v11208).toNat := fun v11206 v11208 k1_hw197 => k1_hw197.1
theorem k1_off615_inb : ∀ (v11206 : BitVec 32) (v11208 : BitVec 32) (k1_hw197 : k1_chk197 v11206 v11208), ∀ a, (k1_off615 v11206 v11208) a + S1x16x512.size a ≤ S384x16x1152.size a := fun v11206 v11208 k1_hw197 => k1_hw197.2

def k1_off616 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11242 : Index := Scalar.indexCast v10972
  let c4_4422 : Index := 4#32
  ![v11242.toNat, 4]
def k1_off617 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11258 : Index := Scalar.indexCast v10972
  let c5_4428 : Index := 5#32
  ![v11258.toNat, 5]
def k1_mult198 (v11261 : BitVec 32) : BitVec 32 :=
  let c0_i32_4432 : BitVec 32 := 0#32
  let v11265 : BitVec 1 := Scalar.cmpi .sgt v11261 c0_i32_4432
  let v11266 : BitVec 32 := Scalar.extui v11265
  let c0_i32_4433 : BitVec 32 := 0#32
  let v11267 : BitVec 1 := Scalar.cmpi .slt v11261 c0_i32_4433
  let v11268 : BitVec 32 := Scalar.extui v11267
  let v11269 : BitVec 32 := Scalar.subi v11266 v11268
  let c128_i32_4431 : BitVec 32 := 128#32
  let c0_i32_4434 : BitVec 32 := 0#32
  let v11270 : BitVec 1 := Scalar.cmpi .sgt c128_i32_4431 c0_i32_4434
  let v11271 : BitVec 32 := Scalar.extui v11270
  let c0_i32_4435 : BitVec 32 := 0#32
  let v11272 : BitVec 1 := Scalar.cmpi .slt c128_i32_4431 c0_i32_4435
  let v11273 : BitVec 32 := Scalar.extui v11272
  let v11274 : BitVec 32 := Scalar.subi v11271 v11273
  let v11275 : BitVec 1 := Scalar.cmpi .ne v11269 v11274
  let v11276 : BitVec 32 := Scalar.remsi v11261 c128_i32_4431
  let c0_i32_4436 : BitVec 32 := 0#32
  let v11277 : BitVec 1 := Scalar.cmpi .ne v11276 c0_i32_4436
  let v11278 : BitVec 1 := Scalar.andi v11275 v11277
  let v11264 : BitVec 32 := Scalar.divsi v11261 c128_i32_4431
  let c1_i32_4437 : BitVec 32 := 1#32
  let v11279 : BitVec 32 := Scalar.subi v11264 c1_i32_4437
  let v11280 : BitVec 32 := Scalar.select v11278 v11279 v11264
  let c128_i32_4438 : BitVec 32 := 128#32
  let v11281 : BitVec 32 := Scalar.muli v11280 c128_i32_4438
  v11281

def k1_off618 (v11259 : BitVec 32) (v11261 : BitVec 32) : Fin 3 → Nat :=
  let v11284 : Index := Scalar.indexCast v11259
  let c0_4439 : Index := 0#32
  let c0_i32_4432 : BitVec 32 := 0#32
  let v11265 : BitVec 1 := Scalar.cmpi .sgt v11261 c0_i32_4432
  let v11266 : BitVec 32 := Scalar.extui v11265
  let c0_i32_4433 : BitVec 32 := 0#32
  let v11267 : BitVec 1 := Scalar.cmpi .slt v11261 c0_i32_4433
  let v11268 : BitVec 32 := Scalar.extui v11267
  let v11269 : BitVec 32 := Scalar.subi v11266 v11268
  let c128_i32_4431 : BitVec 32 := 128#32
  let c0_i32_4434 : BitVec 32 := 0#32
  let v11270 : BitVec 1 := Scalar.cmpi .sgt c128_i32_4431 c0_i32_4434
  let v11271 : BitVec 32 := Scalar.extui v11270
  let c0_i32_4435 : BitVec 32 := 0#32
  let v11272 : BitVec 1 := Scalar.cmpi .slt c128_i32_4431 c0_i32_4435
  let v11273 : BitVec 32 := Scalar.extui v11272
  let v11274 : BitVec 32 := Scalar.subi v11271 v11273
  let v11275 : BitVec 1 := Scalar.cmpi .ne v11269 v11274
  let v11276 : BitVec 32 := Scalar.remsi v11261 c128_i32_4431
  let c0_i32_4436 : BitVec 32 := 0#32
  let v11277 : BitVec 1 := Scalar.cmpi .ne v11276 c0_i32_4436
  let v11278 : BitVec 1 := Scalar.andi v11275 v11277
  let v11264 : BitVec 32 := Scalar.divsi v11261 c128_i32_4431
  let c1_i32_4437 : BitVec 32 := 1#32
  let v11279 : BitVec 32 := Scalar.subi v11264 c1_i32_4437
  let v11280 : BitVec 32 := Scalar.select v11278 v11279 v11264
  let c128_i32_4438 : BitVec 32 := 128#32
  let v11281 : BitVec 32 := Scalar.muli v11280 c128_i32_4438
  let v11282 : BitVec 32 := v11281
  let v11285 : Index := Scalar.indexCast v11282
  ![v11284.toNat, 0, v11285.toNat]

def k1_chk198 (v11259 : BitVec 32) (v11261 : BitVec 32) : Prop :=
  (128 ∣ (k1_mult198 v11261).toNat) ∧
  (∀ a, (k1_off618 v11259 v11261) a + S1x16x512.size a ≤ S384x16x1152.size a)
theorem k1_mult198_dvd : ∀ (v11259 : BitVec 32) (v11261 : BitVec 32) (k1_hw198 : k1_chk198 v11259 v11261), 128 ∣ (k1_mult198 v11261).toNat := fun v11259 v11261 k1_hw198 => k1_hw198.1
theorem k1_off618_inb : ∀ (v11259 : BitVec 32) (v11261 : BitVec 32) (k1_hw198 : k1_chk198 v11259 v11261), ∀ a, (k1_off618 v11259 v11261) a + S1x16x512.size a ≤ S384x16x1152.size a := fun v11259 v11261 k1_hw198 => k1_hw198.2

def k1_off619 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11295 : Index := Scalar.indexCast v10972
  let c5_4442 : Index := 5#32
  ![v11295.toNat, 5]
def k1_off620 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11311 : Index := Scalar.indexCast v10972
  let c6_4448 : Index := 6#32
  ![v11311.toNat, 6]
def k1_mult199 (v11314 : BitVec 32) : BitVec 32 :=
  let c0_i32_4452 : BitVec 32 := 0#32
  let v11318 : BitVec 1 := Scalar.cmpi .sgt v11314 c0_i32_4452
  let v11319 : BitVec 32 := Scalar.extui v11318
  let c0_i32_4453 : BitVec 32 := 0#32
  let v11320 : BitVec 1 := Scalar.cmpi .slt v11314 c0_i32_4453
  let v11321 : BitVec 32 := Scalar.extui v11320
  let v11322 : BitVec 32 := Scalar.subi v11319 v11321
  let c128_i32_4451 : BitVec 32 := 128#32
  let c0_i32_4454 : BitVec 32 := 0#32
  let v11323 : BitVec 1 := Scalar.cmpi .sgt c128_i32_4451 c0_i32_4454
  let v11324 : BitVec 32 := Scalar.extui v11323
  let c0_i32_4455 : BitVec 32 := 0#32
  let v11325 : BitVec 1 := Scalar.cmpi .slt c128_i32_4451 c0_i32_4455
  let v11326 : BitVec 32 := Scalar.extui v11325
  let v11327 : BitVec 32 := Scalar.subi v11324 v11326
  let v11328 : BitVec 1 := Scalar.cmpi .ne v11322 v11327
  let v11329 : BitVec 32 := Scalar.remsi v11314 c128_i32_4451
  let c0_i32_4456 : BitVec 32 := 0#32
  let v11330 : BitVec 1 := Scalar.cmpi .ne v11329 c0_i32_4456
  let v11331 : BitVec 1 := Scalar.andi v11328 v11330
  let v11317 : BitVec 32 := Scalar.divsi v11314 c128_i32_4451
  let c1_i32_4457 : BitVec 32 := 1#32
  let v11332 : BitVec 32 := Scalar.subi v11317 c1_i32_4457
  let v11333 : BitVec 32 := Scalar.select v11331 v11332 v11317
  let c128_i32_4458 : BitVec 32 := 128#32
  let v11334 : BitVec 32 := Scalar.muli v11333 c128_i32_4458
  v11334

def k1_off621 (v11312 : BitVec 32) (v11314 : BitVec 32) : Fin 3 → Nat :=
  let v11337 : Index := Scalar.indexCast v11312
  let c0_4459 : Index := 0#32
  let c0_i32_4452 : BitVec 32 := 0#32
  let v11318 : BitVec 1 := Scalar.cmpi .sgt v11314 c0_i32_4452
  let v11319 : BitVec 32 := Scalar.extui v11318
  let c0_i32_4453 : BitVec 32 := 0#32
  let v11320 : BitVec 1 := Scalar.cmpi .slt v11314 c0_i32_4453
  let v11321 : BitVec 32 := Scalar.extui v11320
  let v11322 : BitVec 32 := Scalar.subi v11319 v11321
  let c128_i32_4451 : BitVec 32 := 128#32
  let c0_i32_4454 : BitVec 32 := 0#32
  let v11323 : BitVec 1 := Scalar.cmpi .sgt c128_i32_4451 c0_i32_4454
  let v11324 : BitVec 32 := Scalar.extui v11323
  let c0_i32_4455 : BitVec 32 := 0#32
  let v11325 : BitVec 1 := Scalar.cmpi .slt c128_i32_4451 c0_i32_4455
  let v11326 : BitVec 32 := Scalar.extui v11325
  let v11327 : BitVec 32 := Scalar.subi v11324 v11326
  let v11328 : BitVec 1 := Scalar.cmpi .ne v11322 v11327
  let v11329 : BitVec 32 := Scalar.remsi v11314 c128_i32_4451
  let c0_i32_4456 : BitVec 32 := 0#32
  let v11330 : BitVec 1 := Scalar.cmpi .ne v11329 c0_i32_4456
  let v11331 : BitVec 1 := Scalar.andi v11328 v11330
  let v11317 : BitVec 32 := Scalar.divsi v11314 c128_i32_4451
  let c1_i32_4457 : BitVec 32 := 1#32
  let v11332 : BitVec 32 := Scalar.subi v11317 c1_i32_4457
  let v11333 : BitVec 32 := Scalar.select v11331 v11332 v11317
  let c128_i32_4458 : BitVec 32 := 128#32
  let v11334 : BitVec 32 := Scalar.muli v11333 c128_i32_4458
  let v11335 : BitVec 32 := v11334
  let v11338 : Index := Scalar.indexCast v11335
  ![v11337.toNat, 0, v11338.toNat]

def k1_chk199 (v11312 : BitVec 32) (v11314 : BitVec 32) : Prop :=
  (128 ∣ (k1_mult199 v11314).toNat) ∧
  (∀ a, (k1_off621 v11312 v11314) a + S1x16x512.size a ≤ S384x16x1152.size a)
theorem k1_mult199_dvd : ∀ (v11312 : BitVec 32) (v11314 : BitVec 32) (k1_hw199 : k1_chk199 v11312 v11314), 128 ∣ (k1_mult199 v11314).toNat := fun v11312 v11314 k1_hw199 => k1_hw199.1
theorem k1_off621_inb : ∀ (v11312 : BitVec 32) (v11314 : BitVec 32) (k1_hw199 : k1_chk199 v11312 v11314), ∀ a, (k1_off621 v11312 v11314) a + S1x16x512.size a ≤ S384x16x1152.size a := fun v11312 v11314 k1_hw199 => k1_hw199.2

def k1_off622 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11348 : Index := Scalar.indexCast v10972
  let c6_4462 : Index := 6#32
  ![v11348.toNat, 6]
def k1_off623 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11364 : Index := Scalar.indexCast v10972
  let c7_4468 : Index := 7#32
  ![v11364.toNat, 7]
def k1_mult200 (v11367 : BitVec 32) : BitVec 32 :=
  let c0_i32_4472 : BitVec 32 := 0#32
  let v11371 : BitVec 1 := Scalar.cmpi .sgt v11367 c0_i32_4472
  let v11372 : BitVec 32 := Scalar.extui v11371
  let c0_i32_4473 : BitVec 32 := 0#32
  let v11373 : BitVec 1 := Scalar.cmpi .slt v11367 c0_i32_4473
  let v11374 : BitVec 32 := Scalar.extui v11373
  let v11375 : BitVec 32 := Scalar.subi v11372 v11374
  let c128_i32_4471 : BitVec 32 := 128#32
  let c0_i32_4474 : BitVec 32 := 0#32
  let v11376 : BitVec 1 := Scalar.cmpi .sgt c128_i32_4471 c0_i32_4474
  let v11377 : BitVec 32 := Scalar.extui v11376
  let c0_i32_4475 : BitVec 32 := 0#32
  let v11378 : BitVec 1 := Scalar.cmpi .slt c128_i32_4471 c0_i32_4475
  let v11379 : BitVec 32 := Scalar.extui v11378
  let v11380 : BitVec 32 := Scalar.subi v11377 v11379
  let v11381 : BitVec 1 := Scalar.cmpi .ne v11375 v11380
  let v11382 : BitVec 32 := Scalar.remsi v11367 c128_i32_4471
  let c0_i32_4476 : BitVec 32 := 0#32
  let v11383 : BitVec 1 := Scalar.cmpi .ne v11382 c0_i32_4476
  let v11384 : BitVec 1 := Scalar.andi v11381 v11383
  let v11370 : BitVec 32 := Scalar.divsi v11367 c128_i32_4471
  let c1_i32_4477 : BitVec 32 := 1#32
  let v11385 : BitVec 32 := Scalar.subi v11370 c1_i32_4477
  let v11386 : BitVec 32 := Scalar.select v11384 v11385 v11370
  let c128_i32_4478 : BitVec 32 := 128#32
  let v11387 : BitVec 32 := Scalar.muli v11386 c128_i32_4478
  v11387

def k1_off624 (v11365 : BitVec 32) (v11367 : BitVec 32) : Fin 3 → Nat :=
  let v11390 : Index := Scalar.indexCast v11365
  let c0_4479 : Index := 0#32
  let c0_i32_4472 : BitVec 32 := 0#32
  let v11371 : BitVec 1 := Scalar.cmpi .sgt v11367 c0_i32_4472
  let v11372 : BitVec 32 := Scalar.extui v11371
  let c0_i32_4473 : BitVec 32 := 0#32
  let v11373 : BitVec 1 := Scalar.cmpi .slt v11367 c0_i32_4473
  let v11374 : BitVec 32 := Scalar.extui v11373
  let v11375 : BitVec 32 := Scalar.subi v11372 v11374
  let c128_i32_4471 : BitVec 32 := 128#32
  let c0_i32_4474 : BitVec 32 := 0#32
  let v11376 : BitVec 1 := Scalar.cmpi .sgt c128_i32_4471 c0_i32_4474
  let v11377 : BitVec 32 := Scalar.extui v11376
  let c0_i32_4475 : BitVec 32 := 0#32
  let v11378 : BitVec 1 := Scalar.cmpi .slt c128_i32_4471 c0_i32_4475
  let v11379 : BitVec 32 := Scalar.extui v11378
  let v11380 : BitVec 32 := Scalar.subi v11377 v11379
  let v11381 : BitVec 1 := Scalar.cmpi .ne v11375 v11380
  let v11382 : BitVec 32 := Scalar.remsi v11367 c128_i32_4471
  let c0_i32_4476 : BitVec 32 := 0#32
  let v11383 : BitVec 1 := Scalar.cmpi .ne v11382 c0_i32_4476
  let v11384 : BitVec 1 := Scalar.andi v11381 v11383
  let v11370 : BitVec 32 := Scalar.divsi v11367 c128_i32_4471
  let c1_i32_4477 : BitVec 32 := 1#32
  let v11385 : BitVec 32 := Scalar.subi v11370 c1_i32_4477
  let v11386 : BitVec 32 := Scalar.select v11384 v11385 v11370
  let c128_i32_4478 : BitVec 32 := 128#32
  let v11387 : BitVec 32 := Scalar.muli v11386 c128_i32_4478
  let v11388 : BitVec 32 := v11387
  let v11391 : Index := Scalar.indexCast v11388
  ![v11390.toNat, 0, v11391.toNat]

def k1_chk200 (v11365 : BitVec 32) (v11367 : BitVec 32) : Prop :=
  (128 ∣ (k1_mult200 v11367).toNat) ∧
  (∀ a, (k1_off624 v11365 v11367) a + S1x16x512.size a ≤ S384x16x1152.size a)
theorem k1_mult200_dvd : ∀ (v11365 : BitVec 32) (v11367 : BitVec 32) (k1_hw200 : k1_chk200 v11365 v11367), 128 ∣ (k1_mult200 v11367).toNat := fun v11365 v11367 k1_hw200 => k1_hw200.1
theorem k1_off624_inb : ∀ (v11365 : BitVec 32) (v11367 : BitVec 32) (k1_hw200 : k1_chk200 v11365 v11367), ∀ a, (k1_off624 v11365 v11367) a + S1x16x512.size a ≤ S384x16x1152.size a := fun v11365 v11367 k1_hw200 => k1_hw200.2

def k1_off625 (i : grid1.Coords) : Fin 2 → Nat :=
  let arg0 : BitVec 32 := BitVec.ofNat 32 (i 0).val
  let c48_i32_4317 : BitVec 32 := 48#32
  let v10971 : BitVec 32 := Scalar.muli arg0 c48_i32_4317
  let c24_i32 : BitVec 32 := 24#32
  let v10972 : BitVec 32 := Scalar.addi v10971 c24_i32
  let v11401 : Index := Scalar.indexCast v10972
  let c7_4482 : Index := 7#32
  ![v11401.toNat, 7]
def k1_off626 (i : grid1.Coords) : Fin 3 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11430 : Index := Scalar.indexCast v11429
  let c0_4498 : Index := 0#32
  let c720_4499 : Index := 720#32
  ![v11430.toNat, 0, 720]
def k1_off627 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11450 : Index := Scalar.indexCast v11429
  let c0_4508 : Index := 0#32
  ![v11450.toNat, 0]
def k1_mult201 (v11453 : BitVec 32) : BitVec 32 :=
  let c0_i32_4512 : BitVec 32 := 0#32
  let v11457 : BitVec 1 := Scalar.cmpi .sgt v11453 c0_i32_4512
  let v11458 : BitVec 32 := Scalar.extui v11457
  let c0_i32_4513 : BitVec 32 := 0#32
  let v11459 : BitVec 1 := Scalar.cmpi .slt v11453 c0_i32_4513
  let v11460 : BitVec 32 := Scalar.extui v11459
  let v11461 : BitVec 32 := Scalar.subi v11458 v11460
  let c128_i32_4511 : BitVec 32 := 128#32
  let c0_i32_4514 : BitVec 32 := 0#32
  let v11462 : BitVec 1 := Scalar.cmpi .sgt c128_i32_4511 c0_i32_4514
  let v11463 : BitVec 32 := Scalar.extui v11462
  let c0_i32_4515 : BitVec 32 := 0#32
  let v11464 : BitVec 1 := Scalar.cmpi .slt c128_i32_4511 c0_i32_4515
  let v11465 : BitVec 32 := Scalar.extui v11464
  let v11466 : BitVec 32 := Scalar.subi v11463 v11465
  let v11467 : BitVec 1 := Scalar.cmpi .ne v11461 v11466
  let v11468 : BitVec 32 := Scalar.remsi v11453 c128_i32_4511
  let c0_i32_4516 : BitVec 32 := 0#32
  let v11469 : BitVec 1 := Scalar.cmpi .ne v11468 c0_i32_4516
  let v11470 : BitVec 1 := Scalar.andi v11467 v11469
  let v11456 : BitVec 32 := Scalar.divsi v11453 c128_i32_4511
  let c1_i32_4517 : BitVec 32 := 1#32
  let v11471 : BitVec 32 := Scalar.subi v11456 c1_i32_4517
  let v11472 : BitVec 32 := Scalar.select v11470 v11471 v11456
  let c128_i32_4518 : BitVec 32 := 128#32
  let v11473 : BitVec 32 := Scalar.muli v11472 c128_i32_4518
  v11473

def k1_off628 (v11451 : BitVec 32) (v11453 : BitVec 32) : Fin 3 → Nat :=
  let v11476 : Index := Scalar.indexCast v11451
  let c0_4519 : Index := 0#32
  let c0_i32_4512 : BitVec 32 := 0#32
  let v11457 : BitVec 1 := Scalar.cmpi .sgt v11453 c0_i32_4512
  let v11458 : BitVec 32 := Scalar.extui v11457
  let c0_i32_4513 : BitVec 32 := 0#32
  let v11459 : BitVec 1 := Scalar.cmpi .slt v11453 c0_i32_4513
  let v11460 : BitVec 32 := Scalar.extui v11459
  let v11461 : BitVec 32 := Scalar.subi v11458 v11460
  let c128_i32_4511 : BitVec 32 := 128#32
  let c0_i32_4514 : BitVec 32 := 0#32
  let v11462 : BitVec 1 := Scalar.cmpi .sgt c128_i32_4511 c0_i32_4514
  let v11463 : BitVec 32 := Scalar.extui v11462
  let c0_i32_4515 : BitVec 32 := 0#32
  let v11464 : BitVec 1 := Scalar.cmpi .slt c128_i32_4511 c0_i32_4515
  let v11465 : BitVec 32 := Scalar.extui v11464
  let v11466 : BitVec 32 := Scalar.subi v11463 v11465
  let v11467 : BitVec 1 := Scalar.cmpi .ne v11461 v11466
  let v11468 : BitVec 32 := Scalar.remsi v11453 c128_i32_4511
  let c0_i32_4516 : BitVec 32 := 0#32
  let v11469 : BitVec 1 := Scalar.cmpi .ne v11468 c0_i32_4516
  let v11470 : BitVec 1 := Scalar.andi v11467 v11469
  let v11456 : BitVec 32 := Scalar.divsi v11453 c128_i32_4511
  let c1_i32_4517 : BitVec 32 := 1#32
  let v11471 : BitVec 32 := Scalar.subi v11456 c1_i32_4517
  let v11472 : BitVec 32 := Scalar.select v11470 v11471 v11456
  let c128_i32_4518 : BitVec 32 := 128#32
  let v11473 : BitVec 32 := Scalar.muli v11472 c128_i32_4518
  let v11474 : BitVec 32 := v11473
  let v11477 : Index := Scalar.indexCast v11474
  ![v11476.toNat, 0, v11477.toNat]

def k1_chk201 (v11451 : BitVec 32) (v11453 : BitVec 32) : Prop :=
  (128 ∣ (k1_mult201 v11453).toNat) ∧
  (∀ a, (k1_off628 v11451 v11453) a + S1x16x512.size a ≤ S384x16x1152.size a)
theorem k1_mult201_dvd : ∀ (v11451 : BitVec 32) (v11453 : BitVec 32) (k1_hw201 : k1_chk201 v11451 v11453), 128 ∣ (k1_mult201 v11453).toNat := fun v11451 v11453 k1_hw201 => k1_hw201.1
theorem k1_off628_inb : ∀ (v11451 : BitVec 32) (v11453 : BitVec 32) (k1_hw201 : k1_chk201 v11451 v11453), ∀ a, (k1_off628 v11451 v11453) a + S1x16x512.size a ≤ S384x16x1152.size a := fun v11451 v11453 k1_hw201 => k1_hw201.2

def k1_off629 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11487 : Index := Scalar.indexCast v11429
  let c0_4522 : Index := 0#32
  ![v11487.toNat, 0]
def k1_off630 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11503 : Index := Scalar.indexCast v11429
  let c1_4528 : Index := 1#32
  ![v11503.toNat, 1]
def k1_mult202 (v11506 : BitVec 32) : BitVec 32 :=
  let c0_i32_4532 : BitVec 32 := 0#32
  let v11510 : BitVec 1 := Scalar.cmpi .sgt v11506 c0_i32_4532
  let v11511 : BitVec 32 := Scalar.extui v11510
  let c0_i32_4533 : BitVec 32 := 0#32
  let v11512 : BitVec 1 := Scalar.cmpi .slt v11506 c0_i32_4533
  let v11513 : BitVec 32 := Scalar.extui v11512
  let v11514 : BitVec 32 := Scalar.subi v11511 v11513
  let c128_i32_4531 : BitVec 32 := 128#32
  let c0_i32_4534 : BitVec 32 := 0#32
  let v11515 : BitVec 1 := Scalar.cmpi .sgt c128_i32_4531 c0_i32_4534
  let v11516 : BitVec 32 := Scalar.extui v11515
  let c0_i32_4535 : BitVec 32 := 0#32
  let v11517 : BitVec 1 := Scalar.cmpi .slt c128_i32_4531 c0_i32_4535
  let v11518 : BitVec 32 := Scalar.extui v11517
  let v11519 : BitVec 32 := Scalar.subi v11516 v11518
  let v11520 : BitVec 1 := Scalar.cmpi .ne v11514 v11519
  let v11521 : BitVec 32 := Scalar.remsi v11506 c128_i32_4531
  let c0_i32_4536 : BitVec 32 := 0#32
  let v11522 : BitVec 1 := Scalar.cmpi .ne v11521 c0_i32_4536
  let v11523 : BitVec 1 := Scalar.andi v11520 v11522
  let v11509 : BitVec 32 := Scalar.divsi v11506 c128_i32_4531
  let c1_i32_4537 : BitVec 32 := 1#32
  let v11524 : BitVec 32 := Scalar.subi v11509 c1_i32_4537
  let v11525 : BitVec 32 := Scalar.select v11523 v11524 v11509
  let c128_i32_4538 : BitVec 32 := 128#32
  let v11526 : BitVec 32 := Scalar.muli v11525 c128_i32_4538
  v11526

def k1_off631 (v11504 : BitVec 32) (v11506 : BitVec 32) : Fin 3 → Nat :=
  let v11529 : Index := Scalar.indexCast v11504
  let c0_4539 : Index := 0#32
  let c0_i32_4532 : BitVec 32 := 0#32
  let v11510 : BitVec 1 := Scalar.cmpi .sgt v11506 c0_i32_4532
  let v11511 : BitVec 32 := Scalar.extui v11510
  let c0_i32_4533 : BitVec 32 := 0#32
  let v11512 : BitVec 1 := Scalar.cmpi .slt v11506 c0_i32_4533
  let v11513 : BitVec 32 := Scalar.extui v11512
  let v11514 : BitVec 32 := Scalar.subi v11511 v11513
  let c128_i32_4531 : BitVec 32 := 128#32
  let c0_i32_4534 : BitVec 32 := 0#32
  let v11515 : BitVec 1 := Scalar.cmpi .sgt c128_i32_4531 c0_i32_4534
  let v11516 : BitVec 32 := Scalar.extui v11515
  let c0_i32_4535 : BitVec 32 := 0#32
  let v11517 : BitVec 1 := Scalar.cmpi .slt c128_i32_4531 c0_i32_4535
  let v11518 : BitVec 32 := Scalar.extui v11517
  let v11519 : BitVec 32 := Scalar.subi v11516 v11518
  let v11520 : BitVec 1 := Scalar.cmpi .ne v11514 v11519
  let v11521 : BitVec 32 := Scalar.remsi v11506 c128_i32_4531
  let c0_i32_4536 : BitVec 32 := 0#32
  let v11522 : BitVec 1 := Scalar.cmpi .ne v11521 c0_i32_4536
  let v11523 : BitVec 1 := Scalar.andi v11520 v11522
  let v11509 : BitVec 32 := Scalar.divsi v11506 c128_i32_4531
  let c1_i32_4537 : BitVec 32 := 1#32
  let v11524 : BitVec 32 := Scalar.subi v11509 c1_i32_4537
  let v11525 : BitVec 32 := Scalar.select v11523 v11524 v11509
  let c128_i32_4538 : BitVec 32 := 128#32
  let v11526 : BitVec 32 := Scalar.muli v11525 c128_i32_4538
  let v11527 : BitVec 32 := v11526
  let v11530 : Index := Scalar.indexCast v11527
  ![v11529.toNat, 0, v11530.toNat]

def k1_chk202 (v11504 : BitVec 32) (v11506 : BitVec 32) : Prop :=
  (128 ∣ (k1_mult202 v11506).toNat) ∧
  (∀ a, (k1_off631 v11504 v11506) a + S1x16x512.size a ≤ S384x16x1152.size a)
theorem k1_mult202_dvd : ∀ (v11504 : BitVec 32) (v11506 : BitVec 32) (k1_hw202 : k1_chk202 v11504 v11506), 128 ∣ (k1_mult202 v11506).toNat := fun v11504 v11506 k1_hw202 => k1_hw202.1
theorem k1_off631_inb : ∀ (v11504 : BitVec 32) (v11506 : BitVec 32) (k1_hw202 : k1_chk202 v11504 v11506), ∀ a, (k1_off631 v11504 v11506) a + S1x16x512.size a ≤ S384x16x1152.size a := fun v11504 v11506 k1_hw202 => k1_hw202.2

def k1_off632 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11540 : Index := Scalar.indexCast v11429
  let c1_4542 : Index := 1#32
  ![v11540.toNat, 1]
def k1_off633 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11556 : Index := Scalar.indexCast v11429
  let c2_4548 : Index := 2#32
  ![v11556.toNat, 2]
def k1_mult203 (v11559 : BitVec 32) : BitVec 32 :=
  let c0_i32_4552 : BitVec 32 := 0#32
  let v11563 : BitVec 1 := Scalar.cmpi .sgt v11559 c0_i32_4552
  let v11564 : BitVec 32 := Scalar.extui v11563
  let c0_i32_4553 : BitVec 32 := 0#32
  let v11565 : BitVec 1 := Scalar.cmpi .slt v11559 c0_i32_4553
  let v11566 : BitVec 32 := Scalar.extui v11565
  let v11567 : BitVec 32 := Scalar.subi v11564 v11566
  let c128_i32_4551 : BitVec 32 := 128#32
  let c0_i32_4554 : BitVec 32 := 0#32
  let v11568 : BitVec 1 := Scalar.cmpi .sgt c128_i32_4551 c0_i32_4554
  let v11569 : BitVec 32 := Scalar.extui v11568
  let c0_i32_4555 : BitVec 32 := 0#32
  let v11570 : BitVec 1 := Scalar.cmpi .slt c128_i32_4551 c0_i32_4555
  let v11571 : BitVec 32 := Scalar.extui v11570
  let v11572 : BitVec 32 := Scalar.subi v11569 v11571
  let v11573 : BitVec 1 := Scalar.cmpi .ne v11567 v11572
  let v11574 : BitVec 32 := Scalar.remsi v11559 c128_i32_4551
  let c0_i32_4556 : BitVec 32 := 0#32
  let v11575 : BitVec 1 := Scalar.cmpi .ne v11574 c0_i32_4556
  let v11576 : BitVec 1 := Scalar.andi v11573 v11575
  let v11562 : BitVec 32 := Scalar.divsi v11559 c128_i32_4551
  let c1_i32_4557 : BitVec 32 := 1#32
  let v11577 : BitVec 32 := Scalar.subi v11562 c1_i32_4557
  let v11578 : BitVec 32 := Scalar.select v11576 v11577 v11562
  let c128_i32_4558 : BitVec 32 := 128#32
  let v11579 : BitVec 32 := Scalar.muli v11578 c128_i32_4558
  v11579

def k1_off634 (v11557 : BitVec 32) (v11559 : BitVec 32) : Fin 3 → Nat :=
  let v11582 : Index := Scalar.indexCast v11557
  let c0_4559 : Index := 0#32
  let c0_i32_4552 : BitVec 32 := 0#32
  let v11563 : BitVec 1 := Scalar.cmpi .sgt v11559 c0_i32_4552
  let v11564 : BitVec 32 := Scalar.extui v11563
  let c0_i32_4553 : BitVec 32 := 0#32
  let v11565 : BitVec 1 := Scalar.cmpi .slt v11559 c0_i32_4553
  let v11566 : BitVec 32 := Scalar.extui v11565
  let v11567 : BitVec 32 := Scalar.subi v11564 v11566
  let c128_i32_4551 : BitVec 32 := 128#32
  let c0_i32_4554 : BitVec 32 := 0#32
  let v11568 : BitVec 1 := Scalar.cmpi .sgt c128_i32_4551 c0_i32_4554
  let v11569 : BitVec 32 := Scalar.extui v11568
  let c0_i32_4555 : BitVec 32 := 0#32
  let v11570 : BitVec 1 := Scalar.cmpi .slt c128_i32_4551 c0_i32_4555
  let v11571 : BitVec 32 := Scalar.extui v11570
  let v11572 : BitVec 32 := Scalar.subi v11569 v11571
  let v11573 : BitVec 1 := Scalar.cmpi .ne v11567 v11572
  let v11574 : BitVec 32 := Scalar.remsi v11559 c128_i32_4551
  let c0_i32_4556 : BitVec 32 := 0#32
  let v11575 : BitVec 1 := Scalar.cmpi .ne v11574 c0_i32_4556
  let v11576 : BitVec 1 := Scalar.andi v11573 v11575
  let v11562 : BitVec 32 := Scalar.divsi v11559 c128_i32_4551
  let c1_i32_4557 : BitVec 32 := 1#32
  let v11577 : BitVec 32 := Scalar.subi v11562 c1_i32_4557
  let v11578 : BitVec 32 := Scalar.select v11576 v11577 v11562
  let c128_i32_4558 : BitVec 32 := 128#32
  let v11579 : BitVec 32 := Scalar.muli v11578 c128_i32_4558
  let v11580 : BitVec 32 := v11579
  let v11583 : Index := Scalar.indexCast v11580
  ![v11582.toNat, 0, v11583.toNat]

def k1_chk203 (v11557 : BitVec 32) (v11559 : BitVec 32) : Prop :=
  (128 ∣ (k1_mult203 v11559).toNat) ∧
  (∀ a, (k1_off634 v11557 v11559) a + S1x16x512.size a ≤ S384x16x1152.size a)
theorem k1_mult203_dvd : ∀ (v11557 : BitVec 32) (v11559 : BitVec 32) (k1_hw203 : k1_chk203 v11557 v11559), 128 ∣ (k1_mult203 v11559).toNat := fun v11557 v11559 k1_hw203 => k1_hw203.1
theorem k1_off634_inb : ∀ (v11557 : BitVec 32) (v11559 : BitVec 32) (k1_hw203 : k1_chk203 v11557 v11559), ∀ a, (k1_off634 v11557 v11559) a + S1x16x512.size a ≤ S384x16x1152.size a := fun v11557 v11559 k1_hw203 => k1_hw203.2

def k1_off635 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11593 : Index := Scalar.indexCast v11429
  let c2_4562 : Index := 2#32
  ![v11593.toNat, 2]
def k1_off636 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11609 : Index := Scalar.indexCast v11429
  let c3_4568 : Index := 3#32
  ![v11609.toNat, 3]
def k1_mult204 (v11612 : BitVec 32) : BitVec 32 :=
  let c0_i32_4572 : BitVec 32 := 0#32
  let v11616 : BitVec 1 := Scalar.cmpi .sgt v11612 c0_i32_4572
  let v11617 : BitVec 32 := Scalar.extui v11616
  let c0_i32_4573 : BitVec 32 := 0#32
  let v11618 : BitVec 1 := Scalar.cmpi .slt v11612 c0_i32_4573
  let v11619 : BitVec 32 := Scalar.extui v11618
  let v11620 : BitVec 32 := Scalar.subi v11617 v11619
  let c128_i32_4571 : BitVec 32 := 128#32
  let c0_i32_4574 : BitVec 32 := 0#32
  let v11621 : BitVec 1 := Scalar.cmpi .sgt c128_i32_4571 c0_i32_4574
  let v11622 : BitVec 32 := Scalar.extui v11621
  let c0_i32_4575 : BitVec 32 := 0#32
  let v11623 : BitVec 1 := Scalar.cmpi .slt c128_i32_4571 c0_i32_4575
  let v11624 : BitVec 32 := Scalar.extui v11623
  let v11625 : BitVec 32 := Scalar.subi v11622 v11624
  let v11626 : BitVec 1 := Scalar.cmpi .ne v11620 v11625
  let v11627 : BitVec 32 := Scalar.remsi v11612 c128_i32_4571
  let c0_i32_4576 : BitVec 32 := 0#32
  let v11628 : BitVec 1 := Scalar.cmpi .ne v11627 c0_i32_4576
  let v11629 : BitVec 1 := Scalar.andi v11626 v11628
  let v11615 : BitVec 32 := Scalar.divsi v11612 c128_i32_4571
  let c1_i32_4577 : BitVec 32 := 1#32
  let v11630 : BitVec 32 := Scalar.subi v11615 c1_i32_4577
  let v11631 : BitVec 32 := Scalar.select v11629 v11630 v11615
  let c128_i32_4578 : BitVec 32 := 128#32
  let v11632 : BitVec 32 := Scalar.muli v11631 c128_i32_4578
  v11632

def k1_off637 (v11610 : BitVec 32) (v11612 : BitVec 32) : Fin 3 → Nat :=
  let v11635 : Index := Scalar.indexCast v11610
  let c0_4579 : Index := 0#32
  let c0_i32_4572 : BitVec 32 := 0#32
  let v11616 : BitVec 1 := Scalar.cmpi .sgt v11612 c0_i32_4572
  let v11617 : BitVec 32 := Scalar.extui v11616
  let c0_i32_4573 : BitVec 32 := 0#32
  let v11618 : BitVec 1 := Scalar.cmpi .slt v11612 c0_i32_4573
  let v11619 : BitVec 32 := Scalar.extui v11618
  let v11620 : BitVec 32 := Scalar.subi v11617 v11619
  let c128_i32_4571 : BitVec 32 := 128#32
  let c0_i32_4574 : BitVec 32 := 0#32
  let v11621 : BitVec 1 := Scalar.cmpi .sgt c128_i32_4571 c0_i32_4574
  let v11622 : BitVec 32 := Scalar.extui v11621
  let c0_i32_4575 : BitVec 32 := 0#32
  let v11623 : BitVec 1 := Scalar.cmpi .slt c128_i32_4571 c0_i32_4575
  let v11624 : BitVec 32 := Scalar.extui v11623
  let v11625 : BitVec 32 := Scalar.subi v11622 v11624
  let v11626 : BitVec 1 := Scalar.cmpi .ne v11620 v11625
  let v11627 : BitVec 32 := Scalar.remsi v11612 c128_i32_4571
  let c0_i32_4576 : BitVec 32 := 0#32
  let v11628 : BitVec 1 := Scalar.cmpi .ne v11627 c0_i32_4576
  let v11629 : BitVec 1 := Scalar.andi v11626 v11628
  let v11615 : BitVec 32 := Scalar.divsi v11612 c128_i32_4571
  let c1_i32_4577 : BitVec 32 := 1#32
  let v11630 : BitVec 32 := Scalar.subi v11615 c1_i32_4577
  let v11631 : BitVec 32 := Scalar.select v11629 v11630 v11615
  let c128_i32_4578 : BitVec 32 := 128#32
  let v11632 : BitVec 32 := Scalar.muli v11631 c128_i32_4578
  let v11633 : BitVec 32 := v11632
  let v11636 : Index := Scalar.indexCast v11633
  ![v11635.toNat, 0, v11636.toNat]

def k1_chk204 (v11610 : BitVec 32) (v11612 : BitVec 32) : Prop :=
  (128 ∣ (k1_mult204 v11612).toNat) ∧
  (∀ a, (k1_off637 v11610 v11612) a + S1x16x512.size a ≤ S384x16x1152.size a)
theorem k1_mult204_dvd : ∀ (v11610 : BitVec 32) (v11612 : BitVec 32) (k1_hw204 : k1_chk204 v11610 v11612), 128 ∣ (k1_mult204 v11612).toNat := fun v11610 v11612 k1_hw204 => k1_hw204.1
theorem k1_off637_inb : ∀ (v11610 : BitVec 32) (v11612 : BitVec 32) (k1_hw204 : k1_chk204 v11610 v11612), ∀ a, (k1_off637 v11610 v11612) a + S1x16x512.size a ≤ S384x16x1152.size a := fun v11610 v11612 k1_hw204 => k1_hw204.2

def k1_off638 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11646 : Index := Scalar.indexCast v11429
  let c3_4582 : Index := 3#32
  ![v11646.toNat, 3]
def k1_off639 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11662 : Index := Scalar.indexCast v11429
  let c4_4588 : Index := 4#32
  ![v11662.toNat, 4]
def k1_mult205 (v11665 : BitVec 32) : BitVec 32 :=
  let c0_i32_4592 : BitVec 32 := 0#32
  let v11669 : BitVec 1 := Scalar.cmpi .sgt v11665 c0_i32_4592
  let v11670 : BitVec 32 := Scalar.extui v11669
  let c0_i32_4593 : BitVec 32 := 0#32
  let v11671 : BitVec 1 := Scalar.cmpi .slt v11665 c0_i32_4593
  let v11672 : BitVec 32 := Scalar.extui v11671
  let v11673 : BitVec 32 := Scalar.subi v11670 v11672
  let c128_i32_4591 : BitVec 32 := 128#32
  let c0_i32_4594 : BitVec 32 := 0#32
  let v11674 : BitVec 1 := Scalar.cmpi .sgt c128_i32_4591 c0_i32_4594
  let v11675 : BitVec 32 := Scalar.extui v11674
  let c0_i32_4595 : BitVec 32 := 0#32
  let v11676 : BitVec 1 := Scalar.cmpi .slt c128_i32_4591 c0_i32_4595
  let v11677 : BitVec 32 := Scalar.extui v11676
  let v11678 : BitVec 32 := Scalar.subi v11675 v11677
  let v11679 : BitVec 1 := Scalar.cmpi .ne v11673 v11678
  let v11680 : BitVec 32 := Scalar.remsi v11665 c128_i32_4591
  let c0_i32_4596 : BitVec 32 := 0#32
  let v11681 : BitVec 1 := Scalar.cmpi .ne v11680 c0_i32_4596
  let v11682 : BitVec 1 := Scalar.andi v11679 v11681
  let v11668 : BitVec 32 := Scalar.divsi v11665 c128_i32_4591
  let c1_i32_4597 : BitVec 32 := 1#32
  let v11683 : BitVec 32 := Scalar.subi v11668 c1_i32_4597
  let v11684 : BitVec 32 := Scalar.select v11682 v11683 v11668
  let c128_i32_4598 : BitVec 32 := 128#32
  let v11685 : BitVec 32 := Scalar.muli v11684 c128_i32_4598
  v11685

def k1_off640 (v11663 : BitVec 32) (v11665 : BitVec 32) : Fin 3 → Nat :=
  let v11688 : Index := Scalar.indexCast v11663
  let c0_4599 : Index := 0#32
  let c0_i32_4592 : BitVec 32 := 0#32
  let v11669 : BitVec 1 := Scalar.cmpi .sgt v11665 c0_i32_4592
  let v11670 : BitVec 32 := Scalar.extui v11669
  let c0_i32_4593 : BitVec 32 := 0#32
  let v11671 : BitVec 1 := Scalar.cmpi .slt v11665 c0_i32_4593
  let v11672 : BitVec 32 := Scalar.extui v11671
  let v11673 : BitVec 32 := Scalar.subi v11670 v11672
  let c128_i32_4591 : BitVec 32 := 128#32
  let c0_i32_4594 : BitVec 32 := 0#32
  let v11674 : BitVec 1 := Scalar.cmpi .sgt c128_i32_4591 c0_i32_4594
  let v11675 : BitVec 32 := Scalar.extui v11674
  let c0_i32_4595 : BitVec 32 := 0#32
  let v11676 : BitVec 1 := Scalar.cmpi .slt c128_i32_4591 c0_i32_4595
  let v11677 : BitVec 32 := Scalar.extui v11676
  let v11678 : BitVec 32 := Scalar.subi v11675 v11677
  let v11679 : BitVec 1 := Scalar.cmpi .ne v11673 v11678
  let v11680 : BitVec 32 := Scalar.remsi v11665 c128_i32_4591
  let c0_i32_4596 : BitVec 32 := 0#32
  let v11681 : BitVec 1 := Scalar.cmpi .ne v11680 c0_i32_4596
  let v11682 : BitVec 1 := Scalar.andi v11679 v11681
  let v11668 : BitVec 32 := Scalar.divsi v11665 c128_i32_4591
  let c1_i32_4597 : BitVec 32 := 1#32
  let v11683 : BitVec 32 := Scalar.subi v11668 c1_i32_4597
  let v11684 : BitVec 32 := Scalar.select v11682 v11683 v11668
  let c128_i32_4598 : BitVec 32 := 128#32
  let v11685 : BitVec 32 := Scalar.muli v11684 c128_i32_4598
  let v11686 : BitVec 32 := v11685
  let v11689 : Index := Scalar.indexCast v11686
  ![v11688.toNat, 0, v11689.toNat]

def k1_chk205 (v11663 : BitVec 32) (v11665 : BitVec 32) : Prop :=
  (128 ∣ (k1_mult205 v11665).toNat) ∧
  (∀ a, (k1_off640 v11663 v11665) a + S1x16x512.size a ≤ S384x16x1152.size a)
theorem k1_mult205_dvd : ∀ (v11663 : BitVec 32) (v11665 : BitVec 32) (k1_hw205 : k1_chk205 v11663 v11665), 128 ∣ (k1_mult205 v11665).toNat := fun v11663 v11665 k1_hw205 => k1_hw205.1
theorem k1_off640_inb : ∀ (v11663 : BitVec 32) (v11665 : BitVec 32) (k1_hw205 : k1_chk205 v11663 v11665), ∀ a, (k1_off640 v11663 v11665) a + S1x16x512.size a ≤ S384x16x1152.size a := fun v11663 v11665 k1_hw205 => k1_hw205.2

def k1_off641 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11699 : Index := Scalar.indexCast v11429
  let c4_4602 : Index := 4#32
  ![v11699.toNat, 4]
def k1_off642 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11715 : Index := Scalar.indexCast v11429
  let c5_4608 : Index := 5#32
  ![v11715.toNat, 5]
def k1_mult206 (v11718 : BitVec 32) : BitVec 32 :=
  let c0_i32_4612 : BitVec 32 := 0#32
  let v11722 : BitVec 1 := Scalar.cmpi .sgt v11718 c0_i32_4612
  let v11723 : BitVec 32 := Scalar.extui v11722
  let c0_i32_4613 : BitVec 32 := 0#32
  let v11724 : BitVec 1 := Scalar.cmpi .slt v11718 c0_i32_4613
  let v11725 : BitVec 32 := Scalar.extui v11724
  let v11726 : BitVec 32 := Scalar.subi v11723 v11725
  let c128_i32_4611 : BitVec 32 := 128#32
  let c0_i32_4614 : BitVec 32 := 0#32
  let v11727 : BitVec 1 := Scalar.cmpi .sgt c128_i32_4611 c0_i32_4614
  let v11728 : BitVec 32 := Scalar.extui v11727
  let c0_i32_4615 : BitVec 32 := 0#32
  let v11729 : BitVec 1 := Scalar.cmpi .slt c128_i32_4611 c0_i32_4615
  let v11730 : BitVec 32 := Scalar.extui v11729
  let v11731 : BitVec 32 := Scalar.subi v11728 v11730
  let v11732 : BitVec 1 := Scalar.cmpi .ne v11726 v11731
  let v11733 : BitVec 32 := Scalar.remsi v11718 c128_i32_4611
  let c0_i32_4616 : BitVec 32 := 0#32
  let v11734 : BitVec 1 := Scalar.cmpi .ne v11733 c0_i32_4616
  let v11735 : BitVec 1 := Scalar.andi v11732 v11734
  let v11721 : BitVec 32 := Scalar.divsi v11718 c128_i32_4611
  let c1_i32_4617 : BitVec 32 := 1#32
  let v11736 : BitVec 32 := Scalar.subi v11721 c1_i32_4617
  let v11737 : BitVec 32 := Scalar.select v11735 v11736 v11721
  let c128_i32_4618 : BitVec 32 := 128#32
  let v11738 : BitVec 32 := Scalar.muli v11737 c128_i32_4618
  v11738

def k1_off643 (v11716 : BitVec 32) (v11718 : BitVec 32) : Fin 3 → Nat :=
  let v11741 : Index := Scalar.indexCast v11716
  let c0_4619 : Index := 0#32
  let c0_i32_4612 : BitVec 32 := 0#32
  let v11722 : BitVec 1 := Scalar.cmpi .sgt v11718 c0_i32_4612
  let v11723 : BitVec 32 := Scalar.extui v11722
  let c0_i32_4613 : BitVec 32 := 0#32
  let v11724 : BitVec 1 := Scalar.cmpi .slt v11718 c0_i32_4613
  let v11725 : BitVec 32 := Scalar.extui v11724
  let v11726 : BitVec 32 := Scalar.subi v11723 v11725
  let c128_i32_4611 : BitVec 32 := 128#32
  let c0_i32_4614 : BitVec 32 := 0#32
  let v11727 : BitVec 1 := Scalar.cmpi .sgt c128_i32_4611 c0_i32_4614
  let v11728 : BitVec 32 := Scalar.extui v11727
  let c0_i32_4615 : BitVec 32 := 0#32
  let v11729 : BitVec 1 := Scalar.cmpi .slt c128_i32_4611 c0_i32_4615
  let v11730 : BitVec 32 := Scalar.extui v11729
  let v11731 : BitVec 32 := Scalar.subi v11728 v11730
  let v11732 : BitVec 1 := Scalar.cmpi .ne v11726 v11731
  let v11733 : BitVec 32 := Scalar.remsi v11718 c128_i32_4611
  let c0_i32_4616 : BitVec 32 := 0#32
  let v11734 : BitVec 1 := Scalar.cmpi .ne v11733 c0_i32_4616
  let v11735 : BitVec 1 := Scalar.andi v11732 v11734
  let v11721 : BitVec 32 := Scalar.divsi v11718 c128_i32_4611
  let c1_i32_4617 : BitVec 32 := 1#32
  let v11736 : BitVec 32 := Scalar.subi v11721 c1_i32_4617
  let v11737 : BitVec 32 := Scalar.select v11735 v11736 v11721
  let c128_i32_4618 : BitVec 32 := 128#32
  let v11738 : BitVec 32 := Scalar.muli v11737 c128_i32_4618
  let v11739 : BitVec 32 := v11738
  let v11742 : Index := Scalar.indexCast v11739
  ![v11741.toNat, 0, v11742.toNat]

def k1_chk206 (v11716 : BitVec 32) (v11718 : BitVec 32) : Prop :=
  (128 ∣ (k1_mult206 v11718).toNat) ∧
  (∀ a, (k1_off643 v11716 v11718) a + S1x16x512.size a ≤ S384x16x1152.size a)
theorem k1_mult206_dvd : ∀ (v11716 : BitVec 32) (v11718 : BitVec 32) (k1_hw206 : k1_chk206 v11716 v11718), 128 ∣ (k1_mult206 v11718).toNat := fun v11716 v11718 k1_hw206 => k1_hw206.1
theorem k1_off643_inb : ∀ (v11716 : BitVec 32) (v11718 : BitVec 32) (k1_hw206 : k1_chk206 v11716 v11718), ∀ a, (k1_off643 v11716 v11718) a + S1x16x512.size a ≤ S384x16x1152.size a := fun v11716 v11718 k1_hw206 => k1_hw206.2

def k1_off644 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11752 : Index := Scalar.indexCast v11429
  let c5_4622 : Index := 5#32
  ![v11752.toNat, 5]
def k1_off645 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11768 : Index := Scalar.indexCast v11429
  let c6_4628 : Index := 6#32
  ![v11768.toNat, 6]
def k1_mult207 (v11771 : BitVec 32) : BitVec 32 :=
  let c0_i32_4632 : BitVec 32 := 0#32
  let v11775 : BitVec 1 := Scalar.cmpi .sgt v11771 c0_i32_4632
  let v11776 : BitVec 32 := Scalar.extui v11775
  let c0_i32_4633 : BitVec 32 := 0#32
  let v11777 : BitVec 1 := Scalar.cmpi .slt v11771 c0_i32_4633
  let v11778 : BitVec 32 := Scalar.extui v11777
  let v11779 : BitVec 32 := Scalar.subi v11776 v11778
  let c128_i32_4631 : BitVec 32 := 128#32
  let c0_i32_4634 : BitVec 32 := 0#32
  let v11780 : BitVec 1 := Scalar.cmpi .sgt c128_i32_4631 c0_i32_4634
  let v11781 : BitVec 32 := Scalar.extui v11780
  let c0_i32_4635 : BitVec 32 := 0#32
  let v11782 : BitVec 1 := Scalar.cmpi .slt c128_i32_4631 c0_i32_4635
  let v11783 : BitVec 32 := Scalar.extui v11782
  let v11784 : BitVec 32 := Scalar.subi v11781 v11783
  let v11785 : BitVec 1 := Scalar.cmpi .ne v11779 v11784
  let v11786 : BitVec 32 := Scalar.remsi v11771 c128_i32_4631
  let c0_i32_4636 : BitVec 32 := 0#32
  let v11787 : BitVec 1 := Scalar.cmpi .ne v11786 c0_i32_4636
  let v11788 : BitVec 1 := Scalar.andi v11785 v11787
  let v11774 : BitVec 32 := Scalar.divsi v11771 c128_i32_4631
  let c1_i32_4637 : BitVec 32 := 1#32
  let v11789 : BitVec 32 := Scalar.subi v11774 c1_i32_4637
  let v11790 : BitVec 32 := Scalar.select v11788 v11789 v11774
  let c128_i32_4638 : BitVec 32 := 128#32
  let v11791 : BitVec 32 := Scalar.muli v11790 c128_i32_4638
  v11791

def k1_off646 (v11769 : BitVec 32) (v11771 : BitVec 32) : Fin 3 → Nat :=
  let v11794 : Index := Scalar.indexCast v11769
  let c0_4639 : Index := 0#32
  let c0_i32_4632 : BitVec 32 := 0#32
  let v11775 : BitVec 1 := Scalar.cmpi .sgt v11771 c0_i32_4632
  let v11776 : BitVec 32 := Scalar.extui v11775
  let c0_i32_4633 : BitVec 32 := 0#32
  let v11777 : BitVec 1 := Scalar.cmpi .slt v11771 c0_i32_4633
  let v11778 : BitVec 32 := Scalar.extui v11777
  let v11779 : BitVec 32 := Scalar.subi v11776 v11778
  let c128_i32_4631 : BitVec 32 := 128#32
  let c0_i32_4634 : BitVec 32 := 0#32
  let v11780 : BitVec 1 := Scalar.cmpi .sgt c128_i32_4631 c0_i32_4634
  let v11781 : BitVec 32 := Scalar.extui v11780
  let c0_i32_4635 : BitVec 32 := 0#32
  let v11782 : BitVec 1 := Scalar.cmpi .slt c128_i32_4631 c0_i32_4635
  let v11783 : BitVec 32 := Scalar.extui v11782
  let v11784 : BitVec 32 := Scalar.subi v11781 v11783
  let v11785 : BitVec 1 := Scalar.cmpi .ne v11779 v11784
  let v11786 : BitVec 32 := Scalar.remsi v11771 c128_i32_4631
  let c0_i32_4636 : BitVec 32 := 0#32
  let v11787 : BitVec 1 := Scalar.cmpi .ne v11786 c0_i32_4636
  let v11788 : BitVec 1 := Scalar.andi v11785 v11787
  let v11774 : BitVec 32 := Scalar.divsi v11771 c128_i32_4631
  let c1_i32_4637 : BitVec 32 := 1#32
  let v11789 : BitVec 32 := Scalar.subi v11774 c1_i32_4637
  let v11790 : BitVec 32 := Scalar.select v11788 v11789 v11774
  let c128_i32_4638 : BitVec 32 := 128#32
  let v11791 : BitVec 32 := Scalar.muli v11790 c128_i32_4638
  let v11792 : BitVec 32 := v11791
  let v11795 : Index := Scalar.indexCast v11792
  ![v11794.toNat, 0, v11795.toNat]

def k1_chk207 (v11769 : BitVec 32) (v11771 : BitVec 32) : Prop :=
  (128 ∣ (k1_mult207 v11771).toNat) ∧
  (∀ a, (k1_off646 v11769 v11771) a + S1x16x512.size a ≤ S384x16x1152.size a)
theorem k1_mult207_dvd : ∀ (v11769 : BitVec 32) (v11771 : BitVec 32) (k1_hw207 : k1_chk207 v11769 v11771), 128 ∣ (k1_mult207 v11771).toNat := fun v11769 v11771 k1_hw207 => k1_hw207.1
theorem k1_off646_inb : ∀ (v11769 : BitVec 32) (v11771 : BitVec 32) (k1_hw207 : k1_chk207 v11769 v11771), ∀ a, (k1_off646 v11769 v11771) a + S1x16x512.size a ≤ S384x16x1152.size a := fun v11769 v11771 k1_hw207 => k1_hw207.2

def k1_off647 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11805 : Index := Scalar.indexCast v11429
  let c6_4642 : Index := 6#32
  ![v11805.toNat, 6]
def k1_off648 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11821 : Index := Scalar.indexCast v11429
  let c7_4648 : Index := 7#32
  ![v11821.toNat, 7]
def k1_mult208 (v11824 : BitVec 32) : BitVec 32 :=
  let c0_i32_4652 : BitVec 32 := 0#32
  let v11828 : BitVec 1 := Scalar.cmpi .sgt v11824 c0_i32_4652
  let v11829 : BitVec 32 := Scalar.extui v11828
  let c0_i32_4653 : BitVec 32 := 0#32
  let v11830 : BitVec 1 := Scalar.cmpi .slt v11824 c0_i32_4653
  let v11831 : BitVec 32 := Scalar.extui v11830
  let v11832 : BitVec 32 := Scalar.subi v11829 v11831
  let c128_i32_4651 : BitVec 32 := 128#32
  let c0_i32_4654 : BitVec 32 := 0#32
  let v11833 : BitVec 1 := Scalar.cmpi .sgt c128_i32_4651 c0_i32_4654
  let v11834 : BitVec 32 := Scalar.extui v11833
  let c0_i32_4655 : BitVec 32 := 0#32
  let v11835 : BitVec 1 := Scalar.cmpi .slt c128_i32_4651 c0_i32_4655
  let v11836 : BitVec 32 := Scalar.extui v11835
  let v11837 : BitVec 32 := Scalar.subi v11834 v11836
  let v11838 : BitVec 1 := Scalar.cmpi .ne v11832 v11837
  let v11839 : BitVec 32 := Scalar.remsi v11824 c128_i32_4651
  let c0_i32_4656 : BitVec 32 := 0#32
  let v11840 : BitVec 1 := Scalar.cmpi .ne v11839 c0_i32_4656
  let v11841 : BitVec 1 := Scalar.andi v11838 v11840
  let v11827 : BitVec 32 := Scalar.divsi v11824 c128_i32_4651
  let c1_i32_4657 : BitVec 32 := 1#32
  let v11842 : BitVec 32 := Scalar.subi v11827 c1_i32_4657
  let v11843 : BitVec 32 := Scalar.select v11841 v11842 v11827
  let c128_i32_4658 : BitVec 32 := 128#32
  let v11844 : BitVec 32 := Scalar.muli v11843 c128_i32_4658
  v11844

def k1_off649 (v11822 : BitVec 32) (v11824 : BitVec 32) : Fin 3 → Nat :=
  let v11847 : Index := Scalar.indexCast v11822
  let c0_4659 : Index := 0#32
  let c0_i32_4652 : BitVec 32 := 0#32
  let v11828 : BitVec 1 := Scalar.cmpi .sgt v11824 c0_i32_4652
  let v11829 : BitVec 32 := Scalar.extui v11828
  let c0_i32_4653 : BitVec 32 := 0#32
  let v11830 : BitVec 1 := Scalar.cmpi .slt v11824 c0_i32_4653
  let v11831 : BitVec 32 := Scalar.extui v11830
  let v11832 : BitVec 32 := Scalar.subi v11829 v11831
  let c128_i32_4651 : BitVec 32 := 128#32
  let c0_i32_4654 : BitVec 32 := 0#32
  let v11833 : BitVec 1 := Scalar.cmpi .sgt c128_i32_4651 c0_i32_4654
  let v11834 : BitVec 32 := Scalar.extui v11833
  let c0_i32_4655 : BitVec 32 := 0#32
  let v11835 : BitVec 1 := Scalar.cmpi .slt c128_i32_4651 c0_i32_4655
  let v11836 : BitVec 32 := Scalar.extui v11835
  let v11837 : BitVec 32 := Scalar.subi v11834 v11836
  let v11838 : BitVec 1 := Scalar.cmpi .ne v11832 v11837
  let v11839 : BitVec 32 := Scalar.remsi v11824 c128_i32_4651
  let c0_i32_4656 : BitVec 32 := 0#32
  let v11840 : BitVec 1 := Scalar.cmpi .ne v11839 c0_i32_4656
  let v11841 : BitVec 1 := Scalar.andi v11838 v11840
  let v11827 : BitVec 32 := Scalar.divsi v11824 c128_i32_4651
  let c1_i32_4657 : BitVec 32 := 1#32
  let v11842 : BitVec 32 := Scalar.subi v11827 c1_i32_4657
  let v11843 : BitVec 32 := Scalar.select v11841 v11842 v11827
  let c128_i32_4658 : BitVec 32 := 128#32
  let v11844 : BitVec 32 := Scalar.muli v11843 c128_i32_4658
  let v11845 : BitVec 32 := v11844
  let v11848 : Index := Scalar.indexCast v11845
  ![v11847.toNat, 0, v11848.toNat]

def k1_chk208 (v11822 : BitVec 32) (v11824 : BitVec 32) : Prop :=
  (128 ∣ (k1_mult208 v11824).toNat) ∧
  (∀ a, (k1_off649 v11822 v11824) a + S1x16x512.size a ≤ S384x16x1152.size a)
theorem k1_mult208_dvd : ∀ (v11822 : BitVec 32) (v11824 : BitVec 32) (k1_hw208 : k1_chk208 v11822 v11824), 128 ∣ (k1_mult208 v11824).toNat := fun v11822 v11824 k1_hw208 => k1_hw208.1
theorem k1_off649_inb : ∀ (v11822 : BitVec 32) (v11824 : BitVec 32) (k1_hw208 : k1_chk208 v11822 v11824), ∀ a, (k1_off649 v11822 v11824) a + S1x16x512.size a ≤ S384x16x1152.size a := fun v11822 v11824 k1_hw208 => k1_hw208.2

def k1_off650 (i : grid1.Coords) : Fin 2 → Nat :=
  let arg0 : BitVec 32 := BitVec.ofNat 32 (i 0).val
  let c48_i32_4497 : BitVec 32 := 48#32
  let v11428 : BitVec 32 := Scalar.muli arg0 c48_i32_4497
  let c25_i32 : BitVec 32 := 25#32
  let v11429 : BitVec 32 := Scalar.addi v11428 c25_i32
  let v11858 : Index := Scalar.indexCast v11429
  let c7_4662 : Index := 7#32
  ![v11858.toNat, 7]
def k1_off651 (i : grid1.Coords) : Fin 3 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v11887 : Index := Scalar.indexCast v11886
  let c0_4678 : Index := 0#32
  let c720_4679 : Index := 720#32
  ![v11887.toNat, 0, 720]
def k1_off652 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v11907 : Index := Scalar.indexCast v11886
  let c0_4688 : Index := 0#32
  ![v11907.toNat, 0]
def k1_mult209 (v11910 : BitVec 32) : BitVec 32 :=
  let c0_i32_4692 : BitVec 32 := 0#32
  let v11914 : BitVec 1 := Scalar.cmpi .sgt v11910 c0_i32_4692
  let v11915 : BitVec 32 := Scalar.extui v11914
  let c0_i32_4693 : BitVec 32 := 0#32
  let v11916 : BitVec 1 := Scalar.cmpi .slt v11910 c0_i32_4693
  let v11917 : BitVec 32 := Scalar.extui v11916
  let v11918 : BitVec 32 := Scalar.subi v11915 v11917
  let c128_i32_4691 : BitVec 32 := 128#32
  let c0_i32_4694 : BitVec 32 := 0#32
  let v11919 : BitVec 1 := Scalar.cmpi .sgt c128_i32_4691 c0_i32_4694
  let v11920 : BitVec 32 := Scalar.extui v11919
  let c0_i32_4695 : BitVec 32 := 0#32
  let v11921 : BitVec 1 := Scalar.cmpi .slt c128_i32_4691 c0_i32_4695
  let v11922 : BitVec 32 := Scalar.extui v11921
  let v11923 : BitVec 32 := Scalar.subi v11920 v11922
  let v11924 : BitVec 1 := Scalar.cmpi .ne v11918 v11923
  let v11925 : BitVec 32 := Scalar.remsi v11910 c128_i32_4691
  let c0_i32_4696 : BitVec 32 := 0#32
  let v11926 : BitVec 1 := Scalar.cmpi .ne v11925 c0_i32_4696
  let v11927 : BitVec 1 := Scalar.andi v11924 v11926
  let v11913 : BitVec 32 := Scalar.divsi v11910 c128_i32_4691
  let c1_i32_4697 : BitVec 32 := 1#32
  let v11928 : BitVec 32 := Scalar.subi v11913 c1_i32_4697
  let v11929 : BitVec 32 := Scalar.select v11927 v11928 v11913
  let c128_i32_4698 : BitVec 32 := 128#32
  let v11930 : BitVec 32 := Scalar.muli v11929 c128_i32_4698
  v11930

def k1_off653 (v11908 : BitVec 32) (v11910 : BitVec 32) : Fin 3 → Nat :=
  let v11933 : Index := Scalar.indexCast v11908
  let c0_4699 : Index := 0#32
  let c0_i32_4692 : BitVec 32 := 0#32
  let v11914 : BitVec 1 := Scalar.cmpi .sgt v11910 c0_i32_4692
  let v11915 : BitVec 32 := Scalar.extui v11914
  let c0_i32_4693 : BitVec 32 := 0#32
  let v11916 : BitVec 1 := Scalar.cmpi .slt v11910 c0_i32_4693
  let v11917 : BitVec 32 := Scalar.extui v11916
  let v11918 : BitVec 32 := Scalar.subi v11915 v11917
  let c128_i32_4691 : BitVec 32 := 128#32
  let c0_i32_4694 : BitVec 32 := 0#32
  let v11919 : BitVec 1 := Scalar.cmpi .sgt c128_i32_4691 c0_i32_4694
  let v11920 : BitVec 32 := Scalar.extui v11919
  let c0_i32_4695 : BitVec 32 := 0#32
  let v11921 : BitVec 1 := Scalar.cmpi .slt c128_i32_4691 c0_i32_4695
  let v11922 : BitVec 32 := Scalar.extui v11921
  let v11923 : BitVec 32 := Scalar.subi v11920 v11922
  let v11924 : BitVec 1 := Scalar.cmpi .ne v11918 v11923
  let v11925 : BitVec 32 := Scalar.remsi v11910 c128_i32_4691
  let c0_i32_4696 : BitVec 32 := 0#32
  let v11926 : BitVec 1 := Scalar.cmpi .ne v11925 c0_i32_4696
  let v11927 : BitVec 1 := Scalar.andi v11924 v11926
  let v11913 : BitVec 32 := Scalar.divsi v11910 c128_i32_4691
  let c1_i32_4697 : BitVec 32 := 1#32
  let v11928 : BitVec 32 := Scalar.subi v11913 c1_i32_4697
  let v11929 : BitVec 32 := Scalar.select v11927 v11928 v11913
  let c128_i32_4698 : BitVec 32 := 128#32
  let v11930 : BitVec 32 := Scalar.muli v11929 c128_i32_4698
  let v11931 : BitVec 32 := v11930
  let v11934 : Index := Scalar.indexCast v11931
  ![v11933.toNat, 0, v11934.toNat]

def k1_chk209 (v11908 : BitVec 32) (v11910 : BitVec 32) : Prop :=
  (128 ∣ (k1_mult209 v11910).toNat) ∧
  (∀ a, (k1_off653 v11908 v11910) a + S1x16x512.size a ≤ S384x16x1152.size a)
theorem k1_mult209_dvd : ∀ (v11908 : BitVec 32) (v11910 : BitVec 32) (k1_hw209 : k1_chk209 v11908 v11910), 128 ∣ (k1_mult209 v11910).toNat := fun v11908 v11910 k1_hw209 => k1_hw209.1
theorem k1_off653_inb : ∀ (v11908 : BitVec 32) (v11910 : BitVec 32) (k1_hw209 : k1_chk209 v11908 v11910), ∀ a, (k1_off653 v11908 v11910) a + S1x16x512.size a ≤ S384x16x1152.size a := fun v11908 v11910 k1_hw209 => k1_hw209.2

def k1_off654 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v11944 : Index := Scalar.indexCast v11886
  let c0_4702 : Index := 0#32
  ![v11944.toNat, 0]
def k1_off655 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v11960 : Index := Scalar.indexCast v11886
  let c1_4708 : Index := 1#32
  ![v11960.toNat, 1]
def k1_mult210 (v11963 : BitVec 32) : BitVec 32 :=
  let c0_i32_4712 : BitVec 32 := 0#32
  let v11967 : BitVec 1 := Scalar.cmpi .sgt v11963 c0_i32_4712
  let v11968 : BitVec 32 := Scalar.extui v11967
  let c0_i32_4713 : BitVec 32 := 0#32
  let v11969 : BitVec 1 := Scalar.cmpi .slt v11963 c0_i32_4713
  let v11970 : BitVec 32 := Scalar.extui v11969
  let v11971 : BitVec 32 := Scalar.subi v11968 v11970
  let c128_i32_4711 : BitVec 32 := 128#32
  let c0_i32_4714 : BitVec 32 := 0#32
  let v11972 : BitVec 1 := Scalar.cmpi .sgt c128_i32_4711 c0_i32_4714
  let v11973 : BitVec 32 := Scalar.extui v11972
  let c0_i32_4715 : BitVec 32 := 0#32
  let v11974 : BitVec 1 := Scalar.cmpi .slt c128_i32_4711 c0_i32_4715
  let v11975 : BitVec 32 := Scalar.extui v11974
  let v11976 : BitVec 32 := Scalar.subi v11973 v11975
  let v11977 : BitVec 1 := Scalar.cmpi .ne v11971 v11976
  let v11978 : BitVec 32 := Scalar.remsi v11963 c128_i32_4711
  let c0_i32_4716 : BitVec 32 := 0#32
  let v11979 : BitVec 1 := Scalar.cmpi .ne v11978 c0_i32_4716
  let v11980 : BitVec 1 := Scalar.andi v11977 v11979
  let v11966 : BitVec 32 := Scalar.divsi v11963 c128_i32_4711
  let c1_i32_4717 : BitVec 32 := 1#32
  let v11981 : BitVec 32 := Scalar.subi v11966 c1_i32_4717
  let v11982 : BitVec 32 := Scalar.select v11980 v11981 v11966
  let c128_i32_4718 : BitVec 32 := 128#32
  let v11983 : BitVec 32 := Scalar.muli v11982 c128_i32_4718
  v11983

def k1_off656 (v11961 : BitVec 32) (v11963 : BitVec 32) : Fin 3 → Nat :=
  let v11986 : Index := Scalar.indexCast v11961
  let c0_4719 : Index := 0#32
  let c0_i32_4712 : BitVec 32 := 0#32
  let v11967 : BitVec 1 := Scalar.cmpi .sgt v11963 c0_i32_4712
  let v11968 : BitVec 32 := Scalar.extui v11967
  let c0_i32_4713 : BitVec 32 := 0#32
  let v11969 : BitVec 1 := Scalar.cmpi .slt v11963 c0_i32_4713
  let v11970 : BitVec 32 := Scalar.extui v11969
  let v11971 : BitVec 32 := Scalar.subi v11968 v11970
  let c128_i32_4711 : BitVec 32 := 128#32
  let c0_i32_4714 : BitVec 32 := 0#32
  let v11972 : BitVec 1 := Scalar.cmpi .sgt c128_i32_4711 c0_i32_4714
  let v11973 : BitVec 32 := Scalar.extui v11972
  let c0_i32_4715 : BitVec 32 := 0#32
  let v11974 : BitVec 1 := Scalar.cmpi .slt c128_i32_4711 c0_i32_4715
  let v11975 : BitVec 32 := Scalar.extui v11974
  let v11976 : BitVec 32 := Scalar.subi v11973 v11975
  let v11977 : BitVec 1 := Scalar.cmpi .ne v11971 v11976
  let v11978 : BitVec 32 := Scalar.remsi v11963 c128_i32_4711
  let c0_i32_4716 : BitVec 32 := 0#32
  let v11979 : BitVec 1 := Scalar.cmpi .ne v11978 c0_i32_4716
  let v11980 : BitVec 1 := Scalar.andi v11977 v11979
  let v11966 : BitVec 32 := Scalar.divsi v11963 c128_i32_4711
  let c1_i32_4717 : BitVec 32 := 1#32
  let v11981 : BitVec 32 := Scalar.subi v11966 c1_i32_4717
  let v11982 : BitVec 32 := Scalar.select v11980 v11981 v11966
  let c128_i32_4718 : BitVec 32 := 128#32
  let v11983 : BitVec 32 := Scalar.muli v11982 c128_i32_4718
  let v11984 : BitVec 32 := v11983
  let v11987 : Index := Scalar.indexCast v11984
  ![v11986.toNat, 0, v11987.toNat]

def k1_chk210 (v11961 : BitVec 32) (v11963 : BitVec 32) : Prop :=
  (128 ∣ (k1_mult210 v11963).toNat) ∧
  (∀ a, (k1_off656 v11961 v11963) a + S1x16x512.size a ≤ S384x16x1152.size a)
theorem k1_mult210_dvd : ∀ (v11961 : BitVec 32) (v11963 : BitVec 32) (k1_hw210 : k1_chk210 v11961 v11963), 128 ∣ (k1_mult210 v11963).toNat := fun v11961 v11963 k1_hw210 => k1_hw210.1
theorem k1_off656_inb : ∀ (v11961 : BitVec 32) (v11963 : BitVec 32) (k1_hw210 : k1_chk210 v11961 v11963), ∀ a, (k1_off656 v11961 v11963) a + S1x16x512.size a ≤ S384x16x1152.size a := fun v11961 v11963 k1_hw210 => k1_hw210.2

def k1_off657 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v11997 : Index := Scalar.indexCast v11886
  let c1_4722 : Index := 1#32
  ![v11997.toNat, 1]
def k1_off658 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12013 : Index := Scalar.indexCast v11886
  let c2_4728 : Index := 2#32
  ![v12013.toNat, 2]
def k1_mult211 (v12016 : BitVec 32) : BitVec 32 :=
  let c0_i32_4732 : BitVec 32 := 0#32
  let v12020 : BitVec 1 := Scalar.cmpi .sgt v12016 c0_i32_4732
  let v12021 : BitVec 32 := Scalar.extui v12020
  let c0_i32_4733 : BitVec 32 := 0#32
  let v12022 : BitVec 1 := Scalar.cmpi .slt v12016 c0_i32_4733
  let v12023 : BitVec 32 := Scalar.extui v12022
  let v12024 : BitVec 32 := Scalar.subi v12021 v12023
  let c128_i32_4731 : BitVec 32 := 128#32
  let c0_i32_4734 : BitVec 32 := 0#32
  let v12025 : BitVec 1 := Scalar.cmpi .sgt c128_i32_4731 c0_i32_4734
  let v12026 : BitVec 32 := Scalar.extui v12025
  let c0_i32_4735 : BitVec 32 := 0#32
  let v12027 : BitVec 1 := Scalar.cmpi .slt c128_i32_4731 c0_i32_4735
  let v12028 : BitVec 32 := Scalar.extui v12027
  let v12029 : BitVec 32 := Scalar.subi v12026 v12028
  let v12030 : BitVec 1 := Scalar.cmpi .ne v12024 v12029
  let v12031 : BitVec 32 := Scalar.remsi v12016 c128_i32_4731
  let c0_i32_4736 : BitVec 32 := 0#32
  let v12032 : BitVec 1 := Scalar.cmpi .ne v12031 c0_i32_4736
  let v12033 : BitVec 1 := Scalar.andi v12030 v12032
  let v12019 : BitVec 32 := Scalar.divsi v12016 c128_i32_4731
  let c1_i32_4737 : BitVec 32 := 1#32
  let v12034 : BitVec 32 := Scalar.subi v12019 c1_i32_4737
  let v12035 : BitVec 32 := Scalar.select v12033 v12034 v12019
  let c128_i32_4738 : BitVec 32 := 128#32
  let v12036 : BitVec 32 := Scalar.muli v12035 c128_i32_4738
  v12036

def k1_off659 (v12014 : BitVec 32) (v12016 : BitVec 32) : Fin 3 → Nat :=
  let v12039 : Index := Scalar.indexCast v12014
  let c0_4739 : Index := 0#32
  let c0_i32_4732 : BitVec 32 := 0#32
  let v12020 : BitVec 1 := Scalar.cmpi .sgt v12016 c0_i32_4732
  let v12021 : BitVec 32 := Scalar.extui v12020
  let c0_i32_4733 : BitVec 32 := 0#32
  let v12022 : BitVec 1 := Scalar.cmpi .slt v12016 c0_i32_4733
  let v12023 : BitVec 32 := Scalar.extui v12022
  let v12024 : BitVec 32 := Scalar.subi v12021 v12023
  let c128_i32_4731 : BitVec 32 := 128#32
  let c0_i32_4734 : BitVec 32 := 0#32
  let v12025 : BitVec 1 := Scalar.cmpi .sgt c128_i32_4731 c0_i32_4734
  let v12026 : BitVec 32 := Scalar.extui v12025
  let c0_i32_4735 : BitVec 32 := 0#32
  let v12027 : BitVec 1 := Scalar.cmpi .slt c128_i32_4731 c0_i32_4735
  let v12028 : BitVec 32 := Scalar.extui v12027
  let v12029 : BitVec 32 := Scalar.subi v12026 v12028
  let v12030 : BitVec 1 := Scalar.cmpi .ne v12024 v12029
  let v12031 : BitVec 32 := Scalar.remsi v12016 c128_i32_4731
  let c0_i32_4736 : BitVec 32 := 0#32
  let v12032 : BitVec 1 := Scalar.cmpi .ne v12031 c0_i32_4736
  let v12033 : BitVec 1 := Scalar.andi v12030 v12032
  let v12019 : BitVec 32 := Scalar.divsi v12016 c128_i32_4731
  let c1_i32_4737 : BitVec 32 := 1#32
  let v12034 : BitVec 32 := Scalar.subi v12019 c1_i32_4737
  let v12035 : BitVec 32 := Scalar.select v12033 v12034 v12019
  let c128_i32_4738 : BitVec 32 := 128#32
  let v12036 : BitVec 32 := Scalar.muli v12035 c128_i32_4738
  let v12037 : BitVec 32 := v12036
  let v12040 : Index := Scalar.indexCast v12037
  ![v12039.toNat, 0, v12040.toNat]

def k1_chk211 (v12014 : BitVec 32) (v12016 : BitVec 32) : Prop :=
  (128 ∣ (k1_mult211 v12016).toNat) ∧
  (∀ a, (k1_off659 v12014 v12016) a + S1x16x512.size a ≤ S384x16x1152.size a)
theorem k1_mult211_dvd : ∀ (v12014 : BitVec 32) (v12016 : BitVec 32) (k1_hw211 : k1_chk211 v12014 v12016), 128 ∣ (k1_mult211 v12016).toNat := fun v12014 v12016 k1_hw211 => k1_hw211.1
theorem k1_off659_inb : ∀ (v12014 : BitVec 32) (v12016 : BitVec 32) (k1_hw211 : k1_chk211 v12014 v12016), ∀ a, (k1_off659 v12014 v12016) a + S1x16x512.size a ≤ S384x16x1152.size a := fun v12014 v12016 k1_hw211 => k1_hw211.2

def k1_off660 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12050 : Index := Scalar.indexCast v11886
  let c2_4742 : Index := 2#32
  ![v12050.toNat, 2]
def k1_off661 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12066 : Index := Scalar.indexCast v11886
  let c3_4748 : Index := 3#32
  ![v12066.toNat, 3]
def k1_mult212 (v12069 : BitVec 32) : BitVec 32 :=
  let c0_i32_4752 : BitVec 32 := 0#32
  let v12073 : BitVec 1 := Scalar.cmpi .sgt v12069 c0_i32_4752
  let v12074 : BitVec 32 := Scalar.extui v12073
  let c0_i32_4753 : BitVec 32 := 0#32
  let v12075 : BitVec 1 := Scalar.cmpi .slt v12069 c0_i32_4753
  let v12076 : BitVec 32 := Scalar.extui v12075
  let v12077 : BitVec 32 := Scalar.subi v12074 v12076
  let c128_i32_4751 : BitVec 32 := 128#32
  let c0_i32_4754 : BitVec 32 := 0#32
  let v12078 : BitVec 1 := Scalar.cmpi .sgt c128_i32_4751 c0_i32_4754
  let v12079 : BitVec 32 := Scalar.extui v12078
  let c0_i32_4755 : BitVec 32 := 0#32
  let v12080 : BitVec 1 := Scalar.cmpi .slt c128_i32_4751 c0_i32_4755
  let v12081 : BitVec 32 := Scalar.extui v12080
  let v12082 : BitVec 32 := Scalar.subi v12079 v12081
  let v12083 : BitVec 1 := Scalar.cmpi .ne v12077 v12082
  let v12084 : BitVec 32 := Scalar.remsi v12069 c128_i32_4751
  let c0_i32_4756 : BitVec 32 := 0#32
  let v12085 : BitVec 1 := Scalar.cmpi .ne v12084 c0_i32_4756
  let v12086 : BitVec 1 := Scalar.andi v12083 v12085
  let v12072 : BitVec 32 := Scalar.divsi v12069 c128_i32_4751
  let c1_i32_4757 : BitVec 32 := 1#32
  let v12087 : BitVec 32 := Scalar.subi v12072 c1_i32_4757
  let v12088 : BitVec 32 := Scalar.select v12086 v12087 v12072
  let c128_i32_4758 : BitVec 32 := 128#32
  let v12089 : BitVec 32 := Scalar.muli v12088 c128_i32_4758
  v12089

def k1_off662 (v12067 : BitVec 32) (v12069 : BitVec 32) : Fin 3 → Nat :=
  let v12092 : Index := Scalar.indexCast v12067
  let c0_4759 : Index := 0#32
  let c0_i32_4752 : BitVec 32 := 0#32
  let v12073 : BitVec 1 := Scalar.cmpi .sgt v12069 c0_i32_4752
  let v12074 : BitVec 32 := Scalar.extui v12073
  let c0_i32_4753 : BitVec 32 := 0#32
  let v12075 : BitVec 1 := Scalar.cmpi .slt v12069 c0_i32_4753
  let v12076 : BitVec 32 := Scalar.extui v12075
  let v12077 : BitVec 32 := Scalar.subi v12074 v12076
  let c128_i32_4751 : BitVec 32 := 128#32
  let c0_i32_4754 : BitVec 32 := 0#32
  let v12078 : BitVec 1 := Scalar.cmpi .sgt c128_i32_4751 c0_i32_4754
  let v12079 : BitVec 32 := Scalar.extui v12078
  let c0_i32_4755 : BitVec 32 := 0#32
  let v12080 : BitVec 1 := Scalar.cmpi .slt c128_i32_4751 c0_i32_4755
  let v12081 : BitVec 32 := Scalar.extui v12080
  let v12082 : BitVec 32 := Scalar.subi v12079 v12081
  let v12083 : BitVec 1 := Scalar.cmpi .ne v12077 v12082
  let v12084 : BitVec 32 := Scalar.remsi v12069 c128_i32_4751
  let c0_i32_4756 : BitVec 32 := 0#32
  let v12085 : BitVec 1 := Scalar.cmpi .ne v12084 c0_i32_4756
  let v12086 : BitVec 1 := Scalar.andi v12083 v12085
  let v12072 : BitVec 32 := Scalar.divsi v12069 c128_i32_4751
  let c1_i32_4757 : BitVec 32 := 1#32
  let v12087 : BitVec 32 := Scalar.subi v12072 c1_i32_4757
  let v12088 : BitVec 32 := Scalar.select v12086 v12087 v12072
  let c128_i32_4758 : BitVec 32 := 128#32
  let v12089 : BitVec 32 := Scalar.muli v12088 c128_i32_4758
  let v12090 : BitVec 32 := v12089
  let v12093 : Index := Scalar.indexCast v12090
  ![v12092.toNat, 0, v12093.toNat]

def k1_chk212 (v12067 : BitVec 32) (v12069 : BitVec 32) : Prop :=
  (128 ∣ (k1_mult212 v12069).toNat) ∧
  (∀ a, (k1_off662 v12067 v12069) a + S1x16x512.size a ≤ S384x16x1152.size a)
theorem k1_mult212_dvd : ∀ (v12067 : BitVec 32) (v12069 : BitVec 32) (k1_hw212 : k1_chk212 v12067 v12069), 128 ∣ (k1_mult212 v12069).toNat := fun v12067 v12069 k1_hw212 => k1_hw212.1
theorem k1_off662_inb : ∀ (v12067 : BitVec 32) (v12069 : BitVec 32) (k1_hw212 : k1_chk212 v12067 v12069), ∀ a, (k1_off662 v12067 v12069) a + S1x16x512.size a ≤ S384x16x1152.size a := fun v12067 v12069 k1_hw212 => k1_hw212.2

def k1_off663 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12103 : Index := Scalar.indexCast v11886
  let c3_4762 : Index := 3#32
  ![v12103.toNat, 3]
def k1_off664 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12119 : Index := Scalar.indexCast v11886
  let c4_4768 : Index := 4#32
  ![v12119.toNat, 4]
def k1_mult213 (v12122 : BitVec 32) : BitVec 32 :=
  let c0_i32_4772 : BitVec 32 := 0#32
  let v12126 : BitVec 1 := Scalar.cmpi .sgt v12122 c0_i32_4772
  let v12127 : BitVec 32 := Scalar.extui v12126
  let c0_i32_4773 : BitVec 32 := 0#32
  let v12128 : BitVec 1 := Scalar.cmpi .slt v12122 c0_i32_4773
  let v12129 : BitVec 32 := Scalar.extui v12128
  let v12130 : BitVec 32 := Scalar.subi v12127 v12129
  let c128_i32_4771 : BitVec 32 := 128#32
  let c0_i32_4774 : BitVec 32 := 0#32
  let v12131 : BitVec 1 := Scalar.cmpi .sgt c128_i32_4771 c0_i32_4774
  let v12132 : BitVec 32 := Scalar.extui v12131
  let c0_i32_4775 : BitVec 32 := 0#32
  let v12133 : BitVec 1 := Scalar.cmpi .slt c128_i32_4771 c0_i32_4775
  let v12134 : BitVec 32 := Scalar.extui v12133
  let v12135 : BitVec 32 := Scalar.subi v12132 v12134
  let v12136 : BitVec 1 := Scalar.cmpi .ne v12130 v12135
  let v12137 : BitVec 32 := Scalar.remsi v12122 c128_i32_4771
  let c0_i32_4776 : BitVec 32 := 0#32
  let v12138 : BitVec 1 := Scalar.cmpi .ne v12137 c0_i32_4776
  let v12139 : BitVec 1 := Scalar.andi v12136 v12138
  let v12125 : BitVec 32 := Scalar.divsi v12122 c128_i32_4771
  let c1_i32_4777 : BitVec 32 := 1#32
  let v12140 : BitVec 32 := Scalar.subi v12125 c1_i32_4777
  let v12141 : BitVec 32 := Scalar.select v12139 v12140 v12125
  let c128_i32_4778 : BitVec 32 := 128#32
  let v12142 : BitVec 32 := Scalar.muli v12141 c128_i32_4778
  v12142

def k1_off665 (v12120 : BitVec 32) (v12122 : BitVec 32) : Fin 3 → Nat :=
  let v12145 : Index := Scalar.indexCast v12120
  let c0_4779 : Index := 0#32
  let c0_i32_4772 : BitVec 32 := 0#32
  let v12126 : BitVec 1 := Scalar.cmpi .sgt v12122 c0_i32_4772
  let v12127 : BitVec 32 := Scalar.extui v12126
  let c0_i32_4773 : BitVec 32 := 0#32
  let v12128 : BitVec 1 := Scalar.cmpi .slt v12122 c0_i32_4773
  let v12129 : BitVec 32 := Scalar.extui v12128
  let v12130 : BitVec 32 := Scalar.subi v12127 v12129
  let c128_i32_4771 : BitVec 32 := 128#32
  let c0_i32_4774 : BitVec 32 := 0#32
  let v12131 : BitVec 1 := Scalar.cmpi .sgt c128_i32_4771 c0_i32_4774
  let v12132 : BitVec 32 := Scalar.extui v12131
  let c0_i32_4775 : BitVec 32 := 0#32
  let v12133 : BitVec 1 := Scalar.cmpi .slt c128_i32_4771 c0_i32_4775
  let v12134 : BitVec 32 := Scalar.extui v12133
  let v12135 : BitVec 32 := Scalar.subi v12132 v12134
  let v12136 : BitVec 1 := Scalar.cmpi .ne v12130 v12135
  let v12137 : BitVec 32 := Scalar.remsi v12122 c128_i32_4771
  let c0_i32_4776 : BitVec 32 := 0#32
  let v12138 : BitVec 1 := Scalar.cmpi .ne v12137 c0_i32_4776
  let v12139 : BitVec 1 := Scalar.andi v12136 v12138
  let v12125 : BitVec 32 := Scalar.divsi v12122 c128_i32_4771
  let c1_i32_4777 : BitVec 32 := 1#32
  let v12140 : BitVec 32 := Scalar.subi v12125 c1_i32_4777
  let v12141 : BitVec 32 := Scalar.select v12139 v12140 v12125
  let c128_i32_4778 : BitVec 32 := 128#32
  let v12142 : BitVec 32 := Scalar.muli v12141 c128_i32_4778
  let v12143 : BitVec 32 := v12142
  let v12146 : Index := Scalar.indexCast v12143
  ![v12145.toNat, 0, v12146.toNat]

def k1_chk213 (v12120 : BitVec 32) (v12122 : BitVec 32) : Prop :=
  (128 ∣ (k1_mult213 v12122).toNat) ∧
  (∀ a, (k1_off665 v12120 v12122) a + S1x16x512.size a ≤ S384x16x1152.size a)
theorem k1_mult213_dvd : ∀ (v12120 : BitVec 32) (v12122 : BitVec 32) (k1_hw213 : k1_chk213 v12120 v12122), 128 ∣ (k1_mult213 v12122).toNat := fun v12120 v12122 k1_hw213 => k1_hw213.1
theorem k1_off665_inb : ∀ (v12120 : BitVec 32) (v12122 : BitVec 32) (k1_hw213 : k1_chk213 v12120 v12122), ∀ a, (k1_off665 v12120 v12122) a + S1x16x512.size a ≤ S384x16x1152.size a := fun v12120 v12122 k1_hw213 => k1_hw213.2

def k1_off666 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12156 : Index := Scalar.indexCast v11886
  let c4_4782 : Index := 4#32
  ![v12156.toNat, 4]
def k1_off667 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12172 : Index := Scalar.indexCast v11886
  let c5_4788 : Index := 5#32
  ![v12172.toNat, 5]
def k1_mult214 (v12175 : BitVec 32) : BitVec 32 :=
  let c0_i32_4792 : BitVec 32 := 0#32
  let v12179 : BitVec 1 := Scalar.cmpi .sgt v12175 c0_i32_4792
  let v12180 : BitVec 32 := Scalar.extui v12179
  let c0_i32_4793 : BitVec 32 := 0#32
  let v12181 : BitVec 1 := Scalar.cmpi .slt v12175 c0_i32_4793
  let v12182 : BitVec 32 := Scalar.extui v12181
  let v12183 : BitVec 32 := Scalar.subi v12180 v12182
  let c128_i32_4791 : BitVec 32 := 128#32
  let c0_i32_4794 : BitVec 32 := 0#32
  let v12184 : BitVec 1 := Scalar.cmpi .sgt c128_i32_4791 c0_i32_4794
  let v12185 : BitVec 32 := Scalar.extui v12184
  let c0_i32_4795 : BitVec 32 := 0#32
  let v12186 : BitVec 1 := Scalar.cmpi .slt c128_i32_4791 c0_i32_4795
  let v12187 : BitVec 32 := Scalar.extui v12186
  let v12188 : BitVec 32 := Scalar.subi v12185 v12187
  let v12189 : BitVec 1 := Scalar.cmpi .ne v12183 v12188
  let v12190 : BitVec 32 := Scalar.remsi v12175 c128_i32_4791
  let c0_i32_4796 : BitVec 32 := 0#32
  let v12191 : BitVec 1 := Scalar.cmpi .ne v12190 c0_i32_4796
  let v12192 : BitVec 1 := Scalar.andi v12189 v12191
  let v12178 : BitVec 32 := Scalar.divsi v12175 c128_i32_4791
  let c1_i32_4797 : BitVec 32 := 1#32
  let v12193 : BitVec 32 := Scalar.subi v12178 c1_i32_4797
  let v12194 : BitVec 32 := Scalar.select v12192 v12193 v12178
  let c128_i32_4798 : BitVec 32 := 128#32
  let v12195 : BitVec 32 := Scalar.muli v12194 c128_i32_4798
  v12195

def k1_off668 (v12173 : BitVec 32) (v12175 : BitVec 32) : Fin 3 → Nat :=
  let v12198 : Index := Scalar.indexCast v12173
  let c0_4799 : Index := 0#32
  let c0_i32_4792 : BitVec 32 := 0#32
  let v12179 : BitVec 1 := Scalar.cmpi .sgt v12175 c0_i32_4792
  let v12180 : BitVec 32 := Scalar.extui v12179
  let c0_i32_4793 : BitVec 32 := 0#32
  let v12181 : BitVec 1 := Scalar.cmpi .slt v12175 c0_i32_4793
  let v12182 : BitVec 32 := Scalar.extui v12181
  let v12183 : BitVec 32 := Scalar.subi v12180 v12182
  let c128_i32_4791 : BitVec 32 := 128#32
  let c0_i32_4794 : BitVec 32 := 0#32
  let v12184 : BitVec 1 := Scalar.cmpi .sgt c128_i32_4791 c0_i32_4794
  let v12185 : BitVec 32 := Scalar.extui v12184
  let c0_i32_4795 : BitVec 32 := 0#32
  let v12186 : BitVec 1 := Scalar.cmpi .slt c128_i32_4791 c0_i32_4795
  let v12187 : BitVec 32 := Scalar.extui v12186
  let v12188 : BitVec 32 := Scalar.subi v12185 v12187
  let v12189 : BitVec 1 := Scalar.cmpi .ne v12183 v12188
  let v12190 : BitVec 32 := Scalar.remsi v12175 c128_i32_4791
  let c0_i32_4796 : BitVec 32 := 0#32
  let v12191 : BitVec 1 := Scalar.cmpi .ne v12190 c0_i32_4796
  let v12192 : BitVec 1 := Scalar.andi v12189 v12191
  let v12178 : BitVec 32 := Scalar.divsi v12175 c128_i32_4791
  let c1_i32_4797 : BitVec 32 := 1#32
  let v12193 : BitVec 32 := Scalar.subi v12178 c1_i32_4797
  let v12194 : BitVec 32 := Scalar.select v12192 v12193 v12178
  let c128_i32_4798 : BitVec 32 := 128#32
  let v12195 : BitVec 32 := Scalar.muli v12194 c128_i32_4798
  let v12196 : BitVec 32 := v12195
  let v12199 : Index := Scalar.indexCast v12196
  ![v12198.toNat, 0, v12199.toNat]

def k1_chk214 (v12173 : BitVec 32) (v12175 : BitVec 32) : Prop :=
  (128 ∣ (k1_mult214 v12175).toNat) ∧
  (∀ a, (k1_off668 v12173 v12175) a + S1x16x512.size a ≤ S384x16x1152.size a)
theorem k1_mult214_dvd : ∀ (v12173 : BitVec 32) (v12175 : BitVec 32) (k1_hw214 : k1_chk214 v12173 v12175), 128 ∣ (k1_mult214 v12175).toNat := fun v12173 v12175 k1_hw214 => k1_hw214.1
theorem k1_off668_inb : ∀ (v12173 : BitVec 32) (v12175 : BitVec 32) (k1_hw214 : k1_chk214 v12173 v12175), ∀ a, (k1_off668 v12173 v12175) a + S1x16x512.size a ≤ S384x16x1152.size a := fun v12173 v12175 k1_hw214 => k1_hw214.2

def k1_off669 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12209 : Index := Scalar.indexCast v11886
  let c5_4802 : Index := 5#32
  ![v12209.toNat, 5]
def k1_off670 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12225 : Index := Scalar.indexCast v11886
  let c6_4808 : Index := 6#32
  ![v12225.toNat, 6]
def k1_mult215 (v12228 : BitVec 32) : BitVec 32 :=
  let c0_i32_4812 : BitVec 32 := 0#32
  let v12232 : BitVec 1 := Scalar.cmpi .sgt v12228 c0_i32_4812
  let v12233 : BitVec 32 := Scalar.extui v12232
  let c0_i32_4813 : BitVec 32 := 0#32
  let v12234 : BitVec 1 := Scalar.cmpi .slt v12228 c0_i32_4813
  let v12235 : BitVec 32 := Scalar.extui v12234
  let v12236 : BitVec 32 := Scalar.subi v12233 v12235
  let c128_i32_4811 : BitVec 32 := 128#32
  let c0_i32_4814 : BitVec 32 := 0#32
  let v12237 : BitVec 1 := Scalar.cmpi .sgt c128_i32_4811 c0_i32_4814
  let v12238 : BitVec 32 := Scalar.extui v12237
  let c0_i32_4815 : BitVec 32 := 0#32
  let v12239 : BitVec 1 := Scalar.cmpi .slt c128_i32_4811 c0_i32_4815
  let v12240 : BitVec 32 := Scalar.extui v12239
  let v12241 : BitVec 32 := Scalar.subi v12238 v12240
  let v12242 : BitVec 1 := Scalar.cmpi .ne v12236 v12241
  let v12243 : BitVec 32 := Scalar.remsi v12228 c128_i32_4811
  let c0_i32_4816 : BitVec 32 := 0#32
  let v12244 : BitVec 1 := Scalar.cmpi .ne v12243 c0_i32_4816
  let v12245 : BitVec 1 := Scalar.andi v12242 v12244
  let v12231 : BitVec 32 := Scalar.divsi v12228 c128_i32_4811
  let c1_i32_4817 : BitVec 32 := 1#32
  let v12246 : BitVec 32 := Scalar.subi v12231 c1_i32_4817
  let v12247 : BitVec 32 := Scalar.select v12245 v12246 v12231
  let c128_i32_4818 : BitVec 32 := 128#32
  let v12248 : BitVec 32 := Scalar.muli v12247 c128_i32_4818
  v12248

def k1_off671 (v12226 : BitVec 32) (v12228 : BitVec 32) : Fin 3 → Nat :=
  let v12251 : Index := Scalar.indexCast v12226
  let c0_4819 : Index := 0#32
  let c0_i32_4812 : BitVec 32 := 0#32
  let v12232 : BitVec 1 := Scalar.cmpi .sgt v12228 c0_i32_4812
  let v12233 : BitVec 32 := Scalar.extui v12232
  let c0_i32_4813 : BitVec 32 := 0#32
  let v12234 : BitVec 1 := Scalar.cmpi .slt v12228 c0_i32_4813
  let v12235 : BitVec 32 := Scalar.extui v12234
  let v12236 : BitVec 32 := Scalar.subi v12233 v12235
  let c128_i32_4811 : BitVec 32 := 128#32
  let c0_i32_4814 : BitVec 32 := 0#32
  let v12237 : BitVec 1 := Scalar.cmpi .sgt c128_i32_4811 c0_i32_4814
  let v12238 : BitVec 32 := Scalar.extui v12237
  let c0_i32_4815 : BitVec 32 := 0#32
  let v12239 : BitVec 1 := Scalar.cmpi .slt c128_i32_4811 c0_i32_4815
  let v12240 : BitVec 32 := Scalar.extui v12239
  let v12241 : BitVec 32 := Scalar.subi v12238 v12240
  let v12242 : BitVec 1 := Scalar.cmpi .ne v12236 v12241
  let v12243 : BitVec 32 := Scalar.remsi v12228 c128_i32_4811
  let c0_i32_4816 : BitVec 32 := 0#32
  let v12244 : BitVec 1 := Scalar.cmpi .ne v12243 c0_i32_4816
  let v12245 : BitVec 1 := Scalar.andi v12242 v12244
  let v12231 : BitVec 32 := Scalar.divsi v12228 c128_i32_4811
  let c1_i32_4817 : BitVec 32 := 1#32
  let v12246 : BitVec 32 := Scalar.subi v12231 c1_i32_4817
  let v12247 : BitVec 32 := Scalar.select v12245 v12246 v12231
  let c128_i32_4818 : BitVec 32 := 128#32
  let v12248 : BitVec 32 := Scalar.muli v12247 c128_i32_4818
  let v12249 : BitVec 32 := v12248
  let v12252 : Index := Scalar.indexCast v12249
  ![v12251.toNat, 0, v12252.toNat]

def k1_chk215 (v12226 : BitVec 32) (v12228 : BitVec 32) : Prop :=
  (128 ∣ (k1_mult215 v12228).toNat) ∧
  (∀ a, (k1_off671 v12226 v12228) a + S1x16x512.size a ≤ S384x16x1152.size a)
theorem k1_mult215_dvd : ∀ (v12226 : BitVec 32) (v12228 : BitVec 32) (k1_hw215 : k1_chk215 v12226 v12228), 128 ∣ (k1_mult215 v12228).toNat := fun v12226 v12228 k1_hw215 => k1_hw215.1
theorem k1_off671_inb : ∀ (v12226 : BitVec 32) (v12228 : BitVec 32) (k1_hw215 : k1_chk215 v12226 v12228), ∀ a, (k1_off671 v12226 v12228) a + S1x16x512.size a ≤ S384x16x1152.size a := fun v12226 v12228 k1_hw215 => k1_hw215.2

def k1_off672 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12262 : Index := Scalar.indexCast v11886
  let c6_4822 : Index := 6#32
  ![v12262.toNat, 6]
def k1_off673 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12278 : Index := Scalar.indexCast v11886
  let c7_4828 : Index := 7#32
  ![v12278.toNat, 7]
def k1_mult216 (v12281 : BitVec 32) : BitVec 32 :=
  let c0_i32_4832 : BitVec 32 := 0#32
  let v12285 : BitVec 1 := Scalar.cmpi .sgt v12281 c0_i32_4832
  let v12286 : BitVec 32 := Scalar.extui v12285
  let c0_i32_4833 : BitVec 32 := 0#32
  let v12287 : BitVec 1 := Scalar.cmpi .slt v12281 c0_i32_4833
  let v12288 : BitVec 32 := Scalar.extui v12287
  let v12289 : BitVec 32 := Scalar.subi v12286 v12288
  let c128_i32_4831 : BitVec 32 := 128#32
  let c0_i32_4834 : BitVec 32 := 0#32
  let v12290 : BitVec 1 := Scalar.cmpi .sgt c128_i32_4831 c0_i32_4834
  let v12291 : BitVec 32 := Scalar.extui v12290
  let c0_i32_4835 : BitVec 32 := 0#32
  let v12292 : BitVec 1 := Scalar.cmpi .slt c128_i32_4831 c0_i32_4835
  let v12293 : BitVec 32 := Scalar.extui v12292
  let v12294 : BitVec 32 := Scalar.subi v12291 v12293
  let v12295 : BitVec 1 := Scalar.cmpi .ne v12289 v12294
  let v12296 : BitVec 32 := Scalar.remsi v12281 c128_i32_4831
  let c0_i32_4836 : BitVec 32 := 0#32
  let v12297 : BitVec 1 := Scalar.cmpi .ne v12296 c0_i32_4836
  let v12298 : BitVec 1 := Scalar.andi v12295 v12297
  let v12284 : BitVec 32 := Scalar.divsi v12281 c128_i32_4831
  let c1_i32_4837 : BitVec 32 := 1#32
  let v12299 : BitVec 32 := Scalar.subi v12284 c1_i32_4837
  let v12300 : BitVec 32 := Scalar.select v12298 v12299 v12284
  let c128_i32_4838 : BitVec 32 := 128#32
  let v12301 : BitVec 32 := Scalar.muli v12300 c128_i32_4838
  v12301

def k1_off674 (v12279 : BitVec 32) (v12281 : BitVec 32) : Fin 3 → Nat :=
  let v12304 : Index := Scalar.indexCast v12279
  let c0_4839 : Index := 0#32
  let c0_i32_4832 : BitVec 32 := 0#32
  let v12285 : BitVec 1 := Scalar.cmpi .sgt v12281 c0_i32_4832
  let v12286 : BitVec 32 := Scalar.extui v12285
  let c0_i32_4833 : BitVec 32 := 0#32
  let v12287 : BitVec 1 := Scalar.cmpi .slt v12281 c0_i32_4833
  let v12288 : BitVec 32 := Scalar.extui v12287
  let v12289 : BitVec 32 := Scalar.subi v12286 v12288
  let c128_i32_4831 : BitVec 32 := 128#32
  let c0_i32_4834 : BitVec 32 := 0#32
  let v12290 : BitVec 1 := Scalar.cmpi .sgt c128_i32_4831 c0_i32_4834
  let v12291 : BitVec 32 := Scalar.extui v12290
  let c0_i32_4835 : BitVec 32 := 0#32
  let v12292 : BitVec 1 := Scalar.cmpi .slt c128_i32_4831 c0_i32_4835
  let v12293 : BitVec 32 := Scalar.extui v12292
  let v12294 : BitVec 32 := Scalar.subi v12291 v12293
  let v12295 : BitVec 1 := Scalar.cmpi .ne v12289 v12294
  let v12296 : BitVec 32 := Scalar.remsi v12281 c128_i32_4831
  let c0_i32_4836 : BitVec 32 := 0#32
  let v12297 : BitVec 1 := Scalar.cmpi .ne v12296 c0_i32_4836
  let v12298 : BitVec 1 := Scalar.andi v12295 v12297
  let v12284 : BitVec 32 := Scalar.divsi v12281 c128_i32_4831
  let c1_i32_4837 : BitVec 32 := 1#32
  let v12299 : BitVec 32 := Scalar.subi v12284 c1_i32_4837
  let v12300 : BitVec 32 := Scalar.select v12298 v12299 v12284
  let c128_i32_4838 : BitVec 32 := 128#32
  let v12301 : BitVec 32 := Scalar.muli v12300 c128_i32_4838
  let v12302 : BitVec 32 := v12301
  let v12305 : Index := Scalar.indexCast v12302
  ![v12304.toNat, 0, v12305.toNat]

def k1_chk216 (v12279 : BitVec 32) (v12281 : BitVec 32) : Prop :=
  (128 ∣ (k1_mult216 v12281).toNat) ∧
  (∀ a, (k1_off674 v12279 v12281) a + S1x16x512.size a ≤ S384x16x1152.size a)
theorem k1_mult216_dvd : ∀ (v12279 : BitVec 32) (v12281 : BitVec 32) (k1_hw216 : k1_chk216 v12279 v12281), 128 ∣ (k1_mult216 v12281).toNat := fun v12279 v12281 k1_hw216 => k1_hw216.1
theorem k1_off674_inb : ∀ (v12279 : BitVec 32) (v12281 : BitVec 32) (k1_hw216 : k1_chk216 v12279 v12281), ∀ a, (k1_off674 v12279 v12281) a + S1x16x512.size a ≤ S384x16x1152.size a := fun v12279 v12281 k1_hw216 => k1_hw216.2

def k1_off675 (i : grid1.Coords) : Fin 2 → Nat :=
  let arg0 : BitVec 32 := BitVec.ofNat 32 (i 0).val
  let c48_i32_4677 : BitVec 32 := 48#32
  let v11885 : BitVec 32 := Scalar.muli arg0 c48_i32_4677
  let c26_i32 : BitVec 32 := 26#32
  let v11886 : BitVec 32 := Scalar.addi v11885 c26_i32
  let v12315 : Index := Scalar.indexCast v11886
  let c7_4842 : Index := 7#32
  ![v12315.toNat, 7]
def k1_off676 (i : grid1.Coords) : Fin 3 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12344 : Index := Scalar.indexCast v12343
  let c0_4858 : Index := 0#32
  let c720_4859 : Index := 720#32
  ![v12344.toNat, 0, 720]
def k1_off677 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12364 : Index := Scalar.indexCast v12343
  let c0_4868 : Index := 0#32
  ![v12364.toNat, 0]
def k1_mult217 (v12367 : BitVec 32) : BitVec 32 :=
  let c0_i32_4872 : BitVec 32 := 0#32
  let v12371 : BitVec 1 := Scalar.cmpi .sgt v12367 c0_i32_4872
  let v12372 : BitVec 32 := Scalar.extui v12371
  let c0_i32_4873 : BitVec 32 := 0#32
  let v12373 : BitVec 1 := Scalar.cmpi .slt v12367 c0_i32_4873
  let v12374 : BitVec 32 := Scalar.extui v12373
  let v12375 : BitVec 32 := Scalar.subi v12372 v12374
  let c128_i32_4871 : BitVec 32 := 128#32
  let c0_i32_4874 : BitVec 32 := 0#32
  let v12376 : BitVec 1 := Scalar.cmpi .sgt c128_i32_4871 c0_i32_4874
  let v12377 : BitVec 32 := Scalar.extui v12376
  let c0_i32_4875 : BitVec 32 := 0#32
  let v12378 : BitVec 1 := Scalar.cmpi .slt c128_i32_4871 c0_i32_4875
  let v12379 : BitVec 32 := Scalar.extui v12378
  let v12380 : BitVec 32 := Scalar.subi v12377 v12379
  let v12381 : BitVec 1 := Scalar.cmpi .ne v12375 v12380
  let v12382 : BitVec 32 := Scalar.remsi v12367 c128_i32_4871
  let c0_i32_4876 : BitVec 32 := 0#32
  let v12383 : BitVec 1 := Scalar.cmpi .ne v12382 c0_i32_4876
  let v12384 : BitVec 1 := Scalar.andi v12381 v12383
  let v12370 : BitVec 32 := Scalar.divsi v12367 c128_i32_4871
  let c1_i32_4877 : BitVec 32 := 1#32
  let v12385 : BitVec 32 := Scalar.subi v12370 c1_i32_4877
  let v12386 : BitVec 32 := Scalar.select v12384 v12385 v12370
  let c128_i32_4878 : BitVec 32 := 128#32
  let v12387 : BitVec 32 := Scalar.muli v12386 c128_i32_4878
  v12387

def k1_off678 (v12365 : BitVec 32) (v12367 : BitVec 32) : Fin 3 → Nat :=
  let v12390 : Index := Scalar.indexCast v12365
  let c0_4879 : Index := 0#32
  let c0_i32_4872 : BitVec 32 := 0#32
  let v12371 : BitVec 1 := Scalar.cmpi .sgt v12367 c0_i32_4872
  let v12372 : BitVec 32 := Scalar.extui v12371
  let c0_i32_4873 : BitVec 32 := 0#32
  let v12373 : BitVec 1 := Scalar.cmpi .slt v12367 c0_i32_4873
  let v12374 : BitVec 32 := Scalar.extui v12373
  let v12375 : BitVec 32 := Scalar.subi v12372 v12374
  let c128_i32_4871 : BitVec 32 := 128#32
  let c0_i32_4874 : BitVec 32 := 0#32
  let v12376 : BitVec 1 := Scalar.cmpi .sgt c128_i32_4871 c0_i32_4874
  let v12377 : BitVec 32 := Scalar.extui v12376
  let c0_i32_4875 : BitVec 32 := 0#32
  let v12378 : BitVec 1 := Scalar.cmpi .slt c128_i32_4871 c0_i32_4875
  let v12379 : BitVec 32 := Scalar.extui v12378
  let v12380 : BitVec 32 := Scalar.subi v12377 v12379
  let v12381 : BitVec 1 := Scalar.cmpi .ne v12375 v12380
  let v12382 : BitVec 32 := Scalar.remsi v12367 c128_i32_4871
  let c0_i32_4876 : BitVec 32 := 0#32
  let v12383 : BitVec 1 := Scalar.cmpi .ne v12382 c0_i32_4876
  let v12384 : BitVec 1 := Scalar.andi v12381 v12383
  let v12370 : BitVec 32 := Scalar.divsi v12367 c128_i32_4871
  let c1_i32_4877 : BitVec 32 := 1#32
  let v12385 : BitVec 32 := Scalar.subi v12370 c1_i32_4877
  let v12386 : BitVec 32 := Scalar.select v12384 v12385 v12370
  let c128_i32_4878 : BitVec 32 := 128#32
  let v12387 : BitVec 32 := Scalar.muli v12386 c128_i32_4878
  let v12388 : BitVec 32 := v12387
  let v12391 : Index := Scalar.indexCast v12388
  ![v12390.toNat, 0, v12391.toNat]

def k1_chk217 (v12365 : BitVec 32) (v12367 : BitVec 32) : Prop :=
  (128 ∣ (k1_mult217 v12367).toNat) ∧
  (∀ a, (k1_off678 v12365 v12367) a + S1x16x512.size a ≤ S384x16x1152.size a)
theorem k1_mult217_dvd : ∀ (v12365 : BitVec 32) (v12367 : BitVec 32) (k1_hw217 : k1_chk217 v12365 v12367), 128 ∣ (k1_mult217 v12367).toNat := fun v12365 v12367 k1_hw217 => k1_hw217.1
theorem k1_off678_inb : ∀ (v12365 : BitVec 32) (v12367 : BitVec 32) (k1_hw217 : k1_chk217 v12365 v12367), ∀ a, (k1_off678 v12365 v12367) a + S1x16x512.size a ≤ S384x16x1152.size a := fun v12365 v12367 k1_hw217 => k1_hw217.2

def k1_off679 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12401 : Index := Scalar.indexCast v12343
  let c0_4882 : Index := 0#32
  ![v12401.toNat, 0]
def k1_off680 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12417 : Index := Scalar.indexCast v12343
  let c1_4888 : Index := 1#32
  ![v12417.toNat, 1]
def k1_mult218 (v12420 : BitVec 32) : BitVec 32 :=
  let c0_i32_4892 : BitVec 32 := 0#32
  let v12424 : BitVec 1 := Scalar.cmpi .sgt v12420 c0_i32_4892
  let v12425 : BitVec 32 := Scalar.extui v12424
  let c0_i32_4893 : BitVec 32 := 0#32
  let v12426 : BitVec 1 := Scalar.cmpi .slt v12420 c0_i32_4893
  let v12427 : BitVec 32 := Scalar.extui v12426
  let v12428 : BitVec 32 := Scalar.subi v12425 v12427
  let c128_i32_4891 : BitVec 32 := 128#32
  let c0_i32_4894 : BitVec 32 := 0#32
  let v12429 : BitVec 1 := Scalar.cmpi .sgt c128_i32_4891 c0_i32_4894
  let v12430 : BitVec 32 := Scalar.extui v12429
  let c0_i32_4895 : BitVec 32 := 0#32
  let v12431 : BitVec 1 := Scalar.cmpi .slt c128_i32_4891 c0_i32_4895
  let v12432 : BitVec 32 := Scalar.extui v12431
  let v12433 : BitVec 32 := Scalar.subi v12430 v12432
  let v12434 : BitVec 1 := Scalar.cmpi .ne v12428 v12433
  let v12435 : BitVec 32 := Scalar.remsi v12420 c128_i32_4891
  let c0_i32_4896 : BitVec 32 := 0#32
  let v12436 : BitVec 1 := Scalar.cmpi .ne v12435 c0_i32_4896
  let v12437 : BitVec 1 := Scalar.andi v12434 v12436
  let v12423 : BitVec 32 := Scalar.divsi v12420 c128_i32_4891
  let c1_i32_4897 : BitVec 32 := 1#32
  let v12438 : BitVec 32 := Scalar.subi v12423 c1_i32_4897
  let v12439 : BitVec 32 := Scalar.select v12437 v12438 v12423
  let c128_i32_4898 : BitVec 32 := 128#32
  let v12440 : BitVec 32 := Scalar.muli v12439 c128_i32_4898
  v12440

def k1_off681 (v12418 : BitVec 32) (v12420 : BitVec 32) : Fin 3 → Nat :=
  let v12443 : Index := Scalar.indexCast v12418
  let c0_4899 : Index := 0#32
  let c0_i32_4892 : BitVec 32 := 0#32
  let v12424 : BitVec 1 := Scalar.cmpi .sgt v12420 c0_i32_4892
  let v12425 : BitVec 32 := Scalar.extui v12424
  let c0_i32_4893 : BitVec 32 := 0#32
  let v12426 : BitVec 1 := Scalar.cmpi .slt v12420 c0_i32_4893
  let v12427 : BitVec 32 := Scalar.extui v12426
  let v12428 : BitVec 32 := Scalar.subi v12425 v12427
  let c128_i32_4891 : BitVec 32 := 128#32
  let c0_i32_4894 : BitVec 32 := 0#32
  let v12429 : BitVec 1 := Scalar.cmpi .sgt c128_i32_4891 c0_i32_4894
  let v12430 : BitVec 32 := Scalar.extui v12429
  let c0_i32_4895 : BitVec 32 := 0#32
  let v12431 : BitVec 1 := Scalar.cmpi .slt c128_i32_4891 c0_i32_4895
  let v12432 : BitVec 32 := Scalar.extui v12431
  let v12433 : BitVec 32 := Scalar.subi v12430 v12432
  let v12434 : BitVec 1 := Scalar.cmpi .ne v12428 v12433
  let v12435 : BitVec 32 := Scalar.remsi v12420 c128_i32_4891
  let c0_i32_4896 : BitVec 32 := 0#32
  let v12436 : BitVec 1 := Scalar.cmpi .ne v12435 c0_i32_4896
  let v12437 : BitVec 1 := Scalar.andi v12434 v12436
  let v12423 : BitVec 32 := Scalar.divsi v12420 c128_i32_4891
  let c1_i32_4897 : BitVec 32 := 1#32
  let v12438 : BitVec 32 := Scalar.subi v12423 c1_i32_4897
  let v12439 : BitVec 32 := Scalar.select v12437 v12438 v12423
  let c128_i32_4898 : BitVec 32 := 128#32
  let v12440 : BitVec 32 := Scalar.muli v12439 c128_i32_4898
  let v12441 : BitVec 32 := v12440
  let v12444 : Index := Scalar.indexCast v12441
  ![v12443.toNat, 0, v12444.toNat]

def k1_chk218 (v12418 : BitVec 32) (v12420 : BitVec 32) : Prop :=
  (128 ∣ (k1_mult218 v12420).toNat) ∧
  (∀ a, (k1_off681 v12418 v12420) a + S1x16x512.size a ≤ S384x16x1152.size a)
theorem k1_mult218_dvd : ∀ (v12418 : BitVec 32) (v12420 : BitVec 32) (k1_hw218 : k1_chk218 v12418 v12420), 128 ∣ (k1_mult218 v12420).toNat := fun v12418 v12420 k1_hw218 => k1_hw218.1
theorem k1_off681_inb : ∀ (v12418 : BitVec 32) (v12420 : BitVec 32) (k1_hw218 : k1_chk218 v12418 v12420), ∀ a, (k1_off681 v12418 v12420) a + S1x16x512.size a ≤ S384x16x1152.size a := fun v12418 v12420 k1_hw218 => k1_hw218.2

def k1_off682 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12454 : Index := Scalar.indexCast v12343
  let c1_4902 : Index := 1#32
  ![v12454.toNat, 1]
def k1_off683 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12470 : Index := Scalar.indexCast v12343
  let c2_4908 : Index := 2#32
  ![v12470.toNat, 2]
def k1_mult219 (v12473 : BitVec 32) : BitVec 32 :=
  let c0_i32_4912 : BitVec 32 := 0#32
  let v12477 : BitVec 1 := Scalar.cmpi .sgt v12473 c0_i32_4912
  let v12478 : BitVec 32 := Scalar.extui v12477
  let c0_i32_4913 : BitVec 32 := 0#32
  let v12479 : BitVec 1 := Scalar.cmpi .slt v12473 c0_i32_4913
  let v12480 : BitVec 32 := Scalar.extui v12479
  let v12481 : BitVec 32 := Scalar.subi v12478 v12480
  let c128_i32_4911 : BitVec 32 := 128#32
  let c0_i32_4914 : BitVec 32 := 0#32
  let v12482 : BitVec 1 := Scalar.cmpi .sgt c128_i32_4911 c0_i32_4914
  let v12483 : BitVec 32 := Scalar.extui v12482
  let c0_i32_4915 : BitVec 32 := 0#32
  let v12484 : BitVec 1 := Scalar.cmpi .slt c128_i32_4911 c0_i32_4915
  let v12485 : BitVec 32 := Scalar.extui v12484
  let v12486 : BitVec 32 := Scalar.subi v12483 v12485
  let v12487 : BitVec 1 := Scalar.cmpi .ne v12481 v12486
  let v12488 : BitVec 32 := Scalar.remsi v12473 c128_i32_4911
  let c0_i32_4916 : BitVec 32 := 0#32
  let v12489 : BitVec 1 := Scalar.cmpi .ne v12488 c0_i32_4916
  let v12490 : BitVec 1 := Scalar.andi v12487 v12489
  let v12476 : BitVec 32 := Scalar.divsi v12473 c128_i32_4911
  let c1_i32_4917 : BitVec 32 := 1#32
  let v12491 : BitVec 32 := Scalar.subi v12476 c1_i32_4917
  let v12492 : BitVec 32 := Scalar.select v12490 v12491 v12476
  let c128_i32_4918 : BitVec 32 := 128#32
  let v12493 : BitVec 32 := Scalar.muli v12492 c128_i32_4918
  v12493

def k1_off684 (v12471 : BitVec 32) (v12473 : BitVec 32) : Fin 3 → Nat :=
  let v12496 : Index := Scalar.indexCast v12471
  let c0_4919 : Index := 0#32
  let c0_i32_4912 : BitVec 32 := 0#32
  let v12477 : BitVec 1 := Scalar.cmpi .sgt v12473 c0_i32_4912
  let v12478 : BitVec 32 := Scalar.extui v12477
  let c0_i32_4913 : BitVec 32 := 0#32
  let v12479 : BitVec 1 := Scalar.cmpi .slt v12473 c0_i32_4913
  let v12480 : BitVec 32 := Scalar.extui v12479
  let v12481 : BitVec 32 := Scalar.subi v12478 v12480
  let c128_i32_4911 : BitVec 32 := 128#32
  let c0_i32_4914 : BitVec 32 := 0#32
  let v12482 : BitVec 1 := Scalar.cmpi .sgt c128_i32_4911 c0_i32_4914
  let v12483 : BitVec 32 := Scalar.extui v12482
  let c0_i32_4915 : BitVec 32 := 0#32
  let v12484 : BitVec 1 := Scalar.cmpi .slt c128_i32_4911 c0_i32_4915
  let v12485 : BitVec 32 := Scalar.extui v12484
  let v12486 : BitVec 32 := Scalar.subi v12483 v12485
  let v12487 : BitVec 1 := Scalar.cmpi .ne v12481 v12486
  let v12488 : BitVec 32 := Scalar.remsi v12473 c128_i32_4911
  let c0_i32_4916 : BitVec 32 := 0#32
  let v12489 : BitVec 1 := Scalar.cmpi .ne v12488 c0_i32_4916
  let v12490 : BitVec 1 := Scalar.andi v12487 v12489
  let v12476 : BitVec 32 := Scalar.divsi v12473 c128_i32_4911
  let c1_i32_4917 : BitVec 32 := 1#32
  let v12491 : BitVec 32 := Scalar.subi v12476 c1_i32_4917
  let v12492 : BitVec 32 := Scalar.select v12490 v12491 v12476
  let c128_i32_4918 : BitVec 32 := 128#32
  let v12493 : BitVec 32 := Scalar.muli v12492 c128_i32_4918
  let v12494 : BitVec 32 := v12493
  let v12497 : Index := Scalar.indexCast v12494
  ![v12496.toNat, 0, v12497.toNat]

def k1_chk219 (v12471 : BitVec 32) (v12473 : BitVec 32) : Prop :=
  (128 ∣ (k1_mult219 v12473).toNat) ∧
  (∀ a, (k1_off684 v12471 v12473) a + S1x16x512.size a ≤ S384x16x1152.size a)
theorem k1_mult219_dvd : ∀ (v12471 : BitVec 32) (v12473 : BitVec 32) (k1_hw219 : k1_chk219 v12471 v12473), 128 ∣ (k1_mult219 v12473).toNat := fun v12471 v12473 k1_hw219 => k1_hw219.1
theorem k1_off684_inb : ∀ (v12471 : BitVec 32) (v12473 : BitVec 32) (k1_hw219 : k1_chk219 v12471 v12473), ∀ a, (k1_off684 v12471 v12473) a + S1x16x512.size a ≤ S384x16x1152.size a := fun v12471 v12473 k1_hw219 => k1_hw219.2

def k1_off685 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12507 : Index := Scalar.indexCast v12343
  let c2_4922 : Index := 2#32
  ![v12507.toNat, 2]
def k1_off686 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12523 : Index := Scalar.indexCast v12343
  let c3_4928 : Index := 3#32
  ![v12523.toNat, 3]
def k1_mult220 (v12526 : BitVec 32) : BitVec 32 :=
  let c0_i32_4932 : BitVec 32 := 0#32
  let v12530 : BitVec 1 := Scalar.cmpi .sgt v12526 c0_i32_4932
  let v12531 : BitVec 32 := Scalar.extui v12530
  let c0_i32_4933 : BitVec 32 := 0#32
  let v12532 : BitVec 1 := Scalar.cmpi .slt v12526 c0_i32_4933
  let v12533 : BitVec 32 := Scalar.extui v12532
  let v12534 : BitVec 32 := Scalar.subi v12531 v12533
  let c128_i32_4931 : BitVec 32 := 128#32
  let c0_i32_4934 : BitVec 32 := 0#32
  let v12535 : BitVec 1 := Scalar.cmpi .sgt c128_i32_4931 c0_i32_4934
  let v12536 : BitVec 32 := Scalar.extui v12535
  let c0_i32_4935 : BitVec 32 := 0#32
  let v12537 : BitVec 1 := Scalar.cmpi .slt c128_i32_4931 c0_i32_4935
  let v12538 : BitVec 32 := Scalar.extui v12537
  let v12539 : BitVec 32 := Scalar.subi v12536 v12538
  let v12540 : BitVec 1 := Scalar.cmpi .ne v12534 v12539
  let v12541 : BitVec 32 := Scalar.remsi v12526 c128_i32_4931
  let c0_i32_4936 : BitVec 32 := 0#32
  let v12542 : BitVec 1 := Scalar.cmpi .ne v12541 c0_i32_4936
  let v12543 : BitVec 1 := Scalar.andi v12540 v12542
  let v12529 : BitVec 32 := Scalar.divsi v12526 c128_i32_4931
  let c1_i32_4937 : BitVec 32 := 1#32
  let v12544 : BitVec 32 := Scalar.subi v12529 c1_i32_4937
  let v12545 : BitVec 32 := Scalar.select v12543 v12544 v12529
  let c128_i32_4938 : BitVec 32 := 128#32
  let v12546 : BitVec 32 := Scalar.muli v12545 c128_i32_4938
  v12546

def k1_off687 (v12524 : BitVec 32) (v12526 : BitVec 32) : Fin 3 → Nat :=
  let v12549 : Index := Scalar.indexCast v12524
  let c0_4939 : Index := 0#32
  let c0_i32_4932 : BitVec 32 := 0#32
  let v12530 : BitVec 1 := Scalar.cmpi .sgt v12526 c0_i32_4932
  let v12531 : BitVec 32 := Scalar.extui v12530
  let c0_i32_4933 : BitVec 32 := 0#32
  let v12532 : BitVec 1 := Scalar.cmpi .slt v12526 c0_i32_4933
  let v12533 : BitVec 32 := Scalar.extui v12532
  let v12534 : BitVec 32 := Scalar.subi v12531 v12533
  let c128_i32_4931 : BitVec 32 := 128#32
  let c0_i32_4934 : BitVec 32 := 0#32
  let v12535 : BitVec 1 := Scalar.cmpi .sgt c128_i32_4931 c0_i32_4934
  let v12536 : BitVec 32 := Scalar.extui v12535
  let c0_i32_4935 : BitVec 32 := 0#32
  let v12537 : BitVec 1 := Scalar.cmpi .slt c128_i32_4931 c0_i32_4935
  let v12538 : BitVec 32 := Scalar.extui v12537
  let v12539 : BitVec 32 := Scalar.subi v12536 v12538
  let v12540 : BitVec 1 := Scalar.cmpi .ne v12534 v12539
  let v12541 : BitVec 32 := Scalar.remsi v12526 c128_i32_4931
  let c0_i32_4936 : BitVec 32 := 0#32
  let v12542 : BitVec 1 := Scalar.cmpi .ne v12541 c0_i32_4936
  let v12543 : BitVec 1 := Scalar.andi v12540 v12542
  let v12529 : BitVec 32 := Scalar.divsi v12526 c128_i32_4931
  let c1_i32_4937 : BitVec 32 := 1#32
  let v12544 : BitVec 32 := Scalar.subi v12529 c1_i32_4937
  let v12545 : BitVec 32 := Scalar.select v12543 v12544 v12529
  let c128_i32_4938 : BitVec 32 := 128#32
  let v12546 : BitVec 32 := Scalar.muli v12545 c128_i32_4938
  let v12547 : BitVec 32 := v12546
  let v12550 : Index := Scalar.indexCast v12547
  ![v12549.toNat, 0, v12550.toNat]

def k1_chk220 (v12524 : BitVec 32) (v12526 : BitVec 32) : Prop :=
  (128 ∣ (k1_mult220 v12526).toNat) ∧
  (∀ a, (k1_off687 v12524 v12526) a + S1x16x512.size a ≤ S384x16x1152.size a)
theorem k1_mult220_dvd : ∀ (v12524 : BitVec 32) (v12526 : BitVec 32) (k1_hw220 : k1_chk220 v12524 v12526), 128 ∣ (k1_mult220 v12526).toNat := fun v12524 v12526 k1_hw220 => k1_hw220.1
theorem k1_off687_inb : ∀ (v12524 : BitVec 32) (v12526 : BitVec 32) (k1_hw220 : k1_chk220 v12524 v12526), ∀ a, (k1_off687 v12524 v12526) a + S1x16x512.size a ≤ S384x16x1152.size a := fun v12524 v12526 k1_hw220 => k1_hw220.2

def k1_off688 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12560 : Index := Scalar.indexCast v12343
  let c3_4942 : Index := 3#32
  ![v12560.toNat, 3]
def k1_off689 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12576 : Index := Scalar.indexCast v12343
  let c4_4948 : Index := 4#32
  ![v12576.toNat, 4]
def k1_mult221 (v12579 : BitVec 32) : BitVec 32 :=
  let c0_i32_4952 : BitVec 32 := 0#32
  let v12583 : BitVec 1 := Scalar.cmpi .sgt v12579 c0_i32_4952
  let v12584 : BitVec 32 := Scalar.extui v12583
  let c0_i32_4953 : BitVec 32 := 0#32
  let v12585 : BitVec 1 := Scalar.cmpi .slt v12579 c0_i32_4953
  let v12586 : BitVec 32 := Scalar.extui v12585
  let v12587 : BitVec 32 := Scalar.subi v12584 v12586
  let c128_i32_4951 : BitVec 32 := 128#32
  let c0_i32_4954 : BitVec 32 := 0#32
  let v12588 : BitVec 1 := Scalar.cmpi .sgt c128_i32_4951 c0_i32_4954
  let v12589 : BitVec 32 := Scalar.extui v12588
  let c0_i32_4955 : BitVec 32 := 0#32
  let v12590 : BitVec 1 := Scalar.cmpi .slt c128_i32_4951 c0_i32_4955
  let v12591 : BitVec 32 := Scalar.extui v12590
  let v12592 : BitVec 32 := Scalar.subi v12589 v12591
  let v12593 : BitVec 1 := Scalar.cmpi .ne v12587 v12592
  let v12594 : BitVec 32 := Scalar.remsi v12579 c128_i32_4951
  let c0_i32_4956 : BitVec 32 := 0#32
  let v12595 : BitVec 1 := Scalar.cmpi .ne v12594 c0_i32_4956
  let v12596 : BitVec 1 := Scalar.andi v12593 v12595
  let v12582 : BitVec 32 := Scalar.divsi v12579 c128_i32_4951
  let c1_i32_4957 : BitVec 32 := 1#32
  let v12597 : BitVec 32 := Scalar.subi v12582 c1_i32_4957
  let v12598 : BitVec 32 := Scalar.select v12596 v12597 v12582
  let c128_i32_4958 : BitVec 32 := 128#32
  let v12599 : BitVec 32 := Scalar.muli v12598 c128_i32_4958
  v12599

def k1_off690 (v12577 : BitVec 32) (v12579 : BitVec 32) : Fin 3 → Nat :=
  let v12602 : Index := Scalar.indexCast v12577
  let c0_4959 : Index := 0#32
  let c0_i32_4952 : BitVec 32 := 0#32
  let v12583 : BitVec 1 := Scalar.cmpi .sgt v12579 c0_i32_4952
  let v12584 : BitVec 32 := Scalar.extui v12583
  let c0_i32_4953 : BitVec 32 := 0#32
  let v12585 : BitVec 1 := Scalar.cmpi .slt v12579 c0_i32_4953
  let v12586 : BitVec 32 := Scalar.extui v12585
  let v12587 : BitVec 32 := Scalar.subi v12584 v12586
  let c128_i32_4951 : BitVec 32 := 128#32
  let c0_i32_4954 : BitVec 32 := 0#32
  let v12588 : BitVec 1 := Scalar.cmpi .sgt c128_i32_4951 c0_i32_4954
  let v12589 : BitVec 32 := Scalar.extui v12588
  let c0_i32_4955 : BitVec 32 := 0#32
  let v12590 : BitVec 1 := Scalar.cmpi .slt c128_i32_4951 c0_i32_4955
  let v12591 : BitVec 32 := Scalar.extui v12590
  let v12592 : BitVec 32 := Scalar.subi v12589 v12591
  let v12593 : BitVec 1 := Scalar.cmpi .ne v12587 v12592
  let v12594 : BitVec 32 := Scalar.remsi v12579 c128_i32_4951
  let c0_i32_4956 : BitVec 32 := 0#32
  let v12595 : BitVec 1 := Scalar.cmpi .ne v12594 c0_i32_4956
  let v12596 : BitVec 1 := Scalar.andi v12593 v12595
  let v12582 : BitVec 32 := Scalar.divsi v12579 c128_i32_4951
  let c1_i32_4957 : BitVec 32 := 1#32
  let v12597 : BitVec 32 := Scalar.subi v12582 c1_i32_4957
  let v12598 : BitVec 32 := Scalar.select v12596 v12597 v12582
  let c128_i32_4958 : BitVec 32 := 128#32
  let v12599 : BitVec 32 := Scalar.muli v12598 c128_i32_4958
  let v12600 : BitVec 32 := v12599
  let v12603 : Index := Scalar.indexCast v12600
  ![v12602.toNat, 0, v12603.toNat]

def k1_chk221 (v12577 : BitVec 32) (v12579 : BitVec 32) : Prop :=
  (128 ∣ (k1_mult221 v12579).toNat) ∧
  (∀ a, (k1_off690 v12577 v12579) a + S1x16x512.size a ≤ S384x16x1152.size a)
theorem k1_mult221_dvd : ∀ (v12577 : BitVec 32) (v12579 : BitVec 32) (k1_hw221 : k1_chk221 v12577 v12579), 128 ∣ (k1_mult221 v12579).toNat := fun v12577 v12579 k1_hw221 => k1_hw221.1
theorem k1_off690_inb : ∀ (v12577 : BitVec 32) (v12579 : BitVec 32) (k1_hw221 : k1_chk221 v12577 v12579), ∀ a, (k1_off690 v12577 v12579) a + S1x16x512.size a ≤ S384x16x1152.size a := fun v12577 v12579 k1_hw221 => k1_hw221.2

def k1_off691 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12613 : Index := Scalar.indexCast v12343
  let c4_4962 : Index := 4#32
  ![v12613.toNat, 4]
def k1_off692 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12629 : Index := Scalar.indexCast v12343
  let c5_4968 : Index := 5#32
  ![v12629.toNat, 5]
def k1_mult222 (v12632 : BitVec 32) : BitVec 32 :=
  let c0_i32_4972 : BitVec 32 := 0#32
  let v12636 : BitVec 1 := Scalar.cmpi .sgt v12632 c0_i32_4972
  let v12637 : BitVec 32 := Scalar.extui v12636
  let c0_i32_4973 : BitVec 32 := 0#32
  let v12638 : BitVec 1 := Scalar.cmpi .slt v12632 c0_i32_4973
  let v12639 : BitVec 32 := Scalar.extui v12638
  let v12640 : BitVec 32 := Scalar.subi v12637 v12639
  let c128_i32_4971 : BitVec 32 := 128#32
  let c0_i32_4974 : BitVec 32 := 0#32
  let v12641 : BitVec 1 := Scalar.cmpi .sgt c128_i32_4971 c0_i32_4974
  let v12642 : BitVec 32 := Scalar.extui v12641
  let c0_i32_4975 : BitVec 32 := 0#32
  let v12643 : BitVec 1 := Scalar.cmpi .slt c128_i32_4971 c0_i32_4975
  let v12644 : BitVec 32 := Scalar.extui v12643
  let v12645 : BitVec 32 := Scalar.subi v12642 v12644
  let v12646 : BitVec 1 := Scalar.cmpi .ne v12640 v12645
  let v12647 : BitVec 32 := Scalar.remsi v12632 c128_i32_4971
  let c0_i32_4976 : BitVec 32 := 0#32
  let v12648 : BitVec 1 := Scalar.cmpi .ne v12647 c0_i32_4976
  let v12649 : BitVec 1 := Scalar.andi v12646 v12648
  let v12635 : BitVec 32 := Scalar.divsi v12632 c128_i32_4971
  let c1_i32_4977 : BitVec 32 := 1#32
  let v12650 : BitVec 32 := Scalar.subi v12635 c1_i32_4977
  let v12651 : BitVec 32 := Scalar.select v12649 v12650 v12635
  let c128_i32_4978 : BitVec 32 := 128#32
  let v12652 : BitVec 32 := Scalar.muli v12651 c128_i32_4978
  v12652

def k1_off693 (v12630 : BitVec 32) (v12632 : BitVec 32) : Fin 3 → Nat :=
  let v12655 : Index := Scalar.indexCast v12630
  let c0_4979 : Index := 0#32
  let c0_i32_4972 : BitVec 32 := 0#32
  let v12636 : BitVec 1 := Scalar.cmpi .sgt v12632 c0_i32_4972
  let v12637 : BitVec 32 := Scalar.extui v12636
  let c0_i32_4973 : BitVec 32 := 0#32
  let v12638 : BitVec 1 := Scalar.cmpi .slt v12632 c0_i32_4973
  let v12639 : BitVec 32 := Scalar.extui v12638
  let v12640 : BitVec 32 := Scalar.subi v12637 v12639
  let c128_i32_4971 : BitVec 32 := 128#32
  let c0_i32_4974 : BitVec 32 := 0#32
  let v12641 : BitVec 1 := Scalar.cmpi .sgt c128_i32_4971 c0_i32_4974
  let v12642 : BitVec 32 := Scalar.extui v12641
  let c0_i32_4975 : BitVec 32 := 0#32
  let v12643 : BitVec 1 := Scalar.cmpi .slt c128_i32_4971 c0_i32_4975
  let v12644 : BitVec 32 := Scalar.extui v12643
  let v12645 : BitVec 32 := Scalar.subi v12642 v12644
  let v12646 : BitVec 1 := Scalar.cmpi .ne v12640 v12645
  let v12647 : BitVec 32 := Scalar.remsi v12632 c128_i32_4971
  let c0_i32_4976 : BitVec 32 := 0#32
  let v12648 : BitVec 1 := Scalar.cmpi .ne v12647 c0_i32_4976
  let v12649 : BitVec 1 := Scalar.andi v12646 v12648
  let v12635 : BitVec 32 := Scalar.divsi v12632 c128_i32_4971
  let c1_i32_4977 : BitVec 32 := 1#32
  let v12650 : BitVec 32 := Scalar.subi v12635 c1_i32_4977
  let v12651 : BitVec 32 := Scalar.select v12649 v12650 v12635
  let c128_i32_4978 : BitVec 32 := 128#32
  let v12652 : BitVec 32 := Scalar.muli v12651 c128_i32_4978
  let v12653 : BitVec 32 := v12652
  let v12656 : Index := Scalar.indexCast v12653
  ![v12655.toNat, 0, v12656.toNat]

def k1_chk222 (v12630 : BitVec 32) (v12632 : BitVec 32) : Prop :=
  (128 ∣ (k1_mult222 v12632).toNat) ∧
  (∀ a, (k1_off693 v12630 v12632) a + S1x16x512.size a ≤ S384x16x1152.size a)
theorem k1_mult222_dvd : ∀ (v12630 : BitVec 32) (v12632 : BitVec 32) (k1_hw222 : k1_chk222 v12630 v12632), 128 ∣ (k1_mult222 v12632).toNat := fun v12630 v12632 k1_hw222 => k1_hw222.1
theorem k1_off693_inb : ∀ (v12630 : BitVec 32) (v12632 : BitVec 32) (k1_hw222 : k1_chk222 v12630 v12632), ∀ a, (k1_off693 v12630 v12632) a + S1x16x512.size a ≤ S384x16x1152.size a := fun v12630 v12632 k1_hw222 => k1_hw222.2

def k1_off694 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12666 : Index := Scalar.indexCast v12343
  let c5_4982 : Index := 5#32
  ![v12666.toNat, 5]
def k1_off695 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12682 : Index := Scalar.indexCast v12343
  let c6_4988 : Index := 6#32
  ![v12682.toNat, 6]
def k1_mult223 (v12685 : BitVec 32) : BitVec 32 :=
  let c0_i32_4992 : BitVec 32 := 0#32
  let v12689 : BitVec 1 := Scalar.cmpi .sgt v12685 c0_i32_4992
  let v12690 : BitVec 32 := Scalar.extui v12689
  let c0_i32_4993 : BitVec 32 := 0#32
  let v12691 : BitVec 1 := Scalar.cmpi .slt v12685 c0_i32_4993
  let v12692 : BitVec 32 := Scalar.extui v12691
  let v12693 : BitVec 32 := Scalar.subi v12690 v12692
  let c128_i32_4991 : BitVec 32 := 128#32
  let c0_i32_4994 : BitVec 32 := 0#32
  let v12694 : BitVec 1 := Scalar.cmpi .sgt c128_i32_4991 c0_i32_4994
  let v12695 : BitVec 32 := Scalar.extui v12694
  let c0_i32_4995 : BitVec 32 := 0#32
  let v12696 : BitVec 1 := Scalar.cmpi .slt c128_i32_4991 c0_i32_4995
  let v12697 : BitVec 32 := Scalar.extui v12696
  let v12698 : BitVec 32 := Scalar.subi v12695 v12697
  let v12699 : BitVec 1 := Scalar.cmpi .ne v12693 v12698
  let v12700 : BitVec 32 := Scalar.remsi v12685 c128_i32_4991
  let c0_i32_4996 : BitVec 32 := 0#32
  let v12701 : BitVec 1 := Scalar.cmpi .ne v12700 c0_i32_4996
  let v12702 : BitVec 1 := Scalar.andi v12699 v12701
  let v12688 : BitVec 32 := Scalar.divsi v12685 c128_i32_4991
  let c1_i32_4997 : BitVec 32 := 1#32
  let v12703 : BitVec 32 := Scalar.subi v12688 c1_i32_4997
  let v12704 : BitVec 32 := Scalar.select v12702 v12703 v12688
  let c128_i32_4998 : BitVec 32 := 128#32
  let v12705 : BitVec 32 := Scalar.muli v12704 c128_i32_4998
  v12705

def k1_off696 (v12683 : BitVec 32) (v12685 : BitVec 32) : Fin 3 → Nat :=
  let v12708 : Index := Scalar.indexCast v12683
  let c0_4999 : Index := 0#32
  let c0_i32_4992 : BitVec 32 := 0#32
  let v12689 : BitVec 1 := Scalar.cmpi .sgt v12685 c0_i32_4992
  let v12690 : BitVec 32 := Scalar.extui v12689
  let c0_i32_4993 : BitVec 32 := 0#32
  let v12691 : BitVec 1 := Scalar.cmpi .slt v12685 c0_i32_4993
  let v12692 : BitVec 32 := Scalar.extui v12691
  let v12693 : BitVec 32 := Scalar.subi v12690 v12692
  let c128_i32_4991 : BitVec 32 := 128#32
  let c0_i32_4994 : BitVec 32 := 0#32
  let v12694 : BitVec 1 := Scalar.cmpi .sgt c128_i32_4991 c0_i32_4994
  let v12695 : BitVec 32 := Scalar.extui v12694
  let c0_i32_4995 : BitVec 32 := 0#32
  let v12696 : BitVec 1 := Scalar.cmpi .slt c128_i32_4991 c0_i32_4995
  let v12697 : BitVec 32 := Scalar.extui v12696
  let v12698 : BitVec 32 := Scalar.subi v12695 v12697
  let v12699 : BitVec 1 := Scalar.cmpi .ne v12693 v12698
  let v12700 : BitVec 32 := Scalar.remsi v12685 c128_i32_4991
  let c0_i32_4996 : BitVec 32 := 0#32
  let v12701 : BitVec 1 := Scalar.cmpi .ne v12700 c0_i32_4996
  let v12702 : BitVec 1 := Scalar.andi v12699 v12701
  let v12688 : BitVec 32 := Scalar.divsi v12685 c128_i32_4991
  let c1_i32_4997 : BitVec 32 := 1#32
  let v12703 : BitVec 32 := Scalar.subi v12688 c1_i32_4997
  let v12704 : BitVec 32 := Scalar.select v12702 v12703 v12688
  let c128_i32_4998 : BitVec 32 := 128#32
  let v12705 : BitVec 32 := Scalar.muli v12704 c128_i32_4998
  let v12706 : BitVec 32 := v12705
  let v12709 : Index := Scalar.indexCast v12706
  ![v12708.toNat, 0, v12709.toNat]

def k1_chk223 (v12683 : BitVec 32) (v12685 : BitVec 32) : Prop :=
  (128 ∣ (k1_mult223 v12685).toNat) ∧
  (∀ a, (k1_off696 v12683 v12685) a + S1x16x512.size a ≤ S384x16x1152.size a)
theorem k1_mult223_dvd : ∀ (v12683 : BitVec 32) (v12685 : BitVec 32) (k1_hw223 : k1_chk223 v12683 v12685), 128 ∣ (k1_mult223 v12685).toNat := fun v12683 v12685 k1_hw223 => k1_hw223.1
theorem k1_off696_inb : ∀ (v12683 : BitVec 32) (v12685 : BitVec 32) (k1_hw223 : k1_chk223 v12683 v12685), ∀ a, (k1_off696 v12683 v12685) a + S1x16x512.size a ≤ S384x16x1152.size a := fun v12683 v12685 k1_hw223 => k1_hw223.2

def k1_off697 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12719 : Index := Scalar.indexCast v12343
  let c6_5002 : Index := 6#32
  ![v12719.toNat, 6]
def k1_off698 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12735 : Index := Scalar.indexCast v12343
  let c7_5008 : Index := 7#32
  ![v12735.toNat, 7]
def k1_mult224 (v12738 : BitVec 32) : BitVec 32 :=
  let c0_i32_5012 : BitVec 32 := 0#32
  let v12742 : BitVec 1 := Scalar.cmpi .sgt v12738 c0_i32_5012
  let v12743 : BitVec 32 := Scalar.extui v12742
  let c0_i32_5013 : BitVec 32 := 0#32
  let v12744 : BitVec 1 := Scalar.cmpi .slt v12738 c0_i32_5013
  let v12745 : BitVec 32 := Scalar.extui v12744
  let v12746 : BitVec 32 := Scalar.subi v12743 v12745
  let c128_i32_5011 : BitVec 32 := 128#32
  let c0_i32_5014 : BitVec 32 := 0#32
  let v12747 : BitVec 1 := Scalar.cmpi .sgt c128_i32_5011 c0_i32_5014
  let v12748 : BitVec 32 := Scalar.extui v12747
  let c0_i32_5015 : BitVec 32 := 0#32
  let v12749 : BitVec 1 := Scalar.cmpi .slt c128_i32_5011 c0_i32_5015
  let v12750 : BitVec 32 := Scalar.extui v12749
  let v12751 : BitVec 32 := Scalar.subi v12748 v12750
  let v12752 : BitVec 1 := Scalar.cmpi .ne v12746 v12751
  let v12753 : BitVec 32 := Scalar.remsi v12738 c128_i32_5011
  let c0_i32_5016 : BitVec 32 := 0#32
  let v12754 : BitVec 1 := Scalar.cmpi .ne v12753 c0_i32_5016
  let v12755 : BitVec 1 := Scalar.andi v12752 v12754
  let v12741 : BitVec 32 := Scalar.divsi v12738 c128_i32_5011
  let c1_i32_5017 : BitVec 32 := 1#32
  let v12756 : BitVec 32 := Scalar.subi v12741 c1_i32_5017
  let v12757 : BitVec 32 := Scalar.select v12755 v12756 v12741
  let c128_i32_5018 : BitVec 32 := 128#32
  let v12758 : BitVec 32 := Scalar.muli v12757 c128_i32_5018
  v12758

def k1_off699 (v12736 : BitVec 32) (v12738 : BitVec 32) : Fin 3 → Nat :=
  let v12761 : Index := Scalar.indexCast v12736
  let c0_5019 : Index := 0#32
  let c0_i32_5012 : BitVec 32 := 0#32
  let v12742 : BitVec 1 := Scalar.cmpi .sgt v12738 c0_i32_5012
  let v12743 : BitVec 32 := Scalar.extui v12742
  let c0_i32_5013 : BitVec 32 := 0#32
  let v12744 : BitVec 1 := Scalar.cmpi .slt v12738 c0_i32_5013
  let v12745 : BitVec 32 := Scalar.extui v12744
  let v12746 : BitVec 32 := Scalar.subi v12743 v12745
  let c128_i32_5011 : BitVec 32 := 128#32
  let c0_i32_5014 : BitVec 32 := 0#32
  let v12747 : BitVec 1 := Scalar.cmpi .sgt c128_i32_5011 c0_i32_5014
  let v12748 : BitVec 32 := Scalar.extui v12747
  let c0_i32_5015 : BitVec 32 := 0#32
  let v12749 : BitVec 1 := Scalar.cmpi .slt c128_i32_5011 c0_i32_5015
  let v12750 : BitVec 32 := Scalar.extui v12749
  let v12751 : BitVec 32 := Scalar.subi v12748 v12750
  let v12752 : BitVec 1 := Scalar.cmpi .ne v12746 v12751
  let v12753 : BitVec 32 := Scalar.remsi v12738 c128_i32_5011
  let c0_i32_5016 : BitVec 32 := 0#32
  let v12754 : BitVec 1 := Scalar.cmpi .ne v12753 c0_i32_5016
  let v12755 : BitVec 1 := Scalar.andi v12752 v12754
  let v12741 : BitVec 32 := Scalar.divsi v12738 c128_i32_5011
  let c1_i32_5017 : BitVec 32 := 1#32
  let v12756 : BitVec 32 := Scalar.subi v12741 c1_i32_5017
  let v12757 : BitVec 32 := Scalar.select v12755 v12756 v12741
  let c128_i32_5018 : BitVec 32 := 128#32
  let v12758 : BitVec 32 := Scalar.muli v12757 c128_i32_5018
  let v12759 : BitVec 32 := v12758
  let v12762 : Index := Scalar.indexCast v12759
  ![v12761.toNat, 0, v12762.toNat]

def k1_chk224 (v12736 : BitVec 32) (v12738 : BitVec 32) : Prop :=
  (128 ∣ (k1_mult224 v12738).toNat) ∧
  (∀ a, (k1_off699 v12736 v12738) a + S1x16x512.size a ≤ S384x16x1152.size a)
theorem k1_mult224_dvd : ∀ (v12736 : BitVec 32) (v12738 : BitVec 32) (k1_hw224 : k1_chk224 v12736 v12738), 128 ∣ (k1_mult224 v12738).toNat := fun v12736 v12738 k1_hw224 => k1_hw224.1
theorem k1_off699_inb : ∀ (v12736 : BitVec 32) (v12738 : BitVec 32) (k1_hw224 : k1_chk224 v12736 v12738), ∀ a, (k1_off699 v12736 v12738) a + S1x16x512.size a ≤ S384x16x1152.size a := fun v12736 v12738 k1_hw224 => k1_hw224.2

def k1_off700 (i : grid1.Coords) : Fin 2 → Nat :=
  let arg0 : BitVec 32 := BitVec.ofNat 32 (i 0).val
  let c48_i32_4857 : BitVec 32 := 48#32
  let v12342 : BitVec 32 := Scalar.muli arg0 c48_i32_4857
  let c27_i32 : BitVec 32 := 27#32
  let v12343 : BitVec 32 := Scalar.addi v12342 c27_i32
  let v12772 : Index := Scalar.indexCast v12343
  let c7_5022 : Index := 7#32
  ![v12772.toNat, 7]
def k1_off701 (i : grid1.Coords) : Fin 3 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12801 : Index := Scalar.indexCast v12800
  let c0_5038 : Index := 0#32
  let c720_5039 : Index := 720#32
  ![v12801.toNat, 0, 720]
def k1_off702 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12821 : Index := Scalar.indexCast v12800
  let c0_5048 : Index := 0#32
  ![v12821.toNat, 0]
def k1_mult225 (v12824 : BitVec 32) : BitVec 32 :=
  let c0_i32_5052 : BitVec 32 := 0#32
  let v12828 : BitVec 1 := Scalar.cmpi .sgt v12824 c0_i32_5052
  let v12829 : BitVec 32 := Scalar.extui v12828
  let c0_i32_5053 : BitVec 32 := 0#32
  let v12830 : BitVec 1 := Scalar.cmpi .slt v12824 c0_i32_5053
  let v12831 : BitVec 32 := Scalar.extui v12830
  let v12832 : BitVec 32 := Scalar.subi v12829 v12831
  let c128_i32_5051 : BitVec 32 := 128#32
  let c0_i32_5054 : BitVec 32 := 0#32
  let v12833 : BitVec 1 := Scalar.cmpi .sgt c128_i32_5051 c0_i32_5054
  let v12834 : BitVec 32 := Scalar.extui v12833
  let c0_i32_5055 : BitVec 32 := 0#32
  let v12835 : BitVec 1 := Scalar.cmpi .slt c128_i32_5051 c0_i32_5055
  let v12836 : BitVec 32 := Scalar.extui v12835
  let v12837 : BitVec 32 := Scalar.subi v12834 v12836
  let v12838 : BitVec 1 := Scalar.cmpi .ne v12832 v12837
  let v12839 : BitVec 32 := Scalar.remsi v12824 c128_i32_5051
  let c0_i32_5056 : BitVec 32 := 0#32
  let v12840 : BitVec 1 := Scalar.cmpi .ne v12839 c0_i32_5056
  let v12841 : BitVec 1 := Scalar.andi v12838 v12840
  let v12827 : BitVec 32 := Scalar.divsi v12824 c128_i32_5051
  let c1_i32_5057 : BitVec 32 := 1#32
  let v12842 : BitVec 32 := Scalar.subi v12827 c1_i32_5057
  let v12843 : BitVec 32 := Scalar.select v12841 v12842 v12827
  let c128_i32_5058 : BitVec 32 := 128#32
  let v12844 : BitVec 32 := Scalar.muli v12843 c128_i32_5058
  v12844

def k1_off703 (v12822 : BitVec 32) (v12824 : BitVec 32) : Fin 3 → Nat :=
  let v12847 : Index := Scalar.indexCast v12822
  let c0_5059 : Index := 0#32
  let c0_i32_5052 : BitVec 32 := 0#32
  let v12828 : BitVec 1 := Scalar.cmpi .sgt v12824 c0_i32_5052
  let v12829 : BitVec 32 := Scalar.extui v12828
  let c0_i32_5053 : BitVec 32 := 0#32
  let v12830 : BitVec 1 := Scalar.cmpi .slt v12824 c0_i32_5053
  let v12831 : BitVec 32 := Scalar.extui v12830
  let v12832 : BitVec 32 := Scalar.subi v12829 v12831
  let c128_i32_5051 : BitVec 32 := 128#32
  let c0_i32_5054 : BitVec 32 := 0#32
  let v12833 : BitVec 1 := Scalar.cmpi .sgt c128_i32_5051 c0_i32_5054
  let v12834 : BitVec 32 := Scalar.extui v12833
  let c0_i32_5055 : BitVec 32 := 0#32
  let v12835 : BitVec 1 := Scalar.cmpi .slt c128_i32_5051 c0_i32_5055
  let v12836 : BitVec 32 := Scalar.extui v12835
  let v12837 : BitVec 32 := Scalar.subi v12834 v12836
  let v12838 : BitVec 1 := Scalar.cmpi .ne v12832 v12837
  let v12839 : BitVec 32 := Scalar.remsi v12824 c128_i32_5051
  let c0_i32_5056 : BitVec 32 := 0#32
  let v12840 : BitVec 1 := Scalar.cmpi .ne v12839 c0_i32_5056
  let v12841 : BitVec 1 := Scalar.andi v12838 v12840
  let v12827 : BitVec 32 := Scalar.divsi v12824 c128_i32_5051
  let c1_i32_5057 : BitVec 32 := 1#32
  let v12842 : BitVec 32 := Scalar.subi v12827 c1_i32_5057
  let v12843 : BitVec 32 := Scalar.select v12841 v12842 v12827
  let c128_i32_5058 : BitVec 32 := 128#32
  let v12844 : BitVec 32 := Scalar.muli v12843 c128_i32_5058
  let v12845 : BitVec 32 := v12844
  let v12848 : Index := Scalar.indexCast v12845
  ![v12847.toNat, 0, v12848.toNat]

def k1_chk225 (v12822 : BitVec 32) (v12824 : BitVec 32) : Prop :=
  (128 ∣ (k1_mult225 v12824).toNat) ∧
  (∀ a, (k1_off703 v12822 v12824) a + S1x16x512.size a ≤ S384x16x1152.size a)
theorem k1_mult225_dvd : ∀ (v12822 : BitVec 32) (v12824 : BitVec 32) (k1_hw225 : k1_chk225 v12822 v12824), 128 ∣ (k1_mult225 v12824).toNat := fun v12822 v12824 k1_hw225 => k1_hw225.1
theorem k1_off703_inb : ∀ (v12822 : BitVec 32) (v12824 : BitVec 32) (k1_hw225 : k1_chk225 v12822 v12824), ∀ a, (k1_off703 v12822 v12824) a + S1x16x512.size a ≤ S384x16x1152.size a := fun v12822 v12824 k1_hw225 => k1_hw225.2

def k1_off704 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12858 : Index := Scalar.indexCast v12800
  let c0_5062 : Index := 0#32
  ![v12858.toNat, 0]
def k1_off705 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12874 : Index := Scalar.indexCast v12800
  let c1_5068 : Index := 1#32
  ![v12874.toNat, 1]
def k1_mult226 (v12877 : BitVec 32) : BitVec 32 :=
  let c0_i32_5072 : BitVec 32 := 0#32
  let v12881 : BitVec 1 := Scalar.cmpi .sgt v12877 c0_i32_5072
  let v12882 : BitVec 32 := Scalar.extui v12881
  let c0_i32_5073 : BitVec 32 := 0#32
  let v12883 : BitVec 1 := Scalar.cmpi .slt v12877 c0_i32_5073
  let v12884 : BitVec 32 := Scalar.extui v12883
  let v12885 : BitVec 32 := Scalar.subi v12882 v12884
  let c128_i32_5071 : BitVec 32 := 128#32
  let c0_i32_5074 : BitVec 32 := 0#32
  let v12886 : BitVec 1 := Scalar.cmpi .sgt c128_i32_5071 c0_i32_5074
  let v12887 : BitVec 32 := Scalar.extui v12886
  let c0_i32_5075 : BitVec 32 := 0#32
  let v12888 : BitVec 1 := Scalar.cmpi .slt c128_i32_5071 c0_i32_5075
  let v12889 : BitVec 32 := Scalar.extui v12888
  let v12890 : BitVec 32 := Scalar.subi v12887 v12889
  let v12891 : BitVec 1 := Scalar.cmpi .ne v12885 v12890
  let v12892 : BitVec 32 := Scalar.remsi v12877 c128_i32_5071
  let c0_i32_5076 : BitVec 32 := 0#32
  let v12893 : BitVec 1 := Scalar.cmpi .ne v12892 c0_i32_5076
  let v12894 : BitVec 1 := Scalar.andi v12891 v12893
  let v12880 : BitVec 32 := Scalar.divsi v12877 c128_i32_5071
  let c1_i32_5077 : BitVec 32 := 1#32
  let v12895 : BitVec 32 := Scalar.subi v12880 c1_i32_5077
  let v12896 : BitVec 32 := Scalar.select v12894 v12895 v12880
  let c128_i32_5078 : BitVec 32 := 128#32
  let v12897 : BitVec 32 := Scalar.muli v12896 c128_i32_5078
  v12897

def k1_off706 (v12875 : BitVec 32) (v12877 : BitVec 32) : Fin 3 → Nat :=
  let v12900 : Index := Scalar.indexCast v12875
  let c0_5079 : Index := 0#32
  let c0_i32_5072 : BitVec 32 := 0#32
  let v12881 : BitVec 1 := Scalar.cmpi .sgt v12877 c0_i32_5072
  let v12882 : BitVec 32 := Scalar.extui v12881
  let c0_i32_5073 : BitVec 32 := 0#32
  let v12883 : BitVec 1 := Scalar.cmpi .slt v12877 c0_i32_5073
  let v12884 : BitVec 32 := Scalar.extui v12883
  let v12885 : BitVec 32 := Scalar.subi v12882 v12884
  let c128_i32_5071 : BitVec 32 := 128#32
  let c0_i32_5074 : BitVec 32 := 0#32
  let v12886 : BitVec 1 := Scalar.cmpi .sgt c128_i32_5071 c0_i32_5074
  let v12887 : BitVec 32 := Scalar.extui v12886
  let c0_i32_5075 : BitVec 32 := 0#32
  let v12888 : BitVec 1 := Scalar.cmpi .slt c128_i32_5071 c0_i32_5075
  let v12889 : BitVec 32 := Scalar.extui v12888
  let v12890 : BitVec 32 := Scalar.subi v12887 v12889
  let v12891 : BitVec 1 := Scalar.cmpi .ne v12885 v12890
  let v12892 : BitVec 32 := Scalar.remsi v12877 c128_i32_5071
  let c0_i32_5076 : BitVec 32 := 0#32
  let v12893 : BitVec 1 := Scalar.cmpi .ne v12892 c0_i32_5076
  let v12894 : BitVec 1 := Scalar.andi v12891 v12893
  let v12880 : BitVec 32 := Scalar.divsi v12877 c128_i32_5071
  let c1_i32_5077 : BitVec 32 := 1#32
  let v12895 : BitVec 32 := Scalar.subi v12880 c1_i32_5077
  let v12896 : BitVec 32 := Scalar.select v12894 v12895 v12880
  let c128_i32_5078 : BitVec 32 := 128#32
  let v12897 : BitVec 32 := Scalar.muli v12896 c128_i32_5078
  let v12898 : BitVec 32 := v12897
  let v12901 : Index := Scalar.indexCast v12898
  ![v12900.toNat, 0, v12901.toNat]

def k1_chk226 (v12875 : BitVec 32) (v12877 : BitVec 32) : Prop :=
  (128 ∣ (k1_mult226 v12877).toNat) ∧
  (∀ a, (k1_off706 v12875 v12877) a + S1x16x512.size a ≤ S384x16x1152.size a)
theorem k1_mult226_dvd : ∀ (v12875 : BitVec 32) (v12877 : BitVec 32) (k1_hw226 : k1_chk226 v12875 v12877), 128 ∣ (k1_mult226 v12877).toNat := fun v12875 v12877 k1_hw226 => k1_hw226.1
theorem k1_off706_inb : ∀ (v12875 : BitVec 32) (v12877 : BitVec 32) (k1_hw226 : k1_chk226 v12875 v12877), ∀ a, (k1_off706 v12875 v12877) a + S1x16x512.size a ≤ S384x16x1152.size a := fun v12875 v12877 k1_hw226 => k1_hw226.2

def k1_off707 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12911 : Index := Scalar.indexCast v12800
  let c1_5082 : Index := 1#32
  ![v12911.toNat, 1]
def k1_off708 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12927 : Index := Scalar.indexCast v12800
  let c2_5088 : Index := 2#32
  ![v12927.toNat, 2]
def k1_mult227 (v12930 : BitVec 32) : BitVec 32 :=
  let c0_i32_5092 : BitVec 32 := 0#32
  let v12934 : BitVec 1 := Scalar.cmpi .sgt v12930 c0_i32_5092
  let v12935 : BitVec 32 := Scalar.extui v12934
  let c0_i32_5093 : BitVec 32 := 0#32
  let v12936 : BitVec 1 := Scalar.cmpi .slt v12930 c0_i32_5093
  let v12937 : BitVec 32 := Scalar.extui v12936
  let v12938 : BitVec 32 := Scalar.subi v12935 v12937
  let c128_i32_5091 : BitVec 32 := 128#32
  let c0_i32_5094 : BitVec 32 := 0#32
  let v12939 : BitVec 1 := Scalar.cmpi .sgt c128_i32_5091 c0_i32_5094
  let v12940 : BitVec 32 := Scalar.extui v12939
  let c0_i32_5095 : BitVec 32 := 0#32
  let v12941 : BitVec 1 := Scalar.cmpi .slt c128_i32_5091 c0_i32_5095
  let v12942 : BitVec 32 := Scalar.extui v12941
  let v12943 : BitVec 32 := Scalar.subi v12940 v12942
  let v12944 : BitVec 1 := Scalar.cmpi .ne v12938 v12943
  let v12945 : BitVec 32 := Scalar.remsi v12930 c128_i32_5091
  let c0_i32_5096 : BitVec 32 := 0#32
  let v12946 : BitVec 1 := Scalar.cmpi .ne v12945 c0_i32_5096
  let v12947 : BitVec 1 := Scalar.andi v12944 v12946
  let v12933 : BitVec 32 := Scalar.divsi v12930 c128_i32_5091
  let c1_i32_5097 : BitVec 32 := 1#32
  let v12948 : BitVec 32 := Scalar.subi v12933 c1_i32_5097
  let v12949 : BitVec 32 := Scalar.select v12947 v12948 v12933
  let c128_i32_5098 : BitVec 32 := 128#32
  let v12950 : BitVec 32 := Scalar.muli v12949 c128_i32_5098
  v12950

def k1_off709 (v12928 : BitVec 32) (v12930 : BitVec 32) : Fin 3 → Nat :=
  let v12953 : Index := Scalar.indexCast v12928
  let c0_5099 : Index := 0#32
  let c0_i32_5092 : BitVec 32 := 0#32
  let v12934 : BitVec 1 := Scalar.cmpi .sgt v12930 c0_i32_5092
  let v12935 : BitVec 32 := Scalar.extui v12934
  let c0_i32_5093 : BitVec 32 := 0#32
  let v12936 : BitVec 1 := Scalar.cmpi .slt v12930 c0_i32_5093
  let v12937 : BitVec 32 := Scalar.extui v12936
  let v12938 : BitVec 32 := Scalar.subi v12935 v12937
  let c128_i32_5091 : BitVec 32 := 128#32
  let c0_i32_5094 : BitVec 32 := 0#32
  let v12939 : BitVec 1 := Scalar.cmpi .sgt c128_i32_5091 c0_i32_5094
  let v12940 : BitVec 32 := Scalar.extui v12939
  let c0_i32_5095 : BitVec 32 := 0#32
  let v12941 : BitVec 1 := Scalar.cmpi .slt c128_i32_5091 c0_i32_5095
  let v12942 : BitVec 32 := Scalar.extui v12941
  let v12943 : BitVec 32 := Scalar.subi v12940 v12942
  let v12944 : BitVec 1 := Scalar.cmpi .ne v12938 v12943
  let v12945 : BitVec 32 := Scalar.remsi v12930 c128_i32_5091
  let c0_i32_5096 : BitVec 32 := 0#32
  let v12946 : BitVec 1 := Scalar.cmpi .ne v12945 c0_i32_5096
  let v12947 : BitVec 1 := Scalar.andi v12944 v12946
  let v12933 : BitVec 32 := Scalar.divsi v12930 c128_i32_5091
  let c1_i32_5097 : BitVec 32 := 1#32
  let v12948 : BitVec 32 := Scalar.subi v12933 c1_i32_5097
  let v12949 : BitVec 32 := Scalar.select v12947 v12948 v12933
  let c128_i32_5098 : BitVec 32 := 128#32
  let v12950 : BitVec 32 := Scalar.muli v12949 c128_i32_5098
  let v12951 : BitVec 32 := v12950
  let v12954 : Index := Scalar.indexCast v12951
  ![v12953.toNat, 0, v12954.toNat]

def k1_chk227 (v12928 : BitVec 32) (v12930 : BitVec 32) : Prop :=
  (128 ∣ (k1_mult227 v12930).toNat) ∧
  (∀ a, (k1_off709 v12928 v12930) a + S1x16x512.size a ≤ S384x16x1152.size a)
theorem k1_mult227_dvd : ∀ (v12928 : BitVec 32) (v12930 : BitVec 32) (k1_hw227 : k1_chk227 v12928 v12930), 128 ∣ (k1_mult227 v12930).toNat := fun v12928 v12930 k1_hw227 => k1_hw227.1
theorem k1_off709_inb : ∀ (v12928 : BitVec 32) (v12930 : BitVec 32) (k1_hw227 : k1_chk227 v12928 v12930), ∀ a, (k1_off709 v12928 v12930) a + S1x16x512.size a ≤ S384x16x1152.size a := fun v12928 v12930 k1_hw227 => k1_hw227.2

def k1_off710 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12964 : Index := Scalar.indexCast v12800
  let c2_5102 : Index := 2#32
  ![v12964.toNat, 2]
def k1_off711 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v12980 : Index := Scalar.indexCast v12800
  let c3_5108 : Index := 3#32
  ![v12980.toNat, 3]
def k1_mult228 (v12983 : BitVec 32) : BitVec 32 :=
  let c0_i32_5112 : BitVec 32 := 0#32
  let v12987 : BitVec 1 := Scalar.cmpi .sgt v12983 c0_i32_5112
  let v12988 : BitVec 32 := Scalar.extui v12987
  let c0_i32_5113 : BitVec 32 := 0#32
  let v12989 : BitVec 1 := Scalar.cmpi .slt v12983 c0_i32_5113
  let v12990 : BitVec 32 := Scalar.extui v12989
  let v12991 : BitVec 32 := Scalar.subi v12988 v12990
  let c128_i32_5111 : BitVec 32 := 128#32
  let c0_i32_5114 : BitVec 32 := 0#32
  let v12992 : BitVec 1 := Scalar.cmpi .sgt c128_i32_5111 c0_i32_5114
  let v12993 : BitVec 32 := Scalar.extui v12992
  let c0_i32_5115 : BitVec 32 := 0#32
  let v12994 : BitVec 1 := Scalar.cmpi .slt c128_i32_5111 c0_i32_5115
  let v12995 : BitVec 32 := Scalar.extui v12994
  let v12996 : BitVec 32 := Scalar.subi v12993 v12995
  let v12997 : BitVec 1 := Scalar.cmpi .ne v12991 v12996
  let v12998 : BitVec 32 := Scalar.remsi v12983 c128_i32_5111
  let c0_i32_5116 : BitVec 32 := 0#32
  let v12999 : BitVec 1 := Scalar.cmpi .ne v12998 c0_i32_5116
  let v13000 : BitVec 1 := Scalar.andi v12997 v12999
  let v12986 : BitVec 32 := Scalar.divsi v12983 c128_i32_5111
  let c1_i32_5117 : BitVec 32 := 1#32
  let v13001 : BitVec 32 := Scalar.subi v12986 c1_i32_5117
  let v13002 : BitVec 32 := Scalar.select v13000 v13001 v12986
  let c128_i32_5118 : BitVec 32 := 128#32
  let v13003 : BitVec 32 := Scalar.muli v13002 c128_i32_5118
  v13003

def k1_off712 (v12981 : BitVec 32) (v12983 : BitVec 32) : Fin 3 → Nat :=
  let v13006 : Index := Scalar.indexCast v12981
  let c0_5119 : Index := 0#32
  let c0_i32_5112 : BitVec 32 := 0#32
  let v12987 : BitVec 1 := Scalar.cmpi .sgt v12983 c0_i32_5112
  let v12988 : BitVec 32 := Scalar.extui v12987
  let c0_i32_5113 : BitVec 32 := 0#32
  let v12989 : BitVec 1 := Scalar.cmpi .slt v12983 c0_i32_5113
  let v12990 : BitVec 32 := Scalar.extui v12989
  let v12991 : BitVec 32 := Scalar.subi v12988 v12990
  let c128_i32_5111 : BitVec 32 := 128#32
  let c0_i32_5114 : BitVec 32 := 0#32
  let v12992 : BitVec 1 := Scalar.cmpi .sgt c128_i32_5111 c0_i32_5114
  let v12993 : BitVec 32 := Scalar.extui v12992
  let c0_i32_5115 : BitVec 32 := 0#32
  let v12994 : BitVec 1 := Scalar.cmpi .slt c128_i32_5111 c0_i32_5115
  let v12995 : BitVec 32 := Scalar.extui v12994
  let v12996 : BitVec 32 := Scalar.subi v12993 v12995
  let v12997 : BitVec 1 := Scalar.cmpi .ne v12991 v12996
  let v12998 : BitVec 32 := Scalar.remsi v12983 c128_i32_5111
  let c0_i32_5116 : BitVec 32 := 0#32
  let v12999 : BitVec 1 := Scalar.cmpi .ne v12998 c0_i32_5116
  let v13000 : BitVec 1 := Scalar.andi v12997 v12999
  let v12986 : BitVec 32 := Scalar.divsi v12983 c128_i32_5111
  let c1_i32_5117 : BitVec 32 := 1#32
  let v13001 : BitVec 32 := Scalar.subi v12986 c1_i32_5117
  let v13002 : BitVec 32 := Scalar.select v13000 v13001 v12986
  let c128_i32_5118 : BitVec 32 := 128#32
  let v13003 : BitVec 32 := Scalar.muli v13002 c128_i32_5118
  let v13004 : BitVec 32 := v13003
  let v13007 : Index := Scalar.indexCast v13004
  ![v13006.toNat, 0, v13007.toNat]

def k1_chk228 (v12981 : BitVec 32) (v12983 : BitVec 32) : Prop :=
  (128 ∣ (k1_mult228 v12983).toNat) ∧
  (∀ a, (k1_off712 v12981 v12983) a + S1x16x512.size a ≤ S384x16x1152.size a)
theorem k1_mult228_dvd : ∀ (v12981 : BitVec 32) (v12983 : BitVec 32) (k1_hw228 : k1_chk228 v12981 v12983), 128 ∣ (k1_mult228 v12983).toNat := fun v12981 v12983 k1_hw228 => k1_hw228.1
theorem k1_off712_inb : ∀ (v12981 : BitVec 32) (v12983 : BitVec 32) (k1_hw228 : k1_chk228 v12981 v12983), ∀ a, (k1_off712 v12981 v12983) a + S1x16x512.size a ≤ S384x16x1152.size a := fun v12981 v12983 k1_hw228 => k1_hw228.2

def k1_off713 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13017 : Index := Scalar.indexCast v12800
  let c3_5122 : Index := 3#32
  ![v13017.toNat, 3]
def k1_off714 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13033 : Index := Scalar.indexCast v12800
  let c4_5128 : Index := 4#32
  ![v13033.toNat, 4]
def k1_mult229 (v13036 : BitVec 32) : BitVec 32 :=
  let c0_i32_5132 : BitVec 32 := 0#32
  let v13040 : BitVec 1 := Scalar.cmpi .sgt v13036 c0_i32_5132
  let v13041 : BitVec 32 := Scalar.extui v13040
  let c0_i32_5133 : BitVec 32 := 0#32
  let v13042 : BitVec 1 := Scalar.cmpi .slt v13036 c0_i32_5133
  let v13043 : BitVec 32 := Scalar.extui v13042
  let v13044 : BitVec 32 := Scalar.subi v13041 v13043
  let c128_i32_5131 : BitVec 32 := 128#32
  let c0_i32_5134 : BitVec 32 := 0#32
  let v13045 : BitVec 1 := Scalar.cmpi .sgt c128_i32_5131 c0_i32_5134
  let v13046 : BitVec 32 := Scalar.extui v13045
  let c0_i32_5135 : BitVec 32 := 0#32
  let v13047 : BitVec 1 := Scalar.cmpi .slt c128_i32_5131 c0_i32_5135
  let v13048 : BitVec 32 := Scalar.extui v13047
  let v13049 : BitVec 32 := Scalar.subi v13046 v13048
  let v13050 : BitVec 1 := Scalar.cmpi .ne v13044 v13049
  let v13051 : BitVec 32 := Scalar.remsi v13036 c128_i32_5131
  let c0_i32_5136 : BitVec 32 := 0#32
  let v13052 : BitVec 1 := Scalar.cmpi .ne v13051 c0_i32_5136
  let v13053 : BitVec 1 := Scalar.andi v13050 v13052
  let v13039 : BitVec 32 := Scalar.divsi v13036 c128_i32_5131
  let c1_i32_5137 : BitVec 32 := 1#32
  let v13054 : BitVec 32 := Scalar.subi v13039 c1_i32_5137
  let v13055 : BitVec 32 := Scalar.select v13053 v13054 v13039
  let c128_i32_5138 : BitVec 32 := 128#32
  let v13056 : BitVec 32 := Scalar.muli v13055 c128_i32_5138
  v13056

def k1_off715 (v13034 : BitVec 32) (v13036 : BitVec 32) : Fin 3 → Nat :=
  let v13059 : Index := Scalar.indexCast v13034
  let c0_5139 : Index := 0#32
  let c0_i32_5132 : BitVec 32 := 0#32
  let v13040 : BitVec 1 := Scalar.cmpi .sgt v13036 c0_i32_5132
  let v13041 : BitVec 32 := Scalar.extui v13040
  let c0_i32_5133 : BitVec 32 := 0#32
  let v13042 : BitVec 1 := Scalar.cmpi .slt v13036 c0_i32_5133
  let v13043 : BitVec 32 := Scalar.extui v13042
  let v13044 : BitVec 32 := Scalar.subi v13041 v13043
  let c128_i32_5131 : BitVec 32 := 128#32
  let c0_i32_5134 : BitVec 32 := 0#32
  let v13045 : BitVec 1 := Scalar.cmpi .sgt c128_i32_5131 c0_i32_5134
  let v13046 : BitVec 32 := Scalar.extui v13045
  let c0_i32_5135 : BitVec 32 := 0#32
  let v13047 : BitVec 1 := Scalar.cmpi .slt c128_i32_5131 c0_i32_5135
  let v13048 : BitVec 32 := Scalar.extui v13047
  let v13049 : BitVec 32 := Scalar.subi v13046 v13048
  let v13050 : BitVec 1 := Scalar.cmpi .ne v13044 v13049
  let v13051 : BitVec 32 := Scalar.remsi v13036 c128_i32_5131
  let c0_i32_5136 : BitVec 32 := 0#32
  let v13052 : BitVec 1 := Scalar.cmpi .ne v13051 c0_i32_5136
  let v13053 : BitVec 1 := Scalar.andi v13050 v13052
  let v13039 : BitVec 32 := Scalar.divsi v13036 c128_i32_5131
  let c1_i32_5137 : BitVec 32 := 1#32
  let v13054 : BitVec 32 := Scalar.subi v13039 c1_i32_5137
  let v13055 : BitVec 32 := Scalar.select v13053 v13054 v13039
  let c128_i32_5138 : BitVec 32 := 128#32
  let v13056 : BitVec 32 := Scalar.muli v13055 c128_i32_5138
  let v13057 : BitVec 32 := v13056
  let v13060 : Index := Scalar.indexCast v13057
  ![v13059.toNat, 0, v13060.toNat]

def k1_chk229 (v13034 : BitVec 32) (v13036 : BitVec 32) : Prop :=
  (128 ∣ (k1_mult229 v13036).toNat) ∧
  (∀ a, (k1_off715 v13034 v13036) a + S1x16x512.size a ≤ S384x16x1152.size a)
theorem k1_mult229_dvd : ∀ (v13034 : BitVec 32) (v13036 : BitVec 32) (k1_hw229 : k1_chk229 v13034 v13036), 128 ∣ (k1_mult229 v13036).toNat := fun v13034 v13036 k1_hw229 => k1_hw229.1
theorem k1_off715_inb : ∀ (v13034 : BitVec 32) (v13036 : BitVec 32) (k1_hw229 : k1_chk229 v13034 v13036), ∀ a, (k1_off715 v13034 v13036) a + S1x16x512.size a ≤ S384x16x1152.size a := fun v13034 v13036 k1_hw229 => k1_hw229.2

def k1_off716 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13070 : Index := Scalar.indexCast v12800
  let c4_5142 : Index := 4#32
  ![v13070.toNat, 4]
def k1_off717 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13086 : Index := Scalar.indexCast v12800
  let c5_5148 : Index := 5#32
  ![v13086.toNat, 5]
def k1_mult230 (v13089 : BitVec 32) : BitVec 32 :=
  let c0_i32_5152 : BitVec 32 := 0#32
  let v13093 : BitVec 1 := Scalar.cmpi .sgt v13089 c0_i32_5152
  let v13094 : BitVec 32 := Scalar.extui v13093
  let c0_i32_5153 : BitVec 32 := 0#32
  let v13095 : BitVec 1 := Scalar.cmpi .slt v13089 c0_i32_5153
  let v13096 : BitVec 32 := Scalar.extui v13095
  let v13097 : BitVec 32 := Scalar.subi v13094 v13096
  let c128_i32_5151 : BitVec 32 := 128#32
  let c0_i32_5154 : BitVec 32 := 0#32
  let v13098 : BitVec 1 := Scalar.cmpi .sgt c128_i32_5151 c0_i32_5154
  let v13099 : BitVec 32 := Scalar.extui v13098
  let c0_i32_5155 : BitVec 32 := 0#32
  let v13100 : BitVec 1 := Scalar.cmpi .slt c128_i32_5151 c0_i32_5155
  let v13101 : BitVec 32 := Scalar.extui v13100
  let v13102 : BitVec 32 := Scalar.subi v13099 v13101
  let v13103 : BitVec 1 := Scalar.cmpi .ne v13097 v13102
  let v13104 : BitVec 32 := Scalar.remsi v13089 c128_i32_5151
  let c0_i32_5156 : BitVec 32 := 0#32
  let v13105 : BitVec 1 := Scalar.cmpi .ne v13104 c0_i32_5156
  let v13106 : BitVec 1 := Scalar.andi v13103 v13105
  let v13092 : BitVec 32 := Scalar.divsi v13089 c128_i32_5151
  let c1_i32_5157 : BitVec 32 := 1#32
  let v13107 : BitVec 32 := Scalar.subi v13092 c1_i32_5157
  let v13108 : BitVec 32 := Scalar.select v13106 v13107 v13092
  let c128_i32_5158 : BitVec 32 := 128#32
  let v13109 : BitVec 32 := Scalar.muli v13108 c128_i32_5158
  v13109

def k1_off718 (v13087 : BitVec 32) (v13089 : BitVec 32) : Fin 3 → Nat :=
  let v13112 : Index := Scalar.indexCast v13087
  let c0_5159 : Index := 0#32
  let c0_i32_5152 : BitVec 32 := 0#32
  let v13093 : BitVec 1 := Scalar.cmpi .sgt v13089 c0_i32_5152
  let v13094 : BitVec 32 := Scalar.extui v13093
  let c0_i32_5153 : BitVec 32 := 0#32
  let v13095 : BitVec 1 := Scalar.cmpi .slt v13089 c0_i32_5153
  let v13096 : BitVec 32 := Scalar.extui v13095
  let v13097 : BitVec 32 := Scalar.subi v13094 v13096
  let c128_i32_5151 : BitVec 32 := 128#32
  let c0_i32_5154 : BitVec 32 := 0#32
  let v13098 : BitVec 1 := Scalar.cmpi .sgt c128_i32_5151 c0_i32_5154
  let v13099 : BitVec 32 := Scalar.extui v13098
  let c0_i32_5155 : BitVec 32 := 0#32
  let v13100 : BitVec 1 := Scalar.cmpi .slt c128_i32_5151 c0_i32_5155
  let v13101 : BitVec 32 := Scalar.extui v13100
  let v13102 : BitVec 32 := Scalar.subi v13099 v13101
  let v13103 : BitVec 1 := Scalar.cmpi .ne v13097 v13102
  let v13104 : BitVec 32 := Scalar.remsi v13089 c128_i32_5151
  let c0_i32_5156 : BitVec 32 := 0#32
  let v13105 : BitVec 1 := Scalar.cmpi .ne v13104 c0_i32_5156
  let v13106 : BitVec 1 := Scalar.andi v13103 v13105
  let v13092 : BitVec 32 := Scalar.divsi v13089 c128_i32_5151
  let c1_i32_5157 : BitVec 32 := 1#32
  let v13107 : BitVec 32 := Scalar.subi v13092 c1_i32_5157
  let v13108 : BitVec 32 := Scalar.select v13106 v13107 v13092
  let c128_i32_5158 : BitVec 32 := 128#32
  let v13109 : BitVec 32 := Scalar.muli v13108 c128_i32_5158
  let v13110 : BitVec 32 := v13109
  let v13113 : Index := Scalar.indexCast v13110
  ![v13112.toNat, 0, v13113.toNat]

def k1_chk230 (v13087 : BitVec 32) (v13089 : BitVec 32) : Prop :=
  (128 ∣ (k1_mult230 v13089).toNat) ∧
  (∀ a, (k1_off718 v13087 v13089) a + S1x16x512.size a ≤ S384x16x1152.size a)
theorem k1_mult230_dvd : ∀ (v13087 : BitVec 32) (v13089 : BitVec 32) (k1_hw230 : k1_chk230 v13087 v13089), 128 ∣ (k1_mult230 v13089).toNat := fun v13087 v13089 k1_hw230 => k1_hw230.1
theorem k1_off718_inb : ∀ (v13087 : BitVec 32) (v13089 : BitVec 32) (k1_hw230 : k1_chk230 v13087 v13089), ∀ a, (k1_off718 v13087 v13089) a + S1x16x512.size a ≤ S384x16x1152.size a := fun v13087 v13089 k1_hw230 => k1_hw230.2

def k1_off719 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13123 : Index := Scalar.indexCast v12800
  let c5_5162 : Index := 5#32
  ![v13123.toNat, 5]
def k1_off720 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13139 : Index := Scalar.indexCast v12800
  let c6_5168 : Index := 6#32
  ![v13139.toNat, 6]
def k1_mult231 (v13142 : BitVec 32) : BitVec 32 :=
  let c0_i32_5172 : BitVec 32 := 0#32
  let v13146 : BitVec 1 := Scalar.cmpi .sgt v13142 c0_i32_5172
  let v13147 : BitVec 32 := Scalar.extui v13146
  let c0_i32_5173 : BitVec 32 := 0#32
  let v13148 : BitVec 1 := Scalar.cmpi .slt v13142 c0_i32_5173
  let v13149 : BitVec 32 := Scalar.extui v13148
  let v13150 : BitVec 32 := Scalar.subi v13147 v13149
  let c128_i32_5171 : BitVec 32 := 128#32
  let c0_i32_5174 : BitVec 32 := 0#32
  let v13151 : BitVec 1 := Scalar.cmpi .sgt c128_i32_5171 c0_i32_5174
  let v13152 : BitVec 32 := Scalar.extui v13151
  let c0_i32_5175 : BitVec 32 := 0#32
  let v13153 : BitVec 1 := Scalar.cmpi .slt c128_i32_5171 c0_i32_5175
  let v13154 : BitVec 32 := Scalar.extui v13153
  let v13155 : BitVec 32 := Scalar.subi v13152 v13154
  let v13156 : BitVec 1 := Scalar.cmpi .ne v13150 v13155
  let v13157 : BitVec 32 := Scalar.remsi v13142 c128_i32_5171
  let c0_i32_5176 : BitVec 32 := 0#32
  let v13158 : BitVec 1 := Scalar.cmpi .ne v13157 c0_i32_5176
  let v13159 : BitVec 1 := Scalar.andi v13156 v13158
  let v13145 : BitVec 32 := Scalar.divsi v13142 c128_i32_5171
  let c1_i32_5177 : BitVec 32 := 1#32
  let v13160 : BitVec 32 := Scalar.subi v13145 c1_i32_5177
  let v13161 : BitVec 32 := Scalar.select v13159 v13160 v13145
  let c128_i32_5178 : BitVec 32 := 128#32
  let v13162 : BitVec 32 := Scalar.muli v13161 c128_i32_5178
  v13162

def k1_off721 (v13140 : BitVec 32) (v13142 : BitVec 32) : Fin 3 → Nat :=
  let v13165 : Index := Scalar.indexCast v13140
  let c0_5179 : Index := 0#32
  let c0_i32_5172 : BitVec 32 := 0#32
  let v13146 : BitVec 1 := Scalar.cmpi .sgt v13142 c0_i32_5172
  let v13147 : BitVec 32 := Scalar.extui v13146
  let c0_i32_5173 : BitVec 32 := 0#32
  let v13148 : BitVec 1 := Scalar.cmpi .slt v13142 c0_i32_5173
  let v13149 : BitVec 32 := Scalar.extui v13148
  let v13150 : BitVec 32 := Scalar.subi v13147 v13149
  let c128_i32_5171 : BitVec 32 := 128#32
  let c0_i32_5174 : BitVec 32 := 0#32
  let v13151 : BitVec 1 := Scalar.cmpi .sgt c128_i32_5171 c0_i32_5174
  let v13152 : BitVec 32 := Scalar.extui v13151
  let c0_i32_5175 : BitVec 32 := 0#32
  let v13153 : BitVec 1 := Scalar.cmpi .slt c128_i32_5171 c0_i32_5175
  let v13154 : BitVec 32 := Scalar.extui v13153
  let v13155 : BitVec 32 := Scalar.subi v13152 v13154
  let v13156 : BitVec 1 := Scalar.cmpi .ne v13150 v13155
  let v13157 : BitVec 32 := Scalar.remsi v13142 c128_i32_5171
  let c0_i32_5176 : BitVec 32 := 0#32
  let v13158 : BitVec 1 := Scalar.cmpi .ne v13157 c0_i32_5176
  let v13159 : BitVec 1 := Scalar.andi v13156 v13158
  let v13145 : BitVec 32 := Scalar.divsi v13142 c128_i32_5171
  let c1_i32_5177 : BitVec 32 := 1#32
  let v13160 : BitVec 32 := Scalar.subi v13145 c1_i32_5177
  let v13161 : BitVec 32 := Scalar.select v13159 v13160 v13145
  let c128_i32_5178 : BitVec 32 := 128#32
  let v13162 : BitVec 32 := Scalar.muli v13161 c128_i32_5178
  let v13163 : BitVec 32 := v13162
  let v13166 : Index := Scalar.indexCast v13163
  ![v13165.toNat, 0, v13166.toNat]

def k1_chk231 (v13140 : BitVec 32) (v13142 : BitVec 32) : Prop :=
  (128 ∣ (k1_mult231 v13142).toNat) ∧
  (∀ a, (k1_off721 v13140 v13142) a + S1x16x512.size a ≤ S384x16x1152.size a)
theorem k1_mult231_dvd : ∀ (v13140 : BitVec 32) (v13142 : BitVec 32) (k1_hw231 : k1_chk231 v13140 v13142), 128 ∣ (k1_mult231 v13142).toNat := fun v13140 v13142 k1_hw231 => k1_hw231.1
theorem k1_off721_inb : ∀ (v13140 : BitVec 32) (v13142 : BitVec 32) (k1_hw231 : k1_chk231 v13140 v13142), ∀ a, (k1_off721 v13140 v13142) a + S1x16x512.size a ≤ S384x16x1152.size a := fun v13140 v13142 k1_hw231 => k1_hw231.2

def k1_off722 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13176 : Index := Scalar.indexCast v12800
  let c6_5182 : Index := 6#32
  ![v13176.toNat, 6]
def k1_off723 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13192 : Index := Scalar.indexCast v12800
  let c7_5188 : Index := 7#32
  ![v13192.toNat, 7]
def k1_mult232 (v13195 : BitVec 32) : BitVec 32 :=
  let c0_i32_5192 : BitVec 32 := 0#32
  let v13199 : BitVec 1 := Scalar.cmpi .sgt v13195 c0_i32_5192
  let v13200 : BitVec 32 := Scalar.extui v13199
  let c0_i32_5193 : BitVec 32 := 0#32
  let v13201 : BitVec 1 := Scalar.cmpi .slt v13195 c0_i32_5193
  let v13202 : BitVec 32 := Scalar.extui v13201
  let v13203 : BitVec 32 := Scalar.subi v13200 v13202
  let c128_i32_5191 : BitVec 32 := 128#32
  let c0_i32_5194 : BitVec 32 := 0#32
  let v13204 : BitVec 1 := Scalar.cmpi .sgt c128_i32_5191 c0_i32_5194
  let v13205 : BitVec 32 := Scalar.extui v13204
  let c0_i32_5195 : BitVec 32 := 0#32
  let v13206 : BitVec 1 := Scalar.cmpi .slt c128_i32_5191 c0_i32_5195
  let v13207 : BitVec 32 := Scalar.extui v13206
  let v13208 : BitVec 32 := Scalar.subi v13205 v13207
  let v13209 : BitVec 1 := Scalar.cmpi .ne v13203 v13208
  let v13210 : BitVec 32 := Scalar.remsi v13195 c128_i32_5191
  let c0_i32_5196 : BitVec 32 := 0#32
  let v13211 : BitVec 1 := Scalar.cmpi .ne v13210 c0_i32_5196
  let v13212 : BitVec 1 := Scalar.andi v13209 v13211
  let v13198 : BitVec 32 := Scalar.divsi v13195 c128_i32_5191
  let c1_i32_5197 : BitVec 32 := 1#32
  let v13213 : BitVec 32 := Scalar.subi v13198 c1_i32_5197
  let v13214 : BitVec 32 := Scalar.select v13212 v13213 v13198
  let c128_i32_5198 : BitVec 32 := 128#32
  let v13215 : BitVec 32 := Scalar.muli v13214 c128_i32_5198
  v13215

def k1_off724 (v13193 : BitVec 32) (v13195 : BitVec 32) : Fin 3 → Nat :=
  let v13218 : Index := Scalar.indexCast v13193
  let c0_5199 : Index := 0#32
  let c0_i32_5192 : BitVec 32 := 0#32
  let v13199 : BitVec 1 := Scalar.cmpi .sgt v13195 c0_i32_5192
  let v13200 : BitVec 32 := Scalar.extui v13199
  let c0_i32_5193 : BitVec 32 := 0#32
  let v13201 : BitVec 1 := Scalar.cmpi .slt v13195 c0_i32_5193
  let v13202 : BitVec 32 := Scalar.extui v13201
  let v13203 : BitVec 32 := Scalar.subi v13200 v13202
  let c128_i32_5191 : BitVec 32 := 128#32
  let c0_i32_5194 : BitVec 32 := 0#32
  let v13204 : BitVec 1 := Scalar.cmpi .sgt c128_i32_5191 c0_i32_5194
  let v13205 : BitVec 32 := Scalar.extui v13204
  let c0_i32_5195 : BitVec 32 := 0#32
  let v13206 : BitVec 1 := Scalar.cmpi .slt c128_i32_5191 c0_i32_5195
  let v13207 : BitVec 32 := Scalar.extui v13206
  let v13208 : BitVec 32 := Scalar.subi v13205 v13207
  let v13209 : BitVec 1 := Scalar.cmpi .ne v13203 v13208
  let v13210 : BitVec 32 := Scalar.remsi v13195 c128_i32_5191
  let c0_i32_5196 : BitVec 32 := 0#32
  let v13211 : BitVec 1 := Scalar.cmpi .ne v13210 c0_i32_5196
  let v13212 : BitVec 1 := Scalar.andi v13209 v13211
  let v13198 : BitVec 32 := Scalar.divsi v13195 c128_i32_5191
  let c1_i32_5197 : BitVec 32 := 1#32
  let v13213 : BitVec 32 := Scalar.subi v13198 c1_i32_5197
  let v13214 : BitVec 32 := Scalar.select v13212 v13213 v13198
  let c128_i32_5198 : BitVec 32 := 128#32
  let v13215 : BitVec 32 := Scalar.muli v13214 c128_i32_5198
  let v13216 : BitVec 32 := v13215
  let v13219 : Index := Scalar.indexCast v13216
  ![v13218.toNat, 0, v13219.toNat]

def k1_chk232 (v13193 : BitVec 32) (v13195 : BitVec 32) : Prop :=
  (128 ∣ (k1_mult232 v13195).toNat) ∧
  (∀ a, (k1_off724 v13193 v13195) a + S1x16x512.size a ≤ S384x16x1152.size a)
theorem k1_mult232_dvd : ∀ (v13193 : BitVec 32) (v13195 : BitVec 32) (k1_hw232 : k1_chk232 v13193 v13195), 128 ∣ (k1_mult232 v13195).toNat := fun v13193 v13195 k1_hw232 => k1_hw232.1
theorem k1_off724_inb : ∀ (v13193 : BitVec 32) (v13195 : BitVec 32) (k1_hw232 : k1_chk232 v13193 v13195), ∀ a, (k1_off724 v13193 v13195) a + S1x16x512.size a ≤ S384x16x1152.size a := fun v13193 v13195 k1_hw232 => k1_hw232.2

def k1_off725 (i : grid1.Coords) : Fin 2 → Nat :=
  let arg0 : BitVec 32 := BitVec.ofNat 32 (i 0).val
  let c48_i32_5037 : BitVec 32 := 48#32
  let v12799 : BitVec 32 := Scalar.muli arg0 c48_i32_5037
  let c28_i32 : BitVec 32 := 28#32
  let v12800 : BitVec 32 := Scalar.addi v12799 c28_i32
  let v13229 : Index := Scalar.indexCast v12800
  let c7_5202 : Index := 7#32
  ![v13229.toNat, 7]
def k1_off726 (i : grid1.Coords) : Fin 3 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13258 : Index := Scalar.indexCast v13257
  let c0_5218 : Index := 0#32
  let c720_5219 : Index := 720#32
  ![v13258.toNat, 0, 720]
def k1_off727 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13278 : Index := Scalar.indexCast v13257
  let c0_5228 : Index := 0#32
  ![v13278.toNat, 0]
def k1_mult233 (v13281 : BitVec 32) : BitVec 32 :=
  let c0_i32_5232 : BitVec 32 := 0#32
  let v13285 : BitVec 1 := Scalar.cmpi .sgt v13281 c0_i32_5232
  let v13286 : BitVec 32 := Scalar.extui v13285
  let c0_i32_5233 : BitVec 32 := 0#32
  let v13287 : BitVec 1 := Scalar.cmpi .slt v13281 c0_i32_5233
  let v13288 : BitVec 32 := Scalar.extui v13287
  let v13289 : BitVec 32 := Scalar.subi v13286 v13288
  let c128_i32_5231 : BitVec 32 := 128#32
  let c0_i32_5234 : BitVec 32 := 0#32
  let v13290 : BitVec 1 := Scalar.cmpi .sgt c128_i32_5231 c0_i32_5234
  let v13291 : BitVec 32 := Scalar.extui v13290
  let c0_i32_5235 : BitVec 32 := 0#32
  let v13292 : BitVec 1 := Scalar.cmpi .slt c128_i32_5231 c0_i32_5235
  let v13293 : BitVec 32 := Scalar.extui v13292
  let v13294 : BitVec 32 := Scalar.subi v13291 v13293
  let v13295 : BitVec 1 := Scalar.cmpi .ne v13289 v13294
  let v13296 : BitVec 32 := Scalar.remsi v13281 c128_i32_5231
  let c0_i32_5236 : BitVec 32 := 0#32
  let v13297 : BitVec 1 := Scalar.cmpi .ne v13296 c0_i32_5236
  let v13298 : BitVec 1 := Scalar.andi v13295 v13297
  let v13284 : BitVec 32 := Scalar.divsi v13281 c128_i32_5231
  let c1_i32_5237 : BitVec 32 := 1#32
  let v13299 : BitVec 32 := Scalar.subi v13284 c1_i32_5237
  let v13300 : BitVec 32 := Scalar.select v13298 v13299 v13284
  let c128_i32_5238 : BitVec 32 := 128#32
  let v13301 : BitVec 32 := Scalar.muli v13300 c128_i32_5238
  v13301

def k1_off728 (v13279 : BitVec 32) (v13281 : BitVec 32) : Fin 3 → Nat :=
  let v13304 : Index := Scalar.indexCast v13279
  let c0_5239 : Index := 0#32
  let c0_i32_5232 : BitVec 32 := 0#32
  let v13285 : BitVec 1 := Scalar.cmpi .sgt v13281 c0_i32_5232
  let v13286 : BitVec 32 := Scalar.extui v13285
  let c0_i32_5233 : BitVec 32 := 0#32
  let v13287 : BitVec 1 := Scalar.cmpi .slt v13281 c0_i32_5233
  let v13288 : BitVec 32 := Scalar.extui v13287
  let v13289 : BitVec 32 := Scalar.subi v13286 v13288
  let c128_i32_5231 : BitVec 32 := 128#32
  let c0_i32_5234 : BitVec 32 := 0#32
  let v13290 : BitVec 1 := Scalar.cmpi .sgt c128_i32_5231 c0_i32_5234
  let v13291 : BitVec 32 := Scalar.extui v13290
  let c0_i32_5235 : BitVec 32 := 0#32
  let v13292 : BitVec 1 := Scalar.cmpi .slt c128_i32_5231 c0_i32_5235
  let v13293 : BitVec 32 := Scalar.extui v13292
  let v13294 : BitVec 32 := Scalar.subi v13291 v13293
  let v13295 : BitVec 1 := Scalar.cmpi .ne v13289 v13294
  let v13296 : BitVec 32 := Scalar.remsi v13281 c128_i32_5231
  let c0_i32_5236 : BitVec 32 := 0#32
  let v13297 : BitVec 1 := Scalar.cmpi .ne v13296 c0_i32_5236
  let v13298 : BitVec 1 := Scalar.andi v13295 v13297
  let v13284 : BitVec 32 := Scalar.divsi v13281 c128_i32_5231
  let c1_i32_5237 : BitVec 32 := 1#32
  let v13299 : BitVec 32 := Scalar.subi v13284 c1_i32_5237
  let v13300 : BitVec 32 := Scalar.select v13298 v13299 v13284
  let c128_i32_5238 : BitVec 32 := 128#32
  let v13301 : BitVec 32 := Scalar.muli v13300 c128_i32_5238
  let v13302 : BitVec 32 := v13301
  let v13305 : Index := Scalar.indexCast v13302
  ![v13304.toNat, 0, v13305.toNat]

def k1_chk233 (v13279 : BitVec 32) (v13281 : BitVec 32) : Prop :=
  (128 ∣ (k1_mult233 v13281).toNat) ∧
  (∀ a, (k1_off728 v13279 v13281) a + S1x16x512.size a ≤ S384x16x1152.size a)
theorem k1_mult233_dvd : ∀ (v13279 : BitVec 32) (v13281 : BitVec 32) (k1_hw233 : k1_chk233 v13279 v13281), 128 ∣ (k1_mult233 v13281).toNat := fun v13279 v13281 k1_hw233 => k1_hw233.1
theorem k1_off728_inb : ∀ (v13279 : BitVec 32) (v13281 : BitVec 32) (k1_hw233 : k1_chk233 v13279 v13281), ∀ a, (k1_off728 v13279 v13281) a + S1x16x512.size a ≤ S384x16x1152.size a := fun v13279 v13281 k1_hw233 => k1_hw233.2

def k1_off729 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13315 : Index := Scalar.indexCast v13257
  let c0_5242 : Index := 0#32
  ![v13315.toNat, 0]
def k1_off730 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13331 : Index := Scalar.indexCast v13257
  let c1_5248 : Index := 1#32
  ![v13331.toNat, 1]
def k1_mult234 (v13334 : BitVec 32) : BitVec 32 :=
  let c0_i32_5252 : BitVec 32 := 0#32
  let v13338 : BitVec 1 := Scalar.cmpi .sgt v13334 c0_i32_5252
  let v13339 : BitVec 32 := Scalar.extui v13338
  let c0_i32_5253 : BitVec 32 := 0#32
  let v13340 : BitVec 1 := Scalar.cmpi .slt v13334 c0_i32_5253
  let v13341 : BitVec 32 := Scalar.extui v13340
  let v13342 : BitVec 32 := Scalar.subi v13339 v13341
  let c128_i32_5251 : BitVec 32 := 128#32
  let c0_i32_5254 : BitVec 32 := 0#32
  let v13343 : BitVec 1 := Scalar.cmpi .sgt c128_i32_5251 c0_i32_5254
  let v13344 : BitVec 32 := Scalar.extui v13343
  let c0_i32_5255 : BitVec 32 := 0#32
  let v13345 : BitVec 1 := Scalar.cmpi .slt c128_i32_5251 c0_i32_5255
  let v13346 : BitVec 32 := Scalar.extui v13345
  let v13347 : BitVec 32 := Scalar.subi v13344 v13346
  let v13348 : BitVec 1 := Scalar.cmpi .ne v13342 v13347
  let v13349 : BitVec 32 := Scalar.remsi v13334 c128_i32_5251
  let c0_i32_5256 : BitVec 32 := 0#32
  let v13350 : BitVec 1 := Scalar.cmpi .ne v13349 c0_i32_5256
  let v13351 : BitVec 1 := Scalar.andi v13348 v13350
  let v13337 : BitVec 32 := Scalar.divsi v13334 c128_i32_5251
  let c1_i32_5257 : BitVec 32 := 1#32
  let v13352 : BitVec 32 := Scalar.subi v13337 c1_i32_5257
  let v13353 : BitVec 32 := Scalar.select v13351 v13352 v13337
  let c128_i32_5258 : BitVec 32 := 128#32
  let v13354 : BitVec 32 := Scalar.muli v13353 c128_i32_5258
  v13354

def k1_off731 (v13332 : BitVec 32) (v13334 : BitVec 32) : Fin 3 → Nat :=
  let v13357 : Index := Scalar.indexCast v13332
  let c0_5259 : Index := 0#32
  let c0_i32_5252 : BitVec 32 := 0#32
  let v13338 : BitVec 1 := Scalar.cmpi .sgt v13334 c0_i32_5252
  let v13339 : BitVec 32 := Scalar.extui v13338
  let c0_i32_5253 : BitVec 32 := 0#32
  let v13340 : BitVec 1 := Scalar.cmpi .slt v13334 c0_i32_5253
  let v13341 : BitVec 32 := Scalar.extui v13340
  let v13342 : BitVec 32 := Scalar.subi v13339 v13341
  let c128_i32_5251 : BitVec 32 := 128#32
  let c0_i32_5254 : BitVec 32 := 0#32
  let v13343 : BitVec 1 := Scalar.cmpi .sgt c128_i32_5251 c0_i32_5254
  let v13344 : BitVec 32 := Scalar.extui v13343
  let c0_i32_5255 : BitVec 32 := 0#32
  let v13345 : BitVec 1 := Scalar.cmpi .slt c128_i32_5251 c0_i32_5255
  let v13346 : BitVec 32 := Scalar.extui v13345
  let v13347 : BitVec 32 := Scalar.subi v13344 v13346
  let v13348 : BitVec 1 := Scalar.cmpi .ne v13342 v13347
  let v13349 : BitVec 32 := Scalar.remsi v13334 c128_i32_5251
  let c0_i32_5256 : BitVec 32 := 0#32
  let v13350 : BitVec 1 := Scalar.cmpi .ne v13349 c0_i32_5256
  let v13351 : BitVec 1 := Scalar.andi v13348 v13350
  let v13337 : BitVec 32 := Scalar.divsi v13334 c128_i32_5251
  let c1_i32_5257 : BitVec 32 := 1#32
  let v13352 : BitVec 32 := Scalar.subi v13337 c1_i32_5257
  let v13353 : BitVec 32 := Scalar.select v13351 v13352 v13337
  let c128_i32_5258 : BitVec 32 := 128#32
  let v13354 : BitVec 32 := Scalar.muli v13353 c128_i32_5258
  let v13355 : BitVec 32 := v13354
  let v13358 : Index := Scalar.indexCast v13355
  ![v13357.toNat, 0, v13358.toNat]

def k1_chk234 (v13332 : BitVec 32) (v13334 : BitVec 32) : Prop :=
  (128 ∣ (k1_mult234 v13334).toNat) ∧
  (∀ a, (k1_off731 v13332 v13334) a + S1x16x512.size a ≤ S384x16x1152.size a)
theorem k1_mult234_dvd : ∀ (v13332 : BitVec 32) (v13334 : BitVec 32) (k1_hw234 : k1_chk234 v13332 v13334), 128 ∣ (k1_mult234 v13334).toNat := fun v13332 v13334 k1_hw234 => k1_hw234.1
theorem k1_off731_inb : ∀ (v13332 : BitVec 32) (v13334 : BitVec 32) (k1_hw234 : k1_chk234 v13332 v13334), ∀ a, (k1_off731 v13332 v13334) a + S1x16x512.size a ≤ S384x16x1152.size a := fun v13332 v13334 k1_hw234 => k1_hw234.2

def k1_off732 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13368 : Index := Scalar.indexCast v13257
  let c1_5262 : Index := 1#32
  ![v13368.toNat, 1]
def k1_off733 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13384 : Index := Scalar.indexCast v13257
  let c2_5268 : Index := 2#32
  ![v13384.toNat, 2]
def k1_mult235 (v13387 : BitVec 32) : BitVec 32 :=
  let c0_i32_5272 : BitVec 32 := 0#32
  let v13391 : BitVec 1 := Scalar.cmpi .sgt v13387 c0_i32_5272
  let v13392 : BitVec 32 := Scalar.extui v13391
  let c0_i32_5273 : BitVec 32 := 0#32
  let v13393 : BitVec 1 := Scalar.cmpi .slt v13387 c0_i32_5273
  let v13394 : BitVec 32 := Scalar.extui v13393
  let v13395 : BitVec 32 := Scalar.subi v13392 v13394
  let c128_i32_5271 : BitVec 32 := 128#32
  let c0_i32_5274 : BitVec 32 := 0#32
  let v13396 : BitVec 1 := Scalar.cmpi .sgt c128_i32_5271 c0_i32_5274
  let v13397 : BitVec 32 := Scalar.extui v13396
  let c0_i32_5275 : BitVec 32 := 0#32
  let v13398 : BitVec 1 := Scalar.cmpi .slt c128_i32_5271 c0_i32_5275
  let v13399 : BitVec 32 := Scalar.extui v13398
  let v13400 : BitVec 32 := Scalar.subi v13397 v13399
  let v13401 : BitVec 1 := Scalar.cmpi .ne v13395 v13400
  let v13402 : BitVec 32 := Scalar.remsi v13387 c128_i32_5271
  let c0_i32_5276 : BitVec 32 := 0#32
  let v13403 : BitVec 1 := Scalar.cmpi .ne v13402 c0_i32_5276
  let v13404 : BitVec 1 := Scalar.andi v13401 v13403
  let v13390 : BitVec 32 := Scalar.divsi v13387 c128_i32_5271
  let c1_i32_5277 : BitVec 32 := 1#32
  let v13405 : BitVec 32 := Scalar.subi v13390 c1_i32_5277
  let v13406 : BitVec 32 := Scalar.select v13404 v13405 v13390
  let c128_i32_5278 : BitVec 32 := 128#32
  let v13407 : BitVec 32 := Scalar.muli v13406 c128_i32_5278
  v13407

def k1_off734 (v13385 : BitVec 32) (v13387 : BitVec 32) : Fin 3 → Nat :=
  let v13410 : Index := Scalar.indexCast v13385
  let c0_5279 : Index := 0#32
  let c0_i32_5272 : BitVec 32 := 0#32
  let v13391 : BitVec 1 := Scalar.cmpi .sgt v13387 c0_i32_5272
  let v13392 : BitVec 32 := Scalar.extui v13391
  let c0_i32_5273 : BitVec 32 := 0#32
  let v13393 : BitVec 1 := Scalar.cmpi .slt v13387 c0_i32_5273
  let v13394 : BitVec 32 := Scalar.extui v13393
  let v13395 : BitVec 32 := Scalar.subi v13392 v13394
  let c128_i32_5271 : BitVec 32 := 128#32
  let c0_i32_5274 : BitVec 32 := 0#32
  let v13396 : BitVec 1 := Scalar.cmpi .sgt c128_i32_5271 c0_i32_5274
  let v13397 : BitVec 32 := Scalar.extui v13396
  let c0_i32_5275 : BitVec 32 := 0#32
  let v13398 : BitVec 1 := Scalar.cmpi .slt c128_i32_5271 c0_i32_5275
  let v13399 : BitVec 32 := Scalar.extui v13398
  let v13400 : BitVec 32 := Scalar.subi v13397 v13399
  let v13401 : BitVec 1 := Scalar.cmpi .ne v13395 v13400
  let v13402 : BitVec 32 := Scalar.remsi v13387 c128_i32_5271
  let c0_i32_5276 : BitVec 32 := 0#32
  let v13403 : BitVec 1 := Scalar.cmpi .ne v13402 c0_i32_5276
  let v13404 : BitVec 1 := Scalar.andi v13401 v13403
  let v13390 : BitVec 32 := Scalar.divsi v13387 c128_i32_5271
  let c1_i32_5277 : BitVec 32 := 1#32
  let v13405 : BitVec 32 := Scalar.subi v13390 c1_i32_5277
  let v13406 : BitVec 32 := Scalar.select v13404 v13405 v13390
  let c128_i32_5278 : BitVec 32 := 128#32
  let v13407 : BitVec 32 := Scalar.muli v13406 c128_i32_5278
  let v13408 : BitVec 32 := v13407
  let v13411 : Index := Scalar.indexCast v13408
  ![v13410.toNat, 0, v13411.toNat]

def k1_chk235 (v13385 : BitVec 32) (v13387 : BitVec 32) : Prop :=
  (128 ∣ (k1_mult235 v13387).toNat) ∧
  (∀ a, (k1_off734 v13385 v13387) a + S1x16x512.size a ≤ S384x16x1152.size a)
theorem k1_mult235_dvd : ∀ (v13385 : BitVec 32) (v13387 : BitVec 32) (k1_hw235 : k1_chk235 v13385 v13387), 128 ∣ (k1_mult235 v13387).toNat := fun v13385 v13387 k1_hw235 => k1_hw235.1
theorem k1_off734_inb : ∀ (v13385 : BitVec 32) (v13387 : BitVec 32) (k1_hw235 : k1_chk235 v13385 v13387), ∀ a, (k1_off734 v13385 v13387) a + S1x16x512.size a ≤ S384x16x1152.size a := fun v13385 v13387 k1_hw235 => k1_hw235.2

def k1_off735 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13421 : Index := Scalar.indexCast v13257
  let c2_5282 : Index := 2#32
  ![v13421.toNat, 2]
def k1_off736 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13437 : Index := Scalar.indexCast v13257
  let c3_5288 : Index := 3#32
  ![v13437.toNat, 3]
def k1_mult236 (v13440 : BitVec 32) : BitVec 32 :=
  let c0_i32_5292 : BitVec 32 := 0#32
  let v13444 : BitVec 1 := Scalar.cmpi .sgt v13440 c0_i32_5292
  let v13445 : BitVec 32 := Scalar.extui v13444
  let c0_i32_5293 : BitVec 32 := 0#32
  let v13446 : BitVec 1 := Scalar.cmpi .slt v13440 c0_i32_5293
  let v13447 : BitVec 32 := Scalar.extui v13446
  let v13448 : BitVec 32 := Scalar.subi v13445 v13447
  let c128_i32_5291 : BitVec 32 := 128#32
  let c0_i32_5294 : BitVec 32 := 0#32
  let v13449 : BitVec 1 := Scalar.cmpi .sgt c128_i32_5291 c0_i32_5294
  let v13450 : BitVec 32 := Scalar.extui v13449
  let c0_i32_5295 : BitVec 32 := 0#32
  let v13451 : BitVec 1 := Scalar.cmpi .slt c128_i32_5291 c0_i32_5295
  let v13452 : BitVec 32 := Scalar.extui v13451
  let v13453 : BitVec 32 := Scalar.subi v13450 v13452
  let v13454 : BitVec 1 := Scalar.cmpi .ne v13448 v13453
  let v13455 : BitVec 32 := Scalar.remsi v13440 c128_i32_5291
  let c0_i32_5296 : BitVec 32 := 0#32
  let v13456 : BitVec 1 := Scalar.cmpi .ne v13455 c0_i32_5296
  let v13457 : BitVec 1 := Scalar.andi v13454 v13456
  let v13443 : BitVec 32 := Scalar.divsi v13440 c128_i32_5291
  let c1_i32_5297 : BitVec 32 := 1#32
  let v13458 : BitVec 32 := Scalar.subi v13443 c1_i32_5297
  let v13459 : BitVec 32 := Scalar.select v13457 v13458 v13443
  let c128_i32_5298 : BitVec 32 := 128#32
  let v13460 : BitVec 32 := Scalar.muli v13459 c128_i32_5298
  v13460

def k1_off737 (v13438 : BitVec 32) (v13440 : BitVec 32) : Fin 3 → Nat :=
  let v13463 : Index := Scalar.indexCast v13438
  let c0_5299 : Index := 0#32
  let c0_i32_5292 : BitVec 32 := 0#32
  let v13444 : BitVec 1 := Scalar.cmpi .sgt v13440 c0_i32_5292
  let v13445 : BitVec 32 := Scalar.extui v13444
  let c0_i32_5293 : BitVec 32 := 0#32
  let v13446 : BitVec 1 := Scalar.cmpi .slt v13440 c0_i32_5293
  let v13447 : BitVec 32 := Scalar.extui v13446
  let v13448 : BitVec 32 := Scalar.subi v13445 v13447
  let c128_i32_5291 : BitVec 32 := 128#32
  let c0_i32_5294 : BitVec 32 := 0#32
  let v13449 : BitVec 1 := Scalar.cmpi .sgt c128_i32_5291 c0_i32_5294
  let v13450 : BitVec 32 := Scalar.extui v13449
  let c0_i32_5295 : BitVec 32 := 0#32
  let v13451 : BitVec 1 := Scalar.cmpi .slt c128_i32_5291 c0_i32_5295
  let v13452 : BitVec 32 := Scalar.extui v13451
  let v13453 : BitVec 32 := Scalar.subi v13450 v13452
  let v13454 : BitVec 1 := Scalar.cmpi .ne v13448 v13453
  let v13455 : BitVec 32 := Scalar.remsi v13440 c128_i32_5291
  let c0_i32_5296 : BitVec 32 := 0#32
  let v13456 : BitVec 1 := Scalar.cmpi .ne v13455 c0_i32_5296
  let v13457 : BitVec 1 := Scalar.andi v13454 v13456
  let v13443 : BitVec 32 := Scalar.divsi v13440 c128_i32_5291
  let c1_i32_5297 : BitVec 32 := 1#32
  let v13458 : BitVec 32 := Scalar.subi v13443 c1_i32_5297
  let v13459 : BitVec 32 := Scalar.select v13457 v13458 v13443
  let c128_i32_5298 : BitVec 32 := 128#32
  let v13460 : BitVec 32 := Scalar.muli v13459 c128_i32_5298
  let v13461 : BitVec 32 := v13460
  let v13464 : Index := Scalar.indexCast v13461
  ![v13463.toNat, 0, v13464.toNat]

def k1_chk236 (v13438 : BitVec 32) (v13440 : BitVec 32) : Prop :=
  (128 ∣ (k1_mult236 v13440).toNat) ∧
  (∀ a, (k1_off737 v13438 v13440) a + S1x16x512.size a ≤ S384x16x1152.size a)
theorem k1_mult236_dvd : ∀ (v13438 : BitVec 32) (v13440 : BitVec 32) (k1_hw236 : k1_chk236 v13438 v13440), 128 ∣ (k1_mult236 v13440).toNat := fun v13438 v13440 k1_hw236 => k1_hw236.1
theorem k1_off737_inb : ∀ (v13438 : BitVec 32) (v13440 : BitVec 32) (k1_hw236 : k1_chk236 v13438 v13440), ∀ a, (k1_off737 v13438 v13440) a + S1x16x512.size a ≤ S384x16x1152.size a := fun v13438 v13440 k1_hw236 => k1_hw236.2

def k1_off738 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13474 : Index := Scalar.indexCast v13257
  let c3_5302 : Index := 3#32
  ![v13474.toNat, 3]
def k1_off739 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13490 : Index := Scalar.indexCast v13257
  let c4_5308 : Index := 4#32
  ![v13490.toNat, 4]
def k1_mult237 (v13493 : BitVec 32) : BitVec 32 :=
  let c0_i32_5312 : BitVec 32 := 0#32
  let v13497 : BitVec 1 := Scalar.cmpi .sgt v13493 c0_i32_5312
  let v13498 : BitVec 32 := Scalar.extui v13497
  let c0_i32_5313 : BitVec 32 := 0#32
  let v13499 : BitVec 1 := Scalar.cmpi .slt v13493 c0_i32_5313
  let v13500 : BitVec 32 := Scalar.extui v13499
  let v13501 : BitVec 32 := Scalar.subi v13498 v13500
  let c128_i32_5311 : BitVec 32 := 128#32
  let c0_i32_5314 : BitVec 32 := 0#32
  let v13502 : BitVec 1 := Scalar.cmpi .sgt c128_i32_5311 c0_i32_5314
  let v13503 : BitVec 32 := Scalar.extui v13502
  let c0_i32_5315 : BitVec 32 := 0#32
  let v13504 : BitVec 1 := Scalar.cmpi .slt c128_i32_5311 c0_i32_5315
  let v13505 : BitVec 32 := Scalar.extui v13504
  let v13506 : BitVec 32 := Scalar.subi v13503 v13505
  let v13507 : BitVec 1 := Scalar.cmpi .ne v13501 v13506
  let v13508 : BitVec 32 := Scalar.remsi v13493 c128_i32_5311
  let c0_i32_5316 : BitVec 32 := 0#32
  let v13509 : BitVec 1 := Scalar.cmpi .ne v13508 c0_i32_5316
  let v13510 : BitVec 1 := Scalar.andi v13507 v13509
  let v13496 : BitVec 32 := Scalar.divsi v13493 c128_i32_5311
  let c1_i32_5317 : BitVec 32 := 1#32
  let v13511 : BitVec 32 := Scalar.subi v13496 c1_i32_5317
  let v13512 : BitVec 32 := Scalar.select v13510 v13511 v13496
  let c128_i32_5318 : BitVec 32 := 128#32
  let v13513 : BitVec 32 := Scalar.muli v13512 c128_i32_5318
  v13513

def k1_off740 (v13491 : BitVec 32) (v13493 : BitVec 32) : Fin 3 → Nat :=
  let v13516 : Index := Scalar.indexCast v13491
  let c0_5319 : Index := 0#32
  let c0_i32_5312 : BitVec 32 := 0#32
  let v13497 : BitVec 1 := Scalar.cmpi .sgt v13493 c0_i32_5312
  let v13498 : BitVec 32 := Scalar.extui v13497
  let c0_i32_5313 : BitVec 32 := 0#32
  let v13499 : BitVec 1 := Scalar.cmpi .slt v13493 c0_i32_5313
  let v13500 : BitVec 32 := Scalar.extui v13499
  let v13501 : BitVec 32 := Scalar.subi v13498 v13500
  let c128_i32_5311 : BitVec 32 := 128#32
  let c0_i32_5314 : BitVec 32 := 0#32
  let v13502 : BitVec 1 := Scalar.cmpi .sgt c128_i32_5311 c0_i32_5314
  let v13503 : BitVec 32 := Scalar.extui v13502
  let c0_i32_5315 : BitVec 32 := 0#32
  let v13504 : BitVec 1 := Scalar.cmpi .slt c128_i32_5311 c0_i32_5315
  let v13505 : BitVec 32 := Scalar.extui v13504
  let v13506 : BitVec 32 := Scalar.subi v13503 v13505
  let v13507 : BitVec 1 := Scalar.cmpi .ne v13501 v13506
  let v13508 : BitVec 32 := Scalar.remsi v13493 c128_i32_5311
  let c0_i32_5316 : BitVec 32 := 0#32
  let v13509 : BitVec 1 := Scalar.cmpi .ne v13508 c0_i32_5316
  let v13510 : BitVec 1 := Scalar.andi v13507 v13509
  let v13496 : BitVec 32 := Scalar.divsi v13493 c128_i32_5311
  let c1_i32_5317 : BitVec 32 := 1#32
  let v13511 : BitVec 32 := Scalar.subi v13496 c1_i32_5317
  let v13512 : BitVec 32 := Scalar.select v13510 v13511 v13496
  let c128_i32_5318 : BitVec 32 := 128#32
  let v13513 : BitVec 32 := Scalar.muli v13512 c128_i32_5318
  let v13514 : BitVec 32 := v13513
  let v13517 : Index := Scalar.indexCast v13514
  ![v13516.toNat, 0, v13517.toNat]

def k1_chk237 (v13491 : BitVec 32) (v13493 : BitVec 32) : Prop :=
  (128 ∣ (k1_mult237 v13493).toNat) ∧
  (∀ a, (k1_off740 v13491 v13493) a + S1x16x512.size a ≤ S384x16x1152.size a)
theorem k1_mult237_dvd : ∀ (v13491 : BitVec 32) (v13493 : BitVec 32) (k1_hw237 : k1_chk237 v13491 v13493), 128 ∣ (k1_mult237 v13493).toNat := fun v13491 v13493 k1_hw237 => k1_hw237.1
theorem k1_off740_inb : ∀ (v13491 : BitVec 32) (v13493 : BitVec 32) (k1_hw237 : k1_chk237 v13491 v13493), ∀ a, (k1_off740 v13491 v13493) a + S1x16x512.size a ≤ S384x16x1152.size a := fun v13491 v13493 k1_hw237 => k1_hw237.2

def k1_off741 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13527 : Index := Scalar.indexCast v13257
  let c4_5322 : Index := 4#32
  ![v13527.toNat, 4]
def k1_off742 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13543 : Index := Scalar.indexCast v13257
  let c5_5328 : Index := 5#32
  ![v13543.toNat, 5]
def k1_mult238 (v13546 : BitVec 32) : BitVec 32 :=
  let c0_i32_5332 : BitVec 32 := 0#32
  let v13550 : BitVec 1 := Scalar.cmpi .sgt v13546 c0_i32_5332
  let v13551 : BitVec 32 := Scalar.extui v13550
  let c0_i32_5333 : BitVec 32 := 0#32
  let v13552 : BitVec 1 := Scalar.cmpi .slt v13546 c0_i32_5333
  let v13553 : BitVec 32 := Scalar.extui v13552
  let v13554 : BitVec 32 := Scalar.subi v13551 v13553
  let c128_i32_5331 : BitVec 32 := 128#32
  let c0_i32_5334 : BitVec 32 := 0#32
  let v13555 : BitVec 1 := Scalar.cmpi .sgt c128_i32_5331 c0_i32_5334
  let v13556 : BitVec 32 := Scalar.extui v13555
  let c0_i32_5335 : BitVec 32 := 0#32
  let v13557 : BitVec 1 := Scalar.cmpi .slt c128_i32_5331 c0_i32_5335
  let v13558 : BitVec 32 := Scalar.extui v13557
  let v13559 : BitVec 32 := Scalar.subi v13556 v13558
  let v13560 : BitVec 1 := Scalar.cmpi .ne v13554 v13559
  let v13561 : BitVec 32 := Scalar.remsi v13546 c128_i32_5331
  let c0_i32_5336 : BitVec 32 := 0#32
  let v13562 : BitVec 1 := Scalar.cmpi .ne v13561 c0_i32_5336
  let v13563 : BitVec 1 := Scalar.andi v13560 v13562
  let v13549 : BitVec 32 := Scalar.divsi v13546 c128_i32_5331
  let c1_i32_5337 : BitVec 32 := 1#32
  let v13564 : BitVec 32 := Scalar.subi v13549 c1_i32_5337
  let v13565 : BitVec 32 := Scalar.select v13563 v13564 v13549
  let c128_i32_5338 : BitVec 32 := 128#32
  let v13566 : BitVec 32 := Scalar.muli v13565 c128_i32_5338
  v13566

def k1_off743 (v13544 : BitVec 32) (v13546 : BitVec 32) : Fin 3 → Nat :=
  let v13569 : Index := Scalar.indexCast v13544
  let c0_5339 : Index := 0#32
  let c0_i32_5332 : BitVec 32 := 0#32
  let v13550 : BitVec 1 := Scalar.cmpi .sgt v13546 c0_i32_5332
  let v13551 : BitVec 32 := Scalar.extui v13550
  let c0_i32_5333 : BitVec 32 := 0#32
  let v13552 : BitVec 1 := Scalar.cmpi .slt v13546 c0_i32_5333
  let v13553 : BitVec 32 := Scalar.extui v13552
  let v13554 : BitVec 32 := Scalar.subi v13551 v13553
  let c128_i32_5331 : BitVec 32 := 128#32
  let c0_i32_5334 : BitVec 32 := 0#32
  let v13555 : BitVec 1 := Scalar.cmpi .sgt c128_i32_5331 c0_i32_5334
  let v13556 : BitVec 32 := Scalar.extui v13555
  let c0_i32_5335 : BitVec 32 := 0#32
  let v13557 : BitVec 1 := Scalar.cmpi .slt c128_i32_5331 c0_i32_5335
  let v13558 : BitVec 32 := Scalar.extui v13557
  let v13559 : BitVec 32 := Scalar.subi v13556 v13558
  let v13560 : BitVec 1 := Scalar.cmpi .ne v13554 v13559
  let v13561 : BitVec 32 := Scalar.remsi v13546 c128_i32_5331
  let c0_i32_5336 : BitVec 32 := 0#32
  let v13562 : BitVec 1 := Scalar.cmpi .ne v13561 c0_i32_5336
  let v13563 : BitVec 1 := Scalar.andi v13560 v13562
  let v13549 : BitVec 32 := Scalar.divsi v13546 c128_i32_5331
  let c1_i32_5337 : BitVec 32 := 1#32
  let v13564 : BitVec 32 := Scalar.subi v13549 c1_i32_5337
  let v13565 : BitVec 32 := Scalar.select v13563 v13564 v13549
  let c128_i32_5338 : BitVec 32 := 128#32
  let v13566 : BitVec 32 := Scalar.muli v13565 c128_i32_5338
  let v13567 : BitVec 32 := v13566
  let v13570 : Index := Scalar.indexCast v13567
  ![v13569.toNat, 0, v13570.toNat]

def k1_chk238 (v13544 : BitVec 32) (v13546 : BitVec 32) : Prop :=
  (128 ∣ (k1_mult238 v13546).toNat) ∧
  (∀ a, (k1_off743 v13544 v13546) a + S1x16x512.size a ≤ S384x16x1152.size a)
theorem k1_mult238_dvd : ∀ (v13544 : BitVec 32) (v13546 : BitVec 32) (k1_hw238 : k1_chk238 v13544 v13546), 128 ∣ (k1_mult238 v13546).toNat := fun v13544 v13546 k1_hw238 => k1_hw238.1
theorem k1_off743_inb : ∀ (v13544 : BitVec 32) (v13546 : BitVec 32) (k1_hw238 : k1_chk238 v13544 v13546), ∀ a, (k1_off743 v13544 v13546) a + S1x16x512.size a ≤ S384x16x1152.size a := fun v13544 v13546 k1_hw238 => k1_hw238.2

def k1_off744 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13580 : Index := Scalar.indexCast v13257
  let c5_5342 : Index := 5#32
  ![v13580.toNat, 5]
def k1_off745 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13596 : Index := Scalar.indexCast v13257
  let c6_5348 : Index := 6#32
  ![v13596.toNat, 6]
def k1_mult239 (v13599 : BitVec 32) : BitVec 32 :=
  let c0_i32_5352 : BitVec 32 := 0#32
  let v13603 : BitVec 1 := Scalar.cmpi .sgt v13599 c0_i32_5352
  let v13604 : BitVec 32 := Scalar.extui v13603
  let c0_i32_5353 : BitVec 32 := 0#32
  let v13605 : BitVec 1 := Scalar.cmpi .slt v13599 c0_i32_5353
  let v13606 : BitVec 32 := Scalar.extui v13605
  let v13607 : BitVec 32 := Scalar.subi v13604 v13606
  let c128_i32_5351 : BitVec 32 := 128#32
  let c0_i32_5354 : BitVec 32 := 0#32
  let v13608 : BitVec 1 := Scalar.cmpi .sgt c128_i32_5351 c0_i32_5354
  let v13609 : BitVec 32 := Scalar.extui v13608
  let c0_i32_5355 : BitVec 32 := 0#32
  let v13610 : BitVec 1 := Scalar.cmpi .slt c128_i32_5351 c0_i32_5355
  let v13611 : BitVec 32 := Scalar.extui v13610
  let v13612 : BitVec 32 := Scalar.subi v13609 v13611
  let v13613 : BitVec 1 := Scalar.cmpi .ne v13607 v13612
  let v13614 : BitVec 32 := Scalar.remsi v13599 c128_i32_5351
  let c0_i32_5356 : BitVec 32 := 0#32
  let v13615 : BitVec 1 := Scalar.cmpi .ne v13614 c0_i32_5356
  let v13616 : BitVec 1 := Scalar.andi v13613 v13615
  let v13602 : BitVec 32 := Scalar.divsi v13599 c128_i32_5351
  let c1_i32_5357 : BitVec 32 := 1#32
  let v13617 : BitVec 32 := Scalar.subi v13602 c1_i32_5357
  let v13618 : BitVec 32 := Scalar.select v13616 v13617 v13602
  let c128_i32_5358 : BitVec 32 := 128#32
  let v13619 : BitVec 32 := Scalar.muli v13618 c128_i32_5358
  v13619

def k1_off746 (v13597 : BitVec 32) (v13599 : BitVec 32) : Fin 3 → Nat :=
  let v13622 : Index := Scalar.indexCast v13597
  let c0_5359 : Index := 0#32
  let c0_i32_5352 : BitVec 32 := 0#32
  let v13603 : BitVec 1 := Scalar.cmpi .sgt v13599 c0_i32_5352
  let v13604 : BitVec 32 := Scalar.extui v13603
  let c0_i32_5353 : BitVec 32 := 0#32
  let v13605 : BitVec 1 := Scalar.cmpi .slt v13599 c0_i32_5353
  let v13606 : BitVec 32 := Scalar.extui v13605
  let v13607 : BitVec 32 := Scalar.subi v13604 v13606
  let c128_i32_5351 : BitVec 32 := 128#32
  let c0_i32_5354 : BitVec 32 := 0#32
  let v13608 : BitVec 1 := Scalar.cmpi .sgt c128_i32_5351 c0_i32_5354
  let v13609 : BitVec 32 := Scalar.extui v13608
  let c0_i32_5355 : BitVec 32 := 0#32
  let v13610 : BitVec 1 := Scalar.cmpi .slt c128_i32_5351 c0_i32_5355
  let v13611 : BitVec 32 := Scalar.extui v13610
  let v13612 : BitVec 32 := Scalar.subi v13609 v13611
  let v13613 : BitVec 1 := Scalar.cmpi .ne v13607 v13612
  let v13614 : BitVec 32 := Scalar.remsi v13599 c128_i32_5351
  let c0_i32_5356 : BitVec 32 := 0#32
  let v13615 : BitVec 1 := Scalar.cmpi .ne v13614 c0_i32_5356
  let v13616 : BitVec 1 := Scalar.andi v13613 v13615
  let v13602 : BitVec 32 := Scalar.divsi v13599 c128_i32_5351
  let c1_i32_5357 : BitVec 32 := 1#32
  let v13617 : BitVec 32 := Scalar.subi v13602 c1_i32_5357
  let v13618 : BitVec 32 := Scalar.select v13616 v13617 v13602
  let c128_i32_5358 : BitVec 32 := 128#32
  let v13619 : BitVec 32 := Scalar.muli v13618 c128_i32_5358
  let v13620 : BitVec 32 := v13619
  let v13623 : Index := Scalar.indexCast v13620
  ![v13622.toNat, 0, v13623.toNat]

def k1_chk239 (v13597 : BitVec 32) (v13599 : BitVec 32) : Prop :=
  (128 ∣ (k1_mult239 v13599).toNat) ∧
  (∀ a, (k1_off746 v13597 v13599) a + S1x16x512.size a ≤ S384x16x1152.size a)
theorem k1_mult239_dvd : ∀ (v13597 : BitVec 32) (v13599 : BitVec 32) (k1_hw239 : k1_chk239 v13597 v13599), 128 ∣ (k1_mult239 v13599).toNat := fun v13597 v13599 k1_hw239 => k1_hw239.1
theorem k1_off746_inb : ∀ (v13597 : BitVec 32) (v13599 : BitVec 32) (k1_hw239 : k1_chk239 v13597 v13599), ∀ a, (k1_off746 v13597 v13599) a + S1x16x512.size a ≤ S384x16x1152.size a := fun v13597 v13599 k1_hw239 => k1_hw239.2

def k1_off747 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13633 : Index := Scalar.indexCast v13257
  let c6_5362 : Index := 6#32
  ![v13633.toNat, 6]
def k1_off748 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13649 : Index := Scalar.indexCast v13257
  let c7_5368 : Index := 7#32
  ![v13649.toNat, 7]
def k1_mult240 (v13652 : BitVec 32) : BitVec 32 :=
  let c0_i32_5372 : BitVec 32 := 0#32
  let v13656 : BitVec 1 := Scalar.cmpi .sgt v13652 c0_i32_5372
  let v13657 : BitVec 32 := Scalar.extui v13656
  let c0_i32_5373 : BitVec 32 := 0#32
  let v13658 : BitVec 1 := Scalar.cmpi .slt v13652 c0_i32_5373
  let v13659 : BitVec 32 := Scalar.extui v13658
  let v13660 : BitVec 32 := Scalar.subi v13657 v13659
  let c128_i32_5371 : BitVec 32 := 128#32
  let c0_i32_5374 : BitVec 32 := 0#32
  let v13661 : BitVec 1 := Scalar.cmpi .sgt c128_i32_5371 c0_i32_5374
  let v13662 : BitVec 32 := Scalar.extui v13661
  let c0_i32_5375 : BitVec 32 := 0#32
  let v13663 : BitVec 1 := Scalar.cmpi .slt c128_i32_5371 c0_i32_5375
  let v13664 : BitVec 32 := Scalar.extui v13663
  let v13665 : BitVec 32 := Scalar.subi v13662 v13664
  let v13666 : BitVec 1 := Scalar.cmpi .ne v13660 v13665
  let v13667 : BitVec 32 := Scalar.remsi v13652 c128_i32_5371
  let c0_i32_5376 : BitVec 32 := 0#32
  let v13668 : BitVec 1 := Scalar.cmpi .ne v13667 c0_i32_5376
  let v13669 : BitVec 1 := Scalar.andi v13666 v13668
  let v13655 : BitVec 32 := Scalar.divsi v13652 c128_i32_5371
  let c1_i32_5377 : BitVec 32 := 1#32
  let v13670 : BitVec 32 := Scalar.subi v13655 c1_i32_5377
  let v13671 : BitVec 32 := Scalar.select v13669 v13670 v13655
  let c128_i32_5378 : BitVec 32 := 128#32
  let v13672 : BitVec 32 := Scalar.muli v13671 c128_i32_5378
  v13672

def k1_off749 (v13650 : BitVec 32) (v13652 : BitVec 32) : Fin 3 → Nat :=
  let v13675 : Index := Scalar.indexCast v13650
  let c0_5379 : Index := 0#32
  let c0_i32_5372 : BitVec 32 := 0#32
  let v13656 : BitVec 1 := Scalar.cmpi .sgt v13652 c0_i32_5372
  let v13657 : BitVec 32 := Scalar.extui v13656
  let c0_i32_5373 : BitVec 32 := 0#32
  let v13658 : BitVec 1 := Scalar.cmpi .slt v13652 c0_i32_5373
  let v13659 : BitVec 32 := Scalar.extui v13658
  let v13660 : BitVec 32 := Scalar.subi v13657 v13659
  let c128_i32_5371 : BitVec 32 := 128#32
  let c0_i32_5374 : BitVec 32 := 0#32
  let v13661 : BitVec 1 := Scalar.cmpi .sgt c128_i32_5371 c0_i32_5374
  let v13662 : BitVec 32 := Scalar.extui v13661
  let c0_i32_5375 : BitVec 32 := 0#32
  let v13663 : BitVec 1 := Scalar.cmpi .slt c128_i32_5371 c0_i32_5375
  let v13664 : BitVec 32 := Scalar.extui v13663
  let v13665 : BitVec 32 := Scalar.subi v13662 v13664
  let v13666 : BitVec 1 := Scalar.cmpi .ne v13660 v13665
  let v13667 : BitVec 32 := Scalar.remsi v13652 c128_i32_5371
  let c0_i32_5376 : BitVec 32 := 0#32
  let v13668 : BitVec 1 := Scalar.cmpi .ne v13667 c0_i32_5376
  let v13669 : BitVec 1 := Scalar.andi v13666 v13668
  let v13655 : BitVec 32 := Scalar.divsi v13652 c128_i32_5371
  let c1_i32_5377 : BitVec 32 := 1#32
  let v13670 : BitVec 32 := Scalar.subi v13655 c1_i32_5377
  let v13671 : BitVec 32 := Scalar.select v13669 v13670 v13655
  let c128_i32_5378 : BitVec 32 := 128#32
  let v13672 : BitVec 32 := Scalar.muli v13671 c128_i32_5378
  let v13673 : BitVec 32 := v13672
  let v13676 : Index := Scalar.indexCast v13673
  ![v13675.toNat, 0, v13676.toNat]

def k1_chk240 (v13650 : BitVec 32) (v13652 : BitVec 32) : Prop :=
  (128 ∣ (k1_mult240 v13652).toNat) ∧
  (∀ a, (k1_off749 v13650 v13652) a + S1x16x512.size a ≤ S384x16x1152.size a)
theorem k1_mult240_dvd : ∀ (v13650 : BitVec 32) (v13652 : BitVec 32) (k1_hw240 : k1_chk240 v13650 v13652), 128 ∣ (k1_mult240 v13652).toNat := fun v13650 v13652 k1_hw240 => k1_hw240.1
theorem k1_off749_inb : ∀ (v13650 : BitVec 32) (v13652 : BitVec 32) (k1_hw240 : k1_chk240 v13650 v13652), ∀ a, (k1_off749 v13650 v13652) a + S1x16x512.size a ≤ S384x16x1152.size a := fun v13650 v13652 k1_hw240 => k1_hw240.2

def k1_off750 (i : grid1.Coords) : Fin 2 → Nat :=
  let arg0 : BitVec 32 := BitVec.ofNat 32 (i 0).val
  let c48_i32_5217 : BitVec 32 := 48#32
  let v13256 : BitVec 32 := Scalar.muli arg0 c48_i32_5217
  let c29_i32 : BitVec 32 := 29#32
  let v13257 : BitVec 32 := Scalar.addi v13256 c29_i32
  let v13686 : Index := Scalar.indexCast v13257
  let c7_5382 : Index := 7#32
  ![v13686.toNat, 7]
def k1_off751 (i : grid1.Coords) : Fin 3 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13715 : Index := Scalar.indexCast v13714
  let c0_5398 : Index := 0#32
  let c720_5399 : Index := 720#32
  ![v13715.toNat, 0, 720]
def k1_off752 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13735 : Index := Scalar.indexCast v13714
  let c0_5408 : Index := 0#32
  ![v13735.toNat, 0]
def k1_mult241 (v13738 : BitVec 32) : BitVec 32 :=
  let c0_i32_5412 : BitVec 32 := 0#32
  let v13742 : BitVec 1 := Scalar.cmpi .sgt v13738 c0_i32_5412
  let v13743 : BitVec 32 := Scalar.extui v13742
  let c0_i32_5413 : BitVec 32 := 0#32
  let v13744 : BitVec 1 := Scalar.cmpi .slt v13738 c0_i32_5413
  let v13745 : BitVec 32 := Scalar.extui v13744
  let v13746 : BitVec 32 := Scalar.subi v13743 v13745
  let c128_i32_5411 : BitVec 32 := 128#32
  let c0_i32_5414 : BitVec 32 := 0#32
  let v13747 : BitVec 1 := Scalar.cmpi .sgt c128_i32_5411 c0_i32_5414
  let v13748 : BitVec 32 := Scalar.extui v13747
  let c0_i32_5415 : BitVec 32 := 0#32
  let v13749 : BitVec 1 := Scalar.cmpi .slt c128_i32_5411 c0_i32_5415
  let v13750 : BitVec 32 := Scalar.extui v13749
  let v13751 : BitVec 32 := Scalar.subi v13748 v13750
  let v13752 : BitVec 1 := Scalar.cmpi .ne v13746 v13751
  let v13753 : BitVec 32 := Scalar.remsi v13738 c128_i32_5411
  let c0_i32_5416 : BitVec 32 := 0#32
  let v13754 : BitVec 1 := Scalar.cmpi .ne v13753 c0_i32_5416
  let v13755 : BitVec 1 := Scalar.andi v13752 v13754
  let v13741 : BitVec 32 := Scalar.divsi v13738 c128_i32_5411
  let c1_i32_5417 : BitVec 32 := 1#32
  let v13756 : BitVec 32 := Scalar.subi v13741 c1_i32_5417
  let v13757 : BitVec 32 := Scalar.select v13755 v13756 v13741
  let c128_i32_5418 : BitVec 32 := 128#32
  let v13758 : BitVec 32 := Scalar.muli v13757 c128_i32_5418
  v13758

def k1_off753 (v13736 : BitVec 32) (v13738 : BitVec 32) : Fin 3 → Nat :=
  let v13761 : Index := Scalar.indexCast v13736
  let c0_5419 : Index := 0#32
  let c0_i32_5412 : BitVec 32 := 0#32
  let v13742 : BitVec 1 := Scalar.cmpi .sgt v13738 c0_i32_5412
  let v13743 : BitVec 32 := Scalar.extui v13742
  let c0_i32_5413 : BitVec 32 := 0#32
  let v13744 : BitVec 1 := Scalar.cmpi .slt v13738 c0_i32_5413
  let v13745 : BitVec 32 := Scalar.extui v13744
  let v13746 : BitVec 32 := Scalar.subi v13743 v13745
  let c128_i32_5411 : BitVec 32 := 128#32
  let c0_i32_5414 : BitVec 32 := 0#32
  let v13747 : BitVec 1 := Scalar.cmpi .sgt c128_i32_5411 c0_i32_5414
  let v13748 : BitVec 32 := Scalar.extui v13747
  let c0_i32_5415 : BitVec 32 := 0#32
  let v13749 : BitVec 1 := Scalar.cmpi .slt c128_i32_5411 c0_i32_5415
  let v13750 : BitVec 32 := Scalar.extui v13749
  let v13751 : BitVec 32 := Scalar.subi v13748 v13750
  let v13752 : BitVec 1 := Scalar.cmpi .ne v13746 v13751
  let v13753 : BitVec 32 := Scalar.remsi v13738 c128_i32_5411
  let c0_i32_5416 : BitVec 32 := 0#32
  let v13754 : BitVec 1 := Scalar.cmpi .ne v13753 c0_i32_5416
  let v13755 : BitVec 1 := Scalar.andi v13752 v13754
  let v13741 : BitVec 32 := Scalar.divsi v13738 c128_i32_5411
  let c1_i32_5417 : BitVec 32 := 1#32
  let v13756 : BitVec 32 := Scalar.subi v13741 c1_i32_5417
  let v13757 : BitVec 32 := Scalar.select v13755 v13756 v13741
  let c128_i32_5418 : BitVec 32 := 128#32
  let v13758 : BitVec 32 := Scalar.muli v13757 c128_i32_5418
  let v13759 : BitVec 32 := v13758
  let v13762 : Index := Scalar.indexCast v13759
  ![v13761.toNat, 0, v13762.toNat]

def k1_chk241 (v13736 : BitVec 32) (v13738 : BitVec 32) : Prop :=
  (128 ∣ (k1_mult241 v13738).toNat) ∧
  (∀ a, (k1_off753 v13736 v13738) a + S1x16x512.size a ≤ S384x16x1152.size a)
theorem k1_mult241_dvd : ∀ (v13736 : BitVec 32) (v13738 : BitVec 32) (k1_hw241 : k1_chk241 v13736 v13738), 128 ∣ (k1_mult241 v13738).toNat := fun v13736 v13738 k1_hw241 => k1_hw241.1
theorem k1_off753_inb : ∀ (v13736 : BitVec 32) (v13738 : BitVec 32) (k1_hw241 : k1_chk241 v13736 v13738), ∀ a, (k1_off753 v13736 v13738) a + S1x16x512.size a ≤ S384x16x1152.size a := fun v13736 v13738 k1_hw241 => k1_hw241.2

def k1_off754 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13772 : Index := Scalar.indexCast v13714
  let c0_5422 : Index := 0#32
  ![v13772.toNat, 0]
def k1_off755 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13788 : Index := Scalar.indexCast v13714
  let c1_5428 : Index := 1#32
  ![v13788.toNat, 1]
def k1_mult242 (v13791 : BitVec 32) : BitVec 32 :=
  let c0_i32_5432 : BitVec 32 := 0#32
  let v13795 : BitVec 1 := Scalar.cmpi .sgt v13791 c0_i32_5432
  let v13796 : BitVec 32 := Scalar.extui v13795
  let c0_i32_5433 : BitVec 32 := 0#32
  let v13797 : BitVec 1 := Scalar.cmpi .slt v13791 c0_i32_5433
  let v13798 : BitVec 32 := Scalar.extui v13797
  let v13799 : BitVec 32 := Scalar.subi v13796 v13798
  let c128_i32_5431 : BitVec 32 := 128#32
  let c0_i32_5434 : BitVec 32 := 0#32
  let v13800 : BitVec 1 := Scalar.cmpi .sgt c128_i32_5431 c0_i32_5434
  let v13801 : BitVec 32 := Scalar.extui v13800
  let c0_i32_5435 : BitVec 32 := 0#32
  let v13802 : BitVec 1 := Scalar.cmpi .slt c128_i32_5431 c0_i32_5435
  let v13803 : BitVec 32 := Scalar.extui v13802
  let v13804 : BitVec 32 := Scalar.subi v13801 v13803
  let v13805 : BitVec 1 := Scalar.cmpi .ne v13799 v13804
  let v13806 : BitVec 32 := Scalar.remsi v13791 c128_i32_5431
  let c0_i32_5436 : BitVec 32 := 0#32
  let v13807 : BitVec 1 := Scalar.cmpi .ne v13806 c0_i32_5436
  let v13808 : BitVec 1 := Scalar.andi v13805 v13807
  let v13794 : BitVec 32 := Scalar.divsi v13791 c128_i32_5431
  let c1_i32_5437 : BitVec 32 := 1#32
  let v13809 : BitVec 32 := Scalar.subi v13794 c1_i32_5437
  let v13810 : BitVec 32 := Scalar.select v13808 v13809 v13794
  let c128_i32_5438 : BitVec 32 := 128#32
  let v13811 : BitVec 32 := Scalar.muli v13810 c128_i32_5438
  v13811

def k1_off756 (v13789 : BitVec 32) (v13791 : BitVec 32) : Fin 3 → Nat :=
  let v13814 : Index := Scalar.indexCast v13789
  let c0_5439 : Index := 0#32
  let c0_i32_5432 : BitVec 32 := 0#32
  let v13795 : BitVec 1 := Scalar.cmpi .sgt v13791 c0_i32_5432
  let v13796 : BitVec 32 := Scalar.extui v13795
  let c0_i32_5433 : BitVec 32 := 0#32
  let v13797 : BitVec 1 := Scalar.cmpi .slt v13791 c0_i32_5433
  let v13798 : BitVec 32 := Scalar.extui v13797
  let v13799 : BitVec 32 := Scalar.subi v13796 v13798
  let c128_i32_5431 : BitVec 32 := 128#32
  let c0_i32_5434 : BitVec 32 := 0#32
  let v13800 : BitVec 1 := Scalar.cmpi .sgt c128_i32_5431 c0_i32_5434
  let v13801 : BitVec 32 := Scalar.extui v13800
  let c0_i32_5435 : BitVec 32 := 0#32
  let v13802 : BitVec 1 := Scalar.cmpi .slt c128_i32_5431 c0_i32_5435
  let v13803 : BitVec 32 := Scalar.extui v13802
  let v13804 : BitVec 32 := Scalar.subi v13801 v13803
  let v13805 : BitVec 1 := Scalar.cmpi .ne v13799 v13804
  let v13806 : BitVec 32 := Scalar.remsi v13791 c128_i32_5431
  let c0_i32_5436 : BitVec 32 := 0#32
  let v13807 : BitVec 1 := Scalar.cmpi .ne v13806 c0_i32_5436
  let v13808 : BitVec 1 := Scalar.andi v13805 v13807
  let v13794 : BitVec 32 := Scalar.divsi v13791 c128_i32_5431
  let c1_i32_5437 : BitVec 32 := 1#32
  let v13809 : BitVec 32 := Scalar.subi v13794 c1_i32_5437
  let v13810 : BitVec 32 := Scalar.select v13808 v13809 v13794
  let c128_i32_5438 : BitVec 32 := 128#32
  let v13811 : BitVec 32 := Scalar.muli v13810 c128_i32_5438
  let v13812 : BitVec 32 := v13811
  let v13815 : Index := Scalar.indexCast v13812
  ![v13814.toNat, 0, v13815.toNat]

def k1_chk242 (v13789 : BitVec 32) (v13791 : BitVec 32) : Prop :=
  (128 ∣ (k1_mult242 v13791).toNat) ∧
  (∀ a, (k1_off756 v13789 v13791) a + S1x16x512.size a ≤ S384x16x1152.size a)
theorem k1_mult242_dvd : ∀ (v13789 : BitVec 32) (v13791 : BitVec 32) (k1_hw242 : k1_chk242 v13789 v13791), 128 ∣ (k1_mult242 v13791).toNat := fun v13789 v13791 k1_hw242 => k1_hw242.1
theorem k1_off756_inb : ∀ (v13789 : BitVec 32) (v13791 : BitVec 32) (k1_hw242 : k1_chk242 v13789 v13791), ∀ a, (k1_off756 v13789 v13791) a + S1x16x512.size a ≤ S384x16x1152.size a := fun v13789 v13791 k1_hw242 => k1_hw242.2

def k1_off757 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13825 : Index := Scalar.indexCast v13714
  let c1_5442 : Index := 1#32
  ![v13825.toNat, 1]
def k1_off758 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13841 : Index := Scalar.indexCast v13714
  let c2_5448 : Index := 2#32
  ![v13841.toNat, 2]
def k1_mult243 (v13844 : BitVec 32) : BitVec 32 :=
  let c0_i32_5452 : BitVec 32 := 0#32
  let v13848 : BitVec 1 := Scalar.cmpi .sgt v13844 c0_i32_5452
  let v13849 : BitVec 32 := Scalar.extui v13848
  let c0_i32_5453 : BitVec 32 := 0#32
  let v13850 : BitVec 1 := Scalar.cmpi .slt v13844 c0_i32_5453
  let v13851 : BitVec 32 := Scalar.extui v13850
  let v13852 : BitVec 32 := Scalar.subi v13849 v13851
  let c128_i32_5451 : BitVec 32 := 128#32
  let c0_i32_5454 : BitVec 32 := 0#32
  let v13853 : BitVec 1 := Scalar.cmpi .sgt c128_i32_5451 c0_i32_5454
  let v13854 : BitVec 32 := Scalar.extui v13853
  let c0_i32_5455 : BitVec 32 := 0#32
  let v13855 : BitVec 1 := Scalar.cmpi .slt c128_i32_5451 c0_i32_5455
  let v13856 : BitVec 32 := Scalar.extui v13855
  let v13857 : BitVec 32 := Scalar.subi v13854 v13856
  let v13858 : BitVec 1 := Scalar.cmpi .ne v13852 v13857
  let v13859 : BitVec 32 := Scalar.remsi v13844 c128_i32_5451
  let c0_i32_5456 : BitVec 32 := 0#32
  let v13860 : BitVec 1 := Scalar.cmpi .ne v13859 c0_i32_5456
  let v13861 : BitVec 1 := Scalar.andi v13858 v13860
  let v13847 : BitVec 32 := Scalar.divsi v13844 c128_i32_5451
  let c1_i32_5457 : BitVec 32 := 1#32
  let v13862 : BitVec 32 := Scalar.subi v13847 c1_i32_5457
  let v13863 : BitVec 32 := Scalar.select v13861 v13862 v13847
  let c128_i32_5458 : BitVec 32 := 128#32
  let v13864 : BitVec 32 := Scalar.muli v13863 c128_i32_5458
  v13864

def k1_off759 (v13842 : BitVec 32) (v13844 : BitVec 32) : Fin 3 → Nat :=
  let v13867 : Index := Scalar.indexCast v13842
  let c0_5459 : Index := 0#32
  let c0_i32_5452 : BitVec 32 := 0#32
  let v13848 : BitVec 1 := Scalar.cmpi .sgt v13844 c0_i32_5452
  let v13849 : BitVec 32 := Scalar.extui v13848
  let c0_i32_5453 : BitVec 32 := 0#32
  let v13850 : BitVec 1 := Scalar.cmpi .slt v13844 c0_i32_5453
  let v13851 : BitVec 32 := Scalar.extui v13850
  let v13852 : BitVec 32 := Scalar.subi v13849 v13851
  let c128_i32_5451 : BitVec 32 := 128#32
  let c0_i32_5454 : BitVec 32 := 0#32
  let v13853 : BitVec 1 := Scalar.cmpi .sgt c128_i32_5451 c0_i32_5454
  let v13854 : BitVec 32 := Scalar.extui v13853
  let c0_i32_5455 : BitVec 32 := 0#32
  let v13855 : BitVec 1 := Scalar.cmpi .slt c128_i32_5451 c0_i32_5455
  let v13856 : BitVec 32 := Scalar.extui v13855
  let v13857 : BitVec 32 := Scalar.subi v13854 v13856
  let v13858 : BitVec 1 := Scalar.cmpi .ne v13852 v13857
  let v13859 : BitVec 32 := Scalar.remsi v13844 c128_i32_5451
  let c0_i32_5456 : BitVec 32 := 0#32
  let v13860 : BitVec 1 := Scalar.cmpi .ne v13859 c0_i32_5456
  let v13861 : BitVec 1 := Scalar.andi v13858 v13860
  let v13847 : BitVec 32 := Scalar.divsi v13844 c128_i32_5451
  let c1_i32_5457 : BitVec 32 := 1#32
  let v13862 : BitVec 32 := Scalar.subi v13847 c1_i32_5457
  let v13863 : BitVec 32 := Scalar.select v13861 v13862 v13847
  let c128_i32_5458 : BitVec 32 := 128#32
  let v13864 : BitVec 32 := Scalar.muli v13863 c128_i32_5458
  let v13865 : BitVec 32 := v13864
  let v13868 : Index := Scalar.indexCast v13865
  ![v13867.toNat, 0, v13868.toNat]

def k1_chk243 (v13842 : BitVec 32) (v13844 : BitVec 32) : Prop :=
  (128 ∣ (k1_mult243 v13844).toNat) ∧
  (∀ a, (k1_off759 v13842 v13844) a + S1x16x512.size a ≤ S384x16x1152.size a)
theorem k1_mult243_dvd : ∀ (v13842 : BitVec 32) (v13844 : BitVec 32) (k1_hw243 : k1_chk243 v13842 v13844), 128 ∣ (k1_mult243 v13844).toNat := fun v13842 v13844 k1_hw243 => k1_hw243.1
theorem k1_off759_inb : ∀ (v13842 : BitVec 32) (v13844 : BitVec 32) (k1_hw243 : k1_chk243 v13842 v13844), ∀ a, (k1_off759 v13842 v13844) a + S1x16x512.size a ≤ S384x16x1152.size a := fun v13842 v13844 k1_hw243 => k1_hw243.2

def k1_off760 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13878 : Index := Scalar.indexCast v13714
  let c2_5462 : Index := 2#32
  ![v13878.toNat, 2]
def k1_off761 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13894 : Index := Scalar.indexCast v13714
  let c3_5468 : Index := 3#32
  ![v13894.toNat, 3]
def k1_mult244 (v13897 : BitVec 32) : BitVec 32 :=
  let c0_i32_5472 : BitVec 32 := 0#32
  let v13901 : BitVec 1 := Scalar.cmpi .sgt v13897 c0_i32_5472
  let v13902 : BitVec 32 := Scalar.extui v13901
  let c0_i32_5473 : BitVec 32 := 0#32
  let v13903 : BitVec 1 := Scalar.cmpi .slt v13897 c0_i32_5473
  let v13904 : BitVec 32 := Scalar.extui v13903
  let v13905 : BitVec 32 := Scalar.subi v13902 v13904
  let c128_i32_5471 : BitVec 32 := 128#32
  let c0_i32_5474 : BitVec 32 := 0#32
  let v13906 : BitVec 1 := Scalar.cmpi .sgt c128_i32_5471 c0_i32_5474
  let v13907 : BitVec 32 := Scalar.extui v13906
  let c0_i32_5475 : BitVec 32 := 0#32
  let v13908 : BitVec 1 := Scalar.cmpi .slt c128_i32_5471 c0_i32_5475
  let v13909 : BitVec 32 := Scalar.extui v13908
  let v13910 : BitVec 32 := Scalar.subi v13907 v13909
  let v13911 : BitVec 1 := Scalar.cmpi .ne v13905 v13910
  let v13912 : BitVec 32 := Scalar.remsi v13897 c128_i32_5471
  let c0_i32_5476 : BitVec 32 := 0#32
  let v13913 : BitVec 1 := Scalar.cmpi .ne v13912 c0_i32_5476
  let v13914 : BitVec 1 := Scalar.andi v13911 v13913
  let v13900 : BitVec 32 := Scalar.divsi v13897 c128_i32_5471
  let c1_i32_5477 : BitVec 32 := 1#32
  let v13915 : BitVec 32 := Scalar.subi v13900 c1_i32_5477
  let v13916 : BitVec 32 := Scalar.select v13914 v13915 v13900
  let c128_i32_5478 : BitVec 32 := 128#32
  let v13917 : BitVec 32 := Scalar.muli v13916 c128_i32_5478
  v13917

def k1_off762 (v13895 : BitVec 32) (v13897 : BitVec 32) : Fin 3 → Nat :=
  let v13920 : Index := Scalar.indexCast v13895
  let c0_5479 : Index := 0#32
  let c0_i32_5472 : BitVec 32 := 0#32
  let v13901 : BitVec 1 := Scalar.cmpi .sgt v13897 c0_i32_5472
  let v13902 : BitVec 32 := Scalar.extui v13901
  let c0_i32_5473 : BitVec 32 := 0#32
  let v13903 : BitVec 1 := Scalar.cmpi .slt v13897 c0_i32_5473
  let v13904 : BitVec 32 := Scalar.extui v13903
  let v13905 : BitVec 32 := Scalar.subi v13902 v13904
  let c128_i32_5471 : BitVec 32 := 128#32
  let c0_i32_5474 : BitVec 32 := 0#32
  let v13906 : BitVec 1 := Scalar.cmpi .sgt c128_i32_5471 c0_i32_5474
  let v13907 : BitVec 32 := Scalar.extui v13906
  let c0_i32_5475 : BitVec 32 := 0#32
  let v13908 : BitVec 1 := Scalar.cmpi .slt c128_i32_5471 c0_i32_5475
  let v13909 : BitVec 32 := Scalar.extui v13908
  let v13910 : BitVec 32 := Scalar.subi v13907 v13909
  let v13911 : BitVec 1 := Scalar.cmpi .ne v13905 v13910
  let v13912 : BitVec 32 := Scalar.remsi v13897 c128_i32_5471
  let c0_i32_5476 : BitVec 32 := 0#32
  let v13913 : BitVec 1 := Scalar.cmpi .ne v13912 c0_i32_5476
  let v13914 : BitVec 1 := Scalar.andi v13911 v13913
  let v13900 : BitVec 32 := Scalar.divsi v13897 c128_i32_5471
  let c1_i32_5477 : BitVec 32 := 1#32
  let v13915 : BitVec 32 := Scalar.subi v13900 c1_i32_5477
  let v13916 : BitVec 32 := Scalar.select v13914 v13915 v13900
  let c128_i32_5478 : BitVec 32 := 128#32
  let v13917 : BitVec 32 := Scalar.muli v13916 c128_i32_5478
  let v13918 : BitVec 32 := v13917
  let v13921 : Index := Scalar.indexCast v13918
  ![v13920.toNat, 0, v13921.toNat]

def k1_chk244 (v13895 : BitVec 32) (v13897 : BitVec 32) : Prop :=
  (128 ∣ (k1_mult244 v13897).toNat) ∧
  (∀ a, (k1_off762 v13895 v13897) a + S1x16x512.size a ≤ S384x16x1152.size a)
theorem k1_mult244_dvd : ∀ (v13895 : BitVec 32) (v13897 : BitVec 32) (k1_hw244 : k1_chk244 v13895 v13897), 128 ∣ (k1_mult244 v13897).toNat := fun v13895 v13897 k1_hw244 => k1_hw244.1
theorem k1_off762_inb : ∀ (v13895 : BitVec 32) (v13897 : BitVec 32) (k1_hw244 : k1_chk244 v13895 v13897), ∀ a, (k1_off762 v13895 v13897) a + S1x16x512.size a ≤ S384x16x1152.size a := fun v13895 v13897 k1_hw244 => k1_hw244.2

def k1_off763 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13931 : Index := Scalar.indexCast v13714
  let c3_5482 : Index := 3#32
  ![v13931.toNat, 3]
def k1_off764 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13947 : Index := Scalar.indexCast v13714
  let c4_5488 : Index := 4#32
  ![v13947.toNat, 4]
def k1_mult245 (v13950 : BitVec 32) : BitVec 32 :=
  let c0_i32_5492 : BitVec 32 := 0#32
  let v13954 : BitVec 1 := Scalar.cmpi .sgt v13950 c0_i32_5492
  let v13955 : BitVec 32 := Scalar.extui v13954
  let c0_i32_5493 : BitVec 32 := 0#32
  let v13956 : BitVec 1 := Scalar.cmpi .slt v13950 c0_i32_5493
  let v13957 : BitVec 32 := Scalar.extui v13956
  let v13958 : BitVec 32 := Scalar.subi v13955 v13957
  let c128_i32_5491 : BitVec 32 := 128#32
  let c0_i32_5494 : BitVec 32 := 0#32
  let v13959 : BitVec 1 := Scalar.cmpi .sgt c128_i32_5491 c0_i32_5494
  let v13960 : BitVec 32 := Scalar.extui v13959
  let c0_i32_5495 : BitVec 32 := 0#32
  let v13961 : BitVec 1 := Scalar.cmpi .slt c128_i32_5491 c0_i32_5495
  let v13962 : BitVec 32 := Scalar.extui v13961
  let v13963 : BitVec 32 := Scalar.subi v13960 v13962
  let v13964 : BitVec 1 := Scalar.cmpi .ne v13958 v13963
  let v13965 : BitVec 32 := Scalar.remsi v13950 c128_i32_5491
  let c0_i32_5496 : BitVec 32 := 0#32
  let v13966 : BitVec 1 := Scalar.cmpi .ne v13965 c0_i32_5496
  let v13967 : BitVec 1 := Scalar.andi v13964 v13966
  let v13953 : BitVec 32 := Scalar.divsi v13950 c128_i32_5491
  let c1_i32_5497 : BitVec 32 := 1#32
  let v13968 : BitVec 32 := Scalar.subi v13953 c1_i32_5497
  let v13969 : BitVec 32 := Scalar.select v13967 v13968 v13953
  let c128_i32_5498 : BitVec 32 := 128#32
  let v13970 : BitVec 32 := Scalar.muli v13969 c128_i32_5498
  v13970

def k1_off765 (v13948 : BitVec 32) (v13950 : BitVec 32) : Fin 3 → Nat :=
  let v13973 : Index := Scalar.indexCast v13948
  let c0_5499 : Index := 0#32
  let c0_i32_5492 : BitVec 32 := 0#32
  let v13954 : BitVec 1 := Scalar.cmpi .sgt v13950 c0_i32_5492
  let v13955 : BitVec 32 := Scalar.extui v13954
  let c0_i32_5493 : BitVec 32 := 0#32
  let v13956 : BitVec 1 := Scalar.cmpi .slt v13950 c0_i32_5493
  let v13957 : BitVec 32 := Scalar.extui v13956
  let v13958 : BitVec 32 := Scalar.subi v13955 v13957
  let c128_i32_5491 : BitVec 32 := 128#32
  let c0_i32_5494 : BitVec 32 := 0#32
  let v13959 : BitVec 1 := Scalar.cmpi .sgt c128_i32_5491 c0_i32_5494
  let v13960 : BitVec 32 := Scalar.extui v13959
  let c0_i32_5495 : BitVec 32 := 0#32
  let v13961 : BitVec 1 := Scalar.cmpi .slt c128_i32_5491 c0_i32_5495
  let v13962 : BitVec 32 := Scalar.extui v13961
  let v13963 : BitVec 32 := Scalar.subi v13960 v13962
  let v13964 : BitVec 1 := Scalar.cmpi .ne v13958 v13963
  let v13965 : BitVec 32 := Scalar.remsi v13950 c128_i32_5491
  let c0_i32_5496 : BitVec 32 := 0#32
  let v13966 : BitVec 1 := Scalar.cmpi .ne v13965 c0_i32_5496
  let v13967 : BitVec 1 := Scalar.andi v13964 v13966
  let v13953 : BitVec 32 := Scalar.divsi v13950 c128_i32_5491
  let c1_i32_5497 : BitVec 32 := 1#32
  let v13968 : BitVec 32 := Scalar.subi v13953 c1_i32_5497
  let v13969 : BitVec 32 := Scalar.select v13967 v13968 v13953
  let c128_i32_5498 : BitVec 32 := 128#32
  let v13970 : BitVec 32 := Scalar.muli v13969 c128_i32_5498
  let v13971 : BitVec 32 := v13970
  let v13974 : Index := Scalar.indexCast v13971
  ![v13973.toNat, 0, v13974.toNat]

def k1_chk245 (v13948 : BitVec 32) (v13950 : BitVec 32) : Prop :=
  (128 ∣ (k1_mult245 v13950).toNat) ∧
  (∀ a, (k1_off765 v13948 v13950) a + S1x16x512.size a ≤ S384x16x1152.size a)
theorem k1_mult245_dvd : ∀ (v13948 : BitVec 32) (v13950 : BitVec 32) (k1_hw245 : k1_chk245 v13948 v13950), 128 ∣ (k1_mult245 v13950).toNat := fun v13948 v13950 k1_hw245 => k1_hw245.1
theorem k1_off765_inb : ∀ (v13948 : BitVec 32) (v13950 : BitVec 32) (k1_hw245 : k1_chk245 v13948 v13950), ∀ a, (k1_off765 v13948 v13950) a + S1x16x512.size a ≤ S384x16x1152.size a := fun v13948 v13950 k1_hw245 => k1_hw245.2

def k1_off766 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v13984 : Index := Scalar.indexCast v13714
  let c4_5502 : Index := 4#32
  ![v13984.toNat, 4]
def k1_off767 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14000 : Index := Scalar.indexCast v13714
  let c5_5508 : Index := 5#32
  ![v14000.toNat, 5]
def k1_mult246 (v14003 : BitVec 32) : BitVec 32 :=
  let c0_i32_5512 : BitVec 32 := 0#32
  let v14007 : BitVec 1 := Scalar.cmpi .sgt v14003 c0_i32_5512
  let v14008 : BitVec 32 := Scalar.extui v14007
  let c0_i32_5513 : BitVec 32 := 0#32
  let v14009 : BitVec 1 := Scalar.cmpi .slt v14003 c0_i32_5513
  let v14010 : BitVec 32 := Scalar.extui v14009
  let v14011 : BitVec 32 := Scalar.subi v14008 v14010
  let c128_i32_5511 : BitVec 32 := 128#32
  let c0_i32_5514 : BitVec 32 := 0#32
  let v14012 : BitVec 1 := Scalar.cmpi .sgt c128_i32_5511 c0_i32_5514
  let v14013 : BitVec 32 := Scalar.extui v14012
  let c0_i32_5515 : BitVec 32 := 0#32
  let v14014 : BitVec 1 := Scalar.cmpi .slt c128_i32_5511 c0_i32_5515
  let v14015 : BitVec 32 := Scalar.extui v14014
  let v14016 : BitVec 32 := Scalar.subi v14013 v14015
  let v14017 : BitVec 1 := Scalar.cmpi .ne v14011 v14016
  let v14018 : BitVec 32 := Scalar.remsi v14003 c128_i32_5511
  let c0_i32_5516 : BitVec 32 := 0#32
  let v14019 : BitVec 1 := Scalar.cmpi .ne v14018 c0_i32_5516
  let v14020 : BitVec 1 := Scalar.andi v14017 v14019
  let v14006 : BitVec 32 := Scalar.divsi v14003 c128_i32_5511
  let c1_i32_5517 : BitVec 32 := 1#32
  let v14021 : BitVec 32 := Scalar.subi v14006 c1_i32_5517
  let v14022 : BitVec 32 := Scalar.select v14020 v14021 v14006
  let c128_i32_5518 : BitVec 32 := 128#32
  let v14023 : BitVec 32 := Scalar.muli v14022 c128_i32_5518
  v14023

def k1_off768 (v14001 : BitVec 32) (v14003 : BitVec 32) : Fin 3 → Nat :=
  let v14026 : Index := Scalar.indexCast v14001
  let c0_5519 : Index := 0#32
  let c0_i32_5512 : BitVec 32 := 0#32
  let v14007 : BitVec 1 := Scalar.cmpi .sgt v14003 c0_i32_5512
  let v14008 : BitVec 32 := Scalar.extui v14007
  let c0_i32_5513 : BitVec 32 := 0#32
  let v14009 : BitVec 1 := Scalar.cmpi .slt v14003 c0_i32_5513
  let v14010 : BitVec 32 := Scalar.extui v14009
  let v14011 : BitVec 32 := Scalar.subi v14008 v14010
  let c128_i32_5511 : BitVec 32 := 128#32
  let c0_i32_5514 : BitVec 32 := 0#32
  let v14012 : BitVec 1 := Scalar.cmpi .sgt c128_i32_5511 c0_i32_5514
  let v14013 : BitVec 32 := Scalar.extui v14012
  let c0_i32_5515 : BitVec 32 := 0#32
  let v14014 : BitVec 1 := Scalar.cmpi .slt c128_i32_5511 c0_i32_5515
  let v14015 : BitVec 32 := Scalar.extui v14014
  let v14016 : BitVec 32 := Scalar.subi v14013 v14015
  let v14017 : BitVec 1 := Scalar.cmpi .ne v14011 v14016
  let v14018 : BitVec 32 := Scalar.remsi v14003 c128_i32_5511
  let c0_i32_5516 : BitVec 32 := 0#32
  let v14019 : BitVec 1 := Scalar.cmpi .ne v14018 c0_i32_5516
  let v14020 : BitVec 1 := Scalar.andi v14017 v14019
  let v14006 : BitVec 32 := Scalar.divsi v14003 c128_i32_5511
  let c1_i32_5517 : BitVec 32 := 1#32
  let v14021 : BitVec 32 := Scalar.subi v14006 c1_i32_5517
  let v14022 : BitVec 32 := Scalar.select v14020 v14021 v14006
  let c128_i32_5518 : BitVec 32 := 128#32
  let v14023 : BitVec 32 := Scalar.muli v14022 c128_i32_5518
  let v14024 : BitVec 32 := v14023
  let v14027 : Index := Scalar.indexCast v14024
  ![v14026.toNat, 0, v14027.toNat]

def k1_chk246 (v14001 : BitVec 32) (v14003 : BitVec 32) : Prop :=
  (128 ∣ (k1_mult246 v14003).toNat) ∧
  (∀ a, (k1_off768 v14001 v14003) a + S1x16x512.size a ≤ S384x16x1152.size a)
theorem k1_mult246_dvd : ∀ (v14001 : BitVec 32) (v14003 : BitVec 32) (k1_hw246 : k1_chk246 v14001 v14003), 128 ∣ (k1_mult246 v14003).toNat := fun v14001 v14003 k1_hw246 => k1_hw246.1
theorem k1_off768_inb : ∀ (v14001 : BitVec 32) (v14003 : BitVec 32) (k1_hw246 : k1_chk246 v14001 v14003), ∀ a, (k1_off768 v14001 v14003) a + S1x16x512.size a ≤ S384x16x1152.size a := fun v14001 v14003 k1_hw246 => k1_hw246.2

def k1_off769 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14037 : Index := Scalar.indexCast v13714
  let c5_5522 : Index := 5#32
  ![v14037.toNat, 5]
def k1_off770 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14053 : Index := Scalar.indexCast v13714
  let c6_5528 : Index := 6#32
  ![v14053.toNat, 6]
def k1_mult247 (v14056 : BitVec 32) : BitVec 32 :=
  let c0_i32_5532 : BitVec 32 := 0#32
  let v14060 : BitVec 1 := Scalar.cmpi .sgt v14056 c0_i32_5532
  let v14061 : BitVec 32 := Scalar.extui v14060
  let c0_i32_5533 : BitVec 32 := 0#32
  let v14062 : BitVec 1 := Scalar.cmpi .slt v14056 c0_i32_5533
  let v14063 : BitVec 32 := Scalar.extui v14062
  let v14064 : BitVec 32 := Scalar.subi v14061 v14063
  let c128_i32_5531 : BitVec 32 := 128#32
  let c0_i32_5534 : BitVec 32 := 0#32
  let v14065 : BitVec 1 := Scalar.cmpi .sgt c128_i32_5531 c0_i32_5534
  let v14066 : BitVec 32 := Scalar.extui v14065
  let c0_i32_5535 : BitVec 32 := 0#32
  let v14067 : BitVec 1 := Scalar.cmpi .slt c128_i32_5531 c0_i32_5535
  let v14068 : BitVec 32 := Scalar.extui v14067
  let v14069 : BitVec 32 := Scalar.subi v14066 v14068
  let v14070 : BitVec 1 := Scalar.cmpi .ne v14064 v14069
  let v14071 : BitVec 32 := Scalar.remsi v14056 c128_i32_5531
  let c0_i32_5536 : BitVec 32 := 0#32
  let v14072 : BitVec 1 := Scalar.cmpi .ne v14071 c0_i32_5536
  let v14073 : BitVec 1 := Scalar.andi v14070 v14072
  let v14059 : BitVec 32 := Scalar.divsi v14056 c128_i32_5531
  let c1_i32_5537 : BitVec 32 := 1#32
  let v14074 : BitVec 32 := Scalar.subi v14059 c1_i32_5537
  let v14075 : BitVec 32 := Scalar.select v14073 v14074 v14059
  let c128_i32_5538 : BitVec 32 := 128#32
  let v14076 : BitVec 32 := Scalar.muli v14075 c128_i32_5538
  v14076

def k1_off771 (v14054 : BitVec 32) (v14056 : BitVec 32) : Fin 3 → Nat :=
  let v14079 : Index := Scalar.indexCast v14054
  let c0_5539 : Index := 0#32
  let c0_i32_5532 : BitVec 32 := 0#32
  let v14060 : BitVec 1 := Scalar.cmpi .sgt v14056 c0_i32_5532
  let v14061 : BitVec 32 := Scalar.extui v14060
  let c0_i32_5533 : BitVec 32 := 0#32
  let v14062 : BitVec 1 := Scalar.cmpi .slt v14056 c0_i32_5533
  let v14063 : BitVec 32 := Scalar.extui v14062
  let v14064 : BitVec 32 := Scalar.subi v14061 v14063
  let c128_i32_5531 : BitVec 32 := 128#32
  let c0_i32_5534 : BitVec 32 := 0#32
  let v14065 : BitVec 1 := Scalar.cmpi .sgt c128_i32_5531 c0_i32_5534
  let v14066 : BitVec 32 := Scalar.extui v14065
  let c0_i32_5535 : BitVec 32 := 0#32
  let v14067 : BitVec 1 := Scalar.cmpi .slt c128_i32_5531 c0_i32_5535
  let v14068 : BitVec 32 := Scalar.extui v14067
  let v14069 : BitVec 32 := Scalar.subi v14066 v14068
  let v14070 : BitVec 1 := Scalar.cmpi .ne v14064 v14069
  let v14071 : BitVec 32 := Scalar.remsi v14056 c128_i32_5531
  let c0_i32_5536 : BitVec 32 := 0#32
  let v14072 : BitVec 1 := Scalar.cmpi .ne v14071 c0_i32_5536
  let v14073 : BitVec 1 := Scalar.andi v14070 v14072
  let v14059 : BitVec 32 := Scalar.divsi v14056 c128_i32_5531
  let c1_i32_5537 : BitVec 32 := 1#32
  let v14074 : BitVec 32 := Scalar.subi v14059 c1_i32_5537
  let v14075 : BitVec 32 := Scalar.select v14073 v14074 v14059
  let c128_i32_5538 : BitVec 32 := 128#32
  let v14076 : BitVec 32 := Scalar.muli v14075 c128_i32_5538
  let v14077 : BitVec 32 := v14076
  let v14080 : Index := Scalar.indexCast v14077
  ![v14079.toNat, 0, v14080.toNat]

def k1_chk247 (v14054 : BitVec 32) (v14056 : BitVec 32) : Prop :=
  (128 ∣ (k1_mult247 v14056).toNat) ∧
  (∀ a, (k1_off771 v14054 v14056) a + S1x16x512.size a ≤ S384x16x1152.size a)
theorem k1_mult247_dvd : ∀ (v14054 : BitVec 32) (v14056 : BitVec 32) (k1_hw247 : k1_chk247 v14054 v14056), 128 ∣ (k1_mult247 v14056).toNat := fun v14054 v14056 k1_hw247 => k1_hw247.1
theorem k1_off771_inb : ∀ (v14054 : BitVec 32) (v14056 : BitVec 32) (k1_hw247 : k1_chk247 v14054 v14056), ∀ a, (k1_off771 v14054 v14056) a + S1x16x512.size a ≤ S384x16x1152.size a := fun v14054 v14056 k1_hw247 => k1_hw247.2

def k1_off772 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14090 : Index := Scalar.indexCast v13714
  let c6_5542 : Index := 6#32
  ![v14090.toNat, 6]
def k1_off773 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14106 : Index := Scalar.indexCast v13714
  let c7_5548 : Index := 7#32
  ![v14106.toNat, 7]
def k1_mult248 (v14109 : BitVec 32) : BitVec 32 :=
  let c0_i32_5552 : BitVec 32 := 0#32
  let v14113 : BitVec 1 := Scalar.cmpi .sgt v14109 c0_i32_5552
  let v14114 : BitVec 32 := Scalar.extui v14113
  let c0_i32_5553 : BitVec 32 := 0#32
  let v14115 : BitVec 1 := Scalar.cmpi .slt v14109 c0_i32_5553
  let v14116 : BitVec 32 := Scalar.extui v14115
  let v14117 : BitVec 32 := Scalar.subi v14114 v14116
  let c128_i32_5551 : BitVec 32 := 128#32
  let c0_i32_5554 : BitVec 32 := 0#32
  let v14118 : BitVec 1 := Scalar.cmpi .sgt c128_i32_5551 c0_i32_5554
  let v14119 : BitVec 32 := Scalar.extui v14118
  let c0_i32_5555 : BitVec 32 := 0#32
  let v14120 : BitVec 1 := Scalar.cmpi .slt c128_i32_5551 c0_i32_5555
  let v14121 : BitVec 32 := Scalar.extui v14120
  let v14122 : BitVec 32 := Scalar.subi v14119 v14121
  let v14123 : BitVec 1 := Scalar.cmpi .ne v14117 v14122
  let v14124 : BitVec 32 := Scalar.remsi v14109 c128_i32_5551
  let c0_i32_5556 : BitVec 32 := 0#32
  let v14125 : BitVec 1 := Scalar.cmpi .ne v14124 c0_i32_5556
  let v14126 : BitVec 1 := Scalar.andi v14123 v14125
  let v14112 : BitVec 32 := Scalar.divsi v14109 c128_i32_5551
  let c1_i32_5557 : BitVec 32 := 1#32
  let v14127 : BitVec 32 := Scalar.subi v14112 c1_i32_5557
  let v14128 : BitVec 32 := Scalar.select v14126 v14127 v14112
  let c128_i32_5558 : BitVec 32 := 128#32
  let v14129 : BitVec 32 := Scalar.muli v14128 c128_i32_5558
  v14129

def k1_off774 (v14107 : BitVec 32) (v14109 : BitVec 32) : Fin 3 → Nat :=
  let v14132 : Index := Scalar.indexCast v14107
  let c0_5559 : Index := 0#32
  let c0_i32_5552 : BitVec 32 := 0#32
  let v14113 : BitVec 1 := Scalar.cmpi .sgt v14109 c0_i32_5552
  let v14114 : BitVec 32 := Scalar.extui v14113
  let c0_i32_5553 : BitVec 32 := 0#32
  let v14115 : BitVec 1 := Scalar.cmpi .slt v14109 c0_i32_5553
  let v14116 : BitVec 32 := Scalar.extui v14115
  let v14117 : BitVec 32 := Scalar.subi v14114 v14116
  let c128_i32_5551 : BitVec 32 := 128#32
  let c0_i32_5554 : BitVec 32 := 0#32
  let v14118 : BitVec 1 := Scalar.cmpi .sgt c128_i32_5551 c0_i32_5554
  let v14119 : BitVec 32 := Scalar.extui v14118
  let c0_i32_5555 : BitVec 32 := 0#32
  let v14120 : BitVec 1 := Scalar.cmpi .slt c128_i32_5551 c0_i32_5555
  let v14121 : BitVec 32 := Scalar.extui v14120
  let v14122 : BitVec 32 := Scalar.subi v14119 v14121
  let v14123 : BitVec 1 := Scalar.cmpi .ne v14117 v14122
  let v14124 : BitVec 32 := Scalar.remsi v14109 c128_i32_5551
  let c0_i32_5556 : BitVec 32 := 0#32
  let v14125 : BitVec 1 := Scalar.cmpi .ne v14124 c0_i32_5556
  let v14126 : BitVec 1 := Scalar.andi v14123 v14125
  let v14112 : BitVec 32 := Scalar.divsi v14109 c128_i32_5551
  let c1_i32_5557 : BitVec 32 := 1#32
  let v14127 : BitVec 32 := Scalar.subi v14112 c1_i32_5557
  let v14128 : BitVec 32 := Scalar.select v14126 v14127 v14112
  let c128_i32_5558 : BitVec 32 := 128#32
  let v14129 : BitVec 32 := Scalar.muli v14128 c128_i32_5558
  let v14130 : BitVec 32 := v14129
  let v14133 : Index := Scalar.indexCast v14130
  ![v14132.toNat, 0, v14133.toNat]

def k1_chk248 (v14107 : BitVec 32) (v14109 : BitVec 32) : Prop :=
  (128 ∣ (k1_mult248 v14109).toNat) ∧
  (∀ a, (k1_off774 v14107 v14109) a + S1x16x512.size a ≤ S384x16x1152.size a)
theorem k1_mult248_dvd : ∀ (v14107 : BitVec 32) (v14109 : BitVec 32) (k1_hw248 : k1_chk248 v14107 v14109), 128 ∣ (k1_mult248 v14109).toNat := fun v14107 v14109 k1_hw248 => k1_hw248.1
theorem k1_off774_inb : ∀ (v14107 : BitVec 32) (v14109 : BitVec 32) (k1_hw248 : k1_chk248 v14107 v14109), ∀ a, (k1_off774 v14107 v14109) a + S1x16x512.size a ≤ S384x16x1152.size a := fun v14107 v14109 k1_hw248 => k1_hw248.2

def k1_off775 (i : grid1.Coords) : Fin 2 → Nat :=
  let arg0 : BitVec 32 := BitVec.ofNat 32 (i 0).val
  let c48_i32_5397 : BitVec 32 := 48#32
  let v13713 : BitVec 32 := Scalar.muli arg0 c48_i32_5397
  let c30_i32 : BitVec 32 := 30#32
  let v13714 : BitVec 32 := Scalar.addi v13713 c30_i32
  let v14143 : Index := Scalar.indexCast v13714
  let c7_5562 : Index := 7#32
  ![v14143.toNat, 7]
def k1_off776 (i : grid1.Coords) : Fin 3 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14172 : Index := Scalar.indexCast v14171
  let c0_5578 : Index := 0#32
  let c720_5579 : Index := 720#32
  ![v14172.toNat, 0, 720]
def k1_off777 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14192 : Index := Scalar.indexCast v14171
  let c0_5588 : Index := 0#32
  ![v14192.toNat, 0]
def k1_mult249 (v14195 : BitVec 32) : BitVec 32 :=
  let c0_i32_5592 : BitVec 32 := 0#32
  let v14199 : BitVec 1 := Scalar.cmpi .sgt v14195 c0_i32_5592
  let v14200 : BitVec 32 := Scalar.extui v14199
  let c0_i32_5593 : BitVec 32 := 0#32
  let v14201 : BitVec 1 := Scalar.cmpi .slt v14195 c0_i32_5593
  let v14202 : BitVec 32 := Scalar.extui v14201
  let v14203 : BitVec 32 := Scalar.subi v14200 v14202
  let c128_i32_5591 : BitVec 32 := 128#32
  let c0_i32_5594 : BitVec 32 := 0#32
  let v14204 : BitVec 1 := Scalar.cmpi .sgt c128_i32_5591 c0_i32_5594
  let v14205 : BitVec 32 := Scalar.extui v14204
  let c0_i32_5595 : BitVec 32 := 0#32
  let v14206 : BitVec 1 := Scalar.cmpi .slt c128_i32_5591 c0_i32_5595
  let v14207 : BitVec 32 := Scalar.extui v14206
  let v14208 : BitVec 32 := Scalar.subi v14205 v14207
  let v14209 : BitVec 1 := Scalar.cmpi .ne v14203 v14208
  let v14210 : BitVec 32 := Scalar.remsi v14195 c128_i32_5591
  let c0_i32_5596 : BitVec 32 := 0#32
  let v14211 : BitVec 1 := Scalar.cmpi .ne v14210 c0_i32_5596
  let v14212 : BitVec 1 := Scalar.andi v14209 v14211
  let v14198 : BitVec 32 := Scalar.divsi v14195 c128_i32_5591
  let c1_i32_5597 : BitVec 32 := 1#32
  let v14213 : BitVec 32 := Scalar.subi v14198 c1_i32_5597
  let v14214 : BitVec 32 := Scalar.select v14212 v14213 v14198
  let c128_i32_5598 : BitVec 32 := 128#32
  let v14215 : BitVec 32 := Scalar.muli v14214 c128_i32_5598
  v14215

def k1_off778 (v14193 : BitVec 32) (v14195 : BitVec 32) : Fin 3 → Nat :=
  let v14218 : Index := Scalar.indexCast v14193
  let c0_5599 : Index := 0#32
  let c0_i32_5592 : BitVec 32 := 0#32
  let v14199 : BitVec 1 := Scalar.cmpi .sgt v14195 c0_i32_5592
  let v14200 : BitVec 32 := Scalar.extui v14199
  let c0_i32_5593 : BitVec 32 := 0#32
  let v14201 : BitVec 1 := Scalar.cmpi .slt v14195 c0_i32_5593
  let v14202 : BitVec 32 := Scalar.extui v14201
  let v14203 : BitVec 32 := Scalar.subi v14200 v14202
  let c128_i32_5591 : BitVec 32 := 128#32
  let c0_i32_5594 : BitVec 32 := 0#32
  let v14204 : BitVec 1 := Scalar.cmpi .sgt c128_i32_5591 c0_i32_5594
  let v14205 : BitVec 32 := Scalar.extui v14204
  let c0_i32_5595 : BitVec 32 := 0#32
  let v14206 : BitVec 1 := Scalar.cmpi .slt c128_i32_5591 c0_i32_5595
  let v14207 : BitVec 32 := Scalar.extui v14206
  let v14208 : BitVec 32 := Scalar.subi v14205 v14207
  let v14209 : BitVec 1 := Scalar.cmpi .ne v14203 v14208
  let v14210 : BitVec 32 := Scalar.remsi v14195 c128_i32_5591
  let c0_i32_5596 : BitVec 32 := 0#32
  let v14211 : BitVec 1 := Scalar.cmpi .ne v14210 c0_i32_5596
  let v14212 : BitVec 1 := Scalar.andi v14209 v14211
  let v14198 : BitVec 32 := Scalar.divsi v14195 c128_i32_5591
  let c1_i32_5597 : BitVec 32 := 1#32
  let v14213 : BitVec 32 := Scalar.subi v14198 c1_i32_5597
  let v14214 : BitVec 32 := Scalar.select v14212 v14213 v14198
  let c128_i32_5598 : BitVec 32 := 128#32
  let v14215 : BitVec 32 := Scalar.muli v14214 c128_i32_5598
  let v14216 : BitVec 32 := v14215
  let v14219 : Index := Scalar.indexCast v14216
  ![v14218.toNat, 0, v14219.toNat]

def k1_chk249 (v14193 : BitVec 32) (v14195 : BitVec 32) : Prop :=
  (128 ∣ (k1_mult249 v14195).toNat) ∧
  (∀ a, (k1_off778 v14193 v14195) a + S1x16x512.size a ≤ S384x16x1152.size a)
theorem k1_mult249_dvd : ∀ (v14193 : BitVec 32) (v14195 : BitVec 32) (k1_hw249 : k1_chk249 v14193 v14195), 128 ∣ (k1_mult249 v14195).toNat := fun v14193 v14195 k1_hw249 => k1_hw249.1
theorem k1_off778_inb : ∀ (v14193 : BitVec 32) (v14195 : BitVec 32) (k1_hw249 : k1_chk249 v14193 v14195), ∀ a, (k1_off778 v14193 v14195) a + S1x16x512.size a ≤ S384x16x1152.size a := fun v14193 v14195 k1_hw249 => k1_hw249.2

def k1_off779 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14229 : Index := Scalar.indexCast v14171
  let c0_5602 : Index := 0#32
  ![v14229.toNat, 0]
def k1_off780 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14245 : Index := Scalar.indexCast v14171
  let c1_5608 : Index := 1#32
  ![v14245.toNat, 1]
def k1_mult250 (v14248 : BitVec 32) : BitVec 32 :=
  let c0_i32_5612 : BitVec 32 := 0#32
  let v14252 : BitVec 1 := Scalar.cmpi .sgt v14248 c0_i32_5612
  let v14253 : BitVec 32 := Scalar.extui v14252
  let c0_i32_5613 : BitVec 32 := 0#32
  let v14254 : BitVec 1 := Scalar.cmpi .slt v14248 c0_i32_5613
  let v14255 : BitVec 32 := Scalar.extui v14254
  let v14256 : BitVec 32 := Scalar.subi v14253 v14255
  let c128_i32_5611 : BitVec 32 := 128#32
  let c0_i32_5614 : BitVec 32 := 0#32
  let v14257 : BitVec 1 := Scalar.cmpi .sgt c128_i32_5611 c0_i32_5614
  let v14258 : BitVec 32 := Scalar.extui v14257
  let c0_i32_5615 : BitVec 32 := 0#32
  let v14259 : BitVec 1 := Scalar.cmpi .slt c128_i32_5611 c0_i32_5615
  let v14260 : BitVec 32 := Scalar.extui v14259
  let v14261 : BitVec 32 := Scalar.subi v14258 v14260
  let v14262 : BitVec 1 := Scalar.cmpi .ne v14256 v14261
  let v14263 : BitVec 32 := Scalar.remsi v14248 c128_i32_5611
  let c0_i32_5616 : BitVec 32 := 0#32
  let v14264 : BitVec 1 := Scalar.cmpi .ne v14263 c0_i32_5616
  let v14265 : BitVec 1 := Scalar.andi v14262 v14264
  let v14251 : BitVec 32 := Scalar.divsi v14248 c128_i32_5611
  let c1_i32_5617 : BitVec 32 := 1#32
  let v14266 : BitVec 32 := Scalar.subi v14251 c1_i32_5617
  let v14267 : BitVec 32 := Scalar.select v14265 v14266 v14251
  let c128_i32_5618 : BitVec 32 := 128#32
  let v14268 : BitVec 32 := Scalar.muli v14267 c128_i32_5618
  v14268

def k1_off781 (v14246 : BitVec 32) (v14248 : BitVec 32) : Fin 3 → Nat :=
  let v14271 : Index := Scalar.indexCast v14246
  let c0_5619 : Index := 0#32
  let c0_i32_5612 : BitVec 32 := 0#32
  let v14252 : BitVec 1 := Scalar.cmpi .sgt v14248 c0_i32_5612
  let v14253 : BitVec 32 := Scalar.extui v14252
  let c0_i32_5613 : BitVec 32 := 0#32
  let v14254 : BitVec 1 := Scalar.cmpi .slt v14248 c0_i32_5613
  let v14255 : BitVec 32 := Scalar.extui v14254
  let v14256 : BitVec 32 := Scalar.subi v14253 v14255
  let c128_i32_5611 : BitVec 32 := 128#32
  let c0_i32_5614 : BitVec 32 := 0#32
  let v14257 : BitVec 1 := Scalar.cmpi .sgt c128_i32_5611 c0_i32_5614
  let v14258 : BitVec 32 := Scalar.extui v14257
  let c0_i32_5615 : BitVec 32 := 0#32
  let v14259 : BitVec 1 := Scalar.cmpi .slt c128_i32_5611 c0_i32_5615
  let v14260 : BitVec 32 := Scalar.extui v14259
  let v14261 : BitVec 32 := Scalar.subi v14258 v14260
  let v14262 : BitVec 1 := Scalar.cmpi .ne v14256 v14261
  let v14263 : BitVec 32 := Scalar.remsi v14248 c128_i32_5611
  let c0_i32_5616 : BitVec 32 := 0#32
  let v14264 : BitVec 1 := Scalar.cmpi .ne v14263 c0_i32_5616
  let v14265 : BitVec 1 := Scalar.andi v14262 v14264
  let v14251 : BitVec 32 := Scalar.divsi v14248 c128_i32_5611
  let c1_i32_5617 : BitVec 32 := 1#32
  let v14266 : BitVec 32 := Scalar.subi v14251 c1_i32_5617
  let v14267 : BitVec 32 := Scalar.select v14265 v14266 v14251
  let c128_i32_5618 : BitVec 32 := 128#32
  let v14268 : BitVec 32 := Scalar.muli v14267 c128_i32_5618
  let v14269 : BitVec 32 := v14268
  let v14272 : Index := Scalar.indexCast v14269
  ![v14271.toNat, 0, v14272.toNat]

def k1_chk250 (v14246 : BitVec 32) (v14248 : BitVec 32) : Prop :=
  (128 ∣ (k1_mult250 v14248).toNat) ∧
  (∀ a, (k1_off781 v14246 v14248) a + S1x16x512.size a ≤ S384x16x1152.size a)
theorem k1_mult250_dvd : ∀ (v14246 : BitVec 32) (v14248 : BitVec 32) (k1_hw250 : k1_chk250 v14246 v14248), 128 ∣ (k1_mult250 v14248).toNat := fun v14246 v14248 k1_hw250 => k1_hw250.1
theorem k1_off781_inb : ∀ (v14246 : BitVec 32) (v14248 : BitVec 32) (k1_hw250 : k1_chk250 v14246 v14248), ∀ a, (k1_off781 v14246 v14248) a + S1x16x512.size a ≤ S384x16x1152.size a := fun v14246 v14248 k1_hw250 => k1_hw250.2

def k1_off782 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14282 : Index := Scalar.indexCast v14171
  let c1_5622 : Index := 1#32
  ![v14282.toNat, 1]
def k1_off783 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14298 : Index := Scalar.indexCast v14171
  let c2_5628 : Index := 2#32
  ![v14298.toNat, 2]
def k1_mult251 (v14301 : BitVec 32) : BitVec 32 :=
  let c0_i32_5632 : BitVec 32 := 0#32
  let v14305 : BitVec 1 := Scalar.cmpi .sgt v14301 c0_i32_5632
  let v14306 : BitVec 32 := Scalar.extui v14305
  let c0_i32_5633 : BitVec 32 := 0#32
  let v14307 : BitVec 1 := Scalar.cmpi .slt v14301 c0_i32_5633
  let v14308 : BitVec 32 := Scalar.extui v14307
  let v14309 : BitVec 32 := Scalar.subi v14306 v14308
  let c128_i32_5631 : BitVec 32 := 128#32
  let c0_i32_5634 : BitVec 32 := 0#32
  let v14310 : BitVec 1 := Scalar.cmpi .sgt c128_i32_5631 c0_i32_5634
  let v14311 : BitVec 32 := Scalar.extui v14310
  let c0_i32_5635 : BitVec 32 := 0#32
  let v14312 : BitVec 1 := Scalar.cmpi .slt c128_i32_5631 c0_i32_5635
  let v14313 : BitVec 32 := Scalar.extui v14312
  let v14314 : BitVec 32 := Scalar.subi v14311 v14313
  let v14315 : BitVec 1 := Scalar.cmpi .ne v14309 v14314
  let v14316 : BitVec 32 := Scalar.remsi v14301 c128_i32_5631
  let c0_i32_5636 : BitVec 32 := 0#32
  let v14317 : BitVec 1 := Scalar.cmpi .ne v14316 c0_i32_5636
  let v14318 : BitVec 1 := Scalar.andi v14315 v14317
  let v14304 : BitVec 32 := Scalar.divsi v14301 c128_i32_5631
  let c1_i32_5637 : BitVec 32 := 1#32
  let v14319 : BitVec 32 := Scalar.subi v14304 c1_i32_5637
  let v14320 : BitVec 32 := Scalar.select v14318 v14319 v14304
  let c128_i32_5638 : BitVec 32 := 128#32
  let v14321 : BitVec 32 := Scalar.muli v14320 c128_i32_5638
  v14321

def k1_off784 (v14299 : BitVec 32) (v14301 : BitVec 32) : Fin 3 → Nat :=
  let v14324 : Index := Scalar.indexCast v14299
  let c0_5639 : Index := 0#32
  let c0_i32_5632 : BitVec 32 := 0#32
  let v14305 : BitVec 1 := Scalar.cmpi .sgt v14301 c0_i32_5632
  let v14306 : BitVec 32 := Scalar.extui v14305
  let c0_i32_5633 : BitVec 32 := 0#32
  let v14307 : BitVec 1 := Scalar.cmpi .slt v14301 c0_i32_5633
  let v14308 : BitVec 32 := Scalar.extui v14307
  let v14309 : BitVec 32 := Scalar.subi v14306 v14308
  let c128_i32_5631 : BitVec 32 := 128#32
  let c0_i32_5634 : BitVec 32 := 0#32
  let v14310 : BitVec 1 := Scalar.cmpi .sgt c128_i32_5631 c0_i32_5634
  let v14311 : BitVec 32 := Scalar.extui v14310
  let c0_i32_5635 : BitVec 32 := 0#32
  let v14312 : BitVec 1 := Scalar.cmpi .slt c128_i32_5631 c0_i32_5635
  let v14313 : BitVec 32 := Scalar.extui v14312
  let v14314 : BitVec 32 := Scalar.subi v14311 v14313
  let v14315 : BitVec 1 := Scalar.cmpi .ne v14309 v14314
  let v14316 : BitVec 32 := Scalar.remsi v14301 c128_i32_5631
  let c0_i32_5636 : BitVec 32 := 0#32
  let v14317 : BitVec 1 := Scalar.cmpi .ne v14316 c0_i32_5636
  let v14318 : BitVec 1 := Scalar.andi v14315 v14317
  let v14304 : BitVec 32 := Scalar.divsi v14301 c128_i32_5631
  let c1_i32_5637 : BitVec 32 := 1#32
  let v14319 : BitVec 32 := Scalar.subi v14304 c1_i32_5637
  let v14320 : BitVec 32 := Scalar.select v14318 v14319 v14304
  let c128_i32_5638 : BitVec 32 := 128#32
  let v14321 : BitVec 32 := Scalar.muli v14320 c128_i32_5638
  let v14322 : BitVec 32 := v14321
  let v14325 : Index := Scalar.indexCast v14322
  ![v14324.toNat, 0, v14325.toNat]

def k1_chk251 (v14299 : BitVec 32) (v14301 : BitVec 32) : Prop :=
  (128 ∣ (k1_mult251 v14301).toNat) ∧
  (∀ a, (k1_off784 v14299 v14301) a + S1x16x512.size a ≤ S384x16x1152.size a)
theorem k1_mult251_dvd : ∀ (v14299 : BitVec 32) (v14301 : BitVec 32) (k1_hw251 : k1_chk251 v14299 v14301), 128 ∣ (k1_mult251 v14301).toNat := fun v14299 v14301 k1_hw251 => k1_hw251.1
theorem k1_off784_inb : ∀ (v14299 : BitVec 32) (v14301 : BitVec 32) (k1_hw251 : k1_chk251 v14299 v14301), ∀ a, (k1_off784 v14299 v14301) a + S1x16x512.size a ≤ S384x16x1152.size a := fun v14299 v14301 k1_hw251 => k1_hw251.2

def k1_off785 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14335 : Index := Scalar.indexCast v14171
  let c2_5642 : Index := 2#32
  ![v14335.toNat, 2]
def k1_off786 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14351 : Index := Scalar.indexCast v14171
  let c3_5648 : Index := 3#32
  ![v14351.toNat, 3]
def k1_mult252 (v14354 : BitVec 32) : BitVec 32 :=
  let c0_i32_5652 : BitVec 32 := 0#32
  let v14358 : BitVec 1 := Scalar.cmpi .sgt v14354 c0_i32_5652
  let v14359 : BitVec 32 := Scalar.extui v14358
  let c0_i32_5653 : BitVec 32 := 0#32
  let v14360 : BitVec 1 := Scalar.cmpi .slt v14354 c0_i32_5653
  let v14361 : BitVec 32 := Scalar.extui v14360
  let v14362 : BitVec 32 := Scalar.subi v14359 v14361
  let c128_i32_5651 : BitVec 32 := 128#32
  let c0_i32_5654 : BitVec 32 := 0#32
  let v14363 : BitVec 1 := Scalar.cmpi .sgt c128_i32_5651 c0_i32_5654
  let v14364 : BitVec 32 := Scalar.extui v14363
  let c0_i32_5655 : BitVec 32 := 0#32
  let v14365 : BitVec 1 := Scalar.cmpi .slt c128_i32_5651 c0_i32_5655
  let v14366 : BitVec 32 := Scalar.extui v14365
  let v14367 : BitVec 32 := Scalar.subi v14364 v14366
  let v14368 : BitVec 1 := Scalar.cmpi .ne v14362 v14367
  let v14369 : BitVec 32 := Scalar.remsi v14354 c128_i32_5651
  let c0_i32_5656 : BitVec 32 := 0#32
  let v14370 : BitVec 1 := Scalar.cmpi .ne v14369 c0_i32_5656
  let v14371 : BitVec 1 := Scalar.andi v14368 v14370
  let v14357 : BitVec 32 := Scalar.divsi v14354 c128_i32_5651
  let c1_i32_5657 : BitVec 32 := 1#32
  let v14372 : BitVec 32 := Scalar.subi v14357 c1_i32_5657
  let v14373 : BitVec 32 := Scalar.select v14371 v14372 v14357
  let c128_i32_5658 : BitVec 32 := 128#32
  let v14374 : BitVec 32 := Scalar.muli v14373 c128_i32_5658
  v14374

def k1_off787 (v14352 : BitVec 32) (v14354 : BitVec 32) : Fin 3 → Nat :=
  let v14377 : Index := Scalar.indexCast v14352
  let c0_5659 : Index := 0#32
  let c0_i32_5652 : BitVec 32 := 0#32
  let v14358 : BitVec 1 := Scalar.cmpi .sgt v14354 c0_i32_5652
  let v14359 : BitVec 32 := Scalar.extui v14358
  let c0_i32_5653 : BitVec 32 := 0#32
  let v14360 : BitVec 1 := Scalar.cmpi .slt v14354 c0_i32_5653
  let v14361 : BitVec 32 := Scalar.extui v14360
  let v14362 : BitVec 32 := Scalar.subi v14359 v14361
  let c128_i32_5651 : BitVec 32 := 128#32
  let c0_i32_5654 : BitVec 32 := 0#32
  let v14363 : BitVec 1 := Scalar.cmpi .sgt c128_i32_5651 c0_i32_5654
  let v14364 : BitVec 32 := Scalar.extui v14363
  let c0_i32_5655 : BitVec 32 := 0#32
  let v14365 : BitVec 1 := Scalar.cmpi .slt c128_i32_5651 c0_i32_5655
  let v14366 : BitVec 32 := Scalar.extui v14365
  let v14367 : BitVec 32 := Scalar.subi v14364 v14366
  let v14368 : BitVec 1 := Scalar.cmpi .ne v14362 v14367
  let v14369 : BitVec 32 := Scalar.remsi v14354 c128_i32_5651
  let c0_i32_5656 : BitVec 32 := 0#32
  let v14370 : BitVec 1 := Scalar.cmpi .ne v14369 c0_i32_5656
  let v14371 : BitVec 1 := Scalar.andi v14368 v14370
  let v14357 : BitVec 32 := Scalar.divsi v14354 c128_i32_5651
  let c1_i32_5657 : BitVec 32 := 1#32
  let v14372 : BitVec 32 := Scalar.subi v14357 c1_i32_5657
  let v14373 : BitVec 32 := Scalar.select v14371 v14372 v14357
  let c128_i32_5658 : BitVec 32 := 128#32
  let v14374 : BitVec 32 := Scalar.muli v14373 c128_i32_5658
  let v14375 : BitVec 32 := v14374
  let v14378 : Index := Scalar.indexCast v14375
  ![v14377.toNat, 0, v14378.toNat]

def k1_chk252 (v14352 : BitVec 32) (v14354 : BitVec 32) : Prop :=
  (128 ∣ (k1_mult252 v14354).toNat) ∧
  (∀ a, (k1_off787 v14352 v14354) a + S1x16x512.size a ≤ S384x16x1152.size a)
theorem k1_mult252_dvd : ∀ (v14352 : BitVec 32) (v14354 : BitVec 32) (k1_hw252 : k1_chk252 v14352 v14354), 128 ∣ (k1_mult252 v14354).toNat := fun v14352 v14354 k1_hw252 => k1_hw252.1
theorem k1_off787_inb : ∀ (v14352 : BitVec 32) (v14354 : BitVec 32) (k1_hw252 : k1_chk252 v14352 v14354), ∀ a, (k1_off787 v14352 v14354) a + S1x16x512.size a ≤ S384x16x1152.size a := fun v14352 v14354 k1_hw252 => k1_hw252.2

def k1_off788 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14388 : Index := Scalar.indexCast v14171
  let c3_5662 : Index := 3#32
  ![v14388.toNat, 3]
def k1_off789 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14404 : Index := Scalar.indexCast v14171
  let c4_5668 : Index := 4#32
  ![v14404.toNat, 4]
def k1_mult253 (v14407 : BitVec 32) : BitVec 32 :=
  let c0_i32_5672 : BitVec 32 := 0#32
  let v14411 : BitVec 1 := Scalar.cmpi .sgt v14407 c0_i32_5672
  let v14412 : BitVec 32 := Scalar.extui v14411
  let c0_i32_5673 : BitVec 32 := 0#32
  let v14413 : BitVec 1 := Scalar.cmpi .slt v14407 c0_i32_5673
  let v14414 : BitVec 32 := Scalar.extui v14413
  let v14415 : BitVec 32 := Scalar.subi v14412 v14414
  let c128_i32_5671 : BitVec 32 := 128#32
  let c0_i32_5674 : BitVec 32 := 0#32
  let v14416 : BitVec 1 := Scalar.cmpi .sgt c128_i32_5671 c0_i32_5674
  let v14417 : BitVec 32 := Scalar.extui v14416
  let c0_i32_5675 : BitVec 32 := 0#32
  let v14418 : BitVec 1 := Scalar.cmpi .slt c128_i32_5671 c0_i32_5675
  let v14419 : BitVec 32 := Scalar.extui v14418
  let v14420 : BitVec 32 := Scalar.subi v14417 v14419
  let v14421 : BitVec 1 := Scalar.cmpi .ne v14415 v14420
  let v14422 : BitVec 32 := Scalar.remsi v14407 c128_i32_5671
  let c0_i32_5676 : BitVec 32 := 0#32
  let v14423 : BitVec 1 := Scalar.cmpi .ne v14422 c0_i32_5676
  let v14424 : BitVec 1 := Scalar.andi v14421 v14423
  let v14410 : BitVec 32 := Scalar.divsi v14407 c128_i32_5671
  let c1_i32_5677 : BitVec 32 := 1#32
  let v14425 : BitVec 32 := Scalar.subi v14410 c1_i32_5677
  let v14426 : BitVec 32 := Scalar.select v14424 v14425 v14410
  let c128_i32_5678 : BitVec 32 := 128#32
  let v14427 : BitVec 32 := Scalar.muli v14426 c128_i32_5678
  v14427

def k1_off790 (v14405 : BitVec 32) (v14407 : BitVec 32) : Fin 3 → Nat :=
  let v14430 : Index := Scalar.indexCast v14405
  let c0_5679 : Index := 0#32
  let c0_i32_5672 : BitVec 32 := 0#32
  let v14411 : BitVec 1 := Scalar.cmpi .sgt v14407 c0_i32_5672
  let v14412 : BitVec 32 := Scalar.extui v14411
  let c0_i32_5673 : BitVec 32 := 0#32
  let v14413 : BitVec 1 := Scalar.cmpi .slt v14407 c0_i32_5673
  let v14414 : BitVec 32 := Scalar.extui v14413
  let v14415 : BitVec 32 := Scalar.subi v14412 v14414
  let c128_i32_5671 : BitVec 32 := 128#32
  let c0_i32_5674 : BitVec 32 := 0#32
  let v14416 : BitVec 1 := Scalar.cmpi .sgt c128_i32_5671 c0_i32_5674
  let v14417 : BitVec 32 := Scalar.extui v14416
  let c0_i32_5675 : BitVec 32 := 0#32
  let v14418 : BitVec 1 := Scalar.cmpi .slt c128_i32_5671 c0_i32_5675
  let v14419 : BitVec 32 := Scalar.extui v14418
  let v14420 : BitVec 32 := Scalar.subi v14417 v14419
  let v14421 : BitVec 1 := Scalar.cmpi .ne v14415 v14420
  let v14422 : BitVec 32 := Scalar.remsi v14407 c128_i32_5671
  let c0_i32_5676 : BitVec 32 := 0#32
  let v14423 : BitVec 1 := Scalar.cmpi .ne v14422 c0_i32_5676
  let v14424 : BitVec 1 := Scalar.andi v14421 v14423
  let v14410 : BitVec 32 := Scalar.divsi v14407 c128_i32_5671
  let c1_i32_5677 : BitVec 32 := 1#32
  let v14425 : BitVec 32 := Scalar.subi v14410 c1_i32_5677
  let v14426 : BitVec 32 := Scalar.select v14424 v14425 v14410
  let c128_i32_5678 : BitVec 32 := 128#32
  let v14427 : BitVec 32 := Scalar.muli v14426 c128_i32_5678
  let v14428 : BitVec 32 := v14427
  let v14431 : Index := Scalar.indexCast v14428
  ![v14430.toNat, 0, v14431.toNat]

def k1_chk253 (v14405 : BitVec 32) (v14407 : BitVec 32) : Prop :=
  (128 ∣ (k1_mult253 v14407).toNat) ∧
  (∀ a, (k1_off790 v14405 v14407) a + S1x16x512.size a ≤ S384x16x1152.size a)
theorem k1_mult253_dvd : ∀ (v14405 : BitVec 32) (v14407 : BitVec 32) (k1_hw253 : k1_chk253 v14405 v14407), 128 ∣ (k1_mult253 v14407).toNat := fun v14405 v14407 k1_hw253 => k1_hw253.1
theorem k1_off790_inb : ∀ (v14405 : BitVec 32) (v14407 : BitVec 32) (k1_hw253 : k1_chk253 v14405 v14407), ∀ a, (k1_off790 v14405 v14407) a + S1x16x512.size a ≤ S384x16x1152.size a := fun v14405 v14407 k1_hw253 => k1_hw253.2

def k1_off791 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14441 : Index := Scalar.indexCast v14171
  let c4_5682 : Index := 4#32
  ![v14441.toNat, 4]
def k1_off792 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14457 : Index := Scalar.indexCast v14171
  let c5_5688 : Index := 5#32
  ![v14457.toNat, 5]
def k1_mult254 (v14460 : BitVec 32) : BitVec 32 :=
  let c0_i32_5692 : BitVec 32 := 0#32
  let v14464 : BitVec 1 := Scalar.cmpi .sgt v14460 c0_i32_5692
  let v14465 : BitVec 32 := Scalar.extui v14464
  let c0_i32_5693 : BitVec 32 := 0#32
  let v14466 : BitVec 1 := Scalar.cmpi .slt v14460 c0_i32_5693
  let v14467 : BitVec 32 := Scalar.extui v14466
  let v14468 : BitVec 32 := Scalar.subi v14465 v14467
  let c128_i32_5691 : BitVec 32 := 128#32
  let c0_i32_5694 : BitVec 32 := 0#32
  let v14469 : BitVec 1 := Scalar.cmpi .sgt c128_i32_5691 c0_i32_5694
  let v14470 : BitVec 32 := Scalar.extui v14469
  let c0_i32_5695 : BitVec 32 := 0#32
  let v14471 : BitVec 1 := Scalar.cmpi .slt c128_i32_5691 c0_i32_5695
  let v14472 : BitVec 32 := Scalar.extui v14471
  let v14473 : BitVec 32 := Scalar.subi v14470 v14472
  let v14474 : BitVec 1 := Scalar.cmpi .ne v14468 v14473
  let v14475 : BitVec 32 := Scalar.remsi v14460 c128_i32_5691
  let c0_i32_5696 : BitVec 32 := 0#32
  let v14476 : BitVec 1 := Scalar.cmpi .ne v14475 c0_i32_5696
  let v14477 : BitVec 1 := Scalar.andi v14474 v14476
  let v14463 : BitVec 32 := Scalar.divsi v14460 c128_i32_5691
  let c1_i32_5697 : BitVec 32 := 1#32
  let v14478 : BitVec 32 := Scalar.subi v14463 c1_i32_5697
  let v14479 : BitVec 32 := Scalar.select v14477 v14478 v14463
  let c128_i32_5698 : BitVec 32 := 128#32
  let v14480 : BitVec 32 := Scalar.muli v14479 c128_i32_5698
  v14480

def k1_off793 (v14458 : BitVec 32) (v14460 : BitVec 32) : Fin 3 → Nat :=
  let v14483 : Index := Scalar.indexCast v14458
  let c0_5699 : Index := 0#32
  let c0_i32_5692 : BitVec 32 := 0#32
  let v14464 : BitVec 1 := Scalar.cmpi .sgt v14460 c0_i32_5692
  let v14465 : BitVec 32 := Scalar.extui v14464
  let c0_i32_5693 : BitVec 32 := 0#32
  let v14466 : BitVec 1 := Scalar.cmpi .slt v14460 c0_i32_5693
  let v14467 : BitVec 32 := Scalar.extui v14466
  let v14468 : BitVec 32 := Scalar.subi v14465 v14467
  let c128_i32_5691 : BitVec 32 := 128#32
  let c0_i32_5694 : BitVec 32 := 0#32
  let v14469 : BitVec 1 := Scalar.cmpi .sgt c128_i32_5691 c0_i32_5694
  let v14470 : BitVec 32 := Scalar.extui v14469
  let c0_i32_5695 : BitVec 32 := 0#32
  let v14471 : BitVec 1 := Scalar.cmpi .slt c128_i32_5691 c0_i32_5695
  let v14472 : BitVec 32 := Scalar.extui v14471
  let v14473 : BitVec 32 := Scalar.subi v14470 v14472
  let v14474 : BitVec 1 := Scalar.cmpi .ne v14468 v14473
  let v14475 : BitVec 32 := Scalar.remsi v14460 c128_i32_5691
  let c0_i32_5696 : BitVec 32 := 0#32
  let v14476 : BitVec 1 := Scalar.cmpi .ne v14475 c0_i32_5696
  let v14477 : BitVec 1 := Scalar.andi v14474 v14476
  let v14463 : BitVec 32 := Scalar.divsi v14460 c128_i32_5691
  let c1_i32_5697 : BitVec 32 := 1#32
  let v14478 : BitVec 32 := Scalar.subi v14463 c1_i32_5697
  let v14479 : BitVec 32 := Scalar.select v14477 v14478 v14463
  let c128_i32_5698 : BitVec 32 := 128#32
  let v14480 : BitVec 32 := Scalar.muli v14479 c128_i32_5698
  let v14481 : BitVec 32 := v14480
  let v14484 : Index := Scalar.indexCast v14481
  ![v14483.toNat, 0, v14484.toNat]

def k1_chk254 (v14458 : BitVec 32) (v14460 : BitVec 32) : Prop :=
  (128 ∣ (k1_mult254 v14460).toNat) ∧
  (∀ a, (k1_off793 v14458 v14460) a + S1x16x512.size a ≤ S384x16x1152.size a)
theorem k1_mult254_dvd : ∀ (v14458 : BitVec 32) (v14460 : BitVec 32) (k1_hw254 : k1_chk254 v14458 v14460), 128 ∣ (k1_mult254 v14460).toNat := fun v14458 v14460 k1_hw254 => k1_hw254.1
theorem k1_off793_inb : ∀ (v14458 : BitVec 32) (v14460 : BitVec 32) (k1_hw254 : k1_chk254 v14458 v14460), ∀ a, (k1_off793 v14458 v14460) a + S1x16x512.size a ≤ S384x16x1152.size a := fun v14458 v14460 k1_hw254 => k1_hw254.2

def k1_off794 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14494 : Index := Scalar.indexCast v14171
  let c5_5702 : Index := 5#32
  ![v14494.toNat, 5]
def k1_off795 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14510 : Index := Scalar.indexCast v14171
  let c6_5708 : Index := 6#32
  ![v14510.toNat, 6]
def k1_mult255 (v14513 : BitVec 32) : BitVec 32 :=
  let c0_i32_5712 : BitVec 32 := 0#32
  let v14517 : BitVec 1 := Scalar.cmpi .sgt v14513 c0_i32_5712
  let v14518 : BitVec 32 := Scalar.extui v14517
  let c0_i32_5713 : BitVec 32 := 0#32
  let v14519 : BitVec 1 := Scalar.cmpi .slt v14513 c0_i32_5713
  let v14520 : BitVec 32 := Scalar.extui v14519
  let v14521 : BitVec 32 := Scalar.subi v14518 v14520
  let c128_i32_5711 : BitVec 32 := 128#32
  let c0_i32_5714 : BitVec 32 := 0#32
  let v14522 : BitVec 1 := Scalar.cmpi .sgt c128_i32_5711 c0_i32_5714
  let v14523 : BitVec 32 := Scalar.extui v14522
  let c0_i32_5715 : BitVec 32 := 0#32
  let v14524 : BitVec 1 := Scalar.cmpi .slt c128_i32_5711 c0_i32_5715
  let v14525 : BitVec 32 := Scalar.extui v14524
  let v14526 : BitVec 32 := Scalar.subi v14523 v14525
  let v14527 : BitVec 1 := Scalar.cmpi .ne v14521 v14526
  let v14528 : BitVec 32 := Scalar.remsi v14513 c128_i32_5711
  let c0_i32_5716 : BitVec 32 := 0#32
  let v14529 : BitVec 1 := Scalar.cmpi .ne v14528 c0_i32_5716
  let v14530 : BitVec 1 := Scalar.andi v14527 v14529
  let v14516 : BitVec 32 := Scalar.divsi v14513 c128_i32_5711
  let c1_i32_5717 : BitVec 32 := 1#32
  let v14531 : BitVec 32 := Scalar.subi v14516 c1_i32_5717
  let v14532 : BitVec 32 := Scalar.select v14530 v14531 v14516
  let c128_i32_5718 : BitVec 32 := 128#32
  let v14533 : BitVec 32 := Scalar.muli v14532 c128_i32_5718
  v14533

def k1_off796 (v14511 : BitVec 32) (v14513 : BitVec 32) : Fin 3 → Nat :=
  let v14536 : Index := Scalar.indexCast v14511
  let c0_5719 : Index := 0#32
  let c0_i32_5712 : BitVec 32 := 0#32
  let v14517 : BitVec 1 := Scalar.cmpi .sgt v14513 c0_i32_5712
  let v14518 : BitVec 32 := Scalar.extui v14517
  let c0_i32_5713 : BitVec 32 := 0#32
  let v14519 : BitVec 1 := Scalar.cmpi .slt v14513 c0_i32_5713
  let v14520 : BitVec 32 := Scalar.extui v14519
  let v14521 : BitVec 32 := Scalar.subi v14518 v14520
  let c128_i32_5711 : BitVec 32 := 128#32
  let c0_i32_5714 : BitVec 32 := 0#32
  let v14522 : BitVec 1 := Scalar.cmpi .sgt c128_i32_5711 c0_i32_5714
  let v14523 : BitVec 32 := Scalar.extui v14522
  let c0_i32_5715 : BitVec 32 := 0#32
  let v14524 : BitVec 1 := Scalar.cmpi .slt c128_i32_5711 c0_i32_5715
  let v14525 : BitVec 32 := Scalar.extui v14524
  let v14526 : BitVec 32 := Scalar.subi v14523 v14525
  let v14527 : BitVec 1 := Scalar.cmpi .ne v14521 v14526
  let v14528 : BitVec 32 := Scalar.remsi v14513 c128_i32_5711
  let c0_i32_5716 : BitVec 32 := 0#32
  let v14529 : BitVec 1 := Scalar.cmpi .ne v14528 c0_i32_5716
  let v14530 : BitVec 1 := Scalar.andi v14527 v14529
  let v14516 : BitVec 32 := Scalar.divsi v14513 c128_i32_5711
  let c1_i32_5717 : BitVec 32 := 1#32
  let v14531 : BitVec 32 := Scalar.subi v14516 c1_i32_5717
  let v14532 : BitVec 32 := Scalar.select v14530 v14531 v14516
  let c128_i32_5718 : BitVec 32 := 128#32
  let v14533 : BitVec 32 := Scalar.muli v14532 c128_i32_5718
  let v14534 : BitVec 32 := v14533
  let v14537 : Index := Scalar.indexCast v14534
  ![v14536.toNat, 0, v14537.toNat]

def k1_chk255 (v14511 : BitVec 32) (v14513 : BitVec 32) : Prop :=
  (128 ∣ (k1_mult255 v14513).toNat) ∧
  (∀ a, (k1_off796 v14511 v14513) a + S1x16x512.size a ≤ S384x16x1152.size a)
theorem k1_mult255_dvd : ∀ (v14511 : BitVec 32) (v14513 : BitVec 32) (k1_hw255 : k1_chk255 v14511 v14513), 128 ∣ (k1_mult255 v14513).toNat := fun v14511 v14513 k1_hw255 => k1_hw255.1
theorem k1_off796_inb : ∀ (v14511 : BitVec 32) (v14513 : BitVec 32) (k1_hw255 : k1_chk255 v14511 v14513), ∀ a, (k1_off796 v14511 v14513) a + S1x16x512.size a ≤ S384x16x1152.size a := fun v14511 v14513 k1_hw255 => k1_hw255.2

def k1_off797 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14547 : Index := Scalar.indexCast v14171
  let c6_5722 : Index := 6#32
  ![v14547.toNat, 6]
def k1_off798 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14563 : Index := Scalar.indexCast v14171
  let c7_5728 : Index := 7#32
  ![v14563.toNat, 7]
def k1_mult256 (v14566 : BitVec 32) : BitVec 32 :=
  let c0_i32_5732 : BitVec 32 := 0#32
  let v14570 : BitVec 1 := Scalar.cmpi .sgt v14566 c0_i32_5732
  let v14571 : BitVec 32 := Scalar.extui v14570
  let c0_i32_5733 : BitVec 32 := 0#32
  let v14572 : BitVec 1 := Scalar.cmpi .slt v14566 c0_i32_5733
  let v14573 : BitVec 32 := Scalar.extui v14572
  let v14574 : BitVec 32 := Scalar.subi v14571 v14573
  let c128_i32_5731 : BitVec 32 := 128#32
  let c0_i32_5734 : BitVec 32 := 0#32
  let v14575 : BitVec 1 := Scalar.cmpi .sgt c128_i32_5731 c0_i32_5734
  let v14576 : BitVec 32 := Scalar.extui v14575
  let c0_i32_5735 : BitVec 32 := 0#32
  let v14577 : BitVec 1 := Scalar.cmpi .slt c128_i32_5731 c0_i32_5735
  let v14578 : BitVec 32 := Scalar.extui v14577
  let v14579 : BitVec 32 := Scalar.subi v14576 v14578
  let v14580 : BitVec 1 := Scalar.cmpi .ne v14574 v14579
  let v14581 : BitVec 32 := Scalar.remsi v14566 c128_i32_5731
  let c0_i32_5736 : BitVec 32 := 0#32
  let v14582 : BitVec 1 := Scalar.cmpi .ne v14581 c0_i32_5736
  let v14583 : BitVec 1 := Scalar.andi v14580 v14582
  let v14569 : BitVec 32 := Scalar.divsi v14566 c128_i32_5731
  let c1_i32_5737 : BitVec 32 := 1#32
  let v14584 : BitVec 32 := Scalar.subi v14569 c1_i32_5737
  let v14585 : BitVec 32 := Scalar.select v14583 v14584 v14569
  let c128_i32_5738 : BitVec 32 := 128#32
  let v14586 : BitVec 32 := Scalar.muli v14585 c128_i32_5738
  v14586

def k1_off799 (v14564 : BitVec 32) (v14566 : BitVec 32) : Fin 3 → Nat :=
  let v14589 : Index := Scalar.indexCast v14564
  let c0_5739 : Index := 0#32
  let c0_i32_5732 : BitVec 32 := 0#32
  let v14570 : BitVec 1 := Scalar.cmpi .sgt v14566 c0_i32_5732
  let v14571 : BitVec 32 := Scalar.extui v14570
  let c0_i32_5733 : BitVec 32 := 0#32
  let v14572 : BitVec 1 := Scalar.cmpi .slt v14566 c0_i32_5733
  let v14573 : BitVec 32 := Scalar.extui v14572
  let v14574 : BitVec 32 := Scalar.subi v14571 v14573
  let c128_i32_5731 : BitVec 32 := 128#32
  let c0_i32_5734 : BitVec 32 := 0#32
  let v14575 : BitVec 1 := Scalar.cmpi .sgt c128_i32_5731 c0_i32_5734
  let v14576 : BitVec 32 := Scalar.extui v14575
  let c0_i32_5735 : BitVec 32 := 0#32
  let v14577 : BitVec 1 := Scalar.cmpi .slt c128_i32_5731 c0_i32_5735
  let v14578 : BitVec 32 := Scalar.extui v14577
  let v14579 : BitVec 32 := Scalar.subi v14576 v14578
  let v14580 : BitVec 1 := Scalar.cmpi .ne v14574 v14579
  let v14581 : BitVec 32 := Scalar.remsi v14566 c128_i32_5731
  let c0_i32_5736 : BitVec 32 := 0#32
  let v14582 : BitVec 1 := Scalar.cmpi .ne v14581 c0_i32_5736
  let v14583 : BitVec 1 := Scalar.andi v14580 v14582
  let v14569 : BitVec 32 := Scalar.divsi v14566 c128_i32_5731
  let c1_i32_5737 : BitVec 32 := 1#32
  let v14584 : BitVec 32 := Scalar.subi v14569 c1_i32_5737
  let v14585 : BitVec 32 := Scalar.select v14583 v14584 v14569
  let c128_i32_5738 : BitVec 32 := 128#32
  let v14586 : BitVec 32 := Scalar.muli v14585 c128_i32_5738
  let v14587 : BitVec 32 := v14586
  let v14590 : Index := Scalar.indexCast v14587
  ![v14589.toNat, 0, v14590.toNat]

def k1_chk256 (v14564 : BitVec 32) (v14566 : BitVec 32) : Prop :=
  (128 ∣ (k1_mult256 v14566).toNat) ∧
  (∀ a, (k1_off799 v14564 v14566) a + S1x16x512.size a ≤ S384x16x1152.size a)
theorem k1_mult256_dvd : ∀ (v14564 : BitVec 32) (v14566 : BitVec 32) (k1_hw256 : k1_chk256 v14564 v14566), 128 ∣ (k1_mult256 v14566).toNat := fun v14564 v14566 k1_hw256 => k1_hw256.1
theorem k1_off799_inb : ∀ (v14564 : BitVec 32) (v14566 : BitVec 32) (k1_hw256 : k1_chk256 v14564 v14566), ∀ a, (k1_off799 v14564 v14566) a + S1x16x512.size a ≤ S384x16x1152.size a := fun v14564 v14566 k1_hw256 => k1_hw256.2

def k1_off800 (i : grid1.Coords) : Fin 2 → Nat :=
  let arg0 : BitVec 32 := BitVec.ofNat 32 (i 0).val
  let c48_i32_5577 : BitVec 32 := 48#32
  let v14170 : BitVec 32 := Scalar.muli arg0 c48_i32_5577
  let c31_i32 : BitVec 32 := 31#32
  let v14171 : BitVec 32 := Scalar.addi v14170 c31_i32
  let v14600 : Index := Scalar.indexCast v14171
  let c7_5742 : Index := 7#32
  ![v14600.toNat, 7]
def k1_off801 (i : grid1.Coords) : Fin 3 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14629 : Index := Scalar.indexCast v14628
  let c0_5758 : Index := 0#32
  let c720_5759 : Index := 720#32
  ![v14629.toNat, 0, 720]
def k1_off802 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14649 : Index := Scalar.indexCast v14628
  let c0_5768 : Index := 0#32
  ![v14649.toNat, 0]
def k1_mult257 (v14652 : BitVec 32) : BitVec 32 :=
  let c0_i32_5772 : BitVec 32 := 0#32
  let v14656 : BitVec 1 := Scalar.cmpi .sgt v14652 c0_i32_5772
  let v14657 : BitVec 32 := Scalar.extui v14656
  let c0_i32_5773 : BitVec 32 := 0#32
  let v14658 : BitVec 1 := Scalar.cmpi .slt v14652 c0_i32_5773
  let v14659 : BitVec 32 := Scalar.extui v14658
  let v14660 : BitVec 32 := Scalar.subi v14657 v14659
  let c128_i32_5771 : BitVec 32 := 128#32
  let c0_i32_5774 : BitVec 32 := 0#32
  let v14661 : BitVec 1 := Scalar.cmpi .sgt c128_i32_5771 c0_i32_5774
  let v14662 : BitVec 32 := Scalar.extui v14661
  let c0_i32_5775 : BitVec 32 := 0#32
  let v14663 : BitVec 1 := Scalar.cmpi .slt c128_i32_5771 c0_i32_5775
  let v14664 : BitVec 32 := Scalar.extui v14663
  let v14665 : BitVec 32 := Scalar.subi v14662 v14664
  let v14666 : BitVec 1 := Scalar.cmpi .ne v14660 v14665
  let v14667 : BitVec 32 := Scalar.remsi v14652 c128_i32_5771
  let c0_i32_5776 : BitVec 32 := 0#32
  let v14668 : BitVec 1 := Scalar.cmpi .ne v14667 c0_i32_5776
  let v14669 : BitVec 1 := Scalar.andi v14666 v14668
  let v14655 : BitVec 32 := Scalar.divsi v14652 c128_i32_5771
  let c1_i32_5777 : BitVec 32 := 1#32
  let v14670 : BitVec 32 := Scalar.subi v14655 c1_i32_5777
  let v14671 : BitVec 32 := Scalar.select v14669 v14670 v14655
  let c128_i32_5778 : BitVec 32 := 128#32
  let v14672 : BitVec 32 := Scalar.muli v14671 c128_i32_5778
  v14672

def k1_off803 (v14650 : BitVec 32) (v14652 : BitVec 32) : Fin 3 → Nat :=
  let v14675 : Index := Scalar.indexCast v14650
  let c0_5779 : Index := 0#32
  let c0_i32_5772 : BitVec 32 := 0#32
  let v14656 : BitVec 1 := Scalar.cmpi .sgt v14652 c0_i32_5772
  let v14657 : BitVec 32 := Scalar.extui v14656
  let c0_i32_5773 : BitVec 32 := 0#32
  let v14658 : BitVec 1 := Scalar.cmpi .slt v14652 c0_i32_5773
  let v14659 : BitVec 32 := Scalar.extui v14658
  let v14660 : BitVec 32 := Scalar.subi v14657 v14659
  let c128_i32_5771 : BitVec 32 := 128#32
  let c0_i32_5774 : BitVec 32 := 0#32
  let v14661 : BitVec 1 := Scalar.cmpi .sgt c128_i32_5771 c0_i32_5774
  let v14662 : BitVec 32 := Scalar.extui v14661
  let c0_i32_5775 : BitVec 32 := 0#32
  let v14663 : BitVec 1 := Scalar.cmpi .slt c128_i32_5771 c0_i32_5775
  let v14664 : BitVec 32 := Scalar.extui v14663
  let v14665 : BitVec 32 := Scalar.subi v14662 v14664
  let v14666 : BitVec 1 := Scalar.cmpi .ne v14660 v14665
  let v14667 : BitVec 32 := Scalar.remsi v14652 c128_i32_5771
  let c0_i32_5776 : BitVec 32 := 0#32
  let v14668 : BitVec 1 := Scalar.cmpi .ne v14667 c0_i32_5776
  let v14669 : BitVec 1 := Scalar.andi v14666 v14668
  let v14655 : BitVec 32 := Scalar.divsi v14652 c128_i32_5771
  let c1_i32_5777 : BitVec 32 := 1#32
  let v14670 : BitVec 32 := Scalar.subi v14655 c1_i32_5777
  let v14671 : BitVec 32 := Scalar.select v14669 v14670 v14655
  let c128_i32_5778 : BitVec 32 := 128#32
  let v14672 : BitVec 32 := Scalar.muli v14671 c128_i32_5778
  let v14673 : BitVec 32 := v14672
  let v14676 : Index := Scalar.indexCast v14673
  ![v14675.toNat, 0, v14676.toNat]

def k1_chk257 (v14650 : BitVec 32) (v14652 : BitVec 32) : Prop :=
  (128 ∣ (k1_mult257 v14652).toNat) ∧
  (∀ a, (k1_off803 v14650 v14652) a + S1x16x512.size a ≤ S384x16x1152.size a)
theorem k1_mult257_dvd : ∀ (v14650 : BitVec 32) (v14652 : BitVec 32) (k1_hw257 : k1_chk257 v14650 v14652), 128 ∣ (k1_mult257 v14652).toNat := fun v14650 v14652 k1_hw257 => k1_hw257.1
theorem k1_off803_inb : ∀ (v14650 : BitVec 32) (v14652 : BitVec 32) (k1_hw257 : k1_chk257 v14650 v14652), ∀ a, (k1_off803 v14650 v14652) a + S1x16x512.size a ≤ S384x16x1152.size a := fun v14650 v14652 k1_hw257 => k1_hw257.2

def k1_off804 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14686 : Index := Scalar.indexCast v14628
  let c0_5782 : Index := 0#32
  ![v14686.toNat, 0]
def k1_off805 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14702 : Index := Scalar.indexCast v14628
  let c1_5788 : Index := 1#32
  ![v14702.toNat, 1]
def k1_mult258 (v14705 : BitVec 32) : BitVec 32 :=
  let c0_i32_5792 : BitVec 32 := 0#32
  let v14709 : BitVec 1 := Scalar.cmpi .sgt v14705 c0_i32_5792
  let v14710 : BitVec 32 := Scalar.extui v14709
  let c0_i32_5793 : BitVec 32 := 0#32
  let v14711 : BitVec 1 := Scalar.cmpi .slt v14705 c0_i32_5793
  let v14712 : BitVec 32 := Scalar.extui v14711
  let v14713 : BitVec 32 := Scalar.subi v14710 v14712
  let c128_i32_5791 : BitVec 32 := 128#32
  let c0_i32_5794 : BitVec 32 := 0#32
  let v14714 : BitVec 1 := Scalar.cmpi .sgt c128_i32_5791 c0_i32_5794
  let v14715 : BitVec 32 := Scalar.extui v14714
  let c0_i32_5795 : BitVec 32 := 0#32
  let v14716 : BitVec 1 := Scalar.cmpi .slt c128_i32_5791 c0_i32_5795
  let v14717 : BitVec 32 := Scalar.extui v14716
  let v14718 : BitVec 32 := Scalar.subi v14715 v14717
  let v14719 : BitVec 1 := Scalar.cmpi .ne v14713 v14718
  let v14720 : BitVec 32 := Scalar.remsi v14705 c128_i32_5791
  let c0_i32_5796 : BitVec 32 := 0#32
  let v14721 : BitVec 1 := Scalar.cmpi .ne v14720 c0_i32_5796
  let v14722 : BitVec 1 := Scalar.andi v14719 v14721
  let v14708 : BitVec 32 := Scalar.divsi v14705 c128_i32_5791
  let c1_i32_5797 : BitVec 32 := 1#32
  let v14723 : BitVec 32 := Scalar.subi v14708 c1_i32_5797
  let v14724 : BitVec 32 := Scalar.select v14722 v14723 v14708
  let c128_i32_5798 : BitVec 32 := 128#32
  let v14725 : BitVec 32 := Scalar.muli v14724 c128_i32_5798
  v14725

def k1_off806 (v14703 : BitVec 32) (v14705 : BitVec 32) : Fin 3 → Nat :=
  let v14728 : Index := Scalar.indexCast v14703
  let c0_5799 : Index := 0#32
  let c0_i32_5792 : BitVec 32 := 0#32
  let v14709 : BitVec 1 := Scalar.cmpi .sgt v14705 c0_i32_5792
  let v14710 : BitVec 32 := Scalar.extui v14709
  let c0_i32_5793 : BitVec 32 := 0#32
  let v14711 : BitVec 1 := Scalar.cmpi .slt v14705 c0_i32_5793
  let v14712 : BitVec 32 := Scalar.extui v14711
  let v14713 : BitVec 32 := Scalar.subi v14710 v14712
  let c128_i32_5791 : BitVec 32 := 128#32
  let c0_i32_5794 : BitVec 32 := 0#32
  let v14714 : BitVec 1 := Scalar.cmpi .sgt c128_i32_5791 c0_i32_5794
  let v14715 : BitVec 32 := Scalar.extui v14714
  let c0_i32_5795 : BitVec 32 := 0#32
  let v14716 : BitVec 1 := Scalar.cmpi .slt c128_i32_5791 c0_i32_5795
  let v14717 : BitVec 32 := Scalar.extui v14716
  let v14718 : BitVec 32 := Scalar.subi v14715 v14717
  let v14719 : BitVec 1 := Scalar.cmpi .ne v14713 v14718
  let v14720 : BitVec 32 := Scalar.remsi v14705 c128_i32_5791
  let c0_i32_5796 : BitVec 32 := 0#32
  let v14721 : BitVec 1 := Scalar.cmpi .ne v14720 c0_i32_5796
  let v14722 : BitVec 1 := Scalar.andi v14719 v14721
  let v14708 : BitVec 32 := Scalar.divsi v14705 c128_i32_5791
  let c1_i32_5797 : BitVec 32 := 1#32
  let v14723 : BitVec 32 := Scalar.subi v14708 c1_i32_5797
  let v14724 : BitVec 32 := Scalar.select v14722 v14723 v14708
  let c128_i32_5798 : BitVec 32 := 128#32
  let v14725 : BitVec 32 := Scalar.muli v14724 c128_i32_5798
  let v14726 : BitVec 32 := v14725
  let v14729 : Index := Scalar.indexCast v14726
  ![v14728.toNat, 0, v14729.toNat]

def k1_chk258 (v14703 : BitVec 32) (v14705 : BitVec 32) : Prop :=
  (128 ∣ (k1_mult258 v14705).toNat) ∧
  (∀ a, (k1_off806 v14703 v14705) a + S1x16x512.size a ≤ S384x16x1152.size a)
theorem k1_mult258_dvd : ∀ (v14703 : BitVec 32) (v14705 : BitVec 32) (k1_hw258 : k1_chk258 v14703 v14705), 128 ∣ (k1_mult258 v14705).toNat := fun v14703 v14705 k1_hw258 => k1_hw258.1
theorem k1_off806_inb : ∀ (v14703 : BitVec 32) (v14705 : BitVec 32) (k1_hw258 : k1_chk258 v14703 v14705), ∀ a, (k1_off806 v14703 v14705) a + S1x16x512.size a ≤ S384x16x1152.size a := fun v14703 v14705 k1_hw258 => k1_hw258.2

def k1_off807 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14739 : Index := Scalar.indexCast v14628
  let c1_5802 : Index := 1#32
  ![v14739.toNat, 1]
def k1_off808 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14755 : Index := Scalar.indexCast v14628
  let c2_5808 : Index := 2#32
  ![v14755.toNat, 2]
def k1_mult259 (v14758 : BitVec 32) : BitVec 32 :=
  let c0_i32_5812 : BitVec 32 := 0#32
  let v14762 : BitVec 1 := Scalar.cmpi .sgt v14758 c0_i32_5812
  let v14763 : BitVec 32 := Scalar.extui v14762
  let c0_i32_5813 : BitVec 32 := 0#32
  let v14764 : BitVec 1 := Scalar.cmpi .slt v14758 c0_i32_5813
  let v14765 : BitVec 32 := Scalar.extui v14764
  let v14766 : BitVec 32 := Scalar.subi v14763 v14765
  let c128_i32_5811 : BitVec 32 := 128#32
  let c0_i32_5814 : BitVec 32 := 0#32
  let v14767 : BitVec 1 := Scalar.cmpi .sgt c128_i32_5811 c0_i32_5814
  let v14768 : BitVec 32 := Scalar.extui v14767
  let c0_i32_5815 : BitVec 32 := 0#32
  let v14769 : BitVec 1 := Scalar.cmpi .slt c128_i32_5811 c0_i32_5815
  let v14770 : BitVec 32 := Scalar.extui v14769
  let v14771 : BitVec 32 := Scalar.subi v14768 v14770
  let v14772 : BitVec 1 := Scalar.cmpi .ne v14766 v14771
  let v14773 : BitVec 32 := Scalar.remsi v14758 c128_i32_5811
  let c0_i32_5816 : BitVec 32 := 0#32
  let v14774 : BitVec 1 := Scalar.cmpi .ne v14773 c0_i32_5816
  let v14775 : BitVec 1 := Scalar.andi v14772 v14774
  let v14761 : BitVec 32 := Scalar.divsi v14758 c128_i32_5811
  let c1_i32_5817 : BitVec 32 := 1#32
  let v14776 : BitVec 32 := Scalar.subi v14761 c1_i32_5817
  let v14777 : BitVec 32 := Scalar.select v14775 v14776 v14761
  let c128_i32_5818 : BitVec 32 := 128#32
  let v14778 : BitVec 32 := Scalar.muli v14777 c128_i32_5818
  v14778

def k1_off809 (v14756 : BitVec 32) (v14758 : BitVec 32) : Fin 3 → Nat :=
  let v14781 : Index := Scalar.indexCast v14756
  let c0_5819 : Index := 0#32
  let c0_i32_5812 : BitVec 32 := 0#32
  let v14762 : BitVec 1 := Scalar.cmpi .sgt v14758 c0_i32_5812
  let v14763 : BitVec 32 := Scalar.extui v14762
  let c0_i32_5813 : BitVec 32 := 0#32
  let v14764 : BitVec 1 := Scalar.cmpi .slt v14758 c0_i32_5813
  let v14765 : BitVec 32 := Scalar.extui v14764
  let v14766 : BitVec 32 := Scalar.subi v14763 v14765
  let c128_i32_5811 : BitVec 32 := 128#32
  let c0_i32_5814 : BitVec 32 := 0#32
  let v14767 : BitVec 1 := Scalar.cmpi .sgt c128_i32_5811 c0_i32_5814
  let v14768 : BitVec 32 := Scalar.extui v14767
  let c0_i32_5815 : BitVec 32 := 0#32
  let v14769 : BitVec 1 := Scalar.cmpi .slt c128_i32_5811 c0_i32_5815
  let v14770 : BitVec 32 := Scalar.extui v14769
  let v14771 : BitVec 32 := Scalar.subi v14768 v14770
  let v14772 : BitVec 1 := Scalar.cmpi .ne v14766 v14771
  let v14773 : BitVec 32 := Scalar.remsi v14758 c128_i32_5811
  let c0_i32_5816 : BitVec 32 := 0#32
  let v14774 : BitVec 1 := Scalar.cmpi .ne v14773 c0_i32_5816
  let v14775 : BitVec 1 := Scalar.andi v14772 v14774
  let v14761 : BitVec 32 := Scalar.divsi v14758 c128_i32_5811
  let c1_i32_5817 : BitVec 32 := 1#32
  let v14776 : BitVec 32 := Scalar.subi v14761 c1_i32_5817
  let v14777 : BitVec 32 := Scalar.select v14775 v14776 v14761
  let c128_i32_5818 : BitVec 32 := 128#32
  let v14778 : BitVec 32 := Scalar.muli v14777 c128_i32_5818
  let v14779 : BitVec 32 := v14778
  let v14782 : Index := Scalar.indexCast v14779
  ![v14781.toNat, 0, v14782.toNat]

def k1_chk259 (v14756 : BitVec 32) (v14758 : BitVec 32) : Prop :=
  (128 ∣ (k1_mult259 v14758).toNat) ∧
  (∀ a, (k1_off809 v14756 v14758) a + S1x16x512.size a ≤ S384x16x1152.size a)
theorem k1_mult259_dvd : ∀ (v14756 : BitVec 32) (v14758 : BitVec 32) (k1_hw259 : k1_chk259 v14756 v14758), 128 ∣ (k1_mult259 v14758).toNat := fun v14756 v14758 k1_hw259 => k1_hw259.1
theorem k1_off809_inb : ∀ (v14756 : BitVec 32) (v14758 : BitVec 32) (k1_hw259 : k1_chk259 v14756 v14758), ∀ a, (k1_off809 v14756 v14758) a + S1x16x512.size a ≤ S384x16x1152.size a := fun v14756 v14758 k1_hw259 => k1_hw259.2

def k1_off810 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14792 : Index := Scalar.indexCast v14628
  let c2_5822 : Index := 2#32
  ![v14792.toNat, 2]
def k1_off811 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14808 : Index := Scalar.indexCast v14628
  let c3_5828 : Index := 3#32
  ![v14808.toNat, 3]
def k1_mult260 (v14811 : BitVec 32) : BitVec 32 :=
  let c0_i32_5832 : BitVec 32 := 0#32
  let v14815 : BitVec 1 := Scalar.cmpi .sgt v14811 c0_i32_5832
  let v14816 : BitVec 32 := Scalar.extui v14815
  let c0_i32_5833 : BitVec 32 := 0#32
  let v14817 : BitVec 1 := Scalar.cmpi .slt v14811 c0_i32_5833
  let v14818 : BitVec 32 := Scalar.extui v14817
  let v14819 : BitVec 32 := Scalar.subi v14816 v14818
  let c128_i32_5831 : BitVec 32 := 128#32
  let c0_i32_5834 : BitVec 32 := 0#32
  let v14820 : BitVec 1 := Scalar.cmpi .sgt c128_i32_5831 c0_i32_5834
  let v14821 : BitVec 32 := Scalar.extui v14820
  let c0_i32_5835 : BitVec 32 := 0#32
  let v14822 : BitVec 1 := Scalar.cmpi .slt c128_i32_5831 c0_i32_5835
  let v14823 : BitVec 32 := Scalar.extui v14822
  let v14824 : BitVec 32 := Scalar.subi v14821 v14823
  let v14825 : BitVec 1 := Scalar.cmpi .ne v14819 v14824
  let v14826 : BitVec 32 := Scalar.remsi v14811 c128_i32_5831
  let c0_i32_5836 : BitVec 32 := 0#32
  let v14827 : BitVec 1 := Scalar.cmpi .ne v14826 c0_i32_5836
  let v14828 : BitVec 1 := Scalar.andi v14825 v14827
  let v14814 : BitVec 32 := Scalar.divsi v14811 c128_i32_5831
  let c1_i32_5837 : BitVec 32 := 1#32
  let v14829 : BitVec 32 := Scalar.subi v14814 c1_i32_5837
  let v14830 : BitVec 32 := Scalar.select v14828 v14829 v14814
  let c128_i32_5838 : BitVec 32 := 128#32
  let v14831 : BitVec 32 := Scalar.muli v14830 c128_i32_5838
  v14831

def k1_off812 (v14809 : BitVec 32) (v14811 : BitVec 32) : Fin 3 → Nat :=
  let v14834 : Index := Scalar.indexCast v14809
  let c0_5839 : Index := 0#32
  let c0_i32_5832 : BitVec 32 := 0#32
  let v14815 : BitVec 1 := Scalar.cmpi .sgt v14811 c0_i32_5832
  let v14816 : BitVec 32 := Scalar.extui v14815
  let c0_i32_5833 : BitVec 32 := 0#32
  let v14817 : BitVec 1 := Scalar.cmpi .slt v14811 c0_i32_5833
  let v14818 : BitVec 32 := Scalar.extui v14817
  let v14819 : BitVec 32 := Scalar.subi v14816 v14818
  let c128_i32_5831 : BitVec 32 := 128#32
  let c0_i32_5834 : BitVec 32 := 0#32
  let v14820 : BitVec 1 := Scalar.cmpi .sgt c128_i32_5831 c0_i32_5834
  let v14821 : BitVec 32 := Scalar.extui v14820
  let c0_i32_5835 : BitVec 32 := 0#32
  let v14822 : BitVec 1 := Scalar.cmpi .slt c128_i32_5831 c0_i32_5835
  let v14823 : BitVec 32 := Scalar.extui v14822
  let v14824 : BitVec 32 := Scalar.subi v14821 v14823
  let v14825 : BitVec 1 := Scalar.cmpi .ne v14819 v14824
  let v14826 : BitVec 32 := Scalar.remsi v14811 c128_i32_5831
  let c0_i32_5836 : BitVec 32 := 0#32
  let v14827 : BitVec 1 := Scalar.cmpi .ne v14826 c0_i32_5836
  let v14828 : BitVec 1 := Scalar.andi v14825 v14827
  let v14814 : BitVec 32 := Scalar.divsi v14811 c128_i32_5831
  let c1_i32_5837 : BitVec 32 := 1#32
  let v14829 : BitVec 32 := Scalar.subi v14814 c1_i32_5837
  let v14830 : BitVec 32 := Scalar.select v14828 v14829 v14814
  let c128_i32_5838 : BitVec 32 := 128#32
  let v14831 : BitVec 32 := Scalar.muli v14830 c128_i32_5838
  let v14832 : BitVec 32 := v14831
  let v14835 : Index := Scalar.indexCast v14832
  ![v14834.toNat, 0, v14835.toNat]

def k1_chk260 (v14809 : BitVec 32) (v14811 : BitVec 32) : Prop :=
  (128 ∣ (k1_mult260 v14811).toNat) ∧
  (∀ a, (k1_off812 v14809 v14811) a + S1x16x512.size a ≤ S384x16x1152.size a)
theorem k1_mult260_dvd : ∀ (v14809 : BitVec 32) (v14811 : BitVec 32) (k1_hw260 : k1_chk260 v14809 v14811), 128 ∣ (k1_mult260 v14811).toNat := fun v14809 v14811 k1_hw260 => k1_hw260.1
theorem k1_off812_inb : ∀ (v14809 : BitVec 32) (v14811 : BitVec 32) (k1_hw260 : k1_chk260 v14809 v14811), ∀ a, (k1_off812 v14809 v14811) a + S1x16x512.size a ≤ S384x16x1152.size a := fun v14809 v14811 k1_hw260 => k1_hw260.2

def k1_off813 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14845 : Index := Scalar.indexCast v14628
  let c3_5842 : Index := 3#32
  ![v14845.toNat, 3]
def k1_off814 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14861 : Index := Scalar.indexCast v14628
  let c4_5848 : Index := 4#32
  ![v14861.toNat, 4]
def k1_mult261 (v14864 : BitVec 32) : BitVec 32 :=
  let c0_i32_5852 : BitVec 32 := 0#32
  let v14868 : BitVec 1 := Scalar.cmpi .sgt v14864 c0_i32_5852
  let v14869 : BitVec 32 := Scalar.extui v14868
  let c0_i32_5853 : BitVec 32 := 0#32
  let v14870 : BitVec 1 := Scalar.cmpi .slt v14864 c0_i32_5853
  let v14871 : BitVec 32 := Scalar.extui v14870
  let v14872 : BitVec 32 := Scalar.subi v14869 v14871
  let c128_i32_5851 : BitVec 32 := 128#32
  let c0_i32_5854 : BitVec 32 := 0#32
  let v14873 : BitVec 1 := Scalar.cmpi .sgt c128_i32_5851 c0_i32_5854
  let v14874 : BitVec 32 := Scalar.extui v14873
  let c0_i32_5855 : BitVec 32 := 0#32
  let v14875 : BitVec 1 := Scalar.cmpi .slt c128_i32_5851 c0_i32_5855
  let v14876 : BitVec 32 := Scalar.extui v14875
  let v14877 : BitVec 32 := Scalar.subi v14874 v14876
  let v14878 : BitVec 1 := Scalar.cmpi .ne v14872 v14877
  let v14879 : BitVec 32 := Scalar.remsi v14864 c128_i32_5851
  let c0_i32_5856 : BitVec 32 := 0#32
  let v14880 : BitVec 1 := Scalar.cmpi .ne v14879 c0_i32_5856
  let v14881 : BitVec 1 := Scalar.andi v14878 v14880
  let v14867 : BitVec 32 := Scalar.divsi v14864 c128_i32_5851
  let c1_i32_5857 : BitVec 32 := 1#32
  let v14882 : BitVec 32 := Scalar.subi v14867 c1_i32_5857
  let v14883 : BitVec 32 := Scalar.select v14881 v14882 v14867
  let c128_i32_5858 : BitVec 32 := 128#32
  let v14884 : BitVec 32 := Scalar.muli v14883 c128_i32_5858
  v14884

def k1_off815 (v14862 : BitVec 32) (v14864 : BitVec 32) : Fin 3 → Nat :=
  let v14887 : Index := Scalar.indexCast v14862
  let c0_5859 : Index := 0#32
  let c0_i32_5852 : BitVec 32 := 0#32
  let v14868 : BitVec 1 := Scalar.cmpi .sgt v14864 c0_i32_5852
  let v14869 : BitVec 32 := Scalar.extui v14868
  let c0_i32_5853 : BitVec 32 := 0#32
  let v14870 : BitVec 1 := Scalar.cmpi .slt v14864 c0_i32_5853
  let v14871 : BitVec 32 := Scalar.extui v14870
  let v14872 : BitVec 32 := Scalar.subi v14869 v14871
  let c128_i32_5851 : BitVec 32 := 128#32
  let c0_i32_5854 : BitVec 32 := 0#32
  let v14873 : BitVec 1 := Scalar.cmpi .sgt c128_i32_5851 c0_i32_5854
  let v14874 : BitVec 32 := Scalar.extui v14873
  let c0_i32_5855 : BitVec 32 := 0#32
  let v14875 : BitVec 1 := Scalar.cmpi .slt c128_i32_5851 c0_i32_5855
  let v14876 : BitVec 32 := Scalar.extui v14875
  let v14877 : BitVec 32 := Scalar.subi v14874 v14876
  let v14878 : BitVec 1 := Scalar.cmpi .ne v14872 v14877
  let v14879 : BitVec 32 := Scalar.remsi v14864 c128_i32_5851
  let c0_i32_5856 : BitVec 32 := 0#32
  let v14880 : BitVec 1 := Scalar.cmpi .ne v14879 c0_i32_5856
  let v14881 : BitVec 1 := Scalar.andi v14878 v14880
  let v14867 : BitVec 32 := Scalar.divsi v14864 c128_i32_5851
  let c1_i32_5857 : BitVec 32 := 1#32
  let v14882 : BitVec 32 := Scalar.subi v14867 c1_i32_5857
  let v14883 : BitVec 32 := Scalar.select v14881 v14882 v14867
  let c128_i32_5858 : BitVec 32 := 128#32
  let v14884 : BitVec 32 := Scalar.muli v14883 c128_i32_5858
  let v14885 : BitVec 32 := v14884
  let v14888 : Index := Scalar.indexCast v14885
  ![v14887.toNat, 0, v14888.toNat]

def k1_chk261 (v14862 : BitVec 32) (v14864 : BitVec 32) : Prop :=
  (128 ∣ (k1_mult261 v14864).toNat) ∧
  (∀ a, (k1_off815 v14862 v14864) a + S1x16x512.size a ≤ S384x16x1152.size a)
theorem k1_mult261_dvd : ∀ (v14862 : BitVec 32) (v14864 : BitVec 32) (k1_hw261 : k1_chk261 v14862 v14864), 128 ∣ (k1_mult261 v14864).toNat := fun v14862 v14864 k1_hw261 => k1_hw261.1
theorem k1_off815_inb : ∀ (v14862 : BitVec 32) (v14864 : BitVec 32) (k1_hw261 : k1_chk261 v14862 v14864), ∀ a, (k1_off815 v14862 v14864) a + S1x16x512.size a ≤ S384x16x1152.size a := fun v14862 v14864 k1_hw261 => k1_hw261.2

def k1_off816 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14898 : Index := Scalar.indexCast v14628
  let c4_5862 : Index := 4#32
  ![v14898.toNat, 4]
def k1_off817 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14914 : Index := Scalar.indexCast v14628
  let c5_5868 : Index := 5#32
  ![v14914.toNat, 5]
def k1_mult262 (v14917 : BitVec 32) : BitVec 32 :=
  let c0_i32_5872 : BitVec 32 := 0#32
  let v14921 : BitVec 1 := Scalar.cmpi .sgt v14917 c0_i32_5872
  let v14922 : BitVec 32 := Scalar.extui v14921
  let c0_i32_5873 : BitVec 32 := 0#32
  let v14923 : BitVec 1 := Scalar.cmpi .slt v14917 c0_i32_5873
  let v14924 : BitVec 32 := Scalar.extui v14923
  let v14925 : BitVec 32 := Scalar.subi v14922 v14924
  let c128_i32_5871 : BitVec 32 := 128#32
  let c0_i32_5874 : BitVec 32 := 0#32
  let v14926 : BitVec 1 := Scalar.cmpi .sgt c128_i32_5871 c0_i32_5874
  let v14927 : BitVec 32 := Scalar.extui v14926
  let c0_i32_5875 : BitVec 32 := 0#32
  let v14928 : BitVec 1 := Scalar.cmpi .slt c128_i32_5871 c0_i32_5875
  let v14929 : BitVec 32 := Scalar.extui v14928
  let v14930 : BitVec 32 := Scalar.subi v14927 v14929
  let v14931 : BitVec 1 := Scalar.cmpi .ne v14925 v14930
  let v14932 : BitVec 32 := Scalar.remsi v14917 c128_i32_5871
  let c0_i32_5876 : BitVec 32 := 0#32
  let v14933 : BitVec 1 := Scalar.cmpi .ne v14932 c0_i32_5876
  let v14934 : BitVec 1 := Scalar.andi v14931 v14933
  let v14920 : BitVec 32 := Scalar.divsi v14917 c128_i32_5871
  let c1_i32_5877 : BitVec 32 := 1#32
  let v14935 : BitVec 32 := Scalar.subi v14920 c1_i32_5877
  let v14936 : BitVec 32 := Scalar.select v14934 v14935 v14920
  let c128_i32_5878 : BitVec 32 := 128#32
  let v14937 : BitVec 32 := Scalar.muli v14936 c128_i32_5878
  v14937

def k1_off818 (v14915 : BitVec 32) (v14917 : BitVec 32) : Fin 3 → Nat :=
  let v14940 : Index := Scalar.indexCast v14915
  let c0_5879 : Index := 0#32
  let c0_i32_5872 : BitVec 32 := 0#32
  let v14921 : BitVec 1 := Scalar.cmpi .sgt v14917 c0_i32_5872
  let v14922 : BitVec 32 := Scalar.extui v14921
  let c0_i32_5873 : BitVec 32 := 0#32
  let v14923 : BitVec 1 := Scalar.cmpi .slt v14917 c0_i32_5873
  let v14924 : BitVec 32 := Scalar.extui v14923
  let v14925 : BitVec 32 := Scalar.subi v14922 v14924
  let c128_i32_5871 : BitVec 32 := 128#32
  let c0_i32_5874 : BitVec 32 := 0#32
  let v14926 : BitVec 1 := Scalar.cmpi .sgt c128_i32_5871 c0_i32_5874
  let v14927 : BitVec 32 := Scalar.extui v14926
  let c0_i32_5875 : BitVec 32 := 0#32
  let v14928 : BitVec 1 := Scalar.cmpi .slt c128_i32_5871 c0_i32_5875
  let v14929 : BitVec 32 := Scalar.extui v14928
  let v14930 : BitVec 32 := Scalar.subi v14927 v14929
  let v14931 : BitVec 1 := Scalar.cmpi .ne v14925 v14930
  let v14932 : BitVec 32 := Scalar.remsi v14917 c128_i32_5871
  let c0_i32_5876 : BitVec 32 := 0#32
  let v14933 : BitVec 1 := Scalar.cmpi .ne v14932 c0_i32_5876
  let v14934 : BitVec 1 := Scalar.andi v14931 v14933
  let v14920 : BitVec 32 := Scalar.divsi v14917 c128_i32_5871
  let c1_i32_5877 : BitVec 32 := 1#32
  let v14935 : BitVec 32 := Scalar.subi v14920 c1_i32_5877
  let v14936 : BitVec 32 := Scalar.select v14934 v14935 v14920
  let c128_i32_5878 : BitVec 32 := 128#32
  let v14937 : BitVec 32 := Scalar.muli v14936 c128_i32_5878
  let v14938 : BitVec 32 := v14937
  let v14941 : Index := Scalar.indexCast v14938
  ![v14940.toNat, 0, v14941.toNat]

def k1_chk262 (v14915 : BitVec 32) (v14917 : BitVec 32) : Prop :=
  (128 ∣ (k1_mult262 v14917).toNat) ∧
  (∀ a, (k1_off818 v14915 v14917) a + S1x16x512.size a ≤ S384x16x1152.size a)
theorem k1_mult262_dvd : ∀ (v14915 : BitVec 32) (v14917 : BitVec 32) (k1_hw262 : k1_chk262 v14915 v14917), 128 ∣ (k1_mult262 v14917).toNat := fun v14915 v14917 k1_hw262 => k1_hw262.1
theorem k1_off818_inb : ∀ (v14915 : BitVec 32) (v14917 : BitVec 32) (k1_hw262 : k1_chk262 v14915 v14917), ∀ a, (k1_off818 v14915 v14917) a + S1x16x512.size a ≤ S384x16x1152.size a := fun v14915 v14917 k1_hw262 => k1_hw262.2

def k1_off819 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14951 : Index := Scalar.indexCast v14628
  let c5_5882 : Index := 5#32
  ![v14951.toNat, 5]
def k1_off820 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v14967 : Index := Scalar.indexCast v14628
  let c6_5888 : Index := 6#32
  ![v14967.toNat, 6]
def k1_mult263 (v14970 : BitVec 32) : BitVec 32 :=
  let c0_i32_5892 : BitVec 32 := 0#32
  let v14974 : BitVec 1 := Scalar.cmpi .sgt v14970 c0_i32_5892
  let v14975 : BitVec 32 := Scalar.extui v14974
  let c0_i32_5893 : BitVec 32 := 0#32
  let v14976 : BitVec 1 := Scalar.cmpi .slt v14970 c0_i32_5893
  let v14977 : BitVec 32 := Scalar.extui v14976
  let v14978 : BitVec 32 := Scalar.subi v14975 v14977
  let c128_i32_5891 : BitVec 32 := 128#32
  let c0_i32_5894 : BitVec 32 := 0#32
  let v14979 : BitVec 1 := Scalar.cmpi .sgt c128_i32_5891 c0_i32_5894
  let v14980 : BitVec 32 := Scalar.extui v14979
  let c0_i32_5895 : BitVec 32 := 0#32
  let v14981 : BitVec 1 := Scalar.cmpi .slt c128_i32_5891 c0_i32_5895
  let v14982 : BitVec 32 := Scalar.extui v14981
  let v14983 : BitVec 32 := Scalar.subi v14980 v14982
  let v14984 : BitVec 1 := Scalar.cmpi .ne v14978 v14983
  let v14985 : BitVec 32 := Scalar.remsi v14970 c128_i32_5891
  let c0_i32_5896 : BitVec 32 := 0#32
  let v14986 : BitVec 1 := Scalar.cmpi .ne v14985 c0_i32_5896
  let v14987 : BitVec 1 := Scalar.andi v14984 v14986
  let v14973 : BitVec 32 := Scalar.divsi v14970 c128_i32_5891
  let c1_i32_5897 : BitVec 32 := 1#32
  let v14988 : BitVec 32 := Scalar.subi v14973 c1_i32_5897
  let v14989 : BitVec 32 := Scalar.select v14987 v14988 v14973
  let c128_i32_5898 : BitVec 32 := 128#32
  let v14990 : BitVec 32 := Scalar.muli v14989 c128_i32_5898
  v14990

def k1_off821 (v14968 : BitVec 32) (v14970 : BitVec 32) : Fin 3 → Nat :=
  let v14993 : Index := Scalar.indexCast v14968
  let c0_5899 : Index := 0#32
  let c0_i32_5892 : BitVec 32 := 0#32
  let v14974 : BitVec 1 := Scalar.cmpi .sgt v14970 c0_i32_5892
  let v14975 : BitVec 32 := Scalar.extui v14974
  let c0_i32_5893 : BitVec 32 := 0#32
  let v14976 : BitVec 1 := Scalar.cmpi .slt v14970 c0_i32_5893
  let v14977 : BitVec 32 := Scalar.extui v14976
  let v14978 : BitVec 32 := Scalar.subi v14975 v14977
  let c128_i32_5891 : BitVec 32 := 128#32
  let c0_i32_5894 : BitVec 32 := 0#32
  let v14979 : BitVec 1 := Scalar.cmpi .sgt c128_i32_5891 c0_i32_5894
  let v14980 : BitVec 32 := Scalar.extui v14979
  let c0_i32_5895 : BitVec 32 := 0#32
  let v14981 : BitVec 1 := Scalar.cmpi .slt c128_i32_5891 c0_i32_5895
  let v14982 : BitVec 32 := Scalar.extui v14981
  let v14983 : BitVec 32 := Scalar.subi v14980 v14982
  let v14984 : BitVec 1 := Scalar.cmpi .ne v14978 v14983
  let v14985 : BitVec 32 := Scalar.remsi v14970 c128_i32_5891
  let c0_i32_5896 : BitVec 32 := 0#32
  let v14986 : BitVec 1 := Scalar.cmpi .ne v14985 c0_i32_5896
  let v14987 : BitVec 1 := Scalar.andi v14984 v14986
  let v14973 : BitVec 32 := Scalar.divsi v14970 c128_i32_5891
  let c1_i32_5897 : BitVec 32 := 1#32
  let v14988 : BitVec 32 := Scalar.subi v14973 c1_i32_5897
  let v14989 : BitVec 32 := Scalar.select v14987 v14988 v14973
  let c128_i32_5898 : BitVec 32 := 128#32
  let v14990 : BitVec 32 := Scalar.muli v14989 c128_i32_5898
  let v14991 : BitVec 32 := v14990
  let v14994 : Index := Scalar.indexCast v14991
  ![v14993.toNat, 0, v14994.toNat]

def k1_chk263 (v14968 : BitVec 32) (v14970 : BitVec 32) : Prop :=
  (128 ∣ (k1_mult263 v14970).toNat) ∧
  (∀ a, (k1_off821 v14968 v14970) a + S1x16x512.size a ≤ S384x16x1152.size a)
theorem k1_mult263_dvd : ∀ (v14968 : BitVec 32) (v14970 : BitVec 32) (k1_hw263 : k1_chk263 v14968 v14970), 128 ∣ (k1_mult263 v14970).toNat := fun v14968 v14970 k1_hw263 => k1_hw263.1
theorem k1_off821_inb : ∀ (v14968 : BitVec 32) (v14970 : BitVec 32) (k1_hw263 : k1_chk263 v14968 v14970), ∀ a, (k1_off821 v14968 v14970) a + S1x16x512.size a ≤ S384x16x1152.size a := fun v14968 v14970 k1_hw263 => k1_hw263.2

def k1_off822 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v15004 : Index := Scalar.indexCast v14628
  let c6_5902 : Index := 6#32
  ![v15004.toNat, 6]
def k1_off823 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v15020 : Index := Scalar.indexCast v14628
  let c7_5908 : Index := 7#32
  ![v15020.toNat, 7]
def k1_mult264 (v15023 : BitVec 32) : BitVec 32 :=
  let c0_i32_5912 : BitVec 32 := 0#32
  let v15027 : BitVec 1 := Scalar.cmpi .sgt v15023 c0_i32_5912
  let v15028 : BitVec 32 := Scalar.extui v15027
  let c0_i32_5913 : BitVec 32 := 0#32
  let v15029 : BitVec 1 := Scalar.cmpi .slt v15023 c0_i32_5913
  let v15030 : BitVec 32 := Scalar.extui v15029
  let v15031 : BitVec 32 := Scalar.subi v15028 v15030
  let c128_i32_5911 : BitVec 32 := 128#32
  let c0_i32_5914 : BitVec 32 := 0#32
  let v15032 : BitVec 1 := Scalar.cmpi .sgt c128_i32_5911 c0_i32_5914
  let v15033 : BitVec 32 := Scalar.extui v15032
  let c0_i32_5915 : BitVec 32 := 0#32
  let v15034 : BitVec 1 := Scalar.cmpi .slt c128_i32_5911 c0_i32_5915
  let v15035 : BitVec 32 := Scalar.extui v15034
  let v15036 : BitVec 32 := Scalar.subi v15033 v15035
  let v15037 : BitVec 1 := Scalar.cmpi .ne v15031 v15036
  let v15038 : BitVec 32 := Scalar.remsi v15023 c128_i32_5911
  let c0_i32_5916 : BitVec 32 := 0#32
  let v15039 : BitVec 1 := Scalar.cmpi .ne v15038 c0_i32_5916
  let v15040 : BitVec 1 := Scalar.andi v15037 v15039
  let v15026 : BitVec 32 := Scalar.divsi v15023 c128_i32_5911
  let c1_i32_5917 : BitVec 32 := 1#32
  let v15041 : BitVec 32 := Scalar.subi v15026 c1_i32_5917
  let v15042 : BitVec 32 := Scalar.select v15040 v15041 v15026
  let c128_i32_5918 : BitVec 32 := 128#32
  let v15043 : BitVec 32 := Scalar.muli v15042 c128_i32_5918
  v15043

def k1_off824 (v15021 : BitVec 32) (v15023 : BitVec 32) : Fin 3 → Nat :=
  let v15046 : Index := Scalar.indexCast v15021
  let c0_5919 : Index := 0#32
  let c0_i32_5912 : BitVec 32 := 0#32
  let v15027 : BitVec 1 := Scalar.cmpi .sgt v15023 c0_i32_5912
  let v15028 : BitVec 32 := Scalar.extui v15027
  let c0_i32_5913 : BitVec 32 := 0#32
  let v15029 : BitVec 1 := Scalar.cmpi .slt v15023 c0_i32_5913
  let v15030 : BitVec 32 := Scalar.extui v15029
  let v15031 : BitVec 32 := Scalar.subi v15028 v15030
  let c128_i32_5911 : BitVec 32 := 128#32
  let c0_i32_5914 : BitVec 32 := 0#32
  let v15032 : BitVec 1 := Scalar.cmpi .sgt c128_i32_5911 c0_i32_5914
  let v15033 : BitVec 32 := Scalar.extui v15032
  let c0_i32_5915 : BitVec 32 := 0#32
  let v15034 : BitVec 1 := Scalar.cmpi .slt c128_i32_5911 c0_i32_5915
  let v15035 : BitVec 32 := Scalar.extui v15034
  let v15036 : BitVec 32 := Scalar.subi v15033 v15035
  let v15037 : BitVec 1 := Scalar.cmpi .ne v15031 v15036
  let v15038 : BitVec 32 := Scalar.remsi v15023 c128_i32_5911
  let c0_i32_5916 : BitVec 32 := 0#32
  let v15039 : BitVec 1 := Scalar.cmpi .ne v15038 c0_i32_5916
  let v15040 : BitVec 1 := Scalar.andi v15037 v15039
  let v15026 : BitVec 32 := Scalar.divsi v15023 c128_i32_5911
  let c1_i32_5917 : BitVec 32 := 1#32
  let v15041 : BitVec 32 := Scalar.subi v15026 c1_i32_5917
  let v15042 : BitVec 32 := Scalar.select v15040 v15041 v15026
  let c128_i32_5918 : BitVec 32 := 128#32
  let v15043 : BitVec 32 := Scalar.muli v15042 c128_i32_5918
  let v15044 : BitVec 32 := v15043
  let v15047 : Index := Scalar.indexCast v15044
  ![v15046.toNat, 0, v15047.toNat]

def k1_chk264 (v15021 : BitVec 32) (v15023 : BitVec 32) : Prop :=
  (128 ∣ (k1_mult264 v15023).toNat) ∧
  (∀ a, (k1_off824 v15021 v15023) a + S1x16x512.size a ≤ S384x16x1152.size a)
theorem k1_mult264_dvd : ∀ (v15021 : BitVec 32) (v15023 : BitVec 32) (k1_hw264 : k1_chk264 v15021 v15023), 128 ∣ (k1_mult264 v15023).toNat := fun v15021 v15023 k1_hw264 => k1_hw264.1
theorem k1_off824_inb : ∀ (v15021 : BitVec 32) (v15023 : BitVec 32) (k1_hw264 : k1_chk264 v15021 v15023), ∀ a, (k1_off824 v15021 v15023) a + S1x16x512.size a ≤ S384x16x1152.size a := fun v15021 v15023 k1_hw264 => k1_hw264.2

def k1_off825 (i : grid1.Coords) : Fin 2 → Nat :=
  let arg0 : BitVec 32 := BitVec.ofNat 32 (i 0).val
  let c48_i32_5757 : BitVec 32 := 48#32
  let v14627 : BitVec 32 := Scalar.muli arg0 c48_i32_5757
  let c32_i32 : BitVec 32 := 32#32
  let v14628 : BitVec 32 := Scalar.addi v14627 c32_i32
  let v15057 : Index := Scalar.indexCast v14628
  let c7_5922 : Index := 7#32
  ![v15057.toNat, 7]
def k1_off826 (i : grid1.Coords) : Fin 3 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15086 : Index := Scalar.indexCast v15085
  let c0_5938 : Index := 0#32
  let c720_5939 : Index := 720#32
  ![v15086.toNat, 0, 720]
def k1_off827 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15106 : Index := Scalar.indexCast v15085
  let c0_5948 : Index := 0#32
  ![v15106.toNat, 0]
def k1_mult265 (v15109 : BitVec 32) : BitVec 32 :=
  let c0_i32_5952 : BitVec 32 := 0#32
  let v15113 : BitVec 1 := Scalar.cmpi .sgt v15109 c0_i32_5952
  let v15114 : BitVec 32 := Scalar.extui v15113
  let c0_i32_5953 : BitVec 32 := 0#32
  let v15115 : BitVec 1 := Scalar.cmpi .slt v15109 c0_i32_5953
  let v15116 : BitVec 32 := Scalar.extui v15115
  let v15117 : BitVec 32 := Scalar.subi v15114 v15116
  let c128_i32_5951 : BitVec 32 := 128#32
  let c0_i32_5954 : BitVec 32 := 0#32
  let v15118 : BitVec 1 := Scalar.cmpi .sgt c128_i32_5951 c0_i32_5954
  let v15119 : BitVec 32 := Scalar.extui v15118
  let c0_i32_5955 : BitVec 32 := 0#32
  let v15120 : BitVec 1 := Scalar.cmpi .slt c128_i32_5951 c0_i32_5955
  let v15121 : BitVec 32 := Scalar.extui v15120
  let v15122 : BitVec 32 := Scalar.subi v15119 v15121
  let v15123 : BitVec 1 := Scalar.cmpi .ne v15117 v15122
  let v15124 : BitVec 32 := Scalar.remsi v15109 c128_i32_5951
  let c0_i32_5956 : BitVec 32 := 0#32
  let v15125 : BitVec 1 := Scalar.cmpi .ne v15124 c0_i32_5956
  let v15126 : BitVec 1 := Scalar.andi v15123 v15125
  let v15112 : BitVec 32 := Scalar.divsi v15109 c128_i32_5951
  let c1_i32_5957 : BitVec 32 := 1#32
  let v15127 : BitVec 32 := Scalar.subi v15112 c1_i32_5957
  let v15128 : BitVec 32 := Scalar.select v15126 v15127 v15112
  let c128_i32_5958 : BitVec 32 := 128#32
  let v15129 : BitVec 32 := Scalar.muli v15128 c128_i32_5958
  v15129

def k1_off828 (v15107 : BitVec 32) (v15109 : BitVec 32) : Fin 3 → Nat :=
  let v15132 : Index := Scalar.indexCast v15107
  let c0_5959 : Index := 0#32
  let c0_i32_5952 : BitVec 32 := 0#32
  let v15113 : BitVec 1 := Scalar.cmpi .sgt v15109 c0_i32_5952
  let v15114 : BitVec 32 := Scalar.extui v15113
  let c0_i32_5953 : BitVec 32 := 0#32
  let v15115 : BitVec 1 := Scalar.cmpi .slt v15109 c0_i32_5953
  let v15116 : BitVec 32 := Scalar.extui v15115
  let v15117 : BitVec 32 := Scalar.subi v15114 v15116
  let c128_i32_5951 : BitVec 32 := 128#32
  let c0_i32_5954 : BitVec 32 := 0#32
  let v15118 : BitVec 1 := Scalar.cmpi .sgt c128_i32_5951 c0_i32_5954
  let v15119 : BitVec 32 := Scalar.extui v15118
  let c0_i32_5955 : BitVec 32 := 0#32
  let v15120 : BitVec 1 := Scalar.cmpi .slt c128_i32_5951 c0_i32_5955
  let v15121 : BitVec 32 := Scalar.extui v15120
  let v15122 : BitVec 32 := Scalar.subi v15119 v15121
  let v15123 : BitVec 1 := Scalar.cmpi .ne v15117 v15122
  let v15124 : BitVec 32 := Scalar.remsi v15109 c128_i32_5951
  let c0_i32_5956 : BitVec 32 := 0#32
  let v15125 : BitVec 1 := Scalar.cmpi .ne v15124 c0_i32_5956
  let v15126 : BitVec 1 := Scalar.andi v15123 v15125
  let v15112 : BitVec 32 := Scalar.divsi v15109 c128_i32_5951
  let c1_i32_5957 : BitVec 32 := 1#32
  let v15127 : BitVec 32 := Scalar.subi v15112 c1_i32_5957
  let v15128 : BitVec 32 := Scalar.select v15126 v15127 v15112
  let c128_i32_5958 : BitVec 32 := 128#32
  let v15129 : BitVec 32 := Scalar.muli v15128 c128_i32_5958
  let v15130 : BitVec 32 := v15129
  let v15133 : Index := Scalar.indexCast v15130
  ![v15132.toNat, 0, v15133.toNat]

def k1_chk265 (v15107 : BitVec 32) (v15109 : BitVec 32) : Prop :=
  (128 ∣ (k1_mult265 v15109).toNat) ∧
  (∀ a, (k1_off828 v15107 v15109) a + S1x16x512.size a ≤ S384x16x1152.size a)
theorem k1_mult265_dvd : ∀ (v15107 : BitVec 32) (v15109 : BitVec 32) (k1_hw265 : k1_chk265 v15107 v15109), 128 ∣ (k1_mult265 v15109).toNat := fun v15107 v15109 k1_hw265 => k1_hw265.1
theorem k1_off828_inb : ∀ (v15107 : BitVec 32) (v15109 : BitVec 32) (k1_hw265 : k1_chk265 v15107 v15109), ∀ a, (k1_off828 v15107 v15109) a + S1x16x512.size a ≤ S384x16x1152.size a := fun v15107 v15109 k1_hw265 => k1_hw265.2

def k1_off829 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15143 : Index := Scalar.indexCast v15085
  let c0_5962 : Index := 0#32
  ![v15143.toNat, 0]
def k1_off830 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15159 : Index := Scalar.indexCast v15085
  let c1_5968 : Index := 1#32
  ![v15159.toNat, 1]
def k1_mult266 (v15162 : BitVec 32) : BitVec 32 :=
  let c0_i32_5972 : BitVec 32 := 0#32
  let v15166 : BitVec 1 := Scalar.cmpi .sgt v15162 c0_i32_5972
  let v15167 : BitVec 32 := Scalar.extui v15166
  let c0_i32_5973 : BitVec 32 := 0#32
  let v15168 : BitVec 1 := Scalar.cmpi .slt v15162 c0_i32_5973
  let v15169 : BitVec 32 := Scalar.extui v15168
  let v15170 : BitVec 32 := Scalar.subi v15167 v15169
  let c128_i32_5971 : BitVec 32 := 128#32
  let c0_i32_5974 : BitVec 32 := 0#32
  let v15171 : BitVec 1 := Scalar.cmpi .sgt c128_i32_5971 c0_i32_5974
  let v15172 : BitVec 32 := Scalar.extui v15171
  let c0_i32_5975 : BitVec 32 := 0#32
  let v15173 : BitVec 1 := Scalar.cmpi .slt c128_i32_5971 c0_i32_5975
  let v15174 : BitVec 32 := Scalar.extui v15173
  let v15175 : BitVec 32 := Scalar.subi v15172 v15174
  let v15176 : BitVec 1 := Scalar.cmpi .ne v15170 v15175
  let v15177 : BitVec 32 := Scalar.remsi v15162 c128_i32_5971
  let c0_i32_5976 : BitVec 32 := 0#32
  let v15178 : BitVec 1 := Scalar.cmpi .ne v15177 c0_i32_5976
  let v15179 : BitVec 1 := Scalar.andi v15176 v15178
  let v15165 : BitVec 32 := Scalar.divsi v15162 c128_i32_5971
  let c1_i32_5977 : BitVec 32 := 1#32
  let v15180 : BitVec 32 := Scalar.subi v15165 c1_i32_5977
  let v15181 : BitVec 32 := Scalar.select v15179 v15180 v15165
  let c128_i32_5978 : BitVec 32 := 128#32
  let v15182 : BitVec 32 := Scalar.muli v15181 c128_i32_5978
  v15182

def k1_off831 (v15160 : BitVec 32) (v15162 : BitVec 32) : Fin 3 → Nat :=
  let v15185 : Index := Scalar.indexCast v15160
  let c0_5979 : Index := 0#32
  let c0_i32_5972 : BitVec 32 := 0#32
  let v15166 : BitVec 1 := Scalar.cmpi .sgt v15162 c0_i32_5972
  let v15167 : BitVec 32 := Scalar.extui v15166
  let c0_i32_5973 : BitVec 32 := 0#32
  let v15168 : BitVec 1 := Scalar.cmpi .slt v15162 c0_i32_5973
  let v15169 : BitVec 32 := Scalar.extui v15168
  let v15170 : BitVec 32 := Scalar.subi v15167 v15169
  let c128_i32_5971 : BitVec 32 := 128#32
  let c0_i32_5974 : BitVec 32 := 0#32
  let v15171 : BitVec 1 := Scalar.cmpi .sgt c128_i32_5971 c0_i32_5974
  let v15172 : BitVec 32 := Scalar.extui v15171
  let c0_i32_5975 : BitVec 32 := 0#32
  let v15173 : BitVec 1 := Scalar.cmpi .slt c128_i32_5971 c0_i32_5975
  let v15174 : BitVec 32 := Scalar.extui v15173
  let v15175 : BitVec 32 := Scalar.subi v15172 v15174
  let v15176 : BitVec 1 := Scalar.cmpi .ne v15170 v15175
  let v15177 : BitVec 32 := Scalar.remsi v15162 c128_i32_5971
  let c0_i32_5976 : BitVec 32 := 0#32
  let v15178 : BitVec 1 := Scalar.cmpi .ne v15177 c0_i32_5976
  let v15179 : BitVec 1 := Scalar.andi v15176 v15178
  let v15165 : BitVec 32 := Scalar.divsi v15162 c128_i32_5971
  let c1_i32_5977 : BitVec 32 := 1#32
  let v15180 : BitVec 32 := Scalar.subi v15165 c1_i32_5977
  let v15181 : BitVec 32 := Scalar.select v15179 v15180 v15165
  let c128_i32_5978 : BitVec 32 := 128#32
  let v15182 : BitVec 32 := Scalar.muli v15181 c128_i32_5978
  let v15183 : BitVec 32 := v15182
  let v15186 : Index := Scalar.indexCast v15183
  ![v15185.toNat, 0, v15186.toNat]

def k1_chk266 (v15160 : BitVec 32) (v15162 : BitVec 32) : Prop :=
  (128 ∣ (k1_mult266 v15162).toNat) ∧
  (∀ a, (k1_off831 v15160 v15162) a + S1x16x512.size a ≤ S384x16x1152.size a)
theorem k1_mult266_dvd : ∀ (v15160 : BitVec 32) (v15162 : BitVec 32) (k1_hw266 : k1_chk266 v15160 v15162), 128 ∣ (k1_mult266 v15162).toNat := fun v15160 v15162 k1_hw266 => k1_hw266.1
theorem k1_off831_inb : ∀ (v15160 : BitVec 32) (v15162 : BitVec 32) (k1_hw266 : k1_chk266 v15160 v15162), ∀ a, (k1_off831 v15160 v15162) a + S1x16x512.size a ≤ S384x16x1152.size a := fun v15160 v15162 k1_hw266 => k1_hw266.2

def k1_off832 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15196 : Index := Scalar.indexCast v15085
  let c1_5982 : Index := 1#32
  ![v15196.toNat, 1]
def k1_off833 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15212 : Index := Scalar.indexCast v15085
  let c2_5988 : Index := 2#32
  ![v15212.toNat, 2]
def k1_mult267 (v15215 : BitVec 32) : BitVec 32 :=
  let c0_i32_5992 : BitVec 32 := 0#32
  let v15219 : BitVec 1 := Scalar.cmpi .sgt v15215 c0_i32_5992
  let v15220 : BitVec 32 := Scalar.extui v15219
  let c0_i32_5993 : BitVec 32 := 0#32
  let v15221 : BitVec 1 := Scalar.cmpi .slt v15215 c0_i32_5993
  let v15222 : BitVec 32 := Scalar.extui v15221
  let v15223 : BitVec 32 := Scalar.subi v15220 v15222
  let c128_i32_5991 : BitVec 32 := 128#32
  let c0_i32_5994 : BitVec 32 := 0#32
  let v15224 : BitVec 1 := Scalar.cmpi .sgt c128_i32_5991 c0_i32_5994
  let v15225 : BitVec 32 := Scalar.extui v15224
  let c0_i32_5995 : BitVec 32 := 0#32
  let v15226 : BitVec 1 := Scalar.cmpi .slt c128_i32_5991 c0_i32_5995
  let v15227 : BitVec 32 := Scalar.extui v15226
  let v15228 : BitVec 32 := Scalar.subi v15225 v15227
  let v15229 : BitVec 1 := Scalar.cmpi .ne v15223 v15228
  let v15230 : BitVec 32 := Scalar.remsi v15215 c128_i32_5991
  let c0_i32_5996 : BitVec 32 := 0#32
  let v15231 : BitVec 1 := Scalar.cmpi .ne v15230 c0_i32_5996
  let v15232 : BitVec 1 := Scalar.andi v15229 v15231
  let v15218 : BitVec 32 := Scalar.divsi v15215 c128_i32_5991
  let c1_i32_5997 : BitVec 32 := 1#32
  let v15233 : BitVec 32 := Scalar.subi v15218 c1_i32_5997
  let v15234 : BitVec 32 := Scalar.select v15232 v15233 v15218
  let c128_i32_5998 : BitVec 32 := 128#32
  let v15235 : BitVec 32 := Scalar.muli v15234 c128_i32_5998
  v15235

def k1_off834 (v15213 : BitVec 32) (v15215 : BitVec 32) : Fin 3 → Nat :=
  let v15238 : Index := Scalar.indexCast v15213
  let c0_5999 : Index := 0#32
  let c0_i32_5992 : BitVec 32 := 0#32
  let v15219 : BitVec 1 := Scalar.cmpi .sgt v15215 c0_i32_5992
  let v15220 : BitVec 32 := Scalar.extui v15219
  let c0_i32_5993 : BitVec 32 := 0#32
  let v15221 : BitVec 1 := Scalar.cmpi .slt v15215 c0_i32_5993
  let v15222 : BitVec 32 := Scalar.extui v15221
  let v15223 : BitVec 32 := Scalar.subi v15220 v15222
  let c128_i32_5991 : BitVec 32 := 128#32
  let c0_i32_5994 : BitVec 32 := 0#32
  let v15224 : BitVec 1 := Scalar.cmpi .sgt c128_i32_5991 c0_i32_5994
  let v15225 : BitVec 32 := Scalar.extui v15224
  let c0_i32_5995 : BitVec 32 := 0#32
  let v15226 : BitVec 1 := Scalar.cmpi .slt c128_i32_5991 c0_i32_5995
  let v15227 : BitVec 32 := Scalar.extui v15226
  let v15228 : BitVec 32 := Scalar.subi v15225 v15227
  let v15229 : BitVec 1 := Scalar.cmpi .ne v15223 v15228
  let v15230 : BitVec 32 := Scalar.remsi v15215 c128_i32_5991
  let c0_i32_5996 : BitVec 32 := 0#32
  let v15231 : BitVec 1 := Scalar.cmpi .ne v15230 c0_i32_5996
  let v15232 : BitVec 1 := Scalar.andi v15229 v15231
  let v15218 : BitVec 32 := Scalar.divsi v15215 c128_i32_5991
  let c1_i32_5997 : BitVec 32 := 1#32
  let v15233 : BitVec 32 := Scalar.subi v15218 c1_i32_5997
  let v15234 : BitVec 32 := Scalar.select v15232 v15233 v15218
  let c128_i32_5998 : BitVec 32 := 128#32
  let v15235 : BitVec 32 := Scalar.muli v15234 c128_i32_5998
  let v15236 : BitVec 32 := v15235
  let v15239 : Index := Scalar.indexCast v15236
  ![v15238.toNat, 0, v15239.toNat]

def k1_chk267 (v15213 : BitVec 32) (v15215 : BitVec 32) : Prop :=
  (128 ∣ (k1_mult267 v15215).toNat) ∧
  (∀ a, (k1_off834 v15213 v15215) a + S1x16x512.size a ≤ S384x16x1152.size a)
theorem k1_mult267_dvd : ∀ (v15213 : BitVec 32) (v15215 : BitVec 32) (k1_hw267 : k1_chk267 v15213 v15215), 128 ∣ (k1_mult267 v15215).toNat := fun v15213 v15215 k1_hw267 => k1_hw267.1
theorem k1_off834_inb : ∀ (v15213 : BitVec 32) (v15215 : BitVec 32) (k1_hw267 : k1_chk267 v15213 v15215), ∀ a, (k1_off834 v15213 v15215) a + S1x16x512.size a ≤ S384x16x1152.size a := fun v15213 v15215 k1_hw267 => k1_hw267.2

def k1_off835 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15249 : Index := Scalar.indexCast v15085
  let c2_6002 : Index := 2#32
  ![v15249.toNat, 2]
def k1_off836 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15265 : Index := Scalar.indexCast v15085
  let c3_6008 : Index := 3#32
  ![v15265.toNat, 3]
def k1_mult268 (v15268 : BitVec 32) : BitVec 32 :=
  let c0_i32_6012 : BitVec 32 := 0#32
  let v15272 : BitVec 1 := Scalar.cmpi .sgt v15268 c0_i32_6012
  let v15273 : BitVec 32 := Scalar.extui v15272
  let c0_i32_6013 : BitVec 32 := 0#32
  let v15274 : BitVec 1 := Scalar.cmpi .slt v15268 c0_i32_6013
  let v15275 : BitVec 32 := Scalar.extui v15274
  let v15276 : BitVec 32 := Scalar.subi v15273 v15275
  let c128_i32_6011 : BitVec 32 := 128#32
  let c0_i32_6014 : BitVec 32 := 0#32
  let v15277 : BitVec 1 := Scalar.cmpi .sgt c128_i32_6011 c0_i32_6014
  let v15278 : BitVec 32 := Scalar.extui v15277
  let c0_i32_6015 : BitVec 32 := 0#32
  let v15279 : BitVec 1 := Scalar.cmpi .slt c128_i32_6011 c0_i32_6015
  let v15280 : BitVec 32 := Scalar.extui v15279
  let v15281 : BitVec 32 := Scalar.subi v15278 v15280
  let v15282 : BitVec 1 := Scalar.cmpi .ne v15276 v15281
  let v15283 : BitVec 32 := Scalar.remsi v15268 c128_i32_6011
  let c0_i32_6016 : BitVec 32 := 0#32
  let v15284 : BitVec 1 := Scalar.cmpi .ne v15283 c0_i32_6016
  let v15285 : BitVec 1 := Scalar.andi v15282 v15284
  let v15271 : BitVec 32 := Scalar.divsi v15268 c128_i32_6011
  let c1_i32_6017 : BitVec 32 := 1#32
  let v15286 : BitVec 32 := Scalar.subi v15271 c1_i32_6017
  let v15287 : BitVec 32 := Scalar.select v15285 v15286 v15271
  let c128_i32_6018 : BitVec 32 := 128#32
  let v15288 : BitVec 32 := Scalar.muli v15287 c128_i32_6018
  v15288

def k1_off837 (v15266 : BitVec 32) (v15268 : BitVec 32) : Fin 3 → Nat :=
  let v15291 : Index := Scalar.indexCast v15266
  let c0_6019 : Index := 0#32
  let c0_i32_6012 : BitVec 32 := 0#32
  let v15272 : BitVec 1 := Scalar.cmpi .sgt v15268 c0_i32_6012
  let v15273 : BitVec 32 := Scalar.extui v15272
  let c0_i32_6013 : BitVec 32 := 0#32
  let v15274 : BitVec 1 := Scalar.cmpi .slt v15268 c0_i32_6013
  let v15275 : BitVec 32 := Scalar.extui v15274
  let v15276 : BitVec 32 := Scalar.subi v15273 v15275
  let c128_i32_6011 : BitVec 32 := 128#32
  let c0_i32_6014 : BitVec 32 := 0#32
  let v15277 : BitVec 1 := Scalar.cmpi .sgt c128_i32_6011 c0_i32_6014
  let v15278 : BitVec 32 := Scalar.extui v15277
  let c0_i32_6015 : BitVec 32 := 0#32
  let v15279 : BitVec 1 := Scalar.cmpi .slt c128_i32_6011 c0_i32_6015
  let v15280 : BitVec 32 := Scalar.extui v15279
  let v15281 : BitVec 32 := Scalar.subi v15278 v15280
  let v15282 : BitVec 1 := Scalar.cmpi .ne v15276 v15281
  let v15283 : BitVec 32 := Scalar.remsi v15268 c128_i32_6011
  let c0_i32_6016 : BitVec 32 := 0#32
  let v15284 : BitVec 1 := Scalar.cmpi .ne v15283 c0_i32_6016
  let v15285 : BitVec 1 := Scalar.andi v15282 v15284
  let v15271 : BitVec 32 := Scalar.divsi v15268 c128_i32_6011
  let c1_i32_6017 : BitVec 32 := 1#32
  let v15286 : BitVec 32 := Scalar.subi v15271 c1_i32_6017
  let v15287 : BitVec 32 := Scalar.select v15285 v15286 v15271
  let c128_i32_6018 : BitVec 32 := 128#32
  let v15288 : BitVec 32 := Scalar.muli v15287 c128_i32_6018
  let v15289 : BitVec 32 := v15288
  let v15292 : Index := Scalar.indexCast v15289
  ![v15291.toNat, 0, v15292.toNat]

def k1_chk268 (v15266 : BitVec 32) (v15268 : BitVec 32) : Prop :=
  (128 ∣ (k1_mult268 v15268).toNat) ∧
  (∀ a, (k1_off837 v15266 v15268) a + S1x16x512.size a ≤ S384x16x1152.size a)
theorem k1_mult268_dvd : ∀ (v15266 : BitVec 32) (v15268 : BitVec 32) (k1_hw268 : k1_chk268 v15266 v15268), 128 ∣ (k1_mult268 v15268).toNat := fun v15266 v15268 k1_hw268 => k1_hw268.1
theorem k1_off837_inb : ∀ (v15266 : BitVec 32) (v15268 : BitVec 32) (k1_hw268 : k1_chk268 v15266 v15268), ∀ a, (k1_off837 v15266 v15268) a + S1x16x512.size a ≤ S384x16x1152.size a := fun v15266 v15268 k1_hw268 => k1_hw268.2

def k1_off838 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15302 : Index := Scalar.indexCast v15085
  let c3_6022 : Index := 3#32
  ![v15302.toNat, 3]
def k1_off839 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15318 : Index := Scalar.indexCast v15085
  let c4_6028 : Index := 4#32
  ![v15318.toNat, 4]
def k1_mult269 (v15321 : BitVec 32) : BitVec 32 :=
  let c0_i32_6032 : BitVec 32 := 0#32
  let v15325 : BitVec 1 := Scalar.cmpi .sgt v15321 c0_i32_6032
  let v15326 : BitVec 32 := Scalar.extui v15325
  let c0_i32_6033 : BitVec 32 := 0#32
  let v15327 : BitVec 1 := Scalar.cmpi .slt v15321 c0_i32_6033
  let v15328 : BitVec 32 := Scalar.extui v15327
  let v15329 : BitVec 32 := Scalar.subi v15326 v15328
  let c128_i32_6031 : BitVec 32 := 128#32
  let c0_i32_6034 : BitVec 32 := 0#32
  let v15330 : BitVec 1 := Scalar.cmpi .sgt c128_i32_6031 c0_i32_6034
  let v15331 : BitVec 32 := Scalar.extui v15330
  let c0_i32_6035 : BitVec 32 := 0#32
  let v15332 : BitVec 1 := Scalar.cmpi .slt c128_i32_6031 c0_i32_6035
  let v15333 : BitVec 32 := Scalar.extui v15332
  let v15334 : BitVec 32 := Scalar.subi v15331 v15333
  let v15335 : BitVec 1 := Scalar.cmpi .ne v15329 v15334
  let v15336 : BitVec 32 := Scalar.remsi v15321 c128_i32_6031
  let c0_i32_6036 : BitVec 32 := 0#32
  let v15337 : BitVec 1 := Scalar.cmpi .ne v15336 c0_i32_6036
  let v15338 : BitVec 1 := Scalar.andi v15335 v15337
  let v15324 : BitVec 32 := Scalar.divsi v15321 c128_i32_6031
  let c1_i32_6037 : BitVec 32 := 1#32
  let v15339 : BitVec 32 := Scalar.subi v15324 c1_i32_6037
  let v15340 : BitVec 32 := Scalar.select v15338 v15339 v15324
  let c128_i32_6038 : BitVec 32 := 128#32
  let v15341 : BitVec 32 := Scalar.muli v15340 c128_i32_6038
  v15341

def k1_off840 (v15319 : BitVec 32) (v15321 : BitVec 32) : Fin 3 → Nat :=
  let v15344 : Index := Scalar.indexCast v15319
  let c0_6039 : Index := 0#32
  let c0_i32_6032 : BitVec 32 := 0#32
  let v15325 : BitVec 1 := Scalar.cmpi .sgt v15321 c0_i32_6032
  let v15326 : BitVec 32 := Scalar.extui v15325
  let c0_i32_6033 : BitVec 32 := 0#32
  let v15327 : BitVec 1 := Scalar.cmpi .slt v15321 c0_i32_6033
  let v15328 : BitVec 32 := Scalar.extui v15327
  let v15329 : BitVec 32 := Scalar.subi v15326 v15328
  let c128_i32_6031 : BitVec 32 := 128#32
  let c0_i32_6034 : BitVec 32 := 0#32
  let v15330 : BitVec 1 := Scalar.cmpi .sgt c128_i32_6031 c0_i32_6034
  let v15331 : BitVec 32 := Scalar.extui v15330
  let c0_i32_6035 : BitVec 32 := 0#32
  let v15332 : BitVec 1 := Scalar.cmpi .slt c128_i32_6031 c0_i32_6035
  let v15333 : BitVec 32 := Scalar.extui v15332
  let v15334 : BitVec 32 := Scalar.subi v15331 v15333
  let v15335 : BitVec 1 := Scalar.cmpi .ne v15329 v15334
  let v15336 : BitVec 32 := Scalar.remsi v15321 c128_i32_6031
  let c0_i32_6036 : BitVec 32 := 0#32
  let v15337 : BitVec 1 := Scalar.cmpi .ne v15336 c0_i32_6036
  let v15338 : BitVec 1 := Scalar.andi v15335 v15337
  let v15324 : BitVec 32 := Scalar.divsi v15321 c128_i32_6031
  let c1_i32_6037 : BitVec 32 := 1#32
  let v15339 : BitVec 32 := Scalar.subi v15324 c1_i32_6037
  let v15340 : BitVec 32 := Scalar.select v15338 v15339 v15324
  let c128_i32_6038 : BitVec 32 := 128#32
  let v15341 : BitVec 32 := Scalar.muli v15340 c128_i32_6038
  let v15342 : BitVec 32 := v15341
  let v15345 : Index := Scalar.indexCast v15342
  ![v15344.toNat, 0, v15345.toNat]

def k1_chk269 (v15319 : BitVec 32) (v15321 : BitVec 32) : Prop :=
  (128 ∣ (k1_mult269 v15321).toNat) ∧
  (∀ a, (k1_off840 v15319 v15321) a + S1x16x512.size a ≤ S384x16x1152.size a)
theorem k1_mult269_dvd : ∀ (v15319 : BitVec 32) (v15321 : BitVec 32) (k1_hw269 : k1_chk269 v15319 v15321), 128 ∣ (k1_mult269 v15321).toNat := fun v15319 v15321 k1_hw269 => k1_hw269.1
theorem k1_off840_inb : ∀ (v15319 : BitVec 32) (v15321 : BitVec 32) (k1_hw269 : k1_chk269 v15319 v15321), ∀ a, (k1_off840 v15319 v15321) a + S1x16x512.size a ≤ S384x16x1152.size a := fun v15319 v15321 k1_hw269 => k1_hw269.2

def k1_off841 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15355 : Index := Scalar.indexCast v15085
  let c4_6042 : Index := 4#32
  ![v15355.toNat, 4]
def k1_off842 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15371 : Index := Scalar.indexCast v15085
  let c5_6048 : Index := 5#32
  ![v15371.toNat, 5]
def k1_mult270 (v15374 : BitVec 32) : BitVec 32 :=
  let c0_i32_6052 : BitVec 32 := 0#32
  let v15378 : BitVec 1 := Scalar.cmpi .sgt v15374 c0_i32_6052
  let v15379 : BitVec 32 := Scalar.extui v15378
  let c0_i32_6053 : BitVec 32 := 0#32
  let v15380 : BitVec 1 := Scalar.cmpi .slt v15374 c0_i32_6053
  let v15381 : BitVec 32 := Scalar.extui v15380
  let v15382 : BitVec 32 := Scalar.subi v15379 v15381
  let c128_i32_6051 : BitVec 32 := 128#32
  let c0_i32_6054 : BitVec 32 := 0#32
  let v15383 : BitVec 1 := Scalar.cmpi .sgt c128_i32_6051 c0_i32_6054
  let v15384 : BitVec 32 := Scalar.extui v15383
  let c0_i32_6055 : BitVec 32 := 0#32
  let v15385 : BitVec 1 := Scalar.cmpi .slt c128_i32_6051 c0_i32_6055
  let v15386 : BitVec 32 := Scalar.extui v15385
  let v15387 : BitVec 32 := Scalar.subi v15384 v15386
  let v15388 : BitVec 1 := Scalar.cmpi .ne v15382 v15387
  let v15389 : BitVec 32 := Scalar.remsi v15374 c128_i32_6051
  let c0_i32_6056 : BitVec 32 := 0#32
  let v15390 : BitVec 1 := Scalar.cmpi .ne v15389 c0_i32_6056
  let v15391 : BitVec 1 := Scalar.andi v15388 v15390
  let v15377 : BitVec 32 := Scalar.divsi v15374 c128_i32_6051
  let c1_i32_6057 : BitVec 32 := 1#32
  let v15392 : BitVec 32 := Scalar.subi v15377 c1_i32_6057
  let v15393 : BitVec 32 := Scalar.select v15391 v15392 v15377
  let c128_i32_6058 : BitVec 32 := 128#32
  let v15394 : BitVec 32 := Scalar.muli v15393 c128_i32_6058
  v15394

def k1_off843 (v15372 : BitVec 32) (v15374 : BitVec 32) : Fin 3 → Nat :=
  let v15397 : Index := Scalar.indexCast v15372
  let c0_6059 : Index := 0#32
  let c0_i32_6052 : BitVec 32 := 0#32
  let v15378 : BitVec 1 := Scalar.cmpi .sgt v15374 c0_i32_6052
  let v15379 : BitVec 32 := Scalar.extui v15378
  let c0_i32_6053 : BitVec 32 := 0#32
  let v15380 : BitVec 1 := Scalar.cmpi .slt v15374 c0_i32_6053
  let v15381 : BitVec 32 := Scalar.extui v15380
  let v15382 : BitVec 32 := Scalar.subi v15379 v15381
  let c128_i32_6051 : BitVec 32 := 128#32
  let c0_i32_6054 : BitVec 32 := 0#32
  let v15383 : BitVec 1 := Scalar.cmpi .sgt c128_i32_6051 c0_i32_6054
  let v15384 : BitVec 32 := Scalar.extui v15383
  let c0_i32_6055 : BitVec 32 := 0#32
  let v15385 : BitVec 1 := Scalar.cmpi .slt c128_i32_6051 c0_i32_6055
  let v15386 : BitVec 32 := Scalar.extui v15385
  let v15387 : BitVec 32 := Scalar.subi v15384 v15386
  let v15388 : BitVec 1 := Scalar.cmpi .ne v15382 v15387
  let v15389 : BitVec 32 := Scalar.remsi v15374 c128_i32_6051
  let c0_i32_6056 : BitVec 32 := 0#32
  let v15390 : BitVec 1 := Scalar.cmpi .ne v15389 c0_i32_6056
  let v15391 : BitVec 1 := Scalar.andi v15388 v15390
  let v15377 : BitVec 32 := Scalar.divsi v15374 c128_i32_6051
  let c1_i32_6057 : BitVec 32 := 1#32
  let v15392 : BitVec 32 := Scalar.subi v15377 c1_i32_6057
  let v15393 : BitVec 32 := Scalar.select v15391 v15392 v15377
  let c128_i32_6058 : BitVec 32 := 128#32
  let v15394 : BitVec 32 := Scalar.muli v15393 c128_i32_6058
  let v15395 : BitVec 32 := v15394
  let v15398 : Index := Scalar.indexCast v15395
  ![v15397.toNat, 0, v15398.toNat]

def k1_chk270 (v15372 : BitVec 32) (v15374 : BitVec 32) : Prop :=
  (128 ∣ (k1_mult270 v15374).toNat) ∧
  (∀ a, (k1_off843 v15372 v15374) a + S1x16x512.size a ≤ S384x16x1152.size a)
theorem k1_mult270_dvd : ∀ (v15372 : BitVec 32) (v15374 : BitVec 32) (k1_hw270 : k1_chk270 v15372 v15374), 128 ∣ (k1_mult270 v15374).toNat := fun v15372 v15374 k1_hw270 => k1_hw270.1
theorem k1_off843_inb : ∀ (v15372 : BitVec 32) (v15374 : BitVec 32) (k1_hw270 : k1_chk270 v15372 v15374), ∀ a, (k1_off843 v15372 v15374) a + S1x16x512.size a ≤ S384x16x1152.size a := fun v15372 v15374 k1_hw270 => k1_hw270.2

def k1_off844 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15408 : Index := Scalar.indexCast v15085
  let c5_6062 : Index := 5#32
  ![v15408.toNat, 5]
def k1_off845 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15424 : Index := Scalar.indexCast v15085
  let c6_6068 : Index := 6#32
  ![v15424.toNat, 6]
def k1_mult271 (v15427 : BitVec 32) : BitVec 32 :=
  let c0_i32_6072 : BitVec 32 := 0#32
  let v15431 : BitVec 1 := Scalar.cmpi .sgt v15427 c0_i32_6072
  let v15432 : BitVec 32 := Scalar.extui v15431
  let c0_i32_6073 : BitVec 32 := 0#32
  let v15433 : BitVec 1 := Scalar.cmpi .slt v15427 c0_i32_6073
  let v15434 : BitVec 32 := Scalar.extui v15433
  let v15435 : BitVec 32 := Scalar.subi v15432 v15434
  let c128_i32_6071 : BitVec 32 := 128#32
  let c0_i32_6074 : BitVec 32 := 0#32
  let v15436 : BitVec 1 := Scalar.cmpi .sgt c128_i32_6071 c0_i32_6074
  let v15437 : BitVec 32 := Scalar.extui v15436
  let c0_i32_6075 : BitVec 32 := 0#32
  let v15438 : BitVec 1 := Scalar.cmpi .slt c128_i32_6071 c0_i32_6075
  let v15439 : BitVec 32 := Scalar.extui v15438
  let v15440 : BitVec 32 := Scalar.subi v15437 v15439
  let v15441 : BitVec 1 := Scalar.cmpi .ne v15435 v15440
  let v15442 : BitVec 32 := Scalar.remsi v15427 c128_i32_6071
  let c0_i32_6076 : BitVec 32 := 0#32
  let v15443 : BitVec 1 := Scalar.cmpi .ne v15442 c0_i32_6076
  let v15444 : BitVec 1 := Scalar.andi v15441 v15443
  let v15430 : BitVec 32 := Scalar.divsi v15427 c128_i32_6071
  let c1_i32_6077 : BitVec 32 := 1#32
  let v15445 : BitVec 32 := Scalar.subi v15430 c1_i32_6077
  let v15446 : BitVec 32 := Scalar.select v15444 v15445 v15430
  let c128_i32_6078 : BitVec 32 := 128#32
  let v15447 : BitVec 32 := Scalar.muli v15446 c128_i32_6078
  v15447

def k1_off846 (v15425 : BitVec 32) (v15427 : BitVec 32) : Fin 3 → Nat :=
  let v15450 : Index := Scalar.indexCast v15425
  let c0_6079 : Index := 0#32
  let c0_i32_6072 : BitVec 32 := 0#32
  let v15431 : BitVec 1 := Scalar.cmpi .sgt v15427 c0_i32_6072
  let v15432 : BitVec 32 := Scalar.extui v15431
  let c0_i32_6073 : BitVec 32 := 0#32
  let v15433 : BitVec 1 := Scalar.cmpi .slt v15427 c0_i32_6073
  let v15434 : BitVec 32 := Scalar.extui v15433
  let v15435 : BitVec 32 := Scalar.subi v15432 v15434
  let c128_i32_6071 : BitVec 32 := 128#32
  let c0_i32_6074 : BitVec 32 := 0#32
  let v15436 : BitVec 1 := Scalar.cmpi .sgt c128_i32_6071 c0_i32_6074
  let v15437 : BitVec 32 := Scalar.extui v15436
  let c0_i32_6075 : BitVec 32 := 0#32
  let v15438 : BitVec 1 := Scalar.cmpi .slt c128_i32_6071 c0_i32_6075
  let v15439 : BitVec 32 := Scalar.extui v15438
  let v15440 : BitVec 32 := Scalar.subi v15437 v15439
  let v15441 : BitVec 1 := Scalar.cmpi .ne v15435 v15440
  let v15442 : BitVec 32 := Scalar.remsi v15427 c128_i32_6071
  let c0_i32_6076 : BitVec 32 := 0#32
  let v15443 : BitVec 1 := Scalar.cmpi .ne v15442 c0_i32_6076
  let v15444 : BitVec 1 := Scalar.andi v15441 v15443
  let v15430 : BitVec 32 := Scalar.divsi v15427 c128_i32_6071
  let c1_i32_6077 : BitVec 32 := 1#32
  let v15445 : BitVec 32 := Scalar.subi v15430 c1_i32_6077
  let v15446 : BitVec 32 := Scalar.select v15444 v15445 v15430
  let c128_i32_6078 : BitVec 32 := 128#32
  let v15447 : BitVec 32 := Scalar.muli v15446 c128_i32_6078
  let v15448 : BitVec 32 := v15447
  let v15451 : Index := Scalar.indexCast v15448
  ![v15450.toNat, 0, v15451.toNat]

def k1_chk271 (v15425 : BitVec 32) (v15427 : BitVec 32) : Prop :=
  (128 ∣ (k1_mult271 v15427).toNat) ∧
  (∀ a, (k1_off846 v15425 v15427) a + S1x16x512.size a ≤ S384x16x1152.size a)
theorem k1_mult271_dvd : ∀ (v15425 : BitVec 32) (v15427 : BitVec 32) (k1_hw271 : k1_chk271 v15425 v15427), 128 ∣ (k1_mult271 v15427).toNat := fun v15425 v15427 k1_hw271 => k1_hw271.1
theorem k1_off846_inb : ∀ (v15425 : BitVec 32) (v15427 : BitVec 32) (k1_hw271 : k1_chk271 v15425 v15427), ∀ a, (k1_off846 v15425 v15427) a + S1x16x512.size a ≤ S384x16x1152.size a := fun v15425 v15427 k1_hw271 => k1_hw271.2

def k1_off847 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15461 : Index := Scalar.indexCast v15085
  let c6_6082 : Index := 6#32
  ![v15461.toNat, 6]
def k1_off848 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15477 : Index := Scalar.indexCast v15085
  let c7_6088 : Index := 7#32
  ![v15477.toNat, 7]
def k1_mult272 (v15480 : BitVec 32) : BitVec 32 :=
  let c0_i32_6092 : BitVec 32 := 0#32
  let v15484 : BitVec 1 := Scalar.cmpi .sgt v15480 c0_i32_6092
  let v15485 : BitVec 32 := Scalar.extui v15484
  let c0_i32_6093 : BitVec 32 := 0#32
  let v15486 : BitVec 1 := Scalar.cmpi .slt v15480 c0_i32_6093
  let v15487 : BitVec 32 := Scalar.extui v15486
  let v15488 : BitVec 32 := Scalar.subi v15485 v15487
  let c128_i32_6091 : BitVec 32 := 128#32
  let c0_i32_6094 : BitVec 32 := 0#32
  let v15489 : BitVec 1 := Scalar.cmpi .sgt c128_i32_6091 c0_i32_6094
  let v15490 : BitVec 32 := Scalar.extui v15489
  let c0_i32_6095 : BitVec 32 := 0#32
  let v15491 : BitVec 1 := Scalar.cmpi .slt c128_i32_6091 c0_i32_6095
  let v15492 : BitVec 32 := Scalar.extui v15491
  let v15493 : BitVec 32 := Scalar.subi v15490 v15492
  let v15494 : BitVec 1 := Scalar.cmpi .ne v15488 v15493
  let v15495 : BitVec 32 := Scalar.remsi v15480 c128_i32_6091
  let c0_i32_6096 : BitVec 32 := 0#32
  let v15496 : BitVec 1 := Scalar.cmpi .ne v15495 c0_i32_6096
  let v15497 : BitVec 1 := Scalar.andi v15494 v15496
  let v15483 : BitVec 32 := Scalar.divsi v15480 c128_i32_6091
  let c1_i32_6097 : BitVec 32 := 1#32
  let v15498 : BitVec 32 := Scalar.subi v15483 c1_i32_6097
  let v15499 : BitVec 32 := Scalar.select v15497 v15498 v15483
  let c128_i32_6098 : BitVec 32 := 128#32
  let v15500 : BitVec 32 := Scalar.muli v15499 c128_i32_6098
  v15500

def k1_off849 (v15478 : BitVec 32) (v15480 : BitVec 32) : Fin 3 → Nat :=
  let v15503 : Index := Scalar.indexCast v15478
  let c0_6099 : Index := 0#32
  let c0_i32_6092 : BitVec 32 := 0#32
  let v15484 : BitVec 1 := Scalar.cmpi .sgt v15480 c0_i32_6092
  let v15485 : BitVec 32 := Scalar.extui v15484
  let c0_i32_6093 : BitVec 32 := 0#32
  let v15486 : BitVec 1 := Scalar.cmpi .slt v15480 c0_i32_6093
  let v15487 : BitVec 32 := Scalar.extui v15486
  let v15488 : BitVec 32 := Scalar.subi v15485 v15487
  let c128_i32_6091 : BitVec 32 := 128#32
  let c0_i32_6094 : BitVec 32 := 0#32
  let v15489 : BitVec 1 := Scalar.cmpi .sgt c128_i32_6091 c0_i32_6094
  let v15490 : BitVec 32 := Scalar.extui v15489
  let c0_i32_6095 : BitVec 32 := 0#32
  let v15491 : BitVec 1 := Scalar.cmpi .slt c128_i32_6091 c0_i32_6095
  let v15492 : BitVec 32 := Scalar.extui v15491
  let v15493 : BitVec 32 := Scalar.subi v15490 v15492
  let v15494 : BitVec 1 := Scalar.cmpi .ne v15488 v15493
  let v15495 : BitVec 32 := Scalar.remsi v15480 c128_i32_6091
  let c0_i32_6096 : BitVec 32 := 0#32
  let v15496 : BitVec 1 := Scalar.cmpi .ne v15495 c0_i32_6096
  let v15497 : BitVec 1 := Scalar.andi v15494 v15496
  let v15483 : BitVec 32 := Scalar.divsi v15480 c128_i32_6091
  let c1_i32_6097 : BitVec 32 := 1#32
  let v15498 : BitVec 32 := Scalar.subi v15483 c1_i32_6097
  let v15499 : BitVec 32 := Scalar.select v15497 v15498 v15483
  let c128_i32_6098 : BitVec 32 := 128#32
  let v15500 : BitVec 32 := Scalar.muli v15499 c128_i32_6098
  let v15501 : BitVec 32 := v15500
  let v15504 : Index := Scalar.indexCast v15501
  ![v15503.toNat, 0, v15504.toNat]

def k1_chk272 (v15478 : BitVec 32) (v15480 : BitVec 32) : Prop :=
  (128 ∣ (k1_mult272 v15480).toNat) ∧
  (∀ a, (k1_off849 v15478 v15480) a + S1x16x512.size a ≤ S384x16x1152.size a)
theorem k1_mult272_dvd : ∀ (v15478 : BitVec 32) (v15480 : BitVec 32) (k1_hw272 : k1_chk272 v15478 v15480), 128 ∣ (k1_mult272 v15480).toNat := fun v15478 v15480 k1_hw272 => k1_hw272.1
theorem k1_off849_inb : ∀ (v15478 : BitVec 32) (v15480 : BitVec 32) (k1_hw272 : k1_chk272 v15478 v15480), ∀ a, (k1_off849 v15478 v15480) a + S1x16x512.size a ≤ S384x16x1152.size a := fun v15478 v15480 k1_hw272 => k1_hw272.2

def k1_off850 (i : grid1.Coords) : Fin 2 → Nat :=
  let arg0 : BitVec 32 := BitVec.ofNat 32 (i 0).val
  let c48_i32_5937 : BitVec 32 := 48#32
  let v15084 : BitVec 32 := Scalar.muli arg0 c48_i32_5937
  let c33_i32 : BitVec 32 := 33#32
  let v15085 : BitVec 32 := Scalar.addi v15084 c33_i32
  let v15514 : Index := Scalar.indexCast v15085
  let c7_6102 : Index := 7#32
  ![v15514.toNat, 7]
def k1_off851 (i : grid1.Coords) : Fin 3 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15543 : Index := Scalar.indexCast v15542
  let c0_6118 : Index := 0#32
  let c720_6119 : Index := 720#32
  ![v15543.toNat, 0, 720]
def k1_off852 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15563 : Index := Scalar.indexCast v15542
  let c0_6128 : Index := 0#32
  ![v15563.toNat, 0]
def k1_mult273 (v15566 : BitVec 32) : BitVec 32 :=
  let c0_i32_6132 : BitVec 32 := 0#32
  let v15570 : BitVec 1 := Scalar.cmpi .sgt v15566 c0_i32_6132
  let v15571 : BitVec 32 := Scalar.extui v15570
  let c0_i32_6133 : BitVec 32 := 0#32
  let v15572 : BitVec 1 := Scalar.cmpi .slt v15566 c0_i32_6133
  let v15573 : BitVec 32 := Scalar.extui v15572
  let v15574 : BitVec 32 := Scalar.subi v15571 v15573
  let c128_i32_6131 : BitVec 32 := 128#32
  let c0_i32_6134 : BitVec 32 := 0#32
  let v15575 : BitVec 1 := Scalar.cmpi .sgt c128_i32_6131 c0_i32_6134
  let v15576 : BitVec 32 := Scalar.extui v15575
  let c0_i32_6135 : BitVec 32 := 0#32
  let v15577 : BitVec 1 := Scalar.cmpi .slt c128_i32_6131 c0_i32_6135
  let v15578 : BitVec 32 := Scalar.extui v15577
  let v15579 : BitVec 32 := Scalar.subi v15576 v15578
  let v15580 : BitVec 1 := Scalar.cmpi .ne v15574 v15579
  let v15581 : BitVec 32 := Scalar.remsi v15566 c128_i32_6131
  let c0_i32_6136 : BitVec 32 := 0#32
  let v15582 : BitVec 1 := Scalar.cmpi .ne v15581 c0_i32_6136
  let v15583 : BitVec 1 := Scalar.andi v15580 v15582
  let v15569 : BitVec 32 := Scalar.divsi v15566 c128_i32_6131
  let c1_i32_6137 : BitVec 32 := 1#32
  let v15584 : BitVec 32 := Scalar.subi v15569 c1_i32_6137
  let v15585 : BitVec 32 := Scalar.select v15583 v15584 v15569
  let c128_i32_6138 : BitVec 32 := 128#32
  let v15586 : BitVec 32 := Scalar.muli v15585 c128_i32_6138
  v15586

def k1_off853 (v15564 : BitVec 32) (v15566 : BitVec 32) : Fin 3 → Nat :=
  let v15589 : Index := Scalar.indexCast v15564
  let c0_6139 : Index := 0#32
  let c0_i32_6132 : BitVec 32 := 0#32
  let v15570 : BitVec 1 := Scalar.cmpi .sgt v15566 c0_i32_6132
  let v15571 : BitVec 32 := Scalar.extui v15570
  let c0_i32_6133 : BitVec 32 := 0#32
  let v15572 : BitVec 1 := Scalar.cmpi .slt v15566 c0_i32_6133
  let v15573 : BitVec 32 := Scalar.extui v15572
  let v15574 : BitVec 32 := Scalar.subi v15571 v15573
  let c128_i32_6131 : BitVec 32 := 128#32
  let c0_i32_6134 : BitVec 32 := 0#32
  let v15575 : BitVec 1 := Scalar.cmpi .sgt c128_i32_6131 c0_i32_6134
  let v15576 : BitVec 32 := Scalar.extui v15575
  let c0_i32_6135 : BitVec 32 := 0#32
  let v15577 : BitVec 1 := Scalar.cmpi .slt c128_i32_6131 c0_i32_6135
  let v15578 : BitVec 32 := Scalar.extui v15577
  let v15579 : BitVec 32 := Scalar.subi v15576 v15578
  let v15580 : BitVec 1 := Scalar.cmpi .ne v15574 v15579
  let v15581 : BitVec 32 := Scalar.remsi v15566 c128_i32_6131
  let c0_i32_6136 : BitVec 32 := 0#32
  let v15582 : BitVec 1 := Scalar.cmpi .ne v15581 c0_i32_6136
  let v15583 : BitVec 1 := Scalar.andi v15580 v15582
  let v15569 : BitVec 32 := Scalar.divsi v15566 c128_i32_6131
  let c1_i32_6137 : BitVec 32 := 1#32
  let v15584 : BitVec 32 := Scalar.subi v15569 c1_i32_6137
  let v15585 : BitVec 32 := Scalar.select v15583 v15584 v15569
  let c128_i32_6138 : BitVec 32 := 128#32
  let v15586 : BitVec 32 := Scalar.muli v15585 c128_i32_6138
  let v15587 : BitVec 32 := v15586
  let v15590 : Index := Scalar.indexCast v15587
  ![v15589.toNat, 0, v15590.toNat]

def k1_chk273 (v15564 : BitVec 32) (v15566 : BitVec 32) : Prop :=
  (128 ∣ (k1_mult273 v15566).toNat) ∧
  (∀ a, (k1_off853 v15564 v15566) a + S1x16x512.size a ≤ S384x16x1152.size a)
theorem k1_mult273_dvd : ∀ (v15564 : BitVec 32) (v15566 : BitVec 32) (k1_hw273 : k1_chk273 v15564 v15566), 128 ∣ (k1_mult273 v15566).toNat := fun v15564 v15566 k1_hw273 => k1_hw273.1
theorem k1_off853_inb : ∀ (v15564 : BitVec 32) (v15566 : BitVec 32) (k1_hw273 : k1_chk273 v15564 v15566), ∀ a, (k1_off853 v15564 v15566) a + S1x16x512.size a ≤ S384x16x1152.size a := fun v15564 v15566 k1_hw273 => k1_hw273.2

def k1_off854 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15600 : Index := Scalar.indexCast v15542
  let c0_6142 : Index := 0#32
  ![v15600.toNat, 0]
def k1_off855 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15616 : Index := Scalar.indexCast v15542
  let c1_6148 : Index := 1#32
  ![v15616.toNat, 1]
def k1_mult274 (v15619 : BitVec 32) : BitVec 32 :=
  let c0_i32_6152 : BitVec 32 := 0#32
  let v15623 : BitVec 1 := Scalar.cmpi .sgt v15619 c0_i32_6152
  let v15624 : BitVec 32 := Scalar.extui v15623
  let c0_i32_6153 : BitVec 32 := 0#32
  let v15625 : BitVec 1 := Scalar.cmpi .slt v15619 c0_i32_6153
  let v15626 : BitVec 32 := Scalar.extui v15625
  let v15627 : BitVec 32 := Scalar.subi v15624 v15626
  let c128_i32_6151 : BitVec 32 := 128#32
  let c0_i32_6154 : BitVec 32 := 0#32
  let v15628 : BitVec 1 := Scalar.cmpi .sgt c128_i32_6151 c0_i32_6154
  let v15629 : BitVec 32 := Scalar.extui v15628
  let c0_i32_6155 : BitVec 32 := 0#32
  let v15630 : BitVec 1 := Scalar.cmpi .slt c128_i32_6151 c0_i32_6155
  let v15631 : BitVec 32 := Scalar.extui v15630
  let v15632 : BitVec 32 := Scalar.subi v15629 v15631
  let v15633 : BitVec 1 := Scalar.cmpi .ne v15627 v15632
  let v15634 : BitVec 32 := Scalar.remsi v15619 c128_i32_6151
  let c0_i32_6156 : BitVec 32 := 0#32
  let v15635 : BitVec 1 := Scalar.cmpi .ne v15634 c0_i32_6156
  let v15636 : BitVec 1 := Scalar.andi v15633 v15635
  let v15622 : BitVec 32 := Scalar.divsi v15619 c128_i32_6151
  let c1_i32_6157 : BitVec 32 := 1#32
  let v15637 : BitVec 32 := Scalar.subi v15622 c1_i32_6157
  let v15638 : BitVec 32 := Scalar.select v15636 v15637 v15622
  let c128_i32_6158 : BitVec 32 := 128#32
  let v15639 : BitVec 32 := Scalar.muli v15638 c128_i32_6158
  v15639

def k1_off856 (v15617 : BitVec 32) (v15619 : BitVec 32) : Fin 3 → Nat :=
  let v15642 : Index := Scalar.indexCast v15617
  let c0_6159 : Index := 0#32
  let c0_i32_6152 : BitVec 32 := 0#32
  let v15623 : BitVec 1 := Scalar.cmpi .sgt v15619 c0_i32_6152
  let v15624 : BitVec 32 := Scalar.extui v15623
  let c0_i32_6153 : BitVec 32 := 0#32
  let v15625 : BitVec 1 := Scalar.cmpi .slt v15619 c0_i32_6153
  let v15626 : BitVec 32 := Scalar.extui v15625
  let v15627 : BitVec 32 := Scalar.subi v15624 v15626
  let c128_i32_6151 : BitVec 32 := 128#32
  let c0_i32_6154 : BitVec 32 := 0#32
  let v15628 : BitVec 1 := Scalar.cmpi .sgt c128_i32_6151 c0_i32_6154
  let v15629 : BitVec 32 := Scalar.extui v15628
  let c0_i32_6155 : BitVec 32 := 0#32
  let v15630 : BitVec 1 := Scalar.cmpi .slt c128_i32_6151 c0_i32_6155
  let v15631 : BitVec 32 := Scalar.extui v15630
  let v15632 : BitVec 32 := Scalar.subi v15629 v15631
  let v15633 : BitVec 1 := Scalar.cmpi .ne v15627 v15632
  let v15634 : BitVec 32 := Scalar.remsi v15619 c128_i32_6151
  let c0_i32_6156 : BitVec 32 := 0#32
  let v15635 : BitVec 1 := Scalar.cmpi .ne v15634 c0_i32_6156
  let v15636 : BitVec 1 := Scalar.andi v15633 v15635
  let v15622 : BitVec 32 := Scalar.divsi v15619 c128_i32_6151
  let c1_i32_6157 : BitVec 32 := 1#32
  let v15637 : BitVec 32 := Scalar.subi v15622 c1_i32_6157
  let v15638 : BitVec 32 := Scalar.select v15636 v15637 v15622
  let c128_i32_6158 : BitVec 32 := 128#32
  let v15639 : BitVec 32 := Scalar.muli v15638 c128_i32_6158
  let v15640 : BitVec 32 := v15639
  let v15643 : Index := Scalar.indexCast v15640
  ![v15642.toNat, 0, v15643.toNat]

def k1_chk274 (v15617 : BitVec 32) (v15619 : BitVec 32) : Prop :=
  (128 ∣ (k1_mult274 v15619).toNat) ∧
  (∀ a, (k1_off856 v15617 v15619) a + S1x16x512.size a ≤ S384x16x1152.size a)
theorem k1_mult274_dvd : ∀ (v15617 : BitVec 32) (v15619 : BitVec 32) (k1_hw274 : k1_chk274 v15617 v15619), 128 ∣ (k1_mult274 v15619).toNat := fun v15617 v15619 k1_hw274 => k1_hw274.1
theorem k1_off856_inb : ∀ (v15617 : BitVec 32) (v15619 : BitVec 32) (k1_hw274 : k1_chk274 v15617 v15619), ∀ a, (k1_off856 v15617 v15619) a + S1x16x512.size a ≤ S384x16x1152.size a := fun v15617 v15619 k1_hw274 => k1_hw274.2

def k1_off857 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15653 : Index := Scalar.indexCast v15542
  let c1_6162 : Index := 1#32
  ![v15653.toNat, 1]
def k1_off858 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15669 : Index := Scalar.indexCast v15542
  let c2_6168 : Index := 2#32
  ![v15669.toNat, 2]
def k1_mult275 (v15672 : BitVec 32) : BitVec 32 :=
  let c0_i32_6172 : BitVec 32 := 0#32
  let v15676 : BitVec 1 := Scalar.cmpi .sgt v15672 c0_i32_6172
  let v15677 : BitVec 32 := Scalar.extui v15676
  let c0_i32_6173 : BitVec 32 := 0#32
  let v15678 : BitVec 1 := Scalar.cmpi .slt v15672 c0_i32_6173
  let v15679 : BitVec 32 := Scalar.extui v15678
  let v15680 : BitVec 32 := Scalar.subi v15677 v15679
  let c128_i32_6171 : BitVec 32 := 128#32
  let c0_i32_6174 : BitVec 32 := 0#32
  let v15681 : BitVec 1 := Scalar.cmpi .sgt c128_i32_6171 c0_i32_6174
  let v15682 : BitVec 32 := Scalar.extui v15681
  let c0_i32_6175 : BitVec 32 := 0#32
  let v15683 : BitVec 1 := Scalar.cmpi .slt c128_i32_6171 c0_i32_6175
  let v15684 : BitVec 32 := Scalar.extui v15683
  let v15685 : BitVec 32 := Scalar.subi v15682 v15684
  let v15686 : BitVec 1 := Scalar.cmpi .ne v15680 v15685
  let v15687 : BitVec 32 := Scalar.remsi v15672 c128_i32_6171
  let c0_i32_6176 : BitVec 32 := 0#32
  let v15688 : BitVec 1 := Scalar.cmpi .ne v15687 c0_i32_6176
  let v15689 : BitVec 1 := Scalar.andi v15686 v15688
  let v15675 : BitVec 32 := Scalar.divsi v15672 c128_i32_6171
  let c1_i32_6177 : BitVec 32 := 1#32
  let v15690 : BitVec 32 := Scalar.subi v15675 c1_i32_6177
  let v15691 : BitVec 32 := Scalar.select v15689 v15690 v15675
  let c128_i32_6178 : BitVec 32 := 128#32
  let v15692 : BitVec 32 := Scalar.muli v15691 c128_i32_6178
  v15692

def k1_off859 (v15670 : BitVec 32) (v15672 : BitVec 32) : Fin 3 → Nat :=
  let v15695 : Index := Scalar.indexCast v15670
  let c0_6179 : Index := 0#32
  let c0_i32_6172 : BitVec 32 := 0#32
  let v15676 : BitVec 1 := Scalar.cmpi .sgt v15672 c0_i32_6172
  let v15677 : BitVec 32 := Scalar.extui v15676
  let c0_i32_6173 : BitVec 32 := 0#32
  let v15678 : BitVec 1 := Scalar.cmpi .slt v15672 c0_i32_6173
  let v15679 : BitVec 32 := Scalar.extui v15678
  let v15680 : BitVec 32 := Scalar.subi v15677 v15679
  let c128_i32_6171 : BitVec 32 := 128#32
  let c0_i32_6174 : BitVec 32 := 0#32
  let v15681 : BitVec 1 := Scalar.cmpi .sgt c128_i32_6171 c0_i32_6174
  let v15682 : BitVec 32 := Scalar.extui v15681
  let c0_i32_6175 : BitVec 32 := 0#32
  let v15683 : BitVec 1 := Scalar.cmpi .slt c128_i32_6171 c0_i32_6175
  let v15684 : BitVec 32 := Scalar.extui v15683
  let v15685 : BitVec 32 := Scalar.subi v15682 v15684
  let v15686 : BitVec 1 := Scalar.cmpi .ne v15680 v15685
  let v15687 : BitVec 32 := Scalar.remsi v15672 c128_i32_6171
  let c0_i32_6176 : BitVec 32 := 0#32
  let v15688 : BitVec 1 := Scalar.cmpi .ne v15687 c0_i32_6176
  let v15689 : BitVec 1 := Scalar.andi v15686 v15688
  let v15675 : BitVec 32 := Scalar.divsi v15672 c128_i32_6171
  let c1_i32_6177 : BitVec 32 := 1#32
  let v15690 : BitVec 32 := Scalar.subi v15675 c1_i32_6177
  let v15691 : BitVec 32 := Scalar.select v15689 v15690 v15675
  let c128_i32_6178 : BitVec 32 := 128#32
  let v15692 : BitVec 32 := Scalar.muli v15691 c128_i32_6178
  let v15693 : BitVec 32 := v15692
  let v15696 : Index := Scalar.indexCast v15693
  ![v15695.toNat, 0, v15696.toNat]

def k1_chk275 (v15670 : BitVec 32) (v15672 : BitVec 32) : Prop :=
  (128 ∣ (k1_mult275 v15672).toNat) ∧
  (∀ a, (k1_off859 v15670 v15672) a + S1x16x512.size a ≤ S384x16x1152.size a)
theorem k1_mult275_dvd : ∀ (v15670 : BitVec 32) (v15672 : BitVec 32) (k1_hw275 : k1_chk275 v15670 v15672), 128 ∣ (k1_mult275 v15672).toNat := fun v15670 v15672 k1_hw275 => k1_hw275.1
theorem k1_off859_inb : ∀ (v15670 : BitVec 32) (v15672 : BitVec 32) (k1_hw275 : k1_chk275 v15670 v15672), ∀ a, (k1_off859 v15670 v15672) a + S1x16x512.size a ≤ S384x16x1152.size a := fun v15670 v15672 k1_hw275 => k1_hw275.2

def k1_off860 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15706 : Index := Scalar.indexCast v15542
  let c2_6182 : Index := 2#32
  ![v15706.toNat, 2]
def k1_off861 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15722 : Index := Scalar.indexCast v15542
  let c3_6188 : Index := 3#32
  ![v15722.toNat, 3]
def k1_mult276 (v15725 : BitVec 32) : BitVec 32 :=
  let c0_i32_6192 : BitVec 32 := 0#32
  let v15729 : BitVec 1 := Scalar.cmpi .sgt v15725 c0_i32_6192
  let v15730 : BitVec 32 := Scalar.extui v15729
  let c0_i32_6193 : BitVec 32 := 0#32
  let v15731 : BitVec 1 := Scalar.cmpi .slt v15725 c0_i32_6193
  let v15732 : BitVec 32 := Scalar.extui v15731
  let v15733 : BitVec 32 := Scalar.subi v15730 v15732
  let c128_i32_6191 : BitVec 32 := 128#32
  let c0_i32_6194 : BitVec 32 := 0#32
  let v15734 : BitVec 1 := Scalar.cmpi .sgt c128_i32_6191 c0_i32_6194
  let v15735 : BitVec 32 := Scalar.extui v15734
  let c0_i32_6195 : BitVec 32 := 0#32
  let v15736 : BitVec 1 := Scalar.cmpi .slt c128_i32_6191 c0_i32_6195
  let v15737 : BitVec 32 := Scalar.extui v15736
  let v15738 : BitVec 32 := Scalar.subi v15735 v15737
  let v15739 : BitVec 1 := Scalar.cmpi .ne v15733 v15738
  let v15740 : BitVec 32 := Scalar.remsi v15725 c128_i32_6191
  let c0_i32_6196 : BitVec 32 := 0#32
  let v15741 : BitVec 1 := Scalar.cmpi .ne v15740 c0_i32_6196
  let v15742 : BitVec 1 := Scalar.andi v15739 v15741
  let v15728 : BitVec 32 := Scalar.divsi v15725 c128_i32_6191
  let c1_i32_6197 : BitVec 32 := 1#32
  let v15743 : BitVec 32 := Scalar.subi v15728 c1_i32_6197
  let v15744 : BitVec 32 := Scalar.select v15742 v15743 v15728
  let c128_i32_6198 : BitVec 32 := 128#32
  let v15745 : BitVec 32 := Scalar.muli v15744 c128_i32_6198
  v15745

def k1_off862 (v15723 : BitVec 32) (v15725 : BitVec 32) : Fin 3 → Nat :=
  let v15748 : Index := Scalar.indexCast v15723
  let c0_6199 : Index := 0#32
  let c0_i32_6192 : BitVec 32 := 0#32
  let v15729 : BitVec 1 := Scalar.cmpi .sgt v15725 c0_i32_6192
  let v15730 : BitVec 32 := Scalar.extui v15729
  let c0_i32_6193 : BitVec 32 := 0#32
  let v15731 : BitVec 1 := Scalar.cmpi .slt v15725 c0_i32_6193
  let v15732 : BitVec 32 := Scalar.extui v15731
  let v15733 : BitVec 32 := Scalar.subi v15730 v15732
  let c128_i32_6191 : BitVec 32 := 128#32
  let c0_i32_6194 : BitVec 32 := 0#32
  let v15734 : BitVec 1 := Scalar.cmpi .sgt c128_i32_6191 c0_i32_6194
  let v15735 : BitVec 32 := Scalar.extui v15734
  let c0_i32_6195 : BitVec 32 := 0#32
  let v15736 : BitVec 1 := Scalar.cmpi .slt c128_i32_6191 c0_i32_6195
  let v15737 : BitVec 32 := Scalar.extui v15736
  let v15738 : BitVec 32 := Scalar.subi v15735 v15737
  let v15739 : BitVec 1 := Scalar.cmpi .ne v15733 v15738
  let v15740 : BitVec 32 := Scalar.remsi v15725 c128_i32_6191
  let c0_i32_6196 : BitVec 32 := 0#32
  let v15741 : BitVec 1 := Scalar.cmpi .ne v15740 c0_i32_6196
  let v15742 : BitVec 1 := Scalar.andi v15739 v15741
  let v15728 : BitVec 32 := Scalar.divsi v15725 c128_i32_6191
  let c1_i32_6197 : BitVec 32 := 1#32
  let v15743 : BitVec 32 := Scalar.subi v15728 c1_i32_6197
  let v15744 : BitVec 32 := Scalar.select v15742 v15743 v15728
  let c128_i32_6198 : BitVec 32 := 128#32
  let v15745 : BitVec 32 := Scalar.muli v15744 c128_i32_6198
  let v15746 : BitVec 32 := v15745
  let v15749 : Index := Scalar.indexCast v15746
  ![v15748.toNat, 0, v15749.toNat]

def k1_chk276 (v15723 : BitVec 32) (v15725 : BitVec 32) : Prop :=
  (128 ∣ (k1_mult276 v15725).toNat) ∧
  (∀ a, (k1_off862 v15723 v15725) a + S1x16x512.size a ≤ S384x16x1152.size a)
theorem k1_mult276_dvd : ∀ (v15723 : BitVec 32) (v15725 : BitVec 32) (k1_hw276 : k1_chk276 v15723 v15725), 128 ∣ (k1_mult276 v15725).toNat := fun v15723 v15725 k1_hw276 => k1_hw276.1
theorem k1_off862_inb : ∀ (v15723 : BitVec 32) (v15725 : BitVec 32) (k1_hw276 : k1_chk276 v15723 v15725), ∀ a, (k1_off862 v15723 v15725) a + S1x16x512.size a ≤ S384x16x1152.size a := fun v15723 v15725 k1_hw276 => k1_hw276.2

def k1_off863 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15759 : Index := Scalar.indexCast v15542
  let c3_6202 : Index := 3#32
  ![v15759.toNat, 3]
def k1_off864 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15775 : Index := Scalar.indexCast v15542
  let c4_6208 : Index := 4#32
  ![v15775.toNat, 4]
def k1_mult277 (v15778 : BitVec 32) : BitVec 32 :=
  let c0_i32_6212 : BitVec 32 := 0#32
  let v15782 : BitVec 1 := Scalar.cmpi .sgt v15778 c0_i32_6212
  let v15783 : BitVec 32 := Scalar.extui v15782
  let c0_i32_6213 : BitVec 32 := 0#32
  let v15784 : BitVec 1 := Scalar.cmpi .slt v15778 c0_i32_6213
  let v15785 : BitVec 32 := Scalar.extui v15784
  let v15786 : BitVec 32 := Scalar.subi v15783 v15785
  let c128_i32_6211 : BitVec 32 := 128#32
  let c0_i32_6214 : BitVec 32 := 0#32
  let v15787 : BitVec 1 := Scalar.cmpi .sgt c128_i32_6211 c0_i32_6214
  let v15788 : BitVec 32 := Scalar.extui v15787
  let c0_i32_6215 : BitVec 32 := 0#32
  let v15789 : BitVec 1 := Scalar.cmpi .slt c128_i32_6211 c0_i32_6215
  let v15790 : BitVec 32 := Scalar.extui v15789
  let v15791 : BitVec 32 := Scalar.subi v15788 v15790
  let v15792 : BitVec 1 := Scalar.cmpi .ne v15786 v15791
  let v15793 : BitVec 32 := Scalar.remsi v15778 c128_i32_6211
  let c0_i32_6216 : BitVec 32 := 0#32
  let v15794 : BitVec 1 := Scalar.cmpi .ne v15793 c0_i32_6216
  let v15795 : BitVec 1 := Scalar.andi v15792 v15794
  let v15781 : BitVec 32 := Scalar.divsi v15778 c128_i32_6211
  let c1_i32_6217 : BitVec 32 := 1#32
  let v15796 : BitVec 32 := Scalar.subi v15781 c1_i32_6217
  let v15797 : BitVec 32 := Scalar.select v15795 v15796 v15781
  let c128_i32_6218 : BitVec 32 := 128#32
  let v15798 : BitVec 32 := Scalar.muli v15797 c128_i32_6218
  v15798

def k1_off865 (v15776 : BitVec 32) (v15778 : BitVec 32) : Fin 3 → Nat :=
  let v15801 : Index := Scalar.indexCast v15776
  let c0_6219 : Index := 0#32
  let c0_i32_6212 : BitVec 32 := 0#32
  let v15782 : BitVec 1 := Scalar.cmpi .sgt v15778 c0_i32_6212
  let v15783 : BitVec 32 := Scalar.extui v15782
  let c0_i32_6213 : BitVec 32 := 0#32
  let v15784 : BitVec 1 := Scalar.cmpi .slt v15778 c0_i32_6213
  let v15785 : BitVec 32 := Scalar.extui v15784
  let v15786 : BitVec 32 := Scalar.subi v15783 v15785
  let c128_i32_6211 : BitVec 32 := 128#32
  let c0_i32_6214 : BitVec 32 := 0#32
  let v15787 : BitVec 1 := Scalar.cmpi .sgt c128_i32_6211 c0_i32_6214
  let v15788 : BitVec 32 := Scalar.extui v15787
  let c0_i32_6215 : BitVec 32 := 0#32
  let v15789 : BitVec 1 := Scalar.cmpi .slt c128_i32_6211 c0_i32_6215
  let v15790 : BitVec 32 := Scalar.extui v15789
  let v15791 : BitVec 32 := Scalar.subi v15788 v15790
  let v15792 : BitVec 1 := Scalar.cmpi .ne v15786 v15791
  let v15793 : BitVec 32 := Scalar.remsi v15778 c128_i32_6211
  let c0_i32_6216 : BitVec 32 := 0#32
  let v15794 : BitVec 1 := Scalar.cmpi .ne v15793 c0_i32_6216
  let v15795 : BitVec 1 := Scalar.andi v15792 v15794
  let v15781 : BitVec 32 := Scalar.divsi v15778 c128_i32_6211
  let c1_i32_6217 : BitVec 32 := 1#32
  let v15796 : BitVec 32 := Scalar.subi v15781 c1_i32_6217
  let v15797 : BitVec 32 := Scalar.select v15795 v15796 v15781
  let c128_i32_6218 : BitVec 32 := 128#32
  let v15798 : BitVec 32 := Scalar.muli v15797 c128_i32_6218
  let v15799 : BitVec 32 := v15798
  let v15802 : Index := Scalar.indexCast v15799
  ![v15801.toNat, 0, v15802.toNat]

def k1_chk277 (v15776 : BitVec 32) (v15778 : BitVec 32) : Prop :=
  (128 ∣ (k1_mult277 v15778).toNat) ∧
  (∀ a, (k1_off865 v15776 v15778) a + S1x16x512.size a ≤ S384x16x1152.size a)
theorem k1_mult277_dvd : ∀ (v15776 : BitVec 32) (v15778 : BitVec 32) (k1_hw277 : k1_chk277 v15776 v15778), 128 ∣ (k1_mult277 v15778).toNat := fun v15776 v15778 k1_hw277 => k1_hw277.1
theorem k1_off865_inb : ∀ (v15776 : BitVec 32) (v15778 : BitVec 32) (k1_hw277 : k1_chk277 v15776 v15778), ∀ a, (k1_off865 v15776 v15778) a + S1x16x512.size a ≤ S384x16x1152.size a := fun v15776 v15778 k1_hw277 => k1_hw277.2

def k1_off866 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15812 : Index := Scalar.indexCast v15542
  let c4_6222 : Index := 4#32
  ![v15812.toNat, 4]
def k1_off867 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15828 : Index := Scalar.indexCast v15542
  let c5_6228 : Index := 5#32
  ![v15828.toNat, 5]
def k1_mult278 (v15831 : BitVec 32) : BitVec 32 :=
  let c0_i32_6232 : BitVec 32 := 0#32
  let v15835 : BitVec 1 := Scalar.cmpi .sgt v15831 c0_i32_6232
  let v15836 : BitVec 32 := Scalar.extui v15835
  let c0_i32_6233 : BitVec 32 := 0#32
  let v15837 : BitVec 1 := Scalar.cmpi .slt v15831 c0_i32_6233
  let v15838 : BitVec 32 := Scalar.extui v15837
  let v15839 : BitVec 32 := Scalar.subi v15836 v15838
  let c128_i32_6231 : BitVec 32 := 128#32
  let c0_i32_6234 : BitVec 32 := 0#32
  let v15840 : BitVec 1 := Scalar.cmpi .sgt c128_i32_6231 c0_i32_6234
  let v15841 : BitVec 32 := Scalar.extui v15840
  let c0_i32_6235 : BitVec 32 := 0#32
  let v15842 : BitVec 1 := Scalar.cmpi .slt c128_i32_6231 c0_i32_6235
  let v15843 : BitVec 32 := Scalar.extui v15842
  let v15844 : BitVec 32 := Scalar.subi v15841 v15843
  let v15845 : BitVec 1 := Scalar.cmpi .ne v15839 v15844
  let v15846 : BitVec 32 := Scalar.remsi v15831 c128_i32_6231
  let c0_i32_6236 : BitVec 32 := 0#32
  let v15847 : BitVec 1 := Scalar.cmpi .ne v15846 c0_i32_6236
  let v15848 : BitVec 1 := Scalar.andi v15845 v15847
  let v15834 : BitVec 32 := Scalar.divsi v15831 c128_i32_6231
  let c1_i32_6237 : BitVec 32 := 1#32
  let v15849 : BitVec 32 := Scalar.subi v15834 c1_i32_6237
  let v15850 : BitVec 32 := Scalar.select v15848 v15849 v15834
  let c128_i32_6238 : BitVec 32 := 128#32
  let v15851 : BitVec 32 := Scalar.muli v15850 c128_i32_6238
  v15851

def k1_off868 (v15829 : BitVec 32) (v15831 : BitVec 32) : Fin 3 → Nat :=
  let v15854 : Index := Scalar.indexCast v15829
  let c0_6239 : Index := 0#32
  let c0_i32_6232 : BitVec 32 := 0#32
  let v15835 : BitVec 1 := Scalar.cmpi .sgt v15831 c0_i32_6232
  let v15836 : BitVec 32 := Scalar.extui v15835
  let c0_i32_6233 : BitVec 32 := 0#32
  let v15837 : BitVec 1 := Scalar.cmpi .slt v15831 c0_i32_6233
  let v15838 : BitVec 32 := Scalar.extui v15837
  let v15839 : BitVec 32 := Scalar.subi v15836 v15838
  let c128_i32_6231 : BitVec 32 := 128#32
  let c0_i32_6234 : BitVec 32 := 0#32
  let v15840 : BitVec 1 := Scalar.cmpi .sgt c128_i32_6231 c0_i32_6234
  let v15841 : BitVec 32 := Scalar.extui v15840
  let c0_i32_6235 : BitVec 32 := 0#32
  let v15842 : BitVec 1 := Scalar.cmpi .slt c128_i32_6231 c0_i32_6235
  let v15843 : BitVec 32 := Scalar.extui v15842
  let v15844 : BitVec 32 := Scalar.subi v15841 v15843
  let v15845 : BitVec 1 := Scalar.cmpi .ne v15839 v15844
  let v15846 : BitVec 32 := Scalar.remsi v15831 c128_i32_6231
  let c0_i32_6236 : BitVec 32 := 0#32
  let v15847 : BitVec 1 := Scalar.cmpi .ne v15846 c0_i32_6236
  let v15848 : BitVec 1 := Scalar.andi v15845 v15847
  let v15834 : BitVec 32 := Scalar.divsi v15831 c128_i32_6231
  let c1_i32_6237 : BitVec 32 := 1#32
  let v15849 : BitVec 32 := Scalar.subi v15834 c1_i32_6237
  let v15850 : BitVec 32 := Scalar.select v15848 v15849 v15834
  let c128_i32_6238 : BitVec 32 := 128#32
  let v15851 : BitVec 32 := Scalar.muli v15850 c128_i32_6238
  let v15852 : BitVec 32 := v15851
  let v15855 : Index := Scalar.indexCast v15852
  ![v15854.toNat, 0, v15855.toNat]

def k1_chk278 (v15829 : BitVec 32) (v15831 : BitVec 32) : Prop :=
  (128 ∣ (k1_mult278 v15831).toNat) ∧
  (∀ a, (k1_off868 v15829 v15831) a + S1x16x512.size a ≤ S384x16x1152.size a)
theorem k1_mult278_dvd : ∀ (v15829 : BitVec 32) (v15831 : BitVec 32) (k1_hw278 : k1_chk278 v15829 v15831), 128 ∣ (k1_mult278 v15831).toNat := fun v15829 v15831 k1_hw278 => k1_hw278.1
theorem k1_off868_inb : ∀ (v15829 : BitVec 32) (v15831 : BitVec 32) (k1_hw278 : k1_chk278 v15829 v15831), ∀ a, (k1_off868 v15829 v15831) a + S1x16x512.size a ≤ S384x16x1152.size a := fun v15829 v15831 k1_hw278 => k1_hw278.2

def k1_off869 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15865 : Index := Scalar.indexCast v15542
  let c5_6242 : Index := 5#32
  ![v15865.toNat, 5]
def k1_off870 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15881 : Index := Scalar.indexCast v15542
  let c6_6248 : Index := 6#32
  ![v15881.toNat, 6]
def k1_mult279 (v15884 : BitVec 32) : BitVec 32 :=
  let c0_i32_6252 : BitVec 32 := 0#32
  let v15888 : BitVec 1 := Scalar.cmpi .sgt v15884 c0_i32_6252
  let v15889 : BitVec 32 := Scalar.extui v15888
  let c0_i32_6253 : BitVec 32 := 0#32
  let v15890 : BitVec 1 := Scalar.cmpi .slt v15884 c0_i32_6253
  let v15891 : BitVec 32 := Scalar.extui v15890
  let v15892 : BitVec 32 := Scalar.subi v15889 v15891
  let c128_i32_6251 : BitVec 32 := 128#32
  let c0_i32_6254 : BitVec 32 := 0#32
  let v15893 : BitVec 1 := Scalar.cmpi .sgt c128_i32_6251 c0_i32_6254
  let v15894 : BitVec 32 := Scalar.extui v15893
  let c0_i32_6255 : BitVec 32 := 0#32
  let v15895 : BitVec 1 := Scalar.cmpi .slt c128_i32_6251 c0_i32_6255
  let v15896 : BitVec 32 := Scalar.extui v15895
  let v15897 : BitVec 32 := Scalar.subi v15894 v15896
  let v15898 : BitVec 1 := Scalar.cmpi .ne v15892 v15897
  let v15899 : BitVec 32 := Scalar.remsi v15884 c128_i32_6251
  let c0_i32_6256 : BitVec 32 := 0#32
  let v15900 : BitVec 1 := Scalar.cmpi .ne v15899 c0_i32_6256
  let v15901 : BitVec 1 := Scalar.andi v15898 v15900
  let v15887 : BitVec 32 := Scalar.divsi v15884 c128_i32_6251
  let c1_i32_6257 : BitVec 32 := 1#32
  let v15902 : BitVec 32 := Scalar.subi v15887 c1_i32_6257
  let v15903 : BitVec 32 := Scalar.select v15901 v15902 v15887
  let c128_i32_6258 : BitVec 32 := 128#32
  let v15904 : BitVec 32 := Scalar.muli v15903 c128_i32_6258
  v15904

def k1_off871 (v15882 : BitVec 32) (v15884 : BitVec 32) : Fin 3 → Nat :=
  let v15907 : Index := Scalar.indexCast v15882
  let c0_6259 : Index := 0#32
  let c0_i32_6252 : BitVec 32 := 0#32
  let v15888 : BitVec 1 := Scalar.cmpi .sgt v15884 c0_i32_6252
  let v15889 : BitVec 32 := Scalar.extui v15888
  let c0_i32_6253 : BitVec 32 := 0#32
  let v15890 : BitVec 1 := Scalar.cmpi .slt v15884 c0_i32_6253
  let v15891 : BitVec 32 := Scalar.extui v15890
  let v15892 : BitVec 32 := Scalar.subi v15889 v15891
  let c128_i32_6251 : BitVec 32 := 128#32
  let c0_i32_6254 : BitVec 32 := 0#32
  let v15893 : BitVec 1 := Scalar.cmpi .sgt c128_i32_6251 c0_i32_6254
  let v15894 : BitVec 32 := Scalar.extui v15893
  let c0_i32_6255 : BitVec 32 := 0#32
  let v15895 : BitVec 1 := Scalar.cmpi .slt c128_i32_6251 c0_i32_6255
  let v15896 : BitVec 32 := Scalar.extui v15895
  let v15897 : BitVec 32 := Scalar.subi v15894 v15896
  let v15898 : BitVec 1 := Scalar.cmpi .ne v15892 v15897
  let v15899 : BitVec 32 := Scalar.remsi v15884 c128_i32_6251
  let c0_i32_6256 : BitVec 32 := 0#32
  let v15900 : BitVec 1 := Scalar.cmpi .ne v15899 c0_i32_6256
  let v15901 : BitVec 1 := Scalar.andi v15898 v15900
  let v15887 : BitVec 32 := Scalar.divsi v15884 c128_i32_6251
  let c1_i32_6257 : BitVec 32 := 1#32
  let v15902 : BitVec 32 := Scalar.subi v15887 c1_i32_6257
  let v15903 : BitVec 32 := Scalar.select v15901 v15902 v15887
  let c128_i32_6258 : BitVec 32 := 128#32
  let v15904 : BitVec 32 := Scalar.muli v15903 c128_i32_6258
  let v15905 : BitVec 32 := v15904
  let v15908 : Index := Scalar.indexCast v15905
  ![v15907.toNat, 0, v15908.toNat]

def k1_chk279 (v15882 : BitVec 32) (v15884 : BitVec 32) : Prop :=
  (128 ∣ (k1_mult279 v15884).toNat) ∧
  (∀ a, (k1_off871 v15882 v15884) a + S1x16x512.size a ≤ S384x16x1152.size a)
theorem k1_mult279_dvd : ∀ (v15882 : BitVec 32) (v15884 : BitVec 32) (k1_hw279 : k1_chk279 v15882 v15884), 128 ∣ (k1_mult279 v15884).toNat := fun v15882 v15884 k1_hw279 => k1_hw279.1
theorem k1_off871_inb : ∀ (v15882 : BitVec 32) (v15884 : BitVec 32) (k1_hw279 : k1_chk279 v15882 v15884), ∀ a, (k1_off871 v15882 v15884) a + S1x16x512.size a ≤ S384x16x1152.size a := fun v15882 v15884 k1_hw279 => k1_hw279.2

def k1_off872 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15918 : Index := Scalar.indexCast v15542
  let c6_6262 : Index := 6#32
  ![v15918.toNat, 6]
def k1_off873 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15934 : Index := Scalar.indexCast v15542
  let c7_6268 : Index := 7#32
  ![v15934.toNat, 7]
def k1_mult280 (v15937 : BitVec 32) : BitVec 32 :=
  let c0_i32_6272 : BitVec 32 := 0#32
  let v15941 : BitVec 1 := Scalar.cmpi .sgt v15937 c0_i32_6272
  let v15942 : BitVec 32 := Scalar.extui v15941
  let c0_i32_6273 : BitVec 32 := 0#32
  let v15943 : BitVec 1 := Scalar.cmpi .slt v15937 c0_i32_6273
  let v15944 : BitVec 32 := Scalar.extui v15943
  let v15945 : BitVec 32 := Scalar.subi v15942 v15944
  let c128_i32_6271 : BitVec 32 := 128#32
  let c0_i32_6274 : BitVec 32 := 0#32
  let v15946 : BitVec 1 := Scalar.cmpi .sgt c128_i32_6271 c0_i32_6274
  let v15947 : BitVec 32 := Scalar.extui v15946
  let c0_i32_6275 : BitVec 32 := 0#32
  let v15948 : BitVec 1 := Scalar.cmpi .slt c128_i32_6271 c0_i32_6275
  let v15949 : BitVec 32 := Scalar.extui v15948
  let v15950 : BitVec 32 := Scalar.subi v15947 v15949
  let v15951 : BitVec 1 := Scalar.cmpi .ne v15945 v15950
  let v15952 : BitVec 32 := Scalar.remsi v15937 c128_i32_6271
  let c0_i32_6276 : BitVec 32 := 0#32
  let v15953 : BitVec 1 := Scalar.cmpi .ne v15952 c0_i32_6276
  let v15954 : BitVec 1 := Scalar.andi v15951 v15953
  let v15940 : BitVec 32 := Scalar.divsi v15937 c128_i32_6271
  let c1_i32_6277 : BitVec 32 := 1#32
  let v15955 : BitVec 32 := Scalar.subi v15940 c1_i32_6277
  let v15956 : BitVec 32 := Scalar.select v15954 v15955 v15940
  let c128_i32_6278 : BitVec 32 := 128#32
  let v15957 : BitVec 32 := Scalar.muli v15956 c128_i32_6278
  v15957

def k1_off874 (v15935 : BitVec 32) (v15937 : BitVec 32) : Fin 3 → Nat :=
  let v15960 : Index := Scalar.indexCast v15935
  let c0_6279 : Index := 0#32
  let c0_i32_6272 : BitVec 32 := 0#32
  let v15941 : BitVec 1 := Scalar.cmpi .sgt v15937 c0_i32_6272
  let v15942 : BitVec 32 := Scalar.extui v15941
  let c0_i32_6273 : BitVec 32 := 0#32
  let v15943 : BitVec 1 := Scalar.cmpi .slt v15937 c0_i32_6273
  let v15944 : BitVec 32 := Scalar.extui v15943
  let v15945 : BitVec 32 := Scalar.subi v15942 v15944
  let c128_i32_6271 : BitVec 32 := 128#32
  let c0_i32_6274 : BitVec 32 := 0#32
  let v15946 : BitVec 1 := Scalar.cmpi .sgt c128_i32_6271 c0_i32_6274
  let v15947 : BitVec 32 := Scalar.extui v15946
  let c0_i32_6275 : BitVec 32 := 0#32
  let v15948 : BitVec 1 := Scalar.cmpi .slt c128_i32_6271 c0_i32_6275
  let v15949 : BitVec 32 := Scalar.extui v15948
  let v15950 : BitVec 32 := Scalar.subi v15947 v15949
  let v15951 : BitVec 1 := Scalar.cmpi .ne v15945 v15950
  let v15952 : BitVec 32 := Scalar.remsi v15937 c128_i32_6271
  let c0_i32_6276 : BitVec 32 := 0#32
  let v15953 : BitVec 1 := Scalar.cmpi .ne v15952 c0_i32_6276
  let v15954 : BitVec 1 := Scalar.andi v15951 v15953
  let v15940 : BitVec 32 := Scalar.divsi v15937 c128_i32_6271
  let c1_i32_6277 : BitVec 32 := 1#32
  let v15955 : BitVec 32 := Scalar.subi v15940 c1_i32_6277
  let v15956 : BitVec 32 := Scalar.select v15954 v15955 v15940
  let c128_i32_6278 : BitVec 32 := 128#32
  let v15957 : BitVec 32 := Scalar.muli v15956 c128_i32_6278
  let v15958 : BitVec 32 := v15957
  let v15961 : Index := Scalar.indexCast v15958
  ![v15960.toNat, 0, v15961.toNat]

def k1_chk280 (v15935 : BitVec 32) (v15937 : BitVec 32) : Prop :=
  (128 ∣ (k1_mult280 v15937).toNat) ∧
  (∀ a, (k1_off874 v15935 v15937) a + S1x16x512.size a ≤ S384x16x1152.size a)
theorem k1_mult280_dvd : ∀ (v15935 : BitVec 32) (v15937 : BitVec 32) (k1_hw280 : k1_chk280 v15935 v15937), 128 ∣ (k1_mult280 v15937).toNat := fun v15935 v15937 k1_hw280 => k1_hw280.1
theorem k1_off874_inb : ∀ (v15935 : BitVec 32) (v15937 : BitVec 32) (k1_hw280 : k1_chk280 v15935 v15937), ∀ a, (k1_off874 v15935 v15937) a + S1x16x512.size a ≤ S384x16x1152.size a := fun v15935 v15937 k1_hw280 => k1_hw280.2

def k1_off875 (i : grid1.Coords) : Fin 2 → Nat :=
  let arg0 : BitVec 32 := BitVec.ofNat 32 (i 0).val
  let c48_i32_6117 : BitVec 32 := 48#32
  let v15541 : BitVec 32 := Scalar.muli arg0 c48_i32_6117
  let c34_i32 : BitVec 32 := 34#32
  let v15542 : BitVec 32 := Scalar.addi v15541 c34_i32
  let v15971 : Index := Scalar.indexCast v15542
  let c7_6282 : Index := 7#32
  ![v15971.toNat, 7]
def k1_off876 (i : grid1.Coords) : Fin 3 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16000 : Index := Scalar.indexCast v15999
  let c0_6298 : Index := 0#32
  let c720_6299 : Index := 720#32
  ![v16000.toNat, 0, 720]
def k1_off877 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16020 : Index := Scalar.indexCast v15999
  let c0_6308 : Index := 0#32
  ![v16020.toNat, 0]
def k1_mult281 (v16023 : BitVec 32) : BitVec 32 :=
  let c0_i32_6312 : BitVec 32 := 0#32
  let v16027 : BitVec 1 := Scalar.cmpi .sgt v16023 c0_i32_6312
  let v16028 : BitVec 32 := Scalar.extui v16027
  let c0_i32_6313 : BitVec 32 := 0#32
  let v16029 : BitVec 1 := Scalar.cmpi .slt v16023 c0_i32_6313
  let v16030 : BitVec 32 := Scalar.extui v16029
  let v16031 : BitVec 32 := Scalar.subi v16028 v16030
  let c128_i32_6311 : BitVec 32 := 128#32
  let c0_i32_6314 : BitVec 32 := 0#32
  let v16032 : BitVec 1 := Scalar.cmpi .sgt c128_i32_6311 c0_i32_6314
  let v16033 : BitVec 32 := Scalar.extui v16032
  let c0_i32_6315 : BitVec 32 := 0#32
  let v16034 : BitVec 1 := Scalar.cmpi .slt c128_i32_6311 c0_i32_6315
  let v16035 : BitVec 32 := Scalar.extui v16034
  let v16036 : BitVec 32 := Scalar.subi v16033 v16035
  let v16037 : BitVec 1 := Scalar.cmpi .ne v16031 v16036
  let v16038 : BitVec 32 := Scalar.remsi v16023 c128_i32_6311
  let c0_i32_6316 : BitVec 32 := 0#32
  let v16039 : BitVec 1 := Scalar.cmpi .ne v16038 c0_i32_6316
  let v16040 : BitVec 1 := Scalar.andi v16037 v16039
  let v16026 : BitVec 32 := Scalar.divsi v16023 c128_i32_6311
  let c1_i32_6317 : BitVec 32 := 1#32
  let v16041 : BitVec 32 := Scalar.subi v16026 c1_i32_6317
  let v16042 : BitVec 32 := Scalar.select v16040 v16041 v16026
  let c128_i32_6318 : BitVec 32 := 128#32
  let v16043 : BitVec 32 := Scalar.muli v16042 c128_i32_6318
  v16043

def k1_off878 (v16021 : BitVec 32) (v16023 : BitVec 32) : Fin 3 → Nat :=
  let v16046 : Index := Scalar.indexCast v16021
  let c0_6319 : Index := 0#32
  let c0_i32_6312 : BitVec 32 := 0#32
  let v16027 : BitVec 1 := Scalar.cmpi .sgt v16023 c0_i32_6312
  let v16028 : BitVec 32 := Scalar.extui v16027
  let c0_i32_6313 : BitVec 32 := 0#32
  let v16029 : BitVec 1 := Scalar.cmpi .slt v16023 c0_i32_6313
  let v16030 : BitVec 32 := Scalar.extui v16029
  let v16031 : BitVec 32 := Scalar.subi v16028 v16030
  let c128_i32_6311 : BitVec 32 := 128#32
  let c0_i32_6314 : BitVec 32 := 0#32
  let v16032 : BitVec 1 := Scalar.cmpi .sgt c128_i32_6311 c0_i32_6314
  let v16033 : BitVec 32 := Scalar.extui v16032
  let c0_i32_6315 : BitVec 32 := 0#32
  let v16034 : BitVec 1 := Scalar.cmpi .slt c128_i32_6311 c0_i32_6315
  let v16035 : BitVec 32 := Scalar.extui v16034
  let v16036 : BitVec 32 := Scalar.subi v16033 v16035
  let v16037 : BitVec 1 := Scalar.cmpi .ne v16031 v16036
  let v16038 : BitVec 32 := Scalar.remsi v16023 c128_i32_6311
  let c0_i32_6316 : BitVec 32 := 0#32
  let v16039 : BitVec 1 := Scalar.cmpi .ne v16038 c0_i32_6316
  let v16040 : BitVec 1 := Scalar.andi v16037 v16039
  let v16026 : BitVec 32 := Scalar.divsi v16023 c128_i32_6311
  let c1_i32_6317 : BitVec 32 := 1#32
  let v16041 : BitVec 32 := Scalar.subi v16026 c1_i32_6317
  let v16042 : BitVec 32 := Scalar.select v16040 v16041 v16026
  let c128_i32_6318 : BitVec 32 := 128#32
  let v16043 : BitVec 32 := Scalar.muli v16042 c128_i32_6318
  let v16044 : BitVec 32 := v16043
  let v16047 : Index := Scalar.indexCast v16044
  ![v16046.toNat, 0, v16047.toNat]

def k1_chk281 (v16021 : BitVec 32) (v16023 : BitVec 32) : Prop :=
  (128 ∣ (k1_mult281 v16023).toNat) ∧
  (∀ a, (k1_off878 v16021 v16023) a + S1x16x512.size a ≤ S384x16x1152.size a)
theorem k1_mult281_dvd : ∀ (v16021 : BitVec 32) (v16023 : BitVec 32) (k1_hw281 : k1_chk281 v16021 v16023), 128 ∣ (k1_mult281 v16023).toNat := fun v16021 v16023 k1_hw281 => k1_hw281.1
theorem k1_off878_inb : ∀ (v16021 : BitVec 32) (v16023 : BitVec 32) (k1_hw281 : k1_chk281 v16021 v16023), ∀ a, (k1_off878 v16021 v16023) a + S1x16x512.size a ≤ S384x16x1152.size a := fun v16021 v16023 k1_hw281 => k1_hw281.2

def k1_off879 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16057 : Index := Scalar.indexCast v15999
  let c0_6322 : Index := 0#32
  ![v16057.toNat, 0]
def k1_off880 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16073 : Index := Scalar.indexCast v15999
  let c1_6328 : Index := 1#32
  ![v16073.toNat, 1]
def k1_mult282 (v16076 : BitVec 32) : BitVec 32 :=
  let c0_i32_6332 : BitVec 32 := 0#32
  let v16080 : BitVec 1 := Scalar.cmpi .sgt v16076 c0_i32_6332
  let v16081 : BitVec 32 := Scalar.extui v16080
  let c0_i32_6333 : BitVec 32 := 0#32
  let v16082 : BitVec 1 := Scalar.cmpi .slt v16076 c0_i32_6333
  let v16083 : BitVec 32 := Scalar.extui v16082
  let v16084 : BitVec 32 := Scalar.subi v16081 v16083
  let c128_i32_6331 : BitVec 32 := 128#32
  let c0_i32_6334 : BitVec 32 := 0#32
  let v16085 : BitVec 1 := Scalar.cmpi .sgt c128_i32_6331 c0_i32_6334
  let v16086 : BitVec 32 := Scalar.extui v16085
  let c0_i32_6335 : BitVec 32 := 0#32
  let v16087 : BitVec 1 := Scalar.cmpi .slt c128_i32_6331 c0_i32_6335
  let v16088 : BitVec 32 := Scalar.extui v16087
  let v16089 : BitVec 32 := Scalar.subi v16086 v16088
  let v16090 : BitVec 1 := Scalar.cmpi .ne v16084 v16089
  let v16091 : BitVec 32 := Scalar.remsi v16076 c128_i32_6331
  let c0_i32_6336 : BitVec 32 := 0#32
  let v16092 : BitVec 1 := Scalar.cmpi .ne v16091 c0_i32_6336
  let v16093 : BitVec 1 := Scalar.andi v16090 v16092
  let v16079 : BitVec 32 := Scalar.divsi v16076 c128_i32_6331
  let c1_i32_6337 : BitVec 32 := 1#32
  let v16094 : BitVec 32 := Scalar.subi v16079 c1_i32_6337
  let v16095 : BitVec 32 := Scalar.select v16093 v16094 v16079
  let c128_i32_6338 : BitVec 32 := 128#32
  let v16096 : BitVec 32 := Scalar.muli v16095 c128_i32_6338
  v16096

def k1_off881 (v16074 : BitVec 32) (v16076 : BitVec 32) : Fin 3 → Nat :=
  let v16099 : Index := Scalar.indexCast v16074
  let c0_6339 : Index := 0#32
  let c0_i32_6332 : BitVec 32 := 0#32
  let v16080 : BitVec 1 := Scalar.cmpi .sgt v16076 c0_i32_6332
  let v16081 : BitVec 32 := Scalar.extui v16080
  let c0_i32_6333 : BitVec 32 := 0#32
  let v16082 : BitVec 1 := Scalar.cmpi .slt v16076 c0_i32_6333
  let v16083 : BitVec 32 := Scalar.extui v16082
  let v16084 : BitVec 32 := Scalar.subi v16081 v16083
  let c128_i32_6331 : BitVec 32 := 128#32
  let c0_i32_6334 : BitVec 32 := 0#32
  let v16085 : BitVec 1 := Scalar.cmpi .sgt c128_i32_6331 c0_i32_6334
  let v16086 : BitVec 32 := Scalar.extui v16085
  let c0_i32_6335 : BitVec 32 := 0#32
  let v16087 : BitVec 1 := Scalar.cmpi .slt c128_i32_6331 c0_i32_6335
  let v16088 : BitVec 32 := Scalar.extui v16087
  let v16089 : BitVec 32 := Scalar.subi v16086 v16088
  let v16090 : BitVec 1 := Scalar.cmpi .ne v16084 v16089
  let v16091 : BitVec 32 := Scalar.remsi v16076 c128_i32_6331
  let c0_i32_6336 : BitVec 32 := 0#32
  let v16092 : BitVec 1 := Scalar.cmpi .ne v16091 c0_i32_6336
  let v16093 : BitVec 1 := Scalar.andi v16090 v16092
  let v16079 : BitVec 32 := Scalar.divsi v16076 c128_i32_6331
  let c1_i32_6337 : BitVec 32 := 1#32
  let v16094 : BitVec 32 := Scalar.subi v16079 c1_i32_6337
  let v16095 : BitVec 32 := Scalar.select v16093 v16094 v16079
  let c128_i32_6338 : BitVec 32 := 128#32
  let v16096 : BitVec 32 := Scalar.muli v16095 c128_i32_6338
  let v16097 : BitVec 32 := v16096
  let v16100 : Index := Scalar.indexCast v16097
  ![v16099.toNat, 0, v16100.toNat]

def k1_chk282 (v16074 : BitVec 32) (v16076 : BitVec 32) : Prop :=
  (128 ∣ (k1_mult282 v16076).toNat) ∧
  (∀ a, (k1_off881 v16074 v16076) a + S1x16x512.size a ≤ S384x16x1152.size a)
theorem k1_mult282_dvd : ∀ (v16074 : BitVec 32) (v16076 : BitVec 32) (k1_hw282 : k1_chk282 v16074 v16076), 128 ∣ (k1_mult282 v16076).toNat := fun v16074 v16076 k1_hw282 => k1_hw282.1
theorem k1_off881_inb : ∀ (v16074 : BitVec 32) (v16076 : BitVec 32) (k1_hw282 : k1_chk282 v16074 v16076), ∀ a, (k1_off881 v16074 v16076) a + S1x16x512.size a ≤ S384x16x1152.size a := fun v16074 v16076 k1_hw282 => k1_hw282.2

def k1_off882 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16110 : Index := Scalar.indexCast v15999
  let c1_6342 : Index := 1#32
  ![v16110.toNat, 1]
def k1_off883 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16126 : Index := Scalar.indexCast v15999
  let c2_6348 : Index := 2#32
  ![v16126.toNat, 2]
def k1_mult283 (v16129 : BitVec 32) : BitVec 32 :=
  let c0_i32_6352 : BitVec 32 := 0#32
  let v16133 : BitVec 1 := Scalar.cmpi .sgt v16129 c0_i32_6352
  let v16134 : BitVec 32 := Scalar.extui v16133
  let c0_i32_6353 : BitVec 32 := 0#32
  let v16135 : BitVec 1 := Scalar.cmpi .slt v16129 c0_i32_6353
  let v16136 : BitVec 32 := Scalar.extui v16135
  let v16137 : BitVec 32 := Scalar.subi v16134 v16136
  let c128_i32_6351 : BitVec 32 := 128#32
  let c0_i32_6354 : BitVec 32 := 0#32
  let v16138 : BitVec 1 := Scalar.cmpi .sgt c128_i32_6351 c0_i32_6354
  let v16139 : BitVec 32 := Scalar.extui v16138
  let c0_i32_6355 : BitVec 32 := 0#32
  let v16140 : BitVec 1 := Scalar.cmpi .slt c128_i32_6351 c0_i32_6355
  let v16141 : BitVec 32 := Scalar.extui v16140
  let v16142 : BitVec 32 := Scalar.subi v16139 v16141
  let v16143 : BitVec 1 := Scalar.cmpi .ne v16137 v16142
  let v16144 : BitVec 32 := Scalar.remsi v16129 c128_i32_6351
  let c0_i32_6356 : BitVec 32 := 0#32
  let v16145 : BitVec 1 := Scalar.cmpi .ne v16144 c0_i32_6356
  let v16146 : BitVec 1 := Scalar.andi v16143 v16145
  let v16132 : BitVec 32 := Scalar.divsi v16129 c128_i32_6351
  let c1_i32_6357 : BitVec 32 := 1#32
  let v16147 : BitVec 32 := Scalar.subi v16132 c1_i32_6357
  let v16148 : BitVec 32 := Scalar.select v16146 v16147 v16132
  let c128_i32_6358 : BitVec 32 := 128#32
  let v16149 : BitVec 32 := Scalar.muli v16148 c128_i32_6358
  v16149

def k1_off884 (v16127 : BitVec 32) (v16129 : BitVec 32) : Fin 3 → Nat :=
  let v16152 : Index := Scalar.indexCast v16127
  let c0_6359 : Index := 0#32
  let c0_i32_6352 : BitVec 32 := 0#32
  let v16133 : BitVec 1 := Scalar.cmpi .sgt v16129 c0_i32_6352
  let v16134 : BitVec 32 := Scalar.extui v16133
  let c0_i32_6353 : BitVec 32 := 0#32
  let v16135 : BitVec 1 := Scalar.cmpi .slt v16129 c0_i32_6353
  let v16136 : BitVec 32 := Scalar.extui v16135
  let v16137 : BitVec 32 := Scalar.subi v16134 v16136
  let c128_i32_6351 : BitVec 32 := 128#32
  let c0_i32_6354 : BitVec 32 := 0#32
  let v16138 : BitVec 1 := Scalar.cmpi .sgt c128_i32_6351 c0_i32_6354
  let v16139 : BitVec 32 := Scalar.extui v16138
  let c0_i32_6355 : BitVec 32 := 0#32
  let v16140 : BitVec 1 := Scalar.cmpi .slt c128_i32_6351 c0_i32_6355
  let v16141 : BitVec 32 := Scalar.extui v16140
  let v16142 : BitVec 32 := Scalar.subi v16139 v16141
  let v16143 : BitVec 1 := Scalar.cmpi .ne v16137 v16142
  let v16144 : BitVec 32 := Scalar.remsi v16129 c128_i32_6351
  let c0_i32_6356 : BitVec 32 := 0#32
  let v16145 : BitVec 1 := Scalar.cmpi .ne v16144 c0_i32_6356
  let v16146 : BitVec 1 := Scalar.andi v16143 v16145
  let v16132 : BitVec 32 := Scalar.divsi v16129 c128_i32_6351
  let c1_i32_6357 : BitVec 32 := 1#32
  let v16147 : BitVec 32 := Scalar.subi v16132 c1_i32_6357
  let v16148 : BitVec 32 := Scalar.select v16146 v16147 v16132
  let c128_i32_6358 : BitVec 32 := 128#32
  let v16149 : BitVec 32 := Scalar.muli v16148 c128_i32_6358
  let v16150 : BitVec 32 := v16149
  let v16153 : Index := Scalar.indexCast v16150
  ![v16152.toNat, 0, v16153.toNat]

def k1_chk283 (v16127 : BitVec 32) (v16129 : BitVec 32) : Prop :=
  (128 ∣ (k1_mult283 v16129).toNat) ∧
  (∀ a, (k1_off884 v16127 v16129) a + S1x16x512.size a ≤ S384x16x1152.size a)
theorem k1_mult283_dvd : ∀ (v16127 : BitVec 32) (v16129 : BitVec 32) (k1_hw283 : k1_chk283 v16127 v16129), 128 ∣ (k1_mult283 v16129).toNat := fun v16127 v16129 k1_hw283 => k1_hw283.1
theorem k1_off884_inb : ∀ (v16127 : BitVec 32) (v16129 : BitVec 32) (k1_hw283 : k1_chk283 v16127 v16129), ∀ a, (k1_off884 v16127 v16129) a + S1x16x512.size a ≤ S384x16x1152.size a := fun v16127 v16129 k1_hw283 => k1_hw283.2

def k1_off885 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16163 : Index := Scalar.indexCast v15999
  let c2_6362 : Index := 2#32
  ![v16163.toNat, 2]
def k1_off886 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16179 : Index := Scalar.indexCast v15999
  let c3_6368 : Index := 3#32
  ![v16179.toNat, 3]
def k1_mult284 (v16182 : BitVec 32) : BitVec 32 :=
  let c0_i32_6372 : BitVec 32 := 0#32
  let v16186 : BitVec 1 := Scalar.cmpi .sgt v16182 c0_i32_6372
  let v16187 : BitVec 32 := Scalar.extui v16186
  let c0_i32_6373 : BitVec 32 := 0#32
  let v16188 : BitVec 1 := Scalar.cmpi .slt v16182 c0_i32_6373
  let v16189 : BitVec 32 := Scalar.extui v16188
  let v16190 : BitVec 32 := Scalar.subi v16187 v16189
  let c128_i32_6371 : BitVec 32 := 128#32
  let c0_i32_6374 : BitVec 32 := 0#32
  let v16191 : BitVec 1 := Scalar.cmpi .sgt c128_i32_6371 c0_i32_6374
  let v16192 : BitVec 32 := Scalar.extui v16191
  let c0_i32_6375 : BitVec 32 := 0#32
  let v16193 : BitVec 1 := Scalar.cmpi .slt c128_i32_6371 c0_i32_6375
  let v16194 : BitVec 32 := Scalar.extui v16193
  let v16195 : BitVec 32 := Scalar.subi v16192 v16194
  let v16196 : BitVec 1 := Scalar.cmpi .ne v16190 v16195
  let v16197 : BitVec 32 := Scalar.remsi v16182 c128_i32_6371
  let c0_i32_6376 : BitVec 32 := 0#32
  let v16198 : BitVec 1 := Scalar.cmpi .ne v16197 c0_i32_6376
  let v16199 : BitVec 1 := Scalar.andi v16196 v16198
  let v16185 : BitVec 32 := Scalar.divsi v16182 c128_i32_6371
  let c1_i32_6377 : BitVec 32 := 1#32
  let v16200 : BitVec 32 := Scalar.subi v16185 c1_i32_6377
  let v16201 : BitVec 32 := Scalar.select v16199 v16200 v16185
  let c128_i32_6378 : BitVec 32 := 128#32
  let v16202 : BitVec 32 := Scalar.muli v16201 c128_i32_6378
  v16202

def k1_off887 (v16180 : BitVec 32) (v16182 : BitVec 32) : Fin 3 → Nat :=
  let v16205 : Index := Scalar.indexCast v16180
  let c0_6379 : Index := 0#32
  let c0_i32_6372 : BitVec 32 := 0#32
  let v16186 : BitVec 1 := Scalar.cmpi .sgt v16182 c0_i32_6372
  let v16187 : BitVec 32 := Scalar.extui v16186
  let c0_i32_6373 : BitVec 32 := 0#32
  let v16188 : BitVec 1 := Scalar.cmpi .slt v16182 c0_i32_6373
  let v16189 : BitVec 32 := Scalar.extui v16188
  let v16190 : BitVec 32 := Scalar.subi v16187 v16189
  let c128_i32_6371 : BitVec 32 := 128#32
  let c0_i32_6374 : BitVec 32 := 0#32
  let v16191 : BitVec 1 := Scalar.cmpi .sgt c128_i32_6371 c0_i32_6374
  let v16192 : BitVec 32 := Scalar.extui v16191
  let c0_i32_6375 : BitVec 32 := 0#32
  let v16193 : BitVec 1 := Scalar.cmpi .slt c128_i32_6371 c0_i32_6375
  let v16194 : BitVec 32 := Scalar.extui v16193
  let v16195 : BitVec 32 := Scalar.subi v16192 v16194
  let v16196 : BitVec 1 := Scalar.cmpi .ne v16190 v16195
  let v16197 : BitVec 32 := Scalar.remsi v16182 c128_i32_6371
  let c0_i32_6376 : BitVec 32 := 0#32
  let v16198 : BitVec 1 := Scalar.cmpi .ne v16197 c0_i32_6376
  let v16199 : BitVec 1 := Scalar.andi v16196 v16198
  let v16185 : BitVec 32 := Scalar.divsi v16182 c128_i32_6371
  let c1_i32_6377 : BitVec 32 := 1#32
  let v16200 : BitVec 32 := Scalar.subi v16185 c1_i32_6377
  let v16201 : BitVec 32 := Scalar.select v16199 v16200 v16185
  let c128_i32_6378 : BitVec 32 := 128#32
  let v16202 : BitVec 32 := Scalar.muli v16201 c128_i32_6378
  let v16203 : BitVec 32 := v16202
  let v16206 : Index := Scalar.indexCast v16203
  ![v16205.toNat, 0, v16206.toNat]

def k1_chk284 (v16180 : BitVec 32) (v16182 : BitVec 32) : Prop :=
  (128 ∣ (k1_mult284 v16182).toNat) ∧
  (∀ a, (k1_off887 v16180 v16182) a + S1x16x512.size a ≤ S384x16x1152.size a)
theorem k1_mult284_dvd : ∀ (v16180 : BitVec 32) (v16182 : BitVec 32) (k1_hw284 : k1_chk284 v16180 v16182), 128 ∣ (k1_mult284 v16182).toNat := fun v16180 v16182 k1_hw284 => k1_hw284.1
theorem k1_off887_inb : ∀ (v16180 : BitVec 32) (v16182 : BitVec 32) (k1_hw284 : k1_chk284 v16180 v16182), ∀ a, (k1_off887 v16180 v16182) a + S1x16x512.size a ≤ S384x16x1152.size a := fun v16180 v16182 k1_hw284 => k1_hw284.2

def k1_off888 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16216 : Index := Scalar.indexCast v15999
  let c3_6382 : Index := 3#32
  ![v16216.toNat, 3]
def k1_off889 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16232 : Index := Scalar.indexCast v15999
  let c4_6388 : Index := 4#32
  ![v16232.toNat, 4]
def k1_mult285 (v16235 : BitVec 32) : BitVec 32 :=
  let c0_i32_6392 : BitVec 32 := 0#32
  let v16239 : BitVec 1 := Scalar.cmpi .sgt v16235 c0_i32_6392
  let v16240 : BitVec 32 := Scalar.extui v16239
  let c0_i32_6393 : BitVec 32 := 0#32
  let v16241 : BitVec 1 := Scalar.cmpi .slt v16235 c0_i32_6393
  let v16242 : BitVec 32 := Scalar.extui v16241
  let v16243 : BitVec 32 := Scalar.subi v16240 v16242
  let c128_i32_6391 : BitVec 32 := 128#32
  let c0_i32_6394 : BitVec 32 := 0#32
  let v16244 : BitVec 1 := Scalar.cmpi .sgt c128_i32_6391 c0_i32_6394
  let v16245 : BitVec 32 := Scalar.extui v16244
  let c0_i32_6395 : BitVec 32 := 0#32
  let v16246 : BitVec 1 := Scalar.cmpi .slt c128_i32_6391 c0_i32_6395
  let v16247 : BitVec 32 := Scalar.extui v16246
  let v16248 : BitVec 32 := Scalar.subi v16245 v16247
  let v16249 : BitVec 1 := Scalar.cmpi .ne v16243 v16248
  let v16250 : BitVec 32 := Scalar.remsi v16235 c128_i32_6391
  let c0_i32_6396 : BitVec 32 := 0#32
  let v16251 : BitVec 1 := Scalar.cmpi .ne v16250 c0_i32_6396
  let v16252 : BitVec 1 := Scalar.andi v16249 v16251
  let v16238 : BitVec 32 := Scalar.divsi v16235 c128_i32_6391
  let c1_i32_6397 : BitVec 32 := 1#32
  let v16253 : BitVec 32 := Scalar.subi v16238 c1_i32_6397
  let v16254 : BitVec 32 := Scalar.select v16252 v16253 v16238
  let c128_i32_6398 : BitVec 32 := 128#32
  let v16255 : BitVec 32 := Scalar.muli v16254 c128_i32_6398
  v16255

def k1_off890 (v16233 : BitVec 32) (v16235 : BitVec 32) : Fin 3 → Nat :=
  let v16258 : Index := Scalar.indexCast v16233
  let c0_6399 : Index := 0#32
  let c0_i32_6392 : BitVec 32 := 0#32
  let v16239 : BitVec 1 := Scalar.cmpi .sgt v16235 c0_i32_6392
  let v16240 : BitVec 32 := Scalar.extui v16239
  let c0_i32_6393 : BitVec 32 := 0#32
  let v16241 : BitVec 1 := Scalar.cmpi .slt v16235 c0_i32_6393
  let v16242 : BitVec 32 := Scalar.extui v16241
  let v16243 : BitVec 32 := Scalar.subi v16240 v16242
  let c128_i32_6391 : BitVec 32 := 128#32
  let c0_i32_6394 : BitVec 32 := 0#32
  let v16244 : BitVec 1 := Scalar.cmpi .sgt c128_i32_6391 c0_i32_6394
  let v16245 : BitVec 32 := Scalar.extui v16244
  let c0_i32_6395 : BitVec 32 := 0#32
  let v16246 : BitVec 1 := Scalar.cmpi .slt c128_i32_6391 c0_i32_6395
  let v16247 : BitVec 32 := Scalar.extui v16246
  let v16248 : BitVec 32 := Scalar.subi v16245 v16247
  let v16249 : BitVec 1 := Scalar.cmpi .ne v16243 v16248
  let v16250 : BitVec 32 := Scalar.remsi v16235 c128_i32_6391
  let c0_i32_6396 : BitVec 32 := 0#32
  let v16251 : BitVec 1 := Scalar.cmpi .ne v16250 c0_i32_6396
  let v16252 : BitVec 1 := Scalar.andi v16249 v16251
  let v16238 : BitVec 32 := Scalar.divsi v16235 c128_i32_6391
  let c1_i32_6397 : BitVec 32 := 1#32
  let v16253 : BitVec 32 := Scalar.subi v16238 c1_i32_6397
  let v16254 : BitVec 32 := Scalar.select v16252 v16253 v16238
  let c128_i32_6398 : BitVec 32 := 128#32
  let v16255 : BitVec 32 := Scalar.muli v16254 c128_i32_6398
  let v16256 : BitVec 32 := v16255
  let v16259 : Index := Scalar.indexCast v16256
  ![v16258.toNat, 0, v16259.toNat]

def k1_chk285 (v16233 : BitVec 32) (v16235 : BitVec 32) : Prop :=
  (128 ∣ (k1_mult285 v16235).toNat) ∧
  (∀ a, (k1_off890 v16233 v16235) a + S1x16x512.size a ≤ S384x16x1152.size a)
theorem k1_mult285_dvd : ∀ (v16233 : BitVec 32) (v16235 : BitVec 32) (k1_hw285 : k1_chk285 v16233 v16235), 128 ∣ (k1_mult285 v16235).toNat := fun v16233 v16235 k1_hw285 => k1_hw285.1
theorem k1_off890_inb : ∀ (v16233 : BitVec 32) (v16235 : BitVec 32) (k1_hw285 : k1_chk285 v16233 v16235), ∀ a, (k1_off890 v16233 v16235) a + S1x16x512.size a ≤ S384x16x1152.size a := fun v16233 v16235 k1_hw285 => k1_hw285.2

def k1_off891 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16269 : Index := Scalar.indexCast v15999
  let c4_6402 : Index := 4#32
  ![v16269.toNat, 4]
def k1_off892 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16285 : Index := Scalar.indexCast v15999
  let c5_6408 : Index := 5#32
  ![v16285.toNat, 5]
def k1_mult286 (v16288 : BitVec 32) : BitVec 32 :=
  let c0_i32_6412 : BitVec 32 := 0#32
  let v16292 : BitVec 1 := Scalar.cmpi .sgt v16288 c0_i32_6412
  let v16293 : BitVec 32 := Scalar.extui v16292
  let c0_i32_6413 : BitVec 32 := 0#32
  let v16294 : BitVec 1 := Scalar.cmpi .slt v16288 c0_i32_6413
  let v16295 : BitVec 32 := Scalar.extui v16294
  let v16296 : BitVec 32 := Scalar.subi v16293 v16295
  let c128_i32_6411 : BitVec 32 := 128#32
  let c0_i32_6414 : BitVec 32 := 0#32
  let v16297 : BitVec 1 := Scalar.cmpi .sgt c128_i32_6411 c0_i32_6414
  let v16298 : BitVec 32 := Scalar.extui v16297
  let c0_i32_6415 : BitVec 32 := 0#32
  let v16299 : BitVec 1 := Scalar.cmpi .slt c128_i32_6411 c0_i32_6415
  let v16300 : BitVec 32 := Scalar.extui v16299
  let v16301 : BitVec 32 := Scalar.subi v16298 v16300
  let v16302 : BitVec 1 := Scalar.cmpi .ne v16296 v16301
  let v16303 : BitVec 32 := Scalar.remsi v16288 c128_i32_6411
  let c0_i32_6416 : BitVec 32 := 0#32
  let v16304 : BitVec 1 := Scalar.cmpi .ne v16303 c0_i32_6416
  let v16305 : BitVec 1 := Scalar.andi v16302 v16304
  let v16291 : BitVec 32 := Scalar.divsi v16288 c128_i32_6411
  let c1_i32_6417 : BitVec 32 := 1#32
  let v16306 : BitVec 32 := Scalar.subi v16291 c1_i32_6417
  let v16307 : BitVec 32 := Scalar.select v16305 v16306 v16291
  let c128_i32_6418 : BitVec 32 := 128#32
  let v16308 : BitVec 32 := Scalar.muli v16307 c128_i32_6418
  v16308

def k1_off893 (v16286 : BitVec 32) (v16288 : BitVec 32) : Fin 3 → Nat :=
  let v16311 : Index := Scalar.indexCast v16286
  let c0_6419 : Index := 0#32
  let c0_i32_6412 : BitVec 32 := 0#32
  let v16292 : BitVec 1 := Scalar.cmpi .sgt v16288 c0_i32_6412
  let v16293 : BitVec 32 := Scalar.extui v16292
  let c0_i32_6413 : BitVec 32 := 0#32
  let v16294 : BitVec 1 := Scalar.cmpi .slt v16288 c0_i32_6413
  let v16295 : BitVec 32 := Scalar.extui v16294
  let v16296 : BitVec 32 := Scalar.subi v16293 v16295
  let c128_i32_6411 : BitVec 32 := 128#32
  let c0_i32_6414 : BitVec 32 := 0#32
  let v16297 : BitVec 1 := Scalar.cmpi .sgt c128_i32_6411 c0_i32_6414
  let v16298 : BitVec 32 := Scalar.extui v16297
  let c0_i32_6415 : BitVec 32 := 0#32
  let v16299 : BitVec 1 := Scalar.cmpi .slt c128_i32_6411 c0_i32_6415
  let v16300 : BitVec 32 := Scalar.extui v16299
  let v16301 : BitVec 32 := Scalar.subi v16298 v16300
  let v16302 : BitVec 1 := Scalar.cmpi .ne v16296 v16301
  let v16303 : BitVec 32 := Scalar.remsi v16288 c128_i32_6411
  let c0_i32_6416 : BitVec 32 := 0#32
  let v16304 : BitVec 1 := Scalar.cmpi .ne v16303 c0_i32_6416
  let v16305 : BitVec 1 := Scalar.andi v16302 v16304
  let v16291 : BitVec 32 := Scalar.divsi v16288 c128_i32_6411
  let c1_i32_6417 : BitVec 32 := 1#32
  let v16306 : BitVec 32 := Scalar.subi v16291 c1_i32_6417
  let v16307 : BitVec 32 := Scalar.select v16305 v16306 v16291
  let c128_i32_6418 : BitVec 32 := 128#32
  let v16308 : BitVec 32 := Scalar.muli v16307 c128_i32_6418
  let v16309 : BitVec 32 := v16308
  let v16312 : Index := Scalar.indexCast v16309
  ![v16311.toNat, 0, v16312.toNat]

def k1_chk286 (v16286 : BitVec 32) (v16288 : BitVec 32) : Prop :=
  (128 ∣ (k1_mult286 v16288).toNat) ∧
  (∀ a, (k1_off893 v16286 v16288) a + S1x16x512.size a ≤ S384x16x1152.size a)
theorem k1_mult286_dvd : ∀ (v16286 : BitVec 32) (v16288 : BitVec 32) (k1_hw286 : k1_chk286 v16286 v16288), 128 ∣ (k1_mult286 v16288).toNat := fun v16286 v16288 k1_hw286 => k1_hw286.1
theorem k1_off893_inb : ∀ (v16286 : BitVec 32) (v16288 : BitVec 32) (k1_hw286 : k1_chk286 v16286 v16288), ∀ a, (k1_off893 v16286 v16288) a + S1x16x512.size a ≤ S384x16x1152.size a := fun v16286 v16288 k1_hw286 => k1_hw286.2

def k1_off894 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16322 : Index := Scalar.indexCast v15999
  let c5_6422 : Index := 5#32
  ![v16322.toNat, 5]
def k1_off895 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16338 : Index := Scalar.indexCast v15999
  let c6_6428 : Index := 6#32
  ![v16338.toNat, 6]
def k1_mult287 (v16341 : BitVec 32) : BitVec 32 :=
  let c0_i32_6432 : BitVec 32 := 0#32
  let v16345 : BitVec 1 := Scalar.cmpi .sgt v16341 c0_i32_6432
  let v16346 : BitVec 32 := Scalar.extui v16345
  let c0_i32_6433 : BitVec 32 := 0#32
  let v16347 : BitVec 1 := Scalar.cmpi .slt v16341 c0_i32_6433
  let v16348 : BitVec 32 := Scalar.extui v16347
  let v16349 : BitVec 32 := Scalar.subi v16346 v16348
  let c128_i32_6431 : BitVec 32 := 128#32
  let c0_i32_6434 : BitVec 32 := 0#32
  let v16350 : BitVec 1 := Scalar.cmpi .sgt c128_i32_6431 c0_i32_6434
  let v16351 : BitVec 32 := Scalar.extui v16350
  let c0_i32_6435 : BitVec 32 := 0#32
  let v16352 : BitVec 1 := Scalar.cmpi .slt c128_i32_6431 c0_i32_6435
  let v16353 : BitVec 32 := Scalar.extui v16352
  let v16354 : BitVec 32 := Scalar.subi v16351 v16353
  let v16355 : BitVec 1 := Scalar.cmpi .ne v16349 v16354
  let v16356 : BitVec 32 := Scalar.remsi v16341 c128_i32_6431
  let c0_i32_6436 : BitVec 32 := 0#32
  let v16357 : BitVec 1 := Scalar.cmpi .ne v16356 c0_i32_6436
  let v16358 : BitVec 1 := Scalar.andi v16355 v16357
  let v16344 : BitVec 32 := Scalar.divsi v16341 c128_i32_6431
  let c1_i32_6437 : BitVec 32 := 1#32
  let v16359 : BitVec 32 := Scalar.subi v16344 c1_i32_6437
  let v16360 : BitVec 32 := Scalar.select v16358 v16359 v16344
  let c128_i32_6438 : BitVec 32 := 128#32
  let v16361 : BitVec 32 := Scalar.muli v16360 c128_i32_6438
  v16361

def k1_off896 (v16339 : BitVec 32) (v16341 : BitVec 32) : Fin 3 → Nat :=
  let v16364 : Index := Scalar.indexCast v16339
  let c0_6439 : Index := 0#32
  let c0_i32_6432 : BitVec 32 := 0#32
  let v16345 : BitVec 1 := Scalar.cmpi .sgt v16341 c0_i32_6432
  let v16346 : BitVec 32 := Scalar.extui v16345
  let c0_i32_6433 : BitVec 32 := 0#32
  let v16347 : BitVec 1 := Scalar.cmpi .slt v16341 c0_i32_6433
  let v16348 : BitVec 32 := Scalar.extui v16347
  let v16349 : BitVec 32 := Scalar.subi v16346 v16348
  let c128_i32_6431 : BitVec 32 := 128#32
  let c0_i32_6434 : BitVec 32 := 0#32
  let v16350 : BitVec 1 := Scalar.cmpi .sgt c128_i32_6431 c0_i32_6434
  let v16351 : BitVec 32 := Scalar.extui v16350
  let c0_i32_6435 : BitVec 32 := 0#32
  let v16352 : BitVec 1 := Scalar.cmpi .slt c128_i32_6431 c0_i32_6435
  let v16353 : BitVec 32 := Scalar.extui v16352
  let v16354 : BitVec 32 := Scalar.subi v16351 v16353
  let v16355 : BitVec 1 := Scalar.cmpi .ne v16349 v16354
  let v16356 : BitVec 32 := Scalar.remsi v16341 c128_i32_6431
  let c0_i32_6436 : BitVec 32 := 0#32
  let v16357 : BitVec 1 := Scalar.cmpi .ne v16356 c0_i32_6436
  let v16358 : BitVec 1 := Scalar.andi v16355 v16357
  let v16344 : BitVec 32 := Scalar.divsi v16341 c128_i32_6431
  let c1_i32_6437 : BitVec 32 := 1#32
  let v16359 : BitVec 32 := Scalar.subi v16344 c1_i32_6437
  let v16360 : BitVec 32 := Scalar.select v16358 v16359 v16344
  let c128_i32_6438 : BitVec 32 := 128#32
  let v16361 : BitVec 32 := Scalar.muli v16360 c128_i32_6438
  let v16362 : BitVec 32 := v16361
  let v16365 : Index := Scalar.indexCast v16362
  ![v16364.toNat, 0, v16365.toNat]

def k1_chk287 (v16339 : BitVec 32) (v16341 : BitVec 32) : Prop :=
  (128 ∣ (k1_mult287 v16341).toNat) ∧
  (∀ a, (k1_off896 v16339 v16341) a + S1x16x512.size a ≤ S384x16x1152.size a)
theorem k1_mult287_dvd : ∀ (v16339 : BitVec 32) (v16341 : BitVec 32) (k1_hw287 : k1_chk287 v16339 v16341), 128 ∣ (k1_mult287 v16341).toNat := fun v16339 v16341 k1_hw287 => k1_hw287.1
theorem k1_off896_inb : ∀ (v16339 : BitVec 32) (v16341 : BitVec 32) (k1_hw287 : k1_chk287 v16339 v16341), ∀ a, (k1_off896 v16339 v16341) a + S1x16x512.size a ≤ S384x16x1152.size a := fun v16339 v16341 k1_hw287 => k1_hw287.2

def k1_off897 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16375 : Index := Scalar.indexCast v15999
  let c6_6442 : Index := 6#32
  ![v16375.toNat, 6]
def k1_off898 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16391 : Index := Scalar.indexCast v15999
  let c7_6448 : Index := 7#32
  ![v16391.toNat, 7]
def k1_mult288 (v16394 : BitVec 32) : BitVec 32 :=
  let c0_i32_6452 : BitVec 32 := 0#32
  let v16398 : BitVec 1 := Scalar.cmpi .sgt v16394 c0_i32_6452
  let v16399 : BitVec 32 := Scalar.extui v16398
  let c0_i32_6453 : BitVec 32 := 0#32
  let v16400 : BitVec 1 := Scalar.cmpi .slt v16394 c0_i32_6453
  let v16401 : BitVec 32 := Scalar.extui v16400
  let v16402 : BitVec 32 := Scalar.subi v16399 v16401
  let c128_i32_6451 : BitVec 32 := 128#32
  let c0_i32_6454 : BitVec 32 := 0#32
  let v16403 : BitVec 1 := Scalar.cmpi .sgt c128_i32_6451 c0_i32_6454
  let v16404 : BitVec 32 := Scalar.extui v16403
  let c0_i32_6455 : BitVec 32 := 0#32
  let v16405 : BitVec 1 := Scalar.cmpi .slt c128_i32_6451 c0_i32_6455
  let v16406 : BitVec 32 := Scalar.extui v16405
  let v16407 : BitVec 32 := Scalar.subi v16404 v16406
  let v16408 : BitVec 1 := Scalar.cmpi .ne v16402 v16407
  let v16409 : BitVec 32 := Scalar.remsi v16394 c128_i32_6451
  let c0_i32_6456 : BitVec 32 := 0#32
  let v16410 : BitVec 1 := Scalar.cmpi .ne v16409 c0_i32_6456
  let v16411 : BitVec 1 := Scalar.andi v16408 v16410
  let v16397 : BitVec 32 := Scalar.divsi v16394 c128_i32_6451
  let c1_i32_6457 : BitVec 32 := 1#32
  let v16412 : BitVec 32 := Scalar.subi v16397 c1_i32_6457
  let v16413 : BitVec 32 := Scalar.select v16411 v16412 v16397
  let c128_i32_6458 : BitVec 32 := 128#32
  let v16414 : BitVec 32 := Scalar.muli v16413 c128_i32_6458
  v16414

def k1_off899 (v16392 : BitVec 32) (v16394 : BitVec 32) : Fin 3 → Nat :=
  let v16417 : Index := Scalar.indexCast v16392
  let c0_6459 : Index := 0#32
  let c0_i32_6452 : BitVec 32 := 0#32
  let v16398 : BitVec 1 := Scalar.cmpi .sgt v16394 c0_i32_6452
  let v16399 : BitVec 32 := Scalar.extui v16398
  let c0_i32_6453 : BitVec 32 := 0#32
  let v16400 : BitVec 1 := Scalar.cmpi .slt v16394 c0_i32_6453
  let v16401 : BitVec 32 := Scalar.extui v16400
  let v16402 : BitVec 32 := Scalar.subi v16399 v16401
  let c128_i32_6451 : BitVec 32 := 128#32
  let c0_i32_6454 : BitVec 32 := 0#32
  let v16403 : BitVec 1 := Scalar.cmpi .sgt c128_i32_6451 c0_i32_6454
  let v16404 : BitVec 32 := Scalar.extui v16403
  let c0_i32_6455 : BitVec 32 := 0#32
  let v16405 : BitVec 1 := Scalar.cmpi .slt c128_i32_6451 c0_i32_6455
  let v16406 : BitVec 32 := Scalar.extui v16405
  let v16407 : BitVec 32 := Scalar.subi v16404 v16406
  let v16408 : BitVec 1 := Scalar.cmpi .ne v16402 v16407
  let v16409 : BitVec 32 := Scalar.remsi v16394 c128_i32_6451
  let c0_i32_6456 : BitVec 32 := 0#32
  let v16410 : BitVec 1 := Scalar.cmpi .ne v16409 c0_i32_6456
  let v16411 : BitVec 1 := Scalar.andi v16408 v16410
  let v16397 : BitVec 32 := Scalar.divsi v16394 c128_i32_6451
  let c1_i32_6457 : BitVec 32 := 1#32
  let v16412 : BitVec 32 := Scalar.subi v16397 c1_i32_6457
  let v16413 : BitVec 32 := Scalar.select v16411 v16412 v16397
  let c128_i32_6458 : BitVec 32 := 128#32
  let v16414 : BitVec 32 := Scalar.muli v16413 c128_i32_6458
  let v16415 : BitVec 32 := v16414
  let v16418 : Index := Scalar.indexCast v16415
  ![v16417.toNat, 0, v16418.toNat]

def k1_chk288 (v16392 : BitVec 32) (v16394 : BitVec 32) : Prop :=
  (128 ∣ (k1_mult288 v16394).toNat) ∧
  (∀ a, (k1_off899 v16392 v16394) a + S1x16x512.size a ≤ S384x16x1152.size a)
theorem k1_mult288_dvd : ∀ (v16392 : BitVec 32) (v16394 : BitVec 32) (k1_hw288 : k1_chk288 v16392 v16394), 128 ∣ (k1_mult288 v16394).toNat := fun v16392 v16394 k1_hw288 => k1_hw288.1
theorem k1_off899_inb : ∀ (v16392 : BitVec 32) (v16394 : BitVec 32) (k1_hw288 : k1_chk288 v16392 v16394), ∀ a, (k1_off899 v16392 v16394) a + S1x16x512.size a ≤ S384x16x1152.size a := fun v16392 v16394 k1_hw288 => k1_hw288.2

def k1_off900 (i : grid1.Coords) : Fin 2 → Nat :=
  let arg0 : BitVec 32 := BitVec.ofNat 32 (i 0).val
  let c48_i32_6297 : BitVec 32 := 48#32
  let v15998 : BitVec 32 := Scalar.muli arg0 c48_i32_6297
  let c35_i32 : BitVec 32 := 35#32
  let v15999 : BitVec 32 := Scalar.addi v15998 c35_i32
  let v16428 : Index := Scalar.indexCast v15999
  let c7_6462 : Index := 7#32
  ![v16428.toNat, 7]
def k1_off901 (i : grid1.Coords) : Fin 3 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16457 : Index := Scalar.indexCast v16456
  let c0_6478 : Index := 0#32
  let c720_6479 : Index := 720#32
  ![v16457.toNat, 0, 720]
def k1_off902 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16477 : Index := Scalar.indexCast v16456
  let c0_6488 : Index := 0#32
  ![v16477.toNat, 0]
def k1_mult289 (v16480 : BitVec 32) : BitVec 32 :=
  let c0_i32_6492 : BitVec 32 := 0#32
  let v16484 : BitVec 1 := Scalar.cmpi .sgt v16480 c0_i32_6492
  let v16485 : BitVec 32 := Scalar.extui v16484
  let c0_i32_6493 : BitVec 32 := 0#32
  let v16486 : BitVec 1 := Scalar.cmpi .slt v16480 c0_i32_6493
  let v16487 : BitVec 32 := Scalar.extui v16486
  let v16488 : BitVec 32 := Scalar.subi v16485 v16487
  let c128_i32_6491 : BitVec 32 := 128#32
  let c0_i32_6494 : BitVec 32 := 0#32
  let v16489 : BitVec 1 := Scalar.cmpi .sgt c128_i32_6491 c0_i32_6494
  let v16490 : BitVec 32 := Scalar.extui v16489
  let c0_i32_6495 : BitVec 32 := 0#32
  let v16491 : BitVec 1 := Scalar.cmpi .slt c128_i32_6491 c0_i32_6495
  let v16492 : BitVec 32 := Scalar.extui v16491
  let v16493 : BitVec 32 := Scalar.subi v16490 v16492
  let v16494 : BitVec 1 := Scalar.cmpi .ne v16488 v16493
  let v16495 : BitVec 32 := Scalar.remsi v16480 c128_i32_6491
  let c0_i32_6496 : BitVec 32 := 0#32
  let v16496 : BitVec 1 := Scalar.cmpi .ne v16495 c0_i32_6496
  let v16497 : BitVec 1 := Scalar.andi v16494 v16496
  let v16483 : BitVec 32 := Scalar.divsi v16480 c128_i32_6491
  let c1_i32_6497 : BitVec 32 := 1#32
  let v16498 : BitVec 32 := Scalar.subi v16483 c1_i32_6497
  let v16499 : BitVec 32 := Scalar.select v16497 v16498 v16483
  let c128_i32_6498 : BitVec 32 := 128#32
  let v16500 : BitVec 32 := Scalar.muli v16499 c128_i32_6498
  v16500

def k1_off903 (v16478 : BitVec 32) (v16480 : BitVec 32) : Fin 3 → Nat :=
  let v16503 : Index := Scalar.indexCast v16478
  let c0_6499 : Index := 0#32
  let c0_i32_6492 : BitVec 32 := 0#32
  let v16484 : BitVec 1 := Scalar.cmpi .sgt v16480 c0_i32_6492
  let v16485 : BitVec 32 := Scalar.extui v16484
  let c0_i32_6493 : BitVec 32 := 0#32
  let v16486 : BitVec 1 := Scalar.cmpi .slt v16480 c0_i32_6493
  let v16487 : BitVec 32 := Scalar.extui v16486
  let v16488 : BitVec 32 := Scalar.subi v16485 v16487
  let c128_i32_6491 : BitVec 32 := 128#32
  let c0_i32_6494 : BitVec 32 := 0#32
  let v16489 : BitVec 1 := Scalar.cmpi .sgt c128_i32_6491 c0_i32_6494
  let v16490 : BitVec 32 := Scalar.extui v16489
  let c0_i32_6495 : BitVec 32 := 0#32
  let v16491 : BitVec 1 := Scalar.cmpi .slt c128_i32_6491 c0_i32_6495
  let v16492 : BitVec 32 := Scalar.extui v16491
  let v16493 : BitVec 32 := Scalar.subi v16490 v16492
  let v16494 : BitVec 1 := Scalar.cmpi .ne v16488 v16493
  let v16495 : BitVec 32 := Scalar.remsi v16480 c128_i32_6491
  let c0_i32_6496 : BitVec 32 := 0#32
  let v16496 : BitVec 1 := Scalar.cmpi .ne v16495 c0_i32_6496
  let v16497 : BitVec 1 := Scalar.andi v16494 v16496
  let v16483 : BitVec 32 := Scalar.divsi v16480 c128_i32_6491
  let c1_i32_6497 : BitVec 32 := 1#32
  let v16498 : BitVec 32 := Scalar.subi v16483 c1_i32_6497
  let v16499 : BitVec 32 := Scalar.select v16497 v16498 v16483
  let c128_i32_6498 : BitVec 32 := 128#32
  let v16500 : BitVec 32 := Scalar.muli v16499 c128_i32_6498
  let v16501 : BitVec 32 := v16500
  let v16504 : Index := Scalar.indexCast v16501
  ![v16503.toNat, 0, v16504.toNat]

def k1_chk289 (v16478 : BitVec 32) (v16480 : BitVec 32) : Prop :=
  (128 ∣ (k1_mult289 v16480).toNat) ∧
  (∀ a, (k1_off903 v16478 v16480) a + S1x16x512.size a ≤ S384x16x1152.size a)
theorem k1_mult289_dvd : ∀ (v16478 : BitVec 32) (v16480 : BitVec 32) (k1_hw289 : k1_chk289 v16478 v16480), 128 ∣ (k1_mult289 v16480).toNat := fun v16478 v16480 k1_hw289 => k1_hw289.1
theorem k1_off903_inb : ∀ (v16478 : BitVec 32) (v16480 : BitVec 32) (k1_hw289 : k1_chk289 v16478 v16480), ∀ a, (k1_off903 v16478 v16480) a + S1x16x512.size a ≤ S384x16x1152.size a := fun v16478 v16480 k1_hw289 => k1_hw289.2

def k1_off904 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16514 : Index := Scalar.indexCast v16456
  let c0_6502 : Index := 0#32
  ![v16514.toNat, 0]
def k1_off905 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16530 : Index := Scalar.indexCast v16456
  let c1_6508 : Index := 1#32
  ![v16530.toNat, 1]
def k1_mult290 (v16533 : BitVec 32) : BitVec 32 :=
  let c0_i32_6512 : BitVec 32 := 0#32
  let v16537 : BitVec 1 := Scalar.cmpi .sgt v16533 c0_i32_6512
  let v16538 : BitVec 32 := Scalar.extui v16537
  let c0_i32_6513 : BitVec 32 := 0#32
  let v16539 : BitVec 1 := Scalar.cmpi .slt v16533 c0_i32_6513
  let v16540 : BitVec 32 := Scalar.extui v16539
  let v16541 : BitVec 32 := Scalar.subi v16538 v16540
  let c128_i32_6511 : BitVec 32 := 128#32
  let c0_i32_6514 : BitVec 32 := 0#32
  let v16542 : BitVec 1 := Scalar.cmpi .sgt c128_i32_6511 c0_i32_6514
  let v16543 : BitVec 32 := Scalar.extui v16542
  let c0_i32_6515 : BitVec 32 := 0#32
  let v16544 : BitVec 1 := Scalar.cmpi .slt c128_i32_6511 c0_i32_6515
  let v16545 : BitVec 32 := Scalar.extui v16544
  let v16546 : BitVec 32 := Scalar.subi v16543 v16545
  let v16547 : BitVec 1 := Scalar.cmpi .ne v16541 v16546
  let v16548 : BitVec 32 := Scalar.remsi v16533 c128_i32_6511
  let c0_i32_6516 : BitVec 32 := 0#32
  let v16549 : BitVec 1 := Scalar.cmpi .ne v16548 c0_i32_6516
  let v16550 : BitVec 1 := Scalar.andi v16547 v16549
  let v16536 : BitVec 32 := Scalar.divsi v16533 c128_i32_6511
  let c1_i32_6517 : BitVec 32 := 1#32
  let v16551 : BitVec 32 := Scalar.subi v16536 c1_i32_6517
  let v16552 : BitVec 32 := Scalar.select v16550 v16551 v16536
  let c128_i32_6518 : BitVec 32 := 128#32
  let v16553 : BitVec 32 := Scalar.muli v16552 c128_i32_6518
  v16553

def k1_off906 (v16531 : BitVec 32) (v16533 : BitVec 32) : Fin 3 → Nat :=
  let v16556 : Index := Scalar.indexCast v16531
  let c0_6519 : Index := 0#32
  let c0_i32_6512 : BitVec 32 := 0#32
  let v16537 : BitVec 1 := Scalar.cmpi .sgt v16533 c0_i32_6512
  let v16538 : BitVec 32 := Scalar.extui v16537
  let c0_i32_6513 : BitVec 32 := 0#32
  let v16539 : BitVec 1 := Scalar.cmpi .slt v16533 c0_i32_6513
  let v16540 : BitVec 32 := Scalar.extui v16539
  let v16541 : BitVec 32 := Scalar.subi v16538 v16540
  let c128_i32_6511 : BitVec 32 := 128#32
  let c0_i32_6514 : BitVec 32 := 0#32
  let v16542 : BitVec 1 := Scalar.cmpi .sgt c128_i32_6511 c0_i32_6514
  let v16543 : BitVec 32 := Scalar.extui v16542
  let c0_i32_6515 : BitVec 32 := 0#32
  let v16544 : BitVec 1 := Scalar.cmpi .slt c128_i32_6511 c0_i32_6515
  let v16545 : BitVec 32 := Scalar.extui v16544
  let v16546 : BitVec 32 := Scalar.subi v16543 v16545
  let v16547 : BitVec 1 := Scalar.cmpi .ne v16541 v16546
  let v16548 : BitVec 32 := Scalar.remsi v16533 c128_i32_6511
  let c0_i32_6516 : BitVec 32 := 0#32
  let v16549 : BitVec 1 := Scalar.cmpi .ne v16548 c0_i32_6516
  let v16550 : BitVec 1 := Scalar.andi v16547 v16549
  let v16536 : BitVec 32 := Scalar.divsi v16533 c128_i32_6511
  let c1_i32_6517 : BitVec 32 := 1#32
  let v16551 : BitVec 32 := Scalar.subi v16536 c1_i32_6517
  let v16552 : BitVec 32 := Scalar.select v16550 v16551 v16536
  let c128_i32_6518 : BitVec 32 := 128#32
  let v16553 : BitVec 32 := Scalar.muli v16552 c128_i32_6518
  let v16554 : BitVec 32 := v16553
  let v16557 : Index := Scalar.indexCast v16554
  ![v16556.toNat, 0, v16557.toNat]

def k1_chk290 (v16531 : BitVec 32) (v16533 : BitVec 32) : Prop :=
  (128 ∣ (k1_mult290 v16533).toNat) ∧
  (∀ a, (k1_off906 v16531 v16533) a + S1x16x512.size a ≤ S384x16x1152.size a)
theorem k1_mult290_dvd : ∀ (v16531 : BitVec 32) (v16533 : BitVec 32) (k1_hw290 : k1_chk290 v16531 v16533), 128 ∣ (k1_mult290 v16533).toNat := fun v16531 v16533 k1_hw290 => k1_hw290.1
theorem k1_off906_inb : ∀ (v16531 : BitVec 32) (v16533 : BitVec 32) (k1_hw290 : k1_chk290 v16531 v16533), ∀ a, (k1_off906 v16531 v16533) a + S1x16x512.size a ≤ S384x16x1152.size a := fun v16531 v16533 k1_hw290 => k1_hw290.2

def k1_off907 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16567 : Index := Scalar.indexCast v16456
  let c1_6522 : Index := 1#32
  ![v16567.toNat, 1]
def k1_off908 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16583 : Index := Scalar.indexCast v16456
  let c2_6528 : Index := 2#32
  ![v16583.toNat, 2]
def k1_mult291 (v16586 : BitVec 32) : BitVec 32 :=
  let c0_i32_6532 : BitVec 32 := 0#32
  let v16590 : BitVec 1 := Scalar.cmpi .sgt v16586 c0_i32_6532
  let v16591 : BitVec 32 := Scalar.extui v16590
  let c0_i32_6533 : BitVec 32 := 0#32
  let v16592 : BitVec 1 := Scalar.cmpi .slt v16586 c0_i32_6533
  let v16593 : BitVec 32 := Scalar.extui v16592
  let v16594 : BitVec 32 := Scalar.subi v16591 v16593
  let c128_i32_6531 : BitVec 32 := 128#32
  let c0_i32_6534 : BitVec 32 := 0#32
  let v16595 : BitVec 1 := Scalar.cmpi .sgt c128_i32_6531 c0_i32_6534
  let v16596 : BitVec 32 := Scalar.extui v16595
  let c0_i32_6535 : BitVec 32 := 0#32
  let v16597 : BitVec 1 := Scalar.cmpi .slt c128_i32_6531 c0_i32_6535
  let v16598 : BitVec 32 := Scalar.extui v16597
  let v16599 : BitVec 32 := Scalar.subi v16596 v16598
  let v16600 : BitVec 1 := Scalar.cmpi .ne v16594 v16599
  let v16601 : BitVec 32 := Scalar.remsi v16586 c128_i32_6531
  let c0_i32_6536 : BitVec 32 := 0#32
  let v16602 : BitVec 1 := Scalar.cmpi .ne v16601 c0_i32_6536
  let v16603 : BitVec 1 := Scalar.andi v16600 v16602
  let v16589 : BitVec 32 := Scalar.divsi v16586 c128_i32_6531
  let c1_i32_6537 : BitVec 32 := 1#32
  let v16604 : BitVec 32 := Scalar.subi v16589 c1_i32_6537
  let v16605 : BitVec 32 := Scalar.select v16603 v16604 v16589
  let c128_i32_6538 : BitVec 32 := 128#32
  let v16606 : BitVec 32 := Scalar.muli v16605 c128_i32_6538
  v16606

def k1_off909 (v16584 : BitVec 32) (v16586 : BitVec 32) : Fin 3 → Nat :=
  let v16609 : Index := Scalar.indexCast v16584
  let c0_6539 : Index := 0#32
  let c0_i32_6532 : BitVec 32 := 0#32
  let v16590 : BitVec 1 := Scalar.cmpi .sgt v16586 c0_i32_6532
  let v16591 : BitVec 32 := Scalar.extui v16590
  let c0_i32_6533 : BitVec 32 := 0#32
  let v16592 : BitVec 1 := Scalar.cmpi .slt v16586 c0_i32_6533
  let v16593 : BitVec 32 := Scalar.extui v16592
  let v16594 : BitVec 32 := Scalar.subi v16591 v16593
  let c128_i32_6531 : BitVec 32 := 128#32
  let c0_i32_6534 : BitVec 32 := 0#32
  let v16595 : BitVec 1 := Scalar.cmpi .sgt c128_i32_6531 c0_i32_6534
  let v16596 : BitVec 32 := Scalar.extui v16595
  let c0_i32_6535 : BitVec 32 := 0#32
  let v16597 : BitVec 1 := Scalar.cmpi .slt c128_i32_6531 c0_i32_6535
  let v16598 : BitVec 32 := Scalar.extui v16597
  let v16599 : BitVec 32 := Scalar.subi v16596 v16598
  let v16600 : BitVec 1 := Scalar.cmpi .ne v16594 v16599
  let v16601 : BitVec 32 := Scalar.remsi v16586 c128_i32_6531
  let c0_i32_6536 : BitVec 32 := 0#32
  let v16602 : BitVec 1 := Scalar.cmpi .ne v16601 c0_i32_6536
  let v16603 : BitVec 1 := Scalar.andi v16600 v16602
  let v16589 : BitVec 32 := Scalar.divsi v16586 c128_i32_6531
  let c1_i32_6537 : BitVec 32 := 1#32
  let v16604 : BitVec 32 := Scalar.subi v16589 c1_i32_6537
  let v16605 : BitVec 32 := Scalar.select v16603 v16604 v16589
  let c128_i32_6538 : BitVec 32 := 128#32
  let v16606 : BitVec 32 := Scalar.muli v16605 c128_i32_6538
  let v16607 : BitVec 32 := v16606
  let v16610 : Index := Scalar.indexCast v16607
  ![v16609.toNat, 0, v16610.toNat]

def k1_chk291 (v16584 : BitVec 32) (v16586 : BitVec 32) : Prop :=
  (128 ∣ (k1_mult291 v16586).toNat) ∧
  (∀ a, (k1_off909 v16584 v16586) a + S1x16x512.size a ≤ S384x16x1152.size a)
theorem k1_mult291_dvd : ∀ (v16584 : BitVec 32) (v16586 : BitVec 32) (k1_hw291 : k1_chk291 v16584 v16586), 128 ∣ (k1_mult291 v16586).toNat := fun v16584 v16586 k1_hw291 => k1_hw291.1
theorem k1_off909_inb : ∀ (v16584 : BitVec 32) (v16586 : BitVec 32) (k1_hw291 : k1_chk291 v16584 v16586), ∀ a, (k1_off909 v16584 v16586) a + S1x16x512.size a ≤ S384x16x1152.size a := fun v16584 v16586 k1_hw291 => k1_hw291.2

def k1_off910 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16620 : Index := Scalar.indexCast v16456
  let c2_6542 : Index := 2#32
  ![v16620.toNat, 2]
def k1_off911 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16636 : Index := Scalar.indexCast v16456
  let c3_6548 : Index := 3#32
  ![v16636.toNat, 3]
def k1_mult292 (v16639 : BitVec 32) : BitVec 32 :=
  let c0_i32_6552 : BitVec 32 := 0#32
  let v16643 : BitVec 1 := Scalar.cmpi .sgt v16639 c0_i32_6552
  let v16644 : BitVec 32 := Scalar.extui v16643
  let c0_i32_6553 : BitVec 32 := 0#32
  let v16645 : BitVec 1 := Scalar.cmpi .slt v16639 c0_i32_6553
  let v16646 : BitVec 32 := Scalar.extui v16645
  let v16647 : BitVec 32 := Scalar.subi v16644 v16646
  let c128_i32_6551 : BitVec 32 := 128#32
  let c0_i32_6554 : BitVec 32 := 0#32
  let v16648 : BitVec 1 := Scalar.cmpi .sgt c128_i32_6551 c0_i32_6554
  let v16649 : BitVec 32 := Scalar.extui v16648
  let c0_i32_6555 : BitVec 32 := 0#32
  let v16650 : BitVec 1 := Scalar.cmpi .slt c128_i32_6551 c0_i32_6555
  let v16651 : BitVec 32 := Scalar.extui v16650
  let v16652 : BitVec 32 := Scalar.subi v16649 v16651
  let v16653 : BitVec 1 := Scalar.cmpi .ne v16647 v16652
  let v16654 : BitVec 32 := Scalar.remsi v16639 c128_i32_6551
  let c0_i32_6556 : BitVec 32 := 0#32
  let v16655 : BitVec 1 := Scalar.cmpi .ne v16654 c0_i32_6556
  let v16656 : BitVec 1 := Scalar.andi v16653 v16655
  let v16642 : BitVec 32 := Scalar.divsi v16639 c128_i32_6551
  let c1_i32_6557 : BitVec 32 := 1#32
  let v16657 : BitVec 32 := Scalar.subi v16642 c1_i32_6557
  let v16658 : BitVec 32 := Scalar.select v16656 v16657 v16642
  let c128_i32_6558 : BitVec 32 := 128#32
  let v16659 : BitVec 32 := Scalar.muli v16658 c128_i32_6558
  v16659

def k1_off912 (v16637 : BitVec 32) (v16639 : BitVec 32) : Fin 3 → Nat :=
  let v16662 : Index := Scalar.indexCast v16637
  let c0_6559 : Index := 0#32
  let c0_i32_6552 : BitVec 32 := 0#32
  let v16643 : BitVec 1 := Scalar.cmpi .sgt v16639 c0_i32_6552
  let v16644 : BitVec 32 := Scalar.extui v16643
  let c0_i32_6553 : BitVec 32 := 0#32
  let v16645 : BitVec 1 := Scalar.cmpi .slt v16639 c0_i32_6553
  let v16646 : BitVec 32 := Scalar.extui v16645
  let v16647 : BitVec 32 := Scalar.subi v16644 v16646
  let c128_i32_6551 : BitVec 32 := 128#32
  let c0_i32_6554 : BitVec 32 := 0#32
  let v16648 : BitVec 1 := Scalar.cmpi .sgt c128_i32_6551 c0_i32_6554
  let v16649 : BitVec 32 := Scalar.extui v16648
  let c0_i32_6555 : BitVec 32 := 0#32
  let v16650 : BitVec 1 := Scalar.cmpi .slt c128_i32_6551 c0_i32_6555
  let v16651 : BitVec 32 := Scalar.extui v16650
  let v16652 : BitVec 32 := Scalar.subi v16649 v16651
  let v16653 : BitVec 1 := Scalar.cmpi .ne v16647 v16652
  let v16654 : BitVec 32 := Scalar.remsi v16639 c128_i32_6551
  let c0_i32_6556 : BitVec 32 := 0#32
  let v16655 : BitVec 1 := Scalar.cmpi .ne v16654 c0_i32_6556
  let v16656 : BitVec 1 := Scalar.andi v16653 v16655
  let v16642 : BitVec 32 := Scalar.divsi v16639 c128_i32_6551
  let c1_i32_6557 : BitVec 32 := 1#32
  let v16657 : BitVec 32 := Scalar.subi v16642 c1_i32_6557
  let v16658 : BitVec 32 := Scalar.select v16656 v16657 v16642
  let c128_i32_6558 : BitVec 32 := 128#32
  let v16659 : BitVec 32 := Scalar.muli v16658 c128_i32_6558
  let v16660 : BitVec 32 := v16659
  let v16663 : Index := Scalar.indexCast v16660
  ![v16662.toNat, 0, v16663.toNat]

def k1_chk292 (v16637 : BitVec 32) (v16639 : BitVec 32) : Prop :=
  (128 ∣ (k1_mult292 v16639).toNat) ∧
  (∀ a, (k1_off912 v16637 v16639) a + S1x16x512.size a ≤ S384x16x1152.size a)
theorem k1_mult292_dvd : ∀ (v16637 : BitVec 32) (v16639 : BitVec 32) (k1_hw292 : k1_chk292 v16637 v16639), 128 ∣ (k1_mult292 v16639).toNat := fun v16637 v16639 k1_hw292 => k1_hw292.1
theorem k1_off912_inb : ∀ (v16637 : BitVec 32) (v16639 : BitVec 32) (k1_hw292 : k1_chk292 v16637 v16639), ∀ a, (k1_off912 v16637 v16639) a + S1x16x512.size a ≤ S384x16x1152.size a := fun v16637 v16639 k1_hw292 => k1_hw292.2

def k1_off913 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16673 : Index := Scalar.indexCast v16456
  let c3_6562 : Index := 3#32
  ![v16673.toNat, 3]
def k1_off914 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16689 : Index := Scalar.indexCast v16456
  let c4_6568 : Index := 4#32
  ![v16689.toNat, 4]
def k1_mult293 (v16692 : BitVec 32) : BitVec 32 :=
  let c0_i32_6572 : BitVec 32 := 0#32
  let v16696 : BitVec 1 := Scalar.cmpi .sgt v16692 c0_i32_6572
  let v16697 : BitVec 32 := Scalar.extui v16696
  let c0_i32_6573 : BitVec 32 := 0#32
  let v16698 : BitVec 1 := Scalar.cmpi .slt v16692 c0_i32_6573
  let v16699 : BitVec 32 := Scalar.extui v16698
  let v16700 : BitVec 32 := Scalar.subi v16697 v16699
  let c128_i32_6571 : BitVec 32 := 128#32
  let c0_i32_6574 : BitVec 32 := 0#32
  let v16701 : BitVec 1 := Scalar.cmpi .sgt c128_i32_6571 c0_i32_6574
  let v16702 : BitVec 32 := Scalar.extui v16701
  let c0_i32_6575 : BitVec 32 := 0#32
  let v16703 : BitVec 1 := Scalar.cmpi .slt c128_i32_6571 c0_i32_6575
  let v16704 : BitVec 32 := Scalar.extui v16703
  let v16705 : BitVec 32 := Scalar.subi v16702 v16704
  let v16706 : BitVec 1 := Scalar.cmpi .ne v16700 v16705
  let v16707 : BitVec 32 := Scalar.remsi v16692 c128_i32_6571
  let c0_i32_6576 : BitVec 32 := 0#32
  let v16708 : BitVec 1 := Scalar.cmpi .ne v16707 c0_i32_6576
  let v16709 : BitVec 1 := Scalar.andi v16706 v16708
  let v16695 : BitVec 32 := Scalar.divsi v16692 c128_i32_6571
  let c1_i32_6577 : BitVec 32 := 1#32
  let v16710 : BitVec 32 := Scalar.subi v16695 c1_i32_6577
  let v16711 : BitVec 32 := Scalar.select v16709 v16710 v16695
  let c128_i32_6578 : BitVec 32 := 128#32
  let v16712 : BitVec 32 := Scalar.muli v16711 c128_i32_6578
  v16712

def k1_off915 (v16690 : BitVec 32) (v16692 : BitVec 32) : Fin 3 → Nat :=
  let v16715 : Index := Scalar.indexCast v16690
  let c0_6579 : Index := 0#32
  let c0_i32_6572 : BitVec 32 := 0#32
  let v16696 : BitVec 1 := Scalar.cmpi .sgt v16692 c0_i32_6572
  let v16697 : BitVec 32 := Scalar.extui v16696
  let c0_i32_6573 : BitVec 32 := 0#32
  let v16698 : BitVec 1 := Scalar.cmpi .slt v16692 c0_i32_6573
  let v16699 : BitVec 32 := Scalar.extui v16698
  let v16700 : BitVec 32 := Scalar.subi v16697 v16699
  let c128_i32_6571 : BitVec 32 := 128#32
  let c0_i32_6574 : BitVec 32 := 0#32
  let v16701 : BitVec 1 := Scalar.cmpi .sgt c128_i32_6571 c0_i32_6574
  let v16702 : BitVec 32 := Scalar.extui v16701
  let c0_i32_6575 : BitVec 32 := 0#32
  let v16703 : BitVec 1 := Scalar.cmpi .slt c128_i32_6571 c0_i32_6575
  let v16704 : BitVec 32 := Scalar.extui v16703
  let v16705 : BitVec 32 := Scalar.subi v16702 v16704
  let v16706 : BitVec 1 := Scalar.cmpi .ne v16700 v16705
  let v16707 : BitVec 32 := Scalar.remsi v16692 c128_i32_6571
  let c0_i32_6576 : BitVec 32 := 0#32
  let v16708 : BitVec 1 := Scalar.cmpi .ne v16707 c0_i32_6576
  let v16709 : BitVec 1 := Scalar.andi v16706 v16708
  let v16695 : BitVec 32 := Scalar.divsi v16692 c128_i32_6571
  let c1_i32_6577 : BitVec 32 := 1#32
  let v16710 : BitVec 32 := Scalar.subi v16695 c1_i32_6577
  let v16711 : BitVec 32 := Scalar.select v16709 v16710 v16695
  let c128_i32_6578 : BitVec 32 := 128#32
  let v16712 : BitVec 32 := Scalar.muli v16711 c128_i32_6578
  let v16713 : BitVec 32 := v16712
  let v16716 : Index := Scalar.indexCast v16713
  ![v16715.toNat, 0, v16716.toNat]

def k1_chk293 (v16690 : BitVec 32) (v16692 : BitVec 32) : Prop :=
  (128 ∣ (k1_mult293 v16692).toNat) ∧
  (∀ a, (k1_off915 v16690 v16692) a + S1x16x512.size a ≤ S384x16x1152.size a)
theorem k1_mult293_dvd : ∀ (v16690 : BitVec 32) (v16692 : BitVec 32) (k1_hw293 : k1_chk293 v16690 v16692), 128 ∣ (k1_mult293 v16692).toNat := fun v16690 v16692 k1_hw293 => k1_hw293.1
theorem k1_off915_inb : ∀ (v16690 : BitVec 32) (v16692 : BitVec 32) (k1_hw293 : k1_chk293 v16690 v16692), ∀ a, (k1_off915 v16690 v16692) a + S1x16x512.size a ≤ S384x16x1152.size a := fun v16690 v16692 k1_hw293 => k1_hw293.2

def k1_off916 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16726 : Index := Scalar.indexCast v16456
  let c4_6582 : Index := 4#32
  ![v16726.toNat, 4]
def k1_off917 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16742 : Index := Scalar.indexCast v16456
  let c5_6588 : Index := 5#32
  ![v16742.toNat, 5]
def k1_mult294 (v16745 : BitVec 32) : BitVec 32 :=
  let c0_i32_6592 : BitVec 32 := 0#32
  let v16749 : BitVec 1 := Scalar.cmpi .sgt v16745 c0_i32_6592
  let v16750 : BitVec 32 := Scalar.extui v16749
  let c0_i32_6593 : BitVec 32 := 0#32
  let v16751 : BitVec 1 := Scalar.cmpi .slt v16745 c0_i32_6593
  let v16752 : BitVec 32 := Scalar.extui v16751
  let v16753 : BitVec 32 := Scalar.subi v16750 v16752
  let c128_i32_6591 : BitVec 32 := 128#32
  let c0_i32_6594 : BitVec 32 := 0#32
  let v16754 : BitVec 1 := Scalar.cmpi .sgt c128_i32_6591 c0_i32_6594
  let v16755 : BitVec 32 := Scalar.extui v16754
  let c0_i32_6595 : BitVec 32 := 0#32
  let v16756 : BitVec 1 := Scalar.cmpi .slt c128_i32_6591 c0_i32_6595
  let v16757 : BitVec 32 := Scalar.extui v16756
  let v16758 : BitVec 32 := Scalar.subi v16755 v16757
  let v16759 : BitVec 1 := Scalar.cmpi .ne v16753 v16758
  let v16760 : BitVec 32 := Scalar.remsi v16745 c128_i32_6591
  let c0_i32_6596 : BitVec 32 := 0#32
  let v16761 : BitVec 1 := Scalar.cmpi .ne v16760 c0_i32_6596
  let v16762 : BitVec 1 := Scalar.andi v16759 v16761
  let v16748 : BitVec 32 := Scalar.divsi v16745 c128_i32_6591
  let c1_i32_6597 : BitVec 32 := 1#32
  let v16763 : BitVec 32 := Scalar.subi v16748 c1_i32_6597
  let v16764 : BitVec 32 := Scalar.select v16762 v16763 v16748
  let c128_i32_6598 : BitVec 32 := 128#32
  let v16765 : BitVec 32 := Scalar.muli v16764 c128_i32_6598
  v16765

def k1_off918 (v16743 : BitVec 32) (v16745 : BitVec 32) : Fin 3 → Nat :=
  let v16768 : Index := Scalar.indexCast v16743
  let c0_6599 : Index := 0#32
  let c0_i32_6592 : BitVec 32 := 0#32
  let v16749 : BitVec 1 := Scalar.cmpi .sgt v16745 c0_i32_6592
  let v16750 : BitVec 32 := Scalar.extui v16749
  let c0_i32_6593 : BitVec 32 := 0#32
  let v16751 : BitVec 1 := Scalar.cmpi .slt v16745 c0_i32_6593
  let v16752 : BitVec 32 := Scalar.extui v16751
  let v16753 : BitVec 32 := Scalar.subi v16750 v16752
  let c128_i32_6591 : BitVec 32 := 128#32
  let c0_i32_6594 : BitVec 32 := 0#32
  let v16754 : BitVec 1 := Scalar.cmpi .sgt c128_i32_6591 c0_i32_6594
  let v16755 : BitVec 32 := Scalar.extui v16754
  let c0_i32_6595 : BitVec 32 := 0#32
  let v16756 : BitVec 1 := Scalar.cmpi .slt c128_i32_6591 c0_i32_6595
  let v16757 : BitVec 32 := Scalar.extui v16756
  let v16758 : BitVec 32 := Scalar.subi v16755 v16757
  let v16759 : BitVec 1 := Scalar.cmpi .ne v16753 v16758
  let v16760 : BitVec 32 := Scalar.remsi v16745 c128_i32_6591
  let c0_i32_6596 : BitVec 32 := 0#32
  let v16761 : BitVec 1 := Scalar.cmpi .ne v16760 c0_i32_6596
  let v16762 : BitVec 1 := Scalar.andi v16759 v16761
  let v16748 : BitVec 32 := Scalar.divsi v16745 c128_i32_6591
  let c1_i32_6597 : BitVec 32 := 1#32
  let v16763 : BitVec 32 := Scalar.subi v16748 c1_i32_6597
  let v16764 : BitVec 32 := Scalar.select v16762 v16763 v16748
  let c128_i32_6598 : BitVec 32 := 128#32
  let v16765 : BitVec 32 := Scalar.muli v16764 c128_i32_6598
  let v16766 : BitVec 32 := v16765
  let v16769 : Index := Scalar.indexCast v16766
  ![v16768.toNat, 0, v16769.toNat]

def k1_chk294 (v16743 : BitVec 32) (v16745 : BitVec 32) : Prop :=
  (128 ∣ (k1_mult294 v16745).toNat) ∧
  (∀ a, (k1_off918 v16743 v16745) a + S1x16x512.size a ≤ S384x16x1152.size a)
theorem k1_mult294_dvd : ∀ (v16743 : BitVec 32) (v16745 : BitVec 32) (k1_hw294 : k1_chk294 v16743 v16745), 128 ∣ (k1_mult294 v16745).toNat := fun v16743 v16745 k1_hw294 => k1_hw294.1
theorem k1_off918_inb : ∀ (v16743 : BitVec 32) (v16745 : BitVec 32) (k1_hw294 : k1_chk294 v16743 v16745), ∀ a, (k1_off918 v16743 v16745) a + S1x16x512.size a ≤ S384x16x1152.size a := fun v16743 v16745 k1_hw294 => k1_hw294.2

def k1_off919 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16779 : Index := Scalar.indexCast v16456
  let c5_6602 : Index := 5#32
  ![v16779.toNat, 5]
def k1_off920 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16795 : Index := Scalar.indexCast v16456
  let c6_6608 : Index := 6#32
  ![v16795.toNat, 6]
def k1_mult295 (v16798 : BitVec 32) : BitVec 32 :=
  let c0_i32_6612 : BitVec 32 := 0#32
  let v16802 : BitVec 1 := Scalar.cmpi .sgt v16798 c0_i32_6612
  let v16803 : BitVec 32 := Scalar.extui v16802
  let c0_i32_6613 : BitVec 32 := 0#32
  let v16804 : BitVec 1 := Scalar.cmpi .slt v16798 c0_i32_6613
  let v16805 : BitVec 32 := Scalar.extui v16804
  let v16806 : BitVec 32 := Scalar.subi v16803 v16805
  let c128_i32_6611 : BitVec 32 := 128#32
  let c0_i32_6614 : BitVec 32 := 0#32
  let v16807 : BitVec 1 := Scalar.cmpi .sgt c128_i32_6611 c0_i32_6614
  let v16808 : BitVec 32 := Scalar.extui v16807
  let c0_i32_6615 : BitVec 32 := 0#32
  let v16809 : BitVec 1 := Scalar.cmpi .slt c128_i32_6611 c0_i32_6615
  let v16810 : BitVec 32 := Scalar.extui v16809
  let v16811 : BitVec 32 := Scalar.subi v16808 v16810
  let v16812 : BitVec 1 := Scalar.cmpi .ne v16806 v16811
  let v16813 : BitVec 32 := Scalar.remsi v16798 c128_i32_6611
  let c0_i32_6616 : BitVec 32 := 0#32
  let v16814 : BitVec 1 := Scalar.cmpi .ne v16813 c0_i32_6616
  let v16815 : BitVec 1 := Scalar.andi v16812 v16814
  let v16801 : BitVec 32 := Scalar.divsi v16798 c128_i32_6611
  let c1_i32_6617 : BitVec 32 := 1#32
  let v16816 : BitVec 32 := Scalar.subi v16801 c1_i32_6617
  let v16817 : BitVec 32 := Scalar.select v16815 v16816 v16801
  let c128_i32_6618 : BitVec 32 := 128#32
  let v16818 : BitVec 32 := Scalar.muli v16817 c128_i32_6618
  v16818

def k1_off921 (v16796 : BitVec 32) (v16798 : BitVec 32) : Fin 3 → Nat :=
  let v16821 : Index := Scalar.indexCast v16796
  let c0_6619 : Index := 0#32
  let c0_i32_6612 : BitVec 32 := 0#32
  let v16802 : BitVec 1 := Scalar.cmpi .sgt v16798 c0_i32_6612
  let v16803 : BitVec 32 := Scalar.extui v16802
  let c0_i32_6613 : BitVec 32 := 0#32
  let v16804 : BitVec 1 := Scalar.cmpi .slt v16798 c0_i32_6613
  let v16805 : BitVec 32 := Scalar.extui v16804
  let v16806 : BitVec 32 := Scalar.subi v16803 v16805
  let c128_i32_6611 : BitVec 32 := 128#32
  let c0_i32_6614 : BitVec 32 := 0#32
  let v16807 : BitVec 1 := Scalar.cmpi .sgt c128_i32_6611 c0_i32_6614
  let v16808 : BitVec 32 := Scalar.extui v16807
  let c0_i32_6615 : BitVec 32 := 0#32
  let v16809 : BitVec 1 := Scalar.cmpi .slt c128_i32_6611 c0_i32_6615
  let v16810 : BitVec 32 := Scalar.extui v16809
  let v16811 : BitVec 32 := Scalar.subi v16808 v16810
  let v16812 : BitVec 1 := Scalar.cmpi .ne v16806 v16811
  let v16813 : BitVec 32 := Scalar.remsi v16798 c128_i32_6611
  let c0_i32_6616 : BitVec 32 := 0#32
  let v16814 : BitVec 1 := Scalar.cmpi .ne v16813 c0_i32_6616
  let v16815 : BitVec 1 := Scalar.andi v16812 v16814
  let v16801 : BitVec 32 := Scalar.divsi v16798 c128_i32_6611
  let c1_i32_6617 : BitVec 32 := 1#32
  let v16816 : BitVec 32 := Scalar.subi v16801 c1_i32_6617
  let v16817 : BitVec 32 := Scalar.select v16815 v16816 v16801
  let c128_i32_6618 : BitVec 32 := 128#32
  let v16818 : BitVec 32 := Scalar.muli v16817 c128_i32_6618
  let v16819 : BitVec 32 := v16818
  let v16822 : Index := Scalar.indexCast v16819
  ![v16821.toNat, 0, v16822.toNat]

def k1_chk295 (v16796 : BitVec 32) (v16798 : BitVec 32) : Prop :=
  (128 ∣ (k1_mult295 v16798).toNat) ∧
  (∀ a, (k1_off921 v16796 v16798) a + S1x16x512.size a ≤ S384x16x1152.size a)
theorem k1_mult295_dvd : ∀ (v16796 : BitVec 32) (v16798 : BitVec 32) (k1_hw295 : k1_chk295 v16796 v16798), 128 ∣ (k1_mult295 v16798).toNat := fun v16796 v16798 k1_hw295 => k1_hw295.1
theorem k1_off921_inb : ∀ (v16796 : BitVec 32) (v16798 : BitVec 32) (k1_hw295 : k1_chk295 v16796 v16798), ∀ a, (k1_off921 v16796 v16798) a + S1x16x512.size a ≤ S384x16x1152.size a := fun v16796 v16798 k1_hw295 => k1_hw295.2

def k1_off922 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16832 : Index := Scalar.indexCast v16456
  let c6_6622 : Index := 6#32
  ![v16832.toNat, 6]
def k1_off923 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16848 : Index := Scalar.indexCast v16456
  let c7_6628 : Index := 7#32
  ![v16848.toNat, 7]
def k1_mult296 (v16851 : BitVec 32) : BitVec 32 :=
  let c0_i32_6632 : BitVec 32 := 0#32
  let v16855 : BitVec 1 := Scalar.cmpi .sgt v16851 c0_i32_6632
  let v16856 : BitVec 32 := Scalar.extui v16855
  let c0_i32_6633 : BitVec 32 := 0#32
  let v16857 : BitVec 1 := Scalar.cmpi .slt v16851 c0_i32_6633
  let v16858 : BitVec 32 := Scalar.extui v16857
  let v16859 : BitVec 32 := Scalar.subi v16856 v16858
  let c128_i32_6631 : BitVec 32 := 128#32
  let c0_i32_6634 : BitVec 32 := 0#32
  let v16860 : BitVec 1 := Scalar.cmpi .sgt c128_i32_6631 c0_i32_6634
  let v16861 : BitVec 32 := Scalar.extui v16860
  let c0_i32_6635 : BitVec 32 := 0#32
  let v16862 : BitVec 1 := Scalar.cmpi .slt c128_i32_6631 c0_i32_6635
  let v16863 : BitVec 32 := Scalar.extui v16862
  let v16864 : BitVec 32 := Scalar.subi v16861 v16863
  let v16865 : BitVec 1 := Scalar.cmpi .ne v16859 v16864
  let v16866 : BitVec 32 := Scalar.remsi v16851 c128_i32_6631
  let c0_i32_6636 : BitVec 32 := 0#32
  let v16867 : BitVec 1 := Scalar.cmpi .ne v16866 c0_i32_6636
  let v16868 : BitVec 1 := Scalar.andi v16865 v16867
  let v16854 : BitVec 32 := Scalar.divsi v16851 c128_i32_6631
  let c1_i32_6637 : BitVec 32 := 1#32
  let v16869 : BitVec 32 := Scalar.subi v16854 c1_i32_6637
  let v16870 : BitVec 32 := Scalar.select v16868 v16869 v16854
  let c128_i32_6638 : BitVec 32 := 128#32
  let v16871 : BitVec 32 := Scalar.muli v16870 c128_i32_6638
  v16871

def k1_off924 (v16849 : BitVec 32) (v16851 : BitVec 32) : Fin 3 → Nat :=
  let v16874 : Index := Scalar.indexCast v16849
  let c0_6639 : Index := 0#32
  let c0_i32_6632 : BitVec 32 := 0#32
  let v16855 : BitVec 1 := Scalar.cmpi .sgt v16851 c0_i32_6632
  let v16856 : BitVec 32 := Scalar.extui v16855
  let c0_i32_6633 : BitVec 32 := 0#32
  let v16857 : BitVec 1 := Scalar.cmpi .slt v16851 c0_i32_6633
  let v16858 : BitVec 32 := Scalar.extui v16857
  let v16859 : BitVec 32 := Scalar.subi v16856 v16858
  let c128_i32_6631 : BitVec 32 := 128#32
  let c0_i32_6634 : BitVec 32 := 0#32
  let v16860 : BitVec 1 := Scalar.cmpi .sgt c128_i32_6631 c0_i32_6634
  let v16861 : BitVec 32 := Scalar.extui v16860
  let c0_i32_6635 : BitVec 32 := 0#32
  let v16862 : BitVec 1 := Scalar.cmpi .slt c128_i32_6631 c0_i32_6635
  let v16863 : BitVec 32 := Scalar.extui v16862
  let v16864 : BitVec 32 := Scalar.subi v16861 v16863
  let v16865 : BitVec 1 := Scalar.cmpi .ne v16859 v16864
  let v16866 : BitVec 32 := Scalar.remsi v16851 c128_i32_6631
  let c0_i32_6636 : BitVec 32 := 0#32
  let v16867 : BitVec 1 := Scalar.cmpi .ne v16866 c0_i32_6636
  let v16868 : BitVec 1 := Scalar.andi v16865 v16867
  let v16854 : BitVec 32 := Scalar.divsi v16851 c128_i32_6631
  let c1_i32_6637 : BitVec 32 := 1#32
  let v16869 : BitVec 32 := Scalar.subi v16854 c1_i32_6637
  let v16870 : BitVec 32 := Scalar.select v16868 v16869 v16854
  let c128_i32_6638 : BitVec 32 := 128#32
  let v16871 : BitVec 32 := Scalar.muli v16870 c128_i32_6638
  let v16872 : BitVec 32 := v16871
  let v16875 : Index := Scalar.indexCast v16872
  ![v16874.toNat, 0, v16875.toNat]

def k1_chk296 (v16849 : BitVec 32) (v16851 : BitVec 32) : Prop :=
  (128 ∣ (k1_mult296 v16851).toNat) ∧
  (∀ a, (k1_off924 v16849 v16851) a + S1x16x512.size a ≤ S384x16x1152.size a)
theorem k1_mult296_dvd : ∀ (v16849 : BitVec 32) (v16851 : BitVec 32) (k1_hw296 : k1_chk296 v16849 v16851), 128 ∣ (k1_mult296 v16851).toNat := fun v16849 v16851 k1_hw296 => k1_hw296.1
theorem k1_off924_inb : ∀ (v16849 : BitVec 32) (v16851 : BitVec 32) (k1_hw296 : k1_chk296 v16849 v16851), ∀ a, (k1_off924 v16849 v16851) a + S1x16x512.size a ≤ S384x16x1152.size a := fun v16849 v16851 k1_hw296 => k1_hw296.2

def k1_off925 (i : grid1.Coords) : Fin 2 → Nat :=
  let arg0 : BitVec 32 := BitVec.ofNat 32 (i 0).val
  let c48_i32_6477 : BitVec 32 := 48#32
  let v16455 : BitVec 32 := Scalar.muli arg0 c48_i32_6477
  let c36_i32 : BitVec 32 := 36#32
  let v16456 : BitVec 32 := Scalar.addi v16455 c36_i32
  let v16885 : Index := Scalar.indexCast v16456
  let c7_6642 : Index := 7#32
  ![v16885.toNat, 7]
def k1_off926 (i : grid1.Coords) : Fin 3 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v16914 : Index := Scalar.indexCast v16913
  let c0_6658 : Index := 0#32
  let c720_6659 : Index := 720#32
  ![v16914.toNat, 0, 720]
def k1_off927 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v16934 : Index := Scalar.indexCast v16913
  let c0_6668 : Index := 0#32
  ![v16934.toNat, 0]
def k1_mult297 (v16937 : BitVec 32) : BitVec 32 :=
  let c0_i32_6672 : BitVec 32 := 0#32
  let v16941 : BitVec 1 := Scalar.cmpi .sgt v16937 c0_i32_6672
  let v16942 : BitVec 32 := Scalar.extui v16941
  let c0_i32_6673 : BitVec 32 := 0#32
  let v16943 : BitVec 1 := Scalar.cmpi .slt v16937 c0_i32_6673
  let v16944 : BitVec 32 := Scalar.extui v16943
  let v16945 : BitVec 32 := Scalar.subi v16942 v16944
  let c128_i32_6671 : BitVec 32 := 128#32
  let c0_i32_6674 : BitVec 32 := 0#32
  let v16946 : BitVec 1 := Scalar.cmpi .sgt c128_i32_6671 c0_i32_6674
  let v16947 : BitVec 32 := Scalar.extui v16946
  let c0_i32_6675 : BitVec 32 := 0#32
  let v16948 : BitVec 1 := Scalar.cmpi .slt c128_i32_6671 c0_i32_6675
  let v16949 : BitVec 32 := Scalar.extui v16948
  let v16950 : BitVec 32 := Scalar.subi v16947 v16949
  let v16951 : BitVec 1 := Scalar.cmpi .ne v16945 v16950
  let v16952 : BitVec 32 := Scalar.remsi v16937 c128_i32_6671
  let c0_i32_6676 : BitVec 32 := 0#32
  let v16953 : BitVec 1 := Scalar.cmpi .ne v16952 c0_i32_6676
  let v16954 : BitVec 1 := Scalar.andi v16951 v16953
  let v16940 : BitVec 32 := Scalar.divsi v16937 c128_i32_6671
  let c1_i32_6677 : BitVec 32 := 1#32
  let v16955 : BitVec 32 := Scalar.subi v16940 c1_i32_6677
  let v16956 : BitVec 32 := Scalar.select v16954 v16955 v16940
  let c128_i32_6678 : BitVec 32 := 128#32
  let v16957 : BitVec 32 := Scalar.muli v16956 c128_i32_6678
  v16957

def k1_off928 (v16935 : BitVec 32) (v16937 : BitVec 32) : Fin 3 → Nat :=
  let v16960 : Index := Scalar.indexCast v16935
  let c0_6679 : Index := 0#32
  let c0_i32_6672 : BitVec 32 := 0#32
  let v16941 : BitVec 1 := Scalar.cmpi .sgt v16937 c0_i32_6672
  let v16942 : BitVec 32 := Scalar.extui v16941
  let c0_i32_6673 : BitVec 32 := 0#32
  let v16943 : BitVec 1 := Scalar.cmpi .slt v16937 c0_i32_6673
  let v16944 : BitVec 32 := Scalar.extui v16943
  let v16945 : BitVec 32 := Scalar.subi v16942 v16944
  let c128_i32_6671 : BitVec 32 := 128#32
  let c0_i32_6674 : BitVec 32 := 0#32
  let v16946 : BitVec 1 := Scalar.cmpi .sgt c128_i32_6671 c0_i32_6674
  let v16947 : BitVec 32 := Scalar.extui v16946
  let c0_i32_6675 : BitVec 32 := 0#32
  let v16948 : BitVec 1 := Scalar.cmpi .slt c128_i32_6671 c0_i32_6675
  let v16949 : BitVec 32 := Scalar.extui v16948
  let v16950 : BitVec 32 := Scalar.subi v16947 v16949
  let v16951 : BitVec 1 := Scalar.cmpi .ne v16945 v16950
  let v16952 : BitVec 32 := Scalar.remsi v16937 c128_i32_6671
  let c0_i32_6676 : BitVec 32 := 0#32
  let v16953 : BitVec 1 := Scalar.cmpi .ne v16952 c0_i32_6676
  let v16954 : BitVec 1 := Scalar.andi v16951 v16953
  let v16940 : BitVec 32 := Scalar.divsi v16937 c128_i32_6671
  let c1_i32_6677 : BitVec 32 := 1#32
  let v16955 : BitVec 32 := Scalar.subi v16940 c1_i32_6677
  let v16956 : BitVec 32 := Scalar.select v16954 v16955 v16940
  let c128_i32_6678 : BitVec 32 := 128#32
  let v16957 : BitVec 32 := Scalar.muli v16956 c128_i32_6678
  let v16958 : BitVec 32 := v16957
  let v16961 : Index := Scalar.indexCast v16958
  ![v16960.toNat, 0, v16961.toNat]

def k1_chk297 (v16935 : BitVec 32) (v16937 : BitVec 32) : Prop :=
  (128 ∣ (k1_mult297 v16937).toNat) ∧
  (∀ a, (k1_off928 v16935 v16937) a + S1x16x512.size a ≤ S384x16x1152.size a)
theorem k1_mult297_dvd : ∀ (v16935 : BitVec 32) (v16937 : BitVec 32) (k1_hw297 : k1_chk297 v16935 v16937), 128 ∣ (k1_mult297 v16937).toNat := fun v16935 v16937 k1_hw297 => k1_hw297.1
theorem k1_off928_inb : ∀ (v16935 : BitVec 32) (v16937 : BitVec 32) (k1_hw297 : k1_chk297 v16935 v16937), ∀ a, (k1_off928 v16935 v16937) a + S1x16x512.size a ≤ S384x16x1152.size a := fun v16935 v16937 k1_hw297 => k1_hw297.2

def k1_off929 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v16971 : Index := Scalar.indexCast v16913
  let c0_6682 : Index := 0#32
  ![v16971.toNat, 0]
def k1_off930 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v16987 : Index := Scalar.indexCast v16913
  let c1_6688 : Index := 1#32
  ![v16987.toNat, 1]
def k1_mult298 (v16990 : BitVec 32) : BitVec 32 :=
  let c0_i32_6692 : BitVec 32 := 0#32
  let v16994 : BitVec 1 := Scalar.cmpi .sgt v16990 c0_i32_6692
  let v16995 : BitVec 32 := Scalar.extui v16994
  let c0_i32_6693 : BitVec 32 := 0#32
  let v16996 : BitVec 1 := Scalar.cmpi .slt v16990 c0_i32_6693
  let v16997 : BitVec 32 := Scalar.extui v16996
  let v16998 : BitVec 32 := Scalar.subi v16995 v16997
  let c128_i32_6691 : BitVec 32 := 128#32
  let c0_i32_6694 : BitVec 32 := 0#32
  let v16999 : BitVec 1 := Scalar.cmpi .sgt c128_i32_6691 c0_i32_6694
  let v17000 : BitVec 32 := Scalar.extui v16999
  let c0_i32_6695 : BitVec 32 := 0#32
  let v17001 : BitVec 1 := Scalar.cmpi .slt c128_i32_6691 c0_i32_6695
  let v17002 : BitVec 32 := Scalar.extui v17001
  let v17003 : BitVec 32 := Scalar.subi v17000 v17002
  let v17004 : BitVec 1 := Scalar.cmpi .ne v16998 v17003
  let v17005 : BitVec 32 := Scalar.remsi v16990 c128_i32_6691
  let c0_i32_6696 : BitVec 32 := 0#32
  let v17006 : BitVec 1 := Scalar.cmpi .ne v17005 c0_i32_6696
  let v17007 : BitVec 1 := Scalar.andi v17004 v17006
  let v16993 : BitVec 32 := Scalar.divsi v16990 c128_i32_6691
  let c1_i32_6697 : BitVec 32 := 1#32
  let v17008 : BitVec 32 := Scalar.subi v16993 c1_i32_6697
  let v17009 : BitVec 32 := Scalar.select v17007 v17008 v16993
  let c128_i32_6698 : BitVec 32 := 128#32
  let v17010 : BitVec 32 := Scalar.muli v17009 c128_i32_6698
  v17010

def k1_off931 (v16988 : BitVec 32) (v16990 : BitVec 32) : Fin 3 → Nat :=
  let v17013 : Index := Scalar.indexCast v16988
  let c0_6699 : Index := 0#32
  let c0_i32_6692 : BitVec 32 := 0#32
  let v16994 : BitVec 1 := Scalar.cmpi .sgt v16990 c0_i32_6692
  let v16995 : BitVec 32 := Scalar.extui v16994
  let c0_i32_6693 : BitVec 32 := 0#32
  let v16996 : BitVec 1 := Scalar.cmpi .slt v16990 c0_i32_6693
  let v16997 : BitVec 32 := Scalar.extui v16996
  let v16998 : BitVec 32 := Scalar.subi v16995 v16997
  let c128_i32_6691 : BitVec 32 := 128#32
  let c0_i32_6694 : BitVec 32 := 0#32
  let v16999 : BitVec 1 := Scalar.cmpi .sgt c128_i32_6691 c0_i32_6694
  let v17000 : BitVec 32 := Scalar.extui v16999
  let c0_i32_6695 : BitVec 32 := 0#32
  let v17001 : BitVec 1 := Scalar.cmpi .slt c128_i32_6691 c0_i32_6695
  let v17002 : BitVec 32 := Scalar.extui v17001
  let v17003 : BitVec 32 := Scalar.subi v17000 v17002
  let v17004 : BitVec 1 := Scalar.cmpi .ne v16998 v17003
  let v17005 : BitVec 32 := Scalar.remsi v16990 c128_i32_6691
  let c0_i32_6696 : BitVec 32 := 0#32
  let v17006 : BitVec 1 := Scalar.cmpi .ne v17005 c0_i32_6696
  let v17007 : BitVec 1 := Scalar.andi v17004 v17006
  let v16993 : BitVec 32 := Scalar.divsi v16990 c128_i32_6691
  let c1_i32_6697 : BitVec 32 := 1#32
  let v17008 : BitVec 32 := Scalar.subi v16993 c1_i32_6697
  let v17009 : BitVec 32 := Scalar.select v17007 v17008 v16993
  let c128_i32_6698 : BitVec 32 := 128#32
  let v17010 : BitVec 32 := Scalar.muli v17009 c128_i32_6698
  let v17011 : BitVec 32 := v17010
  let v17014 : Index := Scalar.indexCast v17011
  ![v17013.toNat, 0, v17014.toNat]

def k1_chk298 (v16988 : BitVec 32) (v16990 : BitVec 32) : Prop :=
  (128 ∣ (k1_mult298 v16990).toNat) ∧
  (∀ a, (k1_off931 v16988 v16990) a + S1x16x512.size a ≤ S384x16x1152.size a)
theorem k1_mult298_dvd : ∀ (v16988 : BitVec 32) (v16990 : BitVec 32) (k1_hw298 : k1_chk298 v16988 v16990), 128 ∣ (k1_mult298 v16990).toNat := fun v16988 v16990 k1_hw298 => k1_hw298.1
theorem k1_off931_inb : ∀ (v16988 : BitVec 32) (v16990 : BitVec 32) (k1_hw298 : k1_chk298 v16988 v16990), ∀ a, (k1_off931 v16988 v16990) a + S1x16x512.size a ≤ S384x16x1152.size a := fun v16988 v16990 k1_hw298 => k1_hw298.2

def k1_off932 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17024 : Index := Scalar.indexCast v16913
  let c1_6702 : Index := 1#32
  ![v17024.toNat, 1]
def k1_off933 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17040 : Index := Scalar.indexCast v16913
  let c2_6708 : Index := 2#32
  ![v17040.toNat, 2]
def k1_mult299 (v17043 : BitVec 32) : BitVec 32 :=
  let c0_i32_6712 : BitVec 32 := 0#32
  let v17047 : BitVec 1 := Scalar.cmpi .sgt v17043 c0_i32_6712
  let v17048 : BitVec 32 := Scalar.extui v17047
  let c0_i32_6713 : BitVec 32 := 0#32
  let v17049 : BitVec 1 := Scalar.cmpi .slt v17043 c0_i32_6713
  let v17050 : BitVec 32 := Scalar.extui v17049
  let v17051 : BitVec 32 := Scalar.subi v17048 v17050
  let c128_i32_6711 : BitVec 32 := 128#32
  let c0_i32_6714 : BitVec 32 := 0#32
  let v17052 : BitVec 1 := Scalar.cmpi .sgt c128_i32_6711 c0_i32_6714
  let v17053 : BitVec 32 := Scalar.extui v17052
  let c0_i32_6715 : BitVec 32 := 0#32
  let v17054 : BitVec 1 := Scalar.cmpi .slt c128_i32_6711 c0_i32_6715
  let v17055 : BitVec 32 := Scalar.extui v17054
  let v17056 : BitVec 32 := Scalar.subi v17053 v17055
  let v17057 : BitVec 1 := Scalar.cmpi .ne v17051 v17056
  let v17058 : BitVec 32 := Scalar.remsi v17043 c128_i32_6711
  let c0_i32_6716 : BitVec 32 := 0#32
  let v17059 : BitVec 1 := Scalar.cmpi .ne v17058 c0_i32_6716
  let v17060 : BitVec 1 := Scalar.andi v17057 v17059
  let v17046 : BitVec 32 := Scalar.divsi v17043 c128_i32_6711
  let c1_i32_6717 : BitVec 32 := 1#32
  let v17061 : BitVec 32 := Scalar.subi v17046 c1_i32_6717
  let v17062 : BitVec 32 := Scalar.select v17060 v17061 v17046
  let c128_i32_6718 : BitVec 32 := 128#32
  let v17063 : BitVec 32 := Scalar.muli v17062 c128_i32_6718
  v17063

def k1_off934 (v17041 : BitVec 32) (v17043 : BitVec 32) : Fin 3 → Nat :=
  let v17066 : Index := Scalar.indexCast v17041
  let c0_6719 : Index := 0#32
  let c0_i32_6712 : BitVec 32 := 0#32
  let v17047 : BitVec 1 := Scalar.cmpi .sgt v17043 c0_i32_6712
  let v17048 : BitVec 32 := Scalar.extui v17047
  let c0_i32_6713 : BitVec 32 := 0#32
  let v17049 : BitVec 1 := Scalar.cmpi .slt v17043 c0_i32_6713
  let v17050 : BitVec 32 := Scalar.extui v17049
  let v17051 : BitVec 32 := Scalar.subi v17048 v17050
  let c128_i32_6711 : BitVec 32 := 128#32
  let c0_i32_6714 : BitVec 32 := 0#32
  let v17052 : BitVec 1 := Scalar.cmpi .sgt c128_i32_6711 c0_i32_6714
  let v17053 : BitVec 32 := Scalar.extui v17052
  let c0_i32_6715 : BitVec 32 := 0#32
  let v17054 : BitVec 1 := Scalar.cmpi .slt c128_i32_6711 c0_i32_6715
  let v17055 : BitVec 32 := Scalar.extui v17054
  let v17056 : BitVec 32 := Scalar.subi v17053 v17055
  let v17057 : BitVec 1 := Scalar.cmpi .ne v17051 v17056
  let v17058 : BitVec 32 := Scalar.remsi v17043 c128_i32_6711
  let c0_i32_6716 : BitVec 32 := 0#32
  let v17059 : BitVec 1 := Scalar.cmpi .ne v17058 c0_i32_6716
  let v17060 : BitVec 1 := Scalar.andi v17057 v17059
  let v17046 : BitVec 32 := Scalar.divsi v17043 c128_i32_6711
  let c1_i32_6717 : BitVec 32 := 1#32
  let v17061 : BitVec 32 := Scalar.subi v17046 c1_i32_6717
  let v17062 : BitVec 32 := Scalar.select v17060 v17061 v17046
  let c128_i32_6718 : BitVec 32 := 128#32
  let v17063 : BitVec 32 := Scalar.muli v17062 c128_i32_6718
  let v17064 : BitVec 32 := v17063
  let v17067 : Index := Scalar.indexCast v17064
  ![v17066.toNat, 0, v17067.toNat]

def k1_chk299 (v17041 : BitVec 32) (v17043 : BitVec 32) : Prop :=
  (128 ∣ (k1_mult299 v17043).toNat) ∧
  (∀ a, (k1_off934 v17041 v17043) a + S1x16x512.size a ≤ S384x16x1152.size a)
theorem k1_mult299_dvd : ∀ (v17041 : BitVec 32) (v17043 : BitVec 32) (k1_hw299 : k1_chk299 v17041 v17043), 128 ∣ (k1_mult299 v17043).toNat := fun v17041 v17043 k1_hw299 => k1_hw299.1
theorem k1_off934_inb : ∀ (v17041 : BitVec 32) (v17043 : BitVec 32) (k1_hw299 : k1_chk299 v17041 v17043), ∀ a, (k1_off934 v17041 v17043) a + S1x16x512.size a ≤ S384x16x1152.size a := fun v17041 v17043 k1_hw299 => k1_hw299.2

def k1_off935 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17077 : Index := Scalar.indexCast v16913
  let c2_6722 : Index := 2#32
  ![v17077.toNat, 2]
def k1_off936 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17093 : Index := Scalar.indexCast v16913
  let c3_6728 : Index := 3#32
  ![v17093.toNat, 3]
def k1_mult300 (v17096 : BitVec 32) : BitVec 32 :=
  let c0_i32_6732 : BitVec 32 := 0#32
  let v17100 : BitVec 1 := Scalar.cmpi .sgt v17096 c0_i32_6732
  let v17101 : BitVec 32 := Scalar.extui v17100
  let c0_i32_6733 : BitVec 32 := 0#32
  let v17102 : BitVec 1 := Scalar.cmpi .slt v17096 c0_i32_6733
  let v17103 : BitVec 32 := Scalar.extui v17102
  let v17104 : BitVec 32 := Scalar.subi v17101 v17103
  let c128_i32_6731 : BitVec 32 := 128#32
  let c0_i32_6734 : BitVec 32 := 0#32
  let v17105 : BitVec 1 := Scalar.cmpi .sgt c128_i32_6731 c0_i32_6734
  let v17106 : BitVec 32 := Scalar.extui v17105
  let c0_i32_6735 : BitVec 32 := 0#32
  let v17107 : BitVec 1 := Scalar.cmpi .slt c128_i32_6731 c0_i32_6735
  let v17108 : BitVec 32 := Scalar.extui v17107
  let v17109 : BitVec 32 := Scalar.subi v17106 v17108
  let v17110 : BitVec 1 := Scalar.cmpi .ne v17104 v17109
  let v17111 : BitVec 32 := Scalar.remsi v17096 c128_i32_6731
  let c0_i32_6736 : BitVec 32 := 0#32
  let v17112 : BitVec 1 := Scalar.cmpi .ne v17111 c0_i32_6736
  let v17113 : BitVec 1 := Scalar.andi v17110 v17112
  let v17099 : BitVec 32 := Scalar.divsi v17096 c128_i32_6731
  let c1_i32_6737 : BitVec 32 := 1#32
  let v17114 : BitVec 32 := Scalar.subi v17099 c1_i32_6737
  let v17115 : BitVec 32 := Scalar.select v17113 v17114 v17099
  let c128_i32_6738 : BitVec 32 := 128#32
  let v17116 : BitVec 32 := Scalar.muli v17115 c128_i32_6738
  v17116

def k1_off937 (v17094 : BitVec 32) (v17096 : BitVec 32) : Fin 3 → Nat :=
  let v17119 : Index := Scalar.indexCast v17094
  let c0_6739 : Index := 0#32
  let c0_i32_6732 : BitVec 32 := 0#32
  let v17100 : BitVec 1 := Scalar.cmpi .sgt v17096 c0_i32_6732
  let v17101 : BitVec 32 := Scalar.extui v17100
  let c0_i32_6733 : BitVec 32 := 0#32
  let v17102 : BitVec 1 := Scalar.cmpi .slt v17096 c0_i32_6733
  let v17103 : BitVec 32 := Scalar.extui v17102
  let v17104 : BitVec 32 := Scalar.subi v17101 v17103
  let c128_i32_6731 : BitVec 32 := 128#32
  let c0_i32_6734 : BitVec 32 := 0#32
  let v17105 : BitVec 1 := Scalar.cmpi .sgt c128_i32_6731 c0_i32_6734
  let v17106 : BitVec 32 := Scalar.extui v17105
  let c0_i32_6735 : BitVec 32 := 0#32
  let v17107 : BitVec 1 := Scalar.cmpi .slt c128_i32_6731 c0_i32_6735
  let v17108 : BitVec 32 := Scalar.extui v17107
  let v17109 : BitVec 32 := Scalar.subi v17106 v17108
  let v17110 : BitVec 1 := Scalar.cmpi .ne v17104 v17109
  let v17111 : BitVec 32 := Scalar.remsi v17096 c128_i32_6731
  let c0_i32_6736 : BitVec 32 := 0#32
  let v17112 : BitVec 1 := Scalar.cmpi .ne v17111 c0_i32_6736
  let v17113 : BitVec 1 := Scalar.andi v17110 v17112
  let v17099 : BitVec 32 := Scalar.divsi v17096 c128_i32_6731
  let c1_i32_6737 : BitVec 32 := 1#32
  let v17114 : BitVec 32 := Scalar.subi v17099 c1_i32_6737
  let v17115 : BitVec 32 := Scalar.select v17113 v17114 v17099
  let c128_i32_6738 : BitVec 32 := 128#32
  let v17116 : BitVec 32 := Scalar.muli v17115 c128_i32_6738
  let v17117 : BitVec 32 := v17116
  let v17120 : Index := Scalar.indexCast v17117
  ![v17119.toNat, 0, v17120.toNat]

def k1_chk300 (v17094 : BitVec 32) (v17096 : BitVec 32) : Prop :=
  (128 ∣ (k1_mult300 v17096).toNat) ∧
  (∀ a, (k1_off937 v17094 v17096) a + S1x16x512.size a ≤ S384x16x1152.size a)
theorem k1_mult300_dvd : ∀ (v17094 : BitVec 32) (v17096 : BitVec 32) (k1_hw300 : k1_chk300 v17094 v17096), 128 ∣ (k1_mult300 v17096).toNat := fun v17094 v17096 k1_hw300 => k1_hw300.1
theorem k1_off937_inb : ∀ (v17094 : BitVec 32) (v17096 : BitVec 32) (k1_hw300 : k1_chk300 v17094 v17096), ∀ a, (k1_off937 v17094 v17096) a + S1x16x512.size a ≤ S384x16x1152.size a := fun v17094 v17096 k1_hw300 => k1_hw300.2

def k1_off938 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17130 : Index := Scalar.indexCast v16913
  let c3_6742 : Index := 3#32
  ![v17130.toNat, 3]
def k1_off939 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17146 : Index := Scalar.indexCast v16913
  let c4_6748 : Index := 4#32
  ![v17146.toNat, 4]
def k1_mult301 (v17149 : BitVec 32) : BitVec 32 :=
  let c0_i32_6752 : BitVec 32 := 0#32
  let v17153 : BitVec 1 := Scalar.cmpi .sgt v17149 c0_i32_6752
  let v17154 : BitVec 32 := Scalar.extui v17153
  let c0_i32_6753 : BitVec 32 := 0#32
  let v17155 : BitVec 1 := Scalar.cmpi .slt v17149 c0_i32_6753
  let v17156 : BitVec 32 := Scalar.extui v17155
  let v17157 : BitVec 32 := Scalar.subi v17154 v17156
  let c128_i32_6751 : BitVec 32 := 128#32
  let c0_i32_6754 : BitVec 32 := 0#32
  let v17158 : BitVec 1 := Scalar.cmpi .sgt c128_i32_6751 c0_i32_6754
  let v17159 : BitVec 32 := Scalar.extui v17158
  let c0_i32_6755 : BitVec 32 := 0#32
  let v17160 : BitVec 1 := Scalar.cmpi .slt c128_i32_6751 c0_i32_6755
  let v17161 : BitVec 32 := Scalar.extui v17160
  let v17162 : BitVec 32 := Scalar.subi v17159 v17161
  let v17163 : BitVec 1 := Scalar.cmpi .ne v17157 v17162
  let v17164 : BitVec 32 := Scalar.remsi v17149 c128_i32_6751
  let c0_i32_6756 : BitVec 32 := 0#32
  let v17165 : BitVec 1 := Scalar.cmpi .ne v17164 c0_i32_6756
  let v17166 : BitVec 1 := Scalar.andi v17163 v17165
  let v17152 : BitVec 32 := Scalar.divsi v17149 c128_i32_6751
  let c1_i32_6757 : BitVec 32 := 1#32
  let v17167 : BitVec 32 := Scalar.subi v17152 c1_i32_6757
  let v17168 : BitVec 32 := Scalar.select v17166 v17167 v17152
  let c128_i32_6758 : BitVec 32 := 128#32
  let v17169 : BitVec 32 := Scalar.muli v17168 c128_i32_6758
  v17169

def k1_off940 (v17147 : BitVec 32) (v17149 : BitVec 32) : Fin 3 → Nat :=
  let v17172 : Index := Scalar.indexCast v17147
  let c0_6759 : Index := 0#32
  let c0_i32_6752 : BitVec 32 := 0#32
  let v17153 : BitVec 1 := Scalar.cmpi .sgt v17149 c0_i32_6752
  let v17154 : BitVec 32 := Scalar.extui v17153
  let c0_i32_6753 : BitVec 32 := 0#32
  let v17155 : BitVec 1 := Scalar.cmpi .slt v17149 c0_i32_6753
  let v17156 : BitVec 32 := Scalar.extui v17155
  let v17157 : BitVec 32 := Scalar.subi v17154 v17156
  let c128_i32_6751 : BitVec 32 := 128#32
  let c0_i32_6754 : BitVec 32 := 0#32
  let v17158 : BitVec 1 := Scalar.cmpi .sgt c128_i32_6751 c0_i32_6754
  let v17159 : BitVec 32 := Scalar.extui v17158
  let c0_i32_6755 : BitVec 32 := 0#32
  let v17160 : BitVec 1 := Scalar.cmpi .slt c128_i32_6751 c0_i32_6755
  let v17161 : BitVec 32 := Scalar.extui v17160
  let v17162 : BitVec 32 := Scalar.subi v17159 v17161
  let v17163 : BitVec 1 := Scalar.cmpi .ne v17157 v17162
  let v17164 : BitVec 32 := Scalar.remsi v17149 c128_i32_6751
  let c0_i32_6756 : BitVec 32 := 0#32
  let v17165 : BitVec 1 := Scalar.cmpi .ne v17164 c0_i32_6756
  let v17166 : BitVec 1 := Scalar.andi v17163 v17165
  let v17152 : BitVec 32 := Scalar.divsi v17149 c128_i32_6751
  let c1_i32_6757 : BitVec 32 := 1#32
  let v17167 : BitVec 32 := Scalar.subi v17152 c1_i32_6757
  let v17168 : BitVec 32 := Scalar.select v17166 v17167 v17152
  let c128_i32_6758 : BitVec 32 := 128#32
  let v17169 : BitVec 32 := Scalar.muli v17168 c128_i32_6758
  let v17170 : BitVec 32 := v17169
  let v17173 : Index := Scalar.indexCast v17170
  ![v17172.toNat, 0, v17173.toNat]

def k1_chk301 (v17147 : BitVec 32) (v17149 : BitVec 32) : Prop :=
  (128 ∣ (k1_mult301 v17149).toNat) ∧
  (∀ a, (k1_off940 v17147 v17149) a + S1x16x512.size a ≤ S384x16x1152.size a)
theorem k1_mult301_dvd : ∀ (v17147 : BitVec 32) (v17149 : BitVec 32) (k1_hw301 : k1_chk301 v17147 v17149), 128 ∣ (k1_mult301 v17149).toNat := fun v17147 v17149 k1_hw301 => k1_hw301.1
theorem k1_off940_inb : ∀ (v17147 : BitVec 32) (v17149 : BitVec 32) (k1_hw301 : k1_chk301 v17147 v17149), ∀ a, (k1_off940 v17147 v17149) a + S1x16x512.size a ≤ S384x16x1152.size a := fun v17147 v17149 k1_hw301 => k1_hw301.2

def k1_off941 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17183 : Index := Scalar.indexCast v16913
  let c4_6762 : Index := 4#32
  ![v17183.toNat, 4]
def k1_off942 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17199 : Index := Scalar.indexCast v16913
  let c5_6768 : Index := 5#32
  ![v17199.toNat, 5]
def k1_mult302 (v17202 : BitVec 32) : BitVec 32 :=
  let c0_i32_6772 : BitVec 32 := 0#32
  let v17206 : BitVec 1 := Scalar.cmpi .sgt v17202 c0_i32_6772
  let v17207 : BitVec 32 := Scalar.extui v17206
  let c0_i32_6773 : BitVec 32 := 0#32
  let v17208 : BitVec 1 := Scalar.cmpi .slt v17202 c0_i32_6773
  let v17209 : BitVec 32 := Scalar.extui v17208
  let v17210 : BitVec 32 := Scalar.subi v17207 v17209
  let c128_i32_6771 : BitVec 32 := 128#32
  let c0_i32_6774 : BitVec 32 := 0#32
  let v17211 : BitVec 1 := Scalar.cmpi .sgt c128_i32_6771 c0_i32_6774
  let v17212 : BitVec 32 := Scalar.extui v17211
  let c0_i32_6775 : BitVec 32 := 0#32
  let v17213 : BitVec 1 := Scalar.cmpi .slt c128_i32_6771 c0_i32_6775
  let v17214 : BitVec 32 := Scalar.extui v17213
  let v17215 : BitVec 32 := Scalar.subi v17212 v17214
  let v17216 : BitVec 1 := Scalar.cmpi .ne v17210 v17215
  let v17217 : BitVec 32 := Scalar.remsi v17202 c128_i32_6771
  let c0_i32_6776 : BitVec 32 := 0#32
  let v17218 : BitVec 1 := Scalar.cmpi .ne v17217 c0_i32_6776
  let v17219 : BitVec 1 := Scalar.andi v17216 v17218
  let v17205 : BitVec 32 := Scalar.divsi v17202 c128_i32_6771
  let c1_i32_6777 : BitVec 32 := 1#32
  let v17220 : BitVec 32 := Scalar.subi v17205 c1_i32_6777
  let v17221 : BitVec 32 := Scalar.select v17219 v17220 v17205
  let c128_i32_6778 : BitVec 32 := 128#32
  let v17222 : BitVec 32 := Scalar.muli v17221 c128_i32_6778
  v17222

def k1_off943 (v17200 : BitVec 32) (v17202 : BitVec 32) : Fin 3 → Nat :=
  let v17225 : Index := Scalar.indexCast v17200
  let c0_6779 : Index := 0#32
  let c0_i32_6772 : BitVec 32 := 0#32
  let v17206 : BitVec 1 := Scalar.cmpi .sgt v17202 c0_i32_6772
  let v17207 : BitVec 32 := Scalar.extui v17206
  let c0_i32_6773 : BitVec 32 := 0#32
  let v17208 : BitVec 1 := Scalar.cmpi .slt v17202 c0_i32_6773
  let v17209 : BitVec 32 := Scalar.extui v17208
  let v17210 : BitVec 32 := Scalar.subi v17207 v17209
  let c128_i32_6771 : BitVec 32 := 128#32
  let c0_i32_6774 : BitVec 32 := 0#32
  let v17211 : BitVec 1 := Scalar.cmpi .sgt c128_i32_6771 c0_i32_6774
  let v17212 : BitVec 32 := Scalar.extui v17211
  let c0_i32_6775 : BitVec 32 := 0#32
  let v17213 : BitVec 1 := Scalar.cmpi .slt c128_i32_6771 c0_i32_6775
  let v17214 : BitVec 32 := Scalar.extui v17213
  let v17215 : BitVec 32 := Scalar.subi v17212 v17214
  let v17216 : BitVec 1 := Scalar.cmpi .ne v17210 v17215
  let v17217 : BitVec 32 := Scalar.remsi v17202 c128_i32_6771
  let c0_i32_6776 : BitVec 32 := 0#32
  let v17218 : BitVec 1 := Scalar.cmpi .ne v17217 c0_i32_6776
  let v17219 : BitVec 1 := Scalar.andi v17216 v17218
  let v17205 : BitVec 32 := Scalar.divsi v17202 c128_i32_6771
  let c1_i32_6777 : BitVec 32 := 1#32
  let v17220 : BitVec 32 := Scalar.subi v17205 c1_i32_6777
  let v17221 : BitVec 32 := Scalar.select v17219 v17220 v17205
  let c128_i32_6778 : BitVec 32 := 128#32
  let v17222 : BitVec 32 := Scalar.muli v17221 c128_i32_6778
  let v17223 : BitVec 32 := v17222
  let v17226 : Index := Scalar.indexCast v17223
  ![v17225.toNat, 0, v17226.toNat]

def k1_chk302 (v17200 : BitVec 32) (v17202 : BitVec 32) : Prop :=
  (128 ∣ (k1_mult302 v17202).toNat) ∧
  (∀ a, (k1_off943 v17200 v17202) a + S1x16x512.size a ≤ S384x16x1152.size a)
theorem k1_mult302_dvd : ∀ (v17200 : BitVec 32) (v17202 : BitVec 32) (k1_hw302 : k1_chk302 v17200 v17202), 128 ∣ (k1_mult302 v17202).toNat := fun v17200 v17202 k1_hw302 => k1_hw302.1
theorem k1_off943_inb : ∀ (v17200 : BitVec 32) (v17202 : BitVec 32) (k1_hw302 : k1_chk302 v17200 v17202), ∀ a, (k1_off943 v17200 v17202) a + S1x16x512.size a ≤ S384x16x1152.size a := fun v17200 v17202 k1_hw302 => k1_hw302.2

def k1_off944 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17236 : Index := Scalar.indexCast v16913
  let c5_6782 : Index := 5#32
  ![v17236.toNat, 5]
def k1_off945 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17252 : Index := Scalar.indexCast v16913
  let c6_6788 : Index := 6#32
  ![v17252.toNat, 6]
def k1_mult303 (v17255 : BitVec 32) : BitVec 32 :=
  let c0_i32_6792 : BitVec 32 := 0#32
  let v17259 : BitVec 1 := Scalar.cmpi .sgt v17255 c0_i32_6792
  let v17260 : BitVec 32 := Scalar.extui v17259
  let c0_i32_6793 : BitVec 32 := 0#32
  let v17261 : BitVec 1 := Scalar.cmpi .slt v17255 c0_i32_6793
  let v17262 : BitVec 32 := Scalar.extui v17261
  let v17263 : BitVec 32 := Scalar.subi v17260 v17262
  let c128_i32_6791 : BitVec 32 := 128#32
  let c0_i32_6794 : BitVec 32 := 0#32
  let v17264 : BitVec 1 := Scalar.cmpi .sgt c128_i32_6791 c0_i32_6794
  let v17265 : BitVec 32 := Scalar.extui v17264
  let c0_i32_6795 : BitVec 32 := 0#32
  let v17266 : BitVec 1 := Scalar.cmpi .slt c128_i32_6791 c0_i32_6795
  let v17267 : BitVec 32 := Scalar.extui v17266
  let v17268 : BitVec 32 := Scalar.subi v17265 v17267
  let v17269 : BitVec 1 := Scalar.cmpi .ne v17263 v17268
  let v17270 : BitVec 32 := Scalar.remsi v17255 c128_i32_6791
  let c0_i32_6796 : BitVec 32 := 0#32
  let v17271 : BitVec 1 := Scalar.cmpi .ne v17270 c0_i32_6796
  let v17272 : BitVec 1 := Scalar.andi v17269 v17271
  let v17258 : BitVec 32 := Scalar.divsi v17255 c128_i32_6791
  let c1_i32_6797 : BitVec 32 := 1#32
  let v17273 : BitVec 32 := Scalar.subi v17258 c1_i32_6797
  let v17274 : BitVec 32 := Scalar.select v17272 v17273 v17258
  let c128_i32_6798 : BitVec 32 := 128#32
  let v17275 : BitVec 32 := Scalar.muli v17274 c128_i32_6798
  v17275

def k1_off946 (v17253 : BitVec 32) (v17255 : BitVec 32) : Fin 3 → Nat :=
  let v17278 : Index := Scalar.indexCast v17253
  let c0_6799 : Index := 0#32
  let c0_i32_6792 : BitVec 32 := 0#32
  let v17259 : BitVec 1 := Scalar.cmpi .sgt v17255 c0_i32_6792
  let v17260 : BitVec 32 := Scalar.extui v17259
  let c0_i32_6793 : BitVec 32 := 0#32
  let v17261 : BitVec 1 := Scalar.cmpi .slt v17255 c0_i32_6793
  let v17262 : BitVec 32 := Scalar.extui v17261
  let v17263 : BitVec 32 := Scalar.subi v17260 v17262
  let c128_i32_6791 : BitVec 32 := 128#32
  let c0_i32_6794 : BitVec 32 := 0#32
  let v17264 : BitVec 1 := Scalar.cmpi .sgt c128_i32_6791 c0_i32_6794
  let v17265 : BitVec 32 := Scalar.extui v17264
  let c0_i32_6795 : BitVec 32 := 0#32
  let v17266 : BitVec 1 := Scalar.cmpi .slt c128_i32_6791 c0_i32_6795
  let v17267 : BitVec 32 := Scalar.extui v17266
  let v17268 : BitVec 32 := Scalar.subi v17265 v17267
  let v17269 : BitVec 1 := Scalar.cmpi .ne v17263 v17268
  let v17270 : BitVec 32 := Scalar.remsi v17255 c128_i32_6791
  let c0_i32_6796 : BitVec 32 := 0#32
  let v17271 : BitVec 1 := Scalar.cmpi .ne v17270 c0_i32_6796
  let v17272 : BitVec 1 := Scalar.andi v17269 v17271
  let v17258 : BitVec 32 := Scalar.divsi v17255 c128_i32_6791
  let c1_i32_6797 : BitVec 32 := 1#32
  let v17273 : BitVec 32 := Scalar.subi v17258 c1_i32_6797
  let v17274 : BitVec 32 := Scalar.select v17272 v17273 v17258
  let c128_i32_6798 : BitVec 32 := 128#32
  let v17275 : BitVec 32 := Scalar.muli v17274 c128_i32_6798
  let v17276 : BitVec 32 := v17275
  let v17279 : Index := Scalar.indexCast v17276
  ![v17278.toNat, 0, v17279.toNat]

def k1_chk303 (v17253 : BitVec 32) (v17255 : BitVec 32) : Prop :=
  (128 ∣ (k1_mult303 v17255).toNat) ∧
  (∀ a, (k1_off946 v17253 v17255) a + S1x16x512.size a ≤ S384x16x1152.size a)
theorem k1_mult303_dvd : ∀ (v17253 : BitVec 32) (v17255 : BitVec 32) (k1_hw303 : k1_chk303 v17253 v17255), 128 ∣ (k1_mult303 v17255).toNat := fun v17253 v17255 k1_hw303 => k1_hw303.1
theorem k1_off946_inb : ∀ (v17253 : BitVec 32) (v17255 : BitVec 32) (k1_hw303 : k1_chk303 v17253 v17255), ∀ a, (k1_off946 v17253 v17255) a + S1x16x512.size a ≤ S384x16x1152.size a := fun v17253 v17255 k1_hw303 => k1_hw303.2

def k1_off947 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17289 : Index := Scalar.indexCast v16913
  let c6_6802 : Index := 6#32
  ![v17289.toNat, 6]
def k1_off948 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17305 : Index := Scalar.indexCast v16913
  let c7_6808 : Index := 7#32
  ![v17305.toNat, 7]
def k1_mult304 (v17308 : BitVec 32) : BitVec 32 :=
  let c0_i32_6812 : BitVec 32 := 0#32
  let v17312 : BitVec 1 := Scalar.cmpi .sgt v17308 c0_i32_6812
  let v17313 : BitVec 32 := Scalar.extui v17312
  let c0_i32_6813 : BitVec 32 := 0#32
  let v17314 : BitVec 1 := Scalar.cmpi .slt v17308 c0_i32_6813
  let v17315 : BitVec 32 := Scalar.extui v17314
  let v17316 : BitVec 32 := Scalar.subi v17313 v17315
  let c128_i32_6811 : BitVec 32 := 128#32
  let c0_i32_6814 : BitVec 32 := 0#32
  let v17317 : BitVec 1 := Scalar.cmpi .sgt c128_i32_6811 c0_i32_6814
  let v17318 : BitVec 32 := Scalar.extui v17317
  let c0_i32_6815 : BitVec 32 := 0#32
  let v17319 : BitVec 1 := Scalar.cmpi .slt c128_i32_6811 c0_i32_6815
  let v17320 : BitVec 32 := Scalar.extui v17319
  let v17321 : BitVec 32 := Scalar.subi v17318 v17320
  let v17322 : BitVec 1 := Scalar.cmpi .ne v17316 v17321
  let v17323 : BitVec 32 := Scalar.remsi v17308 c128_i32_6811
  let c0_i32_6816 : BitVec 32 := 0#32
  let v17324 : BitVec 1 := Scalar.cmpi .ne v17323 c0_i32_6816
  let v17325 : BitVec 1 := Scalar.andi v17322 v17324
  let v17311 : BitVec 32 := Scalar.divsi v17308 c128_i32_6811
  let c1_i32_6817 : BitVec 32 := 1#32
  let v17326 : BitVec 32 := Scalar.subi v17311 c1_i32_6817
  let v17327 : BitVec 32 := Scalar.select v17325 v17326 v17311
  let c128_i32_6818 : BitVec 32 := 128#32
  let v17328 : BitVec 32 := Scalar.muli v17327 c128_i32_6818
  v17328

def k1_off949 (v17306 : BitVec 32) (v17308 : BitVec 32) : Fin 3 → Nat :=
  let v17331 : Index := Scalar.indexCast v17306
  let c0_6819 : Index := 0#32
  let c0_i32_6812 : BitVec 32 := 0#32
  let v17312 : BitVec 1 := Scalar.cmpi .sgt v17308 c0_i32_6812
  let v17313 : BitVec 32 := Scalar.extui v17312
  let c0_i32_6813 : BitVec 32 := 0#32
  let v17314 : BitVec 1 := Scalar.cmpi .slt v17308 c0_i32_6813
  let v17315 : BitVec 32 := Scalar.extui v17314
  let v17316 : BitVec 32 := Scalar.subi v17313 v17315
  let c128_i32_6811 : BitVec 32 := 128#32
  let c0_i32_6814 : BitVec 32 := 0#32
  let v17317 : BitVec 1 := Scalar.cmpi .sgt c128_i32_6811 c0_i32_6814
  let v17318 : BitVec 32 := Scalar.extui v17317
  let c0_i32_6815 : BitVec 32 := 0#32
  let v17319 : BitVec 1 := Scalar.cmpi .slt c128_i32_6811 c0_i32_6815
  let v17320 : BitVec 32 := Scalar.extui v17319
  let v17321 : BitVec 32 := Scalar.subi v17318 v17320
  let v17322 : BitVec 1 := Scalar.cmpi .ne v17316 v17321
  let v17323 : BitVec 32 := Scalar.remsi v17308 c128_i32_6811
  let c0_i32_6816 : BitVec 32 := 0#32
  let v17324 : BitVec 1 := Scalar.cmpi .ne v17323 c0_i32_6816
  let v17325 : BitVec 1 := Scalar.andi v17322 v17324
  let v17311 : BitVec 32 := Scalar.divsi v17308 c128_i32_6811
  let c1_i32_6817 : BitVec 32 := 1#32
  let v17326 : BitVec 32 := Scalar.subi v17311 c1_i32_6817
  let v17327 : BitVec 32 := Scalar.select v17325 v17326 v17311
  let c128_i32_6818 : BitVec 32 := 128#32
  let v17328 : BitVec 32 := Scalar.muli v17327 c128_i32_6818
  let v17329 : BitVec 32 := v17328
  let v17332 : Index := Scalar.indexCast v17329
  ![v17331.toNat, 0, v17332.toNat]

def k1_chk304 (v17306 : BitVec 32) (v17308 : BitVec 32) : Prop :=
  (128 ∣ (k1_mult304 v17308).toNat) ∧
  (∀ a, (k1_off949 v17306 v17308) a + S1x16x512.size a ≤ S384x16x1152.size a)
theorem k1_mult304_dvd : ∀ (v17306 : BitVec 32) (v17308 : BitVec 32) (k1_hw304 : k1_chk304 v17306 v17308), 128 ∣ (k1_mult304 v17308).toNat := fun v17306 v17308 k1_hw304 => k1_hw304.1
theorem k1_off949_inb : ∀ (v17306 : BitVec 32) (v17308 : BitVec 32) (k1_hw304 : k1_chk304 v17306 v17308), ∀ a, (k1_off949 v17306 v17308) a + S1x16x512.size a ≤ S384x16x1152.size a := fun v17306 v17308 k1_hw304 => k1_hw304.2

def k1_off950 (i : grid1.Coords) : Fin 2 → Nat :=
  let arg0 : BitVec 32 := BitVec.ofNat 32 (i 0).val
  let c48_i32_6657 : BitVec 32 := 48#32
  let v16912 : BitVec 32 := Scalar.muli arg0 c48_i32_6657
  let c37_i32 : BitVec 32 := 37#32
  let v16913 : BitVec 32 := Scalar.addi v16912 c37_i32
  let v17342 : Index := Scalar.indexCast v16913
  let c7_6822 : Index := 7#32
  ![v17342.toNat, 7]
def k1_off951 (i : grid1.Coords) : Fin 3 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17371 : Index := Scalar.indexCast v17370
  let c0_6838 : Index := 0#32
  let c720_6839 : Index := 720#32
  ![v17371.toNat, 0, 720]
def k1_off952 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17391 : Index := Scalar.indexCast v17370
  let c0_6848 : Index := 0#32
  ![v17391.toNat, 0]
def k1_mult305 (v17394 : BitVec 32) : BitVec 32 :=
  let c0_i32_6852 : BitVec 32 := 0#32
  let v17398 : BitVec 1 := Scalar.cmpi .sgt v17394 c0_i32_6852
  let v17399 : BitVec 32 := Scalar.extui v17398
  let c0_i32_6853 : BitVec 32 := 0#32
  let v17400 : BitVec 1 := Scalar.cmpi .slt v17394 c0_i32_6853
  let v17401 : BitVec 32 := Scalar.extui v17400
  let v17402 : BitVec 32 := Scalar.subi v17399 v17401
  let c128_i32_6851 : BitVec 32 := 128#32
  let c0_i32_6854 : BitVec 32 := 0#32
  let v17403 : BitVec 1 := Scalar.cmpi .sgt c128_i32_6851 c0_i32_6854
  let v17404 : BitVec 32 := Scalar.extui v17403
  let c0_i32_6855 : BitVec 32 := 0#32
  let v17405 : BitVec 1 := Scalar.cmpi .slt c128_i32_6851 c0_i32_6855
  let v17406 : BitVec 32 := Scalar.extui v17405
  let v17407 : BitVec 32 := Scalar.subi v17404 v17406
  let v17408 : BitVec 1 := Scalar.cmpi .ne v17402 v17407
  let v17409 : BitVec 32 := Scalar.remsi v17394 c128_i32_6851
  let c0_i32_6856 : BitVec 32 := 0#32
  let v17410 : BitVec 1 := Scalar.cmpi .ne v17409 c0_i32_6856
  let v17411 : BitVec 1 := Scalar.andi v17408 v17410
  let v17397 : BitVec 32 := Scalar.divsi v17394 c128_i32_6851
  let c1_i32_6857 : BitVec 32 := 1#32
  let v17412 : BitVec 32 := Scalar.subi v17397 c1_i32_6857
  let v17413 : BitVec 32 := Scalar.select v17411 v17412 v17397
  let c128_i32_6858 : BitVec 32 := 128#32
  let v17414 : BitVec 32 := Scalar.muli v17413 c128_i32_6858
  v17414

def k1_off953 (v17392 : BitVec 32) (v17394 : BitVec 32) : Fin 3 → Nat :=
  let v17417 : Index := Scalar.indexCast v17392
  let c0_6859 : Index := 0#32
  let c0_i32_6852 : BitVec 32 := 0#32
  let v17398 : BitVec 1 := Scalar.cmpi .sgt v17394 c0_i32_6852
  let v17399 : BitVec 32 := Scalar.extui v17398
  let c0_i32_6853 : BitVec 32 := 0#32
  let v17400 : BitVec 1 := Scalar.cmpi .slt v17394 c0_i32_6853
  let v17401 : BitVec 32 := Scalar.extui v17400
  let v17402 : BitVec 32 := Scalar.subi v17399 v17401
  let c128_i32_6851 : BitVec 32 := 128#32
  let c0_i32_6854 : BitVec 32 := 0#32
  let v17403 : BitVec 1 := Scalar.cmpi .sgt c128_i32_6851 c0_i32_6854
  let v17404 : BitVec 32 := Scalar.extui v17403
  let c0_i32_6855 : BitVec 32 := 0#32
  let v17405 : BitVec 1 := Scalar.cmpi .slt c128_i32_6851 c0_i32_6855
  let v17406 : BitVec 32 := Scalar.extui v17405
  let v17407 : BitVec 32 := Scalar.subi v17404 v17406
  let v17408 : BitVec 1 := Scalar.cmpi .ne v17402 v17407
  let v17409 : BitVec 32 := Scalar.remsi v17394 c128_i32_6851
  let c0_i32_6856 : BitVec 32 := 0#32
  let v17410 : BitVec 1 := Scalar.cmpi .ne v17409 c0_i32_6856
  let v17411 : BitVec 1 := Scalar.andi v17408 v17410
  let v17397 : BitVec 32 := Scalar.divsi v17394 c128_i32_6851
  let c1_i32_6857 : BitVec 32 := 1#32
  let v17412 : BitVec 32 := Scalar.subi v17397 c1_i32_6857
  let v17413 : BitVec 32 := Scalar.select v17411 v17412 v17397
  let c128_i32_6858 : BitVec 32 := 128#32
  let v17414 : BitVec 32 := Scalar.muli v17413 c128_i32_6858
  let v17415 : BitVec 32 := v17414
  let v17418 : Index := Scalar.indexCast v17415
  ![v17417.toNat, 0, v17418.toNat]

def k1_chk305 (v17392 : BitVec 32) (v17394 : BitVec 32) : Prop :=
  (128 ∣ (k1_mult305 v17394).toNat) ∧
  (∀ a, (k1_off953 v17392 v17394) a + S1x16x512.size a ≤ S384x16x1152.size a)
theorem k1_mult305_dvd : ∀ (v17392 : BitVec 32) (v17394 : BitVec 32) (k1_hw305 : k1_chk305 v17392 v17394), 128 ∣ (k1_mult305 v17394).toNat := fun v17392 v17394 k1_hw305 => k1_hw305.1
theorem k1_off953_inb : ∀ (v17392 : BitVec 32) (v17394 : BitVec 32) (k1_hw305 : k1_chk305 v17392 v17394), ∀ a, (k1_off953 v17392 v17394) a + S1x16x512.size a ≤ S384x16x1152.size a := fun v17392 v17394 k1_hw305 => k1_hw305.2

def k1_off954 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17428 : Index := Scalar.indexCast v17370
  let c0_6862 : Index := 0#32
  ![v17428.toNat, 0]
def k1_off955 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17444 : Index := Scalar.indexCast v17370
  let c1_6868 : Index := 1#32
  ![v17444.toNat, 1]
def k1_mult306 (v17447 : BitVec 32) : BitVec 32 :=
  let c0_i32_6872 : BitVec 32 := 0#32
  let v17451 : BitVec 1 := Scalar.cmpi .sgt v17447 c0_i32_6872
  let v17452 : BitVec 32 := Scalar.extui v17451
  let c0_i32_6873 : BitVec 32 := 0#32
  let v17453 : BitVec 1 := Scalar.cmpi .slt v17447 c0_i32_6873
  let v17454 : BitVec 32 := Scalar.extui v17453
  let v17455 : BitVec 32 := Scalar.subi v17452 v17454
  let c128_i32_6871 : BitVec 32 := 128#32
  let c0_i32_6874 : BitVec 32 := 0#32
  let v17456 : BitVec 1 := Scalar.cmpi .sgt c128_i32_6871 c0_i32_6874
  let v17457 : BitVec 32 := Scalar.extui v17456
  let c0_i32_6875 : BitVec 32 := 0#32
  let v17458 : BitVec 1 := Scalar.cmpi .slt c128_i32_6871 c0_i32_6875
  let v17459 : BitVec 32 := Scalar.extui v17458
  let v17460 : BitVec 32 := Scalar.subi v17457 v17459
  let v17461 : BitVec 1 := Scalar.cmpi .ne v17455 v17460
  let v17462 : BitVec 32 := Scalar.remsi v17447 c128_i32_6871
  let c0_i32_6876 : BitVec 32 := 0#32
  let v17463 : BitVec 1 := Scalar.cmpi .ne v17462 c0_i32_6876
  let v17464 : BitVec 1 := Scalar.andi v17461 v17463
  let v17450 : BitVec 32 := Scalar.divsi v17447 c128_i32_6871
  let c1_i32_6877 : BitVec 32 := 1#32
  let v17465 : BitVec 32 := Scalar.subi v17450 c1_i32_6877
  let v17466 : BitVec 32 := Scalar.select v17464 v17465 v17450
  let c128_i32_6878 : BitVec 32 := 128#32
  let v17467 : BitVec 32 := Scalar.muli v17466 c128_i32_6878
  v17467

def k1_off956 (v17445 : BitVec 32) (v17447 : BitVec 32) : Fin 3 → Nat :=
  let v17470 : Index := Scalar.indexCast v17445
  let c0_6879 : Index := 0#32
  let c0_i32_6872 : BitVec 32 := 0#32
  let v17451 : BitVec 1 := Scalar.cmpi .sgt v17447 c0_i32_6872
  let v17452 : BitVec 32 := Scalar.extui v17451
  let c0_i32_6873 : BitVec 32 := 0#32
  let v17453 : BitVec 1 := Scalar.cmpi .slt v17447 c0_i32_6873
  let v17454 : BitVec 32 := Scalar.extui v17453
  let v17455 : BitVec 32 := Scalar.subi v17452 v17454
  let c128_i32_6871 : BitVec 32 := 128#32
  let c0_i32_6874 : BitVec 32 := 0#32
  let v17456 : BitVec 1 := Scalar.cmpi .sgt c128_i32_6871 c0_i32_6874
  let v17457 : BitVec 32 := Scalar.extui v17456
  let c0_i32_6875 : BitVec 32 := 0#32
  let v17458 : BitVec 1 := Scalar.cmpi .slt c128_i32_6871 c0_i32_6875
  let v17459 : BitVec 32 := Scalar.extui v17458
  let v17460 : BitVec 32 := Scalar.subi v17457 v17459
  let v17461 : BitVec 1 := Scalar.cmpi .ne v17455 v17460
  let v17462 : BitVec 32 := Scalar.remsi v17447 c128_i32_6871
  let c0_i32_6876 : BitVec 32 := 0#32
  let v17463 : BitVec 1 := Scalar.cmpi .ne v17462 c0_i32_6876
  let v17464 : BitVec 1 := Scalar.andi v17461 v17463
  let v17450 : BitVec 32 := Scalar.divsi v17447 c128_i32_6871
  let c1_i32_6877 : BitVec 32 := 1#32
  let v17465 : BitVec 32 := Scalar.subi v17450 c1_i32_6877
  let v17466 : BitVec 32 := Scalar.select v17464 v17465 v17450
  let c128_i32_6878 : BitVec 32 := 128#32
  let v17467 : BitVec 32 := Scalar.muli v17466 c128_i32_6878
  let v17468 : BitVec 32 := v17467
  let v17471 : Index := Scalar.indexCast v17468
  ![v17470.toNat, 0, v17471.toNat]

def k1_chk306 (v17445 : BitVec 32) (v17447 : BitVec 32) : Prop :=
  (128 ∣ (k1_mult306 v17447).toNat) ∧
  (∀ a, (k1_off956 v17445 v17447) a + S1x16x512.size a ≤ S384x16x1152.size a)
theorem k1_mult306_dvd : ∀ (v17445 : BitVec 32) (v17447 : BitVec 32) (k1_hw306 : k1_chk306 v17445 v17447), 128 ∣ (k1_mult306 v17447).toNat := fun v17445 v17447 k1_hw306 => k1_hw306.1
theorem k1_off956_inb : ∀ (v17445 : BitVec 32) (v17447 : BitVec 32) (k1_hw306 : k1_chk306 v17445 v17447), ∀ a, (k1_off956 v17445 v17447) a + S1x16x512.size a ≤ S384x16x1152.size a := fun v17445 v17447 k1_hw306 => k1_hw306.2

def k1_off957 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17481 : Index := Scalar.indexCast v17370
  let c1_6882 : Index := 1#32
  ![v17481.toNat, 1]
def k1_off958 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17497 : Index := Scalar.indexCast v17370
  let c2_6888 : Index := 2#32
  ![v17497.toNat, 2]
def k1_mult307 (v17500 : BitVec 32) : BitVec 32 :=
  let c0_i32_6892 : BitVec 32 := 0#32
  let v17504 : BitVec 1 := Scalar.cmpi .sgt v17500 c0_i32_6892
  let v17505 : BitVec 32 := Scalar.extui v17504
  let c0_i32_6893 : BitVec 32 := 0#32
  let v17506 : BitVec 1 := Scalar.cmpi .slt v17500 c0_i32_6893
  let v17507 : BitVec 32 := Scalar.extui v17506
  let v17508 : BitVec 32 := Scalar.subi v17505 v17507
  let c128_i32_6891 : BitVec 32 := 128#32
  let c0_i32_6894 : BitVec 32 := 0#32
  let v17509 : BitVec 1 := Scalar.cmpi .sgt c128_i32_6891 c0_i32_6894
  let v17510 : BitVec 32 := Scalar.extui v17509
  let c0_i32_6895 : BitVec 32 := 0#32
  let v17511 : BitVec 1 := Scalar.cmpi .slt c128_i32_6891 c0_i32_6895
  let v17512 : BitVec 32 := Scalar.extui v17511
  let v17513 : BitVec 32 := Scalar.subi v17510 v17512
  let v17514 : BitVec 1 := Scalar.cmpi .ne v17508 v17513
  let v17515 : BitVec 32 := Scalar.remsi v17500 c128_i32_6891
  let c0_i32_6896 : BitVec 32 := 0#32
  let v17516 : BitVec 1 := Scalar.cmpi .ne v17515 c0_i32_6896
  let v17517 : BitVec 1 := Scalar.andi v17514 v17516
  let v17503 : BitVec 32 := Scalar.divsi v17500 c128_i32_6891
  let c1_i32_6897 : BitVec 32 := 1#32
  let v17518 : BitVec 32 := Scalar.subi v17503 c1_i32_6897
  let v17519 : BitVec 32 := Scalar.select v17517 v17518 v17503
  let c128_i32_6898 : BitVec 32 := 128#32
  let v17520 : BitVec 32 := Scalar.muli v17519 c128_i32_6898
  v17520

def k1_off959 (v17498 : BitVec 32) (v17500 : BitVec 32) : Fin 3 → Nat :=
  let v17523 : Index := Scalar.indexCast v17498
  let c0_6899 : Index := 0#32
  let c0_i32_6892 : BitVec 32 := 0#32
  let v17504 : BitVec 1 := Scalar.cmpi .sgt v17500 c0_i32_6892
  let v17505 : BitVec 32 := Scalar.extui v17504
  let c0_i32_6893 : BitVec 32 := 0#32
  let v17506 : BitVec 1 := Scalar.cmpi .slt v17500 c0_i32_6893
  let v17507 : BitVec 32 := Scalar.extui v17506
  let v17508 : BitVec 32 := Scalar.subi v17505 v17507
  let c128_i32_6891 : BitVec 32 := 128#32
  let c0_i32_6894 : BitVec 32 := 0#32
  let v17509 : BitVec 1 := Scalar.cmpi .sgt c128_i32_6891 c0_i32_6894
  let v17510 : BitVec 32 := Scalar.extui v17509
  let c0_i32_6895 : BitVec 32 := 0#32
  let v17511 : BitVec 1 := Scalar.cmpi .slt c128_i32_6891 c0_i32_6895
  let v17512 : BitVec 32 := Scalar.extui v17511
  let v17513 : BitVec 32 := Scalar.subi v17510 v17512
  let v17514 : BitVec 1 := Scalar.cmpi .ne v17508 v17513
  let v17515 : BitVec 32 := Scalar.remsi v17500 c128_i32_6891
  let c0_i32_6896 : BitVec 32 := 0#32
  let v17516 : BitVec 1 := Scalar.cmpi .ne v17515 c0_i32_6896
  let v17517 : BitVec 1 := Scalar.andi v17514 v17516
  let v17503 : BitVec 32 := Scalar.divsi v17500 c128_i32_6891
  let c1_i32_6897 : BitVec 32 := 1#32
  let v17518 : BitVec 32 := Scalar.subi v17503 c1_i32_6897
  let v17519 : BitVec 32 := Scalar.select v17517 v17518 v17503
  let c128_i32_6898 : BitVec 32 := 128#32
  let v17520 : BitVec 32 := Scalar.muli v17519 c128_i32_6898
  let v17521 : BitVec 32 := v17520
  let v17524 : Index := Scalar.indexCast v17521
  ![v17523.toNat, 0, v17524.toNat]

def k1_chk307 (v17498 : BitVec 32) (v17500 : BitVec 32) : Prop :=
  (128 ∣ (k1_mult307 v17500).toNat) ∧
  (∀ a, (k1_off959 v17498 v17500) a + S1x16x512.size a ≤ S384x16x1152.size a)
theorem k1_mult307_dvd : ∀ (v17498 : BitVec 32) (v17500 : BitVec 32) (k1_hw307 : k1_chk307 v17498 v17500), 128 ∣ (k1_mult307 v17500).toNat := fun v17498 v17500 k1_hw307 => k1_hw307.1
theorem k1_off959_inb : ∀ (v17498 : BitVec 32) (v17500 : BitVec 32) (k1_hw307 : k1_chk307 v17498 v17500), ∀ a, (k1_off959 v17498 v17500) a + S1x16x512.size a ≤ S384x16x1152.size a := fun v17498 v17500 k1_hw307 => k1_hw307.2

def k1_off960 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17534 : Index := Scalar.indexCast v17370
  let c2_6902 : Index := 2#32
  ![v17534.toNat, 2]
def k1_off961 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17550 : Index := Scalar.indexCast v17370
  let c3_6908 : Index := 3#32
  ![v17550.toNat, 3]
def k1_mult308 (v17553 : BitVec 32) : BitVec 32 :=
  let c0_i32_6912 : BitVec 32 := 0#32
  let v17557 : BitVec 1 := Scalar.cmpi .sgt v17553 c0_i32_6912
  let v17558 : BitVec 32 := Scalar.extui v17557
  let c0_i32_6913 : BitVec 32 := 0#32
  let v17559 : BitVec 1 := Scalar.cmpi .slt v17553 c0_i32_6913
  let v17560 : BitVec 32 := Scalar.extui v17559
  let v17561 : BitVec 32 := Scalar.subi v17558 v17560
  let c128_i32_6911 : BitVec 32 := 128#32
  let c0_i32_6914 : BitVec 32 := 0#32
  let v17562 : BitVec 1 := Scalar.cmpi .sgt c128_i32_6911 c0_i32_6914
  let v17563 : BitVec 32 := Scalar.extui v17562
  let c0_i32_6915 : BitVec 32 := 0#32
  let v17564 : BitVec 1 := Scalar.cmpi .slt c128_i32_6911 c0_i32_6915
  let v17565 : BitVec 32 := Scalar.extui v17564
  let v17566 : BitVec 32 := Scalar.subi v17563 v17565
  let v17567 : BitVec 1 := Scalar.cmpi .ne v17561 v17566
  let v17568 : BitVec 32 := Scalar.remsi v17553 c128_i32_6911
  let c0_i32_6916 : BitVec 32 := 0#32
  let v17569 : BitVec 1 := Scalar.cmpi .ne v17568 c0_i32_6916
  let v17570 : BitVec 1 := Scalar.andi v17567 v17569
  let v17556 : BitVec 32 := Scalar.divsi v17553 c128_i32_6911
  let c1_i32_6917 : BitVec 32 := 1#32
  let v17571 : BitVec 32 := Scalar.subi v17556 c1_i32_6917
  let v17572 : BitVec 32 := Scalar.select v17570 v17571 v17556
  let c128_i32_6918 : BitVec 32 := 128#32
  let v17573 : BitVec 32 := Scalar.muli v17572 c128_i32_6918
  v17573

def k1_off962 (v17551 : BitVec 32) (v17553 : BitVec 32) : Fin 3 → Nat :=
  let v17576 : Index := Scalar.indexCast v17551
  let c0_6919 : Index := 0#32
  let c0_i32_6912 : BitVec 32 := 0#32
  let v17557 : BitVec 1 := Scalar.cmpi .sgt v17553 c0_i32_6912
  let v17558 : BitVec 32 := Scalar.extui v17557
  let c0_i32_6913 : BitVec 32 := 0#32
  let v17559 : BitVec 1 := Scalar.cmpi .slt v17553 c0_i32_6913
  let v17560 : BitVec 32 := Scalar.extui v17559
  let v17561 : BitVec 32 := Scalar.subi v17558 v17560
  let c128_i32_6911 : BitVec 32 := 128#32
  let c0_i32_6914 : BitVec 32 := 0#32
  let v17562 : BitVec 1 := Scalar.cmpi .sgt c128_i32_6911 c0_i32_6914
  let v17563 : BitVec 32 := Scalar.extui v17562
  let c0_i32_6915 : BitVec 32 := 0#32
  let v17564 : BitVec 1 := Scalar.cmpi .slt c128_i32_6911 c0_i32_6915
  let v17565 : BitVec 32 := Scalar.extui v17564
  let v17566 : BitVec 32 := Scalar.subi v17563 v17565
  let v17567 : BitVec 1 := Scalar.cmpi .ne v17561 v17566
  let v17568 : BitVec 32 := Scalar.remsi v17553 c128_i32_6911
  let c0_i32_6916 : BitVec 32 := 0#32
  let v17569 : BitVec 1 := Scalar.cmpi .ne v17568 c0_i32_6916
  let v17570 : BitVec 1 := Scalar.andi v17567 v17569
  let v17556 : BitVec 32 := Scalar.divsi v17553 c128_i32_6911
  let c1_i32_6917 : BitVec 32 := 1#32
  let v17571 : BitVec 32 := Scalar.subi v17556 c1_i32_6917
  let v17572 : BitVec 32 := Scalar.select v17570 v17571 v17556
  let c128_i32_6918 : BitVec 32 := 128#32
  let v17573 : BitVec 32 := Scalar.muli v17572 c128_i32_6918
  let v17574 : BitVec 32 := v17573
  let v17577 : Index := Scalar.indexCast v17574
  ![v17576.toNat, 0, v17577.toNat]

def k1_chk308 (v17551 : BitVec 32) (v17553 : BitVec 32) : Prop :=
  (128 ∣ (k1_mult308 v17553).toNat) ∧
  (∀ a, (k1_off962 v17551 v17553) a + S1x16x512.size a ≤ S384x16x1152.size a)
theorem k1_mult308_dvd : ∀ (v17551 : BitVec 32) (v17553 : BitVec 32) (k1_hw308 : k1_chk308 v17551 v17553), 128 ∣ (k1_mult308 v17553).toNat := fun v17551 v17553 k1_hw308 => k1_hw308.1
theorem k1_off962_inb : ∀ (v17551 : BitVec 32) (v17553 : BitVec 32) (k1_hw308 : k1_chk308 v17551 v17553), ∀ a, (k1_off962 v17551 v17553) a + S1x16x512.size a ≤ S384x16x1152.size a := fun v17551 v17553 k1_hw308 => k1_hw308.2

def k1_off963 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17587 : Index := Scalar.indexCast v17370
  let c3_6922 : Index := 3#32
  ![v17587.toNat, 3]
def k1_off964 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17603 : Index := Scalar.indexCast v17370
  let c4_6928 : Index := 4#32
  ![v17603.toNat, 4]
def k1_mult309 (v17606 : BitVec 32) : BitVec 32 :=
  let c0_i32_6932 : BitVec 32 := 0#32
  let v17610 : BitVec 1 := Scalar.cmpi .sgt v17606 c0_i32_6932
  let v17611 : BitVec 32 := Scalar.extui v17610
  let c0_i32_6933 : BitVec 32 := 0#32
  let v17612 : BitVec 1 := Scalar.cmpi .slt v17606 c0_i32_6933
  let v17613 : BitVec 32 := Scalar.extui v17612
  let v17614 : BitVec 32 := Scalar.subi v17611 v17613
  let c128_i32_6931 : BitVec 32 := 128#32
  let c0_i32_6934 : BitVec 32 := 0#32
  let v17615 : BitVec 1 := Scalar.cmpi .sgt c128_i32_6931 c0_i32_6934
  let v17616 : BitVec 32 := Scalar.extui v17615
  let c0_i32_6935 : BitVec 32 := 0#32
  let v17617 : BitVec 1 := Scalar.cmpi .slt c128_i32_6931 c0_i32_6935
  let v17618 : BitVec 32 := Scalar.extui v17617
  let v17619 : BitVec 32 := Scalar.subi v17616 v17618
  let v17620 : BitVec 1 := Scalar.cmpi .ne v17614 v17619
  let v17621 : BitVec 32 := Scalar.remsi v17606 c128_i32_6931
  let c0_i32_6936 : BitVec 32 := 0#32
  let v17622 : BitVec 1 := Scalar.cmpi .ne v17621 c0_i32_6936
  let v17623 : BitVec 1 := Scalar.andi v17620 v17622
  let v17609 : BitVec 32 := Scalar.divsi v17606 c128_i32_6931
  let c1_i32_6937 : BitVec 32 := 1#32
  let v17624 : BitVec 32 := Scalar.subi v17609 c1_i32_6937
  let v17625 : BitVec 32 := Scalar.select v17623 v17624 v17609
  let c128_i32_6938 : BitVec 32 := 128#32
  let v17626 : BitVec 32 := Scalar.muli v17625 c128_i32_6938
  v17626

def k1_off965 (v17604 : BitVec 32) (v17606 : BitVec 32) : Fin 3 → Nat :=
  let v17629 : Index := Scalar.indexCast v17604
  let c0_6939 : Index := 0#32
  let c0_i32_6932 : BitVec 32 := 0#32
  let v17610 : BitVec 1 := Scalar.cmpi .sgt v17606 c0_i32_6932
  let v17611 : BitVec 32 := Scalar.extui v17610
  let c0_i32_6933 : BitVec 32 := 0#32
  let v17612 : BitVec 1 := Scalar.cmpi .slt v17606 c0_i32_6933
  let v17613 : BitVec 32 := Scalar.extui v17612
  let v17614 : BitVec 32 := Scalar.subi v17611 v17613
  let c128_i32_6931 : BitVec 32 := 128#32
  let c0_i32_6934 : BitVec 32 := 0#32
  let v17615 : BitVec 1 := Scalar.cmpi .sgt c128_i32_6931 c0_i32_6934
  let v17616 : BitVec 32 := Scalar.extui v17615
  let c0_i32_6935 : BitVec 32 := 0#32
  let v17617 : BitVec 1 := Scalar.cmpi .slt c128_i32_6931 c0_i32_6935
  let v17618 : BitVec 32 := Scalar.extui v17617
  let v17619 : BitVec 32 := Scalar.subi v17616 v17618
  let v17620 : BitVec 1 := Scalar.cmpi .ne v17614 v17619
  let v17621 : BitVec 32 := Scalar.remsi v17606 c128_i32_6931
  let c0_i32_6936 : BitVec 32 := 0#32
  let v17622 : BitVec 1 := Scalar.cmpi .ne v17621 c0_i32_6936
  let v17623 : BitVec 1 := Scalar.andi v17620 v17622
  let v17609 : BitVec 32 := Scalar.divsi v17606 c128_i32_6931
  let c1_i32_6937 : BitVec 32 := 1#32
  let v17624 : BitVec 32 := Scalar.subi v17609 c1_i32_6937
  let v17625 : BitVec 32 := Scalar.select v17623 v17624 v17609
  let c128_i32_6938 : BitVec 32 := 128#32
  let v17626 : BitVec 32 := Scalar.muli v17625 c128_i32_6938
  let v17627 : BitVec 32 := v17626
  let v17630 : Index := Scalar.indexCast v17627
  ![v17629.toNat, 0, v17630.toNat]

def k1_chk309 (v17604 : BitVec 32) (v17606 : BitVec 32) : Prop :=
  (128 ∣ (k1_mult309 v17606).toNat) ∧
  (∀ a, (k1_off965 v17604 v17606) a + S1x16x512.size a ≤ S384x16x1152.size a)
theorem k1_mult309_dvd : ∀ (v17604 : BitVec 32) (v17606 : BitVec 32) (k1_hw309 : k1_chk309 v17604 v17606), 128 ∣ (k1_mult309 v17606).toNat := fun v17604 v17606 k1_hw309 => k1_hw309.1
theorem k1_off965_inb : ∀ (v17604 : BitVec 32) (v17606 : BitVec 32) (k1_hw309 : k1_chk309 v17604 v17606), ∀ a, (k1_off965 v17604 v17606) a + S1x16x512.size a ≤ S384x16x1152.size a := fun v17604 v17606 k1_hw309 => k1_hw309.2

def k1_off966 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17640 : Index := Scalar.indexCast v17370
  let c4_6942 : Index := 4#32
  ![v17640.toNat, 4]
def k1_off967 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17656 : Index := Scalar.indexCast v17370
  let c5_6948 : Index := 5#32
  ![v17656.toNat, 5]
def k1_mult310 (v17659 : BitVec 32) : BitVec 32 :=
  let c0_i32_6952 : BitVec 32 := 0#32
  let v17663 : BitVec 1 := Scalar.cmpi .sgt v17659 c0_i32_6952
  let v17664 : BitVec 32 := Scalar.extui v17663
  let c0_i32_6953 : BitVec 32 := 0#32
  let v17665 : BitVec 1 := Scalar.cmpi .slt v17659 c0_i32_6953
  let v17666 : BitVec 32 := Scalar.extui v17665
  let v17667 : BitVec 32 := Scalar.subi v17664 v17666
  let c128_i32_6951 : BitVec 32 := 128#32
  let c0_i32_6954 : BitVec 32 := 0#32
  let v17668 : BitVec 1 := Scalar.cmpi .sgt c128_i32_6951 c0_i32_6954
  let v17669 : BitVec 32 := Scalar.extui v17668
  let c0_i32_6955 : BitVec 32 := 0#32
  let v17670 : BitVec 1 := Scalar.cmpi .slt c128_i32_6951 c0_i32_6955
  let v17671 : BitVec 32 := Scalar.extui v17670
  let v17672 : BitVec 32 := Scalar.subi v17669 v17671
  let v17673 : BitVec 1 := Scalar.cmpi .ne v17667 v17672
  let v17674 : BitVec 32 := Scalar.remsi v17659 c128_i32_6951
  let c0_i32_6956 : BitVec 32 := 0#32
  let v17675 : BitVec 1 := Scalar.cmpi .ne v17674 c0_i32_6956
  let v17676 : BitVec 1 := Scalar.andi v17673 v17675
  let v17662 : BitVec 32 := Scalar.divsi v17659 c128_i32_6951
  let c1_i32_6957 : BitVec 32 := 1#32
  let v17677 : BitVec 32 := Scalar.subi v17662 c1_i32_6957
  let v17678 : BitVec 32 := Scalar.select v17676 v17677 v17662
  let c128_i32_6958 : BitVec 32 := 128#32
  let v17679 : BitVec 32 := Scalar.muli v17678 c128_i32_6958
  v17679

def k1_off968 (v17657 : BitVec 32) (v17659 : BitVec 32) : Fin 3 → Nat :=
  let v17682 : Index := Scalar.indexCast v17657
  let c0_6959 : Index := 0#32
  let c0_i32_6952 : BitVec 32 := 0#32
  let v17663 : BitVec 1 := Scalar.cmpi .sgt v17659 c0_i32_6952
  let v17664 : BitVec 32 := Scalar.extui v17663
  let c0_i32_6953 : BitVec 32 := 0#32
  let v17665 : BitVec 1 := Scalar.cmpi .slt v17659 c0_i32_6953
  let v17666 : BitVec 32 := Scalar.extui v17665
  let v17667 : BitVec 32 := Scalar.subi v17664 v17666
  let c128_i32_6951 : BitVec 32 := 128#32
  let c0_i32_6954 : BitVec 32 := 0#32
  let v17668 : BitVec 1 := Scalar.cmpi .sgt c128_i32_6951 c0_i32_6954
  let v17669 : BitVec 32 := Scalar.extui v17668
  let c0_i32_6955 : BitVec 32 := 0#32
  let v17670 : BitVec 1 := Scalar.cmpi .slt c128_i32_6951 c0_i32_6955
  let v17671 : BitVec 32 := Scalar.extui v17670
  let v17672 : BitVec 32 := Scalar.subi v17669 v17671
  let v17673 : BitVec 1 := Scalar.cmpi .ne v17667 v17672
  let v17674 : BitVec 32 := Scalar.remsi v17659 c128_i32_6951
  let c0_i32_6956 : BitVec 32 := 0#32
  let v17675 : BitVec 1 := Scalar.cmpi .ne v17674 c0_i32_6956
  let v17676 : BitVec 1 := Scalar.andi v17673 v17675
  let v17662 : BitVec 32 := Scalar.divsi v17659 c128_i32_6951
  let c1_i32_6957 : BitVec 32 := 1#32
  let v17677 : BitVec 32 := Scalar.subi v17662 c1_i32_6957
  let v17678 : BitVec 32 := Scalar.select v17676 v17677 v17662
  let c128_i32_6958 : BitVec 32 := 128#32
  let v17679 : BitVec 32 := Scalar.muli v17678 c128_i32_6958
  let v17680 : BitVec 32 := v17679
  let v17683 : Index := Scalar.indexCast v17680
  ![v17682.toNat, 0, v17683.toNat]

def k1_chk310 (v17657 : BitVec 32) (v17659 : BitVec 32) : Prop :=
  (128 ∣ (k1_mult310 v17659).toNat) ∧
  (∀ a, (k1_off968 v17657 v17659) a + S1x16x512.size a ≤ S384x16x1152.size a)
theorem k1_mult310_dvd : ∀ (v17657 : BitVec 32) (v17659 : BitVec 32) (k1_hw310 : k1_chk310 v17657 v17659), 128 ∣ (k1_mult310 v17659).toNat := fun v17657 v17659 k1_hw310 => k1_hw310.1
theorem k1_off968_inb : ∀ (v17657 : BitVec 32) (v17659 : BitVec 32) (k1_hw310 : k1_chk310 v17657 v17659), ∀ a, (k1_off968 v17657 v17659) a + S1x16x512.size a ≤ S384x16x1152.size a := fun v17657 v17659 k1_hw310 => k1_hw310.2

def k1_off969 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17693 : Index := Scalar.indexCast v17370
  let c5_6962 : Index := 5#32
  ![v17693.toNat, 5]
def k1_off970 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17709 : Index := Scalar.indexCast v17370
  let c6_6968 : Index := 6#32
  ![v17709.toNat, 6]
def k1_mult311 (v17712 : BitVec 32) : BitVec 32 :=
  let c0_i32_6972 : BitVec 32 := 0#32
  let v17716 : BitVec 1 := Scalar.cmpi .sgt v17712 c0_i32_6972
  let v17717 : BitVec 32 := Scalar.extui v17716
  let c0_i32_6973 : BitVec 32 := 0#32
  let v17718 : BitVec 1 := Scalar.cmpi .slt v17712 c0_i32_6973
  let v17719 : BitVec 32 := Scalar.extui v17718
  let v17720 : BitVec 32 := Scalar.subi v17717 v17719
  let c128_i32_6971 : BitVec 32 := 128#32
  let c0_i32_6974 : BitVec 32 := 0#32
  let v17721 : BitVec 1 := Scalar.cmpi .sgt c128_i32_6971 c0_i32_6974
  let v17722 : BitVec 32 := Scalar.extui v17721
  let c0_i32_6975 : BitVec 32 := 0#32
  let v17723 : BitVec 1 := Scalar.cmpi .slt c128_i32_6971 c0_i32_6975
  let v17724 : BitVec 32 := Scalar.extui v17723
  let v17725 : BitVec 32 := Scalar.subi v17722 v17724
  let v17726 : BitVec 1 := Scalar.cmpi .ne v17720 v17725
  let v17727 : BitVec 32 := Scalar.remsi v17712 c128_i32_6971
  let c0_i32_6976 : BitVec 32 := 0#32
  let v17728 : BitVec 1 := Scalar.cmpi .ne v17727 c0_i32_6976
  let v17729 : BitVec 1 := Scalar.andi v17726 v17728
  let v17715 : BitVec 32 := Scalar.divsi v17712 c128_i32_6971
  let c1_i32_6977 : BitVec 32 := 1#32
  let v17730 : BitVec 32 := Scalar.subi v17715 c1_i32_6977
  let v17731 : BitVec 32 := Scalar.select v17729 v17730 v17715
  let c128_i32_6978 : BitVec 32 := 128#32
  let v17732 : BitVec 32 := Scalar.muli v17731 c128_i32_6978
  v17732

def k1_off971 (v17710 : BitVec 32) (v17712 : BitVec 32) : Fin 3 → Nat :=
  let v17735 : Index := Scalar.indexCast v17710
  let c0_6979 : Index := 0#32
  let c0_i32_6972 : BitVec 32 := 0#32
  let v17716 : BitVec 1 := Scalar.cmpi .sgt v17712 c0_i32_6972
  let v17717 : BitVec 32 := Scalar.extui v17716
  let c0_i32_6973 : BitVec 32 := 0#32
  let v17718 : BitVec 1 := Scalar.cmpi .slt v17712 c0_i32_6973
  let v17719 : BitVec 32 := Scalar.extui v17718
  let v17720 : BitVec 32 := Scalar.subi v17717 v17719
  let c128_i32_6971 : BitVec 32 := 128#32
  let c0_i32_6974 : BitVec 32 := 0#32
  let v17721 : BitVec 1 := Scalar.cmpi .sgt c128_i32_6971 c0_i32_6974
  let v17722 : BitVec 32 := Scalar.extui v17721
  let c0_i32_6975 : BitVec 32 := 0#32
  let v17723 : BitVec 1 := Scalar.cmpi .slt c128_i32_6971 c0_i32_6975
  let v17724 : BitVec 32 := Scalar.extui v17723
  let v17725 : BitVec 32 := Scalar.subi v17722 v17724
  let v17726 : BitVec 1 := Scalar.cmpi .ne v17720 v17725
  let v17727 : BitVec 32 := Scalar.remsi v17712 c128_i32_6971
  let c0_i32_6976 : BitVec 32 := 0#32
  let v17728 : BitVec 1 := Scalar.cmpi .ne v17727 c0_i32_6976
  let v17729 : BitVec 1 := Scalar.andi v17726 v17728
  let v17715 : BitVec 32 := Scalar.divsi v17712 c128_i32_6971
  let c1_i32_6977 : BitVec 32 := 1#32
  let v17730 : BitVec 32 := Scalar.subi v17715 c1_i32_6977
  let v17731 : BitVec 32 := Scalar.select v17729 v17730 v17715
  let c128_i32_6978 : BitVec 32 := 128#32
  let v17732 : BitVec 32 := Scalar.muli v17731 c128_i32_6978
  let v17733 : BitVec 32 := v17732
  let v17736 : Index := Scalar.indexCast v17733
  ![v17735.toNat, 0, v17736.toNat]

def k1_chk311 (v17710 : BitVec 32) (v17712 : BitVec 32) : Prop :=
  (128 ∣ (k1_mult311 v17712).toNat) ∧
  (∀ a, (k1_off971 v17710 v17712) a + S1x16x512.size a ≤ S384x16x1152.size a)
theorem k1_mult311_dvd : ∀ (v17710 : BitVec 32) (v17712 : BitVec 32) (k1_hw311 : k1_chk311 v17710 v17712), 128 ∣ (k1_mult311 v17712).toNat := fun v17710 v17712 k1_hw311 => k1_hw311.1
theorem k1_off971_inb : ∀ (v17710 : BitVec 32) (v17712 : BitVec 32) (k1_hw311 : k1_chk311 v17710 v17712), ∀ a, (k1_off971 v17710 v17712) a + S1x16x512.size a ≤ S384x16x1152.size a := fun v17710 v17712 k1_hw311 => k1_hw311.2

def k1_off972 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17746 : Index := Scalar.indexCast v17370
  let c6_6982 : Index := 6#32
  ![v17746.toNat, 6]
def k1_off973 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17762 : Index := Scalar.indexCast v17370
  let c7_6988 : Index := 7#32
  ![v17762.toNat, 7]
def k1_mult312 (v17765 : BitVec 32) : BitVec 32 :=
  let c0_i32_6992 : BitVec 32 := 0#32
  let v17769 : BitVec 1 := Scalar.cmpi .sgt v17765 c0_i32_6992
  let v17770 : BitVec 32 := Scalar.extui v17769
  let c0_i32_6993 : BitVec 32 := 0#32
  let v17771 : BitVec 1 := Scalar.cmpi .slt v17765 c0_i32_6993
  let v17772 : BitVec 32 := Scalar.extui v17771
  let v17773 : BitVec 32 := Scalar.subi v17770 v17772
  let c128_i32_6991 : BitVec 32 := 128#32
  let c0_i32_6994 : BitVec 32 := 0#32
  let v17774 : BitVec 1 := Scalar.cmpi .sgt c128_i32_6991 c0_i32_6994
  let v17775 : BitVec 32 := Scalar.extui v17774
  let c0_i32_6995 : BitVec 32 := 0#32
  let v17776 : BitVec 1 := Scalar.cmpi .slt c128_i32_6991 c0_i32_6995
  let v17777 : BitVec 32 := Scalar.extui v17776
  let v17778 : BitVec 32 := Scalar.subi v17775 v17777
  let v17779 : BitVec 1 := Scalar.cmpi .ne v17773 v17778
  let v17780 : BitVec 32 := Scalar.remsi v17765 c128_i32_6991
  let c0_i32_6996 : BitVec 32 := 0#32
  let v17781 : BitVec 1 := Scalar.cmpi .ne v17780 c0_i32_6996
  let v17782 : BitVec 1 := Scalar.andi v17779 v17781
  let v17768 : BitVec 32 := Scalar.divsi v17765 c128_i32_6991
  let c1_i32_6997 : BitVec 32 := 1#32
  let v17783 : BitVec 32 := Scalar.subi v17768 c1_i32_6997
  let v17784 : BitVec 32 := Scalar.select v17782 v17783 v17768
  let c128_i32_6998 : BitVec 32 := 128#32
  let v17785 : BitVec 32 := Scalar.muli v17784 c128_i32_6998
  v17785

def k1_off974 (v17763 : BitVec 32) (v17765 : BitVec 32) : Fin 3 → Nat :=
  let v17788 : Index := Scalar.indexCast v17763
  let c0_6999 : Index := 0#32
  let c0_i32_6992 : BitVec 32 := 0#32
  let v17769 : BitVec 1 := Scalar.cmpi .sgt v17765 c0_i32_6992
  let v17770 : BitVec 32 := Scalar.extui v17769
  let c0_i32_6993 : BitVec 32 := 0#32
  let v17771 : BitVec 1 := Scalar.cmpi .slt v17765 c0_i32_6993
  let v17772 : BitVec 32 := Scalar.extui v17771
  let v17773 : BitVec 32 := Scalar.subi v17770 v17772
  let c128_i32_6991 : BitVec 32 := 128#32
  let c0_i32_6994 : BitVec 32 := 0#32
  let v17774 : BitVec 1 := Scalar.cmpi .sgt c128_i32_6991 c0_i32_6994
  let v17775 : BitVec 32 := Scalar.extui v17774
  let c0_i32_6995 : BitVec 32 := 0#32
  let v17776 : BitVec 1 := Scalar.cmpi .slt c128_i32_6991 c0_i32_6995
  let v17777 : BitVec 32 := Scalar.extui v17776
  let v17778 : BitVec 32 := Scalar.subi v17775 v17777
  let v17779 : BitVec 1 := Scalar.cmpi .ne v17773 v17778
  let v17780 : BitVec 32 := Scalar.remsi v17765 c128_i32_6991
  let c0_i32_6996 : BitVec 32 := 0#32
  let v17781 : BitVec 1 := Scalar.cmpi .ne v17780 c0_i32_6996
  let v17782 : BitVec 1 := Scalar.andi v17779 v17781
  let v17768 : BitVec 32 := Scalar.divsi v17765 c128_i32_6991
  let c1_i32_6997 : BitVec 32 := 1#32
  let v17783 : BitVec 32 := Scalar.subi v17768 c1_i32_6997
  let v17784 : BitVec 32 := Scalar.select v17782 v17783 v17768
  let c128_i32_6998 : BitVec 32 := 128#32
  let v17785 : BitVec 32 := Scalar.muli v17784 c128_i32_6998
  let v17786 : BitVec 32 := v17785
  let v17789 : Index := Scalar.indexCast v17786
  ![v17788.toNat, 0, v17789.toNat]

def k1_chk312 (v17763 : BitVec 32) (v17765 : BitVec 32) : Prop :=
  (128 ∣ (k1_mult312 v17765).toNat) ∧
  (∀ a, (k1_off974 v17763 v17765) a + S1x16x512.size a ≤ S384x16x1152.size a)
theorem k1_mult312_dvd : ∀ (v17763 : BitVec 32) (v17765 : BitVec 32) (k1_hw312 : k1_chk312 v17763 v17765), 128 ∣ (k1_mult312 v17765).toNat := fun v17763 v17765 k1_hw312 => k1_hw312.1
theorem k1_off974_inb : ∀ (v17763 : BitVec 32) (v17765 : BitVec 32) (k1_hw312 : k1_chk312 v17763 v17765), ∀ a, (k1_off974 v17763 v17765) a + S1x16x512.size a ≤ S384x16x1152.size a := fun v17763 v17765 k1_hw312 => k1_hw312.2

def k1_off975 (i : grid1.Coords) : Fin 2 → Nat :=
  let arg0 : BitVec 32 := BitVec.ofNat 32 (i 0).val
  let c48_i32_6837 : BitVec 32 := 48#32
  let v17369 : BitVec 32 := Scalar.muli arg0 c48_i32_6837
  let c38_i32 : BitVec 32 := 38#32
  let v17370 : BitVec 32 := Scalar.addi v17369 c38_i32
  let v17799 : Index := Scalar.indexCast v17370
  let c7_7002 : Index := 7#32
  ![v17799.toNat, 7]
def k1_off976 (i : grid1.Coords) : Fin 3 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17828 : Index := Scalar.indexCast v17827
  let c0_7018 : Index := 0#32
  let c720_7019 : Index := 720#32
  ![v17828.toNat, 0, 720]
def k1_off977 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17848 : Index := Scalar.indexCast v17827
  let c0_7028 : Index := 0#32
  ![v17848.toNat, 0]
def k1_mult313 (v17851 : BitVec 32) : BitVec 32 :=
  let c0_i32_7032 : BitVec 32 := 0#32
  let v17855 : BitVec 1 := Scalar.cmpi .sgt v17851 c0_i32_7032
  let v17856 : BitVec 32 := Scalar.extui v17855
  let c0_i32_7033 : BitVec 32 := 0#32
  let v17857 : BitVec 1 := Scalar.cmpi .slt v17851 c0_i32_7033
  let v17858 : BitVec 32 := Scalar.extui v17857
  let v17859 : BitVec 32 := Scalar.subi v17856 v17858
  let c128_i32_7031 : BitVec 32 := 128#32
  let c0_i32_7034 : BitVec 32 := 0#32
  let v17860 : BitVec 1 := Scalar.cmpi .sgt c128_i32_7031 c0_i32_7034
  let v17861 : BitVec 32 := Scalar.extui v17860
  let c0_i32_7035 : BitVec 32 := 0#32
  let v17862 : BitVec 1 := Scalar.cmpi .slt c128_i32_7031 c0_i32_7035
  let v17863 : BitVec 32 := Scalar.extui v17862
  let v17864 : BitVec 32 := Scalar.subi v17861 v17863
  let v17865 : BitVec 1 := Scalar.cmpi .ne v17859 v17864
  let v17866 : BitVec 32 := Scalar.remsi v17851 c128_i32_7031
  let c0_i32_7036 : BitVec 32 := 0#32
  let v17867 : BitVec 1 := Scalar.cmpi .ne v17866 c0_i32_7036
  let v17868 : BitVec 1 := Scalar.andi v17865 v17867
  let v17854 : BitVec 32 := Scalar.divsi v17851 c128_i32_7031
  let c1_i32_7037 : BitVec 32 := 1#32
  let v17869 : BitVec 32 := Scalar.subi v17854 c1_i32_7037
  let v17870 : BitVec 32 := Scalar.select v17868 v17869 v17854
  let c128_i32_7038 : BitVec 32 := 128#32
  let v17871 : BitVec 32 := Scalar.muli v17870 c128_i32_7038
  v17871

def k1_off978 (v17849 : BitVec 32) (v17851 : BitVec 32) : Fin 3 → Nat :=
  let v17874 : Index := Scalar.indexCast v17849
  let c0_7039 : Index := 0#32
  let c0_i32_7032 : BitVec 32 := 0#32
  let v17855 : BitVec 1 := Scalar.cmpi .sgt v17851 c0_i32_7032
  let v17856 : BitVec 32 := Scalar.extui v17855
  let c0_i32_7033 : BitVec 32 := 0#32
  let v17857 : BitVec 1 := Scalar.cmpi .slt v17851 c0_i32_7033
  let v17858 : BitVec 32 := Scalar.extui v17857
  let v17859 : BitVec 32 := Scalar.subi v17856 v17858
  let c128_i32_7031 : BitVec 32 := 128#32
  let c0_i32_7034 : BitVec 32 := 0#32
  let v17860 : BitVec 1 := Scalar.cmpi .sgt c128_i32_7031 c0_i32_7034
  let v17861 : BitVec 32 := Scalar.extui v17860
  let c0_i32_7035 : BitVec 32 := 0#32
  let v17862 : BitVec 1 := Scalar.cmpi .slt c128_i32_7031 c0_i32_7035
  let v17863 : BitVec 32 := Scalar.extui v17862
  let v17864 : BitVec 32 := Scalar.subi v17861 v17863
  let v17865 : BitVec 1 := Scalar.cmpi .ne v17859 v17864
  let v17866 : BitVec 32 := Scalar.remsi v17851 c128_i32_7031
  let c0_i32_7036 : BitVec 32 := 0#32
  let v17867 : BitVec 1 := Scalar.cmpi .ne v17866 c0_i32_7036
  let v17868 : BitVec 1 := Scalar.andi v17865 v17867
  let v17854 : BitVec 32 := Scalar.divsi v17851 c128_i32_7031
  let c1_i32_7037 : BitVec 32 := 1#32
  let v17869 : BitVec 32 := Scalar.subi v17854 c1_i32_7037
  let v17870 : BitVec 32 := Scalar.select v17868 v17869 v17854
  let c128_i32_7038 : BitVec 32 := 128#32
  let v17871 : BitVec 32 := Scalar.muli v17870 c128_i32_7038
  let v17872 : BitVec 32 := v17871
  let v17875 : Index := Scalar.indexCast v17872
  ![v17874.toNat, 0, v17875.toNat]

def k1_chk313 (v17849 : BitVec 32) (v17851 : BitVec 32) : Prop :=
  (128 ∣ (k1_mult313 v17851).toNat) ∧
  (∀ a, (k1_off978 v17849 v17851) a + S1x16x512.size a ≤ S384x16x1152.size a)
theorem k1_mult313_dvd : ∀ (v17849 : BitVec 32) (v17851 : BitVec 32) (k1_hw313 : k1_chk313 v17849 v17851), 128 ∣ (k1_mult313 v17851).toNat := fun v17849 v17851 k1_hw313 => k1_hw313.1
theorem k1_off978_inb : ∀ (v17849 : BitVec 32) (v17851 : BitVec 32) (k1_hw313 : k1_chk313 v17849 v17851), ∀ a, (k1_off978 v17849 v17851) a + S1x16x512.size a ≤ S384x16x1152.size a := fun v17849 v17851 k1_hw313 => k1_hw313.2

def k1_off979 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17885 : Index := Scalar.indexCast v17827
  let c0_7042 : Index := 0#32
  ![v17885.toNat, 0]
def k1_off980 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17901 : Index := Scalar.indexCast v17827
  let c1_7048 : Index := 1#32
  ![v17901.toNat, 1]
def k1_mult314 (v17904 : BitVec 32) : BitVec 32 :=
  let c0_i32_7052 : BitVec 32 := 0#32
  let v17908 : BitVec 1 := Scalar.cmpi .sgt v17904 c0_i32_7052
  let v17909 : BitVec 32 := Scalar.extui v17908
  let c0_i32_7053 : BitVec 32 := 0#32
  let v17910 : BitVec 1 := Scalar.cmpi .slt v17904 c0_i32_7053
  let v17911 : BitVec 32 := Scalar.extui v17910
  let v17912 : BitVec 32 := Scalar.subi v17909 v17911
  let c128_i32_7051 : BitVec 32 := 128#32
  let c0_i32_7054 : BitVec 32 := 0#32
  let v17913 : BitVec 1 := Scalar.cmpi .sgt c128_i32_7051 c0_i32_7054
  let v17914 : BitVec 32 := Scalar.extui v17913
  let c0_i32_7055 : BitVec 32 := 0#32
  let v17915 : BitVec 1 := Scalar.cmpi .slt c128_i32_7051 c0_i32_7055
  let v17916 : BitVec 32 := Scalar.extui v17915
  let v17917 : BitVec 32 := Scalar.subi v17914 v17916
  let v17918 : BitVec 1 := Scalar.cmpi .ne v17912 v17917
  let v17919 : BitVec 32 := Scalar.remsi v17904 c128_i32_7051
  let c0_i32_7056 : BitVec 32 := 0#32
  let v17920 : BitVec 1 := Scalar.cmpi .ne v17919 c0_i32_7056
  let v17921 : BitVec 1 := Scalar.andi v17918 v17920
  let v17907 : BitVec 32 := Scalar.divsi v17904 c128_i32_7051
  let c1_i32_7057 : BitVec 32 := 1#32
  let v17922 : BitVec 32 := Scalar.subi v17907 c1_i32_7057
  let v17923 : BitVec 32 := Scalar.select v17921 v17922 v17907
  let c128_i32_7058 : BitVec 32 := 128#32
  let v17924 : BitVec 32 := Scalar.muli v17923 c128_i32_7058
  v17924

def k1_off981 (v17902 : BitVec 32) (v17904 : BitVec 32) : Fin 3 → Nat :=
  let v17927 : Index := Scalar.indexCast v17902
  let c0_7059 : Index := 0#32
  let c0_i32_7052 : BitVec 32 := 0#32
  let v17908 : BitVec 1 := Scalar.cmpi .sgt v17904 c0_i32_7052
  let v17909 : BitVec 32 := Scalar.extui v17908
  let c0_i32_7053 : BitVec 32 := 0#32
  let v17910 : BitVec 1 := Scalar.cmpi .slt v17904 c0_i32_7053
  let v17911 : BitVec 32 := Scalar.extui v17910
  let v17912 : BitVec 32 := Scalar.subi v17909 v17911
  let c128_i32_7051 : BitVec 32 := 128#32
  let c0_i32_7054 : BitVec 32 := 0#32
  let v17913 : BitVec 1 := Scalar.cmpi .sgt c128_i32_7051 c0_i32_7054
  let v17914 : BitVec 32 := Scalar.extui v17913
  let c0_i32_7055 : BitVec 32 := 0#32
  let v17915 : BitVec 1 := Scalar.cmpi .slt c128_i32_7051 c0_i32_7055
  let v17916 : BitVec 32 := Scalar.extui v17915
  let v17917 : BitVec 32 := Scalar.subi v17914 v17916
  let v17918 : BitVec 1 := Scalar.cmpi .ne v17912 v17917
  let v17919 : BitVec 32 := Scalar.remsi v17904 c128_i32_7051
  let c0_i32_7056 : BitVec 32 := 0#32
  let v17920 : BitVec 1 := Scalar.cmpi .ne v17919 c0_i32_7056
  let v17921 : BitVec 1 := Scalar.andi v17918 v17920
  let v17907 : BitVec 32 := Scalar.divsi v17904 c128_i32_7051
  let c1_i32_7057 : BitVec 32 := 1#32
  let v17922 : BitVec 32 := Scalar.subi v17907 c1_i32_7057
  let v17923 : BitVec 32 := Scalar.select v17921 v17922 v17907
  let c128_i32_7058 : BitVec 32 := 128#32
  let v17924 : BitVec 32 := Scalar.muli v17923 c128_i32_7058
  let v17925 : BitVec 32 := v17924
  let v17928 : Index := Scalar.indexCast v17925
  ![v17927.toNat, 0, v17928.toNat]

def k1_chk314 (v17902 : BitVec 32) (v17904 : BitVec 32) : Prop :=
  (128 ∣ (k1_mult314 v17904).toNat) ∧
  (∀ a, (k1_off981 v17902 v17904) a + S1x16x512.size a ≤ S384x16x1152.size a)
theorem k1_mult314_dvd : ∀ (v17902 : BitVec 32) (v17904 : BitVec 32) (k1_hw314 : k1_chk314 v17902 v17904), 128 ∣ (k1_mult314 v17904).toNat := fun v17902 v17904 k1_hw314 => k1_hw314.1
theorem k1_off981_inb : ∀ (v17902 : BitVec 32) (v17904 : BitVec 32) (k1_hw314 : k1_chk314 v17902 v17904), ∀ a, (k1_off981 v17902 v17904) a + S1x16x512.size a ≤ S384x16x1152.size a := fun v17902 v17904 k1_hw314 => k1_hw314.2

def k1_off982 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17938 : Index := Scalar.indexCast v17827
  let c1_7062 : Index := 1#32
  ![v17938.toNat, 1]
def k1_off983 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17954 : Index := Scalar.indexCast v17827
  let c2_7068 : Index := 2#32
  ![v17954.toNat, 2]
def k1_mult315 (v17957 : BitVec 32) : BitVec 32 :=
  let c0_i32_7072 : BitVec 32 := 0#32
  let v17961 : BitVec 1 := Scalar.cmpi .sgt v17957 c0_i32_7072
  let v17962 : BitVec 32 := Scalar.extui v17961
  let c0_i32_7073 : BitVec 32 := 0#32
  let v17963 : BitVec 1 := Scalar.cmpi .slt v17957 c0_i32_7073
  let v17964 : BitVec 32 := Scalar.extui v17963
  let v17965 : BitVec 32 := Scalar.subi v17962 v17964
  let c128_i32_7071 : BitVec 32 := 128#32
  let c0_i32_7074 : BitVec 32 := 0#32
  let v17966 : BitVec 1 := Scalar.cmpi .sgt c128_i32_7071 c0_i32_7074
  let v17967 : BitVec 32 := Scalar.extui v17966
  let c0_i32_7075 : BitVec 32 := 0#32
  let v17968 : BitVec 1 := Scalar.cmpi .slt c128_i32_7071 c0_i32_7075
  let v17969 : BitVec 32 := Scalar.extui v17968
  let v17970 : BitVec 32 := Scalar.subi v17967 v17969
  let v17971 : BitVec 1 := Scalar.cmpi .ne v17965 v17970
  let v17972 : BitVec 32 := Scalar.remsi v17957 c128_i32_7071
  let c0_i32_7076 : BitVec 32 := 0#32
  let v17973 : BitVec 1 := Scalar.cmpi .ne v17972 c0_i32_7076
  let v17974 : BitVec 1 := Scalar.andi v17971 v17973
  let v17960 : BitVec 32 := Scalar.divsi v17957 c128_i32_7071
  let c1_i32_7077 : BitVec 32 := 1#32
  let v17975 : BitVec 32 := Scalar.subi v17960 c1_i32_7077
  let v17976 : BitVec 32 := Scalar.select v17974 v17975 v17960
  let c128_i32_7078 : BitVec 32 := 128#32
  let v17977 : BitVec 32 := Scalar.muli v17976 c128_i32_7078
  v17977

def k1_off984 (v17955 : BitVec 32) (v17957 : BitVec 32) : Fin 3 → Nat :=
  let v17980 : Index := Scalar.indexCast v17955
  let c0_7079 : Index := 0#32
  let c0_i32_7072 : BitVec 32 := 0#32
  let v17961 : BitVec 1 := Scalar.cmpi .sgt v17957 c0_i32_7072
  let v17962 : BitVec 32 := Scalar.extui v17961
  let c0_i32_7073 : BitVec 32 := 0#32
  let v17963 : BitVec 1 := Scalar.cmpi .slt v17957 c0_i32_7073
  let v17964 : BitVec 32 := Scalar.extui v17963
  let v17965 : BitVec 32 := Scalar.subi v17962 v17964
  let c128_i32_7071 : BitVec 32 := 128#32
  let c0_i32_7074 : BitVec 32 := 0#32
  let v17966 : BitVec 1 := Scalar.cmpi .sgt c128_i32_7071 c0_i32_7074
  let v17967 : BitVec 32 := Scalar.extui v17966
  let c0_i32_7075 : BitVec 32 := 0#32
  let v17968 : BitVec 1 := Scalar.cmpi .slt c128_i32_7071 c0_i32_7075
  let v17969 : BitVec 32 := Scalar.extui v17968
  let v17970 : BitVec 32 := Scalar.subi v17967 v17969
  let v17971 : BitVec 1 := Scalar.cmpi .ne v17965 v17970
  let v17972 : BitVec 32 := Scalar.remsi v17957 c128_i32_7071
  let c0_i32_7076 : BitVec 32 := 0#32
  let v17973 : BitVec 1 := Scalar.cmpi .ne v17972 c0_i32_7076
  let v17974 : BitVec 1 := Scalar.andi v17971 v17973
  let v17960 : BitVec 32 := Scalar.divsi v17957 c128_i32_7071
  let c1_i32_7077 : BitVec 32 := 1#32
  let v17975 : BitVec 32 := Scalar.subi v17960 c1_i32_7077
  let v17976 : BitVec 32 := Scalar.select v17974 v17975 v17960
  let c128_i32_7078 : BitVec 32 := 128#32
  let v17977 : BitVec 32 := Scalar.muli v17976 c128_i32_7078
  let v17978 : BitVec 32 := v17977
  let v17981 : Index := Scalar.indexCast v17978
  ![v17980.toNat, 0, v17981.toNat]

def k1_chk315 (v17955 : BitVec 32) (v17957 : BitVec 32) : Prop :=
  (128 ∣ (k1_mult315 v17957).toNat) ∧
  (∀ a, (k1_off984 v17955 v17957) a + S1x16x512.size a ≤ S384x16x1152.size a)
theorem k1_mult315_dvd : ∀ (v17955 : BitVec 32) (v17957 : BitVec 32) (k1_hw315 : k1_chk315 v17955 v17957), 128 ∣ (k1_mult315 v17957).toNat := fun v17955 v17957 k1_hw315 => k1_hw315.1
theorem k1_off984_inb : ∀ (v17955 : BitVec 32) (v17957 : BitVec 32) (k1_hw315 : k1_chk315 v17955 v17957), ∀ a, (k1_off984 v17955 v17957) a + S1x16x512.size a ≤ S384x16x1152.size a := fun v17955 v17957 k1_hw315 => k1_hw315.2

def k1_off985 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v17991 : Index := Scalar.indexCast v17827
  let c2_7082 : Index := 2#32
  ![v17991.toNat, 2]
def k1_off986 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18007 : Index := Scalar.indexCast v17827
  let c3_7088 : Index := 3#32
  ![v18007.toNat, 3]
def k1_mult316 (v18010 : BitVec 32) : BitVec 32 :=
  let c0_i32_7092 : BitVec 32 := 0#32
  let v18014 : BitVec 1 := Scalar.cmpi .sgt v18010 c0_i32_7092
  let v18015 : BitVec 32 := Scalar.extui v18014
  let c0_i32_7093 : BitVec 32 := 0#32
  let v18016 : BitVec 1 := Scalar.cmpi .slt v18010 c0_i32_7093
  let v18017 : BitVec 32 := Scalar.extui v18016
  let v18018 : BitVec 32 := Scalar.subi v18015 v18017
  let c128_i32_7091 : BitVec 32 := 128#32
  let c0_i32_7094 : BitVec 32 := 0#32
  let v18019 : BitVec 1 := Scalar.cmpi .sgt c128_i32_7091 c0_i32_7094
  let v18020 : BitVec 32 := Scalar.extui v18019
  let c0_i32_7095 : BitVec 32 := 0#32
  let v18021 : BitVec 1 := Scalar.cmpi .slt c128_i32_7091 c0_i32_7095
  let v18022 : BitVec 32 := Scalar.extui v18021
  let v18023 : BitVec 32 := Scalar.subi v18020 v18022
  let v18024 : BitVec 1 := Scalar.cmpi .ne v18018 v18023
  let v18025 : BitVec 32 := Scalar.remsi v18010 c128_i32_7091
  let c0_i32_7096 : BitVec 32 := 0#32
  let v18026 : BitVec 1 := Scalar.cmpi .ne v18025 c0_i32_7096
  let v18027 : BitVec 1 := Scalar.andi v18024 v18026
  let v18013 : BitVec 32 := Scalar.divsi v18010 c128_i32_7091
  let c1_i32_7097 : BitVec 32 := 1#32
  let v18028 : BitVec 32 := Scalar.subi v18013 c1_i32_7097
  let v18029 : BitVec 32 := Scalar.select v18027 v18028 v18013
  let c128_i32_7098 : BitVec 32 := 128#32
  let v18030 : BitVec 32 := Scalar.muli v18029 c128_i32_7098
  v18030

def k1_off987 (v18008 : BitVec 32) (v18010 : BitVec 32) : Fin 3 → Nat :=
  let v18033 : Index := Scalar.indexCast v18008
  let c0_7099 : Index := 0#32
  let c0_i32_7092 : BitVec 32 := 0#32
  let v18014 : BitVec 1 := Scalar.cmpi .sgt v18010 c0_i32_7092
  let v18015 : BitVec 32 := Scalar.extui v18014
  let c0_i32_7093 : BitVec 32 := 0#32
  let v18016 : BitVec 1 := Scalar.cmpi .slt v18010 c0_i32_7093
  let v18017 : BitVec 32 := Scalar.extui v18016
  let v18018 : BitVec 32 := Scalar.subi v18015 v18017
  let c128_i32_7091 : BitVec 32 := 128#32
  let c0_i32_7094 : BitVec 32 := 0#32
  let v18019 : BitVec 1 := Scalar.cmpi .sgt c128_i32_7091 c0_i32_7094
  let v18020 : BitVec 32 := Scalar.extui v18019
  let c0_i32_7095 : BitVec 32 := 0#32
  let v18021 : BitVec 1 := Scalar.cmpi .slt c128_i32_7091 c0_i32_7095
  let v18022 : BitVec 32 := Scalar.extui v18021
  let v18023 : BitVec 32 := Scalar.subi v18020 v18022
  let v18024 : BitVec 1 := Scalar.cmpi .ne v18018 v18023
  let v18025 : BitVec 32 := Scalar.remsi v18010 c128_i32_7091
  let c0_i32_7096 : BitVec 32 := 0#32
  let v18026 : BitVec 1 := Scalar.cmpi .ne v18025 c0_i32_7096
  let v18027 : BitVec 1 := Scalar.andi v18024 v18026
  let v18013 : BitVec 32 := Scalar.divsi v18010 c128_i32_7091
  let c1_i32_7097 : BitVec 32 := 1#32
  let v18028 : BitVec 32 := Scalar.subi v18013 c1_i32_7097
  let v18029 : BitVec 32 := Scalar.select v18027 v18028 v18013
  let c128_i32_7098 : BitVec 32 := 128#32
  let v18030 : BitVec 32 := Scalar.muli v18029 c128_i32_7098
  let v18031 : BitVec 32 := v18030
  let v18034 : Index := Scalar.indexCast v18031
  ![v18033.toNat, 0, v18034.toNat]

def k1_chk316 (v18008 : BitVec 32) (v18010 : BitVec 32) : Prop :=
  (128 ∣ (k1_mult316 v18010).toNat) ∧
  (∀ a, (k1_off987 v18008 v18010) a + S1x16x512.size a ≤ S384x16x1152.size a)
theorem k1_mult316_dvd : ∀ (v18008 : BitVec 32) (v18010 : BitVec 32) (k1_hw316 : k1_chk316 v18008 v18010), 128 ∣ (k1_mult316 v18010).toNat := fun v18008 v18010 k1_hw316 => k1_hw316.1
theorem k1_off987_inb : ∀ (v18008 : BitVec 32) (v18010 : BitVec 32) (k1_hw316 : k1_chk316 v18008 v18010), ∀ a, (k1_off987 v18008 v18010) a + S1x16x512.size a ≤ S384x16x1152.size a := fun v18008 v18010 k1_hw316 => k1_hw316.2

def k1_off988 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18044 : Index := Scalar.indexCast v17827
  let c3_7102 : Index := 3#32
  ![v18044.toNat, 3]
def k1_off989 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18060 : Index := Scalar.indexCast v17827
  let c4_7108 : Index := 4#32
  ![v18060.toNat, 4]
def k1_mult317 (v18063 : BitVec 32) : BitVec 32 :=
  let c0_i32_7112 : BitVec 32 := 0#32
  let v18067 : BitVec 1 := Scalar.cmpi .sgt v18063 c0_i32_7112
  let v18068 : BitVec 32 := Scalar.extui v18067
  let c0_i32_7113 : BitVec 32 := 0#32
  let v18069 : BitVec 1 := Scalar.cmpi .slt v18063 c0_i32_7113
  let v18070 : BitVec 32 := Scalar.extui v18069
  let v18071 : BitVec 32 := Scalar.subi v18068 v18070
  let c128_i32_7111 : BitVec 32 := 128#32
  let c0_i32_7114 : BitVec 32 := 0#32
  let v18072 : BitVec 1 := Scalar.cmpi .sgt c128_i32_7111 c0_i32_7114
  let v18073 : BitVec 32 := Scalar.extui v18072
  let c0_i32_7115 : BitVec 32 := 0#32
  let v18074 : BitVec 1 := Scalar.cmpi .slt c128_i32_7111 c0_i32_7115
  let v18075 : BitVec 32 := Scalar.extui v18074
  let v18076 : BitVec 32 := Scalar.subi v18073 v18075
  let v18077 : BitVec 1 := Scalar.cmpi .ne v18071 v18076
  let v18078 : BitVec 32 := Scalar.remsi v18063 c128_i32_7111
  let c0_i32_7116 : BitVec 32 := 0#32
  let v18079 : BitVec 1 := Scalar.cmpi .ne v18078 c0_i32_7116
  let v18080 : BitVec 1 := Scalar.andi v18077 v18079
  let v18066 : BitVec 32 := Scalar.divsi v18063 c128_i32_7111
  let c1_i32_7117 : BitVec 32 := 1#32
  let v18081 : BitVec 32 := Scalar.subi v18066 c1_i32_7117
  let v18082 : BitVec 32 := Scalar.select v18080 v18081 v18066
  let c128_i32_7118 : BitVec 32 := 128#32
  let v18083 : BitVec 32 := Scalar.muli v18082 c128_i32_7118
  v18083

def k1_off990 (v18061 : BitVec 32) (v18063 : BitVec 32) : Fin 3 → Nat :=
  let v18086 : Index := Scalar.indexCast v18061
  let c0_7119 : Index := 0#32
  let c0_i32_7112 : BitVec 32 := 0#32
  let v18067 : BitVec 1 := Scalar.cmpi .sgt v18063 c0_i32_7112
  let v18068 : BitVec 32 := Scalar.extui v18067
  let c0_i32_7113 : BitVec 32 := 0#32
  let v18069 : BitVec 1 := Scalar.cmpi .slt v18063 c0_i32_7113
  let v18070 : BitVec 32 := Scalar.extui v18069
  let v18071 : BitVec 32 := Scalar.subi v18068 v18070
  let c128_i32_7111 : BitVec 32 := 128#32
  let c0_i32_7114 : BitVec 32 := 0#32
  let v18072 : BitVec 1 := Scalar.cmpi .sgt c128_i32_7111 c0_i32_7114
  let v18073 : BitVec 32 := Scalar.extui v18072
  let c0_i32_7115 : BitVec 32 := 0#32
  let v18074 : BitVec 1 := Scalar.cmpi .slt c128_i32_7111 c0_i32_7115
  let v18075 : BitVec 32 := Scalar.extui v18074
  let v18076 : BitVec 32 := Scalar.subi v18073 v18075
  let v18077 : BitVec 1 := Scalar.cmpi .ne v18071 v18076
  let v18078 : BitVec 32 := Scalar.remsi v18063 c128_i32_7111
  let c0_i32_7116 : BitVec 32 := 0#32
  let v18079 : BitVec 1 := Scalar.cmpi .ne v18078 c0_i32_7116
  let v18080 : BitVec 1 := Scalar.andi v18077 v18079
  let v18066 : BitVec 32 := Scalar.divsi v18063 c128_i32_7111
  let c1_i32_7117 : BitVec 32 := 1#32
  let v18081 : BitVec 32 := Scalar.subi v18066 c1_i32_7117
  let v18082 : BitVec 32 := Scalar.select v18080 v18081 v18066
  let c128_i32_7118 : BitVec 32 := 128#32
  let v18083 : BitVec 32 := Scalar.muli v18082 c128_i32_7118
  let v18084 : BitVec 32 := v18083
  let v18087 : Index := Scalar.indexCast v18084
  ![v18086.toNat, 0, v18087.toNat]

def k1_chk317 (v18061 : BitVec 32) (v18063 : BitVec 32) : Prop :=
  (128 ∣ (k1_mult317 v18063).toNat) ∧
  (∀ a, (k1_off990 v18061 v18063) a + S1x16x512.size a ≤ S384x16x1152.size a)
theorem k1_mult317_dvd : ∀ (v18061 : BitVec 32) (v18063 : BitVec 32) (k1_hw317 : k1_chk317 v18061 v18063), 128 ∣ (k1_mult317 v18063).toNat := fun v18061 v18063 k1_hw317 => k1_hw317.1
theorem k1_off990_inb : ∀ (v18061 : BitVec 32) (v18063 : BitVec 32) (k1_hw317 : k1_chk317 v18061 v18063), ∀ a, (k1_off990 v18061 v18063) a + S1x16x512.size a ≤ S384x16x1152.size a := fun v18061 v18063 k1_hw317 => k1_hw317.2

def k1_off991 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18097 : Index := Scalar.indexCast v17827
  let c4_7122 : Index := 4#32
  ![v18097.toNat, 4]
def k1_off992 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18113 : Index := Scalar.indexCast v17827
  let c5_7128 : Index := 5#32
  ![v18113.toNat, 5]
def k1_mult318 (v18116 : BitVec 32) : BitVec 32 :=
  let c0_i32_7132 : BitVec 32 := 0#32
  let v18120 : BitVec 1 := Scalar.cmpi .sgt v18116 c0_i32_7132
  let v18121 : BitVec 32 := Scalar.extui v18120
  let c0_i32_7133 : BitVec 32 := 0#32
  let v18122 : BitVec 1 := Scalar.cmpi .slt v18116 c0_i32_7133
  let v18123 : BitVec 32 := Scalar.extui v18122
  let v18124 : BitVec 32 := Scalar.subi v18121 v18123
  let c128_i32_7131 : BitVec 32 := 128#32
  let c0_i32_7134 : BitVec 32 := 0#32
  let v18125 : BitVec 1 := Scalar.cmpi .sgt c128_i32_7131 c0_i32_7134
  let v18126 : BitVec 32 := Scalar.extui v18125
  let c0_i32_7135 : BitVec 32 := 0#32
  let v18127 : BitVec 1 := Scalar.cmpi .slt c128_i32_7131 c0_i32_7135
  let v18128 : BitVec 32 := Scalar.extui v18127
  let v18129 : BitVec 32 := Scalar.subi v18126 v18128
  let v18130 : BitVec 1 := Scalar.cmpi .ne v18124 v18129
  let v18131 : BitVec 32 := Scalar.remsi v18116 c128_i32_7131
  let c0_i32_7136 : BitVec 32 := 0#32
  let v18132 : BitVec 1 := Scalar.cmpi .ne v18131 c0_i32_7136
  let v18133 : BitVec 1 := Scalar.andi v18130 v18132
  let v18119 : BitVec 32 := Scalar.divsi v18116 c128_i32_7131
  let c1_i32_7137 : BitVec 32 := 1#32
  let v18134 : BitVec 32 := Scalar.subi v18119 c1_i32_7137
  let v18135 : BitVec 32 := Scalar.select v18133 v18134 v18119
  let c128_i32_7138 : BitVec 32 := 128#32
  let v18136 : BitVec 32 := Scalar.muli v18135 c128_i32_7138
  v18136

def k1_off993 (v18114 : BitVec 32) (v18116 : BitVec 32) : Fin 3 → Nat :=
  let v18139 : Index := Scalar.indexCast v18114
  let c0_7139 : Index := 0#32
  let c0_i32_7132 : BitVec 32 := 0#32
  let v18120 : BitVec 1 := Scalar.cmpi .sgt v18116 c0_i32_7132
  let v18121 : BitVec 32 := Scalar.extui v18120
  let c0_i32_7133 : BitVec 32 := 0#32
  let v18122 : BitVec 1 := Scalar.cmpi .slt v18116 c0_i32_7133
  let v18123 : BitVec 32 := Scalar.extui v18122
  let v18124 : BitVec 32 := Scalar.subi v18121 v18123
  let c128_i32_7131 : BitVec 32 := 128#32
  let c0_i32_7134 : BitVec 32 := 0#32
  let v18125 : BitVec 1 := Scalar.cmpi .sgt c128_i32_7131 c0_i32_7134
  let v18126 : BitVec 32 := Scalar.extui v18125
  let c0_i32_7135 : BitVec 32 := 0#32
  let v18127 : BitVec 1 := Scalar.cmpi .slt c128_i32_7131 c0_i32_7135
  let v18128 : BitVec 32 := Scalar.extui v18127
  let v18129 : BitVec 32 := Scalar.subi v18126 v18128
  let v18130 : BitVec 1 := Scalar.cmpi .ne v18124 v18129
  let v18131 : BitVec 32 := Scalar.remsi v18116 c128_i32_7131
  let c0_i32_7136 : BitVec 32 := 0#32
  let v18132 : BitVec 1 := Scalar.cmpi .ne v18131 c0_i32_7136
  let v18133 : BitVec 1 := Scalar.andi v18130 v18132
  let v18119 : BitVec 32 := Scalar.divsi v18116 c128_i32_7131
  let c1_i32_7137 : BitVec 32 := 1#32
  let v18134 : BitVec 32 := Scalar.subi v18119 c1_i32_7137
  let v18135 : BitVec 32 := Scalar.select v18133 v18134 v18119
  let c128_i32_7138 : BitVec 32 := 128#32
  let v18136 : BitVec 32 := Scalar.muli v18135 c128_i32_7138
  let v18137 : BitVec 32 := v18136
  let v18140 : Index := Scalar.indexCast v18137
  ![v18139.toNat, 0, v18140.toNat]

def k1_chk318 (v18114 : BitVec 32) (v18116 : BitVec 32) : Prop :=
  (128 ∣ (k1_mult318 v18116).toNat) ∧
  (∀ a, (k1_off993 v18114 v18116) a + S1x16x512.size a ≤ S384x16x1152.size a)
theorem k1_mult318_dvd : ∀ (v18114 : BitVec 32) (v18116 : BitVec 32) (k1_hw318 : k1_chk318 v18114 v18116), 128 ∣ (k1_mult318 v18116).toNat := fun v18114 v18116 k1_hw318 => k1_hw318.1
theorem k1_off993_inb : ∀ (v18114 : BitVec 32) (v18116 : BitVec 32) (k1_hw318 : k1_chk318 v18114 v18116), ∀ a, (k1_off993 v18114 v18116) a + S1x16x512.size a ≤ S384x16x1152.size a := fun v18114 v18116 k1_hw318 => k1_hw318.2

def k1_off994 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18150 : Index := Scalar.indexCast v17827
  let c5_7142 : Index := 5#32
  ![v18150.toNat, 5]
def k1_off995 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18166 : Index := Scalar.indexCast v17827
  let c6_7148 : Index := 6#32
  ![v18166.toNat, 6]
def k1_mult319 (v18169 : BitVec 32) : BitVec 32 :=
  let c0_i32_7152 : BitVec 32 := 0#32
  let v18173 : BitVec 1 := Scalar.cmpi .sgt v18169 c0_i32_7152
  let v18174 : BitVec 32 := Scalar.extui v18173
  let c0_i32_7153 : BitVec 32 := 0#32
  let v18175 : BitVec 1 := Scalar.cmpi .slt v18169 c0_i32_7153
  let v18176 : BitVec 32 := Scalar.extui v18175
  let v18177 : BitVec 32 := Scalar.subi v18174 v18176
  let c128_i32_7151 : BitVec 32 := 128#32
  let c0_i32_7154 : BitVec 32 := 0#32
  let v18178 : BitVec 1 := Scalar.cmpi .sgt c128_i32_7151 c0_i32_7154
  let v18179 : BitVec 32 := Scalar.extui v18178
  let c0_i32_7155 : BitVec 32 := 0#32
  let v18180 : BitVec 1 := Scalar.cmpi .slt c128_i32_7151 c0_i32_7155
  let v18181 : BitVec 32 := Scalar.extui v18180
  let v18182 : BitVec 32 := Scalar.subi v18179 v18181
  let v18183 : BitVec 1 := Scalar.cmpi .ne v18177 v18182
  let v18184 : BitVec 32 := Scalar.remsi v18169 c128_i32_7151
  let c0_i32_7156 : BitVec 32 := 0#32
  let v18185 : BitVec 1 := Scalar.cmpi .ne v18184 c0_i32_7156
  let v18186 : BitVec 1 := Scalar.andi v18183 v18185
  let v18172 : BitVec 32 := Scalar.divsi v18169 c128_i32_7151
  let c1_i32_7157 : BitVec 32 := 1#32
  let v18187 : BitVec 32 := Scalar.subi v18172 c1_i32_7157
  let v18188 : BitVec 32 := Scalar.select v18186 v18187 v18172
  let c128_i32_7158 : BitVec 32 := 128#32
  let v18189 : BitVec 32 := Scalar.muli v18188 c128_i32_7158
  v18189

def k1_off996 (v18167 : BitVec 32) (v18169 : BitVec 32) : Fin 3 → Nat :=
  let v18192 : Index := Scalar.indexCast v18167
  let c0_7159 : Index := 0#32
  let c0_i32_7152 : BitVec 32 := 0#32
  let v18173 : BitVec 1 := Scalar.cmpi .sgt v18169 c0_i32_7152
  let v18174 : BitVec 32 := Scalar.extui v18173
  let c0_i32_7153 : BitVec 32 := 0#32
  let v18175 : BitVec 1 := Scalar.cmpi .slt v18169 c0_i32_7153
  let v18176 : BitVec 32 := Scalar.extui v18175
  let v18177 : BitVec 32 := Scalar.subi v18174 v18176
  let c128_i32_7151 : BitVec 32 := 128#32
  let c0_i32_7154 : BitVec 32 := 0#32
  let v18178 : BitVec 1 := Scalar.cmpi .sgt c128_i32_7151 c0_i32_7154
  let v18179 : BitVec 32 := Scalar.extui v18178
  let c0_i32_7155 : BitVec 32 := 0#32
  let v18180 : BitVec 1 := Scalar.cmpi .slt c128_i32_7151 c0_i32_7155
  let v18181 : BitVec 32 := Scalar.extui v18180
  let v18182 : BitVec 32 := Scalar.subi v18179 v18181
  let v18183 : BitVec 1 := Scalar.cmpi .ne v18177 v18182
  let v18184 : BitVec 32 := Scalar.remsi v18169 c128_i32_7151
  let c0_i32_7156 : BitVec 32 := 0#32
  let v18185 : BitVec 1 := Scalar.cmpi .ne v18184 c0_i32_7156
  let v18186 : BitVec 1 := Scalar.andi v18183 v18185
  let v18172 : BitVec 32 := Scalar.divsi v18169 c128_i32_7151
  let c1_i32_7157 : BitVec 32 := 1#32
  let v18187 : BitVec 32 := Scalar.subi v18172 c1_i32_7157
  let v18188 : BitVec 32 := Scalar.select v18186 v18187 v18172
  let c128_i32_7158 : BitVec 32 := 128#32
  let v18189 : BitVec 32 := Scalar.muli v18188 c128_i32_7158
  let v18190 : BitVec 32 := v18189
  let v18193 : Index := Scalar.indexCast v18190
  ![v18192.toNat, 0, v18193.toNat]

def k1_chk319 (v18167 : BitVec 32) (v18169 : BitVec 32) : Prop :=
  (128 ∣ (k1_mult319 v18169).toNat) ∧
  (∀ a, (k1_off996 v18167 v18169) a + S1x16x512.size a ≤ S384x16x1152.size a)
theorem k1_mult319_dvd : ∀ (v18167 : BitVec 32) (v18169 : BitVec 32) (k1_hw319 : k1_chk319 v18167 v18169), 128 ∣ (k1_mult319 v18169).toNat := fun v18167 v18169 k1_hw319 => k1_hw319.1
theorem k1_off996_inb : ∀ (v18167 : BitVec 32) (v18169 : BitVec 32) (k1_hw319 : k1_chk319 v18167 v18169), ∀ a, (k1_off996 v18167 v18169) a + S1x16x512.size a ≤ S384x16x1152.size a := fun v18167 v18169 k1_hw319 => k1_hw319.2

def k1_off997 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18203 : Index := Scalar.indexCast v17827
  let c6_7162 : Index := 6#32
  ![v18203.toNat, 6]
def k1_off998 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18219 : Index := Scalar.indexCast v17827
  let c7_7168 : Index := 7#32
  ![v18219.toNat, 7]
def k1_mult320 (v18222 : BitVec 32) : BitVec 32 :=
  let c0_i32_7172 : BitVec 32 := 0#32
  let v18226 : BitVec 1 := Scalar.cmpi .sgt v18222 c0_i32_7172
  let v18227 : BitVec 32 := Scalar.extui v18226
  let c0_i32_7173 : BitVec 32 := 0#32
  let v18228 : BitVec 1 := Scalar.cmpi .slt v18222 c0_i32_7173
  let v18229 : BitVec 32 := Scalar.extui v18228
  let v18230 : BitVec 32 := Scalar.subi v18227 v18229
  let c128_i32_7171 : BitVec 32 := 128#32
  let c0_i32_7174 : BitVec 32 := 0#32
  let v18231 : BitVec 1 := Scalar.cmpi .sgt c128_i32_7171 c0_i32_7174
  let v18232 : BitVec 32 := Scalar.extui v18231
  let c0_i32_7175 : BitVec 32 := 0#32
  let v18233 : BitVec 1 := Scalar.cmpi .slt c128_i32_7171 c0_i32_7175
  let v18234 : BitVec 32 := Scalar.extui v18233
  let v18235 : BitVec 32 := Scalar.subi v18232 v18234
  let v18236 : BitVec 1 := Scalar.cmpi .ne v18230 v18235
  let v18237 : BitVec 32 := Scalar.remsi v18222 c128_i32_7171
  let c0_i32_7176 : BitVec 32 := 0#32
  let v18238 : BitVec 1 := Scalar.cmpi .ne v18237 c0_i32_7176
  let v18239 : BitVec 1 := Scalar.andi v18236 v18238
  let v18225 : BitVec 32 := Scalar.divsi v18222 c128_i32_7171
  let c1_i32_7177 : BitVec 32 := 1#32
  let v18240 : BitVec 32 := Scalar.subi v18225 c1_i32_7177
  let v18241 : BitVec 32 := Scalar.select v18239 v18240 v18225
  let c128_i32_7178 : BitVec 32 := 128#32
  let v18242 : BitVec 32 := Scalar.muli v18241 c128_i32_7178
  v18242

def k1_off999 (v18220 : BitVec 32) (v18222 : BitVec 32) : Fin 3 → Nat :=
  let v18245 : Index := Scalar.indexCast v18220
  let c0_7179 : Index := 0#32
  let c0_i32_7172 : BitVec 32 := 0#32
  let v18226 : BitVec 1 := Scalar.cmpi .sgt v18222 c0_i32_7172
  let v18227 : BitVec 32 := Scalar.extui v18226
  let c0_i32_7173 : BitVec 32 := 0#32
  let v18228 : BitVec 1 := Scalar.cmpi .slt v18222 c0_i32_7173
  let v18229 : BitVec 32 := Scalar.extui v18228
  let v18230 : BitVec 32 := Scalar.subi v18227 v18229
  let c128_i32_7171 : BitVec 32 := 128#32
  let c0_i32_7174 : BitVec 32 := 0#32
  let v18231 : BitVec 1 := Scalar.cmpi .sgt c128_i32_7171 c0_i32_7174
  let v18232 : BitVec 32 := Scalar.extui v18231
  let c0_i32_7175 : BitVec 32 := 0#32
  let v18233 : BitVec 1 := Scalar.cmpi .slt c128_i32_7171 c0_i32_7175
  let v18234 : BitVec 32 := Scalar.extui v18233
  let v18235 : BitVec 32 := Scalar.subi v18232 v18234
  let v18236 : BitVec 1 := Scalar.cmpi .ne v18230 v18235
  let v18237 : BitVec 32 := Scalar.remsi v18222 c128_i32_7171
  let c0_i32_7176 : BitVec 32 := 0#32
  let v18238 : BitVec 1 := Scalar.cmpi .ne v18237 c0_i32_7176
  let v18239 : BitVec 1 := Scalar.andi v18236 v18238
  let v18225 : BitVec 32 := Scalar.divsi v18222 c128_i32_7171
  let c1_i32_7177 : BitVec 32 := 1#32
  let v18240 : BitVec 32 := Scalar.subi v18225 c1_i32_7177
  let v18241 : BitVec 32 := Scalar.select v18239 v18240 v18225
  let c128_i32_7178 : BitVec 32 := 128#32
  let v18242 : BitVec 32 := Scalar.muli v18241 c128_i32_7178
  let v18243 : BitVec 32 := v18242
  let v18246 : Index := Scalar.indexCast v18243
  ![v18245.toNat, 0, v18246.toNat]

def k1_chk320 (v18220 : BitVec 32) (v18222 : BitVec 32) : Prop :=
  (128 ∣ (k1_mult320 v18222).toNat) ∧
  (∀ a, (k1_off999 v18220 v18222) a + S1x16x512.size a ≤ S384x16x1152.size a)
theorem k1_mult320_dvd : ∀ (v18220 : BitVec 32) (v18222 : BitVec 32) (k1_hw320 : k1_chk320 v18220 v18222), 128 ∣ (k1_mult320 v18222).toNat := fun v18220 v18222 k1_hw320 => k1_hw320.1
theorem k1_off999_inb : ∀ (v18220 : BitVec 32) (v18222 : BitVec 32) (k1_hw320 : k1_chk320 v18220 v18222), ∀ a, (k1_off999 v18220 v18222) a + S1x16x512.size a ≤ S384x16x1152.size a := fun v18220 v18222 k1_hw320 => k1_hw320.2

def k1_off1000 (i : grid1.Coords) : Fin 2 → Nat :=
  let arg0 : BitVec 32 := BitVec.ofNat 32 (i 0).val
  let c48_i32_7017 : BitVec 32 := 48#32
  let v17826 : BitVec 32 := Scalar.muli arg0 c48_i32_7017
  let c39_i32 : BitVec 32 := 39#32
  let v17827 : BitVec 32 := Scalar.addi v17826 c39_i32
  let v18256 : Index := Scalar.indexCast v17827
  let c7_7182 : Index := 7#32
  ![v18256.toNat, 7]
def k1_off1001 (i : grid1.Coords) : Fin 3 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18285 : Index := Scalar.indexCast v18284
  let c0_7198 : Index := 0#32
  let c720_7199 : Index := 720#32
  ![v18285.toNat, 0, 720]
def k1_off1002 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18305 : Index := Scalar.indexCast v18284
  let c0_7208 : Index := 0#32
  ![v18305.toNat, 0]
def k1_mult321 (v18308 : BitVec 32) : BitVec 32 :=
  let c0_i32_7212 : BitVec 32 := 0#32
  let v18312 : BitVec 1 := Scalar.cmpi .sgt v18308 c0_i32_7212
  let v18313 : BitVec 32 := Scalar.extui v18312
  let c0_i32_7213 : BitVec 32 := 0#32
  let v18314 : BitVec 1 := Scalar.cmpi .slt v18308 c0_i32_7213
  let v18315 : BitVec 32 := Scalar.extui v18314
  let v18316 : BitVec 32 := Scalar.subi v18313 v18315
  let c128_i32_7211 : BitVec 32 := 128#32
  let c0_i32_7214 : BitVec 32 := 0#32
  let v18317 : BitVec 1 := Scalar.cmpi .sgt c128_i32_7211 c0_i32_7214
  let v18318 : BitVec 32 := Scalar.extui v18317
  let c0_i32_7215 : BitVec 32 := 0#32
  let v18319 : BitVec 1 := Scalar.cmpi .slt c128_i32_7211 c0_i32_7215
  let v18320 : BitVec 32 := Scalar.extui v18319
  let v18321 : BitVec 32 := Scalar.subi v18318 v18320
  let v18322 : BitVec 1 := Scalar.cmpi .ne v18316 v18321
  let v18323 : BitVec 32 := Scalar.remsi v18308 c128_i32_7211
  let c0_i32_7216 : BitVec 32 := 0#32
  let v18324 : BitVec 1 := Scalar.cmpi .ne v18323 c0_i32_7216
  let v18325 : BitVec 1 := Scalar.andi v18322 v18324
  let v18311 : BitVec 32 := Scalar.divsi v18308 c128_i32_7211
  let c1_i32_7217 : BitVec 32 := 1#32
  let v18326 : BitVec 32 := Scalar.subi v18311 c1_i32_7217
  let v18327 : BitVec 32 := Scalar.select v18325 v18326 v18311
  let c128_i32_7218 : BitVec 32 := 128#32
  let v18328 : BitVec 32 := Scalar.muli v18327 c128_i32_7218
  v18328

def k1_off1003 (v18306 : BitVec 32) (v18308 : BitVec 32) : Fin 3 → Nat :=
  let v18331 : Index := Scalar.indexCast v18306
  let c0_7219 : Index := 0#32
  let c0_i32_7212 : BitVec 32 := 0#32
  let v18312 : BitVec 1 := Scalar.cmpi .sgt v18308 c0_i32_7212
  let v18313 : BitVec 32 := Scalar.extui v18312
  let c0_i32_7213 : BitVec 32 := 0#32
  let v18314 : BitVec 1 := Scalar.cmpi .slt v18308 c0_i32_7213
  let v18315 : BitVec 32 := Scalar.extui v18314
  let v18316 : BitVec 32 := Scalar.subi v18313 v18315
  let c128_i32_7211 : BitVec 32 := 128#32
  let c0_i32_7214 : BitVec 32 := 0#32
  let v18317 : BitVec 1 := Scalar.cmpi .sgt c128_i32_7211 c0_i32_7214
  let v18318 : BitVec 32 := Scalar.extui v18317
  let c0_i32_7215 : BitVec 32 := 0#32
  let v18319 : BitVec 1 := Scalar.cmpi .slt c128_i32_7211 c0_i32_7215
  let v18320 : BitVec 32 := Scalar.extui v18319
  let v18321 : BitVec 32 := Scalar.subi v18318 v18320
  let v18322 : BitVec 1 := Scalar.cmpi .ne v18316 v18321
  let v18323 : BitVec 32 := Scalar.remsi v18308 c128_i32_7211
  let c0_i32_7216 : BitVec 32 := 0#32
  let v18324 : BitVec 1 := Scalar.cmpi .ne v18323 c0_i32_7216
  let v18325 : BitVec 1 := Scalar.andi v18322 v18324
  let v18311 : BitVec 32 := Scalar.divsi v18308 c128_i32_7211
  let c1_i32_7217 : BitVec 32 := 1#32
  let v18326 : BitVec 32 := Scalar.subi v18311 c1_i32_7217
  let v18327 : BitVec 32 := Scalar.select v18325 v18326 v18311
  let c128_i32_7218 : BitVec 32 := 128#32
  let v18328 : BitVec 32 := Scalar.muli v18327 c128_i32_7218
  let v18329 : BitVec 32 := v18328
  let v18332 : Index := Scalar.indexCast v18329
  ![v18331.toNat, 0, v18332.toNat]

def k1_chk321 (v18306 : BitVec 32) (v18308 : BitVec 32) : Prop :=
  (128 ∣ (k1_mult321 v18308).toNat) ∧
  (∀ a, (k1_off1003 v18306 v18308) a + S1x16x512.size a ≤ S384x16x1152.size a)
theorem k1_mult321_dvd : ∀ (v18306 : BitVec 32) (v18308 : BitVec 32) (k1_hw321 : k1_chk321 v18306 v18308), 128 ∣ (k1_mult321 v18308).toNat := fun v18306 v18308 k1_hw321 => k1_hw321.1
theorem k1_off1003_inb : ∀ (v18306 : BitVec 32) (v18308 : BitVec 32) (k1_hw321 : k1_chk321 v18306 v18308), ∀ a, (k1_off1003 v18306 v18308) a + S1x16x512.size a ≤ S384x16x1152.size a := fun v18306 v18308 k1_hw321 => k1_hw321.2

def k1_off1004 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18342 : Index := Scalar.indexCast v18284
  let c0_7222 : Index := 0#32
  ![v18342.toNat, 0]
def k1_off1005 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18358 : Index := Scalar.indexCast v18284
  let c1_7228 : Index := 1#32
  ![v18358.toNat, 1]
def k1_mult322 (v18361 : BitVec 32) : BitVec 32 :=
  let c0_i32_7232 : BitVec 32 := 0#32
  let v18365 : BitVec 1 := Scalar.cmpi .sgt v18361 c0_i32_7232
  let v18366 : BitVec 32 := Scalar.extui v18365
  let c0_i32_7233 : BitVec 32 := 0#32
  let v18367 : BitVec 1 := Scalar.cmpi .slt v18361 c0_i32_7233
  let v18368 : BitVec 32 := Scalar.extui v18367
  let v18369 : BitVec 32 := Scalar.subi v18366 v18368
  let c128_i32_7231 : BitVec 32 := 128#32
  let c0_i32_7234 : BitVec 32 := 0#32
  let v18370 : BitVec 1 := Scalar.cmpi .sgt c128_i32_7231 c0_i32_7234
  let v18371 : BitVec 32 := Scalar.extui v18370
  let c0_i32_7235 : BitVec 32 := 0#32
  let v18372 : BitVec 1 := Scalar.cmpi .slt c128_i32_7231 c0_i32_7235
  let v18373 : BitVec 32 := Scalar.extui v18372
  let v18374 : BitVec 32 := Scalar.subi v18371 v18373
  let v18375 : BitVec 1 := Scalar.cmpi .ne v18369 v18374
  let v18376 : BitVec 32 := Scalar.remsi v18361 c128_i32_7231
  let c0_i32_7236 : BitVec 32 := 0#32
  let v18377 : BitVec 1 := Scalar.cmpi .ne v18376 c0_i32_7236
  let v18378 : BitVec 1 := Scalar.andi v18375 v18377
  let v18364 : BitVec 32 := Scalar.divsi v18361 c128_i32_7231
  let c1_i32_7237 : BitVec 32 := 1#32
  let v18379 : BitVec 32 := Scalar.subi v18364 c1_i32_7237
  let v18380 : BitVec 32 := Scalar.select v18378 v18379 v18364
  let c128_i32_7238 : BitVec 32 := 128#32
  let v18381 : BitVec 32 := Scalar.muli v18380 c128_i32_7238
  v18381

def k1_off1006 (v18359 : BitVec 32) (v18361 : BitVec 32) : Fin 3 → Nat :=
  let v18384 : Index := Scalar.indexCast v18359
  let c0_7239 : Index := 0#32
  let c0_i32_7232 : BitVec 32 := 0#32
  let v18365 : BitVec 1 := Scalar.cmpi .sgt v18361 c0_i32_7232
  let v18366 : BitVec 32 := Scalar.extui v18365
  let c0_i32_7233 : BitVec 32 := 0#32
  let v18367 : BitVec 1 := Scalar.cmpi .slt v18361 c0_i32_7233
  let v18368 : BitVec 32 := Scalar.extui v18367
  let v18369 : BitVec 32 := Scalar.subi v18366 v18368
  let c128_i32_7231 : BitVec 32 := 128#32
  let c0_i32_7234 : BitVec 32 := 0#32
  let v18370 : BitVec 1 := Scalar.cmpi .sgt c128_i32_7231 c0_i32_7234
  let v18371 : BitVec 32 := Scalar.extui v18370
  let c0_i32_7235 : BitVec 32 := 0#32
  let v18372 : BitVec 1 := Scalar.cmpi .slt c128_i32_7231 c0_i32_7235
  let v18373 : BitVec 32 := Scalar.extui v18372
  let v18374 : BitVec 32 := Scalar.subi v18371 v18373
  let v18375 : BitVec 1 := Scalar.cmpi .ne v18369 v18374
  let v18376 : BitVec 32 := Scalar.remsi v18361 c128_i32_7231
  let c0_i32_7236 : BitVec 32 := 0#32
  let v18377 : BitVec 1 := Scalar.cmpi .ne v18376 c0_i32_7236
  let v18378 : BitVec 1 := Scalar.andi v18375 v18377
  let v18364 : BitVec 32 := Scalar.divsi v18361 c128_i32_7231
  let c1_i32_7237 : BitVec 32 := 1#32
  let v18379 : BitVec 32 := Scalar.subi v18364 c1_i32_7237
  let v18380 : BitVec 32 := Scalar.select v18378 v18379 v18364
  let c128_i32_7238 : BitVec 32 := 128#32
  let v18381 : BitVec 32 := Scalar.muli v18380 c128_i32_7238
  let v18382 : BitVec 32 := v18381
  let v18385 : Index := Scalar.indexCast v18382
  ![v18384.toNat, 0, v18385.toNat]

def k1_chk322 (v18359 : BitVec 32) (v18361 : BitVec 32) : Prop :=
  (128 ∣ (k1_mult322 v18361).toNat) ∧
  (∀ a, (k1_off1006 v18359 v18361) a + S1x16x512.size a ≤ S384x16x1152.size a)
theorem k1_mult322_dvd : ∀ (v18359 : BitVec 32) (v18361 : BitVec 32) (k1_hw322 : k1_chk322 v18359 v18361), 128 ∣ (k1_mult322 v18361).toNat := fun v18359 v18361 k1_hw322 => k1_hw322.1
theorem k1_off1006_inb : ∀ (v18359 : BitVec 32) (v18361 : BitVec 32) (k1_hw322 : k1_chk322 v18359 v18361), ∀ a, (k1_off1006 v18359 v18361) a + S1x16x512.size a ≤ S384x16x1152.size a := fun v18359 v18361 k1_hw322 => k1_hw322.2

def k1_off1007 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18395 : Index := Scalar.indexCast v18284
  let c1_7242 : Index := 1#32
  ![v18395.toNat, 1]
def k1_off1008 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18411 : Index := Scalar.indexCast v18284
  let c2_7248 : Index := 2#32
  ![v18411.toNat, 2]
def k1_mult323 (v18414 : BitVec 32) : BitVec 32 :=
  let c0_i32_7252 : BitVec 32 := 0#32
  let v18418 : BitVec 1 := Scalar.cmpi .sgt v18414 c0_i32_7252
  let v18419 : BitVec 32 := Scalar.extui v18418
  let c0_i32_7253 : BitVec 32 := 0#32
  let v18420 : BitVec 1 := Scalar.cmpi .slt v18414 c0_i32_7253
  let v18421 : BitVec 32 := Scalar.extui v18420
  let v18422 : BitVec 32 := Scalar.subi v18419 v18421
  let c128_i32_7251 : BitVec 32 := 128#32
  let c0_i32_7254 : BitVec 32 := 0#32
  let v18423 : BitVec 1 := Scalar.cmpi .sgt c128_i32_7251 c0_i32_7254
  let v18424 : BitVec 32 := Scalar.extui v18423
  let c0_i32_7255 : BitVec 32 := 0#32
  let v18425 : BitVec 1 := Scalar.cmpi .slt c128_i32_7251 c0_i32_7255
  let v18426 : BitVec 32 := Scalar.extui v18425
  let v18427 : BitVec 32 := Scalar.subi v18424 v18426
  let v18428 : BitVec 1 := Scalar.cmpi .ne v18422 v18427
  let v18429 : BitVec 32 := Scalar.remsi v18414 c128_i32_7251
  let c0_i32_7256 : BitVec 32 := 0#32
  let v18430 : BitVec 1 := Scalar.cmpi .ne v18429 c0_i32_7256
  let v18431 : BitVec 1 := Scalar.andi v18428 v18430
  let v18417 : BitVec 32 := Scalar.divsi v18414 c128_i32_7251
  let c1_i32_7257 : BitVec 32 := 1#32
  let v18432 : BitVec 32 := Scalar.subi v18417 c1_i32_7257
  let v18433 : BitVec 32 := Scalar.select v18431 v18432 v18417
  let c128_i32_7258 : BitVec 32 := 128#32
  let v18434 : BitVec 32 := Scalar.muli v18433 c128_i32_7258
  v18434

def k1_off1009 (v18412 : BitVec 32) (v18414 : BitVec 32) : Fin 3 → Nat :=
  let v18437 : Index := Scalar.indexCast v18412
  let c0_7259 : Index := 0#32
  let c0_i32_7252 : BitVec 32 := 0#32
  let v18418 : BitVec 1 := Scalar.cmpi .sgt v18414 c0_i32_7252
  let v18419 : BitVec 32 := Scalar.extui v18418
  let c0_i32_7253 : BitVec 32 := 0#32
  let v18420 : BitVec 1 := Scalar.cmpi .slt v18414 c0_i32_7253
  let v18421 : BitVec 32 := Scalar.extui v18420
  let v18422 : BitVec 32 := Scalar.subi v18419 v18421
  let c128_i32_7251 : BitVec 32 := 128#32
  let c0_i32_7254 : BitVec 32 := 0#32
  let v18423 : BitVec 1 := Scalar.cmpi .sgt c128_i32_7251 c0_i32_7254
  let v18424 : BitVec 32 := Scalar.extui v18423
  let c0_i32_7255 : BitVec 32 := 0#32
  let v18425 : BitVec 1 := Scalar.cmpi .slt c128_i32_7251 c0_i32_7255
  let v18426 : BitVec 32 := Scalar.extui v18425
  let v18427 : BitVec 32 := Scalar.subi v18424 v18426
  let v18428 : BitVec 1 := Scalar.cmpi .ne v18422 v18427
  let v18429 : BitVec 32 := Scalar.remsi v18414 c128_i32_7251
  let c0_i32_7256 : BitVec 32 := 0#32
  let v18430 : BitVec 1 := Scalar.cmpi .ne v18429 c0_i32_7256
  let v18431 : BitVec 1 := Scalar.andi v18428 v18430
  let v18417 : BitVec 32 := Scalar.divsi v18414 c128_i32_7251
  let c1_i32_7257 : BitVec 32 := 1#32
  let v18432 : BitVec 32 := Scalar.subi v18417 c1_i32_7257
  let v18433 : BitVec 32 := Scalar.select v18431 v18432 v18417
  let c128_i32_7258 : BitVec 32 := 128#32
  let v18434 : BitVec 32 := Scalar.muli v18433 c128_i32_7258
  let v18435 : BitVec 32 := v18434
  let v18438 : Index := Scalar.indexCast v18435
  ![v18437.toNat, 0, v18438.toNat]

def k1_chk323 (v18412 : BitVec 32) (v18414 : BitVec 32) : Prop :=
  (128 ∣ (k1_mult323 v18414).toNat) ∧
  (∀ a, (k1_off1009 v18412 v18414) a + S1x16x512.size a ≤ S384x16x1152.size a)
theorem k1_mult323_dvd : ∀ (v18412 : BitVec 32) (v18414 : BitVec 32) (k1_hw323 : k1_chk323 v18412 v18414), 128 ∣ (k1_mult323 v18414).toNat := fun v18412 v18414 k1_hw323 => k1_hw323.1
theorem k1_off1009_inb : ∀ (v18412 : BitVec 32) (v18414 : BitVec 32) (k1_hw323 : k1_chk323 v18412 v18414), ∀ a, (k1_off1009 v18412 v18414) a + S1x16x512.size a ≤ S384x16x1152.size a := fun v18412 v18414 k1_hw323 => k1_hw323.2

def k1_off1010 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18448 : Index := Scalar.indexCast v18284
  let c2_7262 : Index := 2#32
  ![v18448.toNat, 2]
def k1_off1011 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18464 : Index := Scalar.indexCast v18284
  let c3_7268 : Index := 3#32
  ![v18464.toNat, 3]
def k1_mult324 (v18467 : BitVec 32) : BitVec 32 :=
  let c0_i32_7272 : BitVec 32 := 0#32
  let v18471 : BitVec 1 := Scalar.cmpi .sgt v18467 c0_i32_7272
  let v18472 : BitVec 32 := Scalar.extui v18471
  let c0_i32_7273 : BitVec 32 := 0#32
  let v18473 : BitVec 1 := Scalar.cmpi .slt v18467 c0_i32_7273
  let v18474 : BitVec 32 := Scalar.extui v18473
  let v18475 : BitVec 32 := Scalar.subi v18472 v18474
  let c128_i32_7271 : BitVec 32 := 128#32
  let c0_i32_7274 : BitVec 32 := 0#32
  let v18476 : BitVec 1 := Scalar.cmpi .sgt c128_i32_7271 c0_i32_7274
  let v18477 : BitVec 32 := Scalar.extui v18476
  let c0_i32_7275 : BitVec 32 := 0#32
  let v18478 : BitVec 1 := Scalar.cmpi .slt c128_i32_7271 c0_i32_7275
  let v18479 : BitVec 32 := Scalar.extui v18478
  let v18480 : BitVec 32 := Scalar.subi v18477 v18479
  let v18481 : BitVec 1 := Scalar.cmpi .ne v18475 v18480
  let v18482 : BitVec 32 := Scalar.remsi v18467 c128_i32_7271
  let c0_i32_7276 : BitVec 32 := 0#32
  let v18483 : BitVec 1 := Scalar.cmpi .ne v18482 c0_i32_7276
  let v18484 : BitVec 1 := Scalar.andi v18481 v18483
  let v18470 : BitVec 32 := Scalar.divsi v18467 c128_i32_7271
  let c1_i32_7277 : BitVec 32 := 1#32
  let v18485 : BitVec 32 := Scalar.subi v18470 c1_i32_7277
  let v18486 : BitVec 32 := Scalar.select v18484 v18485 v18470
  let c128_i32_7278 : BitVec 32 := 128#32
  let v18487 : BitVec 32 := Scalar.muli v18486 c128_i32_7278
  v18487

def k1_off1012 (v18465 : BitVec 32) (v18467 : BitVec 32) : Fin 3 → Nat :=
  let v18490 : Index := Scalar.indexCast v18465
  let c0_7279 : Index := 0#32
  let c0_i32_7272 : BitVec 32 := 0#32
  let v18471 : BitVec 1 := Scalar.cmpi .sgt v18467 c0_i32_7272
  let v18472 : BitVec 32 := Scalar.extui v18471
  let c0_i32_7273 : BitVec 32 := 0#32
  let v18473 : BitVec 1 := Scalar.cmpi .slt v18467 c0_i32_7273
  let v18474 : BitVec 32 := Scalar.extui v18473
  let v18475 : BitVec 32 := Scalar.subi v18472 v18474
  let c128_i32_7271 : BitVec 32 := 128#32
  let c0_i32_7274 : BitVec 32 := 0#32
  let v18476 : BitVec 1 := Scalar.cmpi .sgt c128_i32_7271 c0_i32_7274
  let v18477 : BitVec 32 := Scalar.extui v18476
  let c0_i32_7275 : BitVec 32 := 0#32
  let v18478 : BitVec 1 := Scalar.cmpi .slt c128_i32_7271 c0_i32_7275
  let v18479 : BitVec 32 := Scalar.extui v18478
  let v18480 : BitVec 32 := Scalar.subi v18477 v18479
  let v18481 : BitVec 1 := Scalar.cmpi .ne v18475 v18480
  let v18482 : BitVec 32 := Scalar.remsi v18467 c128_i32_7271
  let c0_i32_7276 : BitVec 32 := 0#32
  let v18483 : BitVec 1 := Scalar.cmpi .ne v18482 c0_i32_7276
  let v18484 : BitVec 1 := Scalar.andi v18481 v18483
  let v18470 : BitVec 32 := Scalar.divsi v18467 c128_i32_7271
  let c1_i32_7277 : BitVec 32 := 1#32
  let v18485 : BitVec 32 := Scalar.subi v18470 c1_i32_7277
  let v18486 : BitVec 32 := Scalar.select v18484 v18485 v18470
  let c128_i32_7278 : BitVec 32 := 128#32
  let v18487 : BitVec 32 := Scalar.muli v18486 c128_i32_7278
  let v18488 : BitVec 32 := v18487
  let v18491 : Index := Scalar.indexCast v18488
  ![v18490.toNat, 0, v18491.toNat]

def k1_chk324 (v18465 : BitVec 32) (v18467 : BitVec 32) : Prop :=
  (128 ∣ (k1_mult324 v18467).toNat) ∧
  (∀ a, (k1_off1012 v18465 v18467) a + S1x16x512.size a ≤ S384x16x1152.size a)
theorem k1_mult324_dvd : ∀ (v18465 : BitVec 32) (v18467 : BitVec 32) (k1_hw324 : k1_chk324 v18465 v18467), 128 ∣ (k1_mult324 v18467).toNat := fun v18465 v18467 k1_hw324 => k1_hw324.1
theorem k1_off1012_inb : ∀ (v18465 : BitVec 32) (v18467 : BitVec 32) (k1_hw324 : k1_chk324 v18465 v18467), ∀ a, (k1_off1012 v18465 v18467) a + S1x16x512.size a ≤ S384x16x1152.size a := fun v18465 v18467 k1_hw324 => k1_hw324.2

def k1_off1013 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18501 : Index := Scalar.indexCast v18284
  let c3_7282 : Index := 3#32
  ![v18501.toNat, 3]
def k1_off1014 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18517 : Index := Scalar.indexCast v18284
  let c4_7288 : Index := 4#32
  ![v18517.toNat, 4]
def k1_mult325 (v18520 : BitVec 32) : BitVec 32 :=
  let c0_i32_7292 : BitVec 32 := 0#32
  let v18524 : BitVec 1 := Scalar.cmpi .sgt v18520 c0_i32_7292
  let v18525 : BitVec 32 := Scalar.extui v18524
  let c0_i32_7293 : BitVec 32 := 0#32
  let v18526 : BitVec 1 := Scalar.cmpi .slt v18520 c0_i32_7293
  let v18527 : BitVec 32 := Scalar.extui v18526
  let v18528 : BitVec 32 := Scalar.subi v18525 v18527
  let c128_i32_7291 : BitVec 32 := 128#32
  let c0_i32_7294 : BitVec 32 := 0#32
  let v18529 : BitVec 1 := Scalar.cmpi .sgt c128_i32_7291 c0_i32_7294
  let v18530 : BitVec 32 := Scalar.extui v18529
  let c0_i32_7295 : BitVec 32 := 0#32
  let v18531 : BitVec 1 := Scalar.cmpi .slt c128_i32_7291 c0_i32_7295
  let v18532 : BitVec 32 := Scalar.extui v18531
  let v18533 : BitVec 32 := Scalar.subi v18530 v18532
  let v18534 : BitVec 1 := Scalar.cmpi .ne v18528 v18533
  let v18535 : BitVec 32 := Scalar.remsi v18520 c128_i32_7291
  let c0_i32_7296 : BitVec 32 := 0#32
  let v18536 : BitVec 1 := Scalar.cmpi .ne v18535 c0_i32_7296
  let v18537 : BitVec 1 := Scalar.andi v18534 v18536
  let v18523 : BitVec 32 := Scalar.divsi v18520 c128_i32_7291
  let c1_i32_7297 : BitVec 32 := 1#32
  let v18538 : BitVec 32 := Scalar.subi v18523 c1_i32_7297
  let v18539 : BitVec 32 := Scalar.select v18537 v18538 v18523
  let c128_i32_7298 : BitVec 32 := 128#32
  let v18540 : BitVec 32 := Scalar.muli v18539 c128_i32_7298
  v18540

def k1_off1015 (v18518 : BitVec 32) (v18520 : BitVec 32) : Fin 3 → Nat :=
  let v18543 : Index := Scalar.indexCast v18518
  let c0_7299 : Index := 0#32
  let c0_i32_7292 : BitVec 32 := 0#32
  let v18524 : BitVec 1 := Scalar.cmpi .sgt v18520 c0_i32_7292
  let v18525 : BitVec 32 := Scalar.extui v18524
  let c0_i32_7293 : BitVec 32 := 0#32
  let v18526 : BitVec 1 := Scalar.cmpi .slt v18520 c0_i32_7293
  let v18527 : BitVec 32 := Scalar.extui v18526
  let v18528 : BitVec 32 := Scalar.subi v18525 v18527
  let c128_i32_7291 : BitVec 32 := 128#32
  let c0_i32_7294 : BitVec 32 := 0#32
  let v18529 : BitVec 1 := Scalar.cmpi .sgt c128_i32_7291 c0_i32_7294
  let v18530 : BitVec 32 := Scalar.extui v18529
  let c0_i32_7295 : BitVec 32 := 0#32
  let v18531 : BitVec 1 := Scalar.cmpi .slt c128_i32_7291 c0_i32_7295
  let v18532 : BitVec 32 := Scalar.extui v18531
  let v18533 : BitVec 32 := Scalar.subi v18530 v18532
  let v18534 : BitVec 1 := Scalar.cmpi .ne v18528 v18533
  let v18535 : BitVec 32 := Scalar.remsi v18520 c128_i32_7291
  let c0_i32_7296 : BitVec 32 := 0#32
  let v18536 : BitVec 1 := Scalar.cmpi .ne v18535 c0_i32_7296
  let v18537 : BitVec 1 := Scalar.andi v18534 v18536
  let v18523 : BitVec 32 := Scalar.divsi v18520 c128_i32_7291
  let c1_i32_7297 : BitVec 32 := 1#32
  let v18538 : BitVec 32 := Scalar.subi v18523 c1_i32_7297
  let v18539 : BitVec 32 := Scalar.select v18537 v18538 v18523
  let c128_i32_7298 : BitVec 32 := 128#32
  let v18540 : BitVec 32 := Scalar.muli v18539 c128_i32_7298
  let v18541 : BitVec 32 := v18540
  let v18544 : Index := Scalar.indexCast v18541
  ![v18543.toNat, 0, v18544.toNat]

def k1_chk325 (v18518 : BitVec 32) (v18520 : BitVec 32) : Prop :=
  (128 ∣ (k1_mult325 v18520).toNat) ∧
  (∀ a, (k1_off1015 v18518 v18520) a + S1x16x512.size a ≤ S384x16x1152.size a)
theorem k1_mult325_dvd : ∀ (v18518 : BitVec 32) (v18520 : BitVec 32) (k1_hw325 : k1_chk325 v18518 v18520), 128 ∣ (k1_mult325 v18520).toNat := fun v18518 v18520 k1_hw325 => k1_hw325.1
theorem k1_off1015_inb : ∀ (v18518 : BitVec 32) (v18520 : BitVec 32) (k1_hw325 : k1_chk325 v18518 v18520), ∀ a, (k1_off1015 v18518 v18520) a + S1x16x512.size a ≤ S384x16x1152.size a := fun v18518 v18520 k1_hw325 => k1_hw325.2

def k1_off1016 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18554 : Index := Scalar.indexCast v18284
  let c4_7302 : Index := 4#32
  ![v18554.toNat, 4]
def k1_off1017 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18570 : Index := Scalar.indexCast v18284
  let c5_7308 : Index := 5#32
  ![v18570.toNat, 5]
def k1_mult326 (v18573 : BitVec 32) : BitVec 32 :=
  let c0_i32_7312 : BitVec 32 := 0#32
  let v18577 : BitVec 1 := Scalar.cmpi .sgt v18573 c0_i32_7312
  let v18578 : BitVec 32 := Scalar.extui v18577
  let c0_i32_7313 : BitVec 32 := 0#32
  let v18579 : BitVec 1 := Scalar.cmpi .slt v18573 c0_i32_7313
  let v18580 : BitVec 32 := Scalar.extui v18579
  let v18581 : BitVec 32 := Scalar.subi v18578 v18580
  let c128_i32_7311 : BitVec 32 := 128#32
  let c0_i32_7314 : BitVec 32 := 0#32
  let v18582 : BitVec 1 := Scalar.cmpi .sgt c128_i32_7311 c0_i32_7314
  let v18583 : BitVec 32 := Scalar.extui v18582
  let c0_i32_7315 : BitVec 32 := 0#32
  let v18584 : BitVec 1 := Scalar.cmpi .slt c128_i32_7311 c0_i32_7315
  let v18585 : BitVec 32 := Scalar.extui v18584
  let v18586 : BitVec 32 := Scalar.subi v18583 v18585
  let v18587 : BitVec 1 := Scalar.cmpi .ne v18581 v18586
  let v18588 : BitVec 32 := Scalar.remsi v18573 c128_i32_7311
  let c0_i32_7316 : BitVec 32 := 0#32
  let v18589 : BitVec 1 := Scalar.cmpi .ne v18588 c0_i32_7316
  let v18590 : BitVec 1 := Scalar.andi v18587 v18589
  let v18576 : BitVec 32 := Scalar.divsi v18573 c128_i32_7311
  let c1_i32_7317 : BitVec 32 := 1#32
  let v18591 : BitVec 32 := Scalar.subi v18576 c1_i32_7317
  let v18592 : BitVec 32 := Scalar.select v18590 v18591 v18576
  let c128_i32_7318 : BitVec 32 := 128#32
  let v18593 : BitVec 32 := Scalar.muli v18592 c128_i32_7318
  v18593

def k1_off1018 (v18571 : BitVec 32) (v18573 : BitVec 32) : Fin 3 → Nat :=
  let v18596 : Index := Scalar.indexCast v18571
  let c0_7319 : Index := 0#32
  let c0_i32_7312 : BitVec 32 := 0#32
  let v18577 : BitVec 1 := Scalar.cmpi .sgt v18573 c0_i32_7312
  let v18578 : BitVec 32 := Scalar.extui v18577
  let c0_i32_7313 : BitVec 32 := 0#32
  let v18579 : BitVec 1 := Scalar.cmpi .slt v18573 c0_i32_7313
  let v18580 : BitVec 32 := Scalar.extui v18579
  let v18581 : BitVec 32 := Scalar.subi v18578 v18580
  let c128_i32_7311 : BitVec 32 := 128#32
  let c0_i32_7314 : BitVec 32 := 0#32
  let v18582 : BitVec 1 := Scalar.cmpi .sgt c128_i32_7311 c0_i32_7314
  let v18583 : BitVec 32 := Scalar.extui v18582
  let c0_i32_7315 : BitVec 32 := 0#32
  let v18584 : BitVec 1 := Scalar.cmpi .slt c128_i32_7311 c0_i32_7315
  let v18585 : BitVec 32 := Scalar.extui v18584
  let v18586 : BitVec 32 := Scalar.subi v18583 v18585
  let v18587 : BitVec 1 := Scalar.cmpi .ne v18581 v18586
  let v18588 : BitVec 32 := Scalar.remsi v18573 c128_i32_7311
  let c0_i32_7316 : BitVec 32 := 0#32
  let v18589 : BitVec 1 := Scalar.cmpi .ne v18588 c0_i32_7316
  let v18590 : BitVec 1 := Scalar.andi v18587 v18589
  let v18576 : BitVec 32 := Scalar.divsi v18573 c128_i32_7311
  let c1_i32_7317 : BitVec 32 := 1#32
  let v18591 : BitVec 32 := Scalar.subi v18576 c1_i32_7317
  let v18592 : BitVec 32 := Scalar.select v18590 v18591 v18576
  let c128_i32_7318 : BitVec 32 := 128#32
  let v18593 : BitVec 32 := Scalar.muli v18592 c128_i32_7318
  let v18594 : BitVec 32 := v18593
  let v18597 : Index := Scalar.indexCast v18594
  ![v18596.toNat, 0, v18597.toNat]

def k1_chk326 (v18571 : BitVec 32) (v18573 : BitVec 32) : Prop :=
  (128 ∣ (k1_mult326 v18573).toNat) ∧
  (∀ a, (k1_off1018 v18571 v18573) a + S1x16x512.size a ≤ S384x16x1152.size a)
theorem k1_mult326_dvd : ∀ (v18571 : BitVec 32) (v18573 : BitVec 32) (k1_hw326 : k1_chk326 v18571 v18573), 128 ∣ (k1_mult326 v18573).toNat := fun v18571 v18573 k1_hw326 => k1_hw326.1
theorem k1_off1018_inb : ∀ (v18571 : BitVec 32) (v18573 : BitVec 32) (k1_hw326 : k1_chk326 v18571 v18573), ∀ a, (k1_off1018 v18571 v18573) a + S1x16x512.size a ≤ S384x16x1152.size a := fun v18571 v18573 k1_hw326 => k1_hw326.2

def k1_off1019 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18607 : Index := Scalar.indexCast v18284
  let c5_7322 : Index := 5#32
  ![v18607.toNat, 5]
def k1_off1020 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18623 : Index := Scalar.indexCast v18284
  let c6_7328 : Index := 6#32
  ![v18623.toNat, 6]
def k1_mult327 (v18626 : BitVec 32) : BitVec 32 :=
  let c0_i32_7332 : BitVec 32 := 0#32
  let v18630 : BitVec 1 := Scalar.cmpi .sgt v18626 c0_i32_7332
  let v18631 : BitVec 32 := Scalar.extui v18630
  let c0_i32_7333 : BitVec 32 := 0#32
  let v18632 : BitVec 1 := Scalar.cmpi .slt v18626 c0_i32_7333
  let v18633 : BitVec 32 := Scalar.extui v18632
  let v18634 : BitVec 32 := Scalar.subi v18631 v18633
  let c128_i32_7331 : BitVec 32 := 128#32
  let c0_i32_7334 : BitVec 32 := 0#32
  let v18635 : BitVec 1 := Scalar.cmpi .sgt c128_i32_7331 c0_i32_7334
  let v18636 : BitVec 32 := Scalar.extui v18635
  let c0_i32_7335 : BitVec 32 := 0#32
  let v18637 : BitVec 1 := Scalar.cmpi .slt c128_i32_7331 c0_i32_7335
  let v18638 : BitVec 32 := Scalar.extui v18637
  let v18639 : BitVec 32 := Scalar.subi v18636 v18638
  let v18640 : BitVec 1 := Scalar.cmpi .ne v18634 v18639
  let v18641 : BitVec 32 := Scalar.remsi v18626 c128_i32_7331
  let c0_i32_7336 : BitVec 32 := 0#32
  let v18642 : BitVec 1 := Scalar.cmpi .ne v18641 c0_i32_7336
  let v18643 : BitVec 1 := Scalar.andi v18640 v18642
  let v18629 : BitVec 32 := Scalar.divsi v18626 c128_i32_7331
  let c1_i32_7337 : BitVec 32 := 1#32
  let v18644 : BitVec 32 := Scalar.subi v18629 c1_i32_7337
  let v18645 : BitVec 32 := Scalar.select v18643 v18644 v18629
  let c128_i32_7338 : BitVec 32 := 128#32
  let v18646 : BitVec 32 := Scalar.muli v18645 c128_i32_7338
  v18646

def k1_off1021 (v18624 : BitVec 32) (v18626 : BitVec 32) : Fin 3 → Nat :=
  let v18649 : Index := Scalar.indexCast v18624
  let c0_7339 : Index := 0#32
  let c0_i32_7332 : BitVec 32 := 0#32
  let v18630 : BitVec 1 := Scalar.cmpi .sgt v18626 c0_i32_7332
  let v18631 : BitVec 32 := Scalar.extui v18630
  let c0_i32_7333 : BitVec 32 := 0#32
  let v18632 : BitVec 1 := Scalar.cmpi .slt v18626 c0_i32_7333
  let v18633 : BitVec 32 := Scalar.extui v18632
  let v18634 : BitVec 32 := Scalar.subi v18631 v18633
  let c128_i32_7331 : BitVec 32 := 128#32
  let c0_i32_7334 : BitVec 32 := 0#32
  let v18635 : BitVec 1 := Scalar.cmpi .sgt c128_i32_7331 c0_i32_7334
  let v18636 : BitVec 32 := Scalar.extui v18635
  let c0_i32_7335 : BitVec 32 := 0#32
  let v18637 : BitVec 1 := Scalar.cmpi .slt c128_i32_7331 c0_i32_7335
  let v18638 : BitVec 32 := Scalar.extui v18637
  let v18639 : BitVec 32 := Scalar.subi v18636 v18638
  let v18640 : BitVec 1 := Scalar.cmpi .ne v18634 v18639
  let v18641 : BitVec 32 := Scalar.remsi v18626 c128_i32_7331
  let c0_i32_7336 : BitVec 32 := 0#32
  let v18642 : BitVec 1 := Scalar.cmpi .ne v18641 c0_i32_7336
  let v18643 : BitVec 1 := Scalar.andi v18640 v18642
  let v18629 : BitVec 32 := Scalar.divsi v18626 c128_i32_7331
  let c1_i32_7337 : BitVec 32 := 1#32
  let v18644 : BitVec 32 := Scalar.subi v18629 c1_i32_7337
  let v18645 : BitVec 32 := Scalar.select v18643 v18644 v18629
  let c128_i32_7338 : BitVec 32 := 128#32
  let v18646 : BitVec 32 := Scalar.muli v18645 c128_i32_7338
  let v18647 : BitVec 32 := v18646
  let v18650 : Index := Scalar.indexCast v18647
  ![v18649.toNat, 0, v18650.toNat]

def k1_chk327 (v18624 : BitVec 32) (v18626 : BitVec 32) : Prop :=
  (128 ∣ (k1_mult327 v18626).toNat) ∧
  (∀ a, (k1_off1021 v18624 v18626) a + S1x16x512.size a ≤ S384x16x1152.size a)
theorem k1_mult327_dvd : ∀ (v18624 : BitVec 32) (v18626 : BitVec 32) (k1_hw327 : k1_chk327 v18624 v18626), 128 ∣ (k1_mult327 v18626).toNat := fun v18624 v18626 k1_hw327 => k1_hw327.1
theorem k1_off1021_inb : ∀ (v18624 : BitVec 32) (v18626 : BitVec 32) (k1_hw327 : k1_chk327 v18624 v18626), ∀ a, (k1_off1021 v18624 v18626) a + S1x16x512.size a ≤ S384x16x1152.size a := fun v18624 v18626 k1_hw327 => k1_hw327.2

def k1_off1022 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18660 : Index := Scalar.indexCast v18284
  let c6_7342 : Index := 6#32
  ![v18660.toNat, 6]
def k1_off1023 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18676 : Index := Scalar.indexCast v18284
  let c7_7348 : Index := 7#32
  ![v18676.toNat, 7]
def k1_mult328 (v18679 : BitVec 32) : BitVec 32 :=
  let c0_i32_7352 : BitVec 32 := 0#32
  let v18683 : BitVec 1 := Scalar.cmpi .sgt v18679 c0_i32_7352
  let v18684 : BitVec 32 := Scalar.extui v18683
  let c0_i32_7353 : BitVec 32 := 0#32
  let v18685 : BitVec 1 := Scalar.cmpi .slt v18679 c0_i32_7353
  let v18686 : BitVec 32 := Scalar.extui v18685
  let v18687 : BitVec 32 := Scalar.subi v18684 v18686
  let c128_i32_7351 : BitVec 32 := 128#32
  let c0_i32_7354 : BitVec 32 := 0#32
  let v18688 : BitVec 1 := Scalar.cmpi .sgt c128_i32_7351 c0_i32_7354
  let v18689 : BitVec 32 := Scalar.extui v18688
  let c0_i32_7355 : BitVec 32 := 0#32
  let v18690 : BitVec 1 := Scalar.cmpi .slt c128_i32_7351 c0_i32_7355
  let v18691 : BitVec 32 := Scalar.extui v18690
  let v18692 : BitVec 32 := Scalar.subi v18689 v18691
  let v18693 : BitVec 1 := Scalar.cmpi .ne v18687 v18692
  let v18694 : BitVec 32 := Scalar.remsi v18679 c128_i32_7351
  let c0_i32_7356 : BitVec 32 := 0#32
  let v18695 : BitVec 1 := Scalar.cmpi .ne v18694 c0_i32_7356
  let v18696 : BitVec 1 := Scalar.andi v18693 v18695
  let v18682 : BitVec 32 := Scalar.divsi v18679 c128_i32_7351
  let c1_i32_7357 : BitVec 32 := 1#32
  let v18697 : BitVec 32 := Scalar.subi v18682 c1_i32_7357
  let v18698 : BitVec 32 := Scalar.select v18696 v18697 v18682
  let c128_i32_7358 : BitVec 32 := 128#32
  let v18699 : BitVec 32 := Scalar.muli v18698 c128_i32_7358
  v18699

def k1_off1024 (v18677 : BitVec 32) (v18679 : BitVec 32) : Fin 3 → Nat :=
  let v18702 : Index := Scalar.indexCast v18677
  let c0_7359 : Index := 0#32
  let c0_i32_7352 : BitVec 32 := 0#32
  let v18683 : BitVec 1 := Scalar.cmpi .sgt v18679 c0_i32_7352
  let v18684 : BitVec 32 := Scalar.extui v18683
  let c0_i32_7353 : BitVec 32 := 0#32
  let v18685 : BitVec 1 := Scalar.cmpi .slt v18679 c0_i32_7353
  let v18686 : BitVec 32 := Scalar.extui v18685
  let v18687 : BitVec 32 := Scalar.subi v18684 v18686
  let c128_i32_7351 : BitVec 32 := 128#32
  let c0_i32_7354 : BitVec 32 := 0#32
  let v18688 : BitVec 1 := Scalar.cmpi .sgt c128_i32_7351 c0_i32_7354
  let v18689 : BitVec 32 := Scalar.extui v18688
  let c0_i32_7355 : BitVec 32 := 0#32
  let v18690 : BitVec 1 := Scalar.cmpi .slt c128_i32_7351 c0_i32_7355
  let v18691 : BitVec 32 := Scalar.extui v18690
  let v18692 : BitVec 32 := Scalar.subi v18689 v18691
  let v18693 : BitVec 1 := Scalar.cmpi .ne v18687 v18692
  let v18694 : BitVec 32 := Scalar.remsi v18679 c128_i32_7351
  let c0_i32_7356 : BitVec 32 := 0#32
  let v18695 : BitVec 1 := Scalar.cmpi .ne v18694 c0_i32_7356
  let v18696 : BitVec 1 := Scalar.andi v18693 v18695
  let v18682 : BitVec 32 := Scalar.divsi v18679 c128_i32_7351
  let c1_i32_7357 : BitVec 32 := 1#32
  let v18697 : BitVec 32 := Scalar.subi v18682 c1_i32_7357
  let v18698 : BitVec 32 := Scalar.select v18696 v18697 v18682
  let c128_i32_7358 : BitVec 32 := 128#32
  let v18699 : BitVec 32 := Scalar.muli v18698 c128_i32_7358
  let v18700 : BitVec 32 := v18699
  let v18703 : Index := Scalar.indexCast v18700
  ![v18702.toNat, 0, v18703.toNat]

def k1_chk328 (v18677 : BitVec 32) (v18679 : BitVec 32) : Prop :=
  (128 ∣ (k1_mult328 v18679).toNat) ∧
  (∀ a, (k1_off1024 v18677 v18679) a + S1x16x512.size a ≤ S384x16x1152.size a)
theorem k1_mult328_dvd : ∀ (v18677 : BitVec 32) (v18679 : BitVec 32) (k1_hw328 : k1_chk328 v18677 v18679), 128 ∣ (k1_mult328 v18679).toNat := fun v18677 v18679 k1_hw328 => k1_hw328.1
theorem k1_off1024_inb : ∀ (v18677 : BitVec 32) (v18679 : BitVec 32) (k1_hw328 : k1_chk328 v18677 v18679), ∀ a, (k1_off1024 v18677 v18679) a + S1x16x512.size a ≤ S384x16x1152.size a := fun v18677 v18679 k1_hw328 => k1_hw328.2

def k1_off1025 (i : grid1.Coords) : Fin 2 → Nat :=
  let arg0 : BitVec 32 := BitVec.ofNat 32 (i 0).val
  let c48_i32_7197 : BitVec 32 := 48#32
  let v18283 : BitVec 32 := Scalar.muli arg0 c48_i32_7197
  let c40_i32 : BitVec 32 := 40#32
  let v18284 : BitVec 32 := Scalar.addi v18283 c40_i32
  let v18713 : Index := Scalar.indexCast v18284
  let c7_7362 : Index := 7#32
  ![v18713.toNat, 7]
def k1_off1026 (i : grid1.Coords) : Fin 3 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18742 : Index := Scalar.indexCast v18741
  let c0_7378 : Index := 0#32
  let c720_7379 : Index := 720#32
  ![v18742.toNat, 0, 720]
def k1_off1027 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18762 : Index := Scalar.indexCast v18741
  let c0_7388 : Index := 0#32
  ![v18762.toNat, 0]
def k1_mult329 (v18765 : BitVec 32) : BitVec 32 :=
  let c0_i32_7392 : BitVec 32 := 0#32
  let v18769 : BitVec 1 := Scalar.cmpi .sgt v18765 c0_i32_7392
  let v18770 : BitVec 32 := Scalar.extui v18769
  let c0_i32_7393 : BitVec 32 := 0#32
  let v18771 : BitVec 1 := Scalar.cmpi .slt v18765 c0_i32_7393
  let v18772 : BitVec 32 := Scalar.extui v18771
  let v18773 : BitVec 32 := Scalar.subi v18770 v18772
  let c128_i32_7391 : BitVec 32 := 128#32
  let c0_i32_7394 : BitVec 32 := 0#32
  let v18774 : BitVec 1 := Scalar.cmpi .sgt c128_i32_7391 c0_i32_7394
  let v18775 : BitVec 32 := Scalar.extui v18774
  let c0_i32_7395 : BitVec 32 := 0#32
  let v18776 : BitVec 1 := Scalar.cmpi .slt c128_i32_7391 c0_i32_7395
  let v18777 : BitVec 32 := Scalar.extui v18776
  let v18778 : BitVec 32 := Scalar.subi v18775 v18777
  let v18779 : BitVec 1 := Scalar.cmpi .ne v18773 v18778
  let v18780 : BitVec 32 := Scalar.remsi v18765 c128_i32_7391
  let c0_i32_7396 : BitVec 32 := 0#32
  let v18781 : BitVec 1 := Scalar.cmpi .ne v18780 c0_i32_7396
  let v18782 : BitVec 1 := Scalar.andi v18779 v18781
  let v18768 : BitVec 32 := Scalar.divsi v18765 c128_i32_7391
  let c1_i32_7397 : BitVec 32 := 1#32
  let v18783 : BitVec 32 := Scalar.subi v18768 c1_i32_7397
  let v18784 : BitVec 32 := Scalar.select v18782 v18783 v18768
  let c128_i32_7398 : BitVec 32 := 128#32
  let v18785 : BitVec 32 := Scalar.muli v18784 c128_i32_7398
  v18785

def k1_off1028 (v18763 : BitVec 32) (v18765 : BitVec 32) : Fin 3 → Nat :=
  let v18788 : Index := Scalar.indexCast v18763
  let c0_7399 : Index := 0#32
  let c0_i32_7392 : BitVec 32 := 0#32
  let v18769 : BitVec 1 := Scalar.cmpi .sgt v18765 c0_i32_7392
  let v18770 : BitVec 32 := Scalar.extui v18769
  let c0_i32_7393 : BitVec 32 := 0#32
  let v18771 : BitVec 1 := Scalar.cmpi .slt v18765 c0_i32_7393
  let v18772 : BitVec 32 := Scalar.extui v18771
  let v18773 : BitVec 32 := Scalar.subi v18770 v18772
  let c128_i32_7391 : BitVec 32 := 128#32
  let c0_i32_7394 : BitVec 32 := 0#32
  let v18774 : BitVec 1 := Scalar.cmpi .sgt c128_i32_7391 c0_i32_7394
  let v18775 : BitVec 32 := Scalar.extui v18774
  let c0_i32_7395 : BitVec 32 := 0#32
  let v18776 : BitVec 1 := Scalar.cmpi .slt c128_i32_7391 c0_i32_7395
  let v18777 : BitVec 32 := Scalar.extui v18776
  let v18778 : BitVec 32 := Scalar.subi v18775 v18777
  let v18779 : BitVec 1 := Scalar.cmpi .ne v18773 v18778
  let v18780 : BitVec 32 := Scalar.remsi v18765 c128_i32_7391
  let c0_i32_7396 : BitVec 32 := 0#32
  let v18781 : BitVec 1 := Scalar.cmpi .ne v18780 c0_i32_7396
  let v18782 : BitVec 1 := Scalar.andi v18779 v18781
  let v18768 : BitVec 32 := Scalar.divsi v18765 c128_i32_7391
  let c1_i32_7397 : BitVec 32 := 1#32
  let v18783 : BitVec 32 := Scalar.subi v18768 c1_i32_7397
  let v18784 : BitVec 32 := Scalar.select v18782 v18783 v18768
  let c128_i32_7398 : BitVec 32 := 128#32
  let v18785 : BitVec 32 := Scalar.muli v18784 c128_i32_7398
  let v18786 : BitVec 32 := v18785
  let v18789 : Index := Scalar.indexCast v18786
  ![v18788.toNat, 0, v18789.toNat]

def k1_chk329 (v18763 : BitVec 32) (v18765 : BitVec 32) : Prop :=
  (128 ∣ (k1_mult329 v18765).toNat) ∧
  (∀ a, (k1_off1028 v18763 v18765) a + S1x16x512.size a ≤ S384x16x1152.size a)
theorem k1_mult329_dvd : ∀ (v18763 : BitVec 32) (v18765 : BitVec 32) (k1_hw329 : k1_chk329 v18763 v18765), 128 ∣ (k1_mult329 v18765).toNat := fun v18763 v18765 k1_hw329 => k1_hw329.1
theorem k1_off1028_inb : ∀ (v18763 : BitVec 32) (v18765 : BitVec 32) (k1_hw329 : k1_chk329 v18763 v18765), ∀ a, (k1_off1028 v18763 v18765) a + S1x16x512.size a ≤ S384x16x1152.size a := fun v18763 v18765 k1_hw329 => k1_hw329.2

def k1_off1029 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18799 : Index := Scalar.indexCast v18741
  let c0_7402 : Index := 0#32
  ![v18799.toNat, 0]
def k1_off1030 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18815 : Index := Scalar.indexCast v18741
  let c1_7408 : Index := 1#32
  ![v18815.toNat, 1]
def k1_mult330 (v18818 : BitVec 32) : BitVec 32 :=
  let c0_i32_7412 : BitVec 32 := 0#32
  let v18822 : BitVec 1 := Scalar.cmpi .sgt v18818 c0_i32_7412
  let v18823 : BitVec 32 := Scalar.extui v18822
  let c0_i32_7413 : BitVec 32 := 0#32
  let v18824 : BitVec 1 := Scalar.cmpi .slt v18818 c0_i32_7413
  let v18825 : BitVec 32 := Scalar.extui v18824
  let v18826 : BitVec 32 := Scalar.subi v18823 v18825
  let c128_i32_7411 : BitVec 32 := 128#32
  let c0_i32_7414 : BitVec 32 := 0#32
  let v18827 : BitVec 1 := Scalar.cmpi .sgt c128_i32_7411 c0_i32_7414
  let v18828 : BitVec 32 := Scalar.extui v18827
  let c0_i32_7415 : BitVec 32 := 0#32
  let v18829 : BitVec 1 := Scalar.cmpi .slt c128_i32_7411 c0_i32_7415
  let v18830 : BitVec 32 := Scalar.extui v18829
  let v18831 : BitVec 32 := Scalar.subi v18828 v18830
  let v18832 : BitVec 1 := Scalar.cmpi .ne v18826 v18831
  let v18833 : BitVec 32 := Scalar.remsi v18818 c128_i32_7411
  let c0_i32_7416 : BitVec 32 := 0#32
  let v18834 : BitVec 1 := Scalar.cmpi .ne v18833 c0_i32_7416
  let v18835 : BitVec 1 := Scalar.andi v18832 v18834
  let v18821 : BitVec 32 := Scalar.divsi v18818 c128_i32_7411
  let c1_i32_7417 : BitVec 32 := 1#32
  let v18836 : BitVec 32 := Scalar.subi v18821 c1_i32_7417
  let v18837 : BitVec 32 := Scalar.select v18835 v18836 v18821
  let c128_i32_7418 : BitVec 32 := 128#32
  let v18838 : BitVec 32 := Scalar.muli v18837 c128_i32_7418
  v18838

def k1_off1031 (v18816 : BitVec 32) (v18818 : BitVec 32) : Fin 3 → Nat :=
  let v18841 : Index := Scalar.indexCast v18816
  let c0_7419 : Index := 0#32
  let c0_i32_7412 : BitVec 32 := 0#32
  let v18822 : BitVec 1 := Scalar.cmpi .sgt v18818 c0_i32_7412
  let v18823 : BitVec 32 := Scalar.extui v18822
  let c0_i32_7413 : BitVec 32 := 0#32
  let v18824 : BitVec 1 := Scalar.cmpi .slt v18818 c0_i32_7413
  let v18825 : BitVec 32 := Scalar.extui v18824
  let v18826 : BitVec 32 := Scalar.subi v18823 v18825
  let c128_i32_7411 : BitVec 32 := 128#32
  let c0_i32_7414 : BitVec 32 := 0#32
  let v18827 : BitVec 1 := Scalar.cmpi .sgt c128_i32_7411 c0_i32_7414
  let v18828 : BitVec 32 := Scalar.extui v18827
  let c0_i32_7415 : BitVec 32 := 0#32
  let v18829 : BitVec 1 := Scalar.cmpi .slt c128_i32_7411 c0_i32_7415
  let v18830 : BitVec 32 := Scalar.extui v18829
  let v18831 : BitVec 32 := Scalar.subi v18828 v18830
  let v18832 : BitVec 1 := Scalar.cmpi .ne v18826 v18831
  let v18833 : BitVec 32 := Scalar.remsi v18818 c128_i32_7411
  let c0_i32_7416 : BitVec 32 := 0#32
  let v18834 : BitVec 1 := Scalar.cmpi .ne v18833 c0_i32_7416
  let v18835 : BitVec 1 := Scalar.andi v18832 v18834
  let v18821 : BitVec 32 := Scalar.divsi v18818 c128_i32_7411
  let c1_i32_7417 : BitVec 32 := 1#32
  let v18836 : BitVec 32 := Scalar.subi v18821 c1_i32_7417
  let v18837 : BitVec 32 := Scalar.select v18835 v18836 v18821
  let c128_i32_7418 : BitVec 32 := 128#32
  let v18838 : BitVec 32 := Scalar.muli v18837 c128_i32_7418
  let v18839 : BitVec 32 := v18838
  let v18842 : Index := Scalar.indexCast v18839
  ![v18841.toNat, 0, v18842.toNat]

def k1_chk330 (v18816 : BitVec 32) (v18818 : BitVec 32) : Prop :=
  (128 ∣ (k1_mult330 v18818).toNat) ∧
  (∀ a, (k1_off1031 v18816 v18818) a + S1x16x512.size a ≤ S384x16x1152.size a)
theorem k1_mult330_dvd : ∀ (v18816 : BitVec 32) (v18818 : BitVec 32) (k1_hw330 : k1_chk330 v18816 v18818), 128 ∣ (k1_mult330 v18818).toNat := fun v18816 v18818 k1_hw330 => k1_hw330.1
theorem k1_off1031_inb : ∀ (v18816 : BitVec 32) (v18818 : BitVec 32) (k1_hw330 : k1_chk330 v18816 v18818), ∀ a, (k1_off1031 v18816 v18818) a + S1x16x512.size a ≤ S384x16x1152.size a := fun v18816 v18818 k1_hw330 => k1_hw330.2

def k1_off1032 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18852 : Index := Scalar.indexCast v18741
  let c1_7422 : Index := 1#32
  ![v18852.toNat, 1]
def k1_off1033 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18868 : Index := Scalar.indexCast v18741
  let c2_7428 : Index := 2#32
  ![v18868.toNat, 2]
def k1_mult331 (v18871 : BitVec 32) : BitVec 32 :=
  let c0_i32_7432 : BitVec 32 := 0#32
  let v18875 : BitVec 1 := Scalar.cmpi .sgt v18871 c0_i32_7432
  let v18876 : BitVec 32 := Scalar.extui v18875
  let c0_i32_7433 : BitVec 32 := 0#32
  let v18877 : BitVec 1 := Scalar.cmpi .slt v18871 c0_i32_7433
  let v18878 : BitVec 32 := Scalar.extui v18877
  let v18879 : BitVec 32 := Scalar.subi v18876 v18878
  let c128_i32_7431 : BitVec 32 := 128#32
  let c0_i32_7434 : BitVec 32 := 0#32
  let v18880 : BitVec 1 := Scalar.cmpi .sgt c128_i32_7431 c0_i32_7434
  let v18881 : BitVec 32 := Scalar.extui v18880
  let c0_i32_7435 : BitVec 32 := 0#32
  let v18882 : BitVec 1 := Scalar.cmpi .slt c128_i32_7431 c0_i32_7435
  let v18883 : BitVec 32 := Scalar.extui v18882
  let v18884 : BitVec 32 := Scalar.subi v18881 v18883
  let v18885 : BitVec 1 := Scalar.cmpi .ne v18879 v18884
  let v18886 : BitVec 32 := Scalar.remsi v18871 c128_i32_7431
  let c0_i32_7436 : BitVec 32 := 0#32
  let v18887 : BitVec 1 := Scalar.cmpi .ne v18886 c0_i32_7436
  let v18888 : BitVec 1 := Scalar.andi v18885 v18887
  let v18874 : BitVec 32 := Scalar.divsi v18871 c128_i32_7431
  let c1_i32_7437 : BitVec 32 := 1#32
  let v18889 : BitVec 32 := Scalar.subi v18874 c1_i32_7437
  let v18890 : BitVec 32 := Scalar.select v18888 v18889 v18874
  let c128_i32_7438 : BitVec 32 := 128#32
  let v18891 : BitVec 32 := Scalar.muli v18890 c128_i32_7438
  v18891

def k1_off1034 (v18869 : BitVec 32) (v18871 : BitVec 32) : Fin 3 → Nat :=
  let v18894 : Index := Scalar.indexCast v18869
  let c0_7439 : Index := 0#32
  let c0_i32_7432 : BitVec 32 := 0#32
  let v18875 : BitVec 1 := Scalar.cmpi .sgt v18871 c0_i32_7432
  let v18876 : BitVec 32 := Scalar.extui v18875
  let c0_i32_7433 : BitVec 32 := 0#32
  let v18877 : BitVec 1 := Scalar.cmpi .slt v18871 c0_i32_7433
  let v18878 : BitVec 32 := Scalar.extui v18877
  let v18879 : BitVec 32 := Scalar.subi v18876 v18878
  let c128_i32_7431 : BitVec 32 := 128#32
  let c0_i32_7434 : BitVec 32 := 0#32
  let v18880 : BitVec 1 := Scalar.cmpi .sgt c128_i32_7431 c0_i32_7434
  let v18881 : BitVec 32 := Scalar.extui v18880
  let c0_i32_7435 : BitVec 32 := 0#32
  let v18882 : BitVec 1 := Scalar.cmpi .slt c128_i32_7431 c0_i32_7435
  let v18883 : BitVec 32 := Scalar.extui v18882
  let v18884 : BitVec 32 := Scalar.subi v18881 v18883
  let v18885 : BitVec 1 := Scalar.cmpi .ne v18879 v18884
  let v18886 : BitVec 32 := Scalar.remsi v18871 c128_i32_7431
  let c0_i32_7436 : BitVec 32 := 0#32
  let v18887 : BitVec 1 := Scalar.cmpi .ne v18886 c0_i32_7436
  let v18888 : BitVec 1 := Scalar.andi v18885 v18887
  let v18874 : BitVec 32 := Scalar.divsi v18871 c128_i32_7431
  let c1_i32_7437 : BitVec 32 := 1#32
  let v18889 : BitVec 32 := Scalar.subi v18874 c1_i32_7437
  let v18890 : BitVec 32 := Scalar.select v18888 v18889 v18874
  let c128_i32_7438 : BitVec 32 := 128#32
  let v18891 : BitVec 32 := Scalar.muli v18890 c128_i32_7438
  let v18892 : BitVec 32 := v18891
  let v18895 : Index := Scalar.indexCast v18892
  ![v18894.toNat, 0, v18895.toNat]

def k1_chk331 (v18869 : BitVec 32) (v18871 : BitVec 32) : Prop :=
  (128 ∣ (k1_mult331 v18871).toNat) ∧
  (∀ a, (k1_off1034 v18869 v18871) a + S1x16x512.size a ≤ S384x16x1152.size a)
theorem k1_mult331_dvd : ∀ (v18869 : BitVec 32) (v18871 : BitVec 32) (k1_hw331 : k1_chk331 v18869 v18871), 128 ∣ (k1_mult331 v18871).toNat := fun v18869 v18871 k1_hw331 => k1_hw331.1
theorem k1_off1034_inb : ∀ (v18869 : BitVec 32) (v18871 : BitVec 32) (k1_hw331 : k1_chk331 v18869 v18871), ∀ a, (k1_off1034 v18869 v18871) a + S1x16x512.size a ≤ S384x16x1152.size a := fun v18869 v18871 k1_hw331 => k1_hw331.2

def k1_off1035 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18905 : Index := Scalar.indexCast v18741
  let c2_7442 : Index := 2#32
  ![v18905.toNat, 2]
def k1_off1036 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18921 : Index := Scalar.indexCast v18741
  let c3_7448 : Index := 3#32
  ![v18921.toNat, 3]
def k1_mult332 (v18924 : BitVec 32) : BitVec 32 :=
  let c0_i32_7452 : BitVec 32 := 0#32
  let v18928 : BitVec 1 := Scalar.cmpi .sgt v18924 c0_i32_7452
  let v18929 : BitVec 32 := Scalar.extui v18928
  let c0_i32_7453 : BitVec 32 := 0#32
  let v18930 : BitVec 1 := Scalar.cmpi .slt v18924 c0_i32_7453
  let v18931 : BitVec 32 := Scalar.extui v18930
  let v18932 : BitVec 32 := Scalar.subi v18929 v18931
  let c128_i32_7451 : BitVec 32 := 128#32
  let c0_i32_7454 : BitVec 32 := 0#32
  let v18933 : BitVec 1 := Scalar.cmpi .sgt c128_i32_7451 c0_i32_7454
  let v18934 : BitVec 32 := Scalar.extui v18933
  let c0_i32_7455 : BitVec 32 := 0#32
  let v18935 : BitVec 1 := Scalar.cmpi .slt c128_i32_7451 c0_i32_7455
  let v18936 : BitVec 32 := Scalar.extui v18935
  let v18937 : BitVec 32 := Scalar.subi v18934 v18936
  let v18938 : BitVec 1 := Scalar.cmpi .ne v18932 v18937
  let v18939 : BitVec 32 := Scalar.remsi v18924 c128_i32_7451
  let c0_i32_7456 : BitVec 32 := 0#32
  let v18940 : BitVec 1 := Scalar.cmpi .ne v18939 c0_i32_7456
  let v18941 : BitVec 1 := Scalar.andi v18938 v18940
  let v18927 : BitVec 32 := Scalar.divsi v18924 c128_i32_7451
  let c1_i32_7457 : BitVec 32 := 1#32
  let v18942 : BitVec 32 := Scalar.subi v18927 c1_i32_7457
  let v18943 : BitVec 32 := Scalar.select v18941 v18942 v18927
  let c128_i32_7458 : BitVec 32 := 128#32
  let v18944 : BitVec 32 := Scalar.muli v18943 c128_i32_7458
  v18944

def k1_off1037 (v18922 : BitVec 32) (v18924 : BitVec 32) : Fin 3 → Nat :=
  let v18947 : Index := Scalar.indexCast v18922
  let c0_7459 : Index := 0#32
  let c0_i32_7452 : BitVec 32 := 0#32
  let v18928 : BitVec 1 := Scalar.cmpi .sgt v18924 c0_i32_7452
  let v18929 : BitVec 32 := Scalar.extui v18928
  let c0_i32_7453 : BitVec 32 := 0#32
  let v18930 : BitVec 1 := Scalar.cmpi .slt v18924 c0_i32_7453
  let v18931 : BitVec 32 := Scalar.extui v18930
  let v18932 : BitVec 32 := Scalar.subi v18929 v18931
  let c128_i32_7451 : BitVec 32 := 128#32
  let c0_i32_7454 : BitVec 32 := 0#32
  let v18933 : BitVec 1 := Scalar.cmpi .sgt c128_i32_7451 c0_i32_7454
  let v18934 : BitVec 32 := Scalar.extui v18933
  let c0_i32_7455 : BitVec 32 := 0#32
  let v18935 : BitVec 1 := Scalar.cmpi .slt c128_i32_7451 c0_i32_7455
  let v18936 : BitVec 32 := Scalar.extui v18935
  let v18937 : BitVec 32 := Scalar.subi v18934 v18936
  let v18938 : BitVec 1 := Scalar.cmpi .ne v18932 v18937
  let v18939 : BitVec 32 := Scalar.remsi v18924 c128_i32_7451
  let c0_i32_7456 : BitVec 32 := 0#32
  let v18940 : BitVec 1 := Scalar.cmpi .ne v18939 c0_i32_7456
  let v18941 : BitVec 1 := Scalar.andi v18938 v18940
  let v18927 : BitVec 32 := Scalar.divsi v18924 c128_i32_7451
  let c1_i32_7457 : BitVec 32 := 1#32
  let v18942 : BitVec 32 := Scalar.subi v18927 c1_i32_7457
  let v18943 : BitVec 32 := Scalar.select v18941 v18942 v18927
  let c128_i32_7458 : BitVec 32 := 128#32
  let v18944 : BitVec 32 := Scalar.muli v18943 c128_i32_7458
  let v18945 : BitVec 32 := v18944
  let v18948 : Index := Scalar.indexCast v18945
  ![v18947.toNat, 0, v18948.toNat]

def k1_chk332 (v18922 : BitVec 32) (v18924 : BitVec 32) : Prop :=
  (128 ∣ (k1_mult332 v18924).toNat) ∧
  (∀ a, (k1_off1037 v18922 v18924) a + S1x16x512.size a ≤ S384x16x1152.size a)
theorem k1_mult332_dvd : ∀ (v18922 : BitVec 32) (v18924 : BitVec 32) (k1_hw332 : k1_chk332 v18922 v18924), 128 ∣ (k1_mult332 v18924).toNat := fun v18922 v18924 k1_hw332 => k1_hw332.1
theorem k1_off1037_inb : ∀ (v18922 : BitVec 32) (v18924 : BitVec 32) (k1_hw332 : k1_chk332 v18922 v18924), ∀ a, (k1_off1037 v18922 v18924) a + S1x16x512.size a ≤ S384x16x1152.size a := fun v18922 v18924 k1_hw332 => k1_hw332.2

def k1_off1038 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18958 : Index := Scalar.indexCast v18741
  let c3_7462 : Index := 3#32
  ![v18958.toNat, 3]
def k1_off1039 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v18974 : Index := Scalar.indexCast v18741
  let c4_7468 : Index := 4#32
  ![v18974.toNat, 4]
def k1_mult333 (v18977 : BitVec 32) : BitVec 32 :=
  let c0_i32_7472 : BitVec 32 := 0#32
  let v18981 : BitVec 1 := Scalar.cmpi .sgt v18977 c0_i32_7472
  let v18982 : BitVec 32 := Scalar.extui v18981
  let c0_i32_7473 : BitVec 32 := 0#32
  let v18983 : BitVec 1 := Scalar.cmpi .slt v18977 c0_i32_7473
  let v18984 : BitVec 32 := Scalar.extui v18983
  let v18985 : BitVec 32 := Scalar.subi v18982 v18984
  let c128_i32_7471 : BitVec 32 := 128#32
  let c0_i32_7474 : BitVec 32 := 0#32
  let v18986 : BitVec 1 := Scalar.cmpi .sgt c128_i32_7471 c0_i32_7474
  let v18987 : BitVec 32 := Scalar.extui v18986
  let c0_i32_7475 : BitVec 32 := 0#32
  let v18988 : BitVec 1 := Scalar.cmpi .slt c128_i32_7471 c0_i32_7475
  let v18989 : BitVec 32 := Scalar.extui v18988
  let v18990 : BitVec 32 := Scalar.subi v18987 v18989
  let v18991 : BitVec 1 := Scalar.cmpi .ne v18985 v18990
  let v18992 : BitVec 32 := Scalar.remsi v18977 c128_i32_7471
  let c0_i32_7476 : BitVec 32 := 0#32
  let v18993 : BitVec 1 := Scalar.cmpi .ne v18992 c0_i32_7476
  let v18994 : BitVec 1 := Scalar.andi v18991 v18993
  let v18980 : BitVec 32 := Scalar.divsi v18977 c128_i32_7471
  let c1_i32_7477 : BitVec 32 := 1#32
  let v18995 : BitVec 32 := Scalar.subi v18980 c1_i32_7477
  let v18996 : BitVec 32 := Scalar.select v18994 v18995 v18980
  let c128_i32_7478 : BitVec 32 := 128#32
  let v18997 : BitVec 32 := Scalar.muli v18996 c128_i32_7478
  v18997

def k1_off1040 (v18975 : BitVec 32) (v18977 : BitVec 32) : Fin 3 → Nat :=
  let v19000 : Index := Scalar.indexCast v18975
  let c0_7479 : Index := 0#32
  let c0_i32_7472 : BitVec 32 := 0#32
  let v18981 : BitVec 1 := Scalar.cmpi .sgt v18977 c0_i32_7472
  let v18982 : BitVec 32 := Scalar.extui v18981
  let c0_i32_7473 : BitVec 32 := 0#32
  let v18983 : BitVec 1 := Scalar.cmpi .slt v18977 c0_i32_7473
  let v18984 : BitVec 32 := Scalar.extui v18983
  let v18985 : BitVec 32 := Scalar.subi v18982 v18984
  let c128_i32_7471 : BitVec 32 := 128#32
  let c0_i32_7474 : BitVec 32 := 0#32
  let v18986 : BitVec 1 := Scalar.cmpi .sgt c128_i32_7471 c0_i32_7474
  let v18987 : BitVec 32 := Scalar.extui v18986
  let c0_i32_7475 : BitVec 32 := 0#32
  let v18988 : BitVec 1 := Scalar.cmpi .slt c128_i32_7471 c0_i32_7475
  let v18989 : BitVec 32 := Scalar.extui v18988
  let v18990 : BitVec 32 := Scalar.subi v18987 v18989
  let v18991 : BitVec 1 := Scalar.cmpi .ne v18985 v18990
  let v18992 : BitVec 32 := Scalar.remsi v18977 c128_i32_7471
  let c0_i32_7476 : BitVec 32 := 0#32
  let v18993 : BitVec 1 := Scalar.cmpi .ne v18992 c0_i32_7476
  let v18994 : BitVec 1 := Scalar.andi v18991 v18993
  let v18980 : BitVec 32 := Scalar.divsi v18977 c128_i32_7471
  let c1_i32_7477 : BitVec 32 := 1#32
  let v18995 : BitVec 32 := Scalar.subi v18980 c1_i32_7477
  let v18996 : BitVec 32 := Scalar.select v18994 v18995 v18980
  let c128_i32_7478 : BitVec 32 := 128#32
  let v18997 : BitVec 32 := Scalar.muli v18996 c128_i32_7478
  let v18998 : BitVec 32 := v18997
  let v19001 : Index := Scalar.indexCast v18998
  ![v19000.toNat, 0, v19001.toNat]

def k1_chk333 (v18975 : BitVec 32) (v18977 : BitVec 32) : Prop :=
  (128 ∣ (k1_mult333 v18977).toNat) ∧
  (∀ a, (k1_off1040 v18975 v18977) a + S1x16x512.size a ≤ S384x16x1152.size a)
theorem k1_mult333_dvd : ∀ (v18975 : BitVec 32) (v18977 : BitVec 32) (k1_hw333 : k1_chk333 v18975 v18977), 128 ∣ (k1_mult333 v18977).toNat := fun v18975 v18977 k1_hw333 => k1_hw333.1
theorem k1_off1040_inb : ∀ (v18975 : BitVec 32) (v18977 : BitVec 32) (k1_hw333 : k1_chk333 v18975 v18977), ∀ a, (k1_off1040 v18975 v18977) a + S1x16x512.size a ≤ S384x16x1152.size a := fun v18975 v18977 k1_hw333 => k1_hw333.2

def k1_off1041 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19011 : Index := Scalar.indexCast v18741
  let c4_7482 : Index := 4#32
  ![v19011.toNat, 4]
def k1_off1042 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19027 : Index := Scalar.indexCast v18741
  let c5_7488 : Index := 5#32
  ![v19027.toNat, 5]
def k1_mult334 (v19030 : BitVec 32) : BitVec 32 :=
  let c0_i32_7492 : BitVec 32 := 0#32
  let v19034 : BitVec 1 := Scalar.cmpi .sgt v19030 c0_i32_7492
  let v19035 : BitVec 32 := Scalar.extui v19034
  let c0_i32_7493 : BitVec 32 := 0#32
  let v19036 : BitVec 1 := Scalar.cmpi .slt v19030 c0_i32_7493
  let v19037 : BitVec 32 := Scalar.extui v19036
  let v19038 : BitVec 32 := Scalar.subi v19035 v19037
  let c128_i32_7491 : BitVec 32 := 128#32
  let c0_i32_7494 : BitVec 32 := 0#32
  let v19039 : BitVec 1 := Scalar.cmpi .sgt c128_i32_7491 c0_i32_7494
  let v19040 : BitVec 32 := Scalar.extui v19039
  let c0_i32_7495 : BitVec 32 := 0#32
  let v19041 : BitVec 1 := Scalar.cmpi .slt c128_i32_7491 c0_i32_7495
  let v19042 : BitVec 32 := Scalar.extui v19041
  let v19043 : BitVec 32 := Scalar.subi v19040 v19042
  let v19044 : BitVec 1 := Scalar.cmpi .ne v19038 v19043
  let v19045 : BitVec 32 := Scalar.remsi v19030 c128_i32_7491
  let c0_i32_7496 : BitVec 32 := 0#32
  let v19046 : BitVec 1 := Scalar.cmpi .ne v19045 c0_i32_7496
  let v19047 : BitVec 1 := Scalar.andi v19044 v19046
  let v19033 : BitVec 32 := Scalar.divsi v19030 c128_i32_7491
  let c1_i32_7497 : BitVec 32 := 1#32
  let v19048 : BitVec 32 := Scalar.subi v19033 c1_i32_7497
  let v19049 : BitVec 32 := Scalar.select v19047 v19048 v19033
  let c128_i32_7498 : BitVec 32 := 128#32
  let v19050 : BitVec 32 := Scalar.muli v19049 c128_i32_7498
  v19050

def k1_off1043 (v19028 : BitVec 32) (v19030 : BitVec 32) : Fin 3 → Nat :=
  let v19053 : Index := Scalar.indexCast v19028
  let c0_7499 : Index := 0#32
  let c0_i32_7492 : BitVec 32 := 0#32
  let v19034 : BitVec 1 := Scalar.cmpi .sgt v19030 c0_i32_7492
  let v19035 : BitVec 32 := Scalar.extui v19034
  let c0_i32_7493 : BitVec 32 := 0#32
  let v19036 : BitVec 1 := Scalar.cmpi .slt v19030 c0_i32_7493
  let v19037 : BitVec 32 := Scalar.extui v19036
  let v19038 : BitVec 32 := Scalar.subi v19035 v19037
  let c128_i32_7491 : BitVec 32 := 128#32
  let c0_i32_7494 : BitVec 32 := 0#32
  let v19039 : BitVec 1 := Scalar.cmpi .sgt c128_i32_7491 c0_i32_7494
  let v19040 : BitVec 32 := Scalar.extui v19039
  let c0_i32_7495 : BitVec 32 := 0#32
  let v19041 : BitVec 1 := Scalar.cmpi .slt c128_i32_7491 c0_i32_7495
  let v19042 : BitVec 32 := Scalar.extui v19041
  let v19043 : BitVec 32 := Scalar.subi v19040 v19042
  let v19044 : BitVec 1 := Scalar.cmpi .ne v19038 v19043
  let v19045 : BitVec 32 := Scalar.remsi v19030 c128_i32_7491
  let c0_i32_7496 : BitVec 32 := 0#32
  let v19046 : BitVec 1 := Scalar.cmpi .ne v19045 c0_i32_7496
  let v19047 : BitVec 1 := Scalar.andi v19044 v19046
  let v19033 : BitVec 32 := Scalar.divsi v19030 c128_i32_7491
  let c1_i32_7497 : BitVec 32 := 1#32
  let v19048 : BitVec 32 := Scalar.subi v19033 c1_i32_7497
  let v19049 : BitVec 32 := Scalar.select v19047 v19048 v19033
  let c128_i32_7498 : BitVec 32 := 128#32
  let v19050 : BitVec 32 := Scalar.muli v19049 c128_i32_7498
  let v19051 : BitVec 32 := v19050
  let v19054 : Index := Scalar.indexCast v19051
  ![v19053.toNat, 0, v19054.toNat]

def k1_chk334 (v19028 : BitVec 32) (v19030 : BitVec 32) : Prop :=
  (128 ∣ (k1_mult334 v19030).toNat) ∧
  (∀ a, (k1_off1043 v19028 v19030) a + S1x16x512.size a ≤ S384x16x1152.size a)
theorem k1_mult334_dvd : ∀ (v19028 : BitVec 32) (v19030 : BitVec 32) (k1_hw334 : k1_chk334 v19028 v19030), 128 ∣ (k1_mult334 v19030).toNat := fun v19028 v19030 k1_hw334 => k1_hw334.1
theorem k1_off1043_inb : ∀ (v19028 : BitVec 32) (v19030 : BitVec 32) (k1_hw334 : k1_chk334 v19028 v19030), ∀ a, (k1_off1043 v19028 v19030) a + S1x16x512.size a ≤ S384x16x1152.size a := fun v19028 v19030 k1_hw334 => k1_hw334.2

def k1_off1044 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19064 : Index := Scalar.indexCast v18741
  let c5_7502 : Index := 5#32
  ![v19064.toNat, 5]
def k1_off1045 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19080 : Index := Scalar.indexCast v18741
  let c6_7508 : Index := 6#32
  ![v19080.toNat, 6]
def k1_mult335 (v19083 : BitVec 32) : BitVec 32 :=
  let c0_i32_7512 : BitVec 32 := 0#32
  let v19087 : BitVec 1 := Scalar.cmpi .sgt v19083 c0_i32_7512
  let v19088 : BitVec 32 := Scalar.extui v19087
  let c0_i32_7513 : BitVec 32 := 0#32
  let v19089 : BitVec 1 := Scalar.cmpi .slt v19083 c0_i32_7513
  let v19090 : BitVec 32 := Scalar.extui v19089
  let v19091 : BitVec 32 := Scalar.subi v19088 v19090
  let c128_i32_7511 : BitVec 32 := 128#32
  let c0_i32_7514 : BitVec 32 := 0#32
  let v19092 : BitVec 1 := Scalar.cmpi .sgt c128_i32_7511 c0_i32_7514
  let v19093 : BitVec 32 := Scalar.extui v19092
  let c0_i32_7515 : BitVec 32 := 0#32
  let v19094 : BitVec 1 := Scalar.cmpi .slt c128_i32_7511 c0_i32_7515
  let v19095 : BitVec 32 := Scalar.extui v19094
  let v19096 : BitVec 32 := Scalar.subi v19093 v19095
  let v19097 : BitVec 1 := Scalar.cmpi .ne v19091 v19096
  let v19098 : BitVec 32 := Scalar.remsi v19083 c128_i32_7511
  let c0_i32_7516 : BitVec 32 := 0#32
  let v19099 : BitVec 1 := Scalar.cmpi .ne v19098 c0_i32_7516
  let v19100 : BitVec 1 := Scalar.andi v19097 v19099
  let v19086 : BitVec 32 := Scalar.divsi v19083 c128_i32_7511
  let c1_i32_7517 : BitVec 32 := 1#32
  let v19101 : BitVec 32 := Scalar.subi v19086 c1_i32_7517
  let v19102 : BitVec 32 := Scalar.select v19100 v19101 v19086
  let c128_i32_7518 : BitVec 32 := 128#32
  let v19103 : BitVec 32 := Scalar.muli v19102 c128_i32_7518
  v19103

def k1_off1046 (v19081 : BitVec 32) (v19083 : BitVec 32) : Fin 3 → Nat :=
  let v19106 : Index := Scalar.indexCast v19081
  let c0_7519 : Index := 0#32
  let c0_i32_7512 : BitVec 32 := 0#32
  let v19087 : BitVec 1 := Scalar.cmpi .sgt v19083 c0_i32_7512
  let v19088 : BitVec 32 := Scalar.extui v19087
  let c0_i32_7513 : BitVec 32 := 0#32
  let v19089 : BitVec 1 := Scalar.cmpi .slt v19083 c0_i32_7513
  let v19090 : BitVec 32 := Scalar.extui v19089
  let v19091 : BitVec 32 := Scalar.subi v19088 v19090
  let c128_i32_7511 : BitVec 32 := 128#32
  let c0_i32_7514 : BitVec 32 := 0#32
  let v19092 : BitVec 1 := Scalar.cmpi .sgt c128_i32_7511 c0_i32_7514
  let v19093 : BitVec 32 := Scalar.extui v19092
  let c0_i32_7515 : BitVec 32 := 0#32
  let v19094 : BitVec 1 := Scalar.cmpi .slt c128_i32_7511 c0_i32_7515
  let v19095 : BitVec 32 := Scalar.extui v19094
  let v19096 : BitVec 32 := Scalar.subi v19093 v19095
  let v19097 : BitVec 1 := Scalar.cmpi .ne v19091 v19096
  let v19098 : BitVec 32 := Scalar.remsi v19083 c128_i32_7511
  let c0_i32_7516 : BitVec 32 := 0#32
  let v19099 : BitVec 1 := Scalar.cmpi .ne v19098 c0_i32_7516
  let v19100 : BitVec 1 := Scalar.andi v19097 v19099
  let v19086 : BitVec 32 := Scalar.divsi v19083 c128_i32_7511
  let c1_i32_7517 : BitVec 32 := 1#32
  let v19101 : BitVec 32 := Scalar.subi v19086 c1_i32_7517
  let v19102 : BitVec 32 := Scalar.select v19100 v19101 v19086
  let c128_i32_7518 : BitVec 32 := 128#32
  let v19103 : BitVec 32 := Scalar.muli v19102 c128_i32_7518
  let v19104 : BitVec 32 := v19103
  let v19107 : Index := Scalar.indexCast v19104
  ![v19106.toNat, 0, v19107.toNat]

def k1_chk335 (v19081 : BitVec 32) (v19083 : BitVec 32) : Prop :=
  (128 ∣ (k1_mult335 v19083).toNat) ∧
  (∀ a, (k1_off1046 v19081 v19083) a + S1x16x512.size a ≤ S384x16x1152.size a)
theorem k1_mult335_dvd : ∀ (v19081 : BitVec 32) (v19083 : BitVec 32) (k1_hw335 : k1_chk335 v19081 v19083), 128 ∣ (k1_mult335 v19083).toNat := fun v19081 v19083 k1_hw335 => k1_hw335.1
theorem k1_off1046_inb : ∀ (v19081 : BitVec 32) (v19083 : BitVec 32) (k1_hw335 : k1_chk335 v19081 v19083), ∀ a, (k1_off1046 v19081 v19083) a + S1x16x512.size a ≤ S384x16x1152.size a := fun v19081 v19083 k1_hw335 => k1_hw335.2

def k1_off1047 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19117 : Index := Scalar.indexCast v18741
  let c6_7522 : Index := 6#32
  ![v19117.toNat, 6]
def k1_off1048 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19133 : Index := Scalar.indexCast v18741
  let c7_7528 : Index := 7#32
  ![v19133.toNat, 7]
def k1_mult336 (v19136 : BitVec 32) : BitVec 32 :=
  let c0_i32_7532 : BitVec 32 := 0#32
  let v19140 : BitVec 1 := Scalar.cmpi .sgt v19136 c0_i32_7532
  let v19141 : BitVec 32 := Scalar.extui v19140
  let c0_i32_7533 : BitVec 32 := 0#32
  let v19142 : BitVec 1 := Scalar.cmpi .slt v19136 c0_i32_7533
  let v19143 : BitVec 32 := Scalar.extui v19142
  let v19144 : BitVec 32 := Scalar.subi v19141 v19143
  let c128_i32_7531 : BitVec 32 := 128#32
  let c0_i32_7534 : BitVec 32 := 0#32
  let v19145 : BitVec 1 := Scalar.cmpi .sgt c128_i32_7531 c0_i32_7534
  let v19146 : BitVec 32 := Scalar.extui v19145
  let c0_i32_7535 : BitVec 32 := 0#32
  let v19147 : BitVec 1 := Scalar.cmpi .slt c128_i32_7531 c0_i32_7535
  let v19148 : BitVec 32 := Scalar.extui v19147
  let v19149 : BitVec 32 := Scalar.subi v19146 v19148
  let v19150 : BitVec 1 := Scalar.cmpi .ne v19144 v19149
  let v19151 : BitVec 32 := Scalar.remsi v19136 c128_i32_7531
  let c0_i32_7536 : BitVec 32 := 0#32
  let v19152 : BitVec 1 := Scalar.cmpi .ne v19151 c0_i32_7536
  let v19153 : BitVec 1 := Scalar.andi v19150 v19152
  let v19139 : BitVec 32 := Scalar.divsi v19136 c128_i32_7531
  let c1_i32_7537 : BitVec 32 := 1#32
  let v19154 : BitVec 32 := Scalar.subi v19139 c1_i32_7537
  let v19155 : BitVec 32 := Scalar.select v19153 v19154 v19139
  let c128_i32_7538 : BitVec 32 := 128#32
  let v19156 : BitVec 32 := Scalar.muli v19155 c128_i32_7538
  v19156

def k1_off1049 (v19134 : BitVec 32) (v19136 : BitVec 32) : Fin 3 → Nat :=
  let v19159 : Index := Scalar.indexCast v19134
  let c0_7539 : Index := 0#32
  let c0_i32_7532 : BitVec 32 := 0#32
  let v19140 : BitVec 1 := Scalar.cmpi .sgt v19136 c0_i32_7532
  let v19141 : BitVec 32 := Scalar.extui v19140
  let c0_i32_7533 : BitVec 32 := 0#32
  let v19142 : BitVec 1 := Scalar.cmpi .slt v19136 c0_i32_7533
  let v19143 : BitVec 32 := Scalar.extui v19142
  let v19144 : BitVec 32 := Scalar.subi v19141 v19143
  let c128_i32_7531 : BitVec 32 := 128#32
  let c0_i32_7534 : BitVec 32 := 0#32
  let v19145 : BitVec 1 := Scalar.cmpi .sgt c128_i32_7531 c0_i32_7534
  let v19146 : BitVec 32 := Scalar.extui v19145
  let c0_i32_7535 : BitVec 32 := 0#32
  let v19147 : BitVec 1 := Scalar.cmpi .slt c128_i32_7531 c0_i32_7535
  let v19148 : BitVec 32 := Scalar.extui v19147
  let v19149 : BitVec 32 := Scalar.subi v19146 v19148
  let v19150 : BitVec 1 := Scalar.cmpi .ne v19144 v19149
  let v19151 : BitVec 32 := Scalar.remsi v19136 c128_i32_7531
  let c0_i32_7536 : BitVec 32 := 0#32
  let v19152 : BitVec 1 := Scalar.cmpi .ne v19151 c0_i32_7536
  let v19153 : BitVec 1 := Scalar.andi v19150 v19152
  let v19139 : BitVec 32 := Scalar.divsi v19136 c128_i32_7531
  let c1_i32_7537 : BitVec 32 := 1#32
  let v19154 : BitVec 32 := Scalar.subi v19139 c1_i32_7537
  let v19155 : BitVec 32 := Scalar.select v19153 v19154 v19139
  let c128_i32_7538 : BitVec 32 := 128#32
  let v19156 : BitVec 32 := Scalar.muli v19155 c128_i32_7538
  let v19157 : BitVec 32 := v19156
  let v19160 : Index := Scalar.indexCast v19157
  ![v19159.toNat, 0, v19160.toNat]

def k1_chk336 (v19134 : BitVec 32) (v19136 : BitVec 32) : Prop :=
  (128 ∣ (k1_mult336 v19136).toNat) ∧
  (∀ a, (k1_off1049 v19134 v19136) a + S1x16x512.size a ≤ S384x16x1152.size a)
theorem k1_mult336_dvd : ∀ (v19134 : BitVec 32) (v19136 : BitVec 32) (k1_hw336 : k1_chk336 v19134 v19136), 128 ∣ (k1_mult336 v19136).toNat := fun v19134 v19136 k1_hw336 => k1_hw336.1
theorem k1_off1049_inb : ∀ (v19134 : BitVec 32) (v19136 : BitVec 32) (k1_hw336 : k1_chk336 v19134 v19136), ∀ a, (k1_off1049 v19134 v19136) a + S1x16x512.size a ≤ S384x16x1152.size a := fun v19134 v19136 k1_hw336 => k1_hw336.2

def k1_off1050 (i : grid1.Coords) : Fin 2 → Nat :=
  let arg0 : BitVec 32 := BitVec.ofNat 32 (i 0).val
  let c48_i32_7377 : BitVec 32 := 48#32
  let v18740 : BitVec 32 := Scalar.muli arg0 c48_i32_7377
  let c41_i32 : BitVec 32 := 41#32
  let v18741 : BitVec 32 := Scalar.addi v18740 c41_i32
  let v19170 : Index := Scalar.indexCast v18741
  let c7_7542 : Index := 7#32
  ![v19170.toNat, 7]
def k1_off1051 (i : grid1.Coords) : Fin 3 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19199 : Index := Scalar.indexCast v19198
  let c0_7558 : Index := 0#32
  let c720_7559 : Index := 720#32
  ![v19199.toNat, 0, 720]
def k1_off1052 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19219 : Index := Scalar.indexCast v19198
  let c0_7568 : Index := 0#32
  ![v19219.toNat, 0]
def k1_mult337 (v19222 : BitVec 32) : BitVec 32 :=
  let c0_i32_7572 : BitVec 32 := 0#32
  let v19226 : BitVec 1 := Scalar.cmpi .sgt v19222 c0_i32_7572
  let v19227 : BitVec 32 := Scalar.extui v19226
  let c0_i32_7573 : BitVec 32 := 0#32
  let v19228 : BitVec 1 := Scalar.cmpi .slt v19222 c0_i32_7573
  let v19229 : BitVec 32 := Scalar.extui v19228
  let v19230 : BitVec 32 := Scalar.subi v19227 v19229
  let c128_i32_7571 : BitVec 32 := 128#32
  let c0_i32_7574 : BitVec 32 := 0#32
  let v19231 : BitVec 1 := Scalar.cmpi .sgt c128_i32_7571 c0_i32_7574
  let v19232 : BitVec 32 := Scalar.extui v19231
  let c0_i32_7575 : BitVec 32 := 0#32
  let v19233 : BitVec 1 := Scalar.cmpi .slt c128_i32_7571 c0_i32_7575
  let v19234 : BitVec 32 := Scalar.extui v19233
  let v19235 : BitVec 32 := Scalar.subi v19232 v19234
  let v19236 : BitVec 1 := Scalar.cmpi .ne v19230 v19235
  let v19237 : BitVec 32 := Scalar.remsi v19222 c128_i32_7571
  let c0_i32_7576 : BitVec 32 := 0#32
  let v19238 : BitVec 1 := Scalar.cmpi .ne v19237 c0_i32_7576
  let v19239 : BitVec 1 := Scalar.andi v19236 v19238
  let v19225 : BitVec 32 := Scalar.divsi v19222 c128_i32_7571
  let c1_i32_7577 : BitVec 32 := 1#32
  let v19240 : BitVec 32 := Scalar.subi v19225 c1_i32_7577
  let v19241 : BitVec 32 := Scalar.select v19239 v19240 v19225
  let c128_i32_7578 : BitVec 32 := 128#32
  let v19242 : BitVec 32 := Scalar.muli v19241 c128_i32_7578
  v19242

def k1_off1053 (v19220 : BitVec 32) (v19222 : BitVec 32) : Fin 3 → Nat :=
  let v19245 : Index := Scalar.indexCast v19220
  let c0_7579 : Index := 0#32
  let c0_i32_7572 : BitVec 32 := 0#32
  let v19226 : BitVec 1 := Scalar.cmpi .sgt v19222 c0_i32_7572
  let v19227 : BitVec 32 := Scalar.extui v19226
  let c0_i32_7573 : BitVec 32 := 0#32
  let v19228 : BitVec 1 := Scalar.cmpi .slt v19222 c0_i32_7573
  let v19229 : BitVec 32 := Scalar.extui v19228
  let v19230 : BitVec 32 := Scalar.subi v19227 v19229
  let c128_i32_7571 : BitVec 32 := 128#32
  let c0_i32_7574 : BitVec 32 := 0#32
  let v19231 : BitVec 1 := Scalar.cmpi .sgt c128_i32_7571 c0_i32_7574
  let v19232 : BitVec 32 := Scalar.extui v19231
  let c0_i32_7575 : BitVec 32 := 0#32
  let v19233 : BitVec 1 := Scalar.cmpi .slt c128_i32_7571 c0_i32_7575
  let v19234 : BitVec 32 := Scalar.extui v19233
  let v19235 : BitVec 32 := Scalar.subi v19232 v19234
  let v19236 : BitVec 1 := Scalar.cmpi .ne v19230 v19235
  let v19237 : BitVec 32 := Scalar.remsi v19222 c128_i32_7571
  let c0_i32_7576 : BitVec 32 := 0#32
  let v19238 : BitVec 1 := Scalar.cmpi .ne v19237 c0_i32_7576
  let v19239 : BitVec 1 := Scalar.andi v19236 v19238
  let v19225 : BitVec 32 := Scalar.divsi v19222 c128_i32_7571
  let c1_i32_7577 : BitVec 32 := 1#32
  let v19240 : BitVec 32 := Scalar.subi v19225 c1_i32_7577
  let v19241 : BitVec 32 := Scalar.select v19239 v19240 v19225
  let c128_i32_7578 : BitVec 32 := 128#32
  let v19242 : BitVec 32 := Scalar.muli v19241 c128_i32_7578
  let v19243 : BitVec 32 := v19242
  let v19246 : Index := Scalar.indexCast v19243
  ![v19245.toNat, 0, v19246.toNat]

def k1_chk337 (v19220 : BitVec 32) (v19222 : BitVec 32) : Prop :=
  (128 ∣ (k1_mult337 v19222).toNat) ∧
  (∀ a, (k1_off1053 v19220 v19222) a + S1x16x512.size a ≤ S384x16x1152.size a)
theorem k1_mult337_dvd : ∀ (v19220 : BitVec 32) (v19222 : BitVec 32) (k1_hw337 : k1_chk337 v19220 v19222), 128 ∣ (k1_mult337 v19222).toNat := fun v19220 v19222 k1_hw337 => k1_hw337.1
theorem k1_off1053_inb : ∀ (v19220 : BitVec 32) (v19222 : BitVec 32) (k1_hw337 : k1_chk337 v19220 v19222), ∀ a, (k1_off1053 v19220 v19222) a + S1x16x512.size a ≤ S384x16x1152.size a := fun v19220 v19222 k1_hw337 => k1_hw337.2

def k1_off1054 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19256 : Index := Scalar.indexCast v19198
  let c0_7582 : Index := 0#32
  ![v19256.toNat, 0]
def k1_off1055 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19272 : Index := Scalar.indexCast v19198
  let c1_7588 : Index := 1#32
  ![v19272.toNat, 1]
def k1_mult338 (v19275 : BitVec 32) : BitVec 32 :=
  let c0_i32_7592 : BitVec 32 := 0#32
  let v19279 : BitVec 1 := Scalar.cmpi .sgt v19275 c0_i32_7592
  let v19280 : BitVec 32 := Scalar.extui v19279
  let c0_i32_7593 : BitVec 32 := 0#32
  let v19281 : BitVec 1 := Scalar.cmpi .slt v19275 c0_i32_7593
  let v19282 : BitVec 32 := Scalar.extui v19281
  let v19283 : BitVec 32 := Scalar.subi v19280 v19282
  let c128_i32_7591 : BitVec 32 := 128#32
  let c0_i32_7594 : BitVec 32 := 0#32
  let v19284 : BitVec 1 := Scalar.cmpi .sgt c128_i32_7591 c0_i32_7594
  let v19285 : BitVec 32 := Scalar.extui v19284
  let c0_i32_7595 : BitVec 32 := 0#32
  let v19286 : BitVec 1 := Scalar.cmpi .slt c128_i32_7591 c0_i32_7595
  let v19287 : BitVec 32 := Scalar.extui v19286
  let v19288 : BitVec 32 := Scalar.subi v19285 v19287
  let v19289 : BitVec 1 := Scalar.cmpi .ne v19283 v19288
  let v19290 : BitVec 32 := Scalar.remsi v19275 c128_i32_7591
  let c0_i32_7596 : BitVec 32 := 0#32
  let v19291 : BitVec 1 := Scalar.cmpi .ne v19290 c0_i32_7596
  let v19292 : BitVec 1 := Scalar.andi v19289 v19291
  let v19278 : BitVec 32 := Scalar.divsi v19275 c128_i32_7591
  let c1_i32_7597 : BitVec 32 := 1#32
  let v19293 : BitVec 32 := Scalar.subi v19278 c1_i32_7597
  let v19294 : BitVec 32 := Scalar.select v19292 v19293 v19278
  let c128_i32_7598 : BitVec 32 := 128#32
  let v19295 : BitVec 32 := Scalar.muli v19294 c128_i32_7598
  v19295

def k1_off1056 (v19273 : BitVec 32) (v19275 : BitVec 32) : Fin 3 → Nat :=
  let v19298 : Index := Scalar.indexCast v19273
  let c0_7599 : Index := 0#32
  let c0_i32_7592 : BitVec 32 := 0#32
  let v19279 : BitVec 1 := Scalar.cmpi .sgt v19275 c0_i32_7592
  let v19280 : BitVec 32 := Scalar.extui v19279
  let c0_i32_7593 : BitVec 32 := 0#32
  let v19281 : BitVec 1 := Scalar.cmpi .slt v19275 c0_i32_7593
  let v19282 : BitVec 32 := Scalar.extui v19281
  let v19283 : BitVec 32 := Scalar.subi v19280 v19282
  let c128_i32_7591 : BitVec 32 := 128#32
  let c0_i32_7594 : BitVec 32 := 0#32
  let v19284 : BitVec 1 := Scalar.cmpi .sgt c128_i32_7591 c0_i32_7594
  let v19285 : BitVec 32 := Scalar.extui v19284
  let c0_i32_7595 : BitVec 32 := 0#32
  let v19286 : BitVec 1 := Scalar.cmpi .slt c128_i32_7591 c0_i32_7595
  let v19287 : BitVec 32 := Scalar.extui v19286
  let v19288 : BitVec 32 := Scalar.subi v19285 v19287
  let v19289 : BitVec 1 := Scalar.cmpi .ne v19283 v19288
  let v19290 : BitVec 32 := Scalar.remsi v19275 c128_i32_7591
  let c0_i32_7596 : BitVec 32 := 0#32
  let v19291 : BitVec 1 := Scalar.cmpi .ne v19290 c0_i32_7596
  let v19292 : BitVec 1 := Scalar.andi v19289 v19291
  let v19278 : BitVec 32 := Scalar.divsi v19275 c128_i32_7591
  let c1_i32_7597 : BitVec 32 := 1#32
  let v19293 : BitVec 32 := Scalar.subi v19278 c1_i32_7597
  let v19294 : BitVec 32 := Scalar.select v19292 v19293 v19278
  let c128_i32_7598 : BitVec 32 := 128#32
  let v19295 : BitVec 32 := Scalar.muli v19294 c128_i32_7598
  let v19296 : BitVec 32 := v19295
  let v19299 : Index := Scalar.indexCast v19296
  ![v19298.toNat, 0, v19299.toNat]

def k1_chk338 (v19273 : BitVec 32) (v19275 : BitVec 32) : Prop :=
  (128 ∣ (k1_mult338 v19275).toNat) ∧
  (∀ a, (k1_off1056 v19273 v19275) a + S1x16x512.size a ≤ S384x16x1152.size a)
theorem k1_mult338_dvd : ∀ (v19273 : BitVec 32) (v19275 : BitVec 32) (k1_hw338 : k1_chk338 v19273 v19275), 128 ∣ (k1_mult338 v19275).toNat := fun v19273 v19275 k1_hw338 => k1_hw338.1
theorem k1_off1056_inb : ∀ (v19273 : BitVec 32) (v19275 : BitVec 32) (k1_hw338 : k1_chk338 v19273 v19275), ∀ a, (k1_off1056 v19273 v19275) a + S1x16x512.size a ≤ S384x16x1152.size a := fun v19273 v19275 k1_hw338 => k1_hw338.2

def k1_off1057 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19309 : Index := Scalar.indexCast v19198
  let c1_7602 : Index := 1#32
  ![v19309.toNat, 1]
def k1_off1058 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19325 : Index := Scalar.indexCast v19198
  let c2_7608 : Index := 2#32
  ![v19325.toNat, 2]
def k1_mult339 (v19328 : BitVec 32) : BitVec 32 :=
  let c0_i32_7612 : BitVec 32 := 0#32
  let v19332 : BitVec 1 := Scalar.cmpi .sgt v19328 c0_i32_7612
  let v19333 : BitVec 32 := Scalar.extui v19332
  let c0_i32_7613 : BitVec 32 := 0#32
  let v19334 : BitVec 1 := Scalar.cmpi .slt v19328 c0_i32_7613
  let v19335 : BitVec 32 := Scalar.extui v19334
  let v19336 : BitVec 32 := Scalar.subi v19333 v19335
  let c128_i32_7611 : BitVec 32 := 128#32
  let c0_i32_7614 : BitVec 32 := 0#32
  let v19337 : BitVec 1 := Scalar.cmpi .sgt c128_i32_7611 c0_i32_7614
  let v19338 : BitVec 32 := Scalar.extui v19337
  let c0_i32_7615 : BitVec 32 := 0#32
  let v19339 : BitVec 1 := Scalar.cmpi .slt c128_i32_7611 c0_i32_7615
  let v19340 : BitVec 32 := Scalar.extui v19339
  let v19341 : BitVec 32 := Scalar.subi v19338 v19340
  let v19342 : BitVec 1 := Scalar.cmpi .ne v19336 v19341
  let v19343 : BitVec 32 := Scalar.remsi v19328 c128_i32_7611
  let c0_i32_7616 : BitVec 32 := 0#32
  let v19344 : BitVec 1 := Scalar.cmpi .ne v19343 c0_i32_7616
  let v19345 : BitVec 1 := Scalar.andi v19342 v19344
  let v19331 : BitVec 32 := Scalar.divsi v19328 c128_i32_7611
  let c1_i32_7617 : BitVec 32 := 1#32
  let v19346 : BitVec 32 := Scalar.subi v19331 c1_i32_7617
  let v19347 : BitVec 32 := Scalar.select v19345 v19346 v19331
  let c128_i32_7618 : BitVec 32 := 128#32
  let v19348 : BitVec 32 := Scalar.muli v19347 c128_i32_7618
  v19348

def k1_off1059 (v19326 : BitVec 32) (v19328 : BitVec 32) : Fin 3 → Nat :=
  let v19351 : Index := Scalar.indexCast v19326
  let c0_7619 : Index := 0#32
  let c0_i32_7612 : BitVec 32 := 0#32
  let v19332 : BitVec 1 := Scalar.cmpi .sgt v19328 c0_i32_7612
  let v19333 : BitVec 32 := Scalar.extui v19332
  let c0_i32_7613 : BitVec 32 := 0#32
  let v19334 : BitVec 1 := Scalar.cmpi .slt v19328 c0_i32_7613
  let v19335 : BitVec 32 := Scalar.extui v19334
  let v19336 : BitVec 32 := Scalar.subi v19333 v19335
  let c128_i32_7611 : BitVec 32 := 128#32
  let c0_i32_7614 : BitVec 32 := 0#32
  let v19337 : BitVec 1 := Scalar.cmpi .sgt c128_i32_7611 c0_i32_7614
  let v19338 : BitVec 32 := Scalar.extui v19337
  let c0_i32_7615 : BitVec 32 := 0#32
  let v19339 : BitVec 1 := Scalar.cmpi .slt c128_i32_7611 c0_i32_7615
  let v19340 : BitVec 32 := Scalar.extui v19339
  let v19341 : BitVec 32 := Scalar.subi v19338 v19340
  let v19342 : BitVec 1 := Scalar.cmpi .ne v19336 v19341
  let v19343 : BitVec 32 := Scalar.remsi v19328 c128_i32_7611
  let c0_i32_7616 : BitVec 32 := 0#32
  let v19344 : BitVec 1 := Scalar.cmpi .ne v19343 c0_i32_7616
  let v19345 : BitVec 1 := Scalar.andi v19342 v19344
  let v19331 : BitVec 32 := Scalar.divsi v19328 c128_i32_7611
  let c1_i32_7617 : BitVec 32 := 1#32
  let v19346 : BitVec 32 := Scalar.subi v19331 c1_i32_7617
  let v19347 : BitVec 32 := Scalar.select v19345 v19346 v19331
  let c128_i32_7618 : BitVec 32 := 128#32
  let v19348 : BitVec 32 := Scalar.muli v19347 c128_i32_7618
  let v19349 : BitVec 32 := v19348
  let v19352 : Index := Scalar.indexCast v19349
  ![v19351.toNat, 0, v19352.toNat]

def k1_chk339 (v19326 : BitVec 32) (v19328 : BitVec 32) : Prop :=
  (128 ∣ (k1_mult339 v19328).toNat) ∧
  (∀ a, (k1_off1059 v19326 v19328) a + S1x16x512.size a ≤ S384x16x1152.size a)
theorem k1_mult339_dvd : ∀ (v19326 : BitVec 32) (v19328 : BitVec 32) (k1_hw339 : k1_chk339 v19326 v19328), 128 ∣ (k1_mult339 v19328).toNat := fun v19326 v19328 k1_hw339 => k1_hw339.1
theorem k1_off1059_inb : ∀ (v19326 : BitVec 32) (v19328 : BitVec 32) (k1_hw339 : k1_chk339 v19326 v19328), ∀ a, (k1_off1059 v19326 v19328) a + S1x16x512.size a ≤ S384x16x1152.size a := fun v19326 v19328 k1_hw339 => k1_hw339.2

def k1_off1060 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19362 : Index := Scalar.indexCast v19198
  let c2_7622 : Index := 2#32
  ![v19362.toNat, 2]
def k1_off1061 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19378 : Index := Scalar.indexCast v19198
  let c3_7628 : Index := 3#32
  ![v19378.toNat, 3]
def k1_mult340 (v19381 : BitVec 32) : BitVec 32 :=
  let c0_i32_7632 : BitVec 32 := 0#32
  let v19385 : BitVec 1 := Scalar.cmpi .sgt v19381 c0_i32_7632
  let v19386 : BitVec 32 := Scalar.extui v19385
  let c0_i32_7633 : BitVec 32 := 0#32
  let v19387 : BitVec 1 := Scalar.cmpi .slt v19381 c0_i32_7633
  let v19388 : BitVec 32 := Scalar.extui v19387
  let v19389 : BitVec 32 := Scalar.subi v19386 v19388
  let c128_i32_7631 : BitVec 32 := 128#32
  let c0_i32_7634 : BitVec 32 := 0#32
  let v19390 : BitVec 1 := Scalar.cmpi .sgt c128_i32_7631 c0_i32_7634
  let v19391 : BitVec 32 := Scalar.extui v19390
  let c0_i32_7635 : BitVec 32 := 0#32
  let v19392 : BitVec 1 := Scalar.cmpi .slt c128_i32_7631 c0_i32_7635
  let v19393 : BitVec 32 := Scalar.extui v19392
  let v19394 : BitVec 32 := Scalar.subi v19391 v19393
  let v19395 : BitVec 1 := Scalar.cmpi .ne v19389 v19394
  let v19396 : BitVec 32 := Scalar.remsi v19381 c128_i32_7631
  let c0_i32_7636 : BitVec 32 := 0#32
  let v19397 : BitVec 1 := Scalar.cmpi .ne v19396 c0_i32_7636
  let v19398 : BitVec 1 := Scalar.andi v19395 v19397
  let v19384 : BitVec 32 := Scalar.divsi v19381 c128_i32_7631
  let c1_i32_7637 : BitVec 32 := 1#32
  let v19399 : BitVec 32 := Scalar.subi v19384 c1_i32_7637
  let v19400 : BitVec 32 := Scalar.select v19398 v19399 v19384
  let c128_i32_7638 : BitVec 32 := 128#32
  let v19401 : BitVec 32 := Scalar.muli v19400 c128_i32_7638
  v19401

def k1_off1062 (v19379 : BitVec 32) (v19381 : BitVec 32) : Fin 3 → Nat :=
  let v19404 : Index := Scalar.indexCast v19379
  let c0_7639 : Index := 0#32
  let c0_i32_7632 : BitVec 32 := 0#32
  let v19385 : BitVec 1 := Scalar.cmpi .sgt v19381 c0_i32_7632
  let v19386 : BitVec 32 := Scalar.extui v19385
  let c0_i32_7633 : BitVec 32 := 0#32
  let v19387 : BitVec 1 := Scalar.cmpi .slt v19381 c0_i32_7633
  let v19388 : BitVec 32 := Scalar.extui v19387
  let v19389 : BitVec 32 := Scalar.subi v19386 v19388
  let c128_i32_7631 : BitVec 32 := 128#32
  let c0_i32_7634 : BitVec 32 := 0#32
  let v19390 : BitVec 1 := Scalar.cmpi .sgt c128_i32_7631 c0_i32_7634
  let v19391 : BitVec 32 := Scalar.extui v19390
  let c0_i32_7635 : BitVec 32 := 0#32
  let v19392 : BitVec 1 := Scalar.cmpi .slt c128_i32_7631 c0_i32_7635
  let v19393 : BitVec 32 := Scalar.extui v19392
  let v19394 : BitVec 32 := Scalar.subi v19391 v19393
  let v19395 : BitVec 1 := Scalar.cmpi .ne v19389 v19394
  let v19396 : BitVec 32 := Scalar.remsi v19381 c128_i32_7631
  let c0_i32_7636 : BitVec 32 := 0#32
  let v19397 : BitVec 1 := Scalar.cmpi .ne v19396 c0_i32_7636
  let v19398 : BitVec 1 := Scalar.andi v19395 v19397
  let v19384 : BitVec 32 := Scalar.divsi v19381 c128_i32_7631
  let c1_i32_7637 : BitVec 32 := 1#32
  let v19399 : BitVec 32 := Scalar.subi v19384 c1_i32_7637
  let v19400 : BitVec 32 := Scalar.select v19398 v19399 v19384
  let c128_i32_7638 : BitVec 32 := 128#32
  let v19401 : BitVec 32 := Scalar.muli v19400 c128_i32_7638
  let v19402 : BitVec 32 := v19401
  let v19405 : Index := Scalar.indexCast v19402
  ![v19404.toNat, 0, v19405.toNat]

def k1_chk340 (v19379 : BitVec 32) (v19381 : BitVec 32) : Prop :=
  (128 ∣ (k1_mult340 v19381).toNat) ∧
  (∀ a, (k1_off1062 v19379 v19381) a + S1x16x512.size a ≤ S384x16x1152.size a)
theorem k1_mult340_dvd : ∀ (v19379 : BitVec 32) (v19381 : BitVec 32) (k1_hw340 : k1_chk340 v19379 v19381), 128 ∣ (k1_mult340 v19381).toNat := fun v19379 v19381 k1_hw340 => k1_hw340.1
theorem k1_off1062_inb : ∀ (v19379 : BitVec 32) (v19381 : BitVec 32) (k1_hw340 : k1_chk340 v19379 v19381), ∀ a, (k1_off1062 v19379 v19381) a + S1x16x512.size a ≤ S384x16x1152.size a := fun v19379 v19381 k1_hw340 => k1_hw340.2

def k1_off1063 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19415 : Index := Scalar.indexCast v19198
  let c3_7642 : Index := 3#32
  ![v19415.toNat, 3]
def k1_off1064 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19431 : Index := Scalar.indexCast v19198
  let c4_7648 : Index := 4#32
  ![v19431.toNat, 4]
def k1_mult341 (v19434 : BitVec 32) : BitVec 32 :=
  let c0_i32_7652 : BitVec 32 := 0#32
  let v19438 : BitVec 1 := Scalar.cmpi .sgt v19434 c0_i32_7652
  let v19439 : BitVec 32 := Scalar.extui v19438
  let c0_i32_7653 : BitVec 32 := 0#32
  let v19440 : BitVec 1 := Scalar.cmpi .slt v19434 c0_i32_7653
  let v19441 : BitVec 32 := Scalar.extui v19440
  let v19442 : BitVec 32 := Scalar.subi v19439 v19441
  let c128_i32_7651 : BitVec 32 := 128#32
  let c0_i32_7654 : BitVec 32 := 0#32
  let v19443 : BitVec 1 := Scalar.cmpi .sgt c128_i32_7651 c0_i32_7654
  let v19444 : BitVec 32 := Scalar.extui v19443
  let c0_i32_7655 : BitVec 32 := 0#32
  let v19445 : BitVec 1 := Scalar.cmpi .slt c128_i32_7651 c0_i32_7655
  let v19446 : BitVec 32 := Scalar.extui v19445
  let v19447 : BitVec 32 := Scalar.subi v19444 v19446
  let v19448 : BitVec 1 := Scalar.cmpi .ne v19442 v19447
  let v19449 : BitVec 32 := Scalar.remsi v19434 c128_i32_7651
  let c0_i32_7656 : BitVec 32 := 0#32
  let v19450 : BitVec 1 := Scalar.cmpi .ne v19449 c0_i32_7656
  let v19451 : BitVec 1 := Scalar.andi v19448 v19450
  let v19437 : BitVec 32 := Scalar.divsi v19434 c128_i32_7651
  let c1_i32_7657 : BitVec 32 := 1#32
  let v19452 : BitVec 32 := Scalar.subi v19437 c1_i32_7657
  let v19453 : BitVec 32 := Scalar.select v19451 v19452 v19437
  let c128_i32_7658 : BitVec 32 := 128#32
  let v19454 : BitVec 32 := Scalar.muli v19453 c128_i32_7658
  v19454

def k1_off1065 (v19432 : BitVec 32) (v19434 : BitVec 32) : Fin 3 → Nat :=
  let v19457 : Index := Scalar.indexCast v19432
  let c0_7659 : Index := 0#32
  let c0_i32_7652 : BitVec 32 := 0#32
  let v19438 : BitVec 1 := Scalar.cmpi .sgt v19434 c0_i32_7652
  let v19439 : BitVec 32 := Scalar.extui v19438
  let c0_i32_7653 : BitVec 32 := 0#32
  let v19440 : BitVec 1 := Scalar.cmpi .slt v19434 c0_i32_7653
  let v19441 : BitVec 32 := Scalar.extui v19440
  let v19442 : BitVec 32 := Scalar.subi v19439 v19441
  let c128_i32_7651 : BitVec 32 := 128#32
  let c0_i32_7654 : BitVec 32 := 0#32
  let v19443 : BitVec 1 := Scalar.cmpi .sgt c128_i32_7651 c0_i32_7654
  let v19444 : BitVec 32 := Scalar.extui v19443
  let c0_i32_7655 : BitVec 32 := 0#32
  let v19445 : BitVec 1 := Scalar.cmpi .slt c128_i32_7651 c0_i32_7655
  let v19446 : BitVec 32 := Scalar.extui v19445
  let v19447 : BitVec 32 := Scalar.subi v19444 v19446
  let v19448 : BitVec 1 := Scalar.cmpi .ne v19442 v19447
  let v19449 : BitVec 32 := Scalar.remsi v19434 c128_i32_7651
  let c0_i32_7656 : BitVec 32 := 0#32
  let v19450 : BitVec 1 := Scalar.cmpi .ne v19449 c0_i32_7656
  let v19451 : BitVec 1 := Scalar.andi v19448 v19450
  let v19437 : BitVec 32 := Scalar.divsi v19434 c128_i32_7651
  let c1_i32_7657 : BitVec 32 := 1#32
  let v19452 : BitVec 32 := Scalar.subi v19437 c1_i32_7657
  let v19453 : BitVec 32 := Scalar.select v19451 v19452 v19437
  let c128_i32_7658 : BitVec 32 := 128#32
  let v19454 : BitVec 32 := Scalar.muli v19453 c128_i32_7658
  let v19455 : BitVec 32 := v19454
  let v19458 : Index := Scalar.indexCast v19455
  ![v19457.toNat, 0, v19458.toNat]

def k1_chk341 (v19432 : BitVec 32) (v19434 : BitVec 32) : Prop :=
  (128 ∣ (k1_mult341 v19434).toNat) ∧
  (∀ a, (k1_off1065 v19432 v19434) a + S1x16x512.size a ≤ S384x16x1152.size a)
theorem k1_mult341_dvd : ∀ (v19432 : BitVec 32) (v19434 : BitVec 32) (k1_hw341 : k1_chk341 v19432 v19434), 128 ∣ (k1_mult341 v19434).toNat := fun v19432 v19434 k1_hw341 => k1_hw341.1
theorem k1_off1065_inb : ∀ (v19432 : BitVec 32) (v19434 : BitVec 32) (k1_hw341 : k1_chk341 v19432 v19434), ∀ a, (k1_off1065 v19432 v19434) a + S1x16x512.size a ≤ S384x16x1152.size a := fun v19432 v19434 k1_hw341 => k1_hw341.2

def k1_off1066 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19468 : Index := Scalar.indexCast v19198
  let c4_7662 : Index := 4#32
  ![v19468.toNat, 4]
def k1_off1067 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19484 : Index := Scalar.indexCast v19198
  let c5_7668 : Index := 5#32
  ![v19484.toNat, 5]
def k1_mult342 (v19487 : BitVec 32) : BitVec 32 :=
  let c0_i32_7672 : BitVec 32 := 0#32
  let v19491 : BitVec 1 := Scalar.cmpi .sgt v19487 c0_i32_7672
  let v19492 : BitVec 32 := Scalar.extui v19491
  let c0_i32_7673 : BitVec 32 := 0#32
  let v19493 : BitVec 1 := Scalar.cmpi .slt v19487 c0_i32_7673
  let v19494 : BitVec 32 := Scalar.extui v19493
  let v19495 : BitVec 32 := Scalar.subi v19492 v19494
  let c128_i32_7671 : BitVec 32 := 128#32
  let c0_i32_7674 : BitVec 32 := 0#32
  let v19496 : BitVec 1 := Scalar.cmpi .sgt c128_i32_7671 c0_i32_7674
  let v19497 : BitVec 32 := Scalar.extui v19496
  let c0_i32_7675 : BitVec 32 := 0#32
  let v19498 : BitVec 1 := Scalar.cmpi .slt c128_i32_7671 c0_i32_7675
  let v19499 : BitVec 32 := Scalar.extui v19498
  let v19500 : BitVec 32 := Scalar.subi v19497 v19499
  let v19501 : BitVec 1 := Scalar.cmpi .ne v19495 v19500
  let v19502 : BitVec 32 := Scalar.remsi v19487 c128_i32_7671
  let c0_i32_7676 : BitVec 32 := 0#32
  let v19503 : BitVec 1 := Scalar.cmpi .ne v19502 c0_i32_7676
  let v19504 : BitVec 1 := Scalar.andi v19501 v19503
  let v19490 : BitVec 32 := Scalar.divsi v19487 c128_i32_7671
  let c1_i32_7677 : BitVec 32 := 1#32
  let v19505 : BitVec 32 := Scalar.subi v19490 c1_i32_7677
  let v19506 : BitVec 32 := Scalar.select v19504 v19505 v19490
  let c128_i32_7678 : BitVec 32 := 128#32
  let v19507 : BitVec 32 := Scalar.muli v19506 c128_i32_7678
  v19507

def k1_off1068 (v19485 : BitVec 32) (v19487 : BitVec 32) : Fin 3 → Nat :=
  let v19510 : Index := Scalar.indexCast v19485
  let c0_7679 : Index := 0#32
  let c0_i32_7672 : BitVec 32 := 0#32
  let v19491 : BitVec 1 := Scalar.cmpi .sgt v19487 c0_i32_7672
  let v19492 : BitVec 32 := Scalar.extui v19491
  let c0_i32_7673 : BitVec 32 := 0#32
  let v19493 : BitVec 1 := Scalar.cmpi .slt v19487 c0_i32_7673
  let v19494 : BitVec 32 := Scalar.extui v19493
  let v19495 : BitVec 32 := Scalar.subi v19492 v19494
  let c128_i32_7671 : BitVec 32 := 128#32
  let c0_i32_7674 : BitVec 32 := 0#32
  let v19496 : BitVec 1 := Scalar.cmpi .sgt c128_i32_7671 c0_i32_7674
  let v19497 : BitVec 32 := Scalar.extui v19496
  let c0_i32_7675 : BitVec 32 := 0#32
  let v19498 : BitVec 1 := Scalar.cmpi .slt c128_i32_7671 c0_i32_7675
  let v19499 : BitVec 32 := Scalar.extui v19498
  let v19500 : BitVec 32 := Scalar.subi v19497 v19499
  let v19501 : BitVec 1 := Scalar.cmpi .ne v19495 v19500
  let v19502 : BitVec 32 := Scalar.remsi v19487 c128_i32_7671
  let c0_i32_7676 : BitVec 32 := 0#32
  let v19503 : BitVec 1 := Scalar.cmpi .ne v19502 c0_i32_7676
  let v19504 : BitVec 1 := Scalar.andi v19501 v19503
  let v19490 : BitVec 32 := Scalar.divsi v19487 c128_i32_7671
  let c1_i32_7677 : BitVec 32 := 1#32
  let v19505 : BitVec 32 := Scalar.subi v19490 c1_i32_7677
  let v19506 : BitVec 32 := Scalar.select v19504 v19505 v19490
  let c128_i32_7678 : BitVec 32 := 128#32
  let v19507 : BitVec 32 := Scalar.muli v19506 c128_i32_7678
  let v19508 : BitVec 32 := v19507
  let v19511 : Index := Scalar.indexCast v19508
  ![v19510.toNat, 0, v19511.toNat]

def k1_chk342 (v19485 : BitVec 32) (v19487 : BitVec 32) : Prop :=
  (128 ∣ (k1_mult342 v19487).toNat) ∧
  (∀ a, (k1_off1068 v19485 v19487) a + S1x16x512.size a ≤ S384x16x1152.size a)
theorem k1_mult342_dvd : ∀ (v19485 : BitVec 32) (v19487 : BitVec 32) (k1_hw342 : k1_chk342 v19485 v19487), 128 ∣ (k1_mult342 v19487).toNat := fun v19485 v19487 k1_hw342 => k1_hw342.1
theorem k1_off1068_inb : ∀ (v19485 : BitVec 32) (v19487 : BitVec 32) (k1_hw342 : k1_chk342 v19485 v19487), ∀ a, (k1_off1068 v19485 v19487) a + S1x16x512.size a ≤ S384x16x1152.size a := fun v19485 v19487 k1_hw342 => k1_hw342.2

def k1_off1069 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19521 : Index := Scalar.indexCast v19198
  let c5_7682 : Index := 5#32
  ![v19521.toNat, 5]
def k1_off1070 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19537 : Index := Scalar.indexCast v19198
  let c6_7688 : Index := 6#32
  ![v19537.toNat, 6]
def k1_mult343 (v19540 : BitVec 32) : BitVec 32 :=
  let c0_i32_7692 : BitVec 32 := 0#32
  let v19544 : BitVec 1 := Scalar.cmpi .sgt v19540 c0_i32_7692
  let v19545 : BitVec 32 := Scalar.extui v19544
  let c0_i32_7693 : BitVec 32 := 0#32
  let v19546 : BitVec 1 := Scalar.cmpi .slt v19540 c0_i32_7693
  let v19547 : BitVec 32 := Scalar.extui v19546
  let v19548 : BitVec 32 := Scalar.subi v19545 v19547
  let c128_i32_7691 : BitVec 32 := 128#32
  let c0_i32_7694 : BitVec 32 := 0#32
  let v19549 : BitVec 1 := Scalar.cmpi .sgt c128_i32_7691 c0_i32_7694
  let v19550 : BitVec 32 := Scalar.extui v19549
  let c0_i32_7695 : BitVec 32 := 0#32
  let v19551 : BitVec 1 := Scalar.cmpi .slt c128_i32_7691 c0_i32_7695
  let v19552 : BitVec 32 := Scalar.extui v19551
  let v19553 : BitVec 32 := Scalar.subi v19550 v19552
  let v19554 : BitVec 1 := Scalar.cmpi .ne v19548 v19553
  let v19555 : BitVec 32 := Scalar.remsi v19540 c128_i32_7691
  let c0_i32_7696 : BitVec 32 := 0#32
  let v19556 : BitVec 1 := Scalar.cmpi .ne v19555 c0_i32_7696
  let v19557 : BitVec 1 := Scalar.andi v19554 v19556
  let v19543 : BitVec 32 := Scalar.divsi v19540 c128_i32_7691
  let c1_i32_7697 : BitVec 32 := 1#32
  let v19558 : BitVec 32 := Scalar.subi v19543 c1_i32_7697
  let v19559 : BitVec 32 := Scalar.select v19557 v19558 v19543
  let c128_i32_7698 : BitVec 32 := 128#32
  let v19560 : BitVec 32 := Scalar.muli v19559 c128_i32_7698
  v19560

def k1_off1071 (v19538 : BitVec 32) (v19540 : BitVec 32) : Fin 3 → Nat :=
  let v19563 : Index := Scalar.indexCast v19538
  let c0_7699 : Index := 0#32
  let c0_i32_7692 : BitVec 32 := 0#32
  let v19544 : BitVec 1 := Scalar.cmpi .sgt v19540 c0_i32_7692
  let v19545 : BitVec 32 := Scalar.extui v19544
  let c0_i32_7693 : BitVec 32 := 0#32
  let v19546 : BitVec 1 := Scalar.cmpi .slt v19540 c0_i32_7693
  let v19547 : BitVec 32 := Scalar.extui v19546
  let v19548 : BitVec 32 := Scalar.subi v19545 v19547
  let c128_i32_7691 : BitVec 32 := 128#32
  let c0_i32_7694 : BitVec 32 := 0#32
  let v19549 : BitVec 1 := Scalar.cmpi .sgt c128_i32_7691 c0_i32_7694
  let v19550 : BitVec 32 := Scalar.extui v19549
  let c0_i32_7695 : BitVec 32 := 0#32
  let v19551 : BitVec 1 := Scalar.cmpi .slt c128_i32_7691 c0_i32_7695
  let v19552 : BitVec 32 := Scalar.extui v19551
  let v19553 : BitVec 32 := Scalar.subi v19550 v19552
  let v19554 : BitVec 1 := Scalar.cmpi .ne v19548 v19553
  let v19555 : BitVec 32 := Scalar.remsi v19540 c128_i32_7691
  let c0_i32_7696 : BitVec 32 := 0#32
  let v19556 : BitVec 1 := Scalar.cmpi .ne v19555 c0_i32_7696
  let v19557 : BitVec 1 := Scalar.andi v19554 v19556
  let v19543 : BitVec 32 := Scalar.divsi v19540 c128_i32_7691
  let c1_i32_7697 : BitVec 32 := 1#32
  let v19558 : BitVec 32 := Scalar.subi v19543 c1_i32_7697
  let v19559 : BitVec 32 := Scalar.select v19557 v19558 v19543
  let c128_i32_7698 : BitVec 32 := 128#32
  let v19560 : BitVec 32 := Scalar.muli v19559 c128_i32_7698
  let v19561 : BitVec 32 := v19560
  let v19564 : Index := Scalar.indexCast v19561
  ![v19563.toNat, 0, v19564.toNat]

def k1_chk343 (v19538 : BitVec 32) (v19540 : BitVec 32) : Prop :=
  (128 ∣ (k1_mult343 v19540).toNat) ∧
  (∀ a, (k1_off1071 v19538 v19540) a + S1x16x512.size a ≤ S384x16x1152.size a)
theorem k1_mult343_dvd : ∀ (v19538 : BitVec 32) (v19540 : BitVec 32) (k1_hw343 : k1_chk343 v19538 v19540), 128 ∣ (k1_mult343 v19540).toNat := fun v19538 v19540 k1_hw343 => k1_hw343.1
theorem k1_off1071_inb : ∀ (v19538 : BitVec 32) (v19540 : BitVec 32) (k1_hw343 : k1_chk343 v19538 v19540), ∀ a, (k1_off1071 v19538 v19540) a + S1x16x512.size a ≤ S384x16x1152.size a := fun v19538 v19540 k1_hw343 => k1_hw343.2

def k1_off1072 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19574 : Index := Scalar.indexCast v19198
  let c6_7702 : Index := 6#32
  ![v19574.toNat, 6]
def k1_off1073 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19590 : Index := Scalar.indexCast v19198
  let c7_7708 : Index := 7#32
  ![v19590.toNat, 7]
def k1_mult344 (v19593 : BitVec 32) : BitVec 32 :=
  let c0_i32_7712 : BitVec 32 := 0#32
  let v19597 : BitVec 1 := Scalar.cmpi .sgt v19593 c0_i32_7712
  let v19598 : BitVec 32 := Scalar.extui v19597
  let c0_i32_7713 : BitVec 32 := 0#32
  let v19599 : BitVec 1 := Scalar.cmpi .slt v19593 c0_i32_7713
  let v19600 : BitVec 32 := Scalar.extui v19599
  let v19601 : BitVec 32 := Scalar.subi v19598 v19600
  let c128_i32_7711 : BitVec 32 := 128#32
  let c0_i32_7714 : BitVec 32 := 0#32
  let v19602 : BitVec 1 := Scalar.cmpi .sgt c128_i32_7711 c0_i32_7714
  let v19603 : BitVec 32 := Scalar.extui v19602
  let c0_i32_7715 : BitVec 32 := 0#32
  let v19604 : BitVec 1 := Scalar.cmpi .slt c128_i32_7711 c0_i32_7715
  let v19605 : BitVec 32 := Scalar.extui v19604
  let v19606 : BitVec 32 := Scalar.subi v19603 v19605
  let v19607 : BitVec 1 := Scalar.cmpi .ne v19601 v19606
  let v19608 : BitVec 32 := Scalar.remsi v19593 c128_i32_7711
  let c0_i32_7716 : BitVec 32 := 0#32
  let v19609 : BitVec 1 := Scalar.cmpi .ne v19608 c0_i32_7716
  let v19610 : BitVec 1 := Scalar.andi v19607 v19609
  let v19596 : BitVec 32 := Scalar.divsi v19593 c128_i32_7711
  let c1_i32_7717 : BitVec 32 := 1#32
  let v19611 : BitVec 32 := Scalar.subi v19596 c1_i32_7717
  let v19612 : BitVec 32 := Scalar.select v19610 v19611 v19596
  let c128_i32_7718 : BitVec 32 := 128#32
  let v19613 : BitVec 32 := Scalar.muli v19612 c128_i32_7718
  v19613

def k1_off1074 (v19591 : BitVec 32) (v19593 : BitVec 32) : Fin 3 → Nat :=
  let v19616 : Index := Scalar.indexCast v19591
  let c0_7719 : Index := 0#32
  let c0_i32_7712 : BitVec 32 := 0#32
  let v19597 : BitVec 1 := Scalar.cmpi .sgt v19593 c0_i32_7712
  let v19598 : BitVec 32 := Scalar.extui v19597
  let c0_i32_7713 : BitVec 32 := 0#32
  let v19599 : BitVec 1 := Scalar.cmpi .slt v19593 c0_i32_7713
  let v19600 : BitVec 32 := Scalar.extui v19599
  let v19601 : BitVec 32 := Scalar.subi v19598 v19600
  let c128_i32_7711 : BitVec 32 := 128#32
  let c0_i32_7714 : BitVec 32 := 0#32
  let v19602 : BitVec 1 := Scalar.cmpi .sgt c128_i32_7711 c0_i32_7714
  let v19603 : BitVec 32 := Scalar.extui v19602
  let c0_i32_7715 : BitVec 32 := 0#32
  let v19604 : BitVec 1 := Scalar.cmpi .slt c128_i32_7711 c0_i32_7715
  let v19605 : BitVec 32 := Scalar.extui v19604
  let v19606 : BitVec 32 := Scalar.subi v19603 v19605
  let v19607 : BitVec 1 := Scalar.cmpi .ne v19601 v19606
  let v19608 : BitVec 32 := Scalar.remsi v19593 c128_i32_7711
  let c0_i32_7716 : BitVec 32 := 0#32
  let v19609 : BitVec 1 := Scalar.cmpi .ne v19608 c0_i32_7716
  let v19610 : BitVec 1 := Scalar.andi v19607 v19609
  let v19596 : BitVec 32 := Scalar.divsi v19593 c128_i32_7711
  let c1_i32_7717 : BitVec 32 := 1#32
  let v19611 : BitVec 32 := Scalar.subi v19596 c1_i32_7717
  let v19612 : BitVec 32 := Scalar.select v19610 v19611 v19596
  let c128_i32_7718 : BitVec 32 := 128#32
  let v19613 : BitVec 32 := Scalar.muli v19612 c128_i32_7718
  let v19614 : BitVec 32 := v19613
  let v19617 : Index := Scalar.indexCast v19614
  ![v19616.toNat, 0, v19617.toNat]

def k1_chk344 (v19591 : BitVec 32) (v19593 : BitVec 32) : Prop :=
  (128 ∣ (k1_mult344 v19593).toNat) ∧
  (∀ a, (k1_off1074 v19591 v19593) a + S1x16x512.size a ≤ S384x16x1152.size a)
theorem k1_mult344_dvd : ∀ (v19591 : BitVec 32) (v19593 : BitVec 32) (k1_hw344 : k1_chk344 v19591 v19593), 128 ∣ (k1_mult344 v19593).toNat := fun v19591 v19593 k1_hw344 => k1_hw344.1
theorem k1_off1074_inb : ∀ (v19591 : BitVec 32) (v19593 : BitVec 32) (k1_hw344 : k1_chk344 v19591 v19593), ∀ a, (k1_off1074 v19591 v19593) a + S1x16x512.size a ≤ S384x16x1152.size a := fun v19591 v19593 k1_hw344 => k1_hw344.2

def k1_off1075 (i : grid1.Coords) : Fin 2 → Nat :=
  let arg0 : BitVec 32 := BitVec.ofNat 32 (i 0).val
  let c48_i32_7557 : BitVec 32 := 48#32
  let v19197 : BitVec 32 := Scalar.muli arg0 c48_i32_7557
  let c42_i32 : BitVec 32 := 42#32
  let v19198 : BitVec 32 := Scalar.addi v19197 c42_i32
  let v19627 : Index := Scalar.indexCast v19198
  let c7_7722 : Index := 7#32
  ![v19627.toNat, 7]
def k1_off1076 (i : grid1.Coords) : Fin 3 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19656 : Index := Scalar.indexCast v19655
  let c0_7738 : Index := 0#32
  let c720_7739 : Index := 720#32
  ![v19656.toNat, 0, 720]
def k1_off1077 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19676 : Index := Scalar.indexCast v19655
  let c0_7748 : Index := 0#32
  ![v19676.toNat, 0]
def k1_mult345 (v19679 : BitVec 32) : BitVec 32 :=
  let c0_i32_7752 : BitVec 32 := 0#32
  let v19683 : BitVec 1 := Scalar.cmpi .sgt v19679 c0_i32_7752
  let v19684 : BitVec 32 := Scalar.extui v19683
  let c0_i32_7753 : BitVec 32 := 0#32
  let v19685 : BitVec 1 := Scalar.cmpi .slt v19679 c0_i32_7753
  let v19686 : BitVec 32 := Scalar.extui v19685
  let v19687 : BitVec 32 := Scalar.subi v19684 v19686
  let c128_i32_7751 : BitVec 32 := 128#32
  let c0_i32_7754 : BitVec 32 := 0#32
  let v19688 : BitVec 1 := Scalar.cmpi .sgt c128_i32_7751 c0_i32_7754
  let v19689 : BitVec 32 := Scalar.extui v19688
  let c0_i32_7755 : BitVec 32 := 0#32
  let v19690 : BitVec 1 := Scalar.cmpi .slt c128_i32_7751 c0_i32_7755
  let v19691 : BitVec 32 := Scalar.extui v19690
  let v19692 : BitVec 32 := Scalar.subi v19689 v19691
  let v19693 : BitVec 1 := Scalar.cmpi .ne v19687 v19692
  let v19694 : BitVec 32 := Scalar.remsi v19679 c128_i32_7751
  let c0_i32_7756 : BitVec 32 := 0#32
  let v19695 : BitVec 1 := Scalar.cmpi .ne v19694 c0_i32_7756
  let v19696 : BitVec 1 := Scalar.andi v19693 v19695
  let v19682 : BitVec 32 := Scalar.divsi v19679 c128_i32_7751
  let c1_i32_7757 : BitVec 32 := 1#32
  let v19697 : BitVec 32 := Scalar.subi v19682 c1_i32_7757
  let v19698 : BitVec 32 := Scalar.select v19696 v19697 v19682
  let c128_i32_7758 : BitVec 32 := 128#32
  let v19699 : BitVec 32 := Scalar.muli v19698 c128_i32_7758
  v19699

def k1_off1078 (v19677 : BitVec 32) (v19679 : BitVec 32) : Fin 3 → Nat :=
  let v19702 : Index := Scalar.indexCast v19677
  let c0_7759 : Index := 0#32
  let c0_i32_7752 : BitVec 32 := 0#32
  let v19683 : BitVec 1 := Scalar.cmpi .sgt v19679 c0_i32_7752
  let v19684 : BitVec 32 := Scalar.extui v19683
  let c0_i32_7753 : BitVec 32 := 0#32
  let v19685 : BitVec 1 := Scalar.cmpi .slt v19679 c0_i32_7753
  let v19686 : BitVec 32 := Scalar.extui v19685
  let v19687 : BitVec 32 := Scalar.subi v19684 v19686
  let c128_i32_7751 : BitVec 32 := 128#32
  let c0_i32_7754 : BitVec 32 := 0#32
  let v19688 : BitVec 1 := Scalar.cmpi .sgt c128_i32_7751 c0_i32_7754
  let v19689 : BitVec 32 := Scalar.extui v19688
  let c0_i32_7755 : BitVec 32 := 0#32
  let v19690 : BitVec 1 := Scalar.cmpi .slt c128_i32_7751 c0_i32_7755
  let v19691 : BitVec 32 := Scalar.extui v19690
  let v19692 : BitVec 32 := Scalar.subi v19689 v19691
  let v19693 : BitVec 1 := Scalar.cmpi .ne v19687 v19692
  let v19694 : BitVec 32 := Scalar.remsi v19679 c128_i32_7751
  let c0_i32_7756 : BitVec 32 := 0#32
  let v19695 : BitVec 1 := Scalar.cmpi .ne v19694 c0_i32_7756
  let v19696 : BitVec 1 := Scalar.andi v19693 v19695
  let v19682 : BitVec 32 := Scalar.divsi v19679 c128_i32_7751
  let c1_i32_7757 : BitVec 32 := 1#32
  let v19697 : BitVec 32 := Scalar.subi v19682 c1_i32_7757
  let v19698 : BitVec 32 := Scalar.select v19696 v19697 v19682
  let c128_i32_7758 : BitVec 32 := 128#32
  let v19699 : BitVec 32 := Scalar.muli v19698 c128_i32_7758
  let v19700 : BitVec 32 := v19699
  let v19703 : Index := Scalar.indexCast v19700
  ![v19702.toNat, 0, v19703.toNat]

variable {F : FTy → Type} [FloatOps F]

def k1_chk345 (v19677 : BitVec 32) (v19679 : BitVec 32) : Prop :=
  (128 ∣ (k1_mult345 v19679).toNat) ∧
  (∀ a, (k1_off1078 v19677 v19679) a + S1x16x512.size a ≤ S384x16x1152.size a)
theorem k1_mult345_dvd : ∀ (v19677 : BitVec 32) (v19679 : BitVec 32) (k1_hw345 : k1_chk345 v19677 v19679), 128 ∣ (k1_mult345 v19679).toNat := fun v19677 v19679 k1_hw345 => k1_hw345.1
theorem k1_off1078_inb : ∀ (v19677 : BitVec 32) (v19679 : BitVec 32) (k1_hw345 : k1_chk345 v19677 v19679), ∀ a, (k1_off1078 v19677 v19679) a + S1x16x512.size a ≤ S384x16x1152.size a := fun v19677 v19679 k1_hw345 => k1_hw345.2

def k1_off1079 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19713 : Index := Scalar.indexCast v19655
  let c0_7762 : Index := 0#32
  ![v19713.toNat, 0]
def k1_off1080 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19729 : Index := Scalar.indexCast v19655
  let c1_7768 : Index := 1#32
  ![v19729.toNat, 1]
def k1_mult346 (v19732 : BitVec 32) : BitVec 32 :=
  let c0_i32_7772 : BitVec 32 := 0#32
  let v19736 : BitVec 1 := Scalar.cmpi .sgt v19732 c0_i32_7772
  let v19737 : BitVec 32 := Scalar.extui v19736
  let c0_i32_7773 : BitVec 32 := 0#32
  let v19738 : BitVec 1 := Scalar.cmpi .slt v19732 c0_i32_7773
  let v19739 : BitVec 32 := Scalar.extui v19738
  let v19740 : BitVec 32 := Scalar.subi v19737 v19739
  let c128_i32_7771 : BitVec 32 := 128#32
  let c0_i32_7774 : BitVec 32 := 0#32
  let v19741 : BitVec 1 := Scalar.cmpi .sgt c128_i32_7771 c0_i32_7774
  let v19742 : BitVec 32 := Scalar.extui v19741
  let c0_i32_7775 : BitVec 32 := 0#32
  let v19743 : BitVec 1 := Scalar.cmpi .slt c128_i32_7771 c0_i32_7775
  let v19744 : BitVec 32 := Scalar.extui v19743
  let v19745 : BitVec 32 := Scalar.subi v19742 v19744
  let v19746 : BitVec 1 := Scalar.cmpi .ne v19740 v19745
  let v19747 : BitVec 32 := Scalar.remsi v19732 c128_i32_7771
  let c0_i32_7776 : BitVec 32 := 0#32
  let v19748 : BitVec 1 := Scalar.cmpi .ne v19747 c0_i32_7776
  let v19749 : BitVec 1 := Scalar.andi v19746 v19748
  let v19735 : BitVec 32 := Scalar.divsi v19732 c128_i32_7771
  let c1_i32_7777 : BitVec 32 := 1#32
  let v19750 : BitVec 32 := Scalar.subi v19735 c1_i32_7777
  let v19751 : BitVec 32 := Scalar.select v19749 v19750 v19735
  let c128_i32_7778 : BitVec 32 := 128#32
  let v19752 : BitVec 32 := Scalar.muli v19751 c128_i32_7778
  v19752

def k1_off1081 (v19730 : BitVec 32) (v19732 : BitVec 32) : Fin 3 → Nat :=
  let v19755 : Index := Scalar.indexCast v19730
  let c0_7779 : Index := 0#32
  let c0_i32_7772 : BitVec 32 := 0#32
  let v19736 : BitVec 1 := Scalar.cmpi .sgt v19732 c0_i32_7772
  let v19737 : BitVec 32 := Scalar.extui v19736
  let c0_i32_7773 : BitVec 32 := 0#32
  let v19738 : BitVec 1 := Scalar.cmpi .slt v19732 c0_i32_7773
  let v19739 : BitVec 32 := Scalar.extui v19738
  let v19740 : BitVec 32 := Scalar.subi v19737 v19739
  let c128_i32_7771 : BitVec 32 := 128#32
  let c0_i32_7774 : BitVec 32 := 0#32
  let v19741 : BitVec 1 := Scalar.cmpi .sgt c128_i32_7771 c0_i32_7774
  let v19742 : BitVec 32 := Scalar.extui v19741
  let c0_i32_7775 : BitVec 32 := 0#32
  let v19743 : BitVec 1 := Scalar.cmpi .slt c128_i32_7771 c0_i32_7775
  let v19744 : BitVec 32 := Scalar.extui v19743
  let v19745 : BitVec 32 := Scalar.subi v19742 v19744
  let v19746 : BitVec 1 := Scalar.cmpi .ne v19740 v19745
  let v19747 : BitVec 32 := Scalar.remsi v19732 c128_i32_7771
  let c0_i32_7776 : BitVec 32 := 0#32
  let v19748 : BitVec 1 := Scalar.cmpi .ne v19747 c0_i32_7776
  let v19749 : BitVec 1 := Scalar.andi v19746 v19748
  let v19735 : BitVec 32 := Scalar.divsi v19732 c128_i32_7771
  let c1_i32_7777 : BitVec 32 := 1#32
  let v19750 : BitVec 32 := Scalar.subi v19735 c1_i32_7777
  let v19751 : BitVec 32 := Scalar.select v19749 v19750 v19735
  let c128_i32_7778 : BitVec 32 := 128#32
  let v19752 : BitVec 32 := Scalar.muli v19751 c128_i32_7778
  let v19753 : BitVec 32 := v19752
  let v19756 : Index := Scalar.indexCast v19753
  ![v19755.toNat, 0, v19756.toNat]

def k1_chk346 (v19730 : BitVec 32) (v19732 : BitVec 32) : Prop :=
  (128 ∣ (k1_mult346 v19732).toNat) ∧
  (∀ a, (k1_off1081 v19730 v19732) a + S1x16x512.size a ≤ S384x16x1152.size a)
theorem k1_mult346_dvd : ∀ (v19730 : BitVec 32) (v19732 : BitVec 32) (k1_hw346 : k1_chk346 v19730 v19732), 128 ∣ (k1_mult346 v19732).toNat := fun v19730 v19732 k1_hw346 => k1_hw346.1
theorem k1_off1081_inb : ∀ (v19730 : BitVec 32) (v19732 : BitVec 32) (k1_hw346 : k1_chk346 v19730 v19732), ∀ a, (k1_off1081 v19730 v19732) a + S1x16x512.size a ≤ S384x16x1152.size a := fun v19730 v19732 k1_hw346 => k1_hw346.2

def k1_off1082 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19766 : Index := Scalar.indexCast v19655
  let c1_7782 : Index := 1#32
  ![v19766.toNat, 1]
def k1_off1083 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19782 : Index := Scalar.indexCast v19655
  let c2_7788 : Index := 2#32
  ![v19782.toNat, 2]
def k1_mult347 (v19785 : BitVec 32) : BitVec 32 :=
  let c0_i32_7792 : BitVec 32 := 0#32
  let v19789 : BitVec 1 := Scalar.cmpi .sgt v19785 c0_i32_7792
  let v19790 : BitVec 32 := Scalar.extui v19789
  let c0_i32_7793 : BitVec 32 := 0#32
  let v19791 : BitVec 1 := Scalar.cmpi .slt v19785 c0_i32_7793
  let v19792 : BitVec 32 := Scalar.extui v19791
  let v19793 : BitVec 32 := Scalar.subi v19790 v19792
  let c128_i32_7791 : BitVec 32 := 128#32
  let c0_i32_7794 : BitVec 32 := 0#32
  let v19794 : BitVec 1 := Scalar.cmpi .sgt c128_i32_7791 c0_i32_7794
  let v19795 : BitVec 32 := Scalar.extui v19794
  let c0_i32_7795 : BitVec 32 := 0#32
  let v19796 : BitVec 1 := Scalar.cmpi .slt c128_i32_7791 c0_i32_7795
  let v19797 : BitVec 32 := Scalar.extui v19796
  let v19798 : BitVec 32 := Scalar.subi v19795 v19797
  let v19799 : BitVec 1 := Scalar.cmpi .ne v19793 v19798
  let v19800 : BitVec 32 := Scalar.remsi v19785 c128_i32_7791
  let c0_i32_7796 : BitVec 32 := 0#32
  let v19801 : BitVec 1 := Scalar.cmpi .ne v19800 c0_i32_7796
  let v19802 : BitVec 1 := Scalar.andi v19799 v19801
  let v19788 : BitVec 32 := Scalar.divsi v19785 c128_i32_7791
  let c1_i32_7797 : BitVec 32 := 1#32
  let v19803 : BitVec 32 := Scalar.subi v19788 c1_i32_7797
  let v19804 : BitVec 32 := Scalar.select v19802 v19803 v19788
  let c128_i32_7798 : BitVec 32 := 128#32
  let v19805 : BitVec 32 := Scalar.muli v19804 c128_i32_7798
  v19805

def k1_off1084 (v19783 : BitVec 32) (v19785 : BitVec 32) : Fin 3 → Nat :=
  let v19808 : Index := Scalar.indexCast v19783
  let c0_7799 : Index := 0#32
  let c0_i32_7792 : BitVec 32 := 0#32
  let v19789 : BitVec 1 := Scalar.cmpi .sgt v19785 c0_i32_7792
  let v19790 : BitVec 32 := Scalar.extui v19789
  let c0_i32_7793 : BitVec 32 := 0#32
  let v19791 : BitVec 1 := Scalar.cmpi .slt v19785 c0_i32_7793
  let v19792 : BitVec 32 := Scalar.extui v19791
  let v19793 : BitVec 32 := Scalar.subi v19790 v19792
  let c128_i32_7791 : BitVec 32 := 128#32
  let c0_i32_7794 : BitVec 32 := 0#32
  let v19794 : BitVec 1 := Scalar.cmpi .sgt c128_i32_7791 c0_i32_7794
  let v19795 : BitVec 32 := Scalar.extui v19794
  let c0_i32_7795 : BitVec 32 := 0#32
  let v19796 : BitVec 1 := Scalar.cmpi .slt c128_i32_7791 c0_i32_7795
  let v19797 : BitVec 32 := Scalar.extui v19796
  let v19798 : BitVec 32 := Scalar.subi v19795 v19797
  let v19799 : BitVec 1 := Scalar.cmpi .ne v19793 v19798
  let v19800 : BitVec 32 := Scalar.remsi v19785 c128_i32_7791
  let c0_i32_7796 : BitVec 32 := 0#32
  let v19801 : BitVec 1 := Scalar.cmpi .ne v19800 c0_i32_7796
  let v19802 : BitVec 1 := Scalar.andi v19799 v19801
  let v19788 : BitVec 32 := Scalar.divsi v19785 c128_i32_7791
  let c1_i32_7797 : BitVec 32 := 1#32
  let v19803 : BitVec 32 := Scalar.subi v19788 c1_i32_7797
  let v19804 : BitVec 32 := Scalar.select v19802 v19803 v19788
  let c128_i32_7798 : BitVec 32 := 128#32
  let v19805 : BitVec 32 := Scalar.muli v19804 c128_i32_7798
  let v19806 : BitVec 32 := v19805
  let v19809 : Index := Scalar.indexCast v19806
  ![v19808.toNat, 0, v19809.toNat]

def k1_chk347 (v19783 : BitVec 32) (v19785 : BitVec 32) : Prop :=
  (128 ∣ (k1_mult347 v19785).toNat) ∧
  (∀ a, (k1_off1084 v19783 v19785) a + S1x16x512.size a ≤ S384x16x1152.size a)
theorem k1_mult347_dvd : ∀ (v19783 : BitVec 32) (v19785 : BitVec 32) (k1_hw347 : k1_chk347 v19783 v19785), 128 ∣ (k1_mult347 v19785).toNat := fun v19783 v19785 k1_hw347 => k1_hw347.1
theorem k1_off1084_inb : ∀ (v19783 : BitVec 32) (v19785 : BitVec 32) (k1_hw347 : k1_chk347 v19783 v19785), ∀ a, (k1_off1084 v19783 v19785) a + S1x16x512.size a ≤ S384x16x1152.size a := fun v19783 v19785 k1_hw347 => k1_hw347.2

def k1_off1085 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19819 : Index := Scalar.indexCast v19655
  let c2_7802 : Index := 2#32
  ![v19819.toNat, 2]
def k1_off1086 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19835 : Index := Scalar.indexCast v19655
  let c3_7808 : Index := 3#32
  ![v19835.toNat, 3]
def k1_mult348 (v19838 : BitVec 32) : BitVec 32 :=
  let c0_i32_7812 : BitVec 32 := 0#32
  let v19842 : BitVec 1 := Scalar.cmpi .sgt v19838 c0_i32_7812
  let v19843 : BitVec 32 := Scalar.extui v19842
  let c0_i32_7813 : BitVec 32 := 0#32
  let v19844 : BitVec 1 := Scalar.cmpi .slt v19838 c0_i32_7813
  let v19845 : BitVec 32 := Scalar.extui v19844
  let v19846 : BitVec 32 := Scalar.subi v19843 v19845
  let c128_i32_7811 : BitVec 32 := 128#32
  let c0_i32_7814 : BitVec 32 := 0#32
  let v19847 : BitVec 1 := Scalar.cmpi .sgt c128_i32_7811 c0_i32_7814
  let v19848 : BitVec 32 := Scalar.extui v19847
  let c0_i32_7815 : BitVec 32 := 0#32
  let v19849 : BitVec 1 := Scalar.cmpi .slt c128_i32_7811 c0_i32_7815
  let v19850 : BitVec 32 := Scalar.extui v19849
  let v19851 : BitVec 32 := Scalar.subi v19848 v19850
  let v19852 : BitVec 1 := Scalar.cmpi .ne v19846 v19851
  let v19853 : BitVec 32 := Scalar.remsi v19838 c128_i32_7811
  let c0_i32_7816 : BitVec 32 := 0#32
  let v19854 : BitVec 1 := Scalar.cmpi .ne v19853 c0_i32_7816
  let v19855 : BitVec 1 := Scalar.andi v19852 v19854
  let v19841 : BitVec 32 := Scalar.divsi v19838 c128_i32_7811
  let c1_i32_7817 : BitVec 32 := 1#32
  let v19856 : BitVec 32 := Scalar.subi v19841 c1_i32_7817
  let v19857 : BitVec 32 := Scalar.select v19855 v19856 v19841
  let c128_i32_7818 : BitVec 32 := 128#32
  let v19858 : BitVec 32 := Scalar.muli v19857 c128_i32_7818
  v19858

def k1_off1087 (v19836 : BitVec 32) (v19838 : BitVec 32) : Fin 3 → Nat :=
  let v19861 : Index := Scalar.indexCast v19836
  let c0_7819 : Index := 0#32
  let c0_i32_7812 : BitVec 32 := 0#32
  let v19842 : BitVec 1 := Scalar.cmpi .sgt v19838 c0_i32_7812
  let v19843 : BitVec 32 := Scalar.extui v19842
  let c0_i32_7813 : BitVec 32 := 0#32
  let v19844 : BitVec 1 := Scalar.cmpi .slt v19838 c0_i32_7813
  let v19845 : BitVec 32 := Scalar.extui v19844
  let v19846 : BitVec 32 := Scalar.subi v19843 v19845
  let c128_i32_7811 : BitVec 32 := 128#32
  let c0_i32_7814 : BitVec 32 := 0#32
  let v19847 : BitVec 1 := Scalar.cmpi .sgt c128_i32_7811 c0_i32_7814
  let v19848 : BitVec 32 := Scalar.extui v19847
  let c0_i32_7815 : BitVec 32 := 0#32
  let v19849 : BitVec 1 := Scalar.cmpi .slt c128_i32_7811 c0_i32_7815
  let v19850 : BitVec 32 := Scalar.extui v19849
  let v19851 : BitVec 32 := Scalar.subi v19848 v19850
  let v19852 : BitVec 1 := Scalar.cmpi .ne v19846 v19851
  let v19853 : BitVec 32 := Scalar.remsi v19838 c128_i32_7811
  let c0_i32_7816 : BitVec 32 := 0#32
  let v19854 : BitVec 1 := Scalar.cmpi .ne v19853 c0_i32_7816
  let v19855 : BitVec 1 := Scalar.andi v19852 v19854
  let v19841 : BitVec 32 := Scalar.divsi v19838 c128_i32_7811
  let c1_i32_7817 : BitVec 32 := 1#32
  let v19856 : BitVec 32 := Scalar.subi v19841 c1_i32_7817
  let v19857 : BitVec 32 := Scalar.select v19855 v19856 v19841
  let c128_i32_7818 : BitVec 32 := 128#32
  let v19858 : BitVec 32 := Scalar.muli v19857 c128_i32_7818
  let v19859 : BitVec 32 := v19858
  let v19862 : Index := Scalar.indexCast v19859
  ![v19861.toNat, 0, v19862.toNat]

def k1_chk348 (v19836 : BitVec 32) (v19838 : BitVec 32) : Prop :=
  (128 ∣ (k1_mult348 v19838).toNat) ∧
  (∀ a, (k1_off1087 v19836 v19838) a + S1x16x512.size a ≤ S384x16x1152.size a)
theorem k1_mult348_dvd : ∀ (v19836 : BitVec 32) (v19838 : BitVec 32) (k1_hw348 : k1_chk348 v19836 v19838), 128 ∣ (k1_mult348 v19838).toNat := fun v19836 v19838 k1_hw348 => k1_hw348.1
theorem k1_off1087_inb : ∀ (v19836 : BitVec 32) (v19838 : BitVec 32) (k1_hw348 : k1_chk348 v19836 v19838), ∀ a, (k1_off1087 v19836 v19838) a + S1x16x512.size a ≤ S384x16x1152.size a := fun v19836 v19838 k1_hw348 => k1_hw348.2

def k1_off1088 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19872 : Index := Scalar.indexCast v19655
  let c3_7822 : Index := 3#32
  ![v19872.toNat, 3]
def k1_off1089 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19888 : Index := Scalar.indexCast v19655
  let c4_7828 : Index := 4#32
  ![v19888.toNat, 4]
def k1_mult349 (v19891 : BitVec 32) : BitVec 32 :=
  let c0_i32_7832 : BitVec 32 := 0#32
  let v19895 : BitVec 1 := Scalar.cmpi .sgt v19891 c0_i32_7832
  let v19896 : BitVec 32 := Scalar.extui v19895
  let c0_i32_7833 : BitVec 32 := 0#32
  let v19897 : BitVec 1 := Scalar.cmpi .slt v19891 c0_i32_7833
  let v19898 : BitVec 32 := Scalar.extui v19897
  let v19899 : BitVec 32 := Scalar.subi v19896 v19898
  let c128_i32_7831 : BitVec 32 := 128#32
  let c0_i32_7834 : BitVec 32 := 0#32
  let v19900 : BitVec 1 := Scalar.cmpi .sgt c128_i32_7831 c0_i32_7834
  let v19901 : BitVec 32 := Scalar.extui v19900
  let c0_i32_7835 : BitVec 32 := 0#32
  let v19902 : BitVec 1 := Scalar.cmpi .slt c128_i32_7831 c0_i32_7835
  let v19903 : BitVec 32 := Scalar.extui v19902
  let v19904 : BitVec 32 := Scalar.subi v19901 v19903
  let v19905 : BitVec 1 := Scalar.cmpi .ne v19899 v19904
  let v19906 : BitVec 32 := Scalar.remsi v19891 c128_i32_7831
  let c0_i32_7836 : BitVec 32 := 0#32
  let v19907 : BitVec 1 := Scalar.cmpi .ne v19906 c0_i32_7836
  let v19908 : BitVec 1 := Scalar.andi v19905 v19907
  let v19894 : BitVec 32 := Scalar.divsi v19891 c128_i32_7831
  let c1_i32_7837 : BitVec 32 := 1#32
  let v19909 : BitVec 32 := Scalar.subi v19894 c1_i32_7837
  let v19910 : BitVec 32 := Scalar.select v19908 v19909 v19894
  let c128_i32_7838 : BitVec 32 := 128#32
  let v19911 : BitVec 32 := Scalar.muli v19910 c128_i32_7838
  v19911

def k1_off1090 (v19889 : BitVec 32) (v19891 : BitVec 32) : Fin 3 → Nat :=
  let v19914 : Index := Scalar.indexCast v19889
  let c0_7839 : Index := 0#32
  let c0_i32_7832 : BitVec 32 := 0#32
  let v19895 : BitVec 1 := Scalar.cmpi .sgt v19891 c0_i32_7832
  let v19896 : BitVec 32 := Scalar.extui v19895
  let c0_i32_7833 : BitVec 32 := 0#32
  let v19897 : BitVec 1 := Scalar.cmpi .slt v19891 c0_i32_7833
  let v19898 : BitVec 32 := Scalar.extui v19897
  let v19899 : BitVec 32 := Scalar.subi v19896 v19898
  let c128_i32_7831 : BitVec 32 := 128#32
  let c0_i32_7834 : BitVec 32 := 0#32
  let v19900 : BitVec 1 := Scalar.cmpi .sgt c128_i32_7831 c0_i32_7834
  let v19901 : BitVec 32 := Scalar.extui v19900
  let c0_i32_7835 : BitVec 32 := 0#32
  let v19902 : BitVec 1 := Scalar.cmpi .slt c128_i32_7831 c0_i32_7835
  let v19903 : BitVec 32 := Scalar.extui v19902
  let v19904 : BitVec 32 := Scalar.subi v19901 v19903
  let v19905 : BitVec 1 := Scalar.cmpi .ne v19899 v19904
  let v19906 : BitVec 32 := Scalar.remsi v19891 c128_i32_7831
  let c0_i32_7836 : BitVec 32 := 0#32
  let v19907 : BitVec 1 := Scalar.cmpi .ne v19906 c0_i32_7836
  let v19908 : BitVec 1 := Scalar.andi v19905 v19907
  let v19894 : BitVec 32 := Scalar.divsi v19891 c128_i32_7831
  let c1_i32_7837 : BitVec 32 := 1#32
  let v19909 : BitVec 32 := Scalar.subi v19894 c1_i32_7837
  let v19910 : BitVec 32 := Scalar.select v19908 v19909 v19894
  let c128_i32_7838 : BitVec 32 := 128#32
  let v19911 : BitVec 32 := Scalar.muli v19910 c128_i32_7838
  let v19912 : BitVec 32 := v19911
  let v19915 : Index := Scalar.indexCast v19912
  ![v19914.toNat, 0, v19915.toNat]

def k1_chk349 (v19889 : BitVec 32) (v19891 : BitVec 32) : Prop :=
  (128 ∣ (k1_mult349 v19891).toNat) ∧
  (∀ a, (k1_off1090 v19889 v19891) a + S1x16x512.size a ≤ S384x16x1152.size a)
theorem k1_mult349_dvd : ∀ (v19889 : BitVec 32) (v19891 : BitVec 32) (k1_hw349 : k1_chk349 v19889 v19891), 128 ∣ (k1_mult349 v19891).toNat := fun v19889 v19891 k1_hw349 => k1_hw349.1
theorem k1_off1090_inb : ∀ (v19889 : BitVec 32) (v19891 : BitVec 32) (k1_hw349 : k1_chk349 v19889 v19891), ∀ a, (k1_off1090 v19889 v19891) a + S1x16x512.size a ≤ S384x16x1152.size a := fun v19889 v19891 k1_hw349 => k1_hw349.2

def k1_off1091 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19925 : Index := Scalar.indexCast v19655
  let c4_7842 : Index := 4#32
  ![v19925.toNat, 4]
def k1_off1092 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19941 : Index := Scalar.indexCast v19655
  let c5_7848 : Index := 5#32
  ![v19941.toNat, 5]
def k1_mult350 (v19944 : BitVec 32) : BitVec 32 :=
  let c0_i32_7852 : BitVec 32 := 0#32
  let v19948 : BitVec 1 := Scalar.cmpi .sgt v19944 c0_i32_7852
  let v19949 : BitVec 32 := Scalar.extui v19948
  let c0_i32_7853 : BitVec 32 := 0#32
  let v19950 : BitVec 1 := Scalar.cmpi .slt v19944 c0_i32_7853
  let v19951 : BitVec 32 := Scalar.extui v19950
  let v19952 : BitVec 32 := Scalar.subi v19949 v19951
  let c128_i32_7851 : BitVec 32 := 128#32
  let c0_i32_7854 : BitVec 32 := 0#32
  let v19953 : BitVec 1 := Scalar.cmpi .sgt c128_i32_7851 c0_i32_7854
  let v19954 : BitVec 32 := Scalar.extui v19953
  let c0_i32_7855 : BitVec 32 := 0#32
  let v19955 : BitVec 1 := Scalar.cmpi .slt c128_i32_7851 c0_i32_7855
  let v19956 : BitVec 32 := Scalar.extui v19955
  let v19957 : BitVec 32 := Scalar.subi v19954 v19956
  let v19958 : BitVec 1 := Scalar.cmpi .ne v19952 v19957
  let v19959 : BitVec 32 := Scalar.remsi v19944 c128_i32_7851
  let c0_i32_7856 : BitVec 32 := 0#32
  let v19960 : BitVec 1 := Scalar.cmpi .ne v19959 c0_i32_7856
  let v19961 : BitVec 1 := Scalar.andi v19958 v19960
  let v19947 : BitVec 32 := Scalar.divsi v19944 c128_i32_7851
  let c1_i32_7857 : BitVec 32 := 1#32
  let v19962 : BitVec 32 := Scalar.subi v19947 c1_i32_7857
  let v19963 : BitVec 32 := Scalar.select v19961 v19962 v19947
  let c128_i32_7858 : BitVec 32 := 128#32
  let v19964 : BitVec 32 := Scalar.muli v19963 c128_i32_7858
  v19964

def k1_off1093 (v19942 : BitVec 32) (v19944 : BitVec 32) : Fin 3 → Nat :=
  let v19967 : Index := Scalar.indexCast v19942
  let c0_7859 : Index := 0#32
  let c0_i32_7852 : BitVec 32 := 0#32
  let v19948 : BitVec 1 := Scalar.cmpi .sgt v19944 c0_i32_7852
  let v19949 : BitVec 32 := Scalar.extui v19948
  let c0_i32_7853 : BitVec 32 := 0#32
  let v19950 : BitVec 1 := Scalar.cmpi .slt v19944 c0_i32_7853
  let v19951 : BitVec 32 := Scalar.extui v19950
  let v19952 : BitVec 32 := Scalar.subi v19949 v19951
  let c128_i32_7851 : BitVec 32 := 128#32
  let c0_i32_7854 : BitVec 32 := 0#32
  let v19953 : BitVec 1 := Scalar.cmpi .sgt c128_i32_7851 c0_i32_7854
  let v19954 : BitVec 32 := Scalar.extui v19953
  let c0_i32_7855 : BitVec 32 := 0#32
  let v19955 : BitVec 1 := Scalar.cmpi .slt c128_i32_7851 c0_i32_7855
  let v19956 : BitVec 32 := Scalar.extui v19955
  let v19957 : BitVec 32 := Scalar.subi v19954 v19956
  let v19958 : BitVec 1 := Scalar.cmpi .ne v19952 v19957
  let v19959 : BitVec 32 := Scalar.remsi v19944 c128_i32_7851
  let c0_i32_7856 : BitVec 32 := 0#32
  let v19960 : BitVec 1 := Scalar.cmpi .ne v19959 c0_i32_7856
  let v19961 : BitVec 1 := Scalar.andi v19958 v19960
  let v19947 : BitVec 32 := Scalar.divsi v19944 c128_i32_7851
  let c1_i32_7857 : BitVec 32 := 1#32
  let v19962 : BitVec 32 := Scalar.subi v19947 c1_i32_7857
  let v19963 : BitVec 32 := Scalar.select v19961 v19962 v19947
  let c128_i32_7858 : BitVec 32 := 128#32
  let v19964 : BitVec 32 := Scalar.muli v19963 c128_i32_7858
  let v19965 : BitVec 32 := v19964
  let v19968 : Index := Scalar.indexCast v19965
  ![v19967.toNat, 0, v19968.toNat]

def k1_chk350 (v19942 : BitVec 32) (v19944 : BitVec 32) : Prop :=
  (128 ∣ (k1_mult350 v19944).toNat) ∧
  (∀ a, (k1_off1093 v19942 v19944) a + S1x16x512.size a ≤ S384x16x1152.size a)
theorem k1_mult350_dvd : ∀ (v19942 : BitVec 32) (v19944 : BitVec 32) (k1_hw350 : k1_chk350 v19942 v19944), 128 ∣ (k1_mult350 v19944).toNat := fun v19942 v19944 k1_hw350 => k1_hw350.1
theorem k1_off1093_inb : ∀ (v19942 : BitVec 32) (v19944 : BitVec 32) (k1_hw350 : k1_chk350 v19942 v19944), ∀ a, (k1_off1093 v19942 v19944) a + S1x16x512.size a ≤ S384x16x1152.size a := fun v19942 v19944 k1_hw350 => k1_hw350.2

def k1_off1094 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19978 : Index := Scalar.indexCast v19655
  let c5_7862 : Index := 5#32
  ![v19978.toNat, 5]
def k1_off1095 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v19994 : Index := Scalar.indexCast v19655
  let c6_7868 : Index := 6#32
  ![v19994.toNat, 6]
def k1_mult351 (v19997 : BitVec 32) : BitVec 32 :=
  let c0_i32_7872 : BitVec 32 := 0#32
  let v20001 : BitVec 1 := Scalar.cmpi .sgt v19997 c0_i32_7872
  let v20002 : BitVec 32 := Scalar.extui v20001
  let c0_i32_7873 : BitVec 32 := 0#32
  let v20003 : BitVec 1 := Scalar.cmpi .slt v19997 c0_i32_7873
  let v20004 : BitVec 32 := Scalar.extui v20003
  let v20005 : BitVec 32 := Scalar.subi v20002 v20004
  let c128_i32_7871 : BitVec 32 := 128#32
  let c0_i32_7874 : BitVec 32 := 0#32
  let v20006 : BitVec 1 := Scalar.cmpi .sgt c128_i32_7871 c0_i32_7874
  let v20007 : BitVec 32 := Scalar.extui v20006
  let c0_i32_7875 : BitVec 32 := 0#32
  let v20008 : BitVec 1 := Scalar.cmpi .slt c128_i32_7871 c0_i32_7875
  let v20009 : BitVec 32 := Scalar.extui v20008
  let v20010 : BitVec 32 := Scalar.subi v20007 v20009
  let v20011 : BitVec 1 := Scalar.cmpi .ne v20005 v20010
  let v20012 : BitVec 32 := Scalar.remsi v19997 c128_i32_7871
  let c0_i32_7876 : BitVec 32 := 0#32
  let v20013 : BitVec 1 := Scalar.cmpi .ne v20012 c0_i32_7876
  let v20014 : BitVec 1 := Scalar.andi v20011 v20013
  let v20000 : BitVec 32 := Scalar.divsi v19997 c128_i32_7871
  let c1_i32_7877 : BitVec 32 := 1#32
  let v20015 : BitVec 32 := Scalar.subi v20000 c1_i32_7877
  let v20016 : BitVec 32 := Scalar.select v20014 v20015 v20000
  let c128_i32_7878 : BitVec 32 := 128#32
  let v20017 : BitVec 32 := Scalar.muli v20016 c128_i32_7878
  v20017

def k1_off1096 (v19995 : BitVec 32) (v19997 : BitVec 32) : Fin 3 → Nat :=
  let v20020 : Index := Scalar.indexCast v19995
  let c0_7879 : Index := 0#32
  let c0_i32_7872 : BitVec 32 := 0#32
  let v20001 : BitVec 1 := Scalar.cmpi .sgt v19997 c0_i32_7872
  let v20002 : BitVec 32 := Scalar.extui v20001
  let c0_i32_7873 : BitVec 32 := 0#32
  let v20003 : BitVec 1 := Scalar.cmpi .slt v19997 c0_i32_7873
  let v20004 : BitVec 32 := Scalar.extui v20003
  let v20005 : BitVec 32 := Scalar.subi v20002 v20004
  let c128_i32_7871 : BitVec 32 := 128#32
  let c0_i32_7874 : BitVec 32 := 0#32
  let v20006 : BitVec 1 := Scalar.cmpi .sgt c128_i32_7871 c0_i32_7874
  let v20007 : BitVec 32 := Scalar.extui v20006
  let c0_i32_7875 : BitVec 32 := 0#32
  let v20008 : BitVec 1 := Scalar.cmpi .slt c128_i32_7871 c0_i32_7875
  let v20009 : BitVec 32 := Scalar.extui v20008
  let v20010 : BitVec 32 := Scalar.subi v20007 v20009
  let v20011 : BitVec 1 := Scalar.cmpi .ne v20005 v20010
  let v20012 : BitVec 32 := Scalar.remsi v19997 c128_i32_7871
  let c0_i32_7876 : BitVec 32 := 0#32
  let v20013 : BitVec 1 := Scalar.cmpi .ne v20012 c0_i32_7876
  let v20014 : BitVec 1 := Scalar.andi v20011 v20013
  let v20000 : BitVec 32 := Scalar.divsi v19997 c128_i32_7871
  let c1_i32_7877 : BitVec 32 := 1#32
  let v20015 : BitVec 32 := Scalar.subi v20000 c1_i32_7877
  let v20016 : BitVec 32 := Scalar.select v20014 v20015 v20000
  let c128_i32_7878 : BitVec 32 := 128#32
  let v20017 : BitVec 32 := Scalar.muli v20016 c128_i32_7878
  let v20018 : BitVec 32 := v20017
  let v20021 : Index := Scalar.indexCast v20018
  ![v20020.toNat, 0, v20021.toNat]

def k1_chk351 (v19995 : BitVec 32) (v19997 : BitVec 32) : Prop :=
  (128 ∣ (k1_mult351 v19997).toNat) ∧
  (∀ a, (k1_off1096 v19995 v19997) a + S1x16x512.size a ≤ S384x16x1152.size a)
theorem k1_mult351_dvd : ∀ (v19995 : BitVec 32) (v19997 : BitVec 32) (k1_hw351 : k1_chk351 v19995 v19997), 128 ∣ (k1_mult351 v19997).toNat := fun v19995 v19997 k1_hw351 => k1_hw351.1
theorem k1_off1096_inb : ∀ (v19995 : BitVec 32) (v19997 : BitVec 32) (k1_hw351 : k1_chk351 v19995 v19997), ∀ a, (k1_off1096 v19995 v19997) a + S1x16x512.size a ≤ S384x16x1152.size a := fun v19995 v19997 k1_hw351 => k1_hw351.2

def k1_off1097 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v20031 : Index := Scalar.indexCast v19655
  let c6_7882 : Index := 6#32
  ![v20031.toNat, 6]
def k1_off1098 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v20047 : Index := Scalar.indexCast v19655
  let c7_7888 : Index := 7#32
  ![v20047.toNat, 7]
def k1_mult352 (v20050 : BitVec 32) : BitVec 32 :=
  let c0_i32_7892 : BitVec 32 := 0#32
  let v20054 : BitVec 1 := Scalar.cmpi .sgt v20050 c0_i32_7892
  let v20055 : BitVec 32 := Scalar.extui v20054
  let c0_i32_7893 : BitVec 32 := 0#32
  let v20056 : BitVec 1 := Scalar.cmpi .slt v20050 c0_i32_7893
  let v20057 : BitVec 32 := Scalar.extui v20056
  let v20058 : BitVec 32 := Scalar.subi v20055 v20057
  let c128_i32_7891 : BitVec 32 := 128#32
  let c0_i32_7894 : BitVec 32 := 0#32
  let v20059 : BitVec 1 := Scalar.cmpi .sgt c128_i32_7891 c0_i32_7894
  let v20060 : BitVec 32 := Scalar.extui v20059
  let c0_i32_7895 : BitVec 32 := 0#32
  let v20061 : BitVec 1 := Scalar.cmpi .slt c128_i32_7891 c0_i32_7895
  let v20062 : BitVec 32 := Scalar.extui v20061
  let v20063 : BitVec 32 := Scalar.subi v20060 v20062
  let v20064 : BitVec 1 := Scalar.cmpi .ne v20058 v20063
  let v20065 : BitVec 32 := Scalar.remsi v20050 c128_i32_7891
  let c0_i32_7896 : BitVec 32 := 0#32
  let v20066 : BitVec 1 := Scalar.cmpi .ne v20065 c0_i32_7896
  let v20067 : BitVec 1 := Scalar.andi v20064 v20066
  let v20053 : BitVec 32 := Scalar.divsi v20050 c128_i32_7891
  let c1_i32_7897 : BitVec 32 := 1#32
  let v20068 : BitVec 32 := Scalar.subi v20053 c1_i32_7897
  let v20069 : BitVec 32 := Scalar.select v20067 v20068 v20053
  let c128_i32_7898 : BitVec 32 := 128#32
  let v20070 : BitVec 32 := Scalar.muli v20069 c128_i32_7898
  v20070

def k1_off1099 (v20048 : BitVec 32) (v20050 : BitVec 32) : Fin 3 → Nat :=
  let v20073 : Index := Scalar.indexCast v20048
  let c0_7899 : Index := 0#32
  let c0_i32_7892 : BitVec 32 := 0#32
  let v20054 : BitVec 1 := Scalar.cmpi .sgt v20050 c0_i32_7892
  let v20055 : BitVec 32 := Scalar.extui v20054
  let c0_i32_7893 : BitVec 32 := 0#32
  let v20056 : BitVec 1 := Scalar.cmpi .slt v20050 c0_i32_7893
  let v20057 : BitVec 32 := Scalar.extui v20056
  let v20058 : BitVec 32 := Scalar.subi v20055 v20057
  let c128_i32_7891 : BitVec 32 := 128#32
  let c0_i32_7894 : BitVec 32 := 0#32
  let v20059 : BitVec 1 := Scalar.cmpi .sgt c128_i32_7891 c0_i32_7894
  let v20060 : BitVec 32 := Scalar.extui v20059
  let c0_i32_7895 : BitVec 32 := 0#32
  let v20061 : BitVec 1 := Scalar.cmpi .slt c128_i32_7891 c0_i32_7895
  let v20062 : BitVec 32 := Scalar.extui v20061
  let v20063 : BitVec 32 := Scalar.subi v20060 v20062
  let v20064 : BitVec 1 := Scalar.cmpi .ne v20058 v20063
  let v20065 : BitVec 32 := Scalar.remsi v20050 c128_i32_7891
  let c0_i32_7896 : BitVec 32 := 0#32
  let v20066 : BitVec 1 := Scalar.cmpi .ne v20065 c0_i32_7896
  let v20067 : BitVec 1 := Scalar.andi v20064 v20066
  let v20053 : BitVec 32 := Scalar.divsi v20050 c128_i32_7891
  let c1_i32_7897 : BitVec 32 := 1#32
  let v20068 : BitVec 32 := Scalar.subi v20053 c1_i32_7897
  let v20069 : BitVec 32 := Scalar.select v20067 v20068 v20053
  let c128_i32_7898 : BitVec 32 := 128#32
  let v20070 : BitVec 32 := Scalar.muli v20069 c128_i32_7898
  let v20071 : BitVec 32 := v20070
  let v20074 : Index := Scalar.indexCast v20071
  ![v20073.toNat, 0, v20074.toNat]

def k1_chk352 (v20048 : BitVec 32) (v20050 : BitVec 32) : Prop :=
  (128 ∣ (k1_mult352 v20050).toNat) ∧
  (∀ a, (k1_off1099 v20048 v20050) a + S1x16x512.size a ≤ S384x16x1152.size a)
theorem k1_mult352_dvd : ∀ (v20048 : BitVec 32) (v20050 : BitVec 32) (k1_hw352 : k1_chk352 v20048 v20050), 128 ∣ (k1_mult352 v20050).toNat := fun v20048 v20050 k1_hw352 => k1_hw352.1
theorem k1_off1099_inb : ∀ (v20048 : BitVec 32) (v20050 : BitVec 32) (k1_hw352 : k1_chk352 v20048 v20050), ∀ a, (k1_off1099 v20048 v20050) a + S1x16x512.size a ≤ S384x16x1152.size a := fun v20048 v20050 k1_hw352 => k1_hw352.2

def k1_off1100 (i : grid1.Coords) : Fin 2 → Nat :=
  let arg0 : BitVec 32 := BitVec.ofNat 32 (i 0).val
  let c48_i32_7737 : BitVec 32 := 48#32
  let v19654 : BitVec 32 := Scalar.muli arg0 c48_i32_7737
  let c43_i32 : BitVec 32 := 43#32
  let v19655 : BitVec 32 := Scalar.addi v19654 c43_i32
  let v20084 : Index := Scalar.indexCast v19655
  let c7_7902 : Index := 7#32
  ![v20084.toNat, 7]
def k1_off1101 (i : grid1.Coords) : Fin 3 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20113 : Index := Scalar.indexCast v20112
  let c0_7918 : Index := 0#32
  let c720_7919 : Index := 720#32
  ![v20113.toNat, 0, 720]
def k1_off1102 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20133 : Index := Scalar.indexCast v20112
  let c0_7928 : Index := 0#32
  ![v20133.toNat, 0]
def k1_mult353 (v20136 : BitVec 32) : BitVec 32 :=
  let c0_i32_7932 : BitVec 32 := 0#32
  let v20140 : BitVec 1 := Scalar.cmpi .sgt v20136 c0_i32_7932
  let v20141 : BitVec 32 := Scalar.extui v20140
  let c0_i32_7933 : BitVec 32 := 0#32
  let v20142 : BitVec 1 := Scalar.cmpi .slt v20136 c0_i32_7933
  let v20143 : BitVec 32 := Scalar.extui v20142
  let v20144 : BitVec 32 := Scalar.subi v20141 v20143
  let c128_i32_7931 : BitVec 32 := 128#32
  let c0_i32_7934 : BitVec 32 := 0#32
  let v20145 : BitVec 1 := Scalar.cmpi .sgt c128_i32_7931 c0_i32_7934
  let v20146 : BitVec 32 := Scalar.extui v20145
  let c0_i32_7935 : BitVec 32 := 0#32
  let v20147 : BitVec 1 := Scalar.cmpi .slt c128_i32_7931 c0_i32_7935
  let v20148 : BitVec 32 := Scalar.extui v20147
  let v20149 : BitVec 32 := Scalar.subi v20146 v20148
  let v20150 : BitVec 1 := Scalar.cmpi .ne v20144 v20149
  let v20151 : BitVec 32 := Scalar.remsi v20136 c128_i32_7931
  let c0_i32_7936 : BitVec 32 := 0#32
  let v20152 : BitVec 1 := Scalar.cmpi .ne v20151 c0_i32_7936
  let v20153 : BitVec 1 := Scalar.andi v20150 v20152
  let v20139 : BitVec 32 := Scalar.divsi v20136 c128_i32_7931
  let c1_i32_7937 : BitVec 32 := 1#32
  let v20154 : BitVec 32 := Scalar.subi v20139 c1_i32_7937
  let v20155 : BitVec 32 := Scalar.select v20153 v20154 v20139
  let c128_i32_7938 : BitVec 32 := 128#32
  let v20156 : BitVec 32 := Scalar.muli v20155 c128_i32_7938
  v20156

def k1_off1103 (v20134 : BitVec 32) (v20136 : BitVec 32) : Fin 3 → Nat :=
  let v20159 : Index := Scalar.indexCast v20134
  let c0_7939 : Index := 0#32
  let c0_i32_7932 : BitVec 32 := 0#32
  let v20140 : BitVec 1 := Scalar.cmpi .sgt v20136 c0_i32_7932
  let v20141 : BitVec 32 := Scalar.extui v20140
  let c0_i32_7933 : BitVec 32 := 0#32
  let v20142 : BitVec 1 := Scalar.cmpi .slt v20136 c0_i32_7933
  let v20143 : BitVec 32 := Scalar.extui v20142
  let v20144 : BitVec 32 := Scalar.subi v20141 v20143
  let c128_i32_7931 : BitVec 32 := 128#32
  let c0_i32_7934 : BitVec 32 := 0#32
  let v20145 : BitVec 1 := Scalar.cmpi .sgt c128_i32_7931 c0_i32_7934
  let v20146 : BitVec 32 := Scalar.extui v20145
  let c0_i32_7935 : BitVec 32 := 0#32
  let v20147 : BitVec 1 := Scalar.cmpi .slt c128_i32_7931 c0_i32_7935
  let v20148 : BitVec 32 := Scalar.extui v20147
  let v20149 : BitVec 32 := Scalar.subi v20146 v20148
  let v20150 : BitVec 1 := Scalar.cmpi .ne v20144 v20149
  let v20151 : BitVec 32 := Scalar.remsi v20136 c128_i32_7931
  let c0_i32_7936 : BitVec 32 := 0#32
  let v20152 : BitVec 1 := Scalar.cmpi .ne v20151 c0_i32_7936
  let v20153 : BitVec 1 := Scalar.andi v20150 v20152
  let v20139 : BitVec 32 := Scalar.divsi v20136 c128_i32_7931
  let c1_i32_7937 : BitVec 32 := 1#32
  let v20154 : BitVec 32 := Scalar.subi v20139 c1_i32_7937
  let v20155 : BitVec 32 := Scalar.select v20153 v20154 v20139
  let c128_i32_7938 : BitVec 32 := 128#32
  let v20156 : BitVec 32 := Scalar.muli v20155 c128_i32_7938
  let v20157 : BitVec 32 := v20156
  let v20160 : Index := Scalar.indexCast v20157
  ![v20159.toNat, 0, v20160.toNat]

def k1_chk353 (v20134 : BitVec 32) (v20136 : BitVec 32) : Prop :=
  (128 ∣ (k1_mult353 v20136).toNat) ∧
  (∀ a, (k1_off1103 v20134 v20136) a + S1x16x512.size a ≤ S384x16x1152.size a)
theorem k1_mult353_dvd : ∀ (v20134 : BitVec 32) (v20136 : BitVec 32) (k1_hw353 : k1_chk353 v20134 v20136), 128 ∣ (k1_mult353 v20136).toNat := fun v20134 v20136 k1_hw353 => k1_hw353.1
theorem k1_off1103_inb : ∀ (v20134 : BitVec 32) (v20136 : BitVec 32) (k1_hw353 : k1_chk353 v20134 v20136), ∀ a, (k1_off1103 v20134 v20136) a + S1x16x512.size a ≤ S384x16x1152.size a := fun v20134 v20136 k1_hw353 => k1_hw353.2

def k1_off1104 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20170 : Index := Scalar.indexCast v20112
  let c0_7942 : Index := 0#32
  ![v20170.toNat, 0]
def k1_off1105 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20186 : Index := Scalar.indexCast v20112
  let c1_7948 : Index := 1#32
  ![v20186.toNat, 1]
def k1_mult354 (v20189 : BitVec 32) : BitVec 32 :=
  let c0_i32_7952 : BitVec 32 := 0#32
  let v20193 : BitVec 1 := Scalar.cmpi .sgt v20189 c0_i32_7952
  let v20194 : BitVec 32 := Scalar.extui v20193
  let c0_i32_7953 : BitVec 32 := 0#32
  let v20195 : BitVec 1 := Scalar.cmpi .slt v20189 c0_i32_7953
  let v20196 : BitVec 32 := Scalar.extui v20195
  let v20197 : BitVec 32 := Scalar.subi v20194 v20196
  let c128_i32_7951 : BitVec 32 := 128#32
  let c0_i32_7954 : BitVec 32 := 0#32
  let v20198 : BitVec 1 := Scalar.cmpi .sgt c128_i32_7951 c0_i32_7954
  let v20199 : BitVec 32 := Scalar.extui v20198
  let c0_i32_7955 : BitVec 32 := 0#32
  let v20200 : BitVec 1 := Scalar.cmpi .slt c128_i32_7951 c0_i32_7955
  let v20201 : BitVec 32 := Scalar.extui v20200
  let v20202 : BitVec 32 := Scalar.subi v20199 v20201
  let v20203 : BitVec 1 := Scalar.cmpi .ne v20197 v20202
  let v20204 : BitVec 32 := Scalar.remsi v20189 c128_i32_7951
  let c0_i32_7956 : BitVec 32 := 0#32
  let v20205 : BitVec 1 := Scalar.cmpi .ne v20204 c0_i32_7956
  let v20206 : BitVec 1 := Scalar.andi v20203 v20205
  let v20192 : BitVec 32 := Scalar.divsi v20189 c128_i32_7951
  let c1_i32_7957 : BitVec 32 := 1#32
  let v20207 : BitVec 32 := Scalar.subi v20192 c1_i32_7957
  let v20208 : BitVec 32 := Scalar.select v20206 v20207 v20192
  let c128_i32_7958 : BitVec 32 := 128#32
  let v20209 : BitVec 32 := Scalar.muli v20208 c128_i32_7958
  v20209

def k1_off1106 (v20187 : BitVec 32) (v20189 : BitVec 32) : Fin 3 → Nat :=
  let v20212 : Index := Scalar.indexCast v20187
  let c0_7959 : Index := 0#32
  let c0_i32_7952 : BitVec 32 := 0#32
  let v20193 : BitVec 1 := Scalar.cmpi .sgt v20189 c0_i32_7952
  let v20194 : BitVec 32 := Scalar.extui v20193
  let c0_i32_7953 : BitVec 32 := 0#32
  let v20195 : BitVec 1 := Scalar.cmpi .slt v20189 c0_i32_7953
  let v20196 : BitVec 32 := Scalar.extui v20195
  let v20197 : BitVec 32 := Scalar.subi v20194 v20196
  let c128_i32_7951 : BitVec 32 := 128#32
  let c0_i32_7954 : BitVec 32 := 0#32
  let v20198 : BitVec 1 := Scalar.cmpi .sgt c128_i32_7951 c0_i32_7954
  let v20199 : BitVec 32 := Scalar.extui v20198
  let c0_i32_7955 : BitVec 32 := 0#32
  let v20200 : BitVec 1 := Scalar.cmpi .slt c128_i32_7951 c0_i32_7955
  let v20201 : BitVec 32 := Scalar.extui v20200
  let v20202 : BitVec 32 := Scalar.subi v20199 v20201
  let v20203 : BitVec 1 := Scalar.cmpi .ne v20197 v20202
  let v20204 : BitVec 32 := Scalar.remsi v20189 c128_i32_7951
  let c0_i32_7956 : BitVec 32 := 0#32
  let v20205 : BitVec 1 := Scalar.cmpi .ne v20204 c0_i32_7956
  let v20206 : BitVec 1 := Scalar.andi v20203 v20205
  let v20192 : BitVec 32 := Scalar.divsi v20189 c128_i32_7951
  let c1_i32_7957 : BitVec 32 := 1#32
  let v20207 : BitVec 32 := Scalar.subi v20192 c1_i32_7957
  let v20208 : BitVec 32 := Scalar.select v20206 v20207 v20192
  let c128_i32_7958 : BitVec 32 := 128#32
  let v20209 : BitVec 32 := Scalar.muli v20208 c128_i32_7958
  let v20210 : BitVec 32 := v20209
  let v20213 : Index := Scalar.indexCast v20210
  ![v20212.toNat, 0, v20213.toNat]

def k1_chk354 (v20187 : BitVec 32) (v20189 : BitVec 32) : Prop :=
  (128 ∣ (k1_mult354 v20189).toNat) ∧
  (∀ a, (k1_off1106 v20187 v20189) a + S1x16x512.size a ≤ S384x16x1152.size a)
theorem k1_mult354_dvd : ∀ (v20187 : BitVec 32) (v20189 : BitVec 32) (k1_hw354 : k1_chk354 v20187 v20189), 128 ∣ (k1_mult354 v20189).toNat := fun v20187 v20189 k1_hw354 => k1_hw354.1
theorem k1_off1106_inb : ∀ (v20187 : BitVec 32) (v20189 : BitVec 32) (k1_hw354 : k1_chk354 v20187 v20189), ∀ a, (k1_off1106 v20187 v20189) a + S1x16x512.size a ≤ S384x16x1152.size a := fun v20187 v20189 k1_hw354 => k1_hw354.2

def k1_off1107 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20223 : Index := Scalar.indexCast v20112
  let c1_7962 : Index := 1#32
  ![v20223.toNat, 1]
def k1_off1108 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20239 : Index := Scalar.indexCast v20112
  let c2_7968 : Index := 2#32
  ![v20239.toNat, 2]
def k1_mult355 (v20242 : BitVec 32) : BitVec 32 :=
  let c0_i32_7972 : BitVec 32 := 0#32
  let v20246 : BitVec 1 := Scalar.cmpi .sgt v20242 c0_i32_7972
  let v20247 : BitVec 32 := Scalar.extui v20246
  let c0_i32_7973 : BitVec 32 := 0#32
  let v20248 : BitVec 1 := Scalar.cmpi .slt v20242 c0_i32_7973
  let v20249 : BitVec 32 := Scalar.extui v20248
  let v20250 : BitVec 32 := Scalar.subi v20247 v20249
  let c128_i32_7971 : BitVec 32 := 128#32
  let c0_i32_7974 : BitVec 32 := 0#32
  let v20251 : BitVec 1 := Scalar.cmpi .sgt c128_i32_7971 c0_i32_7974
  let v20252 : BitVec 32 := Scalar.extui v20251
  let c0_i32_7975 : BitVec 32 := 0#32
  let v20253 : BitVec 1 := Scalar.cmpi .slt c128_i32_7971 c0_i32_7975
  let v20254 : BitVec 32 := Scalar.extui v20253
  let v20255 : BitVec 32 := Scalar.subi v20252 v20254
  let v20256 : BitVec 1 := Scalar.cmpi .ne v20250 v20255
  let v20257 : BitVec 32 := Scalar.remsi v20242 c128_i32_7971
  let c0_i32_7976 : BitVec 32 := 0#32
  let v20258 : BitVec 1 := Scalar.cmpi .ne v20257 c0_i32_7976
  let v20259 : BitVec 1 := Scalar.andi v20256 v20258
  let v20245 : BitVec 32 := Scalar.divsi v20242 c128_i32_7971
  let c1_i32_7977 : BitVec 32 := 1#32
  let v20260 : BitVec 32 := Scalar.subi v20245 c1_i32_7977
  let v20261 : BitVec 32 := Scalar.select v20259 v20260 v20245
  let c128_i32_7978 : BitVec 32 := 128#32
  let v20262 : BitVec 32 := Scalar.muli v20261 c128_i32_7978
  v20262

def k1_off1109 (v20240 : BitVec 32) (v20242 : BitVec 32) : Fin 3 → Nat :=
  let v20265 : Index := Scalar.indexCast v20240
  let c0_7979 : Index := 0#32
  let c0_i32_7972 : BitVec 32 := 0#32
  let v20246 : BitVec 1 := Scalar.cmpi .sgt v20242 c0_i32_7972
  let v20247 : BitVec 32 := Scalar.extui v20246
  let c0_i32_7973 : BitVec 32 := 0#32
  let v20248 : BitVec 1 := Scalar.cmpi .slt v20242 c0_i32_7973
  let v20249 : BitVec 32 := Scalar.extui v20248
  let v20250 : BitVec 32 := Scalar.subi v20247 v20249
  let c128_i32_7971 : BitVec 32 := 128#32
  let c0_i32_7974 : BitVec 32 := 0#32
  let v20251 : BitVec 1 := Scalar.cmpi .sgt c128_i32_7971 c0_i32_7974
  let v20252 : BitVec 32 := Scalar.extui v20251
  let c0_i32_7975 : BitVec 32 := 0#32
  let v20253 : BitVec 1 := Scalar.cmpi .slt c128_i32_7971 c0_i32_7975
  let v20254 : BitVec 32 := Scalar.extui v20253
  let v20255 : BitVec 32 := Scalar.subi v20252 v20254
  let v20256 : BitVec 1 := Scalar.cmpi .ne v20250 v20255
  let v20257 : BitVec 32 := Scalar.remsi v20242 c128_i32_7971
  let c0_i32_7976 : BitVec 32 := 0#32
  let v20258 : BitVec 1 := Scalar.cmpi .ne v20257 c0_i32_7976
  let v20259 : BitVec 1 := Scalar.andi v20256 v20258
  let v20245 : BitVec 32 := Scalar.divsi v20242 c128_i32_7971
  let c1_i32_7977 : BitVec 32 := 1#32
  let v20260 : BitVec 32 := Scalar.subi v20245 c1_i32_7977
  let v20261 : BitVec 32 := Scalar.select v20259 v20260 v20245
  let c128_i32_7978 : BitVec 32 := 128#32
  let v20262 : BitVec 32 := Scalar.muli v20261 c128_i32_7978
  let v20263 : BitVec 32 := v20262
  let v20266 : Index := Scalar.indexCast v20263
  ![v20265.toNat, 0, v20266.toNat]

def k1_chk355 (v20240 : BitVec 32) (v20242 : BitVec 32) : Prop :=
  (128 ∣ (k1_mult355 v20242).toNat) ∧
  (∀ a, (k1_off1109 v20240 v20242) a + S1x16x512.size a ≤ S384x16x1152.size a)
theorem k1_mult355_dvd : ∀ (v20240 : BitVec 32) (v20242 : BitVec 32) (k1_hw355 : k1_chk355 v20240 v20242), 128 ∣ (k1_mult355 v20242).toNat := fun v20240 v20242 k1_hw355 => k1_hw355.1
theorem k1_off1109_inb : ∀ (v20240 : BitVec 32) (v20242 : BitVec 32) (k1_hw355 : k1_chk355 v20240 v20242), ∀ a, (k1_off1109 v20240 v20242) a + S1x16x512.size a ≤ S384x16x1152.size a := fun v20240 v20242 k1_hw355 => k1_hw355.2

def k1_off1110 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20276 : Index := Scalar.indexCast v20112
  let c2_7982 : Index := 2#32
  ![v20276.toNat, 2]
def k1_off1111 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20292 : Index := Scalar.indexCast v20112
  let c3_7988 : Index := 3#32
  ![v20292.toNat, 3]
def k1_mult356 (v20295 : BitVec 32) : BitVec 32 :=
  let c0_i32_7992 : BitVec 32 := 0#32
  let v20299 : BitVec 1 := Scalar.cmpi .sgt v20295 c0_i32_7992
  let v20300 : BitVec 32 := Scalar.extui v20299
  let c0_i32_7993 : BitVec 32 := 0#32
  let v20301 : BitVec 1 := Scalar.cmpi .slt v20295 c0_i32_7993
  let v20302 : BitVec 32 := Scalar.extui v20301
  let v20303 : BitVec 32 := Scalar.subi v20300 v20302
  let c128_i32_7991 : BitVec 32 := 128#32
  let c0_i32_7994 : BitVec 32 := 0#32
  let v20304 : BitVec 1 := Scalar.cmpi .sgt c128_i32_7991 c0_i32_7994
  let v20305 : BitVec 32 := Scalar.extui v20304
  let c0_i32_7995 : BitVec 32 := 0#32
  let v20306 : BitVec 1 := Scalar.cmpi .slt c128_i32_7991 c0_i32_7995
  let v20307 : BitVec 32 := Scalar.extui v20306
  let v20308 : BitVec 32 := Scalar.subi v20305 v20307
  let v20309 : BitVec 1 := Scalar.cmpi .ne v20303 v20308
  let v20310 : BitVec 32 := Scalar.remsi v20295 c128_i32_7991
  let c0_i32_7996 : BitVec 32 := 0#32
  let v20311 : BitVec 1 := Scalar.cmpi .ne v20310 c0_i32_7996
  let v20312 : BitVec 1 := Scalar.andi v20309 v20311
  let v20298 : BitVec 32 := Scalar.divsi v20295 c128_i32_7991
  let c1_i32_7997 : BitVec 32 := 1#32
  let v20313 : BitVec 32 := Scalar.subi v20298 c1_i32_7997
  let v20314 : BitVec 32 := Scalar.select v20312 v20313 v20298
  let c128_i32_7998 : BitVec 32 := 128#32
  let v20315 : BitVec 32 := Scalar.muli v20314 c128_i32_7998
  v20315

def k1_off1112 (v20293 : BitVec 32) (v20295 : BitVec 32) : Fin 3 → Nat :=
  let v20318 : Index := Scalar.indexCast v20293
  let c0_7999 : Index := 0#32
  let c0_i32_7992 : BitVec 32 := 0#32
  let v20299 : BitVec 1 := Scalar.cmpi .sgt v20295 c0_i32_7992
  let v20300 : BitVec 32 := Scalar.extui v20299
  let c0_i32_7993 : BitVec 32 := 0#32
  let v20301 : BitVec 1 := Scalar.cmpi .slt v20295 c0_i32_7993
  let v20302 : BitVec 32 := Scalar.extui v20301
  let v20303 : BitVec 32 := Scalar.subi v20300 v20302
  let c128_i32_7991 : BitVec 32 := 128#32
  let c0_i32_7994 : BitVec 32 := 0#32
  let v20304 : BitVec 1 := Scalar.cmpi .sgt c128_i32_7991 c0_i32_7994
  let v20305 : BitVec 32 := Scalar.extui v20304
  let c0_i32_7995 : BitVec 32 := 0#32
  let v20306 : BitVec 1 := Scalar.cmpi .slt c128_i32_7991 c0_i32_7995
  let v20307 : BitVec 32 := Scalar.extui v20306
  let v20308 : BitVec 32 := Scalar.subi v20305 v20307
  let v20309 : BitVec 1 := Scalar.cmpi .ne v20303 v20308
  let v20310 : BitVec 32 := Scalar.remsi v20295 c128_i32_7991
  let c0_i32_7996 : BitVec 32 := 0#32
  let v20311 : BitVec 1 := Scalar.cmpi .ne v20310 c0_i32_7996
  let v20312 : BitVec 1 := Scalar.andi v20309 v20311
  let v20298 : BitVec 32 := Scalar.divsi v20295 c128_i32_7991
  let c1_i32_7997 : BitVec 32 := 1#32
  let v20313 : BitVec 32 := Scalar.subi v20298 c1_i32_7997
  let v20314 : BitVec 32 := Scalar.select v20312 v20313 v20298
  let c128_i32_7998 : BitVec 32 := 128#32
  let v20315 : BitVec 32 := Scalar.muli v20314 c128_i32_7998
  let v20316 : BitVec 32 := v20315
  let v20319 : Index := Scalar.indexCast v20316
  ![v20318.toNat, 0, v20319.toNat]

def k1_chk356 (v20293 : BitVec 32) (v20295 : BitVec 32) : Prop :=
  (128 ∣ (k1_mult356 v20295).toNat) ∧
  (∀ a, (k1_off1112 v20293 v20295) a + S1x16x512.size a ≤ S384x16x1152.size a)
theorem k1_mult356_dvd : ∀ (v20293 : BitVec 32) (v20295 : BitVec 32) (k1_hw356 : k1_chk356 v20293 v20295), 128 ∣ (k1_mult356 v20295).toNat := fun v20293 v20295 k1_hw356 => k1_hw356.1
theorem k1_off1112_inb : ∀ (v20293 : BitVec 32) (v20295 : BitVec 32) (k1_hw356 : k1_chk356 v20293 v20295), ∀ a, (k1_off1112 v20293 v20295) a + S1x16x512.size a ≤ S384x16x1152.size a := fun v20293 v20295 k1_hw356 => k1_hw356.2

def k1_off1113 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20329 : Index := Scalar.indexCast v20112
  let c3_8002 : Index := 3#32
  ![v20329.toNat, 3]
def k1_off1114 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20345 : Index := Scalar.indexCast v20112
  let c4_8008 : Index := 4#32
  ![v20345.toNat, 4]
def k1_mult357 (v20348 : BitVec 32) : BitVec 32 :=
  let c0_i32_8012 : BitVec 32 := 0#32
  let v20352 : BitVec 1 := Scalar.cmpi .sgt v20348 c0_i32_8012
  let v20353 : BitVec 32 := Scalar.extui v20352
  let c0_i32_8013 : BitVec 32 := 0#32
  let v20354 : BitVec 1 := Scalar.cmpi .slt v20348 c0_i32_8013
  let v20355 : BitVec 32 := Scalar.extui v20354
  let v20356 : BitVec 32 := Scalar.subi v20353 v20355
  let c128_i32_8011 : BitVec 32 := 128#32
  let c0_i32_8014 : BitVec 32 := 0#32
  let v20357 : BitVec 1 := Scalar.cmpi .sgt c128_i32_8011 c0_i32_8014
  let v20358 : BitVec 32 := Scalar.extui v20357
  let c0_i32_8015 : BitVec 32 := 0#32
  let v20359 : BitVec 1 := Scalar.cmpi .slt c128_i32_8011 c0_i32_8015
  let v20360 : BitVec 32 := Scalar.extui v20359
  let v20361 : BitVec 32 := Scalar.subi v20358 v20360
  let v20362 : BitVec 1 := Scalar.cmpi .ne v20356 v20361
  let v20363 : BitVec 32 := Scalar.remsi v20348 c128_i32_8011
  let c0_i32_8016 : BitVec 32 := 0#32
  let v20364 : BitVec 1 := Scalar.cmpi .ne v20363 c0_i32_8016
  let v20365 : BitVec 1 := Scalar.andi v20362 v20364
  let v20351 : BitVec 32 := Scalar.divsi v20348 c128_i32_8011
  let c1_i32_8017 : BitVec 32 := 1#32
  let v20366 : BitVec 32 := Scalar.subi v20351 c1_i32_8017
  let v20367 : BitVec 32 := Scalar.select v20365 v20366 v20351
  let c128_i32_8018 : BitVec 32 := 128#32
  let v20368 : BitVec 32 := Scalar.muli v20367 c128_i32_8018
  v20368

def k1_off1115 (v20346 : BitVec 32) (v20348 : BitVec 32) : Fin 3 → Nat :=
  let v20371 : Index := Scalar.indexCast v20346
  let c0_8019 : Index := 0#32
  let c0_i32_8012 : BitVec 32 := 0#32
  let v20352 : BitVec 1 := Scalar.cmpi .sgt v20348 c0_i32_8012
  let v20353 : BitVec 32 := Scalar.extui v20352
  let c0_i32_8013 : BitVec 32 := 0#32
  let v20354 : BitVec 1 := Scalar.cmpi .slt v20348 c0_i32_8013
  let v20355 : BitVec 32 := Scalar.extui v20354
  let v20356 : BitVec 32 := Scalar.subi v20353 v20355
  let c128_i32_8011 : BitVec 32 := 128#32
  let c0_i32_8014 : BitVec 32 := 0#32
  let v20357 : BitVec 1 := Scalar.cmpi .sgt c128_i32_8011 c0_i32_8014
  let v20358 : BitVec 32 := Scalar.extui v20357
  let c0_i32_8015 : BitVec 32 := 0#32
  let v20359 : BitVec 1 := Scalar.cmpi .slt c128_i32_8011 c0_i32_8015
  let v20360 : BitVec 32 := Scalar.extui v20359
  let v20361 : BitVec 32 := Scalar.subi v20358 v20360
  let v20362 : BitVec 1 := Scalar.cmpi .ne v20356 v20361
  let v20363 : BitVec 32 := Scalar.remsi v20348 c128_i32_8011
  let c0_i32_8016 : BitVec 32 := 0#32
  let v20364 : BitVec 1 := Scalar.cmpi .ne v20363 c0_i32_8016
  let v20365 : BitVec 1 := Scalar.andi v20362 v20364
  let v20351 : BitVec 32 := Scalar.divsi v20348 c128_i32_8011
  let c1_i32_8017 : BitVec 32 := 1#32
  let v20366 : BitVec 32 := Scalar.subi v20351 c1_i32_8017
  let v20367 : BitVec 32 := Scalar.select v20365 v20366 v20351
  let c128_i32_8018 : BitVec 32 := 128#32
  let v20368 : BitVec 32 := Scalar.muli v20367 c128_i32_8018
  let v20369 : BitVec 32 := v20368
  let v20372 : Index := Scalar.indexCast v20369
  ![v20371.toNat, 0, v20372.toNat]

def k1_chk357 (v20346 : BitVec 32) (v20348 : BitVec 32) : Prop :=
  (128 ∣ (k1_mult357 v20348).toNat) ∧
  (∀ a, (k1_off1115 v20346 v20348) a + S1x16x512.size a ≤ S384x16x1152.size a)
theorem k1_mult357_dvd : ∀ (v20346 : BitVec 32) (v20348 : BitVec 32) (k1_hw357 : k1_chk357 v20346 v20348), 128 ∣ (k1_mult357 v20348).toNat := fun v20346 v20348 k1_hw357 => k1_hw357.1
theorem k1_off1115_inb : ∀ (v20346 : BitVec 32) (v20348 : BitVec 32) (k1_hw357 : k1_chk357 v20346 v20348), ∀ a, (k1_off1115 v20346 v20348) a + S1x16x512.size a ≤ S384x16x1152.size a := fun v20346 v20348 k1_hw357 => k1_hw357.2

def k1_off1116 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20382 : Index := Scalar.indexCast v20112
  let c4_8022 : Index := 4#32
  ![v20382.toNat, 4]
def k1_off1117 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20398 : Index := Scalar.indexCast v20112
  let c5_8028 : Index := 5#32
  ![v20398.toNat, 5]
def k1_mult358 (v20401 : BitVec 32) : BitVec 32 :=
  let c0_i32_8032 : BitVec 32 := 0#32
  let v20405 : BitVec 1 := Scalar.cmpi .sgt v20401 c0_i32_8032
  let v20406 : BitVec 32 := Scalar.extui v20405
  let c0_i32_8033 : BitVec 32 := 0#32
  let v20407 : BitVec 1 := Scalar.cmpi .slt v20401 c0_i32_8033
  let v20408 : BitVec 32 := Scalar.extui v20407
  let v20409 : BitVec 32 := Scalar.subi v20406 v20408
  let c128_i32_8031 : BitVec 32 := 128#32
  let c0_i32_8034 : BitVec 32 := 0#32
  let v20410 : BitVec 1 := Scalar.cmpi .sgt c128_i32_8031 c0_i32_8034
  let v20411 : BitVec 32 := Scalar.extui v20410
  let c0_i32_8035 : BitVec 32 := 0#32
  let v20412 : BitVec 1 := Scalar.cmpi .slt c128_i32_8031 c0_i32_8035
  let v20413 : BitVec 32 := Scalar.extui v20412
  let v20414 : BitVec 32 := Scalar.subi v20411 v20413
  let v20415 : BitVec 1 := Scalar.cmpi .ne v20409 v20414
  let v20416 : BitVec 32 := Scalar.remsi v20401 c128_i32_8031
  let c0_i32_8036 : BitVec 32 := 0#32
  let v20417 : BitVec 1 := Scalar.cmpi .ne v20416 c0_i32_8036
  let v20418 : BitVec 1 := Scalar.andi v20415 v20417
  let v20404 : BitVec 32 := Scalar.divsi v20401 c128_i32_8031
  let c1_i32_8037 : BitVec 32 := 1#32
  let v20419 : BitVec 32 := Scalar.subi v20404 c1_i32_8037
  let v20420 : BitVec 32 := Scalar.select v20418 v20419 v20404
  let c128_i32_8038 : BitVec 32 := 128#32
  let v20421 : BitVec 32 := Scalar.muli v20420 c128_i32_8038
  v20421

def k1_off1118 (v20399 : BitVec 32) (v20401 : BitVec 32) : Fin 3 → Nat :=
  let v20424 : Index := Scalar.indexCast v20399
  let c0_8039 : Index := 0#32
  let c0_i32_8032 : BitVec 32 := 0#32
  let v20405 : BitVec 1 := Scalar.cmpi .sgt v20401 c0_i32_8032
  let v20406 : BitVec 32 := Scalar.extui v20405
  let c0_i32_8033 : BitVec 32 := 0#32
  let v20407 : BitVec 1 := Scalar.cmpi .slt v20401 c0_i32_8033
  let v20408 : BitVec 32 := Scalar.extui v20407
  let v20409 : BitVec 32 := Scalar.subi v20406 v20408
  let c128_i32_8031 : BitVec 32 := 128#32
  let c0_i32_8034 : BitVec 32 := 0#32
  let v20410 : BitVec 1 := Scalar.cmpi .sgt c128_i32_8031 c0_i32_8034
  let v20411 : BitVec 32 := Scalar.extui v20410
  let c0_i32_8035 : BitVec 32 := 0#32
  let v20412 : BitVec 1 := Scalar.cmpi .slt c128_i32_8031 c0_i32_8035
  let v20413 : BitVec 32 := Scalar.extui v20412
  let v20414 : BitVec 32 := Scalar.subi v20411 v20413
  let v20415 : BitVec 1 := Scalar.cmpi .ne v20409 v20414
  let v20416 : BitVec 32 := Scalar.remsi v20401 c128_i32_8031
  let c0_i32_8036 : BitVec 32 := 0#32
  let v20417 : BitVec 1 := Scalar.cmpi .ne v20416 c0_i32_8036
  let v20418 : BitVec 1 := Scalar.andi v20415 v20417
  let v20404 : BitVec 32 := Scalar.divsi v20401 c128_i32_8031
  let c1_i32_8037 : BitVec 32 := 1#32
  let v20419 : BitVec 32 := Scalar.subi v20404 c1_i32_8037
  let v20420 : BitVec 32 := Scalar.select v20418 v20419 v20404
  let c128_i32_8038 : BitVec 32 := 128#32
  let v20421 : BitVec 32 := Scalar.muli v20420 c128_i32_8038
  let v20422 : BitVec 32 := v20421
  let v20425 : Index := Scalar.indexCast v20422
  ![v20424.toNat, 0, v20425.toNat]

def k1_chk358 (v20399 : BitVec 32) (v20401 : BitVec 32) : Prop :=
  (128 ∣ (k1_mult358 v20401).toNat) ∧
  (∀ a, (k1_off1118 v20399 v20401) a + S1x16x512.size a ≤ S384x16x1152.size a)
theorem k1_mult358_dvd : ∀ (v20399 : BitVec 32) (v20401 : BitVec 32) (k1_hw358 : k1_chk358 v20399 v20401), 128 ∣ (k1_mult358 v20401).toNat := fun v20399 v20401 k1_hw358 => k1_hw358.1
theorem k1_off1118_inb : ∀ (v20399 : BitVec 32) (v20401 : BitVec 32) (k1_hw358 : k1_chk358 v20399 v20401), ∀ a, (k1_off1118 v20399 v20401) a + S1x16x512.size a ≤ S384x16x1152.size a := fun v20399 v20401 k1_hw358 => k1_hw358.2

def k1_off1119 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20435 : Index := Scalar.indexCast v20112
  let c5_8042 : Index := 5#32
  ![v20435.toNat, 5]
def k1_off1120 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20451 : Index := Scalar.indexCast v20112
  let c6_8048 : Index := 6#32
  ![v20451.toNat, 6]
def k1_mult359 (v20454 : BitVec 32) : BitVec 32 :=
  let c0_i32_8052 : BitVec 32 := 0#32
  let v20458 : BitVec 1 := Scalar.cmpi .sgt v20454 c0_i32_8052
  let v20459 : BitVec 32 := Scalar.extui v20458
  let c0_i32_8053 : BitVec 32 := 0#32
  let v20460 : BitVec 1 := Scalar.cmpi .slt v20454 c0_i32_8053
  let v20461 : BitVec 32 := Scalar.extui v20460
  let v20462 : BitVec 32 := Scalar.subi v20459 v20461
  let c128_i32_8051 : BitVec 32 := 128#32
  let c0_i32_8054 : BitVec 32 := 0#32
  let v20463 : BitVec 1 := Scalar.cmpi .sgt c128_i32_8051 c0_i32_8054
  let v20464 : BitVec 32 := Scalar.extui v20463
  let c0_i32_8055 : BitVec 32 := 0#32
  let v20465 : BitVec 1 := Scalar.cmpi .slt c128_i32_8051 c0_i32_8055
  let v20466 : BitVec 32 := Scalar.extui v20465
  let v20467 : BitVec 32 := Scalar.subi v20464 v20466
  let v20468 : BitVec 1 := Scalar.cmpi .ne v20462 v20467
  let v20469 : BitVec 32 := Scalar.remsi v20454 c128_i32_8051
  let c0_i32_8056 : BitVec 32 := 0#32
  let v20470 : BitVec 1 := Scalar.cmpi .ne v20469 c0_i32_8056
  let v20471 : BitVec 1 := Scalar.andi v20468 v20470
  let v20457 : BitVec 32 := Scalar.divsi v20454 c128_i32_8051
  let c1_i32_8057 : BitVec 32 := 1#32
  let v20472 : BitVec 32 := Scalar.subi v20457 c1_i32_8057
  let v20473 : BitVec 32 := Scalar.select v20471 v20472 v20457
  let c128_i32_8058 : BitVec 32 := 128#32
  let v20474 : BitVec 32 := Scalar.muli v20473 c128_i32_8058
  v20474

def k1_off1121 (v20452 : BitVec 32) (v20454 : BitVec 32) : Fin 3 → Nat :=
  let v20477 : Index := Scalar.indexCast v20452
  let c0_8059 : Index := 0#32
  let c0_i32_8052 : BitVec 32 := 0#32
  let v20458 : BitVec 1 := Scalar.cmpi .sgt v20454 c0_i32_8052
  let v20459 : BitVec 32 := Scalar.extui v20458
  let c0_i32_8053 : BitVec 32 := 0#32
  let v20460 : BitVec 1 := Scalar.cmpi .slt v20454 c0_i32_8053
  let v20461 : BitVec 32 := Scalar.extui v20460
  let v20462 : BitVec 32 := Scalar.subi v20459 v20461
  let c128_i32_8051 : BitVec 32 := 128#32
  let c0_i32_8054 : BitVec 32 := 0#32
  let v20463 : BitVec 1 := Scalar.cmpi .sgt c128_i32_8051 c0_i32_8054
  let v20464 : BitVec 32 := Scalar.extui v20463
  let c0_i32_8055 : BitVec 32 := 0#32
  let v20465 : BitVec 1 := Scalar.cmpi .slt c128_i32_8051 c0_i32_8055
  let v20466 : BitVec 32 := Scalar.extui v20465
  let v20467 : BitVec 32 := Scalar.subi v20464 v20466
  let v20468 : BitVec 1 := Scalar.cmpi .ne v20462 v20467
  let v20469 : BitVec 32 := Scalar.remsi v20454 c128_i32_8051
  let c0_i32_8056 : BitVec 32 := 0#32
  let v20470 : BitVec 1 := Scalar.cmpi .ne v20469 c0_i32_8056
  let v20471 : BitVec 1 := Scalar.andi v20468 v20470
  let v20457 : BitVec 32 := Scalar.divsi v20454 c128_i32_8051
  let c1_i32_8057 : BitVec 32 := 1#32
  let v20472 : BitVec 32 := Scalar.subi v20457 c1_i32_8057
  let v20473 : BitVec 32 := Scalar.select v20471 v20472 v20457
  let c128_i32_8058 : BitVec 32 := 128#32
  let v20474 : BitVec 32 := Scalar.muli v20473 c128_i32_8058
  let v20475 : BitVec 32 := v20474
  let v20478 : Index := Scalar.indexCast v20475
  ![v20477.toNat, 0, v20478.toNat]

def k1_chk359 (v20452 : BitVec 32) (v20454 : BitVec 32) : Prop :=
  (128 ∣ (k1_mult359 v20454).toNat) ∧
  (∀ a, (k1_off1121 v20452 v20454) a + S1x16x512.size a ≤ S384x16x1152.size a)
theorem k1_mult359_dvd : ∀ (v20452 : BitVec 32) (v20454 : BitVec 32) (k1_hw359 : k1_chk359 v20452 v20454), 128 ∣ (k1_mult359 v20454).toNat := fun v20452 v20454 k1_hw359 => k1_hw359.1
theorem k1_off1121_inb : ∀ (v20452 : BitVec 32) (v20454 : BitVec 32) (k1_hw359 : k1_chk359 v20452 v20454), ∀ a, (k1_off1121 v20452 v20454) a + S1x16x512.size a ≤ S384x16x1152.size a := fun v20452 v20454 k1_hw359 => k1_hw359.2

def k1_off1122 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20488 : Index := Scalar.indexCast v20112
  let c6_8062 : Index := 6#32
  ![v20488.toNat, 6]
def k1_off1123 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20504 : Index := Scalar.indexCast v20112
  let c7_8068 : Index := 7#32
  ![v20504.toNat, 7]
def k1_mult360 (v20507 : BitVec 32) : BitVec 32 :=
  let c0_i32_8072 : BitVec 32 := 0#32
  let v20511 : BitVec 1 := Scalar.cmpi .sgt v20507 c0_i32_8072
  let v20512 : BitVec 32 := Scalar.extui v20511
  let c0_i32_8073 : BitVec 32 := 0#32
  let v20513 : BitVec 1 := Scalar.cmpi .slt v20507 c0_i32_8073
  let v20514 : BitVec 32 := Scalar.extui v20513
  let v20515 : BitVec 32 := Scalar.subi v20512 v20514
  let c128_i32_8071 : BitVec 32 := 128#32
  let c0_i32_8074 : BitVec 32 := 0#32
  let v20516 : BitVec 1 := Scalar.cmpi .sgt c128_i32_8071 c0_i32_8074
  let v20517 : BitVec 32 := Scalar.extui v20516
  let c0_i32_8075 : BitVec 32 := 0#32
  let v20518 : BitVec 1 := Scalar.cmpi .slt c128_i32_8071 c0_i32_8075
  let v20519 : BitVec 32 := Scalar.extui v20518
  let v20520 : BitVec 32 := Scalar.subi v20517 v20519
  let v20521 : BitVec 1 := Scalar.cmpi .ne v20515 v20520
  let v20522 : BitVec 32 := Scalar.remsi v20507 c128_i32_8071
  let c0_i32_8076 : BitVec 32 := 0#32
  let v20523 : BitVec 1 := Scalar.cmpi .ne v20522 c0_i32_8076
  let v20524 : BitVec 1 := Scalar.andi v20521 v20523
  let v20510 : BitVec 32 := Scalar.divsi v20507 c128_i32_8071
  let c1_i32_8077 : BitVec 32 := 1#32
  let v20525 : BitVec 32 := Scalar.subi v20510 c1_i32_8077
  let v20526 : BitVec 32 := Scalar.select v20524 v20525 v20510
  let c128_i32_8078 : BitVec 32 := 128#32
  let v20527 : BitVec 32 := Scalar.muli v20526 c128_i32_8078
  v20527

def k1_off1124 (v20505 : BitVec 32) (v20507 : BitVec 32) : Fin 3 → Nat :=
  let v20530 : Index := Scalar.indexCast v20505
  let c0_8079 : Index := 0#32
  let c0_i32_8072 : BitVec 32 := 0#32
  let v20511 : BitVec 1 := Scalar.cmpi .sgt v20507 c0_i32_8072
  let v20512 : BitVec 32 := Scalar.extui v20511
  let c0_i32_8073 : BitVec 32 := 0#32
  let v20513 : BitVec 1 := Scalar.cmpi .slt v20507 c0_i32_8073
  let v20514 : BitVec 32 := Scalar.extui v20513
  let v20515 : BitVec 32 := Scalar.subi v20512 v20514
  let c128_i32_8071 : BitVec 32 := 128#32
  let c0_i32_8074 : BitVec 32 := 0#32
  let v20516 : BitVec 1 := Scalar.cmpi .sgt c128_i32_8071 c0_i32_8074
  let v20517 : BitVec 32 := Scalar.extui v20516
  let c0_i32_8075 : BitVec 32 := 0#32
  let v20518 : BitVec 1 := Scalar.cmpi .slt c128_i32_8071 c0_i32_8075
  let v20519 : BitVec 32 := Scalar.extui v20518
  let v20520 : BitVec 32 := Scalar.subi v20517 v20519
  let v20521 : BitVec 1 := Scalar.cmpi .ne v20515 v20520
  let v20522 : BitVec 32 := Scalar.remsi v20507 c128_i32_8071
  let c0_i32_8076 : BitVec 32 := 0#32
  let v20523 : BitVec 1 := Scalar.cmpi .ne v20522 c0_i32_8076
  let v20524 : BitVec 1 := Scalar.andi v20521 v20523
  let v20510 : BitVec 32 := Scalar.divsi v20507 c128_i32_8071
  let c1_i32_8077 : BitVec 32 := 1#32
  let v20525 : BitVec 32 := Scalar.subi v20510 c1_i32_8077
  let v20526 : BitVec 32 := Scalar.select v20524 v20525 v20510
  let c128_i32_8078 : BitVec 32 := 128#32
  let v20527 : BitVec 32 := Scalar.muli v20526 c128_i32_8078
  let v20528 : BitVec 32 := v20527
  let v20531 : Index := Scalar.indexCast v20528
  ![v20530.toNat, 0, v20531.toNat]

def k1_chk360 (v20505 : BitVec 32) (v20507 : BitVec 32) : Prop :=
  (128 ∣ (k1_mult360 v20507).toNat) ∧
  (∀ a, (k1_off1124 v20505 v20507) a + S1x16x512.size a ≤ S384x16x1152.size a)
theorem k1_mult360_dvd : ∀ (v20505 : BitVec 32) (v20507 : BitVec 32) (k1_hw360 : k1_chk360 v20505 v20507), 128 ∣ (k1_mult360 v20507).toNat := fun v20505 v20507 k1_hw360 => k1_hw360.1
theorem k1_off1124_inb : ∀ (v20505 : BitVec 32) (v20507 : BitVec 32) (k1_hw360 : k1_chk360 v20505 v20507), ∀ a, (k1_off1124 v20505 v20507) a + S1x16x512.size a ≤ S384x16x1152.size a := fun v20505 v20507 k1_hw360 => k1_hw360.2

def k1_off1125 (i : grid1.Coords) : Fin 2 → Nat :=
  let arg0 : BitVec 32 := BitVec.ofNat 32 (i 0).val
  let c48_i32_7917 : BitVec 32 := 48#32
  let v20111 : BitVec 32 := Scalar.muli arg0 c48_i32_7917
  let c44_i32 : BitVec 32 := 44#32
  let v20112 : BitVec 32 := Scalar.addi v20111 c44_i32
  let v20541 : Index := Scalar.indexCast v20112
  let c7_8082 : Index := 7#32
  ![v20541.toNat, 7]
def k1_off1126 (i : grid1.Coords) : Fin 3 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20570 : Index := Scalar.indexCast v20569
  let c0_8098 : Index := 0#32
  let c720_8099 : Index := 720#32
  ![v20570.toNat, 0, 720]
def k1_off1127 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20590 : Index := Scalar.indexCast v20569
  let c0_8108 : Index := 0#32
  ![v20590.toNat, 0]
def k1_mult361 (v20593 : BitVec 32) : BitVec 32 :=
  let c0_i32_8112 : BitVec 32 := 0#32
  let v20597 : BitVec 1 := Scalar.cmpi .sgt v20593 c0_i32_8112
  let v20598 : BitVec 32 := Scalar.extui v20597
  let c0_i32_8113 : BitVec 32 := 0#32
  let v20599 : BitVec 1 := Scalar.cmpi .slt v20593 c0_i32_8113
  let v20600 : BitVec 32 := Scalar.extui v20599
  let v20601 : BitVec 32 := Scalar.subi v20598 v20600
  let c128_i32_8111 : BitVec 32 := 128#32
  let c0_i32_8114 : BitVec 32 := 0#32
  let v20602 : BitVec 1 := Scalar.cmpi .sgt c128_i32_8111 c0_i32_8114
  let v20603 : BitVec 32 := Scalar.extui v20602
  let c0_i32_8115 : BitVec 32 := 0#32
  let v20604 : BitVec 1 := Scalar.cmpi .slt c128_i32_8111 c0_i32_8115
  let v20605 : BitVec 32 := Scalar.extui v20604
  let v20606 : BitVec 32 := Scalar.subi v20603 v20605
  let v20607 : BitVec 1 := Scalar.cmpi .ne v20601 v20606
  let v20608 : BitVec 32 := Scalar.remsi v20593 c128_i32_8111
  let c0_i32_8116 : BitVec 32 := 0#32
  let v20609 : BitVec 1 := Scalar.cmpi .ne v20608 c0_i32_8116
  let v20610 : BitVec 1 := Scalar.andi v20607 v20609
  let v20596 : BitVec 32 := Scalar.divsi v20593 c128_i32_8111
  let c1_i32_8117 : BitVec 32 := 1#32
  let v20611 : BitVec 32 := Scalar.subi v20596 c1_i32_8117
  let v20612 : BitVec 32 := Scalar.select v20610 v20611 v20596
  let c128_i32_8118 : BitVec 32 := 128#32
  let v20613 : BitVec 32 := Scalar.muli v20612 c128_i32_8118
  v20613

def k1_off1128 (v20591 : BitVec 32) (v20593 : BitVec 32) : Fin 3 → Nat :=
  let v20616 : Index := Scalar.indexCast v20591
  let c0_8119 : Index := 0#32
  let c0_i32_8112 : BitVec 32 := 0#32
  let v20597 : BitVec 1 := Scalar.cmpi .sgt v20593 c0_i32_8112
  let v20598 : BitVec 32 := Scalar.extui v20597
  let c0_i32_8113 : BitVec 32 := 0#32
  let v20599 : BitVec 1 := Scalar.cmpi .slt v20593 c0_i32_8113
  let v20600 : BitVec 32 := Scalar.extui v20599
  let v20601 : BitVec 32 := Scalar.subi v20598 v20600
  let c128_i32_8111 : BitVec 32 := 128#32
  let c0_i32_8114 : BitVec 32 := 0#32
  let v20602 : BitVec 1 := Scalar.cmpi .sgt c128_i32_8111 c0_i32_8114
  let v20603 : BitVec 32 := Scalar.extui v20602
  let c0_i32_8115 : BitVec 32 := 0#32
  let v20604 : BitVec 1 := Scalar.cmpi .slt c128_i32_8111 c0_i32_8115
  let v20605 : BitVec 32 := Scalar.extui v20604
  let v20606 : BitVec 32 := Scalar.subi v20603 v20605
  let v20607 : BitVec 1 := Scalar.cmpi .ne v20601 v20606
  let v20608 : BitVec 32 := Scalar.remsi v20593 c128_i32_8111
  let c0_i32_8116 : BitVec 32 := 0#32
  let v20609 : BitVec 1 := Scalar.cmpi .ne v20608 c0_i32_8116
  let v20610 : BitVec 1 := Scalar.andi v20607 v20609
  let v20596 : BitVec 32 := Scalar.divsi v20593 c128_i32_8111
  let c1_i32_8117 : BitVec 32 := 1#32
  let v20611 : BitVec 32 := Scalar.subi v20596 c1_i32_8117
  let v20612 : BitVec 32 := Scalar.select v20610 v20611 v20596
  let c128_i32_8118 : BitVec 32 := 128#32
  let v20613 : BitVec 32 := Scalar.muli v20612 c128_i32_8118
  let v20614 : BitVec 32 := v20613
  let v20617 : Index := Scalar.indexCast v20614
  ![v20616.toNat, 0, v20617.toNat]

def k1_chk361 (v20591 : BitVec 32) (v20593 : BitVec 32) : Prop :=
  (128 ∣ (k1_mult361 v20593).toNat) ∧
  (∀ a, (k1_off1128 v20591 v20593) a + S1x16x512.size a ≤ S384x16x1152.size a)
theorem k1_mult361_dvd : ∀ (v20591 : BitVec 32) (v20593 : BitVec 32) (k1_hw361 : k1_chk361 v20591 v20593), 128 ∣ (k1_mult361 v20593).toNat := fun v20591 v20593 k1_hw361 => k1_hw361.1
theorem k1_off1128_inb : ∀ (v20591 : BitVec 32) (v20593 : BitVec 32) (k1_hw361 : k1_chk361 v20591 v20593), ∀ a, (k1_off1128 v20591 v20593) a + S1x16x512.size a ≤ S384x16x1152.size a := fun v20591 v20593 k1_hw361 => k1_hw361.2

def k1_off1129 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20627 : Index := Scalar.indexCast v20569
  let c0_8122 : Index := 0#32
  ![v20627.toNat, 0]
def k1_off1130 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20643 : Index := Scalar.indexCast v20569
  let c1_8128 : Index := 1#32
  ![v20643.toNat, 1]
def k1_mult362 (v20646 : BitVec 32) : BitVec 32 :=
  let c0_i32_8132 : BitVec 32 := 0#32
  let v20650 : BitVec 1 := Scalar.cmpi .sgt v20646 c0_i32_8132
  let v20651 : BitVec 32 := Scalar.extui v20650
  let c0_i32_8133 : BitVec 32 := 0#32
  let v20652 : BitVec 1 := Scalar.cmpi .slt v20646 c0_i32_8133
  let v20653 : BitVec 32 := Scalar.extui v20652
  let v20654 : BitVec 32 := Scalar.subi v20651 v20653
  let c128_i32_8131 : BitVec 32 := 128#32
  let c0_i32_8134 : BitVec 32 := 0#32
  let v20655 : BitVec 1 := Scalar.cmpi .sgt c128_i32_8131 c0_i32_8134
  let v20656 : BitVec 32 := Scalar.extui v20655
  let c0_i32_8135 : BitVec 32 := 0#32
  let v20657 : BitVec 1 := Scalar.cmpi .slt c128_i32_8131 c0_i32_8135
  let v20658 : BitVec 32 := Scalar.extui v20657
  let v20659 : BitVec 32 := Scalar.subi v20656 v20658
  let v20660 : BitVec 1 := Scalar.cmpi .ne v20654 v20659
  let v20661 : BitVec 32 := Scalar.remsi v20646 c128_i32_8131
  let c0_i32_8136 : BitVec 32 := 0#32
  let v20662 : BitVec 1 := Scalar.cmpi .ne v20661 c0_i32_8136
  let v20663 : BitVec 1 := Scalar.andi v20660 v20662
  let v20649 : BitVec 32 := Scalar.divsi v20646 c128_i32_8131
  let c1_i32_8137 : BitVec 32 := 1#32
  let v20664 : BitVec 32 := Scalar.subi v20649 c1_i32_8137
  let v20665 : BitVec 32 := Scalar.select v20663 v20664 v20649
  let c128_i32_8138 : BitVec 32 := 128#32
  let v20666 : BitVec 32 := Scalar.muli v20665 c128_i32_8138
  v20666

def k1_off1131 (v20644 : BitVec 32) (v20646 : BitVec 32) : Fin 3 → Nat :=
  let v20669 : Index := Scalar.indexCast v20644
  let c0_8139 : Index := 0#32
  let c0_i32_8132 : BitVec 32 := 0#32
  let v20650 : BitVec 1 := Scalar.cmpi .sgt v20646 c0_i32_8132
  let v20651 : BitVec 32 := Scalar.extui v20650
  let c0_i32_8133 : BitVec 32 := 0#32
  let v20652 : BitVec 1 := Scalar.cmpi .slt v20646 c0_i32_8133
  let v20653 : BitVec 32 := Scalar.extui v20652
  let v20654 : BitVec 32 := Scalar.subi v20651 v20653
  let c128_i32_8131 : BitVec 32 := 128#32
  let c0_i32_8134 : BitVec 32 := 0#32
  let v20655 : BitVec 1 := Scalar.cmpi .sgt c128_i32_8131 c0_i32_8134
  let v20656 : BitVec 32 := Scalar.extui v20655
  let c0_i32_8135 : BitVec 32 := 0#32
  let v20657 : BitVec 1 := Scalar.cmpi .slt c128_i32_8131 c0_i32_8135
  let v20658 : BitVec 32 := Scalar.extui v20657
  let v20659 : BitVec 32 := Scalar.subi v20656 v20658
  let v20660 : BitVec 1 := Scalar.cmpi .ne v20654 v20659
  let v20661 : BitVec 32 := Scalar.remsi v20646 c128_i32_8131
  let c0_i32_8136 : BitVec 32 := 0#32
  let v20662 : BitVec 1 := Scalar.cmpi .ne v20661 c0_i32_8136
  let v20663 : BitVec 1 := Scalar.andi v20660 v20662
  let v20649 : BitVec 32 := Scalar.divsi v20646 c128_i32_8131
  let c1_i32_8137 : BitVec 32 := 1#32
  let v20664 : BitVec 32 := Scalar.subi v20649 c1_i32_8137
  let v20665 : BitVec 32 := Scalar.select v20663 v20664 v20649
  let c128_i32_8138 : BitVec 32 := 128#32
  let v20666 : BitVec 32 := Scalar.muli v20665 c128_i32_8138
  let v20667 : BitVec 32 := v20666
  let v20670 : Index := Scalar.indexCast v20667
  ![v20669.toNat, 0, v20670.toNat]

def k1_chk362 (v20644 : BitVec 32) (v20646 : BitVec 32) : Prop :=
  (128 ∣ (k1_mult362 v20646).toNat) ∧
  (∀ a, (k1_off1131 v20644 v20646) a + S1x16x512.size a ≤ S384x16x1152.size a)
theorem k1_mult362_dvd : ∀ (v20644 : BitVec 32) (v20646 : BitVec 32) (k1_hw362 : k1_chk362 v20644 v20646), 128 ∣ (k1_mult362 v20646).toNat := fun v20644 v20646 k1_hw362 => k1_hw362.1
theorem k1_off1131_inb : ∀ (v20644 : BitVec 32) (v20646 : BitVec 32) (k1_hw362 : k1_chk362 v20644 v20646), ∀ a, (k1_off1131 v20644 v20646) a + S1x16x512.size a ≤ S384x16x1152.size a := fun v20644 v20646 k1_hw362 => k1_hw362.2

def k1_off1132 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20680 : Index := Scalar.indexCast v20569
  let c1_8142 : Index := 1#32
  ![v20680.toNat, 1]
def k1_off1133 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20696 : Index := Scalar.indexCast v20569
  let c2_8148 : Index := 2#32
  ![v20696.toNat, 2]
def k1_mult363 (v20699 : BitVec 32) : BitVec 32 :=
  let c0_i32_8152 : BitVec 32 := 0#32
  let v20703 : BitVec 1 := Scalar.cmpi .sgt v20699 c0_i32_8152
  let v20704 : BitVec 32 := Scalar.extui v20703
  let c0_i32_8153 : BitVec 32 := 0#32
  let v20705 : BitVec 1 := Scalar.cmpi .slt v20699 c0_i32_8153
  let v20706 : BitVec 32 := Scalar.extui v20705
  let v20707 : BitVec 32 := Scalar.subi v20704 v20706
  let c128_i32_8151 : BitVec 32 := 128#32
  let c0_i32_8154 : BitVec 32 := 0#32
  let v20708 : BitVec 1 := Scalar.cmpi .sgt c128_i32_8151 c0_i32_8154
  let v20709 : BitVec 32 := Scalar.extui v20708
  let c0_i32_8155 : BitVec 32 := 0#32
  let v20710 : BitVec 1 := Scalar.cmpi .slt c128_i32_8151 c0_i32_8155
  let v20711 : BitVec 32 := Scalar.extui v20710
  let v20712 : BitVec 32 := Scalar.subi v20709 v20711
  let v20713 : BitVec 1 := Scalar.cmpi .ne v20707 v20712
  let v20714 : BitVec 32 := Scalar.remsi v20699 c128_i32_8151
  let c0_i32_8156 : BitVec 32 := 0#32
  let v20715 : BitVec 1 := Scalar.cmpi .ne v20714 c0_i32_8156
  let v20716 : BitVec 1 := Scalar.andi v20713 v20715
  let v20702 : BitVec 32 := Scalar.divsi v20699 c128_i32_8151
  let c1_i32_8157 : BitVec 32 := 1#32
  let v20717 : BitVec 32 := Scalar.subi v20702 c1_i32_8157
  let v20718 : BitVec 32 := Scalar.select v20716 v20717 v20702
  let c128_i32_8158 : BitVec 32 := 128#32
  let v20719 : BitVec 32 := Scalar.muli v20718 c128_i32_8158
  v20719

def k1_off1134 (v20697 : BitVec 32) (v20699 : BitVec 32) : Fin 3 → Nat :=
  let v20722 : Index := Scalar.indexCast v20697
  let c0_8159 : Index := 0#32
  let c0_i32_8152 : BitVec 32 := 0#32
  let v20703 : BitVec 1 := Scalar.cmpi .sgt v20699 c0_i32_8152
  let v20704 : BitVec 32 := Scalar.extui v20703
  let c0_i32_8153 : BitVec 32 := 0#32
  let v20705 : BitVec 1 := Scalar.cmpi .slt v20699 c0_i32_8153
  let v20706 : BitVec 32 := Scalar.extui v20705
  let v20707 : BitVec 32 := Scalar.subi v20704 v20706
  let c128_i32_8151 : BitVec 32 := 128#32
  let c0_i32_8154 : BitVec 32 := 0#32
  let v20708 : BitVec 1 := Scalar.cmpi .sgt c128_i32_8151 c0_i32_8154
  let v20709 : BitVec 32 := Scalar.extui v20708
  let c0_i32_8155 : BitVec 32 := 0#32
  let v20710 : BitVec 1 := Scalar.cmpi .slt c128_i32_8151 c0_i32_8155
  let v20711 : BitVec 32 := Scalar.extui v20710
  let v20712 : BitVec 32 := Scalar.subi v20709 v20711
  let v20713 : BitVec 1 := Scalar.cmpi .ne v20707 v20712
  let v20714 : BitVec 32 := Scalar.remsi v20699 c128_i32_8151
  let c0_i32_8156 : BitVec 32 := 0#32
  let v20715 : BitVec 1 := Scalar.cmpi .ne v20714 c0_i32_8156
  let v20716 : BitVec 1 := Scalar.andi v20713 v20715
  let v20702 : BitVec 32 := Scalar.divsi v20699 c128_i32_8151
  let c1_i32_8157 : BitVec 32 := 1#32
  let v20717 : BitVec 32 := Scalar.subi v20702 c1_i32_8157
  let v20718 : BitVec 32 := Scalar.select v20716 v20717 v20702
  let c128_i32_8158 : BitVec 32 := 128#32
  let v20719 : BitVec 32 := Scalar.muli v20718 c128_i32_8158
  let v20720 : BitVec 32 := v20719
  let v20723 : Index := Scalar.indexCast v20720
  ![v20722.toNat, 0, v20723.toNat]

def k1_chk363 (v20697 : BitVec 32) (v20699 : BitVec 32) : Prop :=
  (128 ∣ (k1_mult363 v20699).toNat) ∧
  (∀ a, (k1_off1134 v20697 v20699) a + S1x16x512.size a ≤ S384x16x1152.size a)
theorem k1_mult363_dvd : ∀ (v20697 : BitVec 32) (v20699 : BitVec 32) (k1_hw363 : k1_chk363 v20697 v20699), 128 ∣ (k1_mult363 v20699).toNat := fun v20697 v20699 k1_hw363 => k1_hw363.1
theorem k1_off1134_inb : ∀ (v20697 : BitVec 32) (v20699 : BitVec 32) (k1_hw363 : k1_chk363 v20697 v20699), ∀ a, (k1_off1134 v20697 v20699) a + S1x16x512.size a ≤ S384x16x1152.size a := fun v20697 v20699 k1_hw363 => k1_hw363.2

def k1_off1135 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20733 : Index := Scalar.indexCast v20569
  let c2_8162 : Index := 2#32
  ![v20733.toNat, 2]
def k1_off1136 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20749 : Index := Scalar.indexCast v20569
  let c3_8168 : Index := 3#32
  ![v20749.toNat, 3]
def k1_mult364 (v20752 : BitVec 32) : BitVec 32 :=
  let c0_i32_8172 : BitVec 32 := 0#32
  let v20756 : BitVec 1 := Scalar.cmpi .sgt v20752 c0_i32_8172
  let v20757 : BitVec 32 := Scalar.extui v20756
  let c0_i32_8173 : BitVec 32 := 0#32
  let v20758 : BitVec 1 := Scalar.cmpi .slt v20752 c0_i32_8173
  let v20759 : BitVec 32 := Scalar.extui v20758
  let v20760 : BitVec 32 := Scalar.subi v20757 v20759
  let c128_i32_8171 : BitVec 32 := 128#32
  let c0_i32_8174 : BitVec 32 := 0#32
  let v20761 : BitVec 1 := Scalar.cmpi .sgt c128_i32_8171 c0_i32_8174
  let v20762 : BitVec 32 := Scalar.extui v20761
  let c0_i32_8175 : BitVec 32 := 0#32
  let v20763 : BitVec 1 := Scalar.cmpi .slt c128_i32_8171 c0_i32_8175
  let v20764 : BitVec 32 := Scalar.extui v20763
  let v20765 : BitVec 32 := Scalar.subi v20762 v20764
  let v20766 : BitVec 1 := Scalar.cmpi .ne v20760 v20765
  let v20767 : BitVec 32 := Scalar.remsi v20752 c128_i32_8171
  let c0_i32_8176 : BitVec 32 := 0#32
  let v20768 : BitVec 1 := Scalar.cmpi .ne v20767 c0_i32_8176
  let v20769 : BitVec 1 := Scalar.andi v20766 v20768
  let v20755 : BitVec 32 := Scalar.divsi v20752 c128_i32_8171
  let c1_i32_8177 : BitVec 32 := 1#32
  let v20770 : BitVec 32 := Scalar.subi v20755 c1_i32_8177
  let v20771 : BitVec 32 := Scalar.select v20769 v20770 v20755
  let c128_i32_8178 : BitVec 32 := 128#32
  let v20772 : BitVec 32 := Scalar.muli v20771 c128_i32_8178
  v20772

def k1_off1137 (v20750 : BitVec 32) (v20752 : BitVec 32) : Fin 3 → Nat :=
  let v20775 : Index := Scalar.indexCast v20750
  let c0_8179 : Index := 0#32
  let c0_i32_8172 : BitVec 32 := 0#32
  let v20756 : BitVec 1 := Scalar.cmpi .sgt v20752 c0_i32_8172
  let v20757 : BitVec 32 := Scalar.extui v20756
  let c0_i32_8173 : BitVec 32 := 0#32
  let v20758 : BitVec 1 := Scalar.cmpi .slt v20752 c0_i32_8173
  let v20759 : BitVec 32 := Scalar.extui v20758
  let v20760 : BitVec 32 := Scalar.subi v20757 v20759
  let c128_i32_8171 : BitVec 32 := 128#32
  let c0_i32_8174 : BitVec 32 := 0#32
  let v20761 : BitVec 1 := Scalar.cmpi .sgt c128_i32_8171 c0_i32_8174
  let v20762 : BitVec 32 := Scalar.extui v20761
  let c0_i32_8175 : BitVec 32 := 0#32
  let v20763 : BitVec 1 := Scalar.cmpi .slt c128_i32_8171 c0_i32_8175
  let v20764 : BitVec 32 := Scalar.extui v20763
  let v20765 : BitVec 32 := Scalar.subi v20762 v20764
  let v20766 : BitVec 1 := Scalar.cmpi .ne v20760 v20765
  let v20767 : BitVec 32 := Scalar.remsi v20752 c128_i32_8171
  let c0_i32_8176 : BitVec 32 := 0#32
  let v20768 : BitVec 1 := Scalar.cmpi .ne v20767 c0_i32_8176
  let v20769 : BitVec 1 := Scalar.andi v20766 v20768
  let v20755 : BitVec 32 := Scalar.divsi v20752 c128_i32_8171
  let c1_i32_8177 : BitVec 32 := 1#32
  let v20770 : BitVec 32 := Scalar.subi v20755 c1_i32_8177
  let v20771 : BitVec 32 := Scalar.select v20769 v20770 v20755
  let c128_i32_8178 : BitVec 32 := 128#32
  let v20772 : BitVec 32 := Scalar.muli v20771 c128_i32_8178
  let v20773 : BitVec 32 := v20772
  let v20776 : Index := Scalar.indexCast v20773
  ![v20775.toNat, 0, v20776.toNat]

def k1_chk364 (v20750 : BitVec 32) (v20752 : BitVec 32) : Prop :=
  (128 ∣ (k1_mult364 v20752).toNat) ∧
  (∀ a, (k1_off1137 v20750 v20752) a + S1x16x512.size a ≤ S384x16x1152.size a)
theorem k1_mult364_dvd : ∀ (v20750 : BitVec 32) (v20752 : BitVec 32) (k1_hw364 : k1_chk364 v20750 v20752), 128 ∣ (k1_mult364 v20752).toNat := fun v20750 v20752 k1_hw364 => k1_hw364.1
theorem k1_off1137_inb : ∀ (v20750 : BitVec 32) (v20752 : BitVec 32) (k1_hw364 : k1_chk364 v20750 v20752), ∀ a, (k1_off1137 v20750 v20752) a + S1x16x512.size a ≤ S384x16x1152.size a := fun v20750 v20752 k1_hw364 => k1_hw364.2

def k1_off1138 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20786 : Index := Scalar.indexCast v20569
  let c3_8182 : Index := 3#32
  ![v20786.toNat, 3]
def k1_off1139 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20802 : Index := Scalar.indexCast v20569
  let c4_8188 : Index := 4#32
  ![v20802.toNat, 4]
def k1_mult365 (v20805 : BitVec 32) : BitVec 32 :=
  let c0_i32_8192 : BitVec 32 := 0#32
  let v20809 : BitVec 1 := Scalar.cmpi .sgt v20805 c0_i32_8192
  let v20810 : BitVec 32 := Scalar.extui v20809
  let c0_i32_8193 : BitVec 32 := 0#32
  let v20811 : BitVec 1 := Scalar.cmpi .slt v20805 c0_i32_8193
  let v20812 : BitVec 32 := Scalar.extui v20811
  let v20813 : BitVec 32 := Scalar.subi v20810 v20812
  let c128_i32_8191 : BitVec 32 := 128#32
  let c0_i32_8194 : BitVec 32 := 0#32
  let v20814 : BitVec 1 := Scalar.cmpi .sgt c128_i32_8191 c0_i32_8194
  let v20815 : BitVec 32 := Scalar.extui v20814
  let c0_i32_8195 : BitVec 32 := 0#32
  let v20816 : BitVec 1 := Scalar.cmpi .slt c128_i32_8191 c0_i32_8195
  let v20817 : BitVec 32 := Scalar.extui v20816
  let v20818 : BitVec 32 := Scalar.subi v20815 v20817
  let v20819 : BitVec 1 := Scalar.cmpi .ne v20813 v20818
  let v20820 : BitVec 32 := Scalar.remsi v20805 c128_i32_8191
  let c0_i32_8196 : BitVec 32 := 0#32
  let v20821 : BitVec 1 := Scalar.cmpi .ne v20820 c0_i32_8196
  let v20822 : BitVec 1 := Scalar.andi v20819 v20821
  let v20808 : BitVec 32 := Scalar.divsi v20805 c128_i32_8191
  let c1_i32_8197 : BitVec 32 := 1#32
  let v20823 : BitVec 32 := Scalar.subi v20808 c1_i32_8197
  let v20824 : BitVec 32 := Scalar.select v20822 v20823 v20808
  let c128_i32_8198 : BitVec 32 := 128#32
  let v20825 : BitVec 32 := Scalar.muli v20824 c128_i32_8198
  v20825

def k1_off1140 (v20803 : BitVec 32) (v20805 : BitVec 32) : Fin 3 → Nat :=
  let v20828 : Index := Scalar.indexCast v20803
  let c0_8199 : Index := 0#32
  let c0_i32_8192 : BitVec 32 := 0#32
  let v20809 : BitVec 1 := Scalar.cmpi .sgt v20805 c0_i32_8192
  let v20810 : BitVec 32 := Scalar.extui v20809
  let c0_i32_8193 : BitVec 32 := 0#32
  let v20811 : BitVec 1 := Scalar.cmpi .slt v20805 c0_i32_8193
  let v20812 : BitVec 32 := Scalar.extui v20811
  let v20813 : BitVec 32 := Scalar.subi v20810 v20812
  let c128_i32_8191 : BitVec 32 := 128#32
  let c0_i32_8194 : BitVec 32 := 0#32
  let v20814 : BitVec 1 := Scalar.cmpi .sgt c128_i32_8191 c0_i32_8194
  let v20815 : BitVec 32 := Scalar.extui v20814
  let c0_i32_8195 : BitVec 32 := 0#32
  let v20816 : BitVec 1 := Scalar.cmpi .slt c128_i32_8191 c0_i32_8195
  let v20817 : BitVec 32 := Scalar.extui v20816
  let v20818 : BitVec 32 := Scalar.subi v20815 v20817
  let v20819 : BitVec 1 := Scalar.cmpi .ne v20813 v20818
  let v20820 : BitVec 32 := Scalar.remsi v20805 c128_i32_8191
  let c0_i32_8196 : BitVec 32 := 0#32
  let v20821 : BitVec 1 := Scalar.cmpi .ne v20820 c0_i32_8196
  let v20822 : BitVec 1 := Scalar.andi v20819 v20821
  let v20808 : BitVec 32 := Scalar.divsi v20805 c128_i32_8191
  let c1_i32_8197 : BitVec 32 := 1#32
  let v20823 : BitVec 32 := Scalar.subi v20808 c1_i32_8197
  let v20824 : BitVec 32 := Scalar.select v20822 v20823 v20808
  let c128_i32_8198 : BitVec 32 := 128#32
  let v20825 : BitVec 32 := Scalar.muli v20824 c128_i32_8198
  let v20826 : BitVec 32 := v20825
  let v20829 : Index := Scalar.indexCast v20826
  ![v20828.toNat, 0, v20829.toNat]

def k1_chk365 (v20803 : BitVec 32) (v20805 : BitVec 32) : Prop :=
  (128 ∣ (k1_mult365 v20805).toNat) ∧
  (∀ a, (k1_off1140 v20803 v20805) a + S1x16x512.size a ≤ S384x16x1152.size a)
theorem k1_mult365_dvd : ∀ (v20803 : BitVec 32) (v20805 : BitVec 32) (k1_hw365 : k1_chk365 v20803 v20805), 128 ∣ (k1_mult365 v20805).toNat := fun v20803 v20805 k1_hw365 => k1_hw365.1
theorem k1_off1140_inb : ∀ (v20803 : BitVec 32) (v20805 : BitVec 32) (k1_hw365 : k1_chk365 v20803 v20805), ∀ a, (k1_off1140 v20803 v20805) a + S1x16x512.size a ≤ S384x16x1152.size a := fun v20803 v20805 k1_hw365 => k1_hw365.2

def k1_off1141 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20839 : Index := Scalar.indexCast v20569
  let c4_8202 : Index := 4#32
  ![v20839.toNat, 4]
def k1_off1142 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20855 : Index := Scalar.indexCast v20569
  let c5_8208 : Index := 5#32
  ![v20855.toNat, 5]
def k1_mult366 (v20858 : BitVec 32) : BitVec 32 :=
  let c0_i32_8212 : BitVec 32 := 0#32
  let v20862 : BitVec 1 := Scalar.cmpi .sgt v20858 c0_i32_8212
  let v20863 : BitVec 32 := Scalar.extui v20862
  let c0_i32_8213 : BitVec 32 := 0#32
  let v20864 : BitVec 1 := Scalar.cmpi .slt v20858 c0_i32_8213
  let v20865 : BitVec 32 := Scalar.extui v20864
  let v20866 : BitVec 32 := Scalar.subi v20863 v20865
  let c128_i32_8211 : BitVec 32 := 128#32
  let c0_i32_8214 : BitVec 32 := 0#32
  let v20867 : BitVec 1 := Scalar.cmpi .sgt c128_i32_8211 c0_i32_8214
  let v20868 : BitVec 32 := Scalar.extui v20867
  let c0_i32_8215 : BitVec 32 := 0#32
  let v20869 : BitVec 1 := Scalar.cmpi .slt c128_i32_8211 c0_i32_8215
  let v20870 : BitVec 32 := Scalar.extui v20869
  let v20871 : BitVec 32 := Scalar.subi v20868 v20870
  let v20872 : BitVec 1 := Scalar.cmpi .ne v20866 v20871
  let v20873 : BitVec 32 := Scalar.remsi v20858 c128_i32_8211
  let c0_i32_8216 : BitVec 32 := 0#32
  let v20874 : BitVec 1 := Scalar.cmpi .ne v20873 c0_i32_8216
  let v20875 : BitVec 1 := Scalar.andi v20872 v20874
  let v20861 : BitVec 32 := Scalar.divsi v20858 c128_i32_8211
  let c1_i32_8217 : BitVec 32 := 1#32
  let v20876 : BitVec 32 := Scalar.subi v20861 c1_i32_8217
  let v20877 : BitVec 32 := Scalar.select v20875 v20876 v20861
  let c128_i32_8218 : BitVec 32 := 128#32
  let v20878 : BitVec 32 := Scalar.muli v20877 c128_i32_8218
  v20878

def k1_off1143 (v20856 : BitVec 32) (v20858 : BitVec 32) : Fin 3 → Nat :=
  let v20881 : Index := Scalar.indexCast v20856
  let c0_8219 : Index := 0#32
  let c0_i32_8212 : BitVec 32 := 0#32
  let v20862 : BitVec 1 := Scalar.cmpi .sgt v20858 c0_i32_8212
  let v20863 : BitVec 32 := Scalar.extui v20862
  let c0_i32_8213 : BitVec 32 := 0#32
  let v20864 : BitVec 1 := Scalar.cmpi .slt v20858 c0_i32_8213
  let v20865 : BitVec 32 := Scalar.extui v20864
  let v20866 : BitVec 32 := Scalar.subi v20863 v20865
  let c128_i32_8211 : BitVec 32 := 128#32
  let c0_i32_8214 : BitVec 32 := 0#32
  let v20867 : BitVec 1 := Scalar.cmpi .sgt c128_i32_8211 c0_i32_8214
  let v20868 : BitVec 32 := Scalar.extui v20867
  let c0_i32_8215 : BitVec 32 := 0#32
  let v20869 : BitVec 1 := Scalar.cmpi .slt c128_i32_8211 c0_i32_8215
  let v20870 : BitVec 32 := Scalar.extui v20869
  let v20871 : BitVec 32 := Scalar.subi v20868 v20870
  let v20872 : BitVec 1 := Scalar.cmpi .ne v20866 v20871
  let v20873 : BitVec 32 := Scalar.remsi v20858 c128_i32_8211
  let c0_i32_8216 : BitVec 32 := 0#32
  let v20874 : BitVec 1 := Scalar.cmpi .ne v20873 c0_i32_8216
  let v20875 : BitVec 1 := Scalar.andi v20872 v20874
  let v20861 : BitVec 32 := Scalar.divsi v20858 c128_i32_8211
  let c1_i32_8217 : BitVec 32 := 1#32
  let v20876 : BitVec 32 := Scalar.subi v20861 c1_i32_8217
  let v20877 : BitVec 32 := Scalar.select v20875 v20876 v20861
  let c128_i32_8218 : BitVec 32 := 128#32
  let v20878 : BitVec 32 := Scalar.muli v20877 c128_i32_8218
  let v20879 : BitVec 32 := v20878
  let v20882 : Index := Scalar.indexCast v20879
  ![v20881.toNat, 0, v20882.toNat]

def k1_chk366 (v20856 : BitVec 32) (v20858 : BitVec 32) : Prop :=
  (128 ∣ (k1_mult366 v20858).toNat) ∧
  (∀ a, (k1_off1143 v20856 v20858) a + S1x16x512.size a ≤ S384x16x1152.size a)
theorem k1_mult366_dvd : ∀ (v20856 : BitVec 32) (v20858 : BitVec 32) (k1_hw366 : k1_chk366 v20856 v20858), 128 ∣ (k1_mult366 v20858).toNat := fun v20856 v20858 k1_hw366 => k1_hw366.1
theorem k1_off1143_inb : ∀ (v20856 : BitVec 32) (v20858 : BitVec 32) (k1_hw366 : k1_chk366 v20856 v20858), ∀ a, (k1_off1143 v20856 v20858) a + S1x16x512.size a ≤ S384x16x1152.size a := fun v20856 v20858 k1_hw366 => k1_hw366.2

def k1_off1144 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20892 : Index := Scalar.indexCast v20569
  let c5_8222 : Index := 5#32
  ![v20892.toNat, 5]
def k1_off1145 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20908 : Index := Scalar.indexCast v20569
  let c6_8228 : Index := 6#32
  ![v20908.toNat, 6]
def k1_mult367 (v20911 : BitVec 32) : BitVec 32 :=
  let c0_i32_8232 : BitVec 32 := 0#32
  let v20915 : BitVec 1 := Scalar.cmpi .sgt v20911 c0_i32_8232
  let v20916 : BitVec 32 := Scalar.extui v20915
  let c0_i32_8233 : BitVec 32 := 0#32
  let v20917 : BitVec 1 := Scalar.cmpi .slt v20911 c0_i32_8233
  let v20918 : BitVec 32 := Scalar.extui v20917
  let v20919 : BitVec 32 := Scalar.subi v20916 v20918
  let c128_i32_8231 : BitVec 32 := 128#32
  let c0_i32_8234 : BitVec 32 := 0#32
  let v20920 : BitVec 1 := Scalar.cmpi .sgt c128_i32_8231 c0_i32_8234
  let v20921 : BitVec 32 := Scalar.extui v20920
  let c0_i32_8235 : BitVec 32 := 0#32
  let v20922 : BitVec 1 := Scalar.cmpi .slt c128_i32_8231 c0_i32_8235
  let v20923 : BitVec 32 := Scalar.extui v20922
  let v20924 : BitVec 32 := Scalar.subi v20921 v20923
  let v20925 : BitVec 1 := Scalar.cmpi .ne v20919 v20924
  let v20926 : BitVec 32 := Scalar.remsi v20911 c128_i32_8231
  let c0_i32_8236 : BitVec 32 := 0#32
  let v20927 : BitVec 1 := Scalar.cmpi .ne v20926 c0_i32_8236
  let v20928 : BitVec 1 := Scalar.andi v20925 v20927
  let v20914 : BitVec 32 := Scalar.divsi v20911 c128_i32_8231
  let c1_i32_8237 : BitVec 32 := 1#32
  let v20929 : BitVec 32 := Scalar.subi v20914 c1_i32_8237
  let v20930 : BitVec 32 := Scalar.select v20928 v20929 v20914
  let c128_i32_8238 : BitVec 32 := 128#32
  let v20931 : BitVec 32 := Scalar.muli v20930 c128_i32_8238
  v20931

def k1_off1146 (v20909 : BitVec 32) (v20911 : BitVec 32) : Fin 3 → Nat :=
  let v20934 : Index := Scalar.indexCast v20909
  let c0_8239 : Index := 0#32
  let c0_i32_8232 : BitVec 32 := 0#32
  let v20915 : BitVec 1 := Scalar.cmpi .sgt v20911 c0_i32_8232
  let v20916 : BitVec 32 := Scalar.extui v20915
  let c0_i32_8233 : BitVec 32 := 0#32
  let v20917 : BitVec 1 := Scalar.cmpi .slt v20911 c0_i32_8233
  let v20918 : BitVec 32 := Scalar.extui v20917
  let v20919 : BitVec 32 := Scalar.subi v20916 v20918
  let c128_i32_8231 : BitVec 32 := 128#32
  let c0_i32_8234 : BitVec 32 := 0#32
  let v20920 : BitVec 1 := Scalar.cmpi .sgt c128_i32_8231 c0_i32_8234
  let v20921 : BitVec 32 := Scalar.extui v20920
  let c0_i32_8235 : BitVec 32 := 0#32
  let v20922 : BitVec 1 := Scalar.cmpi .slt c128_i32_8231 c0_i32_8235
  let v20923 : BitVec 32 := Scalar.extui v20922
  let v20924 : BitVec 32 := Scalar.subi v20921 v20923
  let v20925 : BitVec 1 := Scalar.cmpi .ne v20919 v20924
  let v20926 : BitVec 32 := Scalar.remsi v20911 c128_i32_8231
  let c0_i32_8236 : BitVec 32 := 0#32
  let v20927 : BitVec 1 := Scalar.cmpi .ne v20926 c0_i32_8236
  let v20928 : BitVec 1 := Scalar.andi v20925 v20927
  let v20914 : BitVec 32 := Scalar.divsi v20911 c128_i32_8231
  let c1_i32_8237 : BitVec 32 := 1#32
  let v20929 : BitVec 32 := Scalar.subi v20914 c1_i32_8237
  let v20930 : BitVec 32 := Scalar.select v20928 v20929 v20914
  let c128_i32_8238 : BitVec 32 := 128#32
  let v20931 : BitVec 32 := Scalar.muli v20930 c128_i32_8238
  let v20932 : BitVec 32 := v20931
  let v20935 : Index := Scalar.indexCast v20932
  ![v20934.toNat, 0, v20935.toNat]

def k1_chk367 (v20909 : BitVec 32) (v20911 : BitVec 32) : Prop :=
  (128 ∣ (k1_mult367 v20911).toNat) ∧
  (∀ a, (k1_off1146 v20909 v20911) a + S1x16x512.size a ≤ S384x16x1152.size a)
theorem k1_mult367_dvd : ∀ (v20909 : BitVec 32) (v20911 : BitVec 32) (k1_hw367 : k1_chk367 v20909 v20911), 128 ∣ (k1_mult367 v20911).toNat := fun v20909 v20911 k1_hw367 => k1_hw367.1
theorem k1_off1146_inb : ∀ (v20909 : BitVec 32) (v20911 : BitVec 32) (k1_hw367 : k1_chk367 v20909 v20911), ∀ a, (k1_off1146 v20909 v20911) a + S1x16x512.size a ≤ S384x16x1152.size a := fun v20909 v20911 k1_hw367 => k1_hw367.2

def k1_off1147 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20945 : Index := Scalar.indexCast v20569
  let c6_8242 : Index := 6#32
  ![v20945.toNat, 6]
def k1_off1148 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20961 : Index := Scalar.indexCast v20569
  let c7_8248 : Index := 7#32
  ![v20961.toNat, 7]
def k1_mult368 (v20964 : BitVec 32) : BitVec 32 :=
  let c0_i32_8252 : BitVec 32 := 0#32
  let v20968 : BitVec 1 := Scalar.cmpi .sgt v20964 c0_i32_8252
  let v20969 : BitVec 32 := Scalar.extui v20968
  let c0_i32_8253 : BitVec 32 := 0#32
  let v20970 : BitVec 1 := Scalar.cmpi .slt v20964 c0_i32_8253
  let v20971 : BitVec 32 := Scalar.extui v20970
  let v20972 : BitVec 32 := Scalar.subi v20969 v20971
  let c128_i32_8251 : BitVec 32 := 128#32
  let c0_i32_8254 : BitVec 32 := 0#32
  let v20973 : BitVec 1 := Scalar.cmpi .sgt c128_i32_8251 c0_i32_8254
  let v20974 : BitVec 32 := Scalar.extui v20973
  let c0_i32_8255 : BitVec 32 := 0#32
  let v20975 : BitVec 1 := Scalar.cmpi .slt c128_i32_8251 c0_i32_8255
  let v20976 : BitVec 32 := Scalar.extui v20975
  let v20977 : BitVec 32 := Scalar.subi v20974 v20976
  let v20978 : BitVec 1 := Scalar.cmpi .ne v20972 v20977
  let v20979 : BitVec 32 := Scalar.remsi v20964 c128_i32_8251
  let c0_i32_8256 : BitVec 32 := 0#32
  let v20980 : BitVec 1 := Scalar.cmpi .ne v20979 c0_i32_8256
  let v20981 : BitVec 1 := Scalar.andi v20978 v20980
  let v20967 : BitVec 32 := Scalar.divsi v20964 c128_i32_8251
  let c1_i32_8257 : BitVec 32 := 1#32
  let v20982 : BitVec 32 := Scalar.subi v20967 c1_i32_8257
  let v20983 : BitVec 32 := Scalar.select v20981 v20982 v20967
  let c128_i32_8258 : BitVec 32 := 128#32
  let v20984 : BitVec 32 := Scalar.muli v20983 c128_i32_8258
  v20984

def k1_off1149 (v20962 : BitVec 32) (v20964 : BitVec 32) : Fin 3 → Nat :=
  let v20987 : Index := Scalar.indexCast v20962
  let c0_8259 : Index := 0#32
  let c0_i32_8252 : BitVec 32 := 0#32
  let v20968 : BitVec 1 := Scalar.cmpi .sgt v20964 c0_i32_8252
  let v20969 : BitVec 32 := Scalar.extui v20968
  let c0_i32_8253 : BitVec 32 := 0#32
  let v20970 : BitVec 1 := Scalar.cmpi .slt v20964 c0_i32_8253
  let v20971 : BitVec 32 := Scalar.extui v20970
  let v20972 : BitVec 32 := Scalar.subi v20969 v20971
  let c128_i32_8251 : BitVec 32 := 128#32
  let c0_i32_8254 : BitVec 32 := 0#32
  let v20973 : BitVec 1 := Scalar.cmpi .sgt c128_i32_8251 c0_i32_8254
  let v20974 : BitVec 32 := Scalar.extui v20973
  let c0_i32_8255 : BitVec 32 := 0#32
  let v20975 : BitVec 1 := Scalar.cmpi .slt c128_i32_8251 c0_i32_8255
  let v20976 : BitVec 32 := Scalar.extui v20975
  let v20977 : BitVec 32 := Scalar.subi v20974 v20976
  let v20978 : BitVec 1 := Scalar.cmpi .ne v20972 v20977
  let v20979 : BitVec 32 := Scalar.remsi v20964 c128_i32_8251
  let c0_i32_8256 : BitVec 32 := 0#32
  let v20980 : BitVec 1 := Scalar.cmpi .ne v20979 c0_i32_8256
  let v20981 : BitVec 1 := Scalar.andi v20978 v20980
  let v20967 : BitVec 32 := Scalar.divsi v20964 c128_i32_8251
  let c1_i32_8257 : BitVec 32 := 1#32
  let v20982 : BitVec 32 := Scalar.subi v20967 c1_i32_8257
  let v20983 : BitVec 32 := Scalar.select v20981 v20982 v20967
  let c128_i32_8258 : BitVec 32 := 128#32
  let v20984 : BitVec 32 := Scalar.muli v20983 c128_i32_8258
  let v20985 : BitVec 32 := v20984
  let v20988 : Index := Scalar.indexCast v20985
  ![v20987.toNat, 0, v20988.toNat]

def k1_chk368 (v20962 : BitVec 32) (v20964 : BitVec 32) : Prop :=
  (128 ∣ (k1_mult368 v20964).toNat) ∧
  (∀ a, (k1_off1149 v20962 v20964) a + S1x16x512.size a ≤ S384x16x1152.size a)
theorem k1_mult368_dvd : ∀ (v20962 : BitVec 32) (v20964 : BitVec 32) (k1_hw368 : k1_chk368 v20962 v20964), 128 ∣ (k1_mult368 v20964).toNat := fun v20962 v20964 k1_hw368 => k1_hw368.1
theorem k1_off1149_inb : ∀ (v20962 : BitVec 32) (v20964 : BitVec 32) (k1_hw368 : k1_chk368 v20962 v20964), ∀ a, (k1_off1149 v20962 v20964) a + S1x16x512.size a ≤ S384x16x1152.size a := fun v20962 v20964 k1_hw368 => k1_hw368.2

def k1_off1150 (i : grid1.Coords) : Fin 2 → Nat :=
  let arg0 : BitVec 32 := BitVec.ofNat 32 (i 0).val
  let c48_i32_8097 : BitVec 32 := 48#32
  let v20568 : BitVec 32 := Scalar.muli arg0 c48_i32_8097
  let c45_i32 : BitVec 32 := 45#32
  let v20569 : BitVec 32 := Scalar.addi v20568 c45_i32
  let v20998 : Index := Scalar.indexCast v20569
  let c7_8262 : Index := 7#32
  ![v20998.toNat, 7]
def k1_off1151 (i : grid1.Coords) : Fin 3 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21027 : Index := Scalar.indexCast v21026
  let c0_8278 : Index := 0#32
  let c720_8279 : Index := 720#32
  ![v21027.toNat, 0, 720]
def k1_off1152 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21047 : Index := Scalar.indexCast v21026
  let c0_8288 : Index := 0#32
  ![v21047.toNat, 0]
def k1_mult369 (v21050 : BitVec 32) : BitVec 32 :=
  let c0_i32_8292 : BitVec 32 := 0#32
  let v21054 : BitVec 1 := Scalar.cmpi .sgt v21050 c0_i32_8292
  let v21055 : BitVec 32 := Scalar.extui v21054
  let c0_i32_8293 : BitVec 32 := 0#32
  let v21056 : BitVec 1 := Scalar.cmpi .slt v21050 c0_i32_8293
  let v21057 : BitVec 32 := Scalar.extui v21056
  let v21058 : BitVec 32 := Scalar.subi v21055 v21057
  let c128_i32_8291 : BitVec 32 := 128#32
  let c0_i32_8294 : BitVec 32 := 0#32
  let v21059 : BitVec 1 := Scalar.cmpi .sgt c128_i32_8291 c0_i32_8294
  let v21060 : BitVec 32 := Scalar.extui v21059
  let c0_i32_8295 : BitVec 32 := 0#32
  let v21061 : BitVec 1 := Scalar.cmpi .slt c128_i32_8291 c0_i32_8295
  let v21062 : BitVec 32 := Scalar.extui v21061
  let v21063 : BitVec 32 := Scalar.subi v21060 v21062
  let v21064 : BitVec 1 := Scalar.cmpi .ne v21058 v21063
  let v21065 : BitVec 32 := Scalar.remsi v21050 c128_i32_8291
  let c0_i32_8296 : BitVec 32 := 0#32
  let v21066 : BitVec 1 := Scalar.cmpi .ne v21065 c0_i32_8296
  let v21067 : BitVec 1 := Scalar.andi v21064 v21066
  let v21053 : BitVec 32 := Scalar.divsi v21050 c128_i32_8291
  let c1_i32_8297 : BitVec 32 := 1#32
  let v21068 : BitVec 32 := Scalar.subi v21053 c1_i32_8297
  let v21069 : BitVec 32 := Scalar.select v21067 v21068 v21053
  let c128_i32_8298 : BitVec 32 := 128#32
  let v21070 : BitVec 32 := Scalar.muli v21069 c128_i32_8298
  v21070

def k1_off1153 (v21048 : BitVec 32) (v21050 : BitVec 32) : Fin 3 → Nat :=
  let v21073 : Index := Scalar.indexCast v21048
  let c0_8299 : Index := 0#32
  let c0_i32_8292 : BitVec 32 := 0#32
  let v21054 : BitVec 1 := Scalar.cmpi .sgt v21050 c0_i32_8292
  let v21055 : BitVec 32 := Scalar.extui v21054
  let c0_i32_8293 : BitVec 32 := 0#32
  let v21056 : BitVec 1 := Scalar.cmpi .slt v21050 c0_i32_8293
  let v21057 : BitVec 32 := Scalar.extui v21056
  let v21058 : BitVec 32 := Scalar.subi v21055 v21057
  let c128_i32_8291 : BitVec 32 := 128#32
  let c0_i32_8294 : BitVec 32 := 0#32
  let v21059 : BitVec 1 := Scalar.cmpi .sgt c128_i32_8291 c0_i32_8294
  let v21060 : BitVec 32 := Scalar.extui v21059
  let c0_i32_8295 : BitVec 32 := 0#32
  let v21061 : BitVec 1 := Scalar.cmpi .slt c128_i32_8291 c0_i32_8295
  let v21062 : BitVec 32 := Scalar.extui v21061
  let v21063 : BitVec 32 := Scalar.subi v21060 v21062
  let v21064 : BitVec 1 := Scalar.cmpi .ne v21058 v21063
  let v21065 : BitVec 32 := Scalar.remsi v21050 c128_i32_8291
  let c0_i32_8296 : BitVec 32 := 0#32
  let v21066 : BitVec 1 := Scalar.cmpi .ne v21065 c0_i32_8296
  let v21067 : BitVec 1 := Scalar.andi v21064 v21066
  let v21053 : BitVec 32 := Scalar.divsi v21050 c128_i32_8291
  let c1_i32_8297 : BitVec 32 := 1#32
  let v21068 : BitVec 32 := Scalar.subi v21053 c1_i32_8297
  let v21069 : BitVec 32 := Scalar.select v21067 v21068 v21053
  let c128_i32_8298 : BitVec 32 := 128#32
  let v21070 : BitVec 32 := Scalar.muli v21069 c128_i32_8298
  let v21071 : BitVec 32 := v21070
  let v21074 : Index := Scalar.indexCast v21071
  ![v21073.toNat, 0, v21074.toNat]

def k1_chk369 (v21048 : BitVec 32) (v21050 : BitVec 32) : Prop :=
  (128 ∣ (k1_mult369 v21050).toNat) ∧
  (∀ a, (k1_off1153 v21048 v21050) a + S1x16x512.size a ≤ S384x16x1152.size a)
theorem k1_mult369_dvd : ∀ (v21048 : BitVec 32) (v21050 : BitVec 32) (k1_hw369 : k1_chk369 v21048 v21050), 128 ∣ (k1_mult369 v21050).toNat := fun v21048 v21050 k1_hw369 => k1_hw369.1
theorem k1_off1153_inb : ∀ (v21048 : BitVec 32) (v21050 : BitVec 32) (k1_hw369 : k1_chk369 v21048 v21050), ∀ a, (k1_off1153 v21048 v21050) a + S1x16x512.size a ≤ S384x16x1152.size a := fun v21048 v21050 k1_hw369 => k1_hw369.2

def k1_off1154 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21084 : Index := Scalar.indexCast v21026
  let c0_8302 : Index := 0#32
  ![v21084.toNat, 0]
def k1_off1155 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21100 : Index := Scalar.indexCast v21026
  let c1_8308 : Index := 1#32
  ![v21100.toNat, 1]
def k1_mult370 (v21103 : BitVec 32) : BitVec 32 :=
  let c0_i32_8312 : BitVec 32 := 0#32
  let v21107 : BitVec 1 := Scalar.cmpi .sgt v21103 c0_i32_8312
  let v21108 : BitVec 32 := Scalar.extui v21107
  let c0_i32_8313 : BitVec 32 := 0#32
  let v21109 : BitVec 1 := Scalar.cmpi .slt v21103 c0_i32_8313
  let v21110 : BitVec 32 := Scalar.extui v21109
  let v21111 : BitVec 32 := Scalar.subi v21108 v21110
  let c128_i32_8311 : BitVec 32 := 128#32
  let c0_i32_8314 : BitVec 32 := 0#32
  let v21112 : BitVec 1 := Scalar.cmpi .sgt c128_i32_8311 c0_i32_8314
  let v21113 : BitVec 32 := Scalar.extui v21112
  let c0_i32_8315 : BitVec 32 := 0#32
  let v21114 : BitVec 1 := Scalar.cmpi .slt c128_i32_8311 c0_i32_8315
  let v21115 : BitVec 32 := Scalar.extui v21114
  let v21116 : BitVec 32 := Scalar.subi v21113 v21115
  let v21117 : BitVec 1 := Scalar.cmpi .ne v21111 v21116
  let v21118 : BitVec 32 := Scalar.remsi v21103 c128_i32_8311
  let c0_i32_8316 : BitVec 32 := 0#32
  let v21119 : BitVec 1 := Scalar.cmpi .ne v21118 c0_i32_8316
  let v21120 : BitVec 1 := Scalar.andi v21117 v21119
  let v21106 : BitVec 32 := Scalar.divsi v21103 c128_i32_8311
  let c1_i32_8317 : BitVec 32 := 1#32
  let v21121 : BitVec 32 := Scalar.subi v21106 c1_i32_8317
  let v21122 : BitVec 32 := Scalar.select v21120 v21121 v21106
  let c128_i32_8318 : BitVec 32 := 128#32
  let v21123 : BitVec 32 := Scalar.muli v21122 c128_i32_8318
  v21123

def k1_off1156 (v21101 : BitVec 32) (v21103 : BitVec 32) : Fin 3 → Nat :=
  let v21126 : Index := Scalar.indexCast v21101
  let c0_8319 : Index := 0#32
  let c0_i32_8312 : BitVec 32 := 0#32
  let v21107 : BitVec 1 := Scalar.cmpi .sgt v21103 c0_i32_8312
  let v21108 : BitVec 32 := Scalar.extui v21107
  let c0_i32_8313 : BitVec 32 := 0#32
  let v21109 : BitVec 1 := Scalar.cmpi .slt v21103 c0_i32_8313
  let v21110 : BitVec 32 := Scalar.extui v21109
  let v21111 : BitVec 32 := Scalar.subi v21108 v21110
  let c128_i32_8311 : BitVec 32 := 128#32
  let c0_i32_8314 : BitVec 32 := 0#32
  let v21112 : BitVec 1 := Scalar.cmpi .sgt c128_i32_8311 c0_i32_8314
  let v21113 : BitVec 32 := Scalar.extui v21112
  let c0_i32_8315 : BitVec 32 := 0#32
  let v21114 : BitVec 1 := Scalar.cmpi .slt c128_i32_8311 c0_i32_8315
  let v21115 : BitVec 32 := Scalar.extui v21114
  let v21116 : BitVec 32 := Scalar.subi v21113 v21115
  let v21117 : BitVec 1 := Scalar.cmpi .ne v21111 v21116
  let v21118 : BitVec 32 := Scalar.remsi v21103 c128_i32_8311
  let c0_i32_8316 : BitVec 32 := 0#32
  let v21119 : BitVec 1 := Scalar.cmpi .ne v21118 c0_i32_8316
  let v21120 : BitVec 1 := Scalar.andi v21117 v21119
  let v21106 : BitVec 32 := Scalar.divsi v21103 c128_i32_8311
  let c1_i32_8317 : BitVec 32 := 1#32
  let v21121 : BitVec 32 := Scalar.subi v21106 c1_i32_8317
  let v21122 : BitVec 32 := Scalar.select v21120 v21121 v21106
  let c128_i32_8318 : BitVec 32 := 128#32
  let v21123 : BitVec 32 := Scalar.muli v21122 c128_i32_8318
  let v21124 : BitVec 32 := v21123
  let v21127 : Index := Scalar.indexCast v21124
  ![v21126.toNat, 0, v21127.toNat]

def k1_chk370 (v21101 : BitVec 32) (v21103 : BitVec 32) : Prop :=
  (128 ∣ (k1_mult370 v21103).toNat) ∧
  (∀ a, (k1_off1156 v21101 v21103) a + S1x16x512.size a ≤ S384x16x1152.size a)
theorem k1_mult370_dvd : ∀ (v21101 : BitVec 32) (v21103 : BitVec 32) (k1_hw370 : k1_chk370 v21101 v21103), 128 ∣ (k1_mult370 v21103).toNat := fun v21101 v21103 k1_hw370 => k1_hw370.1
theorem k1_off1156_inb : ∀ (v21101 : BitVec 32) (v21103 : BitVec 32) (k1_hw370 : k1_chk370 v21101 v21103), ∀ a, (k1_off1156 v21101 v21103) a + S1x16x512.size a ≤ S384x16x1152.size a := fun v21101 v21103 k1_hw370 => k1_hw370.2

def k1_off1157 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21137 : Index := Scalar.indexCast v21026
  let c1_8322 : Index := 1#32
  ![v21137.toNat, 1]
def k1_off1158 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21153 : Index := Scalar.indexCast v21026
  let c2_8328 : Index := 2#32
  ![v21153.toNat, 2]
def k1_mult371 (v21156 : BitVec 32) : BitVec 32 :=
  let c0_i32_8332 : BitVec 32 := 0#32
  let v21160 : BitVec 1 := Scalar.cmpi .sgt v21156 c0_i32_8332
  let v21161 : BitVec 32 := Scalar.extui v21160
  let c0_i32_8333 : BitVec 32 := 0#32
  let v21162 : BitVec 1 := Scalar.cmpi .slt v21156 c0_i32_8333
  let v21163 : BitVec 32 := Scalar.extui v21162
  let v21164 : BitVec 32 := Scalar.subi v21161 v21163
  let c128_i32_8331 : BitVec 32 := 128#32
  let c0_i32_8334 : BitVec 32 := 0#32
  let v21165 : BitVec 1 := Scalar.cmpi .sgt c128_i32_8331 c0_i32_8334
  let v21166 : BitVec 32 := Scalar.extui v21165
  let c0_i32_8335 : BitVec 32 := 0#32
  let v21167 : BitVec 1 := Scalar.cmpi .slt c128_i32_8331 c0_i32_8335
  let v21168 : BitVec 32 := Scalar.extui v21167
  let v21169 : BitVec 32 := Scalar.subi v21166 v21168
  let v21170 : BitVec 1 := Scalar.cmpi .ne v21164 v21169
  let v21171 : BitVec 32 := Scalar.remsi v21156 c128_i32_8331
  let c0_i32_8336 : BitVec 32 := 0#32
  let v21172 : BitVec 1 := Scalar.cmpi .ne v21171 c0_i32_8336
  let v21173 : BitVec 1 := Scalar.andi v21170 v21172
  let v21159 : BitVec 32 := Scalar.divsi v21156 c128_i32_8331
  let c1_i32_8337 : BitVec 32 := 1#32
  let v21174 : BitVec 32 := Scalar.subi v21159 c1_i32_8337
  let v21175 : BitVec 32 := Scalar.select v21173 v21174 v21159
  let c128_i32_8338 : BitVec 32 := 128#32
  let v21176 : BitVec 32 := Scalar.muli v21175 c128_i32_8338
  v21176

def k1_off1159 (v21154 : BitVec 32) (v21156 : BitVec 32) : Fin 3 → Nat :=
  let v21179 : Index := Scalar.indexCast v21154
  let c0_8339 : Index := 0#32
  let c0_i32_8332 : BitVec 32 := 0#32
  let v21160 : BitVec 1 := Scalar.cmpi .sgt v21156 c0_i32_8332
  let v21161 : BitVec 32 := Scalar.extui v21160
  let c0_i32_8333 : BitVec 32 := 0#32
  let v21162 : BitVec 1 := Scalar.cmpi .slt v21156 c0_i32_8333
  let v21163 : BitVec 32 := Scalar.extui v21162
  let v21164 : BitVec 32 := Scalar.subi v21161 v21163
  let c128_i32_8331 : BitVec 32 := 128#32
  let c0_i32_8334 : BitVec 32 := 0#32
  let v21165 : BitVec 1 := Scalar.cmpi .sgt c128_i32_8331 c0_i32_8334
  let v21166 : BitVec 32 := Scalar.extui v21165
  let c0_i32_8335 : BitVec 32 := 0#32
  let v21167 : BitVec 1 := Scalar.cmpi .slt c128_i32_8331 c0_i32_8335
  let v21168 : BitVec 32 := Scalar.extui v21167
  let v21169 : BitVec 32 := Scalar.subi v21166 v21168
  let v21170 : BitVec 1 := Scalar.cmpi .ne v21164 v21169
  let v21171 : BitVec 32 := Scalar.remsi v21156 c128_i32_8331
  let c0_i32_8336 : BitVec 32 := 0#32
  let v21172 : BitVec 1 := Scalar.cmpi .ne v21171 c0_i32_8336
  let v21173 : BitVec 1 := Scalar.andi v21170 v21172
  let v21159 : BitVec 32 := Scalar.divsi v21156 c128_i32_8331
  let c1_i32_8337 : BitVec 32 := 1#32
  let v21174 : BitVec 32 := Scalar.subi v21159 c1_i32_8337
  let v21175 : BitVec 32 := Scalar.select v21173 v21174 v21159
  let c128_i32_8338 : BitVec 32 := 128#32
  let v21176 : BitVec 32 := Scalar.muli v21175 c128_i32_8338
  let v21177 : BitVec 32 := v21176
  let v21180 : Index := Scalar.indexCast v21177
  ![v21179.toNat, 0, v21180.toNat]

def k1_chk371 (v21154 : BitVec 32) (v21156 : BitVec 32) : Prop :=
  (128 ∣ (k1_mult371 v21156).toNat) ∧
  (∀ a, (k1_off1159 v21154 v21156) a + S1x16x512.size a ≤ S384x16x1152.size a)
theorem k1_mult371_dvd : ∀ (v21154 : BitVec 32) (v21156 : BitVec 32) (k1_hw371 : k1_chk371 v21154 v21156), 128 ∣ (k1_mult371 v21156).toNat := fun v21154 v21156 k1_hw371 => k1_hw371.1
theorem k1_off1159_inb : ∀ (v21154 : BitVec 32) (v21156 : BitVec 32) (k1_hw371 : k1_chk371 v21154 v21156), ∀ a, (k1_off1159 v21154 v21156) a + S1x16x512.size a ≤ S384x16x1152.size a := fun v21154 v21156 k1_hw371 => k1_hw371.2

def k1_off1160 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21190 : Index := Scalar.indexCast v21026
  let c2_8342 : Index := 2#32
  ![v21190.toNat, 2]
def k1_off1161 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21206 : Index := Scalar.indexCast v21026
  let c3_8348 : Index := 3#32
  ![v21206.toNat, 3]
def k1_mult372 (v21209 : BitVec 32) : BitVec 32 :=
  let c0_i32_8352 : BitVec 32 := 0#32
  let v21213 : BitVec 1 := Scalar.cmpi .sgt v21209 c0_i32_8352
  let v21214 : BitVec 32 := Scalar.extui v21213
  let c0_i32_8353 : BitVec 32 := 0#32
  let v21215 : BitVec 1 := Scalar.cmpi .slt v21209 c0_i32_8353
  let v21216 : BitVec 32 := Scalar.extui v21215
  let v21217 : BitVec 32 := Scalar.subi v21214 v21216
  let c128_i32_8351 : BitVec 32 := 128#32
  let c0_i32_8354 : BitVec 32 := 0#32
  let v21218 : BitVec 1 := Scalar.cmpi .sgt c128_i32_8351 c0_i32_8354
  let v21219 : BitVec 32 := Scalar.extui v21218
  let c0_i32_8355 : BitVec 32 := 0#32
  let v21220 : BitVec 1 := Scalar.cmpi .slt c128_i32_8351 c0_i32_8355
  let v21221 : BitVec 32 := Scalar.extui v21220
  let v21222 : BitVec 32 := Scalar.subi v21219 v21221
  let v21223 : BitVec 1 := Scalar.cmpi .ne v21217 v21222
  let v21224 : BitVec 32 := Scalar.remsi v21209 c128_i32_8351
  let c0_i32_8356 : BitVec 32 := 0#32
  let v21225 : BitVec 1 := Scalar.cmpi .ne v21224 c0_i32_8356
  let v21226 : BitVec 1 := Scalar.andi v21223 v21225
  let v21212 : BitVec 32 := Scalar.divsi v21209 c128_i32_8351
  let c1_i32_8357 : BitVec 32 := 1#32
  let v21227 : BitVec 32 := Scalar.subi v21212 c1_i32_8357
  let v21228 : BitVec 32 := Scalar.select v21226 v21227 v21212
  let c128_i32_8358 : BitVec 32 := 128#32
  let v21229 : BitVec 32 := Scalar.muli v21228 c128_i32_8358
  v21229

def k1_off1162 (v21207 : BitVec 32) (v21209 : BitVec 32) : Fin 3 → Nat :=
  let v21232 : Index := Scalar.indexCast v21207
  let c0_8359 : Index := 0#32
  let c0_i32_8352 : BitVec 32 := 0#32
  let v21213 : BitVec 1 := Scalar.cmpi .sgt v21209 c0_i32_8352
  let v21214 : BitVec 32 := Scalar.extui v21213
  let c0_i32_8353 : BitVec 32 := 0#32
  let v21215 : BitVec 1 := Scalar.cmpi .slt v21209 c0_i32_8353
  let v21216 : BitVec 32 := Scalar.extui v21215
  let v21217 : BitVec 32 := Scalar.subi v21214 v21216
  let c128_i32_8351 : BitVec 32 := 128#32
  let c0_i32_8354 : BitVec 32 := 0#32
  let v21218 : BitVec 1 := Scalar.cmpi .sgt c128_i32_8351 c0_i32_8354
  let v21219 : BitVec 32 := Scalar.extui v21218
  let c0_i32_8355 : BitVec 32 := 0#32
  let v21220 : BitVec 1 := Scalar.cmpi .slt c128_i32_8351 c0_i32_8355
  let v21221 : BitVec 32 := Scalar.extui v21220
  let v21222 : BitVec 32 := Scalar.subi v21219 v21221
  let v21223 : BitVec 1 := Scalar.cmpi .ne v21217 v21222
  let v21224 : BitVec 32 := Scalar.remsi v21209 c128_i32_8351
  let c0_i32_8356 : BitVec 32 := 0#32
  let v21225 : BitVec 1 := Scalar.cmpi .ne v21224 c0_i32_8356
  let v21226 : BitVec 1 := Scalar.andi v21223 v21225
  let v21212 : BitVec 32 := Scalar.divsi v21209 c128_i32_8351
  let c1_i32_8357 : BitVec 32 := 1#32
  let v21227 : BitVec 32 := Scalar.subi v21212 c1_i32_8357
  let v21228 : BitVec 32 := Scalar.select v21226 v21227 v21212
  let c128_i32_8358 : BitVec 32 := 128#32
  let v21229 : BitVec 32 := Scalar.muli v21228 c128_i32_8358
  let v21230 : BitVec 32 := v21229
  let v21233 : Index := Scalar.indexCast v21230
  ![v21232.toNat, 0, v21233.toNat]

def k1_chk372 (v21207 : BitVec 32) (v21209 : BitVec 32) : Prop :=
  (128 ∣ (k1_mult372 v21209).toNat) ∧
  (∀ a, (k1_off1162 v21207 v21209) a + S1x16x512.size a ≤ S384x16x1152.size a)
theorem k1_mult372_dvd : ∀ (v21207 : BitVec 32) (v21209 : BitVec 32) (k1_hw372 : k1_chk372 v21207 v21209), 128 ∣ (k1_mult372 v21209).toNat := fun v21207 v21209 k1_hw372 => k1_hw372.1
theorem k1_off1162_inb : ∀ (v21207 : BitVec 32) (v21209 : BitVec 32) (k1_hw372 : k1_chk372 v21207 v21209), ∀ a, (k1_off1162 v21207 v21209) a + S1x16x512.size a ≤ S384x16x1152.size a := fun v21207 v21209 k1_hw372 => k1_hw372.2

def k1_off1163 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21243 : Index := Scalar.indexCast v21026
  let c3_8362 : Index := 3#32
  ![v21243.toNat, 3]
def k1_off1164 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21259 : Index := Scalar.indexCast v21026
  let c4_8368 : Index := 4#32
  ![v21259.toNat, 4]
def k1_mult373 (v21262 : BitVec 32) : BitVec 32 :=
  let c0_i32_8372 : BitVec 32 := 0#32
  let v21266 : BitVec 1 := Scalar.cmpi .sgt v21262 c0_i32_8372
  let v21267 : BitVec 32 := Scalar.extui v21266
  let c0_i32_8373 : BitVec 32 := 0#32
  let v21268 : BitVec 1 := Scalar.cmpi .slt v21262 c0_i32_8373
  let v21269 : BitVec 32 := Scalar.extui v21268
  let v21270 : BitVec 32 := Scalar.subi v21267 v21269
  let c128_i32_8371 : BitVec 32 := 128#32
  let c0_i32_8374 : BitVec 32 := 0#32
  let v21271 : BitVec 1 := Scalar.cmpi .sgt c128_i32_8371 c0_i32_8374
  let v21272 : BitVec 32 := Scalar.extui v21271
  let c0_i32_8375 : BitVec 32 := 0#32
  let v21273 : BitVec 1 := Scalar.cmpi .slt c128_i32_8371 c0_i32_8375
  let v21274 : BitVec 32 := Scalar.extui v21273
  let v21275 : BitVec 32 := Scalar.subi v21272 v21274
  let v21276 : BitVec 1 := Scalar.cmpi .ne v21270 v21275
  let v21277 : BitVec 32 := Scalar.remsi v21262 c128_i32_8371
  let c0_i32_8376 : BitVec 32 := 0#32
  let v21278 : BitVec 1 := Scalar.cmpi .ne v21277 c0_i32_8376
  let v21279 : BitVec 1 := Scalar.andi v21276 v21278
  let v21265 : BitVec 32 := Scalar.divsi v21262 c128_i32_8371
  let c1_i32_8377 : BitVec 32 := 1#32
  let v21280 : BitVec 32 := Scalar.subi v21265 c1_i32_8377
  let v21281 : BitVec 32 := Scalar.select v21279 v21280 v21265
  let c128_i32_8378 : BitVec 32 := 128#32
  let v21282 : BitVec 32 := Scalar.muli v21281 c128_i32_8378
  v21282

def k1_off1165 (v21260 : BitVec 32) (v21262 : BitVec 32) : Fin 3 → Nat :=
  let v21285 : Index := Scalar.indexCast v21260
  let c0_8379 : Index := 0#32
  let c0_i32_8372 : BitVec 32 := 0#32
  let v21266 : BitVec 1 := Scalar.cmpi .sgt v21262 c0_i32_8372
  let v21267 : BitVec 32 := Scalar.extui v21266
  let c0_i32_8373 : BitVec 32 := 0#32
  let v21268 : BitVec 1 := Scalar.cmpi .slt v21262 c0_i32_8373
  let v21269 : BitVec 32 := Scalar.extui v21268
  let v21270 : BitVec 32 := Scalar.subi v21267 v21269
  let c128_i32_8371 : BitVec 32 := 128#32
  let c0_i32_8374 : BitVec 32 := 0#32
  let v21271 : BitVec 1 := Scalar.cmpi .sgt c128_i32_8371 c0_i32_8374
  let v21272 : BitVec 32 := Scalar.extui v21271
  let c0_i32_8375 : BitVec 32 := 0#32
  let v21273 : BitVec 1 := Scalar.cmpi .slt c128_i32_8371 c0_i32_8375
  let v21274 : BitVec 32 := Scalar.extui v21273
  let v21275 : BitVec 32 := Scalar.subi v21272 v21274
  let v21276 : BitVec 1 := Scalar.cmpi .ne v21270 v21275
  let v21277 : BitVec 32 := Scalar.remsi v21262 c128_i32_8371
  let c0_i32_8376 : BitVec 32 := 0#32
  let v21278 : BitVec 1 := Scalar.cmpi .ne v21277 c0_i32_8376
  let v21279 : BitVec 1 := Scalar.andi v21276 v21278
  let v21265 : BitVec 32 := Scalar.divsi v21262 c128_i32_8371
  let c1_i32_8377 : BitVec 32 := 1#32
  let v21280 : BitVec 32 := Scalar.subi v21265 c1_i32_8377
  let v21281 : BitVec 32 := Scalar.select v21279 v21280 v21265
  let c128_i32_8378 : BitVec 32 := 128#32
  let v21282 : BitVec 32 := Scalar.muli v21281 c128_i32_8378
  let v21283 : BitVec 32 := v21282
  let v21286 : Index := Scalar.indexCast v21283
  ![v21285.toNat, 0, v21286.toNat]

def k1_chk373 (v21260 : BitVec 32) (v21262 : BitVec 32) : Prop :=
  (128 ∣ (k1_mult373 v21262).toNat) ∧
  (∀ a, (k1_off1165 v21260 v21262) a + S1x16x512.size a ≤ S384x16x1152.size a)
theorem k1_mult373_dvd : ∀ (v21260 : BitVec 32) (v21262 : BitVec 32) (k1_hw373 : k1_chk373 v21260 v21262), 128 ∣ (k1_mult373 v21262).toNat := fun v21260 v21262 k1_hw373 => k1_hw373.1
theorem k1_off1165_inb : ∀ (v21260 : BitVec 32) (v21262 : BitVec 32) (k1_hw373 : k1_chk373 v21260 v21262), ∀ a, (k1_off1165 v21260 v21262) a + S1x16x512.size a ≤ S384x16x1152.size a := fun v21260 v21262 k1_hw373 => k1_hw373.2

def k1_off1166 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21296 : Index := Scalar.indexCast v21026
  let c4_8382 : Index := 4#32
  ![v21296.toNat, 4]
def k1_off1167 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21312 : Index := Scalar.indexCast v21026
  let c5_8388 : Index := 5#32
  ![v21312.toNat, 5]
def k1_mult374 (v21315 : BitVec 32) : BitVec 32 :=
  let c0_i32_8392 : BitVec 32 := 0#32
  let v21319 : BitVec 1 := Scalar.cmpi .sgt v21315 c0_i32_8392
  let v21320 : BitVec 32 := Scalar.extui v21319
  let c0_i32_8393 : BitVec 32 := 0#32
  let v21321 : BitVec 1 := Scalar.cmpi .slt v21315 c0_i32_8393
  let v21322 : BitVec 32 := Scalar.extui v21321
  let v21323 : BitVec 32 := Scalar.subi v21320 v21322
  let c128_i32_8391 : BitVec 32 := 128#32
  let c0_i32_8394 : BitVec 32 := 0#32
  let v21324 : BitVec 1 := Scalar.cmpi .sgt c128_i32_8391 c0_i32_8394
  let v21325 : BitVec 32 := Scalar.extui v21324
  let c0_i32_8395 : BitVec 32 := 0#32
  let v21326 : BitVec 1 := Scalar.cmpi .slt c128_i32_8391 c0_i32_8395
  let v21327 : BitVec 32 := Scalar.extui v21326
  let v21328 : BitVec 32 := Scalar.subi v21325 v21327
  let v21329 : BitVec 1 := Scalar.cmpi .ne v21323 v21328
  let v21330 : BitVec 32 := Scalar.remsi v21315 c128_i32_8391
  let c0_i32_8396 : BitVec 32 := 0#32
  let v21331 : BitVec 1 := Scalar.cmpi .ne v21330 c0_i32_8396
  let v21332 : BitVec 1 := Scalar.andi v21329 v21331
  let v21318 : BitVec 32 := Scalar.divsi v21315 c128_i32_8391
  let c1_i32_8397 : BitVec 32 := 1#32
  let v21333 : BitVec 32 := Scalar.subi v21318 c1_i32_8397
  let v21334 : BitVec 32 := Scalar.select v21332 v21333 v21318
  let c128_i32_8398 : BitVec 32 := 128#32
  let v21335 : BitVec 32 := Scalar.muli v21334 c128_i32_8398
  v21335

def k1_off1168 (v21313 : BitVec 32) (v21315 : BitVec 32) : Fin 3 → Nat :=
  let v21338 : Index := Scalar.indexCast v21313
  let c0_8399 : Index := 0#32
  let c0_i32_8392 : BitVec 32 := 0#32
  let v21319 : BitVec 1 := Scalar.cmpi .sgt v21315 c0_i32_8392
  let v21320 : BitVec 32 := Scalar.extui v21319
  let c0_i32_8393 : BitVec 32 := 0#32
  let v21321 : BitVec 1 := Scalar.cmpi .slt v21315 c0_i32_8393
  let v21322 : BitVec 32 := Scalar.extui v21321
  let v21323 : BitVec 32 := Scalar.subi v21320 v21322
  let c128_i32_8391 : BitVec 32 := 128#32
  let c0_i32_8394 : BitVec 32 := 0#32
  let v21324 : BitVec 1 := Scalar.cmpi .sgt c128_i32_8391 c0_i32_8394
  let v21325 : BitVec 32 := Scalar.extui v21324
  let c0_i32_8395 : BitVec 32 := 0#32
  let v21326 : BitVec 1 := Scalar.cmpi .slt c128_i32_8391 c0_i32_8395
  let v21327 : BitVec 32 := Scalar.extui v21326
  let v21328 : BitVec 32 := Scalar.subi v21325 v21327
  let v21329 : BitVec 1 := Scalar.cmpi .ne v21323 v21328
  let v21330 : BitVec 32 := Scalar.remsi v21315 c128_i32_8391
  let c0_i32_8396 : BitVec 32 := 0#32
  let v21331 : BitVec 1 := Scalar.cmpi .ne v21330 c0_i32_8396
  let v21332 : BitVec 1 := Scalar.andi v21329 v21331
  let v21318 : BitVec 32 := Scalar.divsi v21315 c128_i32_8391
  let c1_i32_8397 : BitVec 32 := 1#32
  let v21333 : BitVec 32 := Scalar.subi v21318 c1_i32_8397
  let v21334 : BitVec 32 := Scalar.select v21332 v21333 v21318
  let c128_i32_8398 : BitVec 32 := 128#32
  let v21335 : BitVec 32 := Scalar.muli v21334 c128_i32_8398
  let v21336 : BitVec 32 := v21335
  let v21339 : Index := Scalar.indexCast v21336
  ![v21338.toNat, 0, v21339.toNat]

def k1_chk374 (v21313 : BitVec 32) (v21315 : BitVec 32) : Prop :=
  (128 ∣ (k1_mult374 v21315).toNat) ∧
  (∀ a, (k1_off1168 v21313 v21315) a + S1x16x512.size a ≤ S384x16x1152.size a)
theorem k1_mult374_dvd : ∀ (v21313 : BitVec 32) (v21315 : BitVec 32) (k1_hw374 : k1_chk374 v21313 v21315), 128 ∣ (k1_mult374 v21315).toNat := fun v21313 v21315 k1_hw374 => k1_hw374.1
theorem k1_off1168_inb : ∀ (v21313 : BitVec 32) (v21315 : BitVec 32) (k1_hw374 : k1_chk374 v21313 v21315), ∀ a, (k1_off1168 v21313 v21315) a + S1x16x512.size a ≤ S384x16x1152.size a := fun v21313 v21315 k1_hw374 => k1_hw374.2

def k1_off1169 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21349 : Index := Scalar.indexCast v21026
  let c5_8402 : Index := 5#32
  ![v21349.toNat, 5]
def k1_off1170 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21365 : Index := Scalar.indexCast v21026
  let c6_8408 : Index := 6#32
  ![v21365.toNat, 6]
def k1_mult375 (v21368 : BitVec 32) : BitVec 32 :=
  let c0_i32_8412 : BitVec 32 := 0#32
  let v21372 : BitVec 1 := Scalar.cmpi .sgt v21368 c0_i32_8412
  let v21373 : BitVec 32 := Scalar.extui v21372
  let c0_i32_8413 : BitVec 32 := 0#32
  let v21374 : BitVec 1 := Scalar.cmpi .slt v21368 c0_i32_8413
  let v21375 : BitVec 32 := Scalar.extui v21374
  let v21376 : BitVec 32 := Scalar.subi v21373 v21375
  let c128_i32_8411 : BitVec 32 := 128#32
  let c0_i32_8414 : BitVec 32 := 0#32
  let v21377 : BitVec 1 := Scalar.cmpi .sgt c128_i32_8411 c0_i32_8414
  let v21378 : BitVec 32 := Scalar.extui v21377
  let c0_i32_8415 : BitVec 32 := 0#32
  let v21379 : BitVec 1 := Scalar.cmpi .slt c128_i32_8411 c0_i32_8415
  let v21380 : BitVec 32 := Scalar.extui v21379
  let v21381 : BitVec 32 := Scalar.subi v21378 v21380
  let v21382 : BitVec 1 := Scalar.cmpi .ne v21376 v21381
  let v21383 : BitVec 32 := Scalar.remsi v21368 c128_i32_8411
  let c0_i32_8416 : BitVec 32 := 0#32
  let v21384 : BitVec 1 := Scalar.cmpi .ne v21383 c0_i32_8416
  let v21385 : BitVec 1 := Scalar.andi v21382 v21384
  let v21371 : BitVec 32 := Scalar.divsi v21368 c128_i32_8411
  let c1_i32_8417 : BitVec 32 := 1#32
  let v21386 : BitVec 32 := Scalar.subi v21371 c1_i32_8417
  let v21387 : BitVec 32 := Scalar.select v21385 v21386 v21371
  let c128_i32_8418 : BitVec 32 := 128#32
  let v21388 : BitVec 32 := Scalar.muli v21387 c128_i32_8418
  v21388

def k1_off1171 (v21366 : BitVec 32) (v21368 : BitVec 32) : Fin 3 → Nat :=
  let v21391 : Index := Scalar.indexCast v21366
  let c0_8419 : Index := 0#32
  let c0_i32_8412 : BitVec 32 := 0#32
  let v21372 : BitVec 1 := Scalar.cmpi .sgt v21368 c0_i32_8412
  let v21373 : BitVec 32 := Scalar.extui v21372
  let c0_i32_8413 : BitVec 32 := 0#32
  let v21374 : BitVec 1 := Scalar.cmpi .slt v21368 c0_i32_8413
  let v21375 : BitVec 32 := Scalar.extui v21374
  let v21376 : BitVec 32 := Scalar.subi v21373 v21375
  let c128_i32_8411 : BitVec 32 := 128#32
  let c0_i32_8414 : BitVec 32 := 0#32
  let v21377 : BitVec 1 := Scalar.cmpi .sgt c128_i32_8411 c0_i32_8414
  let v21378 : BitVec 32 := Scalar.extui v21377
  let c0_i32_8415 : BitVec 32 := 0#32
  let v21379 : BitVec 1 := Scalar.cmpi .slt c128_i32_8411 c0_i32_8415
  let v21380 : BitVec 32 := Scalar.extui v21379
  let v21381 : BitVec 32 := Scalar.subi v21378 v21380
  let v21382 : BitVec 1 := Scalar.cmpi .ne v21376 v21381
  let v21383 : BitVec 32 := Scalar.remsi v21368 c128_i32_8411
  let c0_i32_8416 : BitVec 32 := 0#32
  let v21384 : BitVec 1 := Scalar.cmpi .ne v21383 c0_i32_8416
  let v21385 : BitVec 1 := Scalar.andi v21382 v21384
  let v21371 : BitVec 32 := Scalar.divsi v21368 c128_i32_8411
  let c1_i32_8417 : BitVec 32 := 1#32
  let v21386 : BitVec 32 := Scalar.subi v21371 c1_i32_8417
  let v21387 : BitVec 32 := Scalar.select v21385 v21386 v21371
  let c128_i32_8418 : BitVec 32 := 128#32
  let v21388 : BitVec 32 := Scalar.muli v21387 c128_i32_8418
  let v21389 : BitVec 32 := v21388
  let v21392 : Index := Scalar.indexCast v21389
  ![v21391.toNat, 0, v21392.toNat]

def k1_chk375 (v21366 : BitVec 32) (v21368 : BitVec 32) : Prop :=
  (128 ∣ (k1_mult375 v21368).toNat) ∧
  (∀ a, (k1_off1171 v21366 v21368) a + S1x16x512.size a ≤ S384x16x1152.size a)
theorem k1_mult375_dvd : ∀ (v21366 : BitVec 32) (v21368 : BitVec 32) (k1_hw375 : k1_chk375 v21366 v21368), 128 ∣ (k1_mult375 v21368).toNat := fun v21366 v21368 k1_hw375 => k1_hw375.1
theorem k1_off1171_inb : ∀ (v21366 : BitVec 32) (v21368 : BitVec 32) (k1_hw375 : k1_chk375 v21366 v21368), ∀ a, (k1_off1171 v21366 v21368) a + S1x16x512.size a ≤ S384x16x1152.size a := fun v21366 v21368 k1_hw375 => k1_hw375.2

def k1_off1172 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21402 : Index := Scalar.indexCast v21026
  let c6_8422 : Index := 6#32
  ![v21402.toNat, 6]
def k1_off1173 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21418 : Index := Scalar.indexCast v21026
  let c7_8428 : Index := 7#32
  ![v21418.toNat, 7]
def k1_mult376 (v21421 : BitVec 32) : BitVec 32 :=
  let c0_i32_8432 : BitVec 32 := 0#32
  let v21425 : BitVec 1 := Scalar.cmpi .sgt v21421 c0_i32_8432
  let v21426 : BitVec 32 := Scalar.extui v21425
  let c0_i32_8433 : BitVec 32 := 0#32
  let v21427 : BitVec 1 := Scalar.cmpi .slt v21421 c0_i32_8433
  let v21428 : BitVec 32 := Scalar.extui v21427
  let v21429 : BitVec 32 := Scalar.subi v21426 v21428
  let c128_i32_8431 : BitVec 32 := 128#32
  let c0_i32_8434 : BitVec 32 := 0#32
  let v21430 : BitVec 1 := Scalar.cmpi .sgt c128_i32_8431 c0_i32_8434
  let v21431 : BitVec 32 := Scalar.extui v21430
  let c0_i32_8435 : BitVec 32 := 0#32
  let v21432 : BitVec 1 := Scalar.cmpi .slt c128_i32_8431 c0_i32_8435
  let v21433 : BitVec 32 := Scalar.extui v21432
  let v21434 : BitVec 32 := Scalar.subi v21431 v21433
  let v21435 : BitVec 1 := Scalar.cmpi .ne v21429 v21434
  let v21436 : BitVec 32 := Scalar.remsi v21421 c128_i32_8431
  let c0_i32_8436 : BitVec 32 := 0#32
  let v21437 : BitVec 1 := Scalar.cmpi .ne v21436 c0_i32_8436
  let v21438 : BitVec 1 := Scalar.andi v21435 v21437
  let v21424 : BitVec 32 := Scalar.divsi v21421 c128_i32_8431
  let c1_i32_8437 : BitVec 32 := 1#32
  let v21439 : BitVec 32 := Scalar.subi v21424 c1_i32_8437
  let v21440 : BitVec 32 := Scalar.select v21438 v21439 v21424
  let c128_i32_8438 : BitVec 32 := 128#32
  let v21441 : BitVec 32 := Scalar.muli v21440 c128_i32_8438
  v21441

def k1_off1174 (v21419 : BitVec 32) (v21421 : BitVec 32) : Fin 3 → Nat :=
  let v21444 : Index := Scalar.indexCast v21419
  let c0_8439 : Index := 0#32
  let c0_i32_8432 : BitVec 32 := 0#32
  let v21425 : BitVec 1 := Scalar.cmpi .sgt v21421 c0_i32_8432
  let v21426 : BitVec 32 := Scalar.extui v21425
  let c0_i32_8433 : BitVec 32 := 0#32
  let v21427 : BitVec 1 := Scalar.cmpi .slt v21421 c0_i32_8433
  let v21428 : BitVec 32 := Scalar.extui v21427
  let v21429 : BitVec 32 := Scalar.subi v21426 v21428
  let c128_i32_8431 : BitVec 32 := 128#32
  let c0_i32_8434 : BitVec 32 := 0#32
  let v21430 : BitVec 1 := Scalar.cmpi .sgt c128_i32_8431 c0_i32_8434
  let v21431 : BitVec 32 := Scalar.extui v21430
  let c0_i32_8435 : BitVec 32 := 0#32
  let v21432 : BitVec 1 := Scalar.cmpi .slt c128_i32_8431 c0_i32_8435
  let v21433 : BitVec 32 := Scalar.extui v21432
  let v21434 : BitVec 32 := Scalar.subi v21431 v21433
  let v21435 : BitVec 1 := Scalar.cmpi .ne v21429 v21434
  let v21436 : BitVec 32 := Scalar.remsi v21421 c128_i32_8431
  let c0_i32_8436 : BitVec 32 := 0#32
  let v21437 : BitVec 1 := Scalar.cmpi .ne v21436 c0_i32_8436
  let v21438 : BitVec 1 := Scalar.andi v21435 v21437
  let v21424 : BitVec 32 := Scalar.divsi v21421 c128_i32_8431
  let c1_i32_8437 : BitVec 32 := 1#32
  let v21439 : BitVec 32 := Scalar.subi v21424 c1_i32_8437
  let v21440 : BitVec 32 := Scalar.select v21438 v21439 v21424
  let c128_i32_8438 : BitVec 32 := 128#32
  let v21441 : BitVec 32 := Scalar.muli v21440 c128_i32_8438
  let v21442 : BitVec 32 := v21441
  let v21445 : Index := Scalar.indexCast v21442
  ![v21444.toNat, 0, v21445.toNat]

def k1_chk376 (v21419 : BitVec 32) (v21421 : BitVec 32) : Prop :=
  (128 ∣ (k1_mult376 v21421).toNat) ∧
  (∀ a, (k1_off1174 v21419 v21421) a + S1x16x512.size a ≤ S384x16x1152.size a)
theorem k1_mult376_dvd : ∀ (v21419 : BitVec 32) (v21421 : BitVec 32) (k1_hw376 : k1_chk376 v21419 v21421), 128 ∣ (k1_mult376 v21421).toNat := fun v21419 v21421 k1_hw376 => k1_hw376.1
theorem k1_off1174_inb : ∀ (v21419 : BitVec 32) (v21421 : BitVec 32) (k1_hw376 : k1_chk376 v21419 v21421), ∀ a, (k1_off1174 v21419 v21421) a + S1x16x512.size a ≤ S384x16x1152.size a := fun v21419 v21421 k1_hw376 => k1_hw376.2

def k1_off1175 (i : grid1.Coords) : Fin 2 → Nat :=
  let arg0 : BitVec 32 := BitVec.ofNat 32 (i 0).val
  let c48_i32_8277 : BitVec 32 := 48#32
  let v21025 : BitVec 32 := Scalar.muli arg0 c48_i32_8277
  let c46_i32 : BitVec 32 := 46#32
  let v21026 : BitVec 32 := Scalar.addi v21025 c46_i32
  let v21455 : Index := Scalar.indexCast v21026
  let c7_8442 : Index := 7#32
  ![v21455.toNat, 7]
def k1_off1176 (i : grid1.Coords) : Fin 3 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21484 : Index := Scalar.indexCast v21483
  let c0_8458 : Index := 0#32
  let c720_8459 : Index := 720#32
  ![v21484.toNat, 0, 720]
def k1_off1177 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21504 : Index := Scalar.indexCast v21483
  let c0_8468 : Index := 0#32
  ![v21504.toNat, 0]
def k1_mult377 (v21507 : BitVec 32) : BitVec 32 :=
  let c0_i32_8472 : BitVec 32 := 0#32
  let v21511 : BitVec 1 := Scalar.cmpi .sgt v21507 c0_i32_8472
  let v21512 : BitVec 32 := Scalar.extui v21511
  let c0_i32_8473 : BitVec 32 := 0#32
  let v21513 : BitVec 1 := Scalar.cmpi .slt v21507 c0_i32_8473
  let v21514 : BitVec 32 := Scalar.extui v21513
  let v21515 : BitVec 32 := Scalar.subi v21512 v21514
  let c128_i32_8471 : BitVec 32 := 128#32
  let c0_i32_8474 : BitVec 32 := 0#32
  let v21516 : BitVec 1 := Scalar.cmpi .sgt c128_i32_8471 c0_i32_8474
  let v21517 : BitVec 32 := Scalar.extui v21516
  let c0_i32_8475 : BitVec 32 := 0#32
  let v21518 : BitVec 1 := Scalar.cmpi .slt c128_i32_8471 c0_i32_8475
  let v21519 : BitVec 32 := Scalar.extui v21518
  let v21520 : BitVec 32 := Scalar.subi v21517 v21519
  let v21521 : BitVec 1 := Scalar.cmpi .ne v21515 v21520
  let v21522 : BitVec 32 := Scalar.remsi v21507 c128_i32_8471
  let c0_i32_8476 : BitVec 32 := 0#32
  let v21523 : BitVec 1 := Scalar.cmpi .ne v21522 c0_i32_8476
  let v21524 : BitVec 1 := Scalar.andi v21521 v21523
  let v21510 : BitVec 32 := Scalar.divsi v21507 c128_i32_8471
  let c1_i32_8477 : BitVec 32 := 1#32
  let v21525 : BitVec 32 := Scalar.subi v21510 c1_i32_8477
  let v21526 : BitVec 32 := Scalar.select v21524 v21525 v21510
  let c128_i32_8478 : BitVec 32 := 128#32
  let v21527 : BitVec 32 := Scalar.muli v21526 c128_i32_8478
  v21527

def k1_off1178 (v21505 : BitVec 32) (v21507 : BitVec 32) : Fin 3 → Nat :=
  let v21530 : Index := Scalar.indexCast v21505
  let c0_8479 : Index := 0#32
  let c0_i32_8472 : BitVec 32 := 0#32
  let v21511 : BitVec 1 := Scalar.cmpi .sgt v21507 c0_i32_8472
  let v21512 : BitVec 32 := Scalar.extui v21511
  let c0_i32_8473 : BitVec 32 := 0#32
  let v21513 : BitVec 1 := Scalar.cmpi .slt v21507 c0_i32_8473
  let v21514 : BitVec 32 := Scalar.extui v21513
  let v21515 : BitVec 32 := Scalar.subi v21512 v21514
  let c128_i32_8471 : BitVec 32 := 128#32
  let c0_i32_8474 : BitVec 32 := 0#32
  let v21516 : BitVec 1 := Scalar.cmpi .sgt c128_i32_8471 c0_i32_8474
  let v21517 : BitVec 32 := Scalar.extui v21516
  let c0_i32_8475 : BitVec 32 := 0#32
  let v21518 : BitVec 1 := Scalar.cmpi .slt c128_i32_8471 c0_i32_8475
  let v21519 : BitVec 32 := Scalar.extui v21518
  let v21520 : BitVec 32 := Scalar.subi v21517 v21519
  let v21521 : BitVec 1 := Scalar.cmpi .ne v21515 v21520
  let v21522 : BitVec 32 := Scalar.remsi v21507 c128_i32_8471
  let c0_i32_8476 : BitVec 32 := 0#32
  let v21523 : BitVec 1 := Scalar.cmpi .ne v21522 c0_i32_8476
  let v21524 : BitVec 1 := Scalar.andi v21521 v21523
  let v21510 : BitVec 32 := Scalar.divsi v21507 c128_i32_8471
  let c1_i32_8477 : BitVec 32 := 1#32
  let v21525 : BitVec 32 := Scalar.subi v21510 c1_i32_8477
  let v21526 : BitVec 32 := Scalar.select v21524 v21525 v21510
  let c128_i32_8478 : BitVec 32 := 128#32
  let v21527 : BitVec 32 := Scalar.muli v21526 c128_i32_8478
  let v21528 : BitVec 32 := v21527
  let v21531 : Index := Scalar.indexCast v21528
  ![v21530.toNat, 0, v21531.toNat]

def k1_chk377 (v21505 : BitVec 32) (v21507 : BitVec 32) : Prop :=
  (128 ∣ (k1_mult377 v21507).toNat) ∧
  (∀ a, (k1_off1178 v21505 v21507) a + S1x16x512.size a ≤ S384x16x1152.size a)
theorem k1_mult377_dvd : ∀ (v21505 : BitVec 32) (v21507 : BitVec 32) (k1_hw377 : k1_chk377 v21505 v21507), 128 ∣ (k1_mult377 v21507).toNat := fun v21505 v21507 k1_hw377 => k1_hw377.1
theorem k1_off1178_inb : ∀ (v21505 : BitVec 32) (v21507 : BitVec 32) (k1_hw377 : k1_chk377 v21505 v21507), ∀ a, (k1_off1178 v21505 v21507) a + S1x16x512.size a ≤ S384x16x1152.size a := fun v21505 v21507 k1_hw377 => k1_hw377.2

def k1_off1179 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21541 : Index := Scalar.indexCast v21483
  let c0_8482 : Index := 0#32
  ![v21541.toNat, 0]
def k1_off1180 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21557 : Index := Scalar.indexCast v21483
  let c1_8488 : Index := 1#32
  ![v21557.toNat, 1]
def k1_mult378 (v21560 : BitVec 32) : BitVec 32 :=
  let c0_i32_8492 : BitVec 32 := 0#32
  let v21564 : BitVec 1 := Scalar.cmpi .sgt v21560 c0_i32_8492
  let v21565 : BitVec 32 := Scalar.extui v21564
  let c0_i32_8493 : BitVec 32 := 0#32
  let v21566 : BitVec 1 := Scalar.cmpi .slt v21560 c0_i32_8493
  let v21567 : BitVec 32 := Scalar.extui v21566
  let v21568 : BitVec 32 := Scalar.subi v21565 v21567
  let c128_i32_8491 : BitVec 32 := 128#32
  let c0_i32_8494 : BitVec 32 := 0#32
  let v21569 : BitVec 1 := Scalar.cmpi .sgt c128_i32_8491 c0_i32_8494
  let v21570 : BitVec 32 := Scalar.extui v21569
  let c0_i32_8495 : BitVec 32 := 0#32
  let v21571 : BitVec 1 := Scalar.cmpi .slt c128_i32_8491 c0_i32_8495
  let v21572 : BitVec 32 := Scalar.extui v21571
  let v21573 : BitVec 32 := Scalar.subi v21570 v21572
  let v21574 : BitVec 1 := Scalar.cmpi .ne v21568 v21573
  let v21575 : BitVec 32 := Scalar.remsi v21560 c128_i32_8491
  let c0_i32_8496 : BitVec 32 := 0#32
  let v21576 : BitVec 1 := Scalar.cmpi .ne v21575 c0_i32_8496
  let v21577 : BitVec 1 := Scalar.andi v21574 v21576
  let v21563 : BitVec 32 := Scalar.divsi v21560 c128_i32_8491
  let c1_i32_8497 : BitVec 32 := 1#32
  let v21578 : BitVec 32 := Scalar.subi v21563 c1_i32_8497
  let v21579 : BitVec 32 := Scalar.select v21577 v21578 v21563
  let c128_i32_8498 : BitVec 32 := 128#32
  let v21580 : BitVec 32 := Scalar.muli v21579 c128_i32_8498
  v21580

def k1_off1181 (v21558 : BitVec 32) (v21560 : BitVec 32) : Fin 3 → Nat :=
  let v21583 : Index := Scalar.indexCast v21558
  let c0_8499 : Index := 0#32
  let c0_i32_8492 : BitVec 32 := 0#32
  let v21564 : BitVec 1 := Scalar.cmpi .sgt v21560 c0_i32_8492
  let v21565 : BitVec 32 := Scalar.extui v21564
  let c0_i32_8493 : BitVec 32 := 0#32
  let v21566 : BitVec 1 := Scalar.cmpi .slt v21560 c0_i32_8493
  let v21567 : BitVec 32 := Scalar.extui v21566
  let v21568 : BitVec 32 := Scalar.subi v21565 v21567
  let c128_i32_8491 : BitVec 32 := 128#32
  let c0_i32_8494 : BitVec 32 := 0#32
  let v21569 : BitVec 1 := Scalar.cmpi .sgt c128_i32_8491 c0_i32_8494
  let v21570 : BitVec 32 := Scalar.extui v21569
  let c0_i32_8495 : BitVec 32 := 0#32
  let v21571 : BitVec 1 := Scalar.cmpi .slt c128_i32_8491 c0_i32_8495
  let v21572 : BitVec 32 := Scalar.extui v21571
  let v21573 : BitVec 32 := Scalar.subi v21570 v21572
  let v21574 : BitVec 1 := Scalar.cmpi .ne v21568 v21573
  let v21575 : BitVec 32 := Scalar.remsi v21560 c128_i32_8491
  let c0_i32_8496 : BitVec 32 := 0#32
  let v21576 : BitVec 1 := Scalar.cmpi .ne v21575 c0_i32_8496
  let v21577 : BitVec 1 := Scalar.andi v21574 v21576
  let v21563 : BitVec 32 := Scalar.divsi v21560 c128_i32_8491
  let c1_i32_8497 : BitVec 32 := 1#32
  let v21578 : BitVec 32 := Scalar.subi v21563 c1_i32_8497
  let v21579 : BitVec 32 := Scalar.select v21577 v21578 v21563
  let c128_i32_8498 : BitVec 32 := 128#32
  let v21580 : BitVec 32 := Scalar.muli v21579 c128_i32_8498
  let v21581 : BitVec 32 := v21580
  let v21584 : Index := Scalar.indexCast v21581
  ![v21583.toNat, 0, v21584.toNat]

def k1_chk378 (v21558 : BitVec 32) (v21560 : BitVec 32) : Prop :=
  (128 ∣ (k1_mult378 v21560).toNat) ∧
  (∀ a, (k1_off1181 v21558 v21560) a + S1x16x512.size a ≤ S384x16x1152.size a)
theorem k1_mult378_dvd : ∀ (v21558 : BitVec 32) (v21560 : BitVec 32) (k1_hw378 : k1_chk378 v21558 v21560), 128 ∣ (k1_mult378 v21560).toNat := fun v21558 v21560 k1_hw378 => k1_hw378.1
theorem k1_off1181_inb : ∀ (v21558 : BitVec 32) (v21560 : BitVec 32) (k1_hw378 : k1_chk378 v21558 v21560), ∀ a, (k1_off1181 v21558 v21560) a + S1x16x512.size a ≤ S384x16x1152.size a := fun v21558 v21560 k1_hw378 => k1_hw378.2

def k1_off1182 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21594 : Index := Scalar.indexCast v21483
  let c1_8502 : Index := 1#32
  ![v21594.toNat, 1]
def k1_off1183 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21610 : Index := Scalar.indexCast v21483
  let c2_8508 : Index := 2#32
  ![v21610.toNat, 2]
def k1_mult379 (v21613 : BitVec 32) : BitVec 32 :=
  let c0_i32_8512 : BitVec 32 := 0#32
  let v21617 : BitVec 1 := Scalar.cmpi .sgt v21613 c0_i32_8512
  let v21618 : BitVec 32 := Scalar.extui v21617
  let c0_i32_8513 : BitVec 32 := 0#32
  let v21619 : BitVec 1 := Scalar.cmpi .slt v21613 c0_i32_8513
  let v21620 : BitVec 32 := Scalar.extui v21619
  let v21621 : BitVec 32 := Scalar.subi v21618 v21620
  let c128_i32_8511 : BitVec 32 := 128#32
  let c0_i32_8514 : BitVec 32 := 0#32
  let v21622 : BitVec 1 := Scalar.cmpi .sgt c128_i32_8511 c0_i32_8514
  let v21623 : BitVec 32 := Scalar.extui v21622
  let c0_i32_8515 : BitVec 32 := 0#32
  let v21624 : BitVec 1 := Scalar.cmpi .slt c128_i32_8511 c0_i32_8515
  let v21625 : BitVec 32 := Scalar.extui v21624
  let v21626 : BitVec 32 := Scalar.subi v21623 v21625
  let v21627 : BitVec 1 := Scalar.cmpi .ne v21621 v21626
  let v21628 : BitVec 32 := Scalar.remsi v21613 c128_i32_8511
  let c0_i32_8516 : BitVec 32 := 0#32
  let v21629 : BitVec 1 := Scalar.cmpi .ne v21628 c0_i32_8516
  let v21630 : BitVec 1 := Scalar.andi v21627 v21629
  let v21616 : BitVec 32 := Scalar.divsi v21613 c128_i32_8511
  let c1_i32_8517 : BitVec 32 := 1#32
  let v21631 : BitVec 32 := Scalar.subi v21616 c1_i32_8517
  let v21632 : BitVec 32 := Scalar.select v21630 v21631 v21616
  let c128_i32_8518 : BitVec 32 := 128#32
  let v21633 : BitVec 32 := Scalar.muli v21632 c128_i32_8518
  v21633

def k1_off1184 (v21611 : BitVec 32) (v21613 : BitVec 32) : Fin 3 → Nat :=
  let v21636 : Index := Scalar.indexCast v21611
  let c0_8519 : Index := 0#32
  let c0_i32_8512 : BitVec 32 := 0#32
  let v21617 : BitVec 1 := Scalar.cmpi .sgt v21613 c0_i32_8512
  let v21618 : BitVec 32 := Scalar.extui v21617
  let c0_i32_8513 : BitVec 32 := 0#32
  let v21619 : BitVec 1 := Scalar.cmpi .slt v21613 c0_i32_8513
  let v21620 : BitVec 32 := Scalar.extui v21619
  let v21621 : BitVec 32 := Scalar.subi v21618 v21620
  let c128_i32_8511 : BitVec 32 := 128#32
  let c0_i32_8514 : BitVec 32 := 0#32
  let v21622 : BitVec 1 := Scalar.cmpi .sgt c128_i32_8511 c0_i32_8514
  let v21623 : BitVec 32 := Scalar.extui v21622
  let c0_i32_8515 : BitVec 32 := 0#32
  let v21624 : BitVec 1 := Scalar.cmpi .slt c128_i32_8511 c0_i32_8515
  let v21625 : BitVec 32 := Scalar.extui v21624
  let v21626 : BitVec 32 := Scalar.subi v21623 v21625
  let v21627 : BitVec 1 := Scalar.cmpi .ne v21621 v21626
  let v21628 : BitVec 32 := Scalar.remsi v21613 c128_i32_8511
  let c0_i32_8516 : BitVec 32 := 0#32
  let v21629 : BitVec 1 := Scalar.cmpi .ne v21628 c0_i32_8516
  let v21630 : BitVec 1 := Scalar.andi v21627 v21629
  let v21616 : BitVec 32 := Scalar.divsi v21613 c128_i32_8511
  let c1_i32_8517 : BitVec 32 := 1#32
  let v21631 : BitVec 32 := Scalar.subi v21616 c1_i32_8517
  let v21632 : BitVec 32 := Scalar.select v21630 v21631 v21616
  let c128_i32_8518 : BitVec 32 := 128#32
  let v21633 : BitVec 32 := Scalar.muli v21632 c128_i32_8518
  let v21634 : BitVec 32 := v21633
  let v21637 : Index := Scalar.indexCast v21634
  ![v21636.toNat, 0, v21637.toNat]

def k1_chk379 (v21611 : BitVec 32) (v21613 : BitVec 32) : Prop :=
  (128 ∣ (k1_mult379 v21613).toNat) ∧
  (∀ a, (k1_off1184 v21611 v21613) a + S1x16x512.size a ≤ S384x16x1152.size a)
theorem k1_mult379_dvd : ∀ (v21611 : BitVec 32) (v21613 : BitVec 32) (k1_hw379 : k1_chk379 v21611 v21613), 128 ∣ (k1_mult379 v21613).toNat := fun v21611 v21613 k1_hw379 => k1_hw379.1
theorem k1_off1184_inb : ∀ (v21611 : BitVec 32) (v21613 : BitVec 32) (k1_hw379 : k1_chk379 v21611 v21613), ∀ a, (k1_off1184 v21611 v21613) a + S1x16x512.size a ≤ S384x16x1152.size a := fun v21611 v21613 k1_hw379 => k1_hw379.2

def k1_off1185 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21647 : Index := Scalar.indexCast v21483
  let c2_8522 : Index := 2#32
  ![v21647.toNat, 2]
def k1_off1186 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21663 : Index := Scalar.indexCast v21483
  let c3_8528 : Index := 3#32
  ![v21663.toNat, 3]
def k1_mult380 (v21666 : BitVec 32) : BitVec 32 :=
  let c0_i32_8532 : BitVec 32 := 0#32
  let v21670 : BitVec 1 := Scalar.cmpi .sgt v21666 c0_i32_8532
  let v21671 : BitVec 32 := Scalar.extui v21670
  let c0_i32_8533 : BitVec 32 := 0#32
  let v21672 : BitVec 1 := Scalar.cmpi .slt v21666 c0_i32_8533
  let v21673 : BitVec 32 := Scalar.extui v21672
  let v21674 : BitVec 32 := Scalar.subi v21671 v21673
  let c128_i32_8531 : BitVec 32 := 128#32
  let c0_i32_8534 : BitVec 32 := 0#32
  let v21675 : BitVec 1 := Scalar.cmpi .sgt c128_i32_8531 c0_i32_8534
  let v21676 : BitVec 32 := Scalar.extui v21675
  let c0_i32_8535 : BitVec 32 := 0#32
  let v21677 : BitVec 1 := Scalar.cmpi .slt c128_i32_8531 c0_i32_8535
  let v21678 : BitVec 32 := Scalar.extui v21677
  let v21679 : BitVec 32 := Scalar.subi v21676 v21678
  let v21680 : BitVec 1 := Scalar.cmpi .ne v21674 v21679
  let v21681 : BitVec 32 := Scalar.remsi v21666 c128_i32_8531
  let c0_i32_8536 : BitVec 32 := 0#32
  let v21682 : BitVec 1 := Scalar.cmpi .ne v21681 c0_i32_8536
  let v21683 : BitVec 1 := Scalar.andi v21680 v21682
  let v21669 : BitVec 32 := Scalar.divsi v21666 c128_i32_8531
  let c1_i32_8537 : BitVec 32 := 1#32
  let v21684 : BitVec 32 := Scalar.subi v21669 c1_i32_8537
  let v21685 : BitVec 32 := Scalar.select v21683 v21684 v21669
  let c128_i32_8538 : BitVec 32 := 128#32
  let v21686 : BitVec 32 := Scalar.muli v21685 c128_i32_8538
  v21686

def k1_off1187 (v21664 : BitVec 32) (v21666 : BitVec 32) : Fin 3 → Nat :=
  let v21689 : Index := Scalar.indexCast v21664
  let c0_8539 : Index := 0#32
  let c0_i32_8532 : BitVec 32 := 0#32
  let v21670 : BitVec 1 := Scalar.cmpi .sgt v21666 c0_i32_8532
  let v21671 : BitVec 32 := Scalar.extui v21670
  let c0_i32_8533 : BitVec 32 := 0#32
  let v21672 : BitVec 1 := Scalar.cmpi .slt v21666 c0_i32_8533
  let v21673 : BitVec 32 := Scalar.extui v21672
  let v21674 : BitVec 32 := Scalar.subi v21671 v21673
  let c128_i32_8531 : BitVec 32 := 128#32
  let c0_i32_8534 : BitVec 32 := 0#32
  let v21675 : BitVec 1 := Scalar.cmpi .sgt c128_i32_8531 c0_i32_8534
  let v21676 : BitVec 32 := Scalar.extui v21675
  let c0_i32_8535 : BitVec 32 := 0#32
  let v21677 : BitVec 1 := Scalar.cmpi .slt c128_i32_8531 c0_i32_8535
  let v21678 : BitVec 32 := Scalar.extui v21677
  let v21679 : BitVec 32 := Scalar.subi v21676 v21678
  let v21680 : BitVec 1 := Scalar.cmpi .ne v21674 v21679
  let v21681 : BitVec 32 := Scalar.remsi v21666 c128_i32_8531
  let c0_i32_8536 : BitVec 32 := 0#32
  let v21682 : BitVec 1 := Scalar.cmpi .ne v21681 c0_i32_8536
  let v21683 : BitVec 1 := Scalar.andi v21680 v21682
  let v21669 : BitVec 32 := Scalar.divsi v21666 c128_i32_8531
  let c1_i32_8537 : BitVec 32 := 1#32
  let v21684 : BitVec 32 := Scalar.subi v21669 c1_i32_8537
  let v21685 : BitVec 32 := Scalar.select v21683 v21684 v21669
  let c128_i32_8538 : BitVec 32 := 128#32
  let v21686 : BitVec 32 := Scalar.muli v21685 c128_i32_8538
  let v21687 : BitVec 32 := v21686
  let v21690 : Index := Scalar.indexCast v21687
  ![v21689.toNat, 0, v21690.toNat]

def k1_chk380 (v21664 : BitVec 32) (v21666 : BitVec 32) : Prop :=
  (128 ∣ (k1_mult380 v21666).toNat) ∧
  (∀ a, (k1_off1187 v21664 v21666) a + S1x16x512.size a ≤ S384x16x1152.size a)
theorem k1_mult380_dvd : ∀ (v21664 : BitVec 32) (v21666 : BitVec 32) (k1_hw380 : k1_chk380 v21664 v21666), 128 ∣ (k1_mult380 v21666).toNat := fun v21664 v21666 k1_hw380 => k1_hw380.1
theorem k1_off1187_inb : ∀ (v21664 : BitVec 32) (v21666 : BitVec 32) (k1_hw380 : k1_chk380 v21664 v21666), ∀ a, (k1_off1187 v21664 v21666) a + S1x16x512.size a ≤ S384x16x1152.size a := fun v21664 v21666 k1_hw380 => k1_hw380.2

def k1_off1188 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21700 : Index := Scalar.indexCast v21483
  let c3_8542 : Index := 3#32
  ![v21700.toNat, 3]
def k1_off1189 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21716 : Index := Scalar.indexCast v21483
  let c4_8548 : Index := 4#32
  ![v21716.toNat, 4]
def k1_mult381 (v21719 : BitVec 32) : BitVec 32 :=
  let c0_i32_8552 : BitVec 32 := 0#32
  let v21723 : BitVec 1 := Scalar.cmpi .sgt v21719 c0_i32_8552
  let v21724 : BitVec 32 := Scalar.extui v21723
  let c0_i32_8553 : BitVec 32 := 0#32
  let v21725 : BitVec 1 := Scalar.cmpi .slt v21719 c0_i32_8553
  let v21726 : BitVec 32 := Scalar.extui v21725
  let v21727 : BitVec 32 := Scalar.subi v21724 v21726
  let c128_i32_8551 : BitVec 32 := 128#32
  let c0_i32_8554 : BitVec 32 := 0#32
  let v21728 : BitVec 1 := Scalar.cmpi .sgt c128_i32_8551 c0_i32_8554
  let v21729 : BitVec 32 := Scalar.extui v21728
  let c0_i32_8555 : BitVec 32 := 0#32
  let v21730 : BitVec 1 := Scalar.cmpi .slt c128_i32_8551 c0_i32_8555
  let v21731 : BitVec 32 := Scalar.extui v21730
  let v21732 : BitVec 32 := Scalar.subi v21729 v21731
  let v21733 : BitVec 1 := Scalar.cmpi .ne v21727 v21732
  let v21734 : BitVec 32 := Scalar.remsi v21719 c128_i32_8551
  let c0_i32_8556 : BitVec 32 := 0#32
  let v21735 : BitVec 1 := Scalar.cmpi .ne v21734 c0_i32_8556
  let v21736 : BitVec 1 := Scalar.andi v21733 v21735
  let v21722 : BitVec 32 := Scalar.divsi v21719 c128_i32_8551
  let c1_i32_8557 : BitVec 32 := 1#32
  let v21737 : BitVec 32 := Scalar.subi v21722 c1_i32_8557
  let v21738 : BitVec 32 := Scalar.select v21736 v21737 v21722
  let c128_i32_8558 : BitVec 32 := 128#32
  let v21739 : BitVec 32 := Scalar.muli v21738 c128_i32_8558
  v21739

def k1_off1190 (v21717 : BitVec 32) (v21719 : BitVec 32) : Fin 3 → Nat :=
  let v21742 : Index := Scalar.indexCast v21717
  let c0_8559 : Index := 0#32
  let c0_i32_8552 : BitVec 32 := 0#32
  let v21723 : BitVec 1 := Scalar.cmpi .sgt v21719 c0_i32_8552
  let v21724 : BitVec 32 := Scalar.extui v21723
  let c0_i32_8553 : BitVec 32 := 0#32
  let v21725 : BitVec 1 := Scalar.cmpi .slt v21719 c0_i32_8553
  let v21726 : BitVec 32 := Scalar.extui v21725
  let v21727 : BitVec 32 := Scalar.subi v21724 v21726
  let c128_i32_8551 : BitVec 32 := 128#32
  let c0_i32_8554 : BitVec 32 := 0#32
  let v21728 : BitVec 1 := Scalar.cmpi .sgt c128_i32_8551 c0_i32_8554
  let v21729 : BitVec 32 := Scalar.extui v21728
  let c0_i32_8555 : BitVec 32 := 0#32
  let v21730 : BitVec 1 := Scalar.cmpi .slt c128_i32_8551 c0_i32_8555
  let v21731 : BitVec 32 := Scalar.extui v21730
  let v21732 : BitVec 32 := Scalar.subi v21729 v21731
  let v21733 : BitVec 1 := Scalar.cmpi .ne v21727 v21732
  let v21734 : BitVec 32 := Scalar.remsi v21719 c128_i32_8551
  let c0_i32_8556 : BitVec 32 := 0#32
  let v21735 : BitVec 1 := Scalar.cmpi .ne v21734 c0_i32_8556
  let v21736 : BitVec 1 := Scalar.andi v21733 v21735
  let v21722 : BitVec 32 := Scalar.divsi v21719 c128_i32_8551
  let c1_i32_8557 : BitVec 32 := 1#32
  let v21737 : BitVec 32 := Scalar.subi v21722 c1_i32_8557
  let v21738 : BitVec 32 := Scalar.select v21736 v21737 v21722
  let c128_i32_8558 : BitVec 32 := 128#32
  let v21739 : BitVec 32 := Scalar.muli v21738 c128_i32_8558
  let v21740 : BitVec 32 := v21739
  let v21743 : Index := Scalar.indexCast v21740
  ![v21742.toNat, 0, v21743.toNat]

def k1_chk381 (v21717 : BitVec 32) (v21719 : BitVec 32) : Prop :=
  (128 ∣ (k1_mult381 v21719).toNat) ∧
  (∀ a, (k1_off1190 v21717 v21719) a + S1x16x512.size a ≤ S384x16x1152.size a)
theorem k1_mult381_dvd : ∀ (v21717 : BitVec 32) (v21719 : BitVec 32) (k1_hw381 : k1_chk381 v21717 v21719), 128 ∣ (k1_mult381 v21719).toNat := fun v21717 v21719 k1_hw381 => k1_hw381.1
theorem k1_off1190_inb : ∀ (v21717 : BitVec 32) (v21719 : BitVec 32) (k1_hw381 : k1_chk381 v21717 v21719), ∀ a, (k1_off1190 v21717 v21719) a + S1x16x512.size a ≤ S384x16x1152.size a := fun v21717 v21719 k1_hw381 => k1_hw381.2

def k1_off1191 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21753 : Index := Scalar.indexCast v21483
  let c4_8562 : Index := 4#32
  ![v21753.toNat, 4]
def k1_off1192 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21769 : Index := Scalar.indexCast v21483
  let c5_8568 : Index := 5#32
  ![v21769.toNat, 5]
def k1_mult382 (v21772 : BitVec 32) : BitVec 32 :=
  let c0_i32_8572 : BitVec 32 := 0#32
  let v21776 : BitVec 1 := Scalar.cmpi .sgt v21772 c0_i32_8572
  let v21777 : BitVec 32 := Scalar.extui v21776
  let c0_i32_8573 : BitVec 32 := 0#32
  let v21778 : BitVec 1 := Scalar.cmpi .slt v21772 c0_i32_8573
  let v21779 : BitVec 32 := Scalar.extui v21778
  let v21780 : BitVec 32 := Scalar.subi v21777 v21779
  let c128_i32_8571 : BitVec 32 := 128#32
  let c0_i32_8574 : BitVec 32 := 0#32
  let v21781 : BitVec 1 := Scalar.cmpi .sgt c128_i32_8571 c0_i32_8574
  let v21782 : BitVec 32 := Scalar.extui v21781
  let c0_i32_8575 : BitVec 32 := 0#32
  let v21783 : BitVec 1 := Scalar.cmpi .slt c128_i32_8571 c0_i32_8575
  let v21784 : BitVec 32 := Scalar.extui v21783
  let v21785 : BitVec 32 := Scalar.subi v21782 v21784
  let v21786 : BitVec 1 := Scalar.cmpi .ne v21780 v21785
  let v21787 : BitVec 32 := Scalar.remsi v21772 c128_i32_8571
  let c0_i32_8576 : BitVec 32 := 0#32
  let v21788 : BitVec 1 := Scalar.cmpi .ne v21787 c0_i32_8576
  let v21789 : BitVec 1 := Scalar.andi v21786 v21788
  let v21775 : BitVec 32 := Scalar.divsi v21772 c128_i32_8571
  let c1_i32_8577 : BitVec 32 := 1#32
  let v21790 : BitVec 32 := Scalar.subi v21775 c1_i32_8577
  let v21791 : BitVec 32 := Scalar.select v21789 v21790 v21775
  let c128_i32_8578 : BitVec 32 := 128#32
  let v21792 : BitVec 32 := Scalar.muli v21791 c128_i32_8578
  v21792

def k1_off1193 (v21770 : BitVec 32) (v21772 : BitVec 32) : Fin 3 → Nat :=
  let v21795 : Index := Scalar.indexCast v21770
  let c0_8579 : Index := 0#32
  let c0_i32_8572 : BitVec 32 := 0#32
  let v21776 : BitVec 1 := Scalar.cmpi .sgt v21772 c0_i32_8572
  let v21777 : BitVec 32 := Scalar.extui v21776
  let c0_i32_8573 : BitVec 32 := 0#32
  let v21778 : BitVec 1 := Scalar.cmpi .slt v21772 c0_i32_8573
  let v21779 : BitVec 32 := Scalar.extui v21778
  let v21780 : BitVec 32 := Scalar.subi v21777 v21779
  let c128_i32_8571 : BitVec 32 := 128#32
  let c0_i32_8574 : BitVec 32 := 0#32
  let v21781 : BitVec 1 := Scalar.cmpi .sgt c128_i32_8571 c0_i32_8574
  let v21782 : BitVec 32 := Scalar.extui v21781
  let c0_i32_8575 : BitVec 32 := 0#32
  let v21783 : BitVec 1 := Scalar.cmpi .slt c128_i32_8571 c0_i32_8575
  let v21784 : BitVec 32 := Scalar.extui v21783
  let v21785 : BitVec 32 := Scalar.subi v21782 v21784
  let v21786 : BitVec 1 := Scalar.cmpi .ne v21780 v21785
  let v21787 : BitVec 32 := Scalar.remsi v21772 c128_i32_8571
  let c0_i32_8576 : BitVec 32 := 0#32
  let v21788 : BitVec 1 := Scalar.cmpi .ne v21787 c0_i32_8576
  let v21789 : BitVec 1 := Scalar.andi v21786 v21788
  let v21775 : BitVec 32 := Scalar.divsi v21772 c128_i32_8571
  let c1_i32_8577 : BitVec 32 := 1#32
  let v21790 : BitVec 32 := Scalar.subi v21775 c1_i32_8577
  let v21791 : BitVec 32 := Scalar.select v21789 v21790 v21775
  let c128_i32_8578 : BitVec 32 := 128#32
  let v21792 : BitVec 32 := Scalar.muli v21791 c128_i32_8578
  let v21793 : BitVec 32 := v21792
  let v21796 : Index := Scalar.indexCast v21793
  ![v21795.toNat, 0, v21796.toNat]

def k1_chk382 (v21770 : BitVec 32) (v21772 : BitVec 32) : Prop :=
  (128 ∣ (k1_mult382 v21772).toNat) ∧
  (∀ a, (k1_off1193 v21770 v21772) a + S1x16x512.size a ≤ S384x16x1152.size a)
theorem k1_mult382_dvd : ∀ (v21770 : BitVec 32) (v21772 : BitVec 32) (k1_hw382 : k1_chk382 v21770 v21772), 128 ∣ (k1_mult382 v21772).toNat := fun v21770 v21772 k1_hw382 => k1_hw382.1
theorem k1_off1193_inb : ∀ (v21770 : BitVec 32) (v21772 : BitVec 32) (k1_hw382 : k1_chk382 v21770 v21772), ∀ a, (k1_off1193 v21770 v21772) a + S1x16x512.size a ≤ S384x16x1152.size a := fun v21770 v21772 k1_hw382 => k1_hw382.2

def k1_off1194 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21806 : Index := Scalar.indexCast v21483
  let c5_8582 : Index := 5#32
  ![v21806.toNat, 5]
def k1_off1195 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21822 : Index := Scalar.indexCast v21483
  let c6_8588 : Index := 6#32
  ![v21822.toNat, 6]
def k1_mult383 (v21825 : BitVec 32) : BitVec 32 :=
  let c0_i32_8592 : BitVec 32 := 0#32
  let v21829 : BitVec 1 := Scalar.cmpi .sgt v21825 c0_i32_8592
  let v21830 : BitVec 32 := Scalar.extui v21829
  let c0_i32_8593 : BitVec 32 := 0#32
  let v21831 : BitVec 1 := Scalar.cmpi .slt v21825 c0_i32_8593
  let v21832 : BitVec 32 := Scalar.extui v21831
  let v21833 : BitVec 32 := Scalar.subi v21830 v21832
  let c128_i32_8591 : BitVec 32 := 128#32
  let c0_i32_8594 : BitVec 32 := 0#32
  let v21834 : BitVec 1 := Scalar.cmpi .sgt c128_i32_8591 c0_i32_8594
  let v21835 : BitVec 32 := Scalar.extui v21834
  let c0_i32_8595 : BitVec 32 := 0#32
  let v21836 : BitVec 1 := Scalar.cmpi .slt c128_i32_8591 c0_i32_8595
  let v21837 : BitVec 32 := Scalar.extui v21836
  let v21838 : BitVec 32 := Scalar.subi v21835 v21837
  let v21839 : BitVec 1 := Scalar.cmpi .ne v21833 v21838
  let v21840 : BitVec 32 := Scalar.remsi v21825 c128_i32_8591
  let c0_i32_8596 : BitVec 32 := 0#32
  let v21841 : BitVec 1 := Scalar.cmpi .ne v21840 c0_i32_8596
  let v21842 : BitVec 1 := Scalar.andi v21839 v21841
  let v21828 : BitVec 32 := Scalar.divsi v21825 c128_i32_8591
  let c1_i32_8597 : BitVec 32 := 1#32
  let v21843 : BitVec 32 := Scalar.subi v21828 c1_i32_8597
  let v21844 : BitVec 32 := Scalar.select v21842 v21843 v21828
  let c128_i32_8598 : BitVec 32 := 128#32
  let v21845 : BitVec 32 := Scalar.muli v21844 c128_i32_8598
  v21845

def k1_off1196 (v21823 : BitVec 32) (v21825 : BitVec 32) : Fin 3 → Nat :=
  let v21848 : Index := Scalar.indexCast v21823
  let c0_8599 : Index := 0#32
  let c0_i32_8592 : BitVec 32 := 0#32
  let v21829 : BitVec 1 := Scalar.cmpi .sgt v21825 c0_i32_8592
  let v21830 : BitVec 32 := Scalar.extui v21829
  let c0_i32_8593 : BitVec 32 := 0#32
  let v21831 : BitVec 1 := Scalar.cmpi .slt v21825 c0_i32_8593
  let v21832 : BitVec 32 := Scalar.extui v21831
  let v21833 : BitVec 32 := Scalar.subi v21830 v21832
  let c128_i32_8591 : BitVec 32 := 128#32
  let c0_i32_8594 : BitVec 32 := 0#32
  let v21834 : BitVec 1 := Scalar.cmpi .sgt c128_i32_8591 c0_i32_8594
  let v21835 : BitVec 32 := Scalar.extui v21834
  let c0_i32_8595 : BitVec 32 := 0#32
  let v21836 : BitVec 1 := Scalar.cmpi .slt c128_i32_8591 c0_i32_8595
  let v21837 : BitVec 32 := Scalar.extui v21836
  let v21838 : BitVec 32 := Scalar.subi v21835 v21837
  let v21839 : BitVec 1 := Scalar.cmpi .ne v21833 v21838
  let v21840 : BitVec 32 := Scalar.remsi v21825 c128_i32_8591
  let c0_i32_8596 : BitVec 32 := 0#32
  let v21841 : BitVec 1 := Scalar.cmpi .ne v21840 c0_i32_8596
  let v21842 : BitVec 1 := Scalar.andi v21839 v21841
  let v21828 : BitVec 32 := Scalar.divsi v21825 c128_i32_8591
  let c1_i32_8597 : BitVec 32 := 1#32
  let v21843 : BitVec 32 := Scalar.subi v21828 c1_i32_8597
  let v21844 : BitVec 32 := Scalar.select v21842 v21843 v21828
  let c128_i32_8598 : BitVec 32 := 128#32
  let v21845 : BitVec 32 := Scalar.muli v21844 c128_i32_8598
  let v21846 : BitVec 32 := v21845
  let v21849 : Index := Scalar.indexCast v21846
  ![v21848.toNat, 0, v21849.toNat]

def k1_chk383 (v21823 : BitVec 32) (v21825 : BitVec 32) : Prop :=
  (128 ∣ (k1_mult383 v21825).toNat) ∧
  (∀ a, (k1_off1196 v21823 v21825) a + S1x16x512.size a ≤ S384x16x1152.size a)
theorem k1_mult383_dvd : ∀ (v21823 : BitVec 32) (v21825 : BitVec 32) (k1_hw383 : k1_chk383 v21823 v21825), 128 ∣ (k1_mult383 v21825).toNat := fun v21823 v21825 k1_hw383 => k1_hw383.1
theorem k1_off1196_inb : ∀ (v21823 : BitVec 32) (v21825 : BitVec 32) (k1_hw383 : k1_chk383 v21823 v21825), ∀ a, (k1_off1196 v21823 v21825) a + S1x16x512.size a ≤ S384x16x1152.size a := fun v21823 v21825 k1_hw383 => k1_hw383.2

def k1_off1197 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21859 : Index := Scalar.indexCast v21483
  let c6_8602 : Index := 6#32
  ![v21859.toNat, 6]
def k1_off1198 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21875 : Index := Scalar.indexCast v21483
  let c7_8608 : Index := 7#32
  ![v21875.toNat, 7]
def k1_mult384 (v21878 : BitVec 32) : BitVec 32 :=
  let c0_i32_8612 : BitVec 32 := 0#32
  let v21882 : BitVec 1 := Scalar.cmpi .sgt v21878 c0_i32_8612
  let v21883 : BitVec 32 := Scalar.extui v21882
  let c0_i32_8613 : BitVec 32 := 0#32
  let v21884 : BitVec 1 := Scalar.cmpi .slt v21878 c0_i32_8613
  let v21885 : BitVec 32 := Scalar.extui v21884
  let v21886 : BitVec 32 := Scalar.subi v21883 v21885
  let c128_i32_8611 : BitVec 32 := 128#32
  let c0_i32_8614 : BitVec 32 := 0#32
  let v21887 : BitVec 1 := Scalar.cmpi .sgt c128_i32_8611 c0_i32_8614
  let v21888 : BitVec 32 := Scalar.extui v21887
  let c0_i32_8615 : BitVec 32 := 0#32
  let v21889 : BitVec 1 := Scalar.cmpi .slt c128_i32_8611 c0_i32_8615
  let v21890 : BitVec 32 := Scalar.extui v21889
  let v21891 : BitVec 32 := Scalar.subi v21888 v21890
  let v21892 : BitVec 1 := Scalar.cmpi .ne v21886 v21891
  let v21893 : BitVec 32 := Scalar.remsi v21878 c128_i32_8611
  let c0_i32_8616 : BitVec 32 := 0#32
  let v21894 : BitVec 1 := Scalar.cmpi .ne v21893 c0_i32_8616
  let v21895 : BitVec 1 := Scalar.andi v21892 v21894
  let v21881 : BitVec 32 := Scalar.divsi v21878 c128_i32_8611
  let c1_i32_8617 : BitVec 32 := 1#32
  let v21896 : BitVec 32 := Scalar.subi v21881 c1_i32_8617
  let v21897 : BitVec 32 := Scalar.select v21895 v21896 v21881
  let c128_i32_8618 : BitVec 32 := 128#32
  let v21898 : BitVec 32 := Scalar.muli v21897 c128_i32_8618
  v21898

def k1_off1199 (v21876 : BitVec 32) (v21878 : BitVec 32) : Fin 3 → Nat :=
  let v21901 : Index := Scalar.indexCast v21876
  let c0_8619 : Index := 0#32
  let c0_i32_8612 : BitVec 32 := 0#32
  let v21882 : BitVec 1 := Scalar.cmpi .sgt v21878 c0_i32_8612
  let v21883 : BitVec 32 := Scalar.extui v21882
  let c0_i32_8613 : BitVec 32 := 0#32
  let v21884 : BitVec 1 := Scalar.cmpi .slt v21878 c0_i32_8613
  let v21885 : BitVec 32 := Scalar.extui v21884
  let v21886 : BitVec 32 := Scalar.subi v21883 v21885
  let c128_i32_8611 : BitVec 32 := 128#32
  let c0_i32_8614 : BitVec 32 := 0#32
  let v21887 : BitVec 1 := Scalar.cmpi .sgt c128_i32_8611 c0_i32_8614
  let v21888 : BitVec 32 := Scalar.extui v21887
  let c0_i32_8615 : BitVec 32 := 0#32
  let v21889 : BitVec 1 := Scalar.cmpi .slt c128_i32_8611 c0_i32_8615
  let v21890 : BitVec 32 := Scalar.extui v21889
  let v21891 : BitVec 32 := Scalar.subi v21888 v21890
  let v21892 : BitVec 1 := Scalar.cmpi .ne v21886 v21891
  let v21893 : BitVec 32 := Scalar.remsi v21878 c128_i32_8611
  let c0_i32_8616 : BitVec 32 := 0#32
  let v21894 : BitVec 1 := Scalar.cmpi .ne v21893 c0_i32_8616
  let v21895 : BitVec 1 := Scalar.andi v21892 v21894
  let v21881 : BitVec 32 := Scalar.divsi v21878 c128_i32_8611
  let c1_i32_8617 : BitVec 32 := 1#32
  let v21896 : BitVec 32 := Scalar.subi v21881 c1_i32_8617
  let v21897 : BitVec 32 := Scalar.select v21895 v21896 v21881
  let c128_i32_8618 : BitVec 32 := 128#32
  let v21898 : BitVec 32 := Scalar.muli v21897 c128_i32_8618
  let v21899 : BitVec 32 := v21898
  let v21902 : Index := Scalar.indexCast v21899
  ![v21901.toNat, 0, v21902.toNat]

def k1_chk384 (v21876 : BitVec 32) (v21878 : BitVec 32) : Prop :=
  (128 ∣ (k1_mult384 v21878).toNat) ∧
  (∀ a, (k1_off1199 v21876 v21878) a + S1x16x512.size a ≤ S384x16x1152.size a)
theorem k1_mult384_dvd : ∀ (v21876 : BitVec 32) (v21878 : BitVec 32) (k1_hw384 : k1_chk384 v21876 v21878), 128 ∣ (k1_mult384 v21878).toNat := fun v21876 v21878 k1_hw384 => k1_hw384.1
theorem k1_off1199_inb : ∀ (v21876 : BitVec 32) (v21878 : BitVec 32) (k1_hw384 : k1_chk384 v21876 v21878), ∀ a, (k1_off1199 v21876 v21878) a + S1x16x512.size a ≤ S384x16x1152.size a := fun v21876 v21878 k1_hw384 => k1_hw384.2

def k1_off1200 (i : grid1.Coords) : Fin 2 → Nat :=
  let arg0 : BitVec 32 := BitVec.ofNat 32 (i 0).val
  let c48_i32_8457 : BitVec 32 := 48#32
  let v21482 : BitVec 32 := Scalar.muli arg0 c48_i32_8457
  let c47_i32 : BitVec 32 := 47#32
  let v21483 : BitVec 32 := Scalar.addi v21482 c47_i32
  let v21912 : Index := Scalar.indexCast v21483
  let c7_8622 : Index := 7#32
  ![v21912.toNat, 7]
def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S336x8 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S336x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .smem S336x8 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S336x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S336x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S48x1x9 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S48x16x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S48x16x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S48x16x336 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S48x9x16x336 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S16x720x321 : Shape := ⟨3, ![16, 720, 321]⟩
abbrev S2568 : Shape := ⟨1, ![2568]⟩
abbrev S336x720 : Shape := ⟨2, ![336, 720]⟩
abbrev S321x9 : Shape := ⟨2, ![321, 9]⟩
abbrev S_ : Shape := ⟨0, ![]⟩
abbrev S16x321 : Shape := ⟨2, ![16, 321]⟩
abbrev S16x1x321 : Shape := ⟨3, ![16, 1, 321]⟩
abbrev S336x16x321 : Shape := ⟨3, ![336, 16, 321]⟩
abbrev S16x336x321 : Shape := ⟨3, ![16, 336, 321]⟩
abbrev S16x1056x321 : Shape := ⟨3, ![16, 1056, 321]⟩
abbrev S2568x1 : Shape := ⟨2, ![2568, 1]⟩
abbrev S16x1056x2568 : Shape := ⟨3, ![16, 1056, 2568]⟩
abbrev S336 : Shape := ⟨1, ![336]⟩
abbrev S1x336x1 : Shape := ⟨3, ![1, 336, 1]⟩
abbrev S1x1x2568 : Shape := ⟨3, ![1, 1, 2568]⟩
abbrev S1x336x2568 : Shape := ⟨3, ![1, 336, 2568]⟩
abbrev S16x336x2568 : Shape := ⟨3, ![16, 336, 2568]⟩
abbrev S16x336x2568x1 : Shape := ⟨4, ![16, 336, 2568, 1]⟩
abbrev S1 : Shape := ⟨1, ![1]⟩
abbrev S1x1x1x1 : Shape := ⟨4, ![1, 1, 1, 1]⟩
abbrev S16x336x321x8 : Shape := ⟨4, ![16, 336, 321, 8]⟩
abbrev S16x336x321x1 : Shape := ⟨4, ![16, 336, 321, 1]⟩
abbrev S16x336x321x9 : Shape := ⟨4, ![16, 336, 321, 9]⟩
abbrev S321 : Shape := ⟨1, ![321]⟩
abbrev S321x1 : Shape := ⟨2, ![321, 1]⟩
abbrev S1x1x321x9 : Shape := ⟨4, ![1, 1, 321, 9]⟩

abbrev nBuf : Space → Nat
  | .hbm => 167
  | .vmem => 0
  | .smem => 0
  | _ => 0

abbrev hbmTy0_0 (i : Nat) : BufTy := match i % 128 with
  | 0 => ⟨S16x720x321, .f32⟩
  | 1 => ⟨S2568, .i32⟩
  | 2 => ⟨S2568, .f32⟩
  | 3 => ⟨S336x720, .f32⟩
  | 4 => ⟨S321x9, .f32⟩
  | 5 => ⟨S_, .f32⟩
  | 6 => ⟨S16x321, .f32⟩
  | 7 => ⟨S16x1x321, .f32⟩
  | 8 => ⟨S_, .f32⟩
  | 9 => ⟨S16x1x321, .f32⟩
  | 10 => ⟨S16x1x321, .f32⟩
  | 11 => ⟨S_, .i32⟩
  | 12 => ⟨S_, .f32⟩
  | 13 => ⟨S16x321, .f32⟩
  | 14 => ⟨S16x1x321, .f32⟩
  | 15 => ⟨S_, .f32⟩
  | 16 => ⟨S16x1x321, .f32⟩
  | 17 => ⟨S16x1x321, .f32⟩
  | 18 => ⟨S16x720x321, .f32⟩
  | 19 => ⟨S16x720x321, .f32⟩
  | 20 => ⟨S16x720x321, .f32⟩
  | 21 => ⟨S_, .f32⟩
  | 22 => ⟨S_, .f32⟩
  | 23 => ⟨S_, .f32⟩
  | 24 => ⟨S_, .f32⟩
  | 25 => ⟨S16x321, .f32⟩
  | 26 => ⟨S16x1x321, .f32⟩
  | 27 => ⟨S16x1x321, .f32⟩
  | 28 => ⟨S16x1x321, .f32⟩
  | 29 => ⟨S_, .f32⟩
  | 30 => ⟨S_, .i1⟩
  | 31 => ⟨S_, .f32⟩
  | 32 => ⟨S_, .f32⟩
  | 33 => ⟨S16x1x321, .f32⟩
  | 34 => ⟨S16x1x321, .f32⟩
  | 35 => ⟨S_, .f32⟩
  | 36 => ⟨S16x1x321, .f32⟩
  | 37 => ⟨S16x1x321, .f32⟩
  | 38 => ⟨S16x1x321, .f32⟩
  | 39 => ⟨S16x720x321, .f32⟩
  | 40 => ⟨S16x720x321, .f32⟩
  | 41 => ⟨S16x720x321, .f32⟩
  | 42 => ⟨S16x720x321, .f32⟩
  | 43 => ⟨S336x16x321, .f32⟩
  | 44 => ⟨S16x336x321, .f32⟩
  | 45 => ⟨S16x1056x321, .f32⟩
  | 46 => ⟨S_, .i32⟩
  | 47 => ⟨S2568, .i32⟩
  | 48 => ⟨S2568, .i1⟩
  | 49 => ⟨S_, .i32⟩
  | 50 => ⟨S2568, .i32⟩
  | 51 => ⟨S2568, .i32⟩
  | 52 => ⟨S2568, .i32⟩
  | 53 => ⟨S2568x1, .i32⟩
  | 54 => ⟨S16x1056x2568, .f32⟩
  | 55 => ⟨S336, .i32⟩
  | 56 => ⟨S_, .i32⟩
  | 57 => ⟨S336, .i32⟩
  | 58 => ⟨S336, .i32⟩
  | 59 => ⟨S1x336x1, .i32⟩
  | 60 => ⟨S2568, .f32⟩
  | 61 => ⟨S2568, .f32⟩
  | 62 => ⟨S_, .f32⟩
  | 63 => ⟨S2568, .f32⟩
  | 64 => ⟨S2568, .f32⟩
  | 65 => ⟨S_, .f32⟩
  | 66 => ⟨S2568, .f32⟩
  | 67 => ⟨S2568, .f32⟩
  | 68 => ⟨S_, .f32⟩
  | 69 => ⟨S2568, .f32⟩
  | 70 => ⟨S2568, .f32⟩
  | 71 => ⟨S2568, .f32⟩
  | 72 => ⟨S2568, .f32⟩
  | 73 => ⟨S2568, .i32⟩
  | 74 => ⟨S1x1x2568, .i32⟩
  | 75 => ⟨S1x336x2568, .i32⟩
  | 76 => ⟨S1x336x2568, .i32⟩
  | 77 => ⟨S1x336x2568, .i32⟩
  | 78 => ⟨S2568, .i32⟩
  | 79 => ⟨S1x1x2568, .i32⟩
  | 80 => ⟨S1x336x2568, .i32⟩
  | 81 => ⟨S1x336x2568, .i32⟩
  | 82 => ⟨S1x336x2568, .i32⟩
  | 83 => ⟨S16x336x2568, .i32⟩
  | 84 => ⟨S16x336x2568, .i32⟩
  | 85 => ⟨S_, .i32⟩
  | 86 => ⟨S16x336x2568, .i32⟩
  | 87 => ⟨S16x336x2568, .i1⟩
  | 88 => ⟨S_, .i32⟩
  | 89 => ⟨S16x336x2568, .i32⟩
  | 90 => ⟨S16x336x2568, .i32⟩
  | 91 => ⟨S16x336x2568, .i32⟩
  | 92 => ⟨S16x336x2568x1, .i32⟩
  | 93 => ⟨S1, .i32⟩
  | 94 => ⟨S_, .i32⟩
  | 95 => ⟨S16x336x2568x1, .i32⟩
  | 96 => ⟨S16x336x2568x1, .i1⟩
  | 97 => ⟨S1x1x1x1, .i32⟩
  | 98 => ⟨S16x336x2568x1, .i32⟩
  | 99 => ⟨S16x336x2568x1, .i1⟩
  | 100 => ⟨S16x336x2568x1, .i1⟩
  | 101 => ⟨S_, .i1⟩
  | 102 => ⟨S16x336x2568, .i1⟩
  | 103 => ⟨S16x336x2568, .f32⟩
  | 104 => ⟨S_, .f32⟩
  | 105 => ⟨S16x336x2568, .f32⟩
  | 106 => ⟨S16x336x2568, .f32⟩
  | 107 => ⟨S_, .i32⟩
  | 108 => ⟨S16x336x2568, .i32⟩
  | 109 => ⟨S16x336x2568, .i1⟩
  | 110 => ⟨S_, .i32⟩
  | 111 => ⟨S16x336x2568, .i32⟩
  | 112 => ⟨S16x336x2568, .i32⟩
  | 113 => ⟨S16x336x2568, .i32⟩
  | 114 => ⟨S16x336x2568x1, .i32⟩
  | 115 => ⟨S1, .i32⟩
  | 116 => ⟨S_, .i32⟩
  | 117 => ⟨S16x336x2568x1, .i32⟩
  | 118 => ⟨S16x336x2568x1, .i1⟩
  | 119 => ⟨S1x1x1x1, .i32⟩
  | 120 => ⟨S16x336x2568x1, .i32⟩
  | 121 => ⟨S16x336x2568x1, .i1⟩
  | 122 => ⟨S16x336x2568x1, .i1⟩
  | 123 => ⟨S_, .i1⟩
  | 124 => ⟨S16x336x2568, .i1⟩
  | 125 => ⟨S16x336x2568, .f32⟩
  | 126 => ⟨S_, .f32⟩
  | 127 => ⟨S16x336x2568, .f32⟩
  | _ => ⟨S16x720x321, .f32⟩

abbrev hbmTy0_1 (i : Nat) : BufTy := match i % 128 with
  | 0 => ⟨S16x336x2568, .f32⟩
  | 1 => ⟨S2568, .f32⟩
  | 2 => ⟨S1x1x2568, .f32⟩
  | 3 => ⟨S16x336x2568, .f32⟩
  | 4 => ⟨S16x336x2568, .f32⟩
  | 5 => ⟨S_, .f32⟩
  | 6 => ⟨S2568, .f32⟩
  | 7 => ⟨S2568, .f32⟩
  | 8 => ⟨S2568, .f32⟩
  | 9 => ⟨S1x1x2568, .f32⟩
  | 10 => ⟨S16x336x2568, .f32⟩
  | 11 => ⟨S16x336x2568, .f32⟩
  | 12 => ⟨S16x336x2568, .f32⟩
  | 13 => ⟨S16x336x321x8, .f32⟩
  | 14 => ⟨S16x336x321x1, .f32⟩
  | 15 => ⟨S16x336x321x9, .f32⟩
  | 16 => ⟨S_, .f32⟩
  | 17 => ⟨S321, .f32⟩
  | 18 => ⟨S_, .f32⟩
  | 19 => ⟨S321, .f32⟩
  | 20 => ⟨S321, .f32⟩
  | 21 => ⟨S321x1, .f32⟩
  | 22 => ⟨S321x9, .f32⟩
  | 23 => ⟨S321x9, .f32⟩
  | 24 => ⟨S321x9, .f32⟩
  | 25 => ⟨S_, .f32⟩
  | 26 => ⟨S321, .f32⟩
  | 27 => ⟨S321x1, .f32⟩
  | 28 => ⟨S321x9, .f32⟩
  | 29 => ⟨S321x9, .f32⟩
  | 30 => ⟨S1x1x321x9, .f32⟩
  | 31 => ⟨S16x336x321x9, .f32⟩
  | 32 => ⟨S16x336x321x9, .f32⟩
  | 33 => ⟨S_, .f32⟩
  | 34 => ⟨S16x336x321, .f32⟩
  | 35 => ⟨S16x336x321, .f32⟩
  | 36 => ⟨S16x336x321, .f32⟩
  | 37 => ⟨S16x336x321, .f32⟩
  | 38 => ⟨S16x336x321, .f32⟩
  | _ => ⟨S16x720x321, .f32⟩

abbrev hbmTy (i : Nat) : BufTy := match i / 128 with
  | 0 => hbmTy0_0 i
  | 1 => hbmTy0_1 i
  | _ => ⟨S16x720x321, .f32⟩

abbrev bufTy : (tb : Table) → Fin (tcTables nBuf tb) → BufTy
  | .hbm, ⟨i, _⟩ => hbmTy i
  | _, _ => ⟨S16x720x321, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_cst_1 : Ref sig .tc := ⟨.hbm, 22, rfl⟩
abbrev main_call0_v8 : Ref sig .tc := ⟨.hbm, 23, rfl⟩
abbrev main_call0_cst_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_cst_3 : Ref sig .tc := ⟨.hbm, 29, rfl⟩
abbrev main_call0_v13 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_c_2 : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_v29 : Ref sig .tc := ⟨.hbm, 64, rfl⟩
abbrev main_cst_6 : Ref sig .tc := ⟨.hbm, 65, rfl⟩
abbrev main_v30 : Ref sig .tc := ⟨.hbm, 66, rfl⟩
abbrev main_v31 : Ref sig .tc := ⟨.hbm, 67, rfl⟩
abbrev main_cst_7 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_call1_c : Ref sig .tc := ⟨.hbm, 85, rfl⟩
abbrev main_call1_v0 : Ref sig .tc := ⟨.hbm, 86, rfl⟩
abbrev main_call1_v1 : Ref sig .tc := ⟨.hbm, 87, rfl⟩
abbrev main_call1_c_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_c_1 : Ref sig .tc := ⟨.hbm, 93, rfl⟩
abbrev main_call1_c_2 : Ref sig .tc := ⟨.hbm, 94, rfl⟩
abbrev main_call1_v6 : Ref sig .tc := ⟨.hbm, 95, rfl⟩
abbrev main_call1_v7 : Ref sig .tc := ⟨.hbm, 96, rfl⟩
abbrev main_call1_v8 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_c_3 : Ref sig .tc := ⟨.hbm, 101, rfl⟩
abbrev main_call1_v12 : Ref sig .tc := ⟨.hbm, 102, rfl⟩
abbrev main_call1_v13 : Ref sig .tc := ⟨.hbm, 103, rfl⟩
abbrev main_call1_cst : Ref sig .tc := ⟨.hbm, 104, rfl⟩
abbrev main_call1_v14 : Ref sig .tc := ⟨.hbm, 105, rfl⟩
abbrev main_v48 : Ref sig .tc := ⟨.hbm, 106, rfl⟩
abbrev main_call2_c : Ref sig .tc := ⟨.hbm, 107, rfl⟩
abbrev main_call2_v0 : Ref sig .tc := ⟨.hbm, 108, rfl⟩
abbrev main_call2_v1 : Ref sig .tc := ⟨.hbm, 109, rfl⟩
abbrev main_call2_c_0 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_call2_v5 : Ref sig .tc := ⟨.hbm, 114, rfl⟩
abbrev main_call2_c_1 : Ref sig .tc := ⟨.hbm, 115, rfl⟩
abbrev main_call2_c_2 : Ref sig .tc := ⟨.hbm, 116, rfl⟩
abbrev main_call2_v6 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_c_3 : Ref sig .tc := ⟨.hbm, 123, rfl⟩
abbrev main_call2_v12 : Ref sig .tc := ⟨.hbm, 124, rfl⟩
abbrev main_call2_v13 : Ref sig .tc := ⟨.hbm, 125, rfl⟩
abbrev main_call2_cst : Ref sig .tc := ⟨.hbm, 126, rfl⟩
abbrev main_call2_v14 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_cst_8 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_cst_9 : Ref sig .tc := ⟨.hbm, 144, rfl⟩
abbrev main_v64 : Ref sig .tc := ⟨.hbm, 145, rfl⟩
abbrev main_cst_10 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_cst_11 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_12 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩

abbrev nD : Nat := 1
abbrev τ : Topo := Topo.v7x

variable {F : FTy → Type} [FloatOps F]
-- ==== Proof.IdealLaunch.lean ====
/-
  The layout facts of the two pipelines, their grids' points, and the host stretches of the program, as the launch takes
  them.
-/
module

public import proofs.«01_k».proof.Proof.Gen.KernelIdeal
public import Idealize.ShloMosaic.Lib.Pipeline.Kit
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 2 → List (DmaSem sig) :=
  fun | 0 => Pipeline.specSems spec0 | 1 => Pipeline.specSems spec1 | ⟨_ + 2, h⟩ => absurd h (Nat.not_lt.2 (Nat.le_add_left _ _))
/-- Within each custom_call, no two staging buffers complete on one DMA semaphore. -/
theorem semsDistinct : ∀ p : Fin 2, (semTab p).Nodup := by decide
/-- No two custom_calls' staging buffers share a DMA semaphore. -/
theorem semsDisjoint : ∀ p p' : Fin 2, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | 1 => rfl | ⟨_ + 2, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 5, 0 < (spec0 w).block.numel := by decide
/-- The windows' arrays and the staging memrefs are whole buffers. -/
theorem arr_whole0 : ∀ w : Fin 5, (spec0 w).arr.IsWhole := fun | 0 => Memref.isWhole_whole _ | 1 => Memref.isWhole_whole _ | 2 => Memref.isWhole_whole _ | 3 => Memref.isWhole_whole _ | 4 => Memref.isWhole_whole _ | ⟨_ + 5, h⟩ => absurd h (Nat.not_lt.2 (Nat.le_add_left _ _))
theorem stage_whole0 : ∀ (w : Fin 5) (s : Fin (spec0 w).nbuf), ((spec0 w).stage s).IsWhole := fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | ⟨_ + 5, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- The grid has 3 points. -/
theorem N_0 : grid0.N = 3 := by decide
/-- Point 0. -/
def t0_0 : Fin grid0.N := ⟨0, by rw [N_0]; decide⟩
/-- Point 1. -/
def t0_1 : Fin grid0.N := ⟨1, by rw [N_0]; decide⟩
/-- Point 2. -/
def t0_2 : Fin grid0.N := ⟨2, by rw [N_0]; decide⟩
/-- Every point is one of them. -/
theorem fin_N0 (t : Fin grid0.N) : t = t0_0 ∨ t = t0_1 ∨ t = t0_2 := by
  obtain ⟨t, ht⟩ := t; have := N_0; simp only [t0_0, t0_1, t0_2, Fin.mk.injEq]; omega

/-- The windows conjoined one by one. -/
theorem bigSep_W0 {M : Type} [URA M] (Φ : Fin 5 → sProp M) : bigSep Finset.univ Φ = iprop(Φ (0 : Fin 5) ∗ Φ (1 : Fin 5) ∗ Φ (2 : Fin 5) ∗ Φ (3 : Fin 5) ∗ Φ (4 : Fin 5)) :=
  bigSep_univ_eq_bigSepL [(0 : Fin 5), (1 : Fin 5), (2 : Fin 5), (3 : Fin 5), (4 : Fin 5)] (by decide) (by decide) Φ
/-- The core's scoped buffers that are no staging buffer of custom_call 0, each whole at some contents:
    `cc1_stg5_0`, `cc1_stg5_1`, `cc1_stg6_0`, `cc1_stg6_1`, `cc1_stg7_0`, `cc1_stg7_1`, `cc1_stg8_0`, `cc1_stg8_1`, `cc1_stg9_0`, `cc1_stg9_1`, `cc1_scratch0`, `cc1_stg0_0`, `cc1_stg1_0`, `cc1_stg2_0`, `cc1_stg3_0`, `cc1_stg4_0`. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc1_stg5_0), ((c : Thread nD τ).loc cc1_stg5_0) ↦{fullShare} f) ∗ (∃ f : Buf Val ((c : Thread nD τ).loc cc1_stg5_1), ((c : Thread nD τ).loc cc1_stg5_1) ↦{fullShare} f) ∗ (∃ f : Buf Val ((c : Thread nD τ).loc cc1_stg6_0), ((c : Thread nD τ).loc cc1_stg6_0) ↦{fullShare} f) ∗ (∃ f : Buf Val ((c : Thread nD τ).loc cc1_stg6_1), ((c : Thread nD τ).loc cc1_stg6_1) ↦{fullShare} f) ∗ (∃ f : Buf Val ((c : Thread nD τ).loc cc1_stg7_0), ((c : Thread nD τ).loc cc1_stg7_0) ↦{fullShare} f) ∗ (∃ f : Buf Val ((c : Thread nD τ).loc cc1_stg7_1), ((c : Thread nD τ).loc cc1_stg7_1) ↦{fullShare} f) ∗ (∃ f : Buf Val ((c : Thread nD τ).loc cc1_stg8_0), ((c : Thread nD τ).loc cc1_stg8_0) ↦{fullShare} f) ∗ (∃ f : Buf Val ((c : Thread nD τ).loc cc1_stg8_1), ((c : Thread nD τ).loc cc1_stg8_1) ↦{fullShare} f) ∗ (∃ f : Buf Val ((c : Thread nD τ).loc cc1_stg9_0), ((c : Thread nD τ).loc cc1_stg9_0) ↦{fullShare} f) ∗ (∃ f : Buf Val ((c : Thread nD τ).loc cc1_stg9_1), ((c : Thread nD τ).loc cc1_stg9_1) ↦{fullShare} f) ∗ (∃ f : Buf Val ((c : Thread nD τ).loc cc1_scratch0), ((c : Thread nD τ).loc cc1_scratch0) ↦{fullShare} f) ∗ (∃ f : Buf Val ((c : Thread nD τ).loc cc1_stg0_0), ((c : Thread nD τ).loc cc1_stg0_0) ↦{fullShare} f) ∗ (∃ f : Buf Val ((c : Thread nD τ).loc cc1_stg1_0), ((c : Thread nD τ).loc cc1_stg1_0) ↦{fullShare} f) ∗ (∃ f : Buf Val ((c : Thread nD τ).loc cc1_stg2_0), ((c : Thread nD τ).loc cc1_stg2_0) ↦{fullShare} f) ∗ (∃ f : Buf Val ((c : Thread nD τ).loc cc1_stg3_0), ((c : Thread nD τ).loc cc1_stg3_0) ↦{fullShare} f) ∗ (∃ f : Buf Val ((c : Thread nD τ).loc cc1_stg4_0), ((c : Thread nD τ).loc cc1_stg4_0) ↦{fullShare} f)) :=
  Pipeline.scopedRest_eq_of_list spec0 c [cc1_stg5_0, cc1_stg5_1, cc1_stg6_0, cc1_stg6_1, cc1_stg7_0, cc1_stg7_1, cc1_stg8_0, cc1_stg8_1, cc1_stg9_0, cc1_stg9_1, cc1_scratch0, cc1_stg0_0, cc1_stg1_0, cc1_stg2_0, cc1_stg3_0, cc1_stg4_0] (by decide) (by decide)
-- the unscoped rest of custom_call 0 is 61 buffers: not enumerated (routed whole, as `Pipeline.unscopedRest`)

/-! ## custom_call 1 (pipeline 1 of @main) -/

/-- The layout the launch needs: the windows' arrays unscoped, distinct buffers, the staging buffers scoped and
    distinct, the staging semaphores scoped. -/
theorem winFacts1 : Pipeline.WinFacts spec1 := by decide
/-- No window's block is empty. -/
theorem block_pos1 : ∀ w : Fin 10, 0 < (spec1 w).block.numel := by decide
/-- The windows' arrays and the staging memrefs are whole buffers. -/
theorem arr_whole1 : ∀ w : Fin 10, (spec1 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | ⟨_ + 10, h⟩ => absurd h (Nat.not_lt.2 (Nat.le_add_left _ _))
theorem stage_whole1 : ∀ (w : Fin 10) (s : Fin (spec1 w).nbuf), ((spec1 w).stage s).IsWhole := fun | 0 => fun s => hstage1_0 (s.cast nbuf1_0) | 1 => fun s => hstage1_1 (s.cast nbuf1_1) | 2 => fun s => hstage1_2 (s.cast nbuf1_2) | 3 => fun s => hstage1_3 (s.cast nbuf1_3) | 4 => fun s => hstage1_4 (s.cast nbuf1_4) | 5 => fun s => hstage1_5 (s.cast nbuf1_5) | 6 => fun s => hstage1_6 (s.cast nbuf1_6) | 7 => fun s => hstage1_7 (s.cast nbuf1_7) | 8 => fun s => hstage1_8 (s.cast nbuf1_8) | 9 => fun s => hstage1_9 (s.cast nbuf1_9) | ⟨_ + 10, h⟩ => absurd h (Nat.not_lt.2 (Nat.le_add_left _ _))
/-- The five, bundled: what the kit-form launch theorems (Lib/Pipeline/Kit.lean `θ_run_region*_kit`) take. -/
theorem launch1 : Pipeline.LaunchFacts (nD := nD) (τ := τ) cfgs 1 := ⟨cellOf_inj, winFacts1, block_pos1, arr_whole1, stage_whole1⟩

/-- The grid has 7 points. -/
theorem N_1 : grid1.N = 7 := by decide
/-- Point 0. -/
def t1_0 : Fin grid1.N := ⟨0, by rw [N_1]; decide⟩
/-- Point 1. -/
def t1_1 : Fin grid1.N := ⟨1, by rw [N_1]; decide⟩
/-- Point 2. -/
def t1_2 : Fin grid1.N := ⟨2, by rw [N_1]; decide⟩
/-- Point 3. -/
def t1_3 : Fin grid1.N := ⟨3, by rw [N_1]; decide⟩
/-- Point 4. -/
def t1_4 : Fin grid1.N := ⟨4, by rw [N_1]; decide⟩
/-- Point 5. -/
def t1_5 : Fin grid1.N := ⟨5, by rw [N_1]; decide⟩
/-- Point 6. -/
def t1_6 : Fin grid1.N := ⟨6, by rw [N_1]; decide⟩
/-- Every point is one of them. -/
theorem fin_N1 (t : Fin grid1.N) : t = t1_0 ∨ t = t1_1 ∨ t = t1_2 ∨ t = t1_3 ∨ t = t1_4 ∨ t = t1_5 ∨ t = t1_6 := by
  obtain ⟨t, ht⟩ := t; have := N_1; simp only [t1_0, t1_1, t1_2, t1_3, t1_4, t1_5, t1_6, Fin.mk.injEq]; omega

/-- The windows conjoined one by one. -/
theorem bigSep_W1 {M : Type} [URA M] (Φ : Fin 10 → sProp M) : bigSep Finset.univ Φ = iprop(Φ (0 : Fin 10) ∗ Φ (1 : Fin 10) ∗ Φ (2 : Fin 10) ∗ Φ (3 : Fin 10) ∗ Φ (4 : Fin 10) ∗ Φ (5 : Fin 10) ∗ Φ (6 : Fin 10) ∗ Φ (7 : Fin 10) ∗ Φ (8 : Fin 10) ∗ Φ (9 : Fin 10)) :=
  bigSep_univ_eq_bigSepL [(0 : Fin 10), (1 : Fin 10), (2 : Fin 10), (3 : Fin 10), (4 : Fin 10), (5 : Fin 10), (6 : Fin 10), (7 : Fin 10), (8 : Fin 10), (9 : Fin 10)] (by decide) (by decide) Φ
/-- The core's scoped buffers that are no staging buffer of custom_call 1, each whole at some contents:
    `cc0_stg0_0`, `cc0_stg0_1`, `cc0_stg1_0`, `cc0_stg2_0`, `cc0_stg2_1`, `cc0_stg3_0`, `cc0_stg3_1`, `cc0_stg4_0`, `cc0_stg4_1`, `cc1_scratch0`. -/
theorem scopedRest1_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec1 c : sProp (MT nD τ sig Ix Val Name U Lvl))
      = iprop((∃ f : Buf Val ((c : Thread nD τ).loc cc0_stg0_0), ((c : Thread nD τ).loc cc0_stg0_0) ↦{fullShare} f) ∗ (∃ f : Buf Val ((c : Thread nD τ).loc cc0_stg0_1), ((c : Thread nD τ).loc cc0_stg0_1) ↦{fullShare} f) ∗ (∃ f : Buf Val ((c : Thread nD τ).loc cc0_stg1_0), ((c : Thread nD τ).loc cc0_stg1_0) ↦{fullShare} f) ∗ (∃ f : Buf Val ((c : Thread nD τ).loc cc0_stg2_0), ((c : Thread nD τ).loc cc0_stg2_0) ↦{fullShare} f) ∗ (∃ f : Buf Val ((c : Thread nD τ).loc cc0_stg2_1), ((c : Thread nD τ).loc cc0_stg2_1) ↦{fullShare} f) ∗ (∃ f : Buf Val ((c : Thread nD τ).loc cc0_stg3_0), ((c : Thread nD τ).loc cc0_stg3_0) ↦{fullShare} f) ∗ (∃ f : Buf Val ((c : Thread nD τ).loc cc0_stg3_1), ((c : Thread nD τ).loc cc0_stg3_1) ↦{fullShare} f) ∗ (∃ f : Buf Val ((c : Thread nD τ).loc cc0_stg4_0), ((c : Thread nD τ).loc cc0_stg4_0) ↦{fullShare} f) ∗ (∃ f : Buf Val ((c : Thread nD τ).loc cc0_stg4_1), ((c : Thread nD τ).loc cc0_stg4_1) ↦{fullShare} f) ∗ (∃ f : Buf Val ((c : Thread nD τ).loc cc1_scratch0), ((c : Thread nD τ).loc cc1_scratch0) ↦{fullShare} f)) :=
  Pipeline.scopedRest_eq_of_list spec1 c [cc0_stg0_0, cc0_stg0_1, cc0_stg1_0, cc0_stg2_0, cc0_stg2_1, cc0_stg3_0, cc0_stg3_1, cc0_stg4_0, cc0_stg4_1, cc1_scratch0] (by decide) (by decide)
-- the unscoped rest of custom_call 1 is 56 buffers: not enumerated (routed whole, as `Pipeline.unscopedRest`)

/-! ## @main as segments and as a chain of items (Lib/Pipeline/Regions.lean `θ_run_regions_kit`, `Pipeline.chain`) -/

/-- 48 host operations of @kernel (main_call0), in order. -/
abbrev hostOps0 : List (HloOp τ sig (Elt F)) :=
  ( StableHlo.TRef.unary (.of main_arg2 : StableHlo.TRef sig ⟨S2568, .f32⟩) (.of main_call0_v0 : StableHlo.TRef sig ⟨S2568, .f32⟩) Host.negf
  :: StableHlo.TRef.unary (.of main_call0_v0 : StableHlo.TRef sig ⟨S2568, .f32⟩) (.of main_call0_v1 : StableHlo.TRef sig ⟨S2568, .f32⟩) Host.exp
  :: StableHlo.TRef.nullary (.of main_call0_cst : StableHlo.TRef sig ⟨S_, .f32⟩) (constant S_ .f32 0x3F800000#32)
  :: StableHlo.TRef.unary (.of main_call0_cst : StableHlo.TRef sig ⟨S_, .f32⟩) (.of main_call0_v2 : StableHlo.TRef sig ⟨S2568, .f32⟩) (broadcastInDim S2568 ![] bcast_S_S2568)
  :: StableHlo.TRef.binary (.of main_call0_v2 : StableHlo.TRef sig ⟨S2568, .f32⟩) (.of main_call0_v1 : StableHlo.TRef sig ⟨S2568, .f32⟩) (.of main_call0_v3 : StableHlo.TRef sig ⟨S2568, .f32⟩) addf
  :: StableHlo.TRef.nullary (.of main_call0_cst_0 : StableHlo.TRef sig ⟨S_, .f32⟩) (constant S_ .f32 0x3F800000#32)
  :: StableHlo.TRef.unary (.of main_call0_cst_0 : StableHlo.TRef sig ⟨S_, .f32⟩) (.of main_call0_v4 : StableHlo.TRef sig ⟨S2568, .f32⟩) (broadcastInDim S2568 ![] bcast_S_S2568)
  :: StableHlo.TRef.binary (.of main_call0_v4 : StableHlo.TRef sig ⟨S2568, .f32⟩) (.of main_call0_v3 : StableHlo.TRef sig ⟨S2568, .f32⟩) (.of main_call0_v5 : StableHlo.TRef sig ⟨S2568, .f32⟩) Host.divf
  :: StableHlo.TRef.nullary (.of main_call0_cst_1 : StableHlo.TRef sig ⟨S_, .f32⟩) (constant S_ .f32 0x44340000#32)
  :: StableHlo.TRef.unary (.of main_call0_cst_1 : StableHlo.TRef sig ⟨S_, .f32⟩) (.of main_call0_v6 : StableHlo.TRef sig ⟨S2568, .f32⟩) (broadcastInDim S2568 ![] bcast_S_S2568)
  :: StableHlo.TRef.binary (.of main_call0_v5 : StableHlo.TRef sig ⟨S2568, .f32⟩) (.of main_call0_v6 : StableHlo.TRef sig ⟨S2568, .f32⟩) (.of main_call0_v7 : StableHlo.TRef sig ⟨S2568, .f32⟩) mulf
  :: StableHlo.TRef.unary (.of main_call0_v7 : StableHlo.TRef sig ⟨S2568, .f32⟩) (.of main_call0_v8 : StableHlo.TRef sig ⟨S2568, .f32⟩) Host.floor
  :: StableHlo.TRef.unary (.of main_call0_v7 : StableHlo.TRef sig ⟨S2568, .f32⟩) (.of main_call0_v9 : StableHlo.TRef sig ⟨S2568, .f32⟩) Host.ceil
  :: StableHlo.TRef.unary (.of main_call0_v9 : StableHlo.TRef sig ⟨S2568, .f32⟩) (.of main_call0_v10 : StableHlo.TRef sig ⟨S2568, .i32⟩) (fptosi 32)
  :: StableHlo.TRef.nullary (.of main_call0_c : StableHlo.TRef sig ⟨S_, .i32⟩) (constantI S_ 32 720#32)
  :: StableHlo.TRef.unary (.of main_call0_c : StableHlo.TRef sig ⟨S_, .i32⟩) (.of main_call0_v11 : StableHlo.TRef sig ⟨S2568, .i32⟩) (broadcastInDim S2568 ![] bcast_S_S2568)
  :: StableHlo.TRef.binary (.of main_call0_v11 : StableHlo.TRef sig ⟨S2568, .i32⟩) (.of main_call0_v10 : StableHlo.TRef sig ⟨S2568, .i32⟩) (.of main_call0_v12 : StableHlo.TRef sig ⟨S2568, .i32⟩) subi
  :: StableHlo.TRef.reshape (.of main_call0_v12 : StableHlo.TRef sig ⟨S2568, .i32⟩) (.of main_call0_v13 : StableHlo.TRef sig ⟨S321x8, .i32⟩) (rfl : (.i32 : EltTy) = .i32) shapeCasts_S2568_S321x8
  :: StableHlo.TRef.nullary (.of main_call0_c_2 : StableHlo.TRef sig ⟨S_, .i32⟩) (constantI S_ 32 0#32)
  :: StableHlo.TRef.unary (.of main_call0_c_2 : StableHlo.TRef sig ⟨S_, .i32⟩) (.of main_call0_call0_v0 : StableHlo.TRef sig ⟨S_, .i32⟩) id
  :: StableHlo.TRef.binary (.of main_call0_v13 : StableHlo.TRef sig ⟨S321x8, .i32⟩) (.of main_call0_call0_v0 : StableHlo.TRef sig ⟨S_, .i32⟩) (.of main_call0_v14 : StableHlo.TRef sig ⟨S336x8, .i32⟩) (fun x v => pad S336x8 ![0, 0] ![15, 0] ![0, 0] x v pads_S321x8_S336x8_0150_000 h_S_)
  :: StableHlo.TRef.binary (.of main_call0_v9 : StableHlo.TRef sig ⟨S2568, .f32⟩) (.of main_call0_v8 : StableHlo.TRef sig ⟨S2568, .f32⟩) (.of main_call0_v15 : StableHlo.TRef sig ⟨S2568, .f32⟩) subf
  :: StableHlo.TRef.unary (.of main_call0_v15 : StableHlo.TRef sig ⟨S2568, .f32⟩) (.of main_call0_v16 : StableHlo.TRef sig ⟨S2568, .i32⟩) (fptosi 32)
  :: StableHlo.TRef.reshape (.of main_call0_v16 : StableHlo.TRef sig ⟨S2568, .i32⟩) (.of main_call0_v17 : StableHlo.TRef sig ⟨S321x8, .i32⟩) (rfl : (.i32 : EltTy) = .i32) shapeCasts_S2568_S321x8
  :: StableHlo.TRef.nullary (.of main_call0_c_3 : StableHlo.TRef sig ⟨S_, .i32⟩) (constantI S_ 32 0#32)
  :: StableHlo.TRef.unary (.of main_call0_c_3 : StableHlo.TRef sig ⟨S_, .i32⟩) (.of main_call0_call1_v0 : StableHlo.TRef sig ⟨S_, .i32⟩) id
  :: StableHlo.TRef.binary (.of main_call0_v17 : StableHlo.TRef sig ⟨S321x8, .i32⟩) (.of main_call0_call1_v0 : StableHlo.TRef sig ⟨S_, .i32⟩) (.of main_call0_v18 : StableHlo.TRef sig ⟨S336x8, .i32⟩) (fun x v => pad S336x8 ![0, 0] ![15, 0] ![0, 0] x v pads_S321x8_S336x8_0150_000 h_S_)
  :: StableHlo.TRef.binary (.of main_call0_v7 : StableHlo.TRef sig ⟨S2568, .f32⟩) (.of main_call0_v8 : StableHlo.TRef sig ⟨S2568, .f32⟩) (.of main_call0_v19 : StableHlo.TRef sig ⟨S2568, .f32⟩) subf
  :: StableHlo.TRef.reshape (.of main_call0_v19 : StableHlo.TRef sig ⟨S2568, .f32⟩) (.of main_call0_v20 : StableHlo.TRef sig ⟨S321x8, .f32⟩) (rfl : (.f32 : EltTy) = .f32) shapeCasts_S2568_S321x8
  :: StableHlo.TRef.nullary (.of main_call0_c_4 : StableHlo.TRef sig ⟨S_, .i32⟩) (constantI S_ 32 0#32)
  :: StableHlo.TRef.unary (.of main_call0_c_4 : StableHlo.TRef sig ⟨S_, .i32⟩) (.of main_call0_call2_v0 : StableHlo.TRef sig ⟨S_, .f32⟩) (sitofp .f32)
  :: StableHlo.TRef.binary (.of main_call0_v20 : StableHlo.TRef sig ⟨S321x8, .f32⟩) (.of main_call0_call2_v0 : StableHlo.TRef sig ⟨S_, .f32⟩) (.of main_call0_v21 : StableHlo.TRef sig ⟨S336x8, .f32⟩) (fun x v => pad S336x8 ![0, 0] ![15, 0] ![0, 0] x v pads_S321x8_S336x8_0150_000 h_S_)
  :: StableHlo.TRef.nullary (.of main_call0_cst_5 : StableHlo.TRef sig ⟨S_, .f32⟩) (constant S_ .f32 0x3F800000#32)
  :: StableHlo.TRef.unary (.of main_call0_cst_5 : StableHlo.TRef sig ⟨S_, .f32⟩) (.of main_call0_v22 : StableHlo.TRef sig ⟨S2568, .f32⟩) (broadcastInDim S2568 ![] bcast_S_S2568)
  :: StableHlo.TRef.binary (.of main_call0_v7 : StableHlo.TRef sig ⟨S2568, .f32⟩) (.of main_call0_v22 : StableHlo.TRef sig ⟨S2568, .f32⟩) (.of main_call0_v23 : StableHlo.TRef sig ⟨S2568, .f32⟩) addf
  :: StableHlo.TRef.binary (.of main_call0_v23 : StableHlo.TRef sig ⟨S2568, .f32⟩) (.of main_call0_v9 : StableHlo.TRef sig ⟨S2568, .f32⟩) (.of main_call0_v24 : StableHlo.TRef sig ⟨S2568, .f32⟩) subf
  :: StableHlo.TRef.reshape (.of main_call0_v24 : StableHlo.TRef sig ⟨S2568, .f32⟩) (.of main_call0_v25 : StableHlo.TRef sig ⟨S321x8, .f32⟩) (rfl : (.f32 : EltTy) = .f32) shapeCasts_S2568_S321x8
  :: StableHlo.TRef.nullary (.of main_call0_c_6 : StableHlo.TRef sig ⟨S_, .i32⟩) (constantI S_ 32 0#32)
  :: StableHlo.TRef.unary (.of main_call0_c_6 : StableHlo.TRef sig ⟨S_, .i32⟩) (.of main_call0_call3_v0 : StableHlo.TRef sig ⟨S_, .f32⟩) (sitofp .f32)
  :: StableHlo.TRef.binary (.of main_call0_v25 : StableHlo.TRef sig ⟨S321x8, .f32⟩) (.of main_call0_call3_v0 : StableHlo.TRef sig ⟨S_, .f32⟩) (.of main_call0_v26 : StableHlo.TRef sig ⟨S336x8, .f32⟩) (fun x v => pad S336x8 ![0, 0] ![15, 0] ![0, 0] x v pads_S321x8_S336x8_0150_000 h_S_)
  :: StableHlo.TRef.reshape (.of main_arg1 : StableHlo.TRef sig ⟨S2568, .i32⟩) (.of main_call0_v27 : StableHlo.TRef sig ⟨S321x8, .i32⟩) (rfl : (.i32 : EltTy) = .i32) shapeCasts_S2568_S321x8
  :: StableHlo.TRef.nullary (.of main_call0_c_7 : StableHlo.TRef sig ⟨S_, .i32⟩) (constantI S_ 32 0#32)
  :: StableHlo.TRef.unary (.of main_call0_c_7 : StableHlo.TRef sig ⟨S_, .i32⟩) (.of main_call0_call4_v0 : StableHlo.TRef sig ⟨S_, .i32⟩) id
  :: StableHlo.TRef.binary (.of main_call0_v27 : StableHlo.TRef sig ⟨S321x8, .i32⟩) (.of main_call0_call4_v0 : StableHlo.TRef sig ⟨S_, .i32⟩) (.of main_call0_v28 : StableHlo.TRef sig ⟨S336x8, .i32⟩) (fun x v => pad S336x8 ![0, 0] ![15, 0] ![0, 0] x v pads_S321x8_S336x8_0150_000 h_S_)
  :: StableHlo.TRef.unary (.of main_arg0 : StableHlo.TRef sig ⟨S16x720x321, .f32⟩) (.of main_call0_v29 : StableHlo.TRef sig ⟨S321x16x720, .f32⟩) (transpose S321x16x720 [2, 0, 1] · transposes_S16x720x321_S321x16x720_2_0_1)
  :: StableHlo.TRef.nullary (.of main_call0_c_8 : StableHlo.TRef sig ⟨S_, .i32⟩) (constantI S_ 32 0#32)
  :: StableHlo.TRef.unary (.of main_call0_c_8 : StableHlo.TRef sig ⟨S_, .i32⟩) (.of main_call0_call5_v0 : StableHlo.TRef sig ⟨S_, .f32⟩) (sitofp .f32)
  :: StableHlo.TRef.binary (.of main_call0_v29 : StableHlo.TRef sig ⟨S321x16x720, .f32⟩) (.of main_call0_call5_v0 : StableHlo.TRef sig ⟨S_, .f32⟩) (.of main_call0_v30 : StableHlo.TRef sig ⟨S384x16x720, .f32⟩) (fun x v => pad S384x16x720 ![0, 0, 0] ![63, 0, 0] ![0, 0, 0] x v pads_S321x16x720_S384x16x720_0630_000_000 h_S_)
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub ..⟩
/-- 6 host operations of @kernel (main_call0), in order. -/
abbrev hostOps1 : List (HloOp τ sig (Elt F)) :=
  [ StableHlo.TRef.reshape (.of main_call0_v31_1 : StableHlo.TRef sig ⟨S384x16, .f32⟩) (.of main_call0_v32 : StableHlo.TRef sig ⟨S384x16x1, .f32⟩) (rfl : (.f32 : EltTy) = .f32) shapeCasts_S384x16_S384x16x1,
    StableHlo.TRef.reshape (.of main_call0_v31_2 : StableHlo.TRef sig ⟨S384x16, .f32⟩) (.of main_call0_v33 : StableHlo.TRef sig ⟨S384x16x1, .f32⟩) (rfl : (.f32 : EltTy) = .f32) shapeCasts_S384x16_S384x16x1,
    StableHlo.TRef.nullary (.of main_call0_c_9 : StableHlo.TRef sig ⟨S_, .i32⟩) (constantI S_ 32 0#32),
    StableHlo.TRef.unary (.of main_call0_c_9 : StableHlo.TRef sig ⟨S_, .i32⟩) (.of main_call0_call6_v0 : StableHlo.TRef sig ⟨S_, .f32⟩) (sitofp .f32),
    StableHlo.TRef.binary (.of main_arg4 : StableHlo.TRef sig ⟨S321x9, .f32⟩) (.of main_call0_call6_v0 : StableHlo.TRef sig ⟨S_, .f32⟩) (.of main_call0_v34 : StableHlo.TRef sig ⟨S336x9, .f32⟩) (fun x v => pad S336x9 ![0, 0] ![15, 0] ![0, 0] x v pads_S321x9_S336x9_0150_000 h_S_),
    StableHlo.TRef.reshape main_call0_call6.v1 (.of main_call0_v35 : StableHlo.TRef sig ⟨S336x1x9, .f32⟩) (rfl : (.f32 : EltTy) = .f32) shapeCasts_S336x9_S336x1x9 ]
/-- Each touches TensorCore references only (`HostSeg.ofOps` over `StableHlo.tcRefs`, or a subset by `sub_ucRefs`). -/
theorem hostOps1_sub : (hostOps1 : List (HloOp τ sig (Elt F))).Forall fun op => op.bufs ⊆ StableHlo.tcRefs τ sig :=
  ⟨StableHlo.reshape_bufs_sub .., StableHlo.reshape_bufs_sub .., StableHlo.nullary_bufs_sub .., StableHlo.unary_bufs_sub .., StableHlo.binary_bufs_sub .., StableHlo.reshape_bufs_sub ..⟩
/-- 2 host operations of @kernel (main_call0), in order. -/
abbrev hostOps2 : List (HloOp τ sig (Elt F)) :=
  [ StableHlo.TRef.unary (.of main_call0_v36_0 : StableHlo.TRef sig ⟨S321x16x336, .f32⟩) (.of main_v0_0 : StableHlo.TRef sig ⟨S16x336x321, .f32⟩) (transpose S16x336x321 [1, 2, 0] · transposes_S321x16x336_S16x336x321_1_2_0),
    StableHlo.TRef.unary (.of main_call0_v36_1 : StableHlo.TRef sig ⟨S321x9x16x336, .f32⟩) (.of main_v0_1 : StableHlo.TRef sig ⟨S16x336x321x9, .f32⟩) (transpose S16x336x321x9 [2, 3, 0, 1] · transposes_S321x9x16x336_S16x336x321x9_2_3_0_1) ]
/-- Each touches TensorCore references only (`HostSeg.ofOps` over `StableHlo.tcRefs`, or a subset by `sub_ucRefs`). -/
theorem hostOps2_sub : (hostOps2 : List (HloOp τ sig (Elt F))).Forall fun op => op.bufs ⊆ StableHlo.tcRefs τ sig :=
  ⟨StableHlo.unary_bufs_sub .., StableHlo.unary_bufs_sub ..⟩
/-- This statement, from @kernel (main_call0), is the chain of its own items: each stretch of the function's operations aligned
    one at a time, every other item taken whole, then `chain_rfl`. -/
theorem main_chain_main_call0 : fn_kernel.body (F := F) (.of main_arg0) (.of main_arg1) (.of main_arg2) (.of main_arg3) (.of main_arg4) main_call0 = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  rewrite [StableHlo.chain_seq_cons, Pipeline.chain_cons, StableHlo.chain_seq_cons, Pipeline.chain_cons, StableHlo.chain_seq_cons]
  chain_rfl

/-- `main_chain` with each call that gives several items as one item, so that every statement has its own item. -/
theorem main_chain_calls (c : Dev nD) : main (F := F) c = (Pipeline.chain
  [ fn_kernel.body (F := F) (.of main_arg0) (.of main_arg1) (.of main_arg2) (.of main_arg3) (.of main_arg4) main_call0 ] : Prog (TpuEff nD τ sig (Elt F) (Pipeline.Sig Λ₀ (Fin 2) fun p => (pcfgs (F := F) p).Adm) .tc) PUnit) := by
  rewrite [Pipeline.chain_cons]
  chain_rfl

/-- `main` is the chain of its items (`Pipeline.chain`): operation stretches, regions, loops and branches in
    order, a module-local function called from it a stretch of its own or several items. It follows from
    `main_chain_calls`, in which each call that gives several items is one item, and from each such call's own chain, by
    the monad laws. -/
theorem main_chain (c : Dev nD) : main (F := F) c = (Pipeline.chain
  [ StableHlo.seq hostOps0,
    Prog.lift (.customCall (Pipeline.entry 0) ()),
    StableHlo.seq hostOps1,
    Prog.lift (.customCall (Pipeline.entry 1) ()),
    StableHlo.seq hostOps2 ] : Prog (TpuEff nD τ sig (Elt F) (Pipeline.Sig Λ₀ (Fin 2) fun p => (pcfgs (F := F) p).Adm) .tc) PUnit) := by
  rewrite [main_chain_calls, main_chain_main_call0]
  simp only [Pipeline.chain, Pipeline.chainK, bind_assoc, pure_bind, bind_pure_unit]

end Cert.KernelIdeal.Gen

end
-- ==== Proof.IdealItems.lean ====
/-
  The run of the whole program from one record per kernel region: the arguments end as launched, the two results hold
  what the last host stretch leaves in them, every semaphore counter is at zero. Between two items a core holds every
  unscoped buffer whole at the valuations `V0 … V5` written here.
-/
module

public import proofs.«01_k».proof.Proof.IdealLaunch
public import Idealize.ShloMosaic.Lib.Pipeline.Frame
public import Idealize.ShloMosaic.Lib.Pipeline.Regions

@[expose] public section

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-! ## The buffers' contents between items -/

/-- What the regions leave in the unscoped buffers they may change (a region's output windows' arrays and its operands
    left in HBM that are no argument), per core: the unknowns the valuations below are written over — `outs J r c`, the
    contents of `r` on core `c` after item J−1, read only at these points:
    * `outs 2 main_call0_v31_0`: what region 0 (custom_call 0), item 1, leaves in `main_call0_v31_0`
    * `outs 2 main_call0_v31_1`: what region 0 (custom_call 0), item 1, leaves in `main_call0_v31_1`
    * `outs 2 main_call0_v31_2`: what region 0 (custom_call 0), item 1, leaves in `main_call0_v31_2`
    * `outs 4 main_call0_v36_0`: what region 1 (custom_call 1), item 3, leaves in `main_call0_v36_0`
    * `outs 4 main_call0_v36_1`: what region 1 (custom_call 1), item 3, leaves in `main_call0_v36_1`
    * `outs 4 main_call0_v31_0`: what region 1 (custom_call 1), item 3, leaves in `main_call0_v31_0` -/
abbrev Outs : Type := ℕ → (r : Ref sig .tc) → (c : Dev nD) → Buf (Elt F) ((c : Thread nD τ).loc r)

variable (m : (ℓ : Loc nD τ sig) → Buf (Elt F) ℓ) (outs : Outs (F := F))

/-- Core `c`'s unscoped buffers at launch. -/
abbrev V0 (c : Dev nD) : Valuation τ sig (Elt F) := fun b => m (c, b)
/-- Core `c`'s unscoped buffers after item 0, the host stretch `hostOps0`. -/
abbrev V1 (c : Dev nD) : Valuation τ sig (Elt F) := StableHlo.after hostOps0 (V0 m c)
/-- Core `c`'s unscoped buffers after item 1, region 0 (custom_call 0), which may change `main_call0_v31_0`, `main_call0_v31_1`, `main_call0_v31_2`. -/
abbrev V2 (c : Dev nD) : Valuation τ sig (Elt F) := Function.update (Function.update (Function.update (V1 m c) main_call0_v31_0 (outs 2 main_call0_v31_0 c)) main_call0_v31_1 (outs 2 main_call0_v31_1 c)) main_call0_v31_2 (outs 2 main_call0_v31_2 c)
/-- Core `c`'s unscoped buffers after item 2, the host stretch `hostOps1`. -/
abbrev V3 (c : Dev nD) : Valuation τ sig (Elt F) := StableHlo.after hostOps1 (V2 m outs c)
/-- Core `c`'s unscoped buffers after item 3, region 1 (custom_call 1), which may change `main_call0_v36_0`, `main_call0_v36_1`, `main_call0_v31_0`. -/
abbrev V4 (c : Dev nD) : Valuation τ sig (Elt F) := Function.update (Function.update (Function.update (V3 m outs c) main_call0_v36_0 (outs 4 main_call0_v36_0 c)) main_call0_v36_1 (outs 4 main_call0_v36_1 c)) main_call0_v31_0 (outs 4 main_call0_v31_0 c)
/-- Core `c`'s unscoped buffers after item 4, the host stretch `hostOps2`. -/
abbrev V5 (c : Dev nD) : Valuation τ sig (Elt F) := StableHlo.after hostOps2 (V4 m outs c)

/-! ## What the host stretches write -/

theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_v0, main_call0_v1, main_call0_cst, main_call0_v2, main_call0_v3, main_call0_cst_0, main_call0_v4, main_call0_v5, main_call0_cst_1, main_call0_v6, main_call0_v7, main_call0_v8, main_call0_v9, main_call0_v10, main_call0_c, main_call0_v11, main_call0_v12, main_call0_v13, main_call0_c_2, main_call0_call0_v0, main_call0_v14, main_call0_v15, main_call0_v16, main_call0_v17, main_call0_c_3, main_call0_call1_v0, main_call0_v18, main_call0_v19, main_call0_v20, main_call0_c_4, main_call0_call2_v0, main_call0_v21, main_call0_cst_5, main_call0_v22, main_call0_v23, main_call0_v24, main_call0_v25, main_call0_c_6, main_call0_call3_v0, main_call0_v26, main_call0_v27, main_call0_c_7, main_call0_call4_v0, main_call0_v28, main_call0_v29, main_call0_c_8, main_call0_call5_v0, main_call0_v30]
theorem hostOps0_writes : (hostOps0 : List (HloOp τ sig (Elt F))).Forall fun op => op.writes ⊆ (hostOps0_W.map (Proc.devRef (τ := τ) .tc)).toFinset :=
  StableHlo.forall_writes_sub_of_map rfl
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v32, main_call0_v33, main_call0_c_9, main_call0_call6_v0, main_call0_v34, main_call0_v35]
theorem hostOps1_writes : (hostOps1 : List (HloOp τ sig (Elt F))).Forall fun op => op.writes ⊆ (hostOps1_W.map (Proc.devRef (τ := τ) .tc)).toFinset :=
  StableHlo.forall_writes_sub_of_map rfl
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v0_0, main_v0_1]
theorem hostOps2_writes : (hostOps2 : List (HloOp τ sig (Elt F))).Forall fun op => op.writes ⊆ (hostOps2_W.map (Proc.devRef (τ := τ) .tc)).toFinset :=
  StableHlo.forall_writes_sub_of_map rfl

/-! ## What each item leaves unchanged -/

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_call0_v31_0, main_call0_v31_1, main_call0_v31_2] : List (Ref sig .tc))) : V2 m outs c r = V1 m c r := by
  simp only [V2, Function.update_of_ne (StableHlo.devRef_ne_of_ne (List.ne_of_not_mem_cons h) : (Proc.devRef .tc r : DevRef τ sig) ≠ Proc.devRef .tc main_call0_v31_0), Function.update_of_ne (StableHlo.devRef_ne_of_ne (List.ne_of_not_mem_cons (List.not_mem_of_not_mem_cons h)) : (Proc.devRef .tc r : DevRef τ sig) ≠ Proc.devRef .tc main_call0_v31_1), Function.update_of_ne (StableHlo.devRef_ne_of_ne (List.ne_of_not_mem_cons (List.not_mem_of_not_mem_cons (List.not_mem_of_not_mem_cons h))) : (Proc.devRef .tc r : DevRef τ sig) ≠ Proc.devRef .tc main_call0_v31_2)]
theorem V3_of (c : Dev nD) (r : Ref sig .tc) (h : r ∉ hostOps1_W) : V3 m outs c r = V2 m outs c r :=
  StableHlo.after_of_writes_sub hostOps1 _ hostOps1_writes h
theorem V4_of (c : Dev nD) (r : Ref sig .tc) (h : r ∉ ([main_call0_v36_0, main_call0_v36_1, main_call0_v31_0] : List (Ref sig .tc))) : V4 m outs c r = V3 m outs c r := by
  simp only [V4, Function.update_of_ne (StableHlo.devRef_ne_of_ne (List.ne_of_not_mem_cons h) : (Proc.devRef .tc r : DevRef τ sig) ≠ Proc.devRef .tc main_call0_v36_0), Function.update_of_ne (StableHlo.devRef_ne_of_ne (List.ne_of_not_mem_cons (List.not_mem_of_not_mem_cons h)) : (Proc.devRef .tc r : DevRef τ sig) ≠ Proc.devRef .tc main_call0_v36_1), Function.update_of_ne (StableHlo.devRef_ne_of_ne (List.ne_of_not_mem_cons (List.not_mem_of_not_mem_cons (List.not_mem_of_not_mem_cons h))) : (Proc.devRef .tc r : DevRef τ sig) ≠ Proc.devRef .tc main_call0_v31_0)]
theorem V5_of (c : Dev nD) (r : Ref sig .tc) (h : r ∉ hostOps2_W) : V5 m outs c r = V4 m outs c r :=
  StableHlo.after_of_writes_sub hostOps2 _ hostOps2_writes h

/-! ## No item writes an argument -/

/-- `main_arg0` reaches the end as launched: no host stretch writes it, no region may change it. -/
theorem V5_main_arg0 (c : Dev nD) : V5 m outs c main_arg0 = m ((c : Thread nD τ).loc main_arg0) :=
  (V5_of m outs c main_arg0 (by decide)).trans <| (V4_of m outs c main_arg0 (by decide)).trans <| (V3_of m outs c main_arg0 (by decide)).trans <| (V2_of m outs c main_arg0 (by decide)).trans <| (V1_of m c main_arg0 (by decide)).trans rfl
/-- `main_arg1` reaches the end as launched: no host stretch writes it, no region may change it. -/
theorem V5_main_arg1 (c : Dev nD) : V5 m outs c main_arg1 = m ((c : Thread nD τ).loc main_arg1) :=
  (V5_of m outs c main_arg1 (by decide)).trans <| (V4_of m outs c main_arg1 (by decide)).trans <| (V3_of m outs c main_arg1 (by decide)).trans <| (V2_of m outs c main_arg1 (by decide)).trans <| (V1_of m c main_arg1 (by decide)).trans rfl
/-- `main_arg2` reaches the end as launched: no host stretch writes it, no region may change it. -/
theorem V5_main_arg2 (c : Dev nD) : V5 m outs c main_arg2 = m ((c : Thread nD τ).loc main_arg2) :=
  (V5_of m outs c main_arg2 (by decide)).trans <| (V4_of m outs c main_arg2 (by decide)).trans <| (V3_of m outs c main_arg2 (by decide)).trans <| (V2_of m outs c main_arg2 (by decide)).trans <| (V1_of m c main_arg2 (by decide)).trans rfl
/-- `main_arg3` reaches the end as launched: no host stretch writes it, no region may change it. -/
theorem V5_main_arg3 (c : Dev nD) : V5 m outs c main_arg3 = m ((c : Thread nD τ).loc main_arg3) :=
  (V5_of m outs c main_arg3 (by decide)).trans <| (V4_of m outs c main_arg3 (by decide)).trans <| (V3_of m outs c main_arg3 (by decide)).trans <| (V2_of m outs c main_arg3 (by decide)).trans <| (V1_of m c main_arg3 (by decide)).trans rfl
/-- `main_arg4` reaches the end as launched: no host stretch writes it, no region may change it. -/
theorem V5_main_arg4 (c : Dev nD) : V5 m outs c main_arg4 = m ((c : Thread nD τ).loc main_arg4) :=
  (V5_of m outs c main_arg4 (by decide)).trans <| (V4_of m outs c main_arg4 (by decide)).trans <| (V3_of m outs c main_arg4 (by decide)).trans <| (V2_of m outs c main_arg4 (by decide)).trans <| (V1_of m c main_arg4 (by decide)).trans rfl

/-! ## The items as segments -/

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 3 → Dev nD → sProp (MT nD τ sig Ix (Elt F) ℕ U Lvl))

/-- Item 0: the host stretch `hostOps0` over the unscoped buffers from `V0`, the rest `E 0` riding along
    (`HostSeg.ofOps`: `StableHlo.wp_seq`). -/
def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)
/-- Item 2: the host stretch `hostOps1` over the unscoped buffers from `V2`, the rest `E 1` riding along
    (`HostSeg.ofOps`: `StableHlo.wp_seq`). -/
def seg2 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m outs) (E 1)
/-- Item 4: the host stretch `hostOps2` over the unscoped buffers from `V4`, the rest `E 2` riding along
    (`HostSeg.ofOps`: `StableHlo.wp_seq`). -/
def seg4 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V4 m outs) (E 2)

end Segs

section

variable {Ix : Type} [DecidableEq Ix] {U : Type} [URA U] {Lvl : Type} [Preorder Lvl]

/-- The prefetched tables' admissible contents: no pallas_call has a table. -/
abbrev adm : (p : Fin 2) → (pcfgs (F := F) p).Adm := fun p => (cfgs p).toPCfg_adm

/-- @main's items as the kit's segments on core `c` (the same list on every core: no stretch here reads the device): the host
    stretches' (`segJ`), the regions' the given records. -/
abbrev segs (𝒱₀ : Variants) (L : GSem nD τ sig → Finset Ix) (lv : GSem nD τ sig → Ix → Lvl) (E : Fin 3 → Dev nD → sProp (MT nD τ sig Ix (Elt F) ℕ U Lvl)) (ι : Ix)
    (pdats : (p : Fin 2) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (c : Dev nD) :
    List (Seg (pcfgs (F := F)) adm pdats ι defs₀ 𝒱₀ L lv) :=
  [.host (seg0 m 𝒱₀ L lv E), .region R0, .host (seg2 m outs 𝒱₀ L lv E), .region R1, .host (seg4 m outs 𝒱₀ L lv E)]

end

/-! ## The frame, given the regions' records -/

/-- The TensorCore has no unscoped semaphore. -/
theorem regions_no_unscoped : ∀ sm : SemLoc sig, sm.isScoped .tc = true := by decide

-- `θ_run_regions_kit_dev_sems`'s implicit arguments are found by unifying its conclusion with this one, which takes unfolding
-- plain definitions in a metavariable's type
set_option backward.isDefEq.respectTransparency.types false in
/-- THE RUN, from the regions' records. For any user algebra, level assignment, launch dues and ghost resources, any rest states
    `E` the launch makes on every core at once (`hE0`) and that end owing nothing (`hE2`), any contents the regions
    leave (`outs`) and any proof data: GIVEN, per region K, a segment record entered from this module's thread state
    before it and left at the one after it (`RK`, `hpreK`, `hpostK`), every weakly fair execution of @main from memory `m`
    with zero counters terminates, and every final state holds each argument as launched and has every semaphore counter
    at zero (at any `F`): the kit shows every counter at zero but the TensorCores'
    unscoped ones, of which this program declares none (`regions_no_unscoped`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v0_0) = V5 m outs c main_v0_0
      ∧ r.2.mem ((c.tc : Thread nD τ).loc main_v0_1) = V5 m outs c main_v0_1)
      ∧ r.2.sem = fun _ => 0) := by
  refine Pipeline.θ_run_regions_kit_dev_sems (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_v0_0) = V5 m outs c main_v0_0 ∧ s.mem ((c.tc : Thread nD τ).loc main_v0_1) = V5 m outs c main_v0_1)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c),
        (h (Proc.devRef .tc main_arg2) (Finset.mem_filter.mpr ⟨StableHlo.devRef_mem_tcRefs main_arg2, by decide⟩)).trans (V5_main_arg2 m outs c),
        (h (Proc.devRef .tc main_arg3) (Finset.mem_filter.mpr ⟨StableHlo.devRef_mem_tcRefs main_arg3, by decide⟩)).trans (V5_main_arg3 m outs c),
        (h (Proc.devRef .tc main_arg4) (Finset.mem_filter.mpr ⟨StableHlo.devRef_mem_tcRefs main_arg4, by decide⟩)).trans (V5_main_arg4 m outs c),
        h (Proc.devRef .tc main_v0_0) (Finset.mem_filter.mpr ⟨StableHlo.devRef_mem_tcRefs main_v0_0, by decide⟩),
        h (Proc.devRef .tc main_v0_1) (Finset.mem_filter.mpr ⟨StableHlo.devRef_mem_tcRefs main_v0_1, by decide⟩)⟩
    · iexact HSI

end Cert.KernelIdeal.Gen

end
-- ==== Proof.IdealHost.lean ====
/-
  What the host stretches leave in the regions' operands, as terms of the arguments.
-/
module

public import proofs.«01_k».proof.Proof.IdealItems

@[expose] public section

noncomputable section

namespace Cert.KernelIdeal

open Cert.KernelIdeal.Gen
open Idealize.ShloMosaic
open Idealize.ShloMosaic.TcCoe

variable {F : FTy → Type} [FloatOps F]

/-- A word at every place. -/
abbrev splat (b : BitVec 32) : FVec F S2568 .f32 := broadcastInDim S2568 ![] bcast_S_S2568 (constant S_ .f32 b)

/-- The shifts, as fractions of the history's length. -/
def shv (s : FVec F S2568 .f32) : FVec F S2568 .f32 :=
  mulf (Host.divf (splat 0x3F800000#32) (addf (splat 0x3F800000#32) (Host.exp (Host.negf s)))) (splat 0x44340000#32)

/-- Where each window starts. -/
def startv (s : FVec F S2568 .f32) : IVec S2568 32 :=
  subi (broadcastInDim S2568 ![] bcast_S_S2568 (constantI S_ 32 720#32)) (fptosi 32 (Host.ceil (shv s)))

/-- How far apart the two neighbours are. -/
def deltav (s : FVec F S2568 .f32) : IVec S2568 32 := fptosi 32 (subf (Host.ceil (shv s)) (Host.floor (shv s)))

/-- The two neighbours' weights. -/
def wfv (s : FVec F S2568 .f32) : FVec F S2568 .f32 := subf (shv s) (Host.floor (shv s))
def wcv (s : FVec F S2568 .f32) : FVec F S2568 .f32 := subf (addf (shv s) (splat 0x3F800000#32)) (Host.ceil (shv s))

/-- A table of words, one row per channel, with zero rows below. -/
def padI (v : IVec S2568 32) : Vec F S336x8 .i32 :=
  pad S336x8 ![0, 0] ![15, 0] ![0, 0] (shapeCast S321x8 v shapeCasts_S2568_S321x8) (constantI S_ 32 0#32) pads_S321x8_S336x8_0150_000 h_S_

/-- A table of floats likewise. -/
def padF (v : FVec F S2568 .f32) : Vec F S336x8 .f32 :=
  pad S336x8 ![0, 0] ![15, 0] ![0, 0] (shapeCast S321x8 v shapeCasts_S2568_S321x8) (sitofp .f32 (constantI S_ 32 0#32)) pads_S321x8_S336x8_0150_000 h_S_

variable (m : (ℓ : Loc nD τ sig) → Buf (Elt F) ℓ) (c : Dev nD)

abbrev argX : FVec F S16x720x321 .f32 := m ((c : Thread nD τ).loc main_arg0)
abbrev argL : IVec S2568 32 := m ((c : Thread nD τ).loc main_arg1)
abbrev argS : FVec F S2568 .f32 := m ((c : Thread nD τ).loc main_arg2)
abbrev argW : FVec F S336x720 .f32 := m ((c : Thread nD τ).loc main_arg3)
abbrev argLW : FVec F S321x9 .f32 := m ((c : Thread nD τ).loc main_arg4)

theorem V1_v14 : (V1 m c main_call0_v14 : Vec F S336x8 .i32) = padI (startv (argS m c)) := rfl
theorem V1_v18 : (V1 m c main_call0_v18 : Vec F S336x8 .i32) = padI (deltav (argS m c)) := rfl
theorem V1_v21 : (V1 m c main_call0_v21 : Vec F S336x8 .f32) = padF (wfv (argS m c)) := rfl
theorem V1_v26 : (V1 m c main_call0_v26 : Vec F S336x8 .f32) = padF (wcv (argS m c)) := rfl
theorem V1_v28 : (V1 m c main_call0_v28 : Vec F S336x8 .i32) = padI (argL m c) := rfl
theorem V1_v30 : (V1 m c main_call0_v30 : Vec F S384x16x720 .f32)
    = pad S384x16x720 ![0, 0, 0] ![63, 0, 0] ![0, 0, 0] (transpose S321x16x720 [2, 0, 1] (argX m c) transposes_S16x720x321_S321x16x720_2_0_1)
        (sitofp .f32 (constantI S_ 32 0#32)) pads_S321x16x720_S384x16x720_0630_000_000 h_S_ := rfl
theorem V1_arg3 : (V1 m c main_arg3 : Vec F S336x720 .f32) = argW m c := rfl
theorem V1_arg4 : (V1 m c main_arg4 : Vec F S321x9 .f32) = argLW m c := rfl

variable (W : Valuation τ sig (Elt F))

/-- The weights' rows, with zero rows below, as a column of rows. -/
def lwv (v : FVec F S321x9 .f32) : Vec F S336x1x9 .f32 :=
  shapeCast S336x1x9 (pad S336x9 ![0, 0] ![15, 0] ![0, 0] v (sitofp .f32 (constantI S_ 32 0#32)) pads_S321x9_S336x9_0150_000 h_S_) shapeCasts_S336x9_S336x1x9

theorem after1_v35 : (StableHlo.after hostOps1 W main_call0_v35 : Vec F S336x1x9 .f32) = lwv (W main_arg4 : Vec F S321x9 .f32) := rfl
theorem after1_v32 : (StableHlo.after hostOps1 W main_call0_v32 : Vec F S384x16x1 .f32)
    = shapeCast S384x16x1 (W main_call0_v31_1 : Vec F S384x16 .f32) shapeCasts_S384x16_S384x16x1 := rfl
theorem after1_v33 : (StableHlo.after hostOps1 W main_call0_v33 : Vec F S384x16x1 .f32)
    = shapeCast S384x16x1 (W main_call0_v31_2 : Vec F S384x16 .f32) shapeCasts_S384x16_S384x16x1 := rfl
theorem after2_0 : (StableHlo.after hostOps2 W main_v0_0 : Vec F S16x336x321 .f32)
    = transpose S16x336x321 [1, 2, 0] (W main_call0_v36_0 : Vec F S321x16x336 .f32) transposes_S321x16x336_S16x336x321_1_2_0 := rfl
theorem after2_1 : (StableHlo.after hostOps2 W main_v0_1 : Vec F S16x336x321x9 .f32)
    = transpose S16x336x321x9 [2, 3, 0, 1] (W main_call0_v36_1 : Vec F S321x9x16x336 .f32) transposes_S321x9x16x336_S16x336x321x9_2_3_0_1 := rfl

end Cert.KernelIdeal

end
-- ==== Proof.IdealChan.lean ====
/-
  The second kernel's body as forty-eight runs of one channel program: a channel
  stores its own normalised row, then for each of its eight leaders stores the
  interpolated window and adds the window's share, then stores the denormalised sum.
-/
module

public import proofs.«01_k».proof.Proof.Gen.KernelIdeal

@[expose] public section

noncomputable section

namespace Cert.KernelIdeal

open Idealize.ShloMosaic Idealize.SL.Sem

variable {F : FTy → Type} [FloatOps F]

/-- The word naming channel `c` of the step's block of forty-eight. -/
def chW (i : grid1.Coords) (c : Nat) : BitVec 32 :=
  Scalar.addi (Scalar.muli (BitVec.ofNat 32 (i 0).val) 48#32) (BitVec.ofNat 32 c)

/-- Where the channel's normalised forecast starts in the scratch copy. -/
def offY (i : grid1.Coords) (c : Nat) : Fin 3 → Nat :=
  ![(Scalar.indexCast (chW i c)).toNat, 0, 720]

/-- The channel's entry for leader `k` in the small tables. -/
def offT (i : grid1.Coords) (c k : Nat) : Fin 2 → Nat :=
  ![(Scalar.indexCast (chW i c)).toNat, k]

theorem chW_toNat (i : grid1.Coords) {c : Nat} (hc : c < 48) :
    (Scalar.indexCast (chW i c)).toNat = 48 * (i 0).val + c := by
  have h : (i 0).val < 7 := (i 0).isLt
  show (BitVec.ofNat 32 (i 0).val * 48#32 + BitVec.ofNat 32 c).toNat = _
  rw [BitVec.toNat_add, BitVec.toNat_mul, BitVec.toNat_ofNat, BitVec.toNat_ofNat]
  show ((((i 0).val % 2 ^ 32) * 48) % 2 ^ 32 + c % 2 ^ 32) % 2 ^ 32 = _
  omega

theorem offY_inb (i : grid1.Coords) {c : Nat} (hc : c < 48) :
    ∀ a, offY i c a + S1x16x336.size a ≤ S384x16x1152.size a := by
  have h : (i 0).val < 7 := (i 0).isLt
  have e := chW_toNat i hc
  intro a
  fin_cases a
  · show (Scalar.indexCast (chW i c)).toNat + 1 ≤ 384
    omega
  · show 0 + 16 ≤ 16
    omega
  · show 720 + 336 ≤ 1152
    omega

theorem offT_inb (i : grid1.Coords) {c k : Nat} (hc : c < 48) (hk : k < 8) :
    ∀ a, offT i c k a + S1x1.size a ≤ S336x8.size a := by
  have h : (i 0).val < 7 := (i 0).isLt
  have e := chW_toNat i hc
  intro a
  fin_cases a
  · show (Scalar.indexCast (chW i c)).toNat + 1 ≤ 336
    omega
  · show k + 1 ≤ 8
    omega

theorem row_inb {c k : Nat} (hc : c < 48) (hk : k < 9) :
    ∀ a, (![c, k, 0, 0] : Fin 4 → Nat) a + S1x1x16x336.size a ≤ S48x9x16x336.size a := by
  intro a
  fin_cases a
  · show c + 1 ≤ 48
    omega
  · show k + 1 ≤ 9
    omega
  · show 0 + 16 ≤ 16
    omega
  · show 0 + 336 ≤ 336
    omega

theorem lw_inb {c : Nat} (hc : c < 48) :
    ∀ a, (![c, 0, 0] : Fin 3 → Nat) a + S1x1x9.size a ≤ S48x1x9.size a := by
  intro a
  fin_cases a
  · show c + 1 ≤ 48
    omega
  · show 0 + 1 ≤ 1
    omega
  · show 0 + 9 ≤ 9
    omega

theorem col_inb {c : Nat} (hc : c < 48) :
    ∀ a, (![c, 0, 0] : Fin 3 → Nat) a + S1x16x1.size a ≤ S48x16x1.size a := by
  intro a
  fin_cases a
  · show c + 1 ≤ 48
    omega
  · show 0 + 16 ≤ 16
    omega
  · show 0 + 1 ≤ 1
    omega

theorem y_inb {c : Nat} (hc : c < 48) :
    ∀ a, (![c, 0, 0] : Fin 3 → Nat) a + S1x16x336.size a ≤ S48x16x336.size a := by
  intro a
  fin_cases a
  · show c + 1 ≤ 48
    omega
  · show 0 + 16 ≤ 16
    omega
  · show 0 + 336 ≤ 336
    omega

theorem slice_w {k : Nat} (hk : k < 9) : S1x9.Slices ![0, k] S1x1 := by
  have h : ∀ j : Fin 9, S1x9.Slices ![0, j.val] S1x1 := by decide
  exact h ⟨k, hk⟩

open Shapes1.Facts₀ K1.Facts₀

/-- The softmax of one channel's nine weights. -/
def soft (w : Vec F S1x1x9 .f32) : FVec F S1x9 .f32 :=
  have l : FVec F S1x9 .f32 := shapeCast S1x9 w shapeCasts_S1x1x9_S1x9
  have e : FVec F S1x9 .f32 := exp (subf l (broadcastTo S1x9 (shapeCast S1x1
    (multiReduction .maximumf [1] S1 l 0xFF800000#32 reduces_S1x9_S1 (.inl rfl) rfl) shapeCasts_S1_S1x1) broadcasts_S1x1_S1x9))
  divf e (broadcastTo S1x9 (shapeCast S1x1
    (multiReduction .add [1] S1 e 0x00000000#32 reduces_S1x9_S1 (.inl rfl) rfl) shapeCasts_S1_S1x1) broadcasts_S1x1_S1x9)

/-- The `k`-th weight spread over a row. -/
def wt (p : FVec F S1x9 .f32) (k : Nat) (hk : k < 9) : FVec F S16x336 .f32 :=
  broadcastTo S16x336 (extractStridedSlice S1x1 ![0, k] p (slice_w hk)) broadcasts_S1x1_S16x336

/-- The two windows of a leader's sequence, the rows `start` and `start + delta`, interpolated. -/
def interp (s d : BitVec 32) (win : Vec F S1x16x512 .f32) (wf wc : Elt F .f32) : FVec F S16x336 .f32 :=
  have w : FVec F S16x512 .f32 := shapeCast S16x512 win shapeCasts_S1x16x512_S16x512
  have o : BitVec 32 := Scalar.subi s (k1_mult1 s)
  addf
    (mulf (extractStridedSlice S16x336 ![0, 0]
      (dynamicRotate 1 (Scalar.subi 512#32 (Scalar.addi o d)) none w rotates_S16x512_d1) slices_S16x512_o0_0_S16x336)
      (broadcast S16x336 wf))
    (mulf (extractStridedSlice S16x336 ![0, 0]
      (dynamicRotate 1 (Scalar.subi 512#32 o) none w rotates_S16x512_d1) slices_S16x512_o0_0_S16x336)
      (broadcast S16x336 wc))

section
variable (i : grid1.Coords)
  (arg2 arg3 arg4 : Memref sig .tc .smem S336x8 .i32) (arg5 arg6 : Memref sig .tc .smem S336x8 .f32)
  (arg7 : Memref sig .tc .vmem S48x1x9 .f32) (arg8 arg9 : Memref sig .tc .vmem S48x16x1 .f32)
  (arg10 : Memref sig .tc .vmem S48x16x336 .f32) (arg11 : Memref sig .tc .vmem S48x9x16x336 .f32)
  (arg12 : Memref sig .tc .vmem S384x16x1152 .f32)

/-- Row `k` of the channel's block of the second result. -/
def putRow (c k : Nat) (hc : c < 48) (hk : k < 9) (v : FVec F S16x336 .f32)
    (K : Prog (TpuEff nD τ sig (Elt F) Λ₀ .tc) PUnit) : Prog (TpuEff nD τ sig (Elt F) Λ₀ .tc) PUnit :=
  .op (.load arg11 (Rect.unit (s := S48x9x16x336) ![c, k, 0, 0] S1x1x16x336.size (row_inb hc hk)).toLoadRect (View.loadsAt_vmem h_S1x1x16x336)) fun _ =>
  .op (.store arg11 (Rect.unit (s := S48x9x16x336) ![c, k, 0, 0] S1x1x16x336.size (row_inb hc hk)) (shapeCast S1x1x16x336 v shapeCasts_S16x336_S1x1x16x336) Finset.univ (View.stores_vmem_bits_univ h_S1x1x16x336 rfl) (.inl rfl)) fun _ =>
  K

/-- A word of one of the small tables. -/
def word {e : EltTy} (m : Memref sig .tc .smem S336x8 e) (hp : e.packing = 1) (c k : Nat) (hc : c < 48) (hk : k < 8)
    (K : Elt F e → Prog (TpuEff nD τ sig (Elt F) Λ₀ .tc) PUnit) : Prog (TpuEff nD τ sig (Elt F) Λ₀ .tc) PUnit :=
  smemLoadElt m (Rect.unit (s := S336x8) (offT i c k) S1x1.size (offT_inb i hc hk)) (View.loads_smem_one hp numel1_S1x1)
    (Shape.Idx.first (numel1_S1x1.symm ▸ Nat.one_pos)) K

/-- One leader of a channel: its window, stored as row `k + 1`, and the sum so far with its share. -/
def leader (c k : Nat) (hc : c < 48) (hk : k < 8) (p : FVec F S1x9 .f32) (acc : FVec F S16x336 .f32)
    (K : FVec F S16x336 .f32 → Prog (TpuEff nD τ sig (Elt F) Λ₀ .tc) PUnit) : Prog (TpuEff nD τ sig (Elt F) Λ₀ .tc) PUnit :=
  word i arg2 rfl c k hc hk fun l : BitVec 32 =>
  word i arg3 rfl c k hc hk fun s : BitVec 32 =>
  .op (TpuEff.assume (k1_chk1 l s) (k1_chk1.dec l s)) fun hw =>
  word i arg4 rfl c k hc hk fun d : BitVec 32 =>
  .op (.load arg12 (Rect.unit (s := S384x16x1152) (k1_off3 l s) S1x16x512.size (k1_off3_inb l s hw.down)).toLoadRect (View.loadsAt_vmem h_S1x16x512)) fun win =>
  word i arg5 rfl c k hc hk fun wf =>
  word i arg6 rfl c k hc hk fun wc =>
  putRow arg11 c (k + 1) hc (by omega) (interp s d win wf wc)
  (K (addf acc (mulf (wt p (k + 1) (by omega)) (interp s d win wf wc))))

/-- The weighted sum, denormalised. -/
def denorm (acc : FVec F S16x336 .f32) (mu sd : Vec F S1x16x1 .f32) : FVec F S16x336 .f32 :=
  addf (mulf acc (broadcastTo S16x336 (shapeCast S16x1 sd shapeCasts_S1x16x1_S16x1) broadcasts_S16x1_S16x336))
      (broadcastTo S16x336 (shapeCast S16x1 mu shapeCasts_S1x16x1_S16x1) broadcasts_S16x1_S16x336)

/-- The channel's last store. -/
def putY (c : Nat) (hc : c < 48) (acc : FVec F S16x336 .f32)
    (K : Prog (TpuEff nD τ sig (Elt F) Λ₀ .tc) PUnit) : Prog (TpuEff nD τ sig (Elt F) Λ₀ .tc) PUnit :=
  .op (.load arg8 (Rect.unit (s := S48x16x1) ![c, 0, 0] S1x16x1.size (col_inb hc)).toLoadRect (View.loadsAt_vmem h_S1x16x1)) fun mu =>
  .op (.load arg9 (Rect.unit (s := S48x16x1) ![c, 0, 0] S1x16x1.size (col_inb hc)).toLoadRect (View.loadsAt_vmem h_S1x16x1)) fun sd =>
  .op (.load arg10 (Rect.unit (s := S48x16x336) ![c, 0, 0] S1x16x336.size (y_inb hc)).toLoadRect (View.loadsAt_vmem h_S1x16x336)) fun _ =>
  .op (.store arg10 (Rect.unit (s := S48x16x336) ![c, 0, 0] S1x16x336.size (y_inb hc)) (shapeCast S1x16x336
    (denorm acc mu sd) shapeCasts_S16x336_S1x16x336) Finset.univ (View.stores_vmem_bits_univ h_S1x16x336 rfl) (.inl rfl)) fun _ => K

/-- The leaders from `k` on, then the channel's last store. -/
def leaders (c : Nat) (hc : c < 48) (p : FVec F S1x9 .f32) (K : Prog (TpuEff nD τ sig (Elt F) Λ₀ .tc) PUnit) :
    (n k : Nat) → (k + n ≤ 8) → FVec F S16x336 .f32 → Prog (TpuEff nD τ sig (Elt F) Λ₀ .tc) PUnit
  | 0, _, _, acc => putY arg8 arg9 arg10 c hc acc K
  | n + 1, k, h, acc => leader i arg2 arg3 arg4 arg5 arg6 arg11 arg12 c k hc (by omega) p acc
      (leaders c hc p K n (k + 1) (by omega))

/-- One channel. -/
def chan (c : Nat) (hc : c < 48) (K : Prog (TpuEff nD τ sig (Elt F) Λ₀ .tc) PUnit) : Prog (TpuEff nD τ sig (Elt F) Λ₀ .tc) PUnit :=
  .op (.load arg12 (Rect.unit (s := S384x16x1152) (offY i c) S1x16x336.size (offY_inb i hc)).toLoadRect (View.loadsAt_vmem h_S1x16x336)) fun y =>
  putRow arg11 c 0 hc (by omega) (shapeCast S16x336 y shapeCasts_S1x16x336_S16x336)
  (.op (.load arg7 (Rect.unit (s := S48x1x9) ![c, 0, 0] S1x1x9.size (lw_inb hc)).toLoadRect (View.loadsAt_vmem h_S1x1x9)) fun w =>
  leaders i arg2 arg3 arg4 arg5 arg6 arg8 arg9 arg10 arg11 arg12 c hc (soft w) K 8 0 (by omega)
    (mulf (wt (soft w) 0 (by omega)) (shapeCast S16x336 y shapeCasts_S1x16x336_S16x336)))

/-- The channels from `c` on. -/
def chans : (n c : Nat) → (c + n ≤ 48) → Prog (TpuEff nD τ sig (Elt F) Λ₀ .tc) PUnit
  | 0, _, _ => .ret ⟨⟩
  | n + 1, c, h => chan i arg2 arg3 arg4 arg5 arg6 arg7 arg8 arg9 arg10 arg11 arg12 c (by omega)
      (chans n (c + 1) (by omega))

/-- The copy of the whole sequence into the scratch at the first step. -/
def fetch (arg1 : Memref sig .tc .hbm S384x16x1152 .f32) (harg1 : arg1.IsWhole) (harg12 : arg12.IsWhole) (arg13 : DmaSems sig S_) :
    Prog (TpuEff nD τ sig (Elt F) Λ₀ .tc) PUnit :=
  if Scalar.cmpi .ne (Scalar.extui (Scalar.cmpi .eq (BitVec.ofNat 32 (i 0).val) 0#32) : BitVec 32) 0#32 = 1#1 then do
    Prog.lift (.enqueueDma arg1 (.here arg12) (.dma arg13.sem) harg1.wordExact harg12.wordExact ⟨Or.inl rfl, trivial⟩)
    Prog.lift (.waitDma2 arg13.sem arg1 arg12 harg1.wordExact harg12.wordExact)
    pure ⟨⟩
  else do
    pure ⟨⟩

end

/-- One channel off the front of a program that goes on as the channels after it do. -/
theorem peel (i : grid1.Coords)
    (arg2 arg3 arg4 : Memref sig .tc .smem S336x8 .i32) (arg5 arg6 : Memref sig .tc .smem S336x8 .f32)
    (arg7 : Memref sig .tc .vmem S48x1x9 .f32) (arg8 arg9 : Memref sig .tc .vmem S48x16x1 .f32)
    (arg10 : Memref sig .tc .vmem S48x16x336 .f32) (arg11 : Memref sig .tc .vmem S48x9x16x336 .f32)
    (arg12 : Memref sig .tc .vmem S384x16x1152 .f32) {n c : Nat} (h : c + (n + 1) ≤ 48)
    {A T : Prog (TpuEff nD τ sig (Elt F) Λ₀ .tc) PUnit}
    (e : A = chan i arg2 arg3 arg4 arg5 arg6 arg7 arg8 arg9 arg10 arg11 arg12 c (by omega) T)
    (t : T = chans i arg2 arg3 arg4 arg5 arg6 arg7 arg8 arg9 arg10 arg11 arg12 n (c + 1) (by omega)) :
    A = chans i arg2 arg3 arg4 arg5 arg6 arg7 arg8 arg9 arg10 arg11 arg12 (n + 1) c h := by
  rw [e, t]; rfl

end Cert.KernelIdeal

end
-- ==== Proof.IdealLeaf.lean ====
/-
  One load and one store of a memref held at what it reads, as steps of an entailment into a program's
  weakest precondition.
-/
module

public import proofs.«01_k».proof.Proof.IdealChan
public import Idealize.ShloMosaic.Lib.Tactic
public import Idealize.ShloMosaic.Lib.Pipeline.Kit
public import Idealize.ShloMosaic.Lib.VecWindow

@[expose] public section

noncomputable section

namespace Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's, beside the counters of the body's own transfer. -/
abbrev UU (nD : Nat) (τ : Topo) : Type := UR sig nD τ × Counters

local notation "𝕄" => MT nD τ sig Unit (Elt F) ℕ (UU nD τ) ℕ

/-- The weakest precondition of a body on core `c`. -/
abbrev wpB (c : Dev nD) (p : Prog (TpuEff nD τ sig (Elt F) Λ₀ .tc) PUnit) (Q : PUnit → sProp 𝕄) : sProp 𝕄 :=
  wp frame (wpE (defs₀ (F := F)) Variants.none (c : Thread nD τ) none) Set.univ p Q

variable {c : Dev nD} {sp : CoreSpace} {s : Shape} {e : EltTy}

theorem ld_of {Q : PUnit → sProp 𝕄} {T : sProp 𝕄} {m : Memref sig .tc sp s e} {off size : Fin s.rank → ℕ}
    {inb : ∀ a, off a + size a ≤ s.size a} {hl : m.view.LoadsAt (Rect.unit off size inb).toLoadRect}
    {k : ((Rect.unit off size inb).shape.Idx → Elt F e) → Prog (TpuEff nD τ sig (Elt F) Λ₀ .tc) PUnit}
    {X : s.Idx → Elt F e}
    (hT : T ⊢ iprop(owns (c : Thread nD τ) m fullShare X ∗ (owns (c : Thread nD τ) m fullShare X -∗ T)))
    (h : T ⊢ wpB c (k (VecWindow.window X off size inb)) Q) :
    T ⊢ wpB c (.op (.load m (Rect.unit off size inb).toLoadRect hl) k) Q := by
  refine hT.trans ?_
  iintro ⟨Hm, Hc⟩
  unfold owns
  icases Hm with ⟨%f, %hf, Hm⟩
  subst hf
  iapply (wp_load_rect (defs := defs₀ (F := F)) Variants.none (c : Thread nD τ) none Set.univ (m := m) (r := Rect.unit off size inb) (hl := hl) (k := k)
    (S := m.view.set) (q := fullShare) (f := f) (m.view.set_slice_subset _)) $$ [Hm]
  · iexact Hm
  iintro Hm
  iapply h
  iapply Hc
  iexists f
  isplitl []; · ipureintro; rfl
  iexact Hm

theorem st_of {Q : PUnit → sProp 𝕄} {T : sProp 𝕄} {m : Memref sig .tc sp s e} {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1}
    {k : PUnit → Prog (TpuEff nD τ sig (Elt F) Λ₀ .tc) PUnit} {X : s.Idx → Elt F e} {T' : sProp 𝕄}
    (hT : T ⊢ iprop(owns (c : Thread nD τ) m fullShare X ∗ (owns (c : Thread nD τ) m fullShare (VecWindow.put X off size w) -∗ T')))
    (h : T' ⊢ wpB c (k ⟨⟩) Q) :
    T ⊢ wpB c (.op (.store m (Rect.unit off size inb) w Finset.univ hx hm) k) Q := by
  refine hT.trans ?_
  iintro ⟨Hm, Hc⟩
  unfold owns
  icases Hm with ⟨%f, %hf, Hm⟩
  subst hf
  iapply (wp_store (defs := defs₀ (F := F)) Variants.none (c : Thread nD τ) none Set.univ (m := m) (r := Rect.unit off size inb) (w := w) (Mk := Finset.univ) (hx := hx) (hm := hm) (k := k)
    (S := m.view.set) (f := f) ((View.setOn_subset_set _ _).trans (m.view.set_slice_subset _))) $$ [Hm]
  · iexact Hm
  iintro Hm
  iapply h
  iapply Hc
  iexists _
  isplitl []
  swap
  · iexact Hm
  ipureintro
  exact (View.read_writes_cons_put m.view f inb w [] rfl)

end Cert.KernelIdeal

end
-- ==== Proof.IdealStageA.lean ====
/-
  The first kernel's body run from its inputs held at given contents: the mean and the deviation of every row, the
  normalised rows, their forecasts, and zeros behind them.
-/
module

public import proofs.«01_k».proof.Proof.IdealLeaf

@[expose] public section

noncomputable section

namespace Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ K1.Facts₀

variable {F : FTy → Type} [FloatOps F]

local notation "𝕄" => MT nD τ sig Unit (Elt F) ℕ (UU nD τ) ℕ

/-- The sum of each row over 720. -/
def avg (x : FVec F S128x16x720 .f32) : FVec F S128x16 .f32 :=
  divf (multiReduction .add [2] S128x16 x 0x00000000#32 reduces_S128x16x720_S128x16 (.inl rfl) rfl) (broadcast S128x16 (Scalar.ofBits .f32 0x44340000#32))

/-- A row's scalar spread over the row. -/
def spread (v : FVec F S128x16 .f32) : FVec F S128x16x720 .f32 :=
  broadcastTo S128x16x720 (shapeCast S128x16x1 v shapeCasts_S128x16_S128x16x1) broadcasts_S128x16x1_S128x16x720

/-- The rows less their means. -/
def dev (x : FVec F S128x16x720 .f32) : FVec F S128x16x720 .f32 := subf x (spread (avg x))

/-- The deviation of each row. -/
def std (x : FVec F S128x16x720 .f32) : FVec F S128x16 .f32 :=
  sqrt (addf (avg (mulf (dev x) (dev x))) (broadcast S128x16 (Scalar.ofBits .f32 0x3727C5AC#32)))

/-- The normalised rows. -/
def nrm (x : FVec F S128x16x720 .f32) : FVec F S128x16x720 .f32 := divf (dev x) (spread (std x))

/-- The forecasts of normalised rows. -/
def fore (n : FVec F S128x16x720 .f32) (w : FVec F S336x720 .f32) : FVec F S128x16x336 .f32 :=
  shapeCast S128x16x336 (matmul dot_S2048x720_S336x720_S2048x336_1_1_0_0_n_n none (shapeCast S2048x720 n shapeCasts_S128x16x720_S2048x720) w
    (constant S2048x336 .f32 0x00000000#32)) shapeCasts_S2048x336_S128x16x336

/-- The three pieces of a block of sequences, over `z`. -/
def pieces (z : Vec F S128x16x1152 .f32) (x : FVec F S128x16x720 .f32) (w : FVec F S336x720 .f32) : Vec F S128x16x1152 .f32 :=
  VecWindow.put (VecWindow.put (VecWindow.put z (![0, 0, 0] : Fin 3 → Nat) S128x16x720.size (nrm x)) (![0, 0, 720] : Fin 3 → Nat) S128x16x336.size (fore (nrm x) w))
    (![0, 0, 1056] : Fin 3 → Nat) S128x16x96.size (broadcast S128x16x96 (Scalar.ofBits .f32 0x00000000#32))

/-- The block of sequences. -/
def seqs (x : FVec F S128x16x720 .f32) (w : FVec F S336x720 .f32) : Vec F S128x16x1152 .f32 :=
  pieces (broadcast S128x16x1152 (Scalar.ofBits .f32 0x00000000#32)) x w

/-- The pieces cover the block. -/
theorem pieces_eq (z : Vec F S128x16x1152 .f32) (x : FVec F S128x16x720 .f32) (w : FVec F S336x720 .f32) : pieces z x w = seqs x w := by
  unfold seqs pieces
  funext y
  have h0 : (y 0).val < 128 := (y 0).isLt
  have h1 : (y 1).val < 16 := (y 1).isLt
  have h2 : (y 2).val < 1152 := (y 2).isLt
  unfold VecWindow.put
  split
  · rfl
  · rename_i n3
    split
    · rfl
    · rename_i n2
      have h3 : (y 2).val < 720 := by
        by_contra hn
        have : 1056 ≤ (y 2).val := by
          by_contra hm
          apply n2
          intro a
          fin_cases a
          · show 0 ≤ (y 0).val ∧ (y 0).val < 0 + 128
            omega
          · show 0 ≤ (y 1).val ∧ (y 1).val < 0 + 16
            omega
          · show 720 ≤ (y 2).val ∧ (y 2).val < 720 + 336
            omega
        apply n3
        intro a
        fin_cases a
        · show 0 ≤ (y 0).val ∧ (y 0).val < 0 + 128
          omega
        · show 0 ≤ (y 1).val ∧ (y 1).val < 0 + 16
          omega
        · show 1056 ≤ (y 2).val ∧ (y 2).val < 1056 + 96
          omega
      have hin : ∀ a, (![0, 0, 0] : Fin 3 → Nat) a ≤ (y a).val ∧ (y a).val < (![0, 0, 0] : Fin 3 → Nat) a + S128x16x720.size a := by
        intro a
        fin_cases a
        · show 0 ≤ (y 0).val ∧ (y 0).val < 0 + 128
          omega
        · show 0 ≤ (y 1).val ∧ (y 1).val < 0 + 16
          omega
        · show 0 ≤ (y 2).val ∧ (y 2).val < 0 + 720
          omega
      rw [dif_pos hin, dif_pos hin]

theorem put_full {s : Shape} {α : Type} (x : s.Idx → α) (off : Fin s.rank → ℕ) (h : ∀ a, off a = 0) (w : ((a : Fin s.rank) → Fin (s.size a)) → α) :
    VecWindow.put x off s.size w = w := by
  funext y
  unfold VecWindow.put
  rw [dif_pos fun a => ⟨by rw [h]; exact Nat.zero_le _, by rw [h, Nat.zero_add]; exact (y a).isLt⟩]
  congr 1
  funext a
  apply Fin.ext
  show (y a).val - off a = (y a).val
  rw [h]; rfl

theorem window_full {s : Shape} {α : Type} (x : s.Idx → α) (off : Fin s.rank → ℕ) (inb : ∀ a, off a + s.size a ≤ s.size a) :
    VecWindow.window x off s.size inb = x := by
  funext y
  unfold VecWindow.window
  rw [Rect.emb_unit_full]

section
variable (arg1 : Memref sig .tc .vmem S128x16x720 .f32) (arg2 : Memref sig .tc .vmem S336x720 .f32)
  (arg3 : Memref sig .tc .vmem S128x16x1152 .f32) (arg4 arg5 : Memref sig .tc .vmem S128x16 .f32)
  (x : Vec F S128x16x720 .f32) (w : Vec F S336x720 .f32) (d : Dev nD)

/-- Everything the body touches, the results at `A3`, `A4`, `A5`, beside `P`. -/
def StA (P : sProp 𝕄) (A3 : Vec F S128x16x1152 .f32) (A4 A5 : Vec F S128x16 .f32) : sProp 𝕄 :=
  iprop(owns (d : Thread nD τ) arg1 fullShare x ∗ owns (d : Thread nD τ) arg2 fullShare w ∗ owns (d : Thread nD τ) arg3 fullShare A3
    ∗ owns (d : Thread nD τ) arg4 fullShare A4 ∗ owns (d : Thread nD τ) arg5 fullShare A5 ∗ P)

theorem StA.get1 {P : sProp 𝕄} {A3 : Vec F S128x16x1152 .f32} {A4 A5 : Vec F S128x16 .f32} : StA arg1 arg2 arg3 arg4 arg5 x w d P A3 A4 A5
    ⊢ iprop(owns (d : Thread nD τ) arg1 fullShare x ∗ (owns (d : Thread nD τ) arg1 fullShare x -∗ StA arg1 arg2 arg3 arg4 arg5 x w d P A3 A4 A5)) := by
  unfold StA
  iintro ⟨H1, Hr⟩; isplitl [H1]; · iexact H1
  iintro H; isplitl [H]; · iexact H
  iexact Hr
theorem StA.get2 {P : sProp 𝕄} {A3 : Vec F S128x16x1152 .f32} {A4 A5 : Vec F S128x16 .f32} : StA arg1 arg2 arg3 arg4 arg5 x w d P A3 A4 A5
    ⊢ iprop(owns (d : Thread nD τ) arg2 fullShare w ∗ (owns (d : Thread nD τ) arg2 fullShare w -∗ StA arg1 arg2 arg3 arg4 arg5 x w d P A3 A4 A5)) := by
  unfold StA
  iintro ⟨H1, H2, Hr⟩; isplitl [H2]; · iexact H2
  iintro H; iframe
theorem StA.get3 {P : sProp 𝕄} {A3 : Vec F S128x16x1152 .f32} {A4 A5 : Vec F S128x16 .f32} (B : Vec F S128x16x1152 .f32) : StA arg1 arg2 arg3 arg4 arg5 x w d P A3 A4 A5
    ⊢ iprop(owns (d : Thread nD τ) arg3 fullShare A3 ∗ (owns (d : Thread nD τ) arg3 fullShare B -∗ StA arg1 arg2 arg3 arg4 arg5 x w d P B A4 A5)) := by
  unfold StA
  iintro ⟨H1, H2, H3, Hr⟩; isplitl [H3]; · iexact H3
  iintro H; iframe
theorem StA.get4 {P : sProp 𝕄} {A3 : Vec F S128x16x1152 .f32} {A4 A5 : Vec F S128x16 .f32} (B : Vec F S128x16 .f32) : StA arg1 arg2 arg3 arg4 arg5 x w d P A3 A4 A5
    ⊢ iprop(owns (d : Thread nD τ) arg4 fullShare A4 ∗ (owns (d : Thread nD τ) arg4 fullShare B -∗ StA arg1 arg2 arg3 arg4 arg5 x w d P A3 B A5)) := by
  unfold StA
  iintro ⟨H1, H2, H3, H4, Hr⟩; isplitl [H4]; · iexact H4
  iintro H; iframe
theorem StA.get5 {P : sProp 𝕄} {A3 : Vec F S128x16x1152 .f32} {A4 A5 : Vec F S128x16 .f32} (B : Vec F S128x16 .f32) : StA arg1 arg2 arg3 arg4 arg5 x w d P A3 A4 A5
    ⊢ iprop(owns (d : Thread nD τ) arg5 fullShare A5 ∗ (owns (d : Thread nD τ) arg5 fullShare B -∗ StA arg1 arg2 arg3 arg4 arg5 x w d P A3 A4 B)) := by
  unfold StA
  iintro ⟨H1, H2, H3, H4, H5, Hr⟩; isplitl [H5]; · iexact H5
  iintro H; iframe

/-- What the body reads of its first input. -/
def inA (x : Vec F S128x16x720 .f32) : FVec F S128x16x720 .f32 := shapeCast S128x16x720 x shapeCasts_S128x16x720_S128x16x720

theorem stageA_wp {P : sProp 𝕄} {Q : PUnit → sProp 𝕄} (i : grid0.Coords) (h1 : arg1.IsWhole) (h2 : arg2.IsWhole) (h3 : arg3.IsWhole) (h4 : arg4.IsWhole) (h5 : arg5.IsWhole)
    (A3 : Vec F S128x16x1152 .f32) (A4 A5 : Vec F S128x16 .f32)
    (h : StA arg1 arg2 arg3 arg4 arg5 x w d P (seqs (inA x) w) (avg (inA x)) (std (inA x)) ⊢ Q ⟨⟩) :
    StA arg1 arg2 arg3 arg4 arg5 x w d P A3 A4 A5 ⊢ wpB d (cc0__stage_a_body i arg1 h1 arg2 h2 arg3 h3 arg4 h4 arg5 h5) Q := by
  unfold cc0__stage_a_body
  refine ld_of (X := x) (StA.get1 _ _ _ _ _ _ _ _) ?_
  rw [window_full x]
  refine ld_of (X := A4) (StA.get4 _ _ _ _ _ _ _ _ A4) ?_
  refine st_of (X := A4) (StA.get4 _ _ _ _ _ _ _ _ _) ?_
  refine ld_of (X := A5) (StA.get5 _ _ _ _ _ _ _ _ A5) ?_
  refine st_of (X := A5) (StA.get5 _ _ _ _ _ _ _ _ _) ?_
  refine ld_of (X := A3) (StA.get3 _ _ _ _ _ _ _ _ A3) ?_
  refine st_of (X := A3) (StA.get3 _ _ _ _ _ _ _ _ _) ?_
  refine ld_of (X := w) (StA.get2 _ _ _ _ _ _ _ _) ?_
  rw [window_full w]
  refine ld_of (StA.get3 _ _ _ _ _ _ _ _ _) ?_
  refine st_of (StA.get3 _ _ _ _ _ _ _ _ _) ?_
  refine ld_of (StA.get3 _ _ _ _ _ _ _ _ _) ?_
  refine st_of (StA.get3 _ _ _ _ _ _ _ _ _) ?_
  rw [put_full A4 _ (by decide), put_full A5 _ (by decide)]
  have e := pieces_eq A3 (inA x) w
  unfold pieces at e
  refine BI.Entails.trans (Entails.of_eq (congrArg (fun B => StA arg1 arg2 arg3 arg4 arg5 x w d P B (avg (inA x)) (std (inA x))) e)) ?_
  refine h.trans ?_
  show _ ⊢ wp frame (wpE (defs₀ (F := F)) Variants.none (d : Thread nD τ) none) Set.univ (Prog.ret PUnit.unit) Q
  iintro H
  sl_step
  iexact H

end

end Cert.KernelIdeal

end
-- ==== Proof.IdealTriple.lean ====
/-
  The second kernel's channels run from their inputs held at given contents: after the channels `0 … 47` the two
  results hold, at every index, what one channel's values say of it.
-/
module

public import proofs.«01_k».proof.Proof.IdealLeaf

@[expose] public section

noncomputable section

namespace Cert.KernelIdeal

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ K1.Facts₀

variable {F : FTy → Type} [FloatOps F]

local notation "𝕄" => MT nD τ sig Unit (Elt F) ℕ (UU nD τ) ℕ

/-- The contents of the body's inputs. -/
structure Ins (F : FTy → Type) where
  L : Vec F S336x8 .i32
  S : Vec F S336x8 .i32
  D : Vec F S336x8 .i32
  WF : Vec F S336x8 .f32
  WC : Vec F S336x8 .f32
  LW : Vec F S48x1x9 .f32
  MU : Vec F S48x16x1 .f32
  SD : Vec F S48x16x1 .f32
  SQ : Vec F S384x16x1152 .f32

/-- The table's word for leader `k` of channel `c`. -/
def tab {e : EltTy} (i : grid1.Coords) (X : Vec F S336x8 e) (c k : Nat) (hc : c < 48) (hk : k < 8) : Elt F e :=
  VecWindow.window X (offT i c k) S1x1.size (offT_inb i hc hk) (Shape.Idx.first (numel1_S1x1.symm ▸ Nat.one_pos))

/-- Every window the step's leaders name lies inside the sequence. -/
def Ins.Ok (x : Ins F) (i : grid1.Coords) : Prop :=
  ∀ c k (hc : c < 48) (hk : k < 8), k1_chk1 (tab i x.L c k hc hk) (tab i x.S c k hc hk)

section
variable (i : grid1.Coords) (x : Ins F) (hx : x.Ok i)

/-- The channel's own row. -/
def own (c : Nat) (hc : c < 48) : FVec F S16x336 .f32 :=
  shapeCast S16x336 (VecWindow.window x.SQ (offY i c) S1x16x336.size (offY_inb i hc) : Vec F S1x16x336 .f32) shapeCasts_S1x16x336_S16x336

/-- Leader `k`'s interpolated row. -/
def lead (c k : Nat) (hc : c < 48) (hk : k < 8) : FVec F S16x336 .f32 :=
  interp (tab i x.S c k hc hk) (tab i x.D c k hc hk)
    (VecWindow.window x.SQ (k1_off3 (tab i x.L c k hc hk) (tab i x.S c k hc hk)) S1x16x512.size (k1_off3_inb _ _ (hx c k hc hk)))
    (tab i x.WF c k hc hk) (tab i x.WC c k hc hk)

/-- Row `k` of the channel's nine. -/
def rowv (c : Nat) (hc : c < 48) : (k : Nat) → k < 9 → FVec F S16x336 .f32
  | 0, _ => own i x c hc
  | k + 1, h => lead i x hx c k hc (by omega)

/-- The channel's weights. -/
def wts (c : Nat) (hc : c < 48) : FVec F S1x9 .f32 := soft (VecWindow.window x.LW ![c, 0, 0] S1x1x9.size (lw_inb hc))

/-- The weighted sum of the channel's own row and its first `k` leaders'. -/
def accv (c : Nat) (hc : c < 48) : (k : Nat) → k < 9 → FVec F S16x336 .f32
  | 0, _ => mulf (wt (wts x c hc) 0 (by omega)) (own i x c hc)
  | k + 1, h => addf (accv c hc k (by omega)) (mulf (wt (wts x c hc) (k + 1) h) (lead i x hx c k hc (by omega)))

/-- The channel's row of the first result. -/
def yv (c : Nat) (hc : c < 48) : FVec F S16x336 .f32 :=
  denorm (accv i x hx c hc 8 (by omega)) (VecWindow.window x.MU ![c, 0, 0] S1x16x1.size (col_inb hc))
    (VecWindow.window x.SD ![c, 0, 0] S1x16x1.size (col_inb hc))

/-- The block of the second result. -/
def G11 : Vec F S48x9x16x336 .f32 := fun y =>
  shapeCast S1x1x16x336 (rowv i x hx (y 0).val (y 0).isLt (y 1).val (y 1).isLt) shapeCasts_S16x336_S1x1x16x336
    (show S1x1x16x336.Idx from fun | 0 => ⟨0, Nat.one_pos⟩ | 1 => ⟨0, Nat.one_pos⟩ | 2 => y 2 | 3 => y 3)

/-- The block of the first result. -/
def G10 : Vec F S48x16x336 .f32 := fun y =>
  shapeCast S1x16x336 (yv i x hx (y 0).val (y 0).isLt) shapeCasts_S16x336_S1x16x336
    (show S1x16x336.Idx from fun | 0 => ⟨0, Nat.one_pos⟩ | 1 => y 1 | 2 => y 2)

/-- `R` is right on the channels before `c` and the first `k` rows of `c`. -/
def Ag11 (c k : Nat) (R : Vec F S48x9x16x336 .f32) : Prop :=
  ∀ y : S48x9x16x336.Idx, (y 0).val < c ∨ ((y 0).val = c ∧ (y 1).val < k) → R y = G11 i x hx y

/-- `Y` is right on the channels before `c`. -/
def Ag10 (c : Nat) (Y : Vec F S48x16x336 .f32) : Prop :=
  ∀ y : S48x16x336.Idx, (y 0).val < c → Y y = G10 i x hx y

theorem Ag11.put {c k : Nat} {R : Vec F S48x9x16x336 .f32} (h : Ag11 i x hx c k R) (hc : c < 48) (hk : k < 9) :
    Ag11 i x hx c (k + 1) (VecWindow.put R (![c, k, 0, 0] : Fin 4 → Nat) S1x1x16x336.size
      (shapeCast S1x1x16x336 (rowv i x hx c hc k hk) shapeCasts_S16x336_S1x1x16x336)) := by
  intro y hy
  unfold VecWindow.put
  by_cases hin : ∀ a, (![c, k, 0, 0] : Fin 4 → Nat) a ≤ (y a).val ∧ (y a).val < (![c, k, 0, 0] : Fin 4 → Nat) a + S1x1x16x336.size a
  · rw [dif_pos hin]
    have h0 : c ≤ (y 0).val ∧ (y 0).val < c + 1 := hin 0
    have h1 : k ≤ (y 1).val ∧ (y 1).val < k + 1 := hin 1
    have e0 : (y 0).val = c := by omega
    have e1 : (y 1).val = k := by omega
    subst e0; subst e1
    unfold G11
    congr 1
    funext a
    apply Fin.ext
    fin_cases a
    · show (y 0).val - (y 0).val = 0
      omega
    · show (y 1).val - (y 1).val = 0
      omega
    · rfl
    · rfl
  · rw [dif_neg hin]
    apply h
    by_contra hn
    apply hin
    have h2 : (y 2).val < 16 := (y 2).isLt
    have h3 : (y 3).val < 336 := (y 3).isLt
    intro a
    fin_cases a
    · show c ≤ (y 0).val ∧ (y 0).val < c + 1
      omega
    · show k ≤ (y 1).val ∧ (y 1).val < k + 1
      omega
    · show 0 ≤ (y 2).val ∧ (y 2).val < 0 + 16
      omega
    · show 0 ≤ (y 3).val ∧ (y 3).val < 0 + 336
      omega

theorem Ag11.next {c : Nat} {R : Vec F S48x9x16x336 .f32} (h : Ag11 i x hx c 9 R) : Ag11 i x hx (c + 1) 0 R := by
  intro y hy
  have h1 : (y 1).val < 9 := (y 1).isLt
  exact h y (by omega)

theorem Ag10.put {c : Nat} {Y : Vec F S48x16x336 .f32} (h : Ag10 i x hx c Y) (hc : c < 48) :
    Ag10 i x hx (c + 1) (VecWindow.put Y (![c, 0, 0] : Fin 3 → Nat) S1x16x336.size
      (shapeCast S1x16x336 (yv i x hx c hc) shapeCasts_S16x336_S1x16x336)) := by
  intro y hy
  unfold VecWindow.put
  by_cases hin : ∀ a, (![c, 0, 0] : Fin 3 → Nat) a ≤ (y a).val ∧ (y a).val < (![c, 0, 0] : Fin 3 → Nat) a + S1x16x336.size a
  · rw [dif_pos hin]
    have h0 : c ≤ (y 0).val ∧ (y 0).val < c + 1 := hin 0
    have e0 : (y 0).val = c := by omega
    subst e0
    unfold G10
    congr 1
    funext a
    apply Fin.ext
    fin_cases a
    · show (y 0).val - (y 0).val = 0
      omega
    · rfl
    · rfl
  · rw [dif_neg hin]
    apply h
    by_contra hn
    apply hin
    have h1 : (y 1).val < 16 := (y 1).isLt
    have h2 : (y 2).val < 336 := (y 2).isLt
    intro a
    fin_cases a
    · show c ≤ (y 0).val ∧ (y 0).val < c + 1
      omega
    · show 0 ≤ (y 1).val ∧ (y 1).val < 0 + 16
      omega
    · show 0 ≤ (y 2).val ∧ (y 2).val < 0 + 336
      omega

end

section
variable (i : grid1.Coords)
  (arg2 arg3 arg4 : Memref sig .tc .smem S336x8 .i32) (arg5 arg6 : Memref sig .tc .smem S336x8 .f32)
  (arg7 : Memref sig .tc .vmem S48x1x9 .f32) (arg8 arg9 : Memref sig .tc .vmem S48x16x1 .f32)
  (arg10 : Memref sig .tc .vmem S48x16x336 .f32) (arg11 : Memref sig .tc .vmem S48x9x16x336 .f32)
  (arg12 : Memref sig .tc .vmem S384x16x1152 .f32) (x : Ins F) (hx : x.Ok i) (d : Dev nD)

/-- `m` held whole at contents reading `X`. -/
abbrev own' {sp : Space} {s : Shape} {e : EltTy} (d : Dev nD) (m : Memref sig .tc sp s e) (X : s.Idx → Elt F e) : sProp 𝕄 :=
  owns (d : Thread nD τ) m fullShare X

/-- Everything a channel touches, the two results at `Y` and `R`, beside `P`. -/
def St (P : sProp 𝕄) (Y : Vec F S48x16x336 .f32) (R : Vec F S48x9x16x336 .f32) : sProp 𝕄 :=
  iprop(own' d arg2 x.L ∗ own' d arg3 x.S ∗ own' d arg4 x.D ∗ own' d arg5 x.WF ∗ own' d arg6 x.WC ∗ own' d arg7 x.LW
    ∗ own' d arg8 x.MU ∗ own' d arg9 x.SD ∗ own' d arg12 x.SQ ∗ own' d arg10 Y ∗ own' d arg11 R ∗ P)

local notation "ST" => St arg2 arg3 arg4 arg5 arg6 arg7 arg8 arg9 arg10 arg11 arg12 x d

variable {Y : Vec F S48x16x336 .f32} {R : Vec F S48x9x16x336 .f32}

theorem St.get2 {P : sProp 𝕄} : ST P Y R ⊢ iprop(own' d arg2 x.L ∗ (own' d arg2 x.L -∗ ST P Y R)) := by
  unfold St
  iintro ⟨H2, Hr⟩; isplitl [H2]; · iexact H2
  iintro H; isplitl [H]; · iexact H
  iexact Hr
theorem St.get3 {P : sProp 𝕄} : ST P Y R ⊢ iprop(own' d arg3 x.S ∗ (own' d arg3 x.S -∗ ST P Y R)) := by
  unfold St
  iintro ⟨H2, H3, Hr⟩; isplitl [H3]; · iexact H3
  iintro H; iframe
theorem St.get4 {P : sProp 𝕄} : ST P Y R ⊢ iprop(own' d arg4 x.D ∗ (own' d arg4 x.D -∗ ST P Y R)) := by
  unfold St
  iintro ⟨H2, H3, H4, Hr⟩; isplitl [H4]; · iexact H4
  iintro H; iframe
theorem St.get5 {P : sProp 𝕄} : ST P Y R ⊢ iprop(own' d arg5 x.WF ∗ (own' d arg5 x.WF -∗ ST P Y R)) := by
  unfold St
  iintro ⟨H2, H3, H4, H5, Hr⟩; isplitl [H5]; · iexact H5
  iintro H; iframe
theorem St.get6 {P : sProp 𝕄} : ST P Y R ⊢ iprop(own' d arg6 x.WC ∗ (own' d arg6 x.WC -∗ ST P Y R)) := by
  unfold St
  iintro ⟨H2, H3, H4, H5, H6, Hr⟩; isplitl [H6]; · iexact H6
  iintro H; iframe
theorem St.get7 {P : sProp 𝕄} : ST P Y R ⊢ iprop(own' d arg7 x.LW ∗ (own' d arg7 x.LW -∗ ST P Y R)) := by
  unfold St
  iintro ⟨H2, H3, H4, H5, H6, H7, Hr⟩; isplitl [H7]; · iexact H7
  iintro H; iframe
theorem St.get8 {P : sProp 𝕄} : ST P Y R ⊢ iprop(own' d arg8 x.MU ∗ (own' d arg8 x.MU -∗ ST P Y R)) := by
  unfold St
  iintro ⟨H2, H3, H4, H5, H6, H7, H8, Hr⟩; isplitl [H8]; · iexact H8
  iintro H; iframe
theorem St.get9 {P : sProp 𝕄} : ST P Y R ⊢ iprop(own' d arg9 x.SD ∗ (own' d arg9 x.SD -∗ ST P Y R)) := by
  unfold St
  iintro ⟨H2, H3, H4, H5, H6, H7, H8, H9, Hr⟩; isplitl [H9]; · iexact H9
  iintro H; iframe
theorem St.get12 {P : sProp 𝕄} : ST P Y R ⊢ iprop(own' d arg12 x.SQ ∗ (own' d arg12 x.SQ -∗ ST P Y R)) := by
  unfold St
  iintro ⟨H2, H3, H4, H5, H6, H7, H8, H9, H12, Hr⟩; isplitl [H12]; · iexact H12
  iintro H; iframe
theorem St.get10 {P : sProp 𝕄} (Y' : Vec F S48x16x336 .f32) : ST P Y R ⊢ iprop(own' d arg10 Y ∗ (own' d arg10 Y' -∗ ST P Y' R)) := by
  unfold St
  iintro ⟨H2, H3, H4, H5, H6, H7, H8, H9, H12, H10, Hr⟩; isplitl [H10]; · iexact H10
  iintro H; iframe
theorem St.get11 {P : sProp 𝕄} (R' : Vec F S48x9x16x336 .f32) : ST P Y R ⊢ iprop(own' d arg11 R ∗ (own' d arg11 R' -∗ ST P Y R')) := by
  unfold St
  iintro ⟨H2, H3, H4, H5, H6, H7, H8, H9, H12, H10, H11, Hr⟩; isplitl [H11]; · iexact H11
  iintro H; iframe

theorem word_wp {Q : PUnit → sProp 𝕄} {e : EltTy} {m : Memref sig .tc .smem S336x8 e} {hp : e.packing = 1} {X : Vec F S336x8 e} {T : sProp 𝕄} {c k : Nat} {hc : c < 48} {hk : k < 8}
    {K : Elt F e → Prog (TpuEff nD τ sig (Elt F) Λ₀ .tc) PUnit}
    (hT : T ⊢ iprop(own' d m X ∗ (own' d m X -∗ T))) (h : T ⊢ wpB d (K (tab i X c k hc hk)) Q) :
    T ⊢ wpB d (word i m hp c k hc hk K) Q := by
  unfold word smemLoadElt
  exact ld_of (X := X) hT h

theorem putRow_wp {P : sProp 𝕄} {Q : PUnit → sProp 𝕄} {c k : Nat} {hc : c < 48} {hk : k < 9}
    {K : Prog (TpuEff nD τ sig (Elt F) Λ₀ .tc) PUnit} (hR : Ag11 i x hx c k R)
    (h : ∀ R', Ag11 i x hx c (k + 1) R' → ST P Y R' ⊢ wpB d K Q) :
    ST P Y R ⊢ wpB d (putRow arg11 c k hc hk (rowv i x hx c hc k hk) K) Q := by
  unfold putRow
  refine ld_of (X := R) (St.get11 _ _ _ _ _ _ _ _ _ _ _ _ _ R) ?_
  exact st_of (X := R) (St.get11 _ _ _ _ _ _ _ _ _ _ _ _ _ _) (h _ (hR.put i x hx hc hk))

theorem leader_wp {P : sProp 𝕄} {Q : PUnit → sProp 𝕄} {c k : Nat} {hc : c < 48} {hk : k < 8}
    {K : FVec F S16x336 .f32 → Prog (TpuEff nD τ sig (Elt F) Λ₀ .tc) PUnit} (hR : Ag11 i x hx c (k + 1) R)
    (h : ∀ R', Ag11 i x hx c (k + 2) R' → ST P Y R' ⊢ wpB d (K (accv i x hx c hc (k + 1) (by omega))) Q) :
    ST P Y R ⊢ wpB d (leader i arg2 arg3 arg4 arg5 arg6 arg11 arg12 c k hc hk (wts x c hc) (accv i x hx c hc k (by omega)) K) Q := by
  unfold leader
  refine word_wp i d (X := x.L) (St.get2 _ _ _ _ _ _ _ _ _ _ _ _ _) ?_
  refine word_wp i d (X := x.S) (St.get3 _ _ _ _ _ _ _ _ _ _ _ _ _) ?_
  refine BI.Entails.trans ?_ (wp_assume (defs := defs₀ (F := F)) Variants.none (d : Thread nD τ) none Set.univ (hx c k hc hk))
  refine word_wp i d (X := x.D) (St.get4 _ _ _ _ _ _ _ _ _ _ _ _ _) ?_
  refine ld_of (X := x.SQ) (St.get12 _ _ _ _ _ _ _ _ _ _ _ _ _) ?_
  refine word_wp i d (X := x.WF) (St.get5 _ _ _ _ _ _ _ _ _ _ _ _ _) ?_
  refine word_wp i d (X := x.WC) (St.get6 _ _ _ _ _ _ _ _ _ _ _ _ _) ?_
  exact putRow_wp i arg2 arg3 arg4 arg5 arg6 arg7 arg8 arg9 arg10 arg11 arg12 x hx d (k := k + 1) hR h

theorem putY_wp {P : sProp 𝕄} {Q : PUnit → sProp 𝕄} {c : Nat} {hc : c < 48}
    {K : Prog (TpuEff nD τ sig (Elt F) Λ₀ .tc) PUnit} (hY : Ag10 i x hx c Y)
    (h : ∀ Y', Ag10 i x hx (c + 1) Y' → ST P Y' R ⊢ wpB d K Q) :
    ST P Y R ⊢ wpB d (putY arg8 arg9 arg10 c hc (accv i x hx c hc 8 (by omega)) K) Q := by
  unfold putY
  refine ld_of (X := x.MU) (St.get8 _ _ _ _ _ _ _ _ _ _ _ _ _) ?_
  refine ld_of (X := x.SD) (St.get9 _ _ _ _ _ _ _ _ _ _ _ _ _) ?_
  refine ld_of (X := Y) (St.get10 _ _ _ _ _ _ _ _ _ _ _ _ _ Y) ?_
  exact st_of (X := Y) (St.get10 _ _ _ _ _ _ _ _ _ _ _ _ _ _) (h _ (hY.put i x hx hc))

theorem leaders_wp {P : sProp 𝕄} {Q : PUnit → sProp 𝕄} {c : Nat} {hc : c < 48}
    {K : Prog (TpuEff nD τ sig (Elt F) Λ₀ .tc) PUnit} (hY : Ag10 i x hx c Y)
    (h : ∀ Y' R', Ag10 i x hx (c + 1) Y' → Ag11 i x hx (c + 1) 0 R' → ST P Y' R' ⊢ wpB d K Q) :
    ∀ (n k : Nat) (hk : k + n ≤ 8) (h8 : k + n = 8) (R : Vec F S48x9x16x336 .f32), Ag11 i x hx c (k + 1) R →
    ST P Y R ⊢ wpB d (leaders i arg2 arg3 arg4 arg5 arg6 arg8 arg9 arg10 arg11 arg12 c hc (wts x c hc) K n k hk
      (accv i x hx c hc k (by omega))) Q := by
  intro n
  induction n with
  | zero =>
    intro k hk h8 R hR
    obtain rfl : k = 8 := by omega
    exact putY_wp i arg2 arg3 arg4 arg5 arg6 arg7 arg8 arg9 arg10 arg11 arg12 x hx d hY fun Y' hY' => h Y' R hY' (hR.next i x hx)
  | succ n ih =>
    intro k hk h8 R hR
    exact leader_wp i arg2 arg3 arg4 arg5 arg6 arg7 arg8 arg9 arg10 arg11 arg12 x hx d hR fun R' hR' =>
      ih (k + 1) (by omega) (by omega) R' hR'

theorem chan_wp {P : sProp 𝕄} {Q : PUnit → sProp 𝕄} {c : Nat} {hc : c < 48}
    {K : Prog (TpuEff nD τ sig (Elt F) Λ₀ .tc) PUnit} (hY : Ag10 i x hx c Y) (hR : Ag11 i x hx c 0 R)
    (h : ∀ Y' R', Ag10 i x hx (c + 1) Y' → Ag11 i x hx (c + 1) 0 R' → ST P Y' R' ⊢ wpB d K Q) :
    ST P Y R ⊢ wpB d (chan i arg2 arg3 arg4 arg5 arg6 arg7 arg8 arg9 arg10 arg11 arg12 c hc K) Q := by
  unfold chan
  refine ld_of (X := x.SQ) (St.get12 _ _ _ _ _ _ _ _ _ _ _ _ _) ?_
  refine putRow_wp i arg2 arg3 arg4 arg5 arg6 arg7 arg8 arg9 arg10 arg11 arg12 x hx d (k := 0) hR fun R' hR' => ?_
  refine ld_of (X := x.LW) (St.get7 _ _ _ _ _ _ _ _ _ _ _ _ _) ?_
  exact leaders_wp i arg2 arg3 arg4 arg5 arg6 arg7 arg8 arg9 arg10 arg11 arg12 x hx d hY h 8 0 (by omega) (by omega) R' hR'

theorem chans_wp {P : sProp 𝕄} {Q : PUnit → sProp 𝕄} (h : ST P (G10 i x hx) (G11 i x hx) ⊢ Q ⟨⟩) :
    ∀ (n c : Nat) (hn : c + n ≤ 48) (h48 : c + n = 48) (Y : Vec F S48x16x336 .f32) (R : Vec F S48x9x16x336 .f32),
    Ag10 i x hx c Y → Ag11 i x hx c 0 R →
    ST P Y R ⊢ wpB d (chans i arg2 arg3 arg4 arg5 arg6 arg7 arg8 arg9 arg10 arg11 arg12 n c hn) Q := by
  intro n
  induction n with
  | zero =>
    intro c hn h48 Y R hY hR
    obtain rfl : c = 48 := by omega
    obtain rfl : Y = G10 i x hx := funext fun y => hY y (y 0).isLt
    obtain rfl : R = G11 i x hx := funext fun y => hR y (Or.inl (y 0).isLt)
    refine h.trans ?_
    unfold chans wpB
    iintro H
    sl_step
    iexact H
  | succ n ih =>
    intro c hn h48 Y R hY hR
    exact chan_wp i arg2 arg3 arg4 arg5 arg6 arg7 arg8 arg9 arg10 arg11 arg12 x hx d hY hR fun Y' R' hY' hR' =>
      ih (c + 1) (by omega) (by omega) Y' R' hY' hR'

end

end Cert.KernelIdeal

end
-- ==== Proof.IdealBodyEq.lean ====
/-
  The printed body of the second kernel is the copy of the sequence followed by the
  forty-eight channels: one definitional unfolding per channel.
-/
module

public import proofs.«01_k».proof.Proof.IdealChan

@[expose] public section
noncomputable section
namespace Cert.KernelIdeal
open Idealize.ShloMosaic Idealize.SL.Sem
variable {F : FTy → Type} [FloatOps F]

/-- A conditional whose branches go on alike is a conditional, then the rest. -/
theorem dite_bind {E : Type → Type} {α β γ δ : Type} {c : Prop} [Decidable c] (A B : Prog E β) (k : Prog E α)
    (k1 : α → Prog E γ) (k2 : γ → Prog E δ) :
    Prog.bind (Prog.bind (if _ : c then Prog.bind A (fun _ => k) else Prog.bind B (fun _ => k)) k1) k2 =
      Prog.bind (if c then A else B) fun _ => Prog.bind (Prog.bind k k1) k2 := by
  split <;> exact (congrArg (Prog.bind · k2) (Prog.bind_assoc _ (fun _ => k) k1)).trans (Prog.bind_assoc _ _ k2)

set_option maxRecDepth 100000 in
set_option maxHeartbeats 0 in
theorem body_eq (i : grid1.Coords) (arg1 : Memref sig .tc .hbm S384x16x1152 .f32) (harg1 : arg1.IsWhole) (arg2 : Memref sig .tc .smem S336x8 .i32) (harg2 : arg2.IsWhole) (arg3 : Memref sig .tc .smem S336x8 .i32) (harg3 : arg3.IsWhole) (arg4 : Memref sig .tc .smem S336x8 .i32) (harg4 : arg4.IsWhole) (arg5 : Memref sig .tc .smem S336x8 .f32) (harg5 : arg5.IsWhole) (arg6 : Memref sig .tc .smem S336x8 .f32) (harg6 : arg6.IsWhole) (arg7 : Memref sig .tc .vmem S48x1x9 .f32) (harg7 : arg7.IsWhole) (arg8 : Memref sig .tc .vmem S48x16x1 .f32) (harg8 : arg8.IsWhole) (arg9 : Memref sig .tc .vmem S48x16x1 .f32) (harg9 : arg9.IsWhole) (arg10 : Memref sig .tc .vmem S48x16x336 .f32) (harg10 : arg10.IsWhole) (arg11 : Memref sig .tc .vmem S48x9x16x336 .f32) (harg11 : arg11.IsWhole) (arg12 : Memref sig .tc .vmem S384x16x1152 .f32) (harg12 : arg12.IsWhole) (arg13 : DmaSems sig S_) :
    cc1__stage_b_body (F := F) i arg1 harg1 arg2 harg2 arg3 harg3 arg4 harg4 arg5 harg5 arg6 harg6 arg7 harg7 arg8 harg8 arg9 harg9 arg10 harg10 arg11 harg11 arg12 harg12 arg13 =
      Prog.bind (fetch i arg12 arg1 harg1 harg12 arg13) fun _ => chans i arg2 arg3 arg4 arg5 arg6 arg7 arg8 arg9 arg10 arg11 arg12 48 0 (by omega) := by
  refine Eq.trans (b := Prog.bind (fetch i arg12 arg1 harg1 harg12 arg13) (fun _ => ?T)) ?a (congrArg _ (funext fun _ => ?b))
  case a =>
    unfold cc1__stage_b_body k1_part526 k1_part1
    exact dite_bind (c := Scalar.cmpi .ne (Scalar.extui (Scalar.cmpi .eq (BitVec.ofNat 32 (i 0).val) 0#32) : BitVec 32) 0#32 = 1#1) (do
        Prog.lift (.enqueueDma arg1 (.here arg12) (.dma arg13.sem) harg1.wordExact harg12.wordExact ⟨Or.inl rfl, trivial⟩)
        Prog.lift (.waitDma2 arg13.sem arg1 arg12 harg1.wordExact harg12.wordExact)
        pure ⟨⟩ : Prog (TpuEff nD τ sig (Elt F) Λ₀ .tc) PUnit) (pure ⟨⟩) _ _ _
  iterate 48 refine peel i arg2 arg3 arg4 arg5 arg6 arg7 arg8 arg9 arg10 arg11 arg12 _ rfl ?_
  rfl

end Cert.KernelIdeal
end
-- ==== Proof.IdealFetch.lean ====
/-
  The copy of the sequence into the scratch at the second kernel's first step, and the whole body after it.
-/
module

public import proofs.«01_k».proof.Proof.IdealTriple
public import proofs.«01_k».proof.Proof.IdealBodyEq

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Shapes1.Facts₀ K1.Facts₀

variable {F : FTy → Type} [FloatOps F]

local notation "𝕄" => MT nD τ sig Unit (Elt F) ℕ (UU nD τ) ℕ

/-- The second kernel's own semaphore. -/
abbrev osem1 : Fin 1 → SemLoc sig := fun _ => .dma 24

/-- Memref `M`'s buffer on core `c`, held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

theorem first_iff (i : grid1.Coords) :
    (Scalar.cmpi .ne (Scalar.extui (Scalar.cmpi .eq (BitVec.ofNat 32 (i 0).val) 0#32) : BitVec 32) 0#32 = 1#1) ↔ (i 0).val = 0 := by
  have h : ∀ j : Fin 7, (Scalar.cmpi .ne (Scalar.extui (Scalar.cmpi .eq (BitVec.ofNat 32 j.val) 0#32) : BitVec 32) 0#32 = 1#1) ↔ j.val = 0 := by decide
  exact h (i 0)

theorem fetch_wp (c : Dev nD) (i : grid1.Coords) (f : Buf (Elt F) ((Memref.whole main_call0_v31_0).view.loc (c : Thread nD τ)))
    (g : Buf (Elt F) ((Memref.whole cc1_scratch0).view.loc (c : Thread nD τ))) (hg : (i 0).val ≠ 0 → g = f) (W : Waits sig Unit) {Q : PUnit → sProp 𝕄} {T : sProp 𝕄}
    {p : Prog (TpuEff nD τ sig (Elt F) Λ₀ .tc) PUnit}
    (h : ∀ W', iprop(pt c (Memref.whole main_call0_v31_0) f ∗ pt c (Memref.whole cc1_scratch0) f ∗ semVal ((c : Thread nD τ), osem1 0) 0
      ∗ owes (c : Thread nD τ) 0 W' ∗ T) ⊢ wpB c p Q) :
    iprop(pt c (Memref.whole main_call0_v31_0) f ∗ pt c (Memref.whole cc1_scratch0) g ∗ semVal ((c : Thread nD τ), osem1 0) 0
      ∗ owes (c : Thread nD τ) 0 W ∗ T)
    ⊢ wpB c (Prog.bind (fetch i (Memref.whole cc1_scratch0) (Memref.whole main_call0_v31_0) (Memref.isWhole_whole _) (Memref.isWhole_whole _) cc1_scratch1) fun _ => p) Q := by
  unfold fetch
  by_cases h0 : (i 0).val = 0
  · rw [if_pos ((first_iff i).mpr h0)]
    unfold wpB
    show _ ⊢ wp _ _ _ (do
      Prog.lift (.enqueueDma (Memref.whole main_call0_v31_0) (.here (Memref.whole cc1_scratch0)) (.dma cc1_scratch1.sem)
        (Memref.isWhole_whole _).wordExact (Memref.isWhole_whole _).wordExact ⟨Or.inl rfl, trivial⟩)
      Prog.lift (.waitDma2 cc1_scratch1.sem (Memref.whole main_call0_v31_0) (Memref.whole cc1_scratch0)
        (Memref.isWhole_whole _).wordExact (Memref.isWhole_whole _).wordExact)
      p) _
    iintro ⟨H1, H2, Hs, HO, HT⟩
    sl_exec!
    have e : View.write (Elt F) (Memref.whole cc1_scratch0).view g (fetch_wp.sl.dma0 c f) Finset.univ = f := View.write_whole_univ cc1_scratch0 g f
    rw [e]
    iapply (h _)
    isplitl [H1]; · iexact H1
    isplitl [H2]; · iexact H2
    isplitl [Hs]; · iexact Hs
    isplitl [HO]; · iexact HO
    iexact HT
  · rw [if_neg fun e => h0 ((first_iff i).mp e)]
    obtain rfl := hg h0
    exact h W

end Cert.KernelIdeal

end
-- ==== Proof.IdealRegs.lean ====
/-
  The two pipelines' proof data, each from the contents its region is entered with, and their body obligations.
-/
module

public import proofs.«01_k».proof.Proof.IdealStageA
public import proofs.«01_k».proof.Proof.IdealFetch
public import proofs.«01_k».proof.Proof.IdealItems

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (V : Dev nD → Valuation τ sig (Elt F))

/-! ## The first region -/

/-- The block of window `w` of the first pipeline at point `t`. -/
abbrev blkA (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows and the weights of point `t`. -/
def rowsA (c : Dev nD) (t : Fin cfg0.N) : FVec F S128x16x720 .f32 := inA (blkA V c 0 t)
def weightsA (c : Dev nD) (t : Fin cfg0.N) : FVec F S336x720 .f32 := blkA V c 1 t

/-- The first pipeline's proof data. -/
def dat0 (c : Dev nD) : Dat τ (Elt F) Unit ℕ (UU nD τ) ℕ cfg0 c where
  A w := V c (Pipeline.arrRef spec0 w)
  after w t := match w with
    | ⟨0, _⟩ => blkA V c 0 t
    | ⟨1, _⟩ => blkA V c 1 t
    | ⟨2, _⟩ => seqs (rowsA V c t) (weightsA V c t)
    | ⟨3, _⟩ => avg (rowsA V c t)
    | ⟨4, _⟩ => std (rowsA V c t)
  Φ _ := Pipeline.scopedRest (Ix := Unit) (Name := ℕ) (U := UU nD τ) (Lvl := ℕ) (Val := Elt F) spec0 c
  q _ := fullShare
  owed _ := 0

theorem before0_0 (c : Dev nD) (t : Fin cfg0.N) (d : (cfg0.win 0).block.Idx → Elt F (cfg0.win 0).elt) : (dat0 V c).before 0 t d = blkA V c 0 t :=
  (Dat.before_in_eq_fetched (dat0 V c) 0 rfl (fun _ => rfl) (fun _ _ _ => rfl) (fun _ => rfl) t d).trans rfl

theorem before0_1 (c : Dev nD) (t : Fin cfg0.N) (d : (cfg0.win 1).block.Idx → Elt F (cfg0.win 1).elt) : (dat0 V c).before 1 t d = blkA V c 1 t :=
  (Dat.before_in_eq_fetched (dat0 V c) 1 rfl (fun _ => rfl) (fun _ _ _ => rfl) (fun _ => rfl) t d).trans rfl

theorem body0 (c : Dev nD) : BodyObligation (dat0 V c) (defs₀ (F := F)) Variants.none () Set.univ := fun t => by
  rw [bigSep_W0, bigSep_W0]
  show iprop(_ ∗ _ ∗ _) ⊢ wpB c (cc0__stage_a_body (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4))) _
  iintro ⟨HΦ, HO, ⟨%d0, H0⟩, ⟨%d1, H1⟩, ⟨%d2, H2⟩, ⟨%d3, H3⟩, ⟨%d4, H4⟩⟩
  iapply (stageA_wp (P := iprop((dat0 V c).Φ t.castSucc ∗ (dat0 V c).owesAt () t.castSucc)) (win0_0.stage (cfg0.slots t 0)) (win0_1.stage (cfg0.slots t 1)) (win0_2.stage (cfg0.slots t 2)) (win0_3.stage (cfg0.slots t 3)) (win0_4.stage (cfg0.slots t 4))
    (blkA V c 0 t) (blkA V c 1 t) c (grid0.coords t) _ _ _ _ _ ((dat0 V c).before 2 t d2) ((dat0 V c).before 3 t d3) ((dat0 V c).before 4 t d4))
  · rw [show (dat0 V c).Φ t.succ = (dat0 V c).Φ t.castSucc from rfl, show (dat0 V c).owesAt () t.succ = (dat0 V c).owesAt () t.castSucc from rfl]
    unfold StA
    iintro ⟨H0, H1, H2, H3, H4, HΦ, HO⟩
    isplitl [HΦ]; · iexact HΦ
    isplitl [HO]; · iexact HO
    isplitl [H0]; · iexact H0
    isplitl [H1]; · iexact H1
    isplitl [H2]; · iexact H2
    isplitl [H3]; · iexact H3
    iexact H4
  · rw [before0_0, before0_1]
    unfold StA
    isplitl [H0]; · iexact H0
    isplitl [H1]; · iexact H1
    isplitl [H2]; · iexact H2
    isplitl [H3]; · iexact H3
    isplitl [H4]; · iexact H4
    isplitl [HΦ]; · iexact HΦ
    iexact HO

/-! ## The second region -/

/-- The block of window `w` of the second pipeline at point `t`. -/
abbrev blkB (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The inputs of point `t`. -/
def insB (c : Dev nD) (t : Fin cfg1.N) : Ins F where
  L := blkB V c 0 t
  S := blkB V c 1 t
  D := blkB V c 2 t
  WF := blkB V c 3 t
  WC := blkB V c 4 t
  LW := blkB V c 5 t
  MU := blkB V c 6 t
  SD := blkB V c 7 t
  SQ := V c main_call0_v31_0

variable (hok : ∀ c t, (insB V c t).Ok (grid1.coords t))

/-- The scoped buffers the second region leaves alone, each at something. -/
def restB (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The second region's invariant before point `n`: the sequences, their copy once the first point has run, the copy's
    semaphore at zero. -/
def inv1 (c : Dev nD) (n : Nat) : sProp 𝕄 :=
  iprop(pt c (Memref.whole main_call0_v31_0) (V c main_call0_v31_0)
    ∗ (∃ g, ⌜n ≠ 0 → g = V c main_call0_v31_0⌝ ∗ pt c (Memref.whole cc1_scratch0) g)
    ∗ semVal ((c : Thread nD τ), osem1 0) 0 ∗ restB c)

/-- The second pipeline's proof data. -/
def dat1 (c : Dev nD) : Dat τ (Elt F) Unit ℕ (UU nD τ) ℕ cfg1 c where
  A w := V c (Pipeline.arrRef spec1 w)
  after w t := match w with
    | ⟨0, _⟩ => blkB V c 0 t
    | ⟨1, _⟩ => blkB V c 1 t
    | ⟨2, _⟩ => blkB V c 2 t
    | ⟨3, _⟩ => blkB V c 3 t
    | ⟨4, _⟩ => blkB V c 4 t
    | ⟨5, _⟩ => blkB V c 5 t
    | ⟨6, _⟩ => blkB V c 6 t
    | ⟨7, _⟩ => blkB V c 7 t
    | ⟨8, _⟩ => G10 (grid1.coords t) (insB V c t) (hok c t)
    | ⟨9, _⟩ => G11 (grid1.coords t) (insB V c t) (hok c t)
  Φ t := inv1 V c t.val
  q _ := fullShare
  owed _ := 0

section
variable (c : Dev nD) (t : Fin cfg1.N)

theorem before1_0 (d : (cfg1.win 0).block.Idx → Elt F (cfg1.win 0).elt) : (dat1 V hok c).before 0 t d = blkB V c 0 t :=
  (Dat.before_in_eq_fetched (dat1 V hok c) 0 rfl (fun _ => rfl) (fun _ _ _ => rfl) (fun _ => rfl) t d).trans rfl
theorem before1_1 (d : (cfg1.win 1).block.Idx → Elt F (cfg1.win 1).elt) : (dat1 V hok c).before 1 t d = blkB V c 1 t :=
  (Dat.before_in_eq_fetched (dat1 V hok c) 1 rfl (fun _ => rfl) (fun _ _ _ => rfl) (fun _ => rfl) t d).trans rfl
theorem before1_2 (d : (cfg1.win 2).block.Idx → Elt F (cfg1.win 2).elt) : (dat1 V hok c).before 2 t d = blkB V c 2 t :=
  (Dat.before_in_eq_fetched (dat1 V hok c) 2 rfl (fun _ => rfl) (fun _ _ _ => rfl) (fun _ => rfl) t d).trans rfl
theorem before1_3 (d : (cfg1.win 3).block.Idx → Elt F (cfg1.win 3).elt) : (dat1 V hok c).before 3 t d = blkB V c 3 t :=
  (Dat.before_in_eq_fetched (dat1 V hok c) 3 rfl (fun _ => rfl) (fun _ _ _ => rfl) (fun _ => rfl) t d).trans rfl
theorem before1_4 (d : (cfg1.win 4).block.Idx → Elt F (cfg1.win 4).elt) : (dat1 V hok c).before 4 t d = blkB V c 4 t :=
  (Dat.before_in_eq_fetched (dat1 V hok c) 4 rfl (fun _ => rfl) (fun _ _ _ => rfl) (fun _ => rfl) t d).trans rfl
theorem before1_5 (d : (cfg1.win 5).block.Idx → Elt F (cfg1.win 5).elt) : (dat1 V hok c).before 5 t d = blkB V c 5 t :=
  (Dat.before_in_eq_fetched (dat1 V hok c) 5 rfl (fun _ => rfl) (fun _ _ _ => rfl) (fun _ => rfl) t d).trans rfl
theorem before1_6 (d : (cfg1.win 6).block.Idx → Elt F (cfg1.win 6).elt) : (dat1 V hok c).before 6 t d = blkB V c 6 t :=
  (Dat.before_in_eq_fetched (dat1 V hok c) 6 rfl (fun _ => rfl) (fun _ _ _ => rfl) (fun _ => rfl) t d).trans rfl
theorem before1_7 (d : (cfg1.win 7).block.Idx → Elt F (cfg1.win 7).elt) : (dat1 V hok c).before 7 t d = blkB V c 7 t :=
  (Dat.before_in_eq_fetched (dat1 V hok c) 7 rfl (fun _ => rfl) (fun _ _ _ => rfl) (fun _ => rfl) t d).trans rfl

theorem coords1 : ∀ t : Fin grid1.N, (grid1.coords t 0).val = t.val := by
  intro t
  rcases fin_N1 t with rfl | rfl | rfl | rfl | rfl | rfl | rfl <;> rfl

end

theorem own_pt (c : Dev nD) (b : Ref sig .tc) (X : b.ty.Contents (Elt F)) : (own' c (Memref.whole b) X : sProp 𝕄) ⊢ pt c (Memref.whole b) X := by
  unfold own'
  rw [owns_whole_eq]
  iintro ⟨%f, %hf, Hs⟩
  subst hf
  iexact Hs

theorem pt_own (c : Dev nD) (b : Ref sig .tc) (X : b.ty.Contents (Elt F)) : (pt c (Memref.whole b) X : sProp 𝕄) ⊢ own' c (Memref.whole b) X := by
  unfold own'
  rw [owns_whole_eq]
  iintro Hs
  iexists X
  isplitl []; · ipureintro; rfl
  iexact Hs

theorem body1 (c : Dev nD) : BodyObligation (dat1 V hok c) (defs₀ (F := F)) Variants.none () Set.univ := fun t => by
  rw [bigSep_W1, bigSep_W1]
  show iprop(inv1 V c t.val ∗ _ ∗ _) ⊢ wpB c (cc1__stage_b_body (grid1.coords t) (Memref.whole main_call0_v31_0) (Memref.isWhole_whole _) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (Memref.whole cc1_scratch0) (Memref.isWhole_whole _) cc1_scratch1) _
  rw [body_eq]
  unfold inv1 Dat.owesAt Pipeline.owesWithin
  iintro ⟨⟨Hq, ⟨%g, %hg, Hs⟩, Hsem, Hr⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before1_0, before1_1, before1_2, before1_3, before1_4, before1_5, before1_6, before1_7]
  iapply (fetch_wp c (grid1.coords t) (V c main_call0_v31_0) g (fun h => hg (coords1 t ▸ h)) W
    (T := iprop(restB c ∗ owns (c : Thread nD τ) (win1_0.stage (cfg1.slots t 0)) fullShare (insB V c t).L ∗ owns (c : Thread nD τ) (win1_1.stage (cfg1.slots t 1)) fullShare (insB V c t).S
      ∗ owns (c : Thread nD τ) (win1_2.stage (cfg1.slots t 2)) fullShare (insB V c t).D ∗ owns (c : Thread nD τ) (win1_3.stage (cfg1.slots t 3)) fullShare (insB V c t).WF
      ∗ owns (c : Thread nD τ) (win1_4.stage (cfg1.slots t 4)) fullShare (insB V c t).WC ∗ owns (c : Thread nD τ) (win1_5.stage (cfg1.slots t 5)) fullShare (insB V c t).LW
      ∗ owns (c : Thread nD τ) (win1_6.stage (cfg1.slots t 6)) fullShare (insB V c t).MU ∗ owns (c : Thread nD τ) (win1_7.stage (cfg1.slots t 7)) fullShare (insB V c t).SD
      ∗ owns (c : Thread nD τ) (win1_8.stage (cfg1.slots t 8)) fullShare ((dat1 V hok c).before 8 t d8) ∗ owns (c : Thread nD τ) (win1_9.stage (cfg1.slots t 9)) fullShare ((dat1 V hok c).before 9 t d9))))
  · intro W'
    iintro ⟨Hq, Hs, Hsem, HO, Hr, H0, H1, H2, H3, H4, H5, H6, H7, H8, H9⟩
    iapply (chans_wp (P := iprop(pt c (Memref.whole main_call0_v31_0) (V c main_call0_v31_0) ∗ semVal ((c : Thread nD τ), osem1 0) 0 ∗ owes (c : Thread nD τ) 0 W' ∗ restB c))
      (grid1.coords t) _ _ _ _ _ _ _ _ _ _ _ (insB V c t) (hok c t) c ?_ 48 0 (Nat.le_refl 48) rfl ((dat1 V hok c).before 8 t d8) ((dat1 V hok c).before 9 t d9)
      (fun y hy => absurd hy (Nat.not_lt_zero _)) (fun y hy => absurd hy (by rintro (h | ⟨-, h⟩) <;> exact Nat.not_lt_zero _ h)))
    · rw [show (dat1 V hok c).Φ t.succ = inv1 V c (t.val + 1) from rfl]
      unfold St inv1
      iintro ⟨H0, H1, H2, H3, H4, H5, H6, H7, Hs, H8, H9, Hq, Hsem, HO, Hr⟩
      isplitl [Hq Hs Hsem Hr]
      · isplitl [Hq]; · iexact Hq
        isplitl [Hs]
        · iexists (V c main_call0_v31_0)
          isplitl []; · ipureintro; exact fun _ => rfl
          iapply (own_pt c cc1_scratch0 _)
          iexact Hs
        isplitl [Hsem]; · iexact Hsem
        iexact Hr
      isplitl [HO]
      · iexists W'; isplitr; · ipureintro; exact fun _ _ => Or.inl trivial
        iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · unfold St
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [Hs]
      · iapply (pt_own c cc1_scratch0 _)
        iexact Hs
      isplitl [H8]; · iexact H8
      isplitl [H9]; · iexact H9
      isplitl [Hq]; · iexact Hq
      isplitl [Hsem]; · iexact Hsem
      isplitl [HO]; · iexact HO
      iexact Hr
  · isplitl [Hq]; · iexact Hq
    isplitl [Hs]; · iexact Hs
    isplitl [Hsem]; · iexact Hsem
    isplitl [HO]; · iexact HO
    isplitl [Hr]; · iexact Hr
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Cert.KernelIdeal

end
-- ==== Proof.IdealSegs.lean ====
/-
  The two regions' segment records: each enters with the unscoped buffers at one valuation and leaves with them at another that
  has the region's results.
-/
module

public import proofs.«01_k».proof.Proof.IdealRegs
public import Idealize.ShloMosaic.Lib.Pipeline.RegionsLoop

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- No level is assigned to any counter. -/
abbrev L0 : GSem nD τ sig → Finset Unit := fun _ => ∅
abbrev lv0 : GSem nD τ sig → Unit → ℕ := fun _ _ => 0

variable (Va Vb : Dev nD → Valuation τ sig (Elt F)) (hok : ∀ c t, (insB Vb c t).Ok (grid1.coords t))

/-- Both pipelines' proof data, each at the valuation its region is entered with. -/
def dats : (p : Fin 2) → (c : Dev nD) → Dat τ (Elt F) Unit ℕ (UU nD τ) ℕ (cfgs p) c
  | ⟨0, _⟩ => dat0 Va
  | ⟨1, _⟩ => dat1 Vb hok

/-- A core that owes nothing. -/
abbrev idle (c : Dev nD) : sProp 𝕄 := iprop(∃ W, owes (c : Thread nD τ) (0 : CellTallies nD τ sig Unit) W)

variable (Vp : Dev nD → Valuation τ sig (Elt F))

set_option maxHeartbeats 1600000 in
set_option backward.isDefEq.respectTransparency.types false in
/-- The first region. -/
def reg0 (h2 : ∀ c, Vp c main_call0_v31_0 = (dat0 Va c).arrAt 2 cfg0.N) (h3 : ∀ c, Vp c main_call0_v31_1 = (dat0 Va c).arrAt 3 cfg0.N)
    (h4 : ∀ c, Vp c main_call0_v31_2 = (dat0 Va c).arrAt 4 cfg0.N)
    (hne : ∀ c (b : Ref sig .tc), b ≠ main_call0_v31_0 → b ≠ main_call0_v31_1 → b ≠ main_call0_v31_2 → Vp c b = Va c b) :
    Pipeline.RegionSeg (pcfgs (F := F)) adm (dats Va Vb hok) () defs₀ Variants.none L0 lv0 0 where
  win := launch0.win.to₀
  block_pos := launch0.block_pos
  stage_whole := launch0.stage_whole
  K := PEmpty
  osem k := k.elim
  ho := Pipeline.OwnSemFacts.none _
  hbody c := (body0 Va c).loose
  hwaits := Pipeline.hwaits_of_owed_zero _ _ _ _ L0 lv0 0 fun _ _ => rfl
  pre c := iprop(unscopedBufs c (fun b => Va c b) ∗ idle c)
  post c := iprop(unscopedBufs c (fun b => Vp c b) ∗ idle c)
  X _ := BI.emp
  Y _ := BI.emp
  Z c := Pipeline.unscopedRest (Ix := Unit) (Name := ℕ) (U := UU nD τ) (Lvl := ℕ) spec0 c (fun b => Va c b)
  hentry c := by
    rw [Pipeline.ownSems0_none]
    have hsplit := Pipeline.arrays_of_unscopedBufs (p := 0) (pcfgs (F := F)) adm (dats Va Vb hok) launch0.win launch0.arr_whole c
      ((dats Va Vb hok 0 c).share_full fun _ => rfl) (fun b => Va c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats Va Vb hok 0 c).Φ 0 = Pipeline.scopedRest (Ix := Unit) (Name := ℕ) (U := UU nD τ) (Lvl := ℕ) (Val := Elt F) spec0 c from rfl]
    iintro ⟨-, -, Hr⟩; iexact Hr
  hout c := by
    rw [Pipeline.ownSems0_none, show (dats Va Vb hok 0 c).Φ (Fin.last _) = Pipeline.scopedRest (Ix := Unit) (Name := ℕ) (U := UU nD τ) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU nD τ) (Lvl := ℕ) launch0.win launch0.arr_whole c
      (dats Va Vb hok) ((dats Va Vb hok 0 c).share_full fun _ => rfl) (fun b => Va c b) (fun b => Vp c b) ((dats Va Vb hok 0 c).arrAt · cfg0.N)
      (fun w => by
        fin_cases w
        · exact ((dats Va Vb hok 0 c).arrAt_in 0 rfl _).trans (hne c main_call0_v30 (by decide) (by decide) (by decide)).symm
        · exact ((dats Va Vb hok 0 c).arrAt_in 1 rfl _).trans (hne c main_arg3 (by decide) (by decide) (by decide)).symm
        · exact (h2 c).symm
        · exact (h3 c).symm
        · exact (h4 c).symm)
      (fun b hb => hne c b (fun h => hb (h ▸ Finset.mem_image.mpr ⟨2, Finset.mem_univ _, rfl⟩)) (fun h => hb (h ▸ Finset.mem_image.mpr ⟨3, Finset.mem_univ _, rfl⟩))
        (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The unscoped buffers outside the second region's windows, the sequences' apart. -/
def offB (W : Dev nD → Valuation τ sig (Elt F)) (c : Dev nD) : sProp 𝕄 :=
  bigSep (((Finset.univ.filter fun b : Ref sig .tc => ¬ b.isScoped) \ Finset.univ.image (Pipeline.arrRef spec1)).erase main_call0_v31_0)
    fun b => ((c : Thread nD τ).loc b) ↦{fullShare} (W c b)

theorem seq_mem : main_call0_v31_0 ∈ (Finset.univ.filter fun b : Ref sig .tc => ¬ b.isScoped) \ Finset.univ.image (Pipeline.arrRef spec1) := by decide

/-- The sequences' buffer out of the rest of the unscoped buffers. -/
theorem rest_split (W : Dev nD → Valuation τ sig (Elt F)) (c : Dev nD) :
    (Pipeline.unscopedRest (Ix := Unit) (Name := ℕ) (U := UU nD τ) (Lvl := ℕ) spec1 c (fun b => W c b) : sProp 𝕄)
      = iprop(pt c (Memref.whole main_call0_v31_0) (W c main_call0_v31_0) ∗ offB W c) := by
  unfold Pipeline.unscopedRest offB
  exact BI.bigSep_erase seq_mem

theorem sems1 (c : Dev nD) : (Pipeline.ownSems0 (Ix := Unit) (Name := ℕ) (U := UU nD τ) (Lvl := ℕ) (Val := Elt F) (τ := τ) osem1 c : sProp 𝕄)
    = semVal ((c : Thread nD τ), osem1 0) 0 :=
  Pipeline.ownSems0_eq_of_list c osem1 [0] (by decide) (by decide)

theorem sems1_facts : Pipeline.OwnSemFacts spec1 osem1 := by decide

theorem inv1_in (c : Dev nD) (W : Dev nD → Valuation τ sig (Elt F)) :
    (iprop(pt c (Memref.whole main_call0_v31_0) (W c main_call0_v31_0) ∗ semVal ((c : Thread nD τ), osem1 0) 0
      ∗ Pipeline.scopedRest (Ix := Unit) (Name := ℕ) (U := UU nD τ) (Lvl := ℕ) (Val := Elt F) spec1 c) : sProp 𝕄) ⊢ inv1 W c 0 := by
  rw [scopedRest1_eq]
  unfold inv1 restB
  iintro ⟨Hq, Hs, H0, H1, H2, H3, H4, H5, H6, H7, H8, %g, H9⟩
  isplitl [Hq]; · iexact Hq
  isplitl [H9]
  · iexists g
    isplitl []; · ipureintro; exact fun h => absurd rfl h
    iexact H9
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem inv1_out (c : Dev nD) (W : Dev nD → Valuation τ sig (Elt F)) (n : Nat) :
    inv1 W c n ⊢ (iprop(pt c (Memref.whole main_call0_v31_0) (W c main_call0_v31_0) ∗ semVal ((c : Thread nD τ), osem1 0) 0
      ∗ Pipeline.scopedRest (Ix := Unit) (Name := ℕ) (U := UU nD τ) (Lvl := ℕ) (Val := Elt F) spec1 c) : sProp 𝕄) := by
  rw [scopedRest1_eq]
  unfold inv1 restB
  iintro ⟨Hq, ⟨%g, -, H9⟩, Hs, H0, H1, H2, H3, H4, H5, H6, H7, H8⟩
  isplitl [Hq]; · iexact Hq
  isplitl [Hs]; · iexact Hs
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexists g
  iexact H9

set_option maxHeartbeats 1600000 in
set_option backward.isDefEq.respectTransparency.types false in
/-- The second region. -/
def reg1 (h8 : ∀ c, Vp c main_call0_v36_0 = (dat1 Vb hok c).arrAt 8 cfg1.N) (h9 : ∀ c, Vp c main_call0_v36_1 = (dat1 Vb hok c).arrAt 9 cfg1.N)
    (hne : ∀ c (b : Ref sig .tc), b ≠ main_call0_v36_0 → b ≠ main_call0_v36_1 → Vp c b = Vb c b) :
    Pipeline.RegionSeg (pcfgs (F := F)) adm (dats Va Vb hok) () defs₀ Variants.none L0 lv0 1 where
  win := launch1.win.to₀
  block_pos := launch1.block_pos
  stage_whole := launch1.stage_whole
  K := Fin 1
  osem := osem1
  ho := sems1_facts
  hbody c := (body1 Vb hok c).loose
  hwaits := Pipeline.hwaits_of_owed_zero _ _ _ _ L0 lv0 1 fun _ _ => rfl
  pre c := iprop(unscopedBufs c (fun b => Vb c b) ∗ idle c)
  post c := iprop(unscopedBufs c (fun b => Vp c b) ∗ idle c)
  X c := iprop(pt c (Memref.whole main_call0_v31_0) (Vb c main_call0_v31_0) ∗ semVal ((c : Thread nD τ), osem1 0) 0)
  Y c := pt c (Memref.whole main_call0_v31_0) (Vb c main_call0_v31_0)
  Z c := offB Vb c
  hentry c := by
    rw [sems1]
    have hsplit := Pipeline.arrays_of_unscopedBufs (p := 1) (pcfgs (F := F)) adm (dats Va Vb hok) launch1.win launch1.arr_whole c
      ((dats Va Vb hok 1 c).share_full fun _ => rfl) (fun b => Vb c b) fun _ => rfl
    have hr := Entails.of_eq (rest_split Vb c)
    iintro ⟨⟨Hub, HO⟩, Hs, -⟩
    ihave H := hsplit $$ Hub
    icases H with ⟨Ha, Hrest⟩
    ihave H := hr $$ Hrest
    icases H with ⟨Hq, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hq Hs]
    · isplitl [Hq]; · iexact Hq
      iexact Hs
    iexact Hrest
  hin c := by
    rw [show (dats Va Vb hok 1 c).Φ 0 = inv1 Vb c 0 from rfl]
    iintro ⟨⟨Hq, Hs⟩, -, Hr⟩
    iapply (inv1_in c Vb)
    isplitl [Hq]; · iexact Hq
    isplitl [Hs]; · iexact Hs
    iexact Hr
  hout c := by
    rw [sems1, show (dats Va Vb hok 1 c).Φ (Fin.last _) = inv1 Vb c cfg1.N from rfl]
    exact inv1_out c Vb _
  hexit c := by
    have hjoin := Pipeline.unscopedBufs_of_arrays (p := 1) (pcfgs (F := F)) adm (Ix := Unit) (Name := ℕ) (U := UU nD τ) (Lvl := ℕ) launch1.win launch1.arr_whole c
      (dats Va Vb hok) ((dats Va Vb hok 1 c).share_full fun _ => rfl) (fun b => Vb c b) (fun b => Vp c b) ((dats Va Vb hok 1 c).arrAt · cfg1.N)
      (fun w => by
        fin_cases w
        · exact ((dats Va Vb hok 1 c).arrAt_in 0 rfl _).trans (hne c main_call0_v28 (by decide) (by decide)).symm
        · exact ((dats Va Vb hok 1 c).arrAt_in 1 rfl _).trans (hne c main_call0_v14 (by decide) (by decide)).symm
        · exact ((dats Va Vb hok 1 c).arrAt_in 2 rfl _).trans (hne c main_call0_v18 (by decide) (by decide)).symm
        · exact ((dats Va Vb hok 1 c).arrAt_in 3 rfl _).trans (hne c main_call0_v21 (by decide) (by decide)).symm
        · exact ((dats Va Vb hok 1 c).arrAt_in 4 rfl _).trans (hne c main_call0_v26 (by decide) (by decide)).symm
        · exact ((dats Va Vb hok 1 c).arrAt_in 5 rfl _).trans (hne c main_call0_v35 (by decide) (by decide)).symm
        · exact ((dats Va Vb hok 1 c).arrAt_in 6 rfl _).trans (hne c main_call0_v32 (by decide) (by decide)).symm
        · exact ((dats Va Vb hok 1 c).arrAt_in 7 rfl _).trans (hne c main_call0_v33 (by decide) (by decide)).symm
        · exact (h8 c).symm
        · exact (h9 c).symm)
      (fun b hb => hne c b (fun h => hb (h ▸ Finset.mem_image.mpr ⟨8, Finset.mem_univ _, rfl⟩)) (fun h => hb (h ▸ Finset.mem_image.mpr ⟨9, Finset.mem_univ _, rfl⟩)))
    have hr := Entails.of_eq (rest_split Vb c).symm
    iintro ⟨Ha, HO, Hq, Hrest⟩
    imodintro
    isplitl [Ha Hq Hrest]
    · iapply hjoin
      isplitl [Ha]; · iexact Ha
      iapply hr
      isplitl [Hq]; · iexact Hq
      iexact Hrest
    unfold Pipeline.Dat.owesAt Pipeline.owesWithin
    icases HO with ⟨%W, -, HO⟩; iexists W; iexact HO

end Cert.KernelIdeal

end
-- ==== Proof.IdealRun.lean ====
/-
  The whole run, given that every slice of the second region's rows is inside its buffer.
-/
module

public import proofs.«01_k».proof.Proof.IdealSegs

@[expose] public section

noncomputable section

namespace Cert.KernelIdeal

open Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- Overwriting three places with the values another function has there gives that function, if it differs nowhere else. -/
theorem update3 {α : Type} [DecidableEq α] {β : α → Type} (f g : ∀ x, β x) (a b d : α) (h : ∀ x, x ≠ a → x ≠ b → x ≠ d → g x = f x) :
    Function.update (Function.update (Function.update g a (f a)) b (f b)) d (f d) = f := by
  funext x
  by_cases hd : x = d
  · subst hd; rw [Function.update_self]
  rw [Function.update_of_ne hd]
  by_cases hb : x = b
  · subst hb; rw [Function.update_self]
  rw [Function.update_of_ne hb]
  by_cases ha : x = a
  · subst ha; rw [Function.update_self]
  rw [Function.update_of_ne ha]
  exact h x ha hb hd

variable (m : (ℓ : Loc nD τ sig) → Buf (Elt F) ℓ)

/-- The valuation after the first region. -/
def W2 (c : Dev nD) : Valuation τ sig (Elt F) :=
  Function.update (Function.update (Function.update (V1 m c) main_call0_v31_0 ((dat0 (V1 m) c).arrAt 2 cfg0.N)) main_call0_v31_1 ((dat0 (V1 m) c).arrAt 3 cfg0.N))
    main_call0_v31_2 ((dat0 (V1 m) c).arrAt 4 cfg0.N)

/-- The valuation the second region is entered with. -/
def W3 (c : Dev nD) : Valuation τ sig (Elt F) := StableHlo.after hostOps1 (W2 m c)

theorem ne_dev {a b : Ref sig .tc} (h : a ≠ b) : (Proc.devRef .tc a : DevRef τ sig) ≠ Proc.devRef .tc b := StableHlo.devRef_ne_of_ne h

theorem W2_0 (c : Dev nD) : W2 m c main_call0_v31_0 = (dat0 (V1 m) c).arrAt 2 cfg0.N := by
  unfold W2
  rw [Function.update_of_ne (ne_dev (by decide)), Function.update_of_ne (ne_dev (by decide)), Function.update_self]

theorem W2_1 (c : Dev nD) : W2 m c main_call0_v31_1 = (dat0 (V1 m) c).arrAt 3 cfg0.N := by
  unfold W2
  rw [Function.update_of_ne (ne_dev (by decide)), Function.update_self]

theorem W2_2 (c : Dev nD) : W2 m c main_call0_v31_2 = (dat0 (V1 m) c).arrAt 4 cfg0.N := by
  unfold W2
  rw [Function.update_self]

theorem W2_of (c : Dev nD) (b : DevRef τ sig) (h0 : b ≠ Proc.devRef .tc main_call0_v31_0) (h1 : b ≠ Proc.devRef .tc main_call0_v31_1) (h2 : b ≠ Proc.devRef .tc main_call0_v31_2) :
    W2 m c b = V1 m c b := by
  unfold W2
  rw [Function.update_of_ne h2, Function.update_of_ne h1, Function.update_of_ne h0]

/-- Every slice of the rows the second region takes is inside the buffer. -/
abbrev Fits : Prop := ∀ c t, (insB (W3 m) c t).Ok (grid1.coords t)

variable (hok : Fits m)

/-- The valuation after the second region. -/
def W4 (c : Dev nD) : Valuation τ sig (Elt F) :=
  Function.update (Function.update (W3 m c) main_call0_v36_0 ((dat1 (W3 m) hok c).arrAt 8 cfg1.N)) main_call0_v36_1 ((dat1 (W3 m) hok c).arrAt 9 cfg1.N)

theorem W4_0 (c : Dev nD) : W4 m hok c main_call0_v36_0 = (dat1 (W3 m) hok c).arrAt 8 cfg1.N := by
  unfold W4
  rw [Function.update_of_ne (ne_dev (by decide)), Function.update_self]

theorem W4_1 (c : Dev nD) : W4 m hok c main_call0_v36_1 = (dat1 (W3 m) hok c).arrAt 9 cfg1.N := by
  unfold W4
  rw [Function.update_self]

theorem W4_of (c : Dev nD) (b : DevRef τ sig) (h0 : b ≠ Proc.devRef .tc main_call0_v36_0) (h1 : b ≠ Proc.devRef .tc main_call0_v36_1) :
    W4 m hok c b = W3 m c b := by
  unfold W4
  rw [Function.update_of_ne h1, Function.update_of_ne h0]

/-- What the regions leave. -/
def outs : Outs (F := F) := fun J r c => if J = 2 then W2 m c r else W4 m hok c r

theorem V2_eq (c : Dev nD) : V2 m (outs m hok) c = W2 m c :=
  update3 (W2 m c) (V1 m c) _ _ _ fun x h0 h1 h2 => (W2_of m c x h0 h1 h2).symm

theorem V3_eq (c : Dev nD) : V3 m (outs m hok) c = W3 m c := by
  unfold W3
  rw [← V2_eq m hok]

theorem V4_eq (c : Dev nD) : V4 m (outs m hok) c = W4 m hok c := by
  unfold V4
  rw [V3_eq]
  exact update3 (W4 m hok c) (W3 m c) _ _ _ fun x h0 h1 h2 => (W4_of m hok c x h0 h1).symm

/-- The launch element: the rounds' tokens, and nothing of the counters. -/
def u₀ : UU nD τ := (initOf (Pipeline.cells cfgs cellOf_inj) (Pipeline.launchToks cfgs cellOf_inj), 1)

/-- The rounds' algebra inside the whole one. -/
abbrev EP : Emb (URounds (GSem nD τ sig) Unit) 𝕄 := embL

set_option maxHeartbeats 1600000 in
set_option backward.isDefEq.respectTransparency.types false in
/-- Every execution ends, with the arguments as they were, the two results at the valuation `W4` followed by the last host
    stretch, and every semaphore at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v0_0) = StableHlo.after hostOps2 (W4 m hok c) main_v0_0
      ∧ r.2.mem ((c.tc : Thread nD τ).loc main_v0_1) = StableHlo.after hostOps2 (W4 m hok c) main_v0_1)
      ∧ r.2.sem = fun _ => 0) := by
  have h := run_cond (F := F) m EP () Variants.none L0 lv0 (fun _ _ => rfl) ρ (outs m hok) (dats (V1 m) (W3 m) hok) 0 (fun _ => iprop(emp)) u₀
    (by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => idle c)
    (by
      refine Pipeline.initEach L0 lv0 fun c => ?_
      iintro ⟨⟨-, HO, -, -, -⟩, -⟩
      imodintro
      iexists ∅; iexact HO)
    (fun c => .rfl)
    (reg0 (V1 m) (W3 m) hok (W2 m) (W2_0 m) (W2_1 m) (W2_2 m) fun c b h0 h1 h2 => W2_of m c b (ne_dev h0) (ne_dev h1) (ne_dev h2))
    (fun c => sep_mono (Entails.of_eq (Pipeline.unscopedBufs_held c (V1 m c)).symm) .rfl)
    (fun c => sep_mono (Entails.of_eq ((Pipeline.unscopedBufs_held c (W2 m c)).trans (by rw [V2_eq]))) .rfl)
    (reg1 (V1 m) (W3 m) hok (W4 m hok) (W4_0 m hok) (W4_1 m hok) fun c b h0 h1 => W4_of m hok c b (ne_dev h0) (ne_dev h1))
    (fun c => sep_mono (Entails.of_eq (((by rw [V3_eq]) : _ = _).trans (Pipeline.unscopedBufs_held c (W3 m c)).symm)) .rfl)
    (fun c => sep_mono (Entails.of_eq ((Pipeline.unscopedBufs_held c (W4 m hok c)).trans (by rw [V4_eq]))) .rfl)
  simp only [V5, V4_eq] at h
  exact h

end Cert.KernelIdeal

end
-- ==== Proof.IdealFit.lean ====
/-
  When every slice of the rows the second region takes is inside its buffer.
-/
module

public import proofs.«01_k».proof.Proof.IdealHost
public import proofs.«01_k».proof.Proof.IdealRun
public import Idealize.ShloMosaic.Lib.Pipeline.Value
public import Idealize.ShloMosaic.Lib.KernelVsHost

@[expose] public section

noncomputable section

namespace Cert.KernelIdeal

open Cert.KernelIdeal.Gen
open Idealize.ShloMosaic
open Idealize.ShloMosaic.TcCoe

variable {F : FTy → Type} [FloatOps F]

/-- The start rounded down to a multiple of 128. -/
theorem mult_toNat (s : BitVec 32) (h : s.toNat ≤ 720) : (k1_mult1 s).toNat = s.toNat / 128 * 128 := by
  have key : ∀ n : Fin 721, (k1_mult1 (BitVec.ofNat 32 n.val)).toNat = n.val / 128 * 128 := by decide +kernel
  have := key ⟨s.toNat, by omega⟩
  simpa using this

theorem chk_of (l s : BitVec 32) (hl : l.toNat < 384) (hs : s.toNat ≤ 720) : k1_chk1 l s := by
  have hm := mult_toNat s hs
  refine ⟨hm ▸ Dvd.intro_left _ rfl, fun a => ?_⟩
  fin_cases a
  · show l.toNat + 1 ≤ 384
    omega
  · show 0 + 16 ≤ 16
    omega
  · show (k1_mult1 s).toNat + 512 ≤ 1152
    omega

theorem ok_of (i : grid1.Coords) (x : Ins F) (hL : ∀ j : S336x8.Idx, (x.L j : BitVec 32).toNat < 384) (hS : ∀ j : S336x8.Idx, (x.S j : BitVec 32).toNat ≤ 720) : x.Ok i :=
  fun c k hc hk => chk_of _ _ (hL _) (hS _)

theorem pad_all (P : BitVec 32 → Prop) (h0 : P 0#32) (v : IVec S2568 32) (hv : ∀ i, P (v i)) (j : S336x8.Idx) : P (padI (F := F) v j : BitVec 32) := by
  unfold padI pad
  split
  · exact hv _
  · exact h0

variable (V : Dev nD → Valuation τ sig (Elt F)) (c : Dev nD) (t : Fin cfg1.N)

theorem insB_L : (insB V c t).L = V c main_call0_v28 := by
  funext j
  show V c main_call0_v28 _ = _
  congr 1
  funext a
  fin_cases a <;> exact Fin.ext (by show 0 * _ + 1 * _ = _; omega)

theorem insB_S : (insB V c t).S = V c main_call0_v14 := by
  funext j
  show V c main_call0_v14 _ = _
  congr 1
  funext a
  fin_cases a <;> exact Fin.ext (by show 0 * _ + 1 * _ = _; omega)

theorem insB_D : (insB V c t).D = V c main_call0_v18 := by
  funext j
  show V c main_call0_v18 _ = _
  congr 1
  funext a
  fin_cases a <;> exact Fin.ext (by show 0 * _ + 1 * _ = _; omega)

theorem insB_WF : (insB V c t).WF = V c main_call0_v21 := by
  funext j
  show V c main_call0_v21 _ = _
  congr 1
  funext a
  fin_cases a <;> exact Fin.ext (by show 0 * _ + 1 * _ = _; omega)

theorem insB_WC : (insB V c t).WC = V c main_call0_v26 := by
  funext j
  show V c main_call0_v26 _ = _
  congr 1
  funext a
  fin_cases a <;> exact Fin.ext (by show 0 * _ + 1 * _ = _; omega)

theorem after1_v28 (W : Valuation τ sig (Elt F)) : StableHlo.after hostOps1 W main_call0_v28 = W main_call0_v28 := rfl
theorem after1_v14 (W : Valuation τ sig (Elt F)) : StableHlo.after hostOps1 W main_call0_v14 = W main_call0_v14 := rfl
theorem after1_v18 (W : Valuation τ sig (Elt F)) : StableHlo.after hostOps1 W main_call0_v18 = W main_call0_v18 := rfl
theorem after1_v21 (W : Valuation τ sig (Elt F)) : StableHlo.after hostOps1 W main_call0_v21 = W main_call0_v21 := rfl
theorem after1_v26 (W : Valuation τ sig (Elt F)) : StableHlo.after hostOps1 W main_call0_v26 = W main_call0_v26 := rfl
theorem after1_v31 (W : Valuation τ sig (Elt F)) : StableHlo.after hostOps1 W main_call0_v31_0 = W main_call0_v31_0 := rfl

variable (m : (ℓ : Loc nD τ sig) → Buf (Elt F) ℓ)

theorem W3_v28 : (W3 m c main_call0_v28 : Vec F S336x8 .i32) = padI (argL m c) :=
  (after1_v28 (W2 m c)).trans ((W2_of m c _ (by decide) (by decide) (by decide)).trans (V1_v28 m c))
theorem W3_v14 : (W3 m c main_call0_v14 : Vec F S336x8 .i32) = padI (startv (argS m c)) :=
  (after1_v14 (W2 m c)).trans ((W2_of m c _ (by decide) (by decide) (by decide)).trans (V1_v14 m c))
theorem W3_v18 : (W3 m c main_call0_v18 : Vec F S336x8 .i32) = padI (deltav (argS m c)) :=
  (after1_v18 (W2 m c)).trans ((W2_of m c _ (by decide) (by decide) (by decide)).trans (V1_v18 m c))
theorem W3_v21 : (W3 m c main_call0_v21 : Vec F S336x8 .f32) = padF (wfv (argS m c)) :=
  (after1_v21 (W2 m c)).trans ((W2_of m c _ (by decide) (by decide) (by decide)).trans (V1_v21 m c))
theorem W3_v26 : (W3 m c main_call0_v26 : Vec F S336x8 .f32) = padF (wcv (argS m c)) :=
  (after1_v26 (W2 m c)).trans ((W2_of m c _ (by decide) (by decide) (by decide)).trans (V1_v26 m c))
theorem W3_v35 : (W3 m c main_call0_v35 : Vec F S336x1x9 .f32) = lwv (argLW m c) :=
  (after1_v35 (W2 m c)).trans (congrArg lwv ((W2_of m c _ (by decide) (by decide) (by decide)).trans (V1_arg4 m c)))

/-- Every slice fits when the leaders name channels and the starts lie in the history. -/
theorem fits (hL : ∀ c i, (argL m c i : BitVec 32).toNat < 384) (hS : ∀ c i, (startv (argS m c) i : BitVec 32).toNat ≤ 720) : Fits m := by
  intro c t
  refine ok_of _ _ (fun j => ?_) (fun j => ?_)
  · rw [insB_L, W3_v28]
    exact pad_all (F := F) (fun b => b.toNat < 384) (by decide) _ (hL c) j
  · rw [insB_S, W3_v14]
    exact pad_all (F := F) (fun b => b.toNat ≤ 720) (by decide) _ (hS c) j

end Cert.KernelIdeal

end
-- ==== Proof.Sigma.lean ====
/-
  Over the extended reals the shift of a window is a real number between 0 and 720, and its two roundings convert to
  words exactly.
-/
module

public import Idealize.ShloMosaic.Lib.IdealHost
public import Idealize.ShloMosaic.PureOps

@[expose] public section

noncomputable section

namespace Shifts

open Idealize.ShloMosaic

/-- The sigmoid of an extended real is a real number of the unit interval. -/
theorem sigmoid_real (x : EReal) : ∃ r : ℝ, 0 ≤ r ∧ r ≤ 1 ∧ Ideal.div 1 (1 + Ideal.exp (-x)) = (r : EReal) := by
  induction x using EReal.rec with
  | bot =>
    refine ⟨0, le_rfl, zero_le_one, ?_⟩
    have h : (1 : EReal) + ⊤ = ⊤ := by rfl
    show Ideal.div 1 (1 + Ideal.exp (- ⊥)) = _
    rw [EReal.neg_bot]
    show Ideal.div 1 (1 + ⊤) = _
    rw [h]
    simp [Ideal.div]
  | top =>
    refine ⟨1, zero_le_one, le_rfl, ?_⟩
    show Ideal.div 1 (1 + Ideal.exp (- ⊤)) = _
    rw [EReal.neg_top]
    show Ideal.div 1 (1 + 0) = _
    simp [Ideal.div]
  | coe r =>
    have he := Real.exp_pos (-r)
    refine ⟨(1 + Real.exp (-r))⁻¹, by positivity, inv_le_one_of_one_le₀ (by linarith), ?_⟩
    show Ideal.div 1 (1 + ((Real.exp (-r) : ℝ) : EReal)) = _
    have h : (1 : EReal) + ((Real.exp (-r) : ℝ) : EReal) = ((1 + Real.exp (-r) : ℝ) : EReal) := by
      rw [EReal.coe_add]; rfl
    rw [h, Ideal.div, if_neg (by exact_mod_cast (by positivity : (1 + Real.exp (-r)) ≠ 0)), one_mul, EReal.coe_inv]

theorem bits_720 : Ideal.ofBits .f32 0x44340000#32 = ((720 : ℝ) : EReal) := by
  simp [Ideal.ofBits, Ideal.ieee, -EReal.coe_mul]
  norm_num

/-- The shift of a logit. -/
def shift (x : EReal) : EReal := Ideal.div 1 (1 + Ideal.exp (-x)) * ((720 : ℝ) : EReal)

theorem shift_real (x : EReal) : ∃ r : ℝ, 0 ≤ r ∧ r ≤ 720 ∧ shift x = (r : EReal) := by
  obtain ⟨r, h0, h1, h⟩ := sigmoid_real x
  refine ⟨r * 720, by positivity, by linarith, ?_⟩
  rw [shift, h, EReal.coe_mul]

/-- A whole number of the words' range converts to its word. -/
theorem word_of_int (n : ℤ) (h0 : 0 ≤ n) (h1 : n ≤ 720) : Ideal.fptosi 32 (((n : ℝ) : EReal)) = BitVec.ofInt 32 n := by
  have hn : (0 : ℝ) ≤ (n : ℝ) := by exact_mod_cast h0
  unfold Ideal.fptosi
  rw [Ideal.toIntClamped_coe, if_pos hn, Int.floor_intCast]
  congr 1
  norm_num
  omega

/-- The shift rounded down and up: two whole numbers of `[0, 720]`, their words, and the word of their difference. -/
theorem rounded (x : EReal) : ∃ r : ℝ, ∃ f d : ℕ, f + d ≤ 720 ∧ d ≤ 1 ∧ shift x = (r : EReal)
    ∧ Ideal.liftRound Int.floor (shift x) = ((f : ℝ) : EReal) ∧ Ideal.liftRound Int.ceil (shift x) = (((f + d : ℕ) : ℝ) : EReal)
    ∧ Ideal.fptosi 32 (Ideal.liftRound Int.floor (shift x)) = BitVec.ofNat 32 f
    ∧ Ideal.fptosi 32 (Ideal.liftRound Int.ceil (shift x)) = BitVec.ofNat 32 (f + d)
    ∧ Ideal.fptosi 32 (Ideal.liftRound Int.ceil (shift x) - Ideal.liftRound Int.floor (shift x)) = BitVec.ofNat 32 d := by
  obtain ⟨r, h0, h1, h⟩ := shift_real x
  have hf0 : 0 ≤ ⌊r⌋ := Int.floor_nonneg.2 h0
  have hfc : ⌊r⌋ ≤ ⌈r⌉ := Int.floor_le_ceil r
  have hcf : ⌈r⌉ ≤ ⌊r⌋ + 1 := Int.ceil_le_floor_add_one r
  have hc : ⌈r⌉ ≤ 720 := Int.ceil_le.2 (by exact_mod_cast h1)
  obtain ⟨f, hf⟩ := Int.eq_ofNat_of_zero_le hf0
  obtain ⟨d, hd⟩ := Int.eq_ofNat_of_zero_le (sub_nonneg.2 hfc)
  have hcd : ⌈r⌉ = ((f + d : ℕ) : ℤ) := by push_cast; omega
  have e1 : Ideal.liftRound Int.floor (shift x) = ((f : ℝ) : EReal) := by
    rw [h, Ideal.liftRound_coe, hf]; simp
  have e2 : Ideal.liftRound Int.ceil (shift x) = (((f + d : ℕ) : ℝ) : EReal) := by
    rw [h, Ideal.liftRound_coe, hcd]; simp
  have w (n : ℕ) (hn : n ≤ 720) : Ideal.fptosi 32 (((n : ℝ) : EReal)) = BitVec.ofNat 32 n := by
    have := word_of_int n (by omega) (by omega)
    rw [Int.cast_natCast] at this
    rw [this, BitVec.ofInt_natCast]
  refine ⟨r, f, d, by omega, by omega, h, e1, e2, ?_, ?_, ?_⟩
  · rw [e1, w f (by omega)]
  · rw [e2, w _ (by omega)]
  · rw [e1, e2, ← EReal.coe_sub]
    have : (((f + d : ℕ) : ℝ) - (f : ℝ)) = (d : ℝ) := by push_cast; ring
    rw [this, w d (by omega)]

end Shifts

end
-- ==== Proof.Cond.lean ====
/-
  What the preconditions say of the words, and the shifts' words over the extended reals.
-/
module

public import proofs.«01_k».proof.Defs
public import proofs.«01_k».proof.Proof.Fit
public import proofs.«01_k».proof.Proof.IdealFit
public import proofs.«01_k».proof.Proof.Sigma
public import Idealize.ShloMosaic.Lib.WordCmp

@[expose] public section

noncomputable section

namespace Cert

open Idealize.ShloMosaic

instance slicesFacts : Cert.Pre_slices_inside.Facts := ⟨by decide⟩
instance leadersFacts : Cert.Pre_leaders_name_channels.Facts := ⟨by decide⟩

theorem bit_and (a b : BitVec 1) (h : a &&& b = 1#1) : a = 1#1 ∧ b = 1#1 := by revert a b; decide

theorem of_bit {p : Prop} [Decidable p] (h : BitVec.ofBool (decide p) = 1#1) : p := by
  by_contra hp
  rw [decide_eq_false hp] at h
  exact absurd h (by decide)

/-- A word that is not negative and less than another, both as signed words. -/
theorem range_of (a b : BitVec 32) (h0 : IntOp.cmpi .sge a 0#32 = 1#1) (h1 : IntOp.cmpi .slt a b = 1#1) (hb : b.toNat < 2 ^ 31) : a.toNat < b.toNat := by
  change BitVec.ofBool (decide ((0#32).toInt ≤ a.toInt)) = 1#1 at h0
  change BitVec.ofBool (decide (a.toInt < b.toInt)) = 1#1 at h1
  have e0 : (0#32).toInt ≤ a.toInt := of_bit h0
  have e1 : a.toInt < b.toInt := of_bit h1
  have z : (0#32).toInt = 0 := rfl
  rw [z] at e0
  rw [BitVec.toInt_eq_toNat_cond] at e0 e1
  rw [BitVec.toInt_eq_toNat_cond] at e1
  split at e0 <;> split at e1 <;> omega

theorem range_le (a b : BitVec 32) (h0 : IntOp.cmpi .sge a 0#32 = 1#1) (h1 : IntOp.cmpi .sle a b = 1#1) (hb : b.toNat < 2 ^ 31) : a.toNat ≤ b.toNat := by
  change BitVec.ofBool (decide ((0#32).toInt ≤ a.toInt)) = 1#1 at h0
  change BitVec.ofBool (decide (a.toInt ≤ b.toInt)) = 1#1 at h1
  have e0 : (0#32).toInt ≤ a.toInt := of_bit h0
  have e1 : a.toInt ≤ b.toInt := of_bit h1
  have z : (0#32).toInt = 0 := rfl
  rw [z] at e0
  rw [BitVec.toInt_eq_toNat_cond] at e0 e1
  rw [BitVec.toInt_eq_toNat_cond] at e1
  split at e0 <;> split at e1 <;> omega

theorem start_le (a : BitVec 32) (h : a.toNat ≤ 720) : (720#32 - a).toNat ≤ 720 := by
  have : (720#32 - a).toNat = 720 - a.toNat := by
    rw [BitVec.toNat_sub]
    simp
    omega
  omega

section
variable {F : FTy → Type} [FloatOps F]

theorem slices_words (x : FVec F Kernel.S16x720x321 .f32) (l : IVec Kernel.S2568 32) (s : FVec F Kernel.S2568 .f32) (w : FVec F Kernel.S336x720 .f32) (lw : FVec F Kernel.S321x9 .f32)
    (h : Pre_slices_inside.fn (F := F) x l s w lw = fun _ => 1#1) (i : Kernel.S2568.Idx) : (l i).toNat < 321 ∧ (Kernel.startv s i).toNat ≤ 720 := by
  have e := congrFun h i
  obtain ⟨e, e4⟩ := bit_and _ _ e
  obtain ⟨e, e3⟩ := bit_and _ _ e
  obtain ⟨e1, e2⟩ := bit_and _ _ e
  exact ⟨range_of _ 321#32 e1 e2 (by decide), start_le _ (range_le _ 720#32 e3 e4 (by decide))⟩

theorem slices_words_ideal (x : FVec F Kernel.S16x720x321 .f32) (l : IVec Kernel.S2568 32) (s : FVec F Kernel.S2568 .f32) (w : FVec F Kernel.S336x720 .f32) (lw : FVec F Kernel.S321x9 .f32)
    (h : Pre_slices_inside.fn (F := F) x l s w lw = fun _ => 1#1) (i : Kernel.S2568.Idx) : (l i).toNat < 321 := (slices_words x l s w lw h i).1

theorem leaders_words (x : FVec F Kernel.S16x720x321 .f32) (l : IVec Kernel.S2568 32) (s : FVec F Kernel.S2568 .f32) (w : FVec F Kernel.S336x720 .f32) (lw : FVec F Kernel.S321x9 .f32)
    (h : Pre_leaders_name_channels.fn (F := F) x l s w lw = fun _ => 1#1) (i : Kernel.S2568.Idx) : (l i).toNat < 321 := by
  obtain ⟨e1, e2⟩ := bit_and _ _ (congrFun h i)
  exact range_of _ 321#32 e1 e2 (by decide)

end

/-- The shift at a place, over the extended reals. -/
theorem shv_apply (s : FVec Ideal KernelIdeal.S2568 .f32) (i : KernelIdeal.S2568.Idx) : (KernelIdeal.shv s i : EReal) = Shifts.shift (s i) := by
  show Ideal.div (Ideal.ofBits .f32 0x3F800000#32) (Ideal.ofBits .f32 0x3F800000#32 + Ideal.exp (-(s i : EReal))) * Ideal.ofBits .f32 0x44340000#32 = _
  rw [Ideal.ofBits_one_f32, Shifts.bits_720]
  rfl

theorem ceil_word (s : FVec Ideal KernelIdeal.S2568 .f32) (i : KernelIdeal.S2568.Idx) :
    (KernelIdeal.startv s i) = 720#32 - Ideal.fptosi 32 (Ideal.liftRound Int.ceil (Shifts.shift (s i))) := by
  rw [← shv_apply]
  rfl

theorem start_ideal (s : FVec Ideal KernelIdeal.S2568 .f32) (i : KernelIdeal.S2568.Idx) : (KernelIdeal.startv s i).toNat ≤ 720 := by
  rw [ceil_word]
  obtain ⟨r, f, d, h1, h2, -, -, -, -, h6, -⟩ := Shifts.rounded (s i)
  rw [h6]
  refine start_le _ ?_
  rw [BitVec.toNat_ofNat]
  omega

open Kernel in
theorem fits_kernel (m : (ℓ : Loc Kernel.nD Kernel.τ Kernel.sig) → Buf (Elt Bits) ℓ) (h : Pre_Kernel m) : Kernel.Fits m :=
  Kernel.fits m (fun c i => lt_trans (slices_words _ _ _ _ _ (h c) i).1 (by decide)) (fun c i => (slices_words _ _ _ _ _ (h c) i).2)

theorem fits_ideal (m : (ℓ : Loc KernelIdeal.nD KernelIdeal.τ KernelIdeal.sig) → Buf (Elt Ideal) ℓ)
    (h : ∀ c i, (KernelIdeal.argL m c i : BitVec 32).toNat < 321) : KernelIdeal.Fits m :=
  KernelIdeal.fits m (fun c i => lt_trans (h c i) (by decide)) (fun c i => start_ideal _ i)

end Cert

end
-- ==== Proof.Spec.lean ====
/-
  The forecast over the extended reals, element by element: a channel's history normalised, its own linear forecast, its
  leaders' sequences read at two shifted places and interpolated, the nine rows weighted by a softmax, and the sum scaled back.
-/
module

public import proofs.«01_k».proof.Proof.Sigma

@[expose] public section

noncomputable section

namespace Spec

open Idealize.ShloMosaic

/-- The history's length, as the float the programs divide by. -/
abbrev len : EReal := Ideal.ofBits .f32 0x44340000#32
/-- What is added to the variance. -/
abbrev eps : EReal := Ideal.ofBits .f32 0x3727C5AC#32

section
variable (X : Fin 720 → EReal)

def mean : EReal := Ideal.div (∑ k, X k) len
def dev (k : Fin 720) : EReal := X k - mean X
def sd : EReal := Ideal.sqrt (Ideal.div (∑ k, dev X k * dev X k) len + eps)
/-- The normalised history. -/
def nrm (k : Fin 720) : EReal := Ideal.div (dev X k) (sd X)
/-- The linear forecast at one place. -/
def fore (w : Fin 720 → EReal) : EReal := ∑ k, nrm X k * w k
/-- The normalised history followed by the forecasts. -/
def seq (W : Fin 336 → Fin 720 → EReal) (q : ℕ) : EReal :=
  if h : q < 720 then nrm X ⟨q, h⟩ else if h' : q - 720 < 336 then fore X (W ⟨q - 720, h'⟩) else 0
end

/-- The shift rounded down and up, as places. -/
def lo (s : EReal) : ℕ := (Ideal.fptosi 32 (Ideal.liftRound Int.floor (Shifts.shift s))).toNat
def hi (s : EReal) : ℕ := (Ideal.fptosi 32 (Ideal.liftRound Int.ceil (Shifts.shift s))).toNat
/-- The two neighbours' weights. -/
def wlo (s : EReal) : EReal := Shifts.shift s - Ideal.liftRound Int.floor (Shifts.shift s)
def whi (s : EReal) : EReal := Shifts.shift s + 1 - Ideal.liftRound Int.ceil (Shifts.shift s)

/-- A leader's sequence at place `p` of the horizon, shifted. -/
def lead (X : Fin 720 → EReal) (W : Fin 336 → Fin 720 → EReal) (s : EReal) (p : Fin 336) : EReal :=
  seq X W (720 + p.val - lo s) * wlo s + seq X W (720 + p.val - hi s) * whi s

/-- The nine rows: the channel's own forecast, then its leaders. -/
def row (X : Fin 321 → Fin 720 → EReal) (W : Fin 336 → Fin 720 → EReal) (L : Fin 8 → Fin 321) (s : Fin 8 → EReal) (c : Fin 321) (p : Fin 336) : Fin 9 → EReal :=
  Fin.cases (fore (X c) (W p)) fun k => lead (X (L k)) W (s k) p

/-- The greatest of nine logits. -/
def top (l : Fin 9 → EReal) : EReal := Finset.univ.fold max (Ideal.ofBits .f32 0xFF800000#32) l

/-- Their softmax. -/
def soft (l : Fin 9 → EReal) (j : Fin 9) : EReal :=
  Ideal.div (Ideal.exp (l j - top l)) (∑ i, Ideal.exp (l i - top l))

/-- The forecast. -/
def out (X : Fin 321 → Fin 720 → EReal) (W : Fin 336 → Fin 720 → EReal) (L : Fin 8 → Fin 321) (s : Fin 8 → EReal) (l : Fin 9 → EReal) (c : Fin 321) (p : Fin 336) : EReal :=
  (∑ j, row X W L s c p j * soft l j) * sd (X c) + mean (X c)

/-! ## The places -/

/-- The difference of two words, the second not greater. -/
theorem word_sub (a b : ℕ) (ha : a < 2 ^ 32) (hb : b ≤ a) : BitVec.ofNat 32 a - BitVec.ofNat 32 b = BitVec.ofNat 32 (a - b) := by
  apply BitVec.eq_of_toNat_eq
  rw [BitVec.toNat_sub, BitVec.toNat_ofNat, BitVec.toNat_ofNat, BitVec.toNat_ofNat]
  omega

theorem lo_hi (s : EReal) : lo s ≤ hi s ∧ hi s ≤ lo s + 1 ∧ hi s ≤ 720
    ∧ Ideal.fptosi 32 (Ideal.liftRound Int.floor (Shifts.shift s)) = BitVec.ofNat 32 (lo s)
    ∧ Ideal.fptosi 32 (Ideal.liftRound Int.ceil (Shifts.shift s)) = BitVec.ofNat 32 (hi s)
    ∧ Ideal.fptosi 32 (Ideal.liftRound Int.ceil (Shifts.shift s) - Ideal.liftRound Int.floor (Shifts.shift s)) = BitVec.ofNat 32 (hi s - lo s) := by
  obtain ⟨r, f, d, h1, h2, -, -, -, h5, h6, h7⟩ := Shifts.rounded s
  have el : lo s = f := by
    unfold lo
    rw [h5, BitVec.toNat_ofNat]
    omega
  have eh : hi s = f + d := by
    unfold hi
    rw [h6, BitVec.toNat_ofNat]
    omega
  rw [el, eh, h5, h6, h7]
  refine ⟨by omega, by omega, by omega, rfl, rfl, ?_⟩
  congr 1
  omega

end Spec

end
-- ==== Proof.KerA.lean ====
/-
  The first kernel's block values over the extended reals, at an index.
-/
module

public import proofs.«01_k».proof.Proof.IdealStageA
public import proofs.«01_k».proof.Proof.Spec
public import Idealize.ShloMosaic.Lib.Pipeline.Value
public import Idealize.ShloMosaic.Lib.MatmulPlain

@[expose] public section

noncomputable section

namespace Cert.KernelIdeal

open Idealize.ShloMosaic
open Idealize.ShloMosaic.ValueIdx
open Shapes1.Facts₀ K1.Facts₀

section
variable (x : FVec Ideal S128x16x720 .f32) (w : FVec Ideal S336x720 .f32)

/-- A row of a block, and a row of the weights. -/
abbrev rowA (a : Fin 128) (b : Fin 16) : Fin 720 → EReal := fun k => x (ix3 a b k)
abbrev rowW : Fin 336 → Fin 720 → EReal := fun p k => w (ix2 p k)

variable (a : Fin 128) (b : Fin 16) (k : Fin 720) (p : Fin 336)

theorem avg_at : avg x (ix2 a b) = Spec.mean (rowA x a b) := by
  unfold avg Spec.mean
  refine congrArg (Ideal.div · Spec.len) ((Ideal.multiReduction_add_single _ _ _ _ _ _).trans (Finset.sum_congr rfl fun k _ => congrArg x ?_))
  exact funext fun c => match c with
    | ⟨0, _⟩ => Fin.ext rfl
    | ⟨1, _⟩ => Fin.ext rfl
    | ⟨2, _⟩ => Fin.ext rfl

theorem spread_at (v : FVec Ideal S128x16 .f32) : spread v (ix3 a b k) = v (ix2 a b) := by
  unfold spread
  rw [broadcastTo_apply _ _ _ (ix3 a b 0 : S128x16x1.Idx) (fun c => match c with
    | ⟨0, _⟩ => rfl
    | ⟨1, _⟩ => rfl
    | ⟨2, _⟩ => rfl)]
  refine shapeCast_apply _ _ _ _ ?_
  rw [Shape.rowMajor_val_two, Shape.rowMajor_val_three]
  show a.val * 16 + b.val = (a.val * 16 + b.val) * 1 + 0
  omega

theorem dev_at : dev x (ix3 a b k) = Spec.dev (rowA x a b) k := by
  show x (ix3 a b k) - spread (avg x) (ix3 a b k) = _
  rw [spread_at, avg_at]
  rfl

theorem std_at : std x (ix2 a b) = Spec.sd (rowA x a b) := by
  show Ideal.sqrt (avg (mulf (dev x) (dev x)) (ix2 a b) + Spec.eps) = _
  rw [avg_at]
  unfold Spec.sd Spec.mean
  refine congrArg (fun u => Ideal.sqrt (Ideal.div u Spec.len + Spec.eps)) (Finset.sum_congr rfl fun k _ => ?_)
  show dev x (ix3 a b k) * dev x (ix3 a b k) = _
  rw [dev_at]

theorem nrm_at : nrm x (ix3 a b k) = Spec.nrm (rowA x a b) k := by
  show Ideal.div (dev x (ix3 a b k)) (spread (std x) (ix3 a b k)) = _
  rw [dev_at, spread_at, std_at]
  rfl

theorem fore_at : fore (nrm x) w (ix3 a b p) = Spec.fore (rowA x a b) (rowW w p) := by
  have ha := a.isLt
  have hb := b.isLt
  unfold fore
  rw [shapeCast_apply _ _ _ (ix2 ⟨a.val * 16 + b.val, by omega⟩ p : S2048x336.Idx) (by
    rw [Shape.rowMajor_val_two, Shape.rowMajor_val_three]
    show (a.val * 16 + b.val) * 336 + p.val = (a.val * 16 + b.val) * 336 + p.val
    rfl)]
  refine (Ideal.matmul_transposedRhs_apply none _ _ _ _ _).trans ?_
  show Ideal.ofBits .f32 0x00000000#32 + _ = _
  rw [Ideal.ofBits_zero_f32, zero_add]
  refine Finset.sum_congr rfl fun k _ => ?_
  rw [shapeCast_apply _ _ _ (ix3 a b k : S128x16x720.Idx) (by
    rw [Shape.rowMajor_val_two, Shape.rowMajor_val_three]
    show (a.val * 16 + b.val) * 720 + k.val = (a.val * 16 + b.val) * 720 + k.val
    rfl), nrm_at]

theorem seqs_at (q : Fin 1152) : seqs x w (ix3 a b q) = Spec.seq (rowA x a b) (rowW w) q.val := by
  have ha := a.isLt
  have hb := b.isLt
  have hq := q.isLt
  unfold seqs pieces Spec.seq
  unfold VecWindow.put
  by_cases h1 : q.val < 720
  · rw [dif_neg (fun h => absurd (h 2).1 (show ¬ 1056 ≤ q.val by omega)), dif_neg (fun h => absurd (h 2).1 (show ¬ 720 ≤ q.val by omega)),
      dif_pos (fun c => match c with
        | ⟨0, _⟩ => (⟨Nat.zero_le _, by show a.val < 0 + 128; omega⟩ : 0 ≤ a.val ∧ a.val < 0 + 128)
        | ⟨1, _⟩ => (⟨Nat.zero_le _, by omega⟩ : 0 ≤ b.val ∧ b.val < 0 + 16)
        | ⟨2, _⟩ => (⟨Nat.zero_le _, by omega⟩ : 0 ≤ q.val ∧ q.val < 0 + 720)), dif_pos h1, ← nrm_at]
    refine congrArg (nrm x) (funext fun c => Fin.ext ?_)
    match c with
    | ⟨0, _⟩ => rfl
    | ⟨1, _⟩ => rfl
    | ⟨2, _⟩ => rfl
  · by_cases h2 : q.val - 720 < 336
    · rw [dif_neg (fun h => absurd (h 2).1 (show ¬ 1056 ≤ q.val by omega)),
        dif_pos (fun c => match c with
          | ⟨0, _⟩ => (⟨Nat.zero_le _, by omega⟩ : 0 ≤ a.val ∧ a.val < 0 + 128)
          | ⟨1, _⟩ => (⟨Nat.zero_le _, by omega⟩ : 0 ≤ b.val ∧ b.val < 0 + 16)
          | ⟨2, _⟩ => (⟨by omega, by omega⟩ : 720 ≤ q.val ∧ q.val < 720 + 336)), dif_neg h1, dif_pos h2, ← fore_at]
      refine congrArg (fore (nrm x) w) (funext fun c => Fin.ext ?_)
      match c with
      | ⟨0, _⟩ => rfl
      | ⟨1, _⟩ => rfl
      | ⟨2, _⟩ => rfl
    · rw [dif_pos (fun c => match c with
          | ⟨0, _⟩ => (⟨Nat.zero_le _, by omega⟩ : 0 ≤ a.val ∧ a.val < 0 + 128)
          | ⟨1, _⟩ => (⟨Nat.zero_le _, by omega⟩ : 0 ≤ b.val ∧ b.val < 0 + 16)
          | ⟨2, _⟩ => (⟨by omega, by omega⟩ : 1056 ≤ q.val ∧ q.val < 1056 + 96)), dif_neg h1, dif_neg h2]
      exact Ideal.ofBits_zero_f32

end

end Cert.KernelIdeal

end
-- ==== Proof.KerArr.lean ====
/-
  The arrays the first region leaves, at an index.
-/
module

public import proofs.«01_k».proof.Proof.KerA
public import proofs.«01_k».proof.Proof.IdealFit
public import Idealize.ShloMosaic.Lib.Pipeline.ValueKit

@[expose] public section

set_option maxRecDepth 16384

noncomputable section

namespace Cert.KernelIdeal

open Cert.KernelIdeal.Gen
open Idealize.ShloMosaic hiding ix0 ix1 ix2 ix3 ix4 eq_ix1 eq_ix2 eq_ix3 eq_ix4
open Idealize.ShloMosaic.TcCoe
open Idealize.ShloMosaic.ValueIdx

theorem coords0 : ∀ t : Fin cfg0.N, (grid0.coords t 0).val = t.val := by decide +kernel

theorem block_row (t : Fin cfg0.N) (a : Fin 128) : 128 * t.val + a.val < 384 := by
  have h : t.val < 3 := t.isLt
  have := a.isLt
  omega

section
variable (V : Dev nD → Valuation τ sig (Elt Ideal)) (c : Dev nD) (t : Fin cfg0.N)

/-- The padded rows and the weights, as the region enters with them. -/
abbrev rowP (V : Dev nD → Valuation τ sig (Elt Ideal)) (c : Dev nD) (a : Fin 384) (b : Fin 16) : Fin 720 → EReal :=
  fun k => (V c main_call0_v30 : Vec Ideal S384x16x720 .f32) (ix3 a b k)
abbrev rowQ (V : Dev nD → Valuation τ sig (Elt Ideal)) (c : Dev nD) : Fin 336 → Fin 720 → EReal :=
  fun p k => (V c main_arg3 : Vec Ideal S336x720 .f32) (ix2 p k)

theorem off_row : (BitVec.ofNat 32 (grid0.coords t 0).val).toNat = t.val := by
  have h : t.val < 3 := t.isLt
  rw [coords0, BitVec.toNat_ofNat]
  omega

theorem rowsA_at (a : Fin 128) (b : Fin 16) : rowA (rowsA V c t) a b = rowP V c ⟨128 * t.val + a.val, block_row t a⟩ b := by
  funext k
  show rowsA V c t (ix3 a b k) = _
  unfold rowsA inA
  rw [shapeCast_apply _ _ _ (ix3 a b k : S128x16x720.Idx) rfl]
  refine congrArg (V c main_call0_v30 : Vec Ideal S384x16x720 .f32) (funext fun d => Fin.ext ?_)
  have e := off_row t
  match d with
  | ⟨0, _⟩ => show (BitVec.ofNat 32 (grid0.coords t 0).val).toNat * 128 + 1 * a.val = 128 * t.val + a.val; omega
  | ⟨1, _⟩ => show 0 * 16 + 1 * b.val = b.val; omega
  | ⟨2, _⟩ => show 0 * 720 + 1 * k.val = k.val; omega

theorem weightsA_at : rowW (weightsA V c t) = rowQ V c := by
  funext p k
  refine congrArg (V c main_arg3 : Vec Ideal S336x720 .f32) (funext fun d => Fin.ext ?_)
  match d with
  | ⟨0, _⟩ => show 0 * 336 + 1 * p.val = p.val; omega
  | ⟨1, _⟩ => show 0 * 720 + 1 * k.val = k.val; omega

theorem arr_seq : ((dat0 V c).arrAt 2 cfg0.N : Vec Ideal S384x16x1152 .f32)
    = fun i => Spec.seq (rowP V c (i 0) (i 1)) (rowQ V c) (i 2).val := by
  refine (dat0 V c).arrAt_eq_of_covers 2 _ (by decide +kernel) fun t hf y => ?_
  have e := off_row t
  obtain ⟨a, b, q, rfl⟩ : ∃ (a : Fin 128) (b : Fin 16) (q : Fin 1152), y = ix3 a b q := ⟨y 0, y 1, y 2, eq_ix3 _⟩
  show seqs (rowsA V c t) (weightsA V c t) (ix3 a b q) = _
  rw [seqs_at, rowsA_at, weightsA_at]
  have e0 : (⟨128 * t.val + a.val, block_row t a⟩ : Fin 384) = ((win0_2.blk t).view.emb (ix3 a b q)) 0 :=
    Fin.ext (show 128 * t.val + a.val = (BitVec.ofNat 32 (grid0.coords t 0).val).toNat * 128 + 1 * a.val by omega)
  have e1 : b = ((win0_2.blk t).view.emb (ix3 a b q)) 1 := Fin.ext (show b.val = 0 * 16 + 1 * b.val by omega)
  have e2 : q.val = (((win0_2.blk t).view.emb (ix3 a b q)) 2).val := show q.val = 0 * 1152 + 1 * q.val by omega
  exact congrArg₂ (fun u v => Spec.seq u (rowQ V c) v) (congrArg₂ (rowP V c) e0 e1) e2

theorem arr_mean : ((dat0 V c).arrAt 3 cfg0.N : Vec Ideal S384x16 .f32) = fun i => Spec.mean (rowP V c (i 0) (i 1)) := by
  refine (dat0 V c).arrAt_eq_of_covers 3 _ (by decide +kernel) fun t hf y => ?_
  have e := off_row t
  obtain ⟨a, b, rfl⟩ : ∃ (a : Fin 128) (b : Fin 16), y = ix2 a b := ⟨y 0, y 1, eq_ix2 _⟩
  show avg (rowsA V c t) (ix2 a b) = _
  rw [avg_at, rowsA_at]
  have e0 : (⟨128 * t.val + a.val, block_row t a⟩ : Fin 384) = ((win0_3.blk t).view.emb (ix2 a b)) 0 :=
    Fin.ext (show 128 * t.val + a.val = (BitVec.ofNat 32 (grid0.coords t 0).val).toNat * 128 + 1 * a.val by omega)
  have e1 : b = ((win0_3.blk t).view.emb (ix2 a b)) 1 := Fin.ext (show b.val = 0 * 16 + 1 * b.val by omega)
  exact congrArg Spec.mean (congrArg₂ (rowP V c) e0 e1)

theorem arr_sd : ((dat0 V c).arrAt 4 cfg0.N : Vec Ideal S384x16 .f32) = fun i => Spec.sd (rowP V c (i 0) (i 1)) := by
  refine (dat0 V c).arrAt_eq_of_covers 4 _ (by decide +kernel) fun t hf y => ?_
  have e := off_row t
  obtain ⟨a, b, rfl⟩ : ∃ (a : Fin 128) (b : Fin 16), y = ix2 a b := ⟨y 0, y 1, eq_ix2 _⟩
  show std (rowsA V c t) (ix2 a b) = _
  rw [std_at, rowsA_at]
  have e0 : (⟨128 * t.val + a.val, block_row t a⟩ : Fin 384) = ((win0_4.blk t).view.emb (ix2 a b)) 0 :=
    Fin.ext (show 128 * t.val + a.val = (BitVec.ofNat 32 (grid0.coords t 0).val).toNat * 128 + 1 * a.val by omega)
  have e1 : b = ((win0_4.blk t).view.emb (ix2 a b)) 1 := Fin.ext (show b.val = 0 * 16 + 1 * b.val by omega)
  exact congrArg Spec.sd (congrArg₂ (rowP V c) e0 e1)

end

end Cert.KernelIdeal

end
-- ==== Proof.KerB.lean ====
/-
  The second kernel's block values over the extended reals, at an index.
-/
module

public import proofs.«01_k».proof.Proof.IdealTriple
public import proofs.«01_k».proof.Proof.IdealFit
public import proofs.«01_k».proof.Proof.Spec
public import Idealize.ShloMosaic.Lib.Pipeline.Value
public import Idealize.ShloMosaic.Lib.KernelVsHost
public import Idealize.ShloMosaic.Lib.Pointwise

@[expose] public section

noncomputable section

namespace Cert.KernelIdeal

open Idealize.ShloMosaic hiding ix0 ix1 ix2 ix3 ix4 eq_ix1 eq_ix2 eq_ix3 eq_ix4
open Idealize.ShloMosaic.ValueIdx
open Shapes1.Facts₀ K1.Facts₀

variable (b : Fin 16) (p : Fin 336)

/-! ## A leader's two windows -/

theorem rot_at (w : FVec Ideal S16x512 .f32) (n : BitVec 32) (r : ℕ) (hn : n.toNat = 512 - r) (hr : r ≤ 128) (h : S16x512.Rotates 1 none) (h' : S16x512.Slices ![0, 0] S16x336) :
    extractStridedSlice S16x336 ![0, 0] (dynamicRotate 1 n none w h) h' (ix2 b p)
      = w (ix2 b ⟨p.val + r, by have := p.isLt; omega⟩) := by
  have hb := b.isLt
  have hp := p.isLt
  rw [extractStridedSlice_apply _ _ _ _ (ix2 b ⟨p.val, by omega⟩ : S16x512.Idx) (fun a => match a with
    | ⟨0, _⟩ => (Nat.zero_add _).symm
    | ⟨1, _⟩ => (Nat.zero_add _).symm)]
  refine dynamicRotate_apply _ _ _ _ _ _ fun a => ?_
  match a with
  | ⟨0, _⟩ => rfl
  | ⟨1, _⟩ =>
    show p.val + r = (p.val + 512 - n.toNat % 512) % 512
    omega

theorem start_rest (s : BitVec 32) (hs : s.toNat ≤ 720) : (Scalar.subi s (k1_mult1 s)).toNat = s.toNat % 128 := by
  have e := mult_toNat s hs
  show (s - k1_mult1 s).toNat = _
  rw [BitVec.toNat_sub, e]
  omega

theorem interp_at (s d : BitVec 32) (win : Vec Ideal S1x16x512 .f32) (wf wc : EReal) (hs : s.toNat ≤ 720) (hd : d.toNat ≤ 1) :
    (interp (F := Ideal) s d win wf wc (ix2 b p) : EReal)
      = win (ix3 0 b ⟨p.val + (s.toNat % 128 + d.toNat), by have := p.isLt; omega⟩) * wf + win (ix3 0 b ⟨p.val + s.toNat % 128, by have := p.isLt; omega⟩) * wc := by
  have hp := p.isLt
  have e := start_rest s hs
  have cast_at : ∀ q : Fin 512, shapeCast S16x512 win shapeCasts_S1x16x512_S16x512 (ix2 b q) = win (ix3 0 b q) := fun q => by
    refine shapeCast_apply _ _ _ _ ?_
    rw [Shape.rowMajor_val_two, Shape.rowMajor_val_three]
    show (0 * 16 + b.val) * 512 + q.val = b.val * 512 + q.val
    omega
  unfold interp
  show extractStridedSlice (s := S16x512) S16x336 ![0, 0] _ _ (ix2 b p) * wf + extractStridedSlice (s := S16x512) S16x336 ![0, 0] _ _ (ix2 b p) * wc = _
  rw [rot_at b p _ _ (s.toNat % 128 + d.toNat) _ (by omega), rot_at b p _ _ (s.toNat % 128) _ (by omega), cast_at, cast_at]
  · show (512#32 - Scalar.subi s (k1_mult1 s)).toNat = _
    rw [BitVec.toNat_sub, e]
    show (2 ^ 32 - s.toNat % 128 + 512) % 2 ^ 32 = _
    omega
  · show (512#32 - (Scalar.subi s (k1_mult1 s) + d)).toNat = _
    rw [BitVec.toNat_sub, BitVec.toNat_add, e]
    show (2 ^ 32 - (s.toNat % 128 + d.toNat) % 2 ^ 32 + 512) % 2 ^ 32 = _
    omega

/-! ## The weights -/

theorem soft_at (w : Vec Ideal S1x1x9 .f32) (j : Fin 9) : (soft (F := Ideal) w (ix2 0 j) : EReal) = Spec.soft (fun e => w (ix3 0 0 e)) j := by
  have cast_at : ∀ q : Fin 9, shapeCast S1x9 w shapeCasts_S1x1x9_S1x9 (ix2 0 q) = w (ix3 0 0 q) := fun q => by
    refine shapeCast_apply _ _ _ _ ?_
    rw [Shape.rowMajor_val_two, Shape.rowMajor_val_three]
    show (0 * 1 + 0) * 9 + q.val = 0 * 9 + q.val
    omega
  have spread_at : ∀ (v : FVec Ideal S1 .f32) (q : Fin 9), broadcastTo S1x9 (shapeCast S1x1 v shapeCasts_S1_S1x1) broadcasts_S1x1_S1x9 (ix2 0 q) = v (ix1 0) := fun v q => by
    rw [broadcastTo_apply _ _ _ (ix2 0 0 : S1x1.Idx) (fun a => match a with
      | ⟨0, _⟩ => rfl
      | ⟨1, _⟩ => rfl)]
    refine shapeCast_apply _ _ _ _ ?_
    rw [Shape.rowMajor_val_two, Shape.rowMajor_val_one]
    rfl
  have top_at : (multiReduction (F := Ideal) .maximumf [1] S1 (shapeCast S1x9 w shapeCasts_S1x1x9_S1x9) 0xFF800000#32 reduces_S1x9_S1 (.inl rfl) rfl (ix1 0) : EReal)
      = Spec.top (fun e => w (ix3 0 0 e)) := by
    refine (Ideal.multiReduction_maximumf_single _ _ _ _ _ _).trans ?_
    unfold Spec.top
    refine congrArg₂ (fun u v => Finset.univ.fold max u v) rfl (funext fun e => ?_)
    refine Eq.trans (congrArg (shapeCast S1x9 w shapeCasts_S1x1x9_S1x9) ?_) (cast_at e)
    exact funext fun a => match a with
      | ⟨0, _⟩ => Fin.ext rfl
      | ⟨1, _⟩ => Fin.ext rfl
  have exp_at : ∀ q : Fin 9, (exp (F := Ideal) (subf (shapeCast S1x9 w shapeCasts_S1x1x9_S1x9) (broadcastTo S1x9 (shapeCast S1x1
      (multiReduction .maximumf [1] S1 (shapeCast S1x9 w shapeCasts_S1x1x9_S1x9) 0xFF800000#32 reduces_S1x9_S1 (.inl rfl) rfl) shapeCasts_S1_S1x1) broadcasts_S1x1_S1x9)) (ix2 0 q) : EReal)
      = Ideal.exp (w (ix3 0 0 q) - Spec.top (fun e => w (ix3 0 0 e))) := fun q => by
    rw [← top_at, ← cast_at q]
    exact congrArg (fun u => Ideal.exp (shapeCast S1x9 w shapeCasts_S1x1x9_S1x9 (ix2 0 q) - u)) (spread_at _ q)
  unfold soft Spec.soft
  refine (congrArg₂ Ideal.div (exp_at j) (spread_at _ j)).trans (congrArg _ ?_)
  refine (Ideal.multiReduction_add_single _ _ _ _ _ _).trans (Finset.sum_congr rfl fun e _ => ?_)
  refine Eq.trans (congrArg _ ?_) (exp_at e)
  exact funext fun a => match a with
    | ⟨0, _⟩ => Fin.ext rfl
    | ⟨1, _⟩ => Fin.ext rfl

theorem wt_at (v : FVec Ideal S1x9 .f32) (k : ℕ) (hk : k < 9) : wt v k hk (ix2 b p) = v (ix2 0 ⟨k, hk⟩) := by
  unfold wt
  rw [broadcastTo_apply _ _ _ (ix2 0 0 : S1x1.Idx) (fun a => match a with
    | ⟨0, _⟩ => rfl
    | ⟨1, _⟩ => rfl)]
  exact extractStridedSlice_apply _ _ _ _ _ (fun a => match a with
    | ⟨0, _⟩ => rfl
    | ⟨1, _⟩ => rfl)

/-! ## One channel -/

/-- The channel's row of the tables, and of the sequences. -/
abbrev rowT (i : grid1.Coords) (c : ℕ) (hc : c < 48) : Fin 336 := ⟨48 * (i 0).val + c, by have h : (i 0).val < 7 := (i 0).isLt; omega⟩
abbrev rowS (i : grid1.Coords) (c : ℕ) (hc : c < 48) : Fin 384 := ⟨48 * (i 0).val + c, by have h : (i 0).val < 7 := (i 0).isLt; omega⟩

section
variable (i : grid1.Coords) (x : Ins Ideal) (hx : x.Ok i) (c : ℕ) (hc : c < 48)

theorem tab_at {e : EltTy} (X : Vec Ideal S336x8 e) (k : ℕ) (hk : k < 8) : tab i X c k hc hk = X (ix2 (rowT i c hc) ⟨k, hk⟩) := by
  unfold tab VecWindow.window
  have w := chW_toNat i hc
  refine congrArg X (funext fun a => Fin.ext ?_)
  match a with
  | ⟨0, _⟩ => show (Scalar.indexCast (chW i c)).toNat + 1 * 0 = 48 * (i 0).val + c; omega
  | ⟨1, _⟩ => show k + 1 * 0 = k; omega

theorem own_at : own i x c hc (ix2 b p) = x.SQ (ix3 (rowS i c hc) b ⟨720 + p.val, by have := p.isLt; omega⟩) := by
  unfold own
  rw [shapeCast_apply _ _ _ (ix3 0 b p : S1x16x336.Idx) (by
    rw [Shape.rowMajor_val_two, Shape.rowMajor_val_three]
    show (0 * 16 + b.val) * 336 + p.val = b.val * 336 + p.val
    omega)]
  unfold VecWindow.window
  have w := chW_toNat i hc
  refine congrArg x.SQ (funext fun a => Fin.ext ?_)
  match a with
  | ⟨0, _⟩ => show (Scalar.indexCast (chW i c)).toNat + 1 * 0 = 48 * (i 0).val + c; omega
  | ⟨1, _⟩ => show 0 + 1 * b.val = b.val; omega
  | ⟨2, _⟩ => show 720 + 1 * p.val = 720 + p.val; omega

theorem lead_at (k : ℕ) (hk : k < 8) (l : Fin 384) (s d : ℕ) (hl : (tab i x.L c k hc hk : BitVec 32).toNat = l.val) (hs : (tab i x.S c k hc hk : BitVec 32).toNat = s)
    (hd : (tab i x.D c k hc hk : BitVec 32).toNat = d) (hs' : s ≤ 720) (hd' : d ≤ 1) :
    (lead i x hx c k hc hk (ix2 b p) : EReal) = x.SQ (ix3 l b ⟨p.val + s + d, by have := p.isLt; omega⟩) * tab i x.WF c k hc hk
      + x.SQ (ix3 l b ⟨p.val + s, by have := p.isLt; omega⟩) * tab i x.WC c k hc hk := by
  have hp := p.isLt
  unfold lead
  rw [interp_at b p _ _ _ _ _ (by omega) (by omega)]
  have m := mult_toNat (tab i x.S c k hc hk) (by omega)
  have at_ : ∀ (q : Fin 512) (q' : Fin 1152) (hq : s / 128 * 128 + q.val = q'.val),
      (VecWindow.window x.SQ (k1_off3 (tab i x.L c k hc hk) (tab i x.S c k hc hk)) S1x16x512.size (k1_off3_inb _ _ (hx c k hc hk)) : Vec Ideal S1x16x512 .f32) (ix3 0 b q) = x.SQ (ix3 l b q') := fun q q' hq => by
    unfold VecWindow.window
    refine congrArg x.SQ (funext fun a => Fin.ext ?_)
    match a with
    | ⟨0, _⟩ => show (tab i x.L c k hc hk : BitVec 32).toNat + 1 * 0 = l.val; omega
    | ⟨1, _⟩ => show 0 + 1 * b.val = b.val; omega
    | ⟨2, _⟩ => show (k1_mult1 (tab i x.S c k hc hk)).toNat + 1 * q.val = q'.val; rw [m, hs]; omega
  rw [at_ _ ⟨p.val + s + d, by omega⟩ (by show s / 128 * 128 + (p.val + (_ % 128 + _)) = p.val + s + d; rw [hs, hd]; omega),
    at_ _ ⟨p.val + s, by omega⟩ (by show s / 128 * 128 + (p.val + _ % 128) = p.val + s; rw [hs]; omega)]

theorem accv_at : ∀ (k : ℕ) (hk : k < 9), (accv i x hx c hc k hk (ix2 b p) : EReal)
    = ∑ j : Fin (k + 1), rowv i x hx c hc j.val (by omega) (ix2 b p) * (wts x c hc (ix2 0 ⟨j.val, by omega⟩) : EReal)
  | 0, hk => by
    rw [Fin.sum_univ_one]
    show wt (wts x c hc) 0 _ (ix2 b p) * own i x c hc (ix2 b p) = own i x c hc (ix2 b p) * _
    rw [wt_at]
    exact mul_comm _ _
  | k + 1, hk => by
    rw [Fin.sum_univ_castSucc]
    show accv i x hx c hc k _ (ix2 b p) + wt (wts x c hc) (k + 1) _ (ix2 b p) * lead i x hx c k hc _ (ix2 b p) = _ + lead i x hx c k hc _ (ix2 b p) * _
    rw [wt_at, accv_at k (by omega)]
    exact congrArg₂ (· + ·) rfl (mul_comm _ _)

theorem yv_at : (yv i x hx c hc (ix2 b p) : EReal)
    = (∑ j : Fin 9, rowv i x hx c hc j.val j.isLt (ix2 b p) * (wts x c hc (ix2 0 j) : EReal)) * x.SD (ix3 ⟨c, hc⟩ b 0) + x.MU (ix3 ⟨c, hc⟩ b 0) := by
  have col_at : ∀ v : Vec Ideal S48x16x1 .f32, broadcastTo S16x336 (shapeCast S16x1 (VecWindow.window v ![c, 0, 0] S1x16x1.size (col_inb hc) : Vec Ideal S1x16x1 .f32) shapeCasts_S1x16x1_S16x1) broadcasts_S16x1_S16x336 (ix2 b p)
      = v (ix3 ⟨c, hc⟩ b 0) := fun v => by
    rw [broadcastTo_apply _ _ _ (ix2 b 0 : S16x1.Idx) (fun a => match a with
      | ⟨0, _⟩ => rfl
      | ⟨1, _⟩ => rfl), shapeCast_apply _ _ _ (ix3 0 b 0 : S1x16x1.Idx) (by
      rw [Shape.rowMajor_val_two, Shape.rowMajor_val_three]
      show (0 * 16 + b.val) * 1 + 0 = b.val * 1 + 0
      omega)]
    unfold VecWindow.window
    refine congrArg v (funext fun a => Fin.ext ?_)
    match a with
    | ⟨0, _⟩ => rfl
    | ⟨1, _⟩ => show 0 + 1 * b.val = b.val; omega
    | ⟨2, _⟩ => rfl
  unfold yv denorm
  rw [← accv_at b p i x hx c hc 8 (by omega), ← col_at x.SD, ← col_at x.MU]
  rfl

theorem wts_at (j : Fin 9) : (wts x c hc (ix2 0 j) : EReal) = Spec.soft (fun e => x.LW (ix3 ⟨c, hc⟩ 0 e)) j := by
  unfold wts
  rw [soft_at]
  refine congrArg (Spec.soft · j) (funext fun e => ?_)
  unfold VecWindow.window
  refine congrArg x.LW (funext fun a => Fin.ext ?_)
  match a with
  | ⟨0, _⟩ => rfl
  | ⟨1, _⟩ => rfl
  | ⟨2, _⟩ => show 0 + 1 * e.val = e.val; omega

end

/-! ## The blocks -/

section
variable (i : grid1.Coords) (x : Ins Ideal) (hx : x.Ok i) (c : Fin 48)

theorem G10_at : G10 i x hx (ix3 c b p) = yv i x hx c.val c.isLt (ix2 b p) := by
  unfold G10
  refine shapeCast_apply _ _ _ _ ?_
  rw [Shape.rowMajor_val_two, Shape.rowMajor_val_three]
  show b.val * 336 + p.val = (0 * 16 + b.val) * 336 + p.val
  omega

theorem G11_at (e : Fin 9) : G11 i x hx (ix4 c e b p) = rowv i x hx c.val c.isLt e.val e.isLt (ix2 b p) := by
  unfold G11
  refine shapeCast_apply _ _ _ _ ?_
  rw [Shape.rowMajor_val_two, Shape.rowMajor_val_four]
  show b.val * 336 + p.val = ((0 * 1 + 0) * 16 + b.val) * 336 + p.val
  omega

end

end Cert.KernelIdeal

end
-- ==== Proof.KerOut.lean ====
/-
  The two arrays the second region leaves, at an index, as terms of the arguments.
-/
module

public import proofs.«01_k».proof.Proof.KerArr
public import proofs.«01_k».proof.Proof.KerB
public import proofs.«01_k».proof.Proof.Cond

@[expose] public section

set_option maxRecDepth 16384

noncomputable section

namespace Cert.KernelIdeal

open Cert.KernelIdeal.Gen
open Idealize.ShloMosaic hiding ix0 ix1 ix2 ix3 ix4 eq_ix1 eq_ix2 eq_ix3 eq_ix4
open Idealize.ShloMosaic.TcCoe
open Idealize.ShloMosaic.ValueIdx

/-- The place of channel `ch`'s leader `k` in the flat lists. -/
abbrev place (ch : Fin 321) (k : Fin 8) : Fin 2568 := ⟨ch.val * 8 + k.val, by have := ch.isLt; have := k.isLt; omega⟩

theorem padI_at (v : IVec S2568 32) (r : Fin 336) (ch : Fin 321) (k : Fin 8) (h : r.val = ch.val) : padI (F := Ideal) v (ix2 r k) = v (ix1 (place ch k)) := by
  unfold padI
  rw [pad_apply_of_inside _ _ _ _ _ _ _ _ (ix2 ch k : S321x8.Idx) (fun a => match a with
    | ⟨0, _⟩ => (by show r.val = 0 + ch.val * (0 + 1); omega)
    | ⟨1, _⟩ => (by show k.val = 0 + k.val * (0 + 1); omega))]
  refine shapeCast_apply _ _ _ _ ?_
  rw [Shape.rowMajor_val_two, Shape.rowMajor_val_one]
  rfl

theorem padF_at (v : FVec Ideal S2568 .f32) (r : Fin 336) (ch : Fin 321) (k : Fin 8) (h : r.val = ch.val) : padF (F := Ideal) v (ix2 r k) = v (ix1 (place ch k)) := by
  unfold padF
  rw [pad_apply_of_inside _ _ _ _ _ _ _ _ (ix2 ch k : S321x8.Idx) (fun a => match a with
    | ⟨0, _⟩ => (by show r.val = 0 + ch.val * (0 + 1); omega)
    | ⟨1, _⟩ => (by show k.val = 0 + k.val * (0 + 1); omega))]
  refine shapeCast_apply _ _ _ _ ?_
  rw [Shape.rowMajor_val_two, Shape.rowMajor_val_one]
  rfl

theorem lwv_at (v : FVec Ideal S321x9 .f32) (r : Fin 336) (ch : Fin 321) (e : Fin 9) (h : r.val = ch.val) : lwv (F := Ideal) v (ix3 r 0 e) = v (ix2 ch e) := by
  unfold lwv
  rw [shapeCast_apply _ _ _ (ix2 r e : S336x9.Idx) (by
    rw [Shape.rowMajor_val_two, Shape.rowMajor_val_three]
    show r.val * 9 + e.val = (r.val * 1 + 0) * 9 + e.val
    omega)]
  exact pad_apply_of_inside _ _ _ _ _ _ _ _ (ix2 ch e : S321x9.Idx) (fun a => match a with
    | ⟨0, _⟩ => (by show r.val = 0 + ch.val * (0 + 1); omega)
    | ⟨1, _⟩ => (by show e.val = 0 + e.val * (0 + 1); omega))

section
variable (m : (ℓ : Loc nD τ sig) → Buf (Elt Ideal) ℓ) (c : Dev nD)

/-- The histories, the weights, the shifts and the logits. -/
abbrev histK (m : (ℓ : Loc nD τ sig) → Buf (Elt Ideal) ℓ) (c : Dev nD) (b : Fin 16) : Fin 321 → Fin 720 → EReal := fun ch k => argX m c (ix3 b k ch)
abbrev wmatK (m : (ℓ : Loc nD τ sig) → Buf (Elt Ideal) ℓ) (c : Dev nD) : Fin 336 → Fin 720 → EReal := fun p k => argW m c (ix2 p k)
abbrev shiftK (m : (ℓ : Loc nD τ sig) → Buf (Elt Ideal) ℓ) (c : Dev nD) (ch : Fin 321) : Fin 8 → EReal := fun k => argS m c (ix1 (place ch k))
abbrev logitK (m : (ℓ : Loc nD τ sig) → Buf (Elt Ideal) ℓ) (c : Dev nD) (ch : Fin 321) : Fin 9 → EReal := fun e => argLW m c (ix2 ch e)

theorem rowP_at (a : Fin 384) (ch : Fin 321) (b : Fin 16) (h : a.val = ch.val) : rowP (V1 m) c a b = histK m c b ch := by
  funext k
  show (V1 m c main_call0_v30 : Vec Ideal S384x16x720 .f32) (ix3 a b k) = _
  rw [V1_v30, pad_apply_of_inside _ _ _ _ _ _ _ _ (ix3 ch b k : S321x16x720.Idx) (fun d => match d with
    | ⟨0, _⟩ => (by show a.val = 0 + ch.val * (0 + 1); omega)
    | ⟨1, _⟩ => (by show b.val = 0 + b.val * (0 + 1); omega)
    | ⟨2, _⟩ => (by show k.val = 0 + k.val * (0 + 1); omega))]
  exact transpose_apply _ _ _ _ _ (fun d => match d with
    | ⟨0, _⟩ => rfl
    | ⟨1, _⟩ => rfl
    | ⟨2, _⟩ => rfl)

theorem rowQ_at : rowQ (V1 m) c = wmatK m c := by
  funext p k
  show (V1 m c main_arg3 : Vec Ideal S336x720 .f32) (ix2 p k) = _
  rw [V1_arg3]

theorem W3_v31 : (W3 m c main_call0_v31_0 : Vec Ideal S384x16x1152 .f32) = fun i => Spec.seq (rowP (V1 m) c (i 0) (i 1)) (rowQ (V1 m) c) (i 2).val :=
  (after1_v31 (W2 m c)).trans ((W2_0 m c).trans (arr_seq (V1 m) c))

theorem W3_v32 (a : Fin 384) (b : Fin 16) : (W3 m c main_call0_v32 : Vec Ideal S384x16x1 .f32) (ix3 a b 0) = Spec.mean (rowP (V1 m) c a b) := by
  have e : (W3 m c main_call0_v32 : Vec Ideal S384x16x1 .f32) = _ := after1_v32 (W2 m c)
  rw [e, shapeCast_apply _ _ _ (ix2 a b : S384x16.Idx) (by
    rw [Shape.rowMajor_val_two, Shape.rowMajor_val_three]
    show a.val * 16 + b.val = (a.val * 16 + b.val) * 1 + 0
    omega)]
  exact congrFun ((W2_1 m c).trans (arr_mean (V1 m) c)) (ix2 a b)

theorem W3_v33 (a : Fin 384) (b : Fin 16) : (W3 m c main_call0_v33 : Vec Ideal S384x16x1 .f32) (ix3 a b 0) = Spec.sd (rowP (V1 m) c a b) := by
  have e : (W3 m c main_call0_v33 : Vec Ideal S384x16x1 .f32) = _ := after1_v33 (W2 m c)
  rw [e, shapeCast_apply _ _ _ (ix2 a b : S384x16.Idx) (by
    rw [Shape.rowMajor_val_two, Shape.rowMajor_val_three]
    show a.val * 16 + b.val = (a.val * 16 + b.val) * 1 + 0
    omega)]
  exact congrFun ((W2_2 m c).trans (arr_sd (V1 m) c)) (ix2 a b)

variable (t : Fin cfg1.N)

theorem off_step : (BitVec.ofNat 32 (grid1.coords t 0).val).toNat = t.val := by
  have h : t.val < 7 := t.isLt
  rw [coords1, BitVec.toNat_ofNat]
  omega

theorem step_row (a : Fin 48) : 48 * t.val + a.val < 336 := by
  have h : t.val < 7 := t.isLt
  have := a.isLt
  omega

theorem LW_at (a : Fin 48) (ch : Fin 321) (e : Fin 9) (h : 48 * t.val + a.val = ch.val) : (insB (W3 m) c t).LW (ix3 a 0 e) = logitK m c ch e := by
  have o := off_step t
  show _ = argLW m c (ix2 ch e)
  rw [← lwv_at (argLW m c) ⟨48 * t.val + a.val, step_row t a⟩ ch e h, ← W3_v35]
  refine congrArg (W3 m c main_call0_v35 : Vec Ideal S336x1x9 .f32) (funext fun d => Fin.ext ?_)
  match d with
  | ⟨0, _⟩ => show (BitVec.ofNat 32 (grid1.coords t 0).val).toNat * 48 + 1 * a.val = 48 * t.val + a.val; omega
  | ⟨1, _⟩ => show 0 * 1 + 1 * 0 = 0; omega
  | ⟨2, _⟩ => show 0 * 9 + 1 * e.val = e.val; omega

theorem MU_at (a : Fin 48) (ch : Fin 321) (b : Fin 16) (h : 48 * t.val + a.val = ch.val) : (insB (W3 m) c t).MU (ix3 a b 0) = Spec.mean (histK m c b ch) := by
  have o := off_step t
  have s := step_row t a
  rw [← rowP_at m c ⟨48 * t.val + a.val, by omega⟩ ch b h, ← W3_v32]
  refine congrArg (W3 m c main_call0_v32 : Vec Ideal S384x16x1 .f32) (funext fun d => Fin.ext ?_)
  match d with
  | ⟨0, _⟩ => show (BitVec.ofNat 32 (grid1.coords t 0).val).toNat * 48 + 1 * a.val = 48 * t.val + a.val; omega
  | ⟨1, _⟩ => show 0 * 16 + 1 * b.val = b.val; omega
  | ⟨2, _⟩ => show 0 * 1 + 1 * 0 = 0; omega

theorem SD_at (a : Fin 48) (ch : Fin 321) (b : Fin 16) (h : 48 * t.val + a.val = ch.val) : (insB (W3 m) c t).SD (ix3 a b 0) = Spec.sd (histK m c b ch) := by
  have o := off_step t
  have s := step_row t a
  rw [← rowP_at m c ⟨48 * t.val + a.val, by omega⟩ ch b h, ← W3_v33]
  refine congrArg (W3 m c main_call0_v33 : Vec Ideal S384x16x1 .f32) (funext fun d => Fin.ext ?_)
  match d with
  | ⟨0, _⟩ => show (BitVec.ofNat 32 (grid1.coords t 0).val).toNat * 48 + 1 * a.val = 48 * t.val + a.val; omega
  | ⟨1, _⟩ => show 0 * 16 + 1 * b.val = b.val; omega
  | ⟨2, _⟩ => show 0 * 1 + 1 * 0 = 0; omega

theorem SQ_at (a : Fin 384) (ch : Fin 321) (b : Fin 16) (q : Fin 1152) (h : a.val = ch.val) :
    (insB (W3 m) c t).SQ (ix3 a b q) = Spec.seq (histK m c b ch) (wmatK m c) q.val := by
  rw [← rowP_at m c a ch b h, ← rowQ_at]
  exact congrFun (W3_v31 m c) (ix3 a b q)

variable (hL : ∀ c i, (argL m c i : BitVec 32).toNat < 321)

/-- The channels a channel's leaders name. -/
abbrev leadK (m : (ℓ : Loc nD τ sig) → Buf (Elt Ideal) ℓ) (c : Dev nD) (hL : ∀ c i, (argL m c i : BitVec 32).toNat < 321) (ch : Fin 321) : Fin 8 → Fin 321 :=
  fun k => ⟨(argL m c (ix1 (place ch k)) : BitVec 32).toNat, hL c _⟩

variable (hok : ∀ c t, (insB (W3 m) c t).Ok (grid1.coords t)) (a : Fin 48) (ch : Fin 321) (h : 48 * t.val + a.val = ch.val) (b : Fin 16) (p : Fin 336)

include h

theorem row_t : 48 * (grid1.coords t 0).val + a.val = ch.val := by rw [coords1, h]

theorem row_out (e : Fin 9) : (rowv (grid1.coords t) (insB (W3 m) c t) (hok c t) a.val a.isLt e.val e.isLt (ix2 b p) : EReal)
    = Spec.row (histK m c b) (wmatK m c) (leadK m c hL ch) (shiftK m c ch) ch p e := by
  have hp := p.isLt
  have hr := row_t t a ch h
  refine Fin.cases ?_ (fun k => ?_) e
  · show own (grid1.coords t) (insB (W3 m) c t) a.val a.isLt (ix2 b p) = Spec.fore (histK m c b ch) (wmatK m c p)
    rw [own_at, SQ_at m c t _ ch b _ hr]
    show Spec.seq _ _ (720 + p.val) = _
    unfold Spec.seq
    rw [dif_neg (by omega), dif_pos (by omega)]
    exact congrArg (fun u => Spec.fore (histK m c b ch) (wmatK m c u)) (Fin.ext (by show 720 + p.val - 720 = p.val; omega))
  · show (lead (grid1.coords t) (insB (W3 m) c t) (hok c t) a.val k.val a.isLt k.isLt (ix2 b p) : EReal) = Spec.lead (histK m c b (leadK m c hL ch k)) (wmatK m c) (shiftK m c ch k) p
    obtain ⟨h1, h2, h3, -, h5, h6⟩ := Spec.lo_hi (shiftK m c ch k)
    have eS : (tab (grid1.coords t) (insB (W3 m) c t).S a.val k.val a.isLt k.isLt : BitVec 32).toNat = 720 - Spec.hi (shiftK m c ch k) := by
      rw [tab_at, insB_S, W3_v14, padI_at _ _ ch _ hr, ceil_word, h5, Spec.word_sub 720 _ (by omega) h3, BitVec.toNat_ofNat]
      omega
    have eD : (tab (grid1.coords t) (insB (W3 m) c t).D a.val k.val a.isLt k.isLt : BitVec 32).toNat = Spec.hi (shiftK m c ch k) - Spec.lo (shiftK m c ch k) := by
      rw [tab_at, insB_D, W3_v18, padI_at _ _ ch _ hr]
      have e : deltav (F := Ideal) (argS m c) (ix1 (place ch k)) = BitVec.ofNat 32 (Spec.hi (shiftK m c ch k) - Spec.lo (shiftK m c ch k)) := by
        rw [← h6, ← shv_apply]
        rfl
      rw [e, BitVec.toNat_ofNat]
      omega
    have eL : (tab (grid1.coords t) (insB (W3 m) c t).L a.val k.val a.isLt k.isLt : BitVec 32).toNat = (leadK m c hL ch k).val := by
      rw [tab_at, insB_L, W3_v28, padI_at _ _ ch _ hr]
    have eF : (tab (grid1.coords t) (insB (W3 m) c t).WF a.val k.val a.isLt k.isLt : EReal) = Spec.wlo (shiftK m c ch k) := by
      rw [tab_at, insB_WF, W3_v21, padF_at _ _ ch _ hr]
      unfold Spec.wlo
      rw [← shv_apply]
      rfl
    have eC : (tab (grid1.coords t) (insB (W3 m) c t).WC a.val k.val a.isLt k.isLt : EReal) = Spec.whi (shiftK m c ch k) := by
      rw [tab_at, insB_WC, W3_v26, padF_at _ _ ch _ hr]
      unfold Spec.whi
      rw [← shv_apply, ← Ideal.ofBits_one_f32]
      rfl
    rw [lead_at b p (grid1.coords t) (insB (W3 m) c t) (hok c t) a.val a.isLt k.val k.isLt ⟨(leadK m c hL ch k).val, by have := (leadK m c hL ch k).isLt; omega⟩
      (720 - Spec.hi (shiftK m c ch k)) (Spec.hi (shiftK m c ch k) - Spec.lo (shiftK m c ch k)) eL eS eD (by omega) (by omega),
      SQ_at m c t _ (leadK m c hL ch k) b _ rfl, SQ_at m c t _ (leadK m c hL ch k) b _ rfl, eF, eC]
    unfold Spec.lead
    refine congrArg₂ (fun u v => Spec.seq _ _ u * _ + Spec.seq _ _ v * _) ?_ ?_
    · show p.val + (720 - Spec.hi (shiftK m c ch k)) + (Spec.hi (shiftK m c ch k) - Spec.lo (shiftK m c ch k)) = 720 + p.val - Spec.lo (shiftK m c ch k)
      omega
    · show p.val + (720 - Spec.hi (shiftK m c ch k)) = 720 + p.val - Spec.hi (shiftK m c ch k)
      omega

theorem y_out : (yv (grid1.coords t) (insB (W3 m) c t) (hok c t) a.val a.isLt (ix2 b p) : EReal)
    = Spec.out (histK m c b) (wmatK m c) (leadK m c hL ch) (shiftK m c ch) (logitK m c ch) ch p := by
  rw [yv_at]
  show _ * (insB (W3 m) c t).SD (ix3 a b 0) + (insB (W3 m) c t).MU (ix3 a b 0) = _
  rw [SD_at m c t a ch b h, MU_at m c t a ch b h]
  unfold Spec.out
  refine congrArg (· * Spec.sd (histK m c b ch) + Spec.mean (histK m c b ch)) (Finset.sum_congr rfl fun e _ => ?_)
  rw [row_out m c t hL hok a ch h b p e, wts_at]
  exact congrArg (fun l => _ * Spec.soft l e) (funext fun e => LW_at m c t a ch e h)

end

section
variable (m : (ℓ : Loc nD τ sig) → Buf (Elt Ideal) ℓ) (c : Dev nD) (hL : ∀ c i, (argL m c i : BitVec 32).toNat < 321)
  (hok : ∀ c t, (insB (W3 m) c t).Ok (grid1.coords t))

theorem arr_y : ((dat1 (W3 m) hok c).arrAt 8 cfg1.N : Vec Ideal S321x16x336 .f32)
    = fun i => Spec.out (histK m c (i 1)) (wmatK m c) (leadK m c hL (i 0)) (shiftK m c (i 0)) (logitK m c (i 0)) (i 0) (i 2) := by
  refine (dat1 (W3 m) hok c).arrAt_eq_of_covers 8 _ (by decide +kernel) fun t hf y => ?_
  have o := off_step t
  obtain ⟨a, b, p, hz⟩ : ∃ (a : Fin 48) (b : Fin 16) (p : Fin 336), ((win1_8.xinj (cfg1.grid.coords t) y : S48x16x336.Idx)) = ix3 a b p := ⟨_, _, _, eq_ix3 _⟩
  have ha : a.val = (y 0).val := (congrArg (fun z : S48x16x336.Idx => (z 0).val) hz).symm
  have hb : b.val = (y 1).val := (congrArg (fun z : S48x16x336.Idx => (z 1).val) hz).symm
  have hp : p.val = (y 2).val := (congrArg (fun z : S48x16x336.Idx => (z 2).val) hz).symm
  show G10 (grid1.coords t) (insB (W3 m) c t) (hok c t) (win1_8.xinj (cfg1.grid.coords t) y) = _
  rw [hz, G10_at]
  have e0 : 48 * t.val + a.val = (((win1_8.blk t).view.emb y) 0).val := by
    show 48 * t.val + a.val = (BitVec.ofNat 32 (grid1.coords t 0).val).toNat * 48 + 1 * (y 0).val
    omega
  have e1 : b = ((win1_8.blk t).view.emb y) 1 := Fin.ext (by show b.val = 0 * 16 + 1 * (y 1).val; omega)
  have e2 : p = ((win1_8.blk t).view.emb y) 2 := Fin.ext (by show p.val = 0 * 336 + 1 * (y 2).val; omega)
  rw [y_out m c t hL hok a (((win1_8.blk t).view.emb y) 0) e0 b p]
  exact congrArg₂ (fun u v => Spec.out (histK m c u) (wmatK m c) _ _ _ _ v) e1 e2

theorem arr_rows : ((dat1 (W3 m) hok c).arrAt 9 cfg1.N : Vec Ideal S321x9x16x336 .f32)
    = fun i => Spec.row (histK m c (i 2)) (wmatK m c) (leadK m c hL (i 0)) (shiftK m c (i 0)) (i 0) (i 3) (i 1) := by
  refine (dat1 (W3 m) hok c).arrAt_eq_of_covers 9 _ (by decide +kernel) fun t hf y => ?_
  have o := off_step t
  obtain ⟨a, e, b, p, hz⟩ : ∃ (a : Fin 48) (e : Fin 9) (b : Fin 16) (p : Fin 336), ((win1_9.xinj (cfg1.grid.coords t) y : S48x9x16x336.Idx)) = ix4 a e b p := ⟨_, _, _, _, eq_ix4 _⟩
  have ha : a.val = (y 0).val := (congrArg (fun z : S48x9x16x336.Idx => (z 0).val) hz).symm
  have he : e.val = (y 1).val := (congrArg (fun z : S48x9x16x336.Idx => (z 1).val) hz).symm
  have hb : b.val = (y 2).val := (congrArg (fun z : S48x9x16x336.Idx => (z 2).val) hz).symm
  have hp : p.val = (y 3).val := (congrArg (fun z : S48x9x16x336.Idx => (z 3).val) hz).symm
  show G11 (grid1.coords t) (insB (W3 m) c t) (hok c t) (win1_9.xinj (cfg1.grid.coords t) y) = _
  rw [hz, G11_at]
  have e0 : 48 * t.val + a.val = (((win1_9.blk t).view.emb y) 0).val := by
    show 48 * t.val + a.val = (BitVec.ofNat 32 (grid1.coords t 0).val).toNat * 48 + 1 * (y 0).val
    omega
  have e1 : e = ((win1_9.blk t).view.emb y) 1 := Fin.ext (by show e.val = 0 * 9 + 1 * (y 1).val; omega)
  have e2 : b = ((win1_9.blk t).view.emb y) 2 := Fin.ext (by show b.val = 0 * 16 + 1 * (y 2).val; omega)
  have e3 : p = ((win1_9.blk t).view.emb y) 3 := Fin.ext (by show p.val = 0 * 336 + 1 * (y 3).val; omega)
  rw [row_out m c t hL hok a (((win1_9.blk t).view.emb y) 0) e0 b p e]
  exact (congrFun (congrArg₂ (fun (u : Fin 16) (v : Fin 336) => Spec.row (histK m c u) (wmatK m c) _ _ _ v) e2 e3) e).trans (congrArg (Spec.row _ _ _ _ _ _) e1)

/-- The kernel's two results, at an index. -/
theorem out_ker (b : Fin 16) (p : Fin 336) (ch : Fin 321) : (StableHlo.after hostOps2 (W4 m hok c) main_v0_0 : Vec Ideal S16x336x321 .f32) (ix3 b p ch)
    = Spec.out (histK m c b) (wmatK m c) (leadK m c hL ch) (shiftK m c ch) (logitK m c ch) ch p := by
  rw [after2_0, transpose_apply _ _ _ _ (ix3 ch b p : S321x16x336.Idx) (fun d => match d with
    | ⟨0, _⟩ => rfl
    | ⟨1, _⟩ => rfl
    | ⟨2, _⟩ => rfl)]
  exact congrFun ((W4_0 m hok c).trans (arr_y m c hL hok)) (ix3 ch b p)

theorem rows_ker (b : Fin 16) (p : Fin 336) (ch : Fin 321) (e : Fin 9) : (StableHlo.after hostOps2 (W4 m hok c) main_v0_1 : Vec Ideal S16x336x321x9 .f32) (ix4 b p ch e)
    = Spec.row (histK m c b) (wmatK m c) (leadK m c hL ch) (shiftK m c ch) ch p e := by
  rw [after2_1, transpose_apply _ _ _ _ (ix4 ch e b p : S321x9x16x336.Idx) (fun d => match d with
    | ⟨0, _⟩ => rfl
    | ⟨1, _⟩ => rfl
    | ⟨2, _⟩ => rfl
    | ⟨3, _⟩ => rfl)]
  exact congrFun ((W4_1 m hok c).trans (arr_rows m c hL hok)) (ix4 ch e b p)

end

end Cert.KernelIdeal

end
-- ==== Proof.RefMean.lean ====
/-
  The reference's statistics and its linear forecast, at an index.
-/
module

public import proofs.«01_k».proof.Proof.Gen.ReferenceIdeal.Read
public import proofs.«01_k».proof.Proof.Spec
public import Idealize.ShloMosaic.Lib.Pointwise

@[expose] public section

noncomputable section

namespace Cert.ReferenceIdeal.Read

open Cert.ReferenceIdeal Cert.ReferenceIdeal.Gen
open Idealize.ShloMosaic hiding ix0 ix1 ix2 ix3 ix4 eq_ix1 eq_ix2 eq_ix3 eq_ix4
open Idealize.ShloMosaic.ValueIdx

variable (x0 : FVec Ideal S16x720x321 .f32) (x3 : FVec Ideal S336x720 .f32)

/-- A channel's history in one batch. -/
abbrev hist (b : Fin 16) (c : Fin 321) : Fin 720 → EReal := fun s => x0 (ix3 b s c)
abbrev wmat : Fin 336 → Fin 720 → EReal := fun p s => x3 (ix2 p s)

variable (b : Fin 16) (c : Fin 321) (s : Fin 720) (p : Fin 336) (z : Fin 1)

theorem zero_word : Ideal.ofBits .f32 0x00000000#32 = 0 := Ideal.ofBits_zero_f32

theorem sum_ref : val_main_v0 (F := Ideal) x0 (ix2 b c) = ∑ k, hist x0 b c k := by
  rw [val_main_v0_apply, val_main_cst_apply]
  show Ideal.ofBits .f32 0x00000000#32 + _ = _
  rw [zero_word, zero_add]
  exact Finset.sum_congr rfl fun k _ => congrArg x0 (eq_ix3 _)

theorem mean_ref : val_main_v3 (F := Ideal) x0 (ix3 b z c) = Spec.mean (hist x0 b c) := by
  rw [val_main_v3_apply, val_main_v1_apply, val_main_v2_apply, show idx_main_v1 (ix3 b z c) = ix2 b c from eq_ix2 _, sum_ref]
  rfl

theorem mean_ref' : val_main_call0_v3 (F := Ideal) x0 (ix3 b z c) = Spec.mean (hist x0 b c) := mean_ref x0 b c z

theorem dev_ref : val_main_call0_v5 (F := Ideal) x0 (ix3 b s c) = Spec.dev (hist x0 b c) s := by
  rw [val_main_call0_v5_apply, val_main_call0_v4_apply, show idx_main_call0_v4 (ix3 b s c) = ix3 b 0 c from eq_ix3 _, mean_ref']
  rfl

theorem sq_ref : val_main_call0_v9 (F := Ideal) x0 (ix2 b c) = ∑ k, Spec.dev (hist x0 b c) k * Spec.dev (hist x0 b c) k := by
  rw [val_main_call0_v9_apply, val_main_call0_cst_2_apply]
  show Ideal.ofBits .f32 0x00000000#32 + _ = _
  rw [zero_word, zero_add]
  refine Finset.sum_congr rfl fun k _ => ?_
  rw [show idx_main_call0_v9 (ix2 b c) k = ix3 b k c from eq_ix3 _, val_main_call0_v6_apply, dev_ref]
  rfl

/-- The reference divides by the length less no degree of freedom. -/
theorem len_ref : val_main_call0_v8 (F := Ideal) (Shape.Idx.first h_S_) = Spec.len := by
  rw [val_main_call0_v8_apply, val_main_call0_cst_1_apply, val_main_call0_v7_apply, val_main_c_apply]
  show Ideal.ofBits .f32 0x44340000#32 - ((((0#32 : BitVec 32).toInt : ℝ)) : EReal) = _
  simp

theorem pos_ref : val_main_call0_v13 (F := Ideal) (Shape.Idx.first h_S_) = 1#1 := by
  rw [val_main_call0_v13_apply, len_ref, val_main_call0_cst_3_apply]
  show Ideal.cmp .ogt (Ideal.ofBits .f32 0x44340000#32) (Ideal.ofBits .f32 0x00000000#32) = 1#1
  rw [zero_word, Shifts.bits_720]
  have h : (0 : EReal) < ((720 : ℝ) : EReal) := by exact_mod_cast (by norm_num : (0:ℝ) < 720)
  simp [Ideal.cmp, h]

theorem var_ref : val_main_v4 (F := Ideal) x0 (ix3 b z c) = Ideal.div (∑ k, Spec.dev (hist x0 b c) k * Spec.dev (hist x0 b c) k) Spec.len := by
  unfold val_main_v4
  rw [select_apply, broadcastInDim_apply _ _ _ _ (Shape.Idx.first h_S_) (fun a => a.elim0), pos_ref, show ∀ u v : EReal, Scalar.select 1#1 u v = u from fun _ _ => rfl, val_main_call0_v12_apply, val_main_call0_v10_apply,
    show idx_main_call0_v10 (ix3 b z c) = ix2 b c from eq_ix2 _, sq_ref, val_main_call0_v11_apply]
  rw [show idx_main_call0_v11 (ix3 b z c) = Shape.Idx.first h_S_ from funext fun a => a.elim0, len_ref]
  rfl

theorem sd_ref : val_main_v7 (F := Ideal) x0 (ix3 b z c) = Spec.sd (hist x0 b c) := by
  rw [val_main_v7_apply, val_main_v6_apply, var_ref, val_main_v5_apply]
  rfl

theorem nrm_ref : val_main_v11 (F := Ideal) x0 (ix3 b s c) = Spec.nrm (hist x0 b c) s := by
  rw [val_main_v11_apply, val_main_v9_apply, val_main_v8_apply, val_main_v10_apply, show idx_main_v8 (ix3 b s c) = ix3 b 0 c from eq_ix3 _,
    show idx_main_v10 (ix3 b s c) = ix3 b 0 c from eq_ix3 _, mean_ref, sd_ref]
  rfl

theorem fore_ref : val_main_v13 (F := Ideal) x0 x3 (ix3 b p c) = Spec.fore (hist x0 b c) (wmat x3 p) := by
  rw [val_main_v13_apply, show idx_main_v13 (ix3 b p c) = ix3 p b c from eq_ix3 _, val_main_v12_apply]
  refine Finset.sum_congr rfl fun k _ => ?_
  rw [show ridx_main_v12 (ix3 p b c) k = ix3 b k c from eq_ix3 _, show lidx_main_v12 (ix3 p b c) k = ix2 p k from eq_ix2 _, nrm_ref]
  exact mul_comm _ _

end Cert.ReferenceIdeal.Read

end
-- ==== Proof.RefGather.lean ====
/-
  The reference's two kinds of gather, at an index.
-/
module

public import proofs.«01_k».proof.Proof.Gen.ReferenceIdeal.Read

@[expose] public section

noncomputable section

namespace Cert.ReferenceIdeal.Read

open Cert.ReferenceIdeal Cert.ReferenceIdeal.Gen
open Idealize.ShloMosaic
open Idealize.ShloMosaic.ValueIdx

variable {α : Type}

/-- The leaders' channels: a row of the last axis per start index. -/
theorem gather_chan (x : S16x1056x321.Idx → α) (idx : IVec S2568x1 32) (b : Fin 16) (q : Fin 1056) (j : Fin 2568) (n : Fin 321)
    (hn : (idx (ix2 j 0)).toInt.toNat = n.val) :
    Host.gather gather_S16x1056x321_S2568x1_S16x1056x2568_01_2_n_n_2_1_1610561 x idx (ix3 b q j) = x (ix3 b q n) := by
  unfold Host.gather
  congr 1
  funext a
  refine Fin.ext ?_
  show GatherDims.start _ _ idx a + GatherDims.batchCoord _ _ a + GatherDims.offCoord _ _ a = _
  fin_cases a
  · show 0 + 0 + b.val = b.val
    omega
  · show 0 + 0 + q.val = q.val
    omega
  · have hs : gather_S16x1056x321_S2568x1_S16x1056x2568_01_2_n_n_2_1_1610561.start (ix3 b q j) idx 2 = n.val := by
      unfold GatherDims.start
      rw [dif_pos (show (2 : Fin S16x1056x321.rank) ∈ gather_S16x1056x321_S2568x1_S16x1056x2568_01_2_n_n_2_1_1610561.startIndexMap from List.mem_singleton.mpr rfl)]
      have hsi : gather_S16x1056x321_S2568x1_S16x1056x2568_01_2_n_n_2_1_1610561.siIdx (ix3 b q j)
          ⟨List.idxOf (2 : Fin 3) [2], List.idxOf_lt_length_iff.2 (List.mem_singleton.mpr rfl)⟩ = ix2 j 0 := by
        funext a
        refine Fin.ext ?_
        match a with
        | ⟨0, _⟩ => rfl
        | ⟨1, _⟩ => rfl
      show min (idx (gather_S16x1056x321_S2568x1_S16x1056x2568_01_2_n_n_2_1_1610561.siIdx (ix3 b q j)
          ⟨List.idxOf (2 : Fin 3) [2], List.idxOf_lt_length_iff.2 (List.mem_singleton.mpr rfl)⟩)).toInt.toNat (321 - 1) = n.val
      rw [hsi, hn]
      omega
    show gather_S16x1056x321_S2568x1_S16x1056x2568_01_2_n_n_2_1_1610561.start (ix3 b q j) idx 2 + 0 + 0 = n.val
    rw [hs]
    rfl

/-- The places along a sequence: an element of the middle axis per start index. -/
theorem gather_place (x : S16x1056x2568.Idx → α) (idx : IVec S16x336x2568x1 32) (b : Fin 16) (p : Fin 336) (j : Fin 2568) (q : Fin 1056)
    (hq : (idx (ix4 b p j 0)).toInt.toNat = q.val) :
    Host.gather gather_S16x1056x2568_S16x336x2568x1_S16x336x2568_n_1_02_02_1_3_111 x idx (ix3 b p j) = x (ix3 b q j) := by
  unfold Host.gather
  congr 1
  funext a
  refine Fin.ext ?_
  show GatherDims.start _ _ idx a + GatherDims.batchCoord _ _ a + GatherDims.offCoord _ _ a = _
  fin_cases a
  · show 0 + b.val + 0 = b.val
    omega
  · have hs : gather_S16x1056x2568_S16x336x2568x1_S16x336x2568_n_1_02_02_1_3_111.start (ix3 b p j) idx 1 = q.val := by
      unfold GatherDims.start
      rw [dif_pos (show (1 : Fin S16x1056x2568.rank) ∈ gather_S16x1056x2568_S16x336x2568x1_S16x336x2568_n_1_02_02_1_3_111.startIndexMap from List.mem_singleton.mpr rfl)]
      have hsi : gather_S16x1056x2568_S16x336x2568x1_S16x336x2568_n_1_02_02_1_3_111.siIdx (ix3 b p j)
          ⟨List.idxOf (1 : Fin 3) [1], List.idxOf_lt_length_iff.2 (List.mem_singleton.mpr rfl)⟩ = ix4 b p j 0 := by
        funext a
        refine Fin.ext ?_
        match a with
        | ⟨0, _⟩ => rfl
        | ⟨1, _⟩ => rfl
        | ⟨2, _⟩ => rfl
        | ⟨3, _⟩ => rfl
      show min (idx (gather_S16x1056x2568_S16x336x2568x1_S16x336x2568_n_1_02_02_1_3_111.siIdx (ix3 b p j)
          ⟨List.idxOf (1 : Fin 3) [1], List.idxOf_lt_length_iff.2 (List.mem_singleton.mpr rfl)⟩)).toInt.toNat (1056 - 1) = q.val
      rw [hsi, hq]
      omega
    show gather_S16x1056x2568_S16x336x2568x1_S16x336x2568_n_1_02_02_1_3_111.start (ix3 b p j) idx 1 + 0 + 0 = q.val
    rw [hs]
    rfl
  · show 0 + j.val + 0 = j.val
    omega

/-- An and over a mask that holds everywhere. -/
theorem reduce_ones {s t u : Shape} {axes : List (Fin s.rank)} (x : s.Idx → BitVec 1) (init : u.Idx → BitVec 1) (h : s.ReducesTo axes t) (hu : 0 < u.numel)
    (hx : ∀ i, x i = 1#1) (hi : ∀ i, init i = 1#1) (j : t.Idx) : Host.reduce IntOp.andi x init h hu j = 1#1 := by
  unfold Host.reduce
  generalize (List.finRange s.numel).filter _ = l
  rw [hi]
  induction l with
  | nil => rfl
  | cons a l ih =>
    rw [List.foldl_cons, hx]
    exact ih

end Cert.ReferenceIdeal.Read

end
-- ==== Proof.RefSeq.lean ====
/-
  The reference's shifted sequences, at an index.
-/
module

public import proofs.«01_k».proof.Proof.RefMean
public import proofs.«01_k».proof.Proof.RefGather

@[expose] public section

noncomputable section

namespace Cert.ReferenceIdeal.Read

open Cert.ReferenceIdeal Cert.ReferenceIdeal.Gen
open Idealize.ShloMosaic hiding ix0 ix1 ix2 ix3 ix4 eq_ix1 eq_ix2 eq_ix3 eq_ix4
open Idealize.ShloMosaic.ValueIdx

variable (x0 : FVec Ideal S16x720x321 .f32) (x1 : IVec S2568 32) (x2 : FVec Ideal S2568 .f32) (x3 : FVec Ideal S336x720 .f32)
  (hL : ∀ i, (x1 i).toNat < 321)
variable (b : Fin 16) (c : Fin 321) (q : Fin 1056) (p : Fin 336) (j : Fin 2568)

theorem seq_ref : val_main_v14 (F := Ideal) x0 x3 (ix3 b q c) = Spec.seq (hist x0 b c) (wmat x3) q.val := by
  have hq := q.isLt
  unfold val_main_v14 Spec.seq
  by_cases h : q.val < 720
  · rw [dif_pos h, ← nrm_ref]
    refine concatenate_pair_apply_left (s₁ := S16x720x321) (s₂ := S16x336x321) (t := S16x1056x321) 1 (val_main_v11 (F := Ideal) x0) (val_main_v13 (F := Ideal) x0 x3) _ _ rfl (ix3 b ⟨q.val, h⟩ c) fun a => ?_
    match a with
    | ⟨0, _⟩ => rfl
    | ⟨1, _⟩ => rfl
    | ⟨2, _⟩ => rfl
  · have h' : q.val - 720 < 336 := by omega
    rw [dif_neg h, dif_pos h', ← fore_ref]
    refine concatenate_pair_apply_right (s₁ := S16x720x321) (s₂ := S16x336x321) (t := S16x1056x321) 1 (val_main_v11 (F := Ideal) x0) (val_main_v13 (F := Ideal) x0 x3) _ _ rfl rfl (ix3 b ⟨q.val - 720, h'⟩ c) (fun a ha => ?_) ?_
    · match a, ha with
      | ⟨0, _⟩, _ => rfl
      | ⟨1, _⟩, h => exact absurd rfl h
      | ⟨2, _⟩, _ => rfl
    · show q.val - 720 + 720 = q.val
      omega

theorem chan_word : ∀ n : Fin 321, IntOp.cmpi .slt (BitVec.ofNat 32 n.val) 0#32 = 0#1 ∧ (BitVec.ofNat 32 n.val).toInt.toNat = n.val := by decide +kernel

theorem place_word : ∀ n : Fin 1056, IntOp.cmpi .slt (BitVec.ofNat 32 n.val) 0#32 = 0#1 ∧ IntOp.cmpi .sge (BitVec.ofNat 32 n.val) 0#32 = 1#1
    ∧ IntOp.cmpi .sle (BitVec.ofNat 32 n.val) 1055#32 = 1#1 ∧ (BitVec.ofNat 32 n.val).toInt.toNat = n.val := by decide +kernel

/-- The channel that leader `j` names. -/
abbrev chan (j : Fin 2568) : Fin 321 := ⟨(x1 (ix1 j)).toNat, hL _⟩

theorem leader_ref : (val_main_v20 (F := Ideal) x1 (ix2 j 0)).toInt.toNat = (chan x1 hL j).val := by
  have h : x1 (ix1 j) = BitVec.ofNat 32 (chan x1 hL j).val := by
    apply BitVec.eq_of_toNat_eq
    rw [BitVec.toNat_ofNat]
    exact (Nat.mod_eq_of_lt (x1 (ix1 j)).isLt).symm
  obtain ⟨h1, h2⟩ := chan_word (chan x1 hL j)
  rw [← h] at h1 h2
  rw [val_main_v20_apply, show idx_main_v20 (ix2 j 0) = ix1 j from eq_ix1 _, val_main_v19_apply, val_main_v16_apply, val_main_v15_apply]
  show (Scalar.select (IntOp.cmpi .slt (x1 (ix1 j)) 0#32) _ (x1 (ix1 j))).toInt.toNat = _
  rw [h1]
  exact h2

theorem lseq_ref : val_main_v21 (F := Ideal) x0 x1 x3 (ix3 b q j) = Spec.seq (hist x0 b (chan x1 hL j)) (wmat x3) q.val := by
  unfold val_main_v21
  rw [gather_chan _ _ b q j (chan x1 hL j) (leader_ref x1 hL j), seq_ref]

/-! ## The shifts -/

theorem shift_ref : val_main_v33 (F := Ideal) x2 (ix1 j) = Shifts.shift (x2 (ix1 j)) := by
  rw [val_main_v33_apply, val_main_v31_apply, val_main_v30_apply, val_main_v29_apply, val_main_v28_apply, val_main_v27_apply, val_main_v26_apply, val_main_v32_apply]
  show Ideal.div (Ideal.ofBits .f32 0x3F800000#32) (Ideal.ofBits .f32 0x3F800000#32 + Ideal.exp (-(x2 (ix1 j)))) * Ideal.ofBits .f32 0x44340000#32 = _
  rw [Ideal.ofBits_one_f32, Shifts.bits_720]
  rfl

theorem lo_ref : val_main_v36 (F := Ideal) x2 (ix1 j) = BitVec.ofNat 32 (Spec.lo (x2 (ix1 j))) := by
  rw [← (Spec.lo_hi _).2.2.2.1, ← shift_ref]
  rfl

theorem hi_ref : val_main_v41 (F := Ideal) x2 (ix1 j) = BitVec.ofNat 32 (Spec.hi (x2 (ix1 j))) := by
  rw [← (Spec.lo_hi _).2.2.2.2.1, ← shift_ref]
  rfl

theorem horizon_ref (z z' : Fin 1) : val_main_v25 (F := Ideal) (ix3 z p z') = BitVec.ofNat 32 (720 + p.val) := by
  rw [val_main_v25_apply, show idx_main_v25 (ix3 z p z') = ix1 p from eq_ix1 _, val_main_v24_apply, val_main_v22_apply, val_main_v23_apply]
  show 720#32 + BitVec.ofNat 32 p.val = _
  rw [BitVec.ofNat_add]

/-- The place that leader `j`'s lower neighbour has in its sequence. -/
abbrev plo (p : Fin 336) (j : Fin 2568) : Fin 1056 := ⟨720 + p.val - Spec.lo (x2 (ix1 j)), by have := p.isLt; omega⟩
abbrev phi (p : Fin 336) (j : Fin 2568) : Fin 1056 := ⟨720 + p.val - Spec.hi (x2 (ix1 j)), by have := p.isLt; omega⟩

theorem plo_ref : val_main_v46 (F := Ideal) x2 (ix3 b p j) = BitVec.ofNat 32 (plo x2 p j).val := by
  have hp := p.isLt
  obtain ⟨h1, h2, h3, -⟩ := Spec.lo_hi (x2 (ix1 j))
  rw [val_main_v46_apply, show idx_main_v46 (ix3 b p j) = ix3 0 p j from eq_ix3 _, val_main_v40_apply, val_main_v38_apply, val_main_v39_apply,
    show idx_main_v38 (ix3 0 p j) = ix3 0 p 0 from eq_ix3 _, horizon_ref, val_main_v37_apply, show idx_main_v37 (idx_main_v39 (ix3 0 p j)) = ix1 j from eq_ix1 _, lo_ref]
  exact Spec.word_sub _ _ (by omega) (by omega)

theorem phi_ref : val_main_v47 (F := Ideal) x2 (ix3 b p j) = BitVec.ofNat 32 (phi x2 p j).val := by
  have hp := p.isLt
  obtain ⟨h1, h2, h3, -⟩ := Spec.lo_hi (x2 (ix1 j))
  rw [val_main_v47_apply, show idx_main_v47 (ix3 b p j) = ix3 0 p j from eq_ix3 _, val_main_v45_apply, val_main_v43_apply, val_main_v44_apply,
    show idx_main_v43 (ix3 0 p j) = ix3 0 p 0 from eq_ix3 _, horizon_ref, val_main_v42_apply, show idx_main_v42 (idx_main_v44 (ix3 0 p j)) = ix1 j from eq_ix1 _, hi_ref]
  exact Spec.word_sub _ _ (by omega) (by omega)

theorem flat4 (z : Fin 1) : idx_main_call1_v5 (ix4 b p j z) = ix3 b p j := by
  have hb := b.isLt
  have hp := p.isLt
  have hj := j.isLt
  have hz := z.isLt
  rw [eq_ix3 (idx_main_call1_v5 (ix4 b p j z))]
  congr 1
  · exact Fin.ext (by show (((b.val * 336 + p.val) * 2568 + j.val) * 1 + z.val) / 862848 = b.val; omega)
  · exact Fin.ext (by show (((b.val * 336 + p.val) * 2568 + j.val) * 1 + z.val) / 2568 % 336 = p.val; omega)
  · exact Fin.ext (by show (((b.val * 336 + p.val) * 2568 + j.val) * 1 + z.val) % 2568 = j.val; omega)

theorem idx1_ref (z : Fin 1) : val_main_call1_v5 (F := Ideal) x2 (ix4 b p j z) = BitVec.ofNat 32 (plo x2 p j).val := by
  rw [val_main_call1_v5_apply, flat4, val_main_call1_v4_apply, val_main_call1_v1_apply, plo_ref, val_main_call1_v0_apply]
  show Scalar.select (IntOp.cmpi .slt (BitVec.ofNat 32 (plo x2 p j).val) 0#32) _ _ = _
  rw [(place_word (plo x2 p j)).1]
  rfl

theorem idx2_ref (z : Fin 1) : val_main_call2_v5 (F := Ideal) x2 (ix4 b p j z) = BitVec.ofNat 32 (phi x2 p j).val := by
  rw [val_main_call2_v5_apply, show idx_main_call2_v5 (ix4 b p j z) = ix3 b p j from flat4 b p j z, val_main_call2_v4_apply, val_main_call2_v1_apply, phi_ref, val_main_call2_v0_apply]
  show Scalar.select (IntOp.cmpi .slt (BitVec.ofNat 32 (phi x2 p j).val) 0#32) _ _ = _
  rw [(place_word (phi x2 p j)).1]
  rfl

theorem mask1_ref (i : S16x336x2568.Idx) : val_main_call1_v12 (F := Ideal) x2 i = 1#1 := by
  unfold val_main_call1_v12
  refine reduce_ones _ _ _ _ (fun k => ?_) (fun _ => rfl) i
  obtain ⟨b, p, j, z, rfl⟩ : ∃ (b : Fin 16) (p : Fin 336) (j : Fin 2568) (z : Fin 1), k = ix4 b p j z := ⟨k 0, k 1, k 2, k 3, eq_ix4 _⟩
  show val_main_call1_v11 (F := Ideal) x2 (ix4 b p j z) = 1#1
  rw [val_main_call1_v11_apply, val_main_call1_v7_apply, val_main_call1_v10_apply, idx1_ref, val_main_call1_v6_apply, val_main_call1_v9_apply, val_main_call1_v8_apply]
  show IntOp.andi (IntOp.cmpi .sge _ 0#32) (IntOp.cmpi .sle _ 1055#32) = 1#1
  rw [(place_word _).2.1, (place_word _).2.2.1]
  rfl

theorem mask2_ref (i : S16x336x2568.Idx) : val_main_call2_v12 (F := Ideal) x2 i = 1#1 := by
  unfold val_main_call2_v12
  refine reduce_ones _ _ _ _ (fun k => ?_) (fun _ => rfl) i
  obtain ⟨b, p, j, z, rfl⟩ : ∃ (b : Fin 16) (p : Fin 336) (j : Fin 2568) (z : Fin 1), k = ix4 b p j z := ⟨k 0, k 1, k 2, k 3, eq_ix4 _⟩
  show val_main_call2_v11 (F := Ideal) x2 (ix4 b p j z) = 1#1
  rw [val_main_call2_v11_apply, val_main_call2_v7_apply, val_main_call2_v10_apply, idx2_ref, val_main_call2_v6_apply, val_main_call2_v9_apply, val_main_call2_v8_apply]
  show IntOp.andi (IntOp.cmpi .sge _ 0#32) (IntOp.cmpi .sle _ 1055#32) = 1#1
  rw [(place_word _).2.1, (place_word _).2.2.1]
  rfl

theorem glo_ref : val_main_v48 (F := Ideal) x0 x1 x2 x3 (ix3 b p j) = Spec.seq (hist x0 b (chan x1 hL j)) (wmat x3) (plo x2 p j).val := by
  rw [val_main_v48_apply, mask1_ref]
  show val_main_call1_v13 (F := Ideal) x0 x1 x2 x3 (ix3 b p j) = _
  unfold val_main_call1_v13
  rw [gather_place _ _ b p j (plo x2 p j) (by rw [idx1_ref]; exact (place_word _).2.2.2), lseq_ref x0 x1 x3 hL]

theorem ghi_ref : val_main_v49 (F := Ideal) x0 x1 x2 x3 (ix3 b p j) = Spec.seq (hist x0 b (chan x1 hL j)) (wmat x3) (phi x2 p j).val := by
  rw [val_main_v49_apply, mask2_ref]
  show val_main_call2_v13 (F := Ideal) x0 x1 x2 x3 (ix3 b p j) = _
  unfold val_main_call2_v13
  rw [gather_place _ _ b p j (phi x2 p j) (by rw [idx2_ref]; exact (place_word _).2.2.2), lseq_ref x0 x1 x3 hL]

theorem lead_ref : val_main_v60 (F := Ideal) x0 x1 x2 x3 (ix3 b p j) = Spec.lead (hist x0 b (chan x1 hL j)) (wmat x3) (x2 (ix1 j)) p := by
  rw [val_main_v60_apply, val_main_v53_apply, val_main_v59_apply, glo_ref x0 x1 x2 x3 hL, ghi_ref x0 x1 x2 x3 hL, val_main_v52_apply, val_main_v51_apply, val_main_v58_apply, val_main_v57_apply,
    show idx_main_v51 (idx_main_v52 (ix3 b p j)) = ix1 j from eq_ix1 _, show idx_main_v57 (idx_main_v58 (ix3 b p j)) = ix1 j from eq_ix1 _,
    val_main_v50_apply, val_main_v56_apply, val_main_v55_apply, val_main_v54_apply, val_main_v34_apply, val_main_v35_apply, shift_ref]
  show _ * _ + _ * (Shifts.shift _ + Ideal.ofBits .f32 0x3F800000#32 - _) = _
  rw [Ideal.ofBits_one_f32]
  rfl

end Cert.ReferenceIdeal.Read

end
-- ==== Proof.RefOut.lean ====
/-
  The reference's two results, at an index.
-/
module

public import proofs.«01_k».proof.Proof.RefSeq

@[expose] public section

noncomputable section

namespace Cert.ReferenceIdeal.Read

open Cert.ReferenceIdeal Cert.ReferenceIdeal.Gen
open Idealize.ShloMosaic hiding ix0 ix1 ix2 ix3 ix4 eq_ix1 eq_ix2 eq_ix3 eq_ix4
open Idealize.ShloMosaic.ValueIdx

variable (x0 : FVec Ideal S16x720x321 .f32) (x1 : IVec S2568 32) (x2 : FVec Ideal S2568 .f32) (x3 : FVec Ideal S336x720 .f32)
  (x4 : FVec Ideal S321x9 .f32) (hL : ∀ i, (x1 i).toNat < 321)
variable (b : Fin 16) (c : Fin 321) (p : Fin 336) (k : Fin 8) (e : Fin 9)

/-- The place of channel `c`'s leader `k` in the flat lists. -/
abbrev flat (c : Fin 321) (k : Fin 8) : Fin 2568 := ⟨c.val * 8 + k.val, by have := c.isLt; have := k.isLt; omega⟩

/-- The nine rows of one batch, in the arguments. -/
abbrev rowOf (b : Fin 16) (c : Fin 321) (p : Fin 336) : Fin 9 → EReal :=
  Spec.row (hist x0 b) (wmat x3) (fun k => chan x1 hL (flat c k)) (fun k => x2 (ix1 (flat c k))) c p

theorem flat3 : idx_main_v61 (ix4 b p c k) = ix3 b p (flat c k) := by
  have hb := b.isLt
  have hp := p.isLt
  have hc := c.isLt
  have hk := k.isLt
  rw [eq_ix3 (idx_main_v61 (ix4 b p c k))]
  congr 1
  · exact Fin.ext (by show (((b.val * 336 + p.val) * 321 + c.val) * 8 + k.val) / 862848 = b.val; omega)
  · exact Fin.ext (by show (((b.val * 336 + p.val) * 321 + c.val) * 8 + k.val) / 2568 % 336 = p.val; omega)
  · exact Fin.ext (by show (((b.val * 336 + p.val) * 321 + c.val) * 8 + k.val) % 2568 = c.val * 8 + k.val; omega)

theorem row_ref : val_main_v63 (F := Ideal) x0 x1 x2 x3 (ix4 b p c e) = rowOf x0 x1 x2 x3 hL b c p e := by
  unfold val_main_v63
  refine Fin.cases ?_ (fun k => ?_) e
  · show _ = Spec.fore (hist x0 b c) (wmat x3 p)
    rw [← fore_ref]
    refine (concatenate_pair_apply_left (s₁ := S16x336x321x1) (s₂ := S16x336x321x8) (t := S16x336x321x9) 3 (val_main_v62 (F := Ideal) x0 x3) (val_main_v61 (F := Ideal) x0 x1 x2 x3) _ _ rfl (ix4 b p c 0) fun a => ?_).trans ?_
    · match a with
      | ⟨0, _⟩ => rfl
      | ⟨1, _⟩ => rfl
      | ⟨2, _⟩ => rfl
      | ⟨3, _⟩ => rfl
    · rw [val_main_v62_apply, show idx_main_v62 (ix4 b p c 0) = ix3 b p c from eq_ix3 _]
  · show _ = Spec.lead (hist x0 b (chan x1 hL (flat c k))) (wmat x3) (x2 (ix1 (flat c k))) p
    rw [← lead_ref x0 x1 x2 x3 hL, ← flat3, ← val_main_v61_apply]
    refine concatenate_pair_apply_right (s₁ := S16x336x321x1) (s₂ := S16x336x321x8) (t := S16x336x321x9) 3 (val_main_v62 (F := Ideal) x0 x3) (val_main_v61 (F := Ideal) x0 x1 x2 x3) _ _ rfl rfl (ix4 b p c k) (fun a ha => ?_) ?_
    · match a, ha with
      | ⟨0, _⟩, _ => rfl
      | ⟨1, _⟩, _ => rfl
      | ⟨2, _⟩, _ => rfl
      | ⟨3, _⟩, h => exact absurd rfl h
    · rfl

/-- The logits of one channel. -/
abbrev logit (c : Fin 321) : Fin 9 → EReal := fun e => x4 (ix2 c e)

theorem top_ref : val_main_v64 (F := Ideal) x4 (ix1 c) = Spec.top (logit x4 c) := by
  unfold val_main_v64
  rw [Host.reduce_eq_fold_single (f := FloatOps.maximumf) (h := (by decide : S321x9.Reduces [1] S321))]
  unfold Spec.top
  refine congrArg₂ (fun u v => Finset.univ.fold max u v) rfl (funext fun e => congrArg x4 ?_)
  exact funext fun a => match a with
    | ⟨0, _⟩ => Fin.ext rfl
    | ⟨1, _⟩ => Fin.ext rfl

theorem exp_ref : val_main_v70 (F := Ideal) x4 (ix2 c e) = Ideal.exp (x4 (ix2 c e) - Spec.top (logit x4 c)) := by
  rw [val_main_v70_apply, val_main_v69_apply, val_main_v68_apply, val_main_v67_apply, show idx_main_v67 (idx_main_v68 (ix2 c e)) = ix1 c from eq_ix1 _,
    val_main_v66_apply, top_ref, val_main_v65_apply]
  show Ideal.exp (x4 (ix2 c e) - max (Ideal.ofBits .f32 0xFF800000#32) _) = _
  rw [max_eq_right]
  unfold Spec.top
  rw [Finset.le_fold_max]
  exact Or.inl le_rfl

theorem soft_ref : val_main_v74 (F := Ideal) x4 (ix2 c e) = Spec.soft (logit x4 c) e := by
  rw [val_main_v74_apply, exp_ref, val_main_v73_apply, val_main_v72_apply, show idx_main_v72 (idx_main_v73 (ix2 c e)) = ix1 c from eq_ix1 _, val_main_v71_apply]
  show Ideal.div _ (Ideal.ofBits .f32 0x00000000#32 + _) = _
  rw [zero_word, zero_add]
  unfold Spec.soft
  refine congrArg _ (Finset.sum_congr rfl fun i _ => ?_)
  rw [show idx_main_v71 (ix1 c) i = ix2 c i from eq_ix2 _, exp_ref]

theorem out_ref : val_main_v82 (F := Ideal) x0 x1 x2 x3 x4 (ix3 b p c)
    = Spec.out (hist x0 b) (wmat x3) (fun k => chan x1 hL (flat c k)) (fun k => x2 (ix1 (flat c k))) (logit x4 c) c p := by
  rw [val_main_v82_apply, val_main_v80_apply, val_main_v79_apply, val_main_v81_apply, show idx_main_v79 (ix3 b p c) = ix3 b 0 c from eq_ix3 _,
    show idx_main_v81 (ix3 b p c) = ix3 b 0 c from eq_ix3 _, sd_ref, mean_ref, val_main_v78_apply]
  show (Ideal.ofBits .f32 0x00000000#32 + _) * _ + _ = _
  rw [zero_word, zero_add]
  unfold Spec.out
  refine congrArg (· * Spec.sd (hist x0 b c) + Spec.mean (hist x0 b c)) (Finset.sum_congr rfl fun e _ => ?_)
  rw [show idx_main_v78 (ix3 b p c) e = ix4 b p c e from eq_ix4 _, val_main_v77_apply, row_ref x0 x1 x2 x3 hL, val_main_v76_apply, val_main_v75_apply,
    show idx_main_v75 (idx_main_v76 (ix4 b p c e)) = ix2 c e from eq_ix2 _, soft_ref]
  rfl

end Cert.ReferenceIdeal.Read

end
-- ==== Proof.lean ====
/-
  The proof of the claims of this certificate.
-/
module

public import proofs.«01_k».proof.Defs
public import proofs.«01_k».proof.Proof.Cond
public import proofs.«01_k».proof.Proof.KerOut
public import proofs.«01_k».proof.Proof.RefOut
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.ShloMosaic.TcCoe Idealize.SL.Sem

/-- The program at its bits runs and leaves its arguments and its counters as they were. -/
theorem frame_p : Cert.quiescent_Kernel (hKernel := Cert.Kernel.Gen.facts) := fun m ρ h =>
  (θ_run _ _ _).mono (fun _ hr => ⟨fun c => ⟨(hr.1 c).1, (hr.1 c).2.1, (hr.1 c).2.2.1, (hr.1 c).2.2.2.1, (hr.1 c).2.2.2.2.1⟩, hr.2⟩)
    (Cert.Kernel.run m (Cert.fits_kernel m h) ρ)

/-- So does the ideal program. -/
theorem frame_pi : Cert.quiescent_KernelIdeal (hKernelIdeal := Cert.KernelIdeal.Gen.facts) := fun m ρ h =>
  (θ_run _ _ _).mono (fun _ hr => ⟨fun c => ⟨(hr.1 c).1, (hr.1 c).2.1, (hr.1 c).2.2.1, (hr.1 c).2.2.2.1, (hr.1 c).2.2.2.2.1⟩, hr.2⟩)
    (Cert.KernelIdeal.run m (Cert.fits_ideal m fun c i => Cert.leaders_words _ _ _ _ _ (h c) i) ρ)

theorem frame_pi_slices : Cert.quiescent_KernelIdeal_pre_slices_inside (hKernelIdeal := Cert.KernelIdeal.Gen.facts) := fun m ρ h =>
  (θ_run _ _ _).mono (fun _ hr => ⟨fun c => ⟨(hr.1 c).1, (hr.1 c).2.1, (hr.1 c).2.2.1, (hr.1 c).2.2.2.1, (hr.1 c).2.2.2.2.1⟩, hr.2⟩)
    (Cert.KernelIdeal.run m (Cert.fits_ideal m fun c i => Cert.slices_words_ideal _ _ _ _ _ (h c) i) ρ)

/-- So does the reference. -/
theorem frame_ri : Cert.quiescent_ReferenceIdeal (hReferenceIdeal := Cert.ReferenceIdeal.Gen.facts) := fun m ρ _ =>
  (θ_run _ _ _).mono (fun r hr => ⟨fun c => ⟨(hr c).2.2.1, (hr c).2.2.2.1, (hr c).2.2.2.2.1, (hr c).2.2.2.2.2.1, (hr c).2.2.2.2.2.2⟩,
      sem_eq_zero_of_no_sems (by decide) r.2⟩)
    (Cert.ReferenceIdeal.Value.run (F := Ideal) m ρ)

theorem frame_ri_pre : Cert.quiescent_ReferenceIdeal_pre_leaders_name_channels (hReferenceIdeal := Cert.ReferenceIdeal.Gen.facts) := fun m ρ _ =>
  (θ_run _ _ _).mono (fun r hr => ⟨fun c => ⟨(hr c).2.2.1, (hr c).2.2.2.1, (hr c).2.2.2.2.1, (hr c).2.2.2.2.2.1, (hr c).2.2.2.2.2.2⟩,
      sem_eq_zero_of_no_sems (by decide) r.2⟩)
    (Cert.ReferenceIdeal.Value.run (F := Ideal) m ρ)

section Values

open Cert.KernelIdeal Cert.KernelIdeal.Gen

variable (m : (ℓ : Loc nD τ sig) → Buf (Elt Ideal) ℓ) (c : Dev nD) (hL : ∀ c i, (argL m c i : BitVec 32).toNat < 321) (hok : Fits m)

include hL

/-- The reference's first result at the kernel's arguments is what the kernel leaves in its first result. -/
theorem out_agree : (Cert.ReferenceIdeal.Read.val_main_v82 (F := Ideal) (argX m c) (argL m c) (argS m c) (argW m c) (argLW m c)
      : Vec Ideal S16x336x321 .f32)
    = (StableHlo.after hostOps2 (W4 m hok c) main_v0_0 : Vec Ideal S16x336x321 .f32) := by
  funext i
  rw [ValueIdx.eq_ix3 i]
  exact (Cert.ReferenceIdeal.Read.out_ref _ _ _ _ _ (hL c) _ _ _).trans (out_ker m c hL hok _ _ _).symm

/-- And so for the second. -/
theorem rows_agree : (Cert.ReferenceIdeal.Read.val_main_v63 (F := Ideal) (argX m c) (argL m c) (argS m c) (argW m c)
      : Vec Ideal S16x336x321x9 .f32)
    = (StableHlo.after hostOps2 (W4 m hok c) main_v0_1 : Vec Ideal S16x336x321x9 .f32) := by
  funext i
  rw [ValueIdx.eq_ix4 i]
  exact (Cert.ReferenceIdeal.Read.row_ref _ _ _ _ (hL c) _ _ _ _).trans (rows_ker m c hL hok _ _ _ _).symm

end Values

/-- The ideal program and the reference leave the same two results, over the extended reals. -/
theorem algebraic : Cert.algebraic_KernelIdeal_ReferenceIdeal (hKernelIdeal := Cert.KernelIdeal.Gen.facts)
    (hReferenceIdeal := Cert.ReferenceIdeal.Gen.facts) := fun m g m' g' h e => by
  have hL : ∀ c i, (Cert.KernelIdeal.argL m c i : BitVec 32).toNat < 321 := fun c i => Cert.leaders_words _ _ _ _ _ (h c) i
  have hok := Cert.fits_ideal m hL
  refine ⟨fun c => StableHlo.after Cert.KernelIdeal.Gen.hostOps2 (Cert.KernelIdeal.W4 m hok c) Cert.KernelIdeal.main_v0_0,
    fun c => StableHlo.after Cert.KernelIdeal.Gen.hostOps2 (Cert.KernelIdeal.W4 m hok c) Cert.KernelIdeal.main_v0_1,
    (θ_run _ _ _).mono (fun r hr c => ?_) (Cert.KernelIdeal.run m hok g),
    (θ_run _ _ _).mono (fun r hr c => ?_) (Cert.ReferenceIdeal.Value.run (F := Ideal) m' g')⟩
  · obtain ⟨a0, a1, a2, a3, a4, u, v⟩ := hr.1 c
    exact ⟨u, v, a0, a1, a2, a3, a4⟩
  · obtain ⟨u, v, a⟩ := hr c
    obtain ⟨e0, e1, e2, e3, e4⟩ := e c
    refine ⟨u.trans ((Cert.ReferenceIdeal.Read.val_main_v82_eq m' c).trans ?_), v.trans ((Cert.ReferenceIdeal.Read.val_main_v63_eq m' c).trans ?_), a⟩
    · rw [e0, e1, e2, e3, e4]
      exact out_agree m c hL hok
    · rw [e0, e1, e2, e3]
      exact rows_agree m c hL hok

theorem claim : Cert.Claim := ⟨Cert.Kernel.Gen.facts, Cert.KernelIdeal.Gen.facts, Cert.ReferenceIdeal.Gen.facts, Cert.slicesFacts, Cert.leadersFacts,
  frame_p, frame_pi, frame_pi_slices, frame_ri, frame_ri_pre, trivial, algebraic⟩

end Cert.Proof

end
